-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_peak [hPre_rows_have_a_peak : Cert.Pre_rows_have_a_peak.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_peak.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_peak [hPre_rows_have_a_peak : Cert.Pre_rows_have_a_peak.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_peak.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_a_peak [hKernelIdeal : Cert.KernelIdeal.Facts] [hPre_rows_have_a_peak : Cert.Pre_rows_have_a_peak.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_peak m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_a_peak [hReferenceIdeal : Cert.ReferenceIdeal.Facts] [hPre_rows_have_a_peak : Cert.Pre_rows_have_a_peak.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_peak m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_have_a_peak [hKernelIdeal : Cert.KernelIdeal.Facts] [hReferenceIdeal : Cert.ReferenceIdeal.Facts] [hPre_rows_have_a_peak : Cert.Pre_rows_have_a_peak.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_peak m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_have_a_peak : Cert.Pre_rows_have_a_peak.Facts),
    quiescent_Kernel (hKernel := hKernel)
    ∧ quiescent_KernelIdeal (hKernelIdeal := hKernelIdeal)
    ∧ quiescent_KernelIdeal_pre_rows_have_a_peak (hKernelIdeal := hKernelIdeal) (hPre_rows_have_a_peak := hPre_rows_have_a_peak)
    ∧ quiescent_ReferenceIdeal (hReferenceIdeal := hReferenceIdeal)
    ∧ quiescent_ReferenceIdeal_pre_rows_have_a_peak (hReferenceIdeal := hReferenceIdeal) (hPre_rows_have_a_peak := hPre_rows_have_a_peak)
    ∧ preserves_Kernel_KernelIdeal
    ∧ algebraic_KernelIdeal_ReferenceIdeal_pre_rows_have_a_peak (hKernelIdeal := hKernelIdeal) (hReferenceIdeal := hReferenceIdeal) (hPre_rows_have_a_peak := hPre_rows_have_a_peak)
-- ==== Pre_rows_have_a_peak.lean ====
abbrev S128x100000 : Shape := ⟨2, ![128, 100000]⟩
abbrev S_ : Shape := ⟨0, ![]⟩
abbrev S128 : Shape := ⟨1, ![128]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel
  reducesTo_S128x100000_S128_d1 : S128x100000.ReducesTo [1] S128
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  let main_c : IVec S_ 1 := constantI S_ 1 1#1
  let main_v2 : IVec S_ 1 := (fun x v => Host.reduce IntOp.andi x v reducesTo_S128x100000_S_d0_1 h_S_) main_v1 main_c
  let main_cst_0 : FVec F S_ .f32 := constant S_ .f32 0xFF800000#32
  let main_v3 : FVec F S128 .f32 := (fun x v => Host.reduce FloatOps.maximumf x v reducesTo_S128x100000_S128_d1 h_S_) main_arg0 main_cst_0
  let main_cst_1 : FVec F S_ .f32 := constant S_ .f32 0xFF800000#32
  let main_v4 : FVec F S128 .f32 := broadcastInDim S128 ![] bcast_S_S128 main_cst_1
  let main_v5 : IVec S128 1 := cmpf .ogt main_v3 main_v4
  let main_c_2 : IVec S_ 1 := constantI S_ 1 1#1
  let main_v6 : IVec S_ 1 := (fun x v => Host.reduce IntOp.andi x v reducesTo_S128_S_d0 h_S_) main_v5 main_c_2
  let main_v7 : IVec S_ 1 := andi main_v2 main_v6
  main_v7
-- ==== Kernel.lean ====
abbrev S128x100000 : Shape := ⟨2, ![128, 100000]⟩
abbrev S128x1 : Shape := ⟨2, ![128, 1]⟩
abbrev S128x2048 : Shape := ⟨2, ![128, 2048]⟩
abbrev S128x128 : Shape := ⟨2, ![128, 128]⟩
abbrev S50 : Shape := ⟨1, ![50]⟩
abbrev S_ : Shape := ⟨0, ![]⟩
abbrev S1 : Shape := ⟨1, ![1]⟩
abbrev S128x1664 : Shape := ⟨2, ![128, 1664]⟩
abbrev S128x32 : Shape := ⟨2, ![128, 32]⟩
abbrev S128 : Shape := ⟨1, ![128]⟩
abbrev S1x1 : Shape := ⟨2, ![1, 1]⟩
abbrev S1x128 : Shape := ⟨2, ![1, 128]⟩

abbrev nBuf : Space → Nat
  | .hbm => 4
  | .vmem => 8
  | .smem => 1
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128x100000, .f32⟩
  | .hbm, ⟨3, _⟩ => ⟨S128x100000, .f32⟩
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .i32⟩
  | .local _ .vmem, ⟨4, _⟩ => ⟨S128x2048, .f32⟩
  | .local _ .vmem, ⟨5, _⟩ => ⟨S128x1, .i32⟩
  | .local _ .vmem, ⟨6, _⟩ => ⟨S128x1, .i32⟩
  | .local _ .vmem, ⟨7, _⟩ => ⟨S128x128, .f32⟩
  | .local _ .smem, ⟨0, _⟩ => ⟨S128x1, .i32⟩
  | _, _ => ⟨S128x100000, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 183 → Bool
  | ⟨i, _⟩ => dmaSemScopedAt i

abbrev sig : RefSig :=
  ofTc nBuf bufTy 0 183 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc1_stg1_0 : Ref sig .tc := ⟨.vmem, 6, rfl⟩
abbrev cc1_scratch0 : Ref sig .tc := ⟨.vmem, 7, rfl⟩
abbrev cc1_stg0_0 : Ref sig .tc := ⟨.smem, 0, rfl⟩
abbrev cc0_sem0_0 : DmaSem sig := 0
abbrev cc0_sem0_1 : DmaSem sig := 1
abbrev cc1_sem0_0 : DmaSem sig := 53
abbrev cc1_sem1_0 : DmaSem sig := 54

abbrev nD : Nat := 1
abbrev τ : Topo := Topo.v7x

variable {F : FTy → Type} [FloatOps F]

abbrev grid0 : Pipeline.Grid := ⟨1, ![49], ![false]⟩

def k0_cond51 (i : grid0.Coords) : BitVec 1 :=
  let arg0 : BitVec 32 := BitVec.ofNat 32 (i 0).val
  let c48_i32_1162 : BitVec 32 := 48#32
  let v3448 : BitVec 1 := Scalar.cmpi .eq arg0 c48_i32_1162
  let v3449 : BitVec 32 := Scalar.extui v3448
  let c0_i32_1163 : BitVec 32 := 0#32
  let v3450 : BitVec 1 := Scalar.cmpi .ne v3449 c0_i32_1163
  v3450

def k0_mult1 (i : grid0.Coords) : BitVec 32 :=
  let c99968_i32 : BitVec 32 := 99968#32
  let c0_i32_1164 : BitVec 32 := 0#32
  let arg0 : BitVec 32 := BitVec.ofNat 32 (i 0).val
  let v3451 : BitVec 32 := Scalar.muli c0_i32_1164 arg0
  let v3452 : BitVec 32 := Scalar.addi c99968_i32 v3451
  v3452
def k0_off1 (i : grid0.Coords) : Fin 2 → Nat :=
  let c0_i32_1165 : BitVec 32 := 0#32
  let c99968_i32 : BitVec 32 := 99968#32
  let c0_i32_1164 : BitVec 32 := 0#32
  let arg0 : BitVec 32 := BitVec.ofNat 32 (i 0).val
  let v3451 : BitVec 32 := Scalar.muli c0_i32_1164 arg0
  let v3452 : BitVec 32 := Scalar.addi c99968_i32 v3451
  let v3453 : BitVec 32 := v3452
  ![0, v3453.toNat]
def k0_mult2 (i : grid0.Coords) : BitVec 32 :=
  let c99968_i32_1372 : BitVec 32 := 99968#32
  let c0_i32_1371 : BitVec 32 := 0#32
  let arg0 : BitVec 32 := BitVec.ofNat 32 (i 0).val
  let v3668 : BitVec 32 := Scalar.muli c0_i32_1371 arg0
  let v3669 : BitVec 32 := Scalar.addi c99968_i32_1372 v3668
  v3669
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := .none

def k1_mult1 (v41 : BitVec 32) : BitVec 32 :=
  let c99872_i32_20 : BitVec 32 := 99872#32
  let c0_i32_19 : BitVec 32 := 0#32
  let c0_i32_12 : BitVec 32 := 0#32
  let v43 : BitVec 1 := Scalar.cmpi .sgt v41 c0_i32_12
  let v44 : BitVec 32 := Scalar.extui v43
  let c0_i32_13 : BitVec 32 := 0#32
  let v45 : BitVec 1 := Scalar.cmpi .slt v41 c0_i32_13
  let v46 : BitVec 32 := Scalar.extui v45
  let v47 : BitVec 32 := Scalar.subi v44 v46
  let c128_i32_11 : BitVec 32 := 128#32
  let c0_i32_14 : BitVec 32 := 0#32
  let v48 : BitVec 1 := Scalar.cmpi .sgt c128_i32_11 c0_i32_14
  let v49 : BitVec 32 := Scalar.extui v48
  let c0_i32_15 : BitVec 32 := 0#32
  let v50 : BitVec 1 := Scalar.cmpi .slt c128_i32_11 c0_i32_15
  let v51 : BitVec 32 := Scalar.extui v50
  let v52 : BitVec 32 := Scalar.subi v49 v51
  let v53 : BitVec 1 := Scalar.cmpi .ne v47 v52
  let v54 : BitVec 32 := Scalar.remsi v41 c128_i32_11
  let c0_i32_16 : BitVec 32 := 0#32
  let v55 : BitVec 1 := Scalar.cmpi .ne v54 c0_i32_16
  let v56 : BitVec 1 := Scalar.andi v53 v55
  let v42 : BitVec 32 := Scalar.divsi v41 c128_i32_11
  let c1_i32_17 : BitVec 32 := 1#32
  let v57 : BitVec 32 := Scalar.subi v42 c1_i32_17
  let v58 : BitVec 32 := Scalar.select v56 v57 v42
  let c128_i32_18 : BitVec 32 := 128#32
  let v59 : BitVec 32 := Scalar.muli v58 c128_i32_18
  let v60 : BitVec 32 := Scalar.maxsi c0_i32_19 v59
  let v61 : BitVec 32 := Scalar.minsi c99872_i32_20 v60
  v61

def k1_off1 (v41 : BitVec 32) : Fin 2 → Nat :=
  let c0_i32_22 : BitVec 32 := 0#32
  let c99872_i32_20 : BitVec 32 := 99872#32
  let c0_i32_19 : BitVec 32 := 0#32
  let c0_i32_12 : BitVec 32 := 0#32
  let v43 : BitVec 1 := Scalar.cmpi .sgt v41 c0_i32_12
  let v44 : BitVec 32 := Scalar.extui v43
  let c0_i32_13 : BitVec 32 := 0#32
  let v45 : BitVec 1 := Scalar.cmpi .slt v41 c0_i32_13
  let v46 : BitVec 32 := Scalar.extui v45
  let v47 : BitVec 32 := Scalar.subi v44 v46
  let c128_i32_11 : BitVec 32 := 128#32
  let c0_i32_14 : BitVec 32 := 0#32
  let v48 : BitVec 1 := Scalar.cmpi .sgt c128_i32_11 c0_i32_14
  let v49 : BitVec 32 := Scalar.extui v48
  let c0_i32_15 : BitVec 32 := 0#32
  let v50 : BitVec 1 := Scalar.cmpi .slt c128_i32_11 c0_i32_15
  let v51 : BitVec 32 := Scalar.extui v50
  let v52 : BitVec 32 := Scalar.subi v49 v51
  let v53 : BitVec 1 := Scalar.cmpi .ne v47 v52
  let v54 : BitVec 32 := Scalar.remsi v41 c128_i32_11
  let c0_i32_16 : BitVec 32 := 0#32
  let v55 : BitVec 1 := Scalar.cmpi .ne v54 c0_i32_16
  let v56 : BitVec 1 := Scalar.andi v53 v55
  let v42 : BitVec 32 := Scalar.divsi v41 c128_i32_11
  let c1_i32_17 : BitVec 32 := 1#32
  let v57 : BitVec 32 := Scalar.subi v42 c1_i32_17
  let v58 : BitVec 32 := Scalar.select v56 v57 v42
  let c128_i32_18 : BitVec 32 := 128#32
  let v59 : BitVec 32 := Scalar.muli v58 c128_i32_18
  let v60 : BitVec 32 := Scalar.maxsi c0_i32_19 v59
  let v61 : BitVec 32 := Scalar.minsi c99872_i32_20 v60
  let v62 : BitVec 32 := v61
  ![0, v62.toNat]

def k1_chk1 (v41 : BitVec 32) : Prop :=
  (32 ∣ (k1_mult1 v41).toNat) ∧
  (∀ a, (k1_off1 v41) a + S1x128.size a ≤ S128x100000.size a)
theorem k1_mult1_dvd : ∀ (v41 : BitVec 32) (k1_hw1 : k1_chk1 v41), 32 ∣ (k1_mult1 v41).toNat := fun v41 k1_hw1 => k1_hw1.1
theorem k1_off1_inb : ∀ (v41 : BitVec 32) (k1_hw1 : k1_chk1 v41), ∀ a, (k1_off1 v41) a + S1x128.size a ≤ S128x100000.size a := fun v41 k1_hw1 => k1_hw1.2

def k1_mult2 (v67 : BitVec 32) : BitVec 32 :=
  let c99872_i32_35 : BitVec 32 := 99872#32
  let c0_i32_34 : BitVec 32 := 0#32
  let c0_i32_27 : BitVec 32 := 0#32
  let v69 : BitVec 1 := Scalar.cmpi .sgt v67 c0_i32_27
  let v70 : BitVec 32 := Scalar.extui v69
  let c0_i32_28 : BitVec 32 := 0#32
  let v71 : BitVec 1 := Scalar.cmpi .slt v67 c0_i32_28
  let v72 : BitVec 32 := Scalar.extui v71
  let v73 : BitVec 32 := Scalar.subi v70 v72
  let c128_i32_26 : BitVec 32 := 128#32
  let c0_i32_29 : BitVec 32 := 0#32
  let v74 : BitVec 1 := Scalar.cmpi .sgt c128_i32_26 c0_i32_29
  let v75 : BitVec 32 := Scalar.extui v74
  let c0_i32_30 : BitVec 32 := 0#32
  let v76 : BitVec 1 := Scalar.cmpi .slt c128_i32_26 c0_i32_30
  let v77 : BitVec 32 := Scalar.extui v76
  let v78 : BitVec 32 := Scalar.subi v75 v77
  let v79 : BitVec 1 := Scalar.cmpi .ne v73 v78
  let v80 : BitVec 32 := Scalar.remsi v67 c128_i32_26
  let c0_i32_31 : BitVec 32 := 0#32
  let v81 : BitVec 1 := Scalar.cmpi .ne v80 c0_i32_31
  let v82 : BitVec 1 := Scalar.andi v79 v81
  let v68 : BitVec 32 := Scalar.divsi v67 c128_i32_26
  let c1_i32_32 : BitVec 32 := 1#32
  let v83 : BitVec 32 := Scalar.subi v68 c1_i32_32
  let v84 : BitVec 32 := Scalar.select v82 v83 v68
  let c128_i32_33 : BitVec 32 := 128#32
  let v85 : BitVec 32 := Scalar.muli v84 c128_i32_33
  let v86 : BitVec 32 := Scalar.maxsi c0_i32_34 v85
  let v87 : BitVec 32 := Scalar.minsi c99872_i32_35 v86
  v87

def k1_off2 (v67 : BitVec 32) : Fin 2 → Nat :=
  let c1_i32_37 : BitVec 32 := 1#32
  let c99872_i32_35 : BitVec 32 := 99872#32
  let c0_i32_34 : BitVec 32 := 0#32
  let c0_i32_27 : BitVec 32 := 0#32
  let v69 : BitVec 1 := Scalar.cmpi .sgt v67 c0_i32_27
  let v70 : BitVec 32 := Scalar.extui v69
  let c0_i32_28 : BitVec 32 := 0#32
  let v71 : BitVec 1 := Scalar.cmpi .slt v67 c0_i32_28
  let v72 : BitVec 32 := Scalar.extui v71
  let v73 : BitVec 32 := Scalar.subi v70 v72
  let c128_i32_26 : BitVec 32 := 128#32
  let c0_i32_29 : BitVec 32 := 0#32
  let v74 : BitVec 1 := Scalar.cmpi .sgt c128_i32_26 c0_i32_29
  let v75 : BitVec 32 := Scalar.extui v74
  let c0_i32_30 : BitVec 32 := 0#32
  let v76 : BitVec 1 := Scalar.cmpi .slt c128_i32_26 c0_i32_30
  let v77 : BitVec 32 := Scalar.extui v76
  let v78 : BitVec 32 := Scalar.subi v75 v77
  let v79 : BitVec 1 := Scalar.cmpi .ne v73 v78
  let v80 : BitVec 32 := Scalar.remsi v67 c128_i32_26
  let c0_i32_31 : BitVec 32 := 0#32
  let v81 : BitVec 1 := Scalar.cmpi .ne v80 c0_i32_31
  let v82 : BitVec 1 := Scalar.andi v79 v81
  let v68 : BitVec 32 := Scalar.divsi v67 c128_i32_26
  let c1_i32_32 : BitVec 32 := 1#32
  let v83 : BitVec 32 := Scalar.subi v68 c1_i32_32
  let v84 : BitVec 32 := Scalar.select v82 v83 v68
  let c128_i32_33 : BitVec 32 := 128#32
  let v85 : BitVec 32 := Scalar.muli v84 c128_i32_33
  let v86 : BitVec 32 := Scalar.maxsi c0_i32_34 v85
  let v87 : BitVec 32 := Scalar.minsi c99872_i32_35 v86
  let v88 : BitVec 32 := v87
  ![1, v88.toNat]

def k1_chk2 (v67 : BitVec 32) : Prop :=
  (32 ∣ (k1_mult2 v67).toNat) ∧
  (∀ a, (k1_off2 v67) a + S1x128.size a ≤ S128x100000.size a)
theorem k1_mult2_dvd : ∀ (v67 : BitVec 32) (k1_hw2 : k1_chk2 v67), 32 ∣ (k1_mult2 v67).toNat := fun v67 k1_hw2 => k1_hw2.1
theorem k1_off2_inb : ∀ (v67 : BitVec 32) (k1_hw2 : k1_chk2 v67), ∀ a, (k1_off2 v67) a + S1x128.size a ≤ S128x100000.size a := fun v67 k1_hw2 => k1_hw2.2

def k1_mult3 (v93 : BitVec 32) : BitVec 32 :=
  let c99872_i32_50 : BitVec 32 := 99872#32
  let c0_i32_49 : BitVec 32 := 0#32
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c128_i32_41 : BitVec 32 := 128#32
  let c0_i32_44 : BitVec 32 := 0#32
  let v100 : BitVec 1 := Scalar.cmpi .sgt c128_i32_41 c0_i32_44
  let v101 : BitVec 32 := Scalar.extui v100
  let c0_i32_45 : BitVec 32 := 0#32
  let v102 : BitVec 1 := Scalar.cmpi .slt c128_i32_41 c0_i32_45
  let v103 : BitVec 32 := Scalar.extui v102
  let v104 : BitVec 32 := Scalar.subi v101 v103
  let v105 : BitVec 1 := Scalar.cmpi .ne v99 v104
  let v106 : BitVec 32 := Scalar.remsi v93 c128_i32_41
  let c0_i32_46 : BitVec 32 := 0#32
  let v107 : BitVec 1 := Scalar.cmpi .ne v106 c0_i32_46
  let v108 : BitVec 1 := Scalar.andi v105 v107
  let v94 : BitVec 32 := Scalar.divsi v93 c128_i32_41
  let c1_i32_47 : BitVec 32 := 1#32
  let v109 : BitVec 32 := Scalar.subi v94 c1_i32_47
  let v110 : BitVec 32 := Scalar.select v108 v109 v94
  let c128_i32_48 : BitVec 32 := 128#32
  let v111 : BitVec 32 := Scalar.muli v110 c128_i32_48
  let v112 : BitVec 32 := Scalar.maxsi c0_i32_49 v111
  let v113 : BitVec 32 := Scalar.minsi c99872_i32_50 v112
  v113

def k1_off3 (v93 : BitVec 32) : Fin 2 → Nat :=
  let c2_i32_51 : BitVec 32 := 2#32
  let c99872_i32_50 : BitVec 32 := 99872#32
  let c0_i32_49 : BitVec 32 := 0#32
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c128_i32_41 : BitVec 32 := 128#32
  let c0_i32_44 : BitVec 32 := 0#32
  let v100 : BitVec 1 := Scalar.cmpi .sgt c128_i32_41 c0_i32_44
  let v101 : BitVec 32 := Scalar.extui v100
  let c0_i32_45 : BitVec 32 := 0#32
  let v102 : BitVec 1 := Scalar.cmpi .slt c128_i32_41 c0_i32_45
  let v103 : BitVec 32 := Scalar.extui v102
  let v104 : BitVec 32 := Scalar.subi v101 v103
  let v105 : BitVec 1 := Scalar.cmpi .ne v99 v104
  let v106 : BitVec 32 := Scalar.remsi v93 c128_i32_41
  let c0_i32_46 : BitVec 32 := 0#32
  let v107 : BitVec 1 := Scalar.cmpi .ne v106 c0_i32_46
  let v108 : BitVec 1 := Scalar.andi v105 v107
  let v94 : BitVec 32 := Scalar.divsi v93 c128_i32_41
  let c1_i32_47 : BitVec 32 := 1#32
  let v109 : BitVec 32 := Scalar.subi v94 c1_i32_47
  let v110 : BitVec 32 := Scalar.select v108 v109 v94
  let c128_i32_48 : BitVec 32 := 128#32
  let v111 : BitVec 32 := Scalar.muli v110 c128_i32_48
  let v112 : BitVec 32 := Scalar.maxsi c0_i32_49 v111
  let v113 : BitVec 32 := Scalar.minsi c99872_i32_50 v112
  let v114 : BitVec 32 := v113
  ![2, v114.toNat]

def k1_chk3 (v93 : BitVec 32) : Prop :=
  (32 ∣ (k1_mult3 v93).toNat) ∧
  (∀ a, (k1_off3 v93) a + S1x128.size a ≤ S128x100000.size a)
theorem k1_mult3_dvd : ∀ (v93 : BitVec 32) (k1_hw3 : k1_chk3 v93), 32 ∣ (k1_mult3 v93).toNat := fun v93 k1_hw3 => k1_hw3.1
theorem k1_off3_inb : ∀ (v93 : BitVec 32) (k1_hw3 : k1_chk3 v93), ∀ a, (k1_off3 v93) a + S1x128.size a ≤ S128x100000.size a := fun v93 k1_hw3 => k1_hw3.2

def k1_mult4 (v119 : BitVec 32) : BitVec 32 :=
  let c99872_i32_64 : BitVec 32 := 99872#32
  let c0_i32_63 : BitVec 32 := 0#32
  let c0_i32_56 : BitVec 32 := 0#32
  let v121 : BitVec 1 := Scalar.cmpi .sgt v119 c0_i32_56
  let v122 : BitVec 32 := Scalar.extui v121
  let c0_i32_57 : BitVec 32 := 0#32
  let v123 : BitVec 1 := Scalar.cmpi .slt v119 c0_i32_57
  let v124 : BitVec 32 := Scalar.extui v123
  let v125 : BitVec 32 := Scalar.subi v122 v124
  let c128_i32_55 : BitVec 32 := 128#32
  let c0_i32_58 : BitVec 32 := 0#32
  let v126 : BitVec 1 := Scalar.cmpi .sgt c128_i32_55 c0_i32_58
  let v127 : BitVec 32 := Scalar.extui v126
  let c0_i32_59 : BitVec 32 := 0#32
  let v128 : BitVec 1 := Scalar.cmpi .slt c128_i32_55 c0_i32_59
  let v129 : BitVec 32 := Scalar.extui v128
  let v130 : BitVec 32 := Scalar.subi v127 v129
  let v131 : BitVec 1 := Scalar.cmpi .ne v125 v130
  let v132 : BitVec 32 := Scalar.remsi v119 c128_i32_55
  let c0_i32_60 : BitVec 32 := 0#32
  let v133 : BitVec 1 := Scalar.cmpi .ne v132 c0_i32_60
  let v134 : BitVec 1 := Scalar.andi v131 v133
  let v120 : BitVec 32 := Scalar.divsi v119 c128_i32_55
  let c1_i32_61 : BitVec 32 := 1#32
  let v135 : BitVec 32 := Scalar.subi v120 c1_i32_61
  let v136 : BitVec 32 := Scalar.select v134 v135 v120
  let c128_i32_62 : BitVec 32 := 128#32
  let v137 : BitVec 32 := Scalar.muli v136 c128_i32_62
  let v138 : BitVec 32 := Scalar.maxsi c0_i32_63 v137
  let v139 : BitVec 32 := Scalar.minsi c99872_i32_64 v138
  v139

def k1_off4 (v119 : BitVec 32) : Fin 2 → Nat :=
  let c3_i32_65 : BitVec 32 := 3#32
  let c99872_i32_64 : BitVec 32 := 99872#32
  let c0_i32_63 : BitVec 32 := 0#32
  let c0_i32_56 : BitVec 32 := 0#32
  let v121 : BitVec 1 := Scalar.cmpi .sgt v119 c0_i32_56
  let v122 : BitVec 32 := Scalar.extui v121
  let c0_i32_57 : BitVec 32 := 0#32
  let v123 : BitVec 1 := Scalar.cmpi .slt v119 c0_i32_57
  let v124 : BitVec 32 := Scalar.extui v123
  let v125 : BitVec 32 := Scalar.subi v122 v124
  let c128_i32_55 : BitVec 32 := 128#32
  let c0_i32_58 : BitVec 32 := 0#32
  let v126 : BitVec 1 := Scalar.cmpi .sgt c128_i32_55 c0_i32_58
  let v127 : BitVec 32 := Scalar.extui v126
  let c0_i32_59 : BitVec 32 := 0#32
  let v128 : BitVec 1 := Scalar.cmpi .slt c128_i32_55 c0_i32_59
  let v129 : BitVec 32 := Scalar.extui v128
  let v130 : BitVec 32 := Scalar.subi v127 v129
  let v131 : BitVec 1 := Scalar.cmpi .ne v125 v130
  let v132 : BitVec 32 := Scalar.remsi v119 c128_i32_55
  let c0_i32_60 : BitVec 32 := 0#32
  let v133 : BitVec 1 := Scalar.cmpi .ne v132 c0_i32_60
  let v134 : BitVec 1 := Scalar.andi v131 v133
  let v120 : BitVec 32 := Scalar.divsi v119 c128_i32_55
  let c1_i32_61 : BitVec 32 := 1#32
  let v135 : BitVec 32 := Scalar.subi v120 c1_i32_61
  let v136 : BitVec 32 := Scalar.select v134 v135 v120
  let c128_i32_62 : BitVec 32 := 128#32
  let v137 : BitVec 32 := Scalar.muli v136 c128_i32_62
  let v138 : BitVec 32 := Scalar.maxsi c0_i32_63 v137
  let v139 : BitVec 32 := Scalar.minsi c99872_i32_64 v138
  let v140 : BitVec 32 := v139
  ![3, v140.toNat]

def k1_chk4 (v119 : BitVec 32) : Prop :=
  (32 ∣ (k1_mult4 v119).toNat) ∧
  (∀ a, (k1_off4 v119) a + S1x128.size a ≤ S128x100000.size a)
theorem k1_mult4_dvd : ∀ (v119 : BitVec 32) (k1_hw4 : k1_chk4 v119), 32 ∣ (k1_mult4 v119).toNat := fun v119 k1_hw4 => k1_hw4.1
theorem k1_off4_inb : ∀ (v119 : BitVec 32) (k1_hw4 : k1_chk4 v119), ∀ a, (k1_off4 v119) a + S1x128.size a ≤ S128x100000.size a := fun v119 k1_hw4 => k1_hw4.2

def k1_mult5 (v145 : BitVec 32) : BitVec 32 :=
  let c99872_i32_78 : BitVec 32 := 99872#32
  let c0_i32_77 : BitVec 32 := 0#32
  let c0_i32_70 : BitVec 32 := 0#32
  let v147 : BitVec 1 := Scalar.cmpi .sgt v145 c0_i32_70
  let v148 : BitVec 32 := Scalar.extui v147
  let c0_i32_71 : BitVec 32 := 0#32
  let v149 : BitVec 1 := Scalar.cmpi .slt v145 c0_i32_71
  let v150 : BitVec 32 := Scalar.extui v149
  let v151 : BitVec 32 := Scalar.subi v148 v150
  let c128_i32_69 : BitVec 32 := 128#32
  let c0_i32_72 : BitVec 32 := 0#32
  let v152 : BitVec 1 := Scalar.cmpi .sgt c128_i32_69 c0_i32_72
  let v153 : BitVec 32 := Scalar.extui v152
  let c0_i32_73 : BitVec 32 := 0#32
  let v154 : BitVec 1 := Scalar.cmpi .slt c128_i32_69 c0_i32_73
  let v155 : BitVec 32 := Scalar.extui v154
  let v156 : BitVec 32 := Scalar.subi v153 v155
  let v157 : BitVec 1 := Scalar.cmpi .ne v151 v156
  let v158 : BitVec 32 := Scalar.remsi v145 c128_i32_69
  let c0_i32_74 : BitVec 32 := 0#32
  let v159 : BitVec 1 := Scalar.cmpi .ne v158 c0_i32_74
  let v160 : BitVec 1 := Scalar.andi v157 v159
  let v146 : BitVec 32 := Scalar.divsi v145 c128_i32_69
  let c1_i32_75 : BitVec 32 := 1#32
  let v161 : BitVec 32 := Scalar.subi v146 c1_i32_75
  let v162 : BitVec 32 := Scalar.select v160 v161 v146
  let c128_i32_76 : BitVec 32 := 128#32
  let v163 : BitVec 32 := Scalar.muli v162 c128_i32_76
  let v164 : BitVec 32 := Scalar.maxsi c0_i32_77 v163
  let v165 : BitVec 32 := Scalar.minsi c99872_i32_78 v164
  v165

def k1_off5 (v145 : BitVec 32) : Fin 2 → Nat :=
  let c4_i32_79 : BitVec 32 := 4#32
  let c99872_i32_78 : BitVec 32 := 99872#32
  let c0_i32_77 : BitVec 32 := 0#32
  let c0_i32_70 : BitVec 32 := 0#32
  let v147 : BitVec 1 := Scalar.cmpi .sgt v145 c0_i32_70
  let v148 : BitVec 32 := Scalar.extui v147
  let c0_i32_71 : BitVec 32 := 0#32
  let v149 : BitVec 1 := Scalar.cmpi .slt v145 c0_i32_71
  let v150 : BitVec 32 := Scalar.extui v149
  let v151 : BitVec 32 := Scalar.subi v148 v150
  let c128_i32_69 : BitVec 32 := 128#32
  let c0_i32_72 : BitVec 32 := 0#32
  let v152 : BitVec 1 := Scalar.cmpi .sgt c128_i32_69 c0_i32_72
  let v153 : BitVec 32 := Scalar.extui v152
  let c0_i32_73 : BitVec 32 := 0#32
  let v154 : BitVec 1 := Scalar.cmpi .slt c128_i32_69 c0_i32_73
  let v155 : BitVec 32 := Scalar.extui v154
  let v156 : BitVec 32 := Scalar.subi v153 v155
  let v157 : BitVec 1 := Scalar.cmpi .ne v151 v156
  let v158 : BitVec 32 := Scalar.remsi v145 c128_i32_69
  let c0_i32_74 : BitVec 32 := 0#32
  let v159 : BitVec 1 := Scalar.cmpi .ne v158 c0_i32_74
  let v160 : BitVec 1 := Scalar.andi v157 v159
  let v146 : BitVec 32 := Scalar.divsi v145 c128_i32_69
  let c1_i32_75 : BitVec 32 := 1#32
  let v161 : BitVec 32 := Scalar.subi v146 c1_i32_75
  let v162 : BitVec 32 := Scalar.select v160 v161 v146
  let c128_i32_76 : BitVec 32 := 128#32
  let v163 : BitVec 32 := Scalar.muli v162 c128_i32_76
  let v164 : BitVec 32 := Scalar.maxsi c0_i32_77 v163
  let v165 : BitVec 32 := Scalar.minsi c99872_i32_78 v164
  let v166 : BitVec 32 := v165
  ![4, v166.toNat]

def k1_chk5 (v145 : BitVec 32) : Prop :=
  (32 ∣ (k1_mult5 v145).toNat) ∧
  (∀ a, (k1_off5 v145) a + S1x128.size a ≤ S128x100000.size a)
theorem k1_mult5_dvd : ∀ (v145 : BitVec 32) (k1_hw5 : k1_chk5 v145), 32 ∣ (k1_mult5 v145).toNat := fun v145 k1_hw5 => k1_hw5.1
theorem k1_off5_inb : ∀ (v145 : BitVec 32) (k1_hw5 : k1_chk5 v145), ∀ a, (k1_off5 v145) a + S1x128.size a ≤ S128x100000.size a := fun v145 k1_hw5 => k1_hw5.2

def k1_mult6 (v171 : BitVec 32) : BitVec 32 :=
  let c99872_i32_92 : BitVec 32 := 99872#32
  let c0_i32_91 : BitVec 32 := 0#32
  let c0_i32_84 : BitVec 32 := 0#32
  let v173 : BitVec 1 := Scalar.cmpi .sgt v171 c0_i32_84
  let v174 : BitVec 32 := Scalar.extui v173
  let c0_i32_85 : BitVec 32 := 0#32
  let v175 : BitVec 1 := Scalar.cmpi .slt v171 c0_i32_85
  let v176 : BitVec 32 := Scalar.extui v175
  let v177 : BitVec 32 := Scalar.subi v174 v176
  let c128_i32_83 : BitVec 32 := 128#32
  let c0_i32_86 : BitVec 32 := 0#32
  let v178 : BitVec 1 := Scalar.cmpi .sgt c128_i32_83 c0_i32_86
  let v179 : BitVec 32 := Scalar.extui v178
  let c0_i32_87 : BitVec 32 := 0#32
  let v180 : BitVec 1 := Scalar.cmpi .slt c128_i32_83 c0_i32_87
  let v181 : BitVec 32 := Scalar.extui v180
  let v182 : BitVec 32 := Scalar.subi v179 v181
  let v183 : BitVec 1 := Scalar.cmpi .ne v177 v182
  let v184 : BitVec 32 := Scalar.remsi v171 c128_i32_83
  let c0_i32_88 : BitVec 32 := 0#32
  let v185 : BitVec 1 := Scalar.cmpi .ne v184 c0_i32_88
  let v186 : BitVec 1 := Scalar.andi v183 v185
  let v172 : BitVec 32 := Scalar.divsi v171 c128_i32_83
  let c1_i32_89 : BitVec 32 := 1#32
  let v187 : BitVec 32 := Scalar.subi v172 c1_i32_89
  let v188 : BitVec 32 := Scalar.select v186 v187 v172
  let c128_i32_90 : BitVec 32 := 128#32
  let v189 : BitVec 32 := Scalar.muli v188 c128_i32_90
  let v190 : BitVec 32 := Scalar.maxsi c0_i32_91 v189
  let v191 : BitVec 32 := Scalar.minsi c99872_i32_92 v190
  v191

def k1_off6 (v171 : BitVec 32) : Fin 2 → Nat :=
  let c5_i32_93 : BitVec 32 := 5#32
  let c99872_i32_92 : BitVec 32 := 99872#32
  let c0_i32_91 : BitVec 32 := 0#32
  let c0_i32_84 : BitVec 32 := 0#32
  let v173 : BitVec 1 := Scalar.cmpi .sgt v171 c0_i32_84
  let v174 : BitVec 32 := Scalar.extui v173
  let c0_i32_85 : BitVec 32 := 0#32
  let v175 : BitVec 1 := Scalar.cmpi .slt v171 c0_i32_85
  let v176 : BitVec 32 := Scalar.extui v175
  let v177 : BitVec 32 := Scalar.subi v174 v176
  let c128_i32_83 : BitVec 32 := 128#32
  let c0_i32_86 : BitVec 32 := 0#32
  let v178 : BitVec 1 := Scalar.cmpi .sgt c128_i32_83 c0_i32_86
  let v179 : BitVec 32 := Scalar.extui v178
  let c0_i32_87 : BitVec 32 := 0#32
  let v180 : BitVec 1 := Scalar.cmpi .slt c128_i32_83 c0_i32_87
  let v181 : BitVec 32 := Scalar.extui v180
  let v182 : BitVec 32 := Scalar.subi v179 v181
  let v183 : BitVec 1 := Scalar.cmpi .ne v177 v182
  let v184 : BitVec 32 := Scalar.remsi v171 c128_i32_83
  let c0_i32_88 : BitVec 32 := 0#32
  let v185 : BitVec 1 := Scalar.cmpi .ne v184 c0_i32_88
  let v186 : BitVec 1 := Scalar.andi v183 v185
  let v172 : BitVec 32 := Scalar.divsi v171 c128_i32_83
  let c1_i32_89 : BitVec 32 := 1#32
  let v187 : BitVec 32 := Scalar.subi v172 c1_i32_89
  let v188 : BitVec 32 := Scalar.select v186 v187 v172
  let c128_i32_90 : BitVec 32 := 128#32
  let v189 : BitVec 32 := Scalar.muli v188 c128_i32_90
  let v190 : BitVec 32 := Scalar.maxsi c0_i32_91 v189
  let v191 : BitVec 32 := Scalar.minsi c99872_i32_92 v190
  let v192 : BitVec 32 := v191
  ![5, v192.toNat]

def k1_chk6 (v171 : BitVec 32) : Prop :=
  (32 ∣ (k1_mult6 v171).toNat) ∧
  (∀ a, (k1_off6 v171) a + S1x128.size a ≤ S128x100000.size a)
theorem k1_mult6_dvd : ∀ (v171 : BitVec 32) (k1_hw6 : k1_chk6 v171), 32 ∣ (k1_mult6 v171).toNat := fun v171 k1_hw6 => k1_hw6.1
theorem k1_off6_inb : ∀ (v171 : BitVec 32) (k1_hw6 : k1_chk6 v171), ∀ a, (k1_off6 v171) a + S1x128.size a ≤ S128x100000.size a := fun v171 k1_hw6 => k1_hw6.2

def k1_mult7 (v197 : BitVec 32) : BitVec 32 :=
  let c99872_i32_106 : BitVec 32 := 99872#32
  let c0_i32_105 : BitVec 32 := 0#32
  let c0_i32_98 : BitVec 32 := 0#32
  let v199 : BitVec 1 := Scalar.cmpi .sgt v197 c0_i32_98
  let v200 : BitVec 32 := Scalar.extui v199
  let c0_i32_99 : BitVec 32 := 0#32
  let v201 : BitVec 1 := Scalar.cmpi .slt v197 c0_i32_99
  let v202 : BitVec 32 := Scalar.extui v201
  let v203 : BitVec 32 := Scalar.subi v200 v202
  let c128_i32_97 : BitVec 32 := 128#32
  let c0_i32_100 : BitVec 32 := 0#32
  let v204 : BitVec 1 := Scalar.cmpi .sgt c128_i32_97 c0_i32_100
  let v205 : BitVec 32 := Scalar.extui v204
  let c0_i32_101 : BitVec 32 := 0#32
  let v206 : BitVec 1 := Scalar.cmpi .slt c128_i32_97 c0_i32_101
  let v207 : BitVec 32 := Scalar.extui v206
  let v208 : BitVec 32 := Scalar.subi v205 v207
  let v209 : BitVec 1 := Scalar.cmpi .ne v203 v208
  let v210 : BitVec 32 := Scalar.remsi v197 c128_i32_97
  let c0_i32_102 : BitVec 32 := 0#32
  let v211 : BitVec 1 := Scalar.cmpi .ne v210 c0_i32_102
  let v212 : BitVec 1 := Scalar.andi v209 v211
  let v198 : BitVec 32 := Scalar.divsi v197 c128_i32_97
  let c1_i32_103 : BitVec 32 := 1#32
  let v213 : BitVec 32 := Scalar.subi v198 c1_i32_103
  let v214 : BitVec 32 := Scalar.select v212 v213 v198
  let c128_i32_104 : BitVec 32 := 128#32
  let v215 : BitVec 32 := Scalar.muli v214 c128_i32_104
  let v216 : BitVec 32 := Scalar.maxsi c0_i32_105 v215
  let v217 : BitVec 32 := Scalar.minsi c99872_i32_106 v216
  v217

def k1_off7 (v197 : BitVec 32) : Fin 2 → Nat :=
  let c6_i32_107 : BitVec 32 := 6#32
  let c99872_i32_106 : BitVec 32 := 99872#32
  let c0_i32_105 : BitVec 32 := 0#32
  let c0_i32_98 : BitVec 32 := 0#32
  let v199 : BitVec 1 := Scalar.cmpi .sgt v197 c0_i32_98
  let v200 : BitVec 32 := Scalar.extui v199
  let c0_i32_99 : BitVec 32 := 0#32
  let v201 : BitVec 1 := Scalar.cmpi .slt v197 c0_i32_99
  let v202 : BitVec 32 := Scalar.extui v201
  let v203 : BitVec 32 := Scalar.subi v200 v202
  let c128_i32_97 : BitVec 32 := 128#32
  let c0_i32_100 : BitVec 32 := 0#32
  let v204 : BitVec 1 := Scalar.cmpi .sgt c128_i32_97 c0_i32_100
  let v205 : BitVec 32 := Scalar.extui v204
  let c0_i32_101 : BitVec 32 := 0#32
  let v206 : BitVec 1 := Scalar.cmpi .slt c128_i32_97 c0_i32_101
  let v207 : BitVec 32 := Scalar.extui v206
  let v208 : BitVec 32 := Scalar.subi v205 v207
  let v209 : BitVec 1 := Scalar.cmpi .ne v203 v208
  let v210 : BitVec 32 := Scalar.remsi v197 c128_i32_97
  let c0_i32_102 : BitVec 32 := 0#32
  let v211 : BitVec 1 := Scalar.cmpi .ne v210 c0_i32_102
  let v212 : BitVec 1 := Scalar.andi v209 v211
  let v198 : BitVec 32 := Scalar.divsi v197 c128_i32_97
  let c1_i32_103 : BitVec 32 := 1#32
  let v213 : BitVec 32 := Scalar.subi v198 c1_i32_103
  let v214 : BitVec 32 := Scalar.select v212 v213 v198
  let c128_i32_104 : BitVec 32 := 128#32
  let v215 : BitVec 32 := Scalar.muli v214 c128_i32_104
  let v216 : BitVec 32 := Scalar.maxsi c0_i32_105 v215
  let v217 : BitVec 32 := Scalar.minsi c99872_i32_106 v216
  let v218 : BitVec 32 := v217
  ![6, v218.toNat]

def k1_chk7 (v197 : BitVec 32) : Prop :=
  (32 ∣ (k1_mult7 v197).toNat) ∧
  (∀ a, (k1_off7 v197) a + S1x128.size a ≤ S128x100000.size a)
theorem k1_mult7_dvd : ∀ (v197 : BitVec 32) (k1_hw7 : k1_chk7 v197), 32 ∣ (k1_mult7 v197).toNat := fun v197 k1_hw7 => k1_hw7.1
theorem k1_off7_inb : ∀ (v197 : BitVec 32) (k1_hw7 : k1_chk7 v197), ∀ a, (k1_off7 v197) a + S1x128.size a ≤ S128x100000.size a := fun v197 k1_hw7 => k1_hw7.2

def k1_mult8 (v223 : BitVec 32) : BitVec 32 :=
  let c99872_i32_120 : BitVec 32 := 99872#32
  let c0_i32_119 : BitVec 32 := 0#32
  let c0_i32_112 : BitVec 32 := 0#32
  let v225 : BitVec 1 := Scalar.cmpi .sgt v223 c0_i32_112
  let v226 : BitVec 32 := Scalar.extui v225
  let c0_i32_113 : BitVec 32 := 0#32
  let v227 : BitVec 1 := Scalar.cmpi .slt v223 c0_i32_113
  let v228 : BitVec 32 := Scalar.extui v227
  let v229 : BitVec 32 := Scalar.subi v226 v228
  let c128_i32_111 : BitVec 32 := 128#32
  let c0_i32_114 : BitVec 32 := 0#32
  let v230 : BitVec 1 := Scalar.cmpi .sgt c128_i32_111 c0_i32_114
  let v231 : BitVec 32 := Scalar.extui v230
  let c0_i32_115 : BitVec 32 := 0#32
  let v232 : BitVec 1 := Scalar.cmpi .slt c128_i32_111 c0_i32_115
  let v233 : BitVec 32 := Scalar.extui v232
  let v234 : BitVec 32 := Scalar.subi v231 v233
  let v235 : BitVec 1 := Scalar.cmpi .ne v229 v234
  let v236 : BitVec 32 := Scalar.remsi v223 c128_i32_111
  let c0_i32_116 : BitVec 32 := 0#32
  let v237 : BitVec 1 := Scalar.cmpi .ne v236 c0_i32_116
  let v238 : BitVec 1 := Scalar.andi v235 v237
  let v224 : BitVec 32 := Scalar.divsi v223 c128_i32_111
  let c1_i32_117 : BitVec 32 := 1#32
  let v239 : BitVec 32 := Scalar.subi v224 c1_i32_117
  let v240 : BitVec 32 := Scalar.select v238 v239 v224
  let c128_i32_118 : BitVec 32 := 128#32
  let v241 : BitVec 32 := Scalar.muli v240 c128_i32_118
  let v242 : BitVec 32 := Scalar.maxsi c0_i32_119 v241
  let v243 : BitVec 32 := Scalar.minsi c99872_i32_120 v242
  v243

def k1_off8 (v223 : BitVec 32) : Fin 2 → Nat :=
  let c7_i32_121 : BitVec 32 := 7#32
  let c99872_i32_120 : BitVec 32 := 99872#32
  let c0_i32_119 : BitVec 32 := 0#32
  let c0_i32_112 : BitVec 32 := 0#32
  let v225 : BitVec 1 := Scalar.cmpi .sgt v223 c0_i32_112
  let v226 : BitVec 32 := Scalar.extui v225
  let c0_i32_113 : BitVec 32 := 0#32
  let v227 : BitVec 1 := Scalar.cmpi .slt v223 c0_i32_113
  let v228 : BitVec 32 := Scalar.extui v227
  let v229 : BitVec 32 := Scalar.subi v226 v228
  let c128_i32_111 : BitVec 32 := 128#32
  let c0_i32_114 : BitVec 32 := 0#32
  let v230 : BitVec 1 := Scalar.cmpi .sgt c128_i32_111 c0_i32_114
  let v231 : BitVec 32 := Scalar.extui v230
  let c0_i32_115 : BitVec 32 := 0#32
  let v232 : BitVec 1 := Scalar.cmpi .slt c128_i32_111 c0_i32_115
  let v233 : BitVec 32 := Scalar.extui v232
  let v234 : BitVec 32 := Scalar.subi v231 v233
  let v235 : BitVec 1 := Scalar.cmpi .ne v229 v234
  let v236 : BitVec 32 := Scalar.remsi v223 c128_i32_111
  let c0_i32_116 : BitVec 32 := 0#32
  let v237 : BitVec 1 := Scalar.cmpi .ne v236 c0_i32_116
  let v238 : BitVec 1 := Scalar.andi v235 v237
  let v224 : BitVec 32 := Scalar.divsi v223 c128_i32_111
  let c1_i32_117 : BitVec 32 := 1#32
  let v239 : BitVec 32 := Scalar.subi v224 c1_i32_117
  let v240 : BitVec 32 := Scalar.select v238 v239 v224
  let c128_i32_118 : BitVec 32 := 128#32
  let v241 : BitVec 32 := Scalar.muli v240 c128_i32_118
  let v242 : BitVec 32 := Scalar.maxsi c0_i32_119 v241
  let v243 : BitVec 32 := Scalar.minsi c99872_i32_120 v242
  let v244 : BitVec 32 := v243
  ![7, v244.toNat]

def k1_chk8 (v223 : BitVec 32) : Prop :=
  (32 ∣ (k1_mult8 v223).toNat) ∧
  (∀ a, (k1_off8 v223) a + S1x128.size a ≤ S128x100000.size a)
theorem k1_mult8_dvd : ∀ (v223 : BitVec 32) (k1_hw8 : k1_chk8 v223), 32 ∣ (k1_mult8 v223).toNat := fun v223 k1_hw8 => k1_hw8.1
theorem k1_off8_inb : ∀ (v223 : BitVec 32) (k1_hw8 : k1_chk8 v223), ∀ a, (k1_off8 v223) a + S1x128.size a ≤ S128x100000.size a := fun v223 k1_hw8 => k1_hw8.2

def k1_mult9 (v249 : BitVec 32) : BitVec 32 :=
  let c99872_i32_134 : BitVec 32 := 99872#32
  let c0_i32_133 : BitVec 32 := 0#32
  let c0_i32_126 : BitVec 32 := 0#32
  let v251 : BitVec 1 := Scalar.cmpi .sgt v249 c0_i32_126
  let v252 : BitVec 32 := Scalar.extui v251
  let c0_i32_127 : BitVec 32 := 0#32
  let v253 : BitVec 1 := Scalar.cmpi .slt v249 c0_i32_127
  let v254 : BitVec 32 := Scalar.extui v253
  let v255 : BitVec 32 := Scalar.subi v252 v254
  let c128_i32_125 : BitVec 32 := 128#32
  let c0_i32_128 : BitVec 32 := 0#32
  let v256 : BitVec 1 := Scalar.cmpi .sgt c128_i32_125 c0_i32_128
  let v257 : BitVec 32 := Scalar.extui v256
  let c0_i32_129 : BitVec 32 := 0#32
  let v258 : BitVec 1 := Scalar.cmpi .slt c128_i32_125 c0_i32_129
  let v259 : BitVec 32 := Scalar.extui v258
  let v260 : BitVec 32 := Scalar.subi v257 v259
  let v261 : BitVec 1 := Scalar.cmpi .ne v255 v260
  let v262 : BitVec 32 := Scalar.remsi v249 c128_i32_125
  let c0_i32_130 : BitVec 32 := 0#32
  let v263 : BitVec 1 := Scalar.cmpi .ne v262 c0_i32_130
  let v264 : BitVec 1 := Scalar.andi v261 v263
  let v250 : BitVec 32 := Scalar.divsi v249 c128_i32_125
  let c1_i32_131 : BitVec 32 := 1#32
  let v265 : BitVec 32 := Scalar.subi v250 c1_i32_131
  let v266 : BitVec 32 := Scalar.select v264 v265 v250
  let c128_i32_132 : BitVec 32 := 128#32
  let v267 : BitVec 32 := Scalar.muli v266 c128_i32_132
  let v268 : BitVec 32 := Scalar.maxsi c0_i32_133 v267
  let v269 : BitVec 32 := Scalar.minsi c99872_i32_134 v268
  v269

def k1_off9 (v249 : BitVec 32) : Fin 2 → Nat :=
  let c8_i32_135 : BitVec 32 := 8#32
  let c99872_i32_134 : BitVec 32 := 99872#32
  let c0_i32_133 : BitVec 32 := 0#32
  let c0_i32_126 : BitVec 32 := 0#32
  let v251 : BitVec 1 := Scalar.cmpi .sgt v249 c0_i32_126
  let v252 : BitVec 32 := Scalar.extui v251
  let c0_i32_127 : BitVec 32 := 0#32
  let v253 : BitVec 1 := Scalar.cmpi .slt v249 c0_i32_127
  let v254 : BitVec 32 := Scalar.extui v253
  let v255 : BitVec 32 := Scalar.subi v252 v254
  let c128_i32_125 : BitVec 32 := 128#32
  let c0_i32_128 : BitVec 32 := 0#32
  let v256 : BitVec 1 := Scalar.cmpi .sgt c128_i32_125 c0_i32_128
  let v257 : BitVec 32 := Scalar.extui v256
  let c0_i32_129 : BitVec 32 := 0#32
  let v258 : BitVec 1 := Scalar.cmpi .slt c128_i32_125 c0_i32_129
  let v259 : BitVec 32 := Scalar.extui v258
  let v260 : BitVec 32 := Scalar.subi v257 v259
  let v261 : BitVec 1 := Scalar.cmpi .ne v255 v260
  let v262 : BitVec 32 := Scalar.remsi v249 c128_i32_125
  let c0_i32_130 : BitVec 32 := 0#32
  let v263 : BitVec 1 := Scalar.cmpi .ne v262 c0_i32_130
  let v264 : BitVec 1 := Scalar.andi v261 v263
  let v250 : BitVec 32 := Scalar.divsi v249 c128_i32_125
  let c1_i32_131 : BitVec 32 := 1#32
  let v265 : BitVec 32 := Scalar.subi v250 c1_i32_131
  let v266 : BitVec 32 := Scalar.select v264 v265 v250
  let c128_i32_132 : BitVec 32 := 128#32
  let v267 : BitVec 32 := Scalar.muli v266 c128_i32_132
  let v268 : BitVec 32 := Scalar.maxsi c0_i32_133 v267
  let v269 : BitVec 32 := Scalar.minsi c99872_i32_134 v268
  let v270 : BitVec 32 := v269
  ![8, v270.toNat]

def k1_chk9 (v249 : BitVec 32) : Prop :=
  (32 ∣ (k1_mult9 v249).toNat) ∧
  (∀ a, (k1_off9 v249) a + S1x128.size a ≤ S128x100000.size a)
theorem k1_mult9_dvd : ∀ (v249 : BitVec 32) (k1_hw9 : k1_chk9 v249), 32 ∣ (k1_mult9 v249).toNat := fun v249 k1_hw9 => k1_hw9.1
theorem k1_off9_inb : ∀ (v249 : BitVec 32) (k1_hw9 : k1_chk9 v249), ∀ a, (k1_off9 v249) a + S1x128.size a ≤ S128x100000.size a := fun v249 k1_hw9 => k1_hw9.2

def k1_mult10 (v275 : BitVec 32) : BitVec 32 :=
  let c99872_i32_148 : BitVec 32 := 99872#32
  let c0_i32_147 : BitVec 32 := 0#32
  let c0_i32_140 : BitVec 32 := 0#32
  let v277 : BitVec 1 := Scalar.cmpi .sgt v275 c0_i32_140
  let v278 : BitVec 32 := Scalar.extui v277
  let c0_i32_141 : BitVec 32 := 0#32
  let v279 : BitVec 1 := Scalar.cmpi .slt v275 c0_i32_141
  let v280 : BitVec 32 := Scalar.extui v279
  let v281 : BitVec 32 := Scalar.subi v278 v280
  let c128_i32_139 : BitVec 32 := 128#32
  let c0_i32_142 : BitVec 32 := 0#32
  let v282 : BitVec 1 := Scalar.cmpi .sgt c128_i32_139 c0_i32_142
  let v283 : BitVec 32 := Scalar.extui v282
  let c0_i32_143 : BitVec 32 := 0#32
  let v284 : BitVec 1 := Scalar.cmpi .slt c128_i32_139 c0_i32_143
  let v285 : BitVec 32 := Scalar.extui v284
  let v286 : BitVec 32 := Scalar.subi v283 v285
  let v287 : BitVec 1 := Scalar.cmpi .ne v281 v286
  let v288 : BitVec 32 := Scalar.remsi v275 c128_i32_139
  let c0_i32_144 : BitVec 32 := 0#32
  let v289 : BitVec 1 := Scalar.cmpi .ne v288 c0_i32_144
  let v290 : BitVec 1 := Scalar.andi v287 v289
  let v276 : BitVec 32 := Scalar.divsi v275 c128_i32_139
  let c1_i32_145 : BitVec 32 := 1#32
  let v291 : BitVec 32 := Scalar.subi v276 c1_i32_145
  let v292 : BitVec 32 := Scalar.select v290 v291 v276
  let c128_i32_146 : BitVec 32 := 128#32
  let v293 : BitVec 32 := Scalar.muli v292 c128_i32_146
  let v294 : BitVec 32 := Scalar.maxsi c0_i32_147 v293
  let v295 : BitVec 32 := Scalar.minsi c99872_i32_148 v294
  v295

def k1_off10 (v275 : BitVec 32) : Fin 2 → Nat :=
  let c9_i32_149 : BitVec 32 := 9#32
  let c99872_i32_148 : BitVec 32 := 99872#32
  let c0_i32_147 : BitVec 32 := 0#32
  let c0_i32_140 : BitVec 32 := 0#32
  let v277 : BitVec 1 := Scalar.cmpi .sgt v275 c0_i32_140
  let v278 : BitVec 32 := Scalar.extui v277
  let c0_i32_141 : BitVec 32 := 0#32
  let v279 : BitVec 1 := Scalar.cmpi .slt v275 c0_i32_141
  let v280 : BitVec 32 := Scalar.extui v279
  let v281 : BitVec 32 := Scalar.subi v278 v280
  let c128_i32_139 : BitVec 32 := 128#32
  let c0_i32_142 : BitVec 32 := 0#32
  let v282 : BitVec 1 := Scalar.cmpi .sgt c128_i32_139 c0_i32_142
  let v283 : BitVec 32 := Scalar.extui v282
  let c0_i32_143 : BitVec 32 := 0#32
  let v284 : BitVec 1 := Scalar.cmpi .slt c128_i32_139 c0_i32_143
  let v285 : BitVec 32 := Scalar.extui v284
  let v286 : BitVec 32 := Scalar.subi v283 v285
  let v287 : BitVec 1 := Scalar.cmpi .ne v281 v286
  let v288 : BitVec 32 := Scalar.remsi v275 c128_i32_139
  let c0_i32_144 : BitVec 32 := 0#32
  let v289 : BitVec 1 := Scalar.cmpi .ne v288 c0_i32_144
  let v290 : BitVec 1 := Scalar.andi v287 v289
  let v276 : BitVec 32 := Scalar.divsi v275 c128_i32_139
  let c1_i32_145 : BitVec 32 := 1#32
  let v291 : BitVec 32 := Scalar.subi v276 c1_i32_145
  let v292 : BitVec 32 := Scalar.select v290 v291 v276
  let c128_i32_146 : BitVec 32 := 128#32
  let v293 : BitVec 32 := Scalar.muli v292 c128_i32_146
  let v294 : BitVec 32 := Scalar.maxsi c0_i32_147 v293
  let v295 : BitVec 32 := Scalar.minsi c99872_i32_148 v294
  let v296 : BitVec 32 := v295
  ![9, v296.toNat]

def k1_chk10 (v275 : BitVec 32) : Prop :=
  (32 ∣ (k1_mult10 v275).toNat) ∧
  (∀ a, (k1_off10 v275) a + S1x128.size a ≤ S128x100000.size a)
theorem k1_mult10_dvd : ∀ (v275 : BitVec 32) (k1_hw10 : k1_chk10 v275), 32 ∣ (k1_mult10 v275).toNat := fun v275 k1_hw10 => k1_hw10.1
theorem k1_off10_inb : ∀ (v275 : BitVec 32) (k1_hw10 : k1_chk10 v275), ∀ a, (k1_off10 v275) a + S1x128.size a ≤ S128x100000.size a := fun v275 k1_hw10 => k1_hw10.2

def k1_mult11 (v301 : BitVec 32) : BitVec 32 :=
  let c99872_i32_162 : BitVec 32 := 99872#32
  let c0_i32_161 : BitVec 32 := 0#32
  let c0_i32_154 : BitVec 32 := 0#32
  let v303 : BitVec 1 := Scalar.cmpi .sgt v301 c0_i32_154
  let v304 : BitVec 32 := Scalar.extui v303
  let c0_i32_155 : BitVec 32 := 0#32
  let v305 : BitVec 1 := Scalar.cmpi .slt v301 c0_i32_155
  let v306 : BitVec 32 := Scalar.extui v305
  let v307 : BitVec 32 := Scalar.subi v304 v306
  let c128_i32_153 : BitVec 32 := 128#32
  let c0_i32_156 : BitVec 32 := 0#32
  let v308 : BitVec 1 := Scalar.cmpi .sgt c128_i32_153 c0_i32_156
  let v309 : BitVec 32 := Scalar.extui v308
  let c0_i32_157 : BitVec 32 := 0#32
  let v310 : BitVec 1 := Scalar.cmpi .slt c128_i32_153 c0_i32_157
  let v311 : BitVec 32 := Scalar.extui v310
  let v312 : BitVec 32 := Scalar.subi v309 v311
  let v313 : BitVec 1 := Scalar.cmpi .ne v307 v312
  let v314 : BitVec 32 := Scalar.remsi v301 c128_i32_153
  let c0_i32_158 : BitVec 32 := 0#32
  let v315 : BitVec 1 := Scalar.cmpi .ne v314 c0_i32_158
  let v316 : BitVec 1 := Scalar.andi v313 v315
  let v302 : BitVec 32 := Scalar.divsi v301 c128_i32_153
  let c1_i32_159 : BitVec 32 := 1#32
  let v317 : BitVec 32 := Scalar.subi v302 c1_i32_159
  let v318 : BitVec 32 := Scalar.select v316 v317 v302
  let c128_i32_160 : BitVec 32 := 128#32
  let v319 : BitVec 32 := Scalar.muli v318 c128_i32_160
  let v320 : BitVec 32 := Scalar.maxsi c0_i32_161 v319
  let v321 : BitVec 32 := Scalar.minsi c99872_i32_162 v320
  v321

def k1_off11 (v301 : BitVec 32) : Fin 2 → Nat :=
  let c10_i32_163 : BitVec 32 := 10#32
  let c99872_i32_162 : BitVec 32 := 99872#32
  let c0_i32_161 : BitVec 32 := 0#32
  let c0_i32_154 : BitVec 32 := 0#32
  let v303 : BitVec 1 := Scalar.cmpi .sgt v301 c0_i32_154
  let v304 : BitVec 32 := Scalar.extui v303
  let c0_i32_155 : BitVec 32 := 0#32
  let v305 : BitVec 1 := Scalar.cmpi .slt v301 c0_i32_155
  let v306 : BitVec 32 := Scalar.extui v305
  let v307 : BitVec 32 := Scalar.subi v304 v306
  let c128_i32_153 : BitVec 32 := 128#32
  let c0_i32_156 : BitVec 32 := 0#32
  let v308 : BitVec 1 := Scalar.cmpi .sgt c128_i32_153 c0_i32_156
  let v309 : BitVec 32 := Scalar.extui v308
  let c0_i32_157 : BitVec 32 := 0#32
  let v310 : BitVec 1 := Scalar.cmpi .slt c128_i32_153 c0_i32_157
  let v311 : BitVec 32 := Scalar.extui v310
  let v312 : BitVec 32 := Scalar.subi v309 v311
  let v313 : BitVec 1 := Scalar.cmpi .ne v307 v312
  let v314 : BitVec 32 := Scalar.remsi v301 c128_i32_153
  let c0_i32_158 : BitVec 32 := 0#32
  let v315 : BitVec 1 := Scalar.cmpi .ne v314 c0_i32_158
  let v316 : BitVec 1 := Scalar.andi v313 v315
  let v302 : BitVec 32 := Scalar.divsi v301 c128_i32_153
  let c1_i32_159 : BitVec 32 := 1#32
  let v317 : BitVec 32 := Scalar.subi v302 c1_i32_159
  let v318 : BitVec 32 := Scalar.select v316 v317 v302
  let c128_i32_160 : BitVec 32 := 128#32
  let v319 : BitVec 32 := Scalar.muli v318 c128_i32_160
  let v320 : BitVec 32 := Scalar.maxsi c0_i32_161 v319
  let v321 : BitVec 32 := Scalar.minsi c99872_i32_162 v320
  let v322 : BitVec 32 := v321
  ![10, v322.toNat]

def k1_chk11 (v301 : BitVec 32) : Prop :=
  (32 ∣ (k1_mult11 v301).toNat) ∧
  (∀ a, (k1_off11 v301) a + S1x128.size a ≤ S128x100000.size a)
theorem k1_mult11_dvd : ∀ (v301 : BitVec 32) (k1_hw11 : k1_chk11 v301), 32 ∣ (k1_mult11 v301).toNat := fun v301 k1_hw11 => k1_hw11.1
theorem k1_off11_inb : ∀ (v301 : BitVec 32) (k1_hw11 : k1_chk11 v301), ∀ a, (k1_off11 v301) a + S1x128.size a ≤ S128x100000.size a := fun v301 k1_hw11 => k1_hw11.2

def k1_mult12 (v327 : BitVec 32) : BitVec 32 :=
  let c99872_i32_176 : BitVec 32 := 99872#32
  let c0_i32_175 : BitVec 32 := 0#32
  let c0_i32_168 : BitVec 32 := 0#32
  let v329 : BitVec 1 := Scalar.cmpi .sgt v327 c0_i32_168
  let v330 : BitVec 32 := Scalar.extui v329
  let c0_i32_169 : BitVec 32 := 0#32
  let v331 : BitVec 1 := Scalar.cmpi .slt v327 c0_i32_169
  let v332 : BitVec 32 := Scalar.extui v331
  let v333 : BitVec 32 := Scalar.subi v330 v332
  let c128_i32_167 : BitVec 32 := 128#32
  let c0_i32_170 : BitVec 32 := 0#32
  let v334 : BitVec 1 := Scalar.cmpi .sgt c128_i32_167 c0_i32_170
  let v335 : BitVec 32 := Scalar.extui v334
  let c0_i32_171 : BitVec 32 := 0#32
  let v336 : BitVec 1 := Scalar.cmpi .slt c128_i32_167 c0_i32_171
  let v337 : BitVec 32 := Scalar.extui v336
  let v338 : BitVec 32 := Scalar.subi v335 v337
  let v339 : BitVec 1 := Scalar.cmpi .ne v333 v338
  let v340 : BitVec 32 := Scalar.remsi v327 c128_i32_167
  let c0_i32_172 : BitVec 32 := 0#32
  let v341 : BitVec 1 := Scalar.cmpi .ne v340 c0_i32_172
  let v342 : BitVec 1 := Scalar.andi v339 v341
  let v328 : BitVec 32 := Scalar.divsi v327 c128_i32_167
  let c1_i32_173 : BitVec 32 := 1#32
  let v343 : BitVec 32 := Scalar.subi v328 c1_i32_173
  let v344 : BitVec 32 := Scalar.select v342 v343 v328
  let c128_i32_174 : BitVec 32 := 128#32
  let v345 : BitVec 32 := Scalar.muli v344 c128_i32_174
  let v346 : BitVec 32 := Scalar.maxsi c0_i32_175 v345
  let v347 : BitVec 32 := Scalar.minsi c99872_i32_176 v346
  v347

def k1_off12 (v327 : BitVec 32) : Fin 2 → Nat :=
  let c11_i32_177 : BitVec 32 := 11#32
  let c99872_i32_176 : BitVec 32 := 99872#32
  let c0_i32_175 : BitVec 32 := 0#32
  let c0_i32_168 : BitVec 32 := 0#32
  let v329 : BitVec 1 := Scalar.cmpi .sgt v327 c0_i32_168
  let v330 : BitVec 32 := Scalar.extui v329
  let c0_i32_169 : BitVec 32 := 0#32
  let v331 : BitVec 1 := Scalar.cmpi .slt v327 c0_i32_169
  let v332 : BitVec 32 := Scalar.extui v331
  let v333 : BitVec 32 := Scalar.subi v330 v332
  let c128_i32_167 : BitVec 32 := 128#32
  let c0_i32_170 : BitVec 32 := 0#32
  let v334 : BitVec 1 := Scalar.cmpi .sgt c128_i32_167 c0_i32_170
  let v335 : BitVec 32 := Scalar.extui v334
  let c0_i32_171 : BitVec 32 := 0#32
  let v336 : BitVec 1 := Scalar.cmpi .slt c128_i32_167 c0_i32_171
  let v337 : BitVec 32 := Scalar.extui v336
  let v338 : BitVec 32 := Scalar.subi v335 v337
  let v339 : BitVec 1 := Scalar.cmpi .ne v333 v338
  let v340 : BitVec 32 := Scalar.remsi v327 c128_i32_167
  let c0_i32_172 : BitVec 32 := 0#32
  let v341 : BitVec 1 := Scalar.cmpi .ne v340 c0_i32_172
  let v342 : BitVec 1 := Scalar.andi v339 v341
  let v328 : BitVec 32 := Scalar.divsi v327 c128_i32_167
  let c1_i32_173 : BitVec 32 := 1#32
  let v343 : BitVec 32 := Scalar.subi v328 c1_i32_173
  let v344 : BitVec 32 := Scalar.select v342 v343 v328
  let c128_i32_174 : BitVec 32 := 128#32
  let v345 : BitVec 32 := Scalar.muli v344 c128_i32_174
  let v346 : BitVec 32 := Scalar.maxsi c0_i32_175 v345
  let v347 : BitVec 32 := Scalar.minsi c99872_i32_176 v346
  let v348 : BitVec 32 := v347
  ![11, v348.toNat]

def k1_chk12 (v327 : BitVec 32) : Prop :=
  (32 ∣ (k1_mult12 v327).toNat) ∧
  (∀ a, (k1_off12 v327) a + S1x128.size a ≤ S128x100000.size a)
theorem k1_mult12_dvd : ∀ (v327 : BitVec 32) (k1_hw12 : k1_chk12 v327), 32 ∣ (k1_mult12 v327).toNat := fun v327 k1_hw12 => k1_hw12.1
theorem k1_off12_inb : ∀ (v327 : BitVec 32) (k1_hw12 : k1_chk12 v327), ∀ a, (k1_off12 v327) a + S1x128.size a ≤ S128x100000.size a := fun v327 k1_hw12 => k1_hw12.2

def k1_mult13 (v353 : BitVec 32) : BitVec 32 :=
  let c99872_i32_190 : BitVec 32 := 99872#32
  let c0_i32_189 : BitVec 32 := 0#32
  let c0_i32_182 : BitVec 32 := 0#32
  let v355 : BitVec 1 := Scalar.cmpi .sgt v353 c0_i32_182
  let v356 : BitVec 32 := Scalar.extui v355
  let c0_i32_183 : BitVec 32 := 0#32
  let v357 : BitVec 1 := Scalar.cmpi .slt v353 c0_i32_183
  let v358 : BitVec 32 := Scalar.extui v357
  let v359 : BitVec 32 := Scalar.subi v356 v358
  let c128_i32_181 : BitVec 32 := 128#32
  let c0_i32_184 : BitVec 32 := 0#32
  let v360 : BitVec 1 := Scalar.cmpi .sgt c128_i32_181 c0_i32_184
  let v361 : BitVec 32 := Scalar.extui v360
  let c0_i32_185 : BitVec 32 := 0#32
  let v362 : BitVec 1 := Scalar.cmpi .slt c128_i32_181 c0_i32_185
  let v363 : BitVec 32 := Scalar.extui v362
  let v364 : BitVec 32 := Scalar.subi v361 v363
  let v365 : BitVec 1 := Scalar.cmpi .ne v359 v364
  let v366 : BitVec 32 := Scalar.remsi v353 c128_i32_181
  let c0_i32_186 : BitVec 32 := 0#32
  let v367 : BitVec 1 := Scalar.cmpi .ne v366 c0_i32_186
  let v368 : BitVec 1 := Scalar.andi v365 v367
  let v354 : BitVec 32 := Scalar.divsi v353 c128_i32_181
  let c1_i32_187 : BitVec 32 := 1#32
  let v369 : BitVec 32 := Scalar.subi v354 c1_i32_187
  let v370 : BitVec 32 := Scalar.select v368 v369 v354
  let c128_i32_188 : BitVec 32 := 128#32
  let v371 : BitVec 32 := Scalar.muli v370 c128_i32_188
  let v372 : BitVec 32 := Scalar.maxsi c0_i32_189 v371
  let v373 : BitVec 32 := Scalar.minsi c99872_i32_190 v372
  v373

def k1_off13 (v353 : BitVec 32) : Fin 2 → Nat :=
  let c12_i32_191 : BitVec 32 := 12#32
  let c99872_i32_190 : BitVec 32 := 99872#32
  let c0_i32_189 : BitVec 32 := 0#32
  let c0_i32_182 : BitVec 32 := 0#32
  let v355 : BitVec 1 := Scalar.cmpi .sgt v353 c0_i32_182
  let v356 : BitVec 32 := Scalar.extui v355
  let c0_i32_183 : BitVec 32 := 0#32
  let v357 : BitVec 1 := Scalar.cmpi .slt v353 c0_i32_183
  let v358 : BitVec 32 := Scalar.extui v357
  let v359 : BitVec 32 := Scalar.subi v356 v358
  let c128_i32_181 : BitVec 32 := 128#32
  let c0_i32_184 : BitVec 32 := 0#32
  let v360 : BitVec 1 := Scalar.cmpi .sgt c128_i32_181 c0_i32_184
  let v361 : BitVec 32 := Scalar.extui v360
  let c0_i32_185 : BitVec 32 := 0#32
  let v362 : BitVec 1 := Scalar.cmpi .slt c128_i32_181 c0_i32_185
  let v363 : BitVec 32 := Scalar.extui v362
  let v364 : BitVec 32 := Scalar.subi v361 v363
  let v365 : BitVec 1 := Scalar.cmpi .ne v359 v364
  let v366 : BitVec 32 := Scalar.remsi v353 c128_i32_181
  let c0_i32_186 : BitVec 32 := 0#32
  let v367 : BitVec 1 := Scalar.cmpi .ne v366 c0_i32_186
  let v368 : BitVec 1 := Scalar.andi v365 v367
  let v354 : BitVec 32 := Scalar.divsi v353 c128_i32_181
  let c1_i32_187 : BitVec 32 := 1#32
  let v369 : BitVec 32 := Scalar.subi v354 c1_i32_187
  let v370 : BitVec 32 := Scalar.select v368 v369 v354
  let c128_i32_188 : BitVec 32 := 128#32
  let v371 : BitVec 32 := Scalar.muli v370 c128_i32_188
  let v372 : BitVec 32 := Scalar.maxsi c0_i32_189 v371
  let v373 : BitVec 32 := Scalar.minsi c99872_i32_190 v372
  let v374 : BitVec 32 := v373
  ![12, v374.toNat]

def k1_chk13 (v353 : BitVec 32) : Prop :=
  (32 ∣ (k1_mult13 v353).toNat) ∧
  (∀ a, (k1_off13 v353) a + S1x128.size a ≤ S128x100000.size a)
theorem k1_mult13_dvd : ∀ (v353 : BitVec 32) (k1_hw13 : k1_chk13 v353), 32 ∣ (k1_mult13 v353).toNat := fun v353 k1_hw13 => k1_hw13.1
theorem k1_off13_inb : ∀ (v353 : BitVec 32) (k1_hw13 : k1_chk13 v353), ∀ a, (k1_off13 v353) a + S1x128.size a ≤ S128x100000.size a := fun v353 k1_hw13 => k1_hw13.2

def k1_mult14 (v379 : BitVec 32) : BitVec 32 :=
  let c99872_i32_204 : BitVec 32 := 99872#32
  let c0_i32_203 : BitVec 32 := 0#32
  let c0_i32_196 : BitVec 32 := 0#32
  let v381 : BitVec 1 := Scalar.cmpi .sgt v379 c0_i32_196
  let v382 : BitVec 32 := Scalar.extui v381
  let c0_i32_197 : BitVec 32 := 0#32
  let v383 : BitVec 1 := Scalar.cmpi .slt v379 c0_i32_197
  let v384 : BitVec 32 := Scalar.extui v383
  let v385 : BitVec 32 := Scalar.subi v382 v384
  let c128_i32_195 : BitVec 32 := 128#32
  let c0_i32_198 : BitVec 32 := 0#32
  let v386 : BitVec 1 := Scalar.cmpi .sgt c128_i32_195 c0_i32_198
  let v387 : BitVec 32 := Scalar.extui v386
  let c0_i32_199 : BitVec 32 := 0#32
  let v388 : BitVec 1 := Scalar.cmpi .slt c128_i32_195 c0_i32_199
  let v389 : BitVec 32 := Scalar.extui v388
  let v390 : BitVec 32 := Scalar.subi v387 v389
  let v391 : BitVec 1 := Scalar.cmpi .ne v385 v390
  let v392 : BitVec 32 := Scalar.remsi v379 c128_i32_195
  let c0_i32_200 : BitVec 32 := 0#32
  let v393 : BitVec 1 := Scalar.cmpi .ne v392 c0_i32_200
  let v394 : BitVec 1 := Scalar.andi v391 v393
  let v380 : BitVec 32 := Scalar.divsi v379 c128_i32_195
  let c1_i32_201 : BitVec 32 := 1#32
  let v395 : BitVec 32 := Scalar.subi v380 c1_i32_201
  let v396 : BitVec 32 := Scalar.select v394 v395 v380
  let c128_i32_202 : BitVec 32 := 128#32
  let v397 : BitVec 32 := Scalar.muli v396 c128_i32_202
  let v398 : BitVec 32 := Scalar.maxsi c0_i32_203 v397
  let v399 : BitVec 32 := Scalar.minsi c99872_i32_204 v398
  v399

def k1_off14 (v379 : BitVec 32) : Fin 2 → Nat :=
  let c13_i32_205 : BitVec 32 := 13#32
  let c99872_i32_204 : BitVec 32 := 99872#32
  let c0_i32_203 : BitVec 32 := 0#32
  let c0_i32_196 : BitVec 32 := 0#32
  let v381 : BitVec 1 := Scalar.cmpi .sgt v379 c0_i32_196
  let v382 : BitVec 32 := Scalar.extui v381
  let c0_i32_197 : BitVec 32 := 0#32
  let v383 : BitVec 1 := Scalar.cmpi .slt v379 c0_i32_197
  let v384 : BitVec 32 := Scalar.extui v383
  let v385 : BitVec 32 := Scalar.subi v382 v384
  let c128_i32_195 : BitVec 32 := 128#32
  let c0_i32_198 : BitVec 32 := 0#32
  let v386 : BitVec 1 := Scalar.cmpi .sgt c128_i32_195 c0_i32_198
  let v387 : BitVec 32 := Scalar.extui v386
  let c0_i32_199 : BitVec 32 := 0#32
  let v388 : BitVec 1 := Scalar.cmpi .slt c128_i32_195 c0_i32_199
  let v389 : BitVec 32 := Scalar.extui v388
  let v390 : BitVec 32 := Scalar.subi v387 v389
  let v391 : BitVec 1 := Scalar.cmpi .ne v385 v390
  let v392 : BitVec 32 := Scalar.remsi v379 c128_i32_195
  let c0_i32_200 : BitVec 32 := 0#32
  let v393 : BitVec 1 := Scalar.cmpi .ne v392 c0_i32_200
  let v394 : BitVec 1 := Scalar.andi v391 v393
  let v380 : BitVec 32 := Scalar.divsi v379 c128_i32_195
  let c1_i32_201 : BitVec 32 := 1#32
  let v395 : BitVec 32 := Scalar.subi v380 c1_i32_201
  let v396 : BitVec 32 := Scalar.select v394 v395 v380
  let c128_i32_202 : BitVec 32 := 128#32
  let v397 : BitVec 32 := Scalar.muli v396 c128_i32_202
  let v398 : BitVec 32 := Scalar.maxsi c0_i32_203 v397
  let v399 : BitVec 32 := Scalar.minsi c99872_i32_204 v398
  let v400 : BitVec 32 := v399
  ![13, v400.toNat]

def k1_chk14 (v379 : BitVec 32) : Prop :=
  (32 ∣ (k1_mult14 v379).toNat) ∧
  (∀ a, (k1_off14 v379) a + S1x128.size a ≤ S128x100000.size a)
theorem k1_mult14_dvd : ∀ (v379 : BitVec 32) (k1_hw14 : k1_chk14 v379), 32 ∣ (k1_mult14 v379).toNat := fun v379 k1_hw14 => k1_hw14.1
theorem k1_off14_inb : ∀ (v379 : BitVec 32) (k1_hw14 : k1_chk14 v379), ∀ a, (k1_off14 v379) a + S1x128.size a ≤ S128x100000.size a := fun v379 k1_hw14 => k1_hw14.2

def k1_mult15 (v405 : BitVec 32) : BitVec 32 :=
  let c99872_i32_218 : BitVec 32 := 99872#32
  let c0_i32_217 : BitVec 32 := 0#32
  let c0_i32_210 : BitVec 32 := 0#32
  let v407 : BitVec 1 := Scalar.cmpi .sgt v405 c0_i32_210
  let v408 : BitVec 32 := Scalar.extui v407
  let c0_i32_211 : BitVec 32 := 0#32
  let v409 : BitVec 1 := Scalar.cmpi .slt v405 c0_i32_211
  let v410 : BitVec 32 := Scalar.extui v409
  let v411 : BitVec 32 := Scalar.subi v408 v410
  let c128_i32_209 : BitVec 32 := 128#32
  let c0_i32_212 : BitVec 32 := 0#32
  let v412 : BitVec 1 := Scalar.cmpi .sgt c128_i32_209 c0_i32_212
  let v413 : BitVec 32 := Scalar.extui v412
  let c0_i32_213 : BitVec 32 := 0#32
  let v414 : BitVec 1 := Scalar.cmpi .slt c128_i32_209 c0_i32_213
  let v415 : BitVec 32 := Scalar.extui v414
  let v416 : BitVec 32 := Scalar.subi v413 v415
  let v417 : BitVec 1 := Scalar.cmpi .ne v411 v416
  let v418 : BitVec 32 := Scalar.remsi v405 c128_i32_209
  let c0_i32_214 : BitVec 32 := 0#32
  let v419 : BitVec 1 := Scalar.cmpi .ne v418 c0_i32_214
  let v420 : BitVec 1 := Scalar.andi v417 v419
  let v406 : BitVec 32 := Scalar.divsi v405 c128_i32_209
  let c1_i32_215 : BitVec 32 := 1#32
  let v421 : BitVec 32 := Scalar.subi v406 c1_i32_215
  let v422 : BitVec 32 := Scalar.select v420 v421 v406
  let c128_i32_216 : BitVec 32 := 128#32
  let v423 : BitVec 32 := Scalar.muli v422 c128_i32_216
  let v424 : BitVec 32 := Scalar.maxsi c0_i32_217 v423
  let v425 : BitVec 32 := Scalar.minsi c99872_i32_218 v424
  v425

def k1_off15 (v405 : BitVec 32) : Fin 2 → Nat :=
  let c14_i32_219 : BitVec 32 := 14#32
  let c99872_i32_218 : BitVec 32 := 99872#32
  let c0_i32_217 : BitVec 32 := 0#32
  let c0_i32_210 : BitVec 32 := 0#32
  let v407 : BitVec 1 := Scalar.cmpi .sgt v405 c0_i32_210
  let v408 : BitVec 32 := Scalar.extui v407
  let c0_i32_211 : BitVec 32 := 0#32
  let v409 : BitVec 1 := Scalar.cmpi .slt v405 c0_i32_211
  let v410 : BitVec 32 := Scalar.extui v409
  let v411 : BitVec 32 := Scalar.subi v408 v410
  let c128_i32_209 : BitVec 32 := 128#32
  let c0_i32_212 : BitVec 32 := 0#32
  let v412 : BitVec 1 := Scalar.cmpi .sgt c128_i32_209 c0_i32_212
  let v413 : BitVec 32 := Scalar.extui v412
  let c0_i32_213 : BitVec 32 := 0#32
  let v414 : BitVec 1 := Scalar.cmpi .slt c128_i32_209 c0_i32_213
  let v415 : BitVec 32 := Scalar.extui v414
  let v416 : BitVec 32 := Scalar.subi v413 v415
  let v417 : BitVec 1 := Scalar.cmpi .ne v411 v416
  let v418 : BitVec 32 := Scalar.remsi v405 c128_i32_209
  let c0_i32_214 : BitVec 32 := 0#32
  let v419 : BitVec 1 := Scalar.cmpi .ne v418 c0_i32_214
  let v420 : BitVec 1 := Scalar.andi v417 v419
  let v406 : BitVec 32 := Scalar.divsi v405 c128_i32_209
  let c1_i32_215 : BitVec 32 := 1#32
  let v421 : BitVec 32 := Scalar.subi v406 c1_i32_215
  let v422 : BitVec 32 := Scalar.select v420 v421 v406
  let c128_i32_216 : BitVec 32 := 128#32
  let v423 : BitVec 32 := Scalar.muli v422 c128_i32_216
  let v424 : BitVec 32 := Scalar.maxsi c0_i32_217 v423
  let v425 : BitVec 32 := Scalar.minsi c99872_i32_218 v424
  let v426 : BitVec 32 := v425
  ![14, v426.toNat]

def k1_chk15 (v405 : BitVec 32) : Prop :=
  (32 ∣ (k1_mult15 v405).toNat) ∧
  (∀ a, (k1_off15 v405) a + S1x128.size a ≤ S128x100000.size a)
theorem k1_mult15_dvd : ∀ (v405 : BitVec 32) (k1_hw15 : k1_chk15 v405), 32 ∣ (k1_mult15 v405).toNat := fun v405 k1_hw15 => k1_hw15.1
theorem k1_off15_inb : ∀ (v405 : BitVec 32) (k1_hw15 : k1_chk15 v405), ∀ a, (k1_off15 v405) a + S1x128.size a ≤ S128x100000.size a := fun v405 k1_hw15 => k1_hw15.2

def k1_mult16 (v431 : BitVec 32) : BitVec 32 :=
  let c99872_i32_232 : BitVec 32 := 99872#32
  let c0_i32_231 : BitVec 32 := 0#32
  let c0_i32_224 : BitVec 32 := 0#32
  let v433 : BitVec 1 := Scalar.cmpi .sgt v431 c0_i32_224
  let v434 : BitVec 32 := Scalar.extui v433
  let c0_i32_225 : BitVec 32 := 0#32
  let v435 : BitVec 1 := Scalar.cmpi .slt v431 c0_i32_225
  let v436 : BitVec 32 := Scalar.extui v435
  let v437 : BitVec 32 := Scalar.subi v434 v436
  let c128_i32_223 : BitVec 32 := 128#32
  let c0_i32_226 : BitVec 32 := 0#32
  let v438 : BitVec 1 := Scalar.cmpi .sgt c128_i32_223 c0_i32_226
  let v439 : BitVec 32 := Scalar.extui v438
  let c0_i32_227 : BitVec 32 := 0#32
  let v440 : BitVec 1 := Scalar.cmpi .slt c128_i32_223 c0_i32_227
  let v441 : BitVec 32 := Scalar.extui v440
  let v442 : BitVec 32 := Scalar.subi v439 v441
  let v443 : BitVec 1 := Scalar.cmpi .ne v437 v442
  let v444 : BitVec 32 := Scalar.remsi v431 c128_i32_223
  let c0_i32_228 : BitVec 32 := 0#32
  let v445 : BitVec 1 := Scalar.cmpi .ne v444 c0_i32_228
  let v446 : BitVec 1 := Scalar.andi v443 v445
  let v432 : BitVec 32 := Scalar.divsi v431 c128_i32_223
  let c1_i32_229 : BitVec 32 := 1#32
  let v447 : BitVec 32 := Scalar.subi v432 c1_i32_229
  let v448 : BitVec 32 := Scalar.select v446 v447 v432
  let c128_i32_230 : BitVec 32 := 128#32
  let v449 : BitVec 32 := Scalar.muli v448 c128_i32_230
  let v450 : BitVec 32 := Scalar.maxsi c0_i32_231 v449
  let v451 : BitVec 32 := Scalar.minsi c99872_i32_232 v450
  v451

def k1_off16 (v431 : BitVec 32) : Fin 2 → Nat :=
  let c15_i32_233 : BitVec 32 := 15#32
  let c99872_i32_232 : BitVec 32 := 99872#32
  let c0_i32_231 : BitVec 32 := 0#32
  let c0_i32_224 : BitVec 32 := 0#32
  let v433 : BitVec 1 := Scalar.cmpi .sgt v431 c0_i32_224
  let v434 : BitVec 32 := Scalar.extui v433
  let c0_i32_225 : BitVec 32 := 0#32
  let v435 : BitVec 1 := Scalar.cmpi .slt v431 c0_i32_225
  let v436 : BitVec 32 := Scalar.extui v435
  let v437 : BitVec 32 := Scalar.subi v434 v436
  let c128_i32_223 : BitVec 32 := 128#32
  let c0_i32_226 : BitVec 32 := 0#32
  let v438 : BitVec 1 := Scalar.cmpi .sgt c128_i32_223 c0_i32_226
  let v439 : BitVec 32 := Scalar.extui v438
  let c0_i32_227 : BitVec 32 := 0#32
  let v440 : BitVec 1 := Scalar.cmpi .slt c128_i32_223 c0_i32_227
  let v441 : BitVec 32 := Scalar.extui v440
  let v442 : BitVec 32 := Scalar.subi v439 v441
  let v443 : BitVec 1 := Scalar.cmpi .ne v437 v442
  let v444 : BitVec 32 := Scalar.remsi v431 c128_i32_223
  let c0_i32_228 : BitVec 32 := 0#32
  let v445 : BitVec 1 := Scalar.cmpi .ne v444 c0_i32_228
  let v446 : BitVec 1 := Scalar.andi v443 v445
  let v432 : BitVec 32 := Scalar.divsi v431 c128_i32_223
  let c1_i32_229 : BitVec 32 := 1#32
  let v447 : BitVec 32 := Scalar.subi v432 c1_i32_229
  let v448 : BitVec 32 := Scalar.select v446 v447 v432
  let c128_i32_230 : BitVec 32 := 128#32
  let v449 : BitVec 32 := Scalar.muli v448 c128_i32_230
  let v450 : BitVec 32 := Scalar.maxsi c0_i32_231 v449
  let v451 : BitVec 32 := Scalar.minsi c99872_i32_232 v450
  let v452 : BitVec 32 := v451
  ![15, v452.toNat]

def k1_chk16 (v431 : BitVec 32) : Prop :=
  (32 ∣ (k1_mult16 v431).toNat) ∧
  (∀ a, (k1_off16 v431) a + S1x128.size a ≤ S128x100000.size a)
theorem k1_mult16_dvd : ∀ (v431 : BitVec 32) (k1_hw16 : k1_chk16 v431), 32 ∣ (k1_mult16 v431).toNat := fun v431 k1_hw16 => k1_hw16.1
theorem k1_off16_inb : ∀ (v431 : BitVec 32) (k1_hw16 : k1_chk16 v431), ∀ a, (k1_off16 v431) a + S1x128.size a ≤ S128x100000.size a := fun v431 k1_hw16 => k1_hw16.2

def k1_mult17 (v457 : BitVec 32) : BitVec 32 :=
  let c99872_i32_246 : BitVec 32 := 99872#32
  let c0_i32_245 : BitVec 32 := 0#32
  let c0_i32_238 : BitVec 32 := 0#32
  let v459 : BitVec 1 := Scalar.cmpi .sgt v457 c0_i32_238
  let v460 : BitVec 32 := Scalar.extui v459
  let c0_i32_239 : BitVec 32 := 0#32
  let v461 : BitVec 1 := Scalar.cmpi .slt v457 c0_i32_239
  let v462 : BitVec 32 := Scalar.extui v461
  let v463 : BitVec 32 := Scalar.subi v460 v462
  let c128_i32_237 : BitVec 32 := 128#32
  let c0_i32_240 : BitVec 32 := 0#32
  let v464 : BitVec 1 := Scalar.cmpi .sgt c128_i32_237 c0_i32_240
  let v465 : BitVec 32 := Scalar.extui v464
  let c0_i32_241 : BitVec 32 := 0#32
  let v466 : BitVec 1 := Scalar.cmpi .slt c128_i32_237 c0_i32_241
  let v467 : BitVec 32 := Scalar.extui v466
  let v468 : BitVec 32 := Scalar.subi v465 v467
  let v469 : BitVec 1 := Scalar.cmpi .ne v463 v468
  let v470 : BitVec 32 := Scalar.remsi v457 c128_i32_237
  let c0_i32_242 : BitVec 32 := 0#32
  let v471 : BitVec 1 := Scalar.cmpi .ne v470 c0_i32_242
  let v472 : BitVec 1 := Scalar.andi v469 v471
  let v458 : BitVec 32 := Scalar.divsi v457 c128_i32_237
  let c1_i32_243 : BitVec 32 := 1#32
  let v473 : BitVec 32 := Scalar.subi v458 c1_i32_243
  let v474 : BitVec 32 := Scalar.select v472 v473 v458
  let c128_i32_244 : BitVec 32 := 128#32
  let v475 : BitVec 32 := Scalar.muli v474 c128_i32_244
  let v476 : BitVec 32 := Scalar.maxsi c0_i32_245 v475
  let v477 : BitVec 32 := Scalar.minsi c99872_i32_246 v476
  v477

def k1_off17 (v457 : BitVec 32) : Fin 2 → Nat :=
  let c16_i32_247 : BitVec 32 := 16#32
  let c99872_i32_246 : BitVec 32 := 99872#32
  let c0_i32_245 : BitVec 32 := 0#32
  let c0_i32_238 : BitVec 32 := 0#32
  let v459 : BitVec 1 := Scalar.cmpi .sgt v457 c0_i32_238
  let v460 : BitVec 32 := Scalar.extui v459
  let c0_i32_239 : BitVec 32 := 0#32
  let v461 : BitVec 1 := Scalar.cmpi .slt v457 c0_i32_239
  let v462 : BitVec 32 := Scalar.extui v461
  let v463 : BitVec 32 := Scalar.subi v460 v462
  let c128_i32_237 : BitVec 32 := 128#32
  let c0_i32_240 : BitVec 32 := 0#32
  let v464 : BitVec 1 := Scalar.cmpi .sgt c128_i32_237 c0_i32_240
  let v465 : BitVec 32 := Scalar.extui v464
  let c0_i32_241 : BitVec 32 := 0#32
  let v466 : BitVec 1 := Scalar.cmpi .slt c128_i32_237 c0_i32_241
  let v467 : BitVec 32 := Scalar.extui v466
  let v468 : BitVec 32 := Scalar.subi v465 v467
  let v469 : BitVec 1 := Scalar.cmpi .ne v463 v468
  let v470 : BitVec 32 := Scalar.remsi v457 c128_i32_237
  let c0_i32_242 : BitVec 32 := 0#32
  let v471 : BitVec 1 := Scalar.cmpi .ne v470 c0_i32_242
  let v472 : BitVec 1 := Scalar.andi v469 v471
  let v458 : BitVec 32 := Scalar.divsi v457 c128_i32_237
  let c1_i32_243 : BitVec 32 := 1#32
  let v473 : BitVec 32 := Scalar.subi v458 c1_i32_243
  let v474 : BitVec 32 := Scalar.select v472 v473 v458
  let c128_i32_244 : BitVec 32 := 128#32
  let v475 : BitVec 32 := Scalar.muli v474 c128_i32_244
  let v476 : BitVec 32 := Scalar.maxsi c0_i32_245 v475
  let v477 : BitVec 32 := Scalar.minsi c99872_i32_246 v476
  let v478 : BitVec 32 := v477
  ![16, v478.toNat]

def k1_chk17 (v457 : BitVec 32) : Prop :=
  (32 ∣ (k1_mult17 v457).toNat) ∧
  (∀ a, (k1_off17 v457) a + S1x128.size a ≤ S128x100000.size a)
theorem k1_mult17_dvd : ∀ (v457 : BitVec 32) (k1_hw17 : k1_chk17 v457), 32 ∣ (k1_mult17 v457).toNat := fun v457 k1_hw17 => k1_hw17.1
theorem k1_off17_inb : ∀ (v457 : BitVec 32) (k1_hw17 : k1_chk17 v457), ∀ a, (k1_off17 v457) a + S1x128.size a ≤ S128x100000.size a := fun v457 k1_hw17 => k1_hw17.2

def k1_mult18 (v483 : BitVec 32) : BitVec 32 :=
  let c99872_i32_260 : BitVec 32 := 99872#32
  let c0_i32_259 : BitVec 32 := 0#32
  let c0_i32_252 : BitVec 32 := 0#32
  let v485 : BitVec 1 := Scalar.cmpi .sgt v483 c0_i32_252
  let v486 : BitVec 32 := Scalar.extui v485
  let c0_i32_253 : BitVec 32 := 0#32
  let v487 : BitVec 1 := Scalar.cmpi .slt v483 c0_i32_253
  let v488 : BitVec 32 := Scalar.extui v487
  let v489 : BitVec 32 := Scalar.subi v486 v488
  let c128_i32_251 : BitVec 32 := 128#32
  let c0_i32_254 : BitVec 32 := 0#32
  let v490 : BitVec 1 := Scalar.cmpi .sgt c128_i32_251 c0_i32_254
  let v491 : BitVec 32 := Scalar.extui v490
  let c0_i32_255 : BitVec 32 := 0#32
  let v492 : BitVec 1 := Scalar.cmpi .slt c128_i32_251 c0_i32_255
  let v493 : BitVec 32 := Scalar.extui v492
  let v494 : BitVec 32 := Scalar.subi v491 v493
  let v495 : BitVec 1 := Scalar.cmpi .ne v489 v494
  let v496 : BitVec 32 := Scalar.remsi v483 c128_i32_251
  let c0_i32_256 : BitVec 32 := 0#32
  let v497 : BitVec 1 := Scalar.cmpi .ne v496 c0_i32_256
  let v498 : BitVec 1 := Scalar.andi v495 v497
  let v484 : BitVec 32 := Scalar.divsi v483 c128_i32_251
  let c1_i32_257 : BitVec 32 := 1#32
  let v499 : BitVec 32 := Scalar.subi v484 c1_i32_257
  let v500 : BitVec 32 := Scalar.select v498 v499 v484
  let c128_i32_258 : BitVec 32 := 128#32
  let v501 : BitVec 32 := Scalar.muli v500 c128_i32_258
  let v502 : BitVec 32 := Scalar.maxsi c0_i32_259 v501
  let v503 : BitVec 32 := Scalar.minsi c99872_i32_260 v502
  v503

def k1_off18 (v483 : BitVec 32) : Fin 2 → Nat :=
  let c17_i32_261 : BitVec 32 := 17#32
  let c99872_i32_260 : BitVec 32 := 99872#32
  let c0_i32_259 : BitVec 32 := 0#32
  let c0_i32_252 : BitVec 32 := 0#32
  let v485 : BitVec 1 := Scalar.cmpi .sgt v483 c0_i32_252
  let v486 : BitVec 32 := Scalar.extui v485
  let c0_i32_253 : BitVec 32 := 0#32
  let v487 : BitVec 1 := Scalar.cmpi .slt v483 c0_i32_253
  let v488 : BitVec 32 := Scalar.extui v487
  let v489 : BitVec 32 := Scalar.subi v486 v488
  let c128_i32_251 : BitVec 32 := 128#32
  let c0_i32_254 : BitVec 32 := 0#32
  let v490 : BitVec 1 := Scalar.cmpi .sgt c128_i32_251 c0_i32_254
  let v491 : BitVec 32 := Scalar.extui v490
  let c0_i32_255 : BitVec 32 := 0#32
  let v492 : BitVec 1 := Scalar.cmpi .slt c128_i32_251 c0_i32_255
  let v493 : BitVec 32 := Scalar.extui v492
  let v494 : BitVec 32 := Scalar.subi v491 v493
  let v495 : BitVec 1 := Scalar.cmpi .ne v489 v494
  let v496 : BitVec 32 := Scalar.remsi v483 c128_i32_251
  let c0_i32_256 : BitVec 32 := 0#32
  let v497 : BitVec 1 := Scalar.cmpi .ne v496 c0_i32_256
  let v498 : BitVec 1 := Scalar.andi v495 v497
  let v484 : BitVec 32 := Scalar.divsi v483 c128_i32_251
  let c1_i32_257 : BitVec 32 := 1#32
  let v499 : BitVec 32 := Scalar.subi v484 c1_i32_257
  let v500 : BitVec 32 := Scalar.select v498 v499 v484
  let c128_i32_258 : BitVec 32 := 128#32
  let v501 : BitVec 32 := Scalar.muli v500 c128_i32_258
  let v502 : BitVec 32 := Scalar.maxsi c0_i32_259 v501
  let v503 : BitVec 32 := Scalar.minsi c99872_i32_260 v502
  let v504 : BitVec 32 := v503
  ![17, v504.toNat]

def k1_chk18 (v483 : BitVec 32) : Prop :=
  (32 ∣ (k1_mult18 v483).toNat) ∧
  (∀ a, (k1_off18 v483) a + S1x128.size a ≤ S128x100000.size a)
theorem k1_mult18_dvd : ∀ (v483 : BitVec 32) (k1_hw18 : k1_chk18 v483), 32 ∣ (k1_mult18 v483).toNat := fun v483 k1_hw18 => k1_hw18.1
theorem k1_off18_inb : ∀ (v483 : BitVec 32) (k1_hw18 : k1_chk18 v483), ∀ a, (k1_off18 v483) a + S1x128.size a ≤ S128x100000.size a := fun v483 k1_hw18 => k1_hw18.2

def k1_mult19 (v509 : BitVec 32) : BitVec 32 :=
  let c99872_i32_274 : BitVec 32 := 99872#32
  let c0_i32_273 : BitVec 32 := 0#32
  let c0_i32_266 : BitVec 32 := 0#32
  let v511 : BitVec 1 := Scalar.cmpi .sgt v509 c0_i32_266
  let v512 : BitVec 32 := Scalar.extui v511
  let c0_i32_267 : BitVec 32 := 0#32
  let v513 : BitVec 1 := Scalar.cmpi .slt v509 c0_i32_267
  let v514 : BitVec 32 := Scalar.extui v513
  let v515 : BitVec 32 := Scalar.subi v512 v514
  let c128_i32_265 : BitVec 32 := 128#32
  let c0_i32_268 : BitVec 32 := 0#32
  let v516 : BitVec 1 := Scalar.cmpi .sgt c128_i32_265 c0_i32_268
  let v517 : BitVec 32 := Scalar.extui v516
  let c0_i32_269 : BitVec 32 := 0#32
  let v518 : BitVec 1 := Scalar.cmpi .slt c128_i32_265 c0_i32_269
  let v519 : BitVec 32 := Scalar.extui v518
  let v520 : BitVec 32 := Scalar.subi v517 v519
  let v521 : BitVec 1 := Scalar.cmpi .ne v515 v520
  let v522 : BitVec 32 := Scalar.remsi v509 c128_i32_265
  let c0_i32_270 : BitVec 32 := 0#32
  let v523 : BitVec 1 := Scalar.cmpi .ne v522 c0_i32_270
  let v524 : BitVec 1 := Scalar.andi v521 v523
  let v510 : BitVec 32 := Scalar.divsi v509 c128_i32_265
  let c1_i32_271 : BitVec 32 := 1#32
  let v525 : BitVec 32 := Scalar.subi v510 c1_i32_271
  let v526 : BitVec 32 := Scalar.select v524 v525 v510
  let c128_i32_272 : BitVec 32 := 128#32
  let v527 : BitVec 32 := Scalar.muli v526 c128_i32_272
  let v528 : BitVec 32 := Scalar.maxsi c0_i32_273 v527
  let v529 : BitVec 32 := Scalar.minsi c99872_i32_274 v528
  v529

def k1_off19 (v509 : BitVec 32) : Fin 2 → Nat :=
  let c18_i32_275 : BitVec 32 := 18#32
  let c99872_i32_274 : BitVec 32 := 99872#32
  let c0_i32_273 : BitVec 32 := 0#32
  let c0_i32_266 : BitVec 32 := 0#32
  let v511 : BitVec 1 := Scalar.cmpi .sgt v509 c0_i32_266
  let v512 : BitVec 32 := Scalar.extui v511
  let c0_i32_267 : BitVec 32 := 0#32
  let v513 : BitVec 1 := Scalar.cmpi .slt v509 c0_i32_267
  let v514 : BitVec 32 := Scalar.extui v513
  let v515 : BitVec 32 := Scalar.subi v512 v514
  let c128_i32_265 : BitVec 32 := 128#32
  let c0_i32_268 : BitVec 32 := 0#32
  let v516 : BitVec 1 := Scalar.cmpi .sgt c128_i32_265 c0_i32_268
  let v517 : BitVec 32 := Scalar.extui v516
  let c0_i32_269 : BitVec 32 := 0#32
  let v518 : BitVec 1 := Scalar.cmpi .slt c128_i32_265 c0_i32_269
  let v519 : BitVec 32 := Scalar.extui v518
  let v520 : BitVec 32 := Scalar.subi v517 v519
  let v521 : BitVec 1 := Scalar.cmpi .ne v515 v520
  let v522 : BitVec 32 := Scalar.remsi v509 c128_i32_265
  let c0_i32_270 : BitVec 32 := 0#32
  let v523 : BitVec 1 := Scalar.cmpi .ne v522 c0_i32_270
  let v524 : BitVec 1 := Scalar.andi v521 v523
  let v510 : BitVec 32 := Scalar.divsi v509 c128_i32_265
  let c1_i32_271 : BitVec 32 := 1#32
  let v525 : BitVec 32 := Scalar.subi v510 c1_i32_271
  let v526 : BitVec 32 := Scalar.select v524 v525 v510
  let c128_i32_272 : BitVec 32 := 128#32
  let v527 : BitVec 32 := Scalar.muli v526 c128_i32_272
  let v528 : BitVec 32 := Scalar.maxsi c0_i32_273 v527
  let v529 : BitVec 32 := Scalar.minsi c99872_i32_274 v528
  let v530 : BitVec 32 := v529
  ![18, v530.toNat]

def k1_chk19 (v509 : BitVec 32) : Prop :=
  (32 ∣ (k1_mult19 v509).toNat) ∧
  (∀ a, (k1_off19 v509) a + S1x128.size a ≤ S128x100000.size a)
theorem k1_mult19_dvd : ∀ (v509 : BitVec 32) (k1_hw19 : k1_chk19 v509), 32 ∣ (k1_mult19 v509).toNat := fun v509 k1_hw19 => k1_hw19.1
theorem k1_off19_inb : ∀ (v509 : BitVec 32) (k1_hw19 : k1_chk19 v509), ∀ a, (k1_off19 v509) a + S1x128.size a ≤ S128x100000.size a := fun v509 k1_hw19 => k1_hw19.2

def k1_mult20 (v535 : BitVec 32) : BitVec 32 :=
  let c99872_i32_288 : BitVec 32 := 99872#32
  let c0_i32_287 : BitVec 32 := 0#32
  let c0_i32_280 : BitVec 32 := 0#32
  let v537 : BitVec 1 := Scalar.cmpi .sgt v535 c0_i32_280
  let v538 : BitVec 32 := Scalar.extui v537
  let c0_i32_281 : BitVec 32 := 0#32
  let v539 : BitVec 1 := Scalar.cmpi .slt v535 c0_i32_281
  let v540 : BitVec 32 := Scalar.extui v539
  let v541 : BitVec 32 := Scalar.subi v538 v540
  let c128_i32_279 : BitVec 32 := 128#32
  let c0_i32_282 : BitVec 32 := 0#32
  let v542 : BitVec 1 := Scalar.cmpi .sgt c128_i32_279 c0_i32_282
  let v543 : BitVec 32 := Scalar.extui v542
  let c0_i32_283 : BitVec 32 := 0#32
  let v544 : BitVec 1 := Scalar.cmpi .slt c128_i32_279 c0_i32_283
  let v545 : BitVec 32 := Scalar.extui v544
  let v546 : BitVec 32 := Scalar.subi v543 v545
  let v547 : BitVec 1 := Scalar.cmpi .ne v541 v546
  let v548 : BitVec 32 := Scalar.remsi v535 c128_i32_279
  let c0_i32_284 : BitVec 32 := 0#32
  let v549 : BitVec 1 := Scalar.cmpi .ne v548 c0_i32_284
  let v550 : BitVec 1 := Scalar.andi v547 v549
  let v536 : BitVec 32 := Scalar.divsi v535 c128_i32_279
  let c1_i32_285 : BitVec 32 := 1#32
  let v551 : BitVec 32 := Scalar.subi v536 c1_i32_285
  let v552 : BitVec 32 := Scalar.select v550 v551 v536
  let c128_i32_286 : BitVec 32 := 128#32
  let v553 : BitVec 32 := Scalar.muli v552 c128_i32_286
  let v554 : BitVec 32 := Scalar.maxsi c0_i32_287 v553
  let v555 : BitVec 32 := Scalar.minsi c99872_i32_288 v554
  v555

def k1_off20 (v535 : BitVec 32) : Fin 2 → Nat :=
  let c19_i32_289 : BitVec 32 := 19#32
  let c99872_i32_288 : BitVec 32 := 99872#32
  let c0_i32_287 : BitVec 32 := 0#32
  let c0_i32_280 : BitVec 32 := 0#32
  let v537 : BitVec 1 := Scalar.cmpi .sgt v535 c0_i32_280
  let v538 : BitVec 32 := Scalar.extui v537
  let c0_i32_281 : BitVec 32 := 0#32
  let v539 : BitVec 1 := Scalar.cmpi .slt v535 c0_i32_281
  let v540 : BitVec 32 := Scalar.extui v539
  let v541 : BitVec 32 := Scalar.subi v538 v540
  let c128_i32_279 : BitVec 32 := 128#32
  let c0_i32_282 : BitVec 32 := 0#32
  let v542 : BitVec 1 := Scalar.cmpi .sgt c128_i32_279 c0_i32_282
  let v543 : BitVec 32 := Scalar.extui v542
  let c0_i32_283 : BitVec 32 := 0#32
  let v544 : BitVec 1 := Scalar.cmpi .slt c128_i32_279 c0_i32_283
  let v545 : BitVec 32 := Scalar.extui v544
  let v546 : BitVec 32 := Scalar.subi v543 v545
  let v547 : BitVec 1 := Scalar.cmpi .ne v541 v546
  let v548 : BitVec 32 := Scalar.remsi v535 c128_i32_279
  let c0_i32_284 : BitVec 32 := 0#32
  let v549 : BitVec 1 := Scalar.cmpi .ne v548 c0_i32_284
  let v550 : BitVec 1 := Scalar.andi v547 v549
  let v536 : BitVec 32 := Scalar.divsi v535 c128_i32_279
  let c1_i32_285 : BitVec 32 := 1#32
  let v551 : BitVec 32 := Scalar.subi v536 c1_i32_285
  let v552 : BitVec 32 := Scalar.select v550 v551 v536
  let c128_i32_286 : BitVec 32 := 128#32
  let v553 : BitVec 32 := Scalar.muli v552 c128_i32_286
  let v554 : BitVec 32 := Scalar.maxsi c0_i32_287 v553
  let v555 : BitVec 32 := Scalar.minsi c99872_i32_288 v554
  let v556 : BitVec 32 := v555
  ![19, v556.toNat]

def k1_chk20 (v535 : BitVec 32) : Prop :=
  (32 ∣ (k1_mult20 v535).toNat) ∧
  (∀ a, (k1_off20 v535) a + S1x128.size a ≤ S128x100000.size a)
theorem k1_mult20_dvd : ∀ (v535 : BitVec 32) (k1_hw20 : k1_chk20 v535), 32 ∣ (k1_mult20 v535).toNat := fun v535 k1_hw20 => k1_hw20.1
theorem k1_off20_inb : ∀ (v535 : BitVec 32) (k1_hw20 : k1_chk20 v535), ∀ a, (k1_off20 v535) a + S1x128.size a ≤ S128x100000.size a := fun v535 k1_hw20 => k1_hw20.2

def k1_mult21 (v561 : BitVec 32) : BitVec 32 :=
  let c99872_i32_302 : BitVec 32 := 99872#32
  let c0_i32_301 : BitVec 32 := 0#32
  let c0_i32_294 : BitVec 32 := 0#32
  let v563 : BitVec 1 := Scalar.cmpi .sgt v561 c0_i32_294
  let v564 : BitVec 32 := Scalar.extui v563
  let c0_i32_295 : BitVec 32 := 0#32
  let v565 : BitVec 1 := Scalar.cmpi .slt v561 c0_i32_295
  let v566 : BitVec 32 := Scalar.extui v565
  let v567 : BitVec 32 := Scalar.subi v564 v566
  let c128_i32_293 : BitVec 32 := 128#32
  let c0_i32_296 : BitVec 32 := 0#32
  let v568 : BitVec 1 := Scalar.cmpi .sgt c128_i32_293 c0_i32_296
  let v569 : BitVec 32 := Scalar.extui v568
  let c0_i32_297 : BitVec 32 := 0#32
  let v570 : BitVec 1 := Scalar.cmpi .slt c128_i32_293 c0_i32_297
  let v571 : BitVec 32 := Scalar.extui v570
  let v572 : BitVec 32 := Scalar.subi v569 v571
  let v573 : BitVec 1 := Scalar.cmpi .ne v567 v572
  let v574 : BitVec 32 := Scalar.remsi v561 c128_i32_293
  let c0_i32_298 : BitVec 32 := 0#32
  let v575 : BitVec 1 := Scalar.cmpi .ne v574 c0_i32_298
  let v576 : BitVec 1 := Scalar.andi v573 v575
  let v562 : BitVec 32 := Scalar.divsi v561 c128_i32_293
  let c1_i32_299 : BitVec 32 := 1#32
  let v577 : BitVec 32 := Scalar.subi v562 c1_i32_299
  let v578 : BitVec 32 := Scalar.select v576 v577 v562
  let c128_i32_300 : BitVec 32 := 128#32
  let v579 : BitVec 32 := Scalar.muli v578 c128_i32_300
  let v580 : BitVec 32 := Scalar.maxsi c0_i32_301 v579
  let v581 : BitVec 32 := Scalar.minsi c99872_i32_302 v580
  v581

def k1_off21 (v561 : BitVec 32) : Fin 2 → Nat :=
  let c20_i32_303 : BitVec 32 := 20#32
  let c99872_i32_302 : BitVec 32 := 99872#32
  let c0_i32_301 : BitVec 32 := 0#32
  let c0_i32_294 : BitVec 32 := 0#32
  let v563 : BitVec 1 := Scalar.cmpi .sgt v561 c0_i32_294
  let v564 : BitVec 32 := Scalar.extui v563
  let c0_i32_295 : BitVec 32 := 0#32
  let v565 : BitVec 1 := Scalar.cmpi .slt v561 c0_i32_295
  let v566 : BitVec 32 := Scalar.extui v565
  let v567 : BitVec 32 := Scalar.subi v564 v566
  let c128_i32_293 : BitVec 32 := 128#32
  let c0_i32_296 : BitVec 32 := 0#32
  let v568 : BitVec 1 := Scalar.cmpi .sgt c128_i32_293 c0_i32_296
  let v569 : BitVec 32 := Scalar.extui v568
  let c0_i32_297 : BitVec 32 := 0#32
  let v570 : BitVec 1 := Scalar.cmpi .slt c128_i32_293 c0_i32_297
  let v571 : BitVec 32 := Scalar.extui v570
  let v572 : BitVec 32 := Scalar.subi v569 v571
  let v573 : BitVec 1 := Scalar.cmpi .ne v567 v572
  let v574 : BitVec 32 := Scalar.remsi v561 c128_i32_293
  let c0_i32_298 : BitVec 32 := 0#32
  let v575 : BitVec 1 := Scalar.cmpi .ne v574 c0_i32_298
  let v576 : BitVec 1 := Scalar.andi v573 v575
  let v562 : BitVec 32 := Scalar.divsi v561 c128_i32_293
  let c1_i32_299 : BitVec 32 := 1#32
  let v577 : BitVec 32 := Scalar.subi v562 c1_i32_299
  let v578 : BitVec 32 := Scalar.select v576 v577 v562
  let c128_i32_300 : BitVec 32 := 128#32
  let v579 : BitVec 32 := Scalar.muli v578 c128_i32_300
  let v580 : BitVec 32 := Scalar.maxsi c0_i32_301 v579
  let v581 : BitVec 32 := Scalar.minsi c99872_i32_302 v580
  let v582 : BitVec 32 := v581
  ![20, v582.toNat]

def k1_chk21 (v561 : BitVec 32) : Prop :=
  (32 ∣ (k1_mult21 v561).toNat) ∧
  (∀ a, (k1_off21 v561) a + S1x128.size a ≤ S128x100000.size a)
theorem k1_mult21_dvd : ∀ (v561 : BitVec 32) (k1_hw21 : k1_chk21 v561), 32 ∣ (k1_mult21 v561).toNat := fun v561 k1_hw21 => k1_hw21.1
theorem k1_off21_inb : ∀ (v561 : BitVec 32) (k1_hw21 : k1_chk21 v561), ∀ a, (k1_off21 v561) a + S1x128.size a ≤ S128x100000.size a := fun v561 k1_hw21 => k1_hw21.2

def k1_mult22 (v587 : BitVec 32) : BitVec 32 :=
  let c99872_i32_316 : BitVec 32 := 99872#32
  let c0_i32_315 : BitVec 32 := 0#32
  let c0_i32_308 : BitVec 32 := 0#32
  let v589 : BitVec 1 := Scalar.cmpi .sgt v587 c0_i32_308
  let v590 : BitVec 32 := Scalar.extui v589
  let c0_i32_309 : BitVec 32 := 0#32
  let v591 : BitVec 1 := Scalar.cmpi .slt v587 c0_i32_309
  let v592 : BitVec 32 := Scalar.extui v591
  let v593 : BitVec 32 := Scalar.subi v590 v592
  let c128_i32_307 : BitVec 32 := 128#32
  let c0_i32_310 : BitVec 32 := 0#32
  let v594 : BitVec 1 := Scalar.cmpi .sgt c128_i32_307 c0_i32_310
  let v595 : BitVec 32 := Scalar.extui v594
  let c0_i32_311 : BitVec 32 := 0#32
  let v596 : BitVec 1 := Scalar.cmpi .slt c128_i32_307 c0_i32_311
  let v597 : BitVec 32 := Scalar.extui v596
  let v598 : BitVec 32 := Scalar.subi v595 v597
  let v599 : BitVec 1 := Scalar.cmpi .ne v593 v598
  let v600 : BitVec 32 := Scalar.remsi v587 c128_i32_307
  let c0_i32_312 : BitVec 32 := 0#32
  let v601 : BitVec 1 := Scalar.cmpi .ne v600 c0_i32_312
  let v602 : BitVec 1 := Scalar.andi v599 v601
  let v588 : BitVec 32 := Scalar.divsi v587 c128_i32_307
  let c1_i32_313 : BitVec 32 := 1#32
  let v603 : BitVec 32 := Scalar.subi v588 c1_i32_313
  let v604 : BitVec 32 := Scalar.select v602 v603 v588
  let c128_i32_314 : BitVec 32 := 128#32
  let v605 : BitVec 32 := Scalar.muli v604 c128_i32_314
  let v606 : BitVec 32 := Scalar.maxsi c0_i32_315 v605
  let v607 : BitVec 32 := Scalar.minsi c99872_i32_316 v606
  v607

def k1_off22 (v587 : BitVec 32) : Fin 2 → Nat :=
  let c21_i32_317 : BitVec 32 := 21#32
  let c99872_i32_316 : BitVec 32 := 99872#32
  let c0_i32_315 : BitVec 32 := 0#32
  let c0_i32_308 : BitVec 32 := 0#32
  let v589 : BitVec 1 := Scalar.cmpi .sgt v587 c0_i32_308
  let v590 : BitVec 32 := Scalar.extui v589
  let c0_i32_309 : BitVec 32 := 0#32
  let v591 : BitVec 1 := Scalar.cmpi .slt v587 c0_i32_309
  let v592 : BitVec 32 := Scalar.extui v591
  let v593 : BitVec 32 := Scalar.subi v590 v592
  let c128_i32_307 : BitVec 32 := 128#32
  let c0_i32_310 : BitVec 32 := 0#32
  let v594 : BitVec 1 := Scalar.cmpi .sgt c128_i32_307 c0_i32_310
  let v595 : BitVec 32 := Scalar.extui v594
  let c0_i32_311 : BitVec 32 := 0#32
  let v596 : BitVec 1 := Scalar.cmpi .slt c128_i32_307 c0_i32_311
  let v597 : BitVec 32 := Scalar.extui v596
  let v598 : BitVec 32 := Scalar.subi v595 v597
  let v599 : BitVec 1 := Scalar.cmpi .ne v593 v598
  let v600 : BitVec 32 := Scalar.remsi v587 c128_i32_307
  let c0_i32_312 : BitVec 32 := 0#32
  let v601 : BitVec 1 := Scalar.cmpi .ne v600 c0_i32_312
  let v602 : BitVec 1 := Scalar.andi v599 v601
  let v588 : BitVec 32 := Scalar.divsi v587 c128_i32_307
  let c1_i32_313 : BitVec 32 := 1#32
  let v603 : BitVec 32 := Scalar.subi v588 c1_i32_313
  let v604 : BitVec 32 := Scalar.select v602 v603 v588
  let c128_i32_314 : BitVec 32 := 128#32
  let v605 : BitVec 32 := Scalar.muli v604 c128_i32_314
  let v606 : BitVec 32 := Scalar.maxsi c0_i32_315 v605
  let v607 : BitVec 32 := Scalar.minsi c99872_i32_316 v606
  let v608 : BitVec 32 := v607
  ![21, v608.toNat]

def k1_chk22 (v587 : BitVec 32) : Prop :=
  (32 ∣ (k1_mult22 v587).toNat) ∧
  (∀ a, (k1_off22 v587) a + S1x128.size a ≤ S128x100000.size a)
theorem k1_mult22_dvd : ∀ (v587 : BitVec 32) (k1_hw22 : k1_chk22 v587), 32 ∣ (k1_mult22 v587).toNat := fun v587 k1_hw22 => k1_hw22.1
theorem k1_off22_inb : ∀ (v587 : BitVec 32) (k1_hw22 : k1_chk22 v587), ∀ a, (k1_off22 v587) a + S1x128.size a ≤ S128x100000.size a := fun v587 k1_hw22 => k1_hw22.2

def k1_mult23 (v613 : BitVec 32) : BitVec 32 :=
  let c99872_i32_330 : BitVec 32 := 99872#32
  let c0_i32_329 : BitVec 32 := 0#32
  let c0_i32_322 : BitVec 32 := 0#32
  let v615 : BitVec 1 := Scalar.cmpi .sgt v613 c0_i32_322
  let v616 : BitVec 32 := Scalar.extui v615
  let c0_i32_323 : BitVec 32 := 0#32
  let v617 : BitVec 1 := Scalar.cmpi .slt v613 c0_i32_323
  let v618 : BitVec 32 := Scalar.extui v617
  let v619 : BitVec 32 := Scalar.subi v616 v618
  let c128_i32_321 : BitVec 32 := 128#32
  let c0_i32_324 : BitVec 32 := 0#32
  let v620 : BitVec 1 := Scalar.cmpi .sgt c128_i32_321 c0_i32_324
  let v621 : BitVec 32 := Scalar.extui v620
  let c0_i32_325 : BitVec 32 := 0#32
  let v622 : BitVec 1 := Scalar.cmpi .slt c128_i32_321 c0_i32_325
  let v623 : BitVec 32 := Scalar.extui v622
  let v624 : BitVec 32 := Scalar.subi v621 v623
  let v625 : BitVec 1 := Scalar.cmpi .ne v619 v624
  let v626 : BitVec 32 := Scalar.remsi v613 c128_i32_321
  let c0_i32_326 : BitVec 32 := 0#32
  let v627 : BitVec 1 := Scalar.cmpi .ne v626 c0_i32_326
  let v628 : BitVec 1 := Scalar.andi v625 v627
  let v614 : BitVec 32 := Scalar.divsi v613 c128_i32_321
  let c1_i32_327 : BitVec 32 := 1#32
  let v629 : BitVec 32 := Scalar.subi v614 c1_i32_327
  let v630 : BitVec 32 := Scalar.select v628 v629 v614
  let c128_i32_328 : BitVec 32 := 128#32
  let v631 : BitVec 32 := Scalar.muli v630 c128_i32_328
  let v632 : BitVec 32 := Scalar.maxsi c0_i32_329 v631
  let v633 : BitVec 32 := Scalar.minsi c99872_i32_330 v632
  v633

def k1_off23 (v613 : BitVec 32) : Fin 2 → Nat :=
  let c22_i32_331 : BitVec 32 := 22#32
  let c99872_i32_330 : BitVec 32 := 99872#32
  let c0_i32_329 : BitVec 32 := 0#32
  let c0_i32_322 : BitVec 32 := 0#32
  let v615 : BitVec 1 := Scalar.cmpi .sgt v613 c0_i32_322
  let v616 : BitVec 32 := Scalar.extui v615
  let c0_i32_323 : BitVec 32 := 0#32
  let v617 : BitVec 1 := Scalar.cmpi .slt v613 c0_i32_323
  let v618 : BitVec 32 := Scalar.extui v617
  let v619 : BitVec 32 := Scalar.subi v616 v618
  let c128_i32_321 : BitVec 32 := 128#32
  let c0_i32_324 : BitVec 32 := 0#32
  let v620 : BitVec 1 := Scalar.cmpi .sgt c128_i32_321 c0_i32_324
  let v621 : BitVec 32 := Scalar.extui v620
  let c0_i32_325 : BitVec 32 := 0#32
  let v622 : BitVec 1 := Scalar.cmpi .slt c128_i32_321 c0_i32_325
  let v623 : BitVec 32 := Scalar.extui v622
  let v624 : BitVec 32 := Scalar.subi v621 v623
  let v625 : BitVec 1 := Scalar.cmpi .ne v619 v624
  let v626 : BitVec 32 := Scalar.remsi v613 c128_i32_321
  let c0_i32_326 : BitVec 32 := 0#32
  let v627 : BitVec 1 := Scalar.cmpi .ne v626 c0_i32_326
  let v628 : BitVec 1 := Scalar.andi v625 v627
  let v614 : BitVec 32 := Scalar.divsi v613 c128_i32_321
  let c1_i32_327 : BitVec 32 := 1#32
  let v629 : BitVec 32 := Scalar.subi v614 c1_i32_327
  let v630 : BitVec 32 := Scalar.select v628 v629 v614
  let c128_i32_328 : BitVec 32 := 128#32
  let v631 : BitVec 32 := Scalar.muli v630 c128_i32_328
  let v632 : BitVec 32 := Scalar.maxsi c0_i32_329 v631
  let v633 : BitVec 32 := Scalar.minsi c99872_i32_330 v632
  let v634 : BitVec 32 := v633
  ![22, v634.toNat]

def k1_chk23 (v613 : BitVec 32) : Prop :=
  (32 ∣ (k1_mult23 v613).toNat) ∧
  (∀ a, (k1_off23 v613) a + S1x128.size a ≤ S128x100000.size a)
theorem k1_mult23_dvd : ∀ (v613 : BitVec 32) (k1_hw23 : k1_chk23 v613), 32 ∣ (k1_mult23 v613).toNat := fun v613 k1_hw23 => k1_hw23.1
theorem k1_off23_inb : ∀ (v613 : BitVec 32) (k1_hw23 : k1_chk23 v613), ∀ a, (k1_off23 v613) a + S1x128.size a ≤ S128x100000.size a := fun v613 k1_hw23 => k1_hw23.2

def k1_mult24 (v639 : BitVec 32) : BitVec 32 :=
  let c99872_i32_344 : BitVec 32 := 99872#32
  let c0_i32_343 : BitVec 32 := 0#32
  let c0_i32_336 : BitVec 32 := 0#32
  let v641 : BitVec 1 := Scalar.cmpi .sgt v639 c0_i32_336
  let v642 : BitVec 32 := Scalar.extui v641
  let c0_i32_337 : BitVec 32 := 0#32
  let v643 : BitVec 1 := Scalar.cmpi .slt v639 c0_i32_337
  let v644 : BitVec 32 := Scalar.extui v643
  let v645 : BitVec 32 := Scalar.subi v642 v644
  let c128_i32_335 : BitVec 32 := 128#32
  let c0_i32_338 : BitVec 32 := 0#32
  let v646 : BitVec 1 := Scalar.cmpi .sgt c128_i32_335 c0_i32_338
  let v647 : BitVec 32 := Scalar.extui v646
  let c0_i32_339 : BitVec 32 := 0#32
  let v648 : BitVec 1 := Scalar.cmpi .slt c128_i32_335 c0_i32_339
  let v649 : BitVec 32 := Scalar.extui v648
  let v650 : BitVec 32 := Scalar.subi v647 v649
  let v651 : BitVec 1 := Scalar.cmpi .ne v645 v650
  let v652 : BitVec 32 := Scalar.remsi v639 c128_i32_335
  let c0_i32_340 : BitVec 32 := 0#32
  let v653 : BitVec 1 := Scalar.cmpi .ne v652 c0_i32_340
  let v654 : BitVec 1 := Scalar.andi v651 v653
  let v640 : BitVec 32 := Scalar.divsi v639 c128_i32_335
  let c1_i32_341 : BitVec 32 := 1#32
  let v655 : BitVec 32 := Scalar.subi v640 c1_i32_341
  let v656 : BitVec 32 := Scalar.select v654 v655 v640
  let c128_i32_342 : BitVec 32 := 128#32
  let v657 : BitVec 32 := Scalar.muli v656 c128_i32_342
  let v658 : BitVec 32 := Scalar.maxsi c0_i32_343 v657
  let v659 : BitVec 32 := Scalar.minsi c99872_i32_344 v658
  v659

def k1_off24 (v639 : BitVec 32) : Fin 2 → Nat :=
  let c23_i32_345 : BitVec 32 := 23#32
  let c99872_i32_344 : BitVec 32 := 99872#32
  let c0_i32_343 : BitVec 32 := 0#32
  let c0_i32_336 : BitVec 32 := 0#32
  let v641 : BitVec 1 := Scalar.cmpi .sgt v639 c0_i32_336
  let v642 : BitVec 32 := Scalar.extui v641
  let c0_i32_337 : BitVec 32 := 0#32
  let v643 : BitVec 1 := Scalar.cmpi .slt v639 c0_i32_337
  let v644 : BitVec 32 := Scalar.extui v643
  let v645 : BitVec 32 := Scalar.subi v642 v644
  let c128_i32_335 : BitVec 32 := 128#32
  let c0_i32_338 : BitVec 32 := 0#32
  let v646 : BitVec 1 := Scalar.cmpi .sgt c128_i32_335 c0_i32_338
  let v647 : BitVec 32 := Scalar.extui v646
  let c0_i32_339 : BitVec 32 := 0#32
  let v648 : BitVec 1 := Scalar.cmpi .slt c128_i32_335 c0_i32_339
  let v649 : BitVec 32 := Scalar.extui v648
  let v650 : BitVec 32 := Scalar.subi v647 v649
  let v651 : BitVec 1 := Scalar.cmpi .ne v645 v650
  let v652 : BitVec 32 := Scalar.remsi v639 c128_i32_335
  let c0_i32_340 : BitVec 32 := 0#32
  let v653 : BitVec 1 := Scalar.cmpi .ne v652 c0_i32_340
  let v654 : BitVec 1 := Scalar.andi v651 v653
  let v640 : BitVec 32 := Scalar.divsi v639 c128_i32_335
  let c1_i32_341 : BitVec 32 := 1#32
  let v655 : BitVec 32 := Scalar.subi v640 c1_i32_341
  let v656 : BitVec 32 := Scalar.select v654 v655 v640
  let c128_i32_342 : BitVec 32 := 128#32
  let v657 : BitVec 32 := Scalar.muli v656 c128_i32_342
  let v658 : BitVec 32 := Scalar.maxsi c0_i32_343 v657
  let v659 : BitVec 32 := Scalar.minsi c99872_i32_344 v658
  let v660 : BitVec 32 := v659
  ![23, v660.toNat]

def k1_chk24 (v639 : BitVec 32) : Prop :=
  (32 ∣ (k1_mult24 v639).toNat) ∧
  (∀ a, (k1_off24 v639) a + S1x128.size a ≤ S128x100000.size a)
theorem k1_mult24_dvd : ∀ (v639 : BitVec 32) (k1_hw24 : k1_chk24 v639), 32 ∣ (k1_mult24 v639).toNat := fun v639 k1_hw24 => k1_hw24.1
theorem k1_off24_inb : ∀ (v639 : BitVec 32) (k1_hw24 : k1_chk24 v639), ∀ a, (k1_off24 v639) a + S1x128.size a ≤ S128x100000.size a := fun v639 k1_hw24 => k1_hw24.2

def k1_mult25 (v665 : BitVec 32) : BitVec 32 :=
  let c99872_i32_358 : BitVec 32 := 99872#32
  let c0_i32_357 : BitVec 32 := 0#32
  let c0_i32_350 : BitVec 32 := 0#32
  let v667 : BitVec 1 := Scalar.cmpi .sgt v665 c0_i32_350
  let v668 : BitVec 32 := Scalar.extui v667
  let c0_i32_351 : BitVec 32 := 0#32
  let v669 : BitVec 1 := Scalar.cmpi .slt v665 c0_i32_351
  let v670 : BitVec 32 := Scalar.extui v669
  let v671 : BitVec 32 := Scalar.subi v668 v670
  let c128_i32_349 : BitVec 32 := 128#32
  let c0_i32_352 : BitVec 32 := 0#32
  let v672 : BitVec 1 := Scalar.cmpi .sgt c128_i32_349 c0_i32_352
  let v673 : BitVec 32 := Scalar.extui v672
  let c0_i32_353 : BitVec 32 := 0#32
  let v674 : BitVec 1 := Scalar.cmpi .slt c128_i32_349 c0_i32_353
  let v675 : BitVec 32 := Scalar.extui v674
  let v676 : BitVec 32 := Scalar.subi v673 v675
  let v677 : BitVec 1 := Scalar.cmpi .ne v671 v676
  let v678 : BitVec 32 := Scalar.remsi v665 c128_i32_349
  let c0_i32_354 : BitVec 32 := 0#32
  let v679 : BitVec 1 := Scalar.cmpi .ne v678 c0_i32_354
  let v680 : BitVec 1 := Scalar.andi v677 v679
  let v666 : BitVec 32 := Scalar.divsi v665 c128_i32_349
  let c1_i32_355 : BitVec 32 := 1#32
  let v681 : BitVec 32 := Scalar.subi v666 c1_i32_355
  let v682 : BitVec 32 := Scalar.select v680 v681 v666
  let c128_i32_356 : BitVec 32 := 128#32
  let v683 : BitVec 32 := Scalar.muli v682 c128_i32_356
  let v684 : BitVec 32 := Scalar.maxsi c0_i32_357 v683
  let v685 : BitVec 32 := Scalar.minsi c99872_i32_358 v684
  v685

def k1_off25 (v665 : BitVec 32) : Fin 2 → Nat :=
  let c24_i32_359 : BitVec 32 := 24#32
  let c99872_i32_358 : BitVec 32 := 99872#32
  let c0_i32_357 : BitVec 32 := 0#32
  let c0_i32_350 : BitVec 32 := 0#32
  let v667 : BitVec 1 := Scalar.cmpi .sgt v665 c0_i32_350
  let v668 : BitVec 32 := Scalar.extui v667
  let c0_i32_351 : BitVec 32 := 0#32
  let v669 : BitVec 1 := Scalar.cmpi .slt v665 c0_i32_351
  let v670 : BitVec 32 := Scalar.extui v669
  let v671 : BitVec 32 := Scalar.subi v668 v670
  let c128_i32_349 : BitVec 32 := 128#32
  let c0_i32_352 : BitVec 32 := 0#32
  let v672 : BitVec 1 := Scalar.cmpi .sgt c128_i32_349 c0_i32_352
  let v673 : BitVec 32 := Scalar.extui v672
  let c0_i32_353 : BitVec 32 := 0#32
  let v674 : BitVec 1 := Scalar.cmpi .slt c128_i32_349 c0_i32_353
  let v675 : BitVec 32 := Scalar.extui v674
  let v676 : BitVec 32 := Scalar.subi v673 v675
  let v677 : BitVec 1 := Scalar.cmpi .ne v671 v676
  let v678 : BitVec 32 := Scalar.remsi v665 c128_i32_349
  let c0_i32_354 : BitVec 32 := 0#32
  let v679 : BitVec 1 := Scalar.cmpi .ne v678 c0_i32_354
  let v680 : BitVec 1 := Scalar.andi v677 v679
  let v666 : BitVec 32 := Scalar.divsi v665 c128_i32_349
  let c1_i32_355 : BitVec 32 := 1#32
  let v681 : BitVec 32 := Scalar.subi v666 c1_i32_355
  let v682 : BitVec 32 := Scalar.select v680 v681 v666
  let c128_i32_356 : BitVec 32 := 128#32
  let v683 : BitVec 32 := Scalar.muli v682 c128_i32_356
  let v684 : BitVec 32 := Scalar.maxsi c0_i32_357 v683
  let v685 : BitVec 32 := Scalar.minsi c99872_i32_358 v684
  let v686 : BitVec 32 := v685
  ![24, v686.toNat]

def k1_chk25 (v665 : BitVec 32) : Prop :=
  (32 ∣ (k1_mult25 v665).toNat) ∧
  (∀ a, (k1_off25 v665) a + S1x128.size a ≤ S128x100000.size a)
theorem k1_mult25_dvd : ∀ (v665 : BitVec 32) (k1_hw25 : k1_chk25 v665), 32 ∣ (k1_mult25 v665).toNat := fun v665 k1_hw25 => k1_hw25.1
theorem k1_off25_inb : ∀ (v665 : BitVec 32) (k1_hw25 : k1_chk25 v665), ∀ a, (k1_off25 v665) a + S1x128.size a ≤ S128x100000.size a := fun v665 k1_hw25 => k1_hw25.2

def k1_mult26 (v691 : BitVec 32) : BitVec 32 :=
  let c99872_i32_372 : BitVec 32 := 99872#32
  let c0_i32_371 : BitVec 32 := 0#32
  let c0_i32_364 : BitVec 32 := 0#32
  let v693 : BitVec 1 := Scalar.cmpi .sgt v691 c0_i32_364
  let v694 : BitVec 32 := Scalar.extui v693
  let c0_i32_365 : BitVec 32 := 0#32
  let v695 : BitVec 1 := Scalar.cmpi .slt v691 c0_i32_365
  let v696 : BitVec 32 := Scalar.extui v695
  let v697 : BitVec 32 := Scalar.subi v694 v696
  let c128_i32_363 : BitVec 32 := 128#32
  let c0_i32_366 : BitVec 32 := 0#32
  let v698 : BitVec 1 := Scalar.cmpi .sgt c128_i32_363 c0_i32_366
  let v699 : BitVec 32 := Scalar.extui v698
  let c0_i32_367 : BitVec 32 := 0#32
  let v700 : BitVec 1 := Scalar.cmpi .slt c128_i32_363 c0_i32_367
  let v701 : BitVec 32 := Scalar.extui v700
  let v702 : BitVec 32 := Scalar.subi v699 v701
  let v703 : BitVec 1 := Scalar.cmpi .ne v697 v702
  let v704 : BitVec 32 := Scalar.remsi v691 c128_i32_363
  let c0_i32_368 : BitVec 32 := 0#32
  let v705 : BitVec 1 := Scalar.cmpi .ne v704 c0_i32_368
  let v706 : BitVec 1 := Scalar.andi v703 v705
  let v692 : BitVec 32 := Scalar.divsi v691 c128_i32_363
  let c1_i32_369 : BitVec 32 := 1#32
  let v707 : BitVec 32 := Scalar.subi v692 c1_i32_369
  let v708 : BitVec 32 := Scalar.select v706 v707 v692
  let c128_i32_370 : BitVec 32 := 128#32
  let v709 : BitVec 32 := Scalar.muli v708 c128_i32_370
  let v710 : BitVec 32 := Scalar.maxsi c0_i32_371 v709
  let v711 : BitVec 32 := Scalar.minsi c99872_i32_372 v710
  v711

def k1_off26 (v691 : BitVec 32) : Fin 2 → Nat :=
  let c25_i32_373 : BitVec 32 := 25#32
  let c99872_i32_372 : BitVec 32 := 99872#32
  let c0_i32_371 : BitVec 32 := 0#32
  let c0_i32_364 : BitVec 32 := 0#32
  let v693 : BitVec 1 := Scalar.cmpi .sgt v691 c0_i32_364
  let v694 : BitVec 32 := Scalar.extui v693
  let c0_i32_365 : BitVec 32 := 0#32
  let v695 : BitVec 1 := Scalar.cmpi .slt v691 c0_i32_365
  let v696 : BitVec 32 := Scalar.extui v695
  let v697 : BitVec 32 := Scalar.subi v694 v696
  let c128_i32_363 : BitVec 32 := 128#32
  let c0_i32_366 : BitVec 32 := 0#32
  let v698 : BitVec 1 := Scalar.cmpi .sgt c128_i32_363 c0_i32_366
  let v699 : BitVec 32 := Scalar.extui v698
  let c0_i32_367 : BitVec 32 := 0#32
  let v700 : BitVec 1 := Scalar.cmpi .slt c128_i32_363 c0_i32_367
  let v701 : BitVec 32 := Scalar.extui v700
  let v702 : BitVec 32 := Scalar.subi v699 v701
  let v703 : BitVec 1 := Scalar.cmpi .ne v697 v702
  let v704 : BitVec 32 := Scalar.remsi v691 c128_i32_363
  let c0_i32_368 : BitVec 32 := 0#32
  let v705 : BitVec 1 := Scalar.cmpi .ne v704 c0_i32_368
  let v706 : BitVec 1 := Scalar.andi v703 v705
  let v692 : BitVec 32 := Scalar.divsi v691 c128_i32_363
  let c1_i32_369 : BitVec 32 := 1#32
  let v707 : BitVec 32 := Scalar.subi v692 c1_i32_369
  let v708 : BitVec 32 := Scalar.select v706 v707 v692
  let c128_i32_370 : BitVec 32 := 128#32
  let v709 : BitVec 32 := Scalar.muli v708 c128_i32_370
  let v710 : BitVec 32 := Scalar.maxsi c0_i32_371 v709
  let v711 : BitVec 32 := Scalar.minsi c99872_i32_372 v710
  let v712 : BitVec 32 := v711
  ![25, v712.toNat]

def k1_chk26 (v691 : BitVec 32) : Prop :=
  (32 ∣ (k1_mult26 v691).toNat) ∧
  (∀ a, (k1_off26 v691) a + S1x128.size a ≤ S128x100000.size a)
theorem k1_mult26_dvd : ∀ (v691 : BitVec 32) (k1_hw26 : k1_chk26 v691), 32 ∣ (k1_mult26 v691).toNat := fun v691 k1_hw26 => k1_hw26.1
theorem k1_off26_inb : ∀ (v691 : BitVec 32) (k1_hw26 : k1_chk26 v691), ∀ a, (k1_off26 v691) a + S1x128.size a ≤ S128x100000.size a := fun v691 k1_hw26 => k1_hw26.2

def k1_mult27 (v717 : BitVec 32) : BitVec 32 :=
  let c99872_i32_386 : BitVec 32 := 99872#32
  let c0_i32_385 : BitVec 32 := 0#32
  let c0_i32_378 : BitVec 32 := 0#32
  let v719 : BitVec 1 := Scalar.cmpi .sgt v717 c0_i32_378
  let v720 : BitVec 32 := Scalar.extui v719
  let c0_i32_379 : BitVec 32 := 0#32
  let v721 : BitVec 1 := Scalar.cmpi .slt v717 c0_i32_379
  let v722 : BitVec 32 := Scalar.extui v721
  let v723 : BitVec 32 := Scalar.subi v720 v722
  let c128_i32_377 : BitVec 32 := 128#32
  let c0_i32_380 : BitVec 32 := 0#32
  let v724 : BitVec 1 := Scalar.cmpi .sgt c128_i32_377 c0_i32_380
  let v725 : BitVec 32 := Scalar.extui v724
  let c0_i32_381 : BitVec 32 := 0#32
  let v726 : BitVec 1 := Scalar.cmpi .slt c128_i32_377 c0_i32_381
  let v727 : BitVec 32 := Scalar.extui v726
  let v728 : BitVec 32 := Scalar.subi v725 v727
  let v729 : BitVec 1 := Scalar.cmpi .ne v723 v728
  let v730 : BitVec 32 := Scalar.remsi v717 c128_i32_377
  let c0_i32_382 : BitVec 32 := 0#32
  let v731 : BitVec 1 := Scalar.cmpi .ne v730 c0_i32_382
  let v732 : BitVec 1 := Scalar.andi v729 v731
  let v718 : BitVec 32 := Scalar.divsi v717 c128_i32_377
  let c1_i32_383 : BitVec 32 := 1#32
  let v733 : BitVec 32 := Scalar.subi v718 c1_i32_383
  let v734 : BitVec 32 := Scalar.select v732 v733 v718
  let c128_i32_384 : BitVec 32 := 128#32
  let v735 : BitVec 32 := Scalar.muli v734 c128_i32_384
  let v736 : BitVec 32 := Scalar.maxsi c0_i32_385 v735
  let v737 : BitVec 32 := Scalar.minsi c99872_i32_386 v736
  v737

def k1_off27 (v717 : BitVec 32) : Fin 2 → Nat :=
  let c26_i32_387 : BitVec 32 := 26#32
  let c99872_i32_386 : BitVec 32 := 99872#32
  let c0_i32_385 : BitVec 32 := 0#32
  let c0_i32_378 : BitVec 32 := 0#32
  let v719 : BitVec 1 := Scalar.cmpi .sgt v717 c0_i32_378
  let v720 : BitVec 32 := Scalar.extui v719
  let c0_i32_379 : BitVec 32 := 0#32
  let v721 : BitVec 1 := Scalar.cmpi .slt v717 c0_i32_379
  let v722 : BitVec 32 := Scalar.extui v721
  let v723 : BitVec 32 := Scalar.subi v720 v722
  let c128_i32_377 : BitVec 32 := 128#32
  let c0_i32_380 : BitVec 32 := 0#32
  let v724 : BitVec 1 := Scalar.cmpi .sgt c128_i32_377 c0_i32_380
  let v725 : BitVec 32 := Scalar.extui v724
  let c0_i32_381 : BitVec 32 := 0#32
  let v726 : BitVec 1 := Scalar.cmpi .slt c128_i32_377 c0_i32_381
  let v727 : BitVec 32 := Scalar.extui v726
  let v728 : BitVec 32 := Scalar.subi v725 v727
  let v729 : BitVec 1 := Scalar.cmpi .ne v723 v728
  let v730 : BitVec 32 := Scalar.remsi v717 c128_i32_377
  let c0_i32_382 : BitVec 32 := 0#32
  let v731 : BitVec 1 := Scalar.cmpi .ne v730 c0_i32_382
  let v732 : BitVec 1 := Scalar.andi v729 v731
  let v718 : BitVec 32 := Scalar.divsi v717 c128_i32_377
  let c1_i32_383 : BitVec 32 := 1#32
  let v733 : BitVec 32 := Scalar.subi v718 c1_i32_383
  let v734 : BitVec 32 := Scalar.select v732 v733 v718
  let c128_i32_384 : BitVec 32 := 128#32
  let v735 : BitVec 32 := Scalar.muli v734 c128_i32_384
  let v736 : BitVec 32 := Scalar.maxsi c0_i32_385 v735
  let v737 : BitVec 32 := Scalar.minsi c99872_i32_386 v736
  let v738 : BitVec 32 := v737
  ![26, v738.toNat]

def k1_chk27 (v717 : BitVec 32) : Prop :=
  (32 ∣ (k1_mult27 v717).toNat) ∧
  (∀ a, (k1_off27 v717) a + S1x128.size a ≤ S128x100000.size a)
theorem k1_mult27_dvd : ∀ (v717 : BitVec 32) (k1_hw27 : k1_chk27 v717), 32 ∣ (k1_mult27 v717).toNat := fun v717 k1_hw27 => k1_hw27.1
theorem k1_off27_inb : ∀ (v717 : BitVec 32) (k1_hw27 : k1_chk27 v717), ∀ a, (k1_off27 v717) a + S1x128.size a ≤ S128x100000.size a := fun v717 k1_hw27 => k1_hw27.2

def k1_mult28 (v743 : BitVec 32) : BitVec 32 :=
  let c99872_i32_400 : BitVec 32 := 99872#32
  let c0_i32_399 : BitVec 32 := 0#32
  let c0_i32_392 : BitVec 32 := 0#32
  let v745 : BitVec 1 := Scalar.cmpi .sgt v743 c0_i32_392
  let v746 : BitVec 32 := Scalar.extui v745
  let c0_i32_393 : BitVec 32 := 0#32
  let v747 : BitVec 1 := Scalar.cmpi .slt v743 c0_i32_393
  let v748 : BitVec 32 := Scalar.extui v747
  let v749 : BitVec 32 := Scalar.subi v746 v748
  let c128_i32_391 : BitVec 32 := 128#32
  let c0_i32_394 : BitVec 32 := 0#32
  let v750 : BitVec 1 := Scalar.cmpi .sgt c128_i32_391 c0_i32_394
  let v751 : BitVec 32 := Scalar.extui v750
  let c0_i32_395 : BitVec 32 := 0#32
  let v752 : BitVec 1 := Scalar.cmpi .slt c128_i32_391 c0_i32_395
  let v753 : BitVec 32 := Scalar.extui v752
  let v754 : BitVec 32 := Scalar.subi v751 v753
  let v755 : BitVec 1 := Scalar.cmpi .ne v749 v754
  let v756 : BitVec 32 := Scalar.remsi v743 c128_i32_391
  let c0_i32_396 : BitVec 32 := 0#32
  let v757 : BitVec 1 := Scalar.cmpi .ne v756 c0_i32_396
  let v758 : BitVec 1 := Scalar.andi v755 v757
  let v744 : BitVec 32 := Scalar.divsi v743 c128_i32_391
  let c1_i32_397 : BitVec 32 := 1#32
  let v759 : BitVec 32 := Scalar.subi v744 c1_i32_397
  let v760 : BitVec 32 := Scalar.select v758 v759 v744
  let c128_i32_398 : BitVec 32 := 128#32
  let v761 : BitVec 32 := Scalar.muli v760 c128_i32_398
  let v762 : BitVec 32 := Scalar.maxsi c0_i32_399 v761
  let v763 : BitVec 32 := Scalar.minsi c99872_i32_400 v762
  v763

def k1_off28 (v743 : BitVec 32) : Fin 2 → Nat :=
  let c27_i32_401 : BitVec 32 := 27#32
  let c99872_i32_400 : BitVec 32 := 99872#32
  let c0_i32_399 : BitVec 32 := 0#32
  let c0_i32_392 : BitVec 32 := 0#32
  let v745 : BitVec 1 := Scalar.cmpi .sgt v743 c0_i32_392
  let v746 : BitVec 32 := Scalar.extui v745
  let c0_i32_393 : BitVec 32 := 0#32
  let v747 : BitVec 1 := Scalar.cmpi .slt v743 c0_i32_393
  let v748 : BitVec 32 := Scalar.extui v747
  let v749 : BitVec 32 := Scalar.subi v746 v748
  let c128_i32_391 : BitVec 32 := 128#32
  let c0_i32_394 : BitVec 32 := 0#32
  let v750 : BitVec 1 := Scalar.cmpi .sgt c128_i32_391 c0_i32_394
  let v751 : BitVec 32 := Scalar.extui v750
  let c0_i32_395 : BitVec 32 := 0#32
  let v752 : BitVec 1 := Scalar.cmpi .slt c128_i32_391 c0_i32_395
  let v753 : BitVec 32 := Scalar.extui v752
  let v754 : BitVec 32 := Scalar.subi v751 v753
  let v755 : BitVec 1 := Scalar.cmpi .ne v749 v754
  let v756 : BitVec 32 := Scalar.remsi v743 c128_i32_391
  let c0_i32_396 : BitVec 32 := 0#32
  let v757 : BitVec 1 := Scalar.cmpi .ne v756 c0_i32_396
  let v758 : BitVec 1 := Scalar.andi v755 v757
  let v744 : BitVec 32 := Scalar.divsi v743 c128_i32_391
  let c1_i32_397 : BitVec 32 := 1#32
  let v759 : BitVec 32 := Scalar.subi v744 c1_i32_397
  let v760 : BitVec 32 := Scalar.select v758 v759 v744
  let c128_i32_398 : BitVec 32 := 128#32
  let v761 : BitVec 32 := Scalar.muli v760 c128_i32_398
  let v762 : BitVec 32 := Scalar.maxsi c0_i32_399 v761
  let v763 : BitVec 32 := Scalar.minsi c99872_i32_400 v762
  let v764 : BitVec 32 := v763
  ![27, v764.toNat]

def k1_chk28 (v743 : BitVec 32) : Prop :=
  (32 ∣ (k1_mult28 v743).toNat) ∧
  (∀ a, (k1_off28 v743) a + S1x128.size a ≤ S128x100000.size a)
theorem k1_mult28_dvd : ∀ (v743 : BitVec 32) (k1_hw28 : k1_chk28 v743), 32 ∣ (k1_mult28 v743).toNat := fun v743 k1_hw28 => k1_hw28.1
theorem k1_off28_inb : ∀ (v743 : BitVec 32) (k1_hw28 : k1_chk28 v743), ∀ a, (k1_off28 v743) a + S1x128.size a ≤ S128x100000.size a := fun v743 k1_hw28 => k1_hw28.2

def k1_mult29 (v769 : BitVec 32) : BitVec 32 :=
  let c99872_i32_414 : BitVec 32 := 99872#32
  let c0_i32_413 : BitVec 32 := 0#32
  let c0_i32_406 : BitVec 32 := 0#32
  let v771 : BitVec 1 := Scalar.cmpi .sgt v769 c0_i32_406
  let v772 : BitVec 32 := Scalar.extui v771
  let c0_i32_407 : BitVec 32 := 0#32
  let v773 : BitVec 1 := Scalar.cmpi .slt v769 c0_i32_407
  let v774 : BitVec 32 := Scalar.extui v773
  let v775 : BitVec 32 := Scalar.subi v772 v774
  let c128_i32_405 : BitVec 32 := 128#32
  let c0_i32_408 : BitVec 32 := 0#32
  let v776 : BitVec 1 := Scalar.cmpi .sgt c128_i32_405 c0_i32_408
  let v777 : BitVec 32 := Scalar.extui v776
  let c0_i32_409 : BitVec 32 := 0#32
  let v778 : BitVec 1 := Scalar.cmpi .slt c128_i32_405 c0_i32_409
  let v779 : BitVec 32 := Scalar.extui v778
  let v780 : BitVec 32 := Scalar.subi v777 v779
  let v781 : BitVec 1 := Scalar.cmpi .ne v775 v780
  let v782 : BitVec 32 := Scalar.remsi v769 c128_i32_405
  let c0_i32_410 : BitVec 32 := 0#32
  let v783 : BitVec 1 := Scalar.cmpi .ne v782 c0_i32_410
  let v784 : BitVec 1 := Scalar.andi v781 v783
  let v770 : BitVec 32 := Scalar.divsi v769 c128_i32_405
  let c1_i32_411 : BitVec 32 := 1#32
  let v785 : BitVec 32 := Scalar.subi v770 c1_i32_411
  let v786 : BitVec 32 := Scalar.select v784 v785 v770
  let c128_i32_412 : BitVec 32 := 128#32
  let v787 : BitVec 32 := Scalar.muli v786 c128_i32_412
  let v788 : BitVec 32 := Scalar.maxsi c0_i32_413 v787
  let v789 : BitVec 32 := Scalar.minsi c99872_i32_414 v788
  v789

def k1_off29 (v769 : BitVec 32) : Fin 2 → Nat :=
  let c28_i32_415 : BitVec 32 := 28#32
  let c99872_i32_414 : BitVec 32 := 99872#32
  let c0_i32_413 : BitVec 32 := 0#32
  let c0_i32_406 : BitVec 32 := 0#32
  let v771 : BitVec 1 := Scalar.cmpi .sgt v769 c0_i32_406
  let v772 : BitVec 32 := Scalar.extui v771
  let c0_i32_407 : BitVec 32 := 0#32
  let v773 : BitVec 1 := Scalar.cmpi .slt v769 c0_i32_407
  let v774 : BitVec 32 := Scalar.extui v773
  let v775 : BitVec 32 := Scalar.subi v772 v774
  let c128_i32_405 : BitVec 32 := 128#32
  let c0_i32_408 : BitVec 32 := 0#32
  let v776 : BitVec 1 := Scalar.cmpi .sgt c128_i32_405 c0_i32_408
  let v777 : BitVec 32 := Scalar.extui v776
  let c0_i32_409 : BitVec 32 := 0#32
  let v778 : BitVec 1 := Scalar.cmpi .slt c128_i32_405 c0_i32_409
  let v779 : BitVec 32 := Scalar.extui v778
  let v780 : BitVec 32 := Scalar.subi v777 v779
  let v781 : BitVec 1 := Scalar.cmpi .ne v775 v780
  let v782 : BitVec 32 := Scalar.remsi v769 c128_i32_405
  let c0_i32_410 : BitVec 32 := 0#32
  let v783 : BitVec 1 := Scalar.cmpi .ne v782 c0_i32_410
  let v784 : BitVec 1 := Scalar.andi v781 v783
  let v770 : BitVec 32 := Scalar.divsi v769 c128_i32_405
  let c1_i32_411 : BitVec 32 := 1#32
  let v785 : BitVec 32 := Scalar.subi v770 c1_i32_411
  let v786 : BitVec 32 := Scalar.select v784 v785 v770
  let c128_i32_412 : BitVec 32 := 128#32
  let v787 : BitVec 32 := Scalar.muli v786 c128_i32_412
  let v788 : BitVec 32 := Scalar.maxsi c0_i32_413 v787
  let v789 : BitVec 32 := Scalar.minsi c99872_i32_414 v788
  let v790 : BitVec 32 := v789
  ![28, v790.toNat]

def k1_chk29 (v769 : BitVec 32) : Prop :=
  (32 ∣ (k1_mult29 v769).toNat) ∧
  (∀ a, (k1_off29 v769) a + S1x128.size a ≤ S128x100000.size a)
theorem k1_mult29_dvd : ∀ (v769 : BitVec 32) (k1_hw29 : k1_chk29 v769), 32 ∣ (k1_mult29 v769).toNat := fun v769 k1_hw29 => k1_hw29.1
theorem k1_off29_inb : ∀ (v769 : BitVec 32) (k1_hw29 : k1_chk29 v769), ∀ a, (k1_off29 v769) a + S1x128.size a ≤ S128x100000.size a := fun v769 k1_hw29 => k1_hw29.2

def k1_mult30 (v795 : BitVec 32) : BitVec 32 :=
  let c99872_i32_428 : BitVec 32 := 99872#32
  let c0_i32_427 : BitVec 32 := 0#32
  let c0_i32_420 : BitVec 32 := 0#32
  let v797 : BitVec 1 := Scalar.cmpi .sgt v795 c0_i32_420
  let v798 : BitVec 32 := Scalar.extui v797
  let c0_i32_421 : BitVec 32 := 0#32
  let v799 : BitVec 1 := Scalar.cmpi .slt v795 c0_i32_421
  let v800 : BitVec 32 := Scalar.extui v799
  let v801 : BitVec 32 := Scalar.subi v798 v800
  let c128_i32_419 : BitVec 32 := 128#32
  let c0_i32_422 : BitVec 32 := 0#32
  let v802 : BitVec 1 := Scalar.cmpi .sgt c128_i32_419 c0_i32_422
  let v803 : BitVec 32 := Scalar.extui v802
  let c0_i32_423 : BitVec 32 := 0#32
  let v804 : BitVec 1 := Scalar.cmpi .slt c128_i32_419 c0_i32_423
  let v805 : BitVec 32 := Scalar.extui v804
  let v806 : BitVec 32 := Scalar.subi v803 v805
  let v807 : BitVec 1 := Scalar.cmpi .ne v801 v806
  let v808 : BitVec 32 := Scalar.remsi v795 c128_i32_419
  let c0_i32_424 : BitVec 32 := 0#32
  let v809 : BitVec 1 := Scalar.cmpi .ne v808 c0_i32_424
  let v810 : BitVec 1 := Scalar.andi v807 v809
  let v796 : BitVec 32 := Scalar.divsi v795 c128_i32_419
  let c1_i32_425 : BitVec 32 := 1#32
  let v811 : BitVec 32 := Scalar.subi v796 c1_i32_425
  let v812 : BitVec 32 := Scalar.select v810 v811 v796
  let c128_i32_426 : BitVec 32 := 128#32
  let v813 : BitVec 32 := Scalar.muli v812 c128_i32_426
  let v814 : BitVec 32 := Scalar.maxsi c0_i32_427 v813
  let v815 : BitVec 32 := Scalar.minsi c99872_i32_428 v814
  v815

def k1_off30 (v795 : BitVec 32) : Fin 2 → Nat :=
  let c29_i32_429 : BitVec 32 := 29#32
  let c99872_i32_428 : BitVec 32 := 99872#32
  let c0_i32_427 : BitVec 32 := 0#32
  let c0_i32_420 : BitVec 32 := 0#32
  let v797 : BitVec 1 := Scalar.cmpi .sgt v795 c0_i32_420
  let v798 : BitVec 32 := Scalar.extui v797
  let c0_i32_421 : BitVec 32 := 0#32
  let v799 : BitVec 1 := Scalar.cmpi .slt v795 c0_i32_421
  let v800 : BitVec 32 := Scalar.extui v799
  let v801 : BitVec 32 := Scalar.subi v798 v800
  let c128_i32_419 : BitVec 32 := 128#32
  let c0_i32_422 : BitVec 32 := 0#32
  let v802 : BitVec 1 := Scalar.cmpi .sgt c128_i32_419 c0_i32_422
  let v803 : BitVec 32 := Scalar.extui v802
  let c0_i32_423 : BitVec 32 := 0#32
  let v804 : BitVec 1 := Scalar.cmpi .slt c128_i32_419 c0_i32_423
  let v805 : BitVec 32 := Scalar.extui v804
  let v806 : BitVec 32 := Scalar.subi v803 v805
  let v807 : BitVec 1 := Scalar.cmpi .ne v801 v806
  let v808 : BitVec 32 := Scalar.remsi v795 c128_i32_419
  let c0_i32_424 : BitVec 32 := 0#32
  let v809 : BitVec 1 := Scalar.cmpi .ne v808 c0_i32_424
  let v810 : BitVec 1 := Scalar.andi v807 v809
  let v796 : BitVec 32 := Scalar.divsi v795 c128_i32_419
  let c1_i32_425 : BitVec 32 := 1#32
  let v811 : BitVec 32 := Scalar.subi v796 c1_i32_425
  let v812 : BitVec 32 := Scalar.select v810 v811 v796
  let c128_i32_426 : BitVec 32 := 128#32
  let v813 : BitVec 32 := Scalar.muli v812 c128_i32_426
  let v814 : BitVec 32 := Scalar.maxsi c0_i32_427 v813
  let v815 : BitVec 32 := Scalar.minsi c99872_i32_428 v814
  let v816 : BitVec 32 := v815
  ![29, v816.toNat]

def k1_chk30 (v795 : BitVec 32) : Prop :=
  (32 ∣ (k1_mult30 v795).toNat) ∧
  (∀ a, (k1_off30 v795) a + S1x128.size a ≤ S128x100000.size a)
theorem k1_mult30_dvd : ∀ (v795 : BitVec 32) (k1_hw30 : k1_chk30 v795), 32 ∣ (k1_mult30 v795).toNat := fun v795 k1_hw30 => k1_hw30.1
theorem k1_off30_inb : ∀ (v795 : BitVec 32) (k1_hw30 : k1_chk30 v795), ∀ a, (k1_off30 v795) a + S1x128.size a ≤ S128x100000.size a := fun v795 k1_hw30 => k1_hw30.2

def k1_mult31 (v821 : BitVec 32) : BitVec 32 :=
  let c99872_i32_442 : BitVec 32 := 99872#32
  let c0_i32_441 : BitVec 32 := 0#32
  let c0_i32_434 : BitVec 32 := 0#32
  let v823 : BitVec 1 := Scalar.cmpi .sgt v821 c0_i32_434
  let v824 : BitVec 32 := Scalar.extui v823
  let c0_i32_435 : BitVec 32 := 0#32
  let v825 : BitVec 1 := Scalar.cmpi .slt v821 c0_i32_435
  let v826 : BitVec 32 := Scalar.extui v825
  let v827 : BitVec 32 := Scalar.subi v824 v826
  let c128_i32_433 : BitVec 32 := 128#32
  let c0_i32_436 : BitVec 32 := 0#32
  let v828 : BitVec 1 := Scalar.cmpi .sgt c128_i32_433 c0_i32_436
  let v829 : BitVec 32 := Scalar.extui v828
  let c0_i32_437 : BitVec 32 := 0#32
  let v830 : BitVec 1 := Scalar.cmpi .slt c128_i32_433 c0_i32_437
  let v831 : BitVec 32 := Scalar.extui v830
  let v832 : BitVec 32 := Scalar.subi v829 v831
  let v833 : BitVec 1 := Scalar.cmpi .ne v827 v832
  let v834 : BitVec 32 := Scalar.remsi v821 c128_i32_433
  let c0_i32_438 : BitVec 32 := 0#32
  let v835 : BitVec 1 := Scalar.cmpi .ne v834 c0_i32_438
  let v836 : BitVec 1 := Scalar.andi v833 v835
  let v822 : BitVec 32 := Scalar.divsi v821 c128_i32_433
  let c1_i32_439 : BitVec 32 := 1#32
  let v837 : BitVec 32 := Scalar.subi v822 c1_i32_439
  let v838 : BitVec 32 := Scalar.select v836 v837 v822
  let c128_i32_440 : BitVec 32 := 128#32
  let v839 : BitVec 32 := Scalar.muli v838 c128_i32_440
  let v840 : BitVec 32 := Scalar.maxsi c0_i32_441 v839
  let v841 : BitVec 32 := Scalar.minsi c99872_i32_442 v840
  v841

def k1_off31 (v821 : BitVec 32) : Fin 2 → Nat :=
  let c30_i32_443 : BitVec 32 := 30#32
  let c99872_i32_442 : BitVec 32 := 99872#32
  let c0_i32_441 : BitVec 32 := 0#32
  let c0_i32_434 : BitVec 32 := 0#32
  let v823 : BitVec 1 := Scalar.cmpi .sgt v821 c0_i32_434
  let v824 : BitVec 32 := Scalar.extui v823
  let c0_i32_435 : BitVec 32 := 0#32
  let v825 : BitVec 1 := Scalar.cmpi .slt v821 c0_i32_435
  let v826 : BitVec 32 := Scalar.extui v825
  let v827 : BitVec 32 := Scalar.subi v824 v826
  let c128_i32_433 : BitVec 32 := 128#32
  let c0_i32_436 : BitVec 32 := 0#32
  let v828 : BitVec 1 := Scalar.cmpi .sgt c128_i32_433 c0_i32_436
  let v829 : BitVec 32 := Scalar.extui v828
  let c0_i32_437 : BitVec 32 := 0#32
  let v830 : BitVec 1 := Scalar.cmpi .slt c128_i32_433 c0_i32_437
  let v831 : BitVec 32 := Scalar.extui v830
  let v832 : BitVec 32 := Scalar.subi v829 v831
  let v833 : BitVec 1 := Scalar.cmpi .ne v827 v832
  let v834 : BitVec 32 := Scalar.remsi v821 c128_i32_433
  let c0_i32_438 : BitVec 32 := 0#32
  let v835 : BitVec 1 := Scalar.cmpi .ne v834 c0_i32_438
  let v836 : BitVec 1 := Scalar.andi v833 v835
  let v822 : BitVec 32 := Scalar.divsi v821 c128_i32_433
  let c1_i32_439 : BitVec 32 := 1#32
  let v837 : BitVec 32 := Scalar.subi v822 c1_i32_439
  let v838 : BitVec 32 := Scalar.select v836 v837 v822
  let c128_i32_440 : BitVec 32 := 128#32
  let v839 : BitVec 32 := Scalar.muli v838 c128_i32_440
  let v840 : BitVec 32 := Scalar.maxsi c0_i32_441 v839
  let v841 : BitVec 32 := Scalar.minsi c99872_i32_442 v840
  let v842 : BitVec 32 := v841
  ![30, v842.toNat]

def k1_chk31 (v821 : BitVec 32) : Prop :=
  (32 ∣ (k1_mult31 v821).toNat) ∧
  (∀ a, (k1_off31 v821) a + S1x128.size a ≤ S128x100000.size a)
theorem k1_mult31_dvd : ∀ (v821 : BitVec 32) (k1_hw31 : k1_chk31 v821), 32 ∣ (k1_mult31 v821).toNat := fun v821 k1_hw31 => k1_hw31.1
theorem k1_off31_inb : ∀ (v821 : BitVec 32) (k1_hw31 : k1_chk31 v821), ∀ a, (k1_off31 v821) a + S1x128.size a ≤ S128x100000.size a := fun v821 k1_hw31 => k1_hw31.2

def k1_mult32 (v847 : BitVec 32) : BitVec 32 :=
  let c99872_i32_456 : BitVec 32 := 99872#32
  let c0_i32_455 : BitVec 32 := 0#32
  let c0_i32_448 : BitVec 32 := 0#32
  let v849 : BitVec 1 := Scalar.cmpi .sgt v847 c0_i32_448
  let v850 : BitVec 32 := Scalar.extui v849
  let c0_i32_449 : BitVec 32 := 0#32
  let v851 : BitVec 1 := Scalar.cmpi .slt v847 c0_i32_449
  let v852 : BitVec 32 := Scalar.extui v851
  let v853 : BitVec 32 := Scalar.subi v850 v852
  let c128_i32_447 : BitVec 32 := 128#32
  let c0_i32_450 : BitVec 32 := 0#32
  let v854 : BitVec 1 := Scalar.cmpi .sgt c128_i32_447 c0_i32_450
  let v855 : BitVec 32 := Scalar.extui v854
  let c0_i32_451 : BitVec 32 := 0#32
  let v856 : BitVec 1 := Scalar.cmpi .slt c128_i32_447 c0_i32_451
  let v857 : BitVec 32 := Scalar.extui v856
  let v858 : BitVec 32 := Scalar.subi v855 v857
  let v859 : BitVec 1 := Scalar.cmpi .ne v853 v858
  let v860 : BitVec 32 := Scalar.remsi v847 c128_i32_447
  let c0_i32_452 : BitVec 32 := 0#32
  let v861 : BitVec 1 := Scalar.cmpi .ne v860 c0_i32_452
  let v862 : BitVec 1 := Scalar.andi v859 v861
  let v848 : BitVec 32 := Scalar.divsi v847 c128_i32_447
  let c1_i32_453 : BitVec 32 := 1#32
  let v863 : BitVec 32 := Scalar.subi v848 c1_i32_453
  let v864 : BitVec 32 := Scalar.select v862 v863 v848
  let c128_i32_454 : BitVec 32 := 128#32
  let v865 : BitVec 32 := Scalar.muli v864 c128_i32_454
  let v866 : BitVec 32 := Scalar.maxsi c0_i32_455 v865
  let v867 : BitVec 32 := Scalar.minsi c99872_i32_456 v866
  v867

def k1_off32 (v847 : BitVec 32) : Fin 2 → Nat :=
  let c31_i32_457 : BitVec 32 := 31#32
  let c99872_i32_456 : BitVec 32 := 99872#32
  let c0_i32_455 : BitVec 32 := 0#32
  let c0_i32_448 : BitVec 32 := 0#32
  let v849 : BitVec 1 := Scalar.cmpi .sgt v847 c0_i32_448
  let v850 : BitVec 32 := Scalar.extui v849
  let c0_i32_449 : BitVec 32 := 0#32
  let v851 : BitVec 1 := Scalar.cmpi .slt v847 c0_i32_449
  let v852 : BitVec 32 := Scalar.extui v851
  let v853 : BitVec 32 := Scalar.subi v850 v852
  let c128_i32_447 : BitVec 32 := 128#32
  let c0_i32_450 : BitVec 32 := 0#32
  let v854 : BitVec 1 := Scalar.cmpi .sgt c128_i32_447 c0_i32_450
  let v855 : BitVec 32 := Scalar.extui v854
  let c0_i32_451 : BitVec 32 := 0#32
  let v856 : BitVec 1 := Scalar.cmpi .slt c128_i32_447 c0_i32_451
  let v857 : BitVec 32 := Scalar.extui v856
  let v858 : BitVec 32 := Scalar.subi v855 v857
  let v859 : BitVec 1 := Scalar.cmpi .ne v853 v858
  let v860 : BitVec 32 := Scalar.remsi v847 c128_i32_447
  let c0_i32_452 : BitVec 32 := 0#32
  let v861 : BitVec 1 := Scalar.cmpi .ne v860 c0_i32_452
  let v862 : BitVec 1 := Scalar.andi v859 v861
  let v848 : BitVec 32 := Scalar.divsi v847 c128_i32_447
  let c1_i32_453 : BitVec 32 := 1#32
  let v863 : BitVec 32 := Scalar.subi v848 c1_i32_453
  let v864 : BitVec 32 := Scalar.select v862 v863 v848
  let c128_i32_454 : BitVec 32 := 128#32
  let v865 : BitVec 32 := Scalar.muli v864 c128_i32_454
  let v866 : BitVec 32 := Scalar.maxsi c0_i32_455 v865
  let v867 : BitVec 32 := Scalar.minsi c99872_i32_456 v866
  let v868 : BitVec 32 := v867
  ![31, v868.toNat]

def k1_chk32 (v847 : BitVec 32) : Prop :=
  (32 ∣ (k1_mult32 v847).toNat) ∧
  (∀ a, (k1_off32 v847) a + S1x128.size a ≤ S128x100000.size a)
theorem k1_mult32_dvd : ∀ (v847 : BitVec 32) (k1_hw32 : k1_chk32 v847), 32 ∣ (k1_mult32 v847).toNat := fun v847 k1_hw32 => k1_hw32.1
theorem k1_off32_inb : ∀ (v847 : BitVec 32) (k1_hw32 : k1_chk32 v847), ∀ a, (k1_off32 v847) a + S1x128.size a ≤ S128x100000.size a := fun v847 k1_hw32 => k1_hw32.2

def k1_mult33 (v873 : BitVec 32) : BitVec 32 :=
  let c99872_i32_470 : BitVec 32 := 99872#32
  let c0_i32_469 : BitVec 32 := 0#32
  let c0_i32_462 : BitVec 32 := 0#32
  let v875 : BitVec 1 := Scalar.cmpi .sgt v873 c0_i32_462
  let v876 : BitVec 32 := Scalar.extui v875
  let c0_i32_463 : BitVec 32 := 0#32
  let v877 : BitVec 1 := Scalar.cmpi .slt v873 c0_i32_463
  let v878 : BitVec 32 := Scalar.extui v877
  let v879 : BitVec 32 := Scalar.subi v876 v878
  let c128_i32_461 : BitVec 32 := 128#32
  let c0_i32_464 : BitVec 32 := 0#32
  let v880 : BitVec 1 := Scalar.cmpi .sgt c128_i32_461 c0_i32_464
  let v881 : BitVec 32 := Scalar.extui v880
  let c0_i32_465 : BitVec 32 := 0#32
  let v882 : BitVec 1 := Scalar.cmpi .slt c128_i32_461 c0_i32_465
  let v883 : BitVec 32 := Scalar.extui v882
  let v884 : BitVec 32 := Scalar.subi v881 v883
  let v885 : BitVec 1 := Scalar.cmpi .ne v879 v884
  let v886 : BitVec 32 := Scalar.remsi v873 c128_i32_461
  let c0_i32_466 : BitVec 32 := 0#32
  let v887 : BitVec 1 := Scalar.cmpi .ne v886 c0_i32_466
  let v888 : BitVec 1 := Scalar.andi v885 v887
  let v874 : BitVec 32 := Scalar.divsi v873 c128_i32_461
  let c1_i32_467 : BitVec 32 := 1#32
  let v889 : BitVec 32 := Scalar.subi v874 c1_i32_467
  let v890 : BitVec 32 := Scalar.select v888 v889 v874
  let c128_i32_468 : BitVec 32 := 128#32
  let v891 : BitVec 32 := Scalar.muli v890 c128_i32_468
  let v892 : BitVec 32 := Scalar.maxsi c0_i32_469 v891
  let v893 : BitVec 32 := Scalar.minsi c99872_i32_470 v892
  v893

def k1_off33 (v873 : BitVec 32) : Fin 2 → Nat :=
  let c32_i32_471 : BitVec 32 := 32#32
  let c99872_i32_470 : BitVec 32 := 99872#32
  let c0_i32_469 : BitVec 32 := 0#32
  let c0_i32_462 : BitVec 32 := 0#32
  let v875 : BitVec 1 := Scalar.cmpi .sgt v873 c0_i32_462
  let v876 : BitVec 32 := Scalar.extui v875
  let c0_i32_463 : BitVec 32 := 0#32
  let v877 : BitVec 1 := Scalar.cmpi .slt v873 c0_i32_463
  let v878 : BitVec 32 := Scalar.extui v877
  let v879 : BitVec 32 := Scalar.subi v876 v878
  let c128_i32_461 : BitVec 32 := 128#32
  let c0_i32_464 : BitVec 32 := 0#32
  let v880 : BitVec 1 := Scalar.cmpi .sgt c128_i32_461 c0_i32_464
  let v881 : BitVec 32 := Scalar.extui v880
  let c0_i32_465 : BitVec 32 := 0#32
  let v882 : BitVec 1 := Scalar.cmpi .slt c128_i32_461 c0_i32_465
  let v883 : BitVec 32 := Scalar.extui v882
  let v884 : BitVec 32 := Scalar.subi v881 v883
  let v885 : BitVec 1 := Scalar.cmpi .ne v879 v884
  let v886 : BitVec 32 := Scalar.remsi v873 c128_i32_461
  let c0_i32_466 : BitVec 32 := 0#32
  let v887 : BitVec 1 := Scalar.cmpi .ne v886 c0_i32_466
  let v888 : BitVec 1 := Scalar.andi v885 v887
  let v874 : BitVec 32 := Scalar.divsi v873 c128_i32_461
  let c1_i32_467 : BitVec 32 := 1#32
  let v889 : BitVec 32 := Scalar.subi v874 c1_i32_467
  let v890 : BitVec 32 := Scalar.select v888 v889 v874
  let c128_i32_468 : BitVec 32 := 128#32
  let v891 : BitVec 32 := Scalar.muli v890 c128_i32_468
  let v892 : BitVec 32 := Scalar.maxsi c0_i32_469 v891
  let v893 : BitVec 32 := Scalar.minsi c99872_i32_470 v892
  let v894 : BitVec 32 := v893
  ![32, v894.toNat]

def k1_chk33 (v873 : BitVec 32) : Prop :=
  (32 ∣ (k1_mult33 v873).toNat) ∧
  (∀ a, (k1_off33 v873) a + S1x128.size a ≤ S128x100000.size a)
theorem k1_mult33_dvd : ∀ (v873 : BitVec 32) (k1_hw33 : k1_chk33 v873), 32 ∣ (k1_mult33 v873).toNat := fun v873 k1_hw33 => k1_hw33.1
theorem k1_off33_inb : ∀ (v873 : BitVec 32) (k1_hw33 : k1_chk33 v873), ∀ a, (k1_off33 v873) a + S1x128.size a ≤ S128x100000.size a := fun v873 k1_hw33 => k1_hw33.2

def k1_mult34 (v899 : BitVec 32) : BitVec 32 :=
  let c99872_i32_484 : BitVec 32 := 99872#32
  let c0_i32_483 : BitVec 32 := 0#32
  let c0_i32_476 : BitVec 32 := 0#32
  let v901 : BitVec 1 := Scalar.cmpi .sgt v899 c0_i32_476
  let v902 : BitVec 32 := Scalar.extui v901
  let c0_i32_477 : BitVec 32 := 0#32
  let v903 : BitVec 1 := Scalar.cmpi .slt v899 c0_i32_477
  let v904 : BitVec 32 := Scalar.extui v903
  let v905 : BitVec 32 := Scalar.subi v902 v904
  let c128_i32_475 : BitVec 32 := 128#32
  let c0_i32_478 : BitVec 32 := 0#32
  let v906 : BitVec 1 := Scalar.cmpi .sgt c128_i32_475 c0_i32_478
  let v907 : BitVec 32 := Scalar.extui v906
  let c0_i32_479 : BitVec 32 := 0#32
  let v908 : BitVec 1 := Scalar.cmpi .slt c128_i32_475 c0_i32_479
  let v909 : BitVec 32 := Scalar.extui v908
  let v910 : BitVec 32 := Scalar.subi v907 v909
  let v911 : BitVec 1 := Scalar.cmpi .ne v905 v910
  let v912 : BitVec 32 := Scalar.remsi v899 c128_i32_475
  let c0_i32_480 : BitVec 32 := 0#32
  let v913 : BitVec 1 := Scalar.cmpi .ne v912 c0_i32_480
  let v914 : BitVec 1 := Scalar.andi v911 v913
  let v900 : BitVec 32 := Scalar.divsi v899 c128_i32_475
  let c1_i32_481 : BitVec 32 := 1#32
  let v915 : BitVec 32 := Scalar.subi v900 c1_i32_481
  let v916 : BitVec 32 := Scalar.select v914 v915 v900
  let c128_i32_482 : BitVec 32 := 128#32
  let v917 : BitVec 32 := Scalar.muli v916 c128_i32_482
  let v918 : BitVec 32 := Scalar.maxsi c0_i32_483 v917
  let v919 : BitVec 32 := Scalar.minsi c99872_i32_484 v918
  v919

def k1_off34 (v899 : BitVec 32) : Fin 2 → Nat :=
  let c33_i32_485 : BitVec 32 := 33#32
  let c99872_i32_484 : BitVec 32 := 99872#32
  let c0_i32_483 : BitVec 32 := 0#32
  let c0_i32_476 : BitVec 32 := 0#32
  let v901 : BitVec 1 := Scalar.cmpi .sgt v899 c0_i32_476
  let v902 : BitVec 32 := Scalar.extui v901
  let c0_i32_477 : BitVec 32 := 0#32
  let v903 : BitVec 1 := Scalar.cmpi .slt v899 c0_i32_477
  let v904 : BitVec 32 := Scalar.extui v903
  let v905 : BitVec 32 := Scalar.subi v902 v904
  let c128_i32_475 : BitVec 32 := 128#32
  let c0_i32_478 : BitVec 32 := 0#32
  let v906 : BitVec 1 := Scalar.cmpi .sgt c128_i32_475 c0_i32_478
  let v907 : BitVec 32 := Scalar.extui v906
  let c0_i32_479 : BitVec 32 := 0#32
  let v908 : BitVec 1 := Scalar.cmpi .slt c128_i32_475 c0_i32_479
  let v909 : BitVec 32 := Scalar.extui v908
  let v910 : BitVec 32 := Scalar.subi v907 v909
  let v911 : BitVec 1 := Scalar.cmpi .ne v905 v910
  let v912 : BitVec 32 := Scalar.remsi v899 c128_i32_475
  let c0_i32_480 : BitVec 32 := 0#32
  let v913 : BitVec 1 := Scalar.cmpi .ne v912 c0_i32_480
  let v914 : BitVec 1 := Scalar.andi v911 v913
  let v900 : BitVec 32 := Scalar.divsi v899 c128_i32_475
  let c1_i32_481 : BitVec 32 := 1#32
  let v915 : BitVec 32 := Scalar.subi v900 c1_i32_481
  let v916 : BitVec 32 := Scalar.select v914 v915 v900
  let c128_i32_482 : BitVec 32 := 128#32
  let v917 : BitVec 32 := Scalar.muli v916 c128_i32_482
  let v918 : BitVec 32 := Scalar.maxsi c0_i32_483 v917
  let v919 : BitVec 32 := Scalar.minsi c99872_i32_484 v918
  let v920 : BitVec 32 := v919
  ![33, v920.toNat]

def k1_chk34 (v899 : BitVec 32) : Prop :=
  (32 ∣ (k1_mult34 v899).toNat) ∧
  (∀ a, (k1_off34 v899) a + S1x128.size a ≤ S128x100000.size a)
theorem k1_mult34_dvd : ∀ (v899 : BitVec 32) (k1_hw34 : k1_chk34 v899), 32 ∣ (k1_mult34 v899).toNat := fun v899 k1_hw34 => k1_hw34.1
theorem k1_off34_inb : ∀ (v899 : BitVec 32) (k1_hw34 : k1_chk34 v899), ∀ a, (k1_off34 v899) a + S1x128.size a ≤ S128x100000.size a := fun v899 k1_hw34 => k1_hw34.2

def k1_mult35 (v925 : BitVec 32) : BitVec 32 :=
  let c99872_i32_498 : BitVec 32 := 99872#32
  let c0_i32_497 : BitVec 32 := 0#32
  let c0_i32_490 : BitVec 32 := 0#32
  let v927 : BitVec 1 := Scalar.cmpi .sgt v925 c0_i32_490
  let v928 : BitVec 32 := Scalar.extui v927
  let c0_i32_491 : BitVec 32 := 0#32
  let v929 : BitVec 1 := Scalar.cmpi .slt v925 c0_i32_491
  let v930 : BitVec 32 := Scalar.extui v929
  let v931 : BitVec 32 := Scalar.subi v928 v930
  let c128_i32_489 : BitVec 32 := 128#32
  let c0_i32_492 : BitVec 32 := 0#32
  let v932 : BitVec 1 := Scalar.cmpi .sgt c128_i32_489 c0_i32_492
  let v933 : BitVec 32 := Scalar.extui v932
  let c0_i32_493 : BitVec 32 := 0#32
  let v934 : BitVec 1 := Scalar.cmpi .slt c128_i32_489 c0_i32_493
  let v935 : BitVec 32 := Scalar.extui v934
  let v936 : BitVec 32 := Scalar.subi v933 v935
  let v937 : BitVec 1 := Scalar.cmpi .ne v931 v936
  let v938 : BitVec 32 := Scalar.remsi v925 c128_i32_489
  let c0_i32_494 : BitVec 32 := 0#32
  let v939 : BitVec 1 := Scalar.cmpi .ne v938 c0_i32_494
  let v940 : BitVec 1 := Scalar.andi v937 v939
  let v926 : BitVec 32 := Scalar.divsi v925 c128_i32_489
  let c1_i32_495 : BitVec 32 := 1#32
  let v941 : BitVec 32 := Scalar.subi v926 c1_i32_495
  let v942 : BitVec 32 := Scalar.select v940 v941 v926
  let c128_i32_496 : BitVec 32 := 128#32
  let v943 : BitVec 32 := Scalar.muli v942 c128_i32_496
  let v944 : BitVec 32 := Scalar.maxsi c0_i32_497 v943
  let v945 : BitVec 32 := Scalar.minsi c99872_i32_498 v944
  v945

def k1_off35 (v925 : BitVec 32) : Fin 2 → Nat :=
  let c34_i32_499 : BitVec 32 := 34#32
  let c99872_i32_498 : BitVec 32 := 99872#32
  let c0_i32_497 : BitVec 32 := 0#32
  let c0_i32_490 : BitVec 32 := 0#32
  let v927 : BitVec 1 := Scalar.cmpi .sgt v925 c0_i32_490
  let v928 : BitVec 32 := Scalar.extui v927
  let c0_i32_491 : BitVec 32 := 0#32
  let v929 : BitVec 1 := Scalar.cmpi .slt v925 c0_i32_491
  let v930 : BitVec 32 := Scalar.extui v929
  let v931 : BitVec 32 := Scalar.subi v928 v930
  let c128_i32_489 : BitVec 32 := 128#32
  let c0_i32_492 : BitVec 32 := 0#32
  let v932 : BitVec 1 := Scalar.cmpi .sgt c128_i32_489 c0_i32_492
  let v933 : BitVec 32 := Scalar.extui v932
  let c0_i32_493 : BitVec 32 := 0#32
  let v934 : BitVec 1 := Scalar.cmpi .slt c128_i32_489 c0_i32_493
  let v935 : BitVec 32 := Scalar.extui v934
  let v936 : BitVec 32 := Scalar.subi v933 v935
  let v937 : BitVec 1 := Scalar.cmpi .ne v931 v936
  let v938 : BitVec 32 := Scalar.remsi v925 c128_i32_489
  let c0_i32_494 : BitVec 32 := 0#32
  let v939 : BitVec 1 := Scalar.cmpi .ne v938 c0_i32_494
  let v940 : BitVec 1 := Scalar.andi v937 v939
  let v926 : BitVec 32 := Scalar.divsi v925 c128_i32_489
  let c1_i32_495 : BitVec 32 := 1#32
  let v941 : BitVec 32 := Scalar.subi v926 c1_i32_495
  let v942 : BitVec 32 := Scalar.select v940 v941 v926
  let c128_i32_496 : BitVec 32 := 128#32
  let v943 : BitVec 32 := Scalar.muli v942 c128_i32_496
  let v944 : BitVec 32 := Scalar.maxsi c0_i32_497 v943
  let v945 : BitVec 32 := Scalar.minsi c99872_i32_498 v944
  let v946 : BitVec 32 := v945
  ![34, v946.toNat]

def k1_chk35 (v925 : BitVec 32) : Prop :=
  (32 ∣ (k1_mult35 v925).toNat) ∧
  (∀ a, (k1_off35 v925) a + S1x128.size a ≤ S128x100000.size a)
theorem k1_mult35_dvd : ∀ (v925 : BitVec 32) (k1_hw35 : k1_chk35 v925), 32 ∣ (k1_mult35 v925).toNat := fun v925 k1_hw35 => k1_hw35.1
theorem k1_off35_inb : ∀ (v925 : BitVec 32) (k1_hw35 : k1_chk35 v925), ∀ a, (k1_off35 v925) a + S1x128.size a ≤ S128x100000.size a := fun v925 k1_hw35 => k1_hw35.2

def k1_mult36 (v951 : BitVec 32) : BitVec 32 :=
  let c99872_i32_512 : BitVec 32 := 99872#32
  let c0_i32_511 : BitVec 32 := 0#32
  let c0_i32_504 : BitVec 32 := 0#32
  let v953 : BitVec 1 := Scalar.cmpi .sgt v951 c0_i32_504
  let v954 : BitVec 32 := Scalar.extui v953
  let c0_i32_505 : BitVec 32 := 0#32
  let v955 : BitVec 1 := Scalar.cmpi .slt v951 c0_i32_505
  let v956 : BitVec 32 := Scalar.extui v955
  let v957 : BitVec 32 := Scalar.subi v954 v956
  let c128_i32_503 : BitVec 32 := 128#32
  let c0_i32_506 : BitVec 32 := 0#32
  let v958 : BitVec 1 := Scalar.cmpi .sgt c128_i32_503 c0_i32_506
  let v959 : BitVec 32 := Scalar.extui v958
  let c0_i32_507 : BitVec 32 := 0#32
  let v960 : BitVec 1 := Scalar.cmpi .slt c128_i32_503 c0_i32_507
  let v961 : BitVec 32 := Scalar.extui v960
  let v962 : BitVec 32 := Scalar.subi v959 v961
  let v963 : BitVec 1 := Scalar.cmpi .ne v957 v962
  let v964 : BitVec 32 := Scalar.remsi v951 c128_i32_503
  let c0_i32_508 : BitVec 32 := 0#32
  let v965 : BitVec 1 := Scalar.cmpi .ne v964 c0_i32_508
  let v966 : BitVec 1 := Scalar.andi v963 v965
  let v952 : BitVec 32 := Scalar.divsi v951 c128_i32_503
  let c1_i32_509 : BitVec 32 := 1#32
  let v967 : BitVec 32 := Scalar.subi v952 c1_i32_509
  let v968 : BitVec 32 := Scalar.select v966 v967 v952
  let c128_i32_510 : BitVec 32 := 128#32
  let v969 : BitVec 32 := Scalar.muli v968 c128_i32_510
  let v970 : BitVec 32 := Scalar.maxsi c0_i32_511 v969
  let v971 : BitVec 32 := Scalar.minsi c99872_i32_512 v970
  v971

def k1_off36 (v951 : BitVec 32) : Fin 2 → Nat :=
  let c35_i32_513 : BitVec 32 := 35#32
  let c99872_i32_512 : BitVec 32 := 99872#32
  let c0_i32_511 : BitVec 32 := 0#32
  let c0_i32_504 : BitVec 32 := 0#32
  let v953 : BitVec 1 := Scalar.cmpi .sgt v951 c0_i32_504
  let v954 : BitVec 32 := Scalar.extui v953
  let c0_i32_505 : BitVec 32 := 0#32
  let v955 : BitVec 1 := Scalar.cmpi .slt v951 c0_i32_505
  let v956 : BitVec 32 := Scalar.extui v955
  let v957 : BitVec 32 := Scalar.subi v954 v956
  let c128_i32_503 : BitVec 32 := 128#32
  let c0_i32_506 : BitVec 32 := 0#32
  let v958 : BitVec 1 := Scalar.cmpi .sgt c128_i32_503 c0_i32_506
  let v959 : BitVec 32 := Scalar.extui v958
  let c0_i32_507 : BitVec 32 := 0#32
  let v960 : BitVec 1 := Scalar.cmpi .slt c128_i32_503 c0_i32_507
  let v961 : BitVec 32 := Scalar.extui v960
  let v962 : BitVec 32 := Scalar.subi v959 v961
  let v963 : BitVec 1 := Scalar.cmpi .ne v957 v962
  let v964 : BitVec 32 := Scalar.remsi v951 c128_i32_503
  let c0_i32_508 : BitVec 32 := 0#32
  let v965 : BitVec 1 := Scalar.cmpi .ne v964 c0_i32_508
  let v966 : BitVec 1 := Scalar.andi v963 v965
  let v952 : BitVec 32 := Scalar.divsi v951 c128_i32_503
  let c1_i32_509 : BitVec 32 := 1#32
  let v967 : BitVec 32 := Scalar.subi v952 c1_i32_509
  let v968 : BitVec 32 := Scalar.select v966 v967 v952
  let c128_i32_510 : BitVec 32 := 128#32
  let v969 : BitVec 32 := Scalar.muli v968 c128_i32_510
  let v970 : BitVec 32 := Scalar.maxsi c0_i32_511 v969
  let v971 : BitVec 32 := Scalar.minsi c99872_i32_512 v970
  let v972 : BitVec 32 := v971
  ![35, v972.toNat]

def k1_chk36 (v951 : BitVec 32) : Prop :=
  (32 ∣ (k1_mult36 v951).toNat) ∧
  (∀ a, (k1_off36 v951) a + S1x128.size a ≤ S128x100000.size a)
theorem k1_mult36_dvd : ∀ (v951 : BitVec 32) (k1_hw36 : k1_chk36 v951), 32 ∣ (k1_mult36 v951).toNat := fun v951 k1_hw36 => k1_hw36.1
theorem k1_off36_inb : ∀ (v951 : BitVec 32) (k1_hw36 : k1_chk36 v951), ∀ a, (k1_off36 v951) a + S1x128.size a ≤ S128x100000.size a := fun v951 k1_hw36 => k1_hw36.2

def k1_mult37 (v977 : BitVec 32) : BitVec 32 :=
  let c99872_i32_526 : BitVec 32 := 99872#32
  let c0_i32_525 : BitVec 32 := 0#32
  let c0_i32_518 : BitVec 32 := 0#32
  let v979 : BitVec 1 := Scalar.cmpi .sgt v977 c0_i32_518
  let v980 : BitVec 32 := Scalar.extui v979
  let c0_i32_519 : BitVec 32 := 0#32
  let v981 : BitVec 1 := Scalar.cmpi .slt v977 c0_i32_519
  let v982 : BitVec 32 := Scalar.extui v981
  let v983 : BitVec 32 := Scalar.subi v980 v982
  let c128_i32_517 : BitVec 32 := 128#32
  let c0_i32_520 : BitVec 32 := 0#32
  let v984 : BitVec 1 := Scalar.cmpi .sgt c128_i32_517 c0_i32_520
  let v985 : BitVec 32 := Scalar.extui v984
  let c0_i32_521 : BitVec 32 := 0#32
  let v986 : BitVec 1 := Scalar.cmpi .slt c128_i32_517 c0_i32_521
  let v987 : BitVec 32 := Scalar.extui v986
  let v988 : BitVec 32 := Scalar.subi v985 v987
  let v989 : BitVec 1 := Scalar.cmpi .ne v983 v988
  let v990 : BitVec 32 := Scalar.remsi v977 c128_i32_517
  let c0_i32_522 : BitVec 32 := 0#32
  let v991 : BitVec 1 := Scalar.cmpi .ne v990 c0_i32_522
  let v992 : BitVec 1 := Scalar.andi v989 v991
  let v978 : BitVec 32 := Scalar.divsi v977 c128_i32_517
  let c1_i32_523 : BitVec 32 := 1#32
  let v993 : BitVec 32 := Scalar.subi v978 c1_i32_523
  let v994 : BitVec 32 := Scalar.select v992 v993 v978
  let c128_i32_524 : BitVec 32 := 128#32
  let v995 : BitVec 32 := Scalar.muli v994 c128_i32_524
  let v996 : BitVec 32 := Scalar.maxsi c0_i32_525 v995
  let v997 : BitVec 32 := Scalar.minsi c99872_i32_526 v996
  v997

def k1_off37 (v977 : BitVec 32) : Fin 2 → Nat :=
  let c36_i32_527 : BitVec 32 := 36#32
  let c99872_i32_526 : BitVec 32 := 99872#32
  let c0_i32_525 : BitVec 32 := 0#32
  let c0_i32_518 : BitVec 32 := 0#32
  let v979 : BitVec 1 := Scalar.cmpi .sgt v977 c0_i32_518
  let v980 : BitVec 32 := Scalar.extui v979
  let c0_i32_519 : BitVec 32 := 0#32
  let v981 : BitVec 1 := Scalar.cmpi .slt v977 c0_i32_519
  let v982 : BitVec 32 := Scalar.extui v981
  let v983 : BitVec 32 := Scalar.subi v980 v982
  let c128_i32_517 : BitVec 32 := 128#32
  let c0_i32_520 : BitVec 32 := 0#32
  let v984 : BitVec 1 := Scalar.cmpi .sgt c128_i32_517 c0_i32_520
  let v985 : BitVec 32 := Scalar.extui v984
  let c0_i32_521 : BitVec 32 := 0#32
  let v986 : BitVec 1 := Scalar.cmpi .slt c128_i32_517 c0_i32_521
  let v987 : BitVec 32 := Scalar.extui v986
  let v988 : BitVec 32 := Scalar.subi v985 v987
  let v989 : BitVec 1 := Scalar.cmpi .ne v983 v988
  let v990 : BitVec 32 := Scalar.remsi v977 c128_i32_517
  let c0_i32_522 : BitVec 32 := 0#32
  let v991 : BitVec 1 := Scalar.cmpi .ne v990 c0_i32_522
  let v992 : BitVec 1 := Scalar.andi v989 v991
  let v978 : BitVec 32 := Scalar.divsi v977 c128_i32_517
  let c1_i32_523 : BitVec 32 := 1#32
  let v993 : BitVec 32 := Scalar.subi v978 c1_i32_523
  let v994 : BitVec 32 := Scalar.select v992 v993 v978
  let c128_i32_524 : BitVec 32 := 128#32
  let v995 : BitVec 32 := Scalar.muli v994 c128_i32_524
  let v996 : BitVec 32 := Scalar.maxsi c0_i32_525 v995
  let v997 : BitVec 32 := Scalar.minsi c99872_i32_526 v996
  let v998 : BitVec 32 := v997
  ![36, v998.toNat]

def k1_chk37 (v977 : BitVec 32) : Prop :=
  (32 ∣ (k1_mult37 v977).toNat) ∧
  (∀ a, (k1_off37 v977) a + S1x128.size a ≤ S128x100000.size a)
theorem k1_mult37_dvd : ∀ (v977 : BitVec 32) (k1_hw37 : k1_chk37 v977), 32 ∣ (k1_mult37 v977).toNat := fun v977 k1_hw37 => k1_hw37.1
theorem k1_off37_inb : ∀ (v977 : BitVec 32) (k1_hw37 : k1_chk37 v977), ∀ a, (k1_off37 v977) a + S1x128.size a ≤ S128x100000.size a := fun v977 k1_hw37 => k1_hw37.2

def k1_mult38 (v1003 : BitVec 32) : BitVec 32 :=
  let c99872_i32_540 : BitVec 32 := 99872#32
  let c0_i32_539 : BitVec 32 := 0#32
  let c0_i32_532 : BitVec 32 := 0#32
  let v1005 : BitVec 1 := Scalar.cmpi .sgt v1003 c0_i32_532
  let v1006 : BitVec 32 := Scalar.extui v1005
  let c0_i32_533 : BitVec 32 := 0#32
  let v1007 : BitVec 1 := Scalar.cmpi .slt v1003 c0_i32_533
  let v1008 : BitVec 32 := Scalar.extui v1007
  let v1009 : BitVec 32 := Scalar.subi v1006 v1008
  let c128_i32_531 : BitVec 32 := 128#32
  let c0_i32_534 : BitVec 32 := 0#32
  let v1010 : BitVec 1 := Scalar.cmpi .sgt c128_i32_531 c0_i32_534
  let v1011 : BitVec 32 := Scalar.extui v1010
  let c0_i32_535 : BitVec 32 := 0#32
  let v1012 : BitVec 1 := Scalar.cmpi .slt c128_i32_531 c0_i32_535
  let v1013 : BitVec 32 := Scalar.extui v1012
  let v1014 : BitVec 32 := Scalar.subi v1011 v1013
  let v1015 : BitVec 1 := Scalar.cmpi .ne v1009 v1014
  let v1016 : BitVec 32 := Scalar.remsi v1003 c128_i32_531
  let c0_i32_536 : BitVec 32 := 0#32
  let v1017 : BitVec 1 := Scalar.cmpi .ne v1016 c0_i32_536
  let v1018 : BitVec 1 := Scalar.andi v1015 v1017
  let v1004 : BitVec 32 := Scalar.divsi v1003 c128_i32_531
  let c1_i32_537 : BitVec 32 := 1#32
  let v1019 : BitVec 32 := Scalar.subi v1004 c1_i32_537
  let v1020 : BitVec 32 := Scalar.select v1018 v1019 v1004
  let c128_i32_538 : BitVec 32 := 128#32
  let v1021 : BitVec 32 := Scalar.muli v1020 c128_i32_538
  let v1022 : BitVec 32 := Scalar.maxsi c0_i32_539 v1021
  let v1023 : BitVec 32 := Scalar.minsi c99872_i32_540 v1022
  v1023

def k1_off38 (v1003 : BitVec 32) : Fin 2 → Nat :=
  let c37_i32_541 : BitVec 32 := 37#32
  let c99872_i32_540 : BitVec 32 := 99872#32
  let c0_i32_539 : BitVec 32 := 0#32
  let c0_i32_532 : BitVec 32 := 0#32
  let v1005 : BitVec 1 := Scalar.cmpi .sgt v1003 c0_i32_532
  let v1006 : BitVec 32 := Scalar.extui v1005
  let c0_i32_533 : BitVec 32 := 0#32
  let v1007 : BitVec 1 := Scalar.cmpi .slt v1003 c0_i32_533
  let v1008 : BitVec 32 := Scalar.extui v1007
  let v1009 : BitVec 32 := Scalar.subi v1006 v1008
  let c128_i32_531 : BitVec 32 := 128#32
  let c0_i32_534 : BitVec 32 := 0#32
  let v1010 : BitVec 1 := Scalar.cmpi .sgt c128_i32_531 c0_i32_534
  let v1011 : BitVec 32 := Scalar.extui v1010
  let c0_i32_535 : BitVec 32 := 0#32
  let v1012 : BitVec 1 := Scalar.cmpi .slt c128_i32_531 c0_i32_535
  let v1013 : BitVec 32 := Scalar.extui v1012
  let v1014 : BitVec 32 := Scalar.subi v1011 v1013
  let v1015 : BitVec 1 := Scalar.cmpi .ne v1009 v1014
  let v1016 : BitVec 32 := Scalar.remsi v1003 c128_i32_531
  let c0_i32_536 : BitVec 32 := 0#32
  let v1017 : BitVec 1 := Scalar.cmpi .ne v1016 c0_i32_536
  let v1018 : BitVec 1 := Scalar.andi v1015 v1017
  let v1004 : BitVec 32 := Scalar.divsi v1003 c128_i32_531
  let c1_i32_537 : BitVec 32 := 1#32
  let v1019 : BitVec 32 := Scalar.subi v1004 c1_i32_537
  let v1020 : BitVec 32 := Scalar.select v1018 v1019 v1004
  let c128_i32_538 : BitVec 32 := 128#32
  let v1021 : BitVec 32 := Scalar.muli v1020 c128_i32_538
  let v1022 : BitVec 32 := Scalar.maxsi c0_i32_539 v1021
  let v1023 : BitVec 32 := Scalar.minsi c99872_i32_540 v1022
  let v1024 : BitVec 32 := v1023
  ![37, v1024.toNat]

def k1_chk38 (v1003 : BitVec 32) : Prop :=
  (32 ∣ (k1_mult38 v1003).toNat) ∧
  (∀ a, (k1_off38 v1003) a + S1x128.size a ≤ S128x100000.size a)
theorem k1_mult38_dvd : ∀ (v1003 : BitVec 32) (k1_hw38 : k1_chk38 v1003), 32 ∣ (k1_mult38 v1003).toNat := fun v1003 k1_hw38 => k1_hw38.1
theorem k1_off38_inb : ∀ (v1003 : BitVec 32) (k1_hw38 : k1_chk38 v1003), ∀ a, (k1_off38 v1003) a + S1x128.size a ≤ S128x100000.size a := fun v1003 k1_hw38 => k1_hw38.2

def k1_mult39 (v1029 : BitVec 32) : BitVec 32 :=
  let c99872_i32_554 : BitVec 32 := 99872#32
  let c0_i32_553 : BitVec 32 := 0#32
  let c0_i32_546 : BitVec 32 := 0#32
  let v1031 : BitVec 1 := Scalar.cmpi .sgt v1029 c0_i32_546
  let v1032 : BitVec 32 := Scalar.extui v1031
  let c0_i32_547 : BitVec 32 := 0#32
  let v1033 : BitVec 1 := Scalar.cmpi .slt v1029 c0_i32_547
  let v1034 : BitVec 32 := Scalar.extui v1033
  let v1035 : BitVec 32 := Scalar.subi v1032 v1034
  let c128_i32_545 : BitVec 32 := 128#32
  let c0_i32_548 : BitVec 32 := 0#32
  let v1036 : BitVec 1 := Scalar.cmpi .sgt c128_i32_545 c0_i32_548
  let v1037 : BitVec 32 := Scalar.extui v1036
  let c0_i32_549 : BitVec 32 := 0#32
  let v1038 : BitVec 1 := Scalar.cmpi .slt c128_i32_545 c0_i32_549
  let v1039 : BitVec 32 := Scalar.extui v1038
  let v1040 : BitVec 32 := Scalar.subi v1037 v1039
  let v1041 : BitVec 1 := Scalar.cmpi .ne v1035 v1040
  let v1042 : BitVec 32 := Scalar.remsi v1029 c128_i32_545
  let c0_i32_550 : BitVec 32 := 0#32
  let v1043 : BitVec 1 := Scalar.cmpi .ne v1042 c0_i32_550
  let v1044 : BitVec 1 := Scalar.andi v1041 v1043
  let v1030 : BitVec 32 := Scalar.divsi v1029 c128_i32_545
  let c1_i32_551 : BitVec 32 := 1#32
  let v1045 : BitVec 32 := Scalar.subi v1030 c1_i32_551
  let v1046 : BitVec 32 := Scalar.select v1044 v1045 v1030
  let c128_i32_552 : BitVec 32 := 128#32
  let v1047 : BitVec 32 := Scalar.muli v1046 c128_i32_552
  let v1048 : BitVec 32 := Scalar.maxsi c0_i32_553 v1047
  let v1049 : BitVec 32 := Scalar.minsi c99872_i32_554 v1048
  v1049

def k1_off39 (v1029 : BitVec 32) : Fin 2 → Nat :=
  let c38_i32_555 : BitVec 32 := 38#32
  let c99872_i32_554 : BitVec 32 := 99872#32
  let c0_i32_553 : BitVec 32 := 0#32
  let c0_i32_546 : BitVec 32 := 0#32
  let v1031 : BitVec 1 := Scalar.cmpi .sgt v1029 c0_i32_546
  let v1032 : BitVec 32 := Scalar.extui v1031
  let c0_i32_547 : BitVec 32 := 0#32
  let v1033 : BitVec 1 := Scalar.cmpi .slt v1029 c0_i32_547
  let v1034 : BitVec 32 := Scalar.extui v1033
  let v1035 : BitVec 32 := Scalar.subi v1032 v1034
  let c128_i32_545 : BitVec 32 := 128#32
  let c0_i32_548 : BitVec 32 := 0#32
  let v1036 : BitVec 1 := Scalar.cmpi .sgt c128_i32_545 c0_i32_548
  let v1037 : BitVec 32 := Scalar.extui v1036
  let c0_i32_549 : BitVec 32 := 0#32
  let v1038 : BitVec 1 := Scalar.cmpi .slt c128_i32_545 c0_i32_549
  let v1039 : BitVec 32 := Scalar.extui v1038
  let v1040 : BitVec 32 := Scalar.subi v1037 v1039
  let v1041 : BitVec 1 := Scalar.cmpi .ne v1035 v1040
  let v1042 : BitVec 32 := Scalar.remsi v1029 c128_i32_545
  let c0_i32_550 : BitVec 32 := 0#32
  let v1043 : BitVec 1 := Scalar.cmpi .ne v1042 c0_i32_550
  let v1044 : BitVec 1 := Scalar.andi v1041 v1043
  let v1030 : BitVec 32 := Scalar.divsi v1029 c128_i32_545
  let c1_i32_551 : BitVec 32 := 1#32
  let v1045 : BitVec 32 := Scalar.subi v1030 c1_i32_551
  let v1046 : BitVec 32 := Scalar.select v1044 v1045 v1030
  let c128_i32_552 : BitVec 32 := 128#32
  let v1047 : BitVec 32 := Scalar.muli v1046 c128_i32_552
  let v1048 : BitVec 32 := Scalar.maxsi c0_i32_553 v1047
  let v1049 : BitVec 32 := Scalar.minsi c99872_i32_554 v1048
  let v1050 : BitVec 32 := v1049
  ![38, v1050.toNat]

def k1_chk39 (v1029 : BitVec 32) : Prop :=
  (32 ∣ (k1_mult39 v1029).toNat) ∧
  (∀ a, (k1_off39 v1029) a + S1x128.size a ≤ S128x100000.size a)
theorem k1_mult39_dvd : ∀ (v1029 : BitVec 32) (k1_hw39 : k1_chk39 v1029), 32 ∣ (k1_mult39 v1029).toNat := fun v1029 k1_hw39 => k1_hw39.1
theorem k1_off39_inb : ∀ (v1029 : BitVec 32) (k1_hw39 : k1_chk39 v1029), ∀ a, (k1_off39 v1029) a + S1x128.size a ≤ S128x100000.size a := fun v1029 k1_hw39 => k1_hw39.2

def k1_mult40 (v1055 : BitVec 32) : BitVec 32 :=
  let c99872_i32_568 : BitVec 32 := 99872#32
  let c0_i32_567 : BitVec 32 := 0#32
  let c0_i32_560 : BitVec 32 := 0#32
  let v1057 : BitVec 1 := Scalar.cmpi .sgt v1055 c0_i32_560
  let v1058 : BitVec 32 := Scalar.extui v1057
  let c0_i32_561 : BitVec 32 := 0#32
  let v1059 : BitVec 1 := Scalar.cmpi .slt v1055 c0_i32_561
  let v1060 : BitVec 32 := Scalar.extui v1059
  let v1061 : BitVec 32 := Scalar.subi v1058 v1060
  let c128_i32_559 : BitVec 32 := 128#32
  let c0_i32_562 : BitVec 32 := 0#32
  let v1062 : BitVec 1 := Scalar.cmpi .sgt c128_i32_559 c0_i32_562
  let v1063 : BitVec 32 := Scalar.extui v1062
  let c0_i32_563 : BitVec 32 := 0#32
  let v1064 : BitVec 1 := Scalar.cmpi .slt c128_i32_559 c0_i32_563
  let v1065 : BitVec 32 := Scalar.extui v1064
  let v1066 : BitVec 32 := Scalar.subi v1063 v1065
  let v1067 : BitVec 1 := Scalar.cmpi .ne v1061 v1066
  let v1068 : BitVec 32 := Scalar.remsi v1055 c128_i32_559
  let c0_i32_564 : BitVec 32 := 0#32
  let v1069 : BitVec 1 := Scalar.cmpi .ne v1068 c0_i32_564
  let v1070 : BitVec 1 := Scalar.andi v1067 v1069
  let v1056 : BitVec 32 := Scalar.divsi v1055 c128_i32_559
  let c1_i32_565 : BitVec 32 := 1#32
  let v1071 : BitVec 32 := Scalar.subi v1056 c1_i32_565
  let v1072 : BitVec 32 := Scalar.select v1070 v1071 v1056
  let c128_i32_566 : BitVec 32 := 128#32
  let v1073 : BitVec 32 := Scalar.muli v1072 c128_i32_566
  let v1074 : BitVec 32 := Scalar.maxsi c0_i32_567 v1073
  let v1075 : BitVec 32 := Scalar.minsi c99872_i32_568 v1074
  v1075

def k1_off40 (v1055 : BitVec 32) : Fin 2 → Nat :=
  let c39_i32_569 : BitVec 32 := 39#32
  let c99872_i32_568 : BitVec 32 := 99872#32
  let c0_i32_567 : BitVec 32 := 0#32
  let c0_i32_560 : BitVec 32 := 0#32
  let v1057 : BitVec 1 := Scalar.cmpi .sgt v1055 c0_i32_560
  let v1058 : BitVec 32 := Scalar.extui v1057
  let c0_i32_561 : BitVec 32 := 0#32
  let v1059 : BitVec 1 := Scalar.cmpi .slt v1055 c0_i32_561
  let v1060 : BitVec 32 := Scalar.extui v1059
  let v1061 : BitVec 32 := Scalar.subi v1058 v1060
  let c128_i32_559 : BitVec 32 := 128#32
  let c0_i32_562 : BitVec 32 := 0#32
  let v1062 : BitVec 1 := Scalar.cmpi .sgt c128_i32_559 c0_i32_562
  let v1063 : BitVec 32 := Scalar.extui v1062
  let c0_i32_563 : BitVec 32 := 0#32
  let v1064 : BitVec 1 := Scalar.cmpi .slt c128_i32_559 c0_i32_563
  let v1065 : BitVec 32 := Scalar.extui v1064
  let v1066 : BitVec 32 := Scalar.subi v1063 v1065
  let v1067 : BitVec 1 := Scalar.cmpi .ne v1061 v1066
  let v1068 : BitVec 32 := Scalar.remsi v1055 c128_i32_559
  let c0_i32_564 : BitVec 32 := 0#32
  let v1069 : BitVec 1 := Scalar.cmpi .ne v1068 c0_i32_564
  let v1070 : BitVec 1 := Scalar.andi v1067 v1069
  let v1056 : BitVec 32 := Scalar.divsi v1055 c128_i32_559
  let c1_i32_565 : BitVec 32 := 1#32
  let v1071 : BitVec 32 := Scalar.subi v1056 c1_i32_565
  let v1072 : BitVec 32 := Scalar.select v1070 v1071 v1056
  let c128_i32_566 : BitVec 32 := 128#32
  let v1073 : BitVec 32 := Scalar.muli v1072 c128_i32_566
  let v1074 : BitVec 32 := Scalar.maxsi c0_i32_567 v1073
  let v1075 : BitVec 32 := Scalar.minsi c99872_i32_568 v1074
  let v1076 : BitVec 32 := v1075
  ![39, v1076.toNat]

def k1_chk40 (v1055 : BitVec 32) : Prop :=
  (32 ∣ (k1_mult40 v1055).toNat) ∧
  (∀ a, (k1_off40 v1055) a + S1x128.size a ≤ S128x100000.size a)
theorem k1_mult40_dvd : ∀ (v1055 : BitVec 32) (k1_hw40 : k1_chk40 v1055), 32 ∣ (k1_mult40 v1055).toNat := fun v1055 k1_hw40 => k1_hw40.1
theorem k1_off40_inb : ∀ (v1055 : BitVec 32) (k1_hw40 : k1_chk40 v1055), ∀ a, (k1_off40 v1055) a + S1x128.size a ≤ S128x100000.size a := fun v1055 k1_hw40 => k1_hw40.2

def k1_mult41 (v1081 : BitVec 32) : BitVec 32 :=
  let c99872_i32_582 : BitVec 32 := 99872#32
  let c0_i32_581 : BitVec 32 := 0#32
  let c0_i32_574 : BitVec 32 := 0#32
  let v1083 : BitVec 1 := Scalar.cmpi .sgt v1081 c0_i32_574
  let v1084 : BitVec 32 := Scalar.extui v1083
  let c0_i32_575 : BitVec 32 := 0#32
  let v1085 : BitVec 1 := Scalar.cmpi .slt v1081 c0_i32_575
  let v1086 : BitVec 32 := Scalar.extui v1085
  let v1087 : BitVec 32 := Scalar.subi v1084 v1086
  let c128_i32_573 : BitVec 32 := 128#32
  let c0_i32_576 : BitVec 32 := 0#32
  let v1088 : BitVec 1 := Scalar.cmpi .sgt c128_i32_573 c0_i32_576
  let v1089 : BitVec 32 := Scalar.extui v1088
  let c0_i32_577 : BitVec 32 := 0#32
  let v1090 : BitVec 1 := Scalar.cmpi .slt c128_i32_573 c0_i32_577
  let v1091 : BitVec 32 := Scalar.extui v1090
  let v1092 : BitVec 32 := Scalar.subi v1089 v1091
  let v1093 : BitVec 1 := Scalar.cmpi .ne v1087 v1092
  let v1094 : BitVec 32 := Scalar.remsi v1081 c128_i32_573
  let c0_i32_578 : BitVec 32 := 0#32
  let v1095 : BitVec 1 := Scalar.cmpi .ne v1094 c0_i32_578
  let v1096 : BitVec 1 := Scalar.andi v1093 v1095
  let v1082 : BitVec 32 := Scalar.divsi v1081 c128_i32_573
  let c1_i32_579 : BitVec 32 := 1#32
  let v1097 : BitVec 32 := Scalar.subi v1082 c1_i32_579
  let v1098 : BitVec 32 := Scalar.select v1096 v1097 v1082
  let c128_i32_580 : BitVec 32 := 128#32
  let v1099 : BitVec 32 := Scalar.muli v1098 c128_i32_580
  let v1100 : BitVec 32 := Scalar.maxsi c0_i32_581 v1099
  let v1101 : BitVec 32 := Scalar.minsi c99872_i32_582 v1100
  v1101

def k1_off41 (v1081 : BitVec 32) : Fin 2 → Nat :=
  let c40_i32_583 : BitVec 32 := 40#32
  let c99872_i32_582 : BitVec 32 := 99872#32
  let c0_i32_581 : BitVec 32 := 0#32
  let c0_i32_574 : BitVec 32 := 0#32
  let v1083 : BitVec 1 := Scalar.cmpi .sgt v1081 c0_i32_574
  let v1084 : BitVec 32 := Scalar.extui v1083
  let c0_i32_575 : BitVec 32 := 0#32
  let v1085 : BitVec 1 := Scalar.cmpi .slt v1081 c0_i32_575
  let v1086 : BitVec 32 := Scalar.extui v1085
  let v1087 : BitVec 32 := Scalar.subi v1084 v1086
  let c128_i32_573 : BitVec 32 := 128#32
  let c0_i32_576 : BitVec 32 := 0#32
  let v1088 : BitVec 1 := Scalar.cmpi .sgt c128_i32_573 c0_i32_576
  let v1089 : BitVec 32 := Scalar.extui v1088
  let c0_i32_577 : BitVec 32 := 0#32
  let v1090 : BitVec 1 := Scalar.cmpi .slt c128_i32_573 c0_i32_577
  let v1091 : BitVec 32 := Scalar.extui v1090
  let v1092 : BitVec 32 := Scalar.subi v1089 v1091
  let v1093 : BitVec 1 := Scalar.cmpi .ne v1087 v1092
  let v1094 : BitVec 32 := Scalar.remsi v1081 c128_i32_573
  let c0_i32_578 : BitVec 32 := 0#32
  let v1095 : BitVec 1 := Scalar.cmpi .ne v1094 c0_i32_578
  let v1096 : BitVec 1 := Scalar.andi v1093 v1095
  let v1082 : BitVec 32 := Scalar.divsi v1081 c128_i32_573
  let c1_i32_579 : BitVec 32 := 1#32
  let v1097 : BitVec 32 := Scalar.subi v1082 c1_i32_579
  let v1098 : BitVec 32 := Scalar.select v1096 v1097 v1082
  let c128_i32_580 : BitVec 32 := 128#32
  let v1099 : BitVec 32 := Scalar.muli v1098 c128_i32_580
  let v1100 : BitVec 32 := Scalar.maxsi c0_i32_581 v1099
  let v1101 : BitVec 32 := Scalar.minsi c99872_i32_582 v1100
  let v1102 : BitVec 32 := v1101
  ![40, v1102.toNat]

def k1_chk41 (v1081 : BitVec 32) : Prop :=
  (32 ∣ (k1_mult41 v1081).toNat) ∧
  (∀ a, (k1_off41 v1081) a + S1x128.size a ≤ S128x100000.size a)
theorem k1_mult41_dvd : ∀ (v1081 : BitVec 32) (k1_hw41 : k1_chk41 v1081), 32 ∣ (k1_mult41 v1081).toNat := fun v1081 k1_hw41 => k1_hw41.1
theorem k1_off41_inb : ∀ (v1081 : BitVec 32) (k1_hw41 : k1_chk41 v1081), ∀ a, (k1_off41 v1081) a + S1x128.size a ≤ S128x100000.size a := fun v1081 k1_hw41 => k1_hw41.2

def k1_mult42 (v1107 : BitVec 32) : BitVec 32 :=
  let c99872_i32_596 : BitVec 32 := 99872#32
  let c0_i32_595 : BitVec 32 := 0#32
  let c0_i32_588 : BitVec 32 := 0#32
  let v1109 : BitVec 1 := Scalar.cmpi .sgt v1107 c0_i32_588
  let v1110 : BitVec 32 := Scalar.extui v1109
  let c0_i32_589 : BitVec 32 := 0#32
  let v1111 : BitVec 1 := Scalar.cmpi .slt v1107 c0_i32_589
  let v1112 : BitVec 32 := Scalar.extui v1111
  let v1113 : BitVec 32 := Scalar.subi v1110 v1112
  let c128_i32_587 : BitVec 32 := 128#32
  let c0_i32_590 : BitVec 32 := 0#32
  let v1114 : BitVec 1 := Scalar.cmpi .sgt c128_i32_587 c0_i32_590
  let v1115 : BitVec 32 := Scalar.extui v1114
  let c0_i32_591 : BitVec 32 := 0#32
  let v1116 : BitVec 1 := Scalar.cmpi .slt c128_i32_587 c0_i32_591
  let v1117 : BitVec 32 := Scalar.extui v1116
  let v1118 : BitVec 32 := Scalar.subi v1115 v1117
  let v1119 : BitVec 1 := Scalar.cmpi .ne v1113 v1118
  let v1120 : BitVec 32 := Scalar.remsi v1107 c128_i32_587
  let c0_i32_592 : BitVec 32 := 0#32
  let v1121 : BitVec 1 := Scalar.cmpi .ne v1120 c0_i32_592
  let v1122 : BitVec 1 := Scalar.andi v1119 v1121
  let v1108 : BitVec 32 := Scalar.divsi v1107 c128_i32_587
  let c1_i32_593 : BitVec 32 := 1#32
  let v1123 : BitVec 32 := Scalar.subi v1108 c1_i32_593
  let v1124 : BitVec 32 := Scalar.select v1122 v1123 v1108
  let c128_i32_594 : BitVec 32 := 128#32
  let v1125 : BitVec 32 := Scalar.muli v1124 c128_i32_594
  let v1126 : BitVec 32 := Scalar.maxsi c0_i32_595 v1125
  let v1127 : BitVec 32 := Scalar.minsi c99872_i32_596 v1126
  v1127

def k1_off42 (v1107 : BitVec 32) : Fin 2 → Nat :=
  let c41_i32_597 : BitVec 32 := 41#32
  let c99872_i32_596 : BitVec 32 := 99872#32
  let c0_i32_595 : BitVec 32 := 0#32
  let c0_i32_588 : BitVec 32 := 0#32
  let v1109 : BitVec 1 := Scalar.cmpi .sgt v1107 c0_i32_588
  let v1110 : BitVec 32 := Scalar.extui v1109
  let c0_i32_589 : BitVec 32 := 0#32
  let v1111 : BitVec 1 := Scalar.cmpi .slt v1107 c0_i32_589
  let v1112 : BitVec 32 := Scalar.extui v1111
  let v1113 : BitVec 32 := Scalar.subi v1110 v1112
  let c128_i32_587 : BitVec 32 := 128#32
  let c0_i32_590 : BitVec 32 := 0#32
  let v1114 : BitVec 1 := Scalar.cmpi .sgt c128_i32_587 c0_i32_590
  let v1115 : BitVec 32 := Scalar.extui v1114
  let c0_i32_591 : BitVec 32 := 0#32
  let v1116 : BitVec 1 := Scalar.cmpi .slt c128_i32_587 c0_i32_591
  let v1117 : BitVec 32 := Scalar.extui v1116
  let v1118 : BitVec 32 := Scalar.subi v1115 v1117
  let v1119 : BitVec 1 := Scalar.cmpi .ne v1113 v1118
  let v1120 : BitVec 32 := Scalar.remsi v1107 c128_i32_587
  let c0_i32_592 : BitVec 32 := 0#32
  let v1121 : BitVec 1 := Scalar.cmpi .ne v1120 c0_i32_592
  let v1122 : BitVec 1 := Scalar.andi v1119 v1121
  let v1108 : BitVec 32 := Scalar.divsi v1107 c128_i32_587
  let c1_i32_593 : BitVec 32 := 1#32
  let v1123 : BitVec 32 := Scalar.subi v1108 c1_i32_593
  let v1124 : BitVec 32 := Scalar.select v1122 v1123 v1108
  let c128_i32_594 : BitVec 32 := 128#32
  let v1125 : BitVec 32 := Scalar.muli v1124 c128_i32_594
  let v1126 : BitVec 32 := Scalar.maxsi c0_i32_595 v1125
  let v1127 : BitVec 32 := Scalar.minsi c99872_i32_596 v1126
  let v1128 : BitVec 32 := v1127
  ![41, v1128.toNat]

def k1_chk42 (v1107 : BitVec 32) : Prop :=
  (32 ∣ (k1_mult42 v1107).toNat) ∧
  (∀ a, (k1_off42 v1107) a + S1x128.size a ≤ S128x100000.size a)
theorem k1_mult42_dvd : ∀ (v1107 : BitVec 32) (k1_hw42 : k1_chk42 v1107), 32 ∣ (k1_mult42 v1107).toNat := fun v1107 k1_hw42 => k1_hw42.1
theorem k1_off42_inb : ∀ (v1107 : BitVec 32) (k1_hw42 : k1_chk42 v1107), ∀ a, (k1_off42 v1107) a + S1x128.size a ≤ S128x100000.size a := fun v1107 k1_hw42 => k1_hw42.2

def k1_mult43 (v1133 : BitVec 32) : BitVec 32 :=
  let c99872_i32_610 : BitVec 32 := 99872#32
  let c0_i32_609 : BitVec 32 := 0#32
  let c0_i32_602 : BitVec 32 := 0#32
  let v1135 : BitVec 1 := Scalar.cmpi .sgt v1133 c0_i32_602
  let v1136 : BitVec 32 := Scalar.extui v1135
  let c0_i32_603 : BitVec 32 := 0#32
  let v1137 : BitVec 1 := Scalar.cmpi .slt v1133 c0_i32_603
  let v1138 : BitVec 32 := Scalar.extui v1137
  let v1139 : BitVec 32 := Scalar.subi v1136 v1138
  let c128_i32_601 : BitVec 32 := 128#32
  let c0_i32_604 : BitVec 32 := 0#32
  let v1140 : BitVec 1 := Scalar.cmpi .sgt c128_i32_601 c0_i32_604
  let v1141 : BitVec 32 := Scalar.extui v1140
  let c0_i32_605 : BitVec 32 := 0#32
  let v1142 : BitVec 1 := Scalar.cmpi .slt c128_i32_601 c0_i32_605
  let v1143 : BitVec 32 := Scalar.extui v1142
  let v1144 : BitVec 32 := Scalar.subi v1141 v1143
  let v1145 : BitVec 1 := Scalar.cmpi .ne v1139 v1144
  let v1146 : BitVec 32 := Scalar.remsi v1133 c128_i32_601
  let c0_i32_606 : BitVec 32 := 0#32
  let v1147 : BitVec 1 := Scalar.cmpi .ne v1146 c0_i32_606
  let v1148 : BitVec 1 := Scalar.andi v1145 v1147
  let v1134 : BitVec 32 := Scalar.divsi v1133 c128_i32_601
  let c1_i32_607 : BitVec 32 := 1#32
  let v1149 : BitVec 32 := Scalar.subi v1134 c1_i32_607
  let v1150 : BitVec 32 := Scalar.select v1148 v1149 v1134
  let c128_i32_608 : BitVec 32 := 128#32
  let v1151 : BitVec 32 := Scalar.muli v1150 c128_i32_608
  let v1152 : BitVec 32 := Scalar.maxsi c0_i32_609 v1151
  let v1153 : BitVec 32 := Scalar.minsi c99872_i32_610 v1152
  v1153

def k1_off43 (v1133 : BitVec 32) : Fin 2 → Nat :=
  let c42_i32_611 : BitVec 32 := 42#32
  let c99872_i32_610 : BitVec 32 := 99872#32
  let c0_i32_609 : BitVec 32 := 0#32
  let c0_i32_602 : BitVec 32 := 0#32
  let v1135 : BitVec 1 := Scalar.cmpi .sgt v1133 c0_i32_602
  let v1136 : BitVec 32 := Scalar.extui v1135
  let c0_i32_603 : BitVec 32 := 0#32
  let v1137 : BitVec 1 := Scalar.cmpi .slt v1133 c0_i32_603
  let v1138 : BitVec 32 := Scalar.extui v1137
  let v1139 : BitVec 32 := Scalar.subi v1136 v1138
  let c128_i32_601 : BitVec 32 := 128#32
  let c0_i32_604 : BitVec 32 := 0#32
  let v1140 : BitVec 1 := Scalar.cmpi .sgt c128_i32_601 c0_i32_604
  let v1141 : BitVec 32 := Scalar.extui v1140
  let c0_i32_605 : BitVec 32 := 0#32
  let v1142 : BitVec 1 := Scalar.cmpi .slt c128_i32_601 c0_i32_605
  let v1143 : BitVec 32 := Scalar.extui v1142
  let v1144 : BitVec 32 := Scalar.subi v1141 v1143
  let v1145 : BitVec 1 := Scalar.cmpi .ne v1139 v1144
  let v1146 : BitVec 32 := Scalar.remsi v1133 c128_i32_601
  let c0_i32_606 : BitVec 32 := 0#32
  let v1147 : BitVec 1 := Scalar.cmpi .ne v1146 c0_i32_606
  let v1148 : BitVec 1 := Scalar.andi v1145 v1147
  let v1134 : BitVec 32 := Scalar.divsi v1133 c128_i32_601
  let c1_i32_607 : BitVec 32 := 1#32
  let v1149 : BitVec 32 := Scalar.subi v1134 c1_i32_607
  let v1150 : BitVec 32 := Scalar.select v1148 v1149 v1134
  let c128_i32_608 : BitVec 32 := 128#32
  let v1151 : BitVec 32 := Scalar.muli v1150 c128_i32_608
  let v1152 : BitVec 32 := Scalar.maxsi c0_i32_609 v1151
  let v1153 : BitVec 32 := Scalar.minsi c99872_i32_610 v1152
  let v1154 : BitVec 32 := v1153
  ![42, v1154.toNat]

def k1_chk43 (v1133 : BitVec 32) : Prop :=
  (32 ∣ (k1_mult43 v1133).toNat) ∧
  (∀ a, (k1_off43 v1133) a + S1x128.size a ≤ S128x100000.size a)
theorem k1_mult43_dvd : ∀ (v1133 : BitVec 32) (k1_hw43 : k1_chk43 v1133), 32 ∣ (k1_mult43 v1133).toNat := fun v1133 k1_hw43 => k1_hw43.1
theorem k1_off43_inb : ∀ (v1133 : BitVec 32) (k1_hw43 : k1_chk43 v1133), ∀ a, (k1_off43 v1133) a + S1x128.size a ≤ S128x100000.size a := fun v1133 k1_hw43 => k1_hw43.2

def k1_mult44 (v1159 : BitVec 32) : BitVec 32 :=
  let c99872_i32_624 : BitVec 32 := 99872#32
  let c0_i32_623 : BitVec 32 := 0#32
  let c0_i32_616 : BitVec 32 := 0#32
  let v1161 : BitVec 1 := Scalar.cmpi .sgt v1159 c0_i32_616
  let v1162 : BitVec 32 := Scalar.extui v1161
  let c0_i32_617 : BitVec 32 := 0#32
  let v1163 : BitVec 1 := Scalar.cmpi .slt v1159 c0_i32_617
  let v1164 : BitVec 32 := Scalar.extui v1163
  let v1165 : BitVec 32 := Scalar.subi v1162 v1164
  let c128_i32_615 : BitVec 32 := 128#32
  let c0_i32_618 : BitVec 32 := 0#32
  let v1166 : BitVec 1 := Scalar.cmpi .sgt c128_i32_615 c0_i32_618
  let v1167 : BitVec 32 := Scalar.extui v1166
  let c0_i32_619 : BitVec 32 := 0#32
  let v1168 : BitVec 1 := Scalar.cmpi .slt c128_i32_615 c0_i32_619
  let v1169 : BitVec 32 := Scalar.extui v1168
  let v1170 : BitVec 32 := Scalar.subi v1167 v1169
  let v1171 : BitVec 1 := Scalar.cmpi .ne v1165 v1170
  let v1172 : BitVec 32 := Scalar.remsi v1159 c128_i32_615
  let c0_i32_620 : BitVec 32 := 0#32
  let v1173 : BitVec 1 := Scalar.cmpi .ne v1172 c0_i32_620
  let v1174 : BitVec 1 := Scalar.andi v1171 v1173
  let v1160 : BitVec 32 := Scalar.divsi v1159 c128_i32_615
  let c1_i32_621 : BitVec 32 := 1#32
  let v1175 : BitVec 32 := Scalar.subi v1160 c1_i32_621
  let v1176 : BitVec 32 := Scalar.select v1174 v1175 v1160
  let c128_i32_622 : BitVec 32 := 128#32
  let v1177 : BitVec 32 := Scalar.muli v1176 c128_i32_622
  let v1178 : BitVec 32 := Scalar.maxsi c0_i32_623 v1177
  let v1179 : BitVec 32 := Scalar.minsi c99872_i32_624 v1178
  v1179

def k1_off44 (v1159 : BitVec 32) : Fin 2 → Nat :=
  let c43_i32_625 : BitVec 32 := 43#32
  let c99872_i32_624 : BitVec 32 := 99872#32
  let c0_i32_623 : BitVec 32 := 0#32
  let c0_i32_616 : BitVec 32 := 0#32
  let v1161 : BitVec 1 := Scalar.cmpi .sgt v1159 c0_i32_616
  let v1162 : BitVec 32 := Scalar.extui v1161
  let c0_i32_617 : BitVec 32 := 0#32
  let v1163 : BitVec 1 := Scalar.cmpi .slt v1159 c0_i32_617
  let v1164 : BitVec 32 := Scalar.extui v1163
  let v1165 : BitVec 32 := Scalar.subi v1162 v1164
  let c128_i32_615 : BitVec 32 := 128#32
  let c0_i32_618 : BitVec 32 := 0#32
  let v1166 : BitVec 1 := Scalar.cmpi .sgt c128_i32_615 c0_i32_618
  let v1167 : BitVec 32 := Scalar.extui v1166
  let c0_i32_619 : BitVec 32 := 0#32
  let v1168 : BitVec 1 := Scalar.cmpi .slt c128_i32_615 c0_i32_619
  let v1169 : BitVec 32 := Scalar.extui v1168
  let v1170 : BitVec 32 := Scalar.subi v1167 v1169
  let v1171 : BitVec 1 := Scalar.cmpi .ne v1165 v1170
  let v1172 : BitVec 32 := Scalar.remsi v1159 c128_i32_615
  let c0_i32_620 : BitVec 32 := 0#32
  let v1173 : BitVec 1 := Scalar.cmpi .ne v1172 c0_i32_620
  let v1174 : BitVec 1 := Scalar.andi v1171 v1173
  let v1160 : BitVec 32 := Scalar.divsi v1159 c128_i32_615
  let c1_i32_621 : BitVec 32 := 1#32
  let v1175 : BitVec 32 := Scalar.subi v1160 c1_i32_621
  let v1176 : BitVec 32 := Scalar.select v1174 v1175 v1160
  let c128_i32_622 : BitVec 32 := 128#32
  let v1177 : BitVec 32 := Scalar.muli v1176 c128_i32_622
  let v1178 : BitVec 32 := Scalar.maxsi c0_i32_623 v1177
  let v1179 : BitVec 32 := Scalar.minsi c99872_i32_624 v1178
  let v1180 : BitVec 32 := v1179
  ![43, v1180.toNat]

def k1_chk44 (v1159 : BitVec 32) : Prop :=
  (32 ∣ (k1_mult44 v1159).toNat) ∧
  (∀ a, (k1_off44 v1159) a + S1x128.size a ≤ S128x100000.size a)
theorem k1_mult44_dvd : ∀ (v1159 : BitVec 32) (k1_hw44 : k1_chk44 v1159), 32 ∣ (k1_mult44 v1159).toNat := fun v1159 k1_hw44 => k1_hw44.1
theorem k1_off44_inb : ∀ (v1159 : BitVec 32) (k1_hw44 : k1_chk44 v1159), ∀ a, (k1_off44 v1159) a + S1x128.size a ≤ S128x100000.size a := fun v1159 k1_hw44 => k1_hw44.2

def k1_mult45 (v1185 : BitVec 32) : BitVec 32 :=
  let c99872_i32_638 : BitVec 32 := 99872#32
  let c0_i32_637 : BitVec 32 := 0#32
  let c0_i32_630 : BitVec 32 := 0#32
  let v1187 : BitVec 1 := Scalar.cmpi .sgt v1185 c0_i32_630
  let v1188 : BitVec 32 := Scalar.extui v1187
  let c0_i32_631 : BitVec 32 := 0#32
  let v1189 : BitVec 1 := Scalar.cmpi .slt v1185 c0_i32_631
  let v1190 : BitVec 32 := Scalar.extui v1189
  let v1191 : BitVec 32 := Scalar.subi v1188 v1190
  let c128_i32_629 : BitVec 32 := 128#32
  let c0_i32_632 : BitVec 32 := 0#32
  let v1192 : BitVec 1 := Scalar.cmpi .sgt c128_i32_629 c0_i32_632
  let v1193 : BitVec 32 := Scalar.extui v1192
  let c0_i32_633 : BitVec 32 := 0#32
  let v1194 : BitVec 1 := Scalar.cmpi .slt c128_i32_629 c0_i32_633
  let v1195 : BitVec 32 := Scalar.extui v1194
  let v1196 : BitVec 32 := Scalar.subi v1193 v1195
  let v1197 : BitVec 1 := Scalar.cmpi .ne v1191 v1196
  let v1198 : BitVec 32 := Scalar.remsi v1185 c128_i32_629
  let c0_i32_634 : BitVec 32 := 0#32
  let v1199 : BitVec 1 := Scalar.cmpi .ne v1198 c0_i32_634
  let v1200 : BitVec 1 := Scalar.andi v1197 v1199
  let v1186 : BitVec 32 := Scalar.divsi v1185 c128_i32_629
  let c1_i32_635 : BitVec 32 := 1#32
  let v1201 : BitVec 32 := Scalar.subi v1186 c1_i32_635
  let v1202 : BitVec 32 := Scalar.select v1200 v1201 v1186
  let c128_i32_636 : BitVec 32 := 128#32
  let v1203 : BitVec 32 := Scalar.muli v1202 c128_i32_636
  let v1204 : BitVec 32 := Scalar.maxsi c0_i32_637 v1203
  let v1205 : BitVec 32 := Scalar.minsi c99872_i32_638 v1204
  v1205

def k1_off45 (v1185 : BitVec 32) : Fin 2 → Nat :=
  let c44_i32_639 : BitVec 32 := 44#32
  let c99872_i32_638 : BitVec 32 := 99872#32
  let c0_i32_637 : BitVec 32 := 0#32
  let c0_i32_630 : BitVec 32 := 0#32
  let v1187 : BitVec 1 := Scalar.cmpi .sgt v1185 c0_i32_630
  let v1188 : BitVec 32 := Scalar.extui v1187
  let c0_i32_631 : BitVec 32 := 0#32
  let v1189 : BitVec 1 := Scalar.cmpi .slt v1185 c0_i32_631
  let v1190 : BitVec 32 := Scalar.extui v1189
  let v1191 : BitVec 32 := Scalar.subi v1188 v1190
  let c128_i32_629 : BitVec 32 := 128#32
  let c0_i32_632 : BitVec 32 := 0#32
  let v1192 : BitVec 1 := Scalar.cmpi .sgt c128_i32_629 c0_i32_632
  let v1193 : BitVec 32 := Scalar.extui v1192
  let c0_i32_633 : BitVec 32 := 0#32
  let v1194 : BitVec 1 := Scalar.cmpi .slt c128_i32_629 c0_i32_633
  let v1195 : BitVec 32 := Scalar.extui v1194
  let v1196 : BitVec 32 := Scalar.subi v1193 v1195
  let v1197 : BitVec 1 := Scalar.cmpi .ne v1191 v1196
  let v1198 : BitVec 32 := Scalar.remsi v1185 c128_i32_629
  let c0_i32_634 : BitVec 32 := 0#32
  let v1199 : BitVec 1 := Scalar.cmpi .ne v1198 c0_i32_634
  let v1200 : BitVec 1 := Scalar.andi v1197 v1199
  let v1186 : BitVec 32 := Scalar.divsi v1185 c128_i32_629
  let c1_i32_635 : BitVec 32 := 1#32
  let v1201 : BitVec 32 := Scalar.subi v1186 c1_i32_635
  let v1202 : BitVec 32 := Scalar.select v1200 v1201 v1186
  let c128_i32_636 : BitVec 32 := 128#32
  let v1203 : BitVec 32 := Scalar.muli v1202 c128_i32_636
  let v1204 : BitVec 32 := Scalar.maxsi c0_i32_637 v1203
  let v1205 : BitVec 32 := Scalar.minsi c99872_i32_638 v1204
  let v1206 : BitVec 32 := v1205
  ![44, v1206.toNat]

def k1_chk45 (v1185 : BitVec 32) : Prop :=
  (32 ∣ (k1_mult45 v1185).toNat) ∧
  (∀ a, (k1_off45 v1185) a + S1x128.size a ≤ S128x100000.size a)
theorem k1_mult45_dvd : ∀ (v1185 : BitVec 32) (k1_hw45 : k1_chk45 v1185), 32 ∣ (k1_mult45 v1185).toNat := fun v1185 k1_hw45 => k1_hw45.1
theorem k1_off45_inb : ∀ (v1185 : BitVec 32) (k1_hw45 : k1_chk45 v1185), ∀ a, (k1_off45 v1185) a + S1x128.size a ≤ S128x100000.size a := fun v1185 k1_hw45 => k1_hw45.2

def k1_mult46 (v1211 : BitVec 32) : BitVec 32 :=
  let c99872_i32_652 : BitVec 32 := 99872#32
  let c0_i32_651 : BitVec 32 := 0#32
  let c0_i32_644 : BitVec 32 := 0#32
  let v1213 : BitVec 1 := Scalar.cmpi .sgt v1211 c0_i32_644
  let v1214 : BitVec 32 := Scalar.extui v1213
  let c0_i32_645 : BitVec 32 := 0#32
  let v1215 : BitVec 1 := Scalar.cmpi .slt v1211 c0_i32_645
  let v1216 : BitVec 32 := Scalar.extui v1215
  let v1217 : BitVec 32 := Scalar.subi v1214 v1216
  let c128_i32_643 : BitVec 32 := 128#32
  let c0_i32_646 : BitVec 32 := 0#32
  let v1218 : BitVec 1 := Scalar.cmpi .sgt c128_i32_643 c0_i32_646
  let v1219 : BitVec 32 := Scalar.extui v1218
  let c0_i32_647 : BitVec 32 := 0#32
  let v1220 : BitVec 1 := Scalar.cmpi .slt c128_i32_643 c0_i32_647
  let v1221 : BitVec 32 := Scalar.extui v1220
  let v1222 : BitVec 32 := Scalar.subi v1219 v1221
  let v1223 : BitVec 1 := Scalar.cmpi .ne v1217 v1222
  let v1224 : BitVec 32 := Scalar.remsi v1211 c128_i32_643
  let c0_i32_648 : BitVec 32 := 0#32
  let v1225 : BitVec 1 := Scalar.cmpi .ne v1224 c0_i32_648
  let v1226 : BitVec 1 := Scalar.andi v1223 v1225
  let v1212 : BitVec 32 := Scalar.divsi v1211 c128_i32_643
  let c1_i32_649 : BitVec 32 := 1#32
  let v1227 : BitVec 32 := Scalar.subi v1212 c1_i32_649
  let v1228 : BitVec 32 := Scalar.select v1226 v1227 v1212
  let c128_i32_650 : BitVec 32 := 128#32
  let v1229 : BitVec 32 := Scalar.muli v1228 c128_i32_650
  let v1230 : BitVec 32 := Scalar.maxsi c0_i32_651 v1229
  let v1231 : BitVec 32 := Scalar.minsi c99872_i32_652 v1230
  v1231

def k1_off46 (v1211 : BitVec 32) : Fin 2 → Nat :=
  let c45_i32_653 : BitVec 32 := 45#32
  let c99872_i32_652 : BitVec 32 := 99872#32
  let c0_i32_651 : BitVec 32 := 0#32
  let c0_i32_644 : BitVec 32 := 0#32
  let v1213 : BitVec 1 := Scalar.cmpi .sgt v1211 c0_i32_644
  let v1214 : BitVec 32 := Scalar.extui v1213
  let c0_i32_645 : BitVec 32 := 0#32
  let v1215 : BitVec 1 := Scalar.cmpi .slt v1211 c0_i32_645
  let v1216 : BitVec 32 := Scalar.extui v1215
  let v1217 : BitVec 32 := Scalar.subi v1214 v1216
  let c128_i32_643 : BitVec 32 := 128#32
  let c0_i32_646 : BitVec 32 := 0#32
  let v1218 : BitVec 1 := Scalar.cmpi .sgt c128_i32_643 c0_i32_646
  let v1219 : BitVec 32 := Scalar.extui v1218
  let c0_i32_647 : BitVec 32 := 0#32
  let v1220 : BitVec 1 := Scalar.cmpi .slt c128_i32_643 c0_i32_647
  let v1221 : BitVec 32 := Scalar.extui v1220
  let v1222 : BitVec 32 := Scalar.subi v1219 v1221
  let v1223 : BitVec 1 := Scalar.cmpi .ne v1217 v1222
  let v1224 : BitVec 32 := Scalar.remsi v1211 c128_i32_643
  let c0_i32_648 : BitVec 32 := 0#32
  let v1225 : BitVec 1 := Scalar.cmpi .ne v1224 c0_i32_648
  let v1226 : BitVec 1 := Scalar.andi v1223 v1225
  let v1212 : BitVec 32 := Scalar.divsi v1211 c128_i32_643
  let c1_i32_649 : BitVec 32 := 1#32
  let v1227 : BitVec 32 := Scalar.subi v1212 c1_i32_649
  let v1228 : BitVec 32 := Scalar.select v1226 v1227 v1212
  let c128_i32_650 : BitVec 32 := 128#32
  let v1229 : BitVec 32 := Scalar.muli v1228 c128_i32_650
  let v1230 : BitVec 32 := Scalar.maxsi c0_i32_651 v1229
  let v1231 : BitVec 32 := Scalar.minsi c99872_i32_652 v1230
  let v1232 : BitVec 32 := v1231
  ![45, v1232.toNat]

def k1_chk46 (v1211 : BitVec 32) : Prop :=
  (32 ∣ (k1_mult46 v1211).toNat) ∧
  (∀ a, (k1_off46 v1211) a + S1x128.size a ≤ S128x100000.size a)
theorem k1_mult46_dvd : ∀ (v1211 : BitVec 32) (k1_hw46 : k1_chk46 v1211), 32 ∣ (k1_mult46 v1211).toNat := fun v1211 k1_hw46 => k1_hw46.1
theorem k1_off46_inb : ∀ (v1211 : BitVec 32) (k1_hw46 : k1_chk46 v1211), ∀ a, (k1_off46 v1211) a + S1x128.size a ≤ S128x100000.size a := fun v1211 k1_hw46 => k1_hw46.2

def k1_mult47 (v1237 : BitVec 32) : BitVec 32 :=
  let c99872_i32_666 : BitVec 32 := 99872#32
  let c0_i32_665 : BitVec 32 := 0#32
  let c0_i32_658 : BitVec 32 := 0#32
  let v1239 : BitVec 1 := Scalar.cmpi .sgt v1237 c0_i32_658
  let v1240 : BitVec 32 := Scalar.extui v1239
  let c0_i32_659 : BitVec 32 := 0#32
  let v1241 : BitVec 1 := Scalar.cmpi .slt v1237 c0_i32_659
  let v1242 : BitVec 32 := Scalar.extui v1241
  let v1243 : BitVec 32 := Scalar.subi v1240 v1242
  let c128_i32_657 : BitVec 32 := 128#32
  let c0_i32_660 : BitVec 32 := 0#32
  let v1244 : BitVec 1 := Scalar.cmpi .sgt c128_i32_657 c0_i32_660
  let v1245 : BitVec 32 := Scalar.extui v1244
  let c0_i32_661 : BitVec 32 := 0#32
  let v1246 : BitVec 1 := Scalar.cmpi .slt c128_i32_657 c0_i32_661
  let v1247 : BitVec 32 := Scalar.extui v1246
  let v1248 : BitVec 32 := Scalar.subi v1245 v1247
  let v1249 : BitVec 1 := Scalar.cmpi .ne v1243 v1248
  let v1250 : BitVec 32 := Scalar.remsi v1237 c128_i32_657
  let c0_i32_662 : BitVec 32 := 0#32
  let v1251 : BitVec 1 := Scalar.cmpi .ne v1250 c0_i32_662
  let v1252 : BitVec 1 := Scalar.andi v1249 v1251
  let v1238 : BitVec 32 := Scalar.divsi v1237 c128_i32_657
  let c1_i32_663 : BitVec 32 := 1#32
  let v1253 : BitVec 32 := Scalar.subi v1238 c1_i32_663
  let v1254 : BitVec 32 := Scalar.select v1252 v1253 v1238
  let c128_i32_664 : BitVec 32 := 128#32
  let v1255 : BitVec 32 := Scalar.muli v1254 c128_i32_664
  let v1256 : BitVec 32 := Scalar.maxsi c0_i32_665 v1255
  let v1257 : BitVec 32 := Scalar.minsi c99872_i32_666 v1256
  v1257

def k1_off47 (v1237 : BitVec 32) : Fin 2 → Nat :=
  let c46_i32_667 : BitVec 32 := 46#32
  let c99872_i32_666 : BitVec 32 := 99872#32
  let c0_i32_665 : BitVec 32 := 0#32
  let c0_i32_658 : BitVec 32 := 0#32
  let v1239 : BitVec 1 := Scalar.cmpi .sgt v1237 c0_i32_658
  let v1240 : BitVec 32 := Scalar.extui v1239
  let c0_i32_659 : BitVec 32 := 0#32
  let v1241 : BitVec 1 := Scalar.cmpi .slt v1237 c0_i32_659
  let v1242 : BitVec 32 := Scalar.extui v1241
  let v1243 : BitVec 32 := Scalar.subi v1240 v1242
  let c128_i32_657 : BitVec 32 := 128#32
  let c0_i32_660 : BitVec 32 := 0#32
  let v1244 : BitVec 1 := Scalar.cmpi .sgt c128_i32_657 c0_i32_660
  let v1245 : BitVec 32 := Scalar.extui v1244
  let c0_i32_661 : BitVec 32 := 0#32
  let v1246 : BitVec 1 := Scalar.cmpi .slt c128_i32_657 c0_i32_661
  let v1247 : BitVec 32 := Scalar.extui v1246
  let v1248 : BitVec 32 := Scalar.subi v1245 v1247
  let v1249 : BitVec 1 := Scalar.cmpi .ne v1243 v1248
  let v1250 : BitVec 32 := Scalar.remsi v1237 c128_i32_657
  let c0_i32_662 : BitVec 32 := 0#32
  let v1251 : BitVec 1 := Scalar.cmpi .ne v1250 c0_i32_662
  let v1252 : BitVec 1 := Scalar.andi v1249 v1251
  let v1238 : BitVec 32 := Scalar.divsi v1237 c128_i32_657
  let c1_i32_663 : BitVec 32 := 1#32
  let v1253 : BitVec 32 := Scalar.subi v1238 c1_i32_663
  let v1254 : BitVec 32 := Scalar.select v1252 v1253 v1238
  let c128_i32_664 : BitVec 32 := 128#32
  let v1255 : BitVec 32 := Scalar.muli v1254 c128_i32_664
  let v1256 : BitVec 32 := Scalar.maxsi c0_i32_665 v1255
  let v1257 : BitVec 32 := Scalar.minsi c99872_i32_666 v1256
  let v1258 : BitVec 32 := v1257
  ![46, v1258.toNat]

def k1_chk47 (v1237 : BitVec 32) : Prop :=
  (32 ∣ (k1_mult47 v1237).toNat) ∧
  (∀ a, (k1_off47 v1237) a + S1x128.size a ≤ S128x100000.size a)
theorem k1_mult47_dvd : ∀ (v1237 : BitVec 32) (k1_hw47 : k1_chk47 v1237), 32 ∣ (k1_mult47 v1237).toNat := fun v1237 k1_hw47 => k1_hw47.1
theorem k1_off47_inb : ∀ (v1237 : BitVec 32) (k1_hw47 : k1_chk47 v1237), ∀ a, (k1_off47 v1237) a + S1x128.size a ≤ S128x100000.size a := fun v1237 k1_hw47 => k1_hw47.2

def k1_mult48 (v1263 : BitVec 32) : BitVec 32 :=
  let c99872_i32_680 : BitVec 32 := 99872#32
  let c0_i32_679 : BitVec 32 := 0#32
  let c0_i32_672 : BitVec 32 := 0#32
  let v1265 : BitVec 1 := Scalar.cmpi .sgt v1263 c0_i32_672
  let v1266 : BitVec 32 := Scalar.extui v1265
  let c0_i32_673 : BitVec 32 := 0#32
  let v1267 : BitVec 1 := Scalar.cmpi .slt v1263 c0_i32_673
  let v1268 : BitVec 32 := Scalar.extui v1267
  let v1269 : BitVec 32 := Scalar.subi v1266 v1268
  let c128_i32_671 : BitVec 32 := 128#32
  let c0_i32_674 : BitVec 32 := 0#32
  let v1270 : BitVec 1 := Scalar.cmpi .sgt c128_i32_671 c0_i32_674
  let v1271 : BitVec 32 := Scalar.extui v1270
  let c0_i32_675 : BitVec 32 := 0#32
  let v1272 : BitVec 1 := Scalar.cmpi .slt c128_i32_671 c0_i32_675
  let v1273 : BitVec 32 := Scalar.extui v1272
  let v1274 : BitVec 32 := Scalar.subi v1271 v1273
  let v1275 : BitVec 1 := Scalar.cmpi .ne v1269 v1274
  let v1276 : BitVec 32 := Scalar.remsi v1263 c128_i32_671
  let c0_i32_676 : BitVec 32 := 0#32
  let v1277 : BitVec 1 := Scalar.cmpi .ne v1276 c0_i32_676
  let v1278 : BitVec 1 := Scalar.andi v1275 v1277
  let v1264 : BitVec 32 := Scalar.divsi v1263 c128_i32_671
  let c1_i32_677 : BitVec 32 := 1#32
  let v1279 : BitVec 32 := Scalar.subi v1264 c1_i32_677
  let v1280 : BitVec 32 := Scalar.select v1278 v1279 v1264
  let c128_i32_678 : BitVec 32 := 128#32
  let v1281 : BitVec 32 := Scalar.muli v1280 c128_i32_678
  let v1282 : BitVec 32 := Scalar.maxsi c0_i32_679 v1281
  let v1283 : BitVec 32 := Scalar.minsi c99872_i32_680 v1282
  v1283

def k1_off48 (v1263 : BitVec 32) : Fin 2 → Nat :=
  let c47_i32_681 : BitVec 32 := 47#32
  let c99872_i32_680 : BitVec 32 := 99872#32
  let c0_i32_679 : BitVec 32 := 0#32
  let c0_i32_672 : BitVec 32 := 0#32
  let v1265 : BitVec 1 := Scalar.cmpi .sgt v1263 c0_i32_672
  let v1266 : BitVec 32 := Scalar.extui v1265
  let c0_i32_673 : BitVec 32 := 0#32
  let v1267 : BitVec 1 := Scalar.cmpi .slt v1263 c0_i32_673
  let v1268 : BitVec 32 := Scalar.extui v1267
  let v1269 : BitVec 32 := Scalar.subi v1266 v1268
  let c128_i32_671 : BitVec 32 := 128#32
  let c0_i32_674 : BitVec 32 := 0#32
  let v1270 : BitVec 1 := Scalar.cmpi .sgt c128_i32_671 c0_i32_674
  let v1271 : BitVec 32 := Scalar.extui v1270
  let c0_i32_675 : BitVec 32 := 0#32
  let v1272 : BitVec 1 := Scalar.cmpi .slt c128_i32_671 c0_i32_675
  let v1273 : BitVec 32 := Scalar.extui v1272
  let v1274 : BitVec 32 := Scalar.subi v1271 v1273
  let v1275 : BitVec 1 := Scalar.cmpi .ne v1269 v1274
  let v1276 : BitVec 32 := Scalar.remsi v1263 c128_i32_671
  let c0_i32_676 : BitVec 32 := 0#32
  let v1277 : BitVec 1 := Scalar.cmpi .ne v1276 c0_i32_676
  let v1278 : BitVec 1 := Scalar.andi v1275 v1277
  let v1264 : BitVec 32 := Scalar.divsi v1263 c128_i32_671
  let c1_i32_677 : BitVec 32 := 1#32
  let v1279 : BitVec 32 := Scalar.subi v1264 c1_i32_677
  let v1280 : BitVec 32 := Scalar.select v1278 v1279 v1264
  let c128_i32_678 : BitVec 32 := 128#32
  let v1281 : BitVec 32 := Scalar.muli v1280 c128_i32_678
  let v1282 : BitVec 32 := Scalar.maxsi c0_i32_679 v1281
  let v1283 : BitVec 32 := Scalar.minsi c99872_i32_680 v1282
  let v1284 : BitVec 32 := v1283
  ![47, v1284.toNat]

def k1_chk48 (v1263 : BitVec 32) : Prop :=
  (32 ∣ (k1_mult48 v1263).toNat) ∧
  (∀ a, (k1_off48 v1263) a + S1x128.size a ≤ S128x100000.size a)
theorem k1_mult48_dvd : ∀ (v1263 : BitVec 32) (k1_hw48 : k1_chk48 v1263), 32 ∣ (k1_mult48 v1263).toNat := fun v1263 k1_hw48 => k1_hw48.1
theorem k1_off48_inb : ∀ (v1263 : BitVec 32) (k1_hw48 : k1_chk48 v1263), ∀ a, (k1_off48 v1263) a + S1x128.size a ≤ S128x100000.size a := fun v1263 k1_hw48 => k1_hw48.2

def k1_mult49 (v1289 : BitVec 32) : BitVec 32 :=
  let c99872_i32_694 : BitVec 32 := 99872#32
  let c0_i32_693 : BitVec 32 := 0#32
  let c0_i32_686 : BitVec 32 := 0#32
  let v1291 : BitVec 1 := Scalar.cmpi .sgt v1289 c0_i32_686
  let v1292 : BitVec 32 := Scalar.extui v1291
  let c0_i32_687 : BitVec 32 := 0#32
  let v1293 : BitVec 1 := Scalar.cmpi .slt v1289 c0_i32_687
  let v1294 : BitVec 32 := Scalar.extui v1293
  let v1295 : BitVec 32 := Scalar.subi v1292 v1294
  let c128_i32_685 : BitVec 32 := 128#32
  let c0_i32_688 : BitVec 32 := 0#32
  let v1296 : BitVec 1 := Scalar.cmpi .sgt c128_i32_685 c0_i32_688
  let v1297 : BitVec 32 := Scalar.extui v1296
  let c0_i32_689 : BitVec 32 := 0#32
  let v1298 : BitVec 1 := Scalar.cmpi .slt c128_i32_685 c0_i32_689
  let v1299 : BitVec 32 := Scalar.extui v1298
  let v1300 : BitVec 32 := Scalar.subi v1297 v1299
  let v1301 : BitVec 1 := Scalar.cmpi .ne v1295 v1300
  let v1302 : BitVec 32 := Scalar.remsi v1289 c128_i32_685
  let c0_i32_690 : BitVec 32 := 0#32
  let v1303 : BitVec 1 := Scalar.cmpi .ne v1302 c0_i32_690
  let v1304 : BitVec 1 := Scalar.andi v1301 v1303
  let v1290 : BitVec 32 := Scalar.divsi v1289 c128_i32_685
  let c1_i32_691 : BitVec 32 := 1#32
  let v1305 : BitVec 32 := Scalar.subi v1290 c1_i32_691
  let v1306 : BitVec 32 := Scalar.select v1304 v1305 v1290
  let c128_i32_692 : BitVec 32 := 128#32
  let v1307 : BitVec 32 := Scalar.muli v1306 c128_i32_692
  let v1308 : BitVec 32 := Scalar.maxsi c0_i32_693 v1307
  let v1309 : BitVec 32 := Scalar.minsi c99872_i32_694 v1308
  v1309

def k1_off49 (v1289 : BitVec 32) : Fin 2 → Nat :=
  let c48_i32_695 : BitVec 32 := 48#32
  let c99872_i32_694 : BitVec 32 := 99872#32
  let c0_i32_693 : BitVec 32 := 0#32
  let c0_i32_686 : BitVec 32 := 0#32
  let v1291 : BitVec 1 := Scalar.cmpi .sgt v1289 c0_i32_686
  let v1292 : BitVec 32 := Scalar.extui v1291
  let c0_i32_687 : BitVec 32 := 0#32
  let v1293 : BitVec 1 := Scalar.cmpi .slt v1289 c0_i32_687
  let v1294 : BitVec 32 := Scalar.extui v1293
  let v1295 : BitVec 32 := Scalar.subi v1292 v1294
  let c128_i32_685 : BitVec 32 := 128#32
  let c0_i32_688 : BitVec 32 := 0#32
  let v1296 : BitVec 1 := Scalar.cmpi .sgt c128_i32_685 c0_i32_688
  let v1297 : BitVec 32 := Scalar.extui v1296
  let c0_i32_689 : BitVec 32 := 0#32
  let v1298 : BitVec 1 := Scalar.cmpi .slt c128_i32_685 c0_i32_689
  let v1299 : BitVec 32 := Scalar.extui v1298
  let v1300 : BitVec 32 := Scalar.subi v1297 v1299
  let v1301 : BitVec 1 := Scalar.cmpi .ne v1295 v1300
  let v1302 : BitVec 32 := Scalar.remsi v1289 c128_i32_685
  let c0_i32_690 : BitVec 32 := 0#32
  let v1303 : BitVec 1 := Scalar.cmpi .ne v1302 c0_i32_690
  let v1304 : BitVec 1 := Scalar.andi v1301 v1303
  let v1290 : BitVec 32 := Scalar.divsi v1289 c128_i32_685
  let c1_i32_691 : BitVec 32 := 1#32
  let v1305 : BitVec 32 := Scalar.subi v1290 c1_i32_691
  let v1306 : BitVec 32 := Scalar.select v1304 v1305 v1290
  let c128_i32_692 : BitVec 32 := 128#32
  let v1307 : BitVec 32 := Scalar.muli v1306 c128_i32_692
  let v1308 : BitVec 32 := Scalar.maxsi c0_i32_693 v1307
  let v1309 : BitVec 32 := Scalar.minsi c99872_i32_694 v1308
  let v1310 : BitVec 32 := v1309
  ![48, v1310.toNat]

def k1_chk49 (v1289 : BitVec 32) : Prop :=
  (32 ∣ (k1_mult49 v1289).toNat) ∧
  (∀ a, (k1_off49 v1289) a + S1x128.size a ≤ S128x100000.size a)
theorem k1_mult49_dvd : ∀ (v1289 : BitVec 32) (k1_hw49 : k1_chk49 v1289), 32 ∣ (k1_mult49 v1289).toNat := fun v1289 k1_hw49 => k1_hw49.1
theorem k1_off49_inb : ∀ (v1289 : BitVec 32) (k1_hw49 : k1_chk49 v1289), ∀ a, (k1_off49 v1289) a + S1x128.size a ≤ S128x100000.size a := fun v1289 k1_hw49 => k1_hw49.2

def k1_mult50 (v1315 : BitVec 32) : BitVec 32 :=
  let c99872_i32_708 : BitVec 32 := 99872#32
  let c0_i32_707 : BitVec 32 := 0#32
  let c0_i32_700 : BitVec 32 := 0#32
  let v1317 : BitVec 1 := Scalar.cmpi .sgt v1315 c0_i32_700
  let v1318 : BitVec 32 := Scalar.extui v1317
  let c0_i32_701 : BitVec 32 := 0#32
  let v1319 : BitVec 1 := Scalar.cmpi .slt v1315 c0_i32_701
  let v1320 : BitVec 32 := Scalar.extui v1319
  let v1321 : BitVec 32 := Scalar.subi v1318 v1320
  let c128_i32_699 : BitVec 32 := 128#32
  let c0_i32_702 : BitVec 32 := 0#32
  let v1322 : BitVec 1 := Scalar.cmpi .sgt c128_i32_699 c0_i32_702
  let v1323 : BitVec 32 := Scalar.extui v1322
  let c0_i32_703 : BitVec 32 := 0#32
  let v1324 : BitVec 1 := Scalar.cmpi .slt c128_i32_699 c0_i32_703
  let v1325 : BitVec 32 := Scalar.extui v1324
  let v1326 : BitVec 32 := Scalar.subi v1323 v1325
  let v1327 : BitVec 1 := Scalar.cmpi .ne v1321 v1326
  let v1328 : BitVec 32 := Scalar.remsi v1315 c128_i32_699
  let c0_i32_704 : BitVec 32 := 0#32
  let v1329 : BitVec 1 := Scalar.cmpi .ne v1328 c0_i32_704
  let v1330 : BitVec 1 := Scalar.andi v1327 v1329
  let v1316 : BitVec 32 := Scalar.divsi v1315 c128_i32_699
  let c1_i32_705 : BitVec 32 := 1#32
  let v1331 : BitVec 32 := Scalar.subi v1316 c1_i32_705
  let v1332 : BitVec 32 := Scalar.select v1330 v1331 v1316
  let c128_i32_706 : BitVec 32 := 128#32
  let v1333 : BitVec 32 := Scalar.muli v1332 c128_i32_706
  let v1334 : BitVec 32 := Scalar.maxsi c0_i32_707 v1333
  let v1335 : BitVec 32 := Scalar.minsi c99872_i32_708 v1334
  v1335

def k1_off50 (v1315 : BitVec 32) : Fin 2 → Nat :=
  let c49_i32_709 : BitVec 32 := 49#32
  let c99872_i32_708 : BitVec 32 := 99872#32
  let c0_i32_707 : BitVec 32 := 0#32
  let c0_i32_700 : BitVec 32 := 0#32
  let v1317 : BitVec 1 := Scalar.cmpi .sgt v1315 c0_i32_700
  let v1318 : BitVec 32 := Scalar.extui v1317
  let c0_i32_701 : BitVec 32 := 0#32
  let v1319 : BitVec 1 := Scalar.cmpi .slt v1315 c0_i32_701
  let v1320 : BitVec 32 := Scalar.extui v1319
  let v1321 : BitVec 32 := Scalar.subi v1318 v1320
  let c128_i32_699 : BitVec 32 := 128#32
  let c0_i32_702 : BitVec 32 := 0#32
  let v1322 : BitVec 1 := Scalar.cmpi .sgt c128_i32_699 c0_i32_702
  let v1323 : BitVec 32 := Scalar.extui v1322
  let c0_i32_703 : BitVec 32 := 0#32
  let v1324 : BitVec 1 := Scalar.cmpi .slt c128_i32_699 c0_i32_703
  let v1325 : BitVec 32 := Scalar.extui v1324
  let v1326 : BitVec 32 := Scalar.subi v1323 v1325
  let v1327 : BitVec 1 := Scalar.cmpi .ne v1321 v1326
  let v1328 : BitVec 32 := Scalar.remsi v1315 c128_i32_699
  let c0_i32_704 : BitVec 32 := 0#32
  let v1329 : BitVec 1 := Scalar.cmpi .ne v1328 c0_i32_704
  let v1330 : BitVec 1 := Scalar.andi v1327 v1329
  let v1316 : BitVec 32 := Scalar.divsi v1315 c128_i32_699
  let c1_i32_705 : BitVec 32 := 1#32
  let v1331 : BitVec 32 := Scalar.subi v1316 c1_i32_705
  let v1332 : BitVec 32 := Scalar.select v1330 v1331 v1316
  let c128_i32_706 : BitVec 32 := 128#32
  let v1333 : BitVec 32 := Scalar.muli v1332 c128_i32_706
  let v1334 : BitVec 32 := Scalar.maxsi c0_i32_707 v1333
  let v1335 : BitVec 32 := Scalar.minsi c99872_i32_708 v1334
  let v1336 : BitVec 32 := v1335
  ![49, v1336.toNat]

def k1_chk50 (v1315 : BitVec 32) : Prop :=
  (32 ∣ (k1_mult50 v1315).toNat) ∧
  (∀ a, (k1_off50 v1315) a + S1x128.size a ≤ S128x100000.size a)
theorem k1_mult50_dvd : ∀ (v1315 : BitVec 32) (k1_hw50 : k1_chk50 v1315), 32 ∣ (k1_mult50 v1315).toNat := fun v1315 k1_hw50 => k1_hw50.1
theorem k1_off50_inb : ∀ (v1315 : BitVec 32) (k1_hw50 : k1_chk50 v1315), ∀ a, (k1_off50 v1315) a + S1x128.size a ≤ S128x100000.size a := fun v1315 k1_hw50 => k1_hw50.2

def k1_mult51 (v1341 : BitVec 32) : BitVec 32 :=
  let c99872_i32_722 : BitVec 32 := 99872#32
  let c0_i32_721 : BitVec 32 := 0#32
  let c0_i32_714 : BitVec 32 := 0#32
  let v1343 : BitVec 1 := Scalar.cmpi .sgt v1341 c0_i32_714
  let v1344 : BitVec 32 := Scalar.extui v1343
  let c0_i32_715 : BitVec 32 := 0#32
  let v1345 : BitVec 1 := Scalar.cmpi .slt v1341 c0_i32_715
  let v1346 : BitVec 32 := Scalar.extui v1345
  let v1347 : BitVec 32 := Scalar.subi v1344 v1346
  let c128_i32_713 : BitVec 32 := 128#32
  let c0_i32_716 : BitVec 32 := 0#32
  let v1348 : BitVec 1 := Scalar.cmpi .sgt c128_i32_713 c0_i32_716
  let v1349 : BitVec 32 := Scalar.extui v1348
  let c0_i32_717 : BitVec 32 := 0#32
  let v1350 : BitVec 1 := Scalar.cmpi .slt c128_i32_713 c0_i32_717
  let v1351 : BitVec 32 := Scalar.extui v1350
  let v1352 : BitVec 32 := Scalar.subi v1349 v1351
  let v1353 : BitVec 1 := Scalar.cmpi .ne v1347 v1352
  let v1354 : BitVec 32 := Scalar.remsi v1341 c128_i32_713
  let c0_i32_718 : BitVec 32 := 0#32
  let v1355 : BitVec 1 := Scalar.cmpi .ne v1354 c0_i32_718
  let v1356 : BitVec 1 := Scalar.andi v1353 v1355
  let v1342 : BitVec 32 := Scalar.divsi v1341 c128_i32_713
  let c1_i32_719 : BitVec 32 := 1#32
  let v1357 : BitVec 32 := Scalar.subi v1342 c1_i32_719
  let v1358 : BitVec 32 := Scalar.select v1356 v1357 v1342
  let c128_i32_720 : BitVec 32 := 128#32
  let v1359 : BitVec 32 := Scalar.muli v1358 c128_i32_720
  let v1360 : BitVec 32 := Scalar.maxsi c0_i32_721 v1359
  let v1361 : BitVec 32 := Scalar.minsi c99872_i32_722 v1360
  v1361

def k1_off51 (v1341 : BitVec 32) : Fin 2 → Nat :=
  let c50_i32_723 : BitVec 32 := 50#32
  let c99872_i32_722 : BitVec 32 := 99872#32
  let c0_i32_721 : BitVec 32 := 0#32
  let c0_i32_714 : BitVec 32 := 0#32
  let v1343 : BitVec 1 := Scalar.cmpi .sgt v1341 c0_i32_714
  let v1344 : BitVec 32 := Scalar.extui v1343
  let c0_i32_715 : BitVec 32 := 0#32
  let v1345 : BitVec 1 := Scalar.cmpi .slt v1341 c0_i32_715
  let v1346 : BitVec 32 := Scalar.extui v1345
  let v1347 : BitVec 32 := Scalar.subi v1344 v1346
  let c128_i32_713 : BitVec 32 := 128#32
  let c0_i32_716 : BitVec 32 := 0#32
  let v1348 : BitVec 1 := Scalar.cmpi .sgt c128_i32_713 c0_i32_716
  let v1349 : BitVec 32 := Scalar.extui v1348
  let c0_i32_717 : BitVec 32 := 0#32
  let v1350 : BitVec 1 := Scalar.cmpi .slt c128_i32_713 c0_i32_717
  let v1351 : BitVec 32 := Scalar.extui v1350
  let v1352 : BitVec 32 := Scalar.subi v1349 v1351
  let v1353 : BitVec 1 := Scalar.cmpi .ne v1347 v1352
  let v1354 : BitVec 32 := Scalar.remsi v1341 c128_i32_713
  let c0_i32_718 : BitVec 32 := 0#32
  let v1355 : BitVec 1 := Scalar.cmpi .ne v1354 c0_i32_718
  let v1356 : BitVec 1 := Scalar.andi v1353 v1355
  let v1342 : BitVec 32 := Scalar.divsi v1341 c128_i32_713
  let c1_i32_719 : BitVec 32 := 1#32
  let v1357 : BitVec 32 := Scalar.subi v1342 c1_i32_719
  let v1358 : BitVec 32 := Scalar.select v1356 v1357 v1342
  let c128_i32_720 : BitVec 32 := 128#32
  let v1359 : BitVec 32 := Scalar.muli v1358 c128_i32_720
  let v1360 : BitVec 32 := Scalar.maxsi c0_i32_721 v1359
  let v1361 : BitVec 32 := Scalar.minsi c99872_i32_722 v1360
  let v1362 : BitVec 32 := v1361
  ![50, v1362.toNat]

def k1_chk51 (v1341 : BitVec 32) : Prop :=
  (32 ∣ (k1_mult51 v1341).toNat) ∧
  (∀ a, (k1_off51 v1341) a + S1x128.size a ≤ S128x100000.size a)
theorem k1_mult51_dvd : ∀ (v1341 : BitVec 32) (k1_hw51 : k1_chk51 v1341), 32 ∣ (k1_mult51 v1341).toNat := fun v1341 k1_hw51 => k1_hw51.1
theorem k1_off51_inb : ∀ (v1341 : BitVec 32) (k1_hw51 : k1_chk51 v1341), ∀ a, (k1_off51 v1341) a + S1x128.size a ≤ S128x100000.size a := fun v1341 k1_hw51 => k1_hw51.2

def k1_mult52 (v1367 : BitVec 32) : BitVec 32 :=
  let c99872_i32_736 : BitVec 32 := 99872#32
  let c0_i32_735 : BitVec 32 := 0#32
  let c0_i32_728 : BitVec 32 := 0#32
  let v1369 : BitVec 1 := Scalar.cmpi .sgt v1367 c0_i32_728
  let v1370 : BitVec 32 := Scalar.extui v1369
  let c0_i32_729 : BitVec 32 := 0#32
  let v1371 : BitVec 1 := Scalar.cmpi .slt v1367 c0_i32_729
  let v1372 : BitVec 32 := Scalar.extui v1371
  let v1373 : BitVec 32 := Scalar.subi v1370 v1372
  let c128_i32_727 : BitVec 32 := 128#32
  let c0_i32_730 : BitVec 32 := 0#32
  let v1374 : BitVec 1 := Scalar.cmpi .sgt c128_i32_727 c0_i32_730
  let v1375 : BitVec 32 := Scalar.extui v1374
  let c0_i32_731 : BitVec 32 := 0#32
  let v1376 : BitVec 1 := Scalar.cmpi .slt c128_i32_727 c0_i32_731
  let v1377 : BitVec 32 := Scalar.extui v1376
  let v1378 : BitVec 32 := Scalar.subi v1375 v1377
  let v1379 : BitVec 1 := Scalar.cmpi .ne v1373 v1378
  let v1380 : BitVec 32 := Scalar.remsi v1367 c128_i32_727
  let c0_i32_732 : BitVec 32 := 0#32
  let v1381 : BitVec 1 := Scalar.cmpi .ne v1380 c0_i32_732
  let v1382 : BitVec 1 := Scalar.andi v1379 v1381
  let v1368 : BitVec 32 := Scalar.divsi v1367 c128_i32_727
  let c1_i32_733 : BitVec 32 := 1#32
  let v1383 : BitVec 32 := Scalar.subi v1368 c1_i32_733
  let v1384 : BitVec 32 := Scalar.select v1382 v1383 v1368
  let c128_i32_734 : BitVec 32 := 128#32
  let v1385 : BitVec 32 := Scalar.muli v1384 c128_i32_734
  let v1386 : BitVec 32 := Scalar.maxsi c0_i32_735 v1385
  let v1387 : BitVec 32 := Scalar.minsi c99872_i32_736 v1386
  v1387

def k1_off52 (v1367 : BitVec 32) : Fin 2 → Nat :=
  let c51_i32_737 : BitVec 32 := 51#32
  let c99872_i32_736 : BitVec 32 := 99872#32
  let c0_i32_735 : BitVec 32 := 0#32
  let c0_i32_728 : BitVec 32 := 0#32
  let v1369 : BitVec 1 := Scalar.cmpi .sgt v1367 c0_i32_728
  let v1370 : BitVec 32 := Scalar.extui v1369
  let c0_i32_729 : BitVec 32 := 0#32
  let v1371 : BitVec 1 := Scalar.cmpi .slt v1367 c0_i32_729
  let v1372 : BitVec 32 := Scalar.extui v1371
  let v1373 : BitVec 32 := Scalar.subi v1370 v1372
  let c128_i32_727 : BitVec 32 := 128#32
  let c0_i32_730 : BitVec 32 := 0#32
  let v1374 : BitVec 1 := Scalar.cmpi .sgt c128_i32_727 c0_i32_730
  let v1375 : BitVec 32 := Scalar.extui v1374
  let c0_i32_731 : BitVec 32 := 0#32
  let v1376 : BitVec 1 := Scalar.cmpi .slt c128_i32_727 c0_i32_731
  let v1377 : BitVec 32 := Scalar.extui v1376
  let v1378 : BitVec 32 := Scalar.subi v1375 v1377
  let v1379 : BitVec 1 := Scalar.cmpi .ne v1373 v1378
  let v1380 : BitVec 32 := Scalar.remsi v1367 c128_i32_727
  let c0_i32_732 : BitVec 32 := 0#32
  let v1381 : BitVec 1 := Scalar.cmpi .ne v1380 c0_i32_732
  let v1382 : BitVec 1 := Scalar.andi v1379 v1381
  let v1368 : BitVec 32 := Scalar.divsi v1367 c128_i32_727
  let c1_i32_733 : BitVec 32 := 1#32
  let v1383 : BitVec 32 := Scalar.subi v1368 c1_i32_733
  let v1384 : BitVec 32 := Scalar.select v1382 v1383 v1368
  let c128_i32_734 : BitVec 32 := 128#32
  let v1385 : BitVec 32 := Scalar.muli v1384 c128_i32_734
  let v1386 : BitVec 32 := Scalar.maxsi c0_i32_735 v1385
  let v1387 : BitVec 32 := Scalar.minsi c99872_i32_736 v1386
  let v1388 : BitVec 32 := v1387
  ![51, v1388.toNat]

def k1_chk52 (v1367 : BitVec 32) : Prop :=
  (32 ∣ (k1_mult52 v1367).toNat) ∧
  (∀ a, (k1_off52 v1367) a + S1x128.size a ≤ S128x100000.size a)
theorem k1_mult52_dvd : ∀ (v1367 : BitVec 32) (k1_hw52 : k1_chk52 v1367), 32 ∣ (k1_mult52 v1367).toNat := fun v1367 k1_hw52 => k1_hw52.1
theorem k1_off52_inb : ∀ (v1367 : BitVec 32) (k1_hw52 : k1_chk52 v1367), ∀ a, (k1_off52 v1367) a + S1x128.size a ≤ S128x100000.size a := fun v1367 k1_hw52 => k1_hw52.2

def k1_mult53 (v1393 : BitVec 32) : BitVec 32 :=
  let c99872_i32_750 : BitVec 32 := 99872#32
  let c0_i32_749 : BitVec 32 := 0#32
  let c0_i32_742 : BitVec 32 := 0#32
  let v1395 : BitVec 1 := Scalar.cmpi .sgt v1393 c0_i32_742
  let v1396 : BitVec 32 := Scalar.extui v1395
  let c0_i32_743 : BitVec 32 := 0#32
  let v1397 : BitVec 1 := Scalar.cmpi .slt v1393 c0_i32_743
  let v1398 : BitVec 32 := Scalar.extui v1397
  let v1399 : BitVec 32 := Scalar.subi v1396 v1398
  let c128_i32_741 : BitVec 32 := 128#32
  let c0_i32_744 : BitVec 32 := 0#32
  let v1400 : BitVec 1 := Scalar.cmpi .sgt c128_i32_741 c0_i32_744
  let v1401 : BitVec 32 := Scalar.extui v1400
  let c0_i32_745 : BitVec 32 := 0#32
  let v1402 : BitVec 1 := Scalar.cmpi .slt c128_i32_741 c0_i32_745
  let v1403 : BitVec 32 := Scalar.extui v1402
  let v1404 : BitVec 32 := Scalar.subi v1401 v1403
  let v1405 : BitVec 1 := Scalar.cmpi .ne v1399 v1404
  let v1406 : BitVec 32 := Scalar.remsi v1393 c128_i32_741
  let c0_i32_746 : BitVec 32 := 0#32
  let v1407 : BitVec 1 := Scalar.cmpi .ne v1406 c0_i32_746
  let v1408 : BitVec 1 := Scalar.andi v1405 v1407
  let v1394 : BitVec 32 := Scalar.divsi v1393 c128_i32_741
  let c1_i32_747 : BitVec 32 := 1#32
  let v1409 : BitVec 32 := Scalar.subi v1394 c1_i32_747
  let v1410 : BitVec 32 := Scalar.select v1408 v1409 v1394
  let c128_i32_748 : BitVec 32 := 128#32
  let v1411 : BitVec 32 := Scalar.muli v1410 c128_i32_748
  let v1412 : BitVec 32 := Scalar.maxsi c0_i32_749 v1411
  let v1413 : BitVec 32 := Scalar.minsi c99872_i32_750 v1412
  v1413

def k1_off53 (v1393 : BitVec 32) : Fin 2 → Nat :=
  let c52_i32_751 : BitVec 32 := 52#32
  let c99872_i32_750 : BitVec 32 := 99872#32
  let c0_i32_749 : BitVec 32 := 0#32
  let c0_i32_742 : BitVec 32 := 0#32
  let v1395 : BitVec 1 := Scalar.cmpi .sgt v1393 c0_i32_742
  let v1396 : BitVec 32 := Scalar.extui v1395
  let c0_i32_743 : BitVec 32 := 0#32
  let v1397 : BitVec 1 := Scalar.cmpi .slt v1393 c0_i32_743
  let v1398 : BitVec 32 := Scalar.extui v1397
  let v1399 : BitVec 32 := Scalar.subi v1396 v1398
  let c128_i32_741 : BitVec 32 := 128#32
  let c0_i32_744 : BitVec 32 := 0#32
  let v1400 : BitVec 1 := Scalar.cmpi .sgt c128_i32_741 c0_i32_744
  let v1401 : BitVec 32 := Scalar.extui v1400
  let c0_i32_745 : BitVec 32 := 0#32
  let v1402 : BitVec 1 := Scalar.cmpi .slt c128_i32_741 c0_i32_745
  let v1403 : BitVec 32 := Scalar.extui v1402
  let v1404 : BitVec 32 := Scalar.subi v1401 v1403
  let v1405 : BitVec 1 := Scalar.cmpi .ne v1399 v1404
  let v1406 : BitVec 32 := Scalar.remsi v1393 c128_i32_741
  let c0_i32_746 : BitVec 32 := 0#32
  let v1407 : BitVec 1 := Scalar.cmpi .ne v1406 c0_i32_746
  let v1408 : BitVec 1 := Scalar.andi v1405 v1407
  let v1394 : BitVec 32 := Scalar.divsi v1393 c128_i32_741
  let c1_i32_747 : BitVec 32 := 1#32
  let v1409 : BitVec 32 := Scalar.subi v1394 c1_i32_747
  let v1410 : BitVec 32 := Scalar.select v1408 v1409 v1394
  let c128_i32_748 : BitVec 32 := 128#32
  let v1411 : BitVec 32 := Scalar.muli v1410 c128_i32_748
  let v1412 : BitVec 32 := Scalar.maxsi c0_i32_749 v1411
  let v1413 : BitVec 32 := Scalar.minsi c99872_i32_750 v1412
  let v1414 : BitVec 32 := v1413
  ![52, v1414.toNat]

def k1_chk53 (v1393 : BitVec 32) : Prop :=
  (32 ∣ (k1_mult53 v1393).toNat) ∧
  (∀ a, (k1_off53 v1393) a + S1x128.size a ≤ S128x100000.size a)
theorem k1_mult53_dvd : ∀ (v1393 : BitVec 32) (k1_hw53 : k1_chk53 v1393), 32 ∣ (k1_mult53 v1393).toNat := fun v1393 k1_hw53 => k1_hw53.1
theorem k1_off53_inb : ∀ (v1393 : BitVec 32) (k1_hw53 : k1_chk53 v1393), ∀ a, (k1_off53 v1393) a + S1x128.size a ≤ S128x100000.size a := fun v1393 k1_hw53 => k1_hw53.2

def k1_mult54 (v1419 : BitVec 32) : BitVec 32 :=
  let c99872_i32_764 : BitVec 32 := 99872#32
  let c0_i32_763 : BitVec 32 := 0#32
  let c0_i32_756 : BitVec 32 := 0#32
  let v1421 : BitVec 1 := Scalar.cmpi .sgt v1419 c0_i32_756
  let v1422 : BitVec 32 := Scalar.extui v1421
  let c0_i32_757 : BitVec 32 := 0#32
  let v1423 : BitVec 1 := Scalar.cmpi .slt v1419 c0_i32_757
  let v1424 : BitVec 32 := Scalar.extui v1423
  let v1425 : BitVec 32 := Scalar.subi v1422 v1424
  let c128_i32_755 : BitVec 32 := 128#32
  let c0_i32_758 : BitVec 32 := 0#32
  let v1426 : BitVec 1 := Scalar.cmpi .sgt c128_i32_755 c0_i32_758
  let v1427 : BitVec 32 := Scalar.extui v1426
  let c0_i32_759 : BitVec 32 := 0#32
  let v1428 : BitVec 1 := Scalar.cmpi .slt c128_i32_755 c0_i32_759
  let v1429 : BitVec 32 := Scalar.extui v1428
  let v1430 : BitVec 32 := Scalar.subi v1427 v1429
  let v1431 : BitVec 1 := Scalar.cmpi .ne v1425 v1430
  let v1432 : BitVec 32 := Scalar.remsi v1419 c128_i32_755
  let c0_i32_760 : BitVec 32 := 0#32
  let v1433 : BitVec 1 := Scalar.cmpi .ne v1432 c0_i32_760
  let v1434 : BitVec 1 := Scalar.andi v1431 v1433
  let v1420 : BitVec 32 := Scalar.divsi v1419 c128_i32_755
  let c1_i32_761 : BitVec 32 := 1#32
  let v1435 : BitVec 32 := Scalar.subi v1420 c1_i32_761
  let v1436 : BitVec 32 := Scalar.select v1434 v1435 v1420
  let c128_i32_762 : BitVec 32 := 128#32
  let v1437 : BitVec 32 := Scalar.muli v1436 c128_i32_762
  let v1438 : BitVec 32 := Scalar.maxsi c0_i32_763 v1437
  let v1439 : BitVec 32 := Scalar.minsi c99872_i32_764 v1438
  v1439

def k1_off54 (v1419 : BitVec 32) : Fin 2 → Nat :=
  let c53_i32_765 : BitVec 32 := 53#32
  let c99872_i32_764 : BitVec 32 := 99872#32
  let c0_i32_763 : BitVec 32 := 0#32
  let c0_i32_756 : BitVec 32 := 0#32
  let v1421 : BitVec 1 := Scalar.cmpi .sgt v1419 c0_i32_756
  let v1422 : BitVec 32 := Scalar.extui v1421
  let c0_i32_757 : BitVec 32 := 0#32
  let v1423 : BitVec 1 := Scalar.cmpi .slt v1419 c0_i32_757
  let v1424 : BitVec 32 := Scalar.extui v1423
  let v1425 : BitVec 32 := Scalar.subi v1422 v1424
  let c128_i32_755 : BitVec 32 := 128#32
  let c0_i32_758 : BitVec 32 := 0#32
  let v1426 : BitVec 1 := Scalar.cmpi .sgt c128_i32_755 c0_i32_758
  let v1427 : BitVec 32 := Scalar.extui v1426
  let c0_i32_759 : BitVec 32 := 0#32
  let v1428 : BitVec 1 := Scalar.cmpi .slt c128_i32_755 c0_i32_759
  let v1429 : BitVec 32 := Scalar.extui v1428
  let v1430 : BitVec 32 := Scalar.subi v1427 v1429
  let v1431 : BitVec 1 := Scalar.cmpi .ne v1425 v1430
  let v1432 : BitVec 32 := Scalar.remsi v1419 c128_i32_755
  let c0_i32_760 : BitVec 32 := 0#32
  let v1433 : BitVec 1 := Scalar.cmpi .ne v1432 c0_i32_760
  let v1434 : BitVec 1 := Scalar.andi v1431 v1433
  let v1420 : BitVec 32 := Scalar.divsi v1419 c128_i32_755
  let c1_i32_761 : BitVec 32 := 1#32
  let v1435 : BitVec 32 := Scalar.subi v1420 c1_i32_761
  let v1436 : BitVec 32 := Scalar.select v1434 v1435 v1420
  let c128_i32_762 : BitVec 32 := 128#32
  let v1437 : BitVec 32 := Scalar.muli v1436 c128_i32_762
  let v1438 : BitVec 32 := Scalar.maxsi c0_i32_763 v1437
  let v1439 : BitVec 32 := Scalar.minsi c99872_i32_764 v1438
  let v1440 : BitVec 32 := v1439
  ![53, v1440.toNat]

def k1_chk54 (v1419 : BitVec 32) : Prop :=
  (32 ∣ (k1_mult54 v1419).toNat) ∧
  (∀ a, (k1_off54 v1419) a + S1x128.size a ≤ S128x100000.size a)
theorem k1_mult54_dvd : ∀ (v1419 : BitVec 32) (k1_hw54 : k1_chk54 v1419), 32 ∣ (k1_mult54 v1419).toNat := fun v1419 k1_hw54 => k1_hw54.1
theorem k1_off54_inb : ∀ (v1419 : BitVec 32) (k1_hw54 : k1_chk54 v1419), ∀ a, (k1_off54 v1419) a + S1x128.size a ≤ S128x100000.size a := fun v1419 k1_hw54 => k1_hw54.2

def k1_mult55 (v1445 : BitVec 32) : BitVec 32 :=
  let c99872_i32_778 : BitVec 32 := 99872#32
  let c0_i32_777 : BitVec 32 := 0#32
  let c0_i32_770 : BitVec 32 := 0#32
  let v1447 : BitVec 1 := Scalar.cmpi .sgt v1445 c0_i32_770
  let v1448 : BitVec 32 := Scalar.extui v1447
  let c0_i32_771 : BitVec 32 := 0#32
  let v1449 : BitVec 1 := Scalar.cmpi .slt v1445 c0_i32_771
  let v1450 : BitVec 32 := Scalar.extui v1449
  let v1451 : BitVec 32 := Scalar.subi v1448 v1450
  let c128_i32_769 : BitVec 32 := 128#32
  let c0_i32_772 : BitVec 32 := 0#32
  let v1452 : BitVec 1 := Scalar.cmpi .sgt c128_i32_769 c0_i32_772
  let v1453 : BitVec 32 := Scalar.extui v1452
  let c0_i32_773 : BitVec 32 := 0#32
  let v1454 : BitVec 1 := Scalar.cmpi .slt c128_i32_769 c0_i32_773
  let v1455 : BitVec 32 := Scalar.extui v1454
  let v1456 : BitVec 32 := Scalar.subi v1453 v1455
  let v1457 : BitVec 1 := Scalar.cmpi .ne v1451 v1456
  let v1458 : BitVec 32 := Scalar.remsi v1445 c128_i32_769
  let c0_i32_774 : BitVec 32 := 0#32
  let v1459 : BitVec 1 := Scalar.cmpi .ne v1458 c0_i32_774
  let v1460 : BitVec 1 := Scalar.andi v1457 v1459
  let v1446 : BitVec 32 := Scalar.divsi v1445 c128_i32_769
  let c1_i32_775 : BitVec 32 := 1#32
  let v1461 : BitVec 32 := Scalar.subi v1446 c1_i32_775
  let v1462 : BitVec 32 := Scalar.select v1460 v1461 v1446
  let c128_i32_776 : BitVec 32 := 128#32
  let v1463 : BitVec 32 := Scalar.muli v1462 c128_i32_776
  let v1464 : BitVec 32 := Scalar.maxsi c0_i32_777 v1463
  let v1465 : BitVec 32 := Scalar.minsi c99872_i32_778 v1464
  v1465

def k1_off55 (v1445 : BitVec 32) : Fin 2 → Nat :=
  let c54_i32_779 : BitVec 32 := 54#32
  let c99872_i32_778 : BitVec 32 := 99872#32
  let c0_i32_777 : BitVec 32 := 0#32
  let c0_i32_770 : BitVec 32 := 0#32
  let v1447 : BitVec 1 := Scalar.cmpi .sgt v1445 c0_i32_770
  let v1448 : BitVec 32 := Scalar.extui v1447
  let c0_i32_771 : BitVec 32 := 0#32
  let v1449 : BitVec 1 := Scalar.cmpi .slt v1445 c0_i32_771
  let v1450 : BitVec 32 := Scalar.extui v1449
  let v1451 : BitVec 32 := Scalar.subi v1448 v1450
  let c128_i32_769 : BitVec 32 := 128#32
  let c0_i32_772 : BitVec 32 := 0#32
  let v1452 : BitVec 1 := Scalar.cmpi .sgt c128_i32_769 c0_i32_772
  let v1453 : BitVec 32 := Scalar.extui v1452
  let c0_i32_773 : BitVec 32 := 0#32
  let v1454 : BitVec 1 := Scalar.cmpi .slt c128_i32_769 c0_i32_773
  let v1455 : BitVec 32 := Scalar.extui v1454
  let v1456 : BitVec 32 := Scalar.subi v1453 v1455
  let v1457 : BitVec 1 := Scalar.cmpi .ne v1451 v1456
  let v1458 : BitVec 32 := Scalar.remsi v1445 c128_i32_769
  let c0_i32_774 : BitVec 32 := 0#32
  let v1459 : BitVec 1 := Scalar.cmpi .ne v1458 c0_i32_774
  let v1460 : BitVec 1 := Scalar.andi v1457 v1459
  let v1446 : BitVec 32 := Scalar.divsi v1445 c128_i32_769
  let c1_i32_775 : BitVec 32 := 1#32
  let v1461 : BitVec 32 := Scalar.subi v1446 c1_i32_775
  let v1462 : BitVec 32 := Scalar.select v1460 v1461 v1446
  let c128_i32_776 : BitVec 32 := 128#32
  let v1463 : BitVec 32 := Scalar.muli v1462 c128_i32_776
  let v1464 : BitVec 32 := Scalar.maxsi c0_i32_777 v1463
  let v1465 : BitVec 32 := Scalar.minsi c99872_i32_778 v1464
  let v1466 : BitVec 32 := v1465
  ![54, v1466.toNat]

def k1_chk55 (v1445 : BitVec 32) : Prop :=
  (32 ∣ (k1_mult55 v1445).toNat) ∧
  (∀ a, (k1_off55 v1445) a + S1x128.size a ≤ S128x100000.size a)
theorem k1_mult55_dvd : ∀ (v1445 : BitVec 32) (k1_hw55 : k1_chk55 v1445), 32 ∣ (k1_mult55 v1445).toNat := fun v1445 k1_hw55 => k1_hw55.1
theorem k1_off55_inb : ∀ (v1445 : BitVec 32) (k1_hw55 : k1_chk55 v1445), ∀ a, (k1_off55 v1445) a + S1x128.size a ≤ S128x100000.size a := fun v1445 k1_hw55 => k1_hw55.2

def k1_mult56 (v1471 : BitVec 32) : BitVec 32 :=
  let c99872_i32_792 : BitVec 32 := 99872#32
  let c0_i32_791 : BitVec 32 := 0#32
  let c0_i32_784 : BitVec 32 := 0#32
  let v1473 : BitVec 1 := Scalar.cmpi .sgt v1471 c0_i32_784
  let v1474 : BitVec 32 := Scalar.extui v1473
  let c0_i32_785 : BitVec 32 := 0#32
  let v1475 : BitVec 1 := Scalar.cmpi .slt v1471 c0_i32_785
  let v1476 : BitVec 32 := Scalar.extui v1475
  let v1477 : BitVec 32 := Scalar.subi v1474 v1476
  let c128_i32_783 : BitVec 32 := 128#32
  let c0_i32_786 : BitVec 32 := 0#32
  let v1478 : BitVec 1 := Scalar.cmpi .sgt c128_i32_783 c0_i32_786
  let v1479 : BitVec 32 := Scalar.extui v1478
  let c0_i32_787 : BitVec 32 := 0#32
  let v1480 : BitVec 1 := Scalar.cmpi .slt c128_i32_783 c0_i32_787
  let v1481 : BitVec 32 := Scalar.extui v1480
  let v1482 : BitVec 32 := Scalar.subi v1479 v1481
  let v1483 : BitVec 1 := Scalar.cmpi .ne v1477 v1482
  let v1484 : BitVec 32 := Scalar.remsi v1471 c128_i32_783
  let c0_i32_788 : BitVec 32 := 0#32
  let v1485 : BitVec 1 := Scalar.cmpi .ne v1484 c0_i32_788
  let v1486 : BitVec 1 := Scalar.andi v1483 v1485
  let v1472 : BitVec 32 := Scalar.divsi v1471 c128_i32_783
  let c1_i32_789 : BitVec 32 := 1#32
  let v1487 : BitVec 32 := Scalar.subi v1472 c1_i32_789
  let v1488 : BitVec 32 := Scalar.select v1486 v1487 v1472
  let c128_i32_790 : BitVec 32 := 128#32
  let v1489 : BitVec 32 := Scalar.muli v1488 c128_i32_790
  let v1490 : BitVec 32 := Scalar.maxsi c0_i32_791 v1489
  let v1491 : BitVec 32 := Scalar.minsi c99872_i32_792 v1490
  v1491

def k1_off56 (v1471 : BitVec 32) : Fin 2 → Nat :=
  let c55_i32_793 : BitVec 32 := 55#32
  let c99872_i32_792 : BitVec 32 := 99872#32
  let c0_i32_791 : BitVec 32 := 0#32
  let c0_i32_784 : BitVec 32 := 0#32
  let v1473 : BitVec 1 := Scalar.cmpi .sgt v1471 c0_i32_784
  let v1474 : BitVec 32 := Scalar.extui v1473
  let c0_i32_785 : BitVec 32 := 0#32
  let v1475 : BitVec 1 := Scalar.cmpi .slt v1471 c0_i32_785
  let v1476 : BitVec 32 := Scalar.extui v1475
  let v1477 : BitVec 32 := Scalar.subi v1474 v1476
  let c128_i32_783 : BitVec 32 := 128#32
  let c0_i32_786 : BitVec 32 := 0#32
  let v1478 : BitVec 1 := Scalar.cmpi .sgt c128_i32_783 c0_i32_786
  let v1479 : BitVec 32 := Scalar.extui v1478
  let c0_i32_787 : BitVec 32 := 0#32
  let v1480 : BitVec 1 := Scalar.cmpi .slt c128_i32_783 c0_i32_787
  let v1481 : BitVec 32 := Scalar.extui v1480
  let v1482 : BitVec 32 := Scalar.subi v1479 v1481
  let v1483 : BitVec 1 := Scalar.cmpi .ne v1477 v1482
  let v1484 : BitVec 32 := Scalar.remsi v1471 c128_i32_783
  let c0_i32_788 : BitVec 32 := 0#32
  let v1485 : BitVec 1 := Scalar.cmpi .ne v1484 c0_i32_788
  let v1486 : BitVec 1 := Scalar.andi v1483 v1485
  let v1472 : BitVec 32 := Scalar.divsi v1471 c128_i32_783
  let c1_i32_789 : BitVec 32 := 1#32
  let v1487 : BitVec 32 := Scalar.subi v1472 c1_i32_789
  let v1488 : BitVec 32 := Scalar.select v1486 v1487 v1472
  let c128_i32_790 : BitVec 32 := 128#32
  let v1489 : BitVec 32 := Scalar.muli v1488 c128_i32_790
  let v1490 : BitVec 32 := Scalar.maxsi c0_i32_791 v1489
  let v1491 : BitVec 32 := Scalar.minsi c99872_i32_792 v1490
  let v1492 : BitVec 32 := v1491
  ![55, v1492.toNat]

def k1_chk56 (v1471 : BitVec 32) : Prop :=
  (32 ∣ (k1_mult56 v1471).toNat) ∧
  (∀ a, (k1_off56 v1471) a + S1x128.size a ≤ S128x100000.size a)
theorem k1_mult56_dvd : ∀ (v1471 : BitVec 32) (k1_hw56 : k1_chk56 v1471), 32 ∣ (k1_mult56 v1471).toNat := fun v1471 k1_hw56 => k1_hw56.1
theorem k1_off56_inb : ∀ (v1471 : BitVec 32) (k1_hw56 : k1_chk56 v1471), ∀ a, (k1_off56 v1471) a + S1x128.size a ≤ S128x100000.size a := fun v1471 k1_hw56 => k1_hw56.2

def k1_mult57 (v1497 : BitVec 32) : BitVec 32 :=
  let c99872_i32_806 : BitVec 32 := 99872#32
  let c0_i32_805 : BitVec 32 := 0#32
  let c0_i32_798 : BitVec 32 := 0#32
  let v1499 : BitVec 1 := Scalar.cmpi .sgt v1497 c0_i32_798
  let v1500 : BitVec 32 := Scalar.extui v1499
  let c0_i32_799 : BitVec 32 := 0#32
  let v1501 : BitVec 1 := Scalar.cmpi .slt v1497 c0_i32_799
  let v1502 : BitVec 32 := Scalar.extui v1501
  let v1503 : BitVec 32 := Scalar.subi v1500 v1502
  let c128_i32_797 : BitVec 32 := 128#32
  let c0_i32_800 : BitVec 32 := 0#32
  let v1504 : BitVec 1 := Scalar.cmpi .sgt c128_i32_797 c0_i32_800
  let v1505 : BitVec 32 := Scalar.extui v1504
  let c0_i32_801 : BitVec 32 := 0#32
  let v1506 : BitVec 1 := Scalar.cmpi .slt c128_i32_797 c0_i32_801
  let v1507 : BitVec 32 := Scalar.extui v1506
  let v1508 : BitVec 32 := Scalar.subi v1505 v1507
  let v1509 : BitVec 1 := Scalar.cmpi .ne v1503 v1508
  let v1510 : BitVec 32 := Scalar.remsi v1497 c128_i32_797
  let c0_i32_802 : BitVec 32 := 0#32
  let v1511 : BitVec 1 := Scalar.cmpi .ne v1510 c0_i32_802
  let v1512 : BitVec 1 := Scalar.andi v1509 v1511
  let v1498 : BitVec 32 := Scalar.divsi v1497 c128_i32_797
  let c1_i32_803 : BitVec 32 := 1#32
  let v1513 : BitVec 32 := Scalar.subi v1498 c1_i32_803
  let v1514 : BitVec 32 := Scalar.select v1512 v1513 v1498
  let c128_i32_804 : BitVec 32 := 128#32
  let v1515 : BitVec 32 := Scalar.muli v1514 c128_i32_804
  let v1516 : BitVec 32 := Scalar.maxsi c0_i32_805 v1515
  let v1517 : BitVec 32 := Scalar.minsi c99872_i32_806 v1516
  v1517

def k1_off57 (v1497 : BitVec 32) : Fin 2 → Nat :=
  let c56_i32_807 : BitVec 32 := 56#32
  let c99872_i32_806 : BitVec 32 := 99872#32
  let c0_i32_805 : BitVec 32 := 0#32
  let c0_i32_798 : BitVec 32 := 0#32
  let v1499 : BitVec 1 := Scalar.cmpi .sgt v1497 c0_i32_798
  let v1500 : BitVec 32 := Scalar.extui v1499
  let c0_i32_799 : BitVec 32 := 0#32
  let v1501 : BitVec 1 := Scalar.cmpi .slt v1497 c0_i32_799
  let v1502 : BitVec 32 := Scalar.extui v1501
  let v1503 : BitVec 32 := Scalar.subi v1500 v1502
  let c128_i32_797 : BitVec 32 := 128#32
  let c0_i32_800 : BitVec 32 := 0#32
  let v1504 : BitVec 1 := Scalar.cmpi .sgt c128_i32_797 c0_i32_800
  let v1505 : BitVec 32 := Scalar.extui v1504
  let c0_i32_801 : BitVec 32 := 0#32
  let v1506 : BitVec 1 := Scalar.cmpi .slt c128_i32_797 c0_i32_801
  let v1507 : BitVec 32 := Scalar.extui v1506
  let v1508 : BitVec 32 := Scalar.subi v1505 v1507
  let v1509 : BitVec 1 := Scalar.cmpi .ne v1503 v1508
  let v1510 : BitVec 32 := Scalar.remsi v1497 c128_i32_797
  let c0_i32_802 : BitVec 32 := 0#32
  let v1511 : BitVec 1 := Scalar.cmpi .ne v1510 c0_i32_802
  let v1512 : BitVec 1 := Scalar.andi v1509 v1511
  let v1498 : BitVec 32 := Scalar.divsi v1497 c128_i32_797
  let c1_i32_803 : BitVec 32 := 1#32
  let v1513 : BitVec 32 := Scalar.subi v1498 c1_i32_803
  let v1514 : BitVec 32 := Scalar.select v1512 v1513 v1498
  let c128_i32_804 : BitVec 32 := 128#32
  let v1515 : BitVec 32 := Scalar.muli v1514 c128_i32_804
  let v1516 : BitVec 32 := Scalar.maxsi c0_i32_805 v1515
  let v1517 : BitVec 32 := Scalar.minsi c99872_i32_806 v1516
  let v1518 : BitVec 32 := v1517
  ![56, v1518.toNat]

def k1_chk57 (v1497 : BitVec 32) : Prop :=
  (32 ∣ (k1_mult57 v1497).toNat) ∧
  (∀ a, (k1_off57 v1497) a + S1x128.size a ≤ S128x100000.size a)
theorem k1_mult57_dvd : ∀ (v1497 : BitVec 32) (k1_hw57 : k1_chk57 v1497), 32 ∣ (k1_mult57 v1497).toNat := fun v1497 k1_hw57 => k1_hw57.1
theorem k1_off57_inb : ∀ (v1497 : BitVec 32) (k1_hw57 : k1_chk57 v1497), ∀ a, (k1_off57 v1497) a + S1x128.size a ≤ S128x100000.size a := fun v1497 k1_hw57 => k1_hw57.2

def k1_mult58 (v1523 : BitVec 32) : BitVec 32 :=
  let c99872_i32_820 : BitVec 32 := 99872#32
  let c0_i32_819 : BitVec 32 := 0#32
  let c0_i32_812 : BitVec 32 := 0#32
  let v1525 : BitVec 1 := Scalar.cmpi .sgt v1523 c0_i32_812
  let v1526 : BitVec 32 := Scalar.extui v1525
  let c0_i32_813 : BitVec 32 := 0#32
  let v1527 : BitVec 1 := Scalar.cmpi .slt v1523 c0_i32_813
  let v1528 : BitVec 32 := Scalar.extui v1527
  let v1529 : BitVec 32 := Scalar.subi v1526 v1528
  let c128_i32_811 : BitVec 32 := 128#32
  let c0_i32_814 : BitVec 32 := 0#32
  let v1530 : BitVec 1 := Scalar.cmpi .sgt c128_i32_811 c0_i32_814
  let v1531 : BitVec 32 := Scalar.extui v1530
  let c0_i32_815 : BitVec 32 := 0#32
  let v1532 : BitVec 1 := Scalar.cmpi .slt c128_i32_811 c0_i32_815
  let v1533 : BitVec 32 := Scalar.extui v1532
  let v1534 : BitVec 32 := Scalar.subi v1531 v1533
  let v1535 : BitVec 1 := Scalar.cmpi .ne v1529 v1534
  let v1536 : BitVec 32 := Scalar.remsi v1523 c128_i32_811
  let c0_i32_816 : BitVec 32 := 0#32
  let v1537 : BitVec 1 := Scalar.cmpi .ne v1536 c0_i32_816
  let v1538 : BitVec 1 := Scalar.andi v1535 v1537
  let v1524 : BitVec 32 := Scalar.divsi v1523 c128_i32_811
  let c1_i32_817 : BitVec 32 := 1#32
  let v1539 : BitVec 32 := Scalar.subi v1524 c1_i32_817
  let v1540 : BitVec 32 := Scalar.select v1538 v1539 v1524
  let c128_i32_818 : BitVec 32 := 128#32
  let v1541 : BitVec 32 := Scalar.muli v1540 c128_i32_818
  let v1542 : BitVec 32 := Scalar.maxsi c0_i32_819 v1541
  let v1543 : BitVec 32 := Scalar.minsi c99872_i32_820 v1542
  v1543

def k1_off58 (v1523 : BitVec 32) : Fin 2 → Nat :=
  let c57_i32_821 : BitVec 32 := 57#32
  let c99872_i32_820 : BitVec 32 := 99872#32
  let c0_i32_819 : BitVec 32 := 0#32
  let c0_i32_812 : BitVec 32 := 0#32
  let v1525 : BitVec 1 := Scalar.cmpi .sgt v1523 c0_i32_812
  let v1526 : BitVec 32 := Scalar.extui v1525
  let c0_i32_813 : BitVec 32 := 0#32
  let v1527 : BitVec 1 := Scalar.cmpi .slt v1523 c0_i32_813
  let v1528 : BitVec 32 := Scalar.extui v1527
  let v1529 : BitVec 32 := Scalar.subi v1526 v1528
  let c128_i32_811 : BitVec 32 := 128#32
  let c0_i32_814 : BitVec 32 := 0#32
  let v1530 : BitVec 1 := Scalar.cmpi .sgt c128_i32_811 c0_i32_814
  let v1531 : BitVec 32 := Scalar.extui v1530
  let c0_i32_815 : BitVec 32 := 0#32
  let v1532 : BitVec 1 := Scalar.cmpi .slt c128_i32_811 c0_i32_815
  let v1533 : BitVec 32 := Scalar.extui v1532
  let v1534 : BitVec 32 := Scalar.subi v1531 v1533
  let v1535 : BitVec 1 := Scalar.cmpi .ne v1529 v1534
  let v1536 : BitVec 32 := Scalar.remsi v1523 c128_i32_811
  let c0_i32_816 : BitVec 32 := 0#32
  let v1537 : BitVec 1 := Scalar.cmpi .ne v1536 c0_i32_816
  let v1538 : BitVec 1 := Scalar.andi v1535 v1537
  let v1524 : BitVec 32 := Scalar.divsi v1523 c128_i32_811
  let c1_i32_817 : BitVec 32 := 1#32
  let v1539 : BitVec 32 := Scalar.subi v1524 c1_i32_817
  let v1540 : BitVec 32 := Scalar.select v1538 v1539 v1524
  let c128_i32_818 : BitVec 32 := 128#32
  let v1541 : BitVec 32 := Scalar.muli v1540 c128_i32_818
  let v1542 : BitVec 32 := Scalar.maxsi c0_i32_819 v1541
  let v1543 : BitVec 32 := Scalar.minsi c99872_i32_820 v1542
  let v1544 : BitVec 32 := v1543
  ![57, v1544.toNat]

def k1_chk58 (v1523 : BitVec 32) : Prop :=
  (32 ∣ (k1_mult58 v1523).toNat) ∧
  (∀ a, (k1_off58 v1523) a + S1x128.size a ≤ S128x100000.size a)
theorem k1_mult58_dvd : ∀ (v1523 : BitVec 32) (k1_hw58 : k1_chk58 v1523), 32 ∣ (k1_mult58 v1523).toNat := fun v1523 k1_hw58 => k1_hw58.1
theorem k1_off58_inb : ∀ (v1523 : BitVec 32) (k1_hw58 : k1_chk58 v1523), ∀ a, (k1_off58 v1523) a + S1x128.size a ≤ S128x100000.size a := fun v1523 k1_hw58 => k1_hw58.2

def k1_mult59 (v1549 : BitVec 32) : BitVec 32 :=
  let c99872_i32_834 : BitVec 32 := 99872#32
  let c0_i32_833 : BitVec 32 := 0#32
  let c0_i32_826 : BitVec 32 := 0#32
  let v1551 : BitVec 1 := Scalar.cmpi .sgt v1549 c0_i32_826
  let v1552 : BitVec 32 := Scalar.extui v1551
  let c0_i32_827 : BitVec 32 := 0#32
  let v1553 : BitVec 1 := Scalar.cmpi .slt v1549 c0_i32_827
  let v1554 : BitVec 32 := Scalar.extui v1553
  let v1555 : BitVec 32 := Scalar.subi v1552 v1554
  let c128_i32_825 : BitVec 32 := 128#32
  let c0_i32_828 : BitVec 32 := 0#32
  let v1556 : BitVec 1 := Scalar.cmpi .sgt c128_i32_825 c0_i32_828
  let v1557 : BitVec 32 := Scalar.extui v1556
  let c0_i32_829 : BitVec 32 := 0#32
  let v1558 : BitVec 1 := Scalar.cmpi .slt c128_i32_825 c0_i32_829
  let v1559 : BitVec 32 := Scalar.extui v1558
  let v1560 : BitVec 32 := Scalar.subi v1557 v1559
  let v1561 : BitVec 1 := Scalar.cmpi .ne v1555 v1560
  let v1562 : BitVec 32 := Scalar.remsi v1549 c128_i32_825
  let c0_i32_830 : BitVec 32 := 0#32
  let v1563 : BitVec 1 := Scalar.cmpi .ne v1562 c0_i32_830
  let v1564 : BitVec 1 := Scalar.andi v1561 v1563
  let v1550 : BitVec 32 := Scalar.divsi v1549 c128_i32_825
  let c1_i32_831 : BitVec 32 := 1#32
  let v1565 : BitVec 32 := Scalar.subi v1550 c1_i32_831
  let v1566 : BitVec 32 := Scalar.select v1564 v1565 v1550
  let c128_i32_832 : BitVec 32 := 128#32
  let v1567 : BitVec 32 := Scalar.muli v1566 c128_i32_832
  let v1568 : BitVec 32 := Scalar.maxsi c0_i32_833 v1567
  let v1569 : BitVec 32 := Scalar.minsi c99872_i32_834 v1568
  v1569

def k1_off59 (v1549 : BitVec 32) : Fin 2 → Nat :=
  let c58_i32_835 : BitVec 32 := 58#32
  let c99872_i32_834 : BitVec 32 := 99872#32
  let c0_i32_833 : BitVec 32 := 0#32
  let c0_i32_826 : BitVec 32 := 0#32
  let v1551 : BitVec 1 := Scalar.cmpi .sgt v1549 c0_i32_826
  let v1552 : BitVec 32 := Scalar.extui v1551
  let c0_i32_827 : BitVec 32 := 0#32
  let v1553 : BitVec 1 := Scalar.cmpi .slt v1549 c0_i32_827
  let v1554 : BitVec 32 := Scalar.extui v1553
  let v1555 : BitVec 32 := Scalar.subi v1552 v1554
  let c128_i32_825 : BitVec 32 := 128#32
  let c0_i32_828 : BitVec 32 := 0#32
  let v1556 : BitVec 1 := Scalar.cmpi .sgt c128_i32_825 c0_i32_828
  let v1557 : BitVec 32 := Scalar.extui v1556
  let c0_i32_829 : BitVec 32 := 0#32
  let v1558 : BitVec 1 := Scalar.cmpi .slt c128_i32_825 c0_i32_829
  let v1559 : BitVec 32 := Scalar.extui v1558
  let v1560 : BitVec 32 := Scalar.subi v1557 v1559
  let v1561 : BitVec 1 := Scalar.cmpi .ne v1555 v1560
  let v1562 : BitVec 32 := Scalar.remsi v1549 c128_i32_825
  let c0_i32_830 : BitVec 32 := 0#32
  let v1563 : BitVec 1 := Scalar.cmpi .ne v1562 c0_i32_830
  let v1564 : BitVec 1 := Scalar.andi v1561 v1563
  let v1550 : BitVec 32 := Scalar.divsi v1549 c128_i32_825
  let c1_i32_831 : BitVec 32 := 1#32
  let v1565 : BitVec 32 := Scalar.subi v1550 c1_i32_831
  let v1566 : BitVec 32 := Scalar.select v1564 v1565 v1550
  let c128_i32_832 : BitVec 32 := 128#32
  let v1567 : BitVec 32 := Scalar.muli v1566 c128_i32_832
  let v1568 : BitVec 32 := Scalar.maxsi c0_i32_833 v1567
  let v1569 : BitVec 32 := Scalar.minsi c99872_i32_834 v1568
  let v1570 : BitVec 32 := v1569
  ![58, v1570.toNat]

def k1_chk59 (v1549 : BitVec 32) : Prop :=
  (32 ∣ (k1_mult59 v1549).toNat) ∧
  (∀ a, (k1_off59 v1549) a + S1x128.size a ≤ S128x100000.size a)
theorem k1_mult59_dvd : ∀ (v1549 : BitVec 32) (k1_hw59 : k1_chk59 v1549), 32 ∣ (k1_mult59 v1549).toNat := fun v1549 k1_hw59 => k1_hw59.1
theorem k1_off59_inb : ∀ (v1549 : BitVec 32) (k1_hw59 : k1_chk59 v1549), ∀ a, (k1_off59 v1549) a + S1x128.size a ≤ S128x100000.size a := fun v1549 k1_hw59 => k1_hw59.2

def k1_mult60 (v1575 : BitVec 32) : BitVec 32 :=
  let c99872_i32_848 : BitVec 32 := 99872#32
  let c0_i32_847 : BitVec 32 := 0#32
  let c0_i32_840 : BitVec 32 := 0#32
  let v1577 : BitVec 1 := Scalar.cmpi .sgt v1575 c0_i32_840
  let v1578 : BitVec 32 := Scalar.extui v1577
  let c0_i32_841 : BitVec 32 := 0#32
  let v1579 : BitVec 1 := Scalar.cmpi .slt v1575 c0_i32_841
  let v1580 : BitVec 32 := Scalar.extui v1579
  let v1581 : BitVec 32 := Scalar.subi v1578 v1580
  let c128_i32_839 : BitVec 32 := 128#32
  let c0_i32_842 : BitVec 32 := 0#32
  let v1582 : BitVec 1 := Scalar.cmpi .sgt c128_i32_839 c0_i32_842
  let v1583 : BitVec 32 := Scalar.extui v1582
  let c0_i32_843 : BitVec 32 := 0#32
  let v1584 : BitVec 1 := Scalar.cmpi .slt c128_i32_839 c0_i32_843
  let v1585 : BitVec 32 := Scalar.extui v1584
  let v1586 : BitVec 32 := Scalar.subi v1583 v1585
  let v1587 : BitVec 1 := Scalar.cmpi .ne v1581 v1586
  let v1588 : BitVec 32 := Scalar.remsi v1575 c128_i32_839
  let c0_i32_844 : BitVec 32 := 0#32
  let v1589 : BitVec 1 := Scalar.cmpi .ne v1588 c0_i32_844
  let v1590 : BitVec 1 := Scalar.andi v1587 v1589
  let v1576 : BitVec 32 := Scalar.divsi v1575 c128_i32_839
  let c1_i32_845 : BitVec 32 := 1#32
  let v1591 : BitVec 32 := Scalar.subi v1576 c1_i32_845
  let v1592 : BitVec 32 := Scalar.select v1590 v1591 v1576
  let c128_i32_846 : BitVec 32 := 128#32
  let v1593 : BitVec 32 := Scalar.muli v1592 c128_i32_846
  let v1594 : BitVec 32 := Scalar.maxsi c0_i32_847 v1593
  let v1595 : BitVec 32 := Scalar.minsi c99872_i32_848 v1594
  v1595

def k1_off60 (v1575 : BitVec 32) : Fin 2 → Nat :=
  let c59_i32_849 : BitVec 32 := 59#32
  let c99872_i32_848 : BitVec 32 := 99872#32
  let c0_i32_847 : BitVec 32 := 0#32
  let c0_i32_840 : BitVec 32 := 0#32
  let v1577 : BitVec 1 := Scalar.cmpi .sgt v1575 c0_i32_840
  let v1578 : BitVec 32 := Scalar.extui v1577
  let c0_i32_841 : BitVec 32 := 0#32
  let v1579 : BitVec 1 := Scalar.cmpi .slt v1575 c0_i32_841
  let v1580 : BitVec 32 := Scalar.extui v1579
  let v1581 : BitVec 32 := Scalar.subi v1578 v1580
  let c128_i32_839 : BitVec 32 := 128#32
  let c0_i32_842 : BitVec 32 := 0#32
  let v1582 : BitVec 1 := Scalar.cmpi .sgt c128_i32_839 c0_i32_842
  let v1583 : BitVec 32 := Scalar.extui v1582
  let c0_i32_843 : BitVec 32 := 0#32
  let v1584 : BitVec 1 := Scalar.cmpi .slt c128_i32_839 c0_i32_843
  let v1585 : BitVec 32 := Scalar.extui v1584
  let v1586 : BitVec 32 := Scalar.subi v1583 v1585
  let v1587 : BitVec 1 := Scalar.cmpi .ne v1581 v1586
  let v1588 : BitVec 32 := Scalar.remsi v1575 c128_i32_839
  let c0_i32_844 : BitVec 32 := 0#32
  let v1589 : BitVec 1 := Scalar.cmpi .ne v1588 c0_i32_844
  let v1590 : BitVec 1 := Scalar.andi v1587 v1589
  let v1576 : BitVec 32 := Scalar.divsi v1575 c128_i32_839
  let c1_i32_845 : BitVec 32 := 1#32
  let v1591 : BitVec 32 := Scalar.subi v1576 c1_i32_845
  let v1592 : BitVec 32 := Scalar.select v1590 v1591 v1576
  let c128_i32_846 : BitVec 32 := 128#32
  let v1593 : BitVec 32 := Scalar.muli v1592 c128_i32_846
  let v1594 : BitVec 32 := Scalar.maxsi c0_i32_847 v1593
  let v1595 : BitVec 32 := Scalar.minsi c99872_i32_848 v1594
  let v1596 : BitVec 32 := v1595
  ![59, v1596.toNat]

def k1_chk60 (v1575 : BitVec 32) : Prop :=
  (32 ∣ (k1_mult60 v1575).toNat) ∧
  (∀ a, (k1_off60 v1575) a + S1x128.size a ≤ S128x100000.size a)
theorem k1_mult60_dvd : ∀ (v1575 : BitVec 32) (k1_hw60 : k1_chk60 v1575), 32 ∣ (k1_mult60 v1575).toNat := fun v1575 k1_hw60 => k1_hw60.1
theorem k1_off60_inb : ∀ (v1575 : BitVec 32) (k1_hw60 : k1_chk60 v1575), ∀ a, (k1_off60 v1575) a + S1x128.size a ≤ S128x100000.size a := fun v1575 k1_hw60 => k1_hw60.2

def k1_mult61 (v1601 : BitVec 32) : BitVec 32 :=
  let c99872_i32_862 : BitVec 32 := 99872#32
  let c0_i32_861 : BitVec 32 := 0#32
  let c0_i32_854 : BitVec 32 := 0#32
  let v1603 : BitVec 1 := Scalar.cmpi .sgt v1601 c0_i32_854
  let v1604 : BitVec 32 := Scalar.extui v1603
  let c0_i32_855 : BitVec 32 := 0#32
  let v1605 : BitVec 1 := Scalar.cmpi .slt v1601 c0_i32_855
  let v1606 : BitVec 32 := Scalar.extui v1605
  let v1607 : BitVec 32 := Scalar.subi v1604 v1606
  let c128_i32_853 : BitVec 32 := 128#32
  let c0_i32_856 : BitVec 32 := 0#32
  let v1608 : BitVec 1 := Scalar.cmpi .sgt c128_i32_853 c0_i32_856
  let v1609 : BitVec 32 := Scalar.extui v1608
  let c0_i32_857 : BitVec 32 := 0#32
  let v1610 : BitVec 1 := Scalar.cmpi .slt c128_i32_853 c0_i32_857
  let v1611 : BitVec 32 := Scalar.extui v1610
  let v1612 : BitVec 32 := Scalar.subi v1609 v1611
  let v1613 : BitVec 1 := Scalar.cmpi .ne v1607 v1612
  let v1614 : BitVec 32 := Scalar.remsi v1601 c128_i32_853
  let c0_i32_858 : BitVec 32 := 0#32
  let v1615 : BitVec 1 := Scalar.cmpi .ne v1614 c0_i32_858
  let v1616 : BitVec 1 := Scalar.andi v1613 v1615
  let v1602 : BitVec 32 := Scalar.divsi v1601 c128_i32_853
  let c1_i32_859 : BitVec 32 := 1#32
  let v1617 : BitVec 32 := Scalar.subi v1602 c1_i32_859
  let v1618 : BitVec 32 := Scalar.select v1616 v1617 v1602
  let c128_i32_860 : BitVec 32 := 128#32
  let v1619 : BitVec 32 := Scalar.muli v1618 c128_i32_860
  let v1620 : BitVec 32 := Scalar.maxsi c0_i32_861 v1619
  let v1621 : BitVec 32 := Scalar.minsi c99872_i32_862 v1620
  v1621

def k1_off61 (v1601 : BitVec 32) : Fin 2 → Nat :=
  let c60_i32_863 : BitVec 32 := 60#32
  let c99872_i32_862 : BitVec 32 := 99872#32
  let c0_i32_861 : BitVec 32 := 0#32
  let c0_i32_854 : BitVec 32 := 0#32
  let v1603 : BitVec 1 := Scalar.cmpi .sgt v1601 c0_i32_854
  let v1604 : BitVec 32 := Scalar.extui v1603
  let c0_i32_855 : BitVec 32 := 0#32
  let v1605 : BitVec 1 := Scalar.cmpi .slt v1601 c0_i32_855
  let v1606 : BitVec 32 := Scalar.extui v1605
  let v1607 : BitVec 32 := Scalar.subi v1604 v1606
  let c128_i32_853 : BitVec 32 := 128#32
  let c0_i32_856 : BitVec 32 := 0#32
  let v1608 : BitVec 1 := Scalar.cmpi .sgt c128_i32_853 c0_i32_856
  let v1609 : BitVec 32 := Scalar.extui v1608
  let c0_i32_857 : BitVec 32 := 0#32
  let v1610 : BitVec 1 := Scalar.cmpi .slt c128_i32_853 c0_i32_857
  let v1611 : BitVec 32 := Scalar.extui v1610
  let v1612 : BitVec 32 := Scalar.subi v1609 v1611
  let v1613 : BitVec 1 := Scalar.cmpi .ne v1607 v1612
  let v1614 : BitVec 32 := Scalar.remsi v1601 c128_i32_853
  let c0_i32_858 : BitVec 32 := 0#32
  let v1615 : BitVec 1 := Scalar.cmpi .ne v1614 c0_i32_858
  let v1616 : BitVec 1 := Scalar.andi v1613 v1615
  let v1602 : BitVec 32 := Scalar.divsi v1601 c128_i32_853
  let c1_i32_859 : BitVec 32 := 1#32
  let v1617 : BitVec 32 := Scalar.subi v1602 c1_i32_859
  let v1618 : BitVec 32 := Scalar.select v1616 v1617 v1602
  let c128_i32_860 : BitVec 32 := 128#32
  let v1619 : BitVec 32 := Scalar.muli v1618 c128_i32_860
  let v1620 : BitVec 32 := Scalar.maxsi c0_i32_861 v1619
  let v1621 : BitVec 32 := Scalar.minsi c99872_i32_862 v1620
  let v1622 : BitVec 32 := v1621
  ![60, v1622.toNat]

def k1_chk61 (v1601 : BitVec 32) : Prop :=
  (32 ∣ (k1_mult61 v1601).toNat) ∧
  (∀ a, (k1_off61 v1601) a + S1x128.size a ≤ S128x100000.size a)
theorem k1_mult61_dvd : ∀ (v1601 : BitVec 32) (k1_hw61 : k1_chk61 v1601), 32 ∣ (k1_mult61 v1601).toNat := fun v1601 k1_hw61 => k1_hw61.1
theorem k1_off61_inb : ∀ (v1601 : BitVec 32) (k1_hw61 : k1_chk61 v1601), ∀ a, (k1_off61 v1601) a + S1x128.size a ≤ S128x100000.size a := fun v1601 k1_hw61 => k1_hw61.2

def k1_mult62 (v1627 : BitVec 32) : BitVec 32 :=
  let c99872_i32_876 : BitVec 32 := 99872#32
  let c0_i32_875 : BitVec 32 := 0#32
  let c0_i32_868 : BitVec 32 := 0#32
  let v1629 : BitVec 1 := Scalar.cmpi .sgt v1627 c0_i32_868
  let v1630 : BitVec 32 := Scalar.extui v1629
  let c0_i32_869 : BitVec 32 := 0#32
  let v1631 : BitVec 1 := Scalar.cmpi .slt v1627 c0_i32_869
  let v1632 : BitVec 32 := Scalar.extui v1631
  let v1633 : BitVec 32 := Scalar.subi v1630 v1632
  let c128_i32_867 : BitVec 32 := 128#32
  let c0_i32_870 : BitVec 32 := 0#32
  let v1634 : BitVec 1 := Scalar.cmpi .sgt c128_i32_867 c0_i32_870
  let v1635 : BitVec 32 := Scalar.extui v1634
  let c0_i32_871 : BitVec 32 := 0#32
  let v1636 : BitVec 1 := Scalar.cmpi .slt c128_i32_867 c0_i32_871
  let v1637 : BitVec 32 := Scalar.extui v1636
  let v1638 : BitVec 32 := Scalar.subi v1635 v1637
  let v1639 : BitVec 1 := Scalar.cmpi .ne v1633 v1638
  let v1640 : BitVec 32 := Scalar.remsi v1627 c128_i32_867
  let c0_i32_872 : BitVec 32 := 0#32
  let v1641 : BitVec 1 := Scalar.cmpi .ne v1640 c0_i32_872
  let v1642 : BitVec 1 := Scalar.andi v1639 v1641
  let v1628 : BitVec 32 := Scalar.divsi v1627 c128_i32_867
  let c1_i32_873 : BitVec 32 := 1#32
  let v1643 : BitVec 32 := Scalar.subi v1628 c1_i32_873
  let v1644 : BitVec 32 := Scalar.select v1642 v1643 v1628
  let c128_i32_874 : BitVec 32 := 128#32
  let v1645 : BitVec 32 := Scalar.muli v1644 c128_i32_874
  let v1646 : BitVec 32 := Scalar.maxsi c0_i32_875 v1645
  let v1647 : BitVec 32 := Scalar.minsi c99872_i32_876 v1646
  v1647

def k1_off62 (v1627 : BitVec 32) : Fin 2 → Nat :=
  let c61_i32_877 : BitVec 32 := 61#32
  let c99872_i32_876 : BitVec 32 := 99872#32
  let c0_i32_875 : BitVec 32 := 0#32
  let c0_i32_868 : BitVec 32 := 0#32
  let v1629 : BitVec 1 := Scalar.cmpi .sgt v1627 c0_i32_868
  let v1630 : BitVec 32 := Scalar.extui v1629
  let c0_i32_869 : BitVec 32 := 0#32
  let v1631 : BitVec 1 := Scalar.cmpi .slt v1627 c0_i32_869
  let v1632 : BitVec 32 := Scalar.extui v1631
  let v1633 : BitVec 32 := Scalar.subi v1630 v1632
  let c128_i32_867 : BitVec 32 := 128#32
  let c0_i32_870 : BitVec 32 := 0#32
  let v1634 : BitVec 1 := Scalar.cmpi .sgt c128_i32_867 c0_i32_870
  let v1635 : BitVec 32 := Scalar.extui v1634
  let c0_i32_871 : BitVec 32 := 0#32
  let v1636 : BitVec 1 := Scalar.cmpi .slt c128_i32_867 c0_i32_871
  let v1637 : BitVec 32 := Scalar.extui v1636
  let v1638 : BitVec 32 := Scalar.subi v1635 v1637
  let v1639 : BitVec 1 := Scalar.cmpi .ne v1633 v1638
  let v1640 : BitVec 32 := Scalar.remsi v1627 c128_i32_867
  let c0_i32_872 : BitVec 32 := 0#32
  let v1641 : BitVec 1 := Scalar.cmpi .ne v1640 c0_i32_872
  let v1642 : BitVec 1 := Scalar.andi v1639 v1641
  let v1628 : BitVec 32 := Scalar.divsi v1627 c128_i32_867
  let c1_i32_873 : BitVec 32 := 1#32
  let v1643 : BitVec 32 := Scalar.subi v1628 c1_i32_873
  let v1644 : BitVec 32 := Scalar.select v1642 v1643 v1628
  let c128_i32_874 : BitVec 32 := 128#32
  let v1645 : BitVec 32 := Scalar.muli v1644 c128_i32_874
  let v1646 : BitVec 32 := Scalar.maxsi c0_i32_875 v1645
  let v1647 : BitVec 32 := Scalar.minsi c99872_i32_876 v1646
  let v1648 : BitVec 32 := v1647
  ![61, v1648.toNat]

def k1_chk62 (v1627 : BitVec 32) : Prop :=
  (32 ∣ (k1_mult62 v1627).toNat) ∧
  (∀ a, (k1_off62 v1627) a + S1x128.size a ≤ S128x100000.size a)
theorem k1_mult62_dvd : ∀ (v1627 : BitVec 32) (k1_hw62 : k1_chk62 v1627), 32 ∣ (k1_mult62 v1627).toNat := fun v1627 k1_hw62 => k1_hw62.1
theorem k1_off62_inb : ∀ (v1627 : BitVec 32) (k1_hw62 : k1_chk62 v1627), ∀ a, (k1_off62 v1627) a + S1x128.size a ≤ S128x100000.size a := fun v1627 k1_hw62 => k1_hw62.2

def k1_mult63 (v1653 : BitVec 32) : BitVec 32 :=
  let c99872_i32_890 : BitVec 32 := 99872#32
  let c0_i32_889 : BitVec 32 := 0#32
  let c0_i32_882 : BitVec 32 := 0#32
  let v1655 : BitVec 1 := Scalar.cmpi .sgt v1653 c0_i32_882
  let v1656 : BitVec 32 := Scalar.extui v1655
  let c0_i32_883 : BitVec 32 := 0#32
  let v1657 : BitVec 1 := Scalar.cmpi .slt v1653 c0_i32_883
  let v1658 : BitVec 32 := Scalar.extui v1657
  let v1659 : BitVec 32 := Scalar.subi v1656 v1658
  let c128_i32_881 : BitVec 32 := 128#32
  let c0_i32_884 : BitVec 32 := 0#32
  let v1660 : BitVec 1 := Scalar.cmpi .sgt c128_i32_881 c0_i32_884
  let v1661 : BitVec 32 := Scalar.extui v1660
  let c0_i32_885 : BitVec 32 := 0#32
  let v1662 : BitVec 1 := Scalar.cmpi .slt c128_i32_881 c0_i32_885
  let v1663 : BitVec 32 := Scalar.extui v1662
  let v1664 : BitVec 32 := Scalar.subi v1661 v1663
  let v1665 : BitVec 1 := Scalar.cmpi .ne v1659 v1664
  let v1666 : BitVec 32 := Scalar.remsi v1653 c128_i32_881
  let c0_i32_886 : BitVec 32 := 0#32
  let v1667 : BitVec 1 := Scalar.cmpi .ne v1666 c0_i32_886
  let v1668 : BitVec 1 := Scalar.andi v1665 v1667
  let v1654 : BitVec 32 := Scalar.divsi v1653 c128_i32_881
  let c1_i32_887 : BitVec 32 := 1#32
  let v1669 : BitVec 32 := Scalar.subi v1654 c1_i32_887
  let v1670 : BitVec 32 := Scalar.select v1668 v1669 v1654
  let c128_i32_888 : BitVec 32 := 128#32
  let v1671 : BitVec 32 := Scalar.muli v1670 c128_i32_888
  let v1672 : BitVec 32 := Scalar.maxsi c0_i32_889 v1671
  let v1673 : BitVec 32 := Scalar.minsi c99872_i32_890 v1672
  v1673

def k1_off63 (v1653 : BitVec 32) : Fin 2 → Nat :=
  let c62_i32_891 : BitVec 32 := 62#32
  let c99872_i32_890 : BitVec 32 := 99872#32
  let c0_i32_889 : BitVec 32 := 0#32
  let c0_i32_882 : BitVec 32 := 0#32
  let v1655 : BitVec 1 := Scalar.cmpi .sgt v1653 c0_i32_882
  let v1656 : BitVec 32 := Scalar.extui v1655
  let c0_i32_883 : BitVec 32 := 0#32
  let v1657 : BitVec 1 := Scalar.cmpi .slt v1653 c0_i32_883
  let v1658 : BitVec 32 := Scalar.extui v1657
  let v1659 : BitVec 32 := Scalar.subi v1656 v1658
  let c128_i32_881 : BitVec 32 := 128#32
  let c0_i32_884 : BitVec 32 := 0#32
  let v1660 : BitVec 1 := Scalar.cmpi .sgt c128_i32_881 c0_i32_884
  let v1661 : BitVec 32 := Scalar.extui v1660
  let c0_i32_885 : BitVec 32 := 0#32
  let v1662 : BitVec 1 := Scalar.cmpi .slt c128_i32_881 c0_i32_885
  let v1663 : BitVec 32 := Scalar.extui v1662
  let v1664 : BitVec 32 := Scalar.subi v1661 v1663
  let v1665 : BitVec 1 := Scalar.cmpi .ne v1659 v1664
  let v1666 : BitVec 32 := Scalar.remsi v1653 c128_i32_881
  let c0_i32_886 : BitVec 32 := 0#32
  let v1667 : BitVec 1 := Scalar.cmpi .ne v1666 c0_i32_886
  let v1668 : BitVec 1 := Scalar.andi v1665 v1667
  let v1654 : BitVec 32 := Scalar.divsi v1653 c128_i32_881
  let c1_i32_887 : BitVec 32 := 1#32
  let v1669 : BitVec 32 := Scalar.subi v1654 c1_i32_887
  let v1670 : BitVec 32 := Scalar.select v1668 v1669 v1654
  let c128_i32_888 : BitVec 32 := 128#32
  let v1671 : BitVec 32 := Scalar.muli v1670 c128_i32_888
  let v1672 : BitVec 32 := Scalar.maxsi c0_i32_889 v1671
  let v1673 : BitVec 32 := Scalar.minsi c99872_i32_890 v1672
  let v1674 : BitVec 32 := v1673
  ![62, v1674.toNat]

def k1_chk63 (v1653 : BitVec 32) : Prop :=
  (32 ∣ (k1_mult63 v1653).toNat) ∧
  (∀ a, (k1_off63 v1653) a + S1x128.size a ≤ S128x100000.size a)
theorem k1_mult63_dvd : ∀ (v1653 : BitVec 32) (k1_hw63 : k1_chk63 v1653), 32 ∣ (k1_mult63 v1653).toNat := fun v1653 k1_hw63 => k1_hw63.1
theorem k1_off63_inb : ∀ (v1653 : BitVec 32) (k1_hw63 : k1_chk63 v1653), ∀ a, (k1_off63 v1653) a + S1x128.size a ≤ S128x100000.size a := fun v1653 k1_hw63 => k1_hw63.2

def k1_mult64 (v1679 : BitVec 32) : BitVec 32 :=
  let c99872_i32_904 : BitVec 32 := 99872#32
  let c0_i32_903 : BitVec 32 := 0#32
  let c0_i32_896 : BitVec 32 := 0#32
  let v1681 : BitVec 1 := Scalar.cmpi .sgt v1679 c0_i32_896
  let v1682 : BitVec 32 := Scalar.extui v1681
  let c0_i32_897 : BitVec 32 := 0#32
  let v1683 : BitVec 1 := Scalar.cmpi .slt v1679 c0_i32_897
  let v1684 : BitVec 32 := Scalar.extui v1683
  let v1685 : BitVec 32 := Scalar.subi v1682 v1684
  let c128_i32_895 : BitVec 32 := 128#32
  let c0_i32_898 : BitVec 32 := 0#32
  let v1686 : BitVec 1 := Scalar.cmpi .sgt c128_i32_895 c0_i32_898
  let v1687 : BitVec 32 := Scalar.extui v1686
  let c0_i32_899 : BitVec 32 := 0#32
  let v1688 : BitVec 1 := Scalar.cmpi .slt c128_i32_895 c0_i32_899
  let v1689 : BitVec 32 := Scalar.extui v1688
  let v1690 : BitVec 32 := Scalar.subi v1687 v1689
  let v1691 : BitVec 1 := Scalar.cmpi .ne v1685 v1690
  let v1692 : BitVec 32 := Scalar.remsi v1679 c128_i32_895
  let c0_i32_900 : BitVec 32 := 0#32
  let v1693 : BitVec 1 := Scalar.cmpi .ne v1692 c0_i32_900
  let v1694 : BitVec 1 := Scalar.andi v1691 v1693
  let v1680 : BitVec 32 := Scalar.divsi v1679 c128_i32_895
  let c1_i32_901 : BitVec 32 := 1#32
  let v1695 : BitVec 32 := Scalar.subi v1680 c1_i32_901
  let v1696 : BitVec 32 := Scalar.select v1694 v1695 v1680
  let c128_i32_902 : BitVec 32 := 128#32
  let v1697 : BitVec 32 := Scalar.muli v1696 c128_i32_902
  let v1698 : BitVec 32 := Scalar.maxsi c0_i32_903 v1697
  let v1699 : BitVec 32 := Scalar.minsi c99872_i32_904 v1698
  v1699

def k1_off64 (v1679 : BitVec 32) : Fin 2 → Nat :=
  let c63_i32_905 : BitVec 32 := 63#32
  let c99872_i32_904 : BitVec 32 := 99872#32
  let c0_i32_903 : BitVec 32 := 0#32
  let c0_i32_896 : BitVec 32 := 0#32
  let v1681 : BitVec 1 := Scalar.cmpi .sgt v1679 c0_i32_896
  let v1682 : BitVec 32 := Scalar.extui v1681
  let c0_i32_897 : BitVec 32 := 0#32
  let v1683 : BitVec 1 := Scalar.cmpi .slt v1679 c0_i32_897
  let v1684 : BitVec 32 := Scalar.extui v1683
  let v1685 : BitVec 32 := Scalar.subi v1682 v1684
  let c128_i32_895 : BitVec 32 := 128#32
  let c0_i32_898 : BitVec 32 := 0#32
  let v1686 : BitVec 1 := Scalar.cmpi .sgt c128_i32_895 c0_i32_898
  let v1687 : BitVec 32 := Scalar.extui v1686
  let c0_i32_899 : BitVec 32 := 0#32
  let v1688 : BitVec 1 := Scalar.cmpi .slt c128_i32_895 c0_i32_899
  let v1689 : BitVec 32 := Scalar.extui v1688
  let v1690 : BitVec 32 := Scalar.subi v1687 v1689
  let v1691 : BitVec 1 := Scalar.cmpi .ne v1685 v1690
  let v1692 : BitVec 32 := Scalar.remsi v1679 c128_i32_895
  let c0_i32_900 : BitVec 32 := 0#32
  let v1693 : BitVec 1 := Scalar.cmpi .ne v1692 c0_i32_900
  let v1694 : BitVec 1 := Scalar.andi v1691 v1693
  let v1680 : BitVec 32 := Scalar.divsi v1679 c128_i32_895
  let c1_i32_901 : BitVec 32 := 1#32
  let v1695 : BitVec 32 := Scalar.subi v1680 c1_i32_901
  let v1696 : BitVec 32 := Scalar.select v1694 v1695 v1680
  let c128_i32_902 : BitVec 32 := 128#32
  let v1697 : BitVec 32 := Scalar.muli v1696 c128_i32_902
  let v1698 : BitVec 32 := Scalar.maxsi c0_i32_903 v1697
  let v1699 : BitVec 32 := Scalar.minsi c99872_i32_904 v1698
  let v1700 : BitVec 32 := v1699
  ![63, v1700.toNat]

def k1_chk64 (v1679 : BitVec 32) : Prop :=
  (32 ∣ (k1_mult64 v1679).toNat) ∧
  (∀ a, (k1_off64 v1679) a + S1x128.size a ≤ S128x100000.size a)
theorem k1_mult64_dvd : ∀ (v1679 : BitVec 32) (k1_hw64 : k1_chk64 v1679), 32 ∣ (k1_mult64 v1679).toNat := fun v1679 k1_hw64 => k1_hw64.1
theorem k1_off64_inb : ∀ (v1679 : BitVec 32) (k1_hw64 : k1_chk64 v1679), ∀ a, (k1_off64 v1679) a + S1x128.size a ≤ S128x100000.size a := fun v1679 k1_hw64 => k1_hw64.2

def k1_mult65 (v1705 : BitVec 32) : BitVec 32 :=
  let c99872_i32_918 : BitVec 32 := 99872#32
  let c0_i32_917 : BitVec 32 := 0#32
  let c0_i32_910 : BitVec 32 := 0#32
  let v1707 : BitVec 1 := Scalar.cmpi .sgt v1705 c0_i32_910
  let v1708 : BitVec 32 := Scalar.extui v1707
  let c0_i32_911 : BitVec 32 := 0#32
  let v1709 : BitVec 1 := Scalar.cmpi .slt v1705 c0_i32_911
  let v1710 : BitVec 32 := Scalar.extui v1709
  let v1711 : BitVec 32 := Scalar.subi v1708 v1710
  let c128_i32_909 : BitVec 32 := 128#32
  let c0_i32_912 : BitVec 32 := 0#32
  let v1712 : BitVec 1 := Scalar.cmpi .sgt c128_i32_909 c0_i32_912
  let v1713 : BitVec 32 := Scalar.extui v1712
  let c0_i32_913 : BitVec 32 := 0#32
  let v1714 : BitVec 1 := Scalar.cmpi .slt c128_i32_909 c0_i32_913
  let v1715 : BitVec 32 := Scalar.extui v1714
  let v1716 : BitVec 32 := Scalar.subi v1713 v1715
  let v1717 : BitVec 1 := Scalar.cmpi .ne v1711 v1716
  let v1718 : BitVec 32 := Scalar.remsi v1705 c128_i32_909
  let c0_i32_914 : BitVec 32 := 0#32
  let v1719 : BitVec 1 := Scalar.cmpi .ne v1718 c0_i32_914
  let v1720 : BitVec 1 := Scalar.andi v1717 v1719
  let v1706 : BitVec 32 := Scalar.divsi v1705 c128_i32_909
  let c1_i32_915 : BitVec 32 := 1#32
  let v1721 : BitVec 32 := Scalar.subi v1706 c1_i32_915
  let v1722 : BitVec 32 := Scalar.select v1720 v1721 v1706
  let c128_i32_916 : BitVec 32 := 128#32
  let v1723 : BitVec 32 := Scalar.muli v1722 c128_i32_916
  let v1724 : BitVec 32 := Scalar.maxsi c0_i32_917 v1723
  let v1725 : BitVec 32 := Scalar.minsi c99872_i32_918 v1724
  v1725

def k1_off65 (v1705 : BitVec 32) : Fin 2 → Nat :=
  let c64_i32_919 : BitVec 32 := 64#32
  let c99872_i32_918 : BitVec 32 := 99872#32
  let c0_i32_917 : BitVec 32 := 0#32
  let c0_i32_910 : BitVec 32 := 0#32
  let v1707 : BitVec 1 := Scalar.cmpi .sgt v1705 c0_i32_910
  let v1708 : BitVec 32 := Scalar.extui v1707
  let c0_i32_911 : BitVec 32 := 0#32
  let v1709 : BitVec 1 := Scalar.cmpi .slt v1705 c0_i32_911
  let v1710 : BitVec 32 := Scalar.extui v1709
  let v1711 : BitVec 32 := Scalar.subi v1708 v1710
  let c128_i32_909 : BitVec 32 := 128#32
  let c0_i32_912 : BitVec 32 := 0#32
  let v1712 : BitVec 1 := Scalar.cmpi .sgt c128_i32_909 c0_i32_912
  let v1713 : BitVec 32 := Scalar.extui v1712
  let c0_i32_913 : BitVec 32 := 0#32
  let v1714 : BitVec 1 := Scalar.cmpi .slt c128_i32_909 c0_i32_913
  let v1715 : BitVec 32 := Scalar.extui v1714
  let v1716 : BitVec 32 := Scalar.subi v1713 v1715
  let v1717 : BitVec 1 := Scalar.cmpi .ne v1711 v1716
  let v1718 : BitVec 32 := Scalar.remsi v1705 c128_i32_909
  let c0_i32_914 : BitVec 32 := 0#32
  let v1719 : BitVec 1 := Scalar.cmpi .ne v1718 c0_i32_914
  let v1720 : BitVec 1 := Scalar.andi v1717 v1719
  let v1706 : BitVec 32 := Scalar.divsi v1705 c128_i32_909
  let c1_i32_915 : BitVec 32 := 1#32
  let v1721 : BitVec 32 := Scalar.subi v1706 c1_i32_915
  let v1722 : BitVec 32 := Scalar.select v1720 v1721 v1706
  let c128_i32_916 : BitVec 32 := 128#32
  let v1723 : BitVec 32 := Scalar.muli v1722 c128_i32_916
  let v1724 : BitVec 32 := Scalar.maxsi c0_i32_917 v1723
  let v1725 : BitVec 32 := Scalar.minsi c99872_i32_918 v1724
  let v1726 : BitVec 32 := v1725
  ![64, v1726.toNat]

def k1_chk65 (v1705 : BitVec 32) : Prop :=
  (32 ∣ (k1_mult65 v1705).toNat) ∧
  (∀ a, (k1_off65 v1705) a + S1x128.size a ≤ S128x100000.size a)
theorem k1_mult65_dvd : ∀ (v1705 : BitVec 32) (k1_hw65 : k1_chk65 v1705), 32 ∣ (k1_mult65 v1705).toNat := fun v1705 k1_hw65 => k1_hw65.1
theorem k1_off65_inb : ∀ (v1705 : BitVec 32) (k1_hw65 : k1_chk65 v1705), ∀ a, (k1_off65 v1705) a + S1x128.size a ≤ S128x100000.size a := fun v1705 k1_hw65 => k1_hw65.2

def k1_mult66 (v1731 : BitVec 32) : BitVec 32 :=
  let c99872_i32_932 : BitVec 32 := 99872#32
  let c0_i32_931 : BitVec 32 := 0#32
  let c0_i32_924 : BitVec 32 := 0#32
  let v1733 : BitVec 1 := Scalar.cmpi .sgt v1731 c0_i32_924
  let v1734 : BitVec 32 := Scalar.extui v1733
  let c0_i32_925 : BitVec 32 := 0#32
  let v1735 : BitVec 1 := Scalar.cmpi .slt v1731 c0_i32_925
  let v1736 : BitVec 32 := Scalar.extui v1735
  let v1737 : BitVec 32 := Scalar.subi v1734 v1736
  let c128_i32_923 : BitVec 32 := 128#32
  let c0_i32_926 : BitVec 32 := 0#32
  let v1738 : BitVec 1 := Scalar.cmpi .sgt c128_i32_923 c0_i32_926
  let v1739 : BitVec 32 := Scalar.extui v1738
  let c0_i32_927 : BitVec 32 := 0#32
  let v1740 : BitVec 1 := Scalar.cmpi .slt c128_i32_923 c0_i32_927
  let v1741 : BitVec 32 := Scalar.extui v1740
  let v1742 : BitVec 32 := Scalar.subi v1739 v1741
  let v1743 : BitVec 1 := Scalar.cmpi .ne v1737 v1742
  let v1744 : BitVec 32 := Scalar.remsi v1731 c128_i32_923
  let c0_i32_928 : BitVec 32 := 0#32
  let v1745 : BitVec 1 := Scalar.cmpi .ne v1744 c0_i32_928
  let v1746 : BitVec 1 := Scalar.andi v1743 v1745
  let v1732 : BitVec 32 := Scalar.divsi v1731 c128_i32_923
  let c1_i32_929 : BitVec 32 := 1#32
  let v1747 : BitVec 32 := Scalar.subi v1732 c1_i32_929
  let v1748 : BitVec 32 := Scalar.select v1746 v1747 v1732
  let c128_i32_930 : BitVec 32 := 128#32
  let v1749 : BitVec 32 := Scalar.muli v1748 c128_i32_930
  let v1750 : BitVec 32 := Scalar.maxsi c0_i32_931 v1749
  let v1751 : BitVec 32 := Scalar.minsi c99872_i32_932 v1750
  v1751

def k1_off66 (v1731 : BitVec 32) : Fin 2 → Nat :=
  let c65_i32_933 : BitVec 32 := 65#32
  let c99872_i32_932 : BitVec 32 := 99872#32
  let c0_i32_931 : BitVec 32 := 0#32
  let c0_i32_924 : BitVec 32 := 0#32
  let v1733 : BitVec 1 := Scalar.cmpi .sgt v1731 c0_i32_924
  let v1734 : BitVec 32 := Scalar.extui v1733
  let c0_i32_925 : BitVec 32 := 0#32
  let v1735 : BitVec 1 := Scalar.cmpi .slt v1731 c0_i32_925
  let v1736 : BitVec 32 := Scalar.extui v1735
  let v1737 : BitVec 32 := Scalar.subi v1734 v1736
  let c128_i32_923 : BitVec 32 := 128#32
  let c0_i32_926 : BitVec 32 := 0#32
  let v1738 : BitVec 1 := Scalar.cmpi .sgt c128_i32_923 c0_i32_926
  let v1739 : BitVec 32 := Scalar.extui v1738
  let c0_i32_927 : BitVec 32 := 0#32
  let v1740 : BitVec 1 := Scalar.cmpi .slt c128_i32_923 c0_i32_927
  let v1741 : BitVec 32 := Scalar.extui v1740
  let v1742 : BitVec 32 := Scalar.subi v1739 v1741
  let v1743 : BitVec 1 := Scalar.cmpi .ne v1737 v1742
  let v1744 : BitVec 32 := Scalar.remsi v1731 c128_i32_923
  let c0_i32_928 : BitVec 32 := 0#32
  let v1745 : BitVec 1 := Scalar.cmpi .ne v1744 c0_i32_928
  let v1746 : BitVec 1 := Scalar.andi v1743 v1745
  let v1732 : BitVec 32 := Scalar.divsi v1731 c128_i32_923
  let c1_i32_929 : BitVec 32 := 1#32
  let v1747 : BitVec 32 := Scalar.subi v1732 c1_i32_929
  let v1748 : BitVec 32 := Scalar.select v1746 v1747 v1732
  let c128_i32_930 : BitVec 32 := 128#32
  let v1749 : BitVec 32 := Scalar.muli v1748 c128_i32_930
  let v1750 : BitVec 32 := Scalar.maxsi c0_i32_931 v1749
  let v1751 : BitVec 32 := Scalar.minsi c99872_i32_932 v1750
  let v1752 : BitVec 32 := v1751
  ![65, v1752.toNat]

def k1_chk66 (v1731 : BitVec 32) : Prop :=
  (32 ∣ (k1_mult66 v1731).toNat) ∧
  (∀ a, (k1_off66 v1731) a + S1x128.size a ≤ S128x100000.size a)
theorem k1_mult66_dvd : ∀ (v1731 : BitVec 32) (k1_hw66 : k1_chk66 v1731), 32 ∣ (k1_mult66 v1731).toNat := fun v1731 k1_hw66 => k1_hw66.1
theorem k1_off66_inb : ∀ (v1731 : BitVec 32) (k1_hw66 : k1_chk66 v1731), ∀ a, (k1_off66 v1731) a + S1x128.size a ≤ S128x100000.size a := fun v1731 k1_hw66 => k1_hw66.2

def k1_mult67 (v1757 : BitVec 32) : BitVec 32 :=
  let c99872_i32_946 : BitVec 32 := 99872#32
  let c0_i32_945 : BitVec 32 := 0#32
  let c0_i32_938 : BitVec 32 := 0#32
  let v1759 : BitVec 1 := Scalar.cmpi .sgt v1757 c0_i32_938
  let v1760 : BitVec 32 := Scalar.extui v1759
  let c0_i32_939 : BitVec 32 := 0#32
  let v1761 : BitVec 1 := Scalar.cmpi .slt v1757 c0_i32_939
  let v1762 : BitVec 32 := Scalar.extui v1761
  let v1763 : BitVec 32 := Scalar.subi v1760 v1762
  let c128_i32_937 : BitVec 32 := 128#32
  let c0_i32_940 : BitVec 32 := 0#32
  let v1764 : BitVec 1 := Scalar.cmpi .sgt c128_i32_937 c0_i32_940
  let v1765 : BitVec 32 := Scalar.extui v1764
  let c0_i32_941 : BitVec 32 := 0#32
  let v1766 : BitVec 1 := Scalar.cmpi .slt c128_i32_937 c0_i32_941
  let v1767 : BitVec 32 := Scalar.extui v1766
  let v1768 : BitVec 32 := Scalar.subi v1765 v1767
  let v1769 : BitVec 1 := Scalar.cmpi .ne v1763 v1768
  let v1770 : BitVec 32 := Scalar.remsi v1757 c128_i32_937
  let c0_i32_942 : BitVec 32 := 0#32
  let v1771 : BitVec 1 := Scalar.cmpi .ne v1770 c0_i32_942
  let v1772 : BitVec 1 := Scalar.andi v1769 v1771
  let v1758 : BitVec 32 := Scalar.divsi v1757 c128_i32_937
  let c1_i32_943 : BitVec 32 := 1#32
  let v1773 : BitVec 32 := Scalar.subi v1758 c1_i32_943
  let v1774 : BitVec 32 := Scalar.select v1772 v1773 v1758
  let c128_i32_944 : BitVec 32 := 128#32
  let v1775 : BitVec 32 := Scalar.muli v1774 c128_i32_944
  let v1776 : BitVec 32 := Scalar.maxsi c0_i32_945 v1775
  let v1777 : BitVec 32 := Scalar.minsi c99872_i32_946 v1776
  v1777

def k1_off67 (v1757 : BitVec 32) : Fin 2 → Nat :=
  let c66_i32_947 : BitVec 32 := 66#32
  let c99872_i32_946 : BitVec 32 := 99872#32
  let c0_i32_945 : BitVec 32 := 0#32
  let c0_i32_938 : BitVec 32 := 0#32
  let v1759 : BitVec 1 := Scalar.cmpi .sgt v1757 c0_i32_938
  let v1760 : BitVec 32 := Scalar.extui v1759
  let c0_i32_939 : BitVec 32 := 0#32
  let v1761 : BitVec 1 := Scalar.cmpi .slt v1757 c0_i32_939
  let v1762 : BitVec 32 := Scalar.extui v1761
  let v1763 : BitVec 32 := Scalar.subi v1760 v1762
  let c128_i32_937 : BitVec 32 := 128#32
  let c0_i32_940 : BitVec 32 := 0#32
  let v1764 : BitVec 1 := Scalar.cmpi .sgt c128_i32_937 c0_i32_940
  let v1765 : BitVec 32 := Scalar.extui v1764
  let c0_i32_941 : BitVec 32 := 0#32
  let v1766 : BitVec 1 := Scalar.cmpi .slt c128_i32_937 c0_i32_941
  let v1767 : BitVec 32 := Scalar.extui v1766
  let v1768 : BitVec 32 := Scalar.subi v1765 v1767
  let v1769 : BitVec 1 := Scalar.cmpi .ne v1763 v1768
  let v1770 : BitVec 32 := Scalar.remsi v1757 c128_i32_937
  let c0_i32_942 : BitVec 32 := 0#32
  let v1771 : BitVec 1 := Scalar.cmpi .ne v1770 c0_i32_942
  let v1772 : BitVec 1 := Scalar.andi v1769 v1771
  let v1758 : BitVec 32 := Scalar.divsi v1757 c128_i32_937
  let c1_i32_943 : BitVec 32 := 1#32
  let v1773 : BitVec 32 := Scalar.subi v1758 c1_i32_943
  let v1774 : BitVec 32 := Scalar.select v1772 v1773 v1758
  let c128_i32_944 : BitVec 32 := 128#32
  let v1775 : BitVec 32 := Scalar.muli v1774 c128_i32_944
  let v1776 : BitVec 32 := Scalar.maxsi c0_i32_945 v1775
  let v1777 : BitVec 32 := Scalar.minsi c99872_i32_946 v1776
  let v1778 : BitVec 32 := v1777
  ![66, v1778.toNat]

def k1_chk67 (v1757 : BitVec 32) : Prop :=
  (32 ∣ (k1_mult67 v1757).toNat) ∧
  (∀ a, (k1_off67 v1757) a + S1x128.size a ≤ S128x100000.size a)
theorem k1_mult67_dvd : ∀ (v1757 : BitVec 32) (k1_hw67 : k1_chk67 v1757), 32 ∣ (k1_mult67 v1757).toNat := fun v1757 k1_hw67 => k1_hw67.1
theorem k1_off67_inb : ∀ (v1757 : BitVec 32) (k1_hw67 : k1_chk67 v1757), ∀ a, (k1_off67 v1757) a + S1x128.size a ≤ S128x100000.size a := fun v1757 k1_hw67 => k1_hw67.2

def k1_mult68 (v1783 : BitVec 32) : BitVec 32 :=
  let c99872_i32_960 : BitVec 32 := 99872#32
  let c0_i32_959 : BitVec 32 := 0#32
  let c0_i32_952 : BitVec 32 := 0#32
  let v1785 : BitVec 1 := Scalar.cmpi .sgt v1783 c0_i32_952
  let v1786 : BitVec 32 := Scalar.extui v1785
  let c0_i32_953 : BitVec 32 := 0#32
  let v1787 : BitVec 1 := Scalar.cmpi .slt v1783 c0_i32_953
  let v1788 : BitVec 32 := Scalar.extui v1787
  let v1789 : BitVec 32 := Scalar.subi v1786 v1788
  let c128_i32_951 : BitVec 32 := 128#32
  let c0_i32_954 : BitVec 32 := 0#32
  let v1790 : BitVec 1 := Scalar.cmpi .sgt c128_i32_951 c0_i32_954
  let v1791 : BitVec 32 := Scalar.extui v1790
  let c0_i32_955 : BitVec 32 := 0#32
  let v1792 : BitVec 1 := Scalar.cmpi .slt c128_i32_951 c0_i32_955
  let v1793 : BitVec 32 := Scalar.extui v1792
  let v1794 : BitVec 32 := Scalar.subi v1791 v1793
  let v1795 : BitVec 1 := Scalar.cmpi .ne v1789 v1794
  let v1796 : BitVec 32 := Scalar.remsi v1783 c128_i32_951
  let c0_i32_956 : BitVec 32 := 0#32
  let v1797 : BitVec 1 := Scalar.cmpi .ne v1796 c0_i32_956
  let v1798 : BitVec 1 := Scalar.andi v1795 v1797
  let v1784 : BitVec 32 := Scalar.divsi v1783 c128_i32_951
  let c1_i32_957 : BitVec 32 := 1#32
  let v1799 : BitVec 32 := Scalar.subi v1784 c1_i32_957
  let v1800 : BitVec 32 := Scalar.select v1798 v1799 v1784
  let c128_i32_958 : BitVec 32 := 128#32
  let v1801 : BitVec 32 := Scalar.muli v1800 c128_i32_958
  let v1802 : BitVec 32 := Scalar.maxsi c0_i32_959 v1801
  let v1803 : BitVec 32 := Scalar.minsi c99872_i32_960 v1802
  v1803

def k1_off68 (v1783 : BitVec 32) : Fin 2 → Nat :=
  let c67_i32_961 : BitVec 32 := 67#32
  let c99872_i32_960 : BitVec 32 := 99872#32
  let c0_i32_959 : BitVec 32 := 0#32
  let c0_i32_952 : BitVec 32 := 0#32
  let v1785 : BitVec 1 := Scalar.cmpi .sgt v1783 c0_i32_952
  let v1786 : BitVec 32 := Scalar.extui v1785
  let c0_i32_953 : BitVec 32 := 0#32
  let v1787 : BitVec 1 := Scalar.cmpi .slt v1783 c0_i32_953
  let v1788 : BitVec 32 := Scalar.extui v1787
  let v1789 : BitVec 32 := Scalar.subi v1786 v1788
  let c128_i32_951 : BitVec 32 := 128#32
  let c0_i32_954 : BitVec 32 := 0#32
  let v1790 : BitVec 1 := Scalar.cmpi .sgt c128_i32_951 c0_i32_954
  let v1791 : BitVec 32 := Scalar.extui v1790
  let c0_i32_955 : BitVec 32 := 0#32
  let v1792 : BitVec 1 := Scalar.cmpi .slt c128_i32_951 c0_i32_955
  let v1793 : BitVec 32 := Scalar.extui v1792
  let v1794 : BitVec 32 := Scalar.subi v1791 v1793
  let v1795 : BitVec 1 := Scalar.cmpi .ne v1789 v1794
  let v1796 : BitVec 32 := Scalar.remsi v1783 c128_i32_951
  let c0_i32_956 : BitVec 32 := 0#32
  let v1797 : BitVec 1 := Scalar.cmpi .ne v1796 c0_i32_956
  let v1798 : BitVec 1 := Scalar.andi v1795 v1797
  let v1784 : BitVec 32 := Scalar.divsi v1783 c128_i32_951
  let c1_i32_957 : BitVec 32 := 1#32
  let v1799 : BitVec 32 := Scalar.subi v1784 c1_i32_957
  let v1800 : BitVec 32 := Scalar.select v1798 v1799 v1784
  let c128_i32_958 : BitVec 32 := 128#32
  let v1801 : BitVec 32 := Scalar.muli v1800 c128_i32_958
  let v1802 : BitVec 32 := Scalar.maxsi c0_i32_959 v1801
  let v1803 : BitVec 32 := Scalar.minsi c99872_i32_960 v1802
  let v1804 : BitVec 32 := v1803
  ![67, v1804.toNat]

def k1_chk68 (v1783 : BitVec 32) : Prop :=
  (32 ∣ (k1_mult68 v1783).toNat) ∧
  (∀ a, (k1_off68 v1783) a + S1x128.size a ≤ S128x100000.size a)
theorem k1_mult68_dvd : ∀ (v1783 : BitVec 32) (k1_hw68 : k1_chk68 v1783), 32 ∣ (k1_mult68 v1783).toNat := fun v1783 k1_hw68 => k1_hw68.1
theorem k1_off68_inb : ∀ (v1783 : BitVec 32) (k1_hw68 : k1_chk68 v1783), ∀ a, (k1_off68 v1783) a + S1x128.size a ≤ S128x100000.size a := fun v1783 k1_hw68 => k1_hw68.2

def k1_mult69 (v1809 : BitVec 32) : BitVec 32 :=
  let c99872_i32_974 : BitVec 32 := 99872#32
  let c0_i32_973 : BitVec 32 := 0#32
  let c0_i32_966 : BitVec 32 := 0#32
  let v1811 : BitVec 1 := Scalar.cmpi .sgt v1809 c0_i32_966
  let v1812 : BitVec 32 := Scalar.extui v1811
  let c0_i32_967 : BitVec 32 := 0#32
  let v1813 : BitVec 1 := Scalar.cmpi .slt v1809 c0_i32_967
  let v1814 : BitVec 32 := Scalar.extui v1813
  let v1815 : BitVec 32 := Scalar.subi v1812 v1814
  let c128_i32_965 : BitVec 32 := 128#32
  let c0_i32_968 : BitVec 32 := 0#32
  let v1816 : BitVec 1 := Scalar.cmpi .sgt c128_i32_965 c0_i32_968
  let v1817 : BitVec 32 := Scalar.extui v1816
  let c0_i32_969 : BitVec 32 := 0#32
  let v1818 : BitVec 1 := Scalar.cmpi .slt c128_i32_965 c0_i32_969
  let v1819 : BitVec 32 := Scalar.extui v1818
  let v1820 : BitVec 32 := Scalar.subi v1817 v1819
  let v1821 : BitVec 1 := Scalar.cmpi .ne v1815 v1820
  let v1822 : BitVec 32 := Scalar.remsi v1809 c128_i32_965
  let c0_i32_970 : BitVec 32 := 0#32
  let v1823 : BitVec 1 := Scalar.cmpi .ne v1822 c0_i32_970
  let v1824 : BitVec 1 := Scalar.andi v1821 v1823
  let v1810 : BitVec 32 := Scalar.divsi v1809 c128_i32_965
  let c1_i32_971 : BitVec 32 := 1#32
  let v1825 : BitVec 32 := Scalar.subi v1810 c1_i32_971
  let v1826 : BitVec 32 := Scalar.select v1824 v1825 v1810
  let c128_i32_972 : BitVec 32 := 128#32
  let v1827 : BitVec 32 := Scalar.muli v1826 c128_i32_972
  let v1828 : BitVec 32 := Scalar.maxsi c0_i32_973 v1827
  let v1829 : BitVec 32 := Scalar.minsi c99872_i32_974 v1828
  v1829

def k1_off69 (v1809 : BitVec 32) : Fin 2 → Nat :=
  let c68_i32_975 : BitVec 32 := 68#32
  let c99872_i32_974 : BitVec 32 := 99872#32
  let c0_i32_973 : BitVec 32 := 0#32
  let c0_i32_966 : BitVec 32 := 0#32
  let v1811 : BitVec 1 := Scalar.cmpi .sgt v1809 c0_i32_966
  let v1812 : BitVec 32 := Scalar.extui v1811
  let c0_i32_967 : BitVec 32 := 0#32
  let v1813 : BitVec 1 := Scalar.cmpi .slt v1809 c0_i32_967
  let v1814 : BitVec 32 := Scalar.extui v1813
  let v1815 : BitVec 32 := Scalar.subi v1812 v1814
  let c128_i32_965 : BitVec 32 := 128#32
  let c0_i32_968 : BitVec 32 := 0#32
  let v1816 : BitVec 1 := Scalar.cmpi .sgt c128_i32_965 c0_i32_968
  let v1817 : BitVec 32 := Scalar.extui v1816
  let c0_i32_969 : BitVec 32 := 0#32
  let v1818 : BitVec 1 := Scalar.cmpi .slt c128_i32_965 c0_i32_969
  let v1819 : BitVec 32 := Scalar.extui v1818
  let v1820 : BitVec 32 := Scalar.subi v1817 v1819
  let v1821 : BitVec 1 := Scalar.cmpi .ne v1815 v1820
  let v1822 : BitVec 32 := Scalar.remsi v1809 c128_i32_965
  let c0_i32_970 : BitVec 32 := 0#32
  let v1823 : BitVec 1 := Scalar.cmpi .ne v1822 c0_i32_970
  let v1824 : BitVec 1 := Scalar.andi v1821 v1823
  let v1810 : BitVec 32 := Scalar.divsi v1809 c128_i32_965
  let c1_i32_971 : BitVec 32 := 1#32
  let v1825 : BitVec 32 := Scalar.subi v1810 c1_i32_971
  let v1826 : BitVec 32 := Scalar.select v1824 v1825 v1810
  let c128_i32_972 : BitVec 32 := 128#32
  let v1827 : BitVec 32 := Scalar.muli v1826 c128_i32_972
  let v1828 : BitVec 32 := Scalar.maxsi c0_i32_973 v1827
  let v1829 : BitVec 32 := Scalar.minsi c99872_i32_974 v1828
  let v1830 : BitVec 32 := v1829
  ![68, v1830.toNat]

def k1_chk69 (v1809 : BitVec 32) : Prop :=
  (32 ∣ (k1_mult69 v1809).toNat) ∧
  (∀ a, (k1_off69 v1809) a + S1x128.size a ≤ S128x100000.size a)
theorem k1_mult69_dvd : ∀ (v1809 : BitVec 32) (k1_hw69 : k1_chk69 v1809), 32 ∣ (k1_mult69 v1809).toNat := fun v1809 k1_hw69 => k1_hw69.1
theorem k1_off69_inb : ∀ (v1809 : BitVec 32) (k1_hw69 : k1_chk69 v1809), ∀ a, (k1_off69 v1809) a + S1x128.size a ≤ S128x100000.size a := fun v1809 k1_hw69 => k1_hw69.2

def k1_mult70 (v1835 : BitVec 32) : BitVec 32 :=
  let c99872_i32_988 : BitVec 32 := 99872#32
  let c0_i32_987 : BitVec 32 := 0#32
  let c0_i32_980 : BitVec 32 := 0#32
  let v1837 : BitVec 1 := Scalar.cmpi .sgt v1835 c0_i32_980
  let v1838 : BitVec 32 := Scalar.extui v1837
  let c0_i32_981 : BitVec 32 := 0#32
  let v1839 : BitVec 1 := Scalar.cmpi .slt v1835 c0_i32_981
  let v1840 : BitVec 32 := Scalar.extui v1839
  let v1841 : BitVec 32 := Scalar.subi v1838 v1840
  let c128_i32_979 : BitVec 32 := 128#32
  let c0_i32_982 : BitVec 32 := 0#32
  let v1842 : BitVec 1 := Scalar.cmpi .sgt c128_i32_979 c0_i32_982
  let v1843 : BitVec 32 := Scalar.extui v1842
  let c0_i32_983 : BitVec 32 := 0#32
  let v1844 : BitVec 1 := Scalar.cmpi .slt c128_i32_979 c0_i32_983
  let v1845 : BitVec 32 := Scalar.extui v1844
  let v1846 : BitVec 32 := Scalar.subi v1843 v1845
  let v1847 : BitVec 1 := Scalar.cmpi .ne v1841 v1846
  let v1848 : BitVec 32 := Scalar.remsi v1835 c128_i32_979
  let c0_i32_984 : BitVec 32 := 0#32
  let v1849 : BitVec 1 := Scalar.cmpi .ne v1848 c0_i32_984
  let v1850 : BitVec 1 := Scalar.andi v1847 v1849
  let v1836 : BitVec 32 := Scalar.divsi v1835 c128_i32_979
  let c1_i32_985 : BitVec 32 := 1#32
  let v1851 : BitVec 32 := Scalar.subi v1836 c1_i32_985
  let v1852 : BitVec 32 := Scalar.select v1850 v1851 v1836
  let c128_i32_986 : BitVec 32 := 128#32
  let v1853 : BitVec 32 := Scalar.muli v1852 c128_i32_986
  let v1854 : BitVec 32 := Scalar.maxsi c0_i32_987 v1853
  let v1855 : BitVec 32 := Scalar.minsi c99872_i32_988 v1854
  v1855

def k1_off70 (v1835 : BitVec 32) : Fin 2 → Nat :=
  let c69_i32_989 : BitVec 32 := 69#32
  let c99872_i32_988 : BitVec 32 := 99872#32
  let c0_i32_987 : BitVec 32 := 0#32
  let c0_i32_980 : BitVec 32 := 0#32
  let v1837 : BitVec 1 := Scalar.cmpi .sgt v1835 c0_i32_980
  let v1838 : BitVec 32 := Scalar.extui v1837
  let c0_i32_981 : BitVec 32 := 0#32
  let v1839 : BitVec 1 := Scalar.cmpi .slt v1835 c0_i32_981
  let v1840 : BitVec 32 := Scalar.extui v1839
  let v1841 : BitVec 32 := Scalar.subi v1838 v1840
  let c128_i32_979 : BitVec 32 := 128#32
  let c0_i32_982 : BitVec 32 := 0#32
  let v1842 : BitVec 1 := Scalar.cmpi .sgt c128_i32_979 c0_i32_982
  let v1843 : BitVec 32 := Scalar.extui v1842
  let c0_i32_983 : BitVec 32 := 0#32
  let v1844 : BitVec 1 := Scalar.cmpi .slt c128_i32_979 c0_i32_983
  let v1845 : BitVec 32 := Scalar.extui v1844
  let v1846 : BitVec 32 := Scalar.subi v1843 v1845
  let v1847 : BitVec 1 := Scalar.cmpi .ne v1841 v1846
  let v1848 : BitVec 32 := Scalar.remsi v1835 c128_i32_979
  let c0_i32_984 : BitVec 32 := 0#32
  let v1849 : BitVec 1 := Scalar.cmpi .ne v1848 c0_i32_984
  let v1850 : BitVec 1 := Scalar.andi v1847 v1849
  let v1836 : BitVec 32 := Scalar.divsi v1835 c128_i32_979
  let c1_i32_985 : BitVec 32 := 1#32
  let v1851 : BitVec 32 := Scalar.subi v1836 c1_i32_985
  let v1852 : BitVec 32 := Scalar.select v1850 v1851 v1836
  let c128_i32_986 : BitVec 32 := 128#32
  let v1853 : BitVec 32 := Scalar.muli v1852 c128_i32_986
  let v1854 : BitVec 32 := Scalar.maxsi c0_i32_987 v1853
  let v1855 : BitVec 32 := Scalar.minsi c99872_i32_988 v1854
  let v1856 : BitVec 32 := v1855
  ![69, v1856.toNat]

def k1_chk70 (v1835 : BitVec 32) : Prop :=
  (32 ∣ (k1_mult70 v1835).toNat) ∧
  (∀ a, (k1_off70 v1835) a + S1x128.size a ≤ S128x100000.size a)
theorem k1_mult70_dvd : ∀ (v1835 : BitVec 32) (k1_hw70 : k1_chk70 v1835), 32 ∣ (k1_mult70 v1835).toNat := fun v1835 k1_hw70 => k1_hw70.1
theorem k1_off70_inb : ∀ (v1835 : BitVec 32) (k1_hw70 : k1_chk70 v1835), ∀ a, (k1_off70 v1835) a + S1x128.size a ≤ S128x100000.size a := fun v1835 k1_hw70 => k1_hw70.2

def k1_mult71 (v1861 : BitVec 32) : BitVec 32 :=
  let c99872_i32_1002 : BitVec 32 := 99872#32
  let c0_i32_1001 : BitVec 32 := 0#32
  let c0_i32_994 : BitVec 32 := 0#32
  let v1863 : BitVec 1 := Scalar.cmpi .sgt v1861 c0_i32_994
  let v1864 : BitVec 32 := Scalar.extui v1863
  let c0_i32_995 : BitVec 32 := 0#32
  let v1865 : BitVec 1 := Scalar.cmpi .slt v1861 c0_i32_995
  let v1866 : BitVec 32 := Scalar.extui v1865
  let v1867 : BitVec 32 := Scalar.subi v1864 v1866
  let c128_i32_993 : BitVec 32 := 128#32
  let c0_i32_996 : BitVec 32 := 0#32
  let v1868 : BitVec 1 := Scalar.cmpi .sgt c128_i32_993 c0_i32_996
  let v1869 : BitVec 32 := Scalar.extui v1868
  let c0_i32_997 : BitVec 32 := 0#32
  let v1870 : BitVec 1 := Scalar.cmpi .slt c128_i32_993 c0_i32_997
  let v1871 : BitVec 32 := Scalar.extui v1870
  let v1872 : BitVec 32 := Scalar.subi v1869 v1871
  let v1873 : BitVec 1 := Scalar.cmpi .ne v1867 v1872
  let v1874 : BitVec 32 := Scalar.remsi v1861 c128_i32_993
  let c0_i32_998 : BitVec 32 := 0#32
  let v1875 : BitVec 1 := Scalar.cmpi .ne v1874 c0_i32_998
  let v1876 : BitVec 1 := Scalar.andi v1873 v1875
  let v1862 : BitVec 32 := Scalar.divsi v1861 c128_i32_993
  let c1_i32_999 : BitVec 32 := 1#32
  let v1877 : BitVec 32 := Scalar.subi v1862 c1_i32_999
  let v1878 : BitVec 32 := Scalar.select v1876 v1877 v1862
  let c128_i32_1000 : BitVec 32 := 128#32
  let v1879 : BitVec 32 := Scalar.muli v1878 c128_i32_1000
  let v1880 : BitVec 32 := Scalar.maxsi c0_i32_1001 v1879
  let v1881 : BitVec 32 := Scalar.minsi c99872_i32_1002 v1880
  v1881

def k1_off71 (v1861 : BitVec 32) : Fin 2 → Nat :=
  let c70_i32_1003 : BitVec 32 := 70#32
  let c99872_i32_1002 : BitVec 32 := 99872#32
  let c0_i32_1001 : BitVec 32 := 0#32
  let c0_i32_994 : BitVec 32 := 0#32
  let v1863 : BitVec 1 := Scalar.cmpi .sgt v1861 c0_i32_994
  let v1864 : BitVec 32 := Scalar.extui v1863
  let c0_i32_995 : BitVec 32 := 0#32
  let v1865 : BitVec 1 := Scalar.cmpi .slt v1861 c0_i32_995
  let v1866 : BitVec 32 := Scalar.extui v1865
  let v1867 : BitVec 32 := Scalar.subi v1864 v1866
  let c128_i32_993 : BitVec 32 := 128#32
  let c0_i32_996 : BitVec 32 := 0#32
  let v1868 : BitVec 1 := Scalar.cmpi .sgt c128_i32_993 c0_i32_996
  let v1869 : BitVec 32 := Scalar.extui v1868
  let c0_i32_997 : BitVec 32 := 0#32
  let v1870 : BitVec 1 := Scalar.cmpi .slt c128_i32_993 c0_i32_997
  let v1871 : BitVec 32 := Scalar.extui v1870
  let v1872 : BitVec 32 := Scalar.subi v1869 v1871
  let v1873 : BitVec 1 := Scalar.cmpi .ne v1867 v1872
  let v1874 : BitVec 32 := Scalar.remsi v1861 c128_i32_993
  let c0_i32_998 : BitVec 32 := 0#32
  let v1875 : BitVec 1 := Scalar.cmpi .ne v1874 c0_i32_998
  let v1876 : BitVec 1 := Scalar.andi v1873 v1875
  let v1862 : BitVec 32 := Scalar.divsi v1861 c128_i32_993
  let c1_i32_999 : BitVec 32 := 1#32
  let v1877 : BitVec 32 := Scalar.subi v1862 c1_i32_999
  let v1878 : BitVec 32 := Scalar.select v1876 v1877 v1862
  let c128_i32_1000 : BitVec 32 := 128#32
  let v1879 : BitVec 32 := Scalar.muli v1878 c128_i32_1000
  let v1880 : BitVec 32 := Scalar.maxsi c0_i32_1001 v1879
  let v1881 : BitVec 32 := Scalar.minsi c99872_i32_1002 v1880
  let v1882 : BitVec 32 := v1881
  ![70, v1882.toNat]

def k1_chk71 (v1861 : BitVec 32) : Prop :=
  (32 ∣ (k1_mult71 v1861).toNat) ∧
  (∀ a, (k1_off71 v1861) a + S1x128.size a ≤ S128x100000.size a)
theorem k1_mult71_dvd : ∀ (v1861 : BitVec 32) (k1_hw71 : k1_chk71 v1861), 32 ∣ (k1_mult71 v1861).toNat := fun v1861 k1_hw71 => k1_hw71.1
theorem k1_off71_inb : ∀ (v1861 : BitVec 32) (k1_hw71 : k1_chk71 v1861), ∀ a, (k1_off71 v1861) a + S1x128.size a ≤ S128x100000.size a := fun v1861 k1_hw71 => k1_hw71.2

def k1_mult72 (v1887 : BitVec 32) : BitVec 32 :=
  let c99872_i32_1016 : BitVec 32 := 99872#32
  let c0_i32_1015 : BitVec 32 := 0#32
  let c0_i32_1008 : BitVec 32 := 0#32
  let v1889 : BitVec 1 := Scalar.cmpi .sgt v1887 c0_i32_1008
  let v1890 : BitVec 32 := Scalar.extui v1889
  let c0_i32_1009 : BitVec 32 := 0#32
  let v1891 : BitVec 1 := Scalar.cmpi .slt v1887 c0_i32_1009
  let v1892 : BitVec 32 := Scalar.extui v1891
  let v1893 : BitVec 32 := Scalar.subi v1890 v1892
  let c128_i32_1007 : BitVec 32 := 128#32
  let c0_i32_1010 : BitVec 32 := 0#32
  let v1894 : BitVec 1 := Scalar.cmpi .sgt c128_i32_1007 c0_i32_1010
  let v1895 : BitVec 32 := Scalar.extui v1894
  let c0_i32_1011 : BitVec 32 := 0#32
  let v1896 : BitVec 1 := Scalar.cmpi .slt c128_i32_1007 c0_i32_1011
  let v1897 : BitVec 32 := Scalar.extui v1896
  let v1898 : BitVec 32 := Scalar.subi v1895 v1897
  let v1899 : BitVec 1 := Scalar.cmpi .ne v1893 v1898
  let v1900 : BitVec 32 := Scalar.remsi v1887 c128_i32_1007
  let c0_i32_1012 : BitVec 32 := 0#32
  let v1901 : BitVec 1 := Scalar.cmpi .ne v1900 c0_i32_1012
  let v1902 : BitVec 1 := Scalar.andi v1899 v1901
  let v1888 : BitVec 32 := Scalar.divsi v1887 c128_i32_1007
  let c1_i32_1013 : BitVec 32 := 1#32
  let v1903 : BitVec 32 := Scalar.subi v1888 c1_i32_1013
  let v1904 : BitVec 32 := Scalar.select v1902 v1903 v1888
  let c128_i32_1014 : BitVec 32 := 128#32
  let v1905 : BitVec 32 := Scalar.muli v1904 c128_i32_1014
  let v1906 : BitVec 32 := Scalar.maxsi c0_i32_1015 v1905
  let v1907 : BitVec 32 := Scalar.minsi c99872_i32_1016 v1906
  v1907

def k1_off72 (v1887 : BitVec 32) : Fin 2 → Nat :=
  let c71_i32_1017 : BitVec 32 := 71#32
  let c99872_i32_1016 : BitVec 32 := 99872#32
  let c0_i32_1015 : BitVec 32 := 0#32
  let c0_i32_1008 : BitVec 32 := 0#32
  let v1889 : BitVec 1 := Scalar.cmpi .sgt v1887 c0_i32_1008
  let v1890 : BitVec 32 := Scalar.extui v1889
  let c0_i32_1009 : BitVec 32 := 0#32
  let v1891 : BitVec 1 := Scalar.cmpi .slt v1887 c0_i32_1009
  let v1892 : BitVec 32 := Scalar.extui v1891
  let v1893 : BitVec 32 := Scalar.subi v1890 v1892
  let c128_i32_1007 : BitVec 32 := 128#32
  let c0_i32_1010 : BitVec 32 := 0#32
  let v1894 : BitVec 1 := Scalar.cmpi .sgt c128_i32_1007 c0_i32_1010
  let v1895 : BitVec 32 := Scalar.extui v1894
  let c0_i32_1011 : BitVec 32 := 0#32
  let v1896 : BitVec 1 := Scalar.cmpi .slt c128_i32_1007 c0_i32_1011
  let v1897 : BitVec 32 := Scalar.extui v1896
  let v1898 : BitVec 32 := Scalar.subi v1895 v1897
  let v1899 : BitVec 1 := Scalar.cmpi .ne v1893 v1898
  let v1900 : BitVec 32 := Scalar.remsi v1887 c128_i32_1007
  let c0_i32_1012 : BitVec 32 := 0#32
  let v1901 : BitVec 1 := Scalar.cmpi .ne v1900 c0_i32_1012
  let v1902 : BitVec 1 := Scalar.andi v1899 v1901
  let v1888 : BitVec 32 := Scalar.divsi v1887 c128_i32_1007
  let c1_i32_1013 : BitVec 32 := 1#32
  let v1903 : BitVec 32 := Scalar.subi v1888 c1_i32_1013
  let v1904 : BitVec 32 := Scalar.select v1902 v1903 v1888
  let c128_i32_1014 : BitVec 32 := 128#32
  let v1905 : BitVec 32 := Scalar.muli v1904 c128_i32_1014
  let v1906 : BitVec 32 := Scalar.maxsi c0_i32_1015 v1905
  let v1907 : BitVec 32 := Scalar.minsi c99872_i32_1016 v1906
  let v1908 : BitVec 32 := v1907
  ![71, v1908.toNat]

def k1_chk72 (v1887 : BitVec 32) : Prop :=
  (32 ∣ (k1_mult72 v1887).toNat) ∧
  (∀ a, (k1_off72 v1887) a + S1x128.size a ≤ S128x100000.size a)
theorem k1_mult72_dvd : ∀ (v1887 : BitVec 32) (k1_hw72 : k1_chk72 v1887), 32 ∣ (k1_mult72 v1887).toNat := fun v1887 k1_hw72 => k1_hw72.1
theorem k1_off72_inb : ∀ (v1887 : BitVec 32) (k1_hw72 : k1_chk72 v1887), ∀ a, (k1_off72 v1887) a + S1x128.size a ≤ S128x100000.size a := fun v1887 k1_hw72 => k1_hw72.2

def k1_mult73 (v1913 : BitVec 32) : BitVec 32 :=
  let c99872_i32_1030 : BitVec 32 := 99872#32
  let c0_i32_1029 : BitVec 32 := 0#32
  let c0_i32_1022 : BitVec 32 := 0#32
  let v1915 : BitVec 1 := Scalar.cmpi .sgt v1913 c0_i32_1022
  let v1916 : BitVec 32 := Scalar.extui v1915
  let c0_i32_1023 : BitVec 32 := 0#32
  let v1917 : BitVec 1 := Scalar.cmpi .slt v1913 c0_i32_1023
  let v1918 : BitVec 32 := Scalar.extui v1917
  let v1919 : BitVec 32 := Scalar.subi v1916 v1918
  let c128_i32_1021 : BitVec 32 := 128#32
  let c0_i32_1024 : BitVec 32 := 0#32
  let v1920 : BitVec 1 := Scalar.cmpi .sgt c128_i32_1021 c0_i32_1024
  let v1921 : BitVec 32 := Scalar.extui v1920
  let c0_i32_1025 : BitVec 32 := 0#32
  let v1922 : BitVec 1 := Scalar.cmpi .slt c128_i32_1021 c0_i32_1025
  let v1923 : BitVec 32 := Scalar.extui v1922
  let v1924 : BitVec 32 := Scalar.subi v1921 v1923
  let v1925 : BitVec 1 := Scalar.cmpi .ne v1919 v1924
  let v1926 : BitVec 32 := Scalar.remsi v1913 c128_i32_1021
  let c0_i32_1026 : BitVec 32 := 0#32
  let v1927 : BitVec 1 := Scalar.cmpi .ne v1926 c0_i32_1026
  let v1928 : BitVec 1 := Scalar.andi v1925 v1927
  let v1914 : BitVec 32 := Scalar.divsi v1913 c128_i32_1021
  let c1_i32_1027 : BitVec 32 := 1#32
  let v1929 : BitVec 32 := Scalar.subi v1914 c1_i32_1027
  let v1930 : BitVec 32 := Scalar.select v1928 v1929 v1914
  let c128_i32_1028 : BitVec 32 := 128#32
  let v1931 : BitVec 32 := Scalar.muli v1930 c128_i32_1028
  let v1932 : BitVec 32 := Scalar.maxsi c0_i32_1029 v1931
  let v1933 : BitVec 32 := Scalar.minsi c99872_i32_1030 v1932
  v1933

def k1_off73 (v1913 : BitVec 32) : Fin 2 → Nat :=
  let c72_i32_1031 : BitVec 32 := 72#32
  let c99872_i32_1030 : BitVec 32 := 99872#32
  let c0_i32_1029 : BitVec 32 := 0#32
  let c0_i32_1022 : BitVec 32 := 0#32
  let v1915 : BitVec 1 := Scalar.cmpi .sgt v1913 c0_i32_1022
  let v1916 : BitVec 32 := Scalar.extui v1915
  let c0_i32_1023 : BitVec 32 := 0#32
  let v1917 : BitVec 1 := Scalar.cmpi .slt v1913 c0_i32_1023
  let v1918 : BitVec 32 := Scalar.extui v1917
  let v1919 : BitVec 32 := Scalar.subi v1916 v1918
  let c128_i32_1021 : BitVec 32 := 128#32
  let c0_i32_1024 : BitVec 32 := 0#32
  let v1920 : BitVec 1 := Scalar.cmpi .sgt c128_i32_1021 c0_i32_1024
  let v1921 : BitVec 32 := Scalar.extui v1920
  let c0_i32_1025 : BitVec 32 := 0#32
  let v1922 : BitVec 1 := Scalar.cmpi .slt c128_i32_1021 c0_i32_1025
  let v1923 : BitVec 32 := Scalar.extui v1922
  let v1924 : BitVec 32 := Scalar.subi v1921 v1923
  let v1925 : BitVec 1 := Scalar.cmpi .ne v1919 v1924
  let v1926 : BitVec 32 := Scalar.remsi v1913 c128_i32_1021
  let c0_i32_1026 : BitVec 32 := 0#32
  let v1927 : BitVec 1 := Scalar.cmpi .ne v1926 c0_i32_1026
  let v1928 : BitVec 1 := Scalar.andi v1925 v1927
  let v1914 : BitVec 32 := Scalar.divsi v1913 c128_i32_1021
  let c1_i32_1027 : BitVec 32 := 1#32
  let v1929 : BitVec 32 := Scalar.subi v1914 c1_i32_1027
  let v1930 : BitVec 32 := Scalar.select v1928 v1929 v1914
  let c128_i32_1028 : BitVec 32 := 128#32
  let v1931 : BitVec 32 := Scalar.muli v1930 c128_i32_1028
  let v1932 : BitVec 32 := Scalar.maxsi c0_i32_1029 v1931
  let v1933 : BitVec 32 := Scalar.minsi c99872_i32_1030 v1932
  let v1934 : BitVec 32 := v1933
  ![72, v1934.toNat]

def k1_chk73 (v1913 : BitVec 32) : Prop :=
  (32 ∣ (k1_mult73 v1913).toNat) ∧
  (∀ a, (k1_off73 v1913) a + S1x128.size a ≤ S128x100000.size a)
theorem k1_mult73_dvd : ∀ (v1913 : BitVec 32) (k1_hw73 : k1_chk73 v1913), 32 ∣ (k1_mult73 v1913).toNat := fun v1913 k1_hw73 => k1_hw73.1
theorem k1_off73_inb : ∀ (v1913 : BitVec 32) (k1_hw73 : k1_chk73 v1913), ∀ a, (k1_off73 v1913) a + S1x128.size a ≤ S128x100000.size a := fun v1913 k1_hw73 => k1_hw73.2

def k1_mult74 (v1939 : BitVec 32) : BitVec 32 :=
  let c99872_i32_1044 : BitVec 32 := 99872#32
  let c0_i32_1043 : BitVec 32 := 0#32
  let c0_i32_1036 : BitVec 32 := 0#32
  let v1941 : BitVec 1 := Scalar.cmpi .sgt v1939 c0_i32_1036
  let v1942 : BitVec 32 := Scalar.extui v1941
  let c0_i32_1037 : BitVec 32 := 0#32
  let v1943 : BitVec 1 := Scalar.cmpi .slt v1939 c0_i32_1037
  let v1944 : BitVec 32 := Scalar.extui v1943
  let v1945 : BitVec 32 := Scalar.subi v1942 v1944
  let c128_i32_1035 : BitVec 32 := 128#32
  let c0_i32_1038 : BitVec 32 := 0#32
  let v1946 : BitVec 1 := Scalar.cmpi .sgt c128_i32_1035 c0_i32_1038
  let v1947 : BitVec 32 := Scalar.extui v1946
  let c0_i32_1039 : BitVec 32 := 0#32
  let v1948 : BitVec 1 := Scalar.cmpi .slt c128_i32_1035 c0_i32_1039
  let v1949 : BitVec 32 := Scalar.extui v1948
  let v1950 : BitVec 32 := Scalar.subi v1947 v1949
  let v1951 : BitVec 1 := Scalar.cmpi .ne v1945 v1950
  let v1952 : BitVec 32 := Scalar.remsi v1939 c128_i32_1035
  let c0_i32_1040 : BitVec 32 := 0#32
  let v1953 : BitVec 1 := Scalar.cmpi .ne v1952 c0_i32_1040
  let v1954 : BitVec 1 := Scalar.andi v1951 v1953
  let v1940 : BitVec 32 := Scalar.divsi v1939 c128_i32_1035
  let c1_i32_1041 : BitVec 32 := 1#32
  let v1955 : BitVec 32 := Scalar.subi v1940 c1_i32_1041
  let v1956 : BitVec 32 := Scalar.select v1954 v1955 v1940
  let c128_i32_1042 : BitVec 32 := 128#32
  let v1957 : BitVec 32 := Scalar.muli v1956 c128_i32_1042
  let v1958 : BitVec 32 := Scalar.maxsi c0_i32_1043 v1957
  let v1959 : BitVec 32 := Scalar.minsi c99872_i32_1044 v1958
  v1959

def k1_off74 (v1939 : BitVec 32) : Fin 2 → Nat :=
  let c73_i32_1045 : BitVec 32 := 73#32
  let c99872_i32_1044 : BitVec 32 := 99872#32
  let c0_i32_1043 : BitVec 32 := 0#32
  let c0_i32_1036 : BitVec 32 := 0#32
  let v1941 : BitVec 1 := Scalar.cmpi .sgt v1939 c0_i32_1036
  let v1942 : BitVec 32 := Scalar.extui v1941
  let c0_i32_1037 : BitVec 32 := 0#32
  let v1943 : BitVec 1 := Scalar.cmpi .slt v1939 c0_i32_1037
  let v1944 : BitVec 32 := Scalar.extui v1943
  let v1945 : BitVec 32 := Scalar.subi v1942 v1944
  let c128_i32_1035 : BitVec 32 := 128#32
  let c0_i32_1038 : BitVec 32 := 0#32
  let v1946 : BitVec 1 := Scalar.cmpi .sgt c128_i32_1035 c0_i32_1038
  let v1947 : BitVec 32 := Scalar.extui v1946
  let c0_i32_1039 : BitVec 32 := 0#32
  let v1948 : BitVec 1 := Scalar.cmpi .slt c128_i32_1035 c0_i32_1039
  let v1949 : BitVec 32 := Scalar.extui v1948
  let v1950 : BitVec 32 := Scalar.subi v1947 v1949
  let v1951 : BitVec 1 := Scalar.cmpi .ne v1945 v1950
  let v1952 : BitVec 32 := Scalar.remsi v1939 c128_i32_1035
  let c0_i32_1040 : BitVec 32 := 0#32
  let v1953 : BitVec 1 := Scalar.cmpi .ne v1952 c0_i32_1040
  let v1954 : BitVec 1 := Scalar.andi v1951 v1953
  let v1940 : BitVec 32 := Scalar.divsi v1939 c128_i32_1035
  let c1_i32_1041 : BitVec 32 := 1#32
  let v1955 : BitVec 32 := Scalar.subi v1940 c1_i32_1041
  let v1956 : BitVec 32 := Scalar.select v1954 v1955 v1940
  let c128_i32_1042 : BitVec 32 := 128#32
  let v1957 : BitVec 32 := Scalar.muli v1956 c128_i32_1042
  let v1958 : BitVec 32 := Scalar.maxsi c0_i32_1043 v1957
  let v1959 : BitVec 32 := Scalar.minsi c99872_i32_1044 v1958
  let v1960 : BitVec 32 := v1959
  ![73, v1960.toNat]

def k1_chk74 (v1939 : BitVec 32) : Prop :=
  (32 ∣ (k1_mult74 v1939).toNat) ∧
  (∀ a, (k1_off74 v1939) a + S1x128.size a ≤ S128x100000.size a)
theorem k1_mult74_dvd : ∀ (v1939 : BitVec 32) (k1_hw74 : k1_chk74 v1939), 32 ∣ (k1_mult74 v1939).toNat := fun v1939 k1_hw74 => k1_hw74.1
theorem k1_off74_inb : ∀ (v1939 : BitVec 32) (k1_hw74 : k1_chk74 v1939), ∀ a, (k1_off74 v1939) a + S1x128.size a ≤ S128x100000.size a := fun v1939 k1_hw74 => k1_hw74.2

def k1_mult75 (v1965 : BitVec 32) : BitVec 32 :=
  let c99872_i32_1058 : BitVec 32 := 99872#32
  let c0_i32_1057 : BitVec 32 := 0#32
  let c0_i32_1050 : BitVec 32 := 0#32
  let v1967 : BitVec 1 := Scalar.cmpi .sgt v1965 c0_i32_1050
  let v1968 : BitVec 32 := Scalar.extui v1967
  let c0_i32_1051 : BitVec 32 := 0#32
  let v1969 : BitVec 1 := Scalar.cmpi .slt v1965 c0_i32_1051
  let v1970 : BitVec 32 := Scalar.extui v1969
  let v1971 : BitVec 32 := Scalar.subi v1968 v1970
  let c128_i32_1049 : BitVec 32 := 128#32
  let c0_i32_1052 : BitVec 32 := 0#32
  let v1972 : BitVec 1 := Scalar.cmpi .sgt c128_i32_1049 c0_i32_1052
  let v1973 : BitVec 32 := Scalar.extui v1972
  let c0_i32_1053 : BitVec 32 := 0#32
  let v1974 : BitVec 1 := Scalar.cmpi .slt c128_i32_1049 c0_i32_1053
  let v1975 : BitVec 32 := Scalar.extui v1974
  let v1976 : BitVec 32 := Scalar.subi v1973 v1975
  let v1977 : BitVec 1 := Scalar.cmpi .ne v1971 v1976
  let v1978 : BitVec 32 := Scalar.remsi v1965 c128_i32_1049
  let c0_i32_1054 : BitVec 32 := 0#32
  let v1979 : BitVec 1 := Scalar.cmpi .ne v1978 c0_i32_1054
  let v1980 : BitVec 1 := Scalar.andi v1977 v1979
  let v1966 : BitVec 32 := Scalar.divsi v1965 c128_i32_1049
  let c1_i32_1055 : BitVec 32 := 1#32
  let v1981 : BitVec 32 := Scalar.subi v1966 c1_i32_1055
  let v1982 : BitVec 32 := Scalar.select v1980 v1981 v1966
  let c128_i32_1056 : BitVec 32 := 128#32
  let v1983 : BitVec 32 := Scalar.muli v1982 c128_i32_1056
  let v1984 : BitVec 32 := Scalar.maxsi c0_i32_1057 v1983
  let v1985 : BitVec 32 := Scalar.minsi c99872_i32_1058 v1984
  v1985

def k1_off75 (v1965 : BitVec 32) : Fin 2 → Nat :=
  let c74_i32_1059 : BitVec 32 := 74#32
  let c99872_i32_1058 : BitVec 32 := 99872#32
  let c0_i32_1057 : BitVec 32 := 0#32
  let c0_i32_1050 : BitVec 32 := 0#32
  let v1967 : BitVec 1 := Scalar.cmpi .sgt v1965 c0_i32_1050
  let v1968 : BitVec 32 := Scalar.extui v1967
  let c0_i32_1051 : BitVec 32 := 0#32
  let v1969 : BitVec 1 := Scalar.cmpi .slt v1965 c0_i32_1051
  let v1970 : BitVec 32 := Scalar.extui v1969
  let v1971 : BitVec 32 := Scalar.subi v1968 v1970
  let c128_i32_1049 : BitVec 32 := 128#32
  let c0_i32_1052 : BitVec 32 := 0#32
  let v1972 : BitVec 1 := Scalar.cmpi .sgt c128_i32_1049 c0_i32_1052
  let v1973 : BitVec 32 := Scalar.extui v1972
  let c0_i32_1053 : BitVec 32 := 0#32
  let v1974 : BitVec 1 := Scalar.cmpi .slt c128_i32_1049 c0_i32_1053
  let v1975 : BitVec 32 := Scalar.extui v1974
  let v1976 : BitVec 32 := Scalar.subi v1973 v1975
  let v1977 : BitVec 1 := Scalar.cmpi .ne v1971 v1976
  let v1978 : BitVec 32 := Scalar.remsi v1965 c128_i32_1049
  let c0_i32_1054 : BitVec 32 := 0#32
  let v1979 : BitVec 1 := Scalar.cmpi .ne v1978 c0_i32_1054
  let v1980 : BitVec 1 := Scalar.andi v1977 v1979
  let v1966 : BitVec 32 := Scalar.divsi v1965 c128_i32_1049
  let c1_i32_1055 : BitVec 32 := 1#32
  let v1981 : BitVec 32 := Scalar.subi v1966 c1_i32_1055
  let v1982 : BitVec 32 := Scalar.select v1980 v1981 v1966
  let c128_i32_1056 : BitVec 32 := 128#32
  let v1983 : BitVec 32 := Scalar.muli v1982 c128_i32_1056
  let v1984 : BitVec 32 := Scalar.maxsi c0_i32_1057 v1983
  let v1985 : BitVec 32 := Scalar.minsi c99872_i32_1058 v1984
  let v1986 : BitVec 32 := v1985
  ![74, v1986.toNat]

def k1_chk75 (v1965 : BitVec 32) : Prop :=
  (32 ∣ (k1_mult75 v1965).toNat) ∧
  (∀ a, (k1_off75 v1965) a + S1x128.size a ≤ S128x100000.size a)
theorem k1_mult75_dvd : ∀ (v1965 : BitVec 32) (k1_hw75 : k1_chk75 v1965), 32 ∣ (k1_mult75 v1965).toNat := fun v1965 k1_hw75 => k1_hw75.1
theorem k1_off75_inb : ∀ (v1965 : BitVec 32) (k1_hw75 : k1_chk75 v1965), ∀ a, (k1_off75 v1965) a + S1x128.size a ≤ S128x100000.size a := fun v1965 k1_hw75 => k1_hw75.2

def k1_mult76 (v1991 : BitVec 32) : BitVec 32 :=
  let c99872_i32_1072 : BitVec 32 := 99872#32
  let c0_i32_1071 : BitVec 32 := 0#32
  let c0_i32_1064 : BitVec 32 := 0#32
  let v1993 : BitVec 1 := Scalar.cmpi .sgt v1991 c0_i32_1064
  let v1994 : BitVec 32 := Scalar.extui v1993
  let c0_i32_1065 : BitVec 32 := 0#32
  let v1995 : BitVec 1 := Scalar.cmpi .slt v1991 c0_i32_1065
  let v1996 : BitVec 32 := Scalar.extui v1995
  let v1997 : BitVec 32 := Scalar.subi v1994 v1996
  let c128_i32_1063 : BitVec 32 := 128#32
  let c0_i32_1066 : BitVec 32 := 0#32
  let v1998 : BitVec 1 := Scalar.cmpi .sgt c128_i32_1063 c0_i32_1066
  let v1999 : BitVec 32 := Scalar.extui v1998
  let c0_i32_1067 : BitVec 32 := 0#32
  let v2000 : BitVec 1 := Scalar.cmpi .slt c128_i32_1063 c0_i32_1067
  let v2001 : BitVec 32 := Scalar.extui v2000
  let v2002 : BitVec 32 := Scalar.subi v1999 v2001
  let v2003 : BitVec 1 := Scalar.cmpi .ne v1997 v2002
  let v2004 : BitVec 32 := Scalar.remsi v1991 c128_i32_1063
  let c0_i32_1068 : BitVec 32 := 0#32
  let v2005 : BitVec 1 := Scalar.cmpi .ne v2004 c0_i32_1068
  let v2006 : BitVec 1 := Scalar.andi v2003 v2005
  let v1992 : BitVec 32 := Scalar.divsi v1991 c128_i32_1063
  let c1_i32_1069 : BitVec 32 := 1#32
  let v2007 : BitVec 32 := Scalar.subi v1992 c1_i32_1069
  let v2008 : BitVec 32 := Scalar.select v2006 v2007 v1992
  let c128_i32_1070 : BitVec 32 := 128#32
  let v2009 : BitVec 32 := Scalar.muli v2008 c128_i32_1070
  let v2010 : BitVec 32 := Scalar.maxsi c0_i32_1071 v2009
  let v2011 : BitVec 32 := Scalar.minsi c99872_i32_1072 v2010
  v2011

def k1_off76 (v1991 : BitVec 32) : Fin 2 → Nat :=
  let c75_i32_1073 : BitVec 32 := 75#32
  let c99872_i32_1072 : BitVec 32 := 99872#32
  let c0_i32_1071 : BitVec 32 := 0#32
  let c0_i32_1064 : BitVec 32 := 0#32
  let v1993 : BitVec 1 := Scalar.cmpi .sgt v1991 c0_i32_1064
  let v1994 : BitVec 32 := Scalar.extui v1993
  let c0_i32_1065 : BitVec 32 := 0#32
  let v1995 : BitVec 1 := Scalar.cmpi .slt v1991 c0_i32_1065
  let v1996 : BitVec 32 := Scalar.extui v1995
  let v1997 : BitVec 32 := Scalar.subi v1994 v1996
  let c128_i32_1063 : BitVec 32 := 128#32
  let c0_i32_1066 : BitVec 32 := 0#32
  let v1998 : BitVec 1 := Scalar.cmpi .sgt c128_i32_1063 c0_i32_1066
  let v1999 : BitVec 32 := Scalar.extui v1998
  let c0_i32_1067 : BitVec 32 := 0#32
  let v2000 : BitVec 1 := Scalar.cmpi .slt c128_i32_1063 c0_i32_1067
  let v2001 : BitVec 32 := Scalar.extui v2000
  let v2002 : BitVec 32 := Scalar.subi v1999 v2001
  let v2003 : BitVec 1 := Scalar.cmpi .ne v1997 v2002
  let v2004 : BitVec 32 := Scalar.remsi v1991 c128_i32_1063
  let c0_i32_1068 : BitVec 32 := 0#32
  let v2005 : BitVec 1 := Scalar.cmpi .ne v2004 c0_i32_1068
  let v2006 : BitVec 1 := Scalar.andi v2003 v2005
  let v1992 : BitVec 32 := Scalar.divsi v1991 c128_i32_1063
  let c1_i32_1069 : BitVec 32 := 1#32
  let v2007 : BitVec 32 := Scalar.subi v1992 c1_i32_1069
  let v2008 : BitVec 32 := Scalar.select v2006 v2007 v1992
  let c128_i32_1070 : BitVec 32 := 128#32
  let v2009 : BitVec 32 := Scalar.muli v2008 c128_i32_1070
  let v2010 : BitVec 32 := Scalar.maxsi c0_i32_1071 v2009
  let v2011 : BitVec 32 := Scalar.minsi c99872_i32_1072 v2010
  let v2012 : BitVec 32 := v2011
  ![75, v2012.toNat]

def k1_chk76 (v1991 : BitVec 32) : Prop :=
  (32 ∣ (k1_mult76 v1991).toNat) ∧
  (∀ a, (k1_off76 v1991) a + S1x128.size a ≤ S128x100000.size a)
theorem k1_mult76_dvd : ∀ (v1991 : BitVec 32) (k1_hw76 : k1_chk76 v1991), 32 ∣ (k1_mult76 v1991).toNat := fun v1991 k1_hw76 => k1_hw76.1
theorem k1_off76_inb : ∀ (v1991 : BitVec 32) (k1_hw76 : k1_chk76 v1991), ∀ a, (k1_off76 v1991) a + S1x128.size a ≤ S128x100000.size a := fun v1991 k1_hw76 => k1_hw76.2

def k1_mult77 (v2017 : BitVec 32) : BitVec 32 :=
  let c99872_i32_1086 : BitVec 32 := 99872#32
  let c0_i32_1085 : BitVec 32 := 0#32
  let c0_i32_1078 : BitVec 32 := 0#32
  let v2019 : BitVec 1 := Scalar.cmpi .sgt v2017 c0_i32_1078
  let v2020 : BitVec 32 := Scalar.extui v2019
  let c0_i32_1079 : BitVec 32 := 0#32
  let v2021 : BitVec 1 := Scalar.cmpi .slt v2017 c0_i32_1079
  let v2022 : BitVec 32 := Scalar.extui v2021
  let v2023 : BitVec 32 := Scalar.subi v2020 v2022
  let c128_i32_1077 : BitVec 32 := 128#32
  let c0_i32_1080 : BitVec 32 := 0#32
  let v2024 : BitVec 1 := Scalar.cmpi .sgt c128_i32_1077 c0_i32_1080
  let v2025 : BitVec 32 := Scalar.extui v2024
  let c0_i32_1081 : BitVec 32 := 0#32
  let v2026 : BitVec 1 := Scalar.cmpi .slt c128_i32_1077 c0_i32_1081
  let v2027 : BitVec 32 := Scalar.extui v2026
  let v2028 : BitVec 32 := Scalar.subi v2025 v2027
  let v2029 : BitVec 1 := Scalar.cmpi .ne v2023 v2028
  let v2030 : BitVec 32 := Scalar.remsi v2017 c128_i32_1077
  let c0_i32_1082 : BitVec 32 := 0#32
  let v2031 : BitVec 1 := Scalar.cmpi .ne v2030 c0_i32_1082
  let v2032 : BitVec 1 := Scalar.andi v2029 v2031
  let v2018 : BitVec 32 := Scalar.divsi v2017 c128_i32_1077
  let c1_i32_1083 : BitVec 32 := 1#32
  let v2033 : BitVec 32 := Scalar.subi v2018 c1_i32_1083
  let v2034 : BitVec 32 := Scalar.select v2032 v2033 v2018
  let c128_i32_1084 : BitVec 32 := 128#32
  let v2035 : BitVec 32 := Scalar.muli v2034 c128_i32_1084
  let v2036 : BitVec 32 := Scalar.maxsi c0_i32_1085 v2035
  let v2037 : BitVec 32 := Scalar.minsi c99872_i32_1086 v2036
  v2037

def k1_off77 (v2017 : BitVec 32) : Fin 2 → Nat :=
  let c76_i32_1087 : BitVec 32 := 76#32
  let c99872_i32_1086 : BitVec 32 := 99872#32
  let c0_i32_1085 : BitVec 32 := 0#32
  let c0_i32_1078 : BitVec 32 := 0#32
  let v2019 : BitVec 1 := Scalar.cmpi .sgt v2017 c0_i32_1078
  let v2020 : BitVec 32 := Scalar.extui v2019
  let c0_i32_1079 : BitVec 32 := 0#32
  let v2021 : BitVec 1 := Scalar.cmpi .slt v2017 c0_i32_1079
  let v2022 : BitVec 32 := Scalar.extui v2021
  let v2023 : BitVec 32 := Scalar.subi v2020 v2022
  let c128_i32_1077 : BitVec 32 := 128#32
  let c0_i32_1080 : BitVec 32 := 0#32
  let v2024 : BitVec 1 := Scalar.cmpi .sgt c128_i32_1077 c0_i32_1080
  let v2025 : BitVec 32 := Scalar.extui v2024
  let c0_i32_1081 : BitVec 32 := 0#32
  let v2026 : BitVec 1 := Scalar.cmpi .slt c128_i32_1077 c0_i32_1081
  let v2027 : BitVec 32 := Scalar.extui v2026
  let v2028 : BitVec 32 := Scalar.subi v2025 v2027
  let v2029 : BitVec 1 := Scalar.cmpi .ne v2023 v2028
  let v2030 : BitVec 32 := Scalar.remsi v2017 c128_i32_1077
  let c0_i32_1082 : BitVec 32 := 0#32
  let v2031 : BitVec 1 := Scalar.cmpi .ne v2030 c0_i32_1082
  let v2032 : BitVec 1 := Scalar.andi v2029 v2031
  let v2018 : BitVec 32 := Scalar.divsi v2017 c128_i32_1077
  let c1_i32_1083 : BitVec 32 := 1#32
  let v2033 : BitVec 32 := Scalar.subi v2018 c1_i32_1083
  let v2034 : BitVec 32 := Scalar.select v2032 v2033 v2018
  let c128_i32_1084 : BitVec 32 := 128#32
  let v2035 : BitVec 32 := Scalar.muli v2034 c128_i32_1084
  let v2036 : BitVec 32 := Scalar.maxsi c0_i32_1085 v2035
  let v2037 : BitVec 32 := Scalar.minsi c99872_i32_1086 v2036
  let v2038 : BitVec 32 := v2037
  ![76, v2038.toNat]

def k1_chk77 (v2017 : BitVec 32) : Prop :=
  (32 ∣ (k1_mult77 v2017).toNat) ∧
  (∀ a, (k1_off77 v2017) a + S1x128.size a ≤ S128x100000.size a)
theorem k1_mult77_dvd : ∀ (v2017 : BitVec 32) (k1_hw77 : k1_chk77 v2017), 32 ∣ (k1_mult77 v2017).toNat := fun v2017 k1_hw77 => k1_hw77.1
theorem k1_off77_inb : ∀ (v2017 : BitVec 32) (k1_hw77 : k1_chk77 v2017), ∀ a, (k1_off77 v2017) a + S1x128.size a ≤ S128x100000.size a := fun v2017 k1_hw77 => k1_hw77.2

def k1_mult78 (v2043 : BitVec 32) : BitVec 32 :=
  let c99872_i32_1100 : BitVec 32 := 99872#32
  let c0_i32_1099 : BitVec 32 := 0#32
  let c0_i32_1092 : BitVec 32 := 0#32
  let v2045 : BitVec 1 := Scalar.cmpi .sgt v2043 c0_i32_1092
  let v2046 : BitVec 32 := Scalar.extui v2045
  let c0_i32_1093 : BitVec 32 := 0#32
  let v2047 : BitVec 1 := Scalar.cmpi .slt v2043 c0_i32_1093
  let v2048 : BitVec 32 := Scalar.extui v2047
  let v2049 : BitVec 32 := Scalar.subi v2046 v2048
  let c128_i32_1091 : BitVec 32 := 128#32
  let c0_i32_1094 : BitVec 32 := 0#32
  let v2050 : BitVec 1 := Scalar.cmpi .sgt c128_i32_1091 c0_i32_1094
  let v2051 : BitVec 32 := Scalar.extui v2050
  let c0_i32_1095 : BitVec 32 := 0#32
  let v2052 : BitVec 1 := Scalar.cmpi .slt c128_i32_1091 c0_i32_1095
  let v2053 : BitVec 32 := Scalar.extui v2052
  let v2054 : BitVec 32 := Scalar.subi v2051 v2053
  let v2055 : BitVec 1 := Scalar.cmpi .ne v2049 v2054
  let v2056 : BitVec 32 := Scalar.remsi v2043 c128_i32_1091
  let c0_i32_1096 : BitVec 32 := 0#32
  let v2057 : BitVec 1 := Scalar.cmpi .ne v2056 c0_i32_1096
  let v2058 : BitVec 1 := Scalar.andi v2055 v2057
  let v2044 : BitVec 32 := Scalar.divsi v2043 c128_i32_1091
  let c1_i32_1097 : BitVec 32 := 1#32
  let v2059 : BitVec 32 := Scalar.subi v2044 c1_i32_1097
  let v2060 : BitVec 32 := Scalar.select v2058 v2059 v2044
  let c128_i32_1098 : BitVec 32 := 128#32
  let v2061 : BitVec 32 := Scalar.muli v2060 c128_i32_1098
  let v2062 : BitVec 32 := Scalar.maxsi c0_i32_1099 v2061
  let v2063 : BitVec 32 := Scalar.minsi c99872_i32_1100 v2062
  v2063

def k1_off78 (v2043 : BitVec 32) : Fin 2 → Nat :=
  let c77_i32_1101 : BitVec 32 := 77#32
  let c99872_i32_1100 : BitVec 32 := 99872#32
  let c0_i32_1099 : BitVec 32 := 0#32
  let c0_i32_1092 : BitVec 32 := 0#32
  let v2045 : BitVec 1 := Scalar.cmpi .sgt v2043 c0_i32_1092
  let v2046 : BitVec 32 := Scalar.extui v2045
  let c0_i32_1093 : BitVec 32 := 0#32
  let v2047 : BitVec 1 := Scalar.cmpi .slt v2043 c0_i32_1093
  let v2048 : BitVec 32 := Scalar.extui v2047
  let v2049 : BitVec 32 := Scalar.subi v2046 v2048
  let c128_i32_1091 : BitVec 32 := 128#32
  let c0_i32_1094 : BitVec 32 := 0#32
  let v2050 : BitVec 1 := Scalar.cmpi .sgt c128_i32_1091 c0_i32_1094
  let v2051 : BitVec 32 := Scalar.extui v2050
  let c0_i32_1095 : BitVec 32 := 0#32
  let v2052 : BitVec 1 := Scalar.cmpi .slt c128_i32_1091 c0_i32_1095
  let v2053 : BitVec 32 := Scalar.extui v2052
  let v2054 : BitVec 32 := Scalar.subi v2051 v2053
  let v2055 : BitVec 1 := Scalar.cmpi .ne v2049 v2054
  let v2056 : BitVec 32 := Scalar.remsi v2043 c128_i32_1091
  let c0_i32_1096 : BitVec 32 := 0#32
  let v2057 : BitVec 1 := Scalar.cmpi .ne v2056 c0_i32_1096
  let v2058 : BitVec 1 := Scalar.andi v2055 v2057
  let v2044 : BitVec 32 := Scalar.divsi v2043 c128_i32_1091
  let c1_i32_1097 : BitVec 32 := 1#32
  let v2059 : BitVec 32 := Scalar.subi v2044 c1_i32_1097
  let v2060 : BitVec 32 := Scalar.select v2058 v2059 v2044
  let c128_i32_1098 : BitVec 32 := 128#32
  let v2061 : BitVec 32 := Scalar.muli v2060 c128_i32_1098
  let v2062 : BitVec 32 := Scalar.maxsi c0_i32_1099 v2061
  let v2063 : BitVec 32 := Scalar.minsi c99872_i32_1100 v2062
  let v2064 : BitVec 32 := v2063
  ![77, v2064.toNat]

def k1_chk78 (v2043 : BitVec 32) : Prop :=
  (32 ∣ (k1_mult78 v2043).toNat) ∧
  (∀ a, (k1_off78 v2043) a + S1x128.size a ≤ S128x100000.size a)
theorem k1_mult78_dvd : ∀ (v2043 : BitVec 32) (k1_hw78 : k1_chk78 v2043), 32 ∣ (k1_mult78 v2043).toNat := fun v2043 k1_hw78 => k1_hw78.1
theorem k1_off78_inb : ∀ (v2043 : BitVec 32) (k1_hw78 : k1_chk78 v2043), ∀ a, (k1_off78 v2043) a + S1x128.size a ≤ S128x100000.size a := fun v2043 k1_hw78 => k1_hw78.2

def k1_mult79 (v2069 : BitVec 32) : BitVec 32 :=
  let c99872_i32_1114 : BitVec 32 := 99872#32
  let c0_i32_1113 : BitVec 32 := 0#32
  let c0_i32_1106 : BitVec 32 := 0#32
  let v2071 : BitVec 1 := Scalar.cmpi .sgt v2069 c0_i32_1106
  let v2072 : BitVec 32 := Scalar.extui v2071
  let c0_i32_1107 : BitVec 32 := 0#32
  let v2073 : BitVec 1 := Scalar.cmpi .slt v2069 c0_i32_1107
  let v2074 : BitVec 32 := Scalar.extui v2073
  let v2075 : BitVec 32 := Scalar.subi v2072 v2074
  let c128_i32_1105 : BitVec 32 := 128#32
  let c0_i32_1108 : BitVec 32 := 0#32
  let v2076 : BitVec 1 := Scalar.cmpi .sgt c128_i32_1105 c0_i32_1108
  let v2077 : BitVec 32 := Scalar.extui v2076
  let c0_i32_1109 : BitVec 32 := 0#32
  let v2078 : BitVec 1 := Scalar.cmpi .slt c128_i32_1105 c0_i32_1109
  let v2079 : BitVec 32 := Scalar.extui v2078
  let v2080 : BitVec 32 := Scalar.subi v2077 v2079
  let v2081 : BitVec 1 := Scalar.cmpi .ne v2075 v2080
  let v2082 : BitVec 32 := Scalar.remsi v2069 c128_i32_1105
  let c0_i32_1110 : BitVec 32 := 0#32
  let v2083 : BitVec 1 := Scalar.cmpi .ne v2082 c0_i32_1110
  let v2084 : BitVec 1 := Scalar.andi v2081 v2083
  let v2070 : BitVec 32 := Scalar.divsi v2069 c128_i32_1105
  let c1_i32_1111 : BitVec 32 := 1#32
  let v2085 : BitVec 32 := Scalar.subi v2070 c1_i32_1111
  let v2086 : BitVec 32 := Scalar.select v2084 v2085 v2070
  let c128_i32_1112 : BitVec 32 := 128#32
  let v2087 : BitVec 32 := Scalar.muli v2086 c128_i32_1112
  let v2088 : BitVec 32 := Scalar.maxsi c0_i32_1113 v2087
  let v2089 : BitVec 32 := Scalar.minsi c99872_i32_1114 v2088
  v2089

def k1_off79 (v2069 : BitVec 32) : Fin 2 → Nat :=
  let c78_i32_1115 : BitVec 32 := 78#32
  let c99872_i32_1114 : BitVec 32 := 99872#32
  let c0_i32_1113 : BitVec 32 := 0#32
  let c0_i32_1106 : BitVec 32 := 0#32
  let v2071 : BitVec 1 := Scalar.cmpi .sgt v2069 c0_i32_1106
  let v2072 : BitVec 32 := Scalar.extui v2071
  let c0_i32_1107 : BitVec 32 := 0#32
  let v2073 : BitVec 1 := Scalar.cmpi .slt v2069 c0_i32_1107
  let v2074 : BitVec 32 := Scalar.extui v2073
  let v2075 : BitVec 32 := Scalar.subi v2072 v2074
  let c128_i32_1105 : BitVec 32 := 128#32
  let c0_i32_1108 : BitVec 32 := 0#32
  let v2076 : BitVec 1 := Scalar.cmpi .sgt c128_i32_1105 c0_i32_1108
  let v2077 : BitVec 32 := Scalar.extui v2076
  let c0_i32_1109 : BitVec 32 := 0#32
  let v2078 : BitVec 1 := Scalar.cmpi .slt c128_i32_1105 c0_i32_1109
  let v2079 : BitVec 32 := Scalar.extui v2078
  let v2080 : BitVec 32 := Scalar.subi v2077 v2079
  let v2081 : BitVec 1 := Scalar.cmpi .ne v2075 v2080
  let v2082 : BitVec 32 := Scalar.remsi v2069 c128_i32_1105
  let c0_i32_1110 : BitVec 32 := 0#32
  let v2083 : BitVec 1 := Scalar.cmpi .ne v2082 c0_i32_1110
  let v2084 : BitVec 1 := Scalar.andi v2081 v2083
  let v2070 : BitVec 32 := Scalar.divsi v2069 c128_i32_1105
  let c1_i32_1111 : BitVec 32 := 1#32
  let v2085 : BitVec 32 := Scalar.subi v2070 c1_i32_1111
  let v2086 : BitVec 32 := Scalar.select v2084 v2085 v2070
  let c128_i32_1112 : BitVec 32 := 128#32
  let v2087 : BitVec 32 := Scalar.muli v2086 c128_i32_1112
  let v2088 : BitVec 32 := Scalar.maxsi c0_i32_1113 v2087
  let v2089 : BitVec 32 := Scalar.minsi c99872_i32_1114 v2088
  let v2090 : BitVec 32 := v2089
  ![78, v2090.toNat]

def k1_chk79 (v2069 : BitVec 32) : Prop :=
  (32 ∣ (k1_mult79 v2069).toNat) ∧
  (∀ a, (k1_off79 v2069) a + S1x128.size a ≤ S128x100000.size a)
theorem k1_mult79_dvd : ∀ (v2069 : BitVec 32) (k1_hw79 : k1_chk79 v2069), 32 ∣ (k1_mult79 v2069).toNat := fun v2069 k1_hw79 => k1_hw79.1
theorem k1_off79_inb : ∀ (v2069 : BitVec 32) (k1_hw79 : k1_chk79 v2069), ∀ a, (k1_off79 v2069) a + S1x128.size a ≤ S128x100000.size a := fun v2069 k1_hw79 => k1_hw79.2

def k1_mult80 (v2095 : BitVec 32) : BitVec 32 :=
  let c99872_i32_1128 : BitVec 32 := 99872#32
  let c0_i32_1127 : BitVec 32 := 0#32
  let c0_i32_1120 : BitVec 32 := 0#32
  let v2097 : BitVec 1 := Scalar.cmpi .sgt v2095 c0_i32_1120
  let v2098 : BitVec 32 := Scalar.extui v2097
  let c0_i32_1121 : BitVec 32 := 0#32
  let v2099 : BitVec 1 := Scalar.cmpi .slt v2095 c0_i32_1121
  let v2100 : BitVec 32 := Scalar.extui v2099
  let v2101 : BitVec 32 := Scalar.subi v2098 v2100
  let c128_i32_1119 : BitVec 32 := 128#32
  let c0_i32_1122 : BitVec 32 := 0#32
  let v2102 : BitVec 1 := Scalar.cmpi .sgt c128_i32_1119 c0_i32_1122
  let v2103 : BitVec 32 := Scalar.extui v2102
  let c0_i32_1123 : BitVec 32 := 0#32
  let v2104 : BitVec 1 := Scalar.cmpi .slt c128_i32_1119 c0_i32_1123
  let v2105 : BitVec 32 := Scalar.extui v2104
  let v2106 : BitVec 32 := Scalar.subi v2103 v2105
  let v2107 : BitVec 1 := Scalar.cmpi .ne v2101 v2106
  let v2108 : BitVec 32 := Scalar.remsi v2095 c128_i32_1119
  let c0_i32_1124 : BitVec 32 := 0#32
  let v2109 : BitVec 1 := Scalar.cmpi .ne v2108 c0_i32_1124
  let v2110 : BitVec 1 := Scalar.andi v2107 v2109
  let v2096 : BitVec 32 := Scalar.divsi v2095 c128_i32_1119
  let c1_i32_1125 : BitVec 32 := 1#32
  let v2111 : BitVec 32 := Scalar.subi v2096 c1_i32_1125
  let v2112 : BitVec 32 := Scalar.select v2110 v2111 v2096
  let c128_i32_1126 : BitVec 32 := 128#32
  let v2113 : BitVec 32 := Scalar.muli v2112 c128_i32_1126
  let v2114 : BitVec 32 := Scalar.maxsi c0_i32_1127 v2113
  let v2115 : BitVec 32 := Scalar.minsi c99872_i32_1128 v2114
  v2115

def k1_off80 (v2095 : BitVec 32) : Fin 2 → Nat :=
  let c79_i32_1129 : BitVec 32 := 79#32
  let c99872_i32_1128 : BitVec 32 := 99872#32
  let c0_i32_1127 : BitVec 32 := 0#32
  let c0_i32_1120 : BitVec 32 := 0#32
  let v2097 : BitVec 1 := Scalar.cmpi .sgt v2095 c0_i32_1120
  let v2098 : BitVec 32 := Scalar.extui v2097
  let c0_i32_1121 : BitVec 32 := 0#32
  let v2099 : BitVec 1 := Scalar.cmpi .slt v2095 c0_i32_1121
  let v2100 : BitVec 32 := Scalar.extui v2099
  let v2101 : BitVec 32 := Scalar.subi v2098 v2100
  let c128_i32_1119 : BitVec 32 := 128#32
  let c0_i32_1122 : BitVec 32 := 0#32
  let v2102 : BitVec 1 := Scalar.cmpi .sgt c128_i32_1119 c0_i32_1122
  let v2103 : BitVec 32 := Scalar.extui v2102
  let c0_i32_1123 : BitVec 32 := 0#32
  let v2104 : BitVec 1 := Scalar.cmpi .slt c128_i32_1119 c0_i32_1123
  let v2105 : BitVec 32 := Scalar.extui v2104
  let v2106 : BitVec 32 := Scalar.subi v2103 v2105
  let v2107 : BitVec 1 := Scalar.cmpi .ne v2101 v2106
  let v2108 : BitVec 32 := Scalar.remsi v2095 c128_i32_1119
  let c0_i32_1124 : BitVec 32 := 0#32
  let v2109 : BitVec 1 := Scalar.cmpi .ne v2108 c0_i32_1124
  let v2110 : BitVec 1 := Scalar.andi v2107 v2109
  let v2096 : BitVec 32 := Scalar.divsi v2095 c128_i32_1119
  let c1_i32_1125 : BitVec 32 := 1#32
  let v2111 : BitVec 32 := Scalar.subi v2096 c1_i32_1125
  let v2112 : BitVec 32 := Scalar.select v2110 v2111 v2096
  let c128_i32_1126 : BitVec 32 := 128#32
  let v2113 : BitVec 32 := Scalar.muli v2112 c128_i32_1126
  let v2114 : BitVec 32 := Scalar.maxsi c0_i32_1127 v2113
  let v2115 : BitVec 32 := Scalar.minsi c99872_i32_1128 v2114
  let v2116 : BitVec 32 := v2115
  ![79, v2116.toNat]

def k1_chk80 (v2095 : BitVec 32) : Prop :=
  (32 ∣ (k1_mult80 v2095).toNat) ∧
  (∀ a, (k1_off80 v2095) a + S1x128.size a ≤ S128x100000.size a)
theorem k1_mult80_dvd : ∀ (v2095 : BitVec 32) (k1_hw80 : k1_chk80 v2095), 32 ∣ (k1_mult80 v2095).toNat := fun v2095 k1_hw80 => k1_hw80.1
theorem k1_off80_inb : ∀ (v2095 : BitVec 32) (k1_hw80 : k1_chk80 v2095), ∀ a, (k1_off80 v2095) a + S1x128.size a ≤ S128x100000.size a := fun v2095 k1_hw80 => k1_hw80.2

def k1_mult81 (v2121 : BitVec 32) : BitVec 32 :=
  let c99872_i32_1142 : BitVec 32 := 99872#32
  let c0_i32_1141 : BitVec 32 := 0#32
  let c0_i32_1134 : BitVec 32 := 0#32
  let v2123 : BitVec 1 := Scalar.cmpi .sgt v2121 c0_i32_1134
  let v2124 : BitVec 32 := Scalar.extui v2123
  let c0_i32_1135 : BitVec 32 := 0#32
  let v2125 : BitVec 1 := Scalar.cmpi .slt v2121 c0_i32_1135
  let v2126 : BitVec 32 := Scalar.extui v2125
  let v2127 : BitVec 32 := Scalar.subi v2124 v2126
  let c128_i32_1133 : BitVec 32 := 128#32
  let c0_i32_1136 : BitVec 32 := 0#32
  let v2128 : BitVec 1 := Scalar.cmpi .sgt c128_i32_1133 c0_i32_1136
  let v2129 : BitVec 32 := Scalar.extui v2128
  let c0_i32_1137 : BitVec 32 := 0#32
  let v2130 : BitVec 1 := Scalar.cmpi .slt c128_i32_1133 c0_i32_1137
  let v2131 : BitVec 32 := Scalar.extui v2130
  let v2132 : BitVec 32 := Scalar.subi v2129 v2131
  let v2133 : BitVec 1 := Scalar.cmpi .ne v2127 v2132
  let v2134 : BitVec 32 := Scalar.remsi v2121 c128_i32_1133
  let c0_i32_1138 : BitVec 32 := 0#32
  let v2135 : BitVec 1 := Scalar.cmpi .ne v2134 c0_i32_1138
  let v2136 : BitVec 1 := Scalar.andi v2133 v2135
  let v2122 : BitVec 32 := Scalar.divsi v2121 c128_i32_1133
  let c1_i32_1139 : BitVec 32 := 1#32
  let v2137 : BitVec 32 := Scalar.subi v2122 c1_i32_1139
  let v2138 : BitVec 32 := Scalar.select v2136 v2137 v2122
  let c128_i32_1140 : BitVec 32 := 128#32
  let v2139 : BitVec 32 := Scalar.muli v2138 c128_i32_1140
  let v2140 : BitVec 32 := Scalar.maxsi c0_i32_1141 v2139
  let v2141 : BitVec 32 := Scalar.minsi c99872_i32_1142 v2140
  v2141

def k1_off81 (v2121 : BitVec 32) : Fin 2 → Nat :=
  let c80_i32_1143 : BitVec 32 := 80#32
  let c99872_i32_1142 : BitVec 32 := 99872#32
  let c0_i32_1141 : BitVec 32 := 0#32
  let c0_i32_1134 : BitVec 32 := 0#32
  let v2123 : BitVec 1 := Scalar.cmpi .sgt v2121 c0_i32_1134
  let v2124 : BitVec 32 := Scalar.extui v2123
  let c0_i32_1135 : BitVec 32 := 0#32
  let v2125 : BitVec 1 := Scalar.cmpi .slt v2121 c0_i32_1135
  let v2126 : BitVec 32 := Scalar.extui v2125
  let v2127 : BitVec 32 := Scalar.subi v2124 v2126
  let c128_i32_1133 : BitVec 32 := 128#32
  let c0_i32_1136 : BitVec 32 := 0#32
  let v2128 : BitVec 1 := Scalar.cmpi .sgt c128_i32_1133 c0_i32_1136
  let v2129 : BitVec 32 := Scalar.extui v2128
  let c0_i32_1137 : BitVec 32 := 0#32
  let v2130 : BitVec 1 := Scalar.cmpi .slt c128_i32_1133 c0_i32_1137
  let v2131 : BitVec 32 := Scalar.extui v2130
  let v2132 : BitVec 32 := Scalar.subi v2129 v2131
  let v2133 : BitVec 1 := Scalar.cmpi .ne v2127 v2132
  let v2134 : BitVec 32 := Scalar.remsi v2121 c128_i32_1133
  let c0_i32_1138 : BitVec 32 := 0#32
  let v2135 : BitVec 1 := Scalar.cmpi .ne v2134 c0_i32_1138
  let v2136 : BitVec 1 := Scalar.andi v2133 v2135
  let v2122 : BitVec 32 := Scalar.divsi v2121 c128_i32_1133
  let c1_i32_1139 : BitVec 32 := 1#32
  let v2137 : BitVec 32 := Scalar.subi v2122 c1_i32_1139
  let v2138 : BitVec 32 := Scalar.select v2136 v2137 v2122
  let c128_i32_1140 : BitVec 32 := 128#32
  let v2139 : BitVec 32 := Scalar.muli v2138 c128_i32_1140
  let v2140 : BitVec 32 := Scalar.maxsi c0_i32_1141 v2139
  let v2141 : BitVec 32 := Scalar.minsi c99872_i32_1142 v2140
  let v2142 : BitVec 32 := v2141
  ![80, v2142.toNat]

def k1_chk81 (v2121 : BitVec 32) : Prop :=
  (32 ∣ (k1_mult81 v2121).toNat) ∧
  (∀ a, (k1_off81 v2121) a + S1x128.size a ≤ S128x100000.size a)
theorem k1_mult81_dvd : ∀ (v2121 : BitVec 32) (k1_hw81 : k1_chk81 v2121), 32 ∣ (k1_mult81 v2121).toNat := fun v2121 k1_hw81 => k1_hw81.1
theorem k1_off81_inb : ∀ (v2121 : BitVec 32) (k1_hw81 : k1_chk81 v2121), ∀ a, (k1_off81 v2121) a + S1x128.size a ≤ S128x100000.size a := fun v2121 k1_hw81 => k1_hw81.2

def k1_mult82 (v2147 : BitVec 32) : BitVec 32 :=
  let c99872_i32_1156 : BitVec 32 := 99872#32
  let c0_i32_1155 : BitVec 32 := 0#32
  let c0_i32_1148 : BitVec 32 := 0#32
  let v2149 : BitVec 1 := Scalar.cmpi .sgt v2147 c0_i32_1148
  let v2150 : BitVec 32 := Scalar.extui v2149
  let c0_i32_1149 : BitVec 32 := 0#32
  let v2151 : BitVec 1 := Scalar.cmpi .slt v2147 c0_i32_1149
  let v2152 : BitVec 32 := Scalar.extui v2151
  let v2153 : BitVec 32 := Scalar.subi v2150 v2152
  let c128_i32_1147 : BitVec 32 := 128#32
  let c0_i32_1150 : BitVec 32 := 0#32
  let v2154 : BitVec 1 := Scalar.cmpi .sgt c128_i32_1147 c0_i32_1150
  let v2155 : BitVec 32 := Scalar.extui v2154
  let c0_i32_1151 : BitVec 32 := 0#32
  let v2156 : BitVec 1 := Scalar.cmpi .slt c128_i32_1147 c0_i32_1151
  let v2157 : BitVec 32 := Scalar.extui v2156
  let v2158 : BitVec 32 := Scalar.subi v2155 v2157
  let v2159 : BitVec 1 := Scalar.cmpi .ne v2153 v2158
  let v2160 : BitVec 32 := Scalar.remsi v2147 c128_i32_1147
  let c0_i32_1152 : BitVec 32 := 0#32
  let v2161 : BitVec 1 := Scalar.cmpi .ne v2160 c0_i32_1152
  let v2162 : BitVec 1 := Scalar.andi v2159 v2161
  let v2148 : BitVec 32 := Scalar.divsi v2147 c128_i32_1147
  let c1_i32_1153 : BitVec 32 := 1#32
  let v2163 : BitVec 32 := Scalar.subi v2148 c1_i32_1153
  let v2164 : BitVec 32 := Scalar.select v2162 v2163 v2148
  let c128_i32_1154 : BitVec 32 := 128#32
  let v2165 : BitVec 32 := Scalar.muli v2164 c128_i32_1154
  let v2166 : BitVec 32 := Scalar.maxsi c0_i32_1155 v2165
  let v2167 : BitVec 32 := Scalar.minsi c99872_i32_1156 v2166
  v2167

def k1_off82 (v2147 : BitVec 32) : Fin 2 → Nat :=
  let c81_i32_1157 : BitVec 32 := 81#32
  let c99872_i32_1156 : BitVec 32 := 99872#32
  let c0_i32_1155 : BitVec 32 := 0#32
  let c0_i32_1148 : BitVec 32 := 0#32
  let v2149 : BitVec 1 := Scalar.cmpi .sgt v2147 c0_i32_1148
  let v2150 : BitVec 32 := Scalar.extui v2149
  let c0_i32_1149 : BitVec 32 := 0#32
  let v2151 : BitVec 1 := Scalar.cmpi .slt v2147 c0_i32_1149
  let v2152 : BitVec 32 := Scalar.extui v2151
  let v2153 : BitVec 32 := Scalar.subi v2150 v2152
  let c128_i32_1147 : BitVec 32 := 128#32
  let c0_i32_1150 : BitVec 32 := 0#32
  let v2154 : BitVec 1 := Scalar.cmpi .sgt c128_i32_1147 c0_i32_1150
  let v2155 : BitVec 32 := Scalar.extui v2154
  let c0_i32_1151 : BitVec 32 := 0#32
  let v2156 : BitVec 1 := Scalar.cmpi .slt c128_i32_1147 c0_i32_1151
  let v2157 : BitVec 32 := Scalar.extui v2156
  let v2158 : BitVec 32 := Scalar.subi v2155 v2157
  let v2159 : BitVec 1 := Scalar.cmpi .ne v2153 v2158
  let v2160 : BitVec 32 := Scalar.remsi v2147 c128_i32_1147
  let c0_i32_1152 : BitVec 32 := 0#32
  let v2161 : BitVec 1 := Scalar.cmpi .ne v2160 c0_i32_1152
  let v2162 : BitVec 1 := Scalar.andi v2159 v2161
  let v2148 : BitVec 32 := Scalar.divsi v2147 c128_i32_1147
  let c1_i32_1153 : BitVec 32 := 1#32
  let v2163 : BitVec 32 := Scalar.subi v2148 c1_i32_1153
  let v2164 : BitVec 32 := Scalar.select v2162 v2163 v2148
  let c128_i32_1154 : BitVec 32 := 128#32
  let v2165 : BitVec 32 := Scalar.muli v2164 c128_i32_1154
  let v2166 : BitVec 32 := Scalar.maxsi c0_i32_1155 v2165
  let v2167 : BitVec 32 := Scalar.minsi c99872_i32_1156 v2166
  let v2168 : BitVec 32 := v2167
  ![81, v2168.toNat]

def k1_chk82 (v2147 : BitVec 32) : Prop :=
  (32 ∣ (k1_mult82 v2147).toNat) ∧
  (∀ a, (k1_off82 v2147) a + S1x128.size a ≤ S128x100000.size a)
theorem k1_mult82_dvd : ∀ (v2147 : BitVec 32) (k1_hw82 : k1_chk82 v2147), 32 ∣ (k1_mult82 v2147).toNat := fun v2147 k1_hw82 => k1_hw82.1
theorem k1_off82_inb : ∀ (v2147 : BitVec 32) (k1_hw82 : k1_chk82 v2147), ∀ a, (k1_off82 v2147) a + S1x128.size a ≤ S128x100000.size a := fun v2147 k1_hw82 => k1_hw82.2

def k1_mult83 (v2173 : BitVec 32) : BitVec 32 :=
  let c99872_i32_1170 : BitVec 32 := 99872#32
  let c0_i32_1169 : BitVec 32 := 0#32
  let c0_i32_1162 : BitVec 32 := 0#32
  let v2175 : BitVec 1 := Scalar.cmpi .sgt v2173 c0_i32_1162
  let v2176 : BitVec 32 := Scalar.extui v2175
  let c0_i32_1163 : BitVec 32 := 0#32
  let v2177 : BitVec 1 := Scalar.cmpi .slt v2173 c0_i32_1163
  let v2178 : BitVec 32 := Scalar.extui v2177
  let v2179 : BitVec 32 := Scalar.subi v2176 v2178
  let c128_i32_1161 : BitVec 32 := 128#32
  let c0_i32_1164 : BitVec 32 := 0#32
  let v2180 : BitVec 1 := Scalar.cmpi .sgt c128_i32_1161 c0_i32_1164
  let v2181 : BitVec 32 := Scalar.extui v2180
  let c0_i32_1165 : BitVec 32 := 0#32
  let v2182 : BitVec 1 := Scalar.cmpi .slt c128_i32_1161 c0_i32_1165
  let v2183 : BitVec 32 := Scalar.extui v2182
  let v2184 : BitVec 32 := Scalar.subi v2181 v2183
  let v2185 : BitVec 1 := Scalar.cmpi .ne v2179 v2184
  let v2186 : BitVec 32 := Scalar.remsi v2173 c128_i32_1161
  let c0_i32_1166 : BitVec 32 := 0#32
  let v2187 : BitVec 1 := Scalar.cmpi .ne v2186 c0_i32_1166
  let v2188 : BitVec 1 := Scalar.andi v2185 v2187
  let v2174 : BitVec 32 := Scalar.divsi v2173 c128_i32_1161
  let c1_i32_1167 : BitVec 32 := 1#32
  let v2189 : BitVec 32 := Scalar.subi v2174 c1_i32_1167
  let v2190 : BitVec 32 := Scalar.select v2188 v2189 v2174
  let c128_i32_1168 : BitVec 32 := 128#32
  let v2191 : BitVec 32 := Scalar.muli v2190 c128_i32_1168
  let v2192 : BitVec 32 := Scalar.maxsi c0_i32_1169 v2191
  let v2193 : BitVec 32 := Scalar.minsi c99872_i32_1170 v2192
  v2193

def k1_off83 (v2173 : BitVec 32) : Fin 2 → Nat :=
  let c82_i32_1171 : BitVec 32 := 82#32
  let c99872_i32_1170 : BitVec 32 := 99872#32
  let c0_i32_1169 : BitVec 32 := 0#32
  let c0_i32_1162 : BitVec 32 := 0#32
  let v2175 : BitVec 1 := Scalar.cmpi .sgt v2173 c0_i32_1162
  let v2176 : BitVec 32 := Scalar.extui v2175
  let c0_i32_1163 : BitVec 32 := 0#32
  let v2177 : BitVec 1 := Scalar.cmpi .slt v2173 c0_i32_1163
  let v2178 : BitVec 32 := Scalar.extui v2177
  let v2179 : BitVec 32 := Scalar.subi v2176 v2178
  let c128_i32_1161 : BitVec 32 := 128#32
  let c0_i32_1164 : BitVec 32 := 0#32
  let v2180 : BitVec 1 := Scalar.cmpi .sgt c128_i32_1161 c0_i32_1164
  let v2181 : BitVec 32 := Scalar.extui v2180
  let c0_i32_1165 : BitVec 32 := 0#32
  let v2182 : BitVec 1 := Scalar.cmpi .slt c128_i32_1161 c0_i32_1165
  let v2183 : BitVec 32 := Scalar.extui v2182
  let v2184 : BitVec 32 := Scalar.subi v2181 v2183
  let v2185 : BitVec 1 := Scalar.cmpi .ne v2179 v2184
  let v2186 : BitVec 32 := Scalar.remsi v2173 c128_i32_1161
  let c0_i32_1166 : BitVec 32 := 0#32
  let v2187 : BitVec 1 := Scalar.cmpi .ne v2186 c0_i32_1166
  let v2188 : BitVec 1 := Scalar.andi v2185 v2187
  let v2174 : BitVec 32 := Scalar.divsi v2173 c128_i32_1161
  let c1_i32_1167 : BitVec 32 := 1#32
  let v2189 : BitVec 32 := Scalar.subi v2174 c1_i32_1167
  let v2190 : BitVec 32 := Scalar.select v2188 v2189 v2174
  let c128_i32_1168 : BitVec 32 := 128#32
  let v2191 : BitVec 32 := Scalar.muli v2190 c128_i32_1168
  let v2192 : BitVec 32 := Scalar.maxsi c0_i32_1169 v2191
  let v2193 : BitVec 32 := Scalar.minsi c99872_i32_1170 v2192
  let v2194 : BitVec 32 := v2193
  ![82, v2194.toNat]

def k1_chk83 (v2173 : BitVec 32) : Prop :=
  (32 ∣ (k1_mult83 v2173).toNat) ∧
  (∀ a, (k1_off83 v2173) a + S1x128.size a ≤ S128x100000.size a)
theorem k1_mult83_dvd : ∀ (v2173 : BitVec 32) (k1_hw83 : k1_chk83 v2173), 32 ∣ (k1_mult83 v2173).toNat := fun v2173 k1_hw83 => k1_hw83.1
theorem k1_off83_inb : ∀ (v2173 : BitVec 32) (k1_hw83 : k1_chk83 v2173), ∀ a, (k1_off83 v2173) a + S1x128.size a ≤ S128x100000.size a := fun v2173 k1_hw83 => k1_hw83.2

def k1_mult84 (v2199 : BitVec 32) : BitVec 32 :=
  let c99872_i32_1184 : BitVec 32 := 99872#32
  let c0_i32_1183 : BitVec 32 := 0#32
  let c0_i32_1176 : BitVec 32 := 0#32
  let v2201 : BitVec 1 := Scalar.cmpi .sgt v2199 c0_i32_1176
  let v2202 : BitVec 32 := Scalar.extui v2201
  let c0_i32_1177 : BitVec 32 := 0#32
  let v2203 : BitVec 1 := Scalar.cmpi .slt v2199 c0_i32_1177
  let v2204 : BitVec 32 := Scalar.extui v2203
  let v2205 : BitVec 32 := Scalar.subi v2202 v2204
  let c128_i32_1175 : BitVec 32 := 128#32
  let c0_i32_1178 : BitVec 32 := 0#32
  let v2206 : BitVec 1 := Scalar.cmpi .sgt c128_i32_1175 c0_i32_1178
  let v2207 : BitVec 32 := Scalar.extui v2206
  let c0_i32_1179 : BitVec 32 := 0#32
  let v2208 : BitVec 1 := Scalar.cmpi .slt c128_i32_1175 c0_i32_1179
  let v2209 : BitVec 32 := Scalar.extui v2208
  let v2210 : BitVec 32 := Scalar.subi v2207 v2209
  let v2211 : BitVec 1 := Scalar.cmpi .ne v2205 v2210
  let v2212 : BitVec 32 := Scalar.remsi v2199 c128_i32_1175
  let c0_i32_1180 : BitVec 32 := 0#32
  let v2213 : BitVec 1 := Scalar.cmpi .ne v2212 c0_i32_1180
  let v2214 : BitVec 1 := Scalar.andi v2211 v2213
  let v2200 : BitVec 32 := Scalar.divsi v2199 c128_i32_1175
  let c1_i32_1181 : BitVec 32 := 1#32
  let v2215 : BitVec 32 := Scalar.subi v2200 c1_i32_1181
  let v2216 : BitVec 32 := Scalar.select v2214 v2215 v2200
  let c128_i32_1182 : BitVec 32 := 128#32
  let v2217 : BitVec 32 := Scalar.muli v2216 c128_i32_1182
  let v2218 : BitVec 32 := Scalar.maxsi c0_i32_1183 v2217
  let v2219 : BitVec 32 := Scalar.minsi c99872_i32_1184 v2218
  v2219

def k1_off84 (v2199 : BitVec 32) : Fin 2 → Nat :=
  let c83_i32_1185 : BitVec 32 := 83#32
  let c99872_i32_1184 : BitVec 32 := 99872#32
  let c0_i32_1183 : BitVec 32 := 0#32
  let c0_i32_1176 : BitVec 32 := 0#32
  let v2201 : BitVec 1 := Scalar.cmpi .sgt v2199 c0_i32_1176
  let v2202 : BitVec 32 := Scalar.extui v2201
  let c0_i32_1177 : BitVec 32 := 0#32
  let v2203 : BitVec 1 := Scalar.cmpi .slt v2199 c0_i32_1177
  let v2204 : BitVec 32 := Scalar.extui v2203
  let v2205 : BitVec 32 := Scalar.subi v2202 v2204
  let c128_i32_1175 : BitVec 32 := 128#32
  let c0_i32_1178 : BitVec 32 := 0#32
  let v2206 : BitVec 1 := Scalar.cmpi .sgt c128_i32_1175 c0_i32_1178
  let v2207 : BitVec 32 := Scalar.extui v2206
  let c0_i32_1179 : BitVec 32 := 0#32
  let v2208 : BitVec 1 := Scalar.cmpi .slt c128_i32_1175 c0_i32_1179
  let v2209 : BitVec 32 := Scalar.extui v2208
  let v2210 : BitVec 32 := Scalar.subi v2207 v2209
  let v2211 : BitVec 1 := Scalar.cmpi .ne v2205 v2210
  let v2212 : BitVec 32 := Scalar.remsi v2199 c128_i32_1175
  let c0_i32_1180 : BitVec 32 := 0#32
  let v2213 : BitVec 1 := Scalar.cmpi .ne v2212 c0_i32_1180
  let v2214 : BitVec 1 := Scalar.andi v2211 v2213
  let v2200 : BitVec 32 := Scalar.divsi v2199 c128_i32_1175
  let c1_i32_1181 : BitVec 32 := 1#32
  let v2215 : BitVec 32 := Scalar.subi v2200 c1_i32_1181
  let v2216 : BitVec 32 := Scalar.select v2214 v2215 v2200
  let c128_i32_1182 : BitVec 32 := 128#32
  let v2217 : BitVec 32 := Scalar.muli v2216 c128_i32_1182
  let v2218 : BitVec 32 := Scalar.maxsi c0_i32_1183 v2217
  let v2219 : BitVec 32 := Scalar.minsi c99872_i32_1184 v2218
  let v2220 : BitVec 32 := v2219
  ![83, v2220.toNat]

def k1_chk84 (v2199 : BitVec 32) : Prop :=
  (32 ∣ (k1_mult84 v2199).toNat) ∧
  (∀ a, (k1_off84 v2199) a + S1x128.size a ≤ S128x100000.size a)
theorem k1_mult84_dvd : ∀ (v2199 : BitVec 32) (k1_hw84 : k1_chk84 v2199), 32 ∣ (k1_mult84 v2199).toNat := fun v2199 k1_hw84 => k1_hw84.1
theorem k1_off84_inb : ∀ (v2199 : BitVec 32) (k1_hw84 : k1_chk84 v2199), ∀ a, (k1_off84 v2199) a + S1x128.size a ≤ S128x100000.size a := fun v2199 k1_hw84 => k1_hw84.2

def k1_mult85 (v2225 : BitVec 32) : BitVec 32 :=
  let c99872_i32_1198 : BitVec 32 := 99872#32
  let c0_i32_1197 : BitVec 32 := 0#32
  let c0_i32_1190 : BitVec 32 := 0#32
  let v2227 : BitVec 1 := Scalar.cmpi .sgt v2225 c0_i32_1190
  let v2228 : BitVec 32 := Scalar.extui v2227
  let c0_i32_1191 : BitVec 32 := 0#32
  let v2229 : BitVec 1 := Scalar.cmpi .slt v2225 c0_i32_1191
  let v2230 : BitVec 32 := Scalar.extui v2229
  let v2231 : BitVec 32 := Scalar.subi v2228 v2230
  let c128_i32_1189 : BitVec 32 := 128#32
  let c0_i32_1192 : BitVec 32 := 0#32
  let v2232 : BitVec 1 := Scalar.cmpi .sgt c128_i32_1189 c0_i32_1192
  let v2233 : BitVec 32 := Scalar.extui v2232
  let c0_i32_1193 : BitVec 32 := 0#32
  let v2234 : BitVec 1 := Scalar.cmpi .slt c128_i32_1189 c0_i32_1193
  let v2235 : BitVec 32 := Scalar.extui v2234
  let v2236 : BitVec 32 := Scalar.subi v2233 v2235
  let v2237 : BitVec 1 := Scalar.cmpi .ne v2231 v2236
  let v2238 : BitVec 32 := Scalar.remsi v2225 c128_i32_1189
  let c0_i32_1194 : BitVec 32 := 0#32
  let v2239 : BitVec 1 := Scalar.cmpi .ne v2238 c0_i32_1194
  let v2240 : BitVec 1 := Scalar.andi v2237 v2239
  let v2226 : BitVec 32 := Scalar.divsi v2225 c128_i32_1189
  let c1_i32_1195 : BitVec 32 := 1#32
  let v2241 : BitVec 32 := Scalar.subi v2226 c1_i32_1195
  let v2242 : BitVec 32 := Scalar.select v2240 v2241 v2226
  let c128_i32_1196 : BitVec 32 := 128#32
  let v2243 : BitVec 32 := Scalar.muli v2242 c128_i32_1196
  let v2244 : BitVec 32 := Scalar.maxsi c0_i32_1197 v2243
  let v2245 : BitVec 32 := Scalar.minsi c99872_i32_1198 v2244
  v2245

def k1_off85 (v2225 : BitVec 32) : Fin 2 → Nat :=
  let c84_i32_1199 : BitVec 32 := 84#32
  let c99872_i32_1198 : BitVec 32 := 99872#32
  let c0_i32_1197 : BitVec 32 := 0#32
  let c0_i32_1190 : BitVec 32 := 0#32
  let v2227 : BitVec 1 := Scalar.cmpi .sgt v2225 c0_i32_1190
  let v2228 : BitVec 32 := Scalar.extui v2227
  let c0_i32_1191 : BitVec 32 := 0#32
  let v2229 : BitVec 1 := Scalar.cmpi .slt v2225 c0_i32_1191
  let v2230 : BitVec 32 := Scalar.extui v2229
  let v2231 : BitVec 32 := Scalar.subi v2228 v2230
  let c128_i32_1189 : BitVec 32 := 128#32
  let c0_i32_1192 : BitVec 32 := 0#32
  let v2232 : BitVec 1 := Scalar.cmpi .sgt c128_i32_1189 c0_i32_1192
  let v2233 : BitVec 32 := Scalar.extui v2232
  let c0_i32_1193 : BitVec 32 := 0#32
  let v2234 : BitVec 1 := Scalar.cmpi .slt c128_i32_1189 c0_i32_1193
  let v2235 : BitVec 32 := Scalar.extui v2234
  let v2236 : BitVec 32 := Scalar.subi v2233 v2235
  let v2237 : BitVec 1 := Scalar.cmpi .ne v2231 v2236
  let v2238 : BitVec 32 := Scalar.remsi v2225 c128_i32_1189
  let c0_i32_1194 : BitVec 32 := 0#32
  let v2239 : BitVec 1 := Scalar.cmpi .ne v2238 c0_i32_1194
  let v2240 : BitVec 1 := Scalar.andi v2237 v2239
  let v2226 : BitVec 32 := Scalar.divsi v2225 c128_i32_1189
  let c1_i32_1195 : BitVec 32 := 1#32
  let v2241 : BitVec 32 := Scalar.subi v2226 c1_i32_1195
  let v2242 : BitVec 32 := Scalar.select v2240 v2241 v2226
  let c128_i32_1196 : BitVec 32 := 128#32
  let v2243 : BitVec 32 := Scalar.muli v2242 c128_i32_1196
  let v2244 : BitVec 32 := Scalar.maxsi c0_i32_1197 v2243
  let v2245 : BitVec 32 := Scalar.minsi c99872_i32_1198 v2244
  let v2246 : BitVec 32 := v2245
  ![84, v2246.toNat]

def k1_chk85 (v2225 : BitVec 32) : Prop :=
  (32 ∣ (k1_mult85 v2225).toNat) ∧
  (∀ a, (k1_off85 v2225) a + S1x128.size a ≤ S128x100000.size a)
theorem k1_mult85_dvd : ∀ (v2225 : BitVec 32) (k1_hw85 : k1_chk85 v2225), 32 ∣ (k1_mult85 v2225).toNat := fun v2225 k1_hw85 => k1_hw85.1
theorem k1_off85_inb : ∀ (v2225 : BitVec 32) (k1_hw85 : k1_chk85 v2225), ∀ a, (k1_off85 v2225) a + S1x128.size a ≤ S128x100000.size a := fun v2225 k1_hw85 => k1_hw85.2

def k1_mult86 (v2251 : BitVec 32) : BitVec 32 :=
  let c99872_i32_1212 : BitVec 32 := 99872#32
  let c0_i32_1211 : BitVec 32 := 0#32
  let c0_i32_1204 : BitVec 32 := 0#32
  let v2253 : BitVec 1 := Scalar.cmpi .sgt v2251 c0_i32_1204
  let v2254 : BitVec 32 := Scalar.extui v2253
  let c0_i32_1205 : BitVec 32 := 0#32
  let v2255 : BitVec 1 := Scalar.cmpi .slt v2251 c0_i32_1205
  let v2256 : BitVec 32 := Scalar.extui v2255
  let v2257 : BitVec 32 := Scalar.subi v2254 v2256
  let c128_i32_1203 : BitVec 32 := 128#32
  let c0_i32_1206 : BitVec 32 := 0#32
  let v2258 : BitVec 1 := Scalar.cmpi .sgt c128_i32_1203 c0_i32_1206
  let v2259 : BitVec 32 := Scalar.extui v2258
  let c0_i32_1207 : BitVec 32 := 0#32
  let v2260 : BitVec 1 := Scalar.cmpi .slt c128_i32_1203 c0_i32_1207
  let v2261 : BitVec 32 := Scalar.extui v2260
  let v2262 : BitVec 32 := Scalar.subi v2259 v2261
  let v2263 : BitVec 1 := Scalar.cmpi .ne v2257 v2262
  let v2264 : BitVec 32 := Scalar.remsi v2251 c128_i32_1203
  let c0_i32_1208 : BitVec 32 := 0#32
  let v2265 : BitVec 1 := Scalar.cmpi .ne v2264 c0_i32_1208
  let v2266 : BitVec 1 := Scalar.andi v2263 v2265
  let v2252 : BitVec 32 := Scalar.divsi v2251 c128_i32_1203
  let c1_i32_1209 : BitVec 32 := 1#32
  let v2267 : BitVec 32 := Scalar.subi v2252 c1_i32_1209
  let v2268 : BitVec 32 := Scalar.select v2266 v2267 v2252
  let c128_i32_1210 : BitVec 32 := 128#32
  let v2269 : BitVec 32 := Scalar.muli v2268 c128_i32_1210
  let v2270 : BitVec 32 := Scalar.maxsi c0_i32_1211 v2269
  let v2271 : BitVec 32 := Scalar.minsi c99872_i32_1212 v2270
  v2271

def k1_off86 (v2251 : BitVec 32) : Fin 2 → Nat :=
  let c85_i32_1213 : BitVec 32 := 85#32
  let c99872_i32_1212 : BitVec 32 := 99872#32
  let c0_i32_1211 : BitVec 32 := 0#32
  let c0_i32_1204 : BitVec 32 := 0#32
  let v2253 : BitVec 1 := Scalar.cmpi .sgt v2251 c0_i32_1204
  let v2254 : BitVec 32 := Scalar.extui v2253
  let c0_i32_1205 : BitVec 32 := 0#32
  let v2255 : BitVec 1 := Scalar.cmpi .slt v2251 c0_i32_1205
  let v2256 : BitVec 32 := Scalar.extui v2255
  let v2257 : BitVec 32 := Scalar.subi v2254 v2256
  let c128_i32_1203 : BitVec 32 := 128#32
  let c0_i32_1206 : BitVec 32 := 0#32
  let v2258 : BitVec 1 := Scalar.cmpi .sgt c128_i32_1203 c0_i32_1206
  let v2259 : BitVec 32 := Scalar.extui v2258
  let c0_i32_1207 : BitVec 32 := 0#32
  let v2260 : BitVec 1 := Scalar.cmpi .slt c128_i32_1203 c0_i32_1207
  let v2261 : BitVec 32 := Scalar.extui v2260
  let v2262 : BitVec 32 := Scalar.subi v2259 v2261
  let v2263 : BitVec 1 := Scalar.cmpi .ne v2257 v2262
  let v2264 : BitVec 32 := Scalar.remsi v2251 c128_i32_1203
  let c0_i32_1208 : BitVec 32 := 0#32
  let v2265 : BitVec 1 := Scalar.cmpi .ne v2264 c0_i32_1208
  let v2266 : BitVec 1 := Scalar.andi v2263 v2265
  let v2252 : BitVec 32 := Scalar.divsi v2251 c128_i32_1203
  let c1_i32_1209 : BitVec 32 := 1#32
  let v2267 : BitVec 32 := Scalar.subi v2252 c1_i32_1209
  let v2268 : BitVec 32 := Scalar.select v2266 v2267 v2252
  let c128_i32_1210 : BitVec 32 := 128#32
  let v2269 : BitVec 32 := Scalar.muli v2268 c128_i32_1210
  let v2270 : BitVec 32 := Scalar.maxsi c0_i32_1211 v2269
  let v2271 : BitVec 32 := Scalar.minsi c99872_i32_1212 v2270
  let v2272 : BitVec 32 := v2271
  ![85, v2272.toNat]

def k1_chk86 (v2251 : BitVec 32) : Prop :=
  (32 ∣ (k1_mult86 v2251).toNat) ∧
  (∀ a, (k1_off86 v2251) a + S1x128.size a ≤ S128x100000.size a)
theorem k1_mult86_dvd : ∀ (v2251 : BitVec 32) (k1_hw86 : k1_chk86 v2251), 32 ∣ (k1_mult86 v2251).toNat := fun v2251 k1_hw86 => k1_hw86.1
theorem k1_off86_inb : ∀ (v2251 : BitVec 32) (k1_hw86 : k1_chk86 v2251), ∀ a, (k1_off86 v2251) a + S1x128.size a ≤ S128x100000.size a := fun v2251 k1_hw86 => k1_hw86.2

def k1_mult87 (v2277 : BitVec 32) : BitVec 32 :=
  let c99872_i32_1226 : BitVec 32 := 99872#32
  let c0_i32_1225 : BitVec 32 := 0#32
  let c0_i32_1218 : BitVec 32 := 0#32
  let v2279 : BitVec 1 := Scalar.cmpi .sgt v2277 c0_i32_1218
  let v2280 : BitVec 32 := Scalar.extui v2279
  let c0_i32_1219 : BitVec 32 := 0#32
  let v2281 : BitVec 1 := Scalar.cmpi .slt v2277 c0_i32_1219
  let v2282 : BitVec 32 := Scalar.extui v2281
  let v2283 : BitVec 32 := Scalar.subi v2280 v2282
  let c128_i32_1217 : BitVec 32 := 128#32
  let c0_i32_1220 : BitVec 32 := 0#32
  let v2284 : BitVec 1 := Scalar.cmpi .sgt c128_i32_1217 c0_i32_1220
  let v2285 : BitVec 32 := Scalar.extui v2284
  let c0_i32_1221 : BitVec 32 := 0#32
  let v2286 : BitVec 1 := Scalar.cmpi .slt c128_i32_1217 c0_i32_1221
  let v2287 : BitVec 32 := Scalar.extui v2286
  let v2288 : BitVec 32 := Scalar.subi v2285 v2287
  let v2289 : BitVec 1 := Scalar.cmpi .ne v2283 v2288
  let v2290 : BitVec 32 := Scalar.remsi v2277 c128_i32_1217
  let c0_i32_1222 : BitVec 32 := 0#32
  let v2291 : BitVec 1 := Scalar.cmpi .ne v2290 c0_i32_1222
  let v2292 : BitVec 1 := Scalar.andi v2289 v2291
  let v2278 : BitVec 32 := Scalar.divsi v2277 c128_i32_1217
  let c1_i32_1223 : BitVec 32 := 1#32
  let v2293 : BitVec 32 := Scalar.subi v2278 c1_i32_1223
  let v2294 : BitVec 32 := Scalar.select v2292 v2293 v2278
  let c128_i32_1224 : BitVec 32 := 128#32
  let v2295 : BitVec 32 := Scalar.muli v2294 c128_i32_1224
  let v2296 : BitVec 32 := Scalar.maxsi c0_i32_1225 v2295
  let v2297 : BitVec 32 := Scalar.minsi c99872_i32_1226 v2296
  v2297

def k1_off87 (v2277 : BitVec 32) : Fin 2 → Nat :=
  let c86_i32_1227 : BitVec 32 := 86#32
  let c99872_i32_1226 : BitVec 32 := 99872#32
  let c0_i32_1225 : BitVec 32 := 0#32
  let c0_i32_1218 : BitVec 32 := 0#32
  let v2279 : BitVec 1 := Scalar.cmpi .sgt v2277 c0_i32_1218
  let v2280 : BitVec 32 := Scalar.extui v2279
  let c0_i32_1219 : BitVec 32 := 0#32
  let v2281 : BitVec 1 := Scalar.cmpi .slt v2277 c0_i32_1219
  let v2282 : BitVec 32 := Scalar.extui v2281
  let v2283 : BitVec 32 := Scalar.subi v2280 v2282
  let c128_i32_1217 : BitVec 32 := 128#32
  let c0_i32_1220 : BitVec 32 := 0#32
  let v2284 : BitVec 1 := Scalar.cmpi .sgt c128_i32_1217 c0_i32_1220
  let v2285 : BitVec 32 := Scalar.extui v2284
  let c0_i32_1221 : BitVec 32 := 0#32
  let v2286 : BitVec 1 := Scalar.cmpi .slt c128_i32_1217 c0_i32_1221
  let v2287 : BitVec 32 := Scalar.extui v2286
  let v2288 : BitVec 32 := Scalar.subi v2285 v2287
  let v2289 : BitVec 1 := Scalar.cmpi .ne v2283 v2288
  let v2290 : BitVec 32 := Scalar.remsi v2277 c128_i32_1217
  let c0_i32_1222 : BitVec 32 := 0#32
  let v2291 : BitVec 1 := Scalar.cmpi .ne v2290 c0_i32_1222
  let v2292 : BitVec 1 := Scalar.andi v2289 v2291
  let v2278 : BitVec 32 := Scalar.divsi v2277 c128_i32_1217
  let c1_i32_1223 : BitVec 32 := 1#32
  let v2293 : BitVec 32 := Scalar.subi v2278 c1_i32_1223
  let v2294 : BitVec 32 := Scalar.select v2292 v2293 v2278
  let c128_i32_1224 : BitVec 32 := 128#32
  let v2295 : BitVec 32 := Scalar.muli v2294 c128_i32_1224
  let v2296 : BitVec 32 := Scalar.maxsi c0_i32_1225 v2295
  let v2297 : BitVec 32 := Scalar.minsi c99872_i32_1226 v2296
  let v2298 : BitVec 32 := v2297
  ![86, v2298.toNat]

def k1_chk87 (v2277 : BitVec 32) : Prop :=
  (32 ∣ (k1_mult87 v2277).toNat) ∧
  (∀ a, (k1_off87 v2277) a + S1x128.size a ≤ S128x100000.size a)
theorem k1_mult87_dvd : ∀ (v2277 : BitVec 32) (k1_hw87 : k1_chk87 v2277), 32 ∣ (k1_mult87 v2277).toNat := fun v2277 k1_hw87 => k1_hw87.1
theorem k1_off87_inb : ∀ (v2277 : BitVec 32) (k1_hw87 : k1_chk87 v2277), ∀ a, (k1_off87 v2277) a + S1x128.size a ≤ S128x100000.size a := fun v2277 k1_hw87 => k1_hw87.2

def k1_mult88 (v2303 : BitVec 32) : BitVec 32 :=
  let c99872_i32_1240 : BitVec 32 := 99872#32
  let c0_i32_1239 : BitVec 32 := 0#32
  let c0_i32_1232 : BitVec 32 := 0#32
  let v2305 : BitVec 1 := Scalar.cmpi .sgt v2303 c0_i32_1232
  let v2306 : BitVec 32 := Scalar.extui v2305
  let c0_i32_1233 : BitVec 32 := 0#32
  let v2307 : BitVec 1 := Scalar.cmpi .slt v2303 c0_i32_1233
  let v2308 : BitVec 32 := Scalar.extui v2307
  let v2309 : BitVec 32 := Scalar.subi v2306 v2308
  let c128_i32_1231 : BitVec 32 := 128#32
  let c0_i32_1234 : BitVec 32 := 0#32
  let v2310 : BitVec 1 := Scalar.cmpi .sgt c128_i32_1231 c0_i32_1234
  let v2311 : BitVec 32 := Scalar.extui v2310
  let c0_i32_1235 : BitVec 32 := 0#32
  let v2312 : BitVec 1 := Scalar.cmpi .slt c128_i32_1231 c0_i32_1235
  let v2313 : BitVec 32 := Scalar.extui v2312
  let v2314 : BitVec 32 := Scalar.subi v2311 v2313
  let v2315 : BitVec 1 := Scalar.cmpi .ne v2309 v2314
  let v2316 : BitVec 32 := Scalar.remsi v2303 c128_i32_1231
  let c0_i32_1236 : BitVec 32 := 0#32
  let v2317 : BitVec 1 := Scalar.cmpi .ne v2316 c0_i32_1236
  let v2318 : BitVec 1 := Scalar.andi v2315 v2317
  let v2304 : BitVec 32 := Scalar.divsi v2303 c128_i32_1231
  let c1_i32_1237 : BitVec 32 := 1#32
  let v2319 : BitVec 32 := Scalar.subi v2304 c1_i32_1237
  let v2320 : BitVec 32 := Scalar.select v2318 v2319 v2304
  let c128_i32_1238 : BitVec 32 := 128#32
  let v2321 : BitVec 32 := Scalar.muli v2320 c128_i32_1238
  let v2322 : BitVec 32 := Scalar.maxsi c0_i32_1239 v2321
  let v2323 : BitVec 32 := Scalar.minsi c99872_i32_1240 v2322
  v2323

def k1_off88 (v2303 : BitVec 32) : Fin 2 → Nat :=
  let c87_i32_1241 : BitVec 32 := 87#32
  let c99872_i32_1240 : BitVec 32 := 99872#32
  let c0_i32_1239 : BitVec 32 := 0#32
  let c0_i32_1232 : BitVec 32 := 0#32
  let v2305 : BitVec 1 := Scalar.cmpi .sgt v2303 c0_i32_1232
  let v2306 : BitVec 32 := Scalar.extui v2305
  let c0_i32_1233 : BitVec 32 := 0#32
  let v2307 : BitVec 1 := Scalar.cmpi .slt v2303 c0_i32_1233
  let v2308 : BitVec 32 := Scalar.extui v2307
  let v2309 : BitVec 32 := Scalar.subi v2306 v2308
  let c128_i32_1231 : BitVec 32 := 128#32
  let c0_i32_1234 : BitVec 32 := 0#32
  let v2310 : BitVec 1 := Scalar.cmpi .sgt c128_i32_1231 c0_i32_1234
  let v2311 : BitVec 32 := Scalar.extui v2310
  let c0_i32_1235 : BitVec 32 := 0#32
  let v2312 : BitVec 1 := Scalar.cmpi .slt c128_i32_1231 c0_i32_1235
  let v2313 : BitVec 32 := Scalar.extui v2312
  let v2314 : BitVec 32 := Scalar.subi v2311 v2313
  let v2315 : BitVec 1 := Scalar.cmpi .ne v2309 v2314
  let v2316 : BitVec 32 := Scalar.remsi v2303 c128_i32_1231
  let c0_i32_1236 : BitVec 32 := 0#32
  let v2317 : BitVec 1 := Scalar.cmpi .ne v2316 c0_i32_1236
  let v2318 : BitVec 1 := Scalar.andi v2315 v2317
  let v2304 : BitVec 32 := Scalar.divsi v2303 c128_i32_1231
  let c1_i32_1237 : BitVec 32 := 1#32
  let v2319 : BitVec 32 := Scalar.subi v2304 c1_i32_1237
  let v2320 : BitVec 32 := Scalar.select v2318 v2319 v2304
  let c128_i32_1238 : BitVec 32 := 128#32
  let v2321 : BitVec 32 := Scalar.muli v2320 c128_i32_1238
  let v2322 : BitVec 32 := Scalar.maxsi c0_i32_1239 v2321
  let v2323 : BitVec 32 := Scalar.minsi c99872_i32_1240 v2322
  let v2324 : BitVec 32 := v2323
  ![87, v2324.toNat]

def k1_chk88 (v2303 : BitVec 32) : Prop :=
  (32 ∣ (k1_mult88 v2303).toNat) ∧
  (∀ a, (k1_off88 v2303) a + S1x128.size a ≤ S128x100000.size a)
theorem k1_mult88_dvd : ∀ (v2303 : BitVec 32) (k1_hw88 : k1_chk88 v2303), 32 ∣ (k1_mult88 v2303).toNat := fun v2303 k1_hw88 => k1_hw88.1
theorem k1_off88_inb : ∀ (v2303 : BitVec 32) (k1_hw88 : k1_chk88 v2303), ∀ a, (k1_off88 v2303) a + S1x128.size a ≤ S128x100000.size a := fun v2303 k1_hw88 => k1_hw88.2

def k1_mult89 (v2329 : BitVec 32) : BitVec 32 :=
  let c99872_i32_1254 : BitVec 32 := 99872#32
  let c0_i32_1253 : BitVec 32 := 0#32
  let c0_i32_1246 : BitVec 32 := 0#32
  let v2331 : BitVec 1 := Scalar.cmpi .sgt v2329 c0_i32_1246
  let v2332 : BitVec 32 := Scalar.extui v2331
  let c0_i32_1247 : BitVec 32 := 0#32
  let v2333 : BitVec 1 := Scalar.cmpi .slt v2329 c0_i32_1247
  let v2334 : BitVec 32 := Scalar.extui v2333
  let v2335 : BitVec 32 := Scalar.subi v2332 v2334
  let c128_i32_1245 : BitVec 32 := 128#32
  let c0_i32_1248 : BitVec 32 := 0#32
  let v2336 : BitVec 1 := Scalar.cmpi .sgt c128_i32_1245 c0_i32_1248
  let v2337 : BitVec 32 := Scalar.extui v2336
  let c0_i32_1249 : BitVec 32 := 0#32
  let v2338 : BitVec 1 := Scalar.cmpi .slt c128_i32_1245 c0_i32_1249
  let v2339 : BitVec 32 := Scalar.extui v2338
  let v2340 : BitVec 32 := Scalar.subi v2337 v2339
  let v2341 : BitVec 1 := Scalar.cmpi .ne v2335 v2340
  let v2342 : BitVec 32 := Scalar.remsi v2329 c128_i32_1245
  let c0_i32_1250 : BitVec 32 := 0#32
  let v2343 : BitVec 1 := Scalar.cmpi .ne v2342 c0_i32_1250
  let v2344 : BitVec 1 := Scalar.andi v2341 v2343
  let v2330 : BitVec 32 := Scalar.divsi v2329 c128_i32_1245
  let c1_i32_1251 : BitVec 32 := 1#32
  let v2345 : BitVec 32 := Scalar.subi v2330 c1_i32_1251
  let v2346 : BitVec 32 := Scalar.select v2344 v2345 v2330
  let c128_i32_1252 : BitVec 32 := 128#32
  let v2347 : BitVec 32 := Scalar.muli v2346 c128_i32_1252
  let v2348 : BitVec 32 := Scalar.maxsi c0_i32_1253 v2347
  let v2349 : BitVec 32 := Scalar.minsi c99872_i32_1254 v2348
  v2349

def k1_off89 (v2329 : BitVec 32) : Fin 2 → Nat :=
  let c88_i32_1255 : BitVec 32 := 88#32
  let c99872_i32_1254 : BitVec 32 := 99872#32
  let c0_i32_1253 : BitVec 32 := 0#32
  let c0_i32_1246 : BitVec 32 := 0#32
  let v2331 : BitVec 1 := Scalar.cmpi .sgt v2329 c0_i32_1246
  let v2332 : BitVec 32 := Scalar.extui v2331
  let c0_i32_1247 : BitVec 32 := 0#32
  let v2333 : BitVec 1 := Scalar.cmpi .slt v2329 c0_i32_1247
  let v2334 : BitVec 32 := Scalar.extui v2333
  let v2335 : BitVec 32 := Scalar.subi v2332 v2334
  let c128_i32_1245 : BitVec 32 := 128#32
  let c0_i32_1248 : BitVec 32 := 0#32
  let v2336 : BitVec 1 := Scalar.cmpi .sgt c128_i32_1245 c0_i32_1248
  let v2337 : BitVec 32 := Scalar.extui v2336
  let c0_i32_1249 : BitVec 32 := 0#32
  let v2338 : BitVec 1 := Scalar.cmpi .slt c128_i32_1245 c0_i32_1249
  let v2339 : BitVec 32 := Scalar.extui v2338
  let v2340 : BitVec 32 := Scalar.subi v2337 v2339
  let v2341 : BitVec 1 := Scalar.cmpi .ne v2335 v2340
  let v2342 : BitVec 32 := Scalar.remsi v2329 c128_i32_1245
  let c0_i32_1250 : BitVec 32 := 0#32
  let v2343 : BitVec 1 := Scalar.cmpi .ne v2342 c0_i32_1250
  let v2344 : BitVec 1 := Scalar.andi v2341 v2343
  let v2330 : BitVec 32 := Scalar.divsi v2329 c128_i32_1245
  let c1_i32_1251 : BitVec 32 := 1#32
  let v2345 : BitVec 32 := Scalar.subi v2330 c1_i32_1251
  let v2346 : BitVec 32 := Scalar.select v2344 v2345 v2330
  let c128_i32_1252 : BitVec 32 := 128#32
  let v2347 : BitVec 32 := Scalar.muli v2346 c128_i32_1252
  let v2348 : BitVec 32 := Scalar.maxsi c0_i32_1253 v2347
  let v2349 : BitVec 32 := Scalar.minsi c99872_i32_1254 v2348
  let v2350 : BitVec 32 := v2349
  ![88, v2350.toNat]

def k1_chk89 (v2329 : BitVec 32) : Prop :=
  (32 ∣ (k1_mult89 v2329).toNat) ∧
  (∀ a, (k1_off89 v2329) a + S1x128.size a ≤ S128x100000.size a)
theorem k1_mult89_dvd : ∀ (v2329 : BitVec 32) (k1_hw89 : k1_chk89 v2329), 32 ∣ (k1_mult89 v2329).toNat := fun v2329 k1_hw89 => k1_hw89.1
theorem k1_off89_inb : ∀ (v2329 : BitVec 32) (k1_hw89 : k1_chk89 v2329), ∀ a, (k1_off89 v2329) a + S1x128.size a ≤ S128x100000.size a := fun v2329 k1_hw89 => k1_hw89.2

def k1_mult90 (v2355 : BitVec 32) : BitVec 32 :=
  let c99872_i32_1268 : BitVec 32 := 99872#32
  let c0_i32_1267 : BitVec 32 := 0#32
  let c0_i32_1260 : BitVec 32 := 0#32
  let v2357 : BitVec 1 := Scalar.cmpi .sgt v2355 c0_i32_1260
  let v2358 : BitVec 32 := Scalar.extui v2357
  let c0_i32_1261 : BitVec 32 := 0#32
  let v2359 : BitVec 1 := Scalar.cmpi .slt v2355 c0_i32_1261
  let v2360 : BitVec 32 := Scalar.extui v2359
  let v2361 : BitVec 32 := Scalar.subi v2358 v2360
  let c128_i32_1259 : BitVec 32 := 128#32
  let c0_i32_1262 : BitVec 32 := 0#32
  let v2362 : BitVec 1 := Scalar.cmpi .sgt c128_i32_1259 c0_i32_1262
  let v2363 : BitVec 32 := Scalar.extui v2362
  let c0_i32_1263 : BitVec 32 := 0#32
  let v2364 : BitVec 1 := Scalar.cmpi .slt c128_i32_1259 c0_i32_1263
  let v2365 : BitVec 32 := Scalar.extui v2364
  let v2366 : BitVec 32 := Scalar.subi v2363 v2365
  let v2367 : BitVec 1 := Scalar.cmpi .ne v2361 v2366
  let v2368 : BitVec 32 := Scalar.remsi v2355 c128_i32_1259
  let c0_i32_1264 : BitVec 32 := 0#32
  let v2369 : BitVec 1 := Scalar.cmpi .ne v2368 c0_i32_1264
  let v2370 : BitVec 1 := Scalar.andi v2367 v2369
  let v2356 : BitVec 32 := Scalar.divsi v2355 c128_i32_1259
  let c1_i32_1265 : BitVec 32 := 1#32
  let v2371 : BitVec 32 := Scalar.subi v2356 c1_i32_1265
  let v2372 : BitVec 32 := Scalar.select v2370 v2371 v2356
  let c128_i32_1266 : BitVec 32 := 128#32
  let v2373 : BitVec 32 := Scalar.muli v2372 c128_i32_1266
  let v2374 : BitVec 32 := Scalar.maxsi c0_i32_1267 v2373
  let v2375 : BitVec 32 := Scalar.minsi c99872_i32_1268 v2374
  v2375

def k1_off90 (v2355 : BitVec 32) : Fin 2 → Nat :=
  let c89_i32_1269 : BitVec 32 := 89#32
  let c99872_i32_1268 : BitVec 32 := 99872#32
  let c0_i32_1267 : BitVec 32 := 0#32
  let c0_i32_1260 : BitVec 32 := 0#32
  let v2357 : BitVec 1 := Scalar.cmpi .sgt v2355 c0_i32_1260
  let v2358 : BitVec 32 := Scalar.extui v2357
  let c0_i32_1261 : BitVec 32 := 0#32
  let v2359 : BitVec 1 := Scalar.cmpi .slt v2355 c0_i32_1261
  let v2360 : BitVec 32 := Scalar.extui v2359
  let v2361 : BitVec 32 := Scalar.subi v2358 v2360
  let c128_i32_1259 : BitVec 32 := 128#32
  let c0_i32_1262 : BitVec 32 := 0#32
  let v2362 : BitVec 1 := Scalar.cmpi .sgt c128_i32_1259 c0_i32_1262
  let v2363 : BitVec 32 := Scalar.extui v2362
  let c0_i32_1263 : BitVec 32 := 0#32
  let v2364 : BitVec 1 := Scalar.cmpi .slt c128_i32_1259 c0_i32_1263
  let v2365 : BitVec 32 := Scalar.extui v2364
  let v2366 : BitVec 32 := Scalar.subi v2363 v2365
  let v2367 : BitVec 1 := Scalar.cmpi .ne v2361 v2366
  let v2368 : BitVec 32 := Scalar.remsi v2355 c128_i32_1259
  let c0_i32_1264 : BitVec 32 := 0#32
  let v2369 : BitVec 1 := Scalar.cmpi .ne v2368 c0_i32_1264
  let v2370 : BitVec 1 := Scalar.andi v2367 v2369
  let v2356 : BitVec 32 := Scalar.divsi v2355 c128_i32_1259
  let c1_i32_1265 : BitVec 32 := 1#32
  let v2371 : BitVec 32 := Scalar.subi v2356 c1_i32_1265
  let v2372 : BitVec 32 := Scalar.select v2370 v2371 v2356
  let c128_i32_1266 : BitVec 32 := 128#32
  let v2373 : BitVec 32 := Scalar.muli v2372 c128_i32_1266
  let v2374 : BitVec 32 := Scalar.maxsi c0_i32_1267 v2373
  let v2375 : BitVec 32 := Scalar.minsi c99872_i32_1268 v2374
  let v2376 : BitVec 32 := v2375
  ![89, v2376.toNat]

def k1_chk90 (v2355 : BitVec 32) : Prop :=
  (32 ∣ (k1_mult90 v2355).toNat) ∧
  (∀ a, (k1_off90 v2355) a + S1x128.size a ≤ S128x100000.size a)
theorem k1_mult90_dvd : ∀ (v2355 : BitVec 32) (k1_hw90 : k1_chk90 v2355), 32 ∣ (k1_mult90 v2355).toNat := fun v2355 k1_hw90 => k1_hw90.1
theorem k1_off90_inb : ∀ (v2355 : BitVec 32) (k1_hw90 : k1_chk90 v2355), ∀ a, (k1_off90 v2355) a + S1x128.size a ≤ S128x100000.size a := fun v2355 k1_hw90 => k1_hw90.2

def k1_mult91 (v2381 : BitVec 32) : BitVec 32 :=
  let c99872_i32_1282 : BitVec 32 := 99872#32
  let c0_i32_1281 : BitVec 32 := 0#32
  let c0_i32_1274 : BitVec 32 := 0#32
  let v2383 : BitVec 1 := Scalar.cmpi .sgt v2381 c0_i32_1274
  let v2384 : BitVec 32 := Scalar.extui v2383
  let c0_i32_1275 : BitVec 32 := 0#32
  let v2385 : BitVec 1 := Scalar.cmpi .slt v2381 c0_i32_1275
  let v2386 : BitVec 32 := Scalar.extui v2385
  let v2387 : BitVec 32 := Scalar.subi v2384 v2386
  let c128_i32_1273 : BitVec 32 := 128#32
  let c0_i32_1276 : BitVec 32 := 0#32
  let v2388 : BitVec 1 := Scalar.cmpi .sgt c128_i32_1273 c0_i32_1276
  let v2389 : BitVec 32 := Scalar.extui v2388
  let c0_i32_1277 : BitVec 32 := 0#32
  let v2390 : BitVec 1 := Scalar.cmpi .slt c128_i32_1273 c0_i32_1277
  let v2391 : BitVec 32 := Scalar.extui v2390
  let v2392 : BitVec 32 := Scalar.subi v2389 v2391
  let v2393 : BitVec 1 := Scalar.cmpi .ne v2387 v2392
  let v2394 : BitVec 32 := Scalar.remsi v2381 c128_i32_1273
  let c0_i32_1278 : BitVec 32 := 0#32
  let v2395 : BitVec 1 := Scalar.cmpi .ne v2394 c0_i32_1278
  let v2396 : BitVec 1 := Scalar.andi v2393 v2395
  let v2382 : BitVec 32 := Scalar.divsi v2381 c128_i32_1273
  let c1_i32_1279 : BitVec 32 := 1#32
  let v2397 : BitVec 32 := Scalar.subi v2382 c1_i32_1279
  let v2398 : BitVec 32 := Scalar.select v2396 v2397 v2382
  let c128_i32_1280 : BitVec 32 := 128#32
  let v2399 : BitVec 32 := Scalar.muli v2398 c128_i32_1280
  let v2400 : BitVec 32 := Scalar.maxsi c0_i32_1281 v2399
  let v2401 : BitVec 32 := Scalar.minsi c99872_i32_1282 v2400
  v2401

def k1_off91 (v2381 : BitVec 32) : Fin 2 → Nat :=
  let c90_i32_1283 : BitVec 32 := 90#32
  let c99872_i32_1282 : BitVec 32 := 99872#32
  let c0_i32_1281 : BitVec 32 := 0#32
  let c0_i32_1274 : BitVec 32 := 0#32
  let v2383 : BitVec 1 := Scalar.cmpi .sgt v2381 c0_i32_1274
  let v2384 : BitVec 32 := Scalar.extui v2383
  let c0_i32_1275 : BitVec 32 := 0#32
  let v2385 : BitVec 1 := Scalar.cmpi .slt v2381 c0_i32_1275
  let v2386 : BitVec 32 := Scalar.extui v2385
  let v2387 : BitVec 32 := Scalar.subi v2384 v2386
  let c128_i32_1273 : BitVec 32 := 128#32
  let c0_i32_1276 : BitVec 32 := 0#32
  let v2388 : BitVec 1 := Scalar.cmpi .sgt c128_i32_1273 c0_i32_1276
  let v2389 : BitVec 32 := Scalar.extui v2388
  let c0_i32_1277 : BitVec 32 := 0#32
  let v2390 : BitVec 1 := Scalar.cmpi .slt c128_i32_1273 c0_i32_1277
  let v2391 : BitVec 32 := Scalar.extui v2390
  let v2392 : BitVec 32 := Scalar.subi v2389 v2391
  let v2393 : BitVec 1 := Scalar.cmpi .ne v2387 v2392
  let v2394 : BitVec 32 := Scalar.remsi v2381 c128_i32_1273
  let c0_i32_1278 : BitVec 32 := 0#32
  let v2395 : BitVec 1 := Scalar.cmpi .ne v2394 c0_i32_1278
  let v2396 : BitVec 1 := Scalar.andi v2393 v2395
  let v2382 : BitVec 32 := Scalar.divsi v2381 c128_i32_1273
  let c1_i32_1279 : BitVec 32 := 1#32
  let v2397 : BitVec 32 := Scalar.subi v2382 c1_i32_1279
  let v2398 : BitVec 32 := Scalar.select v2396 v2397 v2382
  let c128_i32_1280 : BitVec 32 := 128#32
  let v2399 : BitVec 32 := Scalar.muli v2398 c128_i32_1280
  let v2400 : BitVec 32 := Scalar.maxsi c0_i32_1281 v2399
  let v2401 : BitVec 32 := Scalar.minsi c99872_i32_1282 v2400
  let v2402 : BitVec 32 := v2401
  ![90, v2402.toNat]

def k1_chk91 (v2381 : BitVec 32) : Prop :=
  (32 ∣ (k1_mult91 v2381).toNat) ∧
  (∀ a, (k1_off91 v2381) a + S1x128.size a ≤ S128x100000.size a)
theorem k1_mult91_dvd : ∀ (v2381 : BitVec 32) (k1_hw91 : k1_chk91 v2381), 32 ∣ (k1_mult91 v2381).toNat := fun v2381 k1_hw91 => k1_hw91.1
theorem k1_off91_inb : ∀ (v2381 : BitVec 32) (k1_hw91 : k1_chk91 v2381), ∀ a, (k1_off91 v2381) a + S1x128.size a ≤ S128x100000.size a := fun v2381 k1_hw91 => k1_hw91.2

def k1_mult92 (v2407 : BitVec 32) : BitVec 32 :=
  let c99872_i32_1296 : BitVec 32 := 99872#32
  let c0_i32_1295 : BitVec 32 := 0#32
  let c0_i32_1288 : BitVec 32 := 0#32
  let v2409 : BitVec 1 := Scalar.cmpi .sgt v2407 c0_i32_1288
  let v2410 : BitVec 32 := Scalar.extui v2409
  let c0_i32_1289 : BitVec 32 := 0#32
  let v2411 : BitVec 1 := Scalar.cmpi .slt v2407 c0_i32_1289
  let v2412 : BitVec 32 := Scalar.extui v2411
  let v2413 : BitVec 32 := Scalar.subi v2410 v2412
  let c128_i32_1287 : BitVec 32 := 128#32
  let c0_i32_1290 : BitVec 32 := 0#32
  let v2414 : BitVec 1 := Scalar.cmpi .sgt c128_i32_1287 c0_i32_1290
  let v2415 : BitVec 32 := Scalar.extui v2414
  let c0_i32_1291 : BitVec 32 := 0#32
  let v2416 : BitVec 1 := Scalar.cmpi .slt c128_i32_1287 c0_i32_1291
  let v2417 : BitVec 32 := Scalar.extui v2416
  let v2418 : BitVec 32 := Scalar.subi v2415 v2417
  let v2419 : BitVec 1 := Scalar.cmpi .ne v2413 v2418
  let v2420 : BitVec 32 := Scalar.remsi v2407 c128_i32_1287
  let c0_i32_1292 : BitVec 32 := 0#32
  let v2421 : BitVec 1 := Scalar.cmpi .ne v2420 c0_i32_1292
  let v2422 : BitVec 1 := Scalar.andi v2419 v2421
  let v2408 : BitVec 32 := Scalar.divsi v2407 c128_i32_1287
  let c1_i32_1293 : BitVec 32 := 1#32
  let v2423 : BitVec 32 := Scalar.subi v2408 c1_i32_1293
  let v2424 : BitVec 32 := Scalar.select v2422 v2423 v2408
  let c128_i32_1294 : BitVec 32 := 128#32
  let v2425 : BitVec 32 := Scalar.muli v2424 c128_i32_1294
  let v2426 : BitVec 32 := Scalar.maxsi c0_i32_1295 v2425
  let v2427 : BitVec 32 := Scalar.minsi c99872_i32_1296 v2426
  v2427

def k1_off92 (v2407 : BitVec 32) : Fin 2 → Nat :=
  let c91_i32_1297 : BitVec 32 := 91#32
  let c99872_i32_1296 : BitVec 32 := 99872#32
  let c0_i32_1295 : BitVec 32 := 0#32
  let c0_i32_1288 : BitVec 32 := 0#32
  let v2409 : BitVec 1 := Scalar.cmpi .sgt v2407 c0_i32_1288
  let v2410 : BitVec 32 := Scalar.extui v2409
  let c0_i32_1289 : BitVec 32 := 0#32
  let v2411 : BitVec 1 := Scalar.cmpi .slt v2407 c0_i32_1289
  let v2412 : BitVec 32 := Scalar.extui v2411
  let v2413 : BitVec 32 := Scalar.subi v2410 v2412
  let c128_i32_1287 : BitVec 32 := 128#32
  let c0_i32_1290 : BitVec 32 := 0#32
  let v2414 : BitVec 1 := Scalar.cmpi .sgt c128_i32_1287 c0_i32_1290
  let v2415 : BitVec 32 := Scalar.extui v2414
  let c0_i32_1291 : BitVec 32 := 0#32
  let v2416 : BitVec 1 := Scalar.cmpi .slt c128_i32_1287 c0_i32_1291
  let v2417 : BitVec 32 := Scalar.extui v2416
  let v2418 : BitVec 32 := Scalar.subi v2415 v2417
  let v2419 : BitVec 1 := Scalar.cmpi .ne v2413 v2418
  let v2420 : BitVec 32 := Scalar.remsi v2407 c128_i32_1287
  let c0_i32_1292 : BitVec 32 := 0#32
  let v2421 : BitVec 1 := Scalar.cmpi .ne v2420 c0_i32_1292
  let v2422 : BitVec 1 := Scalar.andi v2419 v2421
  let v2408 : BitVec 32 := Scalar.divsi v2407 c128_i32_1287
  let c1_i32_1293 : BitVec 32 := 1#32
  let v2423 : BitVec 32 := Scalar.subi v2408 c1_i32_1293
  let v2424 : BitVec 32 := Scalar.select v2422 v2423 v2408
  let c128_i32_1294 : BitVec 32 := 128#32
  let v2425 : BitVec 32 := Scalar.muli v2424 c128_i32_1294
  let v2426 : BitVec 32 := Scalar.maxsi c0_i32_1295 v2425
  let v2427 : BitVec 32 := Scalar.minsi c99872_i32_1296 v2426
  let v2428 : BitVec 32 := v2427
  ![91, v2428.toNat]

def k1_chk92 (v2407 : BitVec 32) : Prop :=
  (32 ∣ (k1_mult92 v2407).toNat) ∧
  (∀ a, (k1_off92 v2407) a + S1x128.size a ≤ S128x100000.size a)
theorem k1_mult92_dvd : ∀ (v2407 : BitVec 32) (k1_hw92 : k1_chk92 v2407), 32 ∣ (k1_mult92 v2407).toNat := fun v2407 k1_hw92 => k1_hw92.1
theorem k1_off92_inb : ∀ (v2407 : BitVec 32) (k1_hw92 : k1_chk92 v2407), ∀ a, (k1_off92 v2407) a + S1x128.size a ≤ S128x100000.size a := fun v2407 k1_hw92 => k1_hw92.2

def k1_mult93 (v2433 : BitVec 32) : BitVec 32 :=
  let c99872_i32_1310 : BitVec 32 := 99872#32
  let c0_i32_1309 : BitVec 32 := 0#32
  let c0_i32_1302 : BitVec 32 := 0#32
  let v2435 : BitVec 1 := Scalar.cmpi .sgt v2433 c0_i32_1302
  let v2436 : BitVec 32 := Scalar.extui v2435
  let c0_i32_1303 : BitVec 32 := 0#32
  let v2437 : BitVec 1 := Scalar.cmpi .slt v2433 c0_i32_1303
  let v2438 : BitVec 32 := Scalar.extui v2437
  let v2439 : BitVec 32 := Scalar.subi v2436 v2438
  let c128_i32_1301 : BitVec 32 := 128#32
  let c0_i32_1304 : BitVec 32 := 0#32
  let v2440 : BitVec 1 := Scalar.cmpi .sgt c128_i32_1301 c0_i32_1304
  let v2441 : BitVec 32 := Scalar.extui v2440
  let c0_i32_1305 : BitVec 32 := 0#32
  let v2442 : BitVec 1 := Scalar.cmpi .slt c128_i32_1301 c0_i32_1305
  let v2443 : BitVec 32 := Scalar.extui v2442
  let v2444 : BitVec 32 := Scalar.subi v2441 v2443
  let v2445 : BitVec 1 := Scalar.cmpi .ne v2439 v2444
  let v2446 : BitVec 32 := Scalar.remsi v2433 c128_i32_1301
  let c0_i32_1306 : BitVec 32 := 0#32
  let v2447 : BitVec 1 := Scalar.cmpi .ne v2446 c0_i32_1306
  let v2448 : BitVec 1 := Scalar.andi v2445 v2447
  let v2434 : BitVec 32 := Scalar.divsi v2433 c128_i32_1301
  let c1_i32_1307 : BitVec 32 := 1#32
  let v2449 : BitVec 32 := Scalar.subi v2434 c1_i32_1307
  let v2450 : BitVec 32 := Scalar.select v2448 v2449 v2434
  let c128_i32_1308 : BitVec 32 := 128#32
  let v2451 : BitVec 32 := Scalar.muli v2450 c128_i32_1308
  let v2452 : BitVec 32 := Scalar.maxsi c0_i32_1309 v2451
  let v2453 : BitVec 32 := Scalar.minsi c99872_i32_1310 v2452
  v2453

def k1_off93 (v2433 : BitVec 32) : Fin 2 → Nat :=
  let c92_i32_1311 : BitVec 32 := 92#32
  let c99872_i32_1310 : BitVec 32 := 99872#32
  let c0_i32_1309 : BitVec 32 := 0#32
  let c0_i32_1302 : BitVec 32 := 0#32
  let v2435 : BitVec 1 := Scalar.cmpi .sgt v2433 c0_i32_1302
  let v2436 : BitVec 32 := Scalar.extui v2435
  let c0_i32_1303 : BitVec 32 := 0#32
  let v2437 : BitVec 1 := Scalar.cmpi .slt v2433 c0_i32_1303
  let v2438 : BitVec 32 := Scalar.extui v2437
  let v2439 : BitVec 32 := Scalar.subi v2436 v2438
  let c128_i32_1301 : BitVec 32 := 128#32
  let c0_i32_1304 : BitVec 32 := 0#32
  let v2440 : BitVec 1 := Scalar.cmpi .sgt c128_i32_1301 c0_i32_1304
  let v2441 : BitVec 32 := Scalar.extui v2440
  let c0_i32_1305 : BitVec 32 := 0#32
  let v2442 : BitVec 1 := Scalar.cmpi .slt c128_i32_1301 c0_i32_1305
  let v2443 : BitVec 32 := Scalar.extui v2442
  let v2444 : BitVec 32 := Scalar.subi v2441 v2443
  let v2445 : BitVec 1 := Scalar.cmpi .ne v2439 v2444
  let v2446 : BitVec 32 := Scalar.remsi v2433 c128_i32_1301
  let c0_i32_1306 : BitVec 32 := 0#32
  let v2447 : BitVec 1 := Scalar.cmpi .ne v2446 c0_i32_1306
  let v2448 : BitVec 1 := Scalar.andi v2445 v2447
  let v2434 : BitVec 32 := Scalar.divsi v2433 c128_i32_1301
  let c1_i32_1307 : BitVec 32 := 1#32
  let v2449 : BitVec 32 := Scalar.subi v2434 c1_i32_1307
  let v2450 : BitVec 32 := Scalar.select v2448 v2449 v2434
  let c128_i32_1308 : BitVec 32 := 128#32
  let v2451 : BitVec 32 := Scalar.muli v2450 c128_i32_1308
  let v2452 : BitVec 32 := Scalar.maxsi c0_i32_1309 v2451
  let v2453 : BitVec 32 := Scalar.minsi c99872_i32_1310 v2452
  let v2454 : BitVec 32 := v2453
  ![92, v2454.toNat]

def k1_chk93 (v2433 : BitVec 32) : Prop :=
  (32 ∣ (k1_mult93 v2433).toNat) ∧
  (∀ a, (k1_off93 v2433) a + S1x128.size a ≤ S128x100000.size a)
theorem k1_mult93_dvd : ∀ (v2433 : BitVec 32) (k1_hw93 : k1_chk93 v2433), 32 ∣ (k1_mult93 v2433).toNat := fun v2433 k1_hw93 => k1_hw93.1
theorem k1_off93_inb : ∀ (v2433 : BitVec 32) (k1_hw93 : k1_chk93 v2433), ∀ a, (k1_off93 v2433) a + S1x128.size a ≤ S128x100000.size a := fun v2433 k1_hw93 => k1_hw93.2

def k1_mult94 (v2459 : BitVec 32) : BitVec 32 :=
  let c99872_i32_1324 : BitVec 32 := 99872#32
  let c0_i32_1323 : BitVec 32 := 0#32
  let c0_i32_1316 : BitVec 32 := 0#32
  let v2461 : BitVec 1 := Scalar.cmpi .sgt v2459 c0_i32_1316
  let v2462 : BitVec 32 := Scalar.extui v2461
  let c0_i32_1317 : BitVec 32 := 0#32
  let v2463 : BitVec 1 := Scalar.cmpi .slt v2459 c0_i32_1317
  let v2464 : BitVec 32 := Scalar.extui v2463
  let v2465 : BitVec 32 := Scalar.subi v2462 v2464
  let c128_i32_1315 : BitVec 32 := 128#32
  let c0_i32_1318 : BitVec 32 := 0#32
  let v2466 : BitVec 1 := Scalar.cmpi .sgt c128_i32_1315 c0_i32_1318
  let v2467 : BitVec 32 := Scalar.extui v2466
  let c0_i32_1319 : BitVec 32 := 0#32
  let v2468 : BitVec 1 := Scalar.cmpi .slt c128_i32_1315 c0_i32_1319
  let v2469 : BitVec 32 := Scalar.extui v2468
  let v2470 : BitVec 32 := Scalar.subi v2467 v2469
  let v2471 : BitVec 1 := Scalar.cmpi .ne v2465 v2470
  let v2472 : BitVec 32 := Scalar.remsi v2459 c128_i32_1315
  let c0_i32_1320 : BitVec 32 := 0#32
  let v2473 : BitVec 1 := Scalar.cmpi .ne v2472 c0_i32_1320
  let v2474 : BitVec 1 := Scalar.andi v2471 v2473
  let v2460 : BitVec 32 := Scalar.divsi v2459 c128_i32_1315
  let c1_i32_1321 : BitVec 32 := 1#32
  let v2475 : BitVec 32 := Scalar.subi v2460 c1_i32_1321
  let v2476 : BitVec 32 := Scalar.select v2474 v2475 v2460
  let c128_i32_1322 : BitVec 32 := 128#32
  let v2477 : BitVec 32 := Scalar.muli v2476 c128_i32_1322
  let v2478 : BitVec 32 := Scalar.maxsi c0_i32_1323 v2477
  let v2479 : BitVec 32 := Scalar.minsi c99872_i32_1324 v2478
  v2479

def k1_off94 (v2459 : BitVec 32) : Fin 2 → Nat :=
  let c93_i32_1325 : BitVec 32 := 93#32
  let c99872_i32_1324 : BitVec 32 := 99872#32
  let c0_i32_1323 : BitVec 32 := 0#32
  let c0_i32_1316 : BitVec 32 := 0#32
  let v2461 : BitVec 1 := Scalar.cmpi .sgt v2459 c0_i32_1316
  let v2462 : BitVec 32 := Scalar.extui v2461
  let c0_i32_1317 : BitVec 32 := 0#32
  let v2463 : BitVec 1 := Scalar.cmpi .slt v2459 c0_i32_1317
  let v2464 : BitVec 32 := Scalar.extui v2463
  let v2465 : BitVec 32 := Scalar.subi v2462 v2464
  let c128_i32_1315 : BitVec 32 := 128#32
  let c0_i32_1318 : BitVec 32 := 0#32
  let v2466 : BitVec 1 := Scalar.cmpi .sgt c128_i32_1315 c0_i32_1318
  let v2467 : BitVec 32 := Scalar.extui v2466
  let c0_i32_1319 : BitVec 32 := 0#32
  let v2468 : BitVec 1 := Scalar.cmpi .slt c128_i32_1315 c0_i32_1319
  let v2469 : BitVec 32 := Scalar.extui v2468
  let v2470 : BitVec 32 := Scalar.subi v2467 v2469
  let v2471 : BitVec 1 := Scalar.cmpi .ne v2465 v2470
  let v2472 : BitVec 32 := Scalar.remsi v2459 c128_i32_1315
  let c0_i32_1320 : BitVec 32 := 0#32
  let v2473 : BitVec 1 := Scalar.cmpi .ne v2472 c0_i32_1320
  let v2474 : BitVec 1 := Scalar.andi v2471 v2473
  let v2460 : BitVec 32 := Scalar.divsi v2459 c128_i32_1315
  let c1_i32_1321 : BitVec 32 := 1#32
  let v2475 : BitVec 32 := Scalar.subi v2460 c1_i32_1321
  let v2476 : BitVec 32 := Scalar.select v2474 v2475 v2460
  let c128_i32_1322 : BitVec 32 := 128#32
  let v2477 : BitVec 32 := Scalar.muli v2476 c128_i32_1322
  let v2478 : BitVec 32 := Scalar.maxsi c0_i32_1323 v2477
  let v2479 : BitVec 32 := Scalar.minsi c99872_i32_1324 v2478
  let v2480 : BitVec 32 := v2479
  ![93, v2480.toNat]

def k1_chk94 (v2459 : BitVec 32) : Prop :=
  (32 ∣ (k1_mult94 v2459).toNat) ∧
  (∀ a, (k1_off94 v2459) a + S1x128.size a ≤ S128x100000.size a)
theorem k1_mult94_dvd : ∀ (v2459 : BitVec 32) (k1_hw94 : k1_chk94 v2459), 32 ∣ (k1_mult94 v2459).toNat := fun v2459 k1_hw94 => k1_hw94.1
theorem k1_off94_inb : ∀ (v2459 : BitVec 32) (k1_hw94 : k1_chk94 v2459), ∀ a, (k1_off94 v2459) a + S1x128.size a ≤ S128x100000.size a := fun v2459 k1_hw94 => k1_hw94.2

def k1_mult95 (v2485 : BitVec 32) : BitVec 32 :=
  let c99872_i32_1338 : BitVec 32 := 99872#32
  let c0_i32_1337 : BitVec 32 := 0#32
  let c0_i32_1330 : BitVec 32 := 0#32
  let v2487 : BitVec 1 := Scalar.cmpi .sgt v2485 c0_i32_1330
  let v2488 : BitVec 32 := Scalar.extui v2487
  let c0_i32_1331 : BitVec 32 := 0#32
  let v2489 : BitVec 1 := Scalar.cmpi .slt v2485 c0_i32_1331
  let v2490 : BitVec 32 := Scalar.extui v2489
  let v2491 : BitVec 32 := Scalar.subi v2488 v2490
  let c128_i32_1329 : BitVec 32 := 128#32
  let c0_i32_1332 : BitVec 32 := 0#32
  let v2492 : BitVec 1 := Scalar.cmpi .sgt c128_i32_1329 c0_i32_1332
  let v2493 : BitVec 32 := Scalar.extui v2492
  let c0_i32_1333 : BitVec 32 := 0#32
  let v2494 : BitVec 1 := Scalar.cmpi .slt c128_i32_1329 c0_i32_1333
  let v2495 : BitVec 32 := Scalar.extui v2494
  let v2496 : BitVec 32 := Scalar.subi v2493 v2495
  let v2497 : BitVec 1 := Scalar.cmpi .ne v2491 v2496
  let v2498 : BitVec 32 := Scalar.remsi v2485 c128_i32_1329
  let c0_i32_1334 : BitVec 32 := 0#32
  let v2499 : BitVec 1 := Scalar.cmpi .ne v2498 c0_i32_1334
  let v2500 : BitVec 1 := Scalar.andi v2497 v2499
  let v2486 : BitVec 32 := Scalar.divsi v2485 c128_i32_1329
  let c1_i32_1335 : BitVec 32 := 1#32
  let v2501 : BitVec 32 := Scalar.subi v2486 c1_i32_1335
  let v2502 : BitVec 32 := Scalar.select v2500 v2501 v2486
  let c128_i32_1336 : BitVec 32 := 128#32
  let v2503 : BitVec 32 := Scalar.muli v2502 c128_i32_1336
  let v2504 : BitVec 32 := Scalar.maxsi c0_i32_1337 v2503
  let v2505 : BitVec 32 := Scalar.minsi c99872_i32_1338 v2504
  v2505

def k1_off95 (v2485 : BitVec 32) : Fin 2 → Nat :=
  let c94_i32_1339 : BitVec 32 := 94#32
  let c99872_i32_1338 : BitVec 32 := 99872#32
  let c0_i32_1337 : BitVec 32 := 0#32
  let c0_i32_1330 : BitVec 32 := 0#32
  let v2487 : BitVec 1 := Scalar.cmpi .sgt v2485 c0_i32_1330
  let v2488 : BitVec 32 := Scalar.extui v2487
  let c0_i32_1331 : BitVec 32 := 0#32
  let v2489 : BitVec 1 := Scalar.cmpi .slt v2485 c0_i32_1331
  let v2490 : BitVec 32 := Scalar.extui v2489
  let v2491 : BitVec 32 := Scalar.subi v2488 v2490
  let c128_i32_1329 : BitVec 32 := 128#32
  let c0_i32_1332 : BitVec 32 := 0#32
  let v2492 : BitVec 1 := Scalar.cmpi .sgt c128_i32_1329 c0_i32_1332
  let v2493 : BitVec 32 := Scalar.extui v2492
  let c0_i32_1333 : BitVec 32 := 0#32
  let v2494 : BitVec 1 := Scalar.cmpi .slt c128_i32_1329 c0_i32_1333
  let v2495 : BitVec 32 := Scalar.extui v2494
  let v2496 : BitVec 32 := Scalar.subi v2493 v2495
  let v2497 : BitVec 1 := Scalar.cmpi .ne v2491 v2496
  let v2498 : BitVec 32 := Scalar.remsi v2485 c128_i32_1329
  let c0_i32_1334 : BitVec 32 := 0#32
  let v2499 : BitVec 1 := Scalar.cmpi .ne v2498 c0_i32_1334
  let v2500 : BitVec 1 := Scalar.andi v2497 v2499
  let v2486 : BitVec 32 := Scalar.divsi v2485 c128_i32_1329
  let c1_i32_1335 : BitVec 32 := 1#32
  let v2501 : BitVec 32 := Scalar.subi v2486 c1_i32_1335
  let v2502 : BitVec 32 := Scalar.select v2500 v2501 v2486
  let c128_i32_1336 : BitVec 32 := 128#32
  let v2503 : BitVec 32 := Scalar.muli v2502 c128_i32_1336
  let v2504 : BitVec 32 := Scalar.maxsi c0_i32_1337 v2503
  let v2505 : BitVec 32 := Scalar.minsi c99872_i32_1338 v2504
  let v2506 : BitVec 32 := v2505
  ![94, v2506.toNat]

def k1_chk95 (v2485 : BitVec 32) : Prop :=
  (32 ∣ (k1_mult95 v2485).toNat) ∧
  (∀ a, (k1_off95 v2485) a + S1x128.size a ≤ S128x100000.size a)
theorem k1_mult95_dvd : ∀ (v2485 : BitVec 32) (k1_hw95 : k1_chk95 v2485), 32 ∣ (k1_mult95 v2485).toNat := fun v2485 k1_hw95 => k1_hw95.1
theorem k1_off95_inb : ∀ (v2485 : BitVec 32) (k1_hw95 : k1_chk95 v2485), ∀ a, (k1_off95 v2485) a + S1x128.size a ≤ S128x100000.size a := fun v2485 k1_hw95 => k1_hw95.2

def k1_mult96 (v2511 : BitVec 32) : BitVec 32 :=
  let c99872_i32_1352 : BitVec 32 := 99872#32
  let c0_i32_1351 : BitVec 32 := 0#32
  let c0_i32_1344 : BitVec 32 := 0#32
  let v2513 : BitVec 1 := Scalar.cmpi .sgt v2511 c0_i32_1344
  let v2514 : BitVec 32 := Scalar.extui v2513
  let c0_i32_1345 : BitVec 32 := 0#32
  let v2515 : BitVec 1 := Scalar.cmpi .slt v2511 c0_i32_1345
  let v2516 : BitVec 32 := Scalar.extui v2515
  let v2517 : BitVec 32 := Scalar.subi v2514 v2516
  let c128_i32_1343 : BitVec 32 := 128#32
  let c0_i32_1346 : BitVec 32 := 0#32
  let v2518 : BitVec 1 := Scalar.cmpi .sgt c128_i32_1343 c0_i32_1346
  let v2519 : BitVec 32 := Scalar.extui v2518
  let c0_i32_1347 : BitVec 32 := 0#32
  let v2520 : BitVec 1 := Scalar.cmpi .slt c128_i32_1343 c0_i32_1347
  let v2521 : BitVec 32 := Scalar.extui v2520
  let v2522 : BitVec 32 := Scalar.subi v2519 v2521
  let v2523 : BitVec 1 := Scalar.cmpi .ne v2517 v2522
  let v2524 : BitVec 32 := Scalar.remsi v2511 c128_i32_1343
  let c0_i32_1348 : BitVec 32 := 0#32
  let v2525 : BitVec 1 := Scalar.cmpi .ne v2524 c0_i32_1348
  let v2526 : BitVec 1 := Scalar.andi v2523 v2525
  let v2512 : BitVec 32 := Scalar.divsi v2511 c128_i32_1343
  let c1_i32_1349 : BitVec 32 := 1#32
  let v2527 : BitVec 32 := Scalar.subi v2512 c1_i32_1349
  let v2528 : BitVec 32 := Scalar.select v2526 v2527 v2512
  let c128_i32_1350 : BitVec 32 := 128#32
  let v2529 : BitVec 32 := Scalar.muli v2528 c128_i32_1350
  let v2530 : BitVec 32 := Scalar.maxsi c0_i32_1351 v2529
  let v2531 : BitVec 32 := Scalar.minsi c99872_i32_1352 v2530
  v2531

def k1_off96 (v2511 : BitVec 32) : Fin 2 → Nat :=
  let c95_i32_1353 : BitVec 32 := 95#32
  let c99872_i32_1352 : BitVec 32 := 99872#32
  let c0_i32_1351 : BitVec 32 := 0#32
  let c0_i32_1344 : BitVec 32 := 0#32
  let v2513 : BitVec 1 := Scalar.cmpi .sgt v2511 c0_i32_1344
  let v2514 : BitVec 32 := Scalar.extui v2513
  let c0_i32_1345 : BitVec 32 := 0#32
  let v2515 : BitVec 1 := Scalar.cmpi .slt v2511 c0_i32_1345
  let v2516 : BitVec 32 := Scalar.extui v2515
  let v2517 : BitVec 32 := Scalar.subi v2514 v2516
  let c128_i32_1343 : BitVec 32 := 128#32
  let c0_i32_1346 : BitVec 32 := 0#32
  let v2518 : BitVec 1 := Scalar.cmpi .sgt c128_i32_1343 c0_i32_1346
  let v2519 : BitVec 32 := Scalar.extui v2518
  let c0_i32_1347 : BitVec 32 := 0#32
  let v2520 : BitVec 1 := Scalar.cmpi .slt c128_i32_1343 c0_i32_1347
  let v2521 : BitVec 32 := Scalar.extui v2520
  let v2522 : BitVec 32 := Scalar.subi v2519 v2521
  let v2523 : BitVec 1 := Scalar.cmpi .ne v2517 v2522
  let v2524 : BitVec 32 := Scalar.remsi v2511 c128_i32_1343
  let c0_i32_1348 : BitVec 32 := 0#32
  let v2525 : BitVec 1 := Scalar.cmpi .ne v2524 c0_i32_1348
  let v2526 : BitVec 1 := Scalar.andi v2523 v2525
  let v2512 : BitVec 32 := Scalar.divsi v2511 c128_i32_1343
  let c1_i32_1349 : BitVec 32 := 1#32
  let v2527 : BitVec 32 := Scalar.subi v2512 c1_i32_1349
  let v2528 : BitVec 32 := Scalar.select v2526 v2527 v2512
  let c128_i32_1350 : BitVec 32 := 128#32
  let v2529 : BitVec 32 := Scalar.muli v2528 c128_i32_1350
  let v2530 : BitVec 32 := Scalar.maxsi c0_i32_1351 v2529
  let v2531 : BitVec 32 := Scalar.minsi c99872_i32_1352 v2530
  let v2532 : BitVec 32 := v2531
  ![95, v2532.toNat]

def k1_chk96 (v2511 : BitVec 32) : Prop :=
  (32 ∣ (k1_mult96 v2511).toNat) ∧
  (∀ a, (k1_off96 v2511) a + S1x128.size a ≤ S128x100000.size a)
theorem k1_mult96_dvd : ∀ (v2511 : BitVec 32) (k1_hw96 : k1_chk96 v2511), 32 ∣ (k1_mult96 v2511).toNat := fun v2511 k1_hw96 => k1_hw96.1
theorem k1_off96_inb : ∀ (v2511 : BitVec 32) (k1_hw96 : k1_chk96 v2511), ∀ a, (k1_off96 v2511) a + S1x128.size a ≤ S128x100000.size a := fun v2511 k1_hw96 => k1_hw96.2

def k1_mult97 (v2537 : BitVec 32) : BitVec 32 :=
  let c99872_i32_1366 : BitVec 32 := 99872#32
  let c0_i32_1365 : BitVec 32 := 0#32
  let c0_i32_1358 : BitVec 32 := 0#32
  let v2539 : BitVec 1 := Scalar.cmpi .sgt v2537 c0_i32_1358
  let v2540 : BitVec 32 := Scalar.extui v2539
  let c0_i32_1359 : BitVec 32 := 0#32
  let v2541 : BitVec 1 := Scalar.cmpi .slt v2537 c0_i32_1359
  let v2542 : BitVec 32 := Scalar.extui v2541
  let v2543 : BitVec 32 := Scalar.subi v2540 v2542
  let c128_i32_1357 : BitVec 32 := 128#32
  let c0_i32_1360 : BitVec 32 := 0#32
  let v2544 : BitVec 1 := Scalar.cmpi .sgt c128_i32_1357 c0_i32_1360
  let v2545 : BitVec 32 := Scalar.extui v2544
  let c0_i32_1361 : BitVec 32 := 0#32
  let v2546 : BitVec 1 := Scalar.cmpi .slt c128_i32_1357 c0_i32_1361
  let v2547 : BitVec 32 := Scalar.extui v2546
  let v2548 : BitVec 32 := Scalar.subi v2545 v2547
  let v2549 : BitVec 1 := Scalar.cmpi .ne v2543 v2548
  let v2550 : BitVec 32 := Scalar.remsi v2537 c128_i32_1357
  let c0_i32_1362 : BitVec 32 := 0#32
  let v2551 : BitVec 1 := Scalar.cmpi .ne v2550 c0_i32_1362
  let v2552 : BitVec 1 := Scalar.andi v2549 v2551
  let v2538 : BitVec 32 := Scalar.divsi v2537 c128_i32_1357
  let c1_i32_1363 : BitVec 32 := 1#32
  let v2553 : BitVec 32 := Scalar.subi v2538 c1_i32_1363
  let v2554 : BitVec 32 := Scalar.select v2552 v2553 v2538
  let c128_i32_1364 : BitVec 32 := 128#32
  let v2555 : BitVec 32 := Scalar.muli v2554 c128_i32_1364
  let v2556 : BitVec 32 := Scalar.maxsi c0_i32_1365 v2555
  let v2557 : BitVec 32 := Scalar.minsi c99872_i32_1366 v2556
  v2557

def k1_off97 (v2537 : BitVec 32) : Fin 2 → Nat :=
  let c96_i32_1367 : BitVec 32 := 96#32
  let c99872_i32_1366 : BitVec 32 := 99872#32
  let c0_i32_1365 : BitVec 32 := 0#32
  let c0_i32_1358 : BitVec 32 := 0#32
  let v2539 : BitVec 1 := Scalar.cmpi .sgt v2537 c0_i32_1358
  let v2540 : BitVec 32 := Scalar.extui v2539
  let c0_i32_1359 : BitVec 32 := 0#32
  let v2541 : BitVec 1 := Scalar.cmpi .slt v2537 c0_i32_1359
  let v2542 : BitVec 32 := Scalar.extui v2541
  let v2543 : BitVec 32 := Scalar.subi v2540 v2542
  let c128_i32_1357 : BitVec 32 := 128#32
  let c0_i32_1360 : BitVec 32 := 0#32
  let v2544 : BitVec 1 := Scalar.cmpi .sgt c128_i32_1357 c0_i32_1360
  let v2545 : BitVec 32 := Scalar.extui v2544
  let c0_i32_1361 : BitVec 32 := 0#32
  let v2546 : BitVec 1 := Scalar.cmpi .slt c128_i32_1357 c0_i32_1361
  let v2547 : BitVec 32 := Scalar.extui v2546
  let v2548 : BitVec 32 := Scalar.subi v2545 v2547
  let v2549 : BitVec 1 := Scalar.cmpi .ne v2543 v2548
  let v2550 : BitVec 32 := Scalar.remsi v2537 c128_i32_1357
  let c0_i32_1362 : BitVec 32 := 0#32
  let v2551 : BitVec 1 := Scalar.cmpi .ne v2550 c0_i32_1362
  let v2552 : BitVec 1 := Scalar.andi v2549 v2551
  let v2538 : BitVec 32 := Scalar.divsi v2537 c128_i32_1357
  let c1_i32_1363 : BitVec 32 := 1#32
  let v2553 : BitVec 32 := Scalar.subi v2538 c1_i32_1363
  let v2554 : BitVec 32 := Scalar.select v2552 v2553 v2538
  let c128_i32_1364 : BitVec 32 := 128#32
  let v2555 : BitVec 32 := Scalar.muli v2554 c128_i32_1364
  let v2556 : BitVec 32 := Scalar.maxsi c0_i32_1365 v2555
  let v2557 : BitVec 32 := Scalar.minsi c99872_i32_1366 v2556
  let v2558 : BitVec 32 := v2557
  ![96, v2558.toNat]

def k1_chk97 (v2537 : BitVec 32) : Prop :=
  (32 ∣ (k1_mult97 v2537).toNat) ∧
  (∀ a, (k1_off97 v2537) a + S1x128.size a ≤ S128x100000.size a)
theorem k1_mult97_dvd : ∀ (v2537 : BitVec 32) (k1_hw97 : k1_chk97 v2537), 32 ∣ (k1_mult97 v2537).toNat := fun v2537 k1_hw97 => k1_hw97.1
theorem k1_off97_inb : ∀ (v2537 : BitVec 32) (k1_hw97 : k1_chk97 v2537), ∀ a, (k1_off97 v2537) a + S1x128.size a ≤ S128x100000.size a := fun v2537 k1_hw97 => k1_hw97.2

def k1_mult98 (v2563 : BitVec 32) : BitVec 32 :=
  let c99872_i32_1380 : BitVec 32 := 99872#32
  let c0_i32_1379 : BitVec 32 := 0#32
  let c0_i32_1372 : BitVec 32 := 0#32
  let v2565 : BitVec 1 := Scalar.cmpi .sgt v2563 c0_i32_1372
  let v2566 : BitVec 32 := Scalar.extui v2565
  let c0_i32_1373 : BitVec 32 := 0#32
  let v2567 : BitVec 1 := Scalar.cmpi .slt v2563 c0_i32_1373
  let v2568 : BitVec 32 := Scalar.extui v2567
  let v2569 : BitVec 32 := Scalar.subi v2566 v2568
  let c128_i32_1371 : BitVec 32 := 128#32
  let c0_i32_1374 : BitVec 32 := 0#32
  let v2570 : BitVec 1 := Scalar.cmpi .sgt c128_i32_1371 c0_i32_1374
  let v2571 : BitVec 32 := Scalar.extui v2570
  let c0_i32_1375 : BitVec 32 := 0#32
  let v2572 : BitVec 1 := Scalar.cmpi .slt c128_i32_1371 c0_i32_1375
  let v2573 : BitVec 32 := Scalar.extui v2572
  let v2574 : BitVec 32 := Scalar.subi v2571 v2573
  let v2575 : BitVec 1 := Scalar.cmpi .ne v2569 v2574
  let v2576 : BitVec 32 := Scalar.remsi v2563 c128_i32_1371
  let c0_i32_1376 : BitVec 32 := 0#32
  let v2577 : BitVec 1 := Scalar.cmpi .ne v2576 c0_i32_1376
  let v2578 : BitVec 1 := Scalar.andi v2575 v2577
  let v2564 : BitVec 32 := Scalar.divsi v2563 c128_i32_1371
  let c1_i32_1377 : BitVec 32 := 1#32
  let v2579 : BitVec 32 := Scalar.subi v2564 c1_i32_1377
  let v2580 : BitVec 32 := Scalar.select v2578 v2579 v2564
  let c128_i32_1378 : BitVec 32 := 128#32
  let v2581 : BitVec 32 := Scalar.muli v2580 c128_i32_1378
  let v2582 : BitVec 32 := Scalar.maxsi c0_i32_1379 v2581
  let v2583 : BitVec 32 := Scalar.minsi c99872_i32_1380 v2582
  v2583

def k1_off98 (v2563 : BitVec 32) : Fin 2 → Nat :=
  let c97_i32_1381 : BitVec 32 := 97#32
  let c99872_i32_1380 : BitVec 32 := 99872#32
  let c0_i32_1379 : BitVec 32 := 0#32
  let c0_i32_1372 : BitVec 32 := 0#32
  let v2565 : BitVec 1 := Scalar.cmpi .sgt v2563 c0_i32_1372
  let v2566 : BitVec 32 := Scalar.extui v2565
  let c0_i32_1373 : BitVec 32 := 0#32
  let v2567 : BitVec 1 := Scalar.cmpi .slt v2563 c0_i32_1373
  let v2568 : BitVec 32 := Scalar.extui v2567
  let v2569 : BitVec 32 := Scalar.subi v2566 v2568
  let c128_i32_1371 : BitVec 32 := 128#32
  let c0_i32_1374 : BitVec 32 := 0#32
  let v2570 : BitVec 1 := Scalar.cmpi .sgt c128_i32_1371 c0_i32_1374
  let v2571 : BitVec 32 := Scalar.extui v2570
  let c0_i32_1375 : BitVec 32 := 0#32
  let v2572 : BitVec 1 := Scalar.cmpi .slt c128_i32_1371 c0_i32_1375
  let v2573 : BitVec 32 := Scalar.extui v2572
  let v2574 : BitVec 32 := Scalar.subi v2571 v2573
  let v2575 : BitVec 1 := Scalar.cmpi .ne v2569 v2574
  let v2576 : BitVec 32 := Scalar.remsi v2563 c128_i32_1371
  let c0_i32_1376 : BitVec 32 := 0#32
  let v2577 : BitVec 1 := Scalar.cmpi .ne v2576 c0_i32_1376
  let v2578 : BitVec 1 := Scalar.andi v2575 v2577
  let v2564 : BitVec 32 := Scalar.divsi v2563 c128_i32_1371
  let c1_i32_1377 : BitVec 32 := 1#32
  let v2579 : BitVec 32 := Scalar.subi v2564 c1_i32_1377
  let v2580 : BitVec 32 := Scalar.select v2578 v2579 v2564
  let c128_i32_1378 : BitVec 32 := 128#32
  let v2581 : BitVec 32 := Scalar.muli v2580 c128_i32_1378
  let v2582 : BitVec 32 := Scalar.maxsi c0_i32_1379 v2581
  let v2583 : BitVec 32 := Scalar.minsi c99872_i32_1380 v2582
  let v2584 : BitVec 32 := v2583
  ![97, v2584.toNat]

def k1_chk98 (v2563 : BitVec 32) : Prop :=
  (32 ∣ (k1_mult98 v2563).toNat) ∧
  (∀ a, (k1_off98 v2563) a + S1x128.size a ≤ S128x100000.size a)
theorem k1_mult98_dvd : ∀ (v2563 : BitVec 32) (k1_hw98 : k1_chk98 v2563), 32 ∣ (k1_mult98 v2563).toNat := fun v2563 k1_hw98 => k1_hw98.1
theorem k1_off98_inb : ∀ (v2563 : BitVec 32) (k1_hw98 : k1_chk98 v2563), ∀ a, (k1_off98 v2563) a + S1x128.size a ≤ S128x100000.size a := fun v2563 k1_hw98 => k1_hw98.2

def k1_mult99 (v2589 : BitVec 32) : BitVec 32 :=
  let c99872_i32_1394 : BitVec 32 := 99872#32
  let c0_i32_1393 : BitVec 32 := 0#32
  let c0_i32_1386 : BitVec 32 := 0#32
  let v2591 : BitVec 1 := Scalar.cmpi .sgt v2589 c0_i32_1386
  let v2592 : BitVec 32 := Scalar.extui v2591
  let c0_i32_1387 : BitVec 32 := 0#32
  let v2593 : BitVec 1 := Scalar.cmpi .slt v2589 c0_i32_1387
  let v2594 : BitVec 32 := Scalar.extui v2593
  let v2595 : BitVec 32 := Scalar.subi v2592 v2594
  let c128_i32_1385 : BitVec 32 := 128#32
  let c0_i32_1388 : BitVec 32 := 0#32
  let v2596 : BitVec 1 := Scalar.cmpi .sgt c128_i32_1385 c0_i32_1388
  let v2597 : BitVec 32 := Scalar.extui v2596
  let c0_i32_1389 : BitVec 32 := 0#32
  let v2598 : BitVec 1 := Scalar.cmpi .slt c128_i32_1385 c0_i32_1389
  let v2599 : BitVec 32 := Scalar.extui v2598
  let v2600 : BitVec 32 := Scalar.subi v2597 v2599
  let v2601 : BitVec 1 := Scalar.cmpi .ne v2595 v2600
  let v2602 : BitVec 32 := Scalar.remsi v2589 c128_i32_1385
  let c0_i32_1390 : BitVec 32 := 0#32
  let v2603 : BitVec 1 := Scalar.cmpi .ne v2602 c0_i32_1390
  let v2604 : BitVec 1 := Scalar.andi v2601 v2603
  let v2590 : BitVec 32 := Scalar.divsi v2589 c128_i32_1385
  let c1_i32_1391 : BitVec 32 := 1#32
  let v2605 : BitVec 32 := Scalar.subi v2590 c1_i32_1391
  let v2606 : BitVec 32 := Scalar.select v2604 v2605 v2590
  let c128_i32_1392 : BitVec 32 := 128#32
  let v2607 : BitVec 32 := Scalar.muli v2606 c128_i32_1392
  let v2608 : BitVec 32 := Scalar.maxsi c0_i32_1393 v2607
  let v2609 : BitVec 32 := Scalar.minsi c99872_i32_1394 v2608
  v2609

def k1_off99 (v2589 : BitVec 32) : Fin 2 → Nat :=
  let c98_i32_1395 : BitVec 32 := 98#32
  let c99872_i32_1394 : BitVec 32 := 99872#32
  let c0_i32_1393 : BitVec 32 := 0#32
  let c0_i32_1386 : BitVec 32 := 0#32
  let v2591 : BitVec 1 := Scalar.cmpi .sgt v2589 c0_i32_1386
  let v2592 : BitVec 32 := Scalar.extui v2591
  let c0_i32_1387 : BitVec 32 := 0#32
  let v2593 : BitVec 1 := Scalar.cmpi .slt v2589 c0_i32_1387
  let v2594 : BitVec 32 := Scalar.extui v2593
  let v2595 : BitVec 32 := Scalar.subi v2592 v2594
  let c128_i32_1385 : BitVec 32 := 128#32
  let c0_i32_1388 : BitVec 32 := 0#32
  let v2596 : BitVec 1 := Scalar.cmpi .sgt c128_i32_1385 c0_i32_1388
  let v2597 : BitVec 32 := Scalar.extui v2596
  let c0_i32_1389 : BitVec 32 := 0#32
  let v2598 : BitVec 1 := Scalar.cmpi .slt c128_i32_1385 c0_i32_1389
  let v2599 : BitVec 32 := Scalar.extui v2598
  let v2600 : BitVec 32 := Scalar.subi v2597 v2599
  let v2601 : BitVec 1 := Scalar.cmpi .ne v2595 v2600
  let v2602 : BitVec 32 := Scalar.remsi v2589 c128_i32_1385
  let c0_i32_1390 : BitVec 32 := 0#32
  let v2603 : BitVec 1 := Scalar.cmpi .ne v2602 c0_i32_1390
  let v2604 : BitVec 1 := Scalar.andi v2601 v2603
  let v2590 : BitVec 32 := Scalar.divsi v2589 c128_i32_1385
  let c1_i32_1391 : BitVec 32 := 1#32
  let v2605 : BitVec 32 := Scalar.subi v2590 c1_i32_1391
  let v2606 : BitVec 32 := Scalar.select v2604 v2605 v2590
  let c128_i32_1392 : BitVec 32 := 128#32
  let v2607 : BitVec 32 := Scalar.muli v2606 c128_i32_1392
  let v2608 : BitVec 32 := Scalar.maxsi c0_i32_1393 v2607
  let v2609 : BitVec 32 := Scalar.minsi c99872_i32_1394 v2608
  let v2610 : BitVec 32 := v2609
  ![98, v2610.toNat]

def k1_chk99 (v2589 : BitVec 32) : Prop :=
  (32 ∣ (k1_mult99 v2589).toNat) ∧
  (∀ a, (k1_off99 v2589) a + S1x128.size a ≤ S128x100000.size a)
theorem k1_mult99_dvd : ∀ (v2589 : BitVec 32) (k1_hw99 : k1_chk99 v2589), 32 ∣ (k1_mult99 v2589).toNat := fun v2589 k1_hw99 => k1_hw99.1
theorem k1_off99_inb : ∀ (v2589 : BitVec 32) (k1_hw99 : k1_chk99 v2589), ∀ a, (k1_off99 v2589) a + S1x128.size a ≤ S128x100000.size a := fun v2589 k1_hw99 => k1_hw99.2

def k1_mult100 (v2615 : BitVec 32) : BitVec 32 :=
  let c99872_i32_1408 : BitVec 32 := 99872#32
  let c0_i32_1407 : BitVec 32 := 0#32
  let c0_i32_1400 : BitVec 32 := 0#32
  let v2617 : BitVec 1 := Scalar.cmpi .sgt v2615 c0_i32_1400
  let v2618 : BitVec 32 := Scalar.extui v2617
  let c0_i32_1401 : BitVec 32 := 0#32
  let v2619 : BitVec 1 := Scalar.cmpi .slt v2615 c0_i32_1401
  let v2620 : BitVec 32 := Scalar.extui v2619
  let v2621 : BitVec 32 := Scalar.subi v2618 v2620
  let c128_i32_1399 : BitVec 32 := 128#32
  let c0_i32_1402 : BitVec 32 := 0#32
  let v2622 : BitVec 1 := Scalar.cmpi .sgt c128_i32_1399 c0_i32_1402
  let v2623 : BitVec 32 := Scalar.extui v2622
  let c0_i32_1403 : BitVec 32 := 0#32
  let v2624 : BitVec 1 := Scalar.cmpi .slt c128_i32_1399 c0_i32_1403
  let v2625 : BitVec 32 := Scalar.extui v2624
  let v2626 : BitVec 32 := Scalar.subi v2623 v2625
  let v2627 : BitVec 1 := Scalar.cmpi .ne v2621 v2626
  let v2628 : BitVec 32 := Scalar.remsi v2615 c128_i32_1399
  let c0_i32_1404 : BitVec 32 := 0#32
  let v2629 : BitVec 1 := Scalar.cmpi .ne v2628 c0_i32_1404
  let v2630 : BitVec 1 := Scalar.andi v2627 v2629
  let v2616 : BitVec 32 := Scalar.divsi v2615 c128_i32_1399
  let c1_i32_1405 : BitVec 32 := 1#32
  let v2631 : BitVec 32 := Scalar.subi v2616 c1_i32_1405
  let v2632 : BitVec 32 := Scalar.select v2630 v2631 v2616
  let c128_i32_1406 : BitVec 32 := 128#32
  let v2633 : BitVec 32 := Scalar.muli v2632 c128_i32_1406
  let v2634 : BitVec 32 := Scalar.maxsi c0_i32_1407 v2633
  let v2635 : BitVec 32 := Scalar.minsi c99872_i32_1408 v2634
  v2635

def k1_off100 (v2615 : BitVec 32) : Fin 2 → Nat :=
  let c99_i32_1409 : BitVec 32 := 99#32
  let c99872_i32_1408 : BitVec 32 := 99872#32
  let c0_i32_1407 : BitVec 32 := 0#32
  let c0_i32_1400 : BitVec 32 := 0#32
  let v2617 : BitVec 1 := Scalar.cmpi .sgt v2615 c0_i32_1400
  let v2618 : BitVec 32 := Scalar.extui v2617
  let c0_i32_1401 : BitVec 32 := 0#32
  let v2619 : BitVec 1 := Scalar.cmpi .slt v2615 c0_i32_1401
  let v2620 : BitVec 32 := Scalar.extui v2619
  let v2621 : BitVec 32 := Scalar.subi v2618 v2620
  let c128_i32_1399 : BitVec 32 := 128#32
  let c0_i32_1402 : BitVec 32 := 0#32
  let v2622 : BitVec 1 := Scalar.cmpi .sgt c128_i32_1399 c0_i32_1402
  let v2623 : BitVec 32 := Scalar.extui v2622
  let c0_i32_1403 : BitVec 32 := 0#32
  let v2624 : BitVec 1 := Scalar.cmpi .slt c128_i32_1399 c0_i32_1403
  let v2625 : BitVec 32 := Scalar.extui v2624
  let v2626 : BitVec 32 := Scalar.subi v2623 v2625
  let v2627 : BitVec 1 := Scalar.cmpi .ne v2621 v2626
  let v2628 : BitVec 32 := Scalar.remsi v2615 c128_i32_1399
  let c0_i32_1404 : BitVec 32 := 0#32
  let v2629 : BitVec 1 := Scalar.cmpi .ne v2628 c0_i32_1404
  let v2630 : BitVec 1 := Scalar.andi v2627 v2629
  let v2616 : BitVec 32 := Scalar.divsi v2615 c128_i32_1399
  let c1_i32_1405 : BitVec 32 := 1#32
  let v2631 : BitVec 32 := Scalar.subi v2616 c1_i32_1405
  let v2632 : BitVec 32 := Scalar.select v2630 v2631 v2616
  let c128_i32_1406 : BitVec 32 := 128#32
  let v2633 : BitVec 32 := Scalar.muli v2632 c128_i32_1406
  let v2634 : BitVec 32 := Scalar.maxsi c0_i32_1407 v2633
  let v2635 : BitVec 32 := Scalar.minsi c99872_i32_1408 v2634
  let v2636 : BitVec 32 := v2635
  ![99, v2636.toNat]

def k1_chk100 (v2615 : BitVec 32) : Prop :=
  (32 ∣ (k1_mult100 v2615).toNat) ∧
  (∀ a, (k1_off100 v2615) a + S1x128.size a ≤ S128x100000.size a)
theorem k1_mult100_dvd : ∀ (v2615 : BitVec 32) (k1_hw100 : k1_chk100 v2615), 32 ∣ (k1_mult100 v2615).toNat := fun v2615 k1_hw100 => k1_hw100.1
theorem k1_off100_inb : ∀ (v2615 : BitVec 32) (k1_hw100 : k1_chk100 v2615), ∀ a, (k1_off100 v2615) a + S1x128.size a ≤ S128x100000.size a := fun v2615 k1_hw100 => k1_hw100.2

def k1_mult101 (v2641 : BitVec 32) : BitVec 32 :=
  let c99872_i32_1422 : BitVec 32 := 99872#32
  let c0_i32_1421 : BitVec 32 := 0#32
  let c0_i32_1414 : BitVec 32 := 0#32
  let v2643 : BitVec 1 := Scalar.cmpi .sgt v2641 c0_i32_1414
  let v2644 : BitVec 32 := Scalar.extui v2643
  let c0_i32_1415 : BitVec 32 := 0#32
  let v2645 : BitVec 1 := Scalar.cmpi .slt v2641 c0_i32_1415
  let v2646 : BitVec 32 := Scalar.extui v2645
  let v2647 : BitVec 32 := Scalar.subi v2644 v2646
  let c128_i32_1413 : BitVec 32 := 128#32
  let c0_i32_1416 : BitVec 32 := 0#32
  let v2648 : BitVec 1 := Scalar.cmpi .sgt c128_i32_1413 c0_i32_1416
  let v2649 : BitVec 32 := Scalar.extui v2648
  let c0_i32_1417 : BitVec 32 := 0#32
  let v2650 : BitVec 1 := Scalar.cmpi .slt c128_i32_1413 c0_i32_1417
  let v2651 : BitVec 32 := Scalar.extui v2650
  let v2652 : BitVec 32 := Scalar.subi v2649 v2651
  let v2653 : BitVec 1 := Scalar.cmpi .ne v2647 v2652
  let v2654 : BitVec 32 := Scalar.remsi v2641 c128_i32_1413
  let c0_i32_1418 : BitVec 32 := 0#32
  let v2655 : BitVec 1 := Scalar.cmpi .ne v2654 c0_i32_1418
  let v2656 : BitVec 1 := Scalar.andi v2653 v2655
  let v2642 : BitVec 32 := Scalar.divsi v2641 c128_i32_1413
  let c1_i32_1419 : BitVec 32 := 1#32
  let v2657 : BitVec 32 := Scalar.subi v2642 c1_i32_1419
  let v2658 : BitVec 32 := Scalar.select v2656 v2657 v2642
  let c128_i32_1420 : BitVec 32 := 128#32
  let v2659 : BitVec 32 := Scalar.muli v2658 c128_i32_1420
  let v2660 : BitVec 32 := Scalar.maxsi c0_i32_1421 v2659
  let v2661 : BitVec 32 := Scalar.minsi c99872_i32_1422 v2660
  v2661

def k1_off101 (v2641 : BitVec 32) : Fin 2 → Nat :=
  let c100_i32_1423 : BitVec 32 := 100#32
  let c99872_i32_1422 : BitVec 32 := 99872#32
  let c0_i32_1421 : BitVec 32 := 0#32
  let c0_i32_1414 : BitVec 32 := 0#32
  let v2643 : BitVec 1 := Scalar.cmpi .sgt v2641 c0_i32_1414
  let v2644 : BitVec 32 := Scalar.extui v2643
  let c0_i32_1415 : BitVec 32 := 0#32
  let v2645 : BitVec 1 := Scalar.cmpi .slt v2641 c0_i32_1415
  let v2646 : BitVec 32 := Scalar.extui v2645
  let v2647 : BitVec 32 := Scalar.subi v2644 v2646
  let c128_i32_1413 : BitVec 32 := 128#32
  let c0_i32_1416 : BitVec 32 := 0#32
  let v2648 : BitVec 1 := Scalar.cmpi .sgt c128_i32_1413 c0_i32_1416
  let v2649 : BitVec 32 := Scalar.extui v2648
  let c0_i32_1417 : BitVec 32 := 0#32
  let v2650 : BitVec 1 := Scalar.cmpi .slt c128_i32_1413 c0_i32_1417
  let v2651 : BitVec 32 := Scalar.extui v2650
  let v2652 : BitVec 32 := Scalar.subi v2649 v2651
  let v2653 : BitVec 1 := Scalar.cmpi .ne v2647 v2652
  let v2654 : BitVec 32 := Scalar.remsi v2641 c128_i32_1413
  let c0_i32_1418 : BitVec 32 := 0#32
  let v2655 : BitVec 1 := Scalar.cmpi .ne v2654 c0_i32_1418
  let v2656 : BitVec 1 := Scalar.andi v2653 v2655
  let v2642 : BitVec 32 := Scalar.divsi v2641 c128_i32_1413
  let c1_i32_1419 : BitVec 32 := 1#32
  let v2657 : BitVec 32 := Scalar.subi v2642 c1_i32_1419
  let v2658 : BitVec 32 := Scalar.select v2656 v2657 v2642
  let c128_i32_1420 : BitVec 32 := 128#32
  let v2659 : BitVec 32 := Scalar.muli v2658 c128_i32_1420
  let v2660 : BitVec 32 := Scalar.maxsi c0_i32_1421 v2659
  let v2661 : BitVec 32 := Scalar.minsi c99872_i32_1422 v2660
  let v2662 : BitVec 32 := v2661
  ![100, v2662.toNat]

def k1_chk101 (v2641 : BitVec 32) : Prop :=
  (32 ∣ (k1_mult101 v2641).toNat) ∧
  (∀ a, (k1_off101 v2641) a + S1x128.size a ≤ S128x100000.size a)
theorem k1_mult101_dvd : ∀ (v2641 : BitVec 32) (k1_hw101 : k1_chk101 v2641), 32 ∣ (k1_mult101 v2641).toNat := fun v2641 k1_hw101 => k1_hw101.1
theorem k1_off101_inb : ∀ (v2641 : BitVec 32) (k1_hw101 : k1_chk101 v2641), ∀ a, (k1_off101 v2641) a + S1x128.size a ≤ S128x100000.size a := fun v2641 k1_hw101 => k1_hw101.2

def k1_mult102 (v2667 : BitVec 32) : BitVec 32 :=
  let c99872_i32_1436 : BitVec 32 := 99872#32
  let c0_i32_1435 : BitVec 32 := 0#32
  let c0_i32_1428 : BitVec 32 := 0#32
  let v2669 : BitVec 1 := Scalar.cmpi .sgt v2667 c0_i32_1428
  let v2670 : BitVec 32 := Scalar.extui v2669
  let c0_i32_1429 : BitVec 32 := 0#32
  let v2671 : BitVec 1 := Scalar.cmpi .slt v2667 c0_i32_1429
  let v2672 : BitVec 32 := Scalar.extui v2671
  let v2673 : BitVec 32 := Scalar.subi v2670 v2672
  let c128_i32_1427 : BitVec 32 := 128#32
  let c0_i32_1430 : BitVec 32 := 0#32
  let v2674 : BitVec 1 := Scalar.cmpi .sgt c128_i32_1427 c0_i32_1430
  let v2675 : BitVec 32 := Scalar.extui v2674
  let c0_i32_1431 : BitVec 32 := 0#32
  let v2676 : BitVec 1 := Scalar.cmpi .slt c128_i32_1427 c0_i32_1431
  let v2677 : BitVec 32 := Scalar.extui v2676
  let v2678 : BitVec 32 := Scalar.subi v2675 v2677
  let v2679 : BitVec 1 := Scalar.cmpi .ne v2673 v2678
  let v2680 : BitVec 32 := Scalar.remsi v2667 c128_i32_1427
  let c0_i32_1432 : BitVec 32 := 0#32
  let v2681 : BitVec 1 := Scalar.cmpi .ne v2680 c0_i32_1432
  let v2682 : BitVec 1 := Scalar.andi v2679 v2681
  let v2668 : BitVec 32 := Scalar.divsi v2667 c128_i32_1427
  let c1_i32_1433 : BitVec 32 := 1#32
  let v2683 : BitVec 32 := Scalar.subi v2668 c1_i32_1433
  let v2684 : BitVec 32 := Scalar.select v2682 v2683 v2668
  let c128_i32_1434 : BitVec 32 := 128#32
  let v2685 : BitVec 32 := Scalar.muli v2684 c128_i32_1434
  let v2686 : BitVec 32 := Scalar.maxsi c0_i32_1435 v2685
  let v2687 : BitVec 32 := Scalar.minsi c99872_i32_1436 v2686
  v2687

def k1_off102 (v2667 : BitVec 32) : Fin 2 → Nat :=
  let c101_i32_1437 : BitVec 32 := 101#32
  let c99872_i32_1436 : BitVec 32 := 99872#32
  let c0_i32_1435 : BitVec 32 := 0#32
  let c0_i32_1428 : BitVec 32 := 0#32
  let v2669 : BitVec 1 := Scalar.cmpi .sgt v2667 c0_i32_1428
  let v2670 : BitVec 32 := Scalar.extui v2669
  let c0_i32_1429 : BitVec 32 := 0#32
  let v2671 : BitVec 1 := Scalar.cmpi .slt v2667 c0_i32_1429
  let v2672 : BitVec 32 := Scalar.extui v2671
  let v2673 : BitVec 32 := Scalar.subi v2670 v2672
  let c128_i32_1427 : BitVec 32 := 128#32
  let c0_i32_1430 : BitVec 32 := 0#32
  let v2674 : BitVec 1 := Scalar.cmpi .sgt c128_i32_1427 c0_i32_1430
  let v2675 : BitVec 32 := Scalar.extui v2674
  let c0_i32_1431 : BitVec 32 := 0#32
  let v2676 : BitVec 1 := Scalar.cmpi .slt c128_i32_1427 c0_i32_1431
  let v2677 : BitVec 32 := Scalar.extui v2676
  let v2678 : BitVec 32 := Scalar.subi v2675 v2677
  let v2679 : BitVec 1 := Scalar.cmpi .ne v2673 v2678
  let v2680 : BitVec 32 := Scalar.remsi v2667 c128_i32_1427
  let c0_i32_1432 : BitVec 32 := 0#32
  let v2681 : BitVec 1 := Scalar.cmpi .ne v2680 c0_i32_1432
  let v2682 : BitVec 1 := Scalar.andi v2679 v2681
  let v2668 : BitVec 32 := Scalar.divsi v2667 c128_i32_1427
  let c1_i32_1433 : BitVec 32 := 1#32
  let v2683 : BitVec 32 := Scalar.subi v2668 c1_i32_1433
  let v2684 : BitVec 32 := Scalar.select v2682 v2683 v2668
  let c128_i32_1434 : BitVec 32 := 128#32
  let v2685 : BitVec 32 := Scalar.muli v2684 c128_i32_1434
  let v2686 : BitVec 32 := Scalar.maxsi c0_i32_1435 v2685
  let v2687 : BitVec 32 := Scalar.minsi c99872_i32_1436 v2686
  let v2688 : BitVec 32 := v2687
  ![101, v2688.toNat]

def k1_chk102 (v2667 : BitVec 32) : Prop :=
  (32 ∣ (k1_mult102 v2667).toNat) ∧
  (∀ a, (k1_off102 v2667) a + S1x128.size a ≤ S128x100000.size a)
theorem k1_mult102_dvd : ∀ (v2667 : BitVec 32) (k1_hw102 : k1_chk102 v2667), 32 ∣ (k1_mult102 v2667).toNat := fun v2667 k1_hw102 => k1_hw102.1
theorem k1_off102_inb : ∀ (v2667 : BitVec 32) (k1_hw102 : k1_chk102 v2667), ∀ a, (k1_off102 v2667) a + S1x128.size a ≤ S128x100000.size a := fun v2667 k1_hw102 => k1_hw102.2

def k1_mult103 (v2693 : BitVec 32) : BitVec 32 :=
  let c99872_i32_1450 : BitVec 32 := 99872#32
  let c0_i32_1449 : BitVec 32 := 0#32
  let c0_i32_1442 : BitVec 32 := 0#32
  let v2695 : BitVec 1 := Scalar.cmpi .sgt v2693 c0_i32_1442
  let v2696 : BitVec 32 := Scalar.extui v2695
  let c0_i32_1443 : BitVec 32 := 0#32
  let v2697 : BitVec 1 := Scalar.cmpi .slt v2693 c0_i32_1443
  let v2698 : BitVec 32 := Scalar.extui v2697
  let v2699 : BitVec 32 := Scalar.subi v2696 v2698
  let c128_i32_1441 : BitVec 32 := 128#32
  let c0_i32_1444 : BitVec 32 := 0#32
  let v2700 : BitVec 1 := Scalar.cmpi .sgt c128_i32_1441 c0_i32_1444
  let v2701 : BitVec 32 := Scalar.extui v2700
  let c0_i32_1445 : BitVec 32 := 0#32
  let v2702 : BitVec 1 := Scalar.cmpi .slt c128_i32_1441 c0_i32_1445
  let v2703 : BitVec 32 := Scalar.extui v2702
  let v2704 : BitVec 32 := Scalar.subi v2701 v2703
  let v2705 : BitVec 1 := Scalar.cmpi .ne v2699 v2704
  let v2706 : BitVec 32 := Scalar.remsi v2693 c128_i32_1441
  let c0_i32_1446 : BitVec 32 := 0#32
  let v2707 : BitVec 1 := Scalar.cmpi .ne v2706 c0_i32_1446
  let v2708 : BitVec 1 := Scalar.andi v2705 v2707
  let v2694 : BitVec 32 := Scalar.divsi v2693 c128_i32_1441
  let c1_i32_1447 : BitVec 32 := 1#32
  let v2709 : BitVec 32 := Scalar.subi v2694 c1_i32_1447
  let v2710 : BitVec 32 := Scalar.select v2708 v2709 v2694
  let c128_i32_1448 : BitVec 32 := 128#32
  let v2711 : BitVec 32 := Scalar.muli v2710 c128_i32_1448
  let v2712 : BitVec 32 := Scalar.maxsi c0_i32_1449 v2711
  let v2713 : BitVec 32 := Scalar.minsi c99872_i32_1450 v2712
  v2713

def k1_off103 (v2693 : BitVec 32) : Fin 2 → Nat :=
  let c102_i32_1451 : BitVec 32 := 102#32
  let c99872_i32_1450 : BitVec 32 := 99872#32
  let c0_i32_1449 : BitVec 32 := 0#32
  let c0_i32_1442 : BitVec 32 := 0#32
  let v2695 : BitVec 1 := Scalar.cmpi .sgt v2693 c0_i32_1442
  let v2696 : BitVec 32 := Scalar.extui v2695
  let c0_i32_1443 : BitVec 32 := 0#32
  let v2697 : BitVec 1 := Scalar.cmpi .slt v2693 c0_i32_1443
  let v2698 : BitVec 32 := Scalar.extui v2697
  let v2699 : BitVec 32 := Scalar.subi v2696 v2698
  let c128_i32_1441 : BitVec 32 := 128#32
  let c0_i32_1444 : BitVec 32 := 0#32
  let v2700 : BitVec 1 := Scalar.cmpi .sgt c128_i32_1441 c0_i32_1444
  let v2701 : BitVec 32 := Scalar.extui v2700
  let c0_i32_1445 : BitVec 32 := 0#32
  let v2702 : BitVec 1 := Scalar.cmpi .slt c128_i32_1441 c0_i32_1445
  let v2703 : BitVec 32 := Scalar.extui v2702
  let v2704 : BitVec 32 := Scalar.subi v2701 v2703
  let v2705 : BitVec 1 := Scalar.cmpi .ne v2699 v2704
  let v2706 : BitVec 32 := Scalar.remsi v2693 c128_i32_1441
  let c0_i32_1446 : BitVec 32 := 0#32
  let v2707 : BitVec 1 := Scalar.cmpi .ne v2706 c0_i32_1446
  let v2708 : BitVec 1 := Scalar.andi v2705 v2707
  let v2694 : BitVec 32 := Scalar.divsi v2693 c128_i32_1441
  let c1_i32_1447 : BitVec 32 := 1#32
  let v2709 : BitVec 32 := Scalar.subi v2694 c1_i32_1447
  let v2710 : BitVec 32 := Scalar.select v2708 v2709 v2694
  let c128_i32_1448 : BitVec 32 := 128#32
  let v2711 : BitVec 32 := Scalar.muli v2710 c128_i32_1448
  let v2712 : BitVec 32 := Scalar.maxsi c0_i32_1449 v2711
  let v2713 : BitVec 32 := Scalar.minsi c99872_i32_1450 v2712
  let v2714 : BitVec 32 := v2713
  ![102, v2714.toNat]

def k1_chk103 (v2693 : BitVec 32) : Prop :=
  (32 ∣ (k1_mult103 v2693).toNat) ∧
  (∀ a, (k1_off103 v2693) a + S1x128.size a ≤ S128x100000.size a)
theorem k1_mult103_dvd : ∀ (v2693 : BitVec 32) (k1_hw103 : k1_chk103 v2693), 32 ∣ (k1_mult103 v2693).toNat := fun v2693 k1_hw103 => k1_hw103.1
theorem k1_off103_inb : ∀ (v2693 : BitVec 32) (k1_hw103 : k1_chk103 v2693), ∀ a, (k1_off103 v2693) a + S1x128.size a ≤ S128x100000.size a := fun v2693 k1_hw103 => k1_hw103.2

def k1_mult104 (v2719 : BitVec 32) : BitVec 32 :=
  let c99872_i32_1464 : BitVec 32 := 99872#32
  let c0_i32_1463 : BitVec 32 := 0#32
  let c0_i32_1456 : BitVec 32 := 0#32
  let v2721 : BitVec 1 := Scalar.cmpi .sgt v2719 c0_i32_1456
  let v2722 : BitVec 32 := Scalar.extui v2721
  let c0_i32_1457 : BitVec 32 := 0#32
  let v2723 : BitVec 1 := Scalar.cmpi .slt v2719 c0_i32_1457
  let v2724 : BitVec 32 := Scalar.extui v2723
  let v2725 : BitVec 32 := Scalar.subi v2722 v2724
  let c128_i32_1455 : BitVec 32 := 128#32
  let c0_i32_1458 : BitVec 32 := 0#32
  let v2726 : BitVec 1 := Scalar.cmpi .sgt c128_i32_1455 c0_i32_1458
  let v2727 : BitVec 32 := Scalar.extui v2726
  let c0_i32_1459 : BitVec 32 := 0#32
  let v2728 : BitVec 1 := Scalar.cmpi .slt c128_i32_1455 c0_i32_1459
  let v2729 : BitVec 32 := Scalar.extui v2728
  let v2730 : BitVec 32 := Scalar.subi v2727 v2729
  let v2731 : BitVec 1 := Scalar.cmpi .ne v2725 v2730
  let v2732 : BitVec 32 := Scalar.remsi v2719 c128_i32_1455
  let c0_i32_1460 : BitVec 32 := 0#32
  let v2733 : BitVec 1 := Scalar.cmpi .ne v2732 c0_i32_1460
  let v2734 : BitVec 1 := Scalar.andi v2731 v2733
  let v2720 : BitVec 32 := Scalar.divsi v2719 c128_i32_1455
  let c1_i32_1461 : BitVec 32 := 1#32
  let v2735 : BitVec 32 := Scalar.subi v2720 c1_i32_1461
  let v2736 : BitVec 32 := Scalar.select v2734 v2735 v2720
  let c128_i32_1462 : BitVec 32 := 128#32
  let v2737 : BitVec 32 := Scalar.muli v2736 c128_i32_1462
  let v2738 : BitVec 32 := Scalar.maxsi c0_i32_1463 v2737
  let v2739 : BitVec 32 := Scalar.minsi c99872_i32_1464 v2738
  v2739

def k1_off104 (v2719 : BitVec 32) : Fin 2 → Nat :=
  let c103_i32_1465 : BitVec 32 := 103#32
  let c99872_i32_1464 : BitVec 32 := 99872#32
  let c0_i32_1463 : BitVec 32 := 0#32
  let c0_i32_1456 : BitVec 32 := 0#32
  let v2721 : BitVec 1 := Scalar.cmpi .sgt v2719 c0_i32_1456
  let v2722 : BitVec 32 := Scalar.extui v2721
  let c0_i32_1457 : BitVec 32 := 0#32
  let v2723 : BitVec 1 := Scalar.cmpi .slt v2719 c0_i32_1457
  let v2724 : BitVec 32 := Scalar.extui v2723
  let v2725 : BitVec 32 := Scalar.subi v2722 v2724
  let c128_i32_1455 : BitVec 32 := 128#32
  let c0_i32_1458 : BitVec 32 := 0#32
  let v2726 : BitVec 1 := Scalar.cmpi .sgt c128_i32_1455 c0_i32_1458
  let v2727 : BitVec 32 := Scalar.extui v2726
  let c0_i32_1459 : BitVec 32 := 0#32
  let v2728 : BitVec 1 := Scalar.cmpi .slt c128_i32_1455 c0_i32_1459
  let v2729 : BitVec 32 := Scalar.extui v2728
  let v2730 : BitVec 32 := Scalar.subi v2727 v2729
  let v2731 : BitVec 1 := Scalar.cmpi .ne v2725 v2730
  let v2732 : BitVec 32 := Scalar.remsi v2719 c128_i32_1455
  let c0_i32_1460 : BitVec 32 := 0#32
  let v2733 : BitVec 1 := Scalar.cmpi .ne v2732 c0_i32_1460
  let v2734 : BitVec 1 := Scalar.andi v2731 v2733
  let v2720 : BitVec 32 := Scalar.divsi v2719 c128_i32_1455
  let c1_i32_1461 : BitVec 32 := 1#32
  let v2735 : BitVec 32 := Scalar.subi v2720 c1_i32_1461
  let v2736 : BitVec 32 := Scalar.select v2734 v2735 v2720
  let c128_i32_1462 : BitVec 32 := 128#32
  let v2737 : BitVec 32 := Scalar.muli v2736 c128_i32_1462
  let v2738 : BitVec 32 := Scalar.maxsi c0_i32_1463 v2737
  let v2739 : BitVec 32 := Scalar.minsi c99872_i32_1464 v2738
  let v2740 : BitVec 32 := v2739
  ![103, v2740.toNat]

def k1_chk104 (v2719 : BitVec 32) : Prop :=
  (32 ∣ (k1_mult104 v2719).toNat) ∧
  (∀ a, (k1_off104 v2719) a + S1x128.size a ≤ S128x100000.size a)
theorem k1_mult104_dvd : ∀ (v2719 : BitVec 32) (k1_hw104 : k1_chk104 v2719), 32 ∣ (k1_mult104 v2719).toNat := fun v2719 k1_hw104 => k1_hw104.1
theorem k1_off104_inb : ∀ (v2719 : BitVec 32) (k1_hw104 : k1_chk104 v2719), ∀ a, (k1_off104 v2719) a + S1x128.size a ≤ S128x100000.size a := fun v2719 k1_hw104 => k1_hw104.2

def k1_mult105 (v2745 : BitVec 32) : BitVec 32 :=
  let c99872_i32_1478 : BitVec 32 := 99872#32
  let c0_i32_1477 : BitVec 32 := 0#32
  let c0_i32_1470 : BitVec 32 := 0#32
  let v2747 : BitVec 1 := Scalar.cmpi .sgt v2745 c0_i32_1470
  let v2748 : BitVec 32 := Scalar.extui v2747
  let c0_i32_1471 : BitVec 32 := 0#32
  let v2749 : BitVec 1 := Scalar.cmpi .slt v2745 c0_i32_1471
  let v2750 : BitVec 32 := Scalar.extui v2749
  let v2751 : BitVec 32 := Scalar.subi v2748 v2750
  let c128_i32_1469 : BitVec 32 := 128#32
  let c0_i32_1472 : BitVec 32 := 0#32
  let v2752 : BitVec 1 := Scalar.cmpi .sgt c128_i32_1469 c0_i32_1472
  let v2753 : BitVec 32 := Scalar.extui v2752
  let c0_i32_1473 : BitVec 32 := 0#32
  let v2754 : BitVec 1 := Scalar.cmpi .slt c128_i32_1469 c0_i32_1473
  let v2755 : BitVec 32 := Scalar.extui v2754
  let v2756 : BitVec 32 := Scalar.subi v2753 v2755
  let v2757 : BitVec 1 := Scalar.cmpi .ne v2751 v2756
  let v2758 : BitVec 32 := Scalar.remsi v2745 c128_i32_1469
  let c0_i32_1474 : BitVec 32 := 0#32
  let v2759 : BitVec 1 := Scalar.cmpi .ne v2758 c0_i32_1474
  let v2760 : BitVec 1 := Scalar.andi v2757 v2759
  let v2746 : BitVec 32 := Scalar.divsi v2745 c128_i32_1469
  let c1_i32_1475 : BitVec 32 := 1#32
  let v2761 : BitVec 32 := Scalar.subi v2746 c1_i32_1475
  let v2762 : BitVec 32 := Scalar.select v2760 v2761 v2746
  let c128_i32_1476 : BitVec 32 := 128#32
  let v2763 : BitVec 32 := Scalar.muli v2762 c128_i32_1476
  let v2764 : BitVec 32 := Scalar.maxsi c0_i32_1477 v2763
  let v2765 : BitVec 32 := Scalar.minsi c99872_i32_1478 v2764
  v2765

def k1_off105 (v2745 : BitVec 32) : Fin 2 → Nat :=
  let c104_i32_1479 : BitVec 32 := 104#32
  let c99872_i32_1478 : BitVec 32 := 99872#32
  let c0_i32_1477 : BitVec 32 := 0#32
  let c0_i32_1470 : BitVec 32 := 0#32
  let v2747 : BitVec 1 := Scalar.cmpi .sgt v2745 c0_i32_1470
  let v2748 : BitVec 32 := Scalar.extui v2747
  let c0_i32_1471 : BitVec 32 := 0#32
  let v2749 : BitVec 1 := Scalar.cmpi .slt v2745 c0_i32_1471
  let v2750 : BitVec 32 := Scalar.extui v2749
  let v2751 : BitVec 32 := Scalar.subi v2748 v2750
  let c128_i32_1469 : BitVec 32 := 128#32
  let c0_i32_1472 : BitVec 32 := 0#32
  let v2752 : BitVec 1 := Scalar.cmpi .sgt c128_i32_1469 c0_i32_1472
  let v2753 : BitVec 32 := Scalar.extui v2752
  let c0_i32_1473 : BitVec 32 := 0#32
  let v2754 : BitVec 1 := Scalar.cmpi .slt c128_i32_1469 c0_i32_1473
  let v2755 : BitVec 32 := Scalar.extui v2754
  let v2756 : BitVec 32 := Scalar.subi v2753 v2755
  let v2757 : BitVec 1 := Scalar.cmpi .ne v2751 v2756
  let v2758 : BitVec 32 := Scalar.remsi v2745 c128_i32_1469
  let c0_i32_1474 : BitVec 32 := 0#32
  let v2759 : BitVec 1 := Scalar.cmpi .ne v2758 c0_i32_1474
  let v2760 : BitVec 1 := Scalar.andi v2757 v2759
  let v2746 : BitVec 32 := Scalar.divsi v2745 c128_i32_1469
  let c1_i32_1475 : BitVec 32 := 1#32
  let v2761 : BitVec 32 := Scalar.subi v2746 c1_i32_1475
  let v2762 : BitVec 32 := Scalar.select v2760 v2761 v2746
  let c128_i32_1476 : BitVec 32 := 128#32
  let v2763 : BitVec 32 := Scalar.muli v2762 c128_i32_1476
  let v2764 : BitVec 32 := Scalar.maxsi c0_i32_1477 v2763
  let v2765 : BitVec 32 := Scalar.minsi c99872_i32_1478 v2764
  let v2766 : BitVec 32 := v2765
  ![104, v2766.toNat]

def k1_chk105 (v2745 : BitVec 32) : Prop :=
  (32 ∣ (k1_mult105 v2745).toNat) ∧
  (∀ a, (k1_off105 v2745) a + S1x128.size a ≤ S128x100000.size a)
theorem k1_mult105_dvd : ∀ (v2745 : BitVec 32) (k1_hw105 : k1_chk105 v2745), 32 ∣ (k1_mult105 v2745).toNat := fun v2745 k1_hw105 => k1_hw105.1
theorem k1_off105_inb : ∀ (v2745 : BitVec 32) (k1_hw105 : k1_chk105 v2745), ∀ a, (k1_off105 v2745) a + S1x128.size a ≤ S128x100000.size a := fun v2745 k1_hw105 => k1_hw105.2

def k1_mult106 (v2771 : BitVec 32) : BitVec 32 :=
  let c99872_i32_1492 : BitVec 32 := 99872#32
  let c0_i32_1491 : BitVec 32 := 0#32
  let c0_i32_1484 : BitVec 32 := 0#32
  let v2773 : BitVec 1 := Scalar.cmpi .sgt v2771 c0_i32_1484
  let v2774 : BitVec 32 := Scalar.extui v2773
  let c0_i32_1485 : BitVec 32 := 0#32
  let v2775 : BitVec 1 := Scalar.cmpi .slt v2771 c0_i32_1485
  let v2776 : BitVec 32 := Scalar.extui v2775
  let v2777 : BitVec 32 := Scalar.subi v2774 v2776
  let c128_i32_1483 : BitVec 32 := 128#32
  let c0_i32_1486 : BitVec 32 := 0#32
  let v2778 : BitVec 1 := Scalar.cmpi .sgt c128_i32_1483 c0_i32_1486
  let v2779 : BitVec 32 := Scalar.extui v2778
  let c0_i32_1487 : BitVec 32 := 0#32
  let v2780 : BitVec 1 := Scalar.cmpi .slt c128_i32_1483 c0_i32_1487
  let v2781 : BitVec 32 := Scalar.extui v2780
  let v2782 : BitVec 32 := Scalar.subi v2779 v2781
  let v2783 : BitVec 1 := Scalar.cmpi .ne v2777 v2782
  let v2784 : BitVec 32 := Scalar.remsi v2771 c128_i32_1483
  let c0_i32_1488 : BitVec 32 := 0#32
  let v2785 : BitVec 1 := Scalar.cmpi .ne v2784 c0_i32_1488
  let v2786 : BitVec 1 := Scalar.andi v2783 v2785
  let v2772 : BitVec 32 := Scalar.divsi v2771 c128_i32_1483
  let c1_i32_1489 : BitVec 32 := 1#32
  let v2787 : BitVec 32 := Scalar.subi v2772 c1_i32_1489
  let v2788 : BitVec 32 := Scalar.select v2786 v2787 v2772
  let c128_i32_1490 : BitVec 32 := 128#32
  let v2789 : BitVec 32 := Scalar.muli v2788 c128_i32_1490
  let v2790 : BitVec 32 := Scalar.maxsi c0_i32_1491 v2789
  let v2791 : BitVec 32 := Scalar.minsi c99872_i32_1492 v2790
  v2791

def k1_off106 (v2771 : BitVec 32) : Fin 2 → Nat :=
  let c105_i32_1493 : BitVec 32 := 105#32
  let c99872_i32_1492 : BitVec 32 := 99872#32
  let c0_i32_1491 : BitVec 32 := 0#32
  let c0_i32_1484 : BitVec 32 := 0#32
  let v2773 : BitVec 1 := Scalar.cmpi .sgt v2771 c0_i32_1484
  let v2774 : BitVec 32 := Scalar.extui v2773
  let c0_i32_1485 : BitVec 32 := 0#32
  let v2775 : BitVec 1 := Scalar.cmpi .slt v2771 c0_i32_1485
  let v2776 : BitVec 32 := Scalar.extui v2775
  let v2777 : BitVec 32 := Scalar.subi v2774 v2776
  let c128_i32_1483 : BitVec 32 := 128#32
  let c0_i32_1486 : BitVec 32 := 0#32
  let v2778 : BitVec 1 := Scalar.cmpi .sgt c128_i32_1483 c0_i32_1486
  let v2779 : BitVec 32 := Scalar.extui v2778
  let c0_i32_1487 : BitVec 32 := 0#32
  let v2780 : BitVec 1 := Scalar.cmpi .slt c128_i32_1483 c0_i32_1487
  let v2781 : BitVec 32 := Scalar.extui v2780
  let v2782 : BitVec 32 := Scalar.subi v2779 v2781
  let v2783 : BitVec 1 := Scalar.cmpi .ne v2777 v2782
  let v2784 : BitVec 32 := Scalar.remsi v2771 c128_i32_1483
  let c0_i32_1488 : BitVec 32 := 0#32
  let v2785 : BitVec 1 := Scalar.cmpi .ne v2784 c0_i32_1488
  let v2786 : BitVec 1 := Scalar.andi v2783 v2785
  let v2772 : BitVec 32 := Scalar.divsi v2771 c128_i32_1483
  let c1_i32_1489 : BitVec 32 := 1#32
  let v2787 : BitVec 32 := Scalar.subi v2772 c1_i32_1489
  let v2788 : BitVec 32 := Scalar.select v2786 v2787 v2772
  let c128_i32_1490 : BitVec 32 := 128#32
  let v2789 : BitVec 32 := Scalar.muli v2788 c128_i32_1490
  let v2790 : BitVec 32 := Scalar.maxsi c0_i32_1491 v2789
  let v2791 : BitVec 32 := Scalar.minsi c99872_i32_1492 v2790
  let v2792 : BitVec 32 := v2791
  ![105, v2792.toNat]

def k1_chk106 (v2771 : BitVec 32) : Prop :=
  (32 ∣ (k1_mult106 v2771).toNat) ∧
  (∀ a, (k1_off106 v2771) a + S1x128.size a ≤ S128x100000.size a)
theorem k1_mult106_dvd : ∀ (v2771 : BitVec 32) (k1_hw106 : k1_chk106 v2771), 32 ∣ (k1_mult106 v2771).toNat := fun v2771 k1_hw106 => k1_hw106.1
theorem k1_off106_inb : ∀ (v2771 : BitVec 32) (k1_hw106 : k1_chk106 v2771), ∀ a, (k1_off106 v2771) a + S1x128.size a ≤ S128x100000.size a := fun v2771 k1_hw106 => k1_hw106.2

def k1_mult107 (v2797 : BitVec 32) : BitVec 32 :=
  let c99872_i32_1506 : BitVec 32 := 99872#32
  let c0_i32_1505 : BitVec 32 := 0#32
  let c0_i32_1498 : BitVec 32 := 0#32
  let v2799 : BitVec 1 := Scalar.cmpi .sgt v2797 c0_i32_1498
  let v2800 : BitVec 32 := Scalar.extui v2799
  let c0_i32_1499 : BitVec 32 := 0#32
  let v2801 : BitVec 1 := Scalar.cmpi .slt v2797 c0_i32_1499
  let v2802 : BitVec 32 := Scalar.extui v2801
  let v2803 : BitVec 32 := Scalar.subi v2800 v2802
  let c128_i32_1497 : BitVec 32 := 128#32
  let c0_i32_1500 : BitVec 32 := 0#32
  let v2804 : BitVec 1 := Scalar.cmpi .sgt c128_i32_1497 c0_i32_1500
  let v2805 : BitVec 32 := Scalar.extui v2804
  let c0_i32_1501 : BitVec 32 := 0#32
  let v2806 : BitVec 1 := Scalar.cmpi .slt c128_i32_1497 c0_i32_1501
  let v2807 : BitVec 32 := Scalar.extui v2806
  let v2808 : BitVec 32 := Scalar.subi v2805 v2807
  let v2809 : BitVec 1 := Scalar.cmpi .ne v2803 v2808
  let v2810 : BitVec 32 := Scalar.remsi v2797 c128_i32_1497
  let c0_i32_1502 : BitVec 32 := 0#32
  let v2811 : BitVec 1 := Scalar.cmpi .ne v2810 c0_i32_1502
  let v2812 : BitVec 1 := Scalar.andi v2809 v2811
  let v2798 : BitVec 32 := Scalar.divsi v2797 c128_i32_1497
  let c1_i32_1503 : BitVec 32 := 1#32
  let v2813 : BitVec 32 := Scalar.subi v2798 c1_i32_1503
  let v2814 : BitVec 32 := Scalar.select v2812 v2813 v2798
  let c128_i32_1504 : BitVec 32 := 128#32
  let v2815 : BitVec 32 := Scalar.muli v2814 c128_i32_1504
  let v2816 : BitVec 32 := Scalar.maxsi c0_i32_1505 v2815
  let v2817 : BitVec 32 := Scalar.minsi c99872_i32_1506 v2816
  v2817

def k1_off107 (v2797 : BitVec 32) : Fin 2 → Nat :=
  let c106_i32_1507 : BitVec 32 := 106#32
  let c99872_i32_1506 : BitVec 32 := 99872#32
  let c0_i32_1505 : BitVec 32 := 0#32
  let c0_i32_1498 : BitVec 32 := 0#32
  let v2799 : BitVec 1 := Scalar.cmpi .sgt v2797 c0_i32_1498
  let v2800 : BitVec 32 := Scalar.extui v2799
  let c0_i32_1499 : BitVec 32 := 0#32
  let v2801 : BitVec 1 := Scalar.cmpi .slt v2797 c0_i32_1499
  let v2802 : BitVec 32 := Scalar.extui v2801
  let v2803 : BitVec 32 := Scalar.subi v2800 v2802
  let c128_i32_1497 : BitVec 32 := 128#32
  let c0_i32_1500 : BitVec 32 := 0#32
  let v2804 : BitVec 1 := Scalar.cmpi .sgt c128_i32_1497 c0_i32_1500
  let v2805 : BitVec 32 := Scalar.extui v2804
  let c0_i32_1501 : BitVec 32 := 0#32
  let v2806 : BitVec 1 := Scalar.cmpi .slt c128_i32_1497 c0_i32_1501
  let v2807 : BitVec 32 := Scalar.extui v2806
  let v2808 : BitVec 32 := Scalar.subi v2805 v2807
  let v2809 : BitVec 1 := Scalar.cmpi .ne v2803 v2808
  let v2810 : BitVec 32 := Scalar.remsi v2797 c128_i32_1497
  let c0_i32_1502 : BitVec 32 := 0#32
  let v2811 : BitVec 1 := Scalar.cmpi .ne v2810 c0_i32_1502
  let v2812 : BitVec 1 := Scalar.andi v2809 v2811
  let v2798 : BitVec 32 := Scalar.divsi v2797 c128_i32_1497
  let c1_i32_1503 : BitVec 32 := 1#32
  let v2813 : BitVec 32 := Scalar.subi v2798 c1_i32_1503
  let v2814 : BitVec 32 := Scalar.select v2812 v2813 v2798
  let c128_i32_1504 : BitVec 32 := 128#32
  let v2815 : BitVec 32 := Scalar.muli v2814 c128_i32_1504
  let v2816 : BitVec 32 := Scalar.maxsi c0_i32_1505 v2815
  let v2817 : BitVec 32 := Scalar.minsi c99872_i32_1506 v2816
  let v2818 : BitVec 32 := v2817
  ![106, v2818.toNat]

def k1_chk107 (v2797 : BitVec 32) : Prop :=
  (32 ∣ (k1_mult107 v2797).toNat) ∧
  (∀ a, (k1_off107 v2797) a + S1x128.size a ≤ S128x100000.size a)
theorem k1_mult107_dvd : ∀ (v2797 : BitVec 32) (k1_hw107 : k1_chk107 v2797), 32 ∣ (k1_mult107 v2797).toNat := fun v2797 k1_hw107 => k1_hw107.1
theorem k1_off107_inb : ∀ (v2797 : BitVec 32) (k1_hw107 : k1_chk107 v2797), ∀ a, (k1_off107 v2797) a + S1x128.size a ≤ S128x100000.size a := fun v2797 k1_hw107 => k1_hw107.2

def k1_mult108 (v2823 : BitVec 32) : BitVec 32 :=
  let c99872_i32_1520 : BitVec 32 := 99872#32
  let c0_i32_1519 : BitVec 32 := 0#32
  let c0_i32_1512 : BitVec 32 := 0#32
  let v2825 : BitVec 1 := Scalar.cmpi .sgt v2823 c0_i32_1512
  let v2826 : BitVec 32 := Scalar.extui v2825
  let c0_i32_1513 : BitVec 32 := 0#32
  let v2827 : BitVec 1 := Scalar.cmpi .slt v2823 c0_i32_1513
  let v2828 : BitVec 32 := Scalar.extui v2827
  let v2829 : BitVec 32 := Scalar.subi v2826 v2828
  let c128_i32_1511 : BitVec 32 := 128#32
  let c0_i32_1514 : BitVec 32 := 0#32
  let v2830 : BitVec 1 := Scalar.cmpi .sgt c128_i32_1511 c0_i32_1514
  let v2831 : BitVec 32 := Scalar.extui v2830
  let c0_i32_1515 : BitVec 32 := 0#32
  let v2832 : BitVec 1 := Scalar.cmpi .slt c128_i32_1511 c0_i32_1515
  let v2833 : BitVec 32 := Scalar.extui v2832
  let v2834 : BitVec 32 := Scalar.subi v2831 v2833
  let v2835 : BitVec 1 := Scalar.cmpi .ne v2829 v2834
  let v2836 : BitVec 32 := Scalar.remsi v2823 c128_i32_1511
  let c0_i32_1516 : BitVec 32 := 0#32
  let v2837 : BitVec 1 := Scalar.cmpi .ne v2836 c0_i32_1516
  let v2838 : BitVec 1 := Scalar.andi v2835 v2837
  let v2824 : BitVec 32 := Scalar.divsi v2823 c128_i32_1511
  let c1_i32_1517 : BitVec 32 := 1#32
  let v2839 : BitVec 32 := Scalar.subi v2824 c1_i32_1517
  let v2840 : BitVec 32 := Scalar.select v2838 v2839 v2824
  let c128_i32_1518 : BitVec 32 := 128#32
  let v2841 : BitVec 32 := Scalar.muli v2840 c128_i32_1518
  let v2842 : BitVec 32 := Scalar.maxsi c0_i32_1519 v2841
  let v2843 : BitVec 32 := Scalar.minsi c99872_i32_1520 v2842
  v2843

def k1_off108 (v2823 : BitVec 32) : Fin 2 → Nat :=
  let c107_i32_1521 : BitVec 32 := 107#32
  let c99872_i32_1520 : BitVec 32 := 99872#32
  let c0_i32_1519 : BitVec 32 := 0#32
  let c0_i32_1512 : BitVec 32 := 0#32
  let v2825 : BitVec 1 := Scalar.cmpi .sgt v2823 c0_i32_1512
  let v2826 : BitVec 32 := Scalar.extui v2825
  let c0_i32_1513 : BitVec 32 := 0#32
  let v2827 : BitVec 1 := Scalar.cmpi .slt v2823 c0_i32_1513
  let v2828 : BitVec 32 := Scalar.extui v2827
  let v2829 : BitVec 32 := Scalar.subi v2826 v2828
  let c128_i32_1511 : BitVec 32 := 128#32
  let c0_i32_1514 : BitVec 32 := 0#32
  let v2830 : BitVec 1 := Scalar.cmpi .sgt c128_i32_1511 c0_i32_1514
  let v2831 : BitVec 32 := Scalar.extui v2830
  let c0_i32_1515 : BitVec 32 := 0#32
  let v2832 : BitVec 1 := Scalar.cmpi .slt c128_i32_1511 c0_i32_1515
  let v2833 : BitVec 32 := Scalar.extui v2832
  let v2834 : BitVec 32 := Scalar.subi v2831 v2833
  let v2835 : BitVec 1 := Scalar.cmpi .ne v2829 v2834
  let v2836 : BitVec 32 := Scalar.remsi v2823 c128_i32_1511
  let c0_i32_1516 : BitVec 32 := 0#32
  let v2837 : BitVec 1 := Scalar.cmpi .ne v2836 c0_i32_1516
  let v2838 : BitVec 1 := Scalar.andi v2835 v2837
  let v2824 : BitVec 32 := Scalar.divsi v2823 c128_i32_1511
  let c1_i32_1517 : BitVec 32 := 1#32
  let v2839 : BitVec 32 := Scalar.subi v2824 c1_i32_1517
  let v2840 : BitVec 32 := Scalar.select v2838 v2839 v2824
  let c128_i32_1518 : BitVec 32 := 128#32
  let v2841 : BitVec 32 := Scalar.muli v2840 c128_i32_1518
  let v2842 : BitVec 32 := Scalar.maxsi c0_i32_1519 v2841
  let v2843 : BitVec 32 := Scalar.minsi c99872_i32_1520 v2842
  let v2844 : BitVec 32 := v2843
  ![107, v2844.toNat]

def k1_chk108 (v2823 : BitVec 32) : Prop :=
  (32 ∣ (k1_mult108 v2823).toNat) ∧
  (∀ a, (k1_off108 v2823) a + S1x128.size a ≤ S128x100000.size a)
theorem k1_mult108_dvd : ∀ (v2823 : BitVec 32) (k1_hw108 : k1_chk108 v2823), 32 ∣ (k1_mult108 v2823).toNat := fun v2823 k1_hw108 => k1_hw108.1
theorem k1_off108_inb : ∀ (v2823 : BitVec 32) (k1_hw108 : k1_chk108 v2823), ∀ a, (k1_off108 v2823) a + S1x128.size a ≤ S128x100000.size a := fun v2823 k1_hw108 => k1_hw108.2

def k1_mult109 (v2849 : BitVec 32) : BitVec 32 :=
  let c99872_i32_1534 : BitVec 32 := 99872#32
  let c0_i32_1533 : BitVec 32 := 0#32
  let c0_i32_1526 : BitVec 32 := 0#32
  let v2851 : BitVec 1 := Scalar.cmpi .sgt v2849 c0_i32_1526
  let v2852 : BitVec 32 := Scalar.extui v2851
  let c0_i32_1527 : BitVec 32 := 0#32
  let v2853 : BitVec 1 := Scalar.cmpi .slt v2849 c0_i32_1527
  let v2854 : BitVec 32 := Scalar.extui v2853
  let v2855 : BitVec 32 := Scalar.subi v2852 v2854
  let c128_i32_1525 : BitVec 32 := 128#32
  let c0_i32_1528 : BitVec 32 := 0#32
  let v2856 : BitVec 1 := Scalar.cmpi .sgt c128_i32_1525 c0_i32_1528
  let v2857 : BitVec 32 := Scalar.extui v2856
  let c0_i32_1529 : BitVec 32 := 0#32
  let v2858 : BitVec 1 := Scalar.cmpi .slt c128_i32_1525 c0_i32_1529
  let v2859 : BitVec 32 := Scalar.extui v2858
  let v2860 : BitVec 32 := Scalar.subi v2857 v2859
  let v2861 : BitVec 1 := Scalar.cmpi .ne v2855 v2860
  let v2862 : BitVec 32 := Scalar.remsi v2849 c128_i32_1525
  let c0_i32_1530 : BitVec 32 := 0#32
  let v2863 : BitVec 1 := Scalar.cmpi .ne v2862 c0_i32_1530
  let v2864 : BitVec 1 := Scalar.andi v2861 v2863
  let v2850 : BitVec 32 := Scalar.divsi v2849 c128_i32_1525
  let c1_i32_1531 : BitVec 32 := 1#32
  let v2865 : BitVec 32 := Scalar.subi v2850 c1_i32_1531
  let v2866 : BitVec 32 := Scalar.select v2864 v2865 v2850
  let c128_i32_1532 : BitVec 32 := 128#32
  let v2867 : BitVec 32 := Scalar.muli v2866 c128_i32_1532
  let v2868 : BitVec 32 := Scalar.maxsi c0_i32_1533 v2867
  let v2869 : BitVec 32 := Scalar.minsi c99872_i32_1534 v2868
  v2869

def k1_off109 (v2849 : BitVec 32) : Fin 2 → Nat :=
  let c108_i32_1535 : BitVec 32 := 108#32
  let c99872_i32_1534 : BitVec 32 := 99872#32
  let c0_i32_1533 : BitVec 32 := 0#32
  let c0_i32_1526 : BitVec 32 := 0#32
  let v2851 : BitVec 1 := Scalar.cmpi .sgt v2849 c0_i32_1526
  let v2852 : BitVec 32 := Scalar.extui v2851
  let c0_i32_1527 : BitVec 32 := 0#32
  let v2853 : BitVec 1 := Scalar.cmpi .slt v2849 c0_i32_1527
  let v2854 : BitVec 32 := Scalar.extui v2853
  let v2855 : BitVec 32 := Scalar.subi v2852 v2854
  let c128_i32_1525 : BitVec 32 := 128#32
  let c0_i32_1528 : BitVec 32 := 0#32
  let v2856 : BitVec 1 := Scalar.cmpi .sgt c128_i32_1525 c0_i32_1528
  let v2857 : BitVec 32 := Scalar.extui v2856
  let c0_i32_1529 : BitVec 32 := 0#32
  let v2858 : BitVec 1 := Scalar.cmpi .slt c128_i32_1525 c0_i32_1529
  let v2859 : BitVec 32 := Scalar.extui v2858
  let v2860 : BitVec 32 := Scalar.subi v2857 v2859
  let v2861 : BitVec 1 := Scalar.cmpi .ne v2855 v2860
  let v2862 : BitVec 32 := Scalar.remsi v2849 c128_i32_1525
  let c0_i32_1530 : BitVec 32 := 0#32
  let v2863 : BitVec 1 := Scalar.cmpi .ne v2862 c0_i32_1530
  let v2864 : BitVec 1 := Scalar.andi v2861 v2863
  let v2850 : BitVec 32 := Scalar.divsi v2849 c128_i32_1525
  let c1_i32_1531 : BitVec 32 := 1#32
  let v2865 : BitVec 32 := Scalar.subi v2850 c1_i32_1531
  let v2866 : BitVec 32 := Scalar.select v2864 v2865 v2850
  let c128_i32_1532 : BitVec 32 := 128#32
  let v2867 : BitVec 32 := Scalar.muli v2866 c128_i32_1532
  let v2868 : BitVec 32 := Scalar.maxsi c0_i32_1533 v2867
  let v2869 : BitVec 32 := Scalar.minsi c99872_i32_1534 v2868
  let v2870 : BitVec 32 := v2869
  ![108, v2870.toNat]

def k1_chk109 (v2849 : BitVec 32) : Prop :=
  (32 ∣ (k1_mult109 v2849).toNat) ∧
  (∀ a, (k1_off109 v2849) a + S1x128.size a ≤ S128x100000.size a)
theorem k1_mult109_dvd : ∀ (v2849 : BitVec 32) (k1_hw109 : k1_chk109 v2849), 32 ∣ (k1_mult109 v2849).toNat := fun v2849 k1_hw109 => k1_hw109.1
theorem k1_off109_inb : ∀ (v2849 : BitVec 32) (k1_hw109 : k1_chk109 v2849), ∀ a, (k1_off109 v2849) a + S1x128.size a ≤ S128x100000.size a := fun v2849 k1_hw109 => k1_hw109.2

def k1_mult110 (v2875 : BitVec 32) : BitVec 32 :=
  let c99872_i32_1548 : BitVec 32 := 99872#32
  let c0_i32_1547 : BitVec 32 := 0#32
  let c0_i32_1540 : BitVec 32 := 0#32
  let v2877 : BitVec 1 := Scalar.cmpi .sgt v2875 c0_i32_1540
  let v2878 : BitVec 32 := Scalar.extui v2877
  let c0_i32_1541 : BitVec 32 := 0#32
  let v2879 : BitVec 1 := Scalar.cmpi .slt v2875 c0_i32_1541
  let v2880 : BitVec 32 := Scalar.extui v2879
  let v2881 : BitVec 32 := Scalar.subi v2878 v2880
  let c128_i32_1539 : BitVec 32 := 128#32
  let c0_i32_1542 : BitVec 32 := 0#32
  let v2882 : BitVec 1 := Scalar.cmpi .sgt c128_i32_1539 c0_i32_1542
  let v2883 : BitVec 32 := Scalar.extui v2882
  let c0_i32_1543 : BitVec 32 := 0#32
  let v2884 : BitVec 1 := Scalar.cmpi .slt c128_i32_1539 c0_i32_1543
  let v2885 : BitVec 32 := Scalar.extui v2884
  let v2886 : BitVec 32 := Scalar.subi v2883 v2885
  let v2887 : BitVec 1 := Scalar.cmpi .ne v2881 v2886
  let v2888 : BitVec 32 := Scalar.remsi v2875 c128_i32_1539
  let c0_i32_1544 : BitVec 32 := 0#32
  let v2889 : BitVec 1 := Scalar.cmpi .ne v2888 c0_i32_1544
  let v2890 : BitVec 1 := Scalar.andi v2887 v2889
  let v2876 : BitVec 32 := Scalar.divsi v2875 c128_i32_1539
  let c1_i32_1545 : BitVec 32 := 1#32
  let v2891 : BitVec 32 := Scalar.subi v2876 c1_i32_1545
  let v2892 : BitVec 32 := Scalar.select v2890 v2891 v2876
  let c128_i32_1546 : BitVec 32 := 128#32
  let v2893 : BitVec 32 := Scalar.muli v2892 c128_i32_1546
  let v2894 : BitVec 32 := Scalar.maxsi c0_i32_1547 v2893
  let v2895 : BitVec 32 := Scalar.minsi c99872_i32_1548 v2894
  v2895

def k1_off110 (v2875 : BitVec 32) : Fin 2 → Nat :=
  let c109_i32_1549 : BitVec 32 := 109#32
  let c99872_i32_1548 : BitVec 32 := 99872#32
  let c0_i32_1547 : BitVec 32 := 0#32
  let c0_i32_1540 : BitVec 32 := 0#32
  let v2877 : BitVec 1 := Scalar.cmpi .sgt v2875 c0_i32_1540
  let v2878 : BitVec 32 := Scalar.extui v2877
  let c0_i32_1541 : BitVec 32 := 0#32
  let v2879 : BitVec 1 := Scalar.cmpi .slt v2875 c0_i32_1541
  let v2880 : BitVec 32 := Scalar.extui v2879
  let v2881 : BitVec 32 := Scalar.subi v2878 v2880
  let c128_i32_1539 : BitVec 32 := 128#32
  let c0_i32_1542 : BitVec 32 := 0#32
  let v2882 : BitVec 1 := Scalar.cmpi .sgt c128_i32_1539 c0_i32_1542
  let v2883 : BitVec 32 := Scalar.extui v2882
  let c0_i32_1543 : BitVec 32 := 0#32
  let v2884 : BitVec 1 := Scalar.cmpi .slt c128_i32_1539 c0_i32_1543
  let v2885 : BitVec 32 := Scalar.extui v2884
  let v2886 : BitVec 32 := Scalar.subi v2883 v2885
  let v2887 : BitVec 1 := Scalar.cmpi .ne v2881 v2886
  let v2888 : BitVec 32 := Scalar.remsi v2875 c128_i32_1539
  let c0_i32_1544 : BitVec 32 := 0#32
  let v2889 : BitVec 1 := Scalar.cmpi .ne v2888 c0_i32_1544
  let v2890 : BitVec 1 := Scalar.andi v2887 v2889
  let v2876 : BitVec 32 := Scalar.divsi v2875 c128_i32_1539
  let c1_i32_1545 : BitVec 32 := 1#32
  let v2891 : BitVec 32 := Scalar.subi v2876 c1_i32_1545
  let v2892 : BitVec 32 := Scalar.select v2890 v2891 v2876
  let c128_i32_1546 : BitVec 32 := 128#32
  let v2893 : BitVec 32 := Scalar.muli v2892 c128_i32_1546
  let v2894 : BitVec 32 := Scalar.maxsi c0_i32_1547 v2893
  let v2895 : BitVec 32 := Scalar.minsi c99872_i32_1548 v2894
  let v2896 : BitVec 32 := v2895
  ![109, v2896.toNat]

def k1_chk110 (v2875 : BitVec 32) : Prop :=
  (32 ∣ (k1_mult110 v2875).toNat) ∧
  (∀ a, (k1_off110 v2875) a + S1x128.size a ≤ S128x100000.size a)
theorem k1_mult110_dvd : ∀ (v2875 : BitVec 32) (k1_hw110 : k1_chk110 v2875), 32 ∣ (k1_mult110 v2875).toNat := fun v2875 k1_hw110 => k1_hw110.1
theorem k1_off110_inb : ∀ (v2875 : BitVec 32) (k1_hw110 : k1_chk110 v2875), ∀ a, (k1_off110 v2875) a + S1x128.size a ≤ S128x100000.size a := fun v2875 k1_hw110 => k1_hw110.2

def k1_mult111 (v2901 : BitVec 32) : BitVec 32 :=
  let c99872_i32_1562 : BitVec 32 := 99872#32
  let c0_i32_1561 : BitVec 32 := 0#32
  let c0_i32_1554 : BitVec 32 := 0#32
  let v2903 : BitVec 1 := Scalar.cmpi .sgt v2901 c0_i32_1554
  let v2904 : BitVec 32 := Scalar.extui v2903
  let c0_i32_1555 : BitVec 32 := 0#32
  let v2905 : BitVec 1 := Scalar.cmpi .slt v2901 c0_i32_1555
  let v2906 : BitVec 32 := Scalar.extui v2905
  let v2907 : BitVec 32 := Scalar.subi v2904 v2906
  let c128_i32_1553 : BitVec 32 := 128#32
  let c0_i32_1556 : BitVec 32 := 0#32
  let v2908 : BitVec 1 := Scalar.cmpi .sgt c128_i32_1553 c0_i32_1556
  let v2909 : BitVec 32 := Scalar.extui v2908
  let c0_i32_1557 : BitVec 32 := 0#32
  let v2910 : BitVec 1 := Scalar.cmpi .slt c128_i32_1553 c0_i32_1557
  let v2911 : BitVec 32 := Scalar.extui v2910
  let v2912 : BitVec 32 := Scalar.subi v2909 v2911
  let v2913 : BitVec 1 := Scalar.cmpi .ne v2907 v2912
  let v2914 : BitVec 32 := Scalar.remsi v2901 c128_i32_1553
  let c0_i32_1558 : BitVec 32 := 0#32
  let v2915 : BitVec 1 := Scalar.cmpi .ne v2914 c0_i32_1558
  let v2916 : BitVec 1 := Scalar.andi v2913 v2915
  let v2902 : BitVec 32 := Scalar.divsi v2901 c128_i32_1553
  let c1_i32_1559 : BitVec 32 := 1#32
  let v2917 : BitVec 32 := Scalar.subi v2902 c1_i32_1559
  let v2918 : BitVec 32 := Scalar.select v2916 v2917 v2902
  let c128_i32_1560 : BitVec 32 := 128#32
  let v2919 : BitVec 32 := Scalar.muli v2918 c128_i32_1560
  let v2920 : BitVec 32 := Scalar.maxsi c0_i32_1561 v2919
  let v2921 : BitVec 32 := Scalar.minsi c99872_i32_1562 v2920
  v2921

def k1_off111 (v2901 : BitVec 32) : Fin 2 → Nat :=
  let c110_i32_1563 : BitVec 32 := 110#32
  let c99872_i32_1562 : BitVec 32 := 99872#32
  let c0_i32_1561 : BitVec 32 := 0#32
  let c0_i32_1554 : BitVec 32 := 0#32
  let v2903 : BitVec 1 := Scalar.cmpi .sgt v2901 c0_i32_1554
  let v2904 : BitVec 32 := Scalar.extui v2903
  let c0_i32_1555 : BitVec 32 := 0#32
  let v2905 : BitVec 1 := Scalar.cmpi .slt v2901 c0_i32_1555
  let v2906 : BitVec 32 := Scalar.extui v2905
  let v2907 : BitVec 32 := Scalar.subi v2904 v2906
  let c128_i32_1553 : BitVec 32 := 128#32
  let c0_i32_1556 : BitVec 32 := 0#32
  let v2908 : BitVec 1 := Scalar.cmpi .sgt c128_i32_1553 c0_i32_1556
  let v2909 : BitVec 32 := Scalar.extui v2908
  let c0_i32_1557 : BitVec 32 := 0#32
  let v2910 : BitVec 1 := Scalar.cmpi .slt c128_i32_1553 c0_i32_1557
  let v2911 : BitVec 32 := Scalar.extui v2910
  let v2912 : BitVec 32 := Scalar.subi v2909 v2911
  let v2913 : BitVec 1 := Scalar.cmpi .ne v2907 v2912
  let v2914 : BitVec 32 := Scalar.remsi v2901 c128_i32_1553
  let c0_i32_1558 : BitVec 32 := 0#32
  let v2915 : BitVec 1 := Scalar.cmpi .ne v2914 c0_i32_1558
  let v2916 : BitVec 1 := Scalar.andi v2913 v2915
  let v2902 : BitVec 32 := Scalar.divsi v2901 c128_i32_1553
  let c1_i32_1559 : BitVec 32 := 1#32
  let v2917 : BitVec 32 := Scalar.subi v2902 c1_i32_1559
  let v2918 : BitVec 32 := Scalar.select v2916 v2917 v2902
  let c128_i32_1560 : BitVec 32 := 128#32
  let v2919 : BitVec 32 := Scalar.muli v2918 c128_i32_1560
  let v2920 : BitVec 32 := Scalar.maxsi c0_i32_1561 v2919
  let v2921 : BitVec 32 := Scalar.minsi c99872_i32_1562 v2920
  let v2922 : BitVec 32 := v2921
  ![110, v2922.toNat]

def k1_chk111 (v2901 : BitVec 32) : Prop :=
  (32 ∣ (k1_mult111 v2901).toNat) ∧
  (∀ a, (k1_off111 v2901) a + S1x128.size a ≤ S128x100000.size a)
theorem k1_mult111_dvd : ∀ (v2901 : BitVec 32) (k1_hw111 : k1_chk111 v2901), 32 ∣ (k1_mult111 v2901).toNat := fun v2901 k1_hw111 => k1_hw111.1
theorem k1_off111_inb : ∀ (v2901 : BitVec 32) (k1_hw111 : k1_chk111 v2901), ∀ a, (k1_off111 v2901) a + S1x128.size a ≤ S128x100000.size a := fun v2901 k1_hw111 => k1_hw111.2

def k1_mult112 (v2927 : BitVec 32) : BitVec 32 :=
  let c99872_i32_1576 : BitVec 32 := 99872#32
  let c0_i32_1575 : BitVec 32 := 0#32
  let c0_i32_1568 : BitVec 32 := 0#32
  let v2929 : BitVec 1 := Scalar.cmpi .sgt v2927 c0_i32_1568
  let v2930 : BitVec 32 := Scalar.extui v2929
  let c0_i32_1569 : BitVec 32 := 0#32
  let v2931 : BitVec 1 := Scalar.cmpi .slt v2927 c0_i32_1569
  let v2932 : BitVec 32 := Scalar.extui v2931
  let v2933 : BitVec 32 := Scalar.subi v2930 v2932
  let c128_i32_1567 : BitVec 32 := 128#32
  let c0_i32_1570 : BitVec 32 := 0#32
  let v2934 : BitVec 1 := Scalar.cmpi .sgt c128_i32_1567 c0_i32_1570
  let v2935 : BitVec 32 := Scalar.extui v2934
  let c0_i32_1571 : BitVec 32 := 0#32
  let v2936 : BitVec 1 := Scalar.cmpi .slt c128_i32_1567 c0_i32_1571
  let v2937 : BitVec 32 := Scalar.extui v2936
  let v2938 : BitVec 32 := Scalar.subi v2935 v2937
  let v2939 : BitVec 1 := Scalar.cmpi .ne v2933 v2938
  let v2940 : BitVec 32 := Scalar.remsi v2927 c128_i32_1567
  let c0_i32_1572 : BitVec 32 := 0#32
  let v2941 : BitVec 1 := Scalar.cmpi .ne v2940 c0_i32_1572
  let v2942 : BitVec 1 := Scalar.andi v2939 v2941
  let v2928 : BitVec 32 := Scalar.divsi v2927 c128_i32_1567
  let c1_i32_1573 : BitVec 32 := 1#32
  let v2943 : BitVec 32 := Scalar.subi v2928 c1_i32_1573
  let v2944 : BitVec 32 := Scalar.select v2942 v2943 v2928
  let c128_i32_1574 : BitVec 32 := 128#32
  let v2945 : BitVec 32 := Scalar.muli v2944 c128_i32_1574
  let v2946 : BitVec 32 := Scalar.maxsi c0_i32_1575 v2945
  let v2947 : BitVec 32 := Scalar.minsi c99872_i32_1576 v2946
  v2947

def k1_off112 (v2927 : BitVec 32) : Fin 2 → Nat :=
  let c111_i32_1577 : BitVec 32 := 111#32
  let c99872_i32_1576 : BitVec 32 := 99872#32
  let c0_i32_1575 : BitVec 32 := 0#32
  let c0_i32_1568 : BitVec 32 := 0#32
  let v2929 : BitVec 1 := Scalar.cmpi .sgt v2927 c0_i32_1568
  let v2930 : BitVec 32 := Scalar.extui v2929
  let c0_i32_1569 : BitVec 32 := 0#32
  let v2931 : BitVec 1 := Scalar.cmpi .slt v2927 c0_i32_1569
  let v2932 : BitVec 32 := Scalar.extui v2931
  let v2933 : BitVec 32 := Scalar.subi v2930 v2932
  let c128_i32_1567 : BitVec 32 := 128#32
  let c0_i32_1570 : BitVec 32 := 0#32
  let v2934 : BitVec 1 := Scalar.cmpi .sgt c128_i32_1567 c0_i32_1570
  let v2935 : BitVec 32 := Scalar.extui v2934
  let c0_i32_1571 : BitVec 32 := 0#32
  let v2936 : BitVec 1 := Scalar.cmpi .slt c128_i32_1567 c0_i32_1571
  let v2937 : BitVec 32 := Scalar.extui v2936
  let v2938 : BitVec 32 := Scalar.subi v2935 v2937
  let v2939 : BitVec 1 := Scalar.cmpi .ne v2933 v2938
  let v2940 : BitVec 32 := Scalar.remsi v2927 c128_i32_1567
  let c0_i32_1572 : BitVec 32 := 0#32
  let v2941 : BitVec 1 := Scalar.cmpi .ne v2940 c0_i32_1572
  let v2942 : BitVec 1 := Scalar.andi v2939 v2941
  let v2928 : BitVec 32 := Scalar.divsi v2927 c128_i32_1567
  let c1_i32_1573 : BitVec 32 := 1#32
  let v2943 : BitVec 32 := Scalar.subi v2928 c1_i32_1573
  let v2944 : BitVec 32 := Scalar.select v2942 v2943 v2928
  let c128_i32_1574 : BitVec 32 := 128#32
  let v2945 : BitVec 32 := Scalar.muli v2944 c128_i32_1574
  let v2946 : BitVec 32 := Scalar.maxsi c0_i32_1575 v2945
  let v2947 : BitVec 32 := Scalar.minsi c99872_i32_1576 v2946
  let v2948 : BitVec 32 := v2947
  ![111, v2948.toNat]

def k1_chk112 (v2927 : BitVec 32) : Prop :=
  (32 ∣ (k1_mult112 v2927).toNat) ∧
  (∀ a, (k1_off112 v2927) a + S1x128.size a ≤ S128x100000.size a)
theorem k1_mult112_dvd : ∀ (v2927 : BitVec 32) (k1_hw112 : k1_chk112 v2927), 32 ∣ (k1_mult112 v2927).toNat := fun v2927 k1_hw112 => k1_hw112.1
theorem k1_off112_inb : ∀ (v2927 : BitVec 32) (k1_hw112 : k1_chk112 v2927), ∀ a, (k1_off112 v2927) a + S1x128.size a ≤ S128x100000.size a := fun v2927 k1_hw112 => k1_hw112.2

def k1_mult113 (v2953 : BitVec 32) : BitVec 32 :=
  let c99872_i32_1590 : BitVec 32 := 99872#32
  let c0_i32_1589 : BitVec 32 := 0#32
  let c0_i32_1582 : BitVec 32 := 0#32
  let v2955 : BitVec 1 := Scalar.cmpi .sgt v2953 c0_i32_1582
  let v2956 : BitVec 32 := Scalar.extui v2955
  let c0_i32_1583 : BitVec 32 := 0#32
  let v2957 : BitVec 1 := Scalar.cmpi .slt v2953 c0_i32_1583
  let v2958 : BitVec 32 := Scalar.extui v2957
  let v2959 : BitVec 32 := Scalar.subi v2956 v2958
  let c128_i32_1581 : BitVec 32 := 128#32
  let c0_i32_1584 : BitVec 32 := 0#32
  let v2960 : BitVec 1 := Scalar.cmpi .sgt c128_i32_1581 c0_i32_1584
  let v2961 : BitVec 32 := Scalar.extui v2960
  let c0_i32_1585 : BitVec 32 := 0#32
  let v2962 : BitVec 1 := Scalar.cmpi .slt c128_i32_1581 c0_i32_1585
  let v2963 : BitVec 32 := Scalar.extui v2962
  let v2964 : BitVec 32 := Scalar.subi v2961 v2963
  let v2965 : BitVec 1 := Scalar.cmpi .ne v2959 v2964
  let v2966 : BitVec 32 := Scalar.remsi v2953 c128_i32_1581
  let c0_i32_1586 : BitVec 32 := 0#32
  let v2967 : BitVec 1 := Scalar.cmpi .ne v2966 c0_i32_1586
  let v2968 : BitVec 1 := Scalar.andi v2965 v2967
  let v2954 : BitVec 32 := Scalar.divsi v2953 c128_i32_1581
  let c1_i32_1587 : BitVec 32 := 1#32
  let v2969 : BitVec 32 := Scalar.subi v2954 c1_i32_1587
  let v2970 : BitVec 32 := Scalar.select v2968 v2969 v2954
  let c128_i32_1588 : BitVec 32 := 128#32
  let v2971 : BitVec 32 := Scalar.muli v2970 c128_i32_1588
  let v2972 : BitVec 32 := Scalar.maxsi c0_i32_1589 v2971
  let v2973 : BitVec 32 := Scalar.minsi c99872_i32_1590 v2972
  v2973

def k1_off113 (v2953 : BitVec 32) : Fin 2 → Nat :=
  let c112_i32_1591 : BitVec 32 := 112#32
  let c99872_i32_1590 : BitVec 32 := 99872#32
  let c0_i32_1589 : BitVec 32 := 0#32
  let c0_i32_1582 : BitVec 32 := 0#32
  let v2955 : BitVec 1 := Scalar.cmpi .sgt v2953 c0_i32_1582
  let v2956 : BitVec 32 := Scalar.extui v2955
  let c0_i32_1583 : BitVec 32 := 0#32
  let v2957 : BitVec 1 := Scalar.cmpi .slt v2953 c0_i32_1583
  let v2958 : BitVec 32 := Scalar.extui v2957
  let v2959 : BitVec 32 := Scalar.subi v2956 v2958
  let c128_i32_1581 : BitVec 32 := 128#32
  let c0_i32_1584 : BitVec 32 := 0#32
  let v2960 : BitVec 1 := Scalar.cmpi .sgt c128_i32_1581 c0_i32_1584
  let v2961 : BitVec 32 := Scalar.extui v2960
  let c0_i32_1585 : BitVec 32 := 0#32
  let v2962 : BitVec 1 := Scalar.cmpi .slt c128_i32_1581 c0_i32_1585
  let v2963 : BitVec 32 := Scalar.extui v2962
  let v2964 : BitVec 32 := Scalar.subi v2961 v2963
  let v2965 : BitVec 1 := Scalar.cmpi .ne v2959 v2964
  let v2966 : BitVec 32 := Scalar.remsi v2953 c128_i32_1581
  let c0_i32_1586 : BitVec 32 := 0#32
  let v2967 : BitVec 1 := Scalar.cmpi .ne v2966 c0_i32_1586
  let v2968 : BitVec 1 := Scalar.andi v2965 v2967
  let v2954 : BitVec 32 := Scalar.divsi v2953 c128_i32_1581
  let c1_i32_1587 : BitVec 32 := 1#32
  let v2969 : BitVec 32 := Scalar.subi v2954 c1_i32_1587
  let v2970 : BitVec 32 := Scalar.select v2968 v2969 v2954
  let c128_i32_1588 : BitVec 32 := 128#32
  let v2971 : BitVec 32 := Scalar.muli v2970 c128_i32_1588
  let v2972 : BitVec 32 := Scalar.maxsi c0_i32_1589 v2971
  let v2973 : BitVec 32 := Scalar.minsi c99872_i32_1590 v2972
  let v2974 : BitVec 32 := v2973
  ![112, v2974.toNat]

def k1_chk113 (v2953 : BitVec 32) : Prop :=
  (32 ∣ (k1_mult113 v2953).toNat) ∧
  (∀ a, (k1_off113 v2953) a + S1x128.size a ≤ S128x100000.size a)
theorem k1_mult113_dvd : ∀ (v2953 : BitVec 32) (k1_hw113 : k1_chk113 v2953), 32 ∣ (k1_mult113 v2953).toNat := fun v2953 k1_hw113 => k1_hw113.1
theorem k1_off113_inb : ∀ (v2953 : BitVec 32) (k1_hw113 : k1_chk113 v2953), ∀ a, (k1_off113 v2953) a + S1x128.size a ≤ S128x100000.size a := fun v2953 k1_hw113 => k1_hw113.2

def k1_mult114 (v2979 : BitVec 32) : BitVec 32 :=
  let c99872_i32_1604 : BitVec 32 := 99872#32
  let c0_i32_1603 : BitVec 32 := 0#32
  let c0_i32_1596 : BitVec 32 := 0#32
  let v2981 : BitVec 1 := Scalar.cmpi .sgt v2979 c0_i32_1596
  let v2982 : BitVec 32 := Scalar.extui v2981
  let c0_i32_1597 : BitVec 32 := 0#32
  let v2983 : BitVec 1 := Scalar.cmpi .slt v2979 c0_i32_1597
  let v2984 : BitVec 32 := Scalar.extui v2983
  let v2985 : BitVec 32 := Scalar.subi v2982 v2984
  let c128_i32_1595 : BitVec 32 := 128#32
  let c0_i32_1598 : BitVec 32 := 0#32
  let v2986 : BitVec 1 := Scalar.cmpi .sgt c128_i32_1595 c0_i32_1598
  let v2987 : BitVec 32 := Scalar.extui v2986
  let c0_i32_1599 : BitVec 32 := 0#32
  let v2988 : BitVec 1 := Scalar.cmpi .slt c128_i32_1595 c0_i32_1599
  let v2989 : BitVec 32 := Scalar.extui v2988
  let v2990 : BitVec 32 := Scalar.subi v2987 v2989
  let v2991 : BitVec 1 := Scalar.cmpi .ne v2985 v2990
  let v2992 : BitVec 32 := Scalar.remsi v2979 c128_i32_1595
  let c0_i32_1600 : BitVec 32 := 0#32
  let v2993 : BitVec 1 := Scalar.cmpi .ne v2992 c0_i32_1600
  let v2994 : BitVec 1 := Scalar.andi v2991 v2993
  let v2980 : BitVec 32 := Scalar.divsi v2979 c128_i32_1595
  let c1_i32_1601 : BitVec 32 := 1#32
  let v2995 : BitVec 32 := Scalar.subi v2980 c1_i32_1601
  let v2996 : BitVec 32 := Scalar.select v2994 v2995 v2980
  let c128_i32_1602 : BitVec 32 := 128#32
  let v2997 : BitVec 32 := Scalar.muli v2996 c128_i32_1602
  let v2998 : BitVec 32 := Scalar.maxsi c0_i32_1603 v2997
  let v2999 : BitVec 32 := Scalar.minsi c99872_i32_1604 v2998
  v2999

def k1_off114 (v2979 : BitVec 32) : Fin 2 → Nat :=
  let c113_i32_1605 : BitVec 32 := 113#32
  let c99872_i32_1604 : BitVec 32 := 99872#32
  let c0_i32_1603 : BitVec 32 := 0#32
  let c0_i32_1596 : BitVec 32 := 0#32
  let v2981 : BitVec 1 := Scalar.cmpi .sgt v2979 c0_i32_1596
  let v2982 : BitVec 32 := Scalar.extui v2981
  let c0_i32_1597 : BitVec 32 := 0#32
  let v2983 : BitVec 1 := Scalar.cmpi .slt v2979 c0_i32_1597
  let v2984 : BitVec 32 := Scalar.extui v2983
  let v2985 : BitVec 32 := Scalar.subi v2982 v2984
  let c128_i32_1595 : BitVec 32 := 128#32
  let c0_i32_1598 : BitVec 32 := 0#32
  let v2986 : BitVec 1 := Scalar.cmpi .sgt c128_i32_1595 c0_i32_1598
  let v2987 : BitVec 32 := Scalar.extui v2986
  let c0_i32_1599 : BitVec 32 := 0#32
  let v2988 : BitVec 1 := Scalar.cmpi .slt c128_i32_1595 c0_i32_1599
  let v2989 : BitVec 32 := Scalar.extui v2988
  let v2990 : BitVec 32 := Scalar.subi v2987 v2989
  let v2991 : BitVec 1 := Scalar.cmpi .ne v2985 v2990
  let v2992 : BitVec 32 := Scalar.remsi v2979 c128_i32_1595
  let c0_i32_1600 : BitVec 32 := 0#32
  let v2993 : BitVec 1 := Scalar.cmpi .ne v2992 c0_i32_1600
  let v2994 : BitVec 1 := Scalar.andi v2991 v2993
  let v2980 : BitVec 32 := Scalar.divsi v2979 c128_i32_1595
  let c1_i32_1601 : BitVec 32 := 1#32
  let v2995 : BitVec 32 := Scalar.subi v2980 c1_i32_1601
  let v2996 : BitVec 32 := Scalar.select v2994 v2995 v2980
  let c128_i32_1602 : BitVec 32 := 128#32
  let v2997 : BitVec 32 := Scalar.muli v2996 c128_i32_1602
  let v2998 : BitVec 32 := Scalar.maxsi c0_i32_1603 v2997
  let v2999 : BitVec 32 := Scalar.minsi c99872_i32_1604 v2998
  let v3000 : BitVec 32 := v2999
  ![113, v3000.toNat]

def k1_chk114 (v2979 : BitVec 32) : Prop :=
  (32 ∣ (k1_mult114 v2979).toNat) ∧
  (∀ a, (k1_off114 v2979) a + S1x128.size a ≤ S128x100000.size a)
theorem k1_mult114_dvd : ∀ (v2979 : BitVec 32) (k1_hw114 : k1_chk114 v2979), 32 ∣ (k1_mult114 v2979).toNat := fun v2979 k1_hw114 => k1_hw114.1
theorem k1_off114_inb : ∀ (v2979 : BitVec 32) (k1_hw114 : k1_chk114 v2979), ∀ a, (k1_off114 v2979) a + S1x128.size a ≤ S128x100000.size a := fun v2979 k1_hw114 => k1_hw114.2

def k1_mult115 (v3005 : BitVec 32) : BitVec 32 :=
  let c99872_i32_1618 : BitVec 32 := 99872#32
  let c0_i32_1617 : BitVec 32 := 0#32
  let c0_i32_1610 : BitVec 32 := 0#32
  let v3007 : BitVec 1 := Scalar.cmpi .sgt v3005 c0_i32_1610
  let v3008 : BitVec 32 := Scalar.extui v3007
  let c0_i32_1611 : BitVec 32 := 0#32
  let v3009 : BitVec 1 := Scalar.cmpi .slt v3005 c0_i32_1611
  let v3010 : BitVec 32 := Scalar.extui v3009
  let v3011 : BitVec 32 := Scalar.subi v3008 v3010
  let c128_i32_1609 : BitVec 32 := 128#32
  let c0_i32_1612 : BitVec 32 := 0#32
  let v3012 : BitVec 1 := Scalar.cmpi .sgt c128_i32_1609 c0_i32_1612
  let v3013 : BitVec 32 := Scalar.extui v3012
  let c0_i32_1613 : BitVec 32 := 0#32
  let v3014 : BitVec 1 := Scalar.cmpi .slt c128_i32_1609 c0_i32_1613
  let v3015 : BitVec 32 := Scalar.extui v3014
  let v3016 : BitVec 32 := Scalar.subi v3013 v3015
  let v3017 : BitVec 1 := Scalar.cmpi .ne v3011 v3016
  let v3018 : BitVec 32 := Scalar.remsi v3005 c128_i32_1609
  let c0_i32_1614 : BitVec 32 := 0#32
  let v3019 : BitVec 1 := Scalar.cmpi .ne v3018 c0_i32_1614
  let v3020 : BitVec 1 := Scalar.andi v3017 v3019
  let v3006 : BitVec 32 := Scalar.divsi v3005 c128_i32_1609
  let c1_i32_1615 : BitVec 32 := 1#32
  let v3021 : BitVec 32 := Scalar.subi v3006 c1_i32_1615
  let v3022 : BitVec 32 := Scalar.select v3020 v3021 v3006
  let c128_i32_1616 : BitVec 32 := 128#32
  let v3023 : BitVec 32 := Scalar.muli v3022 c128_i32_1616
  let v3024 : BitVec 32 := Scalar.maxsi c0_i32_1617 v3023
  let v3025 : BitVec 32 := Scalar.minsi c99872_i32_1618 v3024
  v3025

def k1_off115 (v3005 : BitVec 32) : Fin 2 → Nat :=
  let c114_i32_1619 : BitVec 32 := 114#32
  let c99872_i32_1618 : BitVec 32 := 99872#32
  let c0_i32_1617 : BitVec 32 := 0#32
  let c0_i32_1610 : BitVec 32 := 0#32
  let v3007 : BitVec 1 := Scalar.cmpi .sgt v3005 c0_i32_1610
  let v3008 : BitVec 32 := Scalar.extui v3007
  let c0_i32_1611 : BitVec 32 := 0#32
  let v3009 : BitVec 1 := Scalar.cmpi .slt v3005 c0_i32_1611
  let v3010 : BitVec 32 := Scalar.extui v3009
  let v3011 : BitVec 32 := Scalar.subi v3008 v3010
  let c128_i32_1609 : BitVec 32 := 128#32
  let c0_i32_1612 : BitVec 32 := 0#32
  let v3012 : BitVec 1 := Scalar.cmpi .sgt c128_i32_1609 c0_i32_1612
  let v3013 : BitVec 32 := Scalar.extui v3012
  let c0_i32_1613 : BitVec 32 := 0#32
  let v3014 : BitVec 1 := Scalar.cmpi .slt c128_i32_1609 c0_i32_1613
  let v3015 : BitVec 32 := Scalar.extui v3014
  let v3016 : BitVec 32 := Scalar.subi v3013 v3015
  let v3017 : BitVec 1 := Scalar.cmpi .ne v3011 v3016
  let v3018 : BitVec 32 := Scalar.remsi v3005 c128_i32_1609
  let c0_i32_1614 : BitVec 32 := 0#32
  let v3019 : BitVec 1 := Scalar.cmpi .ne v3018 c0_i32_1614
  let v3020 : BitVec 1 := Scalar.andi v3017 v3019
  let v3006 : BitVec 32 := Scalar.divsi v3005 c128_i32_1609
  let c1_i32_1615 : BitVec 32 := 1#32
  let v3021 : BitVec 32 := Scalar.subi v3006 c1_i32_1615
  let v3022 : BitVec 32 := Scalar.select v3020 v3021 v3006
  let c128_i32_1616 : BitVec 32 := 128#32
  let v3023 : BitVec 32 := Scalar.muli v3022 c128_i32_1616
  let v3024 : BitVec 32 := Scalar.maxsi c0_i32_1617 v3023
  let v3025 : BitVec 32 := Scalar.minsi c99872_i32_1618 v3024
  let v3026 : BitVec 32 := v3025
  ![114, v3026.toNat]

def k1_chk115 (v3005 : BitVec 32) : Prop :=
  (32 ∣ (k1_mult115 v3005).toNat) ∧
  (∀ a, (k1_off115 v3005) a + S1x128.size a ≤ S128x100000.size a)
theorem k1_mult115_dvd : ∀ (v3005 : BitVec 32) (k1_hw115 : k1_chk115 v3005), 32 ∣ (k1_mult115 v3005).toNat := fun v3005 k1_hw115 => k1_hw115.1
theorem k1_off115_inb : ∀ (v3005 : BitVec 32) (k1_hw115 : k1_chk115 v3005), ∀ a, (k1_off115 v3005) a + S1x128.size a ≤ S128x100000.size a := fun v3005 k1_hw115 => k1_hw115.2

def k1_mult116 (v3031 : BitVec 32) : BitVec 32 :=
  let c99872_i32_1632 : BitVec 32 := 99872#32
  let c0_i32_1631 : BitVec 32 := 0#32
  let c0_i32_1624 : BitVec 32 := 0#32
  let v3033 : BitVec 1 := Scalar.cmpi .sgt v3031 c0_i32_1624
  let v3034 : BitVec 32 := Scalar.extui v3033
  let c0_i32_1625 : BitVec 32 := 0#32
  let v3035 : BitVec 1 := Scalar.cmpi .slt v3031 c0_i32_1625
  let v3036 : BitVec 32 := Scalar.extui v3035
  let v3037 : BitVec 32 := Scalar.subi v3034 v3036
  let c128_i32_1623 : BitVec 32 := 128#32
  let c0_i32_1626 : BitVec 32 := 0#32
  let v3038 : BitVec 1 := Scalar.cmpi .sgt c128_i32_1623 c0_i32_1626
  let v3039 : BitVec 32 := Scalar.extui v3038
  let c0_i32_1627 : BitVec 32 := 0#32
  let v3040 : BitVec 1 := Scalar.cmpi .slt c128_i32_1623 c0_i32_1627
  let v3041 : BitVec 32 := Scalar.extui v3040
  let v3042 : BitVec 32 := Scalar.subi v3039 v3041
  let v3043 : BitVec 1 := Scalar.cmpi .ne v3037 v3042
  let v3044 : BitVec 32 := Scalar.remsi v3031 c128_i32_1623
  let c0_i32_1628 : BitVec 32 := 0#32
  let v3045 : BitVec 1 := Scalar.cmpi .ne v3044 c0_i32_1628
  let v3046 : BitVec 1 := Scalar.andi v3043 v3045
  let v3032 : BitVec 32 := Scalar.divsi v3031 c128_i32_1623
  let c1_i32_1629 : BitVec 32 := 1#32
  let v3047 : BitVec 32 := Scalar.subi v3032 c1_i32_1629
  let v3048 : BitVec 32 := Scalar.select v3046 v3047 v3032
  let c128_i32_1630 : BitVec 32 := 128#32
  let v3049 : BitVec 32 := Scalar.muli v3048 c128_i32_1630
  let v3050 : BitVec 32 := Scalar.maxsi c0_i32_1631 v3049
  let v3051 : BitVec 32 := Scalar.minsi c99872_i32_1632 v3050
  v3051

def k1_off116 (v3031 : BitVec 32) : Fin 2 → Nat :=
  let c115_i32_1633 : BitVec 32 := 115#32
  let c99872_i32_1632 : BitVec 32 := 99872#32
  let c0_i32_1631 : BitVec 32 := 0#32
  let c0_i32_1624 : BitVec 32 := 0#32
  let v3033 : BitVec 1 := Scalar.cmpi .sgt v3031 c0_i32_1624
  let v3034 : BitVec 32 := Scalar.extui v3033
  let c0_i32_1625 : BitVec 32 := 0#32
  let v3035 : BitVec 1 := Scalar.cmpi .slt v3031 c0_i32_1625
  let v3036 : BitVec 32 := Scalar.extui v3035
  let v3037 : BitVec 32 := Scalar.subi v3034 v3036
  let c128_i32_1623 : BitVec 32 := 128#32
  let c0_i32_1626 : BitVec 32 := 0#32
  let v3038 : BitVec 1 := Scalar.cmpi .sgt c128_i32_1623 c0_i32_1626
  let v3039 : BitVec 32 := Scalar.extui v3038
  let c0_i32_1627 : BitVec 32 := 0#32
  let v3040 : BitVec 1 := Scalar.cmpi .slt c128_i32_1623 c0_i32_1627
  let v3041 : BitVec 32 := Scalar.extui v3040
  let v3042 : BitVec 32 := Scalar.subi v3039 v3041
  let v3043 : BitVec 1 := Scalar.cmpi .ne v3037 v3042
  let v3044 : BitVec 32 := Scalar.remsi v3031 c128_i32_1623
  let c0_i32_1628 : BitVec 32 := 0#32
  let v3045 : BitVec 1 := Scalar.cmpi .ne v3044 c0_i32_1628
  let v3046 : BitVec 1 := Scalar.andi v3043 v3045
  let v3032 : BitVec 32 := Scalar.divsi v3031 c128_i32_1623
  let c1_i32_1629 : BitVec 32 := 1#32
  let v3047 : BitVec 32 := Scalar.subi v3032 c1_i32_1629
  let v3048 : BitVec 32 := Scalar.select v3046 v3047 v3032
  let c128_i32_1630 : BitVec 32 := 128#32
  let v3049 : BitVec 32 := Scalar.muli v3048 c128_i32_1630
  let v3050 : BitVec 32 := Scalar.maxsi c0_i32_1631 v3049
  let v3051 : BitVec 32 := Scalar.minsi c99872_i32_1632 v3050
  let v3052 : BitVec 32 := v3051
  ![115, v3052.toNat]

def k1_chk116 (v3031 : BitVec 32) : Prop :=
  (32 ∣ (k1_mult116 v3031).toNat) ∧
  (∀ a, (k1_off116 v3031) a + S1x128.size a ≤ S128x100000.size a)
theorem k1_mult116_dvd : ∀ (v3031 : BitVec 32) (k1_hw116 : k1_chk116 v3031), 32 ∣ (k1_mult116 v3031).toNat := fun v3031 k1_hw116 => k1_hw116.1
theorem k1_off116_inb : ∀ (v3031 : BitVec 32) (k1_hw116 : k1_chk116 v3031), ∀ a, (k1_off116 v3031) a + S1x128.size a ≤ S128x100000.size a := fun v3031 k1_hw116 => k1_hw116.2

def k1_mult117 (v3057 : BitVec 32) : BitVec 32 :=
  let c99872_i32_1646 : BitVec 32 := 99872#32
  let c0_i32_1645 : BitVec 32 := 0#32
  let c0_i32_1638 : BitVec 32 := 0#32
  let v3059 : BitVec 1 := Scalar.cmpi .sgt v3057 c0_i32_1638
  let v3060 : BitVec 32 := Scalar.extui v3059
  let c0_i32_1639 : BitVec 32 := 0#32
  let v3061 : BitVec 1 := Scalar.cmpi .slt v3057 c0_i32_1639
  let v3062 : BitVec 32 := Scalar.extui v3061
  let v3063 : BitVec 32 := Scalar.subi v3060 v3062
  let c128_i32_1637 : BitVec 32 := 128#32
  let c0_i32_1640 : BitVec 32 := 0#32
  let v3064 : BitVec 1 := Scalar.cmpi .sgt c128_i32_1637 c0_i32_1640
  let v3065 : BitVec 32 := Scalar.extui v3064
  let c0_i32_1641 : BitVec 32 := 0#32
  let v3066 : BitVec 1 := Scalar.cmpi .slt c128_i32_1637 c0_i32_1641
  let v3067 : BitVec 32 := Scalar.extui v3066
  let v3068 : BitVec 32 := Scalar.subi v3065 v3067
  let v3069 : BitVec 1 := Scalar.cmpi .ne v3063 v3068
  let v3070 : BitVec 32 := Scalar.remsi v3057 c128_i32_1637
  let c0_i32_1642 : BitVec 32 := 0#32
  let v3071 : BitVec 1 := Scalar.cmpi .ne v3070 c0_i32_1642
  let v3072 : BitVec 1 := Scalar.andi v3069 v3071
  let v3058 : BitVec 32 := Scalar.divsi v3057 c128_i32_1637
  let c1_i32_1643 : BitVec 32 := 1#32
  let v3073 : BitVec 32 := Scalar.subi v3058 c1_i32_1643
  let v3074 : BitVec 32 := Scalar.select v3072 v3073 v3058
  let c128_i32_1644 : BitVec 32 := 128#32
  let v3075 : BitVec 32 := Scalar.muli v3074 c128_i32_1644
  let v3076 : BitVec 32 := Scalar.maxsi c0_i32_1645 v3075
  let v3077 : BitVec 32 := Scalar.minsi c99872_i32_1646 v3076
  v3077

def k1_off117 (v3057 : BitVec 32) : Fin 2 → Nat :=
  let c116_i32_1647 : BitVec 32 := 116#32
  let c99872_i32_1646 : BitVec 32 := 99872#32
  let c0_i32_1645 : BitVec 32 := 0#32
  let c0_i32_1638 : BitVec 32 := 0#32
  let v3059 : BitVec 1 := Scalar.cmpi .sgt v3057 c0_i32_1638
  let v3060 : BitVec 32 := Scalar.extui v3059
  let c0_i32_1639 : BitVec 32 := 0#32
  let v3061 : BitVec 1 := Scalar.cmpi .slt v3057 c0_i32_1639
  let v3062 : BitVec 32 := Scalar.extui v3061
  let v3063 : BitVec 32 := Scalar.subi v3060 v3062
  let c128_i32_1637 : BitVec 32 := 128#32
  let c0_i32_1640 : BitVec 32 := 0#32
  let v3064 : BitVec 1 := Scalar.cmpi .sgt c128_i32_1637 c0_i32_1640
  let v3065 : BitVec 32 := Scalar.extui v3064
  let c0_i32_1641 : BitVec 32 := 0#32
  let v3066 : BitVec 1 := Scalar.cmpi .slt c128_i32_1637 c0_i32_1641
  let v3067 : BitVec 32 := Scalar.extui v3066
  let v3068 : BitVec 32 := Scalar.subi v3065 v3067
  let v3069 : BitVec 1 := Scalar.cmpi .ne v3063 v3068
  let v3070 : BitVec 32 := Scalar.remsi v3057 c128_i32_1637
  let c0_i32_1642 : BitVec 32 := 0#32
  let v3071 : BitVec 1 := Scalar.cmpi .ne v3070 c0_i32_1642
  let v3072 : BitVec 1 := Scalar.andi v3069 v3071
  let v3058 : BitVec 32 := Scalar.divsi v3057 c128_i32_1637
  let c1_i32_1643 : BitVec 32 := 1#32
  let v3073 : BitVec 32 := Scalar.subi v3058 c1_i32_1643
  let v3074 : BitVec 32 := Scalar.select v3072 v3073 v3058
  let c128_i32_1644 : BitVec 32 := 128#32
  let v3075 : BitVec 32 := Scalar.muli v3074 c128_i32_1644
  let v3076 : BitVec 32 := Scalar.maxsi c0_i32_1645 v3075
  let v3077 : BitVec 32 := Scalar.minsi c99872_i32_1646 v3076
  let v3078 : BitVec 32 := v3077
  ![116, v3078.toNat]

def k1_chk117 (v3057 : BitVec 32) : Prop :=
  (32 ∣ (k1_mult117 v3057).toNat) ∧
  (∀ a, (k1_off117 v3057) a + S1x128.size a ≤ S128x100000.size a)
theorem k1_mult117_dvd : ∀ (v3057 : BitVec 32) (k1_hw117 : k1_chk117 v3057), 32 ∣ (k1_mult117 v3057).toNat := fun v3057 k1_hw117 => k1_hw117.1
theorem k1_off117_inb : ∀ (v3057 : BitVec 32) (k1_hw117 : k1_chk117 v3057), ∀ a, (k1_off117 v3057) a + S1x128.size a ≤ S128x100000.size a := fun v3057 k1_hw117 => k1_hw117.2

def k1_mult118 (v3083 : BitVec 32) : BitVec 32 :=
  let c99872_i32_1660 : BitVec 32 := 99872#32
  let c0_i32_1659 : BitVec 32 := 0#32
  let c0_i32_1652 : BitVec 32 := 0#32
  let v3085 : BitVec 1 := Scalar.cmpi .sgt v3083 c0_i32_1652
  let v3086 : BitVec 32 := Scalar.extui v3085
  let c0_i32_1653 : BitVec 32 := 0#32
  let v3087 : BitVec 1 := Scalar.cmpi .slt v3083 c0_i32_1653
  let v3088 : BitVec 32 := Scalar.extui v3087
  let v3089 : BitVec 32 := Scalar.subi v3086 v3088
  let c128_i32_1651 : BitVec 32 := 128#32
  let c0_i32_1654 : BitVec 32 := 0#32
  let v3090 : BitVec 1 := Scalar.cmpi .sgt c128_i32_1651 c0_i32_1654
  let v3091 : BitVec 32 := Scalar.extui v3090
  let c0_i32_1655 : BitVec 32 := 0#32
  let v3092 : BitVec 1 := Scalar.cmpi .slt c128_i32_1651 c0_i32_1655
  let v3093 : BitVec 32 := Scalar.extui v3092
  let v3094 : BitVec 32 := Scalar.subi v3091 v3093
  let v3095 : BitVec 1 := Scalar.cmpi .ne v3089 v3094
  let v3096 : BitVec 32 := Scalar.remsi v3083 c128_i32_1651
  let c0_i32_1656 : BitVec 32 := 0#32
  let v3097 : BitVec 1 := Scalar.cmpi .ne v3096 c0_i32_1656
  let v3098 : BitVec 1 := Scalar.andi v3095 v3097
  let v3084 : BitVec 32 := Scalar.divsi v3083 c128_i32_1651
  let c1_i32_1657 : BitVec 32 := 1#32
  let v3099 : BitVec 32 := Scalar.subi v3084 c1_i32_1657
  let v3100 : BitVec 32 := Scalar.select v3098 v3099 v3084
  let c128_i32_1658 : BitVec 32 := 128#32
  let v3101 : BitVec 32 := Scalar.muli v3100 c128_i32_1658
  let v3102 : BitVec 32 := Scalar.maxsi c0_i32_1659 v3101
  let v3103 : BitVec 32 := Scalar.minsi c99872_i32_1660 v3102
  v3103

def k1_off118 (v3083 : BitVec 32) : Fin 2 → Nat :=
  let c117_i32_1661 : BitVec 32 := 117#32
  let c99872_i32_1660 : BitVec 32 := 99872#32
  let c0_i32_1659 : BitVec 32 := 0#32
  let c0_i32_1652 : BitVec 32 := 0#32
  let v3085 : BitVec 1 := Scalar.cmpi .sgt v3083 c0_i32_1652
  let v3086 : BitVec 32 := Scalar.extui v3085
  let c0_i32_1653 : BitVec 32 := 0#32
  let v3087 : BitVec 1 := Scalar.cmpi .slt v3083 c0_i32_1653
  let v3088 : BitVec 32 := Scalar.extui v3087
  let v3089 : BitVec 32 := Scalar.subi v3086 v3088
  let c128_i32_1651 : BitVec 32 := 128#32
  let c0_i32_1654 : BitVec 32 := 0#32
  let v3090 : BitVec 1 := Scalar.cmpi .sgt c128_i32_1651 c0_i32_1654
  let v3091 : BitVec 32 := Scalar.extui v3090
  let c0_i32_1655 : BitVec 32 := 0#32
  let v3092 : BitVec 1 := Scalar.cmpi .slt c128_i32_1651 c0_i32_1655
  let v3093 : BitVec 32 := Scalar.extui v3092
  let v3094 : BitVec 32 := Scalar.subi v3091 v3093
  let v3095 : BitVec 1 := Scalar.cmpi .ne v3089 v3094
  let v3096 : BitVec 32 := Scalar.remsi v3083 c128_i32_1651
  let c0_i32_1656 : BitVec 32 := 0#32
  let v3097 : BitVec 1 := Scalar.cmpi .ne v3096 c0_i32_1656
  let v3098 : BitVec 1 := Scalar.andi v3095 v3097
  let v3084 : BitVec 32 := Scalar.divsi v3083 c128_i32_1651
  let c1_i32_1657 : BitVec 32 := 1#32
  let v3099 : BitVec 32 := Scalar.subi v3084 c1_i32_1657
  let v3100 : BitVec 32 := Scalar.select v3098 v3099 v3084
  let c128_i32_1658 : BitVec 32 := 128#32
  let v3101 : BitVec 32 := Scalar.muli v3100 c128_i32_1658
  let v3102 : BitVec 32 := Scalar.maxsi c0_i32_1659 v3101
  let v3103 : BitVec 32 := Scalar.minsi c99872_i32_1660 v3102
  let v3104 : BitVec 32 := v3103
  ![117, v3104.toNat]

def k1_chk118 (v3083 : BitVec 32) : Prop :=
  (32 ∣ (k1_mult118 v3083).toNat) ∧
  (∀ a, (k1_off118 v3083) a + S1x128.size a ≤ S128x100000.size a)
theorem k1_mult118_dvd : ∀ (v3083 : BitVec 32) (k1_hw118 : k1_chk118 v3083), 32 ∣ (k1_mult118 v3083).toNat := fun v3083 k1_hw118 => k1_hw118.1
theorem k1_off118_inb : ∀ (v3083 : BitVec 32) (k1_hw118 : k1_chk118 v3083), ∀ a, (k1_off118 v3083) a + S1x128.size a ≤ S128x100000.size a := fun v3083 k1_hw118 => k1_hw118.2

def k1_mult119 (v3109 : BitVec 32) : BitVec 32 :=
  let c99872_i32_1674 : BitVec 32 := 99872#32
  let c0_i32_1673 : BitVec 32 := 0#32
  let c0_i32_1666 : BitVec 32 := 0#32
  let v3111 : BitVec 1 := Scalar.cmpi .sgt v3109 c0_i32_1666
  let v3112 : BitVec 32 := Scalar.extui v3111
  let c0_i32_1667 : BitVec 32 := 0#32
  let v3113 : BitVec 1 := Scalar.cmpi .slt v3109 c0_i32_1667
  let v3114 : BitVec 32 := Scalar.extui v3113
  let v3115 : BitVec 32 := Scalar.subi v3112 v3114
  let c128_i32_1665 : BitVec 32 := 128#32
  let c0_i32_1668 : BitVec 32 := 0#32
  let v3116 : BitVec 1 := Scalar.cmpi .sgt c128_i32_1665 c0_i32_1668
  let v3117 : BitVec 32 := Scalar.extui v3116
  let c0_i32_1669 : BitVec 32 := 0#32
  let v3118 : BitVec 1 := Scalar.cmpi .slt c128_i32_1665 c0_i32_1669
  let v3119 : BitVec 32 := Scalar.extui v3118
  let v3120 : BitVec 32 := Scalar.subi v3117 v3119
  let v3121 : BitVec 1 := Scalar.cmpi .ne v3115 v3120
  let v3122 : BitVec 32 := Scalar.remsi v3109 c128_i32_1665
  let c0_i32_1670 : BitVec 32 := 0#32
  let v3123 : BitVec 1 := Scalar.cmpi .ne v3122 c0_i32_1670
  let v3124 : BitVec 1 := Scalar.andi v3121 v3123
  let v3110 : BitVec 32 := Scalar.divsi v3109 c128_i32_1665
  let c1_i32_1671 : BitVec 32 := 1#32
  let v3125 : BitVec 32 := Scalar.subi v3110 c1_i32_1671
  let v3126 : BitVec 32 := Scalar.select v3124 v3125 v3110
  let c128_i32_1672 : BitVec 32 := 128#32
  let v3127 : BitVec 32 := Scalar.muli v3126 c128_i32_1672
  let v3128 : BitVec 32 := Scalar.maxsi c0_i32_1673 v3127
  let v3129 : BitVec 32 := Scalar.minsi c99872_i32_1674 v3128
  v3129

def k1_off119 (v3109 : BitVec 32) : Fin 2 → Nat :=
  let c118_i32_1675 : BitVec 32 := 118#32
  let c99872_i32_1674 : BitVec 32 := 99872#32
  let c0_i32_1673 : BitVec 32 := 0#32
  let c0_i32_1666 : BitVec 32 := 0#32
  let v3111 : BitVec 1 := Scalar.cmpi .sgt v3109 c0_i32_1666
  let v3112 : BitVec 32 := Scalar.extui v3111
  let c0_i32_1667 : BitVec 32 := 0#32
  let v3113 : BitVec 1 := Scalar.cmpi .slt v3109 c0_i32_1667
  let v3114 : BitVec 32 := Scalar.extui v3113
  let v3115 : BitVec 32 := Scalar.subi v3112 v3114
  let c128_i32_1665 : BitVec 32 := 128#32
  let c0_i32_1668 : BitVec 32 := 0#32
  let v3116 : BitVec 1 := Scalar.cmpi .sgt c128_i32_1665 c0_i32_1668
  let v3117 : BitVec 32 := Scalar.extui v3116
  let c0_i32_1669 : BitVec 32 := 0#32
  let v3118 : BitVec 1 := Scalar.cmpi .slt c128_i32_1665 c0_i32_1669
  let v3119 : BitVec 32 := Scalar.extui v3118
  let v3120 : BitVec 32 := Scalar.subi v3117 v3119
  let v3121 : BitVec 1 := Scalar.cmpi .ne v3115 v3120
  let v3122 : BitVec 32 := Scalar.remsi v3109 c128_i32_1665
  let c0_i32_1670 : BitVec 32 := 0#32
  let v3123 : BitVec 1 := Scalar.cmpi .ne v3122 c0_i32_1670
  let v3124 : BitVec 1 := Scalar.andi v3121 v3123
  let v3110 : BitVec 32 := Scalar.divsi v3109 c128_i32_1665
  let c1_i32_1671 : BitVec 32 := 1#32
  let v3125 : BitVec 32 := Scalar.subi v3110 c1_i32_1671
  let v3126 : BitVec 32 := Scalar.select v3124 v3125 v3110
  let c128_i32_1672 : BitVec 32 := 128#32
  let v3127 : BitVec 32 := Scalar.muli v3126 c128_i32_1672
  let v3128 : BitVec 32 := Scalar.maxsi c0_i32_1673 v3127
  let v3129 : BitVec 32 := Scalar.minsi c99872_i32_1674 v3128
  let v3130 : BitVec 32 := v3129
  ![118, v3130.toNat]

def k1_chk119 (v3109 : BitVec 32) : Prop :=
  (32 ∣ (k1_mult119 v3109).toNat) ∧
  (∀ a, (k1_off119 v3109) a + S1x128.size a ≤ S128x100000.size a)
theorem k1_mult119_dvd : ∀ (v3109 : BitVec 32) (k1_hw119 : k1_chk119 v3109), 32 ∣ (k1_mult119 v3109).toNat := fun v3109 k1_hw119 => k1_hw119.1
theorem k1_off119_inb : ∀ (v3109 : BitVec 32) (k1_hw119 : k1_chk119 v3109), ∀ a, (k1_off119 v3109) a + S1x128.size a ≤ S128x100000.size a := fun v3109 k1_hw119 => k1_hw119.2

def k1_mult120 (v3135 : BitVec 32) : BitVec 32 :=
  let c99872_i32_1688 : BitVec 32 := 99872#32
  let c0_i32_1687 : BitVec 32 := 0#32
  let c0_i32_1680 : BitVec 32 := 0#32
  let v3137 : BitVec 1 := Scalar.cmpi .sgt v3135 c0_i32_1680
  let v3138 : BitVec 32 := Scalar.extui v3137
  let c0_i32_1681 : BitVec 32 := 0#32
  let v3139 : BitVec 1 := Scalar.cmpi .slt v3135 c0_i32_1681
  let v3140 : BitVec 32 := Scalar.extui v3139
  let v3141 : BitVec 32 := Scalar.subi v3138 v3140
  let c128_i32_1679 : BitVec 32 := 128#32
  let c0_i32_1682 : BitVec 32 := 0#32
  let v3142 : BitVec 1 := Scalar.cmpi .sgt c128_i32_1679 c0_i32_1682
  let v3143 : BitVec 32 := Scalar.extui v3142
  let c0_i32_1683 : BitVec 32 := 0#32
  let v3144 : BitVec 1 := Scalar.cmpi .slt c128_i32_1679 c0_i32_1683
  let v3145 : BitVec 32 := Scalar.extui v3144
  let v3146 : BitVec 32 := Scalar.subi v3143 v3145
  let v3147 : BitVec 1 := Scalar.cmpi .ne v3141 v3146
  let v3148 : BitVec 32 := Scalar.remsi v3135 c128_i32_1679
  let c0_i32_1684 : BitVec 32 := 0#32
  let v3149 : BitVec 1 := Scalar.cmpi .ne v3148 c0_i32_1684
  let v3150 : BitVec 1 := Scalar.andi v3147 v3149
  let v3136 : BitVec 32 := Scalar.divsi v3135 c128_i32_1679
  let c1_i32_1685 : BitVec 32 := 1#32
  let v3151 : BitVec 32 := Scalar.subi v3136 c1_i32_1685
  let v3152 : BitVec 32 := Scalar.select v3150 v3151 v3136
  let c128_i32_1686 : BitVec 32 := 128#32
  let v3153 : BitVec 32 := Scalar.muli v3152 c128_i32_1686
  let v3154 : BitVec 32 := Scalar.maxsi c0_i32_1687 v3153
  let v3155 : BitVec 32 := Scalar.minsi c99872_i32_1688 v3154
  v3155

def k1_off120 (v3135 : BitVec 32) : Fin 2 → Nat :=
  let c119_i32_1689 : BitVec 32 := 119#32
  let c99872_i32_1688 : BitVec 32 := 99872#32
  let c0_i32_1687 : BitVec 32 := 0#32
  let c0_i32_1680 : BitVec 32 := 0#32
  let v3137 : BitVec 1 := Scalar.cmpi .sgt v3135 c0_i32_1680
  let v3138 : BitVec 32 := Scalar.extui v3137
  let c0_i32_1681 : BitVec 32 := 0#32
  let v3139 : BitVec 1 := Scalar.cmpi .slt v3135 c0_i32_1681
  let v3140 : BitVec 32 := Scalar.extui v3139
  let v3141 : BitVec 32 := Scalar.subi v3138 v3140
  let c128_i32_1679 : BitVec 32 := 128#32
  let c0_i32_1682 : BitVec 32 := 0#32
  let v3142 : BitVec 1 := Scalar.cmpi .sgt c128_i32_1679 c0_i32_1682
  let v3143 : BitVec 32 := Scalar.extui v3142
  let c0_i32_1683 : BitVec 32 := 0#32
  let v3144 : BitVec 1 := Scalar.cmpi .slt c128_i32_1679 c0_i32_1683
  let v3145 : BitVec 32 := Scalar.extui v3144
  let v3146 : BitVec 32 := Scalar.subi v3143 v3145
  let v3147 : BitVec 1 := Scalar.cmpi .ne v3141 v3146
  let v3148 : BitVec 32 := Scalar.remsi v3135 c128_i32_1679
  let c0_i32_1684 : BitVec 32 := 0#32
  let v3149 : BitVec 1 := Scalar.cmpi .ne v3148 c0_i32_1684
  let v3150 : BitVec 1 := Scalar.andi v3147 v3149
  let v3136 : BitVec 32 := Scalar.divsi v3135 c128_i32_1679
  let c1_i32_1685 : BitVec 32 := 1#32
  let v3151 : BitVec 32 := Scalar.subi v3136 c1_i32_1685
  let v3152 : BitVec 32 := Scalar.select v3150 v3151 v3136
  let c128_i32_1686 : BitVec 32 := 128#32
  let v3153 : BitVec 32 := Scalar.muli v3152 c128_i32_1686
  let v3154 : BitVec 32 := Scalar.maxsi c0_i32_1687 v3153
  let v3155 : BitVec 32 := Scalar.minsi c99872_i32_1688 v3154
  let v3156 : BitVec 32 := v3155
  ![119, v3156.toNat]

def k1_chk120 (v3135 : BitVec 32) : Prop :=
  (32 ∣ (k1_mult120 v3135).toNat) ∧
  (∀ a, (k1_off120 v3135) a + S1x128.size a ≤ S128x100000.size a)
theorem k1_mult120_dvd : ∀ (v3135 : BitVec 32) (k1_hw120 : k1_chk120 v3135), 32 ∣ (k1_mult120 v3135).toNat := fun v3135 k1_hw120 => k1_hw120.1
theorem k1_off120_inb : ∀ (v3135 : BitVec 32) (k1_hw120 : k1_chk120 v3135), ∀ a, (k1_off120 v3135) a + S1x128.size a ≤ S128x100000.size a := fun v3135 k1_hw120 => k1_hw120.2

def k1_mult121 (v3161 : BitVec 32) : BitVec 32 :=
  let c99872_i32_1702 : BitVec 32 := 99872#32
  let c0_i32_1701 : BitVec 32 := 0#32
  let c0_i32_1694 : BitVec 32 := 0#32
  let v3163 : BitVec 1 := Scalar.cmpi .sgt v3161 c0_i32_1694
  let v3164 : BitVec 32 := Scalar.extui v3163
  let c0_i32_1695 : BitVec 32 := 0#32
  let v3165 : BitVec 1 := Scalar.cmpi .slt v3161 c0_i32_1695
  let v3166 : BitVec 32 := Scalar.extui v3165
  let v3167 : BitVec 32 := Scalar.subi v3164 v3166
  let c128_i32_1693 : BitVec 32 := 128#32
  let c0_i32_1696 : BitVec 32 := 0#32
  let v3168 : BitVec 1 := Scalar.cmpi .sgt c128_i32_1693 c0_i32_1696
  let v3169 : BitVec 32 := Scalar.extui v3168
  let c0_i32_1697 : BitVec 32 := 0#32
  let v3170 : BitVec 1 := Scalar.cmpi .slt c128_i32_1693 c0_i32_1697
  let v3171 : BitVec 32 := Scalar.extui v3170
  let v3172 : BitVec 32 := Scalar.subi v3169 v3171
  let v3173 : BitVec 1 := Scalar.cmpi .ne v3167 v3172
  let v3174 : BitVec 32 := Scalar.remsi v3161 c128_i32_1693
  let c0_i32_1698 : BitVec 32 := 0#32
  let v3175 : BitVec 1 := Scalar.cmpi .ne v3174 c0_i32_1698
  let v3176 : BitVec 1 := Scalar.andi v3173 v3175
  let v3162 : BitVec 32 := Scalar.divsi v3161 c128_i32_1693
  let c1_i32_1699 : BitVec 32 := 1#32
  let v3177 : BitVec 32 := Scalar.subi v3162 c1_i32_1699
  let v3178 : BitVec 32 := Scalar.select v3176 v3177 v3162
  let c128_i32_1700 : BitVec 32 := 128#32
  let v3179 : BitVec 32 := Scalar.muli v3178 c128_i32_1700
  let v3180 : BitVec 32 := Scalar.maxsi c0_i32_1701 v3179
  let v3181 : BitVec 32 := Scalar.minsi c99872_i32_1702 v3180
  v3181

def k1_off121 (v3161 : BitVec 32) : Fin 2 → Nat :=
  let c120_i32_1703 : BitVec 32 := 120#32
  let c99872_i32_1702 : BitVec 32 := 99872#32
  let c0_i32_1701 : BitVec 32 := 0#32
  let c0_i32_1694 : BitVec 32 := 0#32
  let v3163 : BitVec 1 := Scalar.cmpi .sgt v3161 c0_i32_1694
  let v3164 : BitVec 32 := Scalar.extui v3163
  let c0_i32_1695 : BitVec 32 := 0#32
  let v3165 : BitVec 1 := Scalar.cmpi .slt v3161 c0_i32_1695
  let v3166 : BitVec 32 := Scalar.extui v3165
  let v3167 : BitVec 32 := Scalar.subi v3164 v3166
  let c128_i32_1693 : BitVec 32 := 128#32
  let c0_i32_1696 : BitVec 32 := 0#32
  let v3168 : BitVec 1 := Scalar.cmpi .sgt c128_i32_1693 c0_i32_1696
  let v3169 : BitVec 32 := Scalar.extui v3168
  let c0_i32_1697 : BitVec 32 := 0#32
  let v3170 : BitVec 1 := Scalar.cmpi .slt c128_i32_1693 c0_i32_1697
  let v3171 : BitVec 32 := Scalar.extui v3170
  let v3172 : BitVec 32 := Scalar.subi v3169 v3171
  let v3173 : BitVec 1 := Scalar.cmpi .ne v3167 v3172
  let v3174 : BitVec 32 := Scalar.remsi v3161 c128_i32_1693
  let c0_i32_1698 : BitVec 32 := 0#32
  let v3175 : BitVec 1 := Scalar.cmpi .ne v3174 c0_i32_1698
  let v3176 : BitVec 1 := Scalar.andi v3173 v3175
  let v3162 : BitVec 32 := Scalar.divsi v3161 c128_i32_1693
  let c1_i32_1699 : BitVec 32 := 1#32
  let v3177 : BitVec 32 := Scalar.subi v3162 c1_i32_1699
  let v3178 : BitVec 32 := Scalar.select v3176 v3177 v3162
  let c128_i32_1700 : BitVec 32 := 128#32
  let v3179 : BitVec 32 := Scalar.muli v3178 c128_i32_1700
  let v3180 : BitVec 32 := Scalar.maxsi c0_i32_1701 v3179
  let v3181 : BitVec 32 := Scalar.minsi c99872_i32_1702 v3180
  let v3182 : BitVec 32 := v3181
  ![120, v3182.toNat]

def k1_chk121 (v3161 : BitVec 32) : Prop :=
  (32 ∣ (k1_mult121 v3161).toNat) ∧
  (∀ a, (k1_off121 v3161) a + S1x128.size a ≤ S128x100000.size a)
theorem k1_mult121_dvd : ∀ (v3161 : BitVec 32) (k1_hw121 : k1_chk121 v3161), 32 ∣ (k1_mult121 v3161).toNat := fun v3161 k1_hw121 => k1_hw121.1
theorem k1_off121_inb : ∀ (v3161 : BitVec 32) (k1_hw121 : k1_chk121 v3161), ∀ a, (k1_off121 v3161) a + S1x128.size a ≤ S128x100000.size a := fun v3161 k1_hw121 => k1_hw121.2

def k1_mult122 (v3187 : BitVec 32) : BitVec 32 :=
  let c99872_i32_1716 : BitVec 32 := 99872#32
  let c0_i32_1715 : BitVec 32 := 0#32
  let c0_i32_1708 : BitVec 32 := 0#32
  let v3189 : BitVec 1 := Scalar.cmpi .sgt v3187 c0_i32_1708
  let v3190 : BitVec 32 := Scalar.extui v3189
  let c0_i32_1709 : BitVec 32 := 0#32
  let v3191 : BitVec 1 := Scalar.cmpi .slt v3187 c0_i32_1709
  let v3192 : BitVec 32 := Scalar.extui v3191
  let v3193 : BitVec 32 := Scalar.subi v3190 v3192
  let c128_i32_1707 : BitVec 32 := 128#32
  let c0_i32_1710 : BitVec 32 := 0#32
  let v3194 : BitVec 1 := Scalar.cmpi .sgt c128_i32_1707 c0_i32_1710
  let v3195 : BitVec 32 := Scalar.extui v3194
  let c0_i32_1711 : BitVec 32 := 0#32
  let v3196 : BitVec 1 := Scalar.cmpi .slt c128_i32_1707 c0_i32_1711
  let v3197 : BitVec 32 := Scalar.extui v3196
  let v3198 : BitVec 32 := Scalar.subi v3195 v3197
  let v3199 : BitVec 1 := Scalar.cmpi .ne v3193 v3198
  let v3200 : BitVec 32 := Scalar.remsi v3187 c128_i32_1707
  let c0_i32_1712 : BitVec 32 := 0#32
  let v3201 : BitVec 1 := Scalar.cmpi .ne v3200 c0_i32_1712
  let v3202 : BitVec 1 := Scalar.andi v3199 v3201
  let v3188 : BitVec 32 := Scalar.divsi v3187 c128_i32_1707
  let c1_i32_1713 : BitVec 32 := 1#32
  let v3203 : BitVec 32 := Scalar.subi v3188 c1_i32_1713
  let v3204 : BitVec 32 := Scalar.select v3202 v3203 v3188
  let c128_i32_1714 : BitVec 32 := 128#32
  let v3205 : BitVec 32 := Scalar.muli v3204 c128_i32_1714
  let v3206 : BitVec 32 := Scalar.maxsi c0_i32_1715 v3205
  let v3207 : BitVec 32 := Scalar.minsi c99872_i32_1716 v3206
  v3207

def k1_off122 (v3187 : BitVec 32) : Fin 2 → Nat :=
  let c121_i32_1717 : BitVec 32 := 121#32
  let c99872_i32_1716 : BitVec 32 := 99872#32
  let c0_i32_1715 : BitVec 32 := 0#32
  let c0_i32_1708 : BitVec 32 := 0#32
  let v3189 : BitVec 1 := Scalar.cmpi .sgt v3187 c0_i32_1708
  let v3190 : BitVec 32 := Scalar.extui v3189
  let c0_i32_1709 : BitVec 32 := 0#32
  let v3191 : BitVec 1 := Scalar.cmpi .slt v3187 c0_i32_1709
  let v3192 : BitVec 32 := Scalar.extui v3191
  let v3193 : BitVec 32 := Scalar.subi v3190 v3192
  let c128_i32_1707 : BitVec 32 := 128#32
  let c0_i32_1710 : BitVec 32 := 0#32
  let v3194 : BitVec 1 := Scalar.cmpi .sgt c128_i32_1707 c0_i32_1710
  let v3195 : BitVec 32 := Scalar.extui v3194
  let c0_i32_1711 : BitVec 32 := 0#32
  let v3196 : BitVec 1 := Scalar.cmpi .slt c128_i32_1707 c0_i32_1711
  let v3197 : BitVec 32 := Scalar.extui v3196
  let v3198 : BitVec 32 := Scalar.subi v3195 v3197
  let v3199 : BitVec 1 := Scalar.cmpi .ne v3193 v3198
  let v3200 : BitVec 32 := Scalar.remsi v3187 c128_i32_1707
  let c0_i32_1712 : BitVec 32 := 0#32
  let v3201 : BitVec 1 := Scalar.cmpi .ne v3200 c0_i32_1712
  let v3202 : BitVec 1 := Scalar.andi v3199 v3201
  let v3188 : BitVec 32 := Scalar.divsi v3187 c128_i32_1707
  let c1_i32_1713 : BitVec 32 := 1#32
  let v3203 : BitVec 32 := Scalar.subi v3188 c1_i32_1713
  let v3204 : BitVec 32 := Scalar.select v3202 v3203 v3188
  let c128_i32_1714 : BitVec 32 := 128#32
  let v3205 : BitVec 32 := Scalar.muli v3204 c128_i32_1714
  let v3206 : BitVec 32 := Scalar.maxsi c0_i32_1715 v3205
  let v3207 : BitVec 32 := Scalar.minsi c99872_i32_1716 v3206
  let v3208 : BitVec 32 := v3207
  ![121, v3208.toNat]

def k1_chk122 (v3187 : BitVec 32) : Prop :=
  (32 ∣ (k1_mult122 v3187).toNat) ∧
  (∀ a, (k1_off122 v3187) a + S1x128.size a ≤ S128x100000.size a)
theorem k1_mult122_dvd : ∀ (v3187 : BitVec 32) (k1_hw122 : k1_chk122 v3187), 32 ∣ (k1_mult122 v3187).toNat := fun v3187 k1_hw122 => k1_hw122.1
theorem k1_off122_inb : ∀ (v3187 : BitVec 32) (k1_hw122 : k1_chk122 v3187), ∀ a, (k1_off122 v3187) a + S1x128.size a ≤ S128x100000.size a := fun v3187 k1_hw122 => k1_hw122.2

def k1_mult123 (v3213 : BitVec 32) : BitVec 32 :=
  let c99872_i32_1730 : BitVec 32 := 99872#32
  let c0_i32_1729 : BitVec 32 := 0#32
  let c0_i32_1722 : BitVec 32 := 0#32
  let v3215 : BitVec 1 := Scalar.cmpi .sgt v3213 c0_i32_1722
  let v3216 : BitVec 32 := Scalar.extui v3215
  let c0_i32_1723 : BitVec 32 := 0#32
  let v3217 : BitVec 1 := Scalar.cmpi .slt v3213 c0_i32_1723
  let v3218 : BitVec 32 := Scalar.extui v3217
  let v3219 : BitVec 32 := Scalar.subi v3216 v3218
  let c128_i32_1721 : BitVec 32 := 128#32
  let c0_i32_1724 : BitVec 32 := 0#32
  let v3220 : BitVec 1 := Scalar.cmpi .sgt c128_i32_1721 c0_i32_1724
  let v3221 : BitVec 32 := Scalar.extui v3220
  let c0_i32_1725 : BitVec 32 := 0#32
  let v3222 : BitVec 1 := Scalar.cmpi .slt c128_i32_1721 c0_i32_1725
  let v3223 : BitVec 32 := Scalar.extui v3222
  let v3224 : BitVec 32 := Scalar.subi v3221 v3223
  let v3225 : BitVec 1 := Scalar.cmpi .ne v3219 v3224
  let v3226 : BitVec 32 := Scalar.remsi v3213 c128_i32_1721
  let c0_i32_1726 : BitVec 32 := 0#32
  let v3227 : BitVec 1 := Scalar.cmpi .ne v3226 c0_i32_1726
  let v3228 : BitVec 1 := Scalar.andi v3225 v3227
  let v3214 : BitVec 32 := Scalar.divsi v3213 c128_i32_1721
  let c1_i32_1727 : BitVec 32 := 1#32
  let v3229 : BitVec 32 := Scalar.subi v3214 c1_i32_1727
  let v3230 : BitVec 32 := Scalar.select v3228 v3229 v3214
  let c128_i32_1728 : BitVec 32 := 128#32
  let v3231 : BitVec 32 := Scalar.muli v3230 c128_i32_1728
  let v3232 : BitVec 32 := Scalar.maxsi c0_i32_1729 v3231
  let v3233 : BitVec 32 := Scalar.minsi c99872_i32_1730 v3232
  v3233

def k1_off123 (v3213 : BitVec 32) : Fin 2 → Nat :=
  let c122_i32_1731 : BitVec 32 := 122#32
  let c99872_i32_1730 : BitVec 32 := 99872#32
  let c0_i32_1729 : BitVec 32 := 0#32
  let c0_i32_1722 : BitVec 32 := 0#32
  let v3215 : BitVec 1 := Scalar.cmpi .sgt v3213 c0_i32_1722
  let v3216 : BitVec 32 := Scalar.extui v3215
  let c0_i32_1723 : BitVec 32 := 0#32
  let v3217 : BitVec 1 := Scalar.cmpi .slt v3213 c0_i32_1723
  let v3218 : BitVec 32 := Scalar.extui v3217
  let v3219 : BitVec 32 := Scalar.subi v3216 v3218
  let c128_i32_1721 : BitVec 32 := 128#32
  let c0_i32_1724 : BitVec 32 := 0#32
  let v3220 : BitVec 1 := Scalar.cmpi .sgt c128_i32_1721 c0_i32_1724
  let v3221 : BitVec 32 := Scalar.extui v3220
  let c0_i32_1725 : BitVec 32 := 0#32
  let v3222 : BitVec 1 := Scalar.cmpi .slt c128_i32_1721 c0_i32_1725
  let v3223 : BitVec 32 := Scalar.extui v3222
  let v3224 : BitVec 32 := Scalar.subi v3221 v3223
  let v3225 : BitVec 1 := Scalar.cmpi .ne v3219 v3224
  let v3226 : BitVec 32 := Scalar.remsi v3213 c128_i32_1721
  let c0_i32_1726 : BitVec 32 := 0#32
  let v3227 : BitVec 1 := Scalar.cmpi .ne v3226 c0_i32_1726
  let v3228 : BitVec 1 := Scalar.andi v3225 v3227
  let v3214 : BitVec 32 := Scalar.divsi v3213 c128_i32_1721
  let c1_i32_1727 : BitVec 32 := 1#32
  let v3229 : BitVec 32 := Scalar.subi v3214 c1_i32_1727
  let v3230 : BitVec 32 := Scalar.select v3228 v3229 v3214
  let c128_i32_1728 : BitVec 32 := 128#32
  let v3231 : BitVec 32 := Scalar.muli v3230 c128_i32_1728
  let v3232 : BitVec 32 := Scalar.maxsi c0_i32_1729 v3231
  let v3233 : BitVec 32 := Scalar.minsi c99872_i32_1730 v3232
  let v3234 : BitVec 32 := v3233
  ![122, v3234.toNat]

def k1_chk123 (v3213 : BitVec 32) : Prop :=
  (32 ∣ (k1_mult123 v3213).toNat) ∧
  (∀ a, (k1_off123 v3213) a + S1x128.size a ≤ S128x100000.size a)
theorem k1_mult123_dvd : ∀ (v3213 : BitVec 32) (k1_hw123 : k1_chk123 v3213), 32 ∣ (k1_mult123 v3213).toNat := fun v3213 k1_hw123 => k1_hw123.1
theorem k1_off123_inb : ∀ (v3213 : BitVec 32) (k1_hw123 : k1_chk123 v3213), ∀ a, (k1_off123 v3213) a + S1x128.size a ≤ S128x100000.size a := fun v3213 k1_hw123 => k1_hw123.2

def k1_mult124 (v3239 : BitVec 32) : BitVec 32 :=
  let c99872_i32_1744 : BitVec 32 := 99872#32
  let c0_i32_1743 : BitVec 32 := 0#32
  let c0_i32_1736 : BitVec 32 := 0#32
  let v3241 : BitVec 1 := Scalar.cmpi .sgt v3239 c0_i32_1736
  let v3242 : BitVec 32 := Scalar.extui v3241
  let c0_i32_1737 : BitVec 32 := 0#32
  let v3243 : BitVec 1 := Scalar.cmpi .slt v3239 c0_i32_1737
  let v3244 : BitVec 32 := Scalar.extui v3243
  let v3245 : BitVec 32 := Scalar.subi v3242 v3244
  let c128_i32_1735 : BitVec 32 := 128#32
  let c0_i32_1738 : BitVec 32 := 0#32
  let v3246 : BitVec 1 := Scalar.cmpi .sgt c128_i32_1735 c0_i32_1738
  let v3247 : BitVec 32 := Scalar.extui v3246
  let c0_i32_1739 : BitVec 32 := 0#32
  let v3248 : BitVec 1 := Scalar.cmpi .slt c128_i32_1735 c0_i32_1739
  let v3249 : BitVec 32 := Scalar.extui v3248
  let v3250 : BitVec 32 := Scalar.subi v3247 v3249
  let v3251 : BitVec 1 := Scalar.cmpi .ne v3245 v3250
  let v3252 : BitVec 32 := Scalar.remsi v3239 c128_i32_1735
  let c0_i32_1740 : BitVec 32 := 0#32
  let v3253 : BitVec 1 := Scalar.cmpi .ne v3252 c0_i32_1740
  let v3254 : BitVec 1 := Scalar.andi v3251 v3253
  let v3240 : BitVec 32 := Scalar.divsi v3239 c128_i32_1735
  let c1_i32_1741 : BitVec 32 := 1#32
  let v3255 : BitVec 32 := Scalar.subi v3240 c1_i32_1741
  let v3256 : BitVec 32 := Scalar.select v3254 v3255 v3240
  let c128_i32_1742 : BitVec 32 := 128#32
  let v3257 : BitVec 32 := Scalar.muli v3256 c128_i32_1742
  let v3258 : BitVec 32 := Scalar.maxsi c0_i32_1743 v3257
  let v3259 : BitVec 32 := Scalar.minsi c99872_i32_1744 v3258
  v3259

def k1_off124 (v3239 : BitVec 32) : Fin 2 → Nat :=
  let c123_i32_1745 : BitVec 32 := 123#32
  let c99872_i32_1744 : BitVec 32 := 99872#32
  let c0_i32_1743 : BitVec 32 := 0#32
  let c0_i32_1736 : BitVec 32 := 0#32
  let v3241 : BitVec 1 := Scalar.cmpi .sgt v3239 c0_i32_1736
  let v3242 : BitVec 32 := Scalar.extui v3241
  let c0_i32_1737 : BitVec 32 := 0#32
  let v3243 : BitVec 1 := Scalar.cmpi .slt v3239 c0_i32_1737
  let v3244 : BitVec 32 := Scalar.extui v3243
  let v3245 : BitVec 32 := Scalar.subi v3242 v3244
  let c128_i32_1735 : BitVec 32 := 128#32
  let c0_i32_1738 : BitVec 32 := 0#32
  let v3246 : BitVec 1 := Scalar.cmpi .sgt c128_i32_1735 c0_i32_1738
  let v3247 : BitVec 32 := Scalar.extui v3246
  let c0_i32_1739 : BitVec 32 := 0#32
  let v3248 : BitVec 1 := Scalar.cmpi .slt c128_i32_1735 c0_i32_1739
  let v3249 : BitVec 32 := Scalar.extui v3248
  let v3250 : BitVec 32 := Scalar.subi v3247 v3249
  let v3251 : BitVec 1 := Scalar.cmpi .ne v3245 v3250
  let v3252 : BitVec 32 := Scalar.remsi v3239 c128_i32_1735
  let c0_i32_1740 : BitVec 32 := 0#32
  let v3253 : BitVec 1 := Scalar.cmpi .ne v3252 c0_i32_1740
  let v3254 : BitVec 1 := Scalar.andi v3251 v3253
  let v3240 : BitVec 32 := Scalar.divsi v3239 c128_i32_1735
  let c1_i32_1741 : BitVec 32 := 1#32
  let v3255 : BitVec 32 := Scalar.subi v3240 c1_i32_1741
  let v3256 : BitVec 32 := Scalar.select v3254 v3255 v3240
  let c128_i32_1742 : BitVec 32 := 128#32
  let v3257 : BitVec 32 := Scalar.muli v3256 c128_i32_1742
  let v3258 : BitVec 32 := Scalar.maxsi c0_i32_1743 v3257
  let v3259 : BitVec 32 := Scalar.minsi c99872_i32_1744 v3258
  let v3260 : BitVec 32 := v3259
  ![123, v3260.toNat]

def k1_chk124 (v3239 : BitVec 32) : Prop :=
  (32 ∣ (k1_mult124 v3239).toNat) ∧
  (∀ a, (k1_off124 v3239) a + S1x128.size a ≤ S128x100000.size a)
theorem k1_mult124_dvd : ∀ (v3239 : BitVec 32) (k1_hw124 : k1_chk124 v3239), 32 ∣ (k1_mult124 v3239).toNat := fun v3239 k1_hw124 => k1_hw124.1
theorem k1_off124_inb : ∀ (v3239 : BitVec 32) (k1_hw124 : k1_chk124 v3239), ∀ a, (k1_off124 v3239) a + S1x128.size a ≤ S128x100000.size a := fun v3239 k1_hw124 => k1_hw124.2

def k1_mult125 (v3265 : BitVec 32) : BitVec 32 :=
  let c99872_i32_1758 : BitVec 32 := 99872#32
  let c0_i32_1757 : BitVec 32 := 0#32
  let c0_i32_1750 : BitVec 32 := 0#32
  let v3267 : BitVec 1 := Scalar.cmpi .sgt v3265 c0_i32_1750
  let v3268 : BitVec 32 := Scalar.extui v3267
  let c0_i32_1751 : BitVec 32 := 0#32
  let v3269 : BitVec 1 := Scalar.cmpi .slt v3265 c0_i32_1751
  let v3270 : BitVec 32 := Scalar.extui v3269
  let v3271 : BitVec 32 := Scalar.subi v3268 v3270
  let c128_i32_1749 : BitVec 32 := 128#32
  let c0_i32_1752 : BitVec 32 := 0#32
  let v3272 : BitVec 1 := Scalar.cmpi .sgt c128_i32_1749 c0_i32_1752
  let v3273 : BitVec 32 := Scalar.extui v3272
  let c0_i32_1753 : BitVec 32 := 0#32
  let v3274 : BitVec 1 := Scalar.cmpi .slt c128_i32_1749 c0_i32_1753
  let v3275 : BitVec 32 := Scalar.extui v3274
  let v3276 : BitVec 32 := Scalar.subi v3273 v3275
  let v3277 : BitVec 1 := Scalar.cmpi .ne v3271 v3276
  let v3278 : BitVec 32 := Scalar.remsi v3265 c128_i32_1749
  let c0_i32_1754 : BitVec 32 := 0#32
  let v3279 : BitVec 1 := Scalar.cmpi .ne v3278 c0_i32_1754
  let v3280 : BitVec 1 := Scalar.andi v3277 v3279
  let v3266 : BitVec 32 := Scalar.divsi v3265 c128_i32_1749
  let c1_i32_1755 : BitVec 32 := 1#32
  let v3281 : BitVec 32 := Scalar.subi v3266 c1_i32_1755
  let v3282 : BitVec 32 := Scalar.select v3280 v3281 v3266
  let c128_i32_1756 : BitVec 32 := 128#32
  let v3283 : BitVec 32 := Scalar.muli v3282 c128_i32_1756
  let v3284 : BitVec 32 := Scalar.maxsi c0_i32_1757 v3283
  let v3285 : BitVec 32 := Scalar.minsi c99872_i32_1758 v3284
  v3285

def k1_off125 (v3265 : BitVec 32) : Fin 2 → Nat :=
  let c124_i32_1759 : BitVec 32 := 124#32
  let c99872_i32_1758 : BitVec 32 := 99872#32
  let c0_i32_1757 : BitVec 32 := 0#32
  let c0_i32_1750 : BitVec 32 := 0#32
  let v3267 : BitVec 1 := Scalar.cmpi .sgt v3265 c0_i32_1750
  let v3268 : BitVec 32 := Scalar.extui v3267
  let c0_i32_1751 : BitVec 32 := 0#32
  let v3269 : BitVec 1 := Scalar.cmpi .slt v3265 c0_i32_1751
  let v3270 : BitVec 32 := Scalar.extui v3269
  let v3271 : BitVec 32 := Scalar.subi v3268 v3270
  let c128_i32_1749 : BitVec 32 := 128#32
  let c0_i32_1752 : BitVec 32 := 0#32
  let v3272 : BitVec 1 := Scalar.cmpi .sgt c128_i32_1749 c0_i32_1752
  let v3273 : BitVec 32 := Scalar.extui v3272
  let c0_i32_1753 : BitVec 32 := 0#32
  let v3274 : BitVec 1 := Scalar.cmpi .slt c128_i32_1749 c0_i32_1753
  let v3275 : BitVec 32 := Scalar.extui v3274
  let v3276 : BitVec 32 := Scalar.subi v3273 v3275
  let v3277 : BitVec 1 := Scalar.cmpi .ne v3271 v3276
  let v3278 : BitVec 32 := Scalar.remsi v3265 c128_i32_1749
  let c0_i32_1754 : BitVec 32 := 0#32
  let v3279 : BitVec 1 := Scalar.cmpi .ne v3278 c0_i32_1754
  let v3280 : BitVec 1 := Scalar.andi v3277 v3279
  let v3266 : BitVec 32 := Scalar.divsi v3265 c128_i32_1749
  let c1_i32_1755 : BitVec 32 := 1#32
  let v3281 : BitVec 32 := Scalar.subi v3266 c1_i32_1755
  let v3282 : BitVec 32 := Scalar.select v3280 v3281 v3266
  let c128_i32_1756 : BitVec 32 := 128#32
  let v3283 : BitVec 32 := Scalar.muli v3282 c128_i32_1756
  let v3284 : BitVec 32 := Scalar.maxsi c0_i32_1757 v3283
  let v3285 : BitVec 32 := Scalar.minsi c99872_i32_1758 v3284
  let v3286 : BitVec 32 := v3285
  ![124, v3286.toNat]

def k1_chk125 (v3265 : BitVec 32) : Prop :=
  (32 ∣ (k1_mult125 v3265).toNat) ∧
  (∀ a, (k1_off125 v3265) a + S1x128.size a ≤ S128x100000.size a)
theorem k1_mult125_dvd : ∀ (v3265 : BitVec 32) (k1_hw125 : k1_chk125 v3265), 32 ∣ (k1_mult125 v3265).toNat := fun v3265 k1_hw125 => k1_hw125.1
theorem k1_off125_inb : ∀ (v3265 : BitVec 32) (k1_hw125 : k1_chk125 v3265), ∀ a, (k1_off125 v3265) a + S1x128.size a ≤ S128x100000.size a := fun v3265 k1_hw125 => k1_hw125.2

def k1_mult126 (v3291 : BitVec 32) : BitVec 32 :=
  let c99872_i32_1772 : BitVec 32 := 99872#32
  let c0_i32_1771 : BitVec 32 := 0#32
  let c0_i32_1764 : BitVec 32 := 0#32
  let v3293 : BitVec 1 := Scalar.cmpi .sgt v3291 c0_i32_1764
  let v3294 : BitVec 32 := Scalar.extui v3293
  let c0_i32_1765 : BitVec 32 := 0#32
  let v3295 : BitVec 1 := Scalar.cmpi .slt v3291 c0_i32_1765
  let v3296 : BitVec 32 := Scalar.extui v3295
  let v3297 : BitVec 32 := Scalar.subi v3294 v3296
  let c128_i32_1763 : BitVec 32 := 128#32
  let c0_i32_1766 : BitVec 32 := 0#32
  let v3298 : BitVec 1 := Scalar.cmpi .sgt c128_i32_1763 c0_i32_1766
  let v3299 : BitVec 32 := Scalar.extui v3298
  let c0_i32_1767 : BitVec 32 := 0#32
  let v3300 : BitVec 1 := Scalar.cmpi .slt c128_i32_1763 c0_i32_1767
  let v3301 : BitVec 32 := Scalar.extui v3300
  let v3302 : BitVec 32 := Scalar.subi v3299 v3301
  let v3303 : BitVec 1 := Scalar.cmpi .ne v3297 v3302
  let v3304 : BitVec 32 := Scalar.remsi v3291 c128_i32_1763
  let c0_i32_1768 : BitVec 32 := 0#32
  let v3305 : BitVec 1 := Scalar.cmpi .ne v3304 c0_i32_1768
  let v3306 : BitVec 1 := Scalar.andi v3303 v3305
  let v3292 : BitVec 32 := Scalar.divsi v3291 c128_i32_1763
  let c1_i32_1769 : BitVec 32 := 1#32
  let v3307 : BitVec 32 := Scalar.subi v3292 c1_i32_1769
  let v3308 : BitVec 32 := Scalar.select v3306 v3307 v3292
  let c128_i32_1770 : BitVec 32 := 128#32
  let v3309 : BitVec 32 := Scalar.muli v3308 c128_i32_1770
  let v3310 : BitVec 32 := Scalar.maxsi c0_i32_1771 v3309
  let v3311 : BitVec 32 := Scalar.minsi c99872_i32_1772 v3310
  v3311

def k1_off126 (v3291 : BitVec 32) : Fin 2 → Nat :=
  let c125_i32_1773 : BitVec 32 := 125#32
  let c99872_i32_1772 : BitVec 32 := 99872#32
  let c0_i32_1771 : BitVec 32 := 0#32
  let c0_i32_1764 : BitVec 32 := 0#32
  let v3293 : BitVec 1 := Scalar.cmpi .sgt v3291 c0_i32_1764
  let v3294 : BitVec 32 := Scalar.extui v3293
  let c0_i32_1765 : BitVec 32 := 0#32
  let v3295 : BitVec 1 := Scalar.cmpi .slt v3291 c0_i32_1765
  let v3296 : BitVec 32 := Scalar.extui v3295
  let v3297 : BitVec 32 := Scalar.subi v3294 v3296
  let c128_i32_1763 : BitVec 32 := 128#32
  let c0_i32_1766 : BitVec 32 := 0#32
  let v3298 : BitVec 1 := Scalar.cmpi .sgt c128_i32_1763 c0_i32_1766
  let v3299 : BitVec 32 := Scalar.extui v3298
  let c0_i32_1767 : BitVec 32 := 0#32
  let v3300 : BitVec 1 := Scalar.cmpi .slt c128_i32_1763 c0_i32_1767
  let v3301 : BitVec 32 := Scalar.extui v3300
  let v3302 : BitVec 32 := Scalar.subi v3299 v3301
  let v3303 : BitVec 1 := Scalar.cmpi .ne v3297 v3302
  let v3304 : BitVec 32 := Scalar.remsi v3291 c128_i32_1763
  let c0_i32_1768 : BitVec 32 := 0#32
  let v3305 : BitVec 1 := Scalar.cmpi .ne v3304 c0_i32_1768
  let v3306 : BitVec 1 := Scalar.andi v3303 v3305
  let v3292 : BitVec 32 := Scalar.divsi v3291 c128_i32_1763
  let c1_i32_1769 : BitVec 32 := 1#32
  let v3307 : BitVec 32 := Scalar.subi v3292 c1_i32_1769
  let v3308 : BitVec 32 := Scalar.select v3306 v3307 v3292
  let c128_i32_1770 : BitVec 32 := 128#32
  let v3309 : BitVec 32 := Scalar.muli v3308 c128_i32_1770
  let v3310 : BitVec 32 := Scalar.maxsi c0_i32_1771 v3309
  let v3311 : BitVec 32 := Scalar.minsi c99872_i32_1772 v3310
  let v3312 : BitVec 32 := v3311
  ![125, v3312.toNat]

def k1_chk126 (v3291 : BitVec 32) : Prop :=
  (32 ∣ (k1_mult126 v3291).toNat) ∧
  (∀ a, (k1_off126 v3291) a + S1x128.size a ≤ S128x100000.size a)
theorem k1_mult126_dvd : ∀ (v3291 : BitVec 32) (k1_hw126 : k1_chk126 v3291), 32 ∣ (k1_mult126 v3291).toNat := fun v3291 k1_hw126 => k1_hw126.1
theorem k1_off126_inb : ∀ (v3291 : BitVec 32) (k1_hw126 : k1_chk126 v3291), ∀ a, (k1_off126 v3291) a + S1x128.size a ≤ S128x100000.size a := fun v3291 k1_hw126 => k1_hw126.2

def k1_mult127 (v3317 : BitVec 32) : BitVec 32 :=
  let c99872_i32_1786 : BitVec 32 := 99872#32
  let c0_i32_1785 : BitVec 32 := 0#32
  let c0_i32_1778 : BitVec 32 := 0#32
  let v3319 : BitVec 1 := Scalar.cmpi .sgt v3317 c0_i32_1778
  let v3320 : BitVec 32 := Scalar.extui v3319
  let c0_i32_1779 : BitVec 32 := 0#32
  let v3321 : BitVec 1 := Scalar.cmpi .slt v3317 c0_i32_1779
  let v3322 : BitVec 32 := Scalar.extui v3321
  let v3323 : BitVec 32 := Scalar.subi v3320 v3322
  let c128_i32_1777 : BitVec 32 := 128#32
  let c0_i32_1780 : BitVec 32 := 0#32
  let v3324 : BitVec 1 := Scalar.cmpi .sgt c128_i32_1777 c0_i32_1780
  let v3325 : BitVec 32 := Scalar.extui v3324
  let c0_i32_1781 : BitVec 32 := 0#32
  let v3326 : BitVec 1 := Scalar.cmpi .slt c128_i32_1777 c0_i32_1781
  let v3327 : BitVec 32 := Scalar.extui v3326
  let v3328 : BitVec 32 := Scalar.subi v3325 v3327
  let v3329 : BitVec 1 := Scalar.cmpi .ne v3323 v3328
  let v3330 : BitVec 32 := Scalar.remsi v3317 c128_i32_1777
  let c0_i32_1782 : BitVec 32 := 0#32
  let v3331 : BitVec 1 := Scalar.cmpi .ne v3330 c0_i32_1782
  let v3332 : BitVec 1 := Scalar.andi v3329 v3331
  let v3318 : BitVec 32 := Scalar.divsi v3317 c128_i32_1777
  let c1_i32_1783 : BitVec 32 := 1#32
  let v3333 : BitVec 32 := Scalar.subi v3318 c1_i32_1783
  let v3334 : BitVec 32 := Scalar.select v3332 v3333 v3318
  let c128_i32_1784 : BitVec 32 := 128#32
  let v3335 : BitVec 32 := Scalar.muli v3334 c128_i32_1784
  let v3336 : BitVec 32 := Scalar.maxsi c0_i32_1785 v3335
  let v3337 : BitVec 32 := Scalar.minsi c99872_i32_1786 v3336
  v3337

def k1_off127 (v3317 : BitVec 32) : Fin 2 → Nat :=
  let c126_i32_1787 : BitVec 32 := 126#32
  let c99872_i32_1786 : BitVec 32 := 99872#32
  let c0_i32_1785 : BitVec 32 := 0#32
  let c0_i32_1778 : BitVec 32 := 0#32
  let v3319 : BitVec 1 := Scalar.cmpi .sgt v3317 c0_i32_1778
  let v3320 : BitVec 32 := Scalar.extui v3319
  let c0_i32_1779 : BitVec 32 := 0#32
  let v3321 : BitVec 1 := Scalar.cmpi .slt v3317 c0_i32_1779
  let v3322 : BitVec 32 := Scalar.extui v3321
  let v3323 : BitVec 32 := Scalar.subi v3320 v3322
  let c128_i32_1777 : BitVec 32 := 128#32
  let c0_i32_1780 : BitVec 32 := 0#32
  let v3324 : BitVec 1 := Scalar.cmpi .sgt c128_i32_1777 c0_i32_1780
  let v3325 : BitVec 32 := Scalar.extui v3324
  let c0_i32_1781 : BitVec 32 := 0#32
  let v3326 : BitVec 1 := Scalar.cmpi .slt c128_i32_1777 c0_i32_1781
  let v3327 : BitVec 32 := Scalar.extui v3326
  let v3328 : BitVec 32 := Scalar.subi v3325 v3327
  let v3329 : BitVec 1 := Scalar.cmpi .ne v3323 v3328
  let v3330 : BitVec 32 := Scalar.remsi v3317 c128_i32_1777
  let c0_i32_1782 : BitVec 32 := 0#32
  let v3331 : BitVec 1 := Scalar.cmpi .ne v3330 c0_i32_1782
  let v3332 : BitVec 1 := Scalar.andi v3329 v3331
  let v3318 : BitVec 32 := Scalar.divsi v3317 c128_i32_1777
  let c1_i32_1783 : BitVec 32 := 1#32
  let v3333 : BitVec 32 := Scalar.subi v3318 c1_i32_1783
  let v3334 : BitVec 32 := Scalar.select v3332 v3333 v3318
  let c128_i32_1784 : BitVec 32 := 128#32
  let v3335 : BitVec 32 := Scalar.muli v3334 c128_i32_1784
  let v3336 : BitVec 32 := Scalar.maxsi c0_i32_1785 v3335
  let v3337 : BitVec 32 := Scalar.minsi c99872_i32_1786 v3336
  let v3338 : BitVec 32 := v3337
  ![126, v3338.toNat]

def k1_chk127 (v3317 : BitVec 32) : Prop :=
  (32 ∣ (k1_mult127 v3317).toNat) ∧
  (∀ a, (k1_off127 v3317) a + S1x128.size a ≤ S128x100000.size a)
theorem k1_mult127_dvd : ∀ (v3317 : BitVec 32) (k1_hw127 : k1_chk127 v3317), 32 ∣ (k1_mult127 v3317).toNat := fun v3317 k1_hw127 => k1_hw127.1
theorem k1_off127_inb : ∀ (v3317 : BitVec 32) (k1_hw127 : k1_chk127 v3317), ∀ a, (k1_off127 v3317) a + S1x128.size a ≤ S128x100000.size a := fun v3317 k1_hw127 => k1_hw127.2

def k1_mult128 (v3343 : BitVec 32) : BitVec 32 :=
  let c99872_i32_1800 : BitVec 32 := 99872#32
  let c0_i32_1799 : BitVec 32 := 0#32
  let c0_i32_1792 : BitVec 32 := 0#32
  let v3345 : BitVec 1 := Scalar.cmpi .sgt v3343 c0_i32_1792
  let v3346 : BitVec 32 := Scalar.extui v3345
  let c0_i32_1793 : BitVec 32 := 0#32
  let v3347 : BitVec 1 := Scalar.cmpi .slt v3343 c0_i32_1793
  let v3348 : BitVec 32 := Scalar.extui v3347
  let v3349 : BitVec 32 := Scalar.subi v3346 v3348
  let c128_i32_1791 : BitVec 32 := 128#32
  let c0_i32_1794 : BitVec 32 := 0#32
  let v3350 : BitVec 1 := Scalar.cmpi .sgt c128_i32_1791 c0_i32_1794
  let v3351 : BitVec 32 := Scalar.extui v3350
  let c0_i32_1795 : BitVec 32 := 0#32
  let v3352 : BitVec 1 := Scalar.cmpi .slt c128_i32_1791 c0_i32_1795
  let v3353 : BitVec 32 := Scalar.extui v3352
  let v3354 : BitVec 32 := Scalar.subi v3351 v3353
  let v3355 : BitVec 1 := Scalar.cmpi .ne v3349 v3354
  let v3356 : BitVec 32 := Scalar.remsi v3343 c128_i32_1791
  let c0_i32_1796 : BitVec 32 := 0#32
  let v3357 : BitVec 1 := Scalar.cmpi .ne v3356 c0_i32_1796
  let v3358 : BitVec 1 := Scalar.andi v3355 v3357
  let v3344 : BitVec 32 := Scalar.divsi v3343 c128_i32_1791
  let c1_i32_1797 : BitVec 32 := 1#32
  let v3359 : BitVec 32 := Scalar.subi v3344 c1_i32_1797
  let v3360 : BitVec 32 := Scalar.select v3358 v3359 v3344
  let c128_i32_1798 : BitVec 32 := 128#32
  let v3361 : BitVec 32 := Scalar.muli v3360 c128_i32_1798
  let v3362 : BitVec 32 := Scalar.maxsi c0_i32_1799 v3361
  let v3363 : BitVec 32 := Scalar.minsi c99872_i32_1800 v3362
  v3363

def k1_off128 (v3343 : BitVec 32) : Fin 2 → Nat :=
  let c127_i32_1801 : BitVec 32 := 127#32
  let c99872_i32_1800 : BitVec 32 := 99872#32
  let c0_i32_1799 : BitVec 32 := 0#32
  let c0_i32_1792 : BitVec 32 := 0#32
  let v3345 : BitVec 1 := Scalar.cmpi .sgt v3343 c0_i32_1792
  let v3346 : BitVec 32 := Scalar.extui v3345
  let c0_i32_1793 : BitVec 32 := 0#32
  let v3347 : BitVec 1 := Scalar.cmpi .slt v3343 c0_i32_1793
  let v3348 : BitVec 32 := Scalar.extui v3347
  let v3349 : BitVec 32 := Scalar.subi v3346 v3348
  let c128_i32_1791 : BitVec 32 := 128#32
  let c0_i32_1794 : BitVec 32 := 0#32
  let v3350 : BitVec 1 := Scalar.cmpi .sgt c128_i32_1791 c0_i32_1794
  let v3351 : BitVec 32 := Scalar.extui v3350
  let c0_i32_1795 : BitVec 32 := 0#32
  let v3352 : BitVec 1 := Scalar.cmpi .slt c128_i32_1791 c0_i32_1795
  let v3353 : BitVec 32 := Scalar.extui v3352
  let v3354 : BitVec 32 := Scalar.subi v3351 v3353
  let v3355 : BitVec 1 := Scalar.cmpi .ne v3349 v3354
  let v3356 : BitVec 32 := Scalar.remsi v3343 c128_i32_1791
  let c0_i32_1796 : BitVec 32 := 0#32
  let v3357 : BitVec 1 := Scalar.cmpi .ne v3356 c0_i32_1796
  let v3358 : BitVec 1 := Scalar.andi v3355 v3357
  let v3344 : BitVec 32 := Scalar.divsi v3343 c128_i32_1791
  let c1_i32_1797 : BitVec 32 := 1#32
  let v3359 : BitVec 32 := Scalar.subi v3344 c1_i32_1797
  let v3360 : BitVec 32 := Scalar.select v3358 v3359 v3344
  let c128_i32_1798 : BitVec 32 := 128#32
  let v3361 : BitVec 32 := Scalar.muli v3360 c128_i32_1798
  let v3362 : BitVec 32 := Scalar.maxsi c0_i32_1799 v3361
  let v3363 : BitVec 32 := Scalar.minsi c99872_i32_1800 v3362
  let v3364 : BitVec 32 := v3363
  ![127, v3364.toNat]

def k1_chk128 (v3343 : BitVec 32) : Prop :=
  (32 ∣ (k1_mult128 v3343).toNat) ∧
  (∀ a, (k1_off128 v3343) a + S1x128.size a ≤ S128x100000.size a)
theorem k1_mult128_dvd : ∀ (v3343 : BitVec 32) (k1_hw128 : k1_chk128 v3343), 32 ∣ (k1_mult128 v3343).toNat := fun v3343 k1_hw128 => k1_hw128.1
theorem k1_off128_inb : ∀ (v3343 : BitVec 32) (k1_hw128 : k1_chk128 v3343), ∀ a, (k1_off128 v3343) a + S1x128.size a ≤ S128x100000.size a := fun v3343 k1_hw128 => k1_hw128.2

def k1_mult129 (v3369 : BitVec 32) : BitVec 32 :=
  let c99872_i32_1815 : BitVec 32 := 99872#32
  let c0_i32_1814 : BitVec 32 := 0#32
  let c0_i32_1807 : BitVec 32 := 0#32
  let v3371 : BitVec 1 := Scalar.cmpi .sgt v3369 c0_i32_1807
  let v3372 : BitVec 32 := Scalar.extui v3371
  let c0_i32_1808 : BitVec 32 := 0#32
  let v3373 : BitVec 1 := Scalar.cmpi .slt v3369 c0_i32_1808
  let v3374 : BitVec 32 := Scalar.extui v3373
  let v3375 : BitVec 32 := Scalar.subi v3372 v3374
  let c128_i32_1806 : BitVec 32 := 128#32
  let c0_i32_1809 : BitVec 32 := 0#32
  let v3376 : BitVec 1 := Scalar.cmpi .sgt c128_i32_1806 c0_i32_1809
  let v3377 : BitVec 32 := Scalar.extui v3376
  let c0_i32_1810 : BitVec 32 := 0#32
  let v3378 : BitVec 1 := Scalar.cmpi .slt c128_i32_1806 c0_i32_1810
  let v3379 : BitVec 32 := Scalar.extui v3378
  let v3380 : BitVec 32 := Scalar.subi v3377 v3379
  let v3381 : BitVec 1 := Scalar.cmpi .ne v3375 v3380
  let v3382 : BitVec 32 := Scalar.remsi v3369 c128_i32_1806
  let c0_i32_1811 : BitVec 32 := 0#32
  let v3383 : BitVec 1 := Scalar.cmpi .ne v3382 c0_i32_1811
  let v3384 : BitVec 1 := Scalar.andi v3381 v3383
  let v3370 : BitVec 32 := Scalar.divsi v3369 c128_i32_1806
  let c1_i32_1812 : BitVec 32 := 1#32
  let v3385 : BitVec 32 := Scalar.subi v3370 c1_i32_1812
  let v3386 : BitVec 32 := Scalar.select v3384 v3385 v3370
  let c128_i32_1813 : BitVec 32 := 128#32
  let v3387 : BitVec 32 := Scalar.muli v3386 c128_i32_1813
  let v3388 : BitVec 32 := Scalar.maxsi c0_i32_1814 v3387
  let v3389 : BitVec 32 := Scalar.minsi c99872_i32_1815 v3388
  v3389

def k1_off129 (v3369 : BitVec 32) : Fin 2 → Nat :=
  let c0_i32_1817 : BitVec 32 := 0#32
  let c99872_i32_1815 : BitVec 32 := 99872#32
  let c0_i32_1814 : BitVec 32 := 0#32
  let c0_i32_1807 : BitVec 32 := 0#32
  let v3371 : BitVec 1 := Scalar.cmpi .sgt v3369 c0_i32_1807
  let v3372 : BitVec 32 := Scalar.extui v3371
  let c0_i32_1808 : BitVec 32 := 0#32
  let v3373 : BitVec 1 := Scalar.cmpi .slt v3369 c0_i32_1808
  let v3374 : BitVec 32 := Scalar.extui v3373
  let v3375 : BitVec 32 := Scalar.subi v3372 v3374
  let c128_i32_1806 : BitVec 32 := 128#32
  let c0_i32_1809 : BitVec 32 := 0#32
  let v3376 : BitVec 1 := Scalar.cmpi .sgt c128_i32_1806 c0_i32_1809
  let v3377 : BitVec 32 := Scalar.extui v3376
  let c0_i32_1810 : BitVec 32 := 0#32
  let v3378 : BitVec 1 := Scalar.cmpi .slt c128_i32_1806 c0_i32_1810
  let v3379 : BitVec 32 := Scalar.extui v3378
  let v3380 : BitVec 32 := Scalar.subi v3377 v3379
  let v3381 : BitVec 1 := Scalar.cmpi .ne v3375 v3380
  let v3382 : BitVec 32 := Scalar.remsi v3369 c128_i32_1806
  let c0_i32_1811 : BitVec 32 := 0#32
  let v3383 : BitVec 1 := Scalar.cmpi .ne v3382 c0_i32_1811
  let v3384 : BitVec 1 := Scalar.andi v3381 v3383
  let v3370 : BitVec 32 := Scalar.divsi v3369 c128_i32_1806
  let c1_i32_1812 : BitVec 32 := 1#32
  let v3385 : BitVec 32 := Scalar.subi v3370 c1_i32_1812
  let v3386 : BitVec 32 := Scalar.select v3384 v3385 v3370
  let c128_i32_1813 : BitVec 32 := 128#32
  let v3387 : BitVec 32 := Scalar.muli v3386 c128_i32_1813
  let v3388 : BitVec 32 := Scalar.maxsi c0_i32_1814 v3387
  let v3389 : BitVec 32 := Scalar.minsi c99872_i32_1815 v3388
  let v3390 : BitVec 32 := v3389
  ![0, v3390.toNat]

def k1_chk129 (v3369 : BitVec 32) : Prop :=
  (32 ∣ (k1_mult129 v3369).toNat) ∧
  (∀ a, (k1_off129 v3369) a + S1x128.size a ≤ S128x100000.size a)
theorem k1_mult129_dvd : ∀ (v3369 : BitVec 32) (k1_hw129 : k1_chk129 v3369), 32 ∣ (k1_mult129 v3369).toNat := fun v3369 k1_hw129 => k1_hw129.1
theorem k1_off129_inb : ∀ (v3369 : BitVec 32) (k1_hw129 : k1_chk129 v3369), ∀ a, (k1_off129 v3369) a + S1x128.size a ≤ S128x100000.size a := fun v3369 k1_hw129 => k1_hw129.2

def k1_mult130 (v3395 : BitVec 32) : BitVec 32 :=
  let c99872_i32_1831 : BitVec 32 := 99872#32
  let c0_i32_1830 : BitVec 32 := 0#32
  let c0_i32_1823 : BitVec 32 := 0#32
  let v3397 : BitVec 1 := Scalar.cmpi .sgt v3395 c0_i32_1823
  let v3398 : BitVec 32 := Scalar.extui v3397
  let c0_i32_1824 : BitVec 32 := 0#32
  let v3399 : BitVec 1 := Scalar.cmpi .slt v3395 c0_i32_1824
  let v3400 : BitVec 32 := Scalar.extui v3399
  let v3401 : BitVec 32 := Scalar.subi v3398 v3400
  let c128_i32_1822 : BitVec 32 := 128#32
  let c0_i32_1825 : BitVec 32 := 0#32
  let v3402 : BitVec 1 := Scalar.cmpi .sgt c128_i32_1822 c0_i32_1825
  let v3403 : BitVec 32 := Scalar.extui v3402
  let c0_i32_1826 : BitVec 32 := 0#32
  let v3404 : BitVec 1 := Scalar.cmpi .slt c128_i32_1822 c0_i32_1826
  let v3405 : BitVec 32 := Scalar.extui v3404
  let v3406 : BitVec 32 := Scalar.subi v3403 v3405
  let v3407 : BitVec 1 := Scalar.cmpi .ne v3401 v3406
  let v3408 : BitVec 32 := Scalar.remsi v3395 c128_i32_1822
  let c0_i32_1827 : BitVec 32 := 0#32
  let v3409 : BitVec 1 := Scalar.cmpi .ne v3408 c0_i32_1827
  let v3410 : BitVec 1 := Scalar.andi v3407 v3409
  let v3396 : BitVec 32 := Scalar.divsi v3395 c128_i32_1822
  let c1_i32_1828 : BitVec 32 := 1#32
  let v3411 : BitVec 32 := Scalar.subi v3396 c1_i32_1828
  let v3412 : BitVec 32 := Scalar.select v3410 v3411 v3396
  let c128_i32_1829 : BitVec 32 := 128#32
  let v3413 : BitVec 32 := Scalar.muli v3412 c128_i32_1829
  let v3414 : BitVec 32 := Scalar.maxsi c0_i32_1830 v3413
  let v3415 : BitVec 32 := Scalar.minsi c99872_i32_1831 v3414
  v3415

def k1_off130 (v3395 : BitVec 32) : Fin 2 → Nat :=
  let c1_i32_1833 : BitVec 32 := 1#32
  let c99872_i32_1831 : BitVec 32 := 99872#32
  let c0_i32_1830 : BitVec 32 := 0#32
  let c0_i32_1823 : BitVec 32 := 0#32
  let v3397 : BitVec 1 := Scalar.cmpi .sgt v3395 c0_i32_1823
  let v3398 : BitVec 32 := Scalar.extui v3397
  let c0_i32_1824 : BitVec 32 := 0#32
  let v3399 : BitVec 1 := Scalar.cmpi .slt v3395 c0_i32_1824
  let v3400 : BitVec 32 := Scalar.extui v3399
  let v3401 : BitVec 32 := Scalar.subi v3398 v3400
  let c128_i32_1822 : BitVec 32 := 128#32
  let c0_i32_1825 : BitVec 32 := 0#32
  let v3402 : BitVec 1 := Scalar.cmpi .sgt c128_i32_1822 c0_i32_1825
  let v3403 : BitVec 32 := Scalar.extui v3402
  let c0_i32_1826 : BitVec 32 := 0#32
  let v3404 : BitVec 1 := Scalar.cmpi .slt c128_i32_1822 c0_i32_1826
  let v3405 : BitVec 32 := Scalar.extui v3404
  let v3406 : BitVec 32 := Scalar.subi v3403 v3405
  let v3407 : BitVec 1 := Scalar.cmpi .ne v3401 v3406
  let v3408 : BitVec 32 := Scalar.remsi v3395 c128_i32_1822
  let c0_i32_1827 : BitVec 32 := 0#32
  let v3409 : BitVec 1 := Scalar.cmpi .ne v3408 c0_i32_1827
  let v3410 : BitVec 1 := Scalar.andi v3407 v3409
  let v3396 : BitVec 32 := Scalar.divsi v3395 c128_i32_1822
  let c1_i32_1828 : BitVec 32 := 1#32
  let v3411 : BitVec 32 := Scalar.subi v3396 c1_i32_1828
  let v3412 : BitVec 32 := Scalar.select v3410 v3411 v3396
  let c128_i32_1829 : BitVec 32 := 128#32
  let v3413 : BitVec 32 := Scalar.muli v3412 c128_i32_1829
  let v3414 : BitVec 32 := Scalar.maxsi c0_i32_1830 v3413
  let v3415 : BitVec 32 := Scalar.minsi c99872_i32_1831 v3414
  let v3416 : BitVec 32 := v3415
  ![1, v3416.toNat]

def k1_chk130 (v3395 : BitVec 32) : Prop :=
  (32 ∣ (k1_mult130 v3395).toNat) ∧
  (∀ a, (k1_off130 v3395) a + S1x128.size a ≤ S128x100000.size a)
theorem k1_mult130_dvd : ∀ (v3395 : BitVec 32) (k1_hw130 : k1_chk130 v3395), 32 ∣ (k1_mult130 v3395).toNat := fun v3395 k1_hw130 => k1_hw130.1
theorem k1_off130_inb : ∀ (v3395 : BitVec 32) (k1_hw130 : k1_chk130 v3395), ∀ a, (k1_off130 v3395) a + S1x128.size a ≤ S128x100000.size a := fun v3395 k1_hw130 => k1_hw130.2

def k1_mult131 (v3421 : BitVec 32) : BitVec 32 :=
  let c99872_i32_1847 : BitVec 32 := 99872#32
  let c0_i32_1846 : BitVec 32 := 0#32
  let c0_i32_1839 : BitVec 32 := 0#32
  let v3423 : BitVec 1 := Scalar.cmpi .sgt v3421 c0_i32_1839
  let v3424 : BitVec 32 := Scalar.extui v3423
  let c0_i32_1840 : BitVec 32 := 0#32
  let v3425 : BitVec 1 := Scalar.cmpi .slt v3421 c0_i32_1840
  let v3426 : BitVec 32 := Scalar.extui v3425
  let v3427 : BitVec 32 := Scalar.subi v3424 v3426
  let c128_i32_1838 : BitVec 32 := 128#32
  let c0_i32_1841 : BitVec 32 := 0#32
  let v3428 : BitVec 1 := Scalar.cmpi .sgt c128_i32_1838 c0_i32_1841
  let v3429 : BitVec 32 := Scalar.extui v3428
  let c0_i32_1842 : BitVec 32 := 0#32
  let v3430 : BitVec 1 := Scalar.cmpi .slt c128_i32_1838 c0_i32_1842
  let v3431 : BitVec 32 := Scalar.extui v3430
  let v3432 : BitVec 32 := Scalar.subi v3429 v3431
  let v3433 : BitVec 1 := Scalar.cmpi .ne v3427 v3432
  let v3434 : BitVec 32 := Scalar.remsi v3421 c128_i32_1838
  let c0_i32_1843 : BitVec 32 := 0#32
  let v3435 : BitVec 1 := Scalar.cmpi .ne v3434 c0_i32_1843
  let v3436 : BitVec 1 := Scalar.andi v3433 v3435
  let v3422 : BitVec 32 := Scalar.divsi v3421 c128_i32_1838
  let c1_i32_1844 : BitVec 32 := 1#32
  let v3437 : BitVec 32 := Scalar.subi v3422 c1_i32_1844
  let v3438 : BitVec 32 := Scalar.select v3436 v3437 v3422
  let c128_i32_1845 : BitVec 32 := 128#32
  let v3439 : BitVec 32 := Scalar.muli v3438 c128_i32_1845
  let v3440 : BitVec 32 := Scalar.maxsi c0_i32_1846 v3439
  let v3441 : BitVec 32 := Scalar.minsi c99872_i32_1847 v3440
  v3441

def k1_off131 (v3421 : BitVec 32) : Fin 2 → Nat :=
  let c2_i32_1849 : BitVec 32 := 2#32
  let c99872_i32_1847 : BitVec 32 := 99872#32
  let c0_i32_1846 : BitVec 32 := 0#32
  let c0_i32_1839 : BitVec 32 := 0#32
  let v3423 : BitVec 1 := Scalar.cmpi .sgt v3421 c0_i32_1839
  let v3424 : BitVec 32 := Scalar.extui v3423
  let c0_i32_1840 : BitVec 32 := 0#32
  let v3425 : BitVec 1 := Scalar.cmpi .slt v3421 c0_i32_1840
  let v3426 : BitVec 32 := Scalar.extui v3425
  let v3427 : BitVec 32 := Scalar.subi v3424 v3426
  let c128_i32_1838 : BitVec 32 := 128#32
  let c0_i32_1841 : BitVec 32 := 0#32
  let v3428 : BitVec 1 := Scalar.cmpi .sgt c128_i32_1838 c0_i32_1841
  let v3429 : BitVec 32 := Scalar.extui v3428
  let c0_i32_1842 : BitVec 32 := 0#32
  let v3430 : BitVec 1 := Scalar.cmpi .slt c128_i32_1838 c0_i32_1842
  let v3431 : BitVec 32 := Scalar.extui v3430
  let v3432 : BitVec 32 := Scalar.subi v3429 v3431
  let v3433 : BitVec 1 := Scalar.cmpi .ne v3427 v3432
  let v3434 : BitVec 32 := Scalar.remsi v3421 c128_i32_1838
  let c0_i32_1843 : BitVec 32 := 0#32
  let v3435 : BitVec 1 := Scalar.cmpi .ne v3434 c0_i32_1843
  let v3436 : BitVec 1 := Scalar.andi v3433 v3435
  let v3422 : BitVec 32 := Scalar.divsi v3421 c128_i32_1838
  let c1_i32_1844 : BitVec 32 := 1#32
  let v3437 : BitVec 32 := Scalar.subi v3422 c1_i32_1844
  let v3438 : BitVec 32 := Scalar.select v3436 v3437 v3422
  let c128_i32_1845 : BitVec 32 := 128#32
  let v3439 : BitVec 32 := Scalar.muli v3438 c128_i32_1845
  let v3440 : BitVec 32 := Scalar.maxsi c0_i32_1846 v3439
  let v3441 : BitVec 32 := Scalar.minsi c99872_i32_1847 v3440
  let v3442 : BitVec 32 := v3441
  ![2, v3442.toNat]

def k1_chk131 (v3421 : BitVec 32) : Prop :=
  (32 ∣ (k1_mult131 v3421).toNat) ∧
  (∀ a, (k1_off131 v3421) a + S1x128.size a ≤ S128x100000.size a)
theorem k1_mult131_dvd : ∀ (v3421 : BitVec 32) (k1_hw131 : k1_chk131 v3421), 32 ∣ (k1_mult131 v3421).toNat := fun v3421 k1_hw131 => k1_hw131.1
theorem k1_off131_inb : ∀ (v3421 : BitVec 32) (k1_hw131 : k1_chk131 v3421), ∀ a, (k1_off131 v3421) a + S1x128.size a ≤ S128x100000.size a := fun v3421 k1_hw131 => k1_hw131.2

def k1_mult132 (v3447 : BitVec 32) : BitVec 32 :=
  let c99872_i32_1863 : BitVec 32 := 99872#32
  let c0_i32_1862 : BitVec 32 := 0#32
  let c0_i32_1855 : BitVec 32 := 0#32
  let v3449 : BitVec 1 := Scalar.cmpi .sgt v3447 c0_i32_1855
  let v3450 : BitVec 32 := Scalar.extui v3449
  let c0_i32_1856 : BitVec 32 := 0#32
  let v3451 : BitVec 1 := Scalar.cmpi .slt v3447 c0_i32_1856
  let v3452 : BitVec 32 := Scalar.extui v3451
  let v3453 : BitVec 32 := Scalar.subi v3450 v3452
  let c128_i32_1854 : BitVec 32 := 128#32
  let c0_i32_1857 : BitVec 32 := 0#32
  let v3454 : BitVec 1 := Scalar.cmpi .sgt c128_i32_1854 c0_i32_1857
  let v3455 : BitVec 32 := Scalar.extui v3454
  let c0_i32_1858 : BitVec 32 := 0#32
  let v3456 : BitVec 1 := Scalar.cmpi .slt c128_i32_1854 c0_i32_1858
  let v3457 : BitVec 32 := Scalar.extui v3456
  let v3458 : BitVec 32 := Scalar.subi v3455 v3457
  let v3459 : BitVec 1 := Scalar.cmpi .ne v3453 v3458
  let v3460 : BitVec 32 := Scalar.remsi v3447 c128_i32_1854
  let c0_i32_1859 : BitVec 32 := 0#32
  let v3461 : BitVec 1 := Scalar.cmpi .ne v3460 c0_i32_1859
  let v3462 : BitVec 1 := Scalar.andi v3459 v3461
  let v3448 : BitVec 32 := Scalar.divsi v3447 c128_i32_1854
  let c1_i32_1860 : BitVec 32 := 1#32
  let v3463 : BitVec 32 := Scalar.subi v3448 c1_i32_1860
  let v3464 : BitVec 32 := Scalar.select v3462 v3463 v3448
  let c128_i32_1861 : BitVec 32 := 128#32
  let v3465 : BitVec 32 := Scalar.muli v3464 c128_i32_1861
  let v3466 : BitVec 32 := Scalar.maxsi c0_i32_1862 v3465
  let v3467 : BitVec 32 := Scalar.minsi c99872_i32_1863 v3466
  v3467

def k1_off132 (v3447 : BitVec 32) : Fin 2 → Nat :=
  let c3_i32_1865 : BitVec 32 := 3#32
  let c99872_i32_1863 : BitVec 32 := 99872#32
  let c0_i32_1862 : BitVec 32 := 0#32
  let c0_i32_1855 : BitVec 32 := 0#32
  let v3449 : BitVec 1 := Scalar.cmpi .sgt v3447 c0_i32_1855
  let v3450 : BitVec 32 := Scalar.extui v3449
  let c0_i32_1856 : BitVec 32 := 0#32
  let v3451 : BitVec 1 := Scalar.cmpi .slt v3447 c0_i32_1856
  let v3452 : BitVec 32 := Scalar.extui v3451
  let v3453 : BitVec 32 := Scalar.subi v3450 v3452
  let c128_i32_1854 : BitVec 32 := 128#32
  let c0_i32_1857 : BitVec 32 := 0#32
  let v3454 : BitVec 1 := Scalar.cmpi .sgt c128_i32_1854 c0_i32_1857
  let v3455 : BitVec 32 := Scalar.extui v3454
  let c0_i32_1858 : BitVec 32 := 0#32
  let v3456 : BitVec 1 := Scalar.cmpi .slt c128_i32_1854 c0_i32_1858
  let v3457 : BitVec 32 := Scalar.extui v3456
  let v3458 : BitVec 32 := Scalar.subi v3455 v3457
  let v3459 : BitVec 1 := Scalar.cmpi .ne v3453 v3458
  let v3460 : BitVec 32 := Scalar.remsi v3447 c128_i32_1854
  let c0_i32_1859 : BitVec 32 := 0#32
  let v3461 : BitVec 1 := Scalar.cmpi .ne v3460 c0_i32_1859
  let v3462 : BitVec 1 := Scalar.andi v3459 v3461
  let v3448 : BitVec 32 := Scalar.divsi v3447 c128_i32_1854
  let c1_i32_1860 : BitVec 32 := 1#32
  let v3463 : BitVec 32 := Scalar.subi v3448 c1_i32_1860
  let v3464 : BitVec 32 := Scalar.select v3462 v3463 v3448
  let c128_i32_1861 : BitVec 32 := 128#32
  let v3465 : BitVec 32 := Scalar.muli v3464 c128_i32_1861
  let v3466 : BitVec 32 := Scalar.maxsi c0_i32_1862 v3465
  let v3467 : BitVec 32 := Scalar.minsi c99872_i32_1863 v3466
  let v3468 : BitVec 32 := v3467
  ![3, v3468.toNat]

def k1_chk132 (v3447 : BitVec 32) : Prop :=
  (32 ∣ (k1_mult132 v3447).toNat) ∧
  (∀ a, (k1_off132 v3447) a + S1x128.size a ≤ S128x100000.size a)
theorem k1_mult132_dvd : ∀ (v3447 : BitVec 32) (k1_hw132 : k1_chk132 v3447), 32 ∣ (k1_mult132 v3447).toNat := fun v3447 k1_hw132 => k1_hw132.1
theorem k1_off132_inb : ∀ (v3447 : BitVec 32) (k1_hw132 : k1_chk132 v3447), ∀ a, (k1_off132 v3447) a + S1x128.size a ≤ S128x100000.size a := fun v3447 k1_hw132 => k1_hw132.2

def k1_mult133 (v3473 : BitVec 32) : BitVec 32 :=
  let c99872_i32_1879 : BitVec 32 := 99872#32
  let c0_i32_1878 : BitVec 32 := 0#32
  let c0_i32_1871 : BitVec 32 := 0#32
  let v3475 : BitVec 1 := Scalar.cmpi .sgt v3473 c0_i32_1871
  let v3476 : BitVec 32 := Scalar.extui v3475
  let c0_i32_1872 : BitVec 32 := 0#32
  let v3477 : BitVec 1 := Scalar.cmpi .slt v3473 c0_i32_1872
  let v3478 : BitVec 32 := Scalar.extui v3477
  let v3479 : BitVec 32 := Scalar.subi v3476 v3478
  let c128_i32_1870 : BitVec 32 := 128#32
  let c0_i32_1873 : BitVec 32 := 0#32
  let v3480 : BitVec 1 := Scalar.cmpi .sgt c128_i32_1870 c0_i32_1873
  let v3481 : BitVec 32 := Scalar.extui v3480
  let c0_i32_1874 : BitVec 32 := 0#32
  let v3482 : BitVec 1 := Scalar.cmpi .slt c128_i32_1870 c0_i32_1874
  let v3483 : BitVec 32 := Scalar.extui v3482
  let v3484 : BitVec 32 := Scalar.subi v3481 v3483
  let v3485 : BitVec 1 := Scalar.cmpi .ne v3479 v3484
  let v3486 : BitVec 32 := Scalar.remsi v3473 c128_i32_1870
  let c0_i32_1875 : BitVec 32 := 0#32
  let v3487 : BitVec 1 := Scalar.cmpi .ne v3486 c0_i32_1875
  let v3488 : BitVec 1 := Scalar.andi v3485 v3487
  let v3474 : BitVec 32 := Scalar.divsi v3473 c128_i32_1870
  let c1_i32_1876 : BitVec 32 := 1#32
  let v3489 : BitVec 32 := Scalar.subi v3474 c1_i32_1876
  let v3490 : BitVec 32 := Scalar.select v3488 v3489 v3474
  let c128_i32_1877 : BitVec 32 := 128#32
  let v3491 : BitVec 32 := Scalar.muli v3490 c128_i32_1877
  let v3492 : BitVec 32 := Scalar.maxsi c0_i32_1878 v3491
  let v3493 : BitVec 32 := Scalar.minsi c99872_i32_1879 v3492
  v3493

def k1_off133 (v3473 : BitVec 32) : Fin 2 → Nat :=
  let c4_i32_1881 : BitVec 32 := 4#32
  let c99872_i32_1879 : BitVec 32 := 99872#32
  let c0_i32_1878 : BitVec 32 := 0#32
  let c0_i32_1871 : BitVec 32 := 0#32
  let v3475 : BitVec 1 := Scalar.cmpi .sgt v3473 c0_i32_1871
  let v3476 : BitVec 32 := Scalar.extui v3475
  let c0_i32_1872 : BitVec 32 := 0#32
  let v3477 : BitVec 1 := Scalar.cmpi .slt v3473 c0_i32_1872
  let v3478 : BitVec 32 := Scalar.extui v3477
  let v3479 : BitVec 32 := Scalar.subi v3476 v3478
  let c128_i32_1870 : BitVec 32 := 128#32
  let c0_i32_1873 : BitVec 32 := 0#32
  let v3480 : BitVec 1 := Scalar.cmpi .sgt c128_i32_1870 c0_i32_1873
  let v3481 : BitVec 32 := Scalar.extui v3480
  let c0_i32_1874 : BitVec 32 := 0#32
  let v3482 : BitVec 1 := Scalar.cmpi .slt c128_i32_1870 c0_i32_1874
  let v3483 : BitVec 32 := Scalar.extui v3482
  let v3484 : BitVec 32 := Scalar.subi v3481 v3483
  let v3485 : BitVec 1 := Scalar.cmpi .ne v3479 v3484
  let v3486 : BitVec 32 := Scalar.remsi v3473 c128_i32_1870
  let c0_i32_1875 : BitVec 32 := 0#32
  let v3487 : BitVec 1 := Scalar.cmpi .ne v3486 c0_i32_1875
  let v3488 : BitVec 1 := Scalar.andi v3485 v3487
  let v3474 : BitVec 32 := Scalar.divsi v3473 c128_i32_1870
  let c1_i32_1876 : BitVec 32 := 1#32
  let v3489 : BitVec 32 := Scalar.subi v3474 c1_i32_1876
  let v3490 : BitVec 32 := Scalar.select v3488 v3489 v3474
  let c128_i32_1877 : BitVec 32 := 128#32
  let v3491 : BitVec 32 := Scalar.muli v3490 c128_i32_1877
  let v3492 : BitVec 32 := Scalar.maxsi c0_i32_1878 v3491
  let v3493 : BitVec 32 := Scalar.minsi c99872_i32_1879 v3492
  let v3494 : BitVec 32 := v3493
  ![4, v3494.toNat]

def k1_chk133 (v3473 : BitVec 32) : Prop :=
  (32 ∣ (k1_mult133 v3473).toNat) ∧
  (∀ a, (k1_off133 v3473) a + S1x128.size a ≤ S128x100000.size a)
theorem k1_mult133_dvd : ∀ (v3473 : BitVec 32) (k1_hw133 : k1_chk133 v3473), 32 ∣ (k1_mult133 v3473).toNat := fun v3473 k1_hw133 => k1_hw133.1
theorem k1_off133_inb : ∀ (v3473 : BitVec 32) (k1_hw133 : k1_chk133 v3473), ∀ a, (k1_off133 v3473) a + S1x128.size a ≤ S128x100000.size a := fun v3473 k1_hw133 => k1_hw133.2

def k1_mult134 (v3499 : BitVec 32) : BitVec 32 :=
  let c99872_i32_1895 : BitVec 32 := 99872#32
  let c0_i32_1894 : BitVec 32 := 0#32
  let c0_i32_1887 : BitVec 32 := 0#32
  let v3501 : BitVec 1 := Scalar.cmpi .sgt v3499 c0_i32_1887
  let v3502 : BitVec 32 := Scalar.extui v3501
  let c0_i32_1888 : BitVec 32 := 0#32
  let v3503 : BitVec 1 := Scalar.cmpi .slt v3499 c0_i32_1888
  let v3504 : BitVec 32 := Scalar.extui v3503
  let v3505 : BitVec 32 := Scalar.subi v3502 v3504
  let c128_i32_1886 : BitVec 32 := 128#32
  let c0_i32_1889 : BitVec 32 := 0#32
  let v3506 : BitVec 1 := Scalar.cmpi .sgt c128_i32_1886 c0_i32_1889
  let v3507 : BitVec 32 := Scalar.extui v3506
  let c0_i32_1890 : BitVec 32 := 0#32
  let v3508 : BitVec 1 := Scalar.cmpi .slt c128_i32_1886 c0_i32_1890
  let v3509 : BitVec 32 := Scalar.extui v3508
  let v3510 : BitVec 32 := Scalar.subi v3507 v3509
  let v3511 : BitVec 1 := Scalar.cmpi .ne v3505 v3510
  let v3512 : BitVec 32 := Scalar.remsi v3499 c128_i32_1886
  let c0_i32_1891 : BitVec 32 := 0#32
  let v3513 : BitVec 1 := Scalar.cmpi .ne v3512 c0_i32_1891
  let v3514 : BitVec 1 := Scalar.andi v3511 v3513
  let v3500 : BitVec 32 := Scalar.divsi v3499 c128_i32_1886
  let c1_i32_1892 : BitVec 32 := 1#32
  let v3515 : BitVec 32 := Scalar.subi v3500 c1_i32_1892
  let v3516 : BitVec 32 := Scalar.select v3514 v3515 v3500
  let c128_i32_1893 : BitVec 32 := 128#32
  let v3517 : BitVec 32 := Scalar.muli v3516 c128_i32_1893
  let v3518 : BitVec 32 := Scalar.maxsi c0_i32_1894 v3517
  let v3519 : BitVec 32 := Scalar.minsi c99872_i32_1895 v3518
  v3519

def k1_off134 (v3499 : BitVec 32) : Fin 2 → Nat :=
  let c5_i32_1897 : BitVec 32 := 5#32
  let c99872_i32_1895 : BitVec 32 := 99872#32
  let c0_i32_1894 : BitVec 32 := 0#32
  let c0_i32_1887 : BitVec 32 := 0#32
  let v3501 : BitVec 1 := Scalar.cmpi .sgt v3499 c0_i32_1887
  let v3502 : BitVec 32 := Scalar.extui v3501
  let c0_i32_1888 : BitVec 32 := 0#32
  let v3503 : BitVec 1 := Scalar.cmpi .slt v3499 c0_i32_1888
  let v3504 : BitVec 32 := Scalar.extui v3503
  let v3505 : BitVec 32 := Scalar.subi v3502 v3504
  let c128_i32_1886 : BitVec 32 := 128#32
  let c0_i32_1889 : BitVec 32 := 0#32
  let v3506 : BitVec 1 := Scalar.cmpi .sgt c128_i32_1886 c0_i32_1889
  let v3507 : BitVec 32 := Scalar.extui v3506
  let c0_i32_1890 : BitVec 32 := 0#32
  let v3508 : BitVec 1 := Scalar.cmpi .slt c128_i32_1886 c0_i32_1890
  let v3509 : BitVec 32 := Scalar.extui v3508
  let v3510 : BitVec 32 := Scalar.subi v3507 v3509
  let v3511 : BitVec 1 := Scalar.cmpi .ne v3505 v3510
  let v3512 : BitVec 32 := Scalar.remsi v3499 c128_i32_1886
  let c0_i32_1891 : BitVec 32 := 0#32
  let v3513 : BitVec 1 := Scalar.cmpi .ne v3512 c0_i32_1891
  let v3514 : BitVec 1 := Scalar.andi v3511 v3513
  let v3500 : BitVec 32 := Scalar.divsi v3499 c128_i32_1886
  let c1_i32_1892 : BitVec 32 := 1#32
  let v3515 : BitVec 32 := Scalar.subi v3500 c1_i32_1892
  let v3516 : BitVec 32 := Scalar.select v3514 v3515 v3500
  let c128_i32_1893 : BitVec 32 := 128#32
  let v3517 : BitVec 32 := Scalar.muli v3516 c128_i32_1893
  let v3518 : BitVec 32 := Scalar.maxsi c0_i32_1894 v3517
  let v3519 : BitVec 32 := Scalar.minsi c99872_i32_1895 v3518
  let v3520 : BitVec 32 := v3519
  ![5, v3520.toNat]

def k1_chk134 (v3499 : BitVec 32) : Prop :=
  (32 ∣ (k1_mult134 v3499).toNat) ∧
  (∀ a, (k1_off134 v3499) a + S1x128.size a ≤ S128x100000.size a)
theorem k1_mult134_dvd : ∀ (v3499 : BitVec 32) (k1_hw134 : k1_chk134 v3499), 32 ∣ (k1_mult134 v3499).toNat := fun v3499 k1_hw134 => k1_hw134.1
theorem k1_off134_inb : ∀ (v3499 : BitVec 32) (k1_hw134 : k1_chk134 v3499), ∀ a, (k1_off134 v3499) a + S1x128.size a ≤ S128x100000.size a := fun v3499 k1_hw134 => k1_hw134.2

def k1_mult135 (v3525 : BitVec 32) : BitVec 32 :=
  let c99872_i32_1911 : BitVec 32 := 99872#32
  let c0_i32_1910 : BitVec 32 := 0#32
  let c0_i32_1903 : BitVec 32 := 0#32
  let v3527 : BitVec 1 := Scalar.cmpi .sgt v3525 c0_i32_1903
  let v3528 : BitVec 32 := Scalar.extui v3527
  let c0_i32_1904 : BitVec 32 := 0#32
  let v3529 : BitVec 1 := Scalar.cmpi .slt v3525 c0_i32_1904
  let v3530 : BitVec 32 := Scalar.extui v3529
  let v3531 : BitVec 32 := Scalar.subi v3528 v3530
  let c128_i32_1902 : BitVec 32 := 128#32
  let c0_i32_1905 : BitVec 32 := 0#32
  let v3532 : BitVec 1 := Scalar.cmpi .sgt c128_i32_1902 c0_i32_1905
  let v3533 : BitVec 32 := Scalar.extui v3532
  let c0_i32_1906 : BitVec 32 := 0#32
  let v3534 : BitVec 1 := Scalar.cmpi .slt c128_i32_1902 c0_i32_1906
  let v3535 : BitVec 32 := Scalar.extui v3534
  let v3536 : BitVec 32 := Scalar.subi v3533 v3535
  let v3537 : BitVec 1 := Scalar.cmpi .ne v3531 v3536
  let v3538 : BitVec 32 := Scalar.remsi v3525 c128_i32_1902
  let c0_i32_1907 : BitVec 32 := 0#32
  let v3539 : BitVec 1 := Scalar.cmpi .ne v3538 c0_i32_1907
  let v3540 : BitVec 1 := Scalar.andi v3537 v3539
  let v3526 : BitVec 32 := Scalar.divsi v3525 c128_i32_1902
  let c1_i32_1908 : BitVec 32 := 1#32
  let v3541 : BitVec 32 := Scalar.subi v3526 c1_i32_1908
  let v3542 : BitVec 32 := Scalar.select v3540 v3541 v3526
  let c128_i32_1909 : BitVec 32 := 128#32
  let v3543 : BitVec 32 := Scalar.muli v3542 c128_i32_1909
  let v3544 : BitVec 32 := Scalar.maxsi c0_i32_1910 v3543
  let v3545 : BitVec 32 := Scalar.minsi c99872_i32_1911 v3544
  v3545

def k1_off135 (v3525 : BitVec 32) : Fin 2 → Nat :=
  let c6_i32_1913 : BitVec 32 := 6#32
  let c99872_i32_1911 : BitVec 32 := 99872#32
  let c0_i32_1910 : BitVec 32 := 0#32
  let c0_i32_1903 : BitVec 32 := 0#32
  let v3527 : BitVec 1 := Scalar.cmpi .sgt v3525 c0_i32_1903
  let v3528 : BitVec 32 := Scalar.extui v3527
  let c0_i32_1904 : BitVec 32 := 0#32
  let v3529 : BitVec 1 := Scalar.cmpi .slt v3525 c0_i32_1904
  let v3530 : BitVec 32 := Scalar.extui v3529
  let v3531 : BitVec 32 := Scalar.subi v3528 v3530
  let c128_i32_1902 : BitVec 32 := 128#32
  let c0_i32_1905 : BitVec 32 := 0#32
  let v3532 : BitVec 1 := Scalar.cmpi .sgt c128_i32_1902 c0_i32_1905
  let v3533 : BitVec 32 := Scalar.extui v3532
  let c0_i32_1906 : BitVec 32 := 0#32
  let v3534 : BitVec 1 := Scalar.cmpi .slt c128_i32_1902 c0_i32_1906
  let v3535 : BitVec 32 := Scalar.extui v3534
  let v3536 : BitVec 32 := Scalar.subi v3533 v3535
  let v3537 : BitVec 1 := Scalar.cmpi .ne v3531 v3536
  let v3538 : BitVec 32 := Scalar.remsi v3525 c128_i32_1902
  let c0_i32_1907 : BitVec 32 := 0#32
  let v3539 : BitVec 1 := Scalar.cmpi .ne v3538 c0_i32_1907
  let v3540 : BitVec 1 := Scalar.andi v3537 v3539
  let v3526 : BitVec 32 := Scalar.divsi v3525 c128_i32_1902
  let c1_i32_1908 : BitVec 32 := 1#32
  let v3541 : BitVec 32 := Scalar.subi v3526 c1_i32_1908
  let v3542 : BitVec 32 := Scalar.select v3540 v3541 v3526
  let c128_i32_1909 : BitVec 32 := 128#32
  let v3543 : BitVec 32 := Scalar.muli v3542 c128_i32_1909
  let v3544 : BitVec 32 := Scalar.maxsi c0_i32_1910 v3543
  let v3545 : BitVec 32 := Scalar.minsi c99872_i32_1911 v3544
  let v3546 : BitVec 32 := v3545
  ![6, v3546.toNat]

def k1_chk135 (v3525 : BitVec 32) : Prop :=
  (32 ∣ (k1_mult135 v3525).toNat) ∧
  (∀ a, (k1_off135 v3525) a + S1x128.size a ≤ S128x100000.size a)
theorem k1_mult135_dvd : ∀ (v3525 : BitVec 32) (k1_hw135 : k1_chk135 v3525), 32 ∣ (k1_mult135 v3525).toNat := fun v3525 k1_hw135 => k1_hw135.1
theorem k1_off135_inb : ∀ (v3525 : BitVec 32) (k1_hw135 : k1_chk135 v3525), ∀ a, (k1_off135 v3525) a + S1x128.size a ≤ S128x100000.size a := fun v3525 k1_hw135 => k1_hw135.2

def k1_mult136 (v3551 : BitVec 32) : BitVec 32 :=
  let c99872_i32_1927 : BitVec 32 := 99872#32
  let c0_i32_1926 : BitVec 32 := 0#32
  let c0_i32_1919 : BitVec 32 := 0#32
  let v3553 : BitVec 1 := Scalar.cmpi .sgt v3551 c0_i32_1919
  let v3554 : BitVec 32 := Scalar.extui v3553
  let c0_i32_1920 : BitVec 32 := 0#32
  let v3555 : BitVec 1 := Scalar.cmpi .slt v3551 c0_i32_1920
  let v3556 : BitVec 32 := Scalar.extui v3555
  let v3557 : BitVec 32 := Scalar.subi v3554 v3556
  let c128_i32_1918 : BitVec 32 := 128#32
  let c0_i32_1921 : BitVec 32 := 0#32
  let v3558 : BitVec 1 := Scalar.cmpi .sgt c128_i32_1918 c0_i32_1921
  let v3559 : BitVec 32 := Scalar.extui v3558
  let c0_i32_1922 : BitVec 32 := 0#32
  let v3560 : BitVec 1 := Scalar.cmpi .slt c128_i32_1918 c0_i32_1922
  let v3561 : BitVec 32 := Scalar.extui v3560
  let v3562 : BitVec 32 := Scalar.subi v3559 v3561
  let v3563 : BitVec 1 := Scalar.cmpi .ne v3557 v3562
  let v3564 : BitVec 32 := Scalar.remsi v3551 c128_i32_1918
  let c0_i32_1923 : BitVec 32 := 0#32
  let v3565 : BitVec 1 := Scalar.cmpi .ne v3564 c0_i32_1923
  let v3566 : BitVec 1 := Scalar.andi v3563 v3565
  let v3552 : BitVec 32 := Scalar.divsi v3551 c128_i32_1918
  let c1_i32_1924 : BitVec 32 := 1#32
  let v3567 : BitVec 32 := Scalar.subi v3552 c1_i32_1924
  let v3568 : BitVec 32 := Scalar.select v3566 v3567 v3552
  let c128_i32_1925 : BitVec 32 := 128#32
  let v3569 : BitVec 32 := Scalar.muli v3568 c128_i32_1925
  let v3570 : BitVec 32 := Scalar.maxsi c0_i32_1926 v3569
  let v3571 : BitVec 32 := Scalar.minsi c99872_i32_1927 v3570
  v3571

def k1_off136 (v3551 : BitVec 32) : Fin 2 → Nat :=
  let c7_i32_1929 : BitVec 32 := 7#32
  let c99872_i32_1927 : BitVec 32 := 99872#32
  let c0_i32_1926 : BitVec 32 := 0#32
  let c0_i32_1919 : BitVec 32 := 0#32
  let v3553 : BitVec 1 := Scalar.cmpi .sgt v3551 c0_i32_1919
  let v3554 : BitVec 32 := Scalar.extui v3553
  let c0_i32_1920 : BitVec 32 := 0#32
  let v3555 : BitVec 1 := Scalar.cmpi .slt v3551 c0_i32_1920
  let v3556 : BitVec 32 := Scalar.extui v3555
  let v3557 : BitVec 32 := Scalar.subi v3554 v3556
  let c128_i32_1918 : BitVec 32 := 128#32
  let c0_i32_1921 : BitVec 32 := 0#32
  let v3558 : BitVec 1 := Scalar.cmpi .sgt c128_i32_1918 c0_i32_1921
  let v3559 : BitVec 32 := Scalar.extui v3558
  let c0_i32_1922 : BitVec 32 := 0#32
  let v3560 : BitVec 1 := Scalar.cmpi .slt c128_i32_1918 c0_i32_1922
  let v3561 : BitVec 32 := Scalar.extui v3560
  let v3562 : BitVec 32 := Scalar.subi v3559 v3561
  let v3563 : BitVec 1 := Scalar.cmpi .ne v3557 v3562
  let v3564 : BitVec 32 := Scalar.remsi v3551 c128_i32_1918
  let c0_i32_1923 : BitVec 32 := 0#32
  let v3565 : BitVec 1 := Scalar.cmpi .ne v3564 c0_i32_1923
  let v3566 : BitVec 1 := Scalar.andi v3563 v3565
  let v3552 : BitVec 32 := Scalar.divsi v3551 c128_i32_1918
  let c1_i32_1924 : BitVec 32 := 1#32
  let v3567 : BitVec 32 := Scalar.subi v3552 c1_i32_1924
  let v3568 : BitVec 32 := Scalar.select v3566 v3567 v3552
  let c128_i32_1925 : BitVec 32 := 128#32
  let v3569 : BitVec 32 := Scalar.muli v3568 c128_i32_1925
  let v3570 : BitVec 32 := Scalar.maxsi c0_i32_1926 v3569
  let v3571 : BitVec 32 := Scalar.minsi c99872_i32_1927 v3570
  let v3572 : BitVec 32 := v3571
  ![7, v3572.toNat]

def k1_chk136 (v3551 : BitVec 32) : Prop :=
  (32 ∣ (k1_mult136 v3551).toNat) ∧
  (∀ a, (k1_off136 v3551) a + S1x128.size a ≤ S128x100000.size a)
theorem k1_mult136_dvd : ∀ (v3551 : BitVec 32) (k1_hw136 : k1_chk136 v3551), 32 ∣ (k1_mult136 v3551).toNat := fun v3551 k1_hw136 => k1_hw136.1
theorem k1_off136_inb : ∀ (v3551 : BitVec 32) (k1_hw136 : k1_chk136 v3551), ∀ a, (k1_off136 v3551) a + S1x128.size a ≤ S128x100000.size a := fun v3551 k1_hw136 => k1_hw136.2

def k1_mult137 (v3577 : BitVec 32) : BitVec 32 :=
  let c99872_i32_1943 : BitVec 32 := 99872#32
  let c0_i32_1942 : BitVec 32 := 0#32
  let c0_i32_1935 : BitVec 32 := 0#32
  let v3579 : BitVec 1 := Scalar.cmpi .sgt v3577 c0_i32_1935
  let v3580 : BitVec 32 := Scalar.extui v3579
  let c0_i32_1936 : BitVec 32 := 0#32
  let v3581 : BitVec 1 := Scalar.cmpi .slt v3577 c0_i32_1936
  let v3582 : BitVec 32 := Scalar.extui v3581
  let v3583 : BitVec 32 := Scalar.subi v3580 v3582
  let c128_i32_1934 : BitVec 32 := 128#32
  let c0_i32_1937 : BitVec 32 := 0#32
  let v3584 : BitVec 1 := Scalar.cmpi .sgt c128_i32_1934 c0_i32_1937
  let v3585 : BitVec 32 := Scalar.extui v3584
  let c0_i32_1938 : BitVec 32 := 0#32
  let v3586 : BitVec 1 := Scalar.cmpi .slt c128_i32_1934 c0_i32_1938
  let v3587 : BitVec 32 := Scalar.extui v3586
  let v3588 : BitVec 32 := Scalar.subi v3585 v3587
  let v3589 : BitVec 1 := Scalar.cmpi .ne v3583 v3588
  let v3590 : BitVec 32 := Scalar.remsi v3577 c128_i32_1934
  let c0_i32_1939 : BitVec 32 := 0#32
  let v3591 : BitVec 1 := Scalar.cmpi .ne v3590 c0_i32_1939
  let v3592 : BitVec 1 := Scalar.andi v3589 v3591
  let v3578 : BitVec 32 := Scalar.divsi v3577 c128_i32_1934
  let c1_i32_1940 : BitVec 32 := 1#32
  let v3593 : BitVec 32 := Scalar.subi v3578 c1_i32_1940
  let v3594 : BitVec 32 := Scalar.select v3592 v3593 v3578
  let c128_i32_1941 : BitVec 32 := 128#32
  let v3595 : BitVec 32 := Scalar.muli v3594 c128_i32_1941
  let v3596 : BitVec 32 := Scalar.maxsi c0_i32_1942 v3595
  let v3597 : BitVec 32 := Scalar.minsi c99872_i32_1943 v3596
  v3597

def k1_off137 (v3577 : BitVec 32) : Fin 2 → Nat :=
  let c8_i32_1945 : BitVec 32 := 8#32
  let c99872_i32_1943 : BitVec 32 := 99872#32
  let c0_i32_1942 : BitVec 32 := 0#32
  let c0_i32_1935 : BitVec 32 := 0#32
  let v3579 : BitVec 1 := Scalar.cmpi .sgt v3577 c0_i32_1935
  let v3580 : BitVec 32 := Scalar.extui v3579
  let c0_i32_1936 : BitVec 32 := 0#32
  let v3581 : BitVec 1 := Scalar.cmpi .slt v3577 c0_i32_1936
  let v3582 : BitVec 32 := Scalar.extui v3581
  let v3583 : BitVec 32 := Scalar.subi v3580 v3582
  let c128_i32_1934 : BitVec 32 := 128#32
  let c0_i32_1937 : BitVec 32 := 0#32
  let v3584 : BitVec 1 := Scalar.cmpi .sgt c128_i32_1934 c0_i32_1937
  let v3585 : BitVec 32 := Scalar.extui v3584
  let c0_i32_1938 : BitVec 32 := 0#32
  let v3586 : BitVec 1 := Scalar.cmpi .slt c128_i32_1934 c0_i32_1938
  let v3587 : BitVec 32 := Scalar.extui v3586
  let v3588 : BitVec 32 := Scalar.subi v3585 v3587
  let v3589 : BitVec 1 := Scalar.cmpi .ne v3583 v3588
  let v3590 : BitVec 32 := Scalar.remsi v3577 c128_i32_1934
  let c0_i32_1939 : BitVec 32 := 0#32
  let v3591 : BitVec 1 := Scalar.cmpi .ne v3590 c0_i32_1939
  let v3592 : BitVec 1 := Scalar.andi v3589 v3591
  let v3578 : BitVec 32 := Scalar.divsi v3577 c128_i32_1934
  let c1_i32_1940 : BitVec 32 := 1#32
  let v3593 : BitVec 32 := Scalar.subi v3578 c1_i32_1940
  let v3594 : BitVec 32 := Scalar.select v3592 v3593 v3578
  let c128_i32_1941 : BitVec 32 := 128#32
  let v3595 : BitVec 32 := Scalar.muli v3594 c128_i32_1941
  let v3596 : BitVec 32 := Scalar.maxsi c0_i32_1942 v3595
  let v3597 : BitVec 32 := Scalar.minsi c99872_i32_1943 v3596
  let v3598 : BitVec 32 := v3597
  ![8, v3598.toNat]

def k1_chk137 (v3577 : BitVec 32) : Prop :=
  (32 ∣ (k1_mult137 v3577).toNat) ∧
  (∀ a, (k1_off137 v3577) a + S1x128.size a ≤ S128x100000.size a)
theorem k1_mult137_dvd : ∀ (v3577 : BitVec 32) (k1_hw137 : k1_chk137 v3577), 32 ∣ (k1_mult137 v3577).toNat := fun v3577 k1_hw137 => k1_hw137.1
theorem k1_off137_inb : ∀ (v3577 : BitVec 32) (k1_hw137 : k1_chk137 v3577), ∀ a, (k1_off137 v3577) a + S1x128.size a ≤ S128x100000.size a := fun v3577 k1_hw137 => k1_hw137.2

def k1_mult138 (v3603 : BitVec 32) : BitVec 32 :=
  let c99872_i32_1959 : BitVec 32 := 99872#32
  let c0_i32_1958 : BitVec 32 := 0#32
  let c0_i32_1951 : BitVec 32 := 0#32
  let v3605 : BitVec 1 := Scalar.cmpi .sgt v3603 c0_i32_1951
  let v3606 : BitVec 32 := Scalar.extui v3605
  let c0_i32_1952 : BitVec 32 := 0#32
  let v3607 : BitVec 1 := Scalar.cmpi .slt v3603 c0_i32_1952
  let v3608 : BitVec 32 := Scalar.extui v3607
  let v3609 : BitVec 32 := Scalar.subi v3606 v3608
  let c128_i32_1950 : BitVec 32 := 128#32
  let c0_i32_1953 : BitVec 32 := 0#32
  let v3610 : BitVec 1 := Scalar.cmpi .sgt c128_i32_1950 c0_i32_1953
  let v3611 : BitVec 32 := Scalar.extui v3610
  let c0_i32_1954 : BitVec 32 := 0#32
  let v3612 : BitVec 1 := Scalar.cmpi .slt c128_i32_1950 c0_i32_1954
  let v3613 : BitVec 32 := Scalar.extui v3612
  let v3614 : BitVec 32 := Scalar.subi v3611 v3613
  let v3615 : BitVec 1 := Scalar.cmpi .ne v3609 v3614
  let v3616 : BitVec 32 := Scalar.remsi v3603 c128_i32_1950
  let c0_i32_1955 : BitVec 32 := 0#32
  let v3617 : BitVec 1 := Scalar.cmpi .ne v3616 c0_i32_1955
  let v3618 : BitVec 1 := Scalar.andi v3615 v3617
  let v3604 : BitVec 32 := Scalar.divsi v3603 c128_i32_1950
  let c1_i32_1956 : BitVec 32 := 1#32
  let v3619 : BitVec 32 := Scalar.subi v3604 c1_i32_1956
  let v3620 : BitVec 32 := Scalar.select v3618 v3619 v3604
  let c128_i32_1957 : BitVec 32 := 128#32
  let v3621 : BitVec 32 := Scalar.muli v3620 c128_i32_1957
  let v3622 : BitVec 32 := Scalar.maxsi c0_i32_1958 v3621
  let v3623 : BitVec 32 := Scalar.minsi c99872_i32_1959 v3622
  v3623

def k1_off138 (v3603 : BitVec 32) : Fin 2 → Nat :=
  let c9_i32_1961 : BitVec 32 := 9#32
  let c99872_i32_1959 : BitVec 32 := 99872#32
  let c0_i32_1958 : BitVec 32 := 0#32
  let c0_i32_1951 : BitVec 32 := 0#32
  let v3605 : BitVec 1 := Scalar.cmpi .sgt v3603 c0_i32_1951
  let v3606 : BitVec 32 := Scalar.extui v3605
  let c0_i32_1952 : BitVec 32 := 0#32
  let v3607 : BitVec 1 := Scalar.cmpi .slt v3603 c0_i32_1952
  let v3608 : BitVec 32 := Scalar.extui v3607
  let v3609 : BitVec 32 := Scalar.subi v3606 v3608
  let c128_i32_1950 : BitVec 32 := 128#32
  let c0_i32_1953 : BitVec 32 := 0#32
  let v3610 : BitVec 1 := Scalar.cmpi .sgt c128_i32_1950 c0_i32_1953
  let v3611 : BitVec 32 := Scalar.extui v3610
  let c0_i32_1954 : BitVec 32 := 0#32
  let v3612 : BitVec 1 := Scalar.cmpi .slt c128_i32_1950 c0_i32_1954
  let v3613 : BitVec 32 := Scalar.extui v3612
  let v3614 : BitVec 32 := Scalar.subi v3611 v3613
  let v3615 : BitVec 1 := Scalar.cmpi .ne v3609 v3614
  let v3616 : BitVec 32 := Scalar.remsi v3603 c128_i32_1950
  let c0_i32_1955 : BitVec 32 := 0#32
  let v3617 : BitVec 1 := Scalar.cmpi .ne v3616 c0_i32_1955
  let v3618 : BitVec 1 := Scalar.andi v3615 v3617
  let v3604 : BitVec 32 := Scalar.divsi v3603 c128_i32_1950
  let c1_i32_1956 : BitVec 32 := 1#32
  let v3619 : BitVec 32 := Scalar.subi v3604 c1_i32_1956
  let v3620 : BitVec 32 := Scalar.select v3618 v3619 v3604
  let c128_i32_1957 : BitVec 32 := 128#32
  let v3621 : BitVec 32 := Scalar.muli v3620 c128_i32_1957
  let v3622 : BitVec 32 := Scalar.maxsi c0_i32_1958 v3621
  let v3623 : BitVec 32 := Scalar.minsi c99872_i32_1959 v3622
  let v3624 : BitVec 32 := v3623
  ![9, v3624.toNat]

def k1_chk138 (v3603 : BitVec 32) : Prop :=
  (32 ∣ (k1_mult138 v3603).toNat) ∧
  (∀ a, (k1_off138 v3603) a + S1x128.size a ≤ S128x100000.size a)
theorem k1_mult138_dvd : ∀ (v3603 : BitVec 32) (k1_hw138 : k1_chk138 v3603), 32 ∣ (k1_mult138 v3603).toNat := fun v3603 k1_hw138 => k1_hw138.1
theorem k1_off138_inb : ∀ (v3603 : BitVec 32) (k1_hw138 : k1_chk138 v3603), ∀ a, (k1_off138 v3603) a + S1x128.size a ≤ S128x100000.size a := fun v3603 k1_hw138 => k1_hw138.2

def k1_mult139 (v3629 : BitVec 32) : BitVec 32 :=
  let c99872_i32_1975 : BitVec 32 := 99872#32
  let c0_i32_1974 : BitVec 32 := 0#32
  let c0_i32_1967 : BitVec 32 := 0#32
  let v3631 : BitVec 1 := Scalar.cmpi .sgt v3629 c0_i32_1967
  let v3632 : BitVec 32 := Scalar.extui v3631
  let c0_i32_1968 : BitVec 32 := 0#32
  let v3633 : BitVec 1 := Scalar.cmpi .slt v3629 c0_i32_1968
  let v3634 : BitVec 32 := Scalar.extui v3633
  let v3635 : BitVec 32 := Scalar.subi v3632 v3634
  let c128_i32_1966 : BitVec 32 := 128#32
  let c0_i32_1969 : BitVec 32 := 0#32
  let v3636 : BitVec 1 := Scalar.cmpi .sgt c128_i32_1966 c0_i32_1969
  let v3637 : BitVec 32 := Scalar.extui v3636
  let c0_i32_1970 : BitVec 32 := 0#32
  let v3638 : BitVec 1 := Scalar.cmpi .slt c128_i32_1966 c0_i32_1970
  let v3639 : BitVec 32 := Scalar.extui v3638
  let v3640 : BitVec 32 := Scalar.subi v3637 v3639
  let v3641 : BitVec 1 := Scalar.cmpi .ne v3635 v3640
  let v3642 : BitVec 32 := Scalar.remsi v3629 c128_i32_1966
  let c0_i32_1971 : BitVec 32 := 0#32
  let v3643 : BitVec 1 := Scalar.cmpi .ne v3642 c0_i32_1971
  let v3644 : BitVec 1 := Scalar.andi v3641 v3643
  let v3630 : BitVec 32 := Scalar.divsi v3629 c128_i32_1966
  let c1_i32_1972 : BitVec 32 := 1#32
  let v3645 : BitVec 32 := Scalar.subi v3630 c1_i32_1972
  let v3646 : BitVec 32 := Scalar.select v3644 v3645 v3630
  let c128_i32_1973 : BitVec 32 := 128#32
  let v3647 : BitVec 32 := Scalar.muli v3646 c128_i32_1973
  let v3648 : BitVec 32 := Scalar.maxsi c0_i32_1974 v3647
  let v3649 : BitVec 32 := Scalar.minsi c99872_i32_1975 v3648
  v3649

def k1_off139 (v3629 : BitVec 32) : Fin 2 → Nat :=
  let c10_i32_1977 : BitVec 32 := 10#32
  let c99872_i32_1975 : BitVec 32 := 99872#32
  let c0_i32_1974 : BitVec 32 := 0#32
  let c0_i32_1967 : BitVec 32 := 0#32
  let v3631 : BitVec 1 := Scalar.cmpi .sgt v3629 c0_i32_1967
  let v3632 : BitVec 32 := Scalar.extui v3631
  let c0_i32_1968 : BitVec 32 := 0#32
  let v3633 : BitVec 1 := Scalar.cmpi .slt v3629 c0_i32_1968
  let v3634 : BitVec 32 := Scalar.extui v3633
  let v3635 : BitVec 32 := Scalar.subi v3632 v3634
  let c128_i32_1966 : BitVec 32 := 128#32
  let c0_i32_1969 : BitVec 32 := 0#32
  let v3636 : BitVec 1 := Scalar.cmpi .sgt c128_i32_1966 c0_i32_1969
  let v3637 : BitVec 32 := Scalar.extui v3636
  let c0_i32_1970 : BitVec 32 := 0#32
  let v3638 : BitVec 1 := Scalar.cmpi .slt c128_i32_1966 c0_i32_1970
  let v3639 : BitVec 32 := Scalar.extui v3638
  let v3640 : BitVec 32 := Scalar.subi v3637 v3639
  let v3641 : BitVec 1 := Scalar.cmpi .ne v3635 v3640
  let v3642 : BitVec 32 := Scalar.remsi v3629 c128_i32_1966
  let c0_i32_1971 : BitVec 32 := 0#32
  let v3643 : BitVec 1 := Scalar.cmpi .ne v3642 c0_i32_1971
  let v3644 : BitVec 1 := Scalar.andi v3641 v3643
  let v3630 : BitVec 32 := Scalar.divsi v3629 c128_i32_1966
  let c1_i32_1972 : BitVec 32 := 1#32
  let v3645 : BitVec 32 := Scalar.subi v3630 c1_i32_1972
  let v3646 : BitVec 32 := Scalar.select v3644 v3645 v3630
  let c128_i32_1973 : BitVec 32 := 128#32
  let v3647 : BitVec 32 := Scalar.muli v3646 c128_i32_1973
  let v3648 : BitVec 32 := Scalar.maxsi c0_i32_1974 v3647
  let v3649 : BitVec 32 := Scalar.minsi c99872_i32_1975 v3648
  let v3650 : BitVec 32 := v3649
  ![10, v3650.toNat]

def k1_chk139 (v3629 : BitVec 32) : Prop :=
  (32 ∣ (k1_mult139 v3629).toNat) ∧
  (∀ a, (k1_off139 v3629) a + S1x128.size a ≤ S128x100000.size a)
theorem k1_mult139_dvd : ∀ (v3629 : BitVec 32) (k1_hw139 : k1_chk139 v3629), 32 ∣ (k1_mult139 v3629).toNat := fun v3629 k1_hw139 => k1_hw139.1
theorem k1_off139_inb : ∀ (v3629 : BitVec 32) (k1_hw139 : k1_chk139 v3629), ∀ a, (k1_off139 v3629) a + S1x128.size a ≤ S128x100000.size a := fun v3629 k1_hw139 => k1_hw139.2

def k1_mult140 (v3655 : BitVec 32) : BitVec 32 :=
  let c99872_i32_1991 : BitVec 32 := 99872#32
  let c0_i32_1990 : BitVec 32 := 0#32
  let c0_i32_1983 : BitVec 32 := 0#32
  let v3657 : BitVec 1 := Scalar.cmpi .sgt v3655 c0_i32_1983
  let v3658 : BitVec 32 := Scalar.extui v3657
  let c0_i32_1984 : BitVec 32 := 0#32
  let v3659 : BitVec 1 := Scalar.cmpi .slt v3655 c0_i32_1984
  let v3660 : BitVec 32 := Scalar.extui v3659
  let v3661 : BitVec 32 := Scalar.subi v3658 v3660
  let c128_i32_1982 : BitVec 32 := 128#32
  let c0_i32_1985 : BitVec 32 := 0#32
  let v3662 : BitVec 1 := Scalar.cmpi .sgt c128_i32_1982 c0_i32_1985
  let v3663 : BitVec 32 := Scalar.extui v3662
  let c0_i32_1986 : BitVec 32 := 0#32
  let v3664 : BitVec 1 := Scalar.cmpi .slt c128_i32_1982 c0_i32_1986
  let v3665 : BitVec 32 := Scalar.extui v3664
  let v3666 : BitVec 32 := Scalar.subi v3663 v3665
  let v3667 : BitVec 1 := Scalar.cmpi .ne v3661 v3666
  let v3668 : BitVec 32 := Scalar.remsi v3655 c128_i32_1982
  let c0_i32_1987 : BitVec 32 := 0#32
  let v3669 : BitVec 1 := Scalar.cmpi .ne v3668 c0_i32_1987
  let v3670 : BitVec 1 := Scalar.andi v3667 v3669
  let v3656 : BitVec 32 := Scalar.divsi v3655 c128_i32_1982
  let c1_i32_1988 : BitVec 32 := 1#32
  let v3671 : BitVec 32 := Scalar.subi v3656 c1_i32_1988
  let v3672 : BitVec 32 := Scalar.select v3670 v3671 v3656
  let c128_i32_1989 : BitVec 32 := 128#32
  let v3673 : BitVec 32 := Scalar.muli v3672 c128_i32_1989
  let v3674 : BitVec 32 := Scalar.maxsi c0_i32_1990 v3673
  let v3675 : BitVec 32 := Scalar.minsi c99872_i32_1991 v3674
  v3675

def k1_off140 (v3655 : BitVec 32) : Fin 2 → Nat :=
  let c11_i32_1993 : BitVec 32 := 11#32
  let c99872_i32_1991 : BitVec 32 := 99872#32
  let c0_i32_1990 : BitVec 32 := 0#32
  let c0_i32_1983 : BitVec 32 := 0#32
  let v3657 : BitVec 1 := Scalar.cmpi .sgt v3655 c0_i32_1983
  let v3658 : BitVec 32 := Scalar.extui v3657
  let c0_i32_1984 : BitVec 32 := 0#32
  let v3659 : BitVec 1 := Scalar.cmpi .slt v3655 c0_i32_1984
  let v3660 : BitVec 32 := Scalar.extui v3659
  let v3661 : BitVec 32 := Scalar.subi v3658 v3660
  let c128_i32_1982 : BitVec 32 := 128#32
  let c0_i32_1985 : BitVec 32 := 0#32
  let v3662 : BitVec 1 := Scalar.cmpi .sgt c128_i32_1982 c0_i32_1985
  let v3663 : BitVec 32 := Scalar.extui v3662
  let c0_i32_1986 : BitVec 32 := 0#32
  let v3664 : BitVec 1 := Scalar.cmpi .slt c128_i32_1982 c0_i32_1986
  let v3665 : BitVec 32 := Scalar.extui v3664
  let v3666 : BitVec 32 := Scalar.subi v3663 v3665
  let v3667 : BitVec 1 := Scalar.cmpi .ne v3661 v3666
  let v3668 : BitVec 32 := Scalar.remsi v3655 c128_i32_1982
  let c0_i32_1987 : BitVec 32 := 0#32
  let v3669 : BitVec 1 := Scalar.cmpi .ne v3668 c0_i32_1987
  let v3670 : BitVec 1 := Scalar.andi v3667 v3669
  let v3656 : BitVec 32 := Scalar.divsi v3655 c128_i32_1982
  let c1_i32_1988 : BitVec 32 := 1#32
  let v3671 : BitVec 32 := Scalar.subi v3656 c1_i32_1988
  let v3672 : BitVec 32 := Scalar.select v3670 v3671 v3656
  let c128_i32_1989 : BitVec 32 := 128#32
  let v3673 : BitVec 32 := Scalar.muli v3672 c128_i32_1989
  let v3674 : BitVec 32 := Scalar.maxsi c0_i32_1990 v3673
  let v3675 : BitVec 32 := Scalar.minsi c99872_i32_1991 v3674
  let v3676 : BitVec 32 := v3675
  ![11, v3676.toNat]

def k1_chk140 (v3655 : BitVec 32) : Prop :=
  (32 ∣ (k1_mult140 v3655).toNat) ∧
  (∀ a, (k1_off140 v3655) a + S1x128.size a ≤ S128x100000.size a)
theorem k1_mult140_dvd : ∀ (v3655 : BitVec 32) (k1_hw140 : k1_chk140 v3655), 32 ∣ (k1_mult140 v3655).toNat := fun v3655 k1_hw140 => k1_hw140.1
theorem k1_off140_inb : ∀ (v3655 : BitVec 32) (k1_hw140 : k1_chk140 v3655), ∀ a, (k1_off140 v3655) a + S1x128.size a ≤ S128x100000.size a := fun v3655 k1_hw140 => k1_hw140.2

def k1_mult141 (v3681 : BitVec 32) : BitVec 32 :=
  let c99872_i32_2007 : BitVec 32 := 99872#32
  let c0_i32_2006 : BitVec 32 := 0#32
  let c0_i32_1999 : BitVec 32 := 0#32
  let v3683 : BitVec 1 := Scalar.cmpi .sgt v3681 c0_i32_1999
  let v3684 : BitVec 32 := Scalar.extui v3683
  let c0_i32_2000 : BitVec 32 := 0#32
  let v3685 : BitVec 1 := Scalar.cmpi .slt v3681 c0_i32_2000
  let v3686 : BitVec 32 := Scalar.extui v3685
  let v3687 : BitVec 32 := Scalar.subi v3684 v3686
  let c128_i32_1998 : BitVec 32 := 128#32
  let c0_i32_2001 : BitVec 32 := 0#32
  let v3688 : BitVec 1 := Scalar.cmpi .sgt c128_i32_1998 c0_i32_2001
  let v3689 : BitVec 32 := Scalar.extui v3688
  let c0_i32_2002 : BitVec 32 := 0#32
  let v3690 : BitVec 1 := Scalar.cmpi .slt c128_i32_1998 c0_i32_2002
  let v3691 : BitVec 32 := Scalar.extui v3690
  let v3692 : BitVec 32 := Scalar.subi v3689 v3691
  let v3693 : BitVec 1 := Scalar.cmpi .ne v3687 v3692
  let v3694 : BitVec 32 := Scalar.remsi v3681 c128_i32_1998
  let c0_i32_2003 : BitVec 32 := 0#32
  let v3695 : BitVec 1 := Scalar.cmpi .ne v3694 c0_i32_2003
  let v3696 : BitVec 1 := Scalar.andi v3693 v3695
  let v3682 : BitVec 32 := Scalar.divsi v3681 c128_i32_1998
  let c1_i32_2004 : BitVec 32 := 1#32
  let v3697 : BitVec 32 := Scalar.subi v3682 c1_i32_2004
  let v3698 : BitVec 32 := Scalar.select v3696 v3697 v3682
  let c128_i32_2005 : BitVec 32 := 128#32
  let v3699 : BitVec 32 := Scalar.muli v3698 c128_i32_2005
  let v3700 : BitVec 32 := Scalar.maxsi c0_i32_2006 v3699
  let v3701 : BitVec 32 := Scalar.minsi c99872_i32_2007 v3700
  v3701

def k1_off141 (v3681 : BitVec 32) : Fin 2 → Nat :=
  let c12_i32_2009 : BitVec 32 := 12#32
  let c99872_i32_2007 : BitVec 32 := 99872#32
  let c0_i32_2006 : BitVec 32 := 0#32
  let c0_i32_1999 : BitVec 32 := 0#32
  let v3683 : BitVec 1 := Scalar.cmpi .sgt v3681 c0_i32_1999
  let v3684 : BitVec 32 := Scalar.extui v3683
  let c0_i32_2000 : BitVec 32 := 0#32
  let v3685 : BitVec 1 := Scalar.cmpi .slt v3681 c0_i32_2000
  let v3686 : BitVec 32 := Scalar.extui v3685
  let v3687 : BitVec 32 := Scalar.subi v3684 v3686
  let c128_i32_1998 : BitVec 32 := 128#32
  let c0_i32_2001 : BitVec 32 := 0#32
  let v3688 : BitVec 1 := Scalar.cmpi .sgt c128_i32_1998 c0_i32_2001
  let v3689 : BitVec 32 := Scalar.extui v3688
  let c0_i32_2002 : BitVec 32 := 0#32
  let v3690 : BitVec 1 := Scalar.cmpi .slt c128_i32_1998 c0_i32_2002
  let v3691 : BitVec 32 := Scalar.extui v3690
  let v3692 : BitVec 32 := Scalar.subi v3689 v3691
  let v3693 : BitVec 1 := Scalar.cmpi .ne v3687 v3692
  let v3694 : BitVec 32 := Scalar.remsi v3681 c128_i32_1998
  let c0_i32_2003 : BitVec 32 := 0#32
  let v3695 : BitVec 1 := Scalar.cmpi .ne v3694 c0_i32_2003
  let v3696 : BitVec 1 := Scalar.andi v3693 v3695
  let v3682 : BitVec 32 := Scalar.divsi v3681 c128_i32_1998
  let c1_i32_2004 : BitVec 32 := 1#32
  let v3697 : BitVec 32 := Scalar.subi v3682 c1_i32_2004
  let v3698 : BitVec 32 := Scalar.select v3696 v3697 v3682
  let c128_i32_2005 : BitVec 32 := 128#32
  let v3699 : BitVec 32 := Scalar.muli v3698 c128_i32_2005
  let v3700 : BitVec 32 := Scalar.maxsi c0_i32_2006 v3699
  let v3701 : BitVec 32 := Scalar.minsi c99872_i32_2007 v3700
  let v3702 : BitVec 32 := v3701
  ![12, v3702.toNat]

def k1_chk141 (v3681 : BitVec 32) : Prop :=
  (32 ∣ (k1_mult141 v3681).toNat) ∧
  (∀ a, (k1_off141 v3681) a + S1x128.size a ≤ S128x100000.size a)
theorem k1_mult141_dvd : ∀ (v3681 : BitVec 32) (k1_hw141 : k1_chk141 v3681), 32 ∣ (k1_mult141 v3681).toNat := fun v3681 k1_hw141 => k1_hw141.1
theorem k1_off141_inb : ∀ (v3681 : BitVec 32) (k1_hw141 : k1_chk141 v3681), ∀ a, (k1_off141 v3681) a + S1x128.size a ≤ S128x100000.size a := fun v3681 k1_hw141 => k1_hw141.2

def k1_mult142 (v3707 : BitVec 32) : BitVec 32 :=
  let c99872_i32_2023 : BitVec 32 := 99872#32
  let c0_i32_2022 : BitVec 32 := 0#32
  let c0_i32_2015 : BitVec 32 := 0#32
  let v3709 : BitVec 1 := Scalar.cmpi .sgt v3707 c0_i32_2015
  let v3710 : BitVec 32 := Scalar.extui v3709
  let c0_i32_2016 : BitVec 32 := 0#32
  let v3711 : BitVec 1 := Scalar.cmpi .slt v3707 c0_i32_2016
  let v3712 : BitVec 32 := Scalar.extui v3711
  let v3713 : BitVec 32 := Scalar.subi v3710 v3712
  let c128_i32_2014 : BitVec 32 := 128#32
  let c0_i32_2017 : BitVec 32 := 0#32
  let v3714 : BitVec 1 := Scalar.cmpi .sgt c128_i32_2014 c0_i32_2017
  let v3715 : BitVec 32 := Scalar.extui v3714
  let c0_i32_2018 : BitVec 32 := 0#32
  let v3716 : BitVec 1 := Scalar.cmpi .slt c128_i32_2014 c0_i32_2018
  let v3717 : BitVec 32 := Scalar.extui v3716
  let v3718 : BitVec 32 := Scalar.subi v3715 v3717
  let v3719 : BitVec 1 := Scalar.cmpi .ne v3713 v3718
  let v3720 : BitVec 32 := Scalar.remsi v3707 c128_i32_2014
  let c0_i32_2019 : BitVec 32 := 0#32
  let v3721 : BitVec 1 := Scalar.cmpi .ne v3720 c0_i32_2019
  let v3722 : BitVec 1 := Scalar.andi v3719 v3721
  let v3708 : BitVec 32 := Scalar.divsi v3707 c128_i32_2014
  let c1_i32_2020 : BitVec 32 := 1#32
  let v3723 : BitVec 32 := Scalar.subi v3708 c1_i32_2020
  let v3724 : BitVec 32 := Scalar.select v3722 v3723 v3708
  let c128_i32_2021 : BitVec 32 := 128#32
  let v3725 : BitVec 32 := Scalar.muli v3724 c128_i32_2021
  let v3726 : BitVec 32 := Scalar.maxsi c0_i32_2022 v3725
  let v3727 : BitVec 32 := Scalar.minsi c99872_i32_2023 v3726
  v3727

def k1_off142 (v3707 : BitVec 32) : Fin 2 → Nat :=
  let c13_i32_2025 : BitVec 32 := 13#32
  let c99872_i32_2023 : BitVec 32 := 99872#32
  let c0_i32_2022 : BitVec 32 := 0#32
  let c0_i32_2015 : BitVec 32 := 0#32
  let v3709 : BitVec 1 := Scalar.cmpi .sgt v3707 c0_i32_2015
  let v3710 : BitVec 32 := Scalar.extui v3709
  let c0_i32_2016 : BitVec 32 := 0#32
  let v3711 : BitVec 1 := Scalar.cmpi .slt v3707 c0_i32_2016
  let v3712 : BitVec 32 := Scalar.extui v3711
  let v3713 : BitVec 32 := Scalar.subi v3710 v3712
  let c128_i32_2014 : BitVec 32 := 128#32
  let c0_i32_2017 : BitVec 32 := 0#32
  let v3714 : BitVec 1 := Scalar.cmpi .sgt c128_i32_2014 c0_i32_2017
  let v3715 : BitVec 32 := Scalar.extui v3714
  let c0_i32_2018 : BitVec 32 := 0#32
  let v3716 : BitVec 1 := Scalar.cmpi .slt c128_i32_2014 c0_i32_2018
  let v3717 : BitVec 32 := Scalar.extui v3716
  let v3718 : BitVec 32 := Scalar.subi v3715 v3717
  let v3719 : BitVec 1 := Scalar.cmpi .ne v3713 v3718
  let v3720 : BitVec 32 := Scalar.remsi v3707 c128_i32_2014
  let c0_i32_2019 : BitVec 32 := 0#32
  let v3721 : BitVec 1 := Scalar.cmpi .ne v3720 c0_i32_2019
  let v3722 : BitVec 1 := Scalar.andi v3719 v3721
  let v3708 : BitVec 32 := Scalar.divsi v3707 c128_i32_2014
  let c1_i32_2020 : BitVec 32 := 1#32
  let v3723 : BitVec 32 := Scalar.subi v3708 c1_i32_2020
  let v3724 : BitVec 32 := Scalar.select v3722 v3723 v3708
  let c128_i32_2021 : BitVec 32 := 128#32
  let v3725 : BitVec 32 := Scalar.muli v3724 c128_i32_2021
  let v3726 : BitVec 32 := Scalar.maxsi c0_i32_2022 v3725
  let v3727 : BitVec 32 := Scalar.minsi c99872_i32_2023 v3726
  let v3728 : BitVec 32 := v3727
  ![13, v3728.toNat]

def k1_chk142 (v3707 : BitVec 32) : Prop :=
  (32 ∣ (k1_mult142 v3707).toNat) ∧
  (∀ a, (k1_off142 v3707) a + S1x128.size a ≤ S128x100000.size a)
theorem k1_mult142_dvd : ∀ (v3707 : BitVec 32) (k1_hw142 : k1_chk142 v3707), 32 ∣ (k1_mult142 v3707).toNat := fun v3707 k1_hw142 => k1_hw142.1
theorem k1_off142_inb : ∀ (v3707 : BitVec 32) (k1_hw142 : k1_chk142 v3707), ∀ a, (k1_off142 v3707) a + S1x128.size a ≤ S128x100000.size a := fun v3707 k1_hw142 => k1_hw142.2

def k1_mult143 (v3733 : BitVec 32) : BitVec 32 :=
  let c99872_i32_2039 : BitVec 32 := 99872#32
  let c0_i32_2038 : BitVec 32 := 0#32
  let c0_i32_2031 : BitVec 32 := 0#32
  let v3735 : BitVec 1 := Scalar.cmpi .sgt v3733 c0_i32_2031
  let v3736 : BitVec 32 := Scalar.extui v3735
  let c0_i32_2032 : BitVec 32 := 0#32
  let v3737 : BitVec 1 := Scalar.cmpi .slt v3733 c0_i32_2032
  let v3738 : BitVec 32 := Scalar.extui v3737
  let v3739 : BitVec 32 := Scalar.subi v3736 v3738
  let c128_i32_2030 : BitVec 32 := 128#32
  let c0_i32_2033 : BitVec 32 := 0#32
  let v3740 : BitVec 1 := Scalar.cmpi .sgt c128_i32_2030 c0_i32_2033
  let v3741 : BitVec 32 := Scalar.extui v3740
  let c0_i32_2034 : BitVec 32 := 0#32
  let v3742 : BitVec 1 := Scalar.cmpi .slt c128_i32_2030 c0_i32_2034
  let v3743 : BitVec 32 := Scalar.extui v3742
  let v3744 : BitVec 32 := Scalar.subi v3741 v3743
  let v3745 : BitVec 1 := Scalar.cmpi .ne v3739 v3744
  let v3746 : BitVec 32 := Scalar.remsi v3733 c128_i32_2030
  let c0_i32_2035 : BitVec 32 := 0#32
  let v3747 : BitVec 1 := Scalar.cmpi .ne v3746 c0_i32_2035
  let v3748 : BitVec 1 := Scalar.andi v3745 v3747
  let v3734 : BitVec 32 := Scalar.divsi v3733 c128_i32_2030
  let c1_i32_2036 : BitVec 32 := 1#32
  let v3749 : BitVec 32 := Scalar.subi v3734 c1_i32_2036
  let v3750 : BitVec 32 := Scalar.select v3748 v3749 v3734
  let c128_i32_2037 : BitVec 32 := 128#32
  let v3751 : BitVec 32 := Scalar.muli v3750 c128_i32_2037
  let v3752 : BitVec 32 := Scalar.maxsi c0_i32_2038 v3751
  let v3753 : BitVec 32 := Scalar.minsi c99872_i32_2039 v3752
  v3753

def k1_off143 (v3733 : BitVec 32) : Fin 2 → Nat :=
  let c14_i32_2041 : BitVec 32 := 14#32
  let c99872_i32_2039 : BitVec 32 := 99872#32
  let c0_i32_2038 : BitVec 32 := 0#32
  let c0_i32_2031 : BitVec 32 := 0#32
  let v3735 : BitVec 1 := Scalar.cmpi .sgt v3733 c0_i32_2031
  let v3736 : BitVec 32 := Scalar.extui v3735
  let c0_i32_2032 : BitVec 32 := 0#32
  let v3737 : BitVec 1 := Scalar.cmpi .slt v3733 c0_i32_2032
  let v3738 : BitVec 32 := Scalar.extui v3737
  let v3739 : BitVec 32 := Scalar.subi v3736 v3738
  let c128_i32_2030 : BitVec 32 := 128#32
  let c0_i32_2033 : BitVec 32 := 0#32
  let v3740 : BitVec 1 := Scalar.cmpi .sgt c128_i32_2030 c0_i32_2033
  let v3741 : BitVec 32 := Scalar.extui v3740
  let c0_i32_2034 : BitVec 32 := 0#32
  let v3742 : BitVec 1 := Scalar.cmpi .slt c128_i32_2030 c0_i32_2034
  let v3743 : BitVec 32 := Scalar.extui v3742
  let v3744 : BitVec 32 := Scalar.subi v3741 v3743
  let v3745 : BitVec 1 := Scalar.cmpi .ne v3739 v3744
  let v3746 : BitVec 32 := Scalar.remsi v3733 c128_i32_2030
  let c0_i32_2035 : BitVec 32 := 0#32
  let v3747 : BitVec 1 := Scalar.cmpi .ne v3746 c0_i32_2035
  let v3748 : BitVec 1 := Scalar.andi v3745 v3747
  let v3734 : BitVec 32 := Scalar.divsi v3733 c128_i32_2030
  let c1_i32_2036 : BitVec 32 := 1#32
  let v3749 : BitVec 32 := Scalar.subi v3734 c1_i32_2036
  let v3750 : BitVec 32 := Scalar.select v3748 v3749 v3734
  let c128_i32_2037 : BitVec 32 := 128#32
  let v3751 : BitVec 32 := Scalar.muli v3750 c128_i32_2037
  let v3752 : BitVec 32 := Scalar.maxsi c0_i32_2038 v3751
  let v3753 : BitVec 32 := Scalar.minsi c99872_i32_2039 v3752
  let v3754 : BitVec 32 := v3753
  ![14, v3754.toNat]

def k1_chk143 (v3733 : BitVec 32) : Prop :=
  (32 ∣ (k1_mult143 v3733).toNat) ∧
  (∀ a, (k1_off143 v3733) a + S1x128.size a ≤ S128x100000.size a)
theorem k1_mult143_dvd : ∀ (v3733 : BitVec 32) (k1_hw143 : k1_chk143 v3733), 32 ∣ (k1_mult143 v3733).toNat := fun v3733 k1_hw143 => k1_hw143.1
theorem k1_off143_inb : ∀ (v3733 : BitVec 32) (k1_hw143 : k1_chk143 v3733), ∀ a, (k1_off143 v3733) a + S1x128.size a ≤ S128x100000.size a := fun v3733 k1_hw143 => k1_hw143.2

def k1_mult144 (v3759 : BitVec 32) : BitVec 32 :=
  let c99872_i32_2055 : BitVec 32 := 99872#32
  let c0_i32_2054 : BitVec 32 := 0#32
  let c0_i32_2047 : BitVec 32 := 0#32
  let v3761 : BitVec 1 := Scalar.cmpi .sgt v3759 c0_i32_2047
  let v3762 : BitVec 32 := Scalar.extui v3761
  let c0_i32_2048 : BitVec 32 := 0#32
  let v3763 : BitVec 1 := Scalar.cmpi .slt v3759 c0_i32_2048
  let v3764 : BitVec 32 := Scalar.extui v3763
  let v3765 : BitVec 32 := Scalar.subi v3762 v3764
  let c128_i32_2046 : BitVec 32 := 128#32
  let c0_i32_2049 : BitVec 32 := 0#32
  let v3766 : BitVec 1 := Scalar.cmpi .sgt c128_i32_2046 c0_i32_2049
  let v3767 : BitVec 32 := Scalar.extui v3766
  let c0_i32_2050 : BitVec 32 := 0#32
  let v3768 : BitVec 1 := Scalar.cmpi .slt c128_i32_2046 c0_i32_2050
  let v3769 : BitVec 32 := Scalar.extui v3768
  let v3770 : BitVec 32 := Scalar.subi v3767 v3769
  let v3771 : BitVec 1 := Scalar.cmpi .ne v3765 v3770
  let v3772 : BitVec 32 := Scalar.remsi v3759 c128_i32_2046
  let c0_i32_2051 : BitVec 32 := 0#32
  let v3773 : BitVec 1 := Scalar.cmpi .ne v3772 c0_i32_2051
  let v3774 : BitVec 1 := Scalar.andi v3771 v3773
  let v3760 : BitVec 32 := Scalar.divsi v3759 c128_i32_2046
  let c1_i32_2052 : BitVec 32 := 1#32
  let v3775 : BitVec 32 := Scalar.subi v3760 c1_i32_2052
  let v3776 : BitVec 32 := Scalar.select v3774 v3775 v3760
  let c128_i32_2053 : BitVec 32 := 128#32
  let v3777 : BitVec 32 := Scalar.muli v3776 c128_i32_2053
  let v3778 : BitVec 32 := Scalar.maxsi c0_i32_2054 v3777
  let v3779 : BitVec 32 := Scalar.minsi c99872_i32_2055 v3778
  v3779

def k1_off144 (v3759 : BitVec 32) : Fin 2 → Nat :=
  let c15_i32_2057 : BitVec 32 := 15#32
  let c99872_i32_2055 : BitVec 32 := 99872#32
  let c0_i32_2054 : BitVec 32 := 0#32
  let c0_i32_2047 : BitVec 32 := 0#32
  let v3761 : BitVec 1 := Scalar.cmpi .sgt v3759 c0_i32_2047
  let v3762 : BitVec 32 := Scalar.extui v3761
  let c0_i32_2048 : BitVec 32 := 0#32
  let v3763 : BitVec 1 := Scalar.cmpi .slt v3759 c0_i32_2048
  let v3764 : BitVec 32 := Scalar.extui v3763
  let v3765 : BitVec 32 := Scalar.subi v3762 v3764
  let c128_i32_2046 : BitVec 32 := 128#32
  let c0_i32_2049 : BitVec 32 := 0#32
  let v3766 : BitVec 1 := Scalar.cmpi .sgt c128_i32_2046 c0_i32_2049
  let v3767 : BitVec 32 := Scalar.extui v3766
  let c0_i32_2050 : BitVec 32 := 0#32
  let v3768 : BitVec 1 := Scalar.cmpi .slt c128_i32_2046 c0_i32_2050
  let v3769 : BitVec 32 := Scalar.extui v3768
  let v3770 : BitVec 32 := Scalar.subi v3767 v3769
  let v3771 : BitVec 1 := Scalar.cmpi .ne v3765 v3770
  let v3772 : BitVec 32 := Scalar.remsi v3759 c128_i32_2046
  let c0_i32_2051 : BitVec 32 := 0#32
  let v3773 : BitVec 1 := Scalar.cmpi .ne v3772 c0_i32_2051
  let v3774 : BitVec 1 := Scalar.andi v3771 v3773
  let v3760 : BitVec 32 := Scalar.divsi v3759 c128_i32_2046
  let c1_i32_2052 : BitVec 32 := 1#32
  let v3775 : BitVec 32 := Scalar.subi v3760 c1_i32_2052
  let v3776 : BitVec 32 := Scalar.select v3774 v3775 v3760
  let c128_i32_2053 : BitVec 32 := 128#32
  let v3777 : BitVec 32 := Scalar.muli v3776 c128_i32_2053
  let v3778 : BitVec 32 := Scalar.maxsi c0_i32_2054 v3777
  let v3779 : BitVec 32 := Scalar.minsi c99872_i32_2055 v3778
  let v3780 : BitVec 32 := v3779
  ![15, v3780.toNat]

def k1_chk144 (v3759 : BitVec 32) : Prop :=
  (32 ∣ (k1_mult144 v3759).toNat) ∧
  (∀ a, (k1_off144 v3759) a + S1x128.size a ≤ S128x100000.size a)
theorem k1_mult144_dvd : ∀ (v3759 : BitVec 32) (k1_hw144 : k1_chk144 v3759), 32 ∣ (k1_mult144 v3759).toNat := fun v3759 k1_hw144 => k1_hw144.1
theorem k1_off144_inb : ∀ (v3759 : BitVec 32) (k1_hw144 : k1_chk144 v3759), ∀ a, (k1_off144 v3759) a + S1x128.size a ≤ S128x100000.size a := fun v3759 k1_hw144 => k1_hw144.2

def k1_mult145 (v3785 : BitVec 32) : BitVec 32 :=
  let c99872_i32_2071 : BitVec 32 := 99872#32
  let c0_i32_2070 : BitVec 32 := 0#32
  let c0_i32_2063 : BitVec 32 := 0#32
  let v3787 : BitVec 1 := Scalar.cmpi .sgt v3785 c0_i32_2063
  let v3788 : BitVec 32 := Scalar.extui v3787
  let c0_i32_2064 : BitVec 32 := 0#32
  let v3789 : BitVec 1 := Scalar.cmpi .slt v3785 c0_i32_2064
  let v3790 : BitVec 32 := Scalar.extui v3789
  let v3791 : BitVec 32 := Scalar.subi v3788 v3790
  let c128_i32_2062 : BitVec 32 := 128#32
  let c0_i32_2065 : BitVec 32 := 0#32
  let v3792 : BitVec 1 := Scalar.cmpi .sgt c128_i32_2062 c0_i32_2065
  let v3793 : BitVec 32 := Scalar.extui v3792
  let c0_i32_2066 : BitVec 32 := 0#32
  let v3794 : BitVec 1 := Scalar.cmpi .slt c128_i32_2062 c0_i32_2066
  let v3795 : BitVec 32 := Scalar.extui v3794
  let v3796 : BitVec 32 := Scalar.subi v3793 v3795
  let v3797 : BitVec 1 := Scalar.cmpi .ne v3791 v3796
  let v3798 : BitVec 32 := Scalar.remsi v3785 c128_i32_2062
  let c0_i32_2067 : BitVec 32 := 0#32
  let v3799 : BitVec 1 := Scalar.cmpi .ne v3798 c0_i32_2067
  let v3800 : BitVec 1 := Scalar.andi v3797 v3799
  let v3786 : BitVec 32 := Scalar.divsi v3785 c128_i32_2062
  let c1_i32_2068 : BitVec 32 := 1#32
  let v3801 : BitVec 32 := Scalar.subi v3786 c1_i32_2068
  let v3802 : BitVec 32 := Scalar.select v3800 v3801 v3786
  let c128_i32_2069 : BitVec 32 := 128#32
  let v3803 : BitVec 32 := Scalar.muli v3802 c128_i32_2069
  let v3804 : BitVec 32 := Scalar.maxsi c0_i32_2070 v3803
  let v3805 : BitVec 32 := Scalar.minsi c99872_i32_2071 v3804
  v3805

def k1_off145 (v3785 : BitVec 32) : Fin 2 → Nat :=
  let c16_i32_2073 : BitVec 32 := 16#32
  let c99872_i32_2071 : BitVec 32 := 99872#32
  let c0_i32_2070 : BitVec 32 := 0#32
  let c0_i32_2063 : BitVec 32 := 0#32
  let v3787 : BitVec 1 := Scalar.cmpi .sgt v3785 c0_i32_2063
  let v3788 : BitVec 32 := Scalar.extui v3787
  let c0_i32_2064 : BitVec 32 := 0#32
  let v3789 : BitVec 1 := Scalar.cmpi .slt v3785 c0_i32_2064
  let v3790 : BitVec 32 := Scalar.extui v3789
  let v3791 : BitVec 32 := Scalar.subi v3788 v3790
  let c128_i32_2062 : BitVec 32 := 128#32
  let c0_i32_2065 : BitVec 32 := 0#32
  let v3792 : BitVec 1 := Scalar.cmpi .sgt c128_i32_2062 c0_i32_2065
  let v3793 : BitVec 32 := Scalar.extui v3792
  let c0_i32_2066 : BitVec 32 := 0#32
  let v3794 : BitVec 1 := Scalar.cmpi .slt c128_i32_2062 c0_i32_2066
  let v3795 : BitVec 32 := Scalar.extui v3794
  let v3796 : BitVec 32 := Scalar.subi v3793 v3795
  let v3797 : BitVec 1 := Scalar.cmpi .ne v3791 v3796
  let v3798 : BitVec 32 := Scalar.remsi v3785 c128_i32_2062
  let c0_i32_2067 : BitVec 32 := 0#32
  let v3799 : BitVec 1 := Scalar.cmpi .ne v3798 c0_i32_2067
  let v3800 : BitVec 1 := Scalar.andi v3797 v3799
  let v3786 : BitVec 32 := Scalar.divsi v3785 c128_i32_2062
  let c1_i32_2068 : BitVec 32 := 1#32
  let v3801 : BitVec 32 := Scalar.subi v3786 c1_i32_2068
  let v3802 : BitVec 32 := Scalar.select v3800 v3801 v3786
  let c128_i32_2069 : BitVec 32 := 128#32
  let v3803 : BitVec 32 := Scalar.muli v3802 c128_i32_2069
  let v3804 : BitVec 32 := Scalar.maxsi c0_i32_2070 v3803
  let v3805 : BitVec 32 := Scalar.minsi c99872_i32_2071 v3804
  let v3806 : BitVec 32 := v3805
  ![16, v3806.toNat]

def k1_chk145 (v3785 : BitVec 32) : Prop :=
  (32 ∣ (k1_mult145 v3785).toNat) ∧
  (∀ a, (k1_off145 v3785) a + S1x128.size a ≤ S128x100000.size a)
theorem k1_mult145_dvd : ∀ (v3785 : BitVec 32) (k1_hw145 : k1_chk145 v3785), 32 ∣ (k1_mult145 v3785).toNat := fun v3785 k1_hw145 => k1_hw145.1
theorem k1_off145_inb : ∀ (v3785 : BitVec 32) (k1_hw145 : k1_chk145 v3785), ∀ a, (k1_off145 v3785) a + S1x128.size a ≤ S128x100000.size a := fun v3785 k1_hw145 => k1_hw145.2

def k1_mult146 (v3811 : BitVec 32) : BitVec 32 :=
  let c99872_i32_2087 : BitVec 32 := 99872#32
  let c0_i32_2086 : BitVec 32 := 0#32
  let c0_i32_2079 : BitVec 32 := 0#32
  let v3813 : BitVec 1 := Scalar.cmpi .sgt v3811 c0_i32_2079
  let v3814 : BitVec 32 := Scalar.extui v3813
  let c0_i32_2080 : BitVec 32 := 0#32
  let v3815 : BitVec 1 := Scalar.cmpi .slt v3811 c0_i32_2080
  let v3816 : BitVec 32 := Scalar.extui v3815
  let v3817 : BitVec 32 := Scalar.subi v3814 v3816
  let c128_i32_2078 : BitVec 32 := 128#32
  let c0_i32_2081 : BitVec 32 := 0#32
  let v3818 : BitVec 1 := Scalar.cmpi .sgt c128_i32_2078 c0_i32_2081
  let v3819 : BitVec 32 := Scalar.extui v3818
  let c0_i32_2082 : BitVec 32 := 0#32
  let v3820 : BitVec 1 := Scalar.cmpi .slt c128_i32_2078 c0_i32_2082
  let v3821 : BitVec 32 := Scalar.extui v3820
  let v3822 : BitVec 32 := Scalar.subi v3819 v3821
  let v3823 : BitVec 1 := Scalar.cmpi .ne v3817 v3822
  let v3824 : BitVec 32 := Scalar.remsi v3811 c128_i32_2078
  let c0_i32_2083 : BitVec 32 := 0#32
  let v3825 : BitVec 1 := Scalar.cmpi .ne v3824 c0_i32_2083
  let v3826 : BitVec 1 := Scalar.andi v3823 v3825
  let v3812 : BitVec 32 := Scalar.divsi v3811 c128_i32_2078
  let c1_i32_2084 : BitVec 32 := 1#32
  let v3827 : BitVec 32 := Scalar.subi v3812 c1_i32_2084
  let v3828 : BitVec 32 := Scalar.select v3826 v3827 v3812
  let c128_i32_2085 : BitVec 32 := 128#32
  let v3829 : BitVec 32 := Scalar.muli v3828 c128_i32_2085
  let v3830 : BitVec 32 := Scalar.maxsi c0_i32_2086 v3829
  let v3831 : BitVec 32 := Scalar.minsi c99872_i32_2087 v3830
  v3831

def k1_off146 (v3811 : BitVec 32) : Fin 2 → Nat :=
  let c17_i32_2089 : BitVec 32 := 17#32
  let c99872_i32_2087 : BitVec 32 := 99872#32
  let c0_i32_2086 : BitVec 32 := 0#32
  let c0_i32_2079 : BitVec 32 := 0#32
  let v3813 : BitVec 1 := Scalar.cmpi .sgt v3811 c0_i32_2079
  let v3814 : BitVec 32 := Scalar.extui v3813
  let c0_i32_2080 : BitVec 32 := 0#32
  let v3815 : BitVec 1 := Scalar.cmpi .slt v3811 c0_i32_2080
  let v3816 : BitVec 32 := Scalar.extui v3815
  let v3817 : BitVec 32 := Scalar.subi v3814 v3816
  let c128_i32_2078 : BitVec 32 := 128#32
  let c0_i32_2081 : BitVec 32 := 0#32
  let v3818 : BitVec 1 := Scalar.cmpi .sgt c128_i32_2078 c0_i32_2081
  let v3819 : BitVec 32 := Scalar.extui v3818
  let c0_i32_2082 : BitVec 32 := 0#32
  let v3820 : BitVec 1 := Scalar.cmpi .slt c128_i32_2078 c0_i32_2082
  let v3821 : BitVec 32 := Scalar.extui v3820
  let v3822 : BitVec 32 := Scalar.subi v3819 v3821
  let v3823 : BitVec 1 := Scalar.cmpi .ne v3817 v3822
  let v3824 : BitVec 32 := Scalar.remsi v3811 c128_i32_2078
  let c0_i32_2083 : BitVec 32 := 0#32
  let v3825 : BitVec 1 := Scalar.cmpi .ne v3824 c0_i32_2083
  let v3826 : BitVec 1 := Scalar.andi v3823 v3825
  let v3812 : BitVec 32 := Scalar.divsi v3811 c128_i32_2078
  let c1_i32_2084 : BitVec 32 := 1#32
  let v3827 : BitVec 32 := Scalar.subi v3812 c1_i32_2084
  let v3828 : BitVec 32 := Scalar.select v3826 v3827 v3812
  let c128_i32_2085 : BitVec 32 := 128#32
  let v3829 : BitVec 32 := Scalar.muli v3828 c128_i32_2085
  let v3830 : BitVec 32 := Scalar.maxsi c0_i32_2086 v3829
  let v3831 : BitVec 32 := Scalar.minsi c99872_i32_2087 v3830
  let v3832 : BitVec 32 := v3831
  ![17, v3832.toNat]

def k1_chk146 (v3811 : BitVec 32) : Prop :=
  (32 ∣ (k1_mult146 v3811).toNat) ∧
  (∀ a, (k1_off146 v3811) a + S1x128.size a ≤ S128x100000.size a)
theorem k1_mult146_dvd : ∀ (v3811 : BitVec 32) (k1_hw146 : k1_chk146 v3811), 32 ∣ (k1_mult146 v3811).toNat := fun v3811 k1_hw146 => k1_hw146.1
theorem k1_off146_inb : ∀ (v3811 : BitVec 32) (k1_hw146 : k1_chk146 v3811), ∀ a, (k1_off146 v3811) a + S1x128.size a ≤ S128x100000.size a := fun v3811 k1_hw146 => k1_hw146.2

def k1_mult147 (v3837 : BitVec 32) : BitVec 32 :=
  let c99872_i32_2103 : BitVec 32 := 99872#32
  let c0_i32_2102 : BitVec 32 := 0#32
  let c0_i32_2095 : BitVec 32 := 0#32
  let v3839 : BitVec 1 := Scalar.cmpi .sgt v3837 c0_i32_2095
  let v3840 : BitVec 32 := Scalar.extui v3839
  let c0_i32_2096 : BitVec 32 := 0#32
  let v3841 : BitVec 1 := Scalar.cmpi .slt v3837 c0_i32_2096
  let v3842 : BitVec 32 := Scalar.extui v3841
  let v3843 : BitVec 32 := Scalar.subi v3840 v3842
  let c128_i32_2094 : BitVec 32 := 128#32
  let c0_i32_2097 : BitVec 32 := 0#32
  let v3844 : BitVec 1 := Scalar.cmpi .sgt c128_i32_2094 c0_i32_2097
  let v3845 : BitVec 32 := Scalar.extui v3844
  let c0_i32_2098 : BitVec 32 := 0#32
  let v3846 : BitVec 1 := Scalar.cmpi .slt c128_i32_2094 c0_i32_2098
  let v3847 : BitVec 32 := Scalar.extui v3846
  let v3848 : BitVec 32 := Scalar.subi v3845 v3847
  let v3849 : BitVec 1 := Scalar.cmpi .ne v3843 v3848
  let v3850 : BitVec 32 := Scalar.remsi v3837 c128_i32_2094
  let c0_i32_2099 : BitVec 32 := 0#32
  let v3851 : BitVec 1 := Scalar.cmpi .ne v3850 c0_i32_2099
  let v3852 : BitVec 1 := Scalar.andi v3849 v3851
  let v3838 : BitVec 32 := Scalar.divsi v3837 c128_i32_2094
  let c1_i32_2100 : BitVec 32 := 1#32
  let v3853 : BitVec 32 := Scalar.subi v3838 c1_i32_2100
  let v3854 : BitVec 32 := Scalar.select v3852 v3853 v3838
  let c128_i32_2101 : BitVec 32 := 128#32
  let v3855 : BitVec 32 := Scalar.muli v3854 c128_i32_2101
  let v3856 : BitVec 32 := Scalar.maxsi c0_i32_2102 v3855
  let v3857 : BitVec 32 := Scalar.minsi c99872_i32_2103 v3856
  v3857

def k1_off147 (v3837 : BitVec 32) : Fin 2 → Nat :=
  let c18_i32_2105 : BitVec 32 := 18#32
  let c99872_i32_2103 : BitVec 32 := 99872#32
  let c0_i32_2102 : BitVec 32 := 0#32
  let c0_i32_2095 : BitVec 32 := 0#32
  let v3839 : BitVec 1 := Scalar.cmpi .sgt v3837 c0_i32_2095
  let v3840 : BitVec 32 := Scalar.extui v3839
  let c0_i32_2096 : BitVec 32 := 0#32
  let v3841 : BitVec 1 := Scalar.cmpi .slt v3837 c0_i32_2096
  let v3842 : BitVec 32 := Scalar.extui v3841
  let v3843 : BitVec 32 := Scalar.subi v3840 v3842
  let c128_i32_2094 : BitVec 32 := 128#32
  let c0_i32_2097 : BitVec 32 := 0#32
  let v3844 : BitVec 1 := Scalar.cmpi .sgt c128_i32_2094 c0_i32_2097
  let v3845 : BitVec 32 := Scalar.extui v3844
  let c0_i32_2098 : BitVec 32 := 0#32
  let v3846 : BitVec 1 := Scalar.cmpi .slt c128_i32_2094 c0_i32_2098
  let v3847 : BitVec 32 := Scalar.extui v3846
  let v3848 : BitVec 32 := Scalar.subi v3845 v3847
  let v3849 : BitVec 1 := Scalar.cmpi .ne v3843 v3848
  let v3850 : BitVec 32 := Scalar.remsi v3837 c128_i32_2094
  let c0_i32_2099 : BitVec 32 := 0#32
  let v3851 : BitVec 1 := Scalar.cmpi .ne v3850 c0_i32_2099
  let v3852 : BitVec 1 := Scalar.andi v3849 v3851
  let v3838 : BitVec 32 := Scalar.divsi v3837 c128_i32_2094
  let c1_i32_2100 : BitVec 32 := 1#32
  let v3853 : BitVec 32 := Scalar.subi v3838 c1_i32_2100
  let v3854 : BitVec 32 := Scalar.select v3852 v3853 v3838
  let c128_i32_2101 : BitVec 32 := 128#32
  let v3855 : BitVec 32 := Scalar.muli v3854 c128_i32_2101
  let v3856 : BitVec 32 := Scalar.maxsi c0_i32_2102 v3855
  let v3857 : BitVec 32 := Scalar.minsi c99872_i32_2103 v3856
  let v3858 : BitVec 32 := v3857
  ![18, v3858.toNat]

def k1_chk147 (v3837 : BitVec 32) : Prop :=
  (32 ∣ (k1_mult147 v3837).toNat) ∧
  (∀ a, (k1_off147 v3837) a + S1x128.size a ≤ S128x100000.size a)
theorem k1_mult147_dvd : ∀ (v3837 : BitVec 32) (k1_hw147 : k1_chk147 v3837), 32 ∣ (k1_mult147 v3837).toNat := fun v3837 k1_hw147 => k1_hw147.1
theorem k1_off147_inb : ∀ (v3837 : BitVec 32) (k1_hw147 : k1_chk147 v3837), ∀ a, (k1_off147 v3837) a + S1x128.size a ≤ S128x100000.size a := fun v3837 k1_hw147 => k1_hw147.2

def k1_mult148 (v3863 : BitVec 32) : BitVec 32 :=
  let c99872_i32_2119 : BitVec 32 := 99872#32
  let c0_i32_2118 : BitVec 32 := 0#32
  let c0_i32_2111 : BitVec 32 := 0#32
  let v3865 : BitVec 1 := Scalar.cmpi .sgt v3863 c0_i32_2111
  let v3866 : BitVec 32 := Scalar.extui v3865
  let c0_i32_2112 : BitVec 32 := 0#32
  let v3867 : BitVec 1 := Scalar.cmpi .slt v3863 c0_i32_2112
  let v3868 : BitVec 32 := Scalar.extui v3867
  let v3869 : BitVec 32 := Scalar.subi v3866 v3868
  let c128_i32_2110 : BitVec 32 := 128#32
  let c0_i32_2113 : BitVec 32 := 0#32
  let v3870 : BitVec 1 := Scalar.cmpi .sgt c128_i32_2110 c0_i32_2113
  let v3871 : BitVec 32 := Scalar.extui v3870
  let c0_i32_2114 : BitVec 32 := 0#32
  let v3872 : BitVec 1 := Scalar.cmpi .slt c128_i32_2110 c0_i32_2114
  let v3873 : BitVec 32 := Scalar.extui v3872
  let v3874 : BitVec 32 := Scalar.subi v3871 v3873
  let v3875 : BitVec 1 := Scalar.cmpi .ne v3869 v3874
  let v3876 : BitVec 32 := Scalar.remsi v3863 c128_i32_2110
  let c0_i32_2115 : BitVec 32 := 0#32
  let v3877 : BitVec 1 := Scalar.cmpi .ne v3876 c0_i32_2115
  let v3878 : BitVec 1 := Scalar.andi v3875 v3877
  let v3864 : BitVec 32 := Scalar.divsi v3863 c128_i32_2110
  let c1_i32_2116 : BitVec 32 := 1#32
  let v3879 : BitVec 32 := Scalar.subi v3864 c1_i32_2116
  let v3880 : BitVec 32 := Scalar.select v3878 v3879 v3864
  let c128_i32_2117 : BitVec 32 := 128#32
  let v3881 : BitVec 32 := Scalar.muli v3880 c128_i32_2117
  let v3882 : BitVec 32 := Scalar.maxsi c0_i32_2118 v3881
  let v3883 : BitVec 32 := Scalar.minsi c99872_i32_2119 v3882
  v3883

def k1_off148 (v3863 : BitVec 32) : Fin 2 → Nat :=
  let c19_i32_2121 : BitVec 32 := 19#32
  let c99872_i32_2119 : BitVec 32 := 99872#32
  let c0_i32_2118 : BitVec 32 := 0#32
  let c0_i32_2111 : BitVec 32 := 0#32
  let v3865 : BitVec 1 := Scalar.cmpi .sgt v3863 c0_i32_2111
  let v3866 : BitVec 32 := Scalar.extui v3865
  let c0_i32_2112 : BitVec 32 := 0#32
  let v3867 : BitVec 1 := Scalar.cmpi .slt v3863 c0_i32_2112
  let v3868 : BitVec 32 := Scalar.extui v3867
  let v3869 : BitVec 32 := Scalar.subi v3866 v3868
  let c128_i32_2110 : BitVec 32 := 128#32
  let c0_i32_2113 : BitVec 32 := 0#32
  let v3870 : BitVec 1 := Scalar.cmpi .sgt c128_i32_2110 c0_i32_2113
  let v3871 : BitVec 32 := Scalar.extui v3870
  let c0_i32_2114 : BitVec 32 := 0#32
  let v3872 : BitVec 1 := Scalar.cmpi .slt c128_i32_2110 c0_i32_2114
  let v3873 : BitVec 32 := Scalar.extui v3872
  let v3874 : BitVec 32 := Scalar.subi v3871 v3873
  let v3875 : BitVec 1 := Scalar.cmpi .ne v3869 v3874
  let v3876 : BitVec 32 := Scalar.remsi v3863 c128_i32_2110
  let c0_i32_2115 : BitVec 32 := 0#32
  let v3877 : BitVec 1 := Scalar.cmpi .ne v3876 c0_i32_2115
  let v3878 : BitVec 1 := Scalar.andi v3875 v3877
  let v3864 : BitVec 32 := Scalar.divsi v3863 c128_i32_2110
  let c1_i32_2116 : BitVec 32 := 1#32
  let v3879 : BitVec 32 := Scalar.subi v3864 c1_i32_2116
  let v3880 : BitVec 32 := Scalar.select v3878 v3879 v3864
  let c128_i32_2117 : BitVec 32 := 128#32
  let v3881 : BitVec 32 := Scalar.muli v3880 c128_i32_2117
  let v3882 : BitVec 32 := Scalar.maxsi c0_i32_2118 v3881
  let v3883 : BitVec 32 := Scalar.minsi c99872_i32_2119 v3882
  let v3884 : BitVec 32 := v3883
  ![19, v3884.toNat]

def k1_chk148 (v3863 : BitVec 32) : Prop :=
  (32 ∣ (k1_mult148 v3863).toNat) ∧
  (∀ a, (k1_off148 v3863) a + S1x128.size a ≤ S128x100000.size a)
theorem k1_mult148_dvd : ∀ (v3863 : BitVec 32) (k1_hw148 : k1_chk148 v3863), 32 ∣ (k1_mult148 v3863).toNat := fun v3863 k1_hw148 => k1_hw148.1
theorem k1_off148_inb : ∀ (v3863 : BitVec 32) (k1_hw148 : k1_chk148 v3863), ∀ a, (k1_off148 v3863) a + S1x128.size a ≤ S128x100000.size a := fun v3863 k1_hw148 => k1_hw148.2

def k1_mult149 (v3889 : BitVec 32) : BitVec 32 :=
  let c99872_i32_2135 : BitVec 32 := 99872#32
  let c0_i32_2134 : BitVec 32 := 0#32
  let c0_i32_2127 : BitVec 32 := 0#32
  let v3891 : BitVec 1 := Scalar.cmpi .sgt v3889 c0_i32_2127
  let v3892 : BitVec 32 := Scalar.extui v3891
  let c0_i32_2128 : BitVec 32 := 0#32
  let v3893 : BitVec 1 := Scalar.cmpi .slt v3889 c0_i32_2128
  let v3894 : BitVec 32 := Scalar.extui v3893
  let v3895 : BitVec 32 := Scalar.subi v3892 v3894
  let c128_i32_2126 : BitVec 32 := 128#32
  let c0_i32_2129 : BitVec 32 := 0#32
  let v3896 : BitVec 1 := Scalar.cmpi .sgt c128_i32_2126 c0_i32_2129
  let v3897 : BitVec 32 := Scalar.extui v3896
  let c0_i32_2130 : BitVec 32 := 0#32
  let v3898 : BitVec 1 := Scalar.cmpi .slt c128_i32_2126 c0_i32_2130
  let v3899 : BitVec 32 := Scalar.extui v3898
  let v3900 : BitVec 32 := Scalar.subi v3897 v3899
  let v3901 : BitVec 1 := Scalar.cmpi .ne v3895 v3900
  let v3902 : BitVec 32 := Scalar.remsi v3889 c128_i32_2126
  let c0_i32_2131 : BitVec 32 := 0#32
  let v3903 : BitVec 1 := Scalar.cmpi .ne v3902 c0_i32_2131
  let v3904 : BitVec 1 := Scalar.andi v3901 v3903
  let v3890 : BitVec 32 := Scalar.divsi v3889 c128_i32_2126
  let c1_i32_2132 : BitVec 32 := 1#32
  let v3905 : BitVec 32 := Scalar.subi v3890 c1_i32_2132
  let v3906 : BitVec 32 := Scalar.select v3904 v3905 v3890
  let c128_i32_2133 : BitVec 32 := 128#32
  let v3907 : BitVec 32 := Scalar.muli v3906 c128_i32_2133
  let v3908 : BitVec 32 := Scalar.maxsi c0_i32_2134 v3907
  let v3909 : BitVec 32 := Scalar.minsi c99872_i32_2135 v3908
  v3909

def k1_off149 (v3889 : BitVec 32) : Fin 2 → Nat :=
  let c20_i32_2137 : BitVec 32 := 20#32
  let c99872_i32_2135 : BitVec 32 := 99872#32
  let c0_i32_2134 : BitVec 32 := 0#32
  let c0_i32_2127 : BitVec 32 := 0#32
  let v3891 : BitVec 1 := Scalar.cmpi .sgt v3889 c0_i32_2127
  let v3892 : BitVec 32 := Scalar.extui v3891
  let c0_i32_2128 : BitVec 32 := 0#32
  let v3893 : BitVec 1 := Scalar.cmpi .slt v3889 c0_i32_2128
  let v3894 : BitVec 32 := Scalar.extui v3893
  let v3895 : BitVec 32 := Scalar.subi v3892 v3894
  let c128_i32_2126 : BitVec 32 := 128#32
  let c0_i32_2129 : BitVec 32 := 0#32
  let v3896 : BitVec 1 := Scalar.cmpi .sgt c128_i32_2126 c0_i32_2129
  let v3897 : BitVec 32 := Scalar.extui v3896
  let c0_i32_2130 : BitVec 32 := 0#32
  let v3898 : BitVec 1 := Scalar.cmpi .slt c128_i32_2126 c0_i32_2130
  let v3899 : BitVec 32 := Scalar.extui v3898
  let v3900 : BitVec 32 := Scalar.subi v3897 v3899
  let v3901 : BitVec 1 := Scalar.cmpi .ne v3895 v3900
  let v3902 : BitVec 32 := Scalar.remsi v3889 c128_i32_2126
  let c0_i32_2131 : BitVec 32 := 0#32
  let v3903 : BitVec 1 := Scalar.cmpi .ne v3902 c0_i32_2131
  let v3904 : BitVec 1 := Scalar.andi v3901 v3903
  let v3890 : BitVec 32 := Scalar.divsi v3889 c128_i32_2126
  let c1_i32_2132 : BitVec 32 := 1#32
  let v3905 : BitVec 32 := Scalar.subi v3890 c1_i32_2132
  let v3906 : BitVec 32 := Scalar.select v3904 v3905 v3890
  let c128_i32_2133 : BitVec 32 := 128#32
  let v3907 : BitVec 32 := Scalar.muli v3906 c128_i32_2133
  let v3908 : BitVec 32 := Scalar.maxsi c0_i32_2134 v3907
  let v3909 : BitVec 32 := Scalar.minsi c99872_i32_2135 v3908
  let v3910 : BitVec 32 := v3909
  ![20, v3910.toNat]

def k1_chk149 (v3889 : BitVec 32) : Prop :=
  (32 ∣ (k1_mult149 v3889).toNat) ∧
  (∀ a, (k1_off149 v3889) a + S1x128.size a ≤ S128x100000.size a)
theorem k1_mult149_dvd : ∀ (v3889 : BitVec 32) (k1_hw149 : k1_chk149 v3889), 32 ∣ (k1_mult149 v3889).toNat := fun v3889 k1_hw149 => k1_hw149.1
theorem k1_off149_inb : ∀ (v3889 : BitVec 32) (k1_hw149 : k1_chk149 v3889), ∀ a, (k1_off149 v3889) a + S1x128.size a ≤ S128x100000.size a := fun v3889 k1_hw149 => k1_hw149.2

def k1_mult150 (v3915 : BitVec 32) : BitVec 32 :=
  let c99872_i32_2151 : BitVec 32 := 99872#32
  let c0_i32_2150 : BitVec 32 := 0#32
  let c0_i32_2143 : BitVec 32 := 0#32
  let v3917 : BitVec 1 := Scalar.cmpi .sgt v3915 c0_i32_2143
  let v3918 : BitVec 32 := Scalar.extui v3917
  let c0_i32_2144 : BitVec 32 := 0#32
  let v3919 : BitVec 1 := Scalar.cmpi .slt v3915 c0_i32_2144
  let v3920 : BitVec 32 := Scalar.extui v3919
  let v3921 : BitVec 32 := Scalar.subi v3918 v3920
  let c128_i32_2142 : BitVec 32 := 128#32
  let c0_i32_2145 : BitVec 32 := 0#32
  let v3922 : BitVec 1 := Scalar.cmpi .sgt c128_i32_2142 c0_i32_2145
  let v3923 : BitVec 32 := Scalar.extui v3922
  let c0_i32_2146 : BitVec 32 := 0#32
  let v3924 : BitVec 1 := Scalar.cmpi .slt c128_i32_2142 c0_i32_2146
  let v3925 : BitVec 32 := Scalar.extui v3924
  let v3926 : BitVec 32 := Scalar.subi v3923 v3925
  let v3927 : BitVec 1 := Scalar.cmpi .ne v3921 v3926
  let v3928 : BitVec 32 := Scalar.remsi v3915 c128_i32_2142
  let c0_i32_2147 : BitVec 32 := 0#32
  let v3929 : BitVec 1 := Scalar.cmpi .ne v3928 c0_i32_2147
  let v3930 : BitVec 1 := Scalar.andi v3927 v3929
  let v3916 : BitVec 32 := Scalar.divsi v3915 c128_i32_2142
  let c1_i32_2148 : BitVec 32 := 1#32
  let v3931 : BitVec 32 := Scalar.subi v3916 c1_i32_2148
  let v3932 : BitVec 32 := Scalar.select v3930 v3931 v3916
  let c128_i32_2149 : BitVec 32 := 128#32
  let v3933 : BitVec 32 := Scalar.muli v3932 c128_i32_2149
  let v3934 : BitVec 32 := Scalar.maxsi c0_i32_2150 v3933
  let v3935 : BitVec 32 := Scalar.minsi c99872_i32_2151 v3934
  v3935

def k1_off150 (v3915 : BitVec 32) : Fin 2 → Nat :=
  let c21_i32_2153 : BitVec 32 := 21#32
  let c99872_i32_2151 : BitVec 32 := 99872#32
  let c0_i32_2150 : BitVec 32 := 0#32
  let c0_i32_2143 : BitVec 32 := 0#32
  let v3917 : BitVec 1 := Scalar.cmpi .sgt v3915 c0_i32_2143
  let v3918 : BitVec 32 := Scalar.extui v3917
  let c0_i32_2144 : BitVec 32 := 0#32
  let v3919 : BitVec 1 := Scalar.cmpi .slt v3915 c0_i32_2144
  let v3920 : BitVec 32 := Scalar.extui v3919
  let v3921 : BitVec 32 := Scalar.subi v3918 v3920
  let c128_i32_2142 : BitVec 32 := 128#32
  let c0_i32_2145 : BitVec 32 := 0#32
  let v3922 : BitVec 1 := Scalar.cmpi .sgt c128_i32_2142 c0_i32_2145
  let v3923 : BitVec 32 := Scalar.extui v3922
  let c0_i32_2146 : BitVec 32 := 0#32
  let v3924 : BitVec 1 := Scalar.cmpi .slt c128_i32_2142 c0_i32_2146
  let v3925 : BitVec 32 := Scalar.extui v3924
  let v3926 : BitVec 32 := Scalar.subi v3923 v3925
  let v3927 : BitVec 1 := Scalar.cmpi .ne v3921 v3926
  let v3928 : BitVec 32 := Scalar.remsi v3915 c128_i32_2142
  let c0_i32_2147 : BitVec 32 := 0#32
  let v3929 : BitVec 1 := Scalar.cmpi .ne v3928 c0_i32_2147
  let v3930 : BitVec 1 := Scalar.andi v3927 v3929
  let v3916 : BitVec 32 := Scalar.divsi v3915 c128_i32_2142
  let c1_i32_2148 : BitVec 32 := 1#32
  let v3931 : BitVec 32 := Scalar.subi v3916 c1_i32_2148
  let v3932 : BitVec 32 := Scalar.select v3930 v3931 v3916
  let c128_i32_2149 : BitVec 32 := 128#32
  let v3933 : BitVec 32 := Scalar.muli v3932 c128_i32_2149
  let v3934 : BitVec 32 := Scalar.maxsi c0_i32_2150 v3933
  let v3935 : BitVec 32 := Scalar.minsi c99872_i32_2151 v3934
  let v3936 : BitVec 32 := v3935
  ![21, v3936.toNat]

def k1_chk150 (v3915 : BitVec 32) : Prop :=
  (32 ∣ (k1_mult150 v3915).toNat) ∧
  (∀ a, (k1_off150 v3915) a + S1x128.size a ≤ S128x100000.size a)
theorem k1_mult150_dvd : ∀ (v3915 : BitVec 32) (k1_hw150 : k1_chk150 v3915), 32 ∣ (k1_mult150 v3915).toNat := fun v3915 k1_hw150 => k1_hw150.1
theorem k1_off150_inb : ∀ (v3915 : BitVec 32) (k1_hw150 : k1_chk150 v3915), ∀ a, (k1_off150 v3915) a + S1x128.size a ≤ S128x100000.size a := fun v3915 k1_hw150 => k1_hw150.2

def k1_mult151 (v3941 : BitVec 32) : BitVec 32 :=
  let c99872_i32_2167 : BitVec 32 := 99872#32
  let c0_i32_2166 : BitVec 32 := 0#32
  let c0_i32_2159 : BitVec 32 := 0#32
  let v3943 : BitVec 1 := Scalar.cmpi .sgt v3941 c0_i32_2159
  let v3944 : BitVec 32 := Scalar.extui v3943
  let c0_i32_2160 : BitVec 32 := 0#32
  let v3945 : BitVec 1 := Scalar.cmpi .slt v3941 c0_i32_2160
  let v3946 : BitVec 32 := Scalar.extui v3945
  let v3947 : BitVec 32 := Scalar.subi v3944 v3946
  let c128_i32_2158 : BitVec 32 := 128#32
  let c0_i32_2161 : BitVec 32 := 0#32
  let v3948 : BitVec 1 := Scalar.cmpi .sgt c128_i32_2158 c0_i32_2161
  let v3949 : BitVec 32 := Scalar.extui v3948
  let c0_i32_2162 : BitVec 32 := 0#32
  let v3950 : BitVec 1 := Scalar.cmpi .slt c128_i32_2158 c0_i32_2162
  let v3951 : BitVec 32 := Scalar.extui v3950
  let v3952 : BitVec 32 := Scalar.subi v3949 v3951
  let v3953 : BitVec 1 := Scalar.cmpi .ne v3947 v3952
  let v3954 : BitVec 32 := Scalar.remsi v3941 c128_i32_2158
  let c0_i32_2163 : BitVec 32 := 0#32
  let v3955 : BitVec 1 := Scalar.cmpi .ne v3954 c0_i32_2163
  let v3956 : BitVec 1 := Scalar.andi v3953 v3955
  let v3942 : BitVec 32 := Scalar.divsi v3941 c128_i32_2158
  let c1_i32_2164 : BitVec 32 := 1#32
  let v3957 : BitVec 32 := Scalar.subi v3942 c1_i32_2164
  let v3958 : BitVec 32 := Scalar.select v3956 v3957 v3942
  let c128_i32_2165 : BitVec 32 := 128#32
  let v3959 : BitVec 32 := Scalar.muli v3958 c128_i32_2165
  let v3960 : BitVec 32 := Scalar.maxsi c0_i32_2166 v3959
  let v3961 : BitVec 32 := Scalar.minsi c99872_i32_2167 v3960
  v3961

def k1_off151 (v3941 : BitVec 32) : Fin 2 → Nat :=
  let c22_i32_2169 : BitVec 32 := 22#32
  let c99872_i32_2167 : BitVec 32 := 99872#32
  let c0_i32_2166 : BitVec 32 := 0#32
  let c0_i32_2159 : BitVec 32 := 0#32
  let v3943 : BitVec 1 := Scalar.cmpi .sgt v3941 c0_i32_2159
  let v3944 : BitVec 32 := Scalar.extui v3943
  let c0_i32_2160 : BitVec 32 := 0#32
  let v3945 : BitVec 1 := Scalar.cmpi .slt v3941 c0_i32_2160
  let v3946 : BitVec 32 := Scalar.extui v3945
  let v3947 : BitVec 32 := Scalar.subi v3944 v3946
  let c128_i32_2158 : BitVec 32 := 128#32
  let c0_i32_2161 : BitVec 32 := 0#32
  let v3948 : BitVec 1 := Scalar.cmpi .sgt c128_i32_2158 c0_i32_2161
  let v3949 : BitVec 32 := Scalar.extui v3948
  let c0_i32_2162 : BitVec 32 := 0#32
  let v3950 : BitVec 1 := Scalar.cmpi .slt c128_i32_2158 c0_i32_2162
  let v3951 : BitVec 32 := Scalar.extui v3950
  let v3952 : BitVec 32 := Scalar.subi v3949 v3951
  let v3953 : BitVec 1 := Scalar.cmpi .ne v3947 v3952
  let v3954 : BitVec 32 := Scalar.remsi v3941 c128_i32_2158
  let c0_i32_2163 : BitVec 32 := 0#32
  let v3955 : BitVec 1 := Scalar.cmpi .ne v3954 c0_i32_2163
  let v3956 : BitVec 1 := Scalar.andi v3953 v3955
  let v3942 : BitVec 32 := Scalar.divsi v3941 c128_i32_2158
  let c1_i32_2164 : BitVec 32 := 1#32
  let v3957 : BitVec 32 := Scalar.subi v3942 c1_i32_2164
  let v3958 : BitVec 32 := Scalar.select v3956 v3957 v3942
  let c128_i32_2165 : BitVec 32 := 128#32
  let v3959 : BitVec 32 := Scalar.muli v3958 c128_i32_2165
  let v3960 : BitVec 32 := Scalar.maxsi c0_i32_2166 v3959
  let v3961 : BitVec 32 := Scalar.minsi c99872_i32_2167 v3960
  let v3962 : BitVec 32 := v3961
  ![22, v3962.toNat]

def k1_chk151 (v3941 : BitVec 32) : Prop :=
  (32 ∣ (k1_mult151 v3941).toNat) ∧
  (∀ a, (k1_off151 v3941) a + S1x128.size a ≤ S128x100000.size a)
theorem k1_mult151_dvd : ∀ (v3941 : BitVec 32) (k1_hw151 : k1_chk151 v3941), 32 ∣ (k1_mult151 v3941).toNat := fun v3941 k1_hw151 => k1_hw151.1
theorem k1_off151_inb : ∀ (v3941 : BitVec 32) (k1_hw151 : k1_chk151 v3941), ∀ a, (k1_off151 v3941) a + S1x128.size a ≤ S128x100000.size a := fun v3941 k1_hw151 => k1_hw151.2

def k1_mult152 (v3967 : BitVec 32) : BitVec 32 :=
  let c99872_i32_2183 : BitVec 32 := 99872#32
  let c0_i32_2182 : BitVec 32 := 0#32
  let c0_i32_2175 : BitVec 32 := 0#32
  let v3969 : BitVec 1 := Scalar.cmpi .sgt v3967 c0_i32_2175
  let v3970 : BitVec 32 := Scalar.extui v3969
  let c0_i32_2176 : BitVec 32 := 0#32
  let v3971 : BitVec 1 := Scalar.cmpi .slt v3967 c0_i32_2176
  let v3972 : BitVec 32 := Scalar.extui v3971
  let v3973 : BitVec 32 := Scalar.subi v3970 v3972
  let c128_i32_2174 : BitVec 32 := 128#32
  let c0_i32_2177 : BitVec 32 := 0#32
  let v3974 : BitVec 1 := Scalar.cmpi .sgt c128_i32_2174 c0_i32_2177
  let v3975 : BitVec 32 := Scalar.extui v3974
  let c0_i32_2178 : BitVec 32 := 0#32
  let v3976 : BitVec 1 := Scalar.cmpi .slt c128_i32_2174 c0_i32_2178
  let v3977 : BitVec 32 := Scalar.extui v3976
  let v3978 : BitVec 32 := Scalar.subi v3975 v3977
  let v3979 : BitVec 1 := Scalar.cmpi .ne v3973 v3978
  let v3980 : BitVec 32 := Scalar.remsi v3967 c128_i32_2174
  let c0_i32_2179 : BitVec 32 := 0#32
  let v3981 : BitVec 1 := Scalar.cmpi .ne v3980 c0_i32_2179
  let v3982 : BitVec 1 := Scalar.andi v3979 v3981
  let v3968 : BitVec 32 := Scalar.divsi v3967 c128_i32_2174
  let c1_i32_2180 : BitVec 32 := 1#32
  let v3983 : BitVec 32 := Scalar.subi v3968 c1_i32_2180
  let v3984 : BitVec 32 := Scalar.select v3982 v3983 v3968
  let c128_i32_2181 : BitVec 32 := 128#32
  let v3985 : BitVec 32 := Scalar.muli v3984 c128_i32_2181
  let v3986 : BitVec 32 := Scalar.maxsi c0_i32_2182 v3985
  let v3987 : BitVec 32 := Scalar.minsi c99872_i32_2183 v3986
  v3987

def k1_off152 (v3967 : BitVec 32) : Fin 2 → Nat :=
  let c23_i32_2185 : BitVec 32 := 23#32
  let c99872_i32_2183 : BitVec 32 := 99872#32
  let c0_i32_2182 : BitVec 32 := 0#32
  let c0_i32_2175 : BitVec 32 := 0#32
  let v3969 : BitVec 1 := Scalar.cmpi .sgt v3967 c0_i32_2175
  let v3970 : BitVec 32 := Scalar.extui v3969
  let c0_i32_2176 : BitVec 32 := 0#32
  let v3971 : BitVec 1 := Scalar.cmpi .slt v3967 c0_i32_2176
  let v3972 : BitVec 32 := Scalar.extui v3971
  let v3973 : BitVec 32 := Scalar.subi v3970 v3972
  let c128_i32_2174 : BitVec 32 := 128#32
  let c0_i32_2177 : BitVec 32 := 0#32
  let v3974 : BitVec 1 := Scalar.cmpi .sgt c128_i32_2174 c0_i32_2177
  let v3975 : BitVec 32 := Scalar.extui v3974
  let c0_i32_2178 : BitVec 32 := 0#32
  let v3976 : BitVec 1 := Scalar.cmpi .slt c128_i32_2174 c0_i32_2178
  let v3977 : BitVec 32 := Scalar.extui v3976
  let v3978 : BitVec 32 := Scalar.subi v3975 v3977
  let v3979 : BitVec 1 := Scalar.cmpi .ne v3973 v3978
  let v3980 : BitVec 32 := Scalar.remsi v3967 c128_i32_2174
  let c0_i32_2179 : BitVec 32 := 0#32
  let v3981 : BitVec 1 := Scalar.cmpi .ne v3980 c0_i32_2179
  let v3982 : BitVec 1 := Scalar.andi v3979 v3981
  let v3968 : BitVec 32 := Scalar.divsi v3967 c128_i32_2174
  let c1_i32_2180 : BitVec 32 := 1#32
  let v3983 : BitVec 32 := Scalar.subi v3968 c1_i32_2180
  let v3984 : BitVec 32 := Scalar.select v3982 v3983 v3968
  let c128_i32_2181 : BitVec 32 := 128#32
  let v3985 : BitVec 32 := Scalar.muli v3984 c128_i32_2181
  let v3986 : BitVec 32 := Scalar.maxsi c0_i32_2182 v3985
  let v3987 : BitVec 32 := Scalar.minsi c99872_i32_2183 v3986
  let v3988 : BitVec 32 := v3987
  ![23, v3988.toNat]

def k1_chk152 (v3967 : BitVec 32) : Prop :=
  (32 ∣ (k1_mult152 v3967).toNat) ∧
  (∀ a, (k1_off152 v3967) a + S1x128.size a ≤ S128x100000.size a)
theorem k1_mult152_dvd : ∀ (v3967 : BitVec 32) (k1_hw152 : k1_chk152 v3967), 32 ∣ (k1_mult152 v3967).toNat := fun v3967 k1_hw152 => k1_hw152.1
theorem k1_off152_inb : ∀ (v3967 : BitVec 32) (k1_hw152 : k1_chk152 v3967), ∀ a, (k1_off152 v3967) a + S1x128.size a ≤ S128x100000.size a := fun v3967 k1_hw152 => k1_hw152.2

def k1_mult153 (v3993 : BitVec 32) : BitVec 32 :=
  let c99872_i32_2199 : BitVec 32 := 99872#32
  let c0_i32_2198 : BitVec 32 := 0#32
  let c0_i32_2191 : BitVec 32 := 0#32
  let v3995 : BitVec 1 := Scalar.cmpi .sgt v3993 c0_i32_2191
  let v3996 : BitVec 32 := Scalar.extui v3995
  let c0_i32_2192 : BitVec 32 := 0#32
  let v3997 : BitVec 1 := Scalar.cmpi .slt v3993 c0_i32_2192
  let v3998 : BitVec 32 := Scalar.extui v3997
  let v3999 : BitVec 32 := Scalar.subi v3996 v3998
  let c128_i32_2190 : BitVec 32 := 128#32
  let c0_i32_2193 : BitVec 32 := 0#32
  let v4000 : BitVec 1 := Scalar.cmpi .sgt c128_i32_2190 c0_i32_2193
  let v4001 : BitVec 32 := Scalar.extui v4000
  let c0_i32_2194 : BitVec 32 := 0#32
  let v4002 : BitVec 1 := Scalar.cmpi .slt c128_i32_2190 c0_i32_2194
  let v4003 : BitVec 32 := Scalar.extui v4002
  let v4004 : BitVec 32 := Scalar.subi v4001 v4003
  let v4005 : BitVec 1 := Scalar.cmpi .ne v3999 v4004
  let v4006 : BitVec 32 := Scalar.remsi v3993 c128_i32_2190
  let c0_i32_2195 : BitVec 32 := 0#32
  let v4007 : BitVec 1 := Scalar.cmpi .ne v4006 c0_i32_2195
  let v4008 : BitVec 1 := Scalar.andi v4005 v4007
  let v3994 : BitVec 32 := Scalar.divsi v3993 c128_i32_2190
  let c1_i32_2196 : BitVec 32 := 1#32
  let v4009 : BitVec 32 := Scalar.subi v3994 c1_i32_2196
  let v4010 : BitVec 32 := Scalar.select v4008 v4009 v3994
  let c128_i32_2197 : BitVec 32 := 128#32
  let v4011 : BitVec 32 := Scalar.muli v4010 c128_i32_2197
  let v4012 : BitVec 32 := Scalar.maxsi c0_i32_2198 v4011
  let v4013 : BitVec 32 := Scalar.minsi c99872_i32_2199 v4012
  v4013

def k1_off153 (v3993 : BitVec 32) : Fin 2 → Nat :=
  let c24_i32_2201 : BitVec 32 := 24#32
  let c99872_i32_2199 : BitVec 32 := 99872#32
  let c0_i32_2198 : BitVec 32 := 0#32
  let c0_i32_2191 : BitVec 32 := 0#32
  let v3995 : BitVec 1 := Scalar.cmpi .sgt v3993 c0_i32_2191
  let v3996 : BitVec 32 := Scalar.extui v3995
  let c0_i32_2192 : BitVec 32 := 0#32
  let v3997 : BitVec 1 := Scalar.cmpi .slt v3993 c0_i32_2192
  let v3998 : BitVec 32 := Scalar.extui v3997
  let v3999 : BitVec 32 := Scalar.subi v3996 v3998
  let c128_i32_2190 : BitVec 32 := 128#32
  let c0_i32_2193 : BitVec 32 := 0#32
  let v4000 : BitVec 1 := Scalar.cmpi .sgt c128_i32_2190 c0_i32_2193
  let v4001 : BitVec 32 := Scalar.extui v4000
  let c0_i32_2194 : BitVec 32 := 0#32
  let v4002 : BitVec 1 := Scalar.cmpi .slt c128_i32_2190 c0_i32_2194
  let v4003 : BitVec 32 := Scalar.extui v4002
  let v4004 : BitVec 32 := Scalar.subi v4001 v4003
  let v4005 : BitVec 1 := Scalar.cmpi .ne v3999 v4004
  let v4006 : BitVec 32 := Scalar.remsi v3993 c128_i32_2190
  let c0_i32_2195 : BitVec 32 := 0#32
  let v4007 : BitVec 1 := Scalar.cmpi .ne v4006 c0_i32_2195
  let v4008 : BitVec 1 := Scalar.andi v4005 v4007
  let v3994 : BitVec 32 := Scalar.divsi v3993 c128_i32_2190
  let c1_i32_2196 : BitVec 32 := 1#32
  let v4009 : BitVec 32 := Scalar.subi v3994 c1_i32_2196
  let v4010 : BitVec 32 := Scalar.select v4008 v4009 v3994
  let c128_i32_2197 : BitVec 32 := 128#32
  let v4011 : BitVec 32 := Scalar.muli v4010 c128_i32_2197
  let v4012 : BitVec 32 := Scalar.maxsi c0_i32_2198 v4011
  let v4013 : BitVec 32 := Scalar.minsi c99872_i32_2199 v4012
  let v4014 : BitVec 32 := v4013
  ![24, v4014.toNat]

def k1_chk153 (v3993 : BitVec 32) : Prop :=
  (32 ∣ (k1_mult153 v3993).toNat) ∧
  (∀ a, (k1_off153 v3993) a + S1x128.size a ≤ S128x100000.size a)
theorem k1_mult153_dvd : ∀ (v3993 : BitVec 32) (k1_hw153 : k1_chk153 v3993), 32 ∣ (k1_mult153 v3993).toNat := fun v3993 k1_hw153 => k1_hw153.1
theorem k1_off153_inb : ∀ (v3993 : BitVec 32) (k1_hw153 : k1_chk153 v3993), ∀ a, (k1_off153 v3993) a + S1x128.size a ≤ S128x100000.size a := fun v3993 k1_hw153 => k1_hw153.2

def k1_mult154 (v4019 : BitVec 32) : BitVec 32 :=
  let c99872_i32_2215 : BitVec 32 := 99872#32
  let c0_i32_2214 : BitVec 32 := 0#32
  let c0_i32_2207 : BitVec 32 := 0#32
  let v4021 : BitVec 1 := Scalar.cmpi .sgt v4019 c0_i32_2207
  let v4022 : BitVec 32 := Scalar.extui v4021
  let c0_i32_2208 : BitVec 32 := 0#32
  let v4023 : BitVec 1 := Scalar.cmpi .slt v4019 c0_i32_2208
  let v4024 : BitVec 32 := Scalar.extui v4023
  let v4025 : BitVec 32 := Scalar.subi v4022 v4024
  let c128_i32_2206 : BitVec 32 := 128#32
  let c0_i32_2209 : BitVec 32 := 0#32
  let v4026 : BitVec 1 := Scalar.cmpi .sgt c128_i32_2206 c0_i32_2209
  let v4027 : BitVec 32 := Scalar.extui v4026
  let c0_i32_2210 : BitVec 32 := 0#32
  let v4028 : BitVec 1 := Scalar.cmpi .slt c128_i32_2206 c0_i32_2210
  let v4029 : BitVec 32 := Scalar.extui v4028
  let v4030 : BitVec 32 := Scalar.subi v4027 v4029
  let v4031 : BitVec 1 := Scalar.cmpi .ne v4025 v4030
  let v4032 : BitVec 32 := Scalar.remsi v4019 c128_i32_2206
  let c0_i32_2211 : BitVec 32 := 0#32
  let v4033 : BitVec 1 := Scalar.cmpi .ne v4032 c0_i32_2211
  let v4034 : BitVec 1 := Scalar.andi v4031 v4033
  let v4020 : BitVec 32 := Scalar.divsi v4019 c128_i32_2206
  let c1_i32_2212 : BitVec 32 := 1#32
  let v4035 : BitVec 32 := Scalar.subi v4020 c1_i32_2212
  let v4036 : BitVec 32 := Scalar.select v4034 v4035 v4020
  let c128_i32_2213 : BitVec 32 := 128#32
  let v4037 : BitVec 32 := Scalar.muli v4036 c128_i32_2213
  let v4038 : BitVec 32 := Scalar.maxsi c0_i32_2214 v4037
  let v4039 : BitVec 32 := Scalar.minsi c99872_i32_2215 v4038
  v4039

def k1_off154 (v4019 : BitVec 32) : Fin 2 → Nat :=
  let c25_i32_2217 : BitVec 32 := 25#32
  let c99872_i32_2215 : BitVec 32 := 99872#32
  let c0_i32_2214 : BitVec 32 := 0#32
  let c0_i32_2207 : BitVec 32 := 0#32
  let v4021 : BitVec 1 := Scalar.cmpi .sgt v4019 c0_i32_2207
  let v4022 : BitVec 32 := Scalar.extui v4021
  let c0_i32_2208 : BitVec 32 := 0#32
  let v4023 : BitVec 1 := Scalar.cmpi .slt v4019 c0_i32_2208
  let v4024 : BitVec 32 := Scalar.extui v4023
  let v4025 : BitVec 32 := Scalar.subi v4022 v4024
  let c128_i32_2206 : BitVec 32 := 128#32
  let c0_i32_2209 : BitVec 32 := 0#32
  let v4026 : BitVec 1 := Scalar.cmpi .sgt c128_i32_2206 c0_i32_2209
  let v4027 : BitVec 32 := Scalar.extui v4026
  let c0_i32_2210 : BitVec 32 := 0#32
  let v4028 : BitVec 1 := Scalar.cmpi .slt c128_i32_2206 c0_i32_2210
  let v4029 : BitVec 32 := Scalar.extui v4028
  let v4030 : BitVec 32 := Scalar.subi v4027 v4029
  let v4031 : BitVec 1 := Scalar.cmpi .ne v4025 v4030
  let v4032 : BitVec 32 := Scalar.remsi v4019 c128_i32_2206
  let c0_i32_2211 : BitVec 32 := 0#32
  let v4033 : BitVec 1 := Scalar.cmpi .ne v4032 c0_i32_2211
  let v4034 : BitVec 1 := Scalar.andi v4031 v4033
  let v4020 : BitVec 32 := Scalar.divsi v4019 c128_i32_2206
  let c1_i32_2212 : BitVec 32 := 1#32
  let v4035 : BitVec 32 := Scalar.subi v4020 c1_i32_2212
  let v4036 : BitVec 32 := Scalar.select v4034 v4035 v4020
  let c128_i32_2213 : BitVec 32 := 128#32
  let v4037 : BitVec 32 := Scalar.muli v4036 c128_i32_2213
  let v4038 : BitVec 32 := Scalar.maxsi c0_i32_2214 v4037
  let v4039 : BitVec 32 := Scalar.minsi c99872_i32_2215 v4038
  let v4040 : BitVec 32 := v4039
  ![25, v4040.toNat]

def k1_chk154 (v4019 : BitVec 32) : Prop :=
  (32 ∣ (k1_mult154 v4019).toNat) ∧
  (∀ a, (k1_off154 v4019) a + S1x128.size a ≤ S128x100000.size a)
theorem k1_mult154_dvd : ∀ (v4019 : BitVec 32) (k1_hw154 : k1_chk154 v4019), 32 ∣ (k1_mult154 v4019).toNat := fun v4019 k1_hw154 => k1_hw154.1
theorem k1_off154_inb : ∀ (v4019 : BitVec 32) (k1_hw154 : k1_chk154 v4019), ∀ a, (k1_off154 v4019) a + S1x128.size a ≤ S128x100000.size a := fun v4019 k1_hw154 => k1_hw154.2

def k1_mult155 (v4045 : BitVec 32) : BitVec 32 :=
  let c99872_i32_2231 : BitVec 32 := 99872#32
  let c0_i32_2230 : BitVec 32 := 0#32
  let c0_i32_2223 : BitVec 32 := 0#32
  let v4047 : BitVec 1 := Scalar.cmpi .sgt v4045 c0_i32_2223
  let v4048 : BitVec 32 := Scalar.extui v4047
  let c0_i32_2224 : BitVec 32 := 0#32
  let v4049 : BitVec 1 := Scalar.cmpi .slt v4045 c0_i32_2224
  let v4050 : BitVec 32 := Scalar.extui v4049
  let v4051 : BitVec 32 := Scalar.subi v4048 v4050
  let c128_i32_2222 : BitVec 32 := 128#32
  let c0_i32_2225 : BitVec 32 := 0#32
  let v4052 : BitVec 1 := Scalar.cmpi .sgt c128_i32_2222 c0_i32_2225
  let v4053 : BitVec 32 := Scalar.extui v4052
  let c0_i32_2226 : BitVec 32 := 0#32
  let v4054 : BitVec 1 := Scalar.cmpi .slt c128_i32_2222 c0_i32_2226
  let v4055 : BitVec 32 := Scalar.extui v4054
  let v4056 : BitVec 32 := Scalar.subi v4053 v4055
  let v4057 : BitVec 1 := Scalar.cmpi .ne v4051 v4056
  let v4058 : BitVec 32 := Scalar.remsi v4045 c128_i32_2222
  let c0_i32_2227 : BitVec 32 := 0#32
  let v4059 : BitVec 1 := Scalar.cmpi .ne v4058 c0_i32_2227
  let v4060 : BitVec 1 := Scalar.andi v4057 v4059
  let v4046 : BitVec 32 := Scalar.divsi v4045 c128_i32_2222
  let c1_i32_2228 : BitVec 32 := 1#32
  let v4061 : BitVec 32 := Scalar.subi v4046 c1_i32_2228
  let v4062 : BitVec 32 := Scalar.select v4060 v4061 v4046
  let c128_i32_2229 : BitVec 32 := 128#32
  let v4063 : BitVec 32 := Scalar.muli v4062 c128_i32_2229
  let v4064 : BitVec 32 := Scalar.maxsi c0_i32_2230 v4063
  let v4065 : BitVec 32 := Scalar.minsi c99872_i32_2231 v4064
  v4065

def k1_off155 (v4045 : BitVec 32) : Fin 2 → Nat :=
  let c26_i32_2233 : BitVec 32 := 26#32
  let c99872_i32_2231 : BitVec 32 := 99872#32
  let c0_i32_2230 : BitVec 32 := 0#32
  let c0_i32_2223 : BitVec 32 := 0#32
  let v4047 : BitVec 1 := Scalar.cmpi .sgt v4045 c0_i32_2223
  let v4048 : BitVec 32 := Scalar.extui v4047
  let c0_i32_2224 : BitVec 32 := 0#32
  let v4049 : BitVec 1 := Scalar.cmpi .slt v4045 c0_i32_2224
  let v4050 : BitVec 32 := Scalar.extui v4049
  let v4051 : BitVec 32 := Scalar.subi v4048 v4050
  let c128_i32_2222 : BitVec 32 := 128#32
  let c0_i32_2225 : BitVec 32 := 0#32
  let v4052 : BitVec 1 := Scalar.cmpi .sgt c128_i32_2222 c0_i32_2225
  let v4053 : BitVec 32 := Scalar.extui v4052
  let c0_i32_2226 : BitVec 32 := 0#32
  let v4054 : BitVec 1 := Scalar.cmpi .slt c128_i32_2222 c0_i32_2226
  let v4055 : BitVec 32 := Scalar.extui v4054
  let v4056 : BitVec 32 := Scalar.subi v4053 v4055
  let v4057 : BitVec 1 := Scalar.cmpi .ne v4051 v4056
  let v4058 : BitVec 32 := Scalar.remsi v4045 c128_i32_2222
  let c0_i32_2227 : BitVec 32 := 0#32
  let v4059 : BitVec 1 := Scalar.cmpi .ne v4058 c0_i32_2227
  let v4060 : BitVec 1 := Scalar.andi v4057 v4059
  let v4046 : BitVec 32 := Scalar.divsi v4045 c128_i32_2222
  let c1_i32_2228 : BitVec 32 := 1#32
  let v4061 : BitVec 32 := Scalar.subi v4046 c1_i32_2228
  let v4062 : BitVec 32 := Scalar.select v4060 v4061 v4046
  let c128_i32_2229 : BitVec 32 := 128#32
  let v4063 : BitVec 32 := Scalar.muli v4062 c128_i32_2229
  let v4064 : BitVec 32 := Scalar.maxsi c0_i32_2230 v4063
  let v4065 : BitVec 32 := Scalar.minsi c99872_i32_2231 v4064
  let v4066 : BitVec 32 := v4065
  ![26, v4066.toNat]

def k1_chk155 (v4045 : BitVec 32) : Prop :=
  (32 ∣ (k1_mult155 v4045).toNat) ∧
  (∀ a, (k1_off155 v4045) a + S1x128.size a ≤ S128x100000.size a)
theorem k1_mult155_dvd : ∀ (v4045 : BitVec 32) (k1_hw155 : k1_chk155 v4045), 32 ∣ (k1_mult155 v4045).toNat := fun v4045 k1_hw155 => k1_hw155.1
theorem k1_off155_inb : ∀ (v4045 : BitVec 32) (k1_hw155 : k1_chk155 v4045), ∀ a, (k1_off155 v4045) a + S1x128.size a ≤ S128x100000.size a := fun v4045 k1_hw155 => k1_hw155.2

def k1_mult156 (v4071 : BitVec 32) : BitVec 32 :=
  let c99872_i32_2247 : BitVec 32 := 99872#32
  let c0_i32_2246 : BitVec 32 := 0#32
  let c0_i32_2239 : BitVec 32 := 0#32
  let v4073 : BitVec 1 := Scalar.cmpi .sgt v4071 c0_i32_2239
  let v4074 : BitVec 32 := Scalar.extui v4073
  let c0_i32_2240 : BitVec 32 := 0#32
  let v4075 : BitVec 1 := Scalar.cmpi .slt v4071 c0_i32_2240
  let v4076 : BitVec 32 := Scalar.extui v4075
  let v4077 : BitVec 32 := Scalar.subi v4074 v4076
  let c128_i32_2238 : BitVec 32 := 128#32
  let c0_i32_2241 : BitVec 32 := 0#32
  let v4078 : BitVec 1 := Scalar.cmpi .sgt c128_i32_2238 c0_i32_2241
  let v4079 : BitVec 32 := Scalar.extui v4078
  let c0_i32_2242 : BitVec 32 := 0#32
  let v4080 : BitVec 1 := Scalar.cmpi .slt c128_i32_2238 c0_i32_2242
  let v4081 : BitVec 32 := Scalar.extui v4080
  let v4082 : BitVec 32 := Scalar.subi v4079 v4081
  let v4083 : BitVec 1 := Scalar.cmpi .ne v4077 v4082
  let v4084 : BitVec 32 := Scalar.remsi v4071 c128_i32_2238
  let c0_i32_2243 : BitVec 32 := 0#32
  let v4085 : BitVec 1 := Scalar.cmpi .ne v4084 c0_i32_2243
  let v4086 : BitVec 1 := Scalar.andi v4083 v4085
  let v4072 : BitVec 32 := Scalar.divsi v4071 c128_i32_2238
  let c1_i32_2244 : BitVec 32 := 1#32
  let v4087 : BitVec 32 := Scalar.subi v4072 c1_i32_2244
  let v4088 : BitVec 32 := Scalar.select v4086 v4087 v4072
  let c128_i32_2245 : BitVec 32 := 128#32
  let v4089 : BitVec 32 := Scalar.muli v4088 c128_i32_2245
  let v4090 : BitVec 32 := Scalar.maxsi c0_i32_2246 v4089
  let v4091 : BitVec 32 := Scalar.minsi c99872_i32_2247 v4090
  v4091

def k1_off156 (v4071 : BitVec 32) : Fin 2 → Nat :=
  let c27_i32_2249 : BitVec 32 := 27#32
  let c99872_i32_2247 : BitVec 32 := 99872#32
  let c0_i32_2246 : BitVec 32 := 0#32
  let c0_i32_2239 : BitVec 32 := 0#32
  let v4073 : BitVec 1 := Scalar.cmpi .sgt v4071 c0_i32_2239
  let v4074 : BitVec 32 := Scalar.extui v4073
  let c0_i32_2240 : BitVec 32 := 0#32
  let v4075 : BitVec 1 := Scalar.cmpi .slt v4071 c0_i32_2240
  let v4076 : BitVec 32 := Scalar.extui v4075
  let v4077 : BitVec 32 := Scalar.subi v4074 v4076
  let c128_i32_2238 : BitVec 32 := 128#32
  let c0_i32_2241 : BitVec 32 := 0#32
  let v4078 : BitVec 1 := Scalar.cmpi .sgt c128_i32_2238 c0_i32_2241
  let v4079 : BitVec 32 := Scalar.extui v4078
  let c0_i32_2242 : BitVec 32 := 0#32
  let v4080 : BitVec 1 := Scalar.cmpi .slt c128_i32_2238 c0_i32_2242
  let v4081 : BitVec 32 := Scalar.extui v4080
  let v4082 : BitVec 32 := Scalar.subi v4079 v4081
  let v4083 : BitVec 1 := Scalar.cmpi .ne v4077 v4082
  let v4084 : BitVec 32 := Scalar.remsi v4071 c128_i32_2238
  let c0_i32_2243 : BitVec 32 := 0#32
  let v4085 : BitVec 1 := Scalar.cmpi .ne v4084 c0_i32_2243
  let v4086 : BitVec 1 := Scalar.andi v4083 v4085
  let v4072 : BitVec 32 := Scalar.divsi v4071 c128_i32_2238
  let c1_i32_2244 : BitVec 32 := 1#32
  let v4087 : BitVec 32 := Scalar.subi v4072 c1_i32_2244
  let v4088 : BitVec 32 := Scalar.select v4086 v4087 v4072
  let c128_i32_2245 : BitVec 32 := 128#32
  let v4089 : BitVec 32 := Scalar.muli v4088 c128_i32_2245
  let v4090 : BitVec 32 := Scalar.maxsi c0_i32_2246 v4089
  let v4091 : BitVec 32 := Scalar.minsi c99872_i32_2247 v4090
  let v4092 : BitVec 32 := v4091
  ![27, v4092.toNat]

def k1_chk156 (v4071 : BitVec 32) : Prop :=
  (32 ∣ (k1_mult156 v4071).toNat) ∧
  (∀ a, (k1_off156 v4071) a + S1x128.size a ≤ S128x100000.size a)
theorem k1_mult156_dvd : ∀ (v4071 : BitVec 32) (k1_hw156 : k1_chk156 v4071), 32 ∣ (k1_mult156 v4071).toNat := fun v4071 k1_hw156 => k1_hw156.1
theorem k1_off156_inb : ∀ (v4071 : BitVec 32) (k1_hw156 : k1_chk156 v4071), ∀ a, (k1_off156 v4071) a + S1x128.size a ≤ S128x100000.size a := fun v4071 k1_hw156 => k1_hw156.2

def k1_mult157 (v4097 : BitVec 32) : BitVec 32 :=
  let c99872_i32_2263 : BitVec 32 := 99872#32
  let c0_i32_2262 : BitVec 32 := 0#32
  let c0_i32_2255 : BitVec 32 := 0#32
  let v4099 : BitVec 1 := Scalar.cmpi .sgt v4097 c0_i32_2255
  let v4100 : BitVec 32 := Scalar.extui v4099
  let c0_i32_2256 : BitVec 32 := 0#32
  let v4101 : BitVec 1 := Scalar.cmpi .slt v4097 c0_i32_2256
  let v4102 : BitVec 32 := Scalar.extui v4101
  let v4103 : BitVec 32 := Scalar.subi v4100 v4102
  let c128_i32_2254 : BitVec 32 := 128#32
  let c0_i32_2257 : BitVec 32 := 0#32
  let v4104 : BitVec 1 := Scalar.cmpi .sgt c128_i32_2254 c0_i32_2257
  let v4105 : BitVec 32 := Scalar.extui v4104
  let c0_i32_2258 : BitVec 32 := 0#32
  let v4106 : BitVec 1 := Scalar.cmpi .slt c128_i32_2254 c0_i32_2258
  let v4107 : BitVec 32 := Scalar.extui v4106
  let v4108 : BitVec 32 := Scalar.subi v4105 v4107
  let v4109 : BitVec 1 := Scalar.cmpi .ne v4103 v4108
  let v4110 : BitVec 32 := Scalar.remsi v4097 c128_i32_2254
  let c0_i32_2259 : BitVec 32 := 0#32
  let v4111 : BitVec 1 := Scalar.cmpi .ne v4110 c0_i32_2259
  let v4112 : BitVec 1 := Scalar.andi v4109 v4111
  let v4098 : BitVec 32 := Scalar.divsi v4097 c128_i32_2254
  let c1_i32_2260 : BitVec 32 := 1#32
  let v4113 : BitVec 32 := Scalar.subi v4098 c1_i32_2260
  let v4114 : BitVec 32 := Scalar.select v4112 v4113 v4098
  let c128_i32_2261 : BitVec 32 := 128#32
  let v4115 : BitVec 32 := Scalar.muli v4114 c128_i32_2261
  let v4116 : BitVec 32 := Scalar.maxsi c0_i32_2262 v4115
  let v4117 : BitVec 32 := Scalar.minsi c99872_i32_2263 v4116
  v4117

def k1_off157 (v4097 : BitVec 32) : Fin 2 → Nat :=
  let c28_i32_2265 : BitVec 32 := 28#32
  let c99872_i32_2263 : BitVec 32 := 99872#32
  let c0_i32_2262 : BitVec 32 := 0#32
  let c0_i32_2255 : BitVec 32 := 0#32
  let v4099 : BitVec 1 := Scalar.cmpi .sgt v4097 c0_i32_2255
  let v4100 : BitVec 32 := Scalar.extui v4099
  let c0_i32_2256 : BitVec 32 := 0#32
  let v4101 : BitVec 1 := Scalar.cmpi .slt v4097 c0_i32_2256
  let v4102 : BitVec 32 := Scalar.extui v4101
  let v4103 : BitVec 32 := Scalar.subi v4100 v4102
  let c128_i32_2254 : BitVec 32 := 128#32
  let c0_i32_2257 : BitVec 32 := 0#32
  let v4104 : BitVec 1 := Scalar.cmpi .sgt c128_i32_2254 c0_i32_2257
  let v4105 : BitVec 32 := Scalar.extui v4104
  let c0_i32_2258 : BitVec 32 := 0#32
  let v4106 : BitVec 1 := Scalar.cmpi .slt c128_i32_2254 c0_i32_2258
  let v4107 : BitVec 32 := Scalar.extui v4106
  let v4108 : BitVec 32 := Scalar.subi v4105 v4107
  let v4109 : BitVec 1 := Scalar.cmpi .ne v4103 v4108
  let v4110 : BitVec 32 := Scalar.remsi v4097 c128_i32_2254
  let c0_i32_2259 : BitVec 32 := 0#32
  let v4111 : BitVec 1 := Scalar.cmpi .ne v4110 c0_i32_2259
  let v4112 : BitVec 1 := Scalar.andi v4109 v4111
  let v4098 : BitVec 32 := Scalar.divsi v4097 c128_i32_2254
  let c1_i32_2260 : BitVec 32 := 1#32
  let v4113 : BitVec 32 := Scalar.subi v4098 c1_i32_2260
  let v4114 : BitVec 32 := Scalar.select v4112 v4113 v4098
  let c128_i32_2261 : BitVec 32 := 128#32
  let v4115 : BitVec 32 := Scalar.muli v4114 c128_i32_2261
  let v4116 : BitVec 32 := Scalar.maxsi c0_i32_2262 v4115
  let v4117 : BitVec 32 := Scalar.minsi c99872_i32_2263 v4116
  let v4118 : BitVec 32 := v4117
  ![28, v4118.toNat]

def k1_chk157 (v4097 : BitVec 32) : Prop :=
  (32 ∣ (k1_mult157 v4097).toNat) ∧
  (∀ a, (k1_off157 v4097) a + S1x128.size a ≤ S128x100000.size a)
theorem k1_mult157_dvd : ∀ (v4097 : BitVec 32) (k1_hw157 : k1_chk157 v4097), 32 ∣ (k1_mult157 v4097).toNat := fun v4097 k1_hw157 => k1_hw157.1
theorem k1_off157_inb : ∀ (v4097 : BitVec 32) (k1_hw157 : k1_chk157 v4097), ∀ a, (k1_off157 v4097) a + S1x128.size a ≤ S128x100000.size a := fun v4097 k1_hw157 => k1_hw157.2

def k1_mult158 (v4123 : BitVec 32) : BitVec 32 :=
  let c99872_i32_2279 : BitVec 32 := 99872#32
  let c0_i32_2278 : BitVec 32 := 0#32
  let c0_i32_2271 : BitVec 32 := 0#32
  let v4125 : BitVec 1 := Scalar.cmpi .sgt v4123 c0_i32_2271
  let v4126 : BitVec 32 := Scalar.extui v4125
  let c0_i32_2272 : BitVec 32 := 0#32
  let v4127 : BitVec 1 := Scalar.cmpi .slt v4123 c0_i32_2272
  let v4128 : BitVec 32 := Scalar.extui v4127
  let v4129 : BitVec 32 := Scalar.subi v4126 v4128
  let c128_i32_2270 : BitVec 32 := 128#32
  let c0_i32_2273 : BitVec 32 := 0#32
  let v4130 : BitVec 1 := Scalar.cmpi .sgt c128_i32_2270 c0_i32_2273
  let v4131 : BitVec 32 := Scalar.extui v4130
  let c0_i32_2274 : BitVec 32 := 0#32
  let v4132 : BitVec 1 := Scalar.cmpi .slt c128_i32_2270 c0_i32_2274
  let v4133 : BitVec 32 := Scalar.extui v4132
  let v4134 : BitVec 32 := Scalar.subi v4131 v4133
  let v4135 : BitVec 1 := Scalar.cmpi .ne v4129 v4134
  let v4136 : BitVec 32 := Scalar.remsi v4123 c128_i32_2270
  let c0_i32_2275 : BitVec 32 := 0#32
  let v4137 : BitVec 1 := Scalar.cmpi .ne v4136 c0_i32_2275
  let v4138 : BitVec 1 := Scalar.andi v4135 v4137
  let v4124 : BitVec 32 := Scalar.divsi v4123 c128_i32_2270
  let c1_i32_2276 : BitVec 32 := 1#32
  let v4139 : BitVec 32 := Scalar.subi v4124 c1_i32_2276
  let v4140 : BitVec 32 := Scalar.select v4138 v4139 v4124
  let c128_i32_2277 : BitVec 32 := 128#32
  let v4141 : BitVec 32 := Scalar.muli v4140 c128_i32_2277
  let v4142 : BitVec 32 := Scalar.maxsi c0_i32_2278 v4141
  let v4143 : BitVec 32 := Scalar.minsi c99872_i32_2279 v4142
  v4143

def k1_off158 (v4123 : BitVec 32) : Fin 2 → Nat :=
  let c29_i32_2281 : BitVec 32 := 29#32
  let c99872_i32_2279 : BitVec 32 := 99872#32
  let c0_i32_2278 : BitVec 32 := 0#32
  let c0_i32_2271 : BitVec 32 := 0#32
  let v4125 : BitVec 1 := Scalar.cmpi .sgt v4123 c0_i32_2271
  let v4126 : BitVec 32 := Scalar.extui v4125
  let c0_i32_2272 : BitVec 32 := 0#32
  let v4127 : BitVec 1 := Scalar.cmpi .slt v4123 c0_i32_2272
  let v4128 : BitVec 32 := Scalar.extui v4127
  let v4129 : BitVec 32 := Scalar.subi v4126 v4128
  let c128_i32_2270 : BitVec 32 := 128#32
  let c0_i32_2273 : BitVec 32 := 0#32
  let v4130 : BitVec 1 := Scalar.cmpi .sgt c128_i32_2270 c0_i32_2273
  let v4131 : BitVec 32 := Scalar.extui v4130
  let c0_i32_2274 : BitVec 32 := 0#32
  let v4132 : BitVec 1 := Scalar.cmpi .slt c128_i32_2270 c0_i32_2274
  let v4133 : BitVec 32 := Scalar.extui v4132
  let v4134 : BitVec 32 := Scalar.subi v4131 v4133
  let v4135 : BitVec 1 := Scalar.cmpi .ne v4129 v4134
  let v4136 : BitVec 32 := Scalar.remsi v4123 c128_i32_2270
  let c0_i32_2275 : BitVec 32 := 0#32
  let v4137 : BitVec 1 := Scalar.cmpi .ne v4136 c0_i32_2275
  let v4138 : BitVec 1 := Scalar.andi v4135 v4137
  let v4124 : BitVec 32 := Scalar.divsi v4123 c128_i32_2270
  let c1_i32_2276 : BitVec 32 := 1#32
  let v4139 : BitVec 32 := Scalar.subi v4124 c1_i32_2276
  let v4140 : BitVec 32 := Scalar.select v4138 v4139 v4124
  let c128_i32_2277 : BitVec 32 := 128#32
  let v4141 : BitVec 32 := Scalar.muli v4140 c128_i32_2277
  let v4142 : BitVec 32 := Scalar.maxsi c0_i32_2278 v4141
  let v4143 : BitVec 32 := Scalar.minsi c99872_i32_2279 v4142
  let v4144 : BitVec 32 := v4143
  ![29, v4144.toNat]

def k1_chk158 (v4123 : BitVec 32) : Prop :=
  (32 ∣ (k1_mult158 v4123).toNat) ∧
  (∀ a, (k1_off158 v4123) a + S1x128.size a ≤ S128x100000.size a)
theorem k1_mult158_dvd : ∀ (v4123 : BitVec 32) (k1_hw158 : k1_chk158 v4123), 32 ∣ (k1_mult158 v4123).toNat := fun v4123 k1_hw158 => k1_hw158.1
theorem k1_off158_inb : ∀ (v4123 : BitVec 32) (k1_hw158 : k1_chk158 v4123), ∀ a, (k1_off158 v4123) a + S1x128.size a ≤ S128x100000.size a := fun v4123 k1_hw158 => k1_hw158.2

def k1_mult159 (v4149 : BitVec 32) : BitVec 32 :=
  let c99872_i32_2295 : BitVec 32 := 99872#32
  let c0_i32_2294 : BitVec 32 := 0#32
  let c0_i32_2287 : BitVec 32 := 0#32
  let v4151 : BitVec 1 := Scalar.cmpi .sgt v4149 c0_i32_2287
  let v4152 : BitVec 32 := Scalar.extui v4151
  let c0_i32_2288 : BitVec 32 := 0#32
  let v4153 : BitVec 1 := Scalar.cmpi .slt v4149 c0_i32_2288
  let v4154 : BitVec 32 := Scalar.extui v4153
  let v4155 : BitVec 32 := Scalar.subi v4152 v4154
  let c128_i32_2286 : BitVec 32 := 128#32
  let c0_i32_2289 : BitVec 32 := 0#32
  let v4156 : BitVec 1 := Scalar.cmpi .sgt c128_i32_2286 c0_i32_2289
  let v4157 : BitVec 32 := Scalar.extui v4156
  let c0_i32_2290 : BitVec 32 := 0#32
  let v4158 : BitVec 1 := Scalar.cmpi .slt c128_i32_2286 c0_i32_2290
  let v4159 : BitVec 32 := Scalar.extui v4158
  let v4160 : BitVec 32 := Scalar.subi v4157 v4159
  let v4161 : BitVec 1 := Scalar.cmpi .ne v4155 v4160
  let v4162 : BitVec 32 := Scalar.remsi v4149 c128_i32_2286
  let c0_i32_2291 : BitVec 32 := 0#32
  let v4163 : BitVec 1 := Scalar.cmpi .ne v4162 c0_i32_2291
  let v4164 : BitVec 1 := Scalar.andi v4161 v4163
  let v4150 : BitVec 32 := Scalar.divsi v4149 c128_i32_2286
  let c1_i32_2292 : BitVec 32 := 1#32
  let v4165 : BitVec 32 := Scalar.subi v4150 c1_i32_2292
  let v4166 : BitVec 32 := Scalar.select v4164 v4165 v4150
  let c128_i32_2293 : BitVec 32 := 128#32
  let v4167 : BitVec 32 := Scalar.muli v4166 c128_i32_2293
  let v4168 : BitVec 32 := Scalar.maxsi c0_i32_2294 v4167
  let v4169 : BitVec 32 := Scalar.minsi c99872_i32_2295 v4168
  v4169

def k1_off159 (v4149 : BitVec 32) : Fin 2 → Nat :=
  let c30_i32_2297 : BitVec 32 := 30#32
  let c99872_i32_2295 : BitVec 32 := 99872#32
  let c0_i32_2294 : BitVec 32 := 0#32
  let c0_i32_2287 : BitVec 32 := 0#32
  let v4151 : BitVec 1 := Scalar.cmpi .sgt v4149 c0_i32_2287
  let v4152 : BitVec 32 := Scalar.extui v4151
  let c0_i32_2288 : BitVec 32 := 0#32
  let v4153 : BitVec 1 := Scalar.cmpi .slt v4149 c0_i32_2288
  let v4154 : BitVec 32 := Scalar.extui v4153
  let v4155 : BitVec 32 := Scalar.subi v4152 v4154
  let c128_i32_2286 : BitVec 32 := 128#32
  let c0_i32_2289 : BitVec 32 := 0#32
  let v4156 : BitVec 1 := Scalar.cmpi .sgt c128_i32_2286 c0_i32_2289
  let v4157 : BitVec 32 := Scalar.extui v4156
  let c0_i32_2290 : BitVec 32 := 0#32
  let v4158 : BitVec 1 := Scalar.cmpi .slt c128_i32_2286 c0_i32_2290
  let v4159 : BitVec 32 := Scalar.extui v4158
  let v4160 : BitVec 32 := Scalar.subi v4157 v4159
  let v4161 : BitVec 1 := Scalar.cmpi .ne v4155 v4160
  let v4162 : BitVec 32 := Scalar.remsi v4149 c128_i32_2286
  let c0_i32_2291 : BitVec 32 := 0#32
  let v4163 : BitVec 1 := Scalar.cmpi .ne v4162 c0_i32_2291
  let v4164 : BitVec 1 := Scalar.andi v4161 v4163
  let v4150 : BitVec 32 := Scalar.divsi v4149 c128_i32_2286
  let c1_i32_2292 : BitVec 32 := 1#32
  let v4165 : BitVec 32 := Scalar.subi v4150 c1_i32_2292
  let v4166 : BitVec 32 := Scalar.select v4164 v4165 v4150
  let c128_i32_2293 : BitVec 32 := 128#32
  let v4167 : BitVec 32 := Scalar.muli v4166 c128_i32_2293
  let v4168 : BitVec 32 := Scalar.maxsi c0_i32_2294 v4167
  let v4169 : BitVec 32 := Scalar.minsi c99872_i32_2295 v4168
  let v4170 : BitVec 32 := v4169
  ![30, v4170.toNat]

def k1_chk159 (v4149 : BitVec 32) : Prop :=
  (32 ∣ (k1_mult159 v4149).toNat) ∧
  (∀ a, (k1_off159 v4149) a + S1x128.size a ≤ S128x100000.size a)
theorem k1_mult159_dvd : ∀ (v4149 : BitVec 32) (k1_hw159 : k1_chk159 v4149), 32 ∣ (k1_mult159 v4149).toNat := fun v4149 k1_hw159 => k1_hw159.1
theorem k1_off159_inb : ∀ (v4149 : BitVec 32) (k1_hw159 : k1_chk159 v4149), ∀ a, (k1_off159 v4149) a + S1x128.size a ≤ S128x100000.size a := fun v4149 k1_hw159 => k1_hw159.2

def k1_mult160 (v4175 : BitVec 32) : BitVec 32 :=
  let c99872_i32_2311 : BitVec 32 := 99872#32
  let c0_i32_2310 : BitVec 32 := 0#32
  let c0_i32_2303 : BitVec 32 := 0#32
  let v4177 : BitVec 1 := Scalar.cmpi .sgt v4175 c0_i32_2303
  let v4178 : BitVec 32 := Scalar.extui v4177
  let c0_i32_2304 : BitVec 32 := 0#32
  let v4179 : BitVec 1 := Scalar.cmpi .slt v4175 c0_i32_2304
  let v4180 : BitVec 32 := Scalar.extui v4179
  let v4181 : BitVec 32 := Scalar.subi v4178 v4180
  let c128_i32_2302 : BitVec 32 := 128#32
  let c0_i32_2305 : BitVec 32 := 0#32
  let v4182 : BitVec 1 := Scalar.cmpi .sgt c128_i32_2302 c0_i32_2305
  let v4183 : BitVec 32 := Scalar.extui v4182
  let c0_i32_2306 : BitVec 32 := 0#32
  let v4184 : BitVec 1 := Scalar.cmpi .slt c128_i32_2302 c0_i32_2306
  let v4185 : BitVec 32 := Scalar.extui v4184
  let v4186 : BitVec 32 := Scalar.subi v4183 v4185
  let v4187 : BitVec 1 := Scalar.cmpi .ne v4181 v4186
  let v4188 : BitVec 32 := Scalar.remsi v4175 c128_i32_2302
  let c0_i32_2307 : BitVec 32 := 0#32
  let v4189 : BitVec 1 := Scalar.cmpi .ne v4188 c0_i32_2307
  let v4190 : BitVec 1 := Scalar.andi v4187 v4189
  let v4176 : BitVec 32 := Scalar.divsi v4175 c128_i32_2302
  let c1_i32_2308 : BitVec 32 := 1#32
  let v4191 : BitVec 32 := Scalar.subi v4176 c1_i32_2308
  let v4192 : BitVec 32 := Scalar.select v4190 v4191 v4176
  let c128_i32_2309 : BitVec 32 := 128#32
  let v4193 : BitVec 32 := Scalar.muli v4192 c128_i32_2309
  let v4194 : BitVec 32 := Scalar.maxsi c0_i32_2310 v4193
  let v4195 : BitVec 32 := Scalar.minsi c99872_i32_2311 v4194
  v4195

def k1_off160 (v4175 : BitVec 32) : Fin 2 → Nat :=
  let c31_i32_2313 : BitVec 32 := 31#32
  let c99872_i32_2311 : BitVec 32 := 99872#32
  let c0_i32_2310 : BitVec 32 := 0#32
  let c0_i32_2303 : BitVec 32 := 0#32
  let v4177 : BitVec 1 := Scalar.cmpi .sgt v4175 c0_i32_2303
  let v4178 : BitVec 32 := Scalar.extui v4177
  let c0_i32_2304 : BitVec 32 := 0#32
  let v4179 : BitVec 1 := Scalar.cmpi .slt v4175 c0_i32_2304
  let v4180 : BitVec 32 := Scalar.extui v4179
  let v4181 : BitVec 32 := Scalar.subi v4178 v4180
  let c128_i32_2302 : BitVec 32 := 128#32
  let c0_i32_2305 : BitVec 32 := 0#32
  let v4182 : BitVec 1 := Scalar.cmpi .sgt c128_i32_2302 c0_i32_2305
  let v4183 : BitVec 32 := Scalar.extui v4182
  let c0_i32_2306 : BitVec 32 := 0#32
  let v4184 : BitVec 1 := Scalar.cmpi .slt c128_i32_2302 c0_i32_2306
  let v4185 : BitVec 32 := Scalar.extui v4184
  let v4186 : BitVec 32 := Scalar.subi v4183 v4185
  let v4187 : BitVec 1 := Scalar.cmpi .ne v4181 v4186
  let v4188 : BitVec 32 := Scalar.remsi v4175 c128_i32_2302
  let c0_i32_2307 : BitVec 32 := 0#32
  let v4189 : BitVec 1 := Scalar.cmpi .ne v4188 c0_i32_2307
  let v4190 : BitVec 1 := Scalar.andi v4187 v4189
  let v4176 : BitVec 32 := Scalar.divsi v4175 c128_i32_2302
  let c1_i32_2308 : BitVec 32 := 1#32
  let v4191 : BitVec 32 := Scalar.subi v4176 c1_i32_2308
  let v4192 : BitVec 32 := Scalar.select v4190 v4191 v4176
  let c128_i32_2309 : BitVec 32 := 128#32
  let v4193 : BitVec 32 := Scalar.muli v4192 c128_i32_2309
  let v4194 : BitVec 32 := Scalar.maxsi c0_i32_2310 v4193
  let v4195 : BitVec 32 := Scalar.minsi c99872_i32_2311 v4194
  let v4196 : BitVec 32 := v4195
  ![31, v4196.toNat]

def k1_chk160 (v4175 : BitVec 32) : Prop :=
  (32 ∣ (k1_mult160 v4175).toNat) ∧
  (∀ a, (k1_off160 v4175) a + S1x128.size a ≤ S128x100000.size a)
theorem k1_mult160_dvd : ∀ (v4175 : BitVec 32) (k1_hw160 : k1_chk160 v4175), 32 ∣ (k1_mult160 v4175).toNat := fun v4175 k1_hw160 => k1_hw160.1
theorem k1_off160_inb : ∀ (v4175 : BitVec 32) (k1_hw160 : k1_chk160 v4175), ∀ a, (k1_off160 v4175) a + S1x128.size a ≤ S128x100000.size a := fun v4175 k1_hw160 => k1_hw160.2

def k1_mult161 (v4201 : BitVec 32) : BitVec 32 :=
  let c99872_i32_2327 : BitVec 32 := 99872#32
  let c0_i32_2326 : BitVec 32 := 0#32
  let c0_i32_2319 : BitVec 32 := 0#32
  let v4203 : BitVec 1 := Scalar.cmpi .sgt v4201 c0_i32_2319
  let v4204 : BitVec 32 := Scalar.extui v4203
  let c0_i32_2320 : BitVec 32 := 0#32
  let v4205 : BitVec 1 := Scalar.cmpi .slt v4201 c0_i32_2320
  let v4206 : BitVec 32 := Scalar.extui v4205
  let v4207 : BitVec 32 := Scalar.subi v4204 v4206
  let c128_i32_2318 : BitVec 32 := 128#32
  let c0_i32_2321 : BitVec 32 := 0#32
  let v4208 : BitVec 1 := Scalar.cmpi .sgt c128_i32_2318 c0_i32_2321
  let v4209 : BitVec 32 := Scalar.extui v4208
  let c0_i32_2322 : BitVec 32 := 0#32
  let v4210 : BitVec 1 := Scalar.cmpi .slt c128_i32_2318 c0_i32_2322
  let v4211 : BitVec 32 := Scalar.extui v4210
  let v4212 : BitVec 32 := Scalar.subi v4209 v4211
  let v4213 : BitVec 1 := Scalar.cmpi .ne v4207 v4212
  let v4214 : BitVec 32 := Scalar.remsi v4201 c128_i32_2318
  let c0_i32_2323 : BitVec 32 := 0#32
  let v4215 : BitVec 1 := Scalar.cmpi .ne v4214 c0_i32_2323
  let v4216 : BitVec 1 := Scalar.andi v4213 v4215
  let v4202 : BitVec 32 := Scalar.divsi v4201 c128_i32_2318
  let c1_i32_2324 : BitVec 32 := 1#32
  let v4217 : BitVec 32 := Scalar.subi v4202 c1_i32_2324
  let v4218 : BitVec 32 := Scalar.select v4216 v4217 v4202
  let c128_i32_2325 : BitVec 32 := 128#32
  let v4219 : BitVec 32 := Scalar.muli v4218 c128_i32_2325
  let v4220 : BitVec 32 := Scalar.maxsi c0_i32_2326 v4219
  let v4221 : BitVec 32 := Scalar.minsi c99872_i32_2327 v4220
  v4221

def k1_off161 (v4201 : BitVec 32) : Fin 2 → Nat :=
  let c32_i32_2329 : BitVec 32 := 32#32
  let c99872_i32_2327 : BitVec 32 := 99872#32
  let c0_i32_2326 : BitVec 32 := 0#32
  let c0_i32_2319 : BitVec 32 := 0#32
  let v4203 : BitVec 1 := Scalar.cmpi .sgt v4201 c0_i32_2319
  let v4204 : BitVec 32 := Scalar.extui v4203
  let c0_i32_2320 : BitVec 32 := 0#32
  let v4205 : BitVec 1 := Scalar.cmpi .slt v4201 c0_i32_2320
  let v4206 : BitVec 32 := Scalar.extui v4205
  let v4207 : BitVec 32 := Scalar.subi v4204 v4206
  let c128_i32_2318 : BitVec 32 := 128#32
  let c0_i32_2321 : BitVec 32 := 0#32
  let v4208 : BitVec 1 := Scalar.cmpi .sgt c128_i32_2318 c0_i32_2321
  let v4209 : BitVec 32 := Scalar.extui v4208
  let c0_i32_2322 : BitVec 32 := 0#32
  let v4210 : BitVec 1 := Scalar.cmpi .slt c128_i32_2318 c0_i32_2322
  let v4211 : BitVec 32 := Scalar.extui v4210
  let v4212 : BitVec 32 := Scalar.subi v4209 v4211
  let v4213 : BitVec 1 := Scalar.cmpi .ne v4207 v4212
  let v4214 : BitVec 32 := Scalar.remsi v4201 c128_i32_2318
  let c0_i32_2323 : BitVec 32 := 0#32
  let v4215 : BitVec 1 := Scalar.cmpi .ne v4214 c0_i32_2323
  let v4216 : BitVec 1 := Scalar.andi v4213 v4215
  let v4202 : BitVec 32 := Scalar.divsi v4201 c128_i32_2318
  let c1_i32_2324 : BitVec 32 := 1#32
  let v4217 : BitVec 32 := Scalar.subi v4202 c1_i32_2324
  let v4218 : BitVec 32 := Scalar.select v4216 v4217 v4202
  let c128_i32_2325 : BitVec 32 := 128#32
  let v4219 : BitVec 32 := Scalar.muli v4218 c128_i32_2325
  let v4220 : BitVec 32 := Scalar.maxsi c0_i32_2326 v4219
  let v4221 : BitVec 32 := Scalar.minsi c99872_i32_2327 v4220
  let v4222 : BitVec 32 := v4221
  ![32, v4222.toNat]

def k1_chk161 (v4201 : BitVec 32) : Prop :=
  (32 ∣ (k1_mult161 v4201).toNat) ∧
  (∀ a, (k1_off161 v4201) a + S1x128.size a ≤ S128x100000.size a)
theorem k1_mult161_dvd : ∀ (v4201 : BitVec 32) (k1_hw161 : k1_chk161 v4201), 32 ∣ (k1_mult161 v4201).toNat := fun v4201 k1_hw161 => k1_hw161.1
theorem k1_off161_inb : ∀ (v4201 : BitVec 32) (k1_hw161 : k1_chk161 v4201), ∀ a, (k1_off161 v4201) a + S1x128.size a ≤ S128x100000.size a := fun v4201 k1_hw161 => k1_hw161.2

def k1_mult162 (v4227 : BitVec 32) : BitVec 32 :=
  let c99872_i32_2343 : BitVec 32 := 99872#32
  let c0_i32_2342 : BitVec 32 := 0#32
  let c0_i32_2335 : BitVec 32 := 0#32
  let v4229 : BitVec 1 := Scalar.cmpi .sgt v4227 c0_i32_2335
  let v4230 : BitVec 32 := Scalar.extui v4229
  let c0_i32_2336 : BitVec 32 := 0#32
  let v4231 : BitVec 1 := Scalar.cmpi .slt v4227 c0_i32_2336
  let v4232 : BitVec 32 := Scalar.extui v4231
  let v4233 : BitVec 32 := Scalar.subi v4230 v4232
  let c128_i32_2334 : BitVec 32 := 128#32
  let c0_i32_2337 : BitVec 32 := 0#32
  let v4234 : BitVec 1 := Scalar.cmpi .sgt c128_i32_2334 c0_i32_2337
  let v4235 : BitVec 32 := Scalar.extui v4234
  let c0_i32_2338 : BitVec 32 := 0#32
  let v4236 : BitVec 1 := Scalar.cmpi .slt c128_i32_2334 c0_i32_2338
  let v4237 : BitVec 32 := Scalar.extui v4236
  let v4238 : BitVec 32 := Scalar.subi v4235 v4237
  let v4239 : BitVec 1 := Scalar.cmpi .ne v4233 v4238
  let v4240 : BitVec 32 := Scalar.remsi v4227 c128_i32_2334
  let c0_i32_2339 : BitVec 32 := 0#32
  let v4241 : BitVec 1 := Scalar.cmpi .ne v4240 c0_i32_2339
  let v4242 : BitVec 1 := Scalar.andi v4239 v4241
  let v4228 : BitVec 32 := Scalar.divsi v4227 c128_i32_2334
  let c1_i32_2340 : BitVec 32 := 1#32
  let v4243 : BitVec 32 := Scalar.subi v4228 c1_i32_2340
  let v4244 : BitVec 32 := Scalar.select v4242 v4243 v4228
  let c128_i32_2341 : BitVec 32 := 128#32
  let v4245 : BitVec 32 := Scalar.muli v4244 c128_i32_2341
  let v4246 : BitVec 32 := Scalar.maxsi c0_i32_2342 v4245
  let v4247 : BitVec 32 := Scalar.minsi c99872_i32_2343 v4246
  v4247

def k1_off162 (v4227 : BitVec 32) : Fin 2 → Nat :=
  let c33_i32_2345 : BitVec 32 := 33#32
  let c99872_i32_2343 : BitVec 32 := 99872#32
  let c0_i32_2342 : BitVec 32 := 0#32
  let c0_i32_2335 : BitVec 32 := 0#32
  let v4229 : BitVec 1 := Scalar.cmpi .sgt v4227 c0_i32_2335
  let v4230 : BitVec 32 := Scalar.extui v4229
  let c0_i32_2336 : BitVec 32 := 0#32
  let v4231 : BitVec 1 := Scalar.cmpi .slt v4227 c0_i32_2336
  let v4232 : BitVec 32 := Scalar.extui v4231
  let v4233 : BitVec 32 := Scalar.subi v4230 v4232
  let c128_i32_2334 : BitVec 32 := 128#32
  let c0_i32_2337 : BitVec 32 := 0#32
  let v4234 : BitVec 1 := Scalar.cmpi .sgt c128_i32_2334 c0_i32_2337
  let v4235 : BitVec 32 := Scalar.extui v4234
  let c0_i32_2338 : BitVec 32 := 0#32
  let v4236 : BitVec 1 := Scalar.cmpi .slt c128_i32_2334 c0_i32_2338
  let v4237 : BitVec 32 := Scalar.extui v4236
  let v4238 : BitVec 32 := Scalar.subi v4235 v4237
  let v4239 : BitVec 1 := Scalar.cmpi .ne v4233 v4238
  let v4240 : BitVec 32 := Scalar.remsi v4227 c128_i32_2334
  let c0_i32_2339 : BitVec 32 := 0#32
  let v4241 : BitVec 1 := Scalar.cmpi .ne v4240 c0_i32_2339
  let v4242 : BitVec 1 := Scalar.andi v4239 v4241
  let v4228 : BitVec 32 := Scalar.divsi v4227 c128_i32_2334
  let c1_i32_2340 : BitVec 32 := 1#32
  let v4243 : BitVec 32 := Scalar.subi v4228 c1_i32_2340
  let v4244 : BitVec 32 := Scalar.select v4242 v4243 v4228
  let c128_i32_2341 : BitVec 32 := 128#32
  let v4245 : BitVec 32 := Scalar.muli v4244 c128_i32_2341
  let v4246 : BitVec 32 := Scalar.maxsi c0_i32_2342 v4245
  let v4247 : BitVec 32 := Scalar.minsi c99872_i32_2343 v4246
  let v4248 : BitVec 32 := v4247
  ![33, v4248.toNat]

def k1_chk162 (v4227 : BitVec 32) : Prop :=
  (32 ∣ (k1_mult162 v4227).toNat) ∧
  (∀ a, (k1_off162 v4227) a + S1x128.size a ≤ S128x100000.size a)
theorem k1_mult162_dvd : ∀ (v4227 : BitVec 32) (k1_hw162 : k1_chk162 v4227), 32 ∣ (k1_mult162 v4227).toNat := fun v4227 k1_hw162 => k1_hw162.1
theorem k1_off162_inb : ∀ (v4227 : BitVec 32) (k1_hw162 : k1_chk162 v4227), ∀ a, (k1_off162 v4227) a + S1x128.size a ≤ S128x100000.size a := fun v4227 k1_hw162 => k1_hw162.2

def k1_mult163 (v4253 : BitVec 32) : BitVec 32 :=
  let c99872_i32_2359 : BitVec 32 := 99872#32
  let c0_i32_2358 : BitVec 32 := 0#32
  let c0_i32_2351 : BitVec 32 := 0#32
  let v4255 : BitVec 1 := Scalar.cmpi .sgt v4253 c0_i32_2351
  let v4256 : BitVec 32 := Scalar.extui v4255
  let c0_i32_2352 : BitVec 32 := 0#32
  let v4257 : BitVec 1 := Scalar.cmpi .slt v4253 c0_i32_2352
  let v4258 : BitVec 32 := Scalar.extui v4257
  let v4259 : BitVec 32 := Scalar.subi v4256 v4258
  let c128_i32_2350 : BitVec 32 := 128#32
  let c0_i32_2353 : BitVec 32 := 0#32
  let v4260 : BitVec 1 := Scalar.cmpi .sgt c128_i32_2350 c0_i32_2353
  let v4261 : BitVec 32 := Scalar.extui v4260
  let c0_i32_2354 : BitVec 32 := 0#32
  let v4262 : BitVec 1 := Scalar.cmpi .slt c128_i32_2350 c0_i32_2354
  let v4263 : BitVec 32 := Scalar.extui v4262
  let v4264 : BitVec 32 := Scalar.subi v4261 v4263
  let v4265 : BitVec 1 := Scalar.cmpi .ne v4259 v4264
  let v4266 : BitVec 32 := Scalar.remsi v4253 c128_i32_2350
  let c0_i32_2355 : BitVec 32 := 0#32
  let v4267 : BitVec 1 := Scalar.cmpi .ne v4266 c0_i32_2355
  let v4268 : BitVec 1 := Scalar.andi v4265 v4267
  let v4254 : BitVec 32 := Scalar.divsi v4253 c128_i32_2350
  let c1_i32_2356 : BitVec 32 := 1#32
  let v4269 : BitVec 32 := Scalar.subi v4254 c1_i32_2356
  let v4270 : BitVec 32 := Scalar.select v4268 v4269 v4254
  let c128_i32_2357 : BitVec 32 := 128#32
  let v4271 : BitVec 32 := Scalar.muli v4270 c128_i32_2357
  let v4272 : BitVec 32 := Scalar.maxsi c0_i32_2358 v4271
  let v4273 : BitVec 32 := Scalar.minsi c99872_i32_2359 v4272
  v4273

def k1_off163 (v4253 : BitVec 32) : Fin 2 → Nat :=
  let c34_i32_2361 : BitVec 32 := 34#32
  let c99872_i32_2359 : BitVec 32 := 99872#32
  let c0_i32_2358 : BitVec 32 := 0#32
  let c0_i32_2351 : BitVec 32 := 0#32
  let v4255 : BitVec 1 := Scalar.cmpi .sgt v4253 c0_i32_2351
  let v4256 : BitVec 32 := Scalar.extui v4255
  let c0_i32_2352 : BitVec 32 := 0#32
  let v4257 : BitVec 1 := Scalar.cmpi .slt v4253 c0_i32_2352
  let v4258 : BitVec 32 := Scalar.extui v4257
  let v4259 : BitVec 32 := Scalar.subi v4256 v4258
  let c128_i32_2350 : BitVec 32 := 128#32
  let c0_i32_2353 : BitVec 32 := 0#32
  let v4260 : BitVec 1 := Scalar.cmpi .sgt c128_i32_2350 c0_i32_2353
  let v4261 : BitVec 32 := Scalar.extui v4260
  let c0_i32_2354 : BitVec 32 := 0#32
  let v4262 : BitVec 1 := Scalar.cmpi .slt c128_i32_2350 c0_i32_2354
  let v4263 : BitVec 32 := Scalar.extui v4262
  let v4264 : BitVec 32 := Scalar.subi v4261 v4263
  let v4265 : BitVec 1 := Scalar.cmpi .ne v4259 v4264
  let v4266 : BitVec 32 := Scalar.remsi v4253 c128_i32_2350
  let c0_i32_2355 : BitVec 32 := 0#32
  let v4267 : BitVec 1 := Scalar.cmpi .ne v4266 c0_i32_2355
  let v4268 : BitVec 1 := Scalar.andi v4265 v4267
  let v4254 : BitVec 32 := Scalar.divsi v4253 c128_i32_2350
  let c1_i32_2356 : BitVec 32 := 1#32
  let v4269 : BitVec 32 := Scalar.subi v4254 c1_i32_2356
  let v4270 : BitVec 32 := Scalar.select v4268 v4269 v4254
  let c128_i32_2357 : BitVec 32 := 128#32
  let v4271 : BitVec 32 := Scalar.muli v4270 c128_i32_2357
  let v4272 : BitVec 32 := Scalar.maxsi c0_i32_2358 v4271
  let v4273 : BitVec 32 := Scalar.minsi c99872_i32_2359 v4272
  let v4274 : BitVec 32 := v4273
  ![34, v4274.toNat]

def k1_chk163 (v4253 : BitVec 32) : Prop :=
  (32 ∣ (k1_mult163 v4253).toNat) ∧
  (∀ a, (k1_off163 v4253) a + S1x128.size a ≤ S128x100000.size a)
theorem k1_mult163_dvd : ∀ (v4253 : BitVec 32) (k1_hw163 : k1_chk163 v4253), 32 ∣ (k1_mult163 v4253).toNat := fun v4253 k1_hw163 => k1_hw163.1
theorem k1_off163_inb : ∀ (v4253 : BitVec 32) (k1_hw163 : k1_chk163 v4253), ∀ a, (k1_off163 v4253) a + S1x128.size a ≤ S128x100000.size a := fun v4253 k1_hw163 => k1_hw163.2

def k1_mult164 (v4279 : BitVec 32) : BitVec 32 :=
  let c99872_i32_2375 : BitVec 32 := 99872#32
  let c0_i32_2374 : BitVec 32 := 0#32
  let c0_i32_2367 : BitVec 32 := 0#32
  let v4281 : BitVec 1 := Scalar.cmpi .sgt v4279 c0_i32_2367
  let v4282 : BitVec 32 := Scalar.extui v4281
  let c0_i32_2368 : BitVec 32 := 0#32
  let v4283 : BitVec 1 := Scalar.cmpi .slt v4279 c0_i32_2368
  let v4284 : BitVec 32 := Scalar.extui v4283
  let v4285 : BitVec 32 := Scalar.subi v4282 v4284
  let c128_i32_2366 : BitVec 32 := 128#32
  let c0_i32_2369 : BitVec 32 := 0#32
  let v4286 : BitVec 1 := Scalar.cmpi .sgt c128_i32_2366 c0_i32_2369
  let v4287 : BitVec 32 := Scalar.extui v4286
  let c0_i32_2370 : BitVec 32 := 0#32
  let v4288 : BitVec 1 := Scalar.cmpi .slt c128_i32_2366 c0_i32_2370
  let v4289 : BitVec 32 := Scalar.extui v4288
  let v4290 : BitVec 32 := Scalar.subi v4287 v4289
  let v4291 : BitVec 1 := Scalar.cmpi .ne v4285 v4290
  let v4292 : BitVec 32 := Scalar.remsi v4279 c128_i32_2366
  let c0_i32_2371 : BitVec 32 := 0#32
  let v4293 : BitVec 1 := Scalar.cmpi .ne v4292 c0_i32_2371
  let v4294 : BitVec 1 := Scalar.andi v4291 v4293
  let v4280 : BitVec 32 := Scalar.divsi v4279 c128_i32_2366
  let c1_i32_2372 : BitVec 32 := 1#32
  let v4295 : BitVec 32 := Scalar.subi v4280 c1_i32_2372
  let v4296 : BitVec 32 := Scalar.select v4294 v4295 v4280
  let c128_i32_2373 : BitVec 32 := 128#32
  let v4297 : BitVec 32 := Scalar.muli v4296 c128_i32_2373
  let v4298 : BitVec 32 := Scalar.maxsi c0_i32_2374 v4297
  let v4299 : BitVec 32 := Scalar.minsi c99872_i32_2375 v4298
  v4299

def k1_off164 (v4279 : BitVec 32) : Fin 2 → Nat :=
  let c35_i32_2377 : BitVec 32 := 35#32
  let c99872_i32_2375 : BitVec 32 := 99872#32
  let c0_i32_2374 : BitVec 32 := 0#32
  let c0_i32_2367 : BitVec 32 := 0#32
  let v4281 : BitVec 1 := Scalar.cmpi .sgt v4279 c0_i32_2367
  let v4282 : BitVec 32 := Scalar.extui v4281
  let c0_i32_2368 : BitVec 32 := 0#32
  let v4283 : BitVec 1 := Scalar.cmpi .slt v4279 c0_i32_2368
  let v4284 : BitVec 32 := Scalar.extui v4283
  let v4285 : BitVec 32 := Scalar.subi v4282 v4284
  let c128_i32_2366 : BitVec 32 := 128#32
  let c0_i32_2369 : BitVec 32 := 0#32
  let v4286 : BitVec 1 := Scalar.cmpi .sgt c128_i32_2366 c0_i32_2369
  let v4287 : BitVec 32 := Scalar.extui v4286
  let c0_i32_2370 : BitVec 32 := 0#32
  let v4288 : BitVec 1 := Scalar.cmpi .slt c128_i32_2366 c0_i32_2370
  let v4289 : BitVec 32 := Scalar.extui v4288
  let v4290 : BitVec 32 := Scalar.subi v4287 v4289
  let v4291 : BitVec 1 := Scalar.cmpi .ne v4285 v4290
  let v4292 : BitVec 32 := Scalar.remsi v4279 c128_i32_2366
  let c0_i32_2371 : BitVec 32 := 0#32
  let v4293 : BitVec 1 := Scalar.cmpi .ne v4292 c0_i32_2371
  let v4294 : BitVec 1 := Scalar.andi v4291 v4293
  let v4280 : BitVec 32 := Scalar.divsi v4279 c128_i32_2366
  let c1_i32_2372 : BitVec 32 := 1#32
  let v4295 : BitVec 32 := Scalar.subi v4280 c1_i32_2372
  let v4296 : BitVec 32 := Scalar.select v4294 v4295 v4280
  let c128_i32_2373 : BitVec 32 := 128#32
  let v4297 : BitVec 32 := Scalar.muli v4296 c128_i32_2373
  let v4298 : BitVec 32 := Scalar.maxsi c0_i32_2374 v4297
  let v4299 : BitVec 32 := Scalar.minsi c99872_i32_2375 v4298
  let v4300 : BitVec 32 := v4299
  ![35, v4300.toNat]

def k1_chk164 (v4279 : BitVec 32) : Prop :=
  (32 ∣ (k1_mult164 v4279).toNat) ∧
  (∀ a, (k1_off164 v4279) a + S1x128.size a ≤ S128x100000.size a)
theorem k1_mult164_dvd : ∀ (v4279 : BitVec 32) (k1_hw164 : k1_chk164 v4279), 32 ∣ (k1_mult164 v4279).toNat := fun v4279 k1_hw164 => k1_hw164.1
theorem k1_off164_inb : ∀ (v4279 : BitVec 32) (k1_hw164 : k1_chk164 v4279), ∀ a, (k1_off164 v4279) a + S1x128.size a ≤ S128x100000.size a := fun v4279 k1_hw164 => k1_hw164.2

def k1_mult165 (v4305 : BitVec 32) : BitVec 32 :=
  let c99872_i32_2391 : BitVec 32 := 99872#32
  let c0_i32_2390 : BitVec 32 := 0#32
  let c0_i32_2383 : BitVec 32 := 0#32
  let v4307 : BitVec 1 := Scalar.cmpi .sgt v4305 c0_i32_2383
  let v4308 : BitVec 32 := Scalar.extui v4307
  let c0_i32_2384 : BitVec 32 := 0#32
  let v4309 : BitVec 1 := Scalar.cmpi .slt v4305 c0_i32_2384
  let v4310 : BitVec 32 := Scalar.extui v4309
  let v4311 : BitVec 32 := Scalar.subi v4308 v4310
  let c128_i32_2382 : BitVec 32 := 128#32
  let c0_i32_2385 : BitVec 32 := 0#32
  let v4312 : BitVec 1 := Scalar.cmpi .sgt c128_i32_2382 c0_i32_2385
  let v4313 : BitVec 32 := Scalar.extui v4312
  let c0_i32_2386 : BitVec 32 := 0#32
  let v4314 : BitVec 1 := Scalar.cmpi .slt c128_i32_2382 c0_i32_2386
  let v4315 : BitVec 32 := Scalar.extui v4314
  let v4316 : BitVec 32 := Scalar.subi v4313 v4315
  let v4317 : BitVec 1 := Scalar.cmpi .ne v4311 v4316
  let v4318 : BitVec 32 := Scalar.remsi v4305 c128_i32_2382
  let c0_i32_2387 : BitVec 32 := 0#32
  let v4319 : BitVec 1 := Scalar.cmpi .ne v4318 c0_i32_2387
  let v4320 : BitVec 1 := Scalar.andi v4317 v4319
  let v4306 : BitVec 32 := Scalar.divsi v4305 c128_i32_2382
  let c1_i32_2388 : BitVec 32 := 1#32
  let v4321 : BitVec 32 := Scalar.subi v4306 c1_i32_2388
  let v4322 : BitVec 32 := Scalar.select v4320 v4321 v4306
  let c128_i32_2389 : BitVec 32 := 128#32
  let v4323 : BitVec 32 := Scalar.muli v4322 c128_i32_2389
  let v4324 : BitVec 32 := Scalar.maxsi c0_i32_2390 v4323
  let v4325 : BitVec 32 := Scalar.minsi c99872_i32_2391 v4324
  v4325

def k1_off165 (v4305 : BitVec 32) : Fin 2 → Nat :=
  let c36_i32_2393 : BitVec 32 := 36#32
  let c99872_i32_2391 : BitVec 32 := 99872#32
  let c0_i32_2390 : BitVec 32 := 0#32
  let c0_i32_2383 : BitVec 32 := 0#32
  let v4307 : BitVec 1 := Scalar.cmpi .sgt v4305 c0_i32_2383
  let v4308 : BitVec 32 := Scalar.extui v4307
  let c0_i32_2384 : BitVec 32 := 0#32
  let v4309 : BitVec 1 := Scalar.cmpi .slt v4305 c0_i32_2384
  let v4310 : BitVec 32 := Scalar.extui v4309
  let v4311 : BitVec 32 := Scalar.subi v4308 v4310
  let c128_i32_2382 : BitVec 32 := 128#32
  let c0_i32_2385 : BitVec 32 := 0#32
  let v4312 : BitVec 1 := Scalar.cmpi .sgt c128_i32_2382 c0_i32_2385
  let v4313 : BitVec 32 := Scalar.extui v4312
  let c0_i32_2386 : BitVec 32 := 0#32
  let v4314 : BitVec 1 := Scalar.cmpi .slt c128_i32_2382 c0_i32_2386
  let v4315 : BitVec 32 := Scalar.extui v4314
  let v4316 : BitVec 32 := Scalar.subi v4313 v4315
  let v4317 : BitVec 1 := Scalar.cmpi .ne v4311 v4316
  let v4318 : BitVec 32 := Scalar.remsi v4305 c128_i32_2382
  let c0_i32_2387 : BitVec 32 := 0#32
  let v4319 : BitVec 1 := Scalar.cmpi .ne v4318 c0_i32_2387
  let v4320 : BitVec 1 := Scalar.andi v4317 v4319
  let v4306 : BitVec 32 := Scalar.divsi v4305 c128_i32_2382
  let c1_i32_2388 : BitVec 32 := 1#32
  let v4321 : BitVec 32 := Scalar.subi v4306 c1_i32_2388
  let v4322 : BitVec 32 := Scalar.select v4320 v4321 v4306
  let c128_i32_2389 : BitVec 32 := 128#32
  let v4323 : BitVec 32 := Scalar.muli v4322 c128_i32_2389
  let v4324 : BitVec 32 := Scalar.maxsi c0_i32_2390 v4323
  let v4325 : BitVec 32 := Scalar.minsi c99872_i32_2391 v4324
  let v4326 : BitVec 32 := v4325
  ![36, v4326.toNat]

def k1_chk165 (v4305 : BitVec 32) : Prop :=
  (32 ∣ (k1_mult165 v4305).toNat) ∧
  (∀ a, (k1_off165 v4305) a + S1x128.size a ≤ S128x100000.size a)
theorem k1_mult165_dvd : ∀ (v4305 : BitVec 32) (k1_hw165 : k1_chk165 v4305), 32 ∣ (k1_mult165 v4305).toNat := fun v4305 k1_hw165 => k1_hw165.1
theorem k1_off165_inb : ∀ (v4305 : BitVec 32) (k1_hw165 : k1_chk165 v4305), ∀ a, (k1_off165 v4305) a + S1x128.size a ≤ S128x100000.size a := fun v4305 k1_hw165 => k1_hw165.2

def k1_mult166 (v4331 : BitVec 32) : BitVec 32 :=
  let c99872_i32_2407 : BitVec 32 := 99872#32
  let c0_i32_2406 : BitVec 32 := 0#32
  let c0_i32_2399 : BitVec 32 := 0#32
  let v4333 : BitVec 1 := Scalar.cmpi .sgt v4331 c0_i32_2399
  let v4334 : BitVec 32 := Scalar.extui v4333
  let c0_i32_2400 : BitVec 32 := 0#32
  let v4335 : BitVec 1 := Scalar.cmpi .slt v4331 c0_i32_2400
  let v4336 : BitVec 32 := Scalar.extui v4335
  let v4337 : BitVec 32 := Scalar.subi v4334 v4336
  let c128_i32_2398 : BitVec 32 := 128#32
  let c0_i32_2401 : BitVec 32 := 0#32
  let v4338 : BitVec 1 := Scalar.cmpi .sgt c128_i32_2398 c0_i32_2401
  let v4339 : BitVec 32 := Scalar.extui v4338
  let c0_i32_2402 : BitVec 32 := 0#32
  let v4340 : BitVec 1 := Scalar.cmpi .slt c128_i32_2398 c0_i32_2402
  let v4341 : BitVec 32 := Scalar.extui v4340
  let v4342 : BitVec 32 := Scalar.subi v4339 v4341
  let v4343 : BitVec 1 := Scalar.cmpi .ne v4337 v4342
  let v4344 : BitVec 32 := Scalar.remsi v4331 c128_i32_2398
  let c0_i32_2403 : BitVec 32 := 0#32
  let v4345 : BitVec 1 := Scalar.cmpi .ne v4344 c0_i32_2403
  let v4346 : BitVec 1 := Scalar.andi v4343 v4345
  let v4332 : BitVec 32 := Scalar.divsi v4331 c128_i32_2398
  let c1_i32_2404 : BitVec 32 := 1#32
  let v4347 : BitVec 32 := Scalar.subi v4332 c1_i32_2404
  let v4348 : BitVec 32 := Scalar.select v4346 v4347 v4332
  let c128_i32_2405 : BitVec 32 := 128#32
  let v4349 : BitVec 32 := Scalar.muli v4348 c128_i32_2405
  let v4350 : BitVec 32 := Scalar.maxsi c0_i32_2406 v4349
  let v4351 : BitVec 32 := Scalar.minsi c99872_i32_2407 v4350
  v4351

def k1_off166 (v4331 : BitVec 32) : Fin 2 → Nat :=
  let c37_i32_2409 : BitVec 32 := 37#32
  let c99872_i32_2407 : BitVec 32 := 99872#32
  let c0_i32_2406 : BitVec 32 := 0#32
  let c0_i32_2399 : BitVec 32 := 0#32
  let v4333 : BitVec 1 := Scalar.cmpi .sgt v4331 c0_i32_2399
  let v4334 : BitVec 32 := Scalar.extui v4333
  let c0_i32_2400 : BitVec 32 := 0#32
  let v4335 : BitVec 1 := Scalar.cmpi .slt v4331 c0_i32_2400
  let v4336 : BitVec 32 := Scalar.extui v4335
  let v4337 : BitVec 32 := Scalar.subi v4334 v4336
  let c128_i32_2398 : BitVec 32 := 128#32
  let c0_i32_2401 : BitVec 32 := 0#32
  let v4338 : BitVec 1 := Scalar.cmpi .sgt c128_i32_2398 c0_i32_2401
  let v4339 : BitVec 32 := Scalar.extui v4338
  let c0_i32_2402 : BitVec 32 := 0#32
  let v4340 : BitVec 1 := Scalar.cmpi .slt c128_i32_2398 c0_i32_2402
  let v4341 : BitVec 32 := Scalar.extui v4340
  let v4342 : BitVec 32 := Scalar.subi v4339 v4341
  let v4343 : BitVec 1 := Scalar.cmpi .ne v4337 v4342
  let v4344 : BitVec 32 := Scalar.remsi v4331 c128_i32_2398
  let c0_i32_2403 : BitVec 32 := 0#32
  let v4345 : BitVec 1 := Scalar.cmpi .ne v4344 c0_i32_2403
  let v4346 : BitVec 1 := Scalar.andi v4343 v4345
  let v4332 : BitVec 32 := Scalar.divsi v4331 c128_i32_2398
  let c1_i32_2404 : BitVec 32 := 1#32
  let v4347 : BitVec 32 := Scalar.subi v4332 c1_i32_2404
  let v4348 : BitVec 32 := Scalar.select v4346 v4347 v4332
  let c128_i32_2405 : BitVec 32 := 128#32
  let v4349 : BitVec 32 := Scalar.muli v4348 c128_i32_2405
  let v4350 : BitVec 32 := Scalar.maxsi c0_i32_2406 v4349
  let v4351 : BitVec 32 := Scalar.minsi c99872_i32_2407 v4350
  let v4352 : BitVec 32 := v4351
  ![37, v4352.toNat]

def k1_chk166 (v4331 : BitVec 32) : Prop :=
  (32 ∣ (k1_mult166 v4331).toNat) ∧
  (∀ a, (k1_off166 v4331) a + S1x128.size a ≤ S128x100000.size a)
theorem k1_mult166_dvd : ∀ (v4331 : BitVec 32) (k1_hw166 : k1_chk166 v4331), 32 ∣ (k1_mult166 v4331).toNat := fun v4331 k1_hw166 => k1_hw166.1
theorem k1_off166_inb : ∀ (v4331 : BitVec 32) (k1_hw166 : k1_chk166 v4331), ∀ a, (k1_off166 v4331) a + S1x128.size a ≤ S128x100000.size a := fun v4331 k1_hw166 => k1_hw166.2

def k1_mult167 (v4357 : BitVec 32) : BitVec 32 :=
  let c99872_i32_2423 : BitVec 32 := 99872#32
  let c0_i32_2422 : BitVec 32 := 0#32
  let c0_i32_2415 : BitVec 32 := 0#32
  let v4359 : BitVec 1 := Scalar.cmpi .sgt v4357 c0_i32_2415
  let v4360 : BitVec 32 := Scalar.extui v4359
  let c0_i32_2416 : BitVec 32 := 0#32
  let v4361 : BitVec 1 := Scalar.cmpi .slt v4357 c0_i32_2416
  let v4362 : BitVec 32 := Scalar.extui v4361
  let v4363 : BitVec 32 := Scalar.subi v4360 v4362
  let c128_i32_2414 : BitVec 32 := 128#32
  let c0_i32_2417 : BitVec 32 := 0#32
  let v4364 : BitVec 1 := Scalar.cmpi .sgt c128_i32_2414 c0_i32_2417
  let v4365 : BitVec 32 := Scalar.extui v4364
  let c0_i32_2418 : BitVec 32 := 0#32
  let v4366 : BitVec 1 := Scalar.cmpi .slt c128_i32_2414 c0_i32_2418
  let v4367 : BitVec 32 := Scalar.extui v4366
  let v4368 : BitVec 32 := Scalar.subi v4365 v4367
  let v4369 : BitVec 1 := Scalar.cmpi .ne v4363 v4368
  let v4370 : BitVec 32 := Scalar.remsi v4357 c128_i32_2414
  let c0_i32_2419 : BitVec 32 := 0#32
  let v4371 : BitVec 1 := Scalar.cmpi .ne v4370 c0_i32_2419
  let v4372 : BitVec 1 := Scalar.andi v4369 v4371
  let v4358 : BitVec 32 := Scalar.divsi v4357 c128_i32_2414
  let c1_i32_2420 : BitVec 32 := 1#32
  let v4373 : BitVec 32 := Scalar.subi v4358 c1_i32_2420
  let v4374 : BitVec 32 := Scalar.select v4372 v4373 v4358
  let c128_i32_2421 : BitVec 32 := 128#32
  let v4375 : BitVec 32 := Scalar.muli v4374 c128_i32_2421
  let v4376 : BitVec 32 := Scalar.maxsi c0_i32_2422 v4375
  let v4377 : BitVec 32 := Scalar.minsi c99872_i32_2423 v4376
  v4377

def k1_off167 (v4357 : BitVec 32) : Fin 2 → Nat :=
  let c38_i32_2425 : BitVec 32 := 38#32
  let c99872_i32_2423 : BitVec 32 := 99872#32
  let c0_i32_2422 : BitVec 32 := 0#32
  let c0_i32_2415 : BitVec 32 := 0#32
  let v4359 : BitVec 1 := Scalar.cmpi .sgt v4357 c0_i32_2415
  let v4360 : BitVec 32 := Scalar.extui v4359
  let c0_i32_2416 : BitVec 32 := 0#32
  let v4361 : BitVec 1 := Scalar.cmpi .slt v4357 c0_i32_2416
  let v4362 : BitVec 32 := Scalar.extui v4361
  let v4363 : BitVec 32 := Scalar.subi v4360 v4362
  let c128_i32_2414 : BitVec 32 := 128#32
  let c0_i32_2417 : BitVec 32 := 0#32
  let v4364 : BitVec 1 := Scalar.cmpi .sgt c128_i32_2414 c0_i32_2417
  let v4365 : BitVec 32 := Scalar.extui v4364
  let c0_i32_2418 : BitVec 32 := 0#32
  let v4366 : BitVec 1 := Scalar.cmpi .slt c128_i32_2414 c0_i32_2418
  let v4367 : BitVec 32 := Scalar.extui v4366
  let v4368 : BitVec 32 := Scalar.subi v4365 v4367
  let v4369 : BitVec 1 := Scalar.cmpi .ne v4363 v4368
  let v4370 : BitVec 32 := Scalar.remsi v4357 c128_i32_2414
  let c0_i32_2419 : BitVec 32 := 0#32
  let v4371 : BitVec 1 := Scalar.cmpi .ne v4370 c0_i32_2419
  let v4372 : BitVec 1 := Scalar.andi v4369 v4371
  let v4358 : BitVec 32 := Scalar.divsi v4357 c128_i32_2414
  let c1_i32_2420 : BitVec 32 := 1#32
  let v4373 : BitVec 32 := Scalar.subi v4358 c1_i32_2420
  let v4374 : BitVec 32 := Scalar.select v4372 v4373 v4358
  let c128_i32_2421 : BitVec 32 := 128#32
  let v4375 : BitVec 32 := Scalar.muli v4374 c128_i32_2421
  let v4376 : BitVec 32 := Scalar.maxsi c0_i32_2422 v4375
  let v4377 : BitVec 32 := Scalar.minsi c99872_i32_2423 v4376
  let v4378 : BitVec 32 := v4377
  ![38, v4378.toNat]

def k1_chk167 (v4357 : BitVec 32) : Prop :=
  (32 ∣ (k1_mult167 v4357).toNat) ∧
  (∀ a, (k1_off167 v4357) a + S1x128.size a ≤ S128x100000.size a)
theorem k1_mult167_dvd : ∀ (v4357 : BitVec 32) (k1_hw167 : k1_chk167 v4357), 32 ∣ (k1_mult167 v4357).toNat := fun v4357 k1_hw167 => k1_hw167.1
theorem k1_off167_inb : ∀ (v4357 : BitVec 32) (k1_hw167 : k1_chk167 v4357), ∀ a, (k1_off167 v4357) a + S1x128.size a ≤ S128x100000.size a := fun v4357 k1_hw167 => k1_hw167.2

def k1_mult168 (v4383 : BitVec 32) : BitVec 32 :=
  let c99872_i32_2439 : BitVec 32 := 99872#32
  let c0_i32_2438 : BitVec 32 := 0#32
  let c0_i32_2431 : BitVec 32 := 0#32
  let v4385 : BitVec 1 := Scalar.cmpi .sgt v4383 c0_i32_2431
  let v4386 : BitVec 32 := Scalar.extui v4385
  let c0_i32_2432 : BitVec 32 := 0#32
  let v4387 : BitVec 1 := Scalar.cmpi .slt v4383 c0_i32_2432
  let v4388 : BitVec 32 := Scalar.extui v4387
  let v4389 : BitVec 32 := Scalar.subi v4386 v4388
  let c128_i32_2430 : BitVec 32 := 128#32
  let c0_i32_2433 : BitVec 32 := 0#32
  let v4390 : BitVec 1 := Scalar.cmpi .sgt c128_i32_2430 c0_i32_2433
  let v4391 : BitVec 32 := Scalar.extui v4390
  let c0_i32_2434 : BitVec 32 := 0#32
  let v4392 : BitVec 1 := Scalar.cmpi .slt c128_i32_2430 c0_i32_2434
  let v4393 : BitVec 32 := Scalar.extui v4392
  let v4394 : BitVec 32 := Scalar.subi v4391 v4393
  let v4395 : BitVec 1 := Scalar.cmpi .ne v4389 v4394
  let v4396 : BitVec 32 := Scalar.remsi v4383 c128_i32_2430
  let c0_i32_2435 : BitVec 32 := 0#32
  let v4397 : BitVec 1 := Scalar.cmpi .ne v4396 c0_i32_2435
  let v4398 : BitVec 1 := Scalar.andi v4395 v4397
  let v4384 : BitVec 32 := Scalar.divsi v4383 c128_i32_2430
  let c1_i32_2436 : BitVec 32 := 1#32
  let v4399 : BitVec 32 := Scalar.subi v4384 c1_i32_2436
  let v4400 : BitVec 32 := Scalar.select v4398 v4399 v4384
  let c128_i32_2437 : BitVec 32 := 128#32
  let v4401 : BitVec 32 := Scalar.muli v4400 c128_i32_2437
  let v4402 : BitVec 32 := Scalar.maxsi c0_i32_2438 v4401
  let v4403 : BitVec 32 := Scalar.minsi c99872_i32_2439 v4402
  v4403

def k1_off168 (v4383 : BitVec 32) : Fin 2 → Nat :=
  let c39_i32_2441 : BitVec 32 := 39#32
  let c99872_i32_2439 : BitVec 32 := 99872#32
  let c0_i32_2438 : BitVec 32 := 0#32
  let c0_i32_2431 : BitVec 32 := 0#32
  let v4385 : BitVec 1 := Scalar.cmpi .sgt v4383 c0_i32_2431
  let v4386 : BitVec 32 := Scalar.extui v4385
  let c0_i32_2432 : BitVec 32 := 0#32
  let v4387 : BitVec 1 := Scalar.cmpi .slt v4383 c0_i32_2432
  let v4388 : BitVec 32 := Scalar.extui v4387
  let v4389 : BitVec 32 := Scalar.subi v4386 v4388
  let c128_i32_2430 : BitVec 32 := 128#32
  let c0_i32_2433 : BitVec 32 := 0#32
  let v4390 : BitVec 1 := Scalar.cmpi .sgt c128_i32_2430 c0_i32_2433
  let v4391 : BitVec 32 := Scalar.extui v4390
  let c0_i32_2434 : BitVec 32 := 0#32
  let v4392 : BitVec 1 := Scalar.cmpi .slt c128_i32_2430 c0_i32_2434
  let v4393 : BitVec 32 := Scalar.extui v4392
  let v4394 : BitVec 32 := Scalar.subi v4391 v4393
  let v4395 : BitVec 1 := Scalar.cmpi .ne v4389 v4394
  let v4396 : BitVec 32 := Scalar.remsi v4383 c128_i32_2430
  let c0_i32_2435 : BitVec 32 := 0#32
  let v4397 : BitVec 1 := Scalar.cmpi .ne v4396 c0_i32_2435
  let v4398 : BitVec 1 := Scalar.andi v4395 v4397
  let v4384 : BitVec 32 := Scalar.divsi v4383 c128_i32_2430
  let c1_i32_2436 : BitVec 32 := 1#32
  let v4399 : BitVec 32 := Scalar.subi v4384 c1_i32_2436
  let v4400 : BitVec 32 := Scalar.select v4398 v4399 v4384
  let c128_i32_2437 : BitVec 32 := 128#32
  let v4401 : BitVec 32 := Scalar.muli v4400 c128_i32_2437
  let v4402 : BitVec 32 := Scalar.maxsi c0_i32_2438 v4401
  let v4403 : BitVec 32 := Scalar.minsi c99872_i32_2439 v4402
  let v4404 : BitVec 32 := v4403
  ![39, v4404.toNat]

def k1_chk168 (v4383 : BitVec 32) : Prop :=
  (32 ∣ (k1_mult168 v4383).toNat) ∧
  (∀ a, (k1_off168 v4383) a + S1x128.size a ≤ S128x100000.size a)
theorem k1_mult168_dvd : ∀ (v4383 : BitVec 32) (k1_hw168 : k1_chk168 v4383), 32 ∣ (k1_mult168 v4383).toNat := fun v4383 k1_hw168 => k1_hw168.1
theorem k1_off168_inb : ∀ (v4383 : BitVec 32) (k1_hw168 : k1_chk168 v4383), ∀ a, (k1_off168 v4383) a + S1x128.size a ≤ S128x100000.size a := fun v4383 k1_hw168 => k1_hw168.2

def k1_mult169 (v4409 : BitVec 32) : BitVec 32 :=
  let c99872_i32_2455 : BitVec 32 := 99872#32
  let c0_i32_2454 : BitVec 32 := 0#32
  let c0_i32_2447 : BitVec 32 := 0#32
  let v4411 : BitVec 1 := Scalar.cmpi .sgt v4409 c0_i32_2447
  let v4412 : BitVec 32 := Scalar.extui v4411
  let c0_i32_2448 : BitVec 32 := 0#32
  let v4413 : BitVec 1 := Scalar.cmpi .slt v4409 c0_i32_2448
  let v4414 : BitVec 32 := Scalar.extui v4413
  let v4415 : BitVec 32 := Scalar.subi v4412 v4414
  let c128_i32_2446 : BitVec 32 := 128#32
  let c0_i32_2449 : BitVec 32 := 0#32
  let v4416 : BitVec 1 := Scalar.cmpi .sgt c128_i32_2446 c0_i32_2449
  let v4417 : BitVec 32 := Scalar.extui v4416
  let c0_i32_2450 : BitVec 32 := 0#32
  let v4418 : BitVec 1 := Scalar.cmpi .slt c128_i32_2446 c0_i32_2450
  let v4419 : BitVec 32 := Scalar.extui v4418
  let v4420 : BitVec 32 := Scalar.subi v4417 v4419
  let v4421 : BitVec 1 := Scalar.cmpi .ne v4415 v4420
  let v4422 : BitVec 32 := Scalar.remsi v4409 c128_i32_2446
  let c0_i32_2451 : BitVec 32 := 0#32
  let v4423 : BitVec 1 := Scalar.cmpi .ne v4422 c0_i32_2451
  let v4424 : BitVec 1 := Scalar.andi v4421 v4423
  let v4410 : BitVec 32 := Scalar.divsi v4409 c128_i32_2446
  let c1_i32_2452 : BitVec 32 := 1#32
  let v4425 : BitVec 32 := Scalar.subi v4410 c1_i32_2452
  let v4426 : BitVec 32 := Scalar.select v4424 v4425 v4410
  let c128_i32_2453 : BitVec 32 := 128#32
  let v4427 : BitVec 32 := Scalar.muli v4426 c128_i32_2453
  let v4428 : BitVec 32 := Scalar.maxsi c0_i32_2454 v4427
  let v4429 : BitVec 32 := Scalar.minsi c99872_i32_2455 v4428
  v4429

def k1_off169 (v4409 : BitVec 32) : Fin 2 → Nat :=
  let c40_i32_2457 : BitVec 32 := 40#32
  let c99872_i32_2455 : BitVec 32 := 99872#32
  let c0_i32_2454 : BitVec 32 := 0#32
  let c0_i32_2447 : BitVec 32 := 0#32
  let v4411 : BitVec 1 := Scalar.cmpi .sgt v4409 c0_i32_2447
  let v4412 : BitVec 32 := Scalar.extui v4411
  let c0_i32_2448 : BitVec 32 := 0#32
  let v4413 : BitVec 1 := Scalar.cmpi .slt v4409 c0_i32_2448
  let v4414 : BitVec 32 := Scalar.extui v4413
  let v4415 : BitVec 32 := Scalar.subi v4412 v4414
  let c128_i32_2446 : BitVec 32 := 128#32
  let c0_i32_2449 : BitVec 32 := 0#32
  let v4416 : BitVec 1 := Scalar.cmpi .sgt c128_i32_2446 c0_i32_2449
  let v4417 : BitVec 32 := Scalar.extui v4416
  let c0_i32_2450 : BitVec 32 := 0#32
  let v4418 : BitVec 1 := Scalar.cmpi .slt c128_i32_2446 c0_i32_2450
  let v4419 : BitVec 32 := Scalar.extui v4418
  let v4420 : BitVec 32 := Scalar.subi v4417 v4419
  let v4421 : BitVec 1 := Scalar.cmpi .ne v4415 v4420
  let v4422 : BitVec 32 := Scalar.remsi v4409 c128_i32_2446
  let c0_i32_2451 : BitVec 32 := 0#32
  let v4423 : BitVec 1 := Scalar.cmpi .ne v4422 c0_i32_2451
  let v4424 : BitVec 1 := Scalar.andi v4421 v4423
  let v4410 : BitVec 32 := Scalar.divsi v4409 c128_i32_2446
  let c1_i32_2452 : BitVec 32 := 1#32
  let v4425 : BitVec 32 := Scalar.subi v4410 c1_i32_2452
  let v4426 : BitVec 32 := Scalar.select v4424 v4425 v4410
  let c128_i32_2453 : BitVec 32 := 128#32
  let v4427 : BitVec 32 := Scalar.muli v4426 c128_i32_2453
  let v4428 : BitVec 32 := Scalar.maxsi c0_i32_2454 v4427
  let v4429 : BitVec 32 := Scalar.minsi c99872_i32_2455 v4428
  let v4430 : BitVec 32 := v4429
  ![40, v4430.toNat]

def k1_chk169 (v4409 : BitVec 32) : Prop :=
  (32 ∣ (k1_mult169 v4409).toNat) ∧
  (∀ a, (k1_off169 v4409) a + S1x128.size a ≤ S128x100000.size a)
theorem k1_mult169_dvd : ∀ (v4409 : BitVec 32) (k1_hw169 : k1_chk169 v4409), 32 ∣ (k1_mult169 v4409).toNat := fun v4409 k1_hw169 => k1_hw169.1
theorem k1_off169_inb : ∀ (v4409 : BitVec 32) (k1_hw169 : k1_chk169 v4409), ∀ a, (k1_off169 v4409) a + S1x128.size a ≤ S128x100000.size a := fun v4409 k1_hw169 => k1_hw169.2

def k1_mult170 (v4435 : BitVec 32) : BitVec 32 :=
  let c99872_i32_2471 : BitVec 32 := 99872#32
  let c0_i32_2470 : BitVec 32 := 0#32
  let c0_i32_2463 : BitVec 32 := 0#32
  let v4437 : BitVec 1 := Scalar.cmpi .sgt v4435 c0_i32_2463
  let v4438 : BitVec 32 := Scalar.extui v4437
  let c0_i32_2464 : BitVec 32 := 0#32
  let v4439 : BitVec 1 := Scalar.cmpi .slt v4435 c0_i32_2464
  let v4440 : BitVec 32 := Scalar.extui v4439
  let v4441 : BitVec 32 := Scalar.subi v4438 v4440
  let c128_i32_2462 : BitVec 32 := 128#32
  let c0_i32_2465 : BitVec 32 := 0#32
  let v4442 : BitVec 1 := Scalar.cmpi .sgt c128_i32_2462 c0_i32_2465
  let v4443 : BitVec 32 := Scalar.extui v4442
  let c0_i32_2466 : BitVec 32 := 0#32
  let v4444 : BitVec 1 := Scalar.cmpi .slt c128_i32_2462 c0_i32_2466
  let v4445 : BitVec 32 := Scalar.extui v4444
  let v4446 : BitVec 32 := Scalar.subi v4443 v4445
  let v4447 : BitVec 1 := Scalar.cmpi .ne v4441 v4446
  let v4448 : BitVec 32 := Scalar.remsi v4435 c128_i32_2462
  let c0_i32_2467 : BitVec 32 := 0#32
  let v4449 : BitVec 1 := Scalar.cmpi .ne v4448 c0_i32_2467
  let v4450 : BitVec 1 := Scalar.andi v4447 v4449
  let v4436 : BitVec 32 := Scalar.divsi v4435 c128_i32_2462
  let c1_i32_2468 : BitVec 32 := 1#32
  let v4451 : BitVec 32 := Scalar.subi v4436 c1_i32_2468
  let v4452 : BitVec 32 := Scalar.select v4450 v4451 v4436
  let c128_i32_2469 : BitVec 32 := 128#32
  let v4453 : BitVec 32 := Scalar.muli v4452 c128_i32_2469
  let v4454 : BitVec 32 := Scalar.maxsi c0_i32_2470 v4453
  let v4455 : BitVec 32 := Scalar.minsi c99872_i32_2471 v4454
  v4455

def k1_off170 (v4435 : BitVec 32) : Fin 2 → Nat :=
  let c41_i32_2473 : BitVec 32 := 41#32
  let c99872_i32_2471 : BitVec 32 := 99872#32
  let c0_i32_2470 : BitVec 32 := 0#32
  let c0_i32_2463 : BitVec 32 := 0#32
  let v4437 : BitVec 1 := Scalar.cmpi .sgt v4435 c0_i32_2463
  let v4438 : BitVec 32 := Scalar.extui v4437
  let c0_i32_2464 : BitVec 32 := 0#32
  let v4439 : BitVec 1 := Scalar.cmpi .slt v4435 c0_i32_2464
  let v4440 : BitVec 32 := Scalar.extui v4439
  let v4441 : BitVec 32 := Scalar.subi v4438 v4440
  let c128_i32_2462 : BitVec 32 := 128#32
  let c0_i32_2465 : BitVec 32 := 0#32
  let v4442 : BitVec 1 := Scalar.cmpi .sgt c128_i32_2462 c0_i32_2465
  let v4443 : BitVec 32 := Scalar.extui v4442
  let c0_i32_2466 : BitVec 32 := 0#32
  let v4444 : BitVec 1 := Scalar.cmpi .slt c128_i32_2462 c0_i32_2466
  let v4445 : BitVec 32 := Scalar.extui v4444
  let v4446 : BitVec 32 := Scalar.subi v4443 v4445
  let v4447 : BitVec 1 := Scalar.cmpi .ne v4441 v4446
  let v4448 : BitVec 32 := Scalar.remsi v4435 c128_i32_2462
  let c0_i32_2467 : BitVec 32 := 0#32
  let v4449 : BitVec 1 := Scalar.cmpi .ne v4448 c0_i32_2467
  let v4450 : BitVec 1 := Scalar.andi v4447 v4449
  let v4436 : BitVec 32 := Scalar.divsi v4435 c128_i32_2462
  let c1_i32_2468 : BitVec 32 := 1#32
  let v4451 : BitVec 32 := Scalar.subi v4436 c1_i32_2468
  let v4452 : BitVec 32 := Scalar.select v4450 v4451 v4436
  let c128_i32_2469 : BitVec 32 := 128#32
  let v4453 : BitVec 32 := Scalar.muli v4452 c128_i32_2469
  let v4454 : BitVec 32 := Scalar.maxsi c0_i32_2470 v4453
  let v4455 : BitVec 32 := Scalar.minsi c99872_i32_2471 v4454
  let v4456 : BitVec 32 := v4455
  ![41, v4456.toNat]

def k1_chk170 (v4435 : BitVec 32) : Prop :=
  (32 ∣ (k1_mult170 v4435).toNat) ∧
  (∀ a, (k1_off170 v4435) a + S1x128.size a ≤ S128x100000.size a)
theorem k1_mult170_dvd : ∀ (v4435 : BitVec 32) (k1_hw170 : k1_chk170 v4435), 32 ∣ (k1_mult170 v4435).toNat := fun v4435 k1_hw170 => k1_hw170.1
theorem k1_off170_inb : ∀ (v4435 : BitVec 32) (k1_hw170 : k1_chk170 v4435), ∀ a, (k1_off170 v4435) a + S1x128.size a ≤ S128x100000.size a := fun v4435 k1_hw170 => k1_hw170.2

def k1_mult171 (v4461 : BitVec 32) : BitVec 32 :=
  let c99872_i32_2487 : BitVec 32 := 99872#32
  let c0_i32_2486 : BitVec 32 := 0#32
  let c0_i32_2479 : BitVec 32 := 0#32
  let v4463 : BitVec 1 := Scalar.cmpi .sgt v4461 c0_i32_2479
  let v4464 : BitVec 32 := Scalar.extui v4463
  let c0_i32_2480 : BitVec 32 := 0#32
  let v4465 : BitVec 1 := Scalar.cmpi .slt v4461 c0_i32_2480
  let v4466 : BitVec 32 := Scalar.extui v4465
  let v4467 : BitVec 32 := Scalar.subi v4464 v4466
  let c128_i32_2478 : BitVec 32 := 128#32
  let c0_i32_2481 : BitVec 32 := 0#32
  let v4468 : BitVec 1 := Scalar.cmpi .sgt c128_i32_2478 c0_i32_2481
  let v4469 : BitVec 32 := Scalar.extui v4468
  let c0_i32_2482 : BitVec 32 := 0#32
  let v4470 : BitVec 1 := Scalar.cmpi .slt c128_i32_2478 c0_i32_2482
  let v4471 : BitVec 32 := Scalar.extui v4470
  let v4472 : BitVec 32 := Scalar.subi v4469 v4471
  let v4473 : BitVec 1 := Scalar.cmpi .ne v4467 v4472
  let v4474 : BitVec 32 := Scalar.remsi v4461 c128_i32_2478
  let c0_i32_2483 : BitVec 32 := 0#32
  let v4475 : BitVec 1 := Scalar.cmpi .ne v4474 c0_i32_2483
  let v4476 : BitVec 1 := Scalar.andi v4473 v4475
  let v4462 : BitVec 32 := Scalar.divsi v4461 c128_i32_2478
  let c1_i32_2484 : BitVec 32 := 1#32
  let v4477 : BitVec 32 := Scalar.subi v4462 c1_i32_2484
  let v4478 : BitVec 32 := Scalar.select v4476 v4477 v4462
  let c128_i32_2485 : BitVec 32 := 128#32
  let v4479 : BitVec 32 := Scalar.muli v4478 c128_i32_2485
  let v4480 : BitVec 32 := Scalar.maxsi c0_i32_2486 v4479
  let v4481 : BitVec 32 := Scalar.minsi c99872_i32_2487 v4480
  v4481

def k1_off171 (v4461 : BitVec 32) : Fin 2 → Nat :=
  let c42_i32_2489 : BitVec 32 := 42#32
  let c99872_i32_2487 : BitVec 32 := 99872#32
  let c0_i32_2486 : BitVec 32 := 0#32
  let c0_i32_2479 : BitVec 32 := 0#32
  let v4463 : BitVec 1 := Scalar.cmpi .sgt v4461 c0_i32_2479
  let v4464 : BitVec 32 := Scalar.extui v4463
  let c0_i32_2480 : BitVec 32 := 0#32
  let v4465 : BitVec 1 := Scalar.cmpi .slt v4461 c0_i32_2480
  let v4466 : BitVec 32 := Scalar.extui v4465
  let v4467 : BitVec 32 := Scalar.subi v4464 v4466
  let c128_i32_2478 : BitVec 32 := 128#32
  let c0_i32_2481 : BitVec 32 := 0#32
  let v4468 : BitVec 1 := Scalar.cmpi .sgt c128_i32_2478 c0_i32_2481
  let v4469 : BitVec 32 := Scalar.extui v4468
  let c0_i32_2482 : BitVec 32 := 0#32
  let v4470 : BitVec 1 := Scalar.cmpi .slt c128_i32_2478 c0_i32_2482
  let v4471 : BitVec 32 := Scalar.extui v4470
  let v4472 : BitVec 32 := Scalar.subi v4469 v4471
  let v4473 : BitVec 1 := Scalar.cmpi .ne v4467 v4472
  let v4474 : BitVec 32 := Scalar.remsi v4461 c128_i32_2478
  let c0_i32_2483 : BitVec 32 := 0#32
  let v4475 : BitVec 1 := Scalar.cmpi .ne v4474 c0_i32_2483
  let v4476 : BitVec 1 := Scalar.andi v4473 v4475
  let v4462 : BitVec 32 := Scalar.divsi v4461 c128_i32_2478
  let c1_i32_2484 : BitVec 32 := 1#32
  let v4477 : BitVec 32 := Scalar.subi v4462 c1_i32_2484
  let v4478 : BitVec 32 := Scalar.select v4476 v4477 v4462
  let c128_i32_2485 : BitVec 32 := 128#32
  let v4479 : BitVec 32 := Scalar.muli v4478 c128_i32_2485
  let v4480 : BitVec 32 := Scalar.maxsi c0_i32_2486 v4479
  let v4481 : BitVec 32 := Scalar.minsi c99872_i32_2487 v4480
  let v4482 : BitVec 32 := v4481
  ![42, v4482.toNat]

def k1_chk171 (v4461 : BitVec 32) : Prop :=
  (32 ∣ (k1_mult171 v4461).toNat) ∧
  (∀ a, (k1_off171 v4461) a + S1x128.size a ≤ S128x100000.size a)
theorem k1_mult171_dvd : ∀ (v4461 : BitVec 32) (k1_hw171 : k1_chk171 v4461), 32 ∣ (k1_mult171 v4461).toNat := fun v4461 k1_hw171 => k1_hw171.1
theorem k1_off171_inb : ∀ (v4461 : BitVec 32) (k1_hw171 : k1_chk171 v4461), ∀ a, (k1_off171 v4461) a + S1x128.size a ≤ S128x100000.size a := fun v4461 k1_hw171 => k1_hw171.2

def k1_mult172 (v4487 : BitVec 32) : BitVec 32 :=
  let c99872_i32_2503 : BitVec 32 := 99872#32
  let c0_i32_2502 : BitVec 32 := 0#32
  let c0_i32_2495 : BitVec 32 := 0#32
  let v4489 : BitVec 1 := Scalar.cmpi .sgt v4487 c0_i32_2495
  let v4490 : BitVec 32 := Scalar.extui v4489
  let c0_i32_2496 : BitVec 32 := 0#32
  let v4491 : BitVec 1 := Scalar.cmpi .slt v4487 c0_i32_2496
  let v4492 : BitVec 32 := Scalar.extui v4491
  let v4493 : BitVec 32 := Scalar.subi v4490 v4492
  let c128_i32_2494 : BitVec 32 := 128#32
  let c0_i32_2497 : BitVec 32 := 0#32
  let v4494 : BitVec 1 := Scalar.cmpi .sgt c128_i32_2494 c0_i32_2497
  let v4495 : BitVec 32 := Scalar.extui v4494
  let c0_i32_2498 : BitVec 32 := 0#32
  let v4496 : BitVec 1 := Scalar.cmpi .slt c128_i32_2494 c0_i32_2498
  let v4497 : BitVec 32 := Scalar.extui v4496
  let v4498 : BitVec 32 := Scalar.subi v4495 v4497
  let v4499 : BitVec 1 := Scalar.cmpi .ne v4493 v4498
  let v4500 : BitVec 32 := Scalar.remsi v4487 c128_i32_2494
  let c0_i32_2499 : BitVec 32 := 0#32
  let v4501 : BitVec 1 := Scalar.cmpi .ne v4500 c0_i32_2499
  let v4502 : BitVec 1 := Scalar.andi v4499 v4501
  let v4488 : BitVec 32 := Scalar.divsi v4487 c128_i32_2494
  let c1_i32_2500 : BitVec 32 := 1#32
  let v4503 : BitVec 32 := Scalar.subi v4488 c1_i32_2500
  let v4504 : BitVec 32 := Scalar.select v4502 v4503 v4488
  let c128_i32_2501 : BitVec 32 := 128#32
  let v4505 : BitVec 32 := Scalar.muli v4504 c128_i32_2501
  let v4506 : BitVec 32 := Scalar.maxsi c0_i32_2502 v4505
  let v4507 : BitVec 32 := Scalar.minsi c99872_i32_2503 v4506
  v4507

def k1_off172 (v4487 : BitVec 32) : Fin 2 → Nat :=
  let c43_i32_2505 : BitVec 32 := 43#32
  let c99872_i32_2503 : BitVec 32 := 99872#32
  let c0_i32_2502 : BitVec 32 := 0#32
  let c0_i32_2495 : BitVec 32 := 0#32
  let v4489 : BitVec 1 := Scalar.cmpi .sgt v4487 c0_i32_2495
  let v4490 : BitVec 32 := Scalar.extui v4489
  let c0_i32_2496 : BitVec 32 := 0#32
  let v4491 : BitVec 1 := Scalar.cmpi .slt v4487 c0_i32_2496
  let v4492 : BitVec 32 := Scalar.extui v4491
  let v4493 : BitVec 32 := Scalar.subi v4490 v4492
  let c128_i32_2494 : BitVec 32 := 128#32
  let c0_i32_2497 : BitVec 32 := 0#32
  let v4494 : BitVec 1 := Scalar.cmpi .sgt c128_i32_2494 c0_i32_2497
  let v4495 : BitVec 32 := Scalar.extui v4494
  let c0_i32_2498 : BitVec 32 := 0#32
  let v4496 : BitVec 1 := Scalar.cmpi .slt c128_i32_2494 c0_i32_2498
  let v4497 : BitVec 32 := Scalar.extui v4496
  let v4498 : BitVec 32 := Scalar.subi v4495 v4497
  let v4499 : BitVec 1 := Scalar.cmpi .ne v4493 v4498
  let v4500 : BitVec 32 := Scalar.remsi v4487 c128_i32_2494
  let c0_i32_2499 : BitVec 32 := 0#32
  let v4501 : BitVec 1 := Scalar.cmpi .ne v4500 c0_i32_2499
  let v4502 : BitVec 1 := Scalar.andi v4499 v4501
  let v4488 : BitVec 32 := Scalar.divsi v4487 c128_i32_2494
  let c1_i32_2500 : BitVec 32 := 1#32
  let v4503 : BitVec 32 := Scalar.subi v4488 c1_i32_2500
  let v4504 : BitVec 32 := Scalar.select v4502 v4503 v4488
  let c128_i32_2501 : BitVec 32 := 128#32
  let v4505 : BitVec 32 := Scalar.muli v4504 c128_i32_2501
  let v4506 : BitVec 32 := Scalar.maxsi c0_i32_2502 v4505
  let v4507 : BitVec 32 := Scalar.minsi c99872_i32_2503 v4506
  let v4508 : BitVec 32 := v4507
  ![43, v4508.toNat]

def k1_chk172 (v4487 : BitVec 32) : Prop :=
  (32 ∣ (k1_mult172 v4487).toNat) ∧
  (∀ a, (k1_off172 v4487) a + S1x128.size a ≤ S128x100000.size a)
theorem k1_mult172_dvd : ∀ (v4487 : BitVec 32) (k1_hw172 : k1_chk172 v4487), 32 ∣ (k1_mult172 v4487).toNat := fun v4487 k1_hw172 => k1_hw172.1
theorem k1_off172_inb : ∀ (v4487 : BitVec 32) (k1_hw172 : k1_chk172 v4487), ∀ a, (k1_off172 v4487) a + S1x128.size a ≤ S128x100000.size a := fun v4487 k1_hw172 => k1_hw172.2

def k1_mult173 (v4513 : BitVec 32) : BitVec 32 :=
  let c99872_i32_2519 : BitVec 32 := 99872#32
  let c0_i32_2518 : BitVec 32 := 0#32
  let c0_i32_2511 : BitVec 32 := 0#32
  let v4515 : BitVec 1 := Scalar.cmpi .sgt v4513 c0_i32_2511
  let v4516 : BitVec 32 := Scalar.extui v4515
  let c0_i32_2512 : BitVec 32 := 0#32
  let v4517 : BitVec 1 := Scalar.cmpi .slt v4513 c0_i32_2512
  let v4518 : BitVec 32 := Scalar.extui v4517
  let v4519 : BitVec 32 := Scalar.subi v4516 v4518
  let c128_i32_2510 : BitVec 32 := 128#32
  let c0_i32_2513 : BitVec 32 := 0#32
  let v4520 : BitVec 1 := Scalar.cmpi .sgt c128_i32_2510 c0_i32_2513
  let v4521 : BitVec 32 := Scalar.extui v4520
  let c0_i32_2514 : BitVec 32 := 0#32
  let v4522 : BitVec 1 := Scalar.cmpi .slt c128_i32_2510 c0_i32_2514
  let v4523 : BitVec 32 := Scalar.extui v4522
  let v4524 : BitVec 32 := Scalar.subi v4521 v4523
  let v4525 : BitVec 1 := Scalar.cmpi .ne v4519 v4524
  let v4526 : BitVec 32 := Scalar.remsi v4513 c128_i32_2510
  let c0_i32_2515 : BitVec 32 := 0#32
  let v4527 : BitVec 1 := Scalar.cmpi .ne v4526 c0_i32_2515
  let v4528 : BitVec 1 := Scalar.andi v4525 v4527
  let v4514 : BitVec 32 := Scalar.divsi v4513 c128_i32_2510
  let c1_i32_2516 : BitVec 32 := 1#32
  let v4529 : BitVec 32 := Scalar.subi v4514 c1_i32_2516
  let v4530 : BitVec 32 := Scalar.select v4528 v4529 v4514
  let c128_i32_2517 : BitVec 32 := 128#32
  let v4531 : BitVec 32 := Scalar.muli v4530 c128_i32_2517
  let v4532 : BitVec 32 := Scalar.maxsi c0_i32_2518 v4531
  let v4533 : BitVec 32 := Scalar.minsi c99872_i32_2519 v4532
  v4533

def k1_off173 (v4513 : BitVec 32) : Fin 2 → Nat :=
  let c44_i32_2521 : BitVec 32 := 44#32
  let c99872_i32_2519 : BitVec 32 := 99872#32
  let c0_i32_2518 : BitVec 32 := 0#32
  let c0_i32_2511 : BitVec 32 := 0#32
  let v4515 : BitVec 1 := Scalar.cmpi .sgt v4513 c0_i32_2511
  let v4516 : BitVec 32 := Scalar.extui v4515
  let c0_i32_2512 : BitVec 32 := 0#32
  let v4517 : BitVec 1 := Scalar.cmpi .slt v4513 c0_i32_2512
  let v4518 : BitVec 32 := Scalar.extui v4517
  let v4519 : BitVec 32 := Scalar.subi v4516 v4518
  let c128_i32_2510 : BitVec 32 := 128#32
  let c0_i32_2513 : BitVec 32 := 0#32
  let v4520 : BitVec 1 := Scalar.cmpi .sgt c128_i32_2510 c0_i32_2513
  let v4521 : BitVec 32 := Scalar.extui v4520
  let c0_i32_2514 : BitVec 32 := 0#32
  let v4522 : BitVec 1 := Scalar.cmpi .slt c128_i32_2510 c0_i32_2514
  let v4523 : BitVec 32 := Scalar.extui v4522
  let v4524 : BitVec 32 := Scalar.subi v4521 v4523
  let v4525 : BitVec 1 := Scalar.cmpi .ne v4519 v4524
  let v4526 : BitVec 32 := Scalar.remsi v4513 c128_i32_2510
  let c0_i32_2515 : BitVec 32 := 0#32
  let v4527 : BitVec 1 := Scalar.cmpi .ne v4526 c0_i32_2515
  let v4528 : BitVec 1 := Scalar.andi v4525 v4527
  let v4514 : BitVec 32 := Scalar.divsi v4513 c128_i32_2510
  let c1_i32_2516 : BitVec 32 := 1#32
  let v4529 : BitVec 32 := Scalar.subi v4514 c1_i32_2516
  let v4530 : BitVec 32 := Scalar.select v4528 v4529 v4514
  let c128_i32_2517 : BitVec 32 := 128#32
  let v4531 : BitVec 32 := Scalar.muli v4530 c128_i32_2517
  let v4532 : BitVec 32 := Scalar.maxsi c0_i32_2518 v4531
  let v4533 : BitVec 32 := Scalar.minsi c99872_i32_2519 v4532
  let v4534 : BitVec 32 := v4533
  ![44, v4534.toNat]

def k1_chk173 (v4513 : BitVec 32) : Prop :=
  (32 ∣ (k1_mult173 v4513).toNat) ∧
  (∀ a, (k1_off173 v4513) a + S1x128.size a ≤ S128x100000.size a)
theorem k1_mult173_dvd : ∀ (v4513 : BitVec 32) (k1_hw173 : k1_chk173 v4513), 32 ∣ (k1_mult173 v4513).toNat := fun v4513 k1_hw173 => k1_hw173.1
theorem k1_off173_inb : ∀ (v4513 : BitVec 32) (k1_hw173 : k1_chk173 v4513), ∀ a, (k1_off173 v4513) a + S1x128.size a ≤ S128x100000.size a := fun v4513 k1_hw173 => k1_hw173.2

def k1_mult174 (v4539 : BitVec 32) : BitVec 32 :=
  let c99872_i32_2535 : BitVec 32 := 99872#32
  let c0_i32_2534 : BitVec 32 := 0#32
  let c0_i32_2527 : BitVec 32 := 0#32
  let v4541 : BitVec 1 := Scalar.cmpi .sgt v4539 c0_i32_2527
  let v4542 : BitVec 32 := Scalar.extui v4541
  let c0_i32_2528 : BitVec 32 := 0#32
  let v4543 : BitVec 1 := Scalar.cmpi .slt v4539 c0_i32_2528
  let v4544 : BitVec 32 := Scalar.extui v4543
  let v4545 : BitVec 32 := Scalar.subi v4542 v4544
  let c128_i32_2526 : BitVec 32 := 128#32
  let c0_i32_2529 : BitVec 32 := 0#32
  let v4546 : BitVec 1 := Scalar.cmpi .sgt c128_i32_2526 c0_i32_2529
  let v4547 : BitVec 32 := Scalar.extui v4546
  let c0_i32_2530 : BitVec 32 := 0#32
  let v4548 : BitVec 1 := Scalar.cmpi .slt c128_i32_2526 c0_i32_2530
  let v4549 : BitVec 32 := Scalar.extui v4548
  let v4550 : BitVec 32 := Scalar.subi v4547 v4549
  let v4551 : BitVec 1 := Scalar.cmpi .ne v4545 v4550
  let v4552 : BitVec 32 := Scalar.remsi v4539 c128_i32_2526
  let c0_i32_2531 : BitVec 32 := 0#32
  let v4553 : BitVec 1 := Scalar.cmpi .ne v4552 c0_i32_2531
  let v4554 : BitVec 1 := Scalar.andi v4551 v4553
  let v4540 : BitVec 32 := Scalar.divsi v4539 c128_i32_2526
  let c1_i32_2532 : BitVec 32 := 1#32
  let v4555 : BitVec 32 := Scalar.subi v4540 c1_i32_2532
  let v4556 : BitVec 32 := Scalar.select v4554 v4555 v4540
  let c128_i32_2533 : BitVec 32 := 128#32
  let v4557 : BitVec 32 := Scalar.muli v4556 c128_i32_2533
  let v4558 : BitVec 32 := Scalar.maxsi c0_i32_2534 v4557
  let v4559 : BitVec 32 := Scalar.minsi c99872_i32_2535 v4558
  v4559

def k1_off174 (v4539 : BitVec 32) : Fin 2 → Nat :=
  let c45_i32_2537 : BitVec 32 := 45#32
  let c99872_i32_2535 : BitVec 32 := 99872#32
  let c0_i32_2534 : BitVec 32 := 0#32
  let c0_i32_2527 : BitVec 32 := 0#32
  let v4541 : BitVec 1 := Scalar.cmpi .sgt v4539 c0_i32_2527
  let v4542 : BitVec 32 := Scalar.extui v4541
  let c0_i32_2528 : BitVec 32 := 0#32
  let v4543 : BitVec 1 := Scalar.cmpi .slt v4539 c0_i32_2528
  let v4544 : BitVec 32 := Scalar.extui v4543
  let v4545 : BitVec 32 := Scalar.subi v4542 v4544
  let c128_i32_2526 : BitVec 32 := 128#32
  let c0_i32_2529 : BitVec 32 := 0#32
  let v4546 : BitVec 1 := Scalar.cmpi .sgt c128_i32_2526 c0_i32_2529
  let v4547 : BitVec 32 := Scalar.extui v4546
  let c0_i32_2530 : BitVec 32 := 0#32
  let v4548 : BitVec 1 := Scalar.cmpi .slt c128_i32_2526 c0_i32_2530
  let v4549 : BitVec 32 := Scalar.extui v4548
  let v4550 : BitVec 32 := Scalar.subi v4547 v4549
  let v4551 : BitVec 1 := Scalar.cmpi .ne v4545 v4550
  let v4552 : BitVec 32 := Scalar.remsi v4539 c128_i32_2526
  let c0_i32_2531 : BitVec 32 := 0#32
  let v4553 : BitVec 1 := Scalar.cmpi .ne v4552 c0_i32_2531
  let v4554 : BitVec 1 := Scalar.andi v4551 v4553
  let v4540 : BitVec 32 := Scalar.divsi v4539 c128_i32_2526
  let c1_i32_2532 : BitVec 32 := 1#32
  let v4555 : BitVec 32 := Scalar.subi v4540 c1_i32_2532
  let v4556 : BitVec 32 := Scalar.select v4554 v4555 v4540
  let c128_i32_2533 : BitVec 32 := 128#32
  let v4557 : BitVec 32 := Scalar.muli v4556 c128_i32_2533
  let v4558 : BitVec 32 := Scalar.maxsi c0_i32_2534 v4557
  let v4559 : BitVec 32 := Scalar.minsi c99872_i32_2535 v4558
  let v4560 : BitVec 32 := v4559
  ![45, v4560.toNat]

def k1_chk174 (v4539 : BitVec 32) : Prop :=
  (32 ∣ (k1_mult174 v4539).toNat) ∧
  (∀ a, (k1_off174 v4539) a + S1x128.size a ≤ S128x100000.size a)
theorem k1_mult174_dvd : ∀ (v4539 : BitVec 32) (k1_hw174 : k1_chk174 v4539), 32 ∣ (k1_mult174 v4539).toNat := fun v4539 k1_hw174 => k1_hw174.1
theorem k1_off174_inb : ∀ (v4539 : BitVec 32) (k1_hw174 : k1_chk174 v4539), ∀ a, (k1_off174 v4539) a + S1x128.size a ≤ S128x100000.size a := fun v4539 k1_hw174 => k1_hw174.2

def k1_mult175 (v4565 : BitVec 32) : BitVec 32 :=
  let c99872_i32_2551 : BitVec 32 := 99872#32
  let c0_i32_2550 : BitVec 32 := 0#32
  let c0_i32_2543 : BitVec 32 := 0#32
  let v4567 : BitVec 1 := Scalar.cmpi .sgt v4565 c0_i32_2543
  let v4568 : BitVec 32 := Scalar.extui v4567
  let c0_i32_2544 : BitVec 32 := 0#32
  let v4569 : BitVec 1 := Scalar.cmpi .slt v4565 c0_i32_2544
  let v4570 : BitVec 32 := Scalar.extui v4569
  let v4571 : BitVec 32 := Scalar.subi v4568 v4570
  let c128_i32_2542 : BitVec 32 := 128#32
  let c0_i32_2545 : BitVec 32 := 0#32
  let v4572 : BitVec 1 := Scalar.cmpi .sgt c128_i32_2542 c0_i32_2545
  let v4573 : BitVec 32 := Scalar.extui v4572
  let c0_i32_2546 : BitVec 32 := 0#32
  let v4574 : BitVec 1 := Scalar.cmpi .slt c128_i32_2542 c0_i32_2546
  let v4575 : BitVec 32 := Scalar.extui v4574
  let v4576 : BitVec 32 := Scalar.subi v4573 v4575
  let v4577 : BitVec 1 := Scalar.cmpi .ne v4571 v4576
  let v4578 : BitVec 32 := Scalar.remsi v4565 c128_i32_2542
  let c0_i32_2547 : BitVec 32 := 0#32
  let v4579 : BitVec 1 := Scalar.cmpi .ne v4578 c0_i32_2547
  let v4580 : BitVec 1 := Scalar.andi v4577 v4579
  let v4566 : BitVec 32 := Scalar.divsi v4565 c128_i32_2542
  let c1_i32_2548 : BitVec 32 := 1#32
  let v4581 : BitVec 32 := Scalar.subi v4566 c1_i32_2548
  let v4582 : BitVec 32 := Scalar.select v4580 v4581 v4566
  let c128_i32_2549 : BitVec 32 := 128#32
  let v4583 : BitVec 32 := Scalar.muli v4582 c128_i32_2549
  let v4584 : BitVec 32 := Scalar.maxsi c0_i32_2550 v4583
  let v4585 : BitVec 32 := Scalar.minsi c99872_i32_2551 v4584
  v4585

def k1_off175 (v4565 : BitVec 32) : Fin 2 → Nat :=
  let c46_i32_2553 : BitVec 32 := 46#32
  let c99872_i32_2551 : BitVec 32 := 99872#32
  let c0_i32_2550 : BitVec 32 := 0#32
  let c0_i32_2543 : BitVec 32 := 0#32
  let v4567 : BitVec 1 := Scalar.cmpi .sgt v4565 c0_i32_2543
  let v4568 : BitVec 32 := Scalar.extui v4567
  let c0_i32_2544 : BitVec 32 := 0#32
  let v4569 : BitVec 1 := Scalar.cmpi .slt v4565 c0_i32_2544
  let v4570 : BitVec 32 := Scalar.extui v4569
  let v4571 : BitVec 32 := Scalar.subi v4568 v4570
  let c128_i32_2542 : BitVec 32 := 128#32
  let c0_i32_2545 : BitVec 32 := 0#32
  let v4572 : BitVec 1 := Scalar.cmpi .sgt c128_i32_2542 c0_i32_2545
  let v4573 : BitVec 32 := Scalar.extui v4572
  let c0_i32_2546 : BitVec 32 := 0#32
  let v4574 : BitVec 1 := Scalar.cmpi .slt c128_i32_2542 c0_i32_2546
  let v4575 : BitVec 32 := Scalar.extui v4574
  let v4576 : BitVec 32 := Scalar.subi v4573 v4575
  let v4577 : BitVec 1 := Scalar.cmpi .ne v4571 v4576
  let v4578 : BitVec 32 := Scalar.remsi v4565 c128_i32_2542
  let c0_i32_2547 : BitVec 32 := 0#32
  let v4579 : BitVec 1 := Scalar.cmpi .ne v4578 c0_i32_2547
  let v4580 : BitVec 1 := Scalar.andi v4577 v4579
  let v4566 : BitVec 32 := Scalar.divsi v4565 c128_i32_2542
  let c1_i32_2548 : BitVec 32 := 1#32
  let v4581 : BitVec 32 := Scalar.subi v4566 c1_i32_2548
  let v4582 : BitVec 32 := Scalar.select v4580 v4581 v4566
  let c128_i32_2549 : BitVec 32 := 128#32
  let v4583 : BitVec 32 := Scalar.muli v4582 c128_i32_2549
  let v4584 : BitVec 32 := Scalar.maxsi c0_i32_2550 v4583
  let v4585 : BitVec 32 := Scalar.minsi c99872_i32_2551 v4584
  let v4586 : BitVec 32 := v4585
  ![46, v4586.toNat]

def k1_chk175 (v4565 : BitVec 32) : Prop :=
  (32 ∣ (k1_mult175 v4565).toNat) ∧
  (∀ a, (k1_off175 v4565) a + S1x128.size a ≤ S128x100000.size a)
theorem k1_mult175_dvd : ∀ (v4565 : BitVec 32) (k1_hw175 : k1_chk175 v4565), 32 ∣ (k1_mult175 v4565).toNat := fun v4565 k1_hw175 => k1_hw175.1
theorem k1_off175_inb : ∀ (v4565 : BitVec 32) (k1_hw175 : k1_chk175 v4565), ∀ a, (k1_off175 v4565) a + S1x128.size a ≤ S128x100000.size a := fun v4565 k1_hw175 => k1_hw175.2

def k1_mult176 (v4591 : BitVec 32) : BitVec 32 :=
  let c99872_i32_2567 : BitVec 32 := 99872#32
  let c0_i32_2566 : BitVec 32 := 0#32
  let c0_i32_2559 : BitVec 32 := 0#32
  let v4593 : BitVec 1 := Scalar.cmpi .sgt v4591 c0_i32_2559
  let v4594 : BitVec 32 := Scalar.extui v4593
  let c0_i32_2560 : BitVec 32 := 0#32
  let v4595 : BitVec 1 := Scalar.cmpi .slt v4591 c0_i32_2560
  let v4596 : BitVec 32 := Scalar.extui v4595
  let v4597 : BitVec 32 := Scalar.subi v4594 v4596
  let c128_i32_2558 : BitVec 32 := 128#32
  let c0_i32_2561 : BitVec 32 := 0#32
  let v4598 : BitVec 1 := Scalar.cmpi .sgt c128_i32_2558 c0_i32_2561
  let v4599 : BitVec 32 := Scalar.extui v4598
  let c0_i32_2562 : BitVec 32 := 0#32
  let v4600 : BitVec 1 := Scalar.cmpi .slt c128_i32_2558 c0_i32_2562
  let v4601 : BitVec 32 := Scalar.extui v4600
  let v4602 : BitVec 32 := Scalar.subi v4599 v4601
  let v4603 : BitVec 1 := Scalar.cmpi .ne v4597 v4602
  let v4604 : BitVec 32 := Scalar.remsi v4591 c128_i32_2558
  let c0_i32_2563 : BitVec 32 := 0#32
  let v4605 : BitVec 1 := Scalar.cmpi .ne v4604 c0_i32_2563
  let v4606 : BitVec 1 := Scalar.andi v4603 v4605
  let v4592 : BitVec 32 := Scalar.divsi v4591 c128_i32_2558
  let c1_i32_2564 : BitVec 32 := 1#32
  let v4607 : BitVec 32 := Scalar.subi v4592 c1_i32_2564
  let v4608 : BitVec 32 := Scalar.select v4606 v4607 v4592
  let c128_i32_2565 : BitVec 32 := 128#32
  let v4609 : BitVec 32 := Scalar.muli v4608 c128_i32_2565
  let v4610 : BitVec 32 := Scalar.maxsi c0_i32_2566 v4609
  let v4611 : BitVec 32 := Scalar.minsi c99872_i32_2567 v4610
  v4611

def k1_off176 (v4591 : BitVec 32) : Fin 2 → Nat :=
  let c47_i32_2569 : BitVec 32 := 47#32
  let c99872_i32_2567 : BitVec 32 := 99872#32
  let c0_i32_2566 : BitVec 32 := 0#32
  let c0_i32_2559 : BitVec 32 := 0#32
  let v4593 : BitVec 1 := Scalar.cmpi .sgt v4591 c0_i32_2559
  let v4594 : BitVec 32 := Scalar.extui v4593
  let c0_i32_2560 : BitVec 32 := 0#32
  let v4595 : BitVec 1 := Scalar.cmpi .slt v4591 c0_i32_2560
  let v4596 : BitVec 32 := Scalar.extui v4595
  let v4597 : BitVec 32 := Scalar.subi v4594 v4596
  let c128_i32_2558 : BitVec 32 := 128#32
  let c0_i32_2561 : BitVec 32 := 0#32
  let v4598 : BitVec 1 := Scalar.cmpi .sgt c128_i32_2558 c0_i32_2561
  let v4599 : BitVec 32 := Scalar.extui v4598
  let c0_i32_2562 : BitVec 32 := 0#32
  let v4600 : BitVec 1 := Scalar.cmpi .slt c128_i32_2558 c0_i32_2562
  let v4601 : BitVec 32 := Scalar.extui v4600
  let v4602 : BitVec 32 := Scalar.subi v4599 v4601
  let v4603 : BitVec 1 := Scalar.cmpi .ne v4597 v4602
  let v4604 : BitVec 32 := Scalar.remsi v4591 c128_i32_2558
  let c0_i32_2563 : BitVec 32 := 0#32
  let v4605 : BitVec 1 := Scalar.cmpi .ne v4604 c0_i32_2563
  let v4606 : BitVec 1 := Scalar.andi v4603 v4605
  let v4592 : BitVec 32 := Scalar.divsi v4591 c128_i32_2558
  let c1_i32_2564 : BitVec 32 := 1#32
  let v4607 : BitVec 32 := Scalar.subi v4592 c1_i32_2564
  let v4608 : BitVec 32 := Scalar.select v4606 v4607 v4592
  let c128_i32_2565 : BitVec 32 := 128#32
  let v4609 : BitVec 32 := Scalar.muli v4608 c128_i32_2565
  let v4610 : BitVec 32 := Scalar.maxsi c0_i32_2566 v4609
  let v4611 : BitVec 32 := Scalar.minsi c99872_i32_2567 v4610
  let v4612 : BitVec 32 := v4611
  ![47, v4612.toNat]

def k1_chk176 (v4591 : BitVec 32) : Prop :=
  (32 ∣ (k1_mult176 v4591).toNat) ∧
  (∀ a, (k1_off176 v4591) a + S1x128.size a ≤ S128x100000.size a)
theorem k1_mult176_dvd : ∀ (v4591 : BitVec 32) (k1_hw176 : k1_chk176 v4591), 32 ∣ (k1_mult176 v4591).toNat := fun v4591 k1_hw176 => k1_hw176.1
theorem k1_off176_inb : ∀ (v4591 : BitVec 32) (k1_hw176 : k1_chk176 v4591), ∀ a, (k1_off176 v4591) a + S1x128.size a ≤ S128x100000.size a := fun v4591 k1_hw176 => k1_hw176.2

def k1_mult177 (v4617 : BitVec 32) : BitVec 32 :=
  let c99872_i32_2583 : BitVec 32 := 99872#32
  let c0_i32_2582 : BitVec 32 := 0#32
  let c0_i32_2575 : BitVec 32 := 0#32
  let v4619 : BitVec 1 := Scalar.cmpi .sgt v4617 c0_i32_2575
  let v4620 : BitVec 32 := Scalar.extui v4619
  let c0_i32_2576 : BitVec 32 := 0#32
  let v4621 : BitVec 1 := Scalar.cmpi .slt v4617 c0_i32_2576
  let v4622 : BitVec 32 := Scalar.extui v4621
  let v4623 : BitVec 32 := Scalar.subi v4620 v4622
  let c128_i32_2574 : BitVec 32 := 128#32
  let c0_i32_2577 : BitVec 32 := 0#32
  let v4624 : BitVec 1 := Scalar.cmpi .sgt c128_i32_2574 c0_i32_2577
  let v4625 : BitVec 32 := Scalar.extui v4624
  let c0_i32_2578 : BitVec 32 := 0#32
  let v4626 : BitVec 1 := Scalar.cmpi .slt c128_i32_2574 c0_i32_2578
  let v4627 : BitVec 32 := Scalar.extui v4626
  let v4628 : BitVec 32 := Scalar.subi v4625 v4627
  let v4629 : BitVec 1 := Scalar.cmpi .ne v4623 v4628
  let v4630 : BitVec 32 := Scalar.remsi v4617 c128_i32_2574
  let c0_i32_2579 : BitVec 32 := 0#32
  let v4631 : BitVec 1 := Scalar.cmpi .ne v4630 c0_i32_2579
  let v4632 : BitVec 1 := Scalar.andi v4629 v4631
  let v4618 : BitVec 32 := Scalar.divsi v4617 c128_i32_2574
  let c1_i32_2580 : BitVec 32 := 1#32
  let v4633 : BitVec 32 := Scalar.subi v4618 c1_i32_2580
  let v4634 : BitVec 32 := Scalar.select v4632 v4633 v4618
  let c128_i32_2581 : BitVec 32 := 128#32
  let v4635 : BitVec 32 := Scalar.muli v4634 c128_i32_2581
  let v4636 : BitVec 32 := Scalar.maxsi c0_i32_2582 v4635
  let v4637 : BitVec 32 := Scalar.minsi c99872_i32_2583 v4636
  v4637

def k1_off177 (v4617 : BitVec 32) : Fin 2 → Nat :=
  let c48_i32_2585 : BitVec 32 := 48#32
  let c99872_i32_2583 : BitVec 32 := 99872#32
  let c0_i32_2582 : BitVec 32 := 0#32
  let c0_i32_2575 : BitVec 32 := 0#32
  let v4619 : BitVec 1 := Scalar.cmpi .sgt v4617 c0_i32_2575
  let v4620 : BitVec 32 := Scalar.extui v4619
  let c0_i32_2576 : BitVec 32 := 0#32
  let v4621 : BitVec 1 := Scalar.cmpi .slt v4617 c0_i32_2576
  let v4622 : BitVec 32 := Scalar.extui v4621
  let v4623 : BitVec 32 := Scalar.subi v4620 v4622
  let c128_i32_2574 : BitVec 32 := 128#32
  let c0_i32_2577 : BitVec 32 := 0#32
  let v4624 : BitVec 1 := Scalar.cmpi .sgt c128_i32_2574 c0_i32_2577
  let v4625 : BitVec 32 := Scalar.extui v4624
  let c0_i32_2578 : BitVec 32 := 0#32
  let v4626 : BitVec 1 := Scalar.cmpi .slt c128_i32_2574 c0_i32_2578
  let v4627 : BitVec 32 := Scalar.extui v4626
  let v4628 : BitVec 32 := Scalar.subi v4625 v4627
  let v4629 : BitVec 1 := Scalar.cmpi .ne v4623 v4628
  let v4630 : BitVec 32 := Scalar.remsi v4617 c128_i32_2574
  let c0_i32_2579 : BitVec 32 := 0#32
  let v4631 : BitVec 1 := Scalar.cmpi .ne v4630 c0_i32_2579
  let v4632 : BitVec 1 := Scalar.andi v4629 v4631
  let v4618 : BitVec 32 := Scalar.divsi v4617 c128_i32_2574
  let c1_i32_2580 : BitVec 32 := 1#32
  let v4633 : BitVec 32 := Scalar.subi v4618 c1_i32_2580
  let v4634 : BitVec 32 := Scalar.select v4632 v4633 v4618
  let c128_i32_2581 : BitVec 32 := 128#32
  let v4635 : BitVec 32 := Scalar.muli v4634 c128_i32_2581
  let v4636 : BitVec 32 := Scalar.maxsi c0_i32_2582 v4635
  let v4637 : BitVec 32 := Scalar.minsi c99872_i32_2583 v4636
  let v4638 : BitVec 32 := v4637
  ![48, v4638.toNat]

def k1_chk177 (v4617 : BitVec 32) : Prop :=
  (32 ∣ (k1_mult177 v4617).toNat) ∧
  (∀ a, (k1_off177 v4617) a + S1x128.size a ≤ S128x100000.size a)
theorem k1_mult177_dvd : ∀ (v4617 : BitVec 32) (k1_hw177 : k1_chk177 v4617), 32 ∣ (k1_mult177 v4617).toNat := fun v4617 k1_hw177 => k1_hw177.1
theorem k1_off177_inb : ∀ (v4617 : BitVec 32) (k1_hw177 : k1_chk177 v4617), ∀ a, (k1_off177 v4617) a + S1x128.size a ≤ S128x100000.size a := fun v4617 k1_hw177 => k1_hw177.2

def k1_mult178 (v4643 : BitVec 32) : BitVec 32 :=
  let c99872_i32_2599 : BitVec 32 := 99872#32
  let c0_i32_2598 : BitVec 32 := 0#32
  let c0_i32_2591 : BitVec 32 := 0#32
  let v4645 : BitVec 1 := Scalar.cmpi .sgt v4643 c0_i32_2591
  let v4646 : BitVec 32 := Scalar.extui v4645
  let c0_i32_2592 : BitVec 32 := 0#32
  let v4647 : BitVec 1 := Scalar.cmpi .slt v4643 c0_i32_2592
  let v4648 : BitVec 32 := Scalar.extui v4647
  let v4649 : BitVec 32 := Scalar.subi v4646 v4648
  let c128_i32_2590 : BitVec 32 := 128#32
  let c0_i32_2593 : BitVec 32 := 0#32
  let v4650 : BitVec 1 := Scalar.cmpi .sgt c128_i32_2590 c0_i32_2593
  let v4651 : BitVec 32 := Scalar.extui v4650
  let c0_i32_2594 : BitVec 32 := 0#32
  let v4652 : BitVec 1 := Scalar.cmpi .slt c128_i32_2590 c0_i32_2594
  let v4653 : BitVec 32 := Scalar.extui v4652
  let v4654 : BitVec 32 := Scalar.subi v4651 v4653
  let v4655 : BitVec 1 := Scalar.cmpi .ne v4649 v4654
  let v4656 : BitVec 32 := Scalar.remsi v4643 c128_i32_2590
  let c0_i32_2595 : BitVec 32 := 0#32
  let v4657 : BitVec 1 := Scalar.cmpi .ne v4656 c0_i32_2595
  let v4658 : BitVec 1 := Scalar.andi v4655 v4657
  let v4644 : BitVec 32 := Scalar.divsi v4643 c128_i32_2590
  let c1_i32_2596 : BitVec 32 := 1#32
  let v4659 : BitVec 32 := Scalar.subi v4644 c1_i32_2596
  let v4660 : BitVec 32 := Scalar.select v4658 v4659 v4644
  let c128_i32_2597 : BitVec 32 := 128#32
  let v4661 : BitVec 32 := Scalar.muli v4660 c128_i32_2597
  let v4662 : BitVec 32 := Scalar.maxsi c0_i32_2598 v4661
  let v4663 : BitVec 32 := Scalar.minsi c99872_i32_2599 v4662
  v4663

def k1_off178 (v4643 : BitVec 32) : Fin 2 → Nat :=
  let c49_i32_2601 : BitVec 32 := 49#32
  let c99872_i32_2599 : BitVec 32 := 99872#32
  let c0_i32_2598 : BitVec 32 := 0#32
  let c0_i32_2591 : BitVec 32 := 0#32
  let v4645 : BitVec 1 := Scalar.cmpi .sgt v4643 c0_i32_2591
  let v4646 : BitVec 32 := Scalar.extui v4645
  let c0_i32_2592 : BitVec 32 := 0#32
  let v4647 : BitVec 1 := Scalar.cmpi .slt v4643 c0_i32_2592
  let v4648 : BitVec 32 := Scalar.extui v4647
  let v4649 : BitVec 32 := Scalar.subi v4646 v4648
  let c128_i32_2590 : BitVec 32 := 128#32
  let c0_i32_2593 : BitVec 32 := 0#32
  let v4650 : BitVec 1 := Scalar.cmpi .sgt c128_i32_2590 c0_i32_2593
  let v4651 : BitVec 32 := Scalar.extui v4650
  let c0_i32_2594 : BitVec 32 := 0#32
  let v4652 : BitVec 1 := Scalar.cmpi .slt c128_i32_2590 c0_i32_2594
  let v4653 : BitVec 32 := Scalar.extui v4652
  let v4654 : BitVec 32 := Scalar.subi v4651 v4653
  let v4655 : BitVec 1 := Scalar.cmpi .ne v4649 v4654
  let v4656 : BitVec 32 := Scalar.remsi v4643 c128_i32_2590
  let c0_i32_2595 : BitVec 32 := 0#32
  let v4657 : BitVec 1 := Scalar.cmpi .ne v4656 c0_i32_2595
  let v4658 : BitVec 1 := Scalar.andi v4655 v4657
  let v4644 : BitVec 32 := Scalar.divsi v4643 c128_i32_2590
  let c1_i32_2596 : BitVec 32 := 1#32
  let v4659 : BitVec 32 := Scalar.subi v4644 c1_i32_2596
  let v4660 : BitVec 32 := Scalar.select v4658 v4659 v4644
  let c128_i32_2597 : BitVec 32 := 128#32
  let v4661 : BitVec 32 := Scalar.muli v4660 c128_i32_2597
  let v4662 : BitVec 32 := Scalar.maxsi c0_i32_2598 v4661
  let v4663 : BitVec 32 := Scalar.minsi c99872_i32_2599 v4662
  let v4664 : BitVec 32 := v4663
  ![49, v4664.toNat]

def k1_chk178 (v4643 : BitVec 32) : Prop :=
  (32 ∣ (k1_mult178 v4643).toNat) ∧
  (∀ a, (k1_off178 v4643) a + S1x128.size a ≤ S128x100000.size a)
theorem k1_mult178_dvd : ∀ (v4643 : BitVec 32) (k1_hw178 : k1_chk178 v4643), 32 ∣ (k1_mult178 v4643).toNat := fun v4643 k1_hw178 => k1_hw178.1
theorem k1_off178_inb : ∀ (v4643 : BitVec 32) (k1_hw178 : k1_chk178 v4643), ∀ a, (k1_off178 v4643) a + S1x128.size a ≤ S128x100000.size a := fun v4643 k1_hw178 => k1_hw178.2

def k1_mult179 (v4669 : BitVec 32) : BitVec 32 :=
  let c99872_i32_2615 : BitVec 32 := 99872#32
  let c0_i32_2614 : BitVec 32 := 0#32
  let c0_i32_2607 : BitVec 32 := 0#32
  let v4671 : BitVec 1 := Scalar.cmpi .sgt v4669 c0_i32_2607
  let v4672 : BitVec 32 := Scalar.extui v4671
  let c0_i32_2608 : BitVec 32 := 0#32
  let v4673 : BitVec 1 := Scalar.cmpi .slt v4669 c0_i32_2608
  let v4674 : BitVec 32 := Scalar.extui v4673
  let v4675 : BitVec 32 := Scalar.subi v4672 v4674
  let c128_i32_2606 : BitVec 32 := 128#32
  let c0_i32_2609 : BitVec 32 := 0#32
  let v4676 : BitVec 1 := Scalar.cmpi .sgt c128_i32_2606 c0_i32_2609
  let v4677 : BitVec 32 := Scalar.extui v4676
  let c0_i32_2610 : BitVec 32 := 0#32
  let v4678 : BitVec 1 := Scalar.cmpi .slt c128_i32_2606 c0_i32_2610
  let v4679 : BitVec 32 := Scalar.extui v4678
  let v4680 : BitVec 32 := Scalar.subi v4677 v4679
  let v4681 : BitVec 1 := Scalar.cmpi .ne v4675 v4680
  let v4682 : BitVec 32 := Scalar.remsi v4669 c128_i32_2606
  let c0_i32_2611 : BitVec 32 := 0#32
  let v4683 : BitVec 1 := Scalar.cmpi .ne v4682 c0_i32_2611
  let v4684 : BitVec 1 := Scalar.andi v4681 v4683
  let v4670 : BitVec 32 := Scalar.divsi v4669 c128_i32_2606
  let c1_i32_2612 : BitVec 32 := 1#32
  let v4685 : BitVec 32 := Scalar.subi v4670 c1_i32_2612
  let v4686 : BitVec 32 := Scalar.select v4684 v4685 v4670
  let c128_i32_2613 : BitVec 32 := 128#32
  let v4687 : BitVec 32 := Scalar.muli v4686 c128_i32_2613
  let v4688 : BitVec 32 := Scalar.maxsi c0_i32_2614 v4687
  let v4689 : BitVec 32 := Scalar.minsi c99872_i32_2615 v4688
  v4689

def k1_off179 (v4669 : BitVec 32) : Fin 2 → Nat :=
  let c50_i32_2617 : BitVec 32 := 50#32
  let c99872_i32_2615 : BitVec 32 := 99872#32
  let c0_i32_2614 : BitVec 32 := 0#32
  let c0_i32_2607 : BitVec 32 := 0#32
  let v4671 : BitVec 1 := Scalar.cmpi .sgt v4669 c0_i32_2607
  let v4672 : BitVec 32 := Scalar.extui v4671
  let c0_i32_2608 : BitVec 32 := 0#32
  let v4673 : BitVec 1 := Scalar.cmpi .slt v4669 c0_i32_2608
  let v4674 : BitVec 32 := Scalar.extui v4673
  let v4675 : BitVec 32 := Scalar.subi v4672 v4674
  let c128_i32_2606 : BitVec 32 := 128#32
  let c0_i32_2609 : BitVec 32 := 0#32
  let v4676 : BitVec 1 := Scalar.cmpi .sgt c128_i32_2606 c0_i32_2609
  let v4677 : BitVec 32 := Scalar.extui v4676
  let c0_i32_2610 : BitVec 32 := 0#32
  let v4678 : BitVec 1 := Scalar.cmpi .slt c128_i32_2606 c0_i32_2610
  let v4679 : BitVec 32 := Scalar.extui v4678
  let v4680 : BitVec 32 := Scalar.subi v4677 v4679
  let v4681 : BitVec 1 := Scalar.cmpi .ne v4675 v4680
  let v4682 : BitVec 32 := Scalar.remsi v4669 c128_i32_2606
  let c0_i32_2611 : BitVec 32 := 0#32
  let v4683 : BitVec 1 := Scalar.cmpi .ne v4682 c0_i32_2611
  let v4684 : BitVec 1 := Scalar.andi v4681 v4683
  let v4670 : BitVec 32 := Scalar.divsi v4669 c128_i32_2606
  let c1_i32_2612 : BitVec 32 := 1#32
  let v4685 : BitVec 32 := Scalar.subi v4670 c1_i32_2612
  let v4686 : BitVec 32 := Scalar.select v4684 v4685 v4670
  let c128_i32_2613 : BitVec 32 := 128#32
  let v4687 : BitVec 32 := Scalar.muli v4686 c128_i32_2613
  let v4688 : BitVec 32 := Scalar.maxsi c0_i32_2614 v4687
  let v4689 : BitVec 32 := Scalar.minsi c99872_i32_2615 v4688
  let v4690 : BitVec 32 := v4689
  ![50, v4690.toNat]

def k1_chk179 (v4669 : BitVec 32) : Prop :=
  (32 ∣ (k1_mult179 v4669).toNat) ∧
  (∀ a, (k1_off179 v4669) a + S1x128.size a ≤ S128x100000.size a)
theorem k1_mult179_dvd : ∀ (v4669 : BitVec 32) (k1_hw179 : k1_chk179 v4669), 32 ∣ (k1_mult179 v4669).toNat := fun v4669 k1_hw179 => k1_hw179.1
theorem k1_off179_inb : ∀ (v4669 : BitVec 32) (k1_hw179 : k1_chk179 v4669), ∀ a, (k1_off179 v4669) a + S1x128.size a ≤ S128x100000.size a := fun v4669 k1_hw179 => k1_hw179.2

def k1_mult180 (v4695 : BitVec 32) : BitVec 32 :=
  let c99872_i32_2631 : BitVec 32 := 99872#32
  let c0_i32_2630 : BitVec 32 := 0#32
  let c0_i32_2623 : BitVec 32 := 0#32
  let v4697 : BitVec 1 := Scalar.cmpi .sgt v4695 c0_i32_2623
  let v4698 : BitVec 32 := Scalar.extui v4697
  let c0_i32_2624 : BitVec 32 := 0#32
  let v4699 : BitVec 1 := Scalar.cmpi .slt v4695 c0_i32_2624
  let v4700 : BitVec 32 := Scalar.extui v4699
  let v4701 : BitVec 32 := Scalar.subi v4698 v4700
  let c128_i32_2622 : BitVec 32 := 128#32
  let c0_i32_2625 : BitVec 32 := 0#32
  let v4702 : BitVec 1 := Scalar.cmpi .sgt c128_i32_2622 c0_i32_2625
  let v4703 : BitVec 32 := Scalar.extui v4702
  let c0_i32_2626 : BitVec 32 := 0#32
  let v4704 : BitVec 1 := Scalar.cmpi .slt c128_i32_2622 c0_i32_2626
  let v4705 : BitVec 32 := Scalar.extui v4704
  let v4706 : BitVec 32 := Scalar.subi v4703 v4705
  let v4707 : BitVec 1 := Scalar.cmpi .ne v4701 v4706
  let v4708 : BitVec 32 := Scalar.remsi v4695 c128_i32_2622
  let c0_i32_2627 : BitVec 32 := 0#32
  let v4709 : BitVec 1 := Scalar.cmpi .ne v4708 c0_i32_2627
  let v4710 : BitVec 1 := Scalar.andi v4707 v4709
  let v4696 : BitVec 32 := Scalar.divsi v4695 c128_i32_2622
  let c1_i32_2628 : BitVec 32 := 1#32
  let v4711 : BitVec 32 := Scalar.subi v4696 c1_i32_2628
  let v4712 : BitVec 32 := Scalar.select v4710 v4711 v4696
  let c128_i32_2629 : BitVec 32 := 128#32
  let v4713 : BitVec 32 := Scalar.muli v4712 c128_i32_2629
  let v4714 : BitVec 32 := Scalar.maxsi c0_i32_2630 v4713
  let v4715 : BitVec 32 := Scalar.minsi c99872_i32_2631 v4714
  v4715

def k1_off180 (v4695 : BitVec 32) : Fin 2 → Nat :=
  let c51_i32_2633 : BitVec 32 := 51#32
  let c99872_i32_2631 : BitVec 32 := 99872#32
  let c0_i32_2630 : BitVec 32 := 0#32
  let c0_i32_2623 : BitVec 32 := 0#32
  let v4697 : BitVec 1 := Scalar.cmpi .sgt v4695 c0_i32_2623
  let v4698 : BitVec 32 := Scalar.extui v4697
  let c0_i32_2624 : BitVec 32 := 0#32
  let v4699 : BitVec 1 := Scalar.cmpi .slt v4695 c0_i32_2624
  let v4700 : BitVec 32 := Scalar.extui v4699
  let v4701 : BitVec 32 := Scalar.subi v4698 v4700
  let c128_i32_2622 : BitVec 32 := 128#32
  let c0_i32_2625 : BitVec 32 := 0#32
  let v4702 : BitVec 1 := Scalar.cmpi .sgt c128_i32_2622 c0_i32_2625
  let v4703 : BitVec 32 := Scalar.extui v4702
  let c0_i32_2626 : BitVec 32 := 0#32
  let v4704 : BitVec 1 := Scalar.cmpi .slt c128_i32_2622 c0_i32_2626
  let v4705 : BitVec 32 := Scalar.extui v4704
  let v4706 : BitVec 32 := Scalar.subi v4703 v4705
  let v4707 : BitVec 1 := Scalar.cmpi .ne v4701 v4706
  let v4708 : BitVec 32 := Scalar.remsi v4695 c128_i32_2622
  let c0_i32_2627 : BitVec 32 := 0#32
  let v4709 : BitVec 1 := Scalar.cmpi .ne v4708 c0_i32_2627
  let v4710 : BitVec 1 := Scalar.andi v4707 v4709
  let v4696 : BitVec 32 := Scalar.divsi v4695 c128_i32_2622
  let c1_i32_2628 : BitVec 32 := 1#32
  let v4711 : BitVec 32 := Scalar.subi v4696 c1_i32_2628
  let v4712 : BitVec 32 := Scalar.select v4710 v4711 v4696
  let c128_i32_2629 : BitVec 32 := 128#32
  let v4713 : BitVec 32 := Scalar.muli v4712 c128_i32_2629
  let v4714 : BitVec 32 := Scalar.maxsi c0_i32_2630 v4713
  let v4715 : BitVec 32 := Scalar.minsi c99872_i32_2631 v4714
  let v4716 : BitVec 32 := v4715
  ![51, v4716.toNat]

def k1_chk180 (v4695 : BitVec 32) : Prop :=
  (32 ∣ (k1_mult180 v4695).toNat) ∧
  (∀ a, (k1_off180 v4695) a + S1x128.size a ≤ S128x100000.size a)
theorem k1_mult180_dvd : ∀ (v4695 : BitVec 32) (k1_hw180 : k1_chk180 v4695), 32 ∣ (k1_mult180 v4695).toNat := fun v4695 k1_hw180 => k1_hw180.1
theorem k1_off180_inb : ∀ (v4695 : BitVec 32) (k1_hw180 : k1_chk180 v4695), ∀ a, (k1_off180 v4695) a + S1x128.size a ≤ S128x100000.size a := fun v4695 k1_hw180 => k1_hw180.2

def k1_mult181 (v4721 : BitVec 32) : BitVec 32 :=
  let c99872_i32_2647 : BitVec 32 := 99872#32
  let c0_i32_2646 : BitVec 32 := 0#32
  let c0_i32_2639 : BitVec 32 := 0#32
  let v4723 : BitVec 1 := Scalar.cmpi .sgt v4721 c0_i32_2639
  let v4724 : BitVec 32 := Scalar.extui v4723
  let c0_i32_2640 : BitVec 32 := 0#32
  let v4725 : BitVec 1 := Scalar.cmpi .slt v4721 c0_i32_2640
  let v4726 : BitVec 32 := Scalar.extui v4725
  let v4727 : BitVec 32 := Scalar.subi v4724 v4726
  let c128_i32_2638 : BitVec 32 := 128#32
  let c0_i32_2641 : BitVec 32 := 0#32
  let v4728 : BitVec 1 := Scalar.cmpi .sgt c128_i32_2638 c0_i32_2641
  let v4729 : BitVec 32 := Scalar.extui v4728
  let c0_i32_2642 : BitVec 32 := 0#32
  let v4730 : BitVec 1 := Scalar.cmpi .slt c128_i32_2638 c0_i32_2642
  let v4731 : BitVec 32 := Scalar.extui v4730
  let v4732 : BitVec 32 := Scalar.subi v4729 v4731
  let v4733 : BitVec 1 := Scalar.cmpi .ne v4727 v4732
  let v4734 : BitVec 32 := Scalar.remsi v4721 c128_i32_2638
  let c0_i32_2643 : BitVec 32 := 0#32
  let v4735 : BitVec 1 := Scalar.cmpi .ne v4734 c0_i32_2643
  let v4736 : BitVec 1 := Scalar.andi v4733 v4735
  let v4722 : BitVec 32 := Scalar.divsi v4721 c128_i32_2638
  let c1_i32_2644 : BitVec 32 := 1#32
  let v4737 : BitVec 32 := Scalar.subi v4722 c1_i32_2644
  let v4738 : BitVec 32 := Scalar.select v4736 v4737 v4722
  let c128_i32_2645 : BitVec 32 := 128#32
  let v4739 : BitVec 32 := Scalar.muli v4738 c128_i32_2645
  let v4740 : BitVec 32 := Scalar.maxsi c0_i32_2646 v4739
  let v4741 : BitVec 32 := Scalar.minsi c99872_i32_2647 v4740
  v4741

def k1_off181 (v4721 : BitVec 32) : Fin 2 → Nat :=
  let c52_i32_2649 : BitVec 32 := 52#32
  let c99872_i32_2647 : BitVec 32 := 99872#32
  let c0_i32_2646 : BitVec 32 := 0#32
  let c0_i32_2639 : BitVec 32 := 0#32
  let v4723 : BitVec 1 := Scalar.cmpi .sgt v4721 c0_i32_2639
  let v4724 : BitVec 32 := Scalar.extui v4723
  let c0_i32_2640 : BitVec 32 := 0#32
  let v4725 : BitVec 1 := Scalar.cmpi .slt v4721 c0_i32_2640
  let v4726 : BitVec 32 := Scalar.extui v4725
  let v4727 : BitVec 32 := Scalar.subi v4724 v4726
  let c128_i32_2638 : BitVec 32 := 128#32
  let c0_i32_2641 : BitVec 32 := 0#32
  let v4728 : BitVec 1 := Scalar.cmpi .sgt c128_i32_2638 c0_i32_2641
  let v4729 : BitVec 32 := Scalar.extui v4728
  let c0_i32_2642 : BitVec 32 := 0#32
  let v4730 : BitVec 1 := Scalar.cmpi .slt c128_i32_2638 c0_i32_2642
  let v4731 : BitVec 32 := Scalar.extui v4730
  let v4732 : BitVec 32 := Scalar.subi v4729 v4731
  let v4733 : BitVec 1 := Scalar.cmpi .ne v4727 v4732
  let v4734 : BitVec 32 := Scalar.remsi v4721 c128_i32_2638
  let c0_i32_2643 : BitVec 32 := 0#32
  let v4735 : BitVec 1 := Scalar.cmpi .ne v4734 c0_i32_2643
  let v4736 : BitVec 1 := Scalar.andi v4733 v4735
  let v4722 : BitVec 32 := Scalar.divsi v4721 c128_i32_2638
  let c1_i32_2644 : BitVec 32 := 1#32
  let v4737 : BitVec 32 := Scalar.subi v4722 c1_i32_2644
  let v4738 : BitVec 32 := Scalar.select v4736 v4737 v4722
  let c128_i32_2645 : BitVec 32 := 128#32
  let v4739 : BitVec 32 := Scalar.muli v4738 c128_i32_2645
  let v4740 : BitVec 32 := Scalar.maxsi c0_i32_2646 v4739
  let v4741 : BitVec 32 := Scalar.minsi c99872_i32_2647 v4740
  let v4742 : BitVec 32 := v4741
  ![52, v4742.toNat]

def k1_chk181 (v4721 : BitVec 32) : Prop :=
  (32 ∣ (k1_mult181 v4721).toNat) ∧
  (∀ a, (k1_off181 v4721) a + S1x128.size a ≤ S128x100000.size a)
theorem k1_mult181_dvd : ∀ (v4721 : BitVec 32) (k1_hw181 : k1_chk181 v4721), 32 ∣ (k1_mult181 v4721).toNat := fun v4721 k1_hw181 => k1_hw181.1
theorem k1_off181_inb : ∀ (v4721 : BitVec 32) (k1_hw181 : k1_chk181 v4721), ∀ a, (k1_off181 v4721) a + S1x128.size a ≤ S128x100000.size a := fun v4721 k1_hw181 => k1_hw181.2

def k1_mult182 (v4747 : BitVec 32) : BitVec 32 :=
  let c99872_i32_2663 : BitVec 32 := 99872#32
  let c0_i32_2662 : BitVec 32 := 0#32
  let c0_i32_2655 : BitVec 32 := 0#32
  let v4749 : BitVec 1 := Scalar.cmpi .sgt v4747 c0_i32_2655
  let v4750 : BitVec 32 := Scalar.extui v4749
  let c0_i32_2656 : BitVec 32 := 0#32
  let v4751 : BitVec 1 := Scalar.cmpi .slt v4747 c0_i32_2656
  let v4752 : BitVec 32 := Scalar.extui v4751
  let v4753 : BitVec 32 := Scalar.subi v4750 v4752
  let c128_i32_2654 : BitVec 32 := 128#32
  let c0_i32_2657 : BitVec 32 := 0#32
  let v4754 : BitVec 1 := Scalar.cmpi .sgt c128_i32_2654 c0_i32_2657
  let v4755 : BitVec 32 := Scalar.extui v4754
  let c0_i32_2658 : BitVec 32 := 0#32
  let v4756 : BitVec 1 := Scalar.cmpi .slt c128_i32_2654 c0_i32_2658
  let v4757 : BitVec 32 := Scalar.extui v4756
  let v4758 : BitVec 32 := Scalar.subi v4755 v4757
  let v4759 : BitVec 1 := Scalar.cmpi .ne v4753 v4758
  let v4760 : BitVec 32 := Scalar.remsi v4747 c128_i32_2654
  let c0_i32_2659 : BitVec 32 := 0#32
  let v4761 : BitVec 1 := Scalar.cmpi .ne v4760 c0_i32_2659
  let v4762 : BitVec 1 := Scalar.andi v4759 v4761
  let v4748 : BitVec 32 := Scalar.divsi v4747 c128_i32_2654
  let c1_i32_2660 : BitVec 32 := 1#32
  let v4763 : BitVec 32 := Scalar.subi v4748 c1_i32_2660
  let v4764 : BitVec 32 := Scalar.select v4762 v4763 v4748
  let c128_i32_2661 : BitVec 32 := 128#32
  let v4765 : BitVec 32 := Scalar.muli v4764 c128_i32_2661
  let v4766 : BitVec 32 := Scalar.maxsi c0_i32_2662 v4765
  let v4767 : BitVec 32 := Scalar.minsi c99872_i32_2663 v4766
  v4767

def k1_off182 (v4747 : BitVec 32) : Fin 2 → Nat :=
  let c53_i32_2665 : BitVec 32 := 53#32
  let c99872_i32_2663 : BitVec 32 := 99872#32
  let c0_i32_2662 : BitVec 32 := 0#32
  let c0_i32_2655 : BitVec 32 := 0#32
  let v4749 : BitVec 1 := Scalar.cmpi .sgt v4747 c0_i32_2655
  let v4750 : BitVec 32 := Scalar.extui v4749
  let c0_i32_2656 : BitVec 32 := 0#32
  let v4751 : BitVec 1 := Scalar.cmpi .slt v4747 c0_i32_2656
  let v4752 : BitVec 32 := Scalar.extui v4751
  let v4753 : BitVec 32 := Scalar.subi v4750 v4752
  let c128_i32_2654 : BitVec 32 := 128#32
  let c0_i32_2657 : BitVec 32 := 0#32
  let v4754 : BitVec 1 := Scalar.cmpi .sgt c128_i32_2654 c0_i32_2657
  let v4755 : BitVec 32 := Scalar.extui v4754
  let c0_i32_2658 : BitVec 32 := 0#32
  let v4756 : BitVec 1 := Scalar.cmpi .slt c128_i32_2654 c0_i32_2658
  let v4757 : BitVec 32 := Scalar.extui v4756
  let v4758 : BitVec 32 := Scalar.subi v4755 v4757
  let v4759 : BitVec 1 := Scalar.cmpi .ne v4753 v4758
  let v4760 : BitVec 32 := Scalar.remsi v4747 c128_i32_2654
  let c0_i32_2659 : BitVec 32 := 0#32
  let v4761 : BitVec 1 := Scalar.cmpi .ne v4760 c0_i32_2659
  let v4762 : BitVec 1 := Scalar.andi v4759 v4761
  let v4748 : BitVec 32 := Scalar.divsi v4747 c128_i32_2654
  let c1_i32_2660 : BitVec 32 := 1#32
  let v4763 : BitVec 32 := Scalar.subi v4748 c1_i32_2660
  let v4764 : BitVec 32 := Scalar.select v4762 v4763 v4748
  let c128_i32_2661 : BitVec 32 := 128#32
  let v4765 : BitVec 32 := Scalar.muli v4764 c128_i32_2661
  let v4766 : BitVec 32 := Scalar.maxsi c0_i32_2662 v4765
  let v4767 : BitVec 32 := Scalar.minsi c99872_i32_2663 v4766
  let v4768 : BitVec 32 := v4767
  ![53, v4768.toNat]

def k1_chk182 (v4747 : BitVec 32) : Prop :=
  (32 ∣ (k1_mult182 v4747).toNat) ∧
  (∀ a, (k1_off182 v4747) a + S1x128.size a ≤ S128x100000.size a)
theorem k1_mult182_dvd : ∀ (v4747 : BitVec 32) (k1_hw182 : k1_chk182 v4747), 32 ∣ (k1_mult182 v4747).toNat := fun v4747 k1_hw182 => k1_hw182.1
theorem k1_off182_inb : ∀ (v4747 : BitVec 32) (k1_hw182 : k1_chk182 v4747), ∀ a, (k1_off182 v4747) a + S1x128.size a ≤ S128x100000.size a := fun v4747 k1_hw182 => k1_hw182.2

def k1_mult183 (v4773 : BitVec 32) : BitVec 32 :=
  let c99872_i32_2679 : BitVec 32 := 99872#32
  let c0_i32_2678 : BitVec 32 := 0#32
  let c0_i32_2671 : BitVec 32 := 0#32
  let v4775 : BitVec 1 := Scalar.cmpi .sgt v4773 c0_i32_2671
  let v4776 : BitVec 32 := Scalar.extui v4775
  let c0_i32_2672 : BitVec 32 := 0#32
  let v4777 : BitVec 1 := Scalar.cmpi .slt v4773 c0_i32_2672
  let v4778 : BitVec 32 := Scalar.extui v4777
  let v4779 : BitVec 32 := Scalar.subi v4776 v4778
  let c128_i32_2670 : BitVec 32 := 128#32
  let c0_i32_2673 : BitVec 32 := 0#32
  let v4780 : BitVec 1 := Scalar.cmpi .sgt c128_i32_2670 c0_i32_2673
  let v4781 : BitVec 32 := Scalar.extui v4780
  let c0_i32_2674 : BitVec 32 := 0#32
  let v4782 : BitVec 1 := Scalar.cmpi .slt c128_i32_2670 c0_i32_2674
  let v4783 : BitVec 32 := Scalar.extui v4782
  let v4784 : BitVec 32 := Scalar.subi v4781 v4783
  let v4785 : BitVec 1 := Scalar.cmpi .ne v4779 v4784
  let v4786 : BitVec 32 := Scalar.remsi v4773 c128_i32_2670
  let c0_i32_2675 : BitVec 32 := 0#32
  let v4787 : BitVec 1 := Scalar.cmpi .ne v4786 c0_i32_2675
  let v4788 : BitVec 1 := Scalar.andi v4785 v4787
  let v4774 : BitVec 32 := Scalar.divsi v4773 c128_i32_2670
  let c1_i32_2676 : BitVec 32 := 1#32
  let v4789 : BitVec 32 := Scalar.subi v4774 c1_i32_2676
  let v4790 : BitVec 32 := Scalar.select v4788 v4789 v4774
  let c128_i32_2677 : BitVec 32 := 128#32
  let v4791 : BitVec 32 := Scalar.muli v4790 c128_i32_2677
  let v4792 : BitVec 32 := Scalar.maxsi c0_i32_2678 v4791
  let v4793 : BitVec 32 := Scalar.minsi c99872_i32_2679 v4792
  v4793

def k1_off183 (v4773 : BitVec 32) : Fin 2 → Nat :=
  let c54_i32_2681 : BitVec 32 := 54#32
  let c99872_i32_2679 : BitVec 32 := 99872#32
  let c0_i32_2678 : BitVec 32 := 0#32
  let c0_i32_2671 : BitVec 32 := 0#32
  let v4775 : BitVec 1 := Scalar.cmpi .sgt v4773 c0_i32_2671
  let v4776 : BitVec 32 := Scalar.extui v4775
  let c0_i32_2672 : BitVec 32 := 0#32
  let v4777 : BitVec 1 := Scalar.cmpi .slt v4773 c0_i32_2672
  let v4778 : BitVec 32 := Scalar.extui v4777
  let v4779 : BitVec 32 := Scalar.subi v4776 v4778
  let c128_i32_2670 : BitVec 32 := 128#32
  let c0_i32_2673 : BitVec 32 := 0#32
  let v4780 : BitVec 1 := Scalar.cmpi .sgt c128_i32_2670 c0_i32_2673
  let v4781 : BitVec 32 := Scalar.extui v4780
  let c0_i32_2674 : BitVec 32 := 0#32
  let v4782 : BitVec 1 := Scalar.cmpi .slt c128_i32_2670 c0_i32_2674
  let v4783 : BitVec 32 := Scalar.extui v4782
  let v4784 : BitVec 32 := Scalar.subi v4781 v4783
  let v4785 : BitVec 1 := Scalar.cmpi .ne v4779 v4784
  let v4786 : BitVec 32 := Scalar.remsi v4773 c128_i32_2670
  let c0_i32_2675 : BitVec 32 := 0#32
  let v4787 : BitVec 1 := Scalar.cmpi .ne v4786 c0_i32_2675
  let v4788 : BitVec 1 := Scalar.andi v4785 v4787
  let v4774 : BitVec 32 := Scalar.divsi v4773 c128_i32_2670
  let c1_i32_2676 : BitVec 32 := 1#32
  let v4789 : BitVec 32 := Scalar.subi v4774 c1_i32_2676
  let v4790 : BitVec 32 := Scalar.select v4788 v4789 v4774
  let c128_i32_2677 : BitVec 32 := 128#32
  let v4791 : BitVec 32 := Scalar.muli v4790 c128_i32_2677
  let v4792 : BitVec 32 := Scalar.maxsi c0_i32_2678 v4791
  let v4793 : BitVec 32 := Scalar.minsi c99872_i32_2679 v4792
  let v4794 : BitVec 32 := v4793
  ![54, v4794.toNat]

def k1_chk183 (v4773 : BitVec 32) : Prop :=
  (32 ∣ (k1_mult183 v4773).toNat) ∧
  (∀ a, (k1_off183 v4773) a + S1x128.size a ≤ S128x100000.size a)
theorem k1_mult183_dvd : ∀ (v4773 : BitVec 32) (k1_hw183 : k1_chk183 v4773), 32 ∣ (k1_mult183 v4773).toNat := fun v4773 k1_hw183 => k1_hw183.1
theorem k1_off183_inb : ∀ (v4773 : BitVec 32) (k1_hw183 : k1_chk183 v4773), ∀ a, (k1_off183 v4773) a + S1x128.size a ≤ S128x100000.size a := fun v4773 k1_hw183 => k1_hw183.2

def k1_mult184 (v4799 : BitVec 32) : BitVec 32 :=
  let c99872_i32_2695 : BitVec 32 := 99872#32
  let c0_i32_2694 : BitVec 32 := 0#32
  let c0_i32_2687 : BitVec 32 := 0#32
  let v4801 : BitVec 1 := Scalar.cmpi .sgt v4799 c0_i32_2687
  let v4802 : BitVec 32 := Scalar.extui v4801
  let c0_i32_2688 : BitVec 32 := 0#32
  let v4803 : BitVec 1 := Scalar.cmpi .slt v4799 c0_i32_2688
  let v4804 : BitVec 32 := Scalar.extui v4803
  let v4805 : BitVec 32 := Scalar.subi v4802 v4804
  let c128_i32_2686 : BitVec 32 := 128#32
  let c0_i32_2689 : BitVec 32 := 0#32
  let v4806 : BitVec 1 := Scalar.cmpi .sgt c128_i32_2686 c0_i32_2689
  let v4807 : BitVec 32 := Scalar.extui v4806
  let c0_i32_2690 : BitVec 32 := 0#32
  let v4808 : BitVec 1 := Scalar.cmpi .slt c128_i32_2686 c0_i32_2690
  let v4809 : BitVec 32 := Scalar.extui v4808
  let v4810 : BitVec 32 := Scalar.subi v4807 v4809
  let v4811 : BitVec 1 := Scalar.cmpi .ne v4805 v4810
  let v4812 : BitVec 32 := Scalar.remsi v4799 c128_i32_2686
  let c0_i32_2691 : BitVec 32 := 0#32
  let v4813 : BitVec 1 := Scalar.cmpi .ne v4812 c0_i32_2691
  let v4814 : BitVec 1 := Scalar.andi v4811 v4813
  let v4800 : BitVec 32 := Scalar.divsi v4799 c128_i32_2686
  let c1_i32_2692 : BitVec 32 := 1#32
  let v4815 : BitVec 32 := Scalar.subi v4800 c1_i32_2692
  let v4816 : BitVec 32 := Scalar.select v4814 v4815 v4800
  let c128_i32_2693 : BitVec 32 := 128#32
  let v4817 : BitVec 32 := Scalar.muli v4816 c128_i32_2693
  let v4818 : BitVec 32 := Scalar.maxsi c0_i32_2694 v4817
  let v4819 : BitVec 32 := Scalar.minsi c99872_i32_2695 v4818
  v4819

def k1_off184 (v4799 : BitVec 32) : Fin 2 → Nat :=
  let c55_i32_2697 : BitVec 32 := 55#32
  let c99872_i32_2695 : BitVec 32 := 99872#32
  let c0_i32_2694 : BitVec 32 := 0#32
  let c0_i32_2687 : BitVec 32 := 0#32
  let v4801 : BitVec 1 := Scalar.cmpi .sgt v4799 c0_i32_2687
  let v4802 : BitVec 32 := Scalar.extui v4801
  let c0_i32_2688 : BitVec 32 := 0#32
  let v4803 : BitVec 1 := Scalar.cmpi .slt v4799 c0_i32_2688
  let v4804 : BitVec 32 := Scalar.extui v4803
  let v4805 : BitVec 32 := Scalar.subi v4802 v4804
  let c128_i32_2686 : BitVec 32 := 128#32
  let c0_i32_2689 : BitVec 32 := 0#32
  let v4806 : BitVec 1 := Scalar.cmpi .sgt c128_i32_2686 c0_i32_2689
  let v4807 : BitVec 32 := Scalar.extui v4806
  let c0_i32_2690 : BitVec 32 := 0#32
  let v4808 : BitVec 1 := Scalar.cmpi .slt c128_i32_2686 c0_i32_2690
  let v4809 : BitVec 32 := Scalar.extui v4808
  let v4810 : BitVec 32 := Scalar.subi v4807 v4809
  let v4811 : BitVec 1 := Scalar.cmpi .ne v4805 v4810
  let v4812 : BitVec 32 := Scalar.remsi v4799 c128_i32_2686
  let c0_i32_2691 : BitVec 32 := 0#32
  let v4813 : BitVec 1 := Scalar.cmpi .ne v4812 c0_i32_2691
  let v4814 : BitVec 1 := Scalar.andi v4811 v4813
  let v4800 : BitVec 32 := Scalar.divsi v4799 c128_i32_2686
  let c1_i32_2692 : BitVec 32 := 1#32
  let v4815 : BitVec 32 := Scalar.subi v4800 c1_i32_2692
  let v4816 : BitVec 32 := Scalar.select v4814 v4815 v4800
  let c128_i32_2693 : BitVec 32 := 128#32
  let v4817 : BitVec 32 := Scalar.muli v4816 c128_i32_2693
  let v4818 : BitVec 32 := Scalar.maxsi c0_i32_2694 v4817
  let v4819 : BitVec 32 := Scalar.minsi c99872_i32_2695 v4818
  let v4820 : BitVec 32 := v4819
  ![55, v4820.toNat]

def k1_chk184 (v4799 : BitVec 32) : Prop :=
  (32 ∣ (k1_mult184 v4799).toNat) ∧
  (∀ a, (k1_off184 v4799) a + S1x128.size a ≤ S128x100000.size a)
theorem k1_mult184_dvd : ∀ (v4799 : BitVec 32) (k1_hw184 : k1_chk184 v4799), 32 ∣ (k1_mult184 v4799).toNat := fun v4799 k1_hw184 => k1_hw184.1
theorem k1_off184_inb : ∀ (v4799 : BitVec 32) (k1_hw184 : k1_chk184 v4799), ∀ a, (k1_off184 v4799) a + S1x128.size a ≤ S128x100000.size a := fun v4799 k1_hw184 => k1_hw184.2

def k1_mult185 (v4825 : BitVec 32) : BitVec 32 :=
  let c99872_i32_2711 : BitVec 32 := 99872#32
  let c0_i32_2710 : BitVec 32 := 0#32
  let c0_i32_2703 : BitVec 32 := 0#32
  let v4827 : BitVec 1 := Scalar.cmpi .sgt v4825 c0_i32_2703
  let v4828 : BitVec 32 := Scalar.extui v4827
  let c0_i32_2704 : BitVec 32 := 0#32
  let v4829 : BitVec 1 := Scalar.cmpi .slt v4825 c0_i32_2704
  let v4830 : BitVec 32 := Scalar.extui v4829
  let v4831 : BitVec 32 := Scalar.subi v4828 v4830
  let c128_i32_2702 : BitVec 32 := 128#32
  let c0_i32_2705 : BitVec 32 := 0#32
  let v4832 : BitVec 1 := Scalar.cmpi .sgt c128_i32_2702 c0_i32_2705
  let v4833 : BitVec 32 := Scalar.extui v4832
  let c0_i32_2706 : BitVec 32 := 0#32
  let v4834 : BitVec 1 := Scalar.cmpi .slt c128_i32_2702 c0_i32_2706
  let v4835 : BitVec 32 := Scalar.extui v4834
  let v4836 : BitVec 32 := Scalar.subi v4833 v4835
  let v4837 : BitVec 1 := Scalar.cmpi .ne v4831 v4836
  let v4838 : BitVec 32 := Scalar.remsi v4825 c128_i32_2702
  let c0_i32_2707 : BitVec 32 := 0#32
  let v4839 : BitVec 1 := Scalar.cmpi .ne v4838 c0_i32_2707
  let v4840 : BitVec 1 := Scalar.andi v4837 v4839
  let v4826 : BitVec 32 := Scalar.divsi v4825 c128_i32_2702
  let c1_i32_2708 : BitVec 32 := 1#32
  let v4841 : BitVec 32 := Scalar.subi v4826 c1_i32_2708
  let v4842 : BitVec 32 := Scalar.select v4840 v4841 v4826
  let c128_i32_2709 : BitVec 32 := 128#32
  let v4843 : BitVec 32 := Scalar.muli v4842 c128_i32_2709
  let v4844 : BitVec 32 := Scalar.maxsi c0_i32_2710 v4843
  let v4845 : BitVec 32 := Scalar.minsi c99872_i32_2711 v4844
  v4845

def k1_off185 (v4825 : BitVec 32) : Fin 2 → Nat :=
  let c56_i32_2713 : BitVec 32 := 56#32
  let c99872_i32_2711 : BitVec 32 := 99872#32
  let c0_i32_2710 : BitVec 32 := 0#32
  let c0_i32_2703 : BitVec 32 := 0#32
  let v4827 : BitVec 1 := Scalar.cmpi .sgt v4825 c0_i32_2703
  let v4828 : BitVec 32 := Scalar.extui v4827
  let c0_i32_2704 : BitVec 32 := 0#32
  let v4829 : BitVec 1 := Scalar.cmpi .slt v4825 c0_i32_2704
  let v4830 : BitVec 32 := Scalar.extui v4829
  let v4831 : BitVec 32 := Scalar.subi v4828 v4830
  let c128_i32_2702 : BitVec 32 := 128#32
  let c0_i32_2705 : BitVec 32 := 0#32
  let v4832 : BitVec 1 := Scalar.cmpi .sgt c128_i32_2702 c0_i32_2705
  let v4833 : BitVec 32 := Scalar.extui v4832
  let c0_i32_2706 : BitVec 32 := 0#32
  let v4834 : BitVec 1 := Scalar.cmpi .slt c128_i32_2702 c0_i32_2706
  let v4835 : BitVec 32 := Scalar.extui v4834
  let v4836 : BitVec 32 := Scalar.subi v4833 v4835
  let v4837 : BitVec 1 := Scalar.cmpi .ne v4831 v4836
  let v4838 : BitVec 32 := Scalar.remsi v4825 c128_i32_2702
  let c0_i32_2707 : BitVec 32 := 0#32
  let v4839 : BitVec 1 := Scalar.cmpi .ne v4838 c0_i32_2707
  let v4840 : BitVec 1 := Scalar.andi v4837 v4839
  let v4826 : BitVec 32 := Scalar.divsi v4825 c128_i32_2702
  let c1_i32_2708 : BitVec 32 := 1#32
  let v4841 : BitVec 32 := Scalar.subi v4826 c1_i32_2708
  let v4842 : BitVec 32 := Scalar.select v4840 v4841 v4826
  let c128_i32_2709 : BitVec 32 := 128#32
  let v4843 : BitVec 32 := Scalar.muli v4842 c128_i32_2709
  let v4844 : BitVec 32 := Scalar.maxsi c0_i32_2710 v4843
  let v4845 : BitVec 32 := Scalar.minsi c99872_i32_2711 v4844
  let v4846 : BitVec 32 := v4845
  ![56, v4846.toNat]

def k1_chk185 (v4825 : BitVec 32) : Prop :=
  (32 ∣ (k1_mult185 v4825).toNat) ∧
  (∀ a, (k1_off185 v4825) a + S1x128.size a ≤ S128x100000.size a)
theorem k1_mult185_dvd : ∀ (v4825 : BitVec 32) (k1_hw185 : k1_chk185 v4825), 32 ∣ (k1_mult185 v4825).toNat := fun v4825 k1_hw185 => k1_hw185.1
theorem k1_off185_inb : ∀ (v4825 : BitVec 32) (k1_hw185 : k1_chk185 v4825), ∀ a, (k1_off185 v4825) a + S1x128.size a ≤ S128x100000.size a := fun v4825 k1_hw185 => k1_hw185.2

def k1_mult186 (v4851 : BitVec 32) : BitVec 32 :=
  let c99872_i32_2727 : BitVec 32 := 99872#32
  let c0_i32_2726 : BitVec 32 := 0#32
  let c0_i32_2719 : BitVec 32 := 0#32
  let v4853 : BitVec 1 := Scalar.cmpi .sgt v4851 c0_i32_2719
  let v4854 : BitVec 32 := Scalar.extui v4853
  let c0_i32_2720 : BitVec 32 := 0#32
  let v4855 : BitVec 1 := Scalar.cmpi .slt v4851 c0_i32_2720
  let v4856 : BitVec 32 := Scalar.extui v4855
  let v4857 : BitVec 32 := Scalar.subi v4854 v4856
  let c128_i32_2718 : BitVec 32 := 128#32
  let c0_i32_2721 : BitVec 32 := 0#32
  let v4858 : BitVec 1 := Scalar.cmpi .sgt c128_i32_2718 c0_i32_2721
  let v4859 : BitVec 32 := Scalar.extui v4858
  let c0_i32_2722 : BitVec 32 := 0#32
  let v4860 : BitVec 1 := Scalar.cmpi .slt c128_i32_2718 c0_i32_2722
  let v4861 : BitVec 32 := Scalar.extui v4860
  let v4862 : BitVec 32 := Scalar.subi v4859 v4861
  let v4863 : BitVec 1 := Scalar.cmpi .ne v4857 v4862
  let v4864 : BitVec 32 := Scalar.remsi v4851 c128_i32_2718
  let c0_i32_2723 : BitVec 32 := 0#32
  let v4865 : BitVec 1 := Scalar.cmpi .ne v4864 c0_i32_2723
  let v4866 : BitVec 1 := Scalar.andi v4863 v4865
  let v4852 : BitVec 32 := Scalar.divsi v4851 c128_i32_2718
  let c1_i32_2724 : BitVec 32 := 1#32
  let v4867 : BitVec 32 := Scalar.subi v4852 c1_i32_2724
  let v4868 : BitVec 32 := Scalar.select v4866 v4867 v4852
  let c128_i32_2725 : BitVec 32 := 128#32
  let v4869 : BitVec 32 := Scalar.muli v4868 c128_i32_2725
  let v4870 : BitVec 32 := Scalar.maxsi c0_i32_2726 v4869
  let v4871 : BitVec 32 := Scalar.minsi c99872_i32_2727 v4870
  v4871

def k1_off186 (v4851 : BitVec 32) : Fin 2 → Nat :=
  let c57_i32_2729 : BitVec 32 := 57#32
  let c99872_i32_2727 : BitVec 32 := 99872#32
  let c0_i32_2726 : BitVec 32 := 0#32
  let c0_i32_2719 : BitVec 32 := 0#32
  let v4853 : BitVec 1 := Scalar.cmpi .sgt v4851 c0_i32_2719
  let v4854 : BitVec 32 := Scalar.extui v4853
  let c0_i32_2720 : BitVec 32 := 0#32
  let v4855 : BitVec 1 := Scalar.cmpi .slt v4851 c0_i32_2720
  let v4856 : BitVec 32 := Scalar.extui v4855
  let v4857 : BitVec 32 := Scalar.subi v4854 v4856
  let c128_i32_2718 : BitVec 32 := 128#32
  let c0_i32_2721 : BitVec 32 := 0#32
  let v4858 : BitVec 1 := Scalar.cmpi .sgt c128_i32_2718 c0_i32_2721
  let v4859 : BitVec 32 := Scalar.extui v4858
  let c0_i32_2722 : BitVec 32 := 0#32
  let v4860 : BitVec 1 := Scalar.cmpi .slt c128_i32_2718 c0_i32_2722
  let v4861 : BitVec 32 := Scalar.extui v4860
  let v4862 : BitVec 32 := Scalar.subi v4859 v4861
  let v4863 : BitVec 1 := Scalar.cmpi .ne v4857 v4862
  let v4864 : BitVec 32 := Scalar.remsi v4851 c128_i32_2718
  let c0_i32_2723 : BitVec 32 := 0#32
  let v4865 : BitVec 1 := Scalar.cmpi .ne v4864 c0_i32_2723
  let v4866 : BitVec 1 := Scalar.andi v4863 v4865
  let v4852 : BitVec 32 := Scalar.divsi v4851 c128_i32_2718
  let c1_i32_2724 : BitVec 32 := 1#32
  let v4867 : BitVec 32 := Scalar.subi v4852 c1_i32_2724
  let v4868 : BitVec 32 := Scalar.select v4866 v4867 v4852
  let c128_i32_2725 : BitVec 32 := 128#32
  let v4869 : BitVec 32 := Scalar.muli v4868 c128_i32_2725
  let v4870 : BitVec 32 := Scalar.maxsi c0_i32_2726 v4869
  let v4871 : BitVec 32 := Scalar.minsi c99872_i32_2727 v4870
  let v4872 : BitVec 32 := v4871
  ![57, v4872.toNat]

def k1_chk186 (v4851 : BitVec 32) : Prop :=
  (32 ∣ (k1_mult186 v4851).toNat) ∧
  (∀ a, (k1_off186 v4851) a + S1x128.size a ≤ S128x100000.size a)
theorem k1_mult186_dvd : ∀ (v4851 : BitVec 32) (k1_hw186 : k1_chk186 v4851), 32 ∣ (k1_mult186 v4851).toNat := fun v4851 k1_hw186 => k1_hw186.1
theorem k1_off186_inb : ∀ (v4851 : BitVec 32) (k1_hw186 : k1_chk186 v4851), ∀ a, (k1_off186 v4851) a + S1x128.size a ≤ S128x100000.size a := fun v4851 k1_hw186 => k1_hw186.2

def k1_mult187 (v4877 : BitVec 32) : BitVec 32 :=
  let c99872_i32_2743 : BitVec 32 := 99872#32
  let c0_i32_2742 : BitVec 32 := 0#32
  let c0_i32_2735 : BitVec 32 := 0#32
  let v4879 : BitVec 1 := Scalar.cmpi .sgt v4877 c0_i32_2735
  let v4880 : BitVec 32 := Scalar.extui v4879
  let c0_i32_2736 : BitVec 32 := 0#32
  let v4881 : BitVec 1 := Scalar.cmpi .slt v4877 c0_i32_2736
  let v4882 : BitVec 32 := Scalar.extui v4881
  let v4883 : BitVec 32 := Scalar.subi v4880 v4882
  let c128_i32_2734 : BitVec 32 := 128#32
  let c0_i32_2737 : BitVec 32 := 0#32
  let v4884 : BitVec 1 := Scalar.cmpi .sgt c128_i32_2734 c0_i32_2737
  let v4885 : BitVec 32 := Scalar.extui v4884
  let c0_i32_2738 : BitVec 32 := 0#32
  let v4886 : BitVec 1 := Scalar.cmpi .slt c128_i32_2734 c0_i32_2738
  let v4887 : BitVec 32 := Scalar.extui v4886
  let v4888 : BitVec 32 := Scalar.subi v4885 v4887
  let v4889 : BitVec 1 := Scalar.cmpi .ne v4883 v4888
  let v4890 : BitVec 32 := Scalar.remsi v4877 c128_i32_2734
  let c0_i32_2739 : BitVec 32 := 0#32
  let v4891 : BitVec 1 := Scalar.cmpi .ne v4890 c0_i32_2739
  let v4892 : BitVec 1 := Scalar.andi v4889 v4891
  let v4878 : BitVec 32 := Scalar.divsi v4877 c128_i32_2734
  let c1_i32_2740 : BitVec 32 := 1#32
  let v4893 : BitVec 32 := Scalar.subi v4878 c1_i32_2740
  let v4894 : BitVec 32 := Scalar.select v4892 v4893 v4878
  let c128_i32_2741 : BitVec 32 := 128#32
  let v4895 : BitVec 32 := Scalar.muli v4894 c128_i32_2741
  let v4896 : BitVec 32 := Scalar.maxsi c0_i32_2742 v4895
  let v4897 : BitVec 32 := Scalar.minsi c99872_i32_2743 v4896
  v4897

def k1_off187 (v4877 : BitVec 32) : Fin 2 → Nat :=
  let c58_i32_2745 : BitVec 32 := 58#32
  let c99872_i32_2743 : BitVec 32 := 99872#32
  let c0_i32_2742 : BitVec 32 := 0#32
  let c0_i32_2735 : BitVec 32 := 0#32
  let v4879 : BitVec 1 := Scalar.cmpi .sgt v4877 c0_i32_2735
  let v4880 : BitVec 32 := Scalar.extui v4879
  let c0_i32_2736 : BitVec 32 := 0#32
  let v4881 : BitVec 1 := Scalar.cmpi .slt v4877 c0_i32_2736
  let v4882 : BitVec 32 := Scalar.extui v4881
  let v4883 : BitVec 32 := Scalar.subi v4880 v4882
  let c128_i32_2734 : BitVec 32 := 128#32
  let c0_i32_2737 : BitVec 32 := 0#32
  let v4884 : BitVec 1 := Scalar.cmpi .sgt c128_i32_2734 c0_i32_2737
  let v4885 : BitVec 32 := Scalar.extui v4884
  let c0_i32_2738 : BitVec 32 := 0#32
  let v4886 : BitVec 1 := Scalar.cmpi .slt c128_i32_2734 c0_i32_2738
  let v4887 : BitVec 32 := Scalar.extui v4886
  let v4888 : BitVec 32 := Scalar.subi v4885 v4887
  let v4889 : BitVec 1 := Scalar.cmpi .ne v4883 v4888
  let v4890 : BitVec 32 := Scalar.remsi v4877 c128_i32_2734
  let c0_i32_2739 : BitVec 32 := 0#32
  let v4891 : BitVec 1 := Scalar.cmpi .ne v4890 c0_i32_2739
  let v4892 : BitVec 1 := Scalar.andi v4889 v4891
  let v4878 : BitVec 32 := Scalar.divsi v4877 c128_i32_2734
  let c1_i32_2740 : BitVec 32 := 1#32
  let v4893 : BitVec 32 := Scalar.subi v4878 c1_i32_2740
  let v4894 : BitVec 32 := Scalar.select v4892 v4893 v4878
  let c128_i32_2741 : BitVec 32 := 128#32
  let v4895 : BitVec 32 := Scalar.muli v4894 c128_i32_2741
  let v4896 : BitVec 32 := Scalar.maxsi c0_i32_2742 v4895
  let v4897 : BitVec 32 := Scalar.minsi c99872_i32_2743 v4896
  let v4898 : BitVec 32 := v4897
  ![58, v4898.toNat]

def k1_chk187 (v4877 : BitVec 32) : Prop :=
  (32 ∣ (k1_mult187 v4877).toNat) ∧
  (∀ a, (k1_off187 v4877) a + S1x128.size a ≤ S128x100000.size a)
theorem k1_mult187_dvd : ∀ (v4877 : BitVec 32) (k1_hw187 : k1_chk187 v4877), 32 ∣ (k1_mult187 v4877).toNat := fun v4877 k1_hw187 => k1_hw187.1
theorem k1_off187_inb : ∀ (v4877 : BitVec 32) (k1_hw187 : k1_chk187 v4877), ∀ a, (k1_off187 v4877) a + S1x128.size a ≤ S128x100000.size a := fun v4877 k1_hw187 => k1_hw187.2

def k1_mult188 (v4903 : BitVec 32) : BitVec 32 :=
  let c99872_i32_2759 : BitVec 32 := 99872#32
  let c0_i32_2758 : BitVec 32 := 0#32
  let c0_i32_2751 : BitVec 32 := 0#32
  let v4905 : BitVec 1 := Scalar.cmpi .sgt v4903 c0_i32_2751
  let v4906 : BitVec 32 := Scalar.extui v4905
  let c0_i32_2752 : BitVec 32 := 0#32
  let v4907 : BitVec 1 := Scalar.cmpi .slt v4903 c0_i32_2752
  let v4908 : BitVec 32 := Scalar.extui v4907
  let v4909 : BitVec 32 := Scalar.subi v4906 v4908
  let c128_i32_2750 : BitVec 32 := 128#32
  let c0_i32_2753 : BitVec 32 := 0#32
  let v4910 : BitVec 1 := Scalar.cmpi .sgt c128_i32_2750 c0_i32_2753
  let v4911 : BitVec 32 := Scalar.extui v4910
  let c0_i32_2754 : BitVec 32 := 0#32
  let v4912 : BitVec 1 := Scalar.cmpi .slt c128_i32_2750 c0_i32_2754
  let v4913 : BitVec 32 := Scalar.extui v4912
  let v4914 : BitVec 32 := Scalar.subi v4911 v4913
  let v4915 : BitVec 1 := Scalar.cmpi .ne v4909 v4914
  let v4916 : BitVec 32 := Scalar.remsi v4903 c128_i32_2750
  let c0_i32_2755 : BitVec 32 := 0#32
  let v4917 : BitVec 1 := Scalar.cmpi .ne v4916 c0_i32_2755
  let v4918 : BitVec 1 := Scalar.andi v4915 v4917
  let v4904 : BitVec 32 := Scalar.divsi v4903 c128_i32_2750
  let c1_i32_2756 : BitVec 32 := 1#32
  let v4919 : BitVec 32 := Scalar.subi v4904 c1_i32_2756
  let v4920 : BitVec 32 := Scalar.select v4918 v4919 v4904
  let c128_i32_2757 : BitVec 32 := 128#32
  let v4921 : BitVec 32 := Scalar.muli v4920 c128_i32_2757
  let v4922 : BitVec 32 := Scalar.maxsi c0_i32_2758 v4921
  let v4923 : BitVec 32 := Scalar.minsi c99872_i32_2759 v4922
  v4923

def k1_off188 (v4903 : BitVec 32) : Fin 2 → Nat :=
  let c59_i32_2761 : BitVec 32 := 59#32
  let c99872_i32_2759 : BitVec 32 := 99872#32
  let c0_i32_2758 : BitVec 32 := 0#32
  let c0_i32_2751 : BitVec 32 := 0#32
  let v4905 : BitVec 1 := Scalar.cmpi .sgt v4903 c0_i32_2751
  let v4906 : BitVec 32 := Scalar.extui v4905
  let c0_i32_2752 : BitVec 32 := 0#32
  let v4907 : BitVec 1 := Scalar.cmpi .slt v4903 c0_i32_2752
  let v4908 : BitVec 32 := Scalar.extui v4907
  let v4909 : BitVec 32 := Scalar.subi v4906 v4908
  let c128_i32_2750 : BitVec 32 := 128#32
  let c0_i32_2753 : BitVec 32 := 0#32
  let v4910 : BitVec 1 := Scalar.cmpi .sgt c128_i32_2750 c0_i32_2753
  let v4911 : BitVec 32 := Scalar.extui v4910
  let c0_i32_2754 : BitVec 32 := 0#32
  let v4912 : BitVec 1 := Scalar.cmpi .slt c128_i32_2750 c0_i32_2754
  let v4913 : BitVec 32 := Scalar.extui v4912
  let v4914 : BitVec 32 := Scalar.subi v4911 v4913
  let v4915 : BitVec 1 := Scalar.cmpi .ne v4909 v4914
  let v4916 : BitVec 32 := Scalar.remsi v4903 c128_i32_2750
  let c0_i32_2755 : BitVec 32 := 0#32
  let v4917 : BitVec 1 := Scalar.cmpi .ne v4916 c0_i32_2755
  let v4918 : BitVec 1 := Scalar.andi v4915 v4917
  let v4904 : BitVec 32 := Scalar.divsi v4903 c128_i32_2750
  let c1_i32_2756 : BitVec 32 := 1#32
  let v4919 : BitVec 32 := Scalar.subi v4904 c1_i32_2756
  let v4920 : BitVec 32 := Scalar.select v4918 v4919 v4904
  let c128_i32_2757 : BitVec 32 := 128#32
  let v4921 : BitVec 32 := Scalar.muli v4920 c128_i32_2757
  let v4922 : BitVec 32 := Scalar.maxsi c0_i32_2758 v4921
  let v4923 : BitVec 32 := Scalar.minsi c99872_i32_2759 v4922
  let v4924 : BitVec 32 := v4923
  ![59, v4924.toNat]

def k1_chk188 (v4903 : BitVec 32) : Prop :=
  (32 ∣ (k1_mult188 v4903).toNat) ∧
  (∀ a, (k1_off188 v4903) a + S1x128.size a ≤ S128x100000.size a)
theorem k1_mult188_dvd : ∀ (v4903 : BitVec 32) (k1_hw188 : k1_chk188 v4903), 32 ∣ (k1_mult188 v4903).toNat := fun v4903 k1_hw188 => k1_hw188.1
theorem k1_off188_inb : ∀ (v4903 : BitVec 32) (k1_hw188 : k1_chk188 v4903), ∀ a, (k1_off188 v4903) a + S1x128.size a ≤ S128x100000.size a := fun v4903 k1_hw188 => k1_hw188.2

def k1_mult189 (v4929 : BitVec 32) : BitVec 32 :=
  let c99872_i32_2775 : BitVec 32 := 99872#32
  let c0_i32_2774 : BitVec 32 := 0#32
  let c0_i32_2767 : BitVec 32 := 0#32
  let v4931 : BitVec 1 := Scalar.cmpi .sgt v4929 c0_i32_2767
  let v4932 : BitVec 32 := Scalar.extui v4931
  let c0_i32_2768 : BitVec 32 := 0#32
  let v4933 : BitVec 1 := Scalar.cmpi .slt v4929 c0_i32_2768
  let v4934 : BitVec 32 := Scalar.extui v4933
  let v4935 : BitVec 32 := Scalar.subi v4932 v4934
  let c128_i32_2766 : BitVec 32 := 128#32
  let c0_i32_2769 : BitVec 32 := 0#32
  let v4936 : BitVec 1 := Scalar.cmpi .sgt c128_i32_2766 c0_i32_2769
  let v4937 : BitVec 32 := Scalar.extui v4936
  let c0_i32_2770 : BitVec 32 := 0#32
  let v4938 : BitVec 1 := Scalar.cmpi .slt c128_i32_2766 c0_i32_2770
  let v4939 : BitVec 32 := Scalar.extui v4938
  let v4940 : BitVec 32 := Scalar.subi v4937 v4939
  let v4941 : BitVec 1 := Scalar.cmpi .ne v4935 v4940
  let v4942 : BitVec 32 := Scalar.remsi v4929 c128_i32_2766
  let c0_i32_2771 : BitVec 32 := 0#32
  let v4943 : BitVec 1 := Scalar.cmpi .ne v4942 c0_i32_2771
  let v4944 : BitVec 1 := Scalar.andi v4941 v4943
  let v4930 : BitVec 32 := Scalar.divsi v4929 c128_i32_2766
  let c1_i32_2772 : BitVec 32 := 1#32
  let v4945 : BitVec 32 := Scalar.subi v4930 c1_i32_2772
  let v4946 : BitVec 32 := Scalar.select v4944 v4945 v4930
  let c128_i32_2773 : BitVec 32 := 128#32
  let v4947 : BitVec 32 := Scalar.muli v4946 c128_i32_2773
  let v4948 : BitVec 32 := Scalar.maxsi c0_i32_2774 v4947
  let v4949 : BitVec 32 := Scalar.minsi c99872_i32_2775 v4948
  v4949

def k1_off189 (v4929 : BitVec 32) : Fin 2 → Nat :=
  let c60_i32_2777 : BitVec 32 := 60#32
  let c99872_i32_2775 : BitVec 32 := 99872#32
  let c0_i32_2774 : BitVec 32 := 0#32
  let c0_i32_2767 : BitVec 32 := 0#32
  let v4931 : BitVec 1 := Scalar.cmpi .sgt v4929 c0_i32_2767
  let v4932 : BitVec 32 := Scalar.extui v4931
  let c0_i32_2768 : BitVec 32 := 0#32
  let v4933 : BitVec 1 := Scalar.cmpi .slt v4929 c0_i32_2768
  let v4934 : BitVec 32 := Scalar.extui v4933
  let v4935 : BitVec 32 := Scalar.subi v4932 v4934
  let c128_i32_2766 : BitVec 32 := 128#32
  let c0_i32_2769 : BitVec 32 := 0#32
  let v4936 : BitVec 1 := Scalar.cmpi .sgt c128_i32_2766 c0_i32_2769
  let v4937 : BitVec 32 := Scalar.extui v4936
  let c0_i32_2770 : BitVec 32 := 0#32
  let v4938 : BitVec 1 := Scalar.cmpi .slt c128_i32_2766 c0_i32_2770
  let v4939 : BitVec 32 := Scalar.extui v4938
  let v4940 : BitVec 32 := Scalar.subi v4937 v4939
  let v4941 : BitVec 1 := Scalar.cmpi .ne v4935 v4940
  let v4942 : BitVec 32 := Scalar.remsi v4929 c128_i32_2766
  let c0_i32_2771 : BitVec 32 := 0#32
  let v4943 : BitVec 1 := Scalar.cmpi .ne v4942 c0_i32_2771
  let v4944 : BitVec 1 := Scalar.andi v4941 v4943
  let v4930 : BitVec 32 := Scalar.divsi v4929 c128_i32_2766
  let c1_i32_2772 : BitVec 32 := 1#32
  let v4945 : BitVec 32 := Scalar.subi v4930 c1_i32_2772
  let v4946 : BitVec 32 := Scalar.select v4944 v4945 v4930
  let c128_i32_2773 : BitVec 32 := 128#32
  let v4947 : BitVec 32 := Scalar.muli v4946 c128_i32_2773
  let v4948 : BitVec 32 := Scalar.maxsi c0_i32_2774 v4947
  let v4949 : BitVec 32 := Scalar.minsi c99872_i32_2775 v4948
  let v4950 : BitVec 32 := v4949
  ![60, v4950.toNat]

def k1_chk189 (v4929 : BitVec 32) : Prop :=
  (32 ∣ (k1_mult189 v4929).toNat) ∧
  (∀ a, (k1_off189 v4929) a + S1x128.size a ≤ S128x100000.size a)
theorem k1_mult189_dvd : ∀ (v4929 : BitVec 32) (k1_hw189 : k1_chk189 v4929), 32 ∣ (k1_mult189 v4929).toNat := fun v4929 k1_hw189 => k1_hw189.1
theorem k1_off189_inb : ∀ (v4929 : BitVec 32) (k1_hw189 : k1_chk189 v4929), ∀ a, (k1_off189 v4929) a + S1x128.size a ≤ S128x100000.size a := fun v4929 k1_hw189 => k1_hw189.2

def k1_mult190 (v4955 : BitVec 32) : BitVec 32 :=
  let c99872_i32_2791 : BitVec 32 := 99872#32
  let c0_i32_2790 : BitVec 32 := 0#32
  let c0_i32_2783 : BitVec 32 := 0#32
  let v4957 : BitVec 1 := Scalar.cmpi .sgt v4955 c0_i32_2783
  let v4958 : BitVec 32 := Scalar.extui v4957
  let c0_i32_2784 : BitVec 32 := 0#32
  let v4959 : BitVec 1 := Scalar.cmpi .slt v4955 c0_i32_2784
  let v4960 : BitVec 32 := Scalar.extui v4959
  let v4961 : BitVec 32 := Scalar.subi v4958 v4960
  let c128_i32_2782 : BitVec 32 := 128#32
  let c0_i32_2785 : BitVec 32 := 0#32
  let v4962 : BitVec 1 := Scalar.cmpi .sgt c128_i32_2782 c0_i32_2785
  let v4963 : BitVec 32 := Scalar.extui v4962
  let c0_i32_2786 : BitVec 32 := 0#32
  let v4964 : BitVec 1 := Scalar.cmpi .slt c128_i32_2782 c0_i32_2786
  let v4965 : BitVec 32 := Scalar.extui v4964
  let v4966 : BitVec 32 := Scalar.subi v4963 v4965
  let v4967 : BitVec 1 := Scalar.cmpi .ne v4961 v4966
  let v4968 : BitVec 32 := Scalar.remsi v4955 c128_i32_2782
  let c0_i32_2787 : BitVec 32 := 0#32
  let v4969 : BitVec 1 := Scalar.cmpi .ne v4968 c0_i32_2787
  let v4970 : BitVec 1 := Scalar.andi v4967 v4969
  let v4956 : BitVec 32 := Scalar.divsi v4955 c128_i32_2782
  let c1_i32_2788 : BitVec 32 := 1#32
  let v4971 : BitVec 32 := Scalar.subi v4956 c1_i32_2788
  let v4972 : BitVec 32 := Scalar.select v4970 v4971 v4956
  let c128_i32_2789 : BitVec 32 := 128#32
  let v4973 : BitVec 32 := Scalar.muli v4972 c128_i32_2789
  let v4974 : BitVec 32 := Scalar.maxsi c0_i32_2790 v4973
  let v4975 : BitVec 32 := Scalar.minsi c99872_i32_2791 v4974
  v4975

def k1_off190 (v4955 : BitVec 32) : Fin 2 → Nat :=
  let c61_i32_2793 : BitVec 32 := 61#32
  let c99872_i32_2791 : BitVec 32 := 99872#32
  let c0_i32_2790 : BitVec 32 := 0#32
  let c0_i32_2783 : BitVec 32 := 0#32
  let v4957 : BitVec 1 := Scalar.cmpi .sgt v4955 c0_i32_2783
  let v4958 : BitVec 32 := Scalar.extui v4957
  let c0_i32_2784 : BitVec 32 := 0#32
  let v4959 : BitVec 1 := Scalar.cmpi .slt v4955 c0_i32_2784
  let v4960 : BitVec 32 := Scalar.extui v4959
  let v4961 : BitVec 32 := Scalar.subi v4958 v4960
  let c128_i32_2782 : BitVec 32 := 128#32
  let c0_i32_2785 : BitVec 32 := 0#32
  let v4962 : BitVec 1 := Scalar.cmpi .sgt c128_i32_2782 c0_i32_2785
  let v4963 : BitVec 32 := Scalar.extui v4962
  let c0_i32_2786 : BitVec 32 := 0#32
  let v4964 : BitVec 1 := Scalar.cmpi .slt c128_i32_2782 c0_i32_2786
  let v4965 : BitVec 32 := Scalar.extui v4964
  let v4966 : BitVec 32 := Scalar.subi v4963 v4965
  let v4967 : BitVec 1 := Scalar.cmpi .ne v4961 v4966
  let v4968 : BitVec 32 := Scalar.remsi v4955 c128_i32_2782
  let c0_i32_2787 : BitVec 32 := 0#32
  let v4969 : BitVec 1 := Scalar.cmpi .ne v4968 c0_i32_2787
  let v4970 : BitVec 1 := Scalar.andi v4967 v4969
  let v4956 : BitVec 32 := Scalar.divsi v4955 c128_i32_2782
  let c1_i32_2788 : BitVec 32 := 1#32
  let v4971 : BitVec 32 := Scalar.subi v4956 c1_i32_2788
  let v4972 : BitVec 32 := Scalar.select v4970 v4971 v4956
  let c128_i32_2789 : BitVec 32 := 128#32
  let v4973 : BitVec 32 := Scalar.muli v4972 c128_i32_2789
  let v4974 : BitVec 32 := Scalar.maxsi c0_i32_2790 v4973
  let v4975 : BitVec 32 := Scalar.minsi c99872_i32_2791 v4974
  let v4976 : BitVec 32 := v4975
  ![61, v4976.toNat]

def k1_chk190 (v4955 : BitVec 32) : Prop :=
  (32 ∣ (k1_mult190 v4955).toNat) ∧
  (∀ a, (k1_off190 v4955) a + S1x128.size a ≤ S128x100000.size a)
theorem k1_mult190_dvd : ∀ (v4955 : BitVec 32) (k1_hw190 : k1_chk190 v4955), 32 ∣ (k1_mult190 v4955).toNat := fun v4955 k1_hw190 => k1_hw190.1
theorem k1_off190_inb : ∀ (v4955 : BitVec 32) (k1_hw190 : k1_chk190 v4955), ∀ a, (k1_off190 v4955) a + S1x128.size a ≤ S128x100000.size a := fun v4955 k1_hw190 => k1_hw190.2

def k1_mult191 (v4981 : BitVec 32) : BitVec 32 :=
  let c99872_i32_2807 : BitVec 32 := 99872#32
  let c0_i32_2806 : BitVec 32 := 0#32
  let c0_i32_2799 : BitVec 32 := 0#32
  let v4983 : BitVec 1 := Scalar.cmpi .sgt v4981 c0_i32_2799
  let v4984 : BitVec 32 := Scalar.extui v4983
  let c0_i32_2800 : BitVec 32 := 0#32
  let v4985 : BitVec 1 := Scalar.cmpi .slt v4981 c0_i32_2800
  let v4986 : BitVec 32 := Scalar.extui v4985
  let v4987 : BitVec 32 := Scalar.subi v4984 v4986
  let c128_i32_2798 : BitVec 32 := 128#32
  let c0_i32_2801 : BitVec 32 := 0#32
  let v4988 : BitVec 1 := Scalar.cmpi .sgt c128_i32_2798 c0_i32_2801
  let v4989 : BitVec 32 := Scalar.extui v4988
  let c0_i32_2802 : BitVec 32 := 0#32
  let v4990 : BitVec 1 := Scalar.cmpi .slt c128_i32_2798 c0_i32_2802
  let v4991 : BitVec 32 := Scalar.extui v4990
  let v4992 : BitVec 32 := Scalar.subi v4989 v4991
  let v4993 : BitVec 1 := Scalar.cmpi .ne v4987 v4992
  let v4994 : BitVec 32 := Scalar.remsi v4981 c128_i32_2798
  let c0_i32_2803 : BitVec 32 := 0#32
  let v4995 : BitVec 1 := Scalar.cmpi .ne v4994 c0_i32_2803
  let v4996 : BitVec 1 := Scalar.andi v4993 v4995
  let v4982 : BitVec 32 := Scalar.divsi v4981 c128_i32_2798
  let c1_i32_2804 : BitVec 32 := 1#32
  let v4997 : BitVec 32 := Scalar.subi v4982 c1_i32_2804
  let v4998 : BitVec 32 := Scalar.select v4996 v4997 v4982
  let c128_i32_2805 : BitVec 32 := 128#32
  let v4999 : BitVec 32 := Scalar.muli v4998 c128_i32_2805
  let v5000 : BitVec 32 := Scalar.maxsi c0_i32_2806 v4999
  let v5001 : BitVec 32 := Scalar.minsi c99872_i32_2807 v5000
  v5001

def k1_off191 (v4981 : BitVec 32) : Fin 2 → Nat :=
  let c62_i32_2809 : BitVec 32 := 62#32
  let c99872_i32_2807 : BitVec 32 := 99872#32
  let c0_i32_2806 : BitVec 32 := 0#32
  let c0_i32_2799 : BitVec 32 := 0#32
  let v4983 : BitVec 1 := Scalar.cmpi .sgt v4981 c0_i32_2799
  let v4984 : BitVec 32 := Scalar.extui v4983
  let c0_i32_2800 : BitVec 32 := 0#32
  let v4985 : BitVec 1 := Scalar.cmpi .slt v4981 c0_i32_2800
  let v4986 : BitVec 32 := Scalar.extui v4985
  let v4987 : BitVec 32 := Scalar.subi v4984 v4986
  let c128_i32_2798 : BitVec 32 := 128#32
  let c0_i32_2801 : BitVec 32 := 0#32
  let v4988 : BitVec 1 := Scalar.cmpi .sgt c128_i32_2798 c0_i32_2801
  let v4989 : BitVec 32 := Scalar.extui v4988
  let c0_i32_2802 : BitVec 32 := 0#32
  let v4990 : BitVec 1 := Scalar.cmpi .slt c128_i32_2798 c0_i32_2802
  let v4991 : BitVec 32 := Scalar.extui v4990
  let v4992 : BitVec 32 := Scalar.subi v4989 v4991
  let v4993 : BitVec 1 := Scalar.cmpi .ne v4987 v4992
  let v4994 : BitVec 32 := Scalar.remsi v4981 c128_i32_2798
  let c0_i32_2803 : BitVec 32 := 0#32
  let v4995 : BitVec 1 := Scalar.cmpi .ne v4994 c0_i32_2803
  let v4996 : BitVec 1 := Scalar.andi v4993 v4995
  let v4982 : BitVec 32 := Scalar.divsi v4981 c128_i32_2798
  let c1_i32_2804 : BitVec 32 := 1#32
  let v4997 : BitVec 32 := Scalar.subi v4982 c1_i32_2804
  let v4998 : BitVec 32 := Scalar.select v4996 v4997 v4982
  let c128_i32_2805 : BitVec 32 := 128#32
  let v4999 : BitVec 32 := Scalar.muli v4998 c128_i32_2805
  let v5000 : BitVec 32 := Scalar.maxsi c0_i32_2806 v4999
  let v5001 : BitVec 32 := Scalar.minsi c99872_i32_2807 v5000
  let v5002 : BitVec 32 := v5001
  ![62, v5002.toNat]

def k1_chk191 (v4981 : BitVec 32) : Prop :=
  (32 ∣ (k1_mult191 v4981).toNat) ∧
  (∀ a, (k1_off191 v4981) a + S1x128.size a ≤ S128x100000.size a)
theorem k1_mult191_dvd : ∀ (v4981 : BitVec 32) (k1_hw191 : k1_chk191 v4981), 32 ∣ (k1_mult191 v4981).toNat := fun v4981 k1_hw191 => k1_hw191.1
theorem k1_off191_inb : ∀ (v4981 : BitVec 32) (k1_hw191 : k1_chk191 v4981), ∀ a, (k1_off191 v4981) a + S1x128.size a ≤ S128x100000.size a := fun v4981 k1_hw191 => k1_hw191.2

def k1_mult192 (v5007 : BitVec 32) : BitVec 32 :=
  let c99872_i32_2823 : BitVec 32 := 99872#32
  let c0_i32_2822 : BitVec 32 := 0#32
  let c0_i32_2815 : BitVec 32 := 0#32
  let v5009 : BitVec 1 := Scalar.cmpi .sgt v5007 c0_i32_2815
  let v5010 : BitVec 32 := Scalar.extui v5009
  let c0_i32_2816 : BitVec 32 := 0#32
  let v5011 : BitVec 1 := Scalar.cmpi .slt v5007 c0_i32_2816
  let v5012 : BitVec 32 := Scalar.extui v5011
  let v5013 : BitVec 32 := Scalar.subi v5010 v5012
  let c128_i32_2814 : BitVec 32 := 128#32
  let c0_i32_2817 : BitVec 32 := 0#32
  let v5014 : BitVec 1 := Scalar.cmpi .sgt c128_i32_2814 c0_i32_2817
  let v5015 : BitVec 32 := Scalar.extui v5014
  let c0_i32_2818 : BitVec 32 := 0#32
  let v5016 : BitVec 1 := Scalar.cmpi .slt c128_i32_2814 c0_i32_2818
  let v5017 : BitVec 32 := Scalar.extui v5016
  let v5018 : BitVec 32 := Scalar.subi v5015 v5017
  let v5019 : BitVec 1 := Scalar.cmpi .ne v5013 v5018
  let v5020 : BitVec 32 := Scalar.remsi v5007 c128_i32_2814
  let c0_i32_2819 : BitVec 32 := 0#32
  let v5021 : BitVec 1 := Scalar.cmpi .ne v5020 c0_i32_2819
  let v5022 : BitVec 1 := Scalar.andi v5019 v5021
  let v5008 : BitVec 32 := Scalar.divsi v5007 c128_i32_2814
  let c1_i32_2820 : BitVec 32 := 1#32
  let v5023 : BitVec 32 := Scalar.subi v5008 c1_i32_2820
  let v5024 : BitVec 32 := Scalar.select v5022 v5023 v5008
  let c128_i32_2821 : BitVec 32 := 128#32
  let v5025 : BitVec 32 := Scalar.muli v5024 c128_i32_2821
  let v5026 : BitVec 32 := Scalar.maxsi c0_i32_2822 v5025
  let v5027 : BitVec 32 := Scalar.minsi c99872_i32_2823 v5026
  v5027

def k1_off192 (v5007 : BitVec 32) : Fin 2 → Nat :=
  let c63_i32_2825 : BitVec 32 := 63#32
  let c99872_i32_2823 : BitVec 32 := 99872#32
  let c0_i32_2822 : BitVec 32 := 0#32
  let c0_i32_2815 : BitVec 32 := 0#32
  let v5009 : BitVec 1 := Scalar.cmpi .sgt v5007 c0_i32_2815
  let v5010 : BitVec 32 := Scalar.extui v5009
  let c0_i32_2816 : BitVec 32 := 0#32
  let v5011 : BitVec 1 := Scalar.cmpi .slt v5007 c0_i32_2816
  let v5012 : BitVec 32 := Scalar.extui v5011
  let v5013 : BitVec 32 := Scalar.subi v5010 v5012
  let c128_i32_2814 : BitVec 32 := 128#32
  let c0_i32_2817 : BitVec 32 := 0#32
  let v5014 : BitVec 1 := Scalar.cmpi .sgt c128_i32_2814 c0_i32_2817
  let v5015 : BitVec 32 := Scalar.extui v5014
  let c0_i32_2818 : BitVec 32 := 0#32
  let v5016 : BitVec 1 := Scalar.cmpi .slt c128_i32_2814 c0_i32_2818
  let v5017 : BitVec 32 := Scalar.extui v5016
  let v5018 : BitVec 32 := Scalar.subi v5015 v5017
  let v5019 : BitVec 1 := Scalar.cmpi .ne v5013 v5018
  let v5020 : BitVec 32 := Scalar.remsi v5007 c128_i32_2814
  let c0_i32_2819 : BitVec 32 := 0#32
  let v5021 : BitVec 1 := Scalar.cmpi .ne v5020 c0_i32_2819
  let v5022 : BitVec 1 := Scalar.andi v5019 v5021
  let v5008 : BitVec 32 := Scalar.divsi v5007 c128_i32_2814
  let c1_i32_2820 : BitVec 32 := 1#32
  let v5023 : BitVec 32 := Scalar.subi v5008 c1_i32_2820
  let v5024 : BitVec 32 := Scalar.select v5022 v5023 v5008
  let c128_i32_2821 : BitVec 32 := 128#32
  let v5025 : BitVec 32 := Scalar.muli v5024 c128_i32_2821
  let v5026 : BitVec 32 := Scalar.maxsi c0_i32_2822 v5025
  let v5027 : BitVec 32 := Scalar.minsi c99872_i32_2823 v5026
  let v5028 : BitVec 32 := v5027
  ![63, v5028.toNat]

def k1_chk192 (v5007 : BitVec 32) : Prop :=
  (32 ∣ (k1_mult192 v5007).toNat) ∧
  (∀ a, (k1_off192 v5007) a + S1x128.size a ≤ S128x100000.size a)
theorem k1_mult192_dvd : ∀ (v5007 : BitVec 32) (k1_hw192 : k1_chk192 v5007), 32 ∣ (k1_mult192 v5007).toNat := fun v5007 k1_hw192 => k1_hw192.1
theorem k1_off192_inb : ∀ (v5007 : BitVec 32) (k1_hw192 : k1_chk192 v5007), ∀ a, (k1_off192 v5007) a + S1x128.size a ≤ S128x100000.size a := fun v5007 k1_hw192 => k1_hw192.2

def k1_mult193 (v5033 : BitVec 32) : BitVec 32 :=
  let c99872_i32_2839 : BitVec 32 := 99872#32
  let c0_i32_2838 : BitVec 32 := 0#32
  let c0_i32_2831 : BitVec 32 := 0#32
  let v5035 : BitVec 1 := Scalar.cmpi .sgt v5033 c0_i32_2831
  let v5036 : BitVec 32 := Scalar.extui v5035
  let c0_i32_2832 : BitVec 32 := 0#32
  let v5037 : BitVec 1 := Scalar.cmpi .slt v5033 c0_i32_2832
  let v5038 : BitVec 32 := Scalar.extui v5037
  let v5039 : BitVec 32 := Scalar.subi v5036 v5038
  let c128_i32_2830 : BitVec 32 := 128#32
  let c0_i32_2833 : BitVec 32 := 0#32
  let v5040 : BitVec 1 := Scalar.cmpi .sgt c128_i32_2830 c0_i32_2833
  let v5041 : BitVec 32 := Scalar.extui v5040
  let c0_i32_2834 : BitVec 32 := 0#32
  let v5042 : BitVec 1 := Scalar.cmpi .slt c128_i32_2830 c0_i32_2834
  let v5043 : BitVec 32 := Scalar.extui v5042
  let v5044 : BitVec 32 := Scalar.subi v5041 v5043
  let v5045 : BitVec 1 := Scalar.cmpi .ne v5039 v5044
  let v5046 : BitVec 32 := Scalar.remsi v5033 c128_i32_2830
  let c0_i32_2835 : BitVec 32 := 0#32
  let v5047 : BitVec 1 := Scalar.cmpi .ne v5046 c0_i32_2835
  let v5048 : BitVec 1 := Scalar.andi v5045 v5047
  let v5034 : BitVec 32 := Scalar.divsi v5033 c128_i32_2830
  let c1_i32_2836 : BitVec 32 := 1#32
  let v5049 : BitVec 32 := Scalar.subi v5034 c1_i32_2836
  let v5050 : BitVec 32 := Scalar.select v5048 v5049 v5034
  let c128_i32_2837 : BitVec 32 := 128#32
  let v5051 : BitVec 32 := Scalar.muli v5050 c128_i32_2837
  let v5052 : BitVec 32 := Scalar.maxsi c0_i32_2838 v5051
  let v5053 : BitVec 32 := Scalar.minsi c99872_i32_2839 v5052
  v5053

def k1_off193 (v5033 : BitVec 32) : Fin 2 → Nat :=
  let c64_i32_2841 : BitVec 32 := 64#32
  let c99872_i32_2839 : BitVec 32 := 99872#32
  let c0_i32_2838 : BitVec 32 := 0#32
  let c0_i32_2831 : BitVec 32 := 0#32
  let v5035 : BitVec 1 := Scalar.cmpi .sgt v5033 c0_i32_2831
  let v5036 : BitVec 32 := Scalar.extui v5035
  let c0_i32_2832 : BitVec 32 := 0#32
  let v5037 : BitVec 1 := Scalar.cmpi .slt v5033 c0_i32_2832
  let v5038 : BitVec 32 := Scalar.extui v5037
  let v5039 : BitVec 32 := Scalar.subi v5036 v5038
  let c128_i32_2830 : BitVec 32 := 128#32
  let c0_i32_2833 : BitVec 32 := 0#32
  let v5040 : BitVec 1 := Scalar.cmpi .sgt c128_i32_2830 c0_i32_2833
  let v5041 : BitVec 32 := Scalar.extui v5040
  let c0_i32_2834 : BitVec 32 := 0#32
  let v5042 : BitVec 1 := Scalar.cmpi .slt c128_i32_2830 c0_i32_2834
  let v5043 : BitVec 32 := Scalar.extui v5042
  let v5044 : BitVec 32 := Scalar.subi v5041 v5043
  let v5045 : BitVec 1 := Scalar.cmpi .ne v5039 v5044
  let v5046 : BitVec 32 := Scalar.remsi v5033 c128_i32_2830
  let c0_i32_2835 : BitVec 32 := 0#32
  let v5047 : BitVec 1 := Scalar.cmpi .ne v5046 c0_i32_2835
  let v5048 : BitVec 1 := Scalar.andi v5045 v5047
  let v5034 : BitVec 32 := Scalar.divsi v5033 c128_i32_2830
  let c1_i32_2836 : BitVec 32 := 1#32
  let v5049 : BitVec 32 := Scalar.subi v5034 c1_i32_2836
  let v5050 : BitVec 32 := Scalar.select v5048 v5049 v5034
  let c128_i32_2837 : BitVec 32 := 128#32
  let v5051 : BitVec 32 := Scalar.muli v5050 c128_i32_2837
  let v5052 : BitVec 32 := Scalar.maxsi c0_i32_2838 v5051
  let v5053 : BitVec 32 := Scalar.minsi c99872_i32_2839 v5052
  let v5054 : BitVec 32 := v5053
  ![64, v5054.toNat]

def k1_chk193 (v5033 : BitVec 32) : Prop :=
  (32 ∣ (k1_mult193 v5033).toNat) ∧
  (∀ a, (k1_off193 v5033) a + S1x128.size a ≤ S128x100000.size a)
theorem k1_mult193_dvd : ∀ (v5033 : BitVec 32) (k1_hw193 : k1_chk193 v5033), 32 ∣ (k1_mult193 v5033).toNat := fun v5033 k1_hw193 => k1_hw193.1
theorem k1_off193_inb : ∀ (v5033 : BitVec 32) (k1_hw193 : k1_chk193 v5033), ∀ a, (k1_off193 v5033) a + S1x128.size a ≤ S128x100000.size a := fun v5033 k1_hw193 => k1_hw193.2

def k1_mult194 (v5059 : BitVec 32) : BitVec 32 :=
  let c99872_i32_2855 : BitVec 32 := 99872#32
  let c0_i32_2854 : BitVec 32 := 0#32
  let c0_i32_2847 : BitVec 32 := 0#32
  let v5061 : BitVec 1 := Scalar.cmpi .sgt v5059 c0_i32_2847
  let v5062 : BitVec 32 := Scalar.extui v5061
  let c0_i32_2848 : BitVec 32 := 0#32
  let v5063 : BitVec 1 := Scalar.cmpi .slt v5059 c0_i32_2848
  let v5064 : BitVec 32 := Scalar.extui v5063
  let v5065 : BitVec 32 := Scalar.subi v5062 v5064
  let c128_i32_2846 : BitVec 32 := 128#32
  let c0_i32_2849 : BitVec 32 := 0#32
  let v5066 : BitVec 1 := Scalar.cmpi .sgt c128_i32_2846 c0_i32_2849
  let v5067 : BitVec 32 := Scalar.extui v5066
  let c0_i32_2850 : BitVec 32 := 0#32
  let v5068 : BitVec 1 := Scalar.cmpi .slt c128_i32_2846 c0_i32_2850
  let v5069 : BitVec 32 := Scalar.extui v5068
  let v5070 : BitVec 32 := Scalar.subi v5067 v5069
  let v5071 : BitVec 1 := Scalar.cmpi .ne v5065 v5070
  let v5072 : BitVec 32 := Scalar.remsi v5059 c128_i32_2846
  let c0_i32_2851 : BitVec 32 := 0#32
  let v5073 : BitVec 1 := Scalar.cmpi .ne v5072 c0_i32_2851
  let v5074 : BitVec 1 := Scalar.andi v5071 v5073
  let v5060 : BitVec 32 := Scalar.divsi v5059 c128_i32_2846
  let c1_i32_2852 : BitVec 32 := 1#32
  let v5075 : BitVec 32 := Scalar.subi v5060 c1_i32_2852
  let v5076 : BitVec 32 := Scalar.select v5074 v5075 v5060
  let c128_i32_2853 : BitVec 32 := 128#32
  let v5077 : BitVec 32 := Scalar.muli v5076 c128_i32_2853
  let v5078 : BitVec 32 := Scalar.maxsi c0_i32_2854 v5077
  let v5079 : BitVec 32 := Scalar.minsi c99872_i32_2855 v5078
  v5079

def k1_off194 (v5059 : BitVec 32) : Fin 2 → Nat :=
  let c65_i32_2857 : BitVec 32 := 65#32
  let c99872_i32_2855 : BitVec 32 := 99872#32
  let c0_i32_2854 : BitVec 32 := 0#32
  let c0_i32_2847 : BitVec 32 := 0#32
  let v5061 : BitVec 1 := Scalar.cmpi .sgt v5059 c0_i32_2847
  let v5062 : BitVec 32 := Scalar.extui v5061
  let c0_i32_2848 : BitVec 32 := 0#32
  let v5063 : BitVec 1 := Scalar.cmpi .slt v5059 c0_i32_2848
  let v5064 : BitVec 32 := Scalar.extui v5063
  let v5065 : BitVec 32 := Scalar.subi v5062 v5064
  let c128_i32_2846 : BitVec 32 := 128#32
  let c0_i32_2849 : BitVec 32 := 0#32
  let v5066 : BitVec 1 := Scalar.cmpi .sgt c128_i32_2846 c0_i32_2849
  let v5067 : BitVec 32 := Scalar.extui v5066
  let c0_i32_2850 : BitVec 32 := 0#32
  let v5068 : BitVec 1 := Scalar.cmpi .slt c128_i32_2846 c0_i32_2850
  let v5069 : BitVec 32 := Scalar.extui v5068
  let v5070 : BitVec 32 := Scalar.subi v5067 v5069
  let v5071 : BitVec 1 := Scalar.cmpi .ne v5065 v5070
  let v5072 : BitVec 32 := Scalar.remsi v5059 c128_i32_2846
  let c0_i32_2851 : BitVec 32 := 0#32
  let v5073 : BitVec 1 := Scalar.cmpi .ne v5072 c0_i32_2851
  let v5074 : BitVec 1 := Scalar.andi v5071 v5073
  let v5060 : BitVec 32 := Scalar.divsi v5059 c128_i32_2846
  let c1_i32_2852 : BitVec 32 := 1#32
  let v5075 : BitVec 32 := Scalar.subi v5060 c1_i32_2852
  let v5076 : BitVec 32 := Scalar.select v5074 v5075 v5060
  let c128_i32_2853 : BitVec 32 := 128#32
  let v5077 : BitVec 32 := Scalar.muli v5076 c128_i32_2853
  let v5078 : BitVec 32 := Scalar.maxsi c0_i32_2854 v5077
  let v5079 : BitVec 32 := Scalar.minsi c99872_i32_2855 v5078
  let v5080 : BitVec 32 := v5079
  ![65, v5080.toNat]

def k1_chk194 (v5059 : BitVec 32) : Prop :=
  (32 ∣ (k1_mult194 v5059).toNat) ∧
  (∀ a, (k1_off194 v5059) a + S1x128.size a ≤ S128x100000.size a)
theorem k1_mult194_dvd : ∀ (v5059 : BitVec 32) (k1_hw194 : k1_chk194 v5059), 32 ∣ (k1_mult194 v5059).toNat := fun v5059 k1_hw194 => k1_hw194.1
theorem k1_off194_inb : ∀ (v5059 : BitVec 32) (k1_hw194 : k1_chk194 v5059), ∀ a, (k1_off194 v5059) a + S1x128.size a ≤ S128x100000.size a := fun v5059 k1_hw194 => k1_hw194.2

def k1_mult195 (v5085 : BitVec 32) : BitVec 32 :=
  let c99872_i32_2871 : BitVec 32 := 99872#32
  let c0_i32_2870 : BitVec 32 := 0#32
  let c0_i32_2863 : BitVec 32 := 0#32
  let v5087 : BitVec 1 := Scalar.cmpi .sgt v5085 c0_i32_2863
  let v5088 : BitVec 32 := Scalar.extui v5087
  let c0_i32_2864 : BitVec 32 := 0#32
  let v5089 : BitVec 1 := Scalar.cmpi .slt v5085 c0_i32_2864
  let v5090 : BitVec 32 := Scalar.extui v5089
  let v5091 : BitVec 32 := Scalar.subi v5088 v5090
  let c128_i32_2862 : BitVec 32 := 128#32
  let c0_i32_2865 : BitVec 32 := 0#32
  let v5092 : BitVec 1 := Scalar.cmpi .sgt c128_i32_2862 c0_i32_2865
  let v5093 : BitVec 32 := Scalar.extui v5092
  let c0_i32_2866 : BitVec 32 := 0#32
  let v5094 : BitVec 1 := Scalar.cmpi .slt c128_i32_2862 c0_i32_2866
  let v5095 : BitVec 32 := Scalar.extui v5094
  let v5096 : BitVec 32 := Scalar.subi v5093 v5095
  let v5097 : BitVec 1 := Scalar.cmpi .ne v5091 v5096
  let v5098 : BitVec 32 := Scalar.remsi v5085 c128_i32_2862
  let c0_i32_2867 : BitVec 32 := 0#32
  let v5099 : BitVec 1 := Scalar.cmpi .ne v5098 c0_i32_2867
  let v5100 : BitVec 1 := Scalar.andi v5097 v5099
  let v5086 : BitVec 32 := Scalar.divsi v5085 c128_i32_2862
  let c1_i32_2868 : BitVec 32 := 1#32
  let v5101 : BitVec 32 := Scalar.subi v5086 c1_i32_2868
  let v5102 : BitVec 32 := Scalar.select v5100 v5101 v5086
  let c128_i32_2869 : BitVec 32 := 128#32
  let v5103 : BitVec 32 := Scalar.muli v5102 c128_i32_2869
  let v5104 : BitVec 32 := Scalar.maxsi c0_i32_2870 v5103
  let v5105 : BitVec 32 := Scalar.minsi c99872_i32_2871 v5104
  v5105

def k1_off195 (v5085 : BitVec 32) : Fin 2 → Nat :=
  let c66_i32_2873 : BitVec 32 := 66#32
  let c99872_i32_2871 : BitVec 32 := 99872#32
  let c0_i32_2870 : BitVec 32 := 0#32
  let c0_i32_2863 : BitVec 32 := 0#32
  let v5087 : BitVec 1 := Scalar.cmpi .sgt v5085 c0_i32_2863
  let v5088 : BitVec 32 := Scalar.extui v5087
  let c0_i32_2864 : BitVec 32 := 0#32
  let v5089 : BitVec 1 := Scalar.cmpi .slt v5085 c0_i32_2864
  let v5090 : BitVec 32 := Scalar.extui v5089
  let v5091 : BitVec 32 := Scalar.subi v5088 v5090
  let c128_i32_2862 : BitVec 32 := 128#32
  let c0_i32_2865 : BitVec 32 := 0#32
  let v5092 : BitVec 1 := Scalar.cmpi .sgt c128_i32_2862 c0_i32_2865
  let v5093 : BitVec 32 := Scalar.extui v5092
  let c0_i32_2866 : BitVec 32 := 0#32
  let v5094 : BitVec 1 := Scalar.cmpi .slt c128_i32_2862 c0_i32_2866
  let v5095 : BitVec 32 := Scalar.extui v5094
  let v5096 : BitVec 32 := Scalar.subi v5093 v5095
  let v5097 : BitVec 1 := Scalar.cmpi .ne v5091 v5096
  let v5098 : BitVec 32 := Scalar.remsi v5085 c128_i32_2862
  let c0_i32_2867 : BitVec 32 := 0#32
  let v5099 : BitVec 1 := Scalar.cmpi .ne v5098 c0_i32_2867
  let v5100 : BitVec 1 := Scalar.andi v5097 v5099
  let v5086 : BitVec 32 := Scalar.divsi v5085 c128_i32_2862
  let c1_i32_2868 : BitVec 32 := 1#32
  let v5101 : BitVec 32 := Scalar.subi v5086 c1_i32_2868
  let v5102 : BitVec 32 := Scalar.select v5100 v5101 v5086
  let c128_i32_2869 : BitVec 32 := 128#32
  let v5103 : BitVec 32 := Scalar.muli v5102 c128_i32_2869
  let v5104 : BitVec 32 := Scalar.maxsi c0_i32_2870 v5103
  let v5105 : BitVec 32 := Scalar.minsi c99872_i32_2871 v5104
  let v5106 : BitVec 32 := v5105
  ![66, v5106.toNat]

def k1_chk195 (v5085 : BitVec 32) : Prop :=
  (32 ∣ (k1_mult195 v5085).toNat) ∧
  (∀ a, (k1_off195 v5085) a + S1x128.size a ≤ S128x100000.size a)
theorem k1_mult195_dvd : ∀ (v5085 : BitVec 32) (k1_hw195 : k1_chk195 v5085), 32 ∣ (k1_mult195 v5085).toNat := fun v5085 k1_hw195 => k1_hw195.1
theorem k1_off195_inb : ∀ (v5085 : BitVec 32) (k1_hw195 : k1_chk195 v5085), ∀ a, (k1_off195 v5085) a + S1x128.size a ≤ S128x100000.size a := fun v5085 k1_hw195 => k1_hw195.2

def k1_mult196 (v5111 : BitVec 32) : BitVec 32 :=
  let c99872_i32_2887 : BitVec 32 := 99872#32
  let c0_i32_2886 : BitVec 32 := 0#32
  let c0_i32_2879 : BitVec 32 := 0#32
  let v5113 : BitVec 1 := Scalar.cmpi .sgt v5111 c0_i32_2879
  let v5114 : BitVec 32 := Scalar.extui v5113
  let c0_i32_2880 : BitVec 32 := 0#32
  let v5115 : BitVec 1 := Scalar.cmpi .slt v5111 c0_i32_2880
  let v5116 : BitVec 32 := Scalar.extui v5115
  let v5117 : BitVec 32 := Scalar.subi v5114 v5116
  let c128_i32_2878 : BitVec 32 := 128#32
  let c0_i32_2881 : BitVec 32 := 0#32
  let v5118 : BitVec 1 := Scalar.cmpi .sgt c128_i32_2878 c0_i32_2881
  let v5119 : BitVec 32 := Scalar.extui v5118
  let c0_i32_2882 : BitVec 32 := 0#32
  let v5120 : BitVec 1 := Scalar.cmpi .slt c128_i32_2878 c0_i32_2882
  let v5121 : BitVec 32 := Scalar.extui v5120
  let v5122 : BitVec 32 := Scalar.subi v5119 v5121
  let v5123 : BitVec 1 := Scalar.cmpi .ne v5117 v5122
  let v5124 : BitVec 32 := Scalar.remsi v5111 c128_i32_2878
  let c0_i32_2883 : BitVec 32 := 0#32
  let v5125 : BitVec 1 := Scalar.cmpi .ne v5124 c0_i32_2883
  let v5126 : BitVec 1 := Scalar.andi v5123 v5125
  let v5112 : BitVec 32 := Scalar.divsi v5111 c128_i32_2878
  let c1_i32_2884 : BitVec 32 := 1#32
  let v5127 : BitVec 32 := Scalar.subi v5112 c1_i32_2884
  let v5128 : BitVec 32 := Scalar.select v5126 v5127 v5112
  let c128_i32_2885 : BitVec 32 := 128#32
  let v5129 : BitVec 32 := Scalar.muli v5128 c128_i32_2885
  let v5130 : BitVec 32 := Scalar.maxsi c0_i32_2886 v5129
  let v5131 : BitVec 32 := Scalar.minsi c99872_i32_2887 v5130
  v5131

def k1_off196 (v5111 : BitVec 32) : Fin 2 → Nat :=
  let c67_i32_2889 : BitVec 32 := 67#32
  let c99872_i32_2887 : BitVec 32 := 99872#32
  let c0_i32_2886 : BitVec 32 := 0#32
  let c0_i32_2879 : BitVec 32 := 0#32
  let v5113 : BitVec 1 := Scalar.cmpi .sgt v5111 c0_i32_2879
  let v5114 : BitVec 32 := Scalar.extui v5113
  let c0_i32_2880 : BitVec 32 := 0#32
  let v5115 : BitVec 1 := Scalar.cmpi .slt v5111 c0_i32_2880
  let v5116 : BitVec 32 := Scalar.extui v5115
  let v5117 : BitVec 32 := Scalar.subi v5114 v5116
  let c128_i32_2878 : BitVec 32 := 128#32
  let c0_i32_2881 : BitVec 32 := 0#32
  let v5118 : BitVec 1 := Scalar.cmpi .sgt c128_i32_2878 c0_i32_2881
  let v5119 : BitVec 32 := Scalar.extui v5118
  let c0_i32_2882 : BitVec 32 := 0#32
  let v5120 : BitVec 1 := Scalar.cmpi .slt c128_i32_2878 c0_i32_2882
  let v5121 : BitVec 32 := Scalar.extui v5120
  let v5122 : BitVec 32 := Scalar.subi v5119 v5121
  let v5123 : BitVec 1 := Scalar.cmpi .ne v5117 v5122
  let v5124 : BitVec 32 := Scalar.remsi v5111 c128_i32_2878
  let c0_i32_2883 : BitVec 32 := 0#32
  let v5125 : BitVec 1 := Scalar.cmpi .ne v5124 c0_i32_2883
  let v5126 : BitVec 1 := Scalar.andi v5123 v5125
  let v5112 : BitVec 32 := Scalar.divsi v5111 c128_i32_2878
  let c1_i32_2884 : BitVec 32 := 1#32
  let v5127 : BitVec 32 := Scalar.subi v5112 c1_i32_2884
  let v5128 : BitVec 32 := Scalar.select v5126 v5127 v5112
  let c128_i32_2885 : BitVec 32 := 128#32
  let v5129 : BitVec 32 := Scalar.muli v5128 c128_i32_2885
  let v5130 : BitVec 32 := Scalar.maxsi c0_i32_2886 v5129
  let v5131 : BitVec 32 := Scalar.minsi c99872_i32_2887 v5130
  let v5132 : BitVec 32 := v5131
  ![67, v5132.toNat]

def k1_chk196 (v5111 : BitVec 32) : Prop :=
  (32 ∣ (k1_mult196 v5111).toNat) ∧
  (∀ a, (k1_off196 v5111) a + S1x128.size a ≤ S128x100000.size a)
theorem k1_mult196_dvd : ∀ (v5111 : BitVec 32) (k1_hw196 : k1_chk196 v5111), 32 ∣ (k1_mult196 v5111).toNat := fun v5111 k1_hw196 => k1_hw196.1
theorem k1_off196_inb : ∀ (v5111 : BitVec 32) (k1_hw196 : k1_chk196 v5111), ∀ a, (k1_off196 v5111) a + S1x128.size a ≤ S128x100000.size a := fun v5111 k1_hw196 => k1_hw196.2

def k1_mult197 (v5137 : BitVec 32) : BitVec 32 :=
  let c99872_i32_2903 : BitVec 32 := 99872#32
  let c0_i32_2902 : BitVec 32 := 0#32
  let c0_i32_2895 : BitVec 32 := 0#32
  let v5139 : BitVec 1 := Scalar.cmpi .sgt v5137 c0_i32_2895
  let v5140 : BitVec 32 := Scalar.extui v5139
  let c0_i32_2896 : BitVec 32 := 0#32
  let v5141 : BitVec 1 := Scalar.cmpi .slt v5137 c0_i32_2896
  let v5142 : BitVec 32 := Scalar.extui v5141
  let v5143 : BitVec 32 := Scalar.subi v5140 v5142
  let c128_i32_2894 : BitVec 32 := 128#32
  let c0_i32_2897 : BitVec 32 := 0#32
  let v5144 : BitVec 1 := Scalar.cmpi .sgt c128_i32_2894 c0_i32_2897
  let v5145 : BitVec 32 := Scalar.extui v5144
  let c0_i32_2898 : BitVec 32 := 0#32
  let v5146 : BitVec 1 := Scalar.cmpi .slt c128_i32_2894 c0_i32_2898
  let v5147 : BitVec 32 := Scalar.extui v5146
  let v5148 : BitVec 32 := Scalar.subi v5145 v5147
  let v5149 : BitVec 1 := Scalar.cmpi .ne v5143 v5148
  let v5150 : BitVec 32 := Scalar.remsi v5137 c128_i32_2894
  let c0_i32_2899 : BitVec 32 := 0#32
  let v5151 : BitVec 1 := Scalar.cmpi .ne v5150 c0_i32_2899
  let v5152 : BitVec 1 := Scalar.andi v5149 v5151
  let v5138 : BitVec 32 := Scalar.divsi v5137 c128_i32_2894
  let c1_i32_2900 : BitVec 32 := 1#32
  let v5153 : BitVec 32 := Scalar.subi v5138 c1_i32_2900
  let v5154 : BitVec 32 := Scalar.select v5152 v5153 v5138
  let c128_i32_2901 : BitVec 32 := 128#32
  let v5155 : BitVec 32 := Scalar.muli v5154 c128_i32_2901
  let v5156 : BitVec 32 := Scalar.maxsi c0_i32_2902 v5155
  let v5157 : BitVec 32 := Scalar.minsi c99872_i32_2903 v5156
  v5157

def k1_off197 (v5137 : BitVec 32) : Fin 2 → Nat :=
  let c68_i32_2905 : BitVec 32 := 68#32
  let c99872_i32_2903 : BitVec 32 := 99872#32
  let c0_i32_2902 : BitVec 32 := 0#32
  let c0_i32_2895 : BitVec 32 := 0#32
  let v5139 : BitVec 1 := Scalar.cmpi .sgt v5137 c0_i32_2895
  let v5140 : BitVec 32 := Scalar.extui v5139
  let c0_i32_2896 : BitVec 32 := 0#32
  let v5141 : BitVec 1 := Scalar.cmpi .slt v5137 c0_i32_2896
  let v5142 : BitVec 32 := Scalar.extui v5141
  let v5143 : BitVec 32 := Scalar.subi v5140 v5142
  let c128_i32_2894 : BitVec 32 := 128#32
  let c0_i32_2897 : BitVec 32 := 0#32
  let v5144 : BitVec 1 := Scalar.cmpi .sgt c128_i32_2894 c0_i32_2897
  let v5145 : BitVec 32 := Scalar.extui v5144
  let c0_i32_2898 : BitVec 32 := 0#32
  let v5146 : BitVec 1 := Scalar.cmpi .slt c128_i32_2894 c0_i32_2898
  let v5147 : BitVec 32 := Scalar.extui v5146
  let v5148 : BitVec 32 := Scalar.subi v5145 v5147
  let v5149 : BitVec 1 := Scalar.cmpi .ne v5143 v5148
  let v5150 : BitVec 32 := Scalar.remsi v5137 c128_i32_2894
  let c0_i32_2899 : BitVec 32 := 0#32
  let v5151 : BitVec 1 := Scalar.cmpi .ne v5150 c0_i32_2899
  let v5152 : BitVec 1 := Scalar.andi v5149 v5151
  let v5138 : BitVec 32 := Scalar.divsi v5137 c128_i32_2894
  let c1_i32_2900 : BitVec 32 := 1#32
  let v5153 : BitVec 32 := Scalar.subi v5138 c1_i32_2900
  let v5154 : BitVec 32 := Scalar.select v5152 v5153 v5138
  let c128_i32_2901 : BitVec 32 := 128#32
  let v5155 : BitVec 32 := Scalar.muli v5154 c128_i32_2901
  let v5156 : BitVec 32 := Scalar.maxsi c0_i32_2902 v5155
  let v5157 : BitVec 32 := Scalar.minsi c99872_i32_2903 v5156
  let v5158 : BitVec 32 := v5157
  ![68, v5158.toNat]

def k1_chk197 (v5137 : BitVec 32) : Prop :=
  (32 ∣ (k1_mult197 v5137).toNat) ∧
  (∀ a, (k1_off197 v5137) a + S1x128.size a ≤ S128x100000.size a)
theorem k1_mult197_dvd : ∀ (v5137 : BitVec 32) (k1_hw197 : k1_chk197 v5137), 32 ∣ (k1_mult197 v5137).toNat := fun v5137 k1_hw197 => k1_hw197.1
theorem k1_off197_inb : ∀ (v5137 : BitVec 32) (k1_hw197 : k1_chk197 v5137), ∀ a, (k1_off197 v5137) a + S1x128.size a ≤ S128x100000.size a := fun v5137 k1_hw197 => k1_hw197.2

def k1_mult198 (v5163 : BitVec 32) : BitVec 32 :=
  let c99872_i32_2919 : BitVec 32 := 99872#32
  let c0_i32_2918 : BitVec 32 := 0#32
  let c0_i32_2911 : BitVec 32 := 0#32
  let v5165 : BitVec 1 := Scalar.cmpi .sgt v5163 c0_i32_2911
  let v5166 : BitVec 32 := Scalar.extui v5165
  let c0_i32_2912 : BitVec 32 := 0#32
  let v5167 : BitVec 1 := Scalar.cmpi .slt v5163 c0_i32_2912
  let v5168 : BitVec 32 := Scalar.extui v5167
  let v5169 : BitVec 32 := Scalar.subi v5166 v5168
  let c128_i32_2910 : BitVec 32 := 128#32
  let c0_i32_2913 : BitVec 32 := 0#32
  let v5170 : BitVec 1 := Scalar.cmpi .sgt c128_i32_2910 c0_i32_2913
  let v5171 : BitVec 32 := Scalar.extui v5170
  let c0_i32_2914 : BitVec 32 := 0#32
  let v5172 : BitVec 1 := Scalar.cmpi .slt c128_i32_2910 c0_i32_2914
  let v5173 : BitVec 32 := Scalar.extui v5172
  let v5174 : BitVec 32 := Scalar.subi v5171 v5173
  let v5175 : BitVec 1 := Scalar.cmpi .ne v5169 v5174
  let v5176 : BitVec 32 := Scalar.remsi v5163 c128_i32_2910
  let c0_i32_2915 : BitVec 32 := 0#32
  let v5177 : BitVec 1 := Scalar.cmpi .ne v5176 c0_i32_2915
  let v5178 : BitVec 1 := Scalar.andi v5175 v5177
  let v5164 : BitVec 32 := Scalar.divsi v5163 c128_i32_2910
  let c1_i32_2916 : BitVec 32 := 1#32
  let v5179 : BitVec 32 := Scalar.subi v5164 c1_i32_2916
  let v5180 : BitVec 32 := Scalar.select v5178 v5179 v5164
  let c128_i32_2917 : BitVec 32 := 128#32
  let v5181 : BitVec 32 := Scalar.muli v5180 c128_i32_2917
  let v5182 : BitVec 32 := Scalar.maxsi c0_i32_2918 v5181
  let v5183 : BitVec 32 := Scalar.minsi c99872_i32_2919 v5182
  v5183

def k1_off198 (v5163 : BitVec 32) : Fin 2 → Nat :=
  let c69_i32_2921 : BitVec 32 := 69#32
  let c99872_i32_2919 : BitVec 32 := 99872#32
  let c0_i32_2918 : BitVec 32 := 0#32
  let c0_i32_2911 : BitVec 32 := 0#32
  let v5165 : BitVec 1 := Scalar.cmpi .sgt v5163 c0_i32_2911
  let v5166 : BitVec 32 := Scalar.extui v5165
  let c0_i32_2912 : BitVec 32 := 0#32
  let v5167 : BitVec 1 := Scalar.cmpi .slt v5163 c0_i32_2912
  let v5168 : BitVec 32 := Scalar.extui v5167
  let v5169 : BitVec 32 := Scalar.subi v5166 v5168
  let c128_i32_2910 : BitVec 32 := 128#32
  let c0_i32_2913 : BitVec 32 := 0#32
  let v5170 : BitVec 1 := Scalar.cmpi .sgt c128_i32_2910 c0_i32_2913
  let v5171 : BitVec 32 := Scalar.extui v5170
  let c0_i32_2914 : BitVec 32 := 0#32
  let v5172 : BitVec 1 := Scalar.cmpi .slt c128_i32_2910 c0_i32_2914
  let v5173 : BitVec 32 := Scalar.extui v5172
  let v5174 : BitVec 32 := Scalar.subi v5171 v5173
  let v5175 : BitVec 1 := Scalar.cmpi .ne v5169 v5174
  let v5176 : BitVec 32 := Scalar.remsi v5163 c128_i32_2910
  let c0_i32_2915 : BitVec 32 := 0#32
  let v5177 : BitVec 1 := Scalar.cmpi .ne v5176 c0_i32_2915
  let v5178 : BitVec 1 := Scalar.andi v5175 v5177
  let v5164 : BitVec 32 := Scalar.divsi v5163 c128_i32_2910
  let c1_i32_2916 : BitVec 32 := 1#32
  let v5179 : BitVec 32 := Scalar.subi v5164 c1_i32_2916
  let v5180 : BitVec 32 := Scalar.select v5178 v5179 v5164
  let c128_i32_2917 : BitVec 32 := 128#32
  let v5181 : BitVec 32 := Scalar.muli v5180 c128_i32_2917
  let v5182 : BitVec 32 := Scalar.maxsi c0_i32_2918 v5181
  let v5183 : BitVec 32 := Scalar.minsi c99872_i32_2919 v5182
  let v5184 : BitVec 32 := v5183
  ![69, v5184.toNat]

def k1_chk198 (v5163 : BitVec 32) : Prop :=
  (32 ∣ (k1_mult198 v5163).toNat) ∧
  (∀ a, (k1_off198 v5163) a + S1x128.size a ≤ S128x100000.size a)
theorem k1_mult198_dvd : ∀ (v5163 : BitVec 32) (k1_hw198 : k1_chk198 v5163), 32 ∣ (k1_mult198 v5163).toNat := fun v5163 k1_hw198 => k1_hw198.1
theorem k1_off198_inb : ∀ (v5163 : BitVec 32) (k1_hw198 : k1_chk198 v5163), ∀ a, (k1_off198 v5163) a + S1x128.size a ≤ S128x100000.size a := fun v5163 k1_hw198 => k1_hw198.2

def k1_mult199 (v5189 : BitVec 32) : BitVec 32 :=
  let c99872_i32_2935 : BitVec 32 := 99872#32
  let c0_i32_2934 : BitVec 32 := 0#32
  let c0_i32_2927 : BitVec 32 := 0#32
  let v5191 : BitVec 1 := Scalar.cmpi .sgt v5189 c0_i32_2927
  let v5192 : BitVec 32 := Scalar.extui v5191
  let c0_i32_2928 : BitVec 32 := 0#32
  let v5193 : BitVec 1 := Scalar.cmpi .slt v5189 c0_i32_2928
  let v5194 : BitVec 32 := Scalar.extui v5193
  let v5195 : BitVec 32 := Scalar.subi v5192 v5194
  let c128_i32_2926 : BitVec 32 := 128#32
  let c0_i32_2929 : BitVec 32 := 0#32
  let v5196 : BitVec 1 := Scalar.cmpi .sgt c128_i32_2926 c0_i32_2929
  let v5197 : BitVec 32 := Scalar.extui v5196
  let c0_i32_2930 : BitVec 32 := 0#32
  let v5198 : BitVec 1 := Scalar.cmpi .slt c128_i32_2926 c0_i32_2930
  let v5199 : BitVec 32 := Scalar.extui v5198
  let v5200 : BitVec 32 := Scalar.subi v5197 v5199
  let v5201 : BitVec 1 := Scalar.cmpi .ne v5195 v5200
  let v5202 : BitVec 32 := Scalar.remsi v5189 c128_i32_2926
  let c0_i32_2931 : BitVec 32 := 0#32
  let v5203 : BitVec 1 := Scalar.cmpi .ne v5202 c0_i32_2931
  let v5204 : BitVec 1 := Scalar.andi v5201 v5203
  let v5190 : BitVec 32 := Scalar.divsi v5189 c128_i32_2926
  let c1_i32_2932 : BitVec 32 := 1#32
  let v5205 : BitVec 32 := Scalar.subi v5190 c1_i32_2932
  let v5206 : BitVec 32 := Scalar.select v5204 v5205 v5190
  let c128_i32_2933 : BitVec 32 := 128#32
  let v5207 : BitVec 32 := Scalar.muli v5206 c128_i32_2933
  let v5208 : BitVec 32 := Scalar.maxsi c0_i32_2934 v5207
  let v5209 : BitVec 32 := Scalar.minsi c99872_i32_2935 v5208
  v5209

def k1_off199 (v5189 : BitVec 32) : Fin 2 → Nat :=
  let c70_i32_2937 : BitVec 32 := 70#32
  let c99872_i32_2935 : BitVec 32 := 99872#32
  let c0_i32_2934 : BitVec 32 := 0#32
  let c0_i32_2927 : BitVec 32 := 0#32
  let v5191 : BitVec 1 := Scalar.cmpi .sgt v5189 c0_i32_2927
  let v5192 : BitVec 32 := Scalar.extui v5191
  let c0_i32_2928 : BitVec 32 := 0#32
  let v5193 : BitVec 1 := Scalar.cmpi .slt v5189 c0_i32_2928
  let v5194 : BitVec 32 := Scalar.extui v5193
  let v5195 : BitVec 32 := Scalar.subi v5192 v5194
  let c128_i32_2926 : BitVec 32 := 128#32
  let c0_i32_2929 : BitVec 32 := 0#32
  let v5196 : BitVec 1 := Scalar.cmpi .sgt c128_i32_2926 c0_i32_2929
  let v5197 : BitVec 32 := Scalar.extui v5196
  let c0_i32_2930 : BitVec 32 := 0#32
  let v5198 : BitVec 1 := Scalar.cmpi .slt c128_i32_2926 c0_i32_2930
  let v5199 : BitVec 32 := Scalar.extui v5198
  let v5200 : BitVec 32 := Scalar.subi v5197 v5199
  let v5201 : BitVec 1 := Scalar.cmpi .ne v5195 v5200
  let v5202 : BitVec 32 := Scalar.remsi v5189 c128_i32_2926
  let c0_i32_2931 : BitVec 32 := 0#32
  let v5203 : BitVec 1 := Scalar.cmpi .ne v5202 c0_i32_2931
  let v5204 : BitVec 1 := Scalar.andi v5201 v5203
  let v5190 : BitVec 32 := Scalar.divsi v5189 c128_i32_2926
  let c1_i32_2932 : BitVec 32 := 1#32
  let v5205 : BitVec 32 := Scalar.subi v5190 c1_i32_2932
  let v5206 : BitVec 32 := Scalar.select v5204 v5205 v5190
  let c128_i32_2933 : BitVec 32 := 128#32
  let v5207 : BitVec 32 := Scalar.muli v5206 c128_i32_2933
  let v5208 : BitVec 32 := Scalar.maxsi c0_i32_2934 v5207
  let v5209 : BitVec 32 := Scalar.minsi c99872_i32_2935 v5208
  let v5210 : BitVec 32 := v5209
  ![70, v5210.toNat]

def k1_chk199 (v5189 : BitVec 32) : Prop :=
  (32 ∣ (k1_mult199 v5189).toNat) ∧
  (∀ a, (k1_off199 v5189) a + S1x128.size a ≤ S128x100000.size a)
theorem k1_mult199_dvd : ∀ (v5189 : BitVec 32) (k1_hw199 : k1_chk199 v5189), 32 ∣ (k1_mult199 v5189).toNat := fun v5189 k1_hw199 => k1_hw199.1
theorem k1_off199_inb : ∀ (v5189 : BitVec 32) (k1_hw199 : k1_chk199 v5189), ∀ a, (k1_off199 v5189) a + S1x128.size a ≤ S128x100000.size a := fun v5189 k1_hw199 => k1_hw199.2

def k1_mult200 (v5215 : BitVec 32) : BitVec 32 :=
  let c99872_i32_2951 : BitVec 32 := 99872#32
  let c0_i32_2950 : BitVec 32 := 0#32
  let c0_i32_2943 : BitVec 32 := 0#32
  let v5217 : BitVec 1 := Scalar.cmpi .sgt v5215 c0_i32_2943
  let v5218 : BitVec 32 := Scalar.extui v5217
  let c0_i32_2944 : BitVec 32 := 0#32
  let v5219 : BitVec 1 := Scalar.cmpi .slt v5215 c0_i32_2944
  let v5220 : BitVec 32 := Scalar.extui v5219
  let v5221 : BitVec 32 := Scalar.subi v5218 v5220
  let c128_i32_2942 : BitVec 32 := 128#32
  let c0_i32_2945 : BitVec 32 := 0#32
  let v5222 : BitVec 1 := Scalar.cmpi .sgt c128_i32_2942 c0_i32_2945
  let v5223 : BitVec 32 := Scalar.extui v5222
  let c0_i32_2946 : BitVec 32 := 0#32
  let v5224 : BitVec 1 := Scalar.cmpi .slt c128_i32_2942 c0_i32_2946
  let v5225 : BitVec 32 := Scalar.extui v5224
  let v5226 : BitVec 32 := Scalar.subi v5223 v5225
  let v5227 : BitVec 1 := Scalar.cmpi .ne v5221 v5226
  let v5228 : BitVec 32 := Scalar.remsi v5215 c128_i32_2942
  let c0_i32_2947 : BitVec 32 := 0#32
  let v5229 : BitVec 1 := Scalar.cmpi .ne v5228 c0_i32_2947
  let v5230 : BitVec 1 := Scalar.andi v5227 v5229
  let v5216 : BitVec 32 := Scalar.divsi v5215 c128_i32_2942
  let c1_i32_2948 : BitVec 32 := 1#32
  let v5231 : BitVec 32 := Scalar.subi v5216 c1_i32_2948
  let v5232 : BitVec 32 := Scalar.select v5230 v5231 v5216
  let c128_i32_2949 : BitVec 32 := 128#32
  let v5233 : BitVec 32 := Scalar.muli v5232 c128_i32_2949
  let v5234 : BitVec 32 := Scalar.maxsi c0_i32_2950 v5233
  let v5235 : BitVec 32 := Scalar.minsi c99872_i32_2951 v5234
  v5235

def k1_off200 (v5215 : BitVec 32) : Fin 2 → Nat :=
  let c71_i32_2953 : BitVec 32 := 71#32
  let c99872_i32_2951 : BitVec 32 := 99872#32
  let c0_i32_2950 : BitVec 32 := 0#32
  let c0_i32_2943 : BitVec 32 := 0#32
  let v5217 : BitVec 1 := Scalar.cmpi .sgt v5215 c0_i32_2943
  let v5218 : BitVec 32 := Scalar.extui v5217
  let c0_i32_2944 : BitVec 32 := 0#32
  let v5219 : BitVec 1 := Scalar.cmpi .slt v5215 c0_i32_2944
  let v5220 : BitVec 32 := Scalar.extui v5219
  let v5221 : BitVec 32 := Scalar.subi v5218 v5220
  let c128_i32_2942 : BitVec 32 := 128#32
  let c0_i32_2945 : BitVec 32 := 0#32
  let v5222 : BitVec 1 := Scalar.cmpi .sgt c128_i32_2942 c0_i32_2945
  let v5223 : BitVec 32 := Scalar.extui v5222
  let c0_i32_2946 : BitVec 32 := 0#32
  let v5224 : BitVec 1 := Scalar.cmpi .slt c128_i32_2942 c0_i32_2946
  let v5225 : BitVec 32 := Scalar.extui v5224
  let v5226 : BitVec 32 := Scalar.subi v5223 v5225
  let v5227 : BitVec 1 := Scalar.cmpi .ne v5221 v5226
  let v5228 : BitVec 32 := Scalar.remsi v5215 c128_i32_2942
  let c0_i32_2947 : BitVec 32 := 0#32
  let v5229 : BitVec 1 := Scalar.cmpi .ne v5228 c0_i32_2947
  let v5230 : BitVec 1 := Scalar.andi v5227 v5229
  let v5216 : BitVec 32 := Scalar.divsi v5215 c128_i32_2942
  let c1_i32_2948 : BitVec 32 := 1#32
  let v5231 : BitVec 32 := Scalar.subi v5216 c1_i32_2948
  let v5232 : BitVec 32 := Scalar.select v5230 v5231 v5216
  let c128_i32_2949 : BitVec 32 := 128#32
  let v5233 : BitVec 32 := Scalar.muli v5232 c128_i32_2949
  let v5234 : BitVec 32 := Scalar.maxsi c0_i32_2950 v5233
  let v5235 : BitVec 32 := Scalar.minsi c99872_i32_2951 v5234
  let v5236 : BitVec 32 := v5235
  ![71, v5236.toNat]

def k1_chk200 (v5215 : BitVec 32) : Prop :=
  (32 ∣ (k1_mult200 v5215).toNat) ∧
  (∀ a, (k1_off200 v5215) a + S1x128.size a ≤ S128x100000.size a)
theorem k1_mult200_dvd : ∀ (v5215 : BitVec 32) (k1_hw200 : k1_chk200 v5215), 32 ∣ (k1_mult200 v5215).toNat := fun v5215 k1_hw200 => k1_hw200.1
theorem k1_off200_inb : ∀ (v5215 : BitVec 32) (k1_hw200 : k1_chk200 v5215), ∀ a, (k1_off200 v5215) a + S1x128.size a ≤ S128x100000.size a := fun v5215 k1_hw200 => k1_hw200.2

def k1_mult201 (v5241 : BitVec 32) : BitVec 32 :=
  let c99872_i32_2967 : BitVec 32 := 99872#32
  let c0_i32_2966 : BitVec 32 := 0#32
  let c0_i32_2959 : BitVec 32 := 0#32
  let v5243 : BitVec 1 := Scalar.cmpi .sgt v5241 c0_i32_2959
  let v5244 : BitVec 32 := Scalar.extui v5243
  let c0_i32_2960 : BitVec 32 := 0#32
  let v5245 : BitVec 1 := Scalar.cmpi .slt v5241 c0_i32_2960
  let v5246 : BitVec 32 := Scalar.extui v5245
  let v5247 : BitVec 32 := Scalar.subi v5244 v5246
  let c128_i32_2958 : BitVec 32 := 128#32
  let c0_i32_2961 : BitVec 32 := 0#32
  let v5248 : BitVec 1 := Scalar.cmpi .sgt c128_i32_2958 c0_i32_2961
  let v5249 : BitVec 32 := Scalar.extui v5248
  let c0_i32_2962 : BitVec 32 := 0#32
  let v5250 : BitVec 1 := Scalar.cmpi .slt c128_i32_2958 c0_i32_2962
  let v5251 : BitVec 32 := Scalar.extui v5250
  let v5252 : BitVec 32 := Scalar.subi v5249 v5251
  let v5253 : BitVec 1 := Scalar.cmpi .ne v5247 v5252
  let v5254 : BitVec 32 := Scalar.remsi v5241 c128_i32_2958
  let c0_i32_2963 : BitVec 32 := 0#32
  let v5255 : BitVec 1 := Scalar.cmpi .ne v5254 c0_i32_2963
  let v5256 : BitVec 1 := Scalar.andi v5253 v5255
  let v5242 : BitVec 32 := Scalar.divsi v5241 c128_i32_2958
  let c1_i32_2964 : BitVec 32 := 1#32
  let v5257 : BitVec 32 := Scalar.subi v5242 c1_i32_2964
  let v5258 : BitVec 32 := Scalar.select v5256 v5257 v5242
  let c128_i32_2965 : BitVec 32 := 128#32
  let v5259 : BitVec 32 := Scalar.muli v5258 c128_i32_2965
  let v5260 : BitVec 32 := Scalar.maxsi c0_i32_2966 v5259
  let v5261 : BitVec 32 := Scalar.minsi c99872_i32_2967 v5260
  v5261

def k1_off201 (v5241 : BitVec 32) : Fin 2 → Nat :=
  let c72_i32_2969 : BitVec 32 := 72#32
  let c99872_i32_2967 : BitVec 32 := 99872#32
  let c0_i32_2966 : BitVec 32 := 0#32
  let c0_i32_2959 : BitVec 32 := 0#32
  let v5243 : BitVec 1 := Scalar.cmpi .sgt v5241 c0_i32_2959
  let v5244 : BitVec 32 := Scalar.extui v5243
  let c0_i32_2960 : BitVec 32 := 0#32
  let v5245 : BitVec 1 := Scalar.cmpi .slt v5241 c0_i32_2960
  let v5246 : BitVec 32 := Scalar.extui v5245
  let v5247 : BitVec 32 := Scalar.subi v5244 v5246
  let c128_i32_2958 : BitVec 32 := 128#32
  let c0_i32_2961 : BitVec 32 := 0#32
  let v5248 : BitVec 1 := Scalar.cmpi .sgt c128_i32_2958 c0_i32_2961
  let v5249 : BitVec 32 := Scalar.extui v5248
  let c0_i32_2962 : BitVec 32 := 0#32
  let v5250 : BitVec 1 := Scalar.cmpi .slt c128_i32_2958 c0_i32_2962
  let v5251 : BitVec 32 := Scalar.extui v5250
  let v5252 : BitVec 32 := Scalar.subi v5249 v5251
  let v5253 : BitVec 1 := Scalar.cmpi .ne v5247 v5252
  let v5254 : BitVec 32 := Scalar.remsi v5241 c128_i32_2958
  let c0_i32_2963 : BitVec 32 := 0#32
  let v5255 : BitVec 1 := Scalar.cmpi .ne v5254 c0_i32_2963
  let v5256 : BitVec 1 := Scalar.andi v5253 v5255
  let v5242 : BitVec 32 := Scalar.divsi v5241 c128_i32_2958
  let c1_i32_2964 : BitVec 32 := 1#32
  let v5257 : BitVec 32 := Scalar.subi v5242 c1_i32_2964
  let v5258 : BitVec 32 := Scalar.select v5256 v5257 v5242
  let c128_i32_2965 : BitVec 32 := 128#32
  let v5259 : BitVec 32 := Scalar.muli v5258 c128_i32_2965
  let v5260 : BitVec 32 := Scalar.maxsi c0_i32_2966 v5259
  let v5261 : BitVec 32 := Scalar.minsi c99872_i32_2967 v5260
  let v5262 : BitVec 32 := v5261
  ![72, v5262.toNat]

def k1_chk201 (v5241 : BitVec 32) : Prop :=
  (32 ∣ (k1_mult201 v5241).toNat) ∧
  (∀ a, (k1_off201 v5241) a + S1x128.size a ≤ S128x100000.size a)
theorem k1_mult201_dvd : ∀ (v5241 : BitVec 32) (k1_hw201 : k1_chk201 v5241), 32 ∣ (k1_mult201 v5241).toNat := fun v5241 k1_hw201 => k1_hw201.1
theorem k1_off201_inb : ∀ (v5241 : BitVec 32) (k1_hw201 : k1_chk201 v5241), ∀ a, (k1_off201 v5241) a + S1x128.size a ≤ S128x100000.size a := fun v5241 k1_hw201 => k1_hw201.2

def k1_mult202 (v5267 : BitVec 32) : BitVec 32 :=
  let c99872_i32_2983 : BitVec 32 := 99872#32
  let c0_i32_2982 : BitVec 32 := 0#32
  let c0_i32_2975 : BitVec 32 := 0#32
  let v5269 : BitVec 1 := Scalar.cmpi .sgt v5267 c0_i32_2975
  let v5270 : BitVec 32 := Scalar.extui v5269
  let c0_i32_2976 : BitVec 32 := 0#32
  let v5271 : BitVec 1 := Scalar.cmpi .slt v5267 c0_i32_2976
  let v5272 : BitVec 32 := Scalar.extui v5271
  let v5273 : BitVec 32 := Scalar.subi v5270 v5272
  let c128_i32_2974 : BitVec 32 := 128#32
  let c0_i32_2977 : BitVec 32 := 0#32
  let v5274 : BitVec 1 := Scalar.cmpi .sgt c128_i32_2974 c0_i32_2977
  let v5275 : BitVec 32 := Scalar.extui v5274
  let c0_i32_2978 : BitVec 32 := 0#32
  let v5276 : BitVec 1 := Scalar.cmpi .slt c128_i32_2974 c0_i32_2978
  let v5277 : BitVec 32 := Scalar.extui v5276
  let v5278 : BitVec 32 := Scalar.subi v5275 v5277
  let v5279 : BitVec 1 := Scalar.cmpi .ne v5273 v5278
  let v5280 : BitVec 32 := Scalar.remsi v5267 c128_i32_2974
  let c0_i32_2979 : BitVec 32 := 0#32
  let v5281 : BitVec 1 := Scalar.cmpi .ne v5280 c0_i32_2979
  let v5282 : BitVec 1 := Scalar.andi v5279 v5281
  let v5268 : BitVec 32 := Scalar.divsi v5267 c128_i32_2974
  let c1_i32_2980 : BitVec 32 := 1#32
  let v5283 : BitVec 32 := Scalar.subi v5268 c1_i32_2980
  let v5284 : BitVec 32 := Scalar.select v5282 v5283 v5268
  let c128_i32_2981 : BitVec 32 := 128#32
  let v5285 : BitVec 32 := Scalar.muli v5284 c128_i32_2981
  let v5286 : BitVec 32 := Scalar.maxsi c0_i32_2982 v5285
  let v5287 : BitVec 32 := Scalar.minsi c99872_i32_2983 v5286
  v5287

def k1_off202 (v5267 : BitVec 32) : Fin 2 → Nat :=
  let c73_i32_2985 : BitVec 32 := 73#32
  let c99872_i32_2983 : BitVec 32 := 99872#32
  let c0_i32_2982 : BitVec 32 := 0#32
  let c0_i32_2975 : BitVec 32 := 0#32
  let v5269 : BitVec 1 := Scalar.cmpi .sgt v5267 c0_i32_2975
  let v5270 : BitVec 32 := Scalar.extui v5269
  let c0_i32_2976 : BitVec 32 := 0#32
  let v5271 : BitVec 1 := Scalar.cmpi .slt v5267 c0_i32_2976
  let v5272 : BitVec 32 := Scalar.extui v5271
  let v5273 : BitVec 32 := Scalar.subi v5270 v5272
  let c128_i32_2974 : BitVec 32 := 128#32
  let c0_i32_2977 : BitVec 32 := 0#32
  let v5274 : BitVec 1 := Scalar.cmpi .sgt c128_i32_2974 c0_i32_2977
  let v5275 : BitVec 32 := Scalar.extui v5274
  let c0_i32_2978 : BitVec 32 := 0#32
  let v5276 : BitVec 1 := Scalar.cmpi .slt c128_i32_2974 c0_i32_2978
  let v5277 : BitVec 32 := Scalar.extui v5276
  let v5278 : BitVec 32 := Scalar.subi v5275 v5277
  let v5279 : BitVec 1 := Scalar.cmpi .ne v5273 v5278
  let v5280 : BitVec 32 := Scalar.remsi v5267 c128_i32_2974
  let c0_i32_2979 : BitVec 32 := 0#32
  let v5281 : BitVec 1 := Scalar.cmpi .ne v5280 c0_i32_2979
  let v5282 : BitVec 1 := Scalar.andi v5279 v5281
  let v5268 : BitVec 32 := Scalar.divsi v5267 c128_i32_2974
  let c1_i32_2980 : BitVec 32 := 1#32
  let v5283 : BitVec 32 := Scalar.subi v5268 c1_i32_2980
  let v5284 : BitVec 32 := Scalar.select v5282 v5283 v5268
  let c128_i32_2981 : BitVec 32 := 128#32
  let v5285 : BitVec 32 := Scalar.muli v5284 c128_i32_2981
  let v5286 : BitVec 32 := Scalar.maxsi c0_i32_2982 v5285
  let v5287 : BitVec 32 := Scalar.minsi c99872_i32_2983 v5286
  let v5288 : BitVec 32 := v5287
  ![73, v5288.toNat]

def k1_chk202 (v5267 : BitVec 32) : Prop :=
  (32 ∣ (k1_mult202 v5267).toNat) ∧
  (∀ a, (k1_off202 v5267) a + S1x128.size a ≤ S128x100000.size a)
theorem k1_mult202_dvd : ∀ (v5267 : BitVec 32) (k1_hw202 : k1_chk202 v5267), 32 ∣ (k1_mult202 v5267).toNat := fun v5267 k1_hw202 => k1_hw202.1
theorem k1_off202_inb : ∀ (v5267 : BitVec 32) (k1_hw202 : k1_chk202 v5267), ∀ a, (k1_off202 v5267) a + S1x128.size a ≤ S128x100000.size a := fun v5267 k1_hw202 => k1_hw202.2

def k1_mult203 (v5293 : BitVec 32) : BitVec 32 :=
  let c99872_i32_2999 : BitVec 32 := 99872#32
  let c0_i32_2998 : BitVec 32 := 0#32
  let c0_i32_2991 : BitVec 32 := 0#32
  let v5295 : BitVec 1 := Scalar.cmpi .sgt v5293 c0_i32_2991
  let v5296 : BitVec 32 := Scalar.extui v5295
  let c0_i32_2992 : BitVec 32 := 0#32
  let v5297 : BitVec 1 := Scalar.cmpi .slt v5293 c0_i32_2992
  let v5298 : BitVec 32 := Scalar.extui v5297
  let v5299 : BitVec 32 := Scalar.subi v5296 v5298
  let c128_i32_2990 : BitVec 32 := 128#32
  let c0_i32_2993 : BitVec 32 := 0#32
  let v5300 : BitVec 1 := Scalar.cmpi .sgt c128_i32_2990 c0_i32_2993
  let v5301 : BitVec 32 := Scalar.extui v5300
  let c0_i32_2994 : BitVec 32 := 0#32
  let v5302 : BitVec 1 := Scalar.cmpi .slt c128_i32_2990 c0_i32_2994
  let v5303 : BitVec 32 := Scalar.extui v5302
  let v5304 : BitVec 32 := Scalar.subi v5301 v5303
  let v5305 : BitVec 1 := Scalar.cmpi .ne v5299 v5304
  let v5306 : BitVec 32 := Scalar.remsi v5293 c128_i32_2990
  let c0_i32_2995 : BitVec 32 := 0#32
  let v5307 : BitVec 1 := Scalar.cmpi .ne v5306 c0_i32_2995
  let v5308 : BitVec 1 := Scalar.andi v5305 v5307
  let v5294 : BitVec 32 := Scalar.divsi v5293 c128_i32_2990
  let c1_i32_2996 : BitVec 32 := 1#32
  let v5309 : BitVec 32 := Scalar.subi v5294 c1_i32_2996
  let v5310 : BitVec 32 := Scalar.select v5308 v5309 v5294
  let c128_i32_2997 : BitVec 32 := 128#32
  let v5311 : BitVec 32 := Scalar.muli v5310 c128_i32_2997
  let v5312 : BitVec 32 := Scalar.maxsi c0_i32_2998 v5311
  let v5313 : BitVec 32 := Scalar.minsi c99872_i32_2999 v5312
  v5313

def k1_off203 (v5293 : BitVec 32) : Fin 2 → Nat :=
  let c74_i32_3001 : BitVec 32 := 74#32
  let c99872_i32_2999 : BitVec 32 := 99872#32
  let c0_i32_2998 : BitVec 32 := 0#32
  let c0_i32_2991 : BitVec 32 := 0#32
  let v5295 : BitVec 1 := Scalar.cmpi .sgt v5293 c0_i32_2991
  let v5296 : BitVec 32 := Scalar.extui v5295
  let c0_i32_2992 : BitVec 32 := 0#32
  let v5297 : BitVec 1 := Scalar.cmpi .slt v5293 c0_i32_2992
  let v5298 : BitVec 32 := Scalar.extui v5297
  let v5299 : BitVec 32 := Scalar.subi v5296 v5298
  let c128_i32_2990 : BitVec 32 := 128#32
  let c0_i32_2993 : BitVec 32 := 0#32
  let v5300 : BitVec 1 := Scalar.cmpi .sgt c128_i32_2990 c0_i32_2993
  let v5301 : BitVec 32 := Scalar.extui v5300
  let c0_i32_2994 : BitVec 32 := 0#32
  let v5302 : BitVec 1 := Scalar.cmpi .slt c128_i32_2990 c0_i32_2994
  let v5303 : BitVec 32 := Scalar.extui v5302
  let v5304 : BitVec 32 := Scalar.subi v5301 v5303
  let v5305 : BitVec 1 := Scalar.cmpi .ne v5299 v5304
  let v5306 : BitVec 32 := Scalar.remsi v5293 c128_i32_2990
  let c0_i32_2995 : BitVec 32 := 0#32
  let v5307 : BitVec 1 := Scalar.cmpi .ne v5306 c0_i32_2995
  let v5308 : BitVec 1 := Scalar.andi v5305 v5307
  let v5294 : BitVec 32 := Scalar.divsi v5293 c128_i32_2990
  let c1_i32_2996 : BitVec 32 := 1#32
  let v5309 : BitVec 32 := Scalar.subi v5294 c1_i32_2996
  let v5310 : BitVec 32 := Scalar.select v5308 v5309 v5294
  let c128_i32_2997 : BitVec 32 := 128#32
  let v5311 : BitVec 32 := Scalar.muli v5310 c128_i32_2997
  let v5312 : BitVec 32 := Scalar.maxsi c0_i32_2998 v5311
  let v5313 : BitVec 32 := Scalar.minsi c99872_i32_2999 v5312
  let v5314 : BitVec 32 := v5313
  ![74, v5314.toNat]

def k1_chk203 (v5293 : BitVec 32) : Prop :=
  (32 ∣ (k1_mult203 v5293).toNat) ∧
  (∀ a, (k1_off203 v5293) a + S1x128.size a ≤ S128x100000.size a)
theorem k1_mult203_dvd : ∀ (v5293 : BitVec 32) (k1_hw203 : k1_chk203 v5293), 32 ∣ (k1_mult203 v5293).toNat := fun v5293 k1_hw203 => k1_hw203.1
theorem k1_off203_inb : ∀ (v5293 : BitVec 32) (k1_hw203 : k1_chk203 v5293), ∀ a, (k1_off203 v5293) a + S1x128.size a ≤ S128x100000.size a := fun v5293 k1_hw203 => k1_hw203.2

def k1_mult204 (v5319 : BitVec 32) : BitVec 32 :=
  let c99872_i32_3015 : BitVec 32 := 99872#32
  let c0_i32_3014 : BitVec 32 := 0#32
  let c0_i32_3007 : BitVec 32 := 0#32
  let v5321 : BitVec 1 := Scalar.cmpi .sgt v5319 c0_i32_3007
  let v5322 : BitVec 32 := Scalar.extui v5321
  let c0_i32_3008 : BitVec 32 := 0#32
  let v5323 : BitVec 1 := Scalar.cmpi .slt v5319 c0_i32_3008
  let v5324 : BitVec 32 := Scalar.extui v5323
  let v5325 : BitVec 32 := Scalar.subi v5322 v5324
  let c128_i32_3006 : BitVec 32 := 128#32
  let c0_i32_3009 : BitVec 32 := 0#32
  let v5326 : BitVec 1 := Scalar.cmpi .sgt c128_i32_3006 c0_i32_3009
  let v5327 : BitVec 32 := Scalar.extui v5326
  let c0_i32_3010 : BitVec 32 := 0#32
  let v5328 : BitVec 1 := Scalar.cmpi .slt c128_i32_3006 c0_i32_3010
  let v5329 : BitVec 32 := Scalar.extui v5328
  let v5330 : BitVec 32 := Scalar.subi v5327 v5329
  let v5331 : BitVec 1 := Scalar.cmpi .ne v5325 v5330
  let v5332 : BitVec 32 := Scalar.remsi v5319 c128_i32_3006
  let c0_i32_3011 : BitVec 32 := 0#32
  let v5333 : BitVec 1 := Scalar.cmpi .ne v5332 c0_i32_3011
  let v5334 : BitVec 1 := Scalar.andi v5331 v5333
  let v5320 : BitVec 32 := Scalar.divsi v5319 c128_i32_3006
  let c1_i32_3012 : BitVec 32 := 1#32
  let v5335 : BitVec 32 := Scalar.subi v5320 c1_i32_3012
  let v5336 : BitVec 32 := Scalar.select v5334 v5335 v5320
  let c128_i32_3013 : BitVec 32 := 128#32
  let v5337 : BitVec 32 := Scalar.muli v5336 c128_i32_3013
  let v5338 : BitVec 32 := Scalar.maxsi c0_i32_3014 v5337
  let v5339 : BitVec 32 := Scalar.minsi c99872_i32_3015 v5338
  v5339

def k1_off204 (v5319 : BitVec 32) : Fin 2 → Nat :=
  let c75_i32_3017 : BitVec 32 := 75#32
  let c99872_i32_3015 : BitVec 32 := 99872#32
  let c0_i32_3014 : BitVec 32 := 0#32
  let c0_i32_3007 : BitVec 32 := 0#32
  let v5321 : BitVec 1 := Scalar.cmpi .sgt v5319 c0_i32_3007
  let v5322 : BitVec 32 := Scalar.extui v5321
  let c0_i32_3008 : BitVec 32 := 0#32
  let v5323 : BitVec 1 := Scalar.cmpi .slt v5319 c0_i32_3008
  let v5324 : BitVec 32 := Scalar.extui v5323
  let v5325 : BitVec 32 := Scalar.subi v5322 v5324
  let c128_i32_3006 : BitVec 32 := 128#32
  let c0_i32_3009 : BitVec 32 := 0#32
  let v5326 : BitVec 1 := Scalar.cmpi .sgt c128_i32_3006 c0_i32_3009
  let v5327 : BitVec 32 := Scalar.extui v5326
  let c0_i32_3010 : BitVec 32 := 0#32
  let v5328 : BitVec 1 := Scalar.cmpi .slt c128_i32_3006 c0_i32_3010
  let v5329 : BitVec 32 := Scalar.extui v5328
  let v5330 : BitVec 32 := Scalar.subi v5327 v5329
  let v5331 : BitVec 1 := Scalar.cmpi .ne v5325 v5330
  let v5332 : BitVec 32 := Scalar.remsi v5319 c128_i32_3006
  let c0_i32_3011 : BitVec 32 := 0#32
  let v5333 : BitVec 1 := Scalar.cmpi .ne v5332 c0_i32_3011
  let v5334 : BitVec 1 := Scalar.andi v5331 v5333
  let v5320 : BitVec 32 := Scalar.divsi v5319 c128_i32_3006
  let c1_i32_3012 : BitVec 32 := 1#32
  let v5335 : BitVec 32 := Scalar.subi v5320 c1_i32_3012
  let v5336 : BitVec 32 := Scalar.select v5334 v5335 v5320
  let c128_i32_3013 : BitVec 32 := 128#32
  let v5337 : BitVec 32 := Scalar.muli v5336 c128_i32_3013
  let v5338 : BitVec 32 := Scalar.maxsi c0_i32_3014 v5337
  let v5339 : BitVec 32 := Scalar.minsi c99872_i32_3015 v5338
  let v5340 : BitVec 32 := v5339
  ![75, v5340.toNat]

def k1_chk204 (v5319 : BitVec 32) : Prop :=
  (32 ∣ (k1_mult204 v5319).toNat) ∧
  (∀ a, (k1_off204 v5319) a + S1x128.size a ≤ S128x100000.size a)
theorem k1_mult204_dvd : ∀ (v5319 : BitVec 32) (k1_hw204 : k1_chk204 v5319), 32 ∣ (k1_mult204 v5319).toNat := fun v5319 k1_hw204 => k1_hw204.1
theorem k1_off204_inb : ∀ (v5319 : BitVec 32) (k1_hw204 : k1_chk204 v5319), ∀ a, (k1_off204 v5319) a + S1x128.size a ≤ S128x100000.size a := fun v5319 k1_hw204 => k1_hw204.2

def k1_mult205 (v5345 : BitVec 32) : BitVec 32 :=
  let c99872_i32_3031 : BitVec 32 := 99872#32
  let c0_i32_3030 : BitVec 32 := 0#32
  let c0_i32_3023 : BitVec 32 := 0#32
  let v5347 : BitVec 1 := Scalar.cmpi .sgt v5345 c0_i32_3023
  let v5348 : BitVec 32 := Scalar.extui v5347
  let c0_i32_3024 : BitVec 32 := 0#32
  let v5349 : BitVec 1 := Scalar.cmpi .slt v5345 c0_i32_3024
  let v5350 : BitVec 32 := Scalar.extui v5349
  let v5351 : BitVec 32 := Scalar.subi v5348 v5350
  let c128_i32_3022 : BitVec 32 := 128#32
  let c0_i32_3025 : BitVec 32 := 0#32
  let v5352 : BitVec 1 := Scalar.cmpi .sgt c128_i32_3022 c0_i32_3025
  let v5353 : BitVec 32 := Scalar.extui v5352
  let c0_i32_3026 : BitVec 32 := 0#32
  let v5354 : BitVec 1 := Scalar.cmpi .slt c128_i32_3022 c0_i32_3026
  let v5355 : BitVec 32 := Scalar.extui v5354
  let v5356 : BitVec 32 := Scalar.subi v5353 v5355
  let v5357 : BitVec 1 := Scalar.cmpi .ne v5351 v5356
  let v5358 : BitVec 32 := Scalar.remsi v5345 c128_i32_3022
  let c0_i32_3027 : BitVec 32 := 0#32
  let v5359 : BitVec 1 := Scalar.cmpi .ne v5358 c0_i32_3027
  let v5360 : BitVec 1 := Scalar.andi v5357 v5359
  let v5346 : BitVec 32 := Scalar.divsi v5345 c128_i32_3022
  let c1_i32_3028 : BitVec 32 := 1#32
  let v5361 : BitVec 32 := Scalar.subi v5346 c1_i32_3028
  let v5362 : BitVec 32 := Scalar.select v5360 v5361 v5346
  let c128_i32_3029 : BitVec 32 := 128#32
  let v5363 : BitVec 32 := Scalar.muli v5362 c128_i32_3029
  let v5364 : BitVec 32 := Scalar.maxsi c0_i32_3030 v5363
  let v5365 : BitVec 32 := Scalar.minsi c99872_i32_3031 v5364
  v5365

def k1_off205 (v5345 : BitVec 32) : Fin 2 → Nat :=
  let c76_i32_3033 : BitVec 32 := 76#32
  let c99872_i32_3031 : BitVec 32 := 99872#32
  let c0_i32_3030 : BitVec 32 := 0#32
  let c0_i32_3023 : BitVec 32 := 0#32
  let v5347 : BitVec 1 := Scalar.cmpi .sgt v5345 c0_i32_3023
  let v5348 : BitVec 32 := Scalar.extui v5347
  let c0_i32_3024 : BitVec 32 := 0#32
  let v5349 : BitVec 1 := Scalar.cmpi .slt v5345 c0_i32_3024
  let v5350 : BitVec 32 := Scalar.extui v5349
  let v5351 : BitVec 32 := Scalar.subi v5348 v5350
  let c128_i32_3022 : BitVec 32 := 128#32
  let c0_i32_3025 : BitVec 32 := 0#32
  let v5352 : BitVec 1 := Scalar.cmpi .sgt c128_i32_3022 c0_i32_3025
  let v5353 : BitVec 32 := Scalar.extui v5352
  let c0_i32_3026 : BitVec 32 := 0#32
  let v5354 : BitVec 1 := Scalar.cmpi .slt c128_i32_3022 c0_i32_3026
  let v5355 : BitVec 32 := Scalar.extui v5354
  let v5356 : BitVec 32 := Scalar.subi v5353 v5355
  let v5357 : BitVec 1 := Scalar.cmpi .ne v5351 v5356
  let v5358 : BitVec 32 := Scalar.remsi v5345 c128_i32_3022
  let c0_i32_3027 : BitVec 32 := 0#32
  let v5359 : BitVec 1 := Scalar.cmpi .ne v5358 c0_i32_3027
  let v5360 : BitVec 1 := Scalar.andi v5357 v5359
  let v5346 : BitVec 32 := Scalar.divsi v5345 c128_i32_3022
  let c1_i32_3028 : BitVec 32 := 1#32
  let v5361 : BitVec 32 := Scalar.subi v5346 c1_i32_3028
  let v5362 : BitVec 32 := Scalar.select v5360 v5361 v5346
  let c128_i32_3029 : BitVec 32 := 128#32
  let v5363 : BitVec 32 := Scalar.muli v5362 c128_i32_3029
  let v5364 : BitVec 32 := Scalar.maxsi c0_i32_3030 v5363
  let v5365 : BitVec 32 := Scalar.minsi c99872_i32_3031 v5364
  let v5366 : BitVec 32 := v5365
  ![76, v5366.toNat]

def k1_chk205 (v5345 : BitVec 32) : Prop :=
  (32 ∣ (k1_mult205 v5345).toNat) ∧
  (∀ a, (k1_off205 v5345) a + S1x128.size a ≤ S128x100000.size a)
theorem k1_mult205_dvd : ∀ (v5345 : BitVec 32) (k1_hw205 : k1_chk205 v5345), 32 ∣ (k1_mult205 v5345).toNat := fun v5345 k1_hw205 => k1_hw205.1
theorem k1_off205_inb : ∀ (v5345 : BitVec 32) (k1_hw205 : k1_chk205 v5345), ∀ a, (k1_off205 v5345) a + S1x128.size a ≤ S128x100000.size a := fun v5345 k1_hw205 => k1_hw205.2

def k1_mult206 (v5371 : BitVec 32) : BitVec 32 :=
  let c99872_i32_3047 : BitVec 32 := 99872#32
  let c0_i32_3046 : BitVec 32 := 0#32
  let c0_i32_3039 : BitVec 32 := 0#32
  let v5373 : BitVec 1 := Scalar.cmpi .sgt v5371 c0_i32_3039
  let v5374 : BitVec 32 := Scalar.extui v5373
  let c0_i32_3040 : BitVec 32 := 0#32
  let v5375 : BitVec 1 := Scalar.cmpi .slt v5371 c0_i32_3040
  let v5376 : BitVec 32 := Scalar.extui v5375
  let v5377 : BitVec 32 := Scalar.subi v5374 v5376
  let c128_i32_3038 : BitVec 32 := 128#32
  let c0_i32_3041 : BitVec 32 := 0#32
  let v5378 : BitVec 1 := Scalar.cmpi .sgt c128_i32_3038 c0_i32_3041
  let v5379 : BitVec 32 := Scalar.extui v5378
  let c0_i32_3042 : BitVec 32 := 0#32
  let v5380 : BitVec 1 := Scalar.cmpi .slt c128_i32_3038 c0_i32_3042
  let v5381 : BitVec 32 := Scalar.extui v5380
  let v5382 : BitVec 32 := Scalar.subi v5379 v5381
  let v5383 : BitVec 1 := Scalar.cmpi .ne v5377 v5382
  let v5384 : BitVec 32 := Scalar.remsi v5371 c128_i32_3038
  let c0_i32_3043 : BitVec 32 := 0#32
  let v5385 : BitVec 1 := Scalar.cmpi .ne v5384 c0_i32_3043
  let v5386 : BitVec 1 := Scalar.andi v5383 v5385
  let v5372 : BitVec 32 := Scalar.divsi v5371 c128_i32_3038
  let c1_i32_3044 : BitVec 32 := 1#32
  let v5387 : BitVec 32 := Scalar.subi v5372 c1_i32_3044
  let v5388 : BitVec 32 := Scalar.select v5386 v5387 v5372
  let c128_i32_3045 : BitVec 32 := 128#32
  let v5389 : BitVec 32 := Scalar.muli v5388 c128_i32_3045
  let v5390 : BitVec 32 := Scalar.maxsi c0_i32_3046 v5389
  let v5391 : BitVec 32 := Scalar.minsi c99872_i32_3047 v5390
  v5391

def k1_off206 (v5371 : BitVec 32) : Fin 2 → Nat :=
  let c77_i32_3049 : BitVec 32 := 77#32
  let c99872_i32_3047 : BitVec 32 := 99872#32
  let c0_i32_3046 : BitVec 32 := 0#32
  let c0_i32_3039 : BitVec 32 := 0#32
  let v5373 : BitVec 1 := Scalar.cmpi .sgt v5371 c0_i32_3039
  let v5374 : BitVec 32 := Scalar.extui v5373
  let c0_i32_3040 : BitVec 32 := 0#32
  let v5375 : BitVec 1 := Scalar.cmpi .slt v5371 c0_i32_3040
  let v5376 : BitVec 32 := Scalar.extui v5375
  let v5377 : BitVec 32 := Scalar.subi v5374 v5376
  let c128_i32_3038 : BitVec 32 := 128#32
  let c0_i32_3041 : BitVec 32 := 0#32
  let v5378 : BitVec 1 := Scalar.cmpi .sgt c128_i32_3038 c0_i32_3041
  let v5379 : BitVec 32 := Scalar.extui v5378
  let c0_i32_3042 : BitVec 32 := 0#32
  let v5380 : BitVec 1 := Scalar.cmpi .slt c128_i32_3038 c0_i32_3042
  let v5381 : BitVec 32 := Scalar.extui v5380
  let v5382 : BitVec 32 := Scalar.subi v5379 v5381
  let v5383 : BitVec 1 := Scalar.cmpi .ne v5377 v5382
  let v5384 : BitVec 32 := Scalar.remsi v5371 c128_i32_3038
  let c0_i32_3043 : BitVec 32 := 0#32
  let v5385 : BitVec 1 := Scalar.cmpi .ne v5384 c0_i32_3043
  let v5386 : BitVec 1 := Scalar.andi v5383 v5385
  let v5372 : BitVec 32 := Scalar.divsi v5371 c128_i32_3038
  let c1_i32_3044 : BitVec 32 := 1#32
  let v5387 : BitVec 32 := Scalar.subi v5372 c1_i32_3044
  let v5388 : BitVec 32 := Scalar.select v5386 v5387 v5372
  let c128_i32_3045 : BitVec 32 := 128#32
  let v5389 : BitVec 32 := Scalar.muli v5388 c128_i32_3045
  let v5390 : BitVec 32 := Scalar.maxsi c0_i32_3046 v5389
  let v5391 : BitVec 32 := Scalar.minsi c99872_i32_3047 v5390
  let v5392 : BitVec 32 := v5391
  ![77, v5392.toNat]

def k1_chk206 (v5371 : BitVec 32) : Prop :=
  (32 ∣ (k1_mult206 v5371).toNat) ∧
  (∀ a, (k1_off206 v5371) a + S1x128.size a ≤ S128x100000.size a)
theorem k1_mult206_dvd : ∀ (v5371 : BitVec 32) (k1_hw206 : k1_chk206 v5371), 32 ∣ (k1_mult206 v5371).toNat := fun v5371 k1_hw206 => k1_hw206.1
theorem k1_off206_inb : ∀ (v5371 : BitVec 32) (k1_hw206 : k1_chk206 v5371), ∀ a, (k1_off206 v5371) a + S1x128.size a ≤ S128x100000.size a := fun v5371 k1_hw206 => k1_hw206.2

def k1_mult207 (v5397 : BitVec 32) : BitVec 32 :=
  let c99872_i32_3063 : BitVec 32 := 99872#32
  let c0_i32_3062 : BitVec 32 := 0#32
  let c0_i32_3055 : BitVec 32 := 0#32
  let v5399 : BitVec 1 := Scalar.cmpi .sgt v5397 c0_i32_3055
  let v5400 : BitVec 32 := Scalar.extui v5399
  let c0_i32_3056 : BitVec 32 := 0#32
  let v5401 : BitVec 1 := Scalar.cmpi .slt v5397 c0_i32_3056
  let v5402 : BitVec 32 := Scalar.extui v5401
  let v5403 : BitVec 32 := Scalar.subi v5400 v5402
  let c128_i32_3054 : BitVec 32 := 128#32
  let c0_i32_3057 : BitVec 32 := 0#32
  let v5404 : BitVec 1 := Scalar.cmpi .sgt c128_i32_3054 c0_i32_3057
  let v5405 : BitVec 32 := Scalar.extui v5404
  let c0_i32_3058 : BitVec 32 := 0#32
  let v5406 : BitVec 1 := Scalar.cmpi .slt c128_i32_3054 c0_i32_3058
  let v5407 : BitVec 32 := Scalar.extui v5406
  let v5408 : BitVec 32 := Scalar.subi v5405 v5407
  let v5409 : BitVec 1 := Scalar.cmpi .ne v5403 v5408
  let v5410 : BitVec 32 := Scalar.remsi v5397 c128_i32_3054
  let c0_i32_3059 : BitVec 32 := 0#32
  let v5411 : BitVec 1 := Scalar.cmpi .ne v5410 c0_i32_3059
  let v5412 : BitVec 1 := Scalar.andi v5409 v5411
  let v5398 : BitVec 32 := Scalar.divsi v5397 c128_i32_3054
  let c1_i32_3060 : BitVec 32 := 1#32
  let v5413 : BitVec 32 := Scalar.subi v5398 c1_i32_3060
  let v5414 : BitVec 32 := Scalar.select v5412 v5413 v5398
  let c128_i32_3061 : BitVec 32 := 128#32
  let v5415 : BitVec 32 := Scalar.muli v5414 c128_i32_3061
  let v5416 : BitVec 32 := Scalar.maxsi c0_i32_3062 v5415
  let v5417 : BitVec 32 := Scalar.minsi c99872_i32_3063 v5416
  v5417

def k1_off207 (v5397 : BitVec 32) : Fin 2 → Nat :=
  let c78_i32_3065 : BitVec 32 := 78#32
  let c99872_i32_3063 : BitVec 32 := 99872#32
  let c0_i32_3062 : BitVec 32 := 0#32
  let c0_i32_3055 : BitVec 32 := 0#32
  let v5399 : BitVec 1 := Scalar.cmpi .sgt v5397 c0_i32_3055
  let v5400 : BitVec 32 := Scalar.extui v5399
  let c0_i32_3056 : BitVec 32 := 0#32
  let v5401 : BitVec 1 := Scalar.cmpi .slt v5397 c0_i32_3056
  let v5402 : BitVec 32 := Scalar.extui v5401
  let v5403 : BitVec 32 := Scalar.subi v5400 v5402
  let c128_i32_3054 : BitVec 32 := 128#32
  let c0_i32_3057 : BitVec 32 := 0#32
  let v5404 : BitVec 1 := Scalar.cmpi .sgt c128_i32_3054 c0_i32_3057
  let v5405 : BitVec 32 := Scalar.extui v5404
  let c0_i32_3058 : BitVec 32 := 0#32
  let v5406 : BitVec 1 := Scalar.cmpi .slt c128_i32_3054 c0_i32_3058
  let v5407 : BitVec 32 := Scalar.extui v5406
  let v5408 : BitVec 32 := Scalar.subi v5405 v5407
  let v5409 : BitVec 1 := Scalar.cmpi .ne v5403 v5408
  let v5410 : BitVec 32 := Scalar.remsi v5397 c128_i32_3054
  let c0_i32_3059 : BitVec 32 := 0#32
  let v5411 : BitVec 1 := Scalar.cmpi .ne v5410 c0_i32_3059
  let v5412 : BitVec 1 := Scalar.andi v5409 v5411
  let v5398 : BitVec 32 := Scalar.divsi v5397 c128_i32_3054
  let c1_i32_3060 : BitVec 32 := 1#32
  let v5413 : BitVec 32 := Scalar.subi v5398 c1_i32_3060
  let v5414 : BitVec 32 := Scalar.select v5412 v5413 v5398
  let c128_i32_3061 : BitVec 32 := 128#32
  let v5415 : BitVec 32 := Scalar.muli v5414 c128_i32_3061
  let v5416 : BitVec 32 := Scalar.maxsi c0_i32_3062 v5415
  let v5417 : BitVec 32 := Scalar.minsi c99872_i32_3063 v5416
  let v5418 : BitVec 32 := v5417
  ![78, v5418.toNat]

def k1_chk207 (v5397 : BitVec 32) : Prop :=
  (32 ∣ (k1_mult207 v5397).toNat) ∧
  (∀ a, (k1_off207 v5397) a + S1x128.size a ≤ S128x100000.size a)
theorem k1_mult207_dvd : ∀ (v5397 : BitVec 32) (k1_hw207 : k1_chk207 v5397), 32 ∣ (k1_mult207 v5397).toNat := fun v5397 k1_hw207 => k1_hw207.1
theorem k1_off207_inb : ∀ (v5397 : BitVec 32) (k1_hw207 : k1_chk207 v5397), ∀ a, (k1_off207 v5397) a + S1x128.size a ≤ S128x100000.size a := fun v5397 k1_hw207 => k1_hw207.2

def k1_mult208 (v5423 : BitVec 32) : BitVec 32 :=
  let c99872_i32_3079 : BitVec 32 := 99872#32
  let c0_i32_3078 : BitVec 32 := 0#32
  let c0_i32_3071 : BitVec 32 := 0#32
  let v5425 : BitVec 1 := Scalar.cmpi .sgt v5423 c0_i32_3071
  let v5426 : BitVec 32 := Scalar.extui v5425
  let c0_i32_3072 : BitVec 32 := 0#32
  let v5427 : BitVec 1 := Scalar.cmpi .slt v5423 c0_i32_3072
  let v5428 : BitVec 32 := Scalar.extui v5427
  let v5429 : BitVec 32 := Scalar.subi v5426 v5428
  let c128_i32_3070 : BitVec 32 := 128#32
  let c0_i32_3073 : BitVec 32 := 0#32
  let v5430 : BitVec 1 := Scalar.cmpi .sgt c128_i32_3070 c0_i32_3073
  let v5431 : BitVec 32 := Scalar.extui v5430
  let c0_i32_3074 : BitVec 32 := 0#32
  let v5432 : BitVec 1 := Scalar.cmpi .slt c128_i32_3070 c0_i32_3074
  let v5433 : BitVec 32 := Scalar.extui v5432
  let v5434 : BitVec 32 := Scalar.subi v5431 v5433
  let v5435 : BitVec 1 := Scalar.cmpi .ne v5429 v5434
  let v5436 : BitVec 32 := Scalar.remsi v5423 c128_i32_3070
  let c0_i32_3075 : BitVec 32 := 0#32
  let v5437 : BitVec 1 := Scalar.cmpi .ne v5436 c0_i32_3075
  let v5438 : BitVec 1 := Scalar.andi v5435 v5437
  let v5424 : BitVec 32 := Scalar.divsi v5423 c128_i32_3070
  let c1_i32_3076 : BitVec 32 := 1#32
  let v5439 : BitVec 32 := Scalar.subi v5424 c1_i32_3076
  let v5440 : BitVec 32 := Scalar.select v5438 v5439 v5424
  let c128_i32_3077 : BitVec 32 := 128#32
  let v5441 : BitVec 32 := Scalar.muli v5440 c128_i32_3077
  let v5442 : BitVec 32 := Scalar.maxsi c0_i32_3078 v5441
  let v5443 : BitVec 32 := Scalar.minsi c99872_i32_3079 v5442
  v5443

def k1_off208 (v5423 : BitVec 32) : Fin 2 → Nat :=
  let c79_i32_3081 : BitVec 32 := 79#32
  let c99872_i32_3079 : BitVec 32 := 99872#32
  let c0_i32_3078 : BitVec 32 := 0#32
  let c0_i32_3071 : BitVec 32 := 0#32
  let v5425 : BitVec 1 := Scalar.cmpi .sgt v5423 c0_i32_3071
  let v5426 : BitVec 32 := Scalar.extui v5425
  let c0_i32_3072 : BitVec 32 := 0#32
  let v5427 : BitVec 1 := Scalar.cmpi .slt v5423 c0_i32_3072
  let v5428 : BitVec 32 := Scalar.extui v5427
  let v5429 : BitVec 32 := Scalar.subi v5426 v5428
  let c128_i32_3070 : BitVec 32 := 128#32
  let c0_i32_3073 : BitVec 32 := 0#32
  let v5430 : BitVec 1 := Scalar.cmpi .sgt c128_i32_3070 c0_i32_3073
  let v5431 : BitVec 32 := Scalar.extui v5430
  let c0_i32_3074 : BitVec 32 := 0#32
  let v5432 : BitVec 1 := Scalar.cmpi .slt c128_i32_3070 c0_i32_3074
  let v5433 : BitVec 32 := Scalar.extui v5432
  let v5434 : BitVec 32 := Scalar.subi v5431 v5433
  let v5435 : BitVec 1 := Scalar.cmpi .ne v5429 v5434
  let v5436 : BitVec 32 := Scalar.remsi v5423 c128_i32_3070
  let c0_i32_3075 : BitVec 32 := 0#32
  let v5437 : BitVec 1 := Scalar.cmpi .ne v5436 c0_i32_3075
  let v5438 : BitVec 1 := Scalar.andi v5435 v5437
  let v5424 : BitVec 32 := Scalar.divsi v5423 c128_i32_3070
  let c1_i32_3076 : BitVec 32 := 1#32
  let v5439 : BitVec 32 := Scalar.subi v5424 c1_i32_3076
  let v5440 : BitVec 32 := Scalar.select v5438 v5439 v5424
  let c128_i32_3077 : BitVec 32 := 128#32
  let v5441 : BitVec 32 := Scalar.muli v5440 c128_i32_3077
  let v5442 : BitVec 32 := Scalar.maxsi c0_i32_3078 v5441
  let v5443 : BitVec 32 := Scalar.minsi c99872_i32_3079 v5442
  let v5444 : BitVec 32 := v5443
  ![79, v5444.toNat]

def k1_chk208 (v5423 : BitVec 32) : Prop :=
  (32 ∣ (k1_mult208 v5423).toNat) ∧
  (∀ a, (k1_off208 v5423) a + S1x128.size a ≤ S128x100000.size a)
theorem k1_mult208_dvd : ∀ (v5423 : BitVec 32) (k1_hw208 : k1_chk208 v5423), 32 ∣ (k1_mult208 v5423).toNat := fun v5423 k1_hw208 => k1_hw208.1
theorem k1_off208_inb : ∀ (v5423 : BitVec 32) (k1_hw208 : k1_chk208 v5423), ∀ a, (k1_off208 v5423) a + S1x128.size a ≤ S128x100000.size a := fun v5423 k1_hw208 => k1_hw208.2

def k1_mult209 (v5449 : BitVec 32) : BitVec 32 :=
  let c99872_i32_3095 : BitVec 32 := 99872#32
  let c0_i32_3094 : BitVec 32 := 0#32
  let c0_i32_3087 : BitVec 32 := 0#32
  let v5451 : BitVec 1 := Scalar.cmpi .sgt v5449 c0_i32_3087
  let v5452 : BitVec 32 := Scalar.extui v5451
  let c0_i32_3088 : BitVec 32 := 0#32
  let v5453 : BitVec 1 := Scalar.cmpi .slt v5449 c0_i32_3088
  let v5454 : BitVec 32 := Scalar.extui v5453
  let v5455 : BitVec 32 := Scalar.subi v5452 v5454
  let c128_i32_3086 : BitVec 32 := 128#32
  let c0_i32_3089 : BitVec 32 := 0#32
  let v5456 : BitVec 1 := Scalar.cmpi .sgt c128_i32_3086 c0_i32_3089
  let v5457 : BitVec 32 := Scalar.extui v5456
  let c0_i32_3090 : BitVec 32 := 0#32
  let v5458 : BitVec 1 := Scalar.cmpi .slt c128_i32_3086 c0_i32_3090
  let v5459 : BitVec 32 := Scalar.extui v5458
  let v5460 : BitVec 32 := Scalar.subi v5457 v5459
  let v5461 : BitVec 1 := Scalar.cmpi .ne v5455 v5460
  let v5462 : BitVec 32 := Scalar.remsi v5449 c128_i32_3086
  let c0_i32_3091 : BitVec 32 := 0#32
  let v5463 : BitVec 1 := Scalar.cmpi .ne v5462 c0_i32_3091
  let v5464 : BitVec 1 := Scalar.andi v5461 v5463
  let v5450 : BitVec 32 := Scalar.divsi v5449 c128_i32_3086
  let c1_i32_3092 : BitVec 32 := 1#32
  let v5465 : BitVec 32 := Scalar.subi v5450 c1_i32_3092
  let v5466 : BitVec 32 := Scalar.select v5464 v5465 v5450
  let c128_i32_3093 : BitVec 32 := 128#32
  let v5467 : BitVec 32 := Scalar.muli v5466 c128_i32_3093
  let v5468 : BitVec 32 := Scalar.maxsi c0_i32_3094 v5467
  let v5469 : BitVec 32 := Scalar.minsi c99872_i32_3095 v5468
  v5469

def k1_off209 (v5449 : BitVec 32) : Fin 2 → Nat :=
  let c80_i32_3097 : BitVec 32 := 80#32
  let c99872_i32_3095 : BitVec 32 := 99872#32
  let c0_i32_3094 : BitVec 32 := 0#32
  let c0_i32_3087 : BitVec 32 := 0#32
  let v5451 : BitVec 1 := Scalar.cmpi .sgt v5449 c0_i32_3087
  let v5452 : BitVec 32 := Scalar.extui v5451
  let c0_i32_3088 : BitVec 32 := 0#32
  let v5453 : BitVec 1 := Scalar.cmpi .slt v5449 c0_i32_3088
  let v5454 : BitVec 32 := Scalar.extui v5453
  let v5455 : BitVec 32 := Scalar.subi v5452 v5454
  let c128_i32_3086 : BitVec 32 := 128#32
  let c0_i32_3089 : BitVec 32 := 0#32
  let v5456 : BitVec 1 := Scalar.cmpi .sgt c128_i32_3086 c0_i32_3089
  let v5457 : BitVec 32 := Scalar.extui v5456
  let c0_i32_3090 : BitVec 32 := 0#32
  let v5458 : BitVec 1 := Scalar.cmpi .slt c128_i32_3086 c0_i32_3090
  let v5459 : BitVec 32 := Scalar.extui v5458
  let v5460 : BitVec 32 := Scalar.subi v5457 v5459
  let v5461 : BitVec 1 := Scalar.cmpi .ne v5455 v5460
  let v5462 : BitVec 32 := Scalar.remsi v5449 c128_i32_3086
  let c0_i32_3091 : BitVec 32 := 0#32
  let v5463 : BitVec 1 := Scalar.cmpi .ne v5462 c0_i32_3091
  let v5464 : BitVec 1 := Scalar.andi v5461 v5463
  let v5450 : BitVec 32 := Scalar.divsi v5449 c128_i32_3086
  let c1_i32_3092 : BitVec 32 := 1#32
  let v5465 : BitVec 32 := Scalar.subi v5450 c1_i32_3092
  let v5466 : BitVec 32 := Scalar.select v5464 v5465 v5450
  let c128_i32_3093 : BitVec 32 := 128#32
  let v5467 : BitVec 32 := Scalar.muli v5466 c128_i32_3093
  let v5468 : BitVec 32 := Scalar.maxsi c0_i32_3094 v5467
  let v5469 : BitVec 32 := Scalar.minsi c99872_i32_3095 v5468
  let v5470 : BitVec 32 := v5469
  ![80, v5470.toNat]

def k1_chk209 (v5449 : BitVec 32) : Prop :=
  (32 ∣ (k1_mult209 v5449).toNat) ∧
  (∀ a, (k1_off209 v5449) a + S1x128.size a ≤ S128x100000.size a)
theorem k1_mult209_dvd : ∀ (v5449 : BitVec 32) (k1_hw209 : k1_chk209 v5449), 32 ∣ (k1_mult209 v5449).toNat := fun v5449 k1_hw209 => k1_hw209.1
theorem k1_off209_inb : ∀ (v5449 : BitVec 32) (k1_hw209 : k1_chk209 v5449), ∀ a, (k1_off209 v5449) a + S1x128.size a ≤ S128x100000.size a := fun v5449 k1_hw209 => k1_hw209.2

def k1_mult210 (v5475 : BitVec 32) : BitVec 32 :=
  let c99872_i32_3111 : BitVec 32 := 99872#32
  let c0_i32_3110 : BitVec 32 := 0#32
  let c0_i32_3103 : BitVec 32 := 0#32
  let v5477 : BitVec 1 := Scalar.cmpi .sgt v5475 c0_i32_3103
  let v5478 : BitVec 32 := Scalar.extui v5477
  let c0_i32_3104 : BitVec 32 := 0#32
  let v5479 : BitVec 1 := Scalar.cmpi .slt v5475 c0_i32_3104
  let v5480 : BitVec 32 := Scalar.extui v5479
  let v5481 : BitVec 32 := Scalar.subi v5478 v5480
  let c128_i32_3102 : BitVec 32 := 128#32
  let c0_i32_3105 : BitVec 32 := 0#32
  let v5482 : BitVec 1 := Scalar.cmpi .sgt c128_i32_3102 c0_i32_3105
  let v5483 : BitVec 32 := Scalar.extui v5482
  let c0_i32_3106 : BitVec 32 := 0#32
  let v5484 : BitVec 1 := Scalar.cmpi .slt c128_i32_3102 c0_i32_3106
  let v5485 : BitVec 32 := Scalar.extui v5484
  let v5486 : BitVec 32 := Scalar.subi v5483 v5485
  let v5487 : BitVec 1 := Scalar.cmpi .ne v5481 v5486
  let v5488 : BitVec 32 := Scalar.remsi v5475 c128_i32_3102
  let c0_i32_3107 : BitVec 32 := 0#32
  let v5489 : BitVec 1 := Scalar.cmpi .ne v5488 c0_i32_3107
  let v5490 : BitVec 1 := Scalar.andi v5487 v5489
  let v5476 : BitVec 32 := Scalar.divsi v5475 c128_i32_3102
  let c1_i32_3108 : BitVec 32 := 1#32
  let v5491 : BitVec 32 := Scalar.subi v5476 c1_i32_3108
  let v5492 : BitVec 32 := Scalar.select v5490 v5491 v5476
  let c128_i32_3109 : BitVec 32 := 128#32
  let v5493 : BitVec 32 := Scalar.muli v5492 c128_i32_3109
  let v5494 : BitVec 32 := Scalar.maxsi c0_i32_3110 v5493
  let v5495 : BitVec 32 := Scalar.minsi c99872_i32_3111 v5494
  v5495

def k1_off210 (v5475 : BitVec 32) : Fin 2 → Nat :=
  let c81_i32_3113 : BitVec 32 := 81#32
  let c99872_i32_3111 : BitVec 32 := 99872#32
  let c0_i32_3110 : BitVec 32 := 0#32
  let c0_i32_3103 : BitVec 32 := 0#32
  let v5477 : BitVec 1 := Scalar.cmpi .sgt v5475 c0_i32_3103
  let v5478 : BitVec 32 := Scalar.extui v5477
  let c0_i32_3104 : BitVec 32 := 0#32
  let v5479 : BitVec 1 := Scalar.cmpi .slt v5475 c0_i32_3104
  let v5480 : BitVec 32 := Scalar.extui v5479
  let v5481 : BitVec 32 := Scalar.subi v5478 v5480
  let c128_i32_3102 : BitVec 32 := 128#32
  let c0_i32_3105 : BitVec 32 := 0#32
  let v5482 : BitVec 1 := Scalar.cmpi .sgt c128_i32_3102 c0_i32_3105
  let v5483 : BitVec 32 := Scalar.extui v5482
  let c0_i32_3106 : BitVec 32 := 0#32
  let v5484 : BitVec 1 := Scalar.cmpi .slt c128_i32_3102 c0_i32_3106
  let v5485 : BitVec 32 := Scalar.extui v5484
  let v5486 : BitVec 32 := Scalar.subi v5483 v5485
  let v5487 : BitVec 1 := Scalar.cmpi .ne v5481 v5486
  let v5488 : BitVec 32 := Scalar.remsi v5475 c128_i32_3102
  let c0_i32_3107 : BitVec 32 := 0#32
  let v5489 : BitVec 1 := Scalar.cmpi .ne v5488 c0_i32_3107
  let v5490 : BitVec 1 := Scalar.andi v5487 v5489
  let v5476 : BitVec 32 := Scalar.divsi v5475 c128_i32_3102
  let c1_i32_3108 : BitVec 32 := 1#32
  let v5491 : BitVec 32 := Scalar.subi v5476 c1_i32_3108
  let v5492 : BitVec 32 := Scalar.select v5490 v5491 v5476
  let c128_i32_3109 : BitVec 32 := 128#32
  let v5493 : BitVec 32 := Scalar.muli v5492 c128_i32_3109
  let v5494 : BitVec 32 := Scalar.maxsi c0_i32_3110 v5493
  let v5495 : BitVec 32 := Scalar.minsi c99872_i32_3111 v5494
  let v5496 : BitVec 32 := v5495
  ![81, v5496.toNat]

def k1_chk210 (v5475 : BitVec 32) : Prop :=
  (32 ∣ (k1_mult210 v5475).toNat) ∧
  (∀ a, (k1_off210 v5475) a + S1x128.size a ≤ S128x100000.size a)
theorem k1_mult210_dvd : ∀ (v5475 : BitVec 32) (k1_hw210 : k1_chk210 v5475), 32 ∣ (k1_mult210 v5475).toNat := fun v5475 k1_hw210 => k1_hw210.1
theorem k1_off210_inb : ∀ (v5475 : BitVec 32) (k1_hw210 : k1_chk210 v5475), ∀ a, (k1_off210 v5475) a + S1x128.size a ≤ S128x100000.size a := fun v5475 k1_hw210 => k1_hw210.2

def k1_mult211 (v5501 : BitVec 32) : BitVec 32 :=
  let c99872_i32_3127 : BitVec 32 := 99872#32
  let c0_i32_3126 : BitVec 32 := 0#32
  let c0_i32_3119 : BitVec 32 := 0#32
  let v5503 : BitVec 1 := Scalar.cmpi .sgt v5501 c0_i32_3119
  let v5504 : BitVec 32 := Scalar.extui v5503
  let c0_i32_3120 : BitVec 32 := 0#32
  let v5505 : BitVec 1 := Scalar.cmpi .slt v5501 c0_i32_3120
  let v5506 : BitVec 32 := Scalar.extui v5505
  let v5507 : BitVec 32 := Scalar.subi v5504 v5506
  let c128_i32_3118 : BitVec 32 := 128#32
  let c0_i32_3121 : BitVec 32 := 0#32
  let v5508 : BitVec 1 := Scalar.cmpi .sgt c128_i32_3118 c0_i32_3121
  let v5509 : BitVec 32 := Scalar.extui v5508
  let c0_i32_3122 : BitVec 32 := 0#32
  let v5510 : BitVec 1 := Scalar.cmpi .slt c128_i32_3118 c0_i32_3122
  let v5511 : BitVec 32 := Scalar.extui v5510
  let v5512 : BitVec 32 := Scalar.subi v5509 v5511
  let v5513 : BitVec 1 := Scalar.cmpi .ne v5507 v5512
  let v5514 : BitVec 32 := Scalar.remsi v5501 c128_i32_3118
  let c0_i32_3123 : BitVec 32 := 0#32
  let v5515 : BitVec 1 := Scalar.cmpi .ne v5514 c0_i32_3123
  let v5516 : BitVec 1 := Scalar.andi v5513 v5515
  let v5502 : BitVec 32 := Scalar.divsi v5501 c128_i32_3118
  let c1_i32_3124 : BitVec 32 := 1#32
  let v5517 : BitVec 32 := Scalar.subi v5502 c1_i32_3124
  let v5518 : BitVec 32 := Scalar.select v5516 v5517 v5502
  let c128_i32_3125 : BitVec 32 := 128#32
  let v5519 : BitVec 32 := Scalar.muli v5518 c128_i32_3125
  let v5520 : BitVec 32 := Scalar.maxsi c0_i32_3126 v5519
  let v5521 : BitVec 32 := Scalar.minsi c99872_i32_3127 v5520
  v5521

def k1_off211 (v5501 : BitVec 32) : Fin 2 → Nat :=
  let c82_i32_3129 : BitVec 32 := 82#32
  let c99872_i32_3127 : BitVec 32 := 99872#32
  let c0_i32_3126 : BitVec 32 := 0#32
  let c0_i32_3119 : BitVec 32 := 0#32
  let v5503 : BitVec 1 := Scalar.cmpi .sgt v5501 c0_i32_3119
  let v5504 : BitVec 32 := Scalar.extui v5503
  let c0_i32_3120 : BitVec 32 := 0#32
  let v5505 : BitVec 1 := Scalar.cmpi .slt v5501 c0_i32_3120
  let v5506 : BitVec 32 := Scalar.extui v5505
  let v5507 : BitVec 32 := Scalar.subi v5504 v5506
  let c128_i32_3118 : BitVec 32 := 128#32
  let c0_i32_3121 : BitVec 32 := 0#32
  let v5508 : BitVec 1 := Scalar.cmpi .sgt c128_i32_3118 c0_i32_3121
  let v5509 : BitVec 32 := Scalar.extui v5508
  let c0_i32_3122 : BitVec 32 := 0#32
  let v5510 : BitVec 1 := Scalar.cmpi .slt c128_i32_3118 c0_i32_3122
  let v5511 : BitVec 32 := Scalar.extui v5510
  let v5512 : BitVec 32 := Scalar.subi v5509 v5511
  let v5513 : BitVec 1 := Scalar.cmpi .ne v5507 v5512
  let v5514 : BitVec 32 := Scalar.remsi v5501 c128_i32_3118
  let c0_i32_3123 : BitVec 32 := 0#32
  let v5515 : BitVec 1 := Scalar.cmpi .ne v5514 c0_i32_3123
  let v5516 : BitVec 1 := Scalar.andi v5513 v5515
  let v5502 : BitVec 32 := Scalar.divsi v5501 c128_i32_3118
  let c1_i32_3124 : BitVec 32 := 1#32
  let v5517 : BitVec 32 := Scalar.subi v5502 c1_i32_3124
  let v5518 : BitVec 32 := Scalar.select v5516 v5517 v5502
  let c128_i32_3125 : BitVec 32 := 128#32
  let v5519 : BitVec 32 := Scalar.muli v5518 c128_i32_3125
  let v5520 : BitVec 32 := Scalar.maxsi c0_i32_3126 v5519
  let v5521 : BitVec 32 := Scalar.minsi c99872_i32_3127 v5520
  let v5522 : BitVec 32 := v5521
  ![82, v5522.toNat]

def k1_chk211 (v5501 : BitVec 32) : Prop :=
  (32 ∣ (k1_mult211 v5501).toNat) ∧
  (∀ a, (k1_off211 v5501) a + S1x128.size a ≤ S128x100000.size a)
theorem k1_mult211_dvd : ∀ (v5501 : BitVec 32) (k1_hw211 : k1_chk211 v5501), 32 ∣ (k1_mult211 v5501).toNat := fun v5501 k1_hw211 => k1_hw211.1
theorem k1_off211_inb : ∀ (v5501 : BitVec 32) (k1_hw211 : k1_chk211 v5501), ∀ a, (k1_off211 v5501) a + S1x128.size a ≤ S128x100000.size a := fun v5501 k1_hw211 => k1_hw211.2

def k1_mult212 (v5527 : BitVec 32) : BitVec 32 :=
  let c99872_i32_3143 : BitVec 32 := 99872#32
  let c0_i32_3142 : BitVec 32 := 0#32
  let c0_i32_3135 : BitVec 32 := 0#32
  let v5529 : BitVec 1 := Scalar.cmpi .sgt v5527 c0_i32_3135
  let v5530 : BitVec 32 := Scalar.extui v5529
  let c0_i32_3136 : BitVec 32 := 0#32
  let v5531 : BitVec 1 := Scalar.cmpi .slt v5527 c0_i32_3136
  let v5532 : BitVec 32 := Scalar.extui v5531
  let v5533 : BitVec 32 := Scalar.subi v5530 v5532
  let c128_i32_3134 : BitVec 32 := 128#32
  let c0_i32_3137 : BitVec 32 := 0#32
  let v5534 : BitVec 1 := Scalar.cmpi .sgt c128_i32_3134 c0_i32_3137
  let v5535 : BitVec 32 := Scalar.extui v5534
  let c0_i32_3138 : BitVec 32 := 0#32
  let v5536 : BitVec 1 := Scalar.cmpi .slt c128_i32_3134 c0_i32_3138
  let v5537 : BitVec 32 := Scalar.extui v5536
  let v5538 : BitVec 32 := Scalar.subi v5535 v5537
  let v5539 : BitVec 1 := Scalar.cmpi .ne v5533 v5538
  let v5540 : BitVec 32 := Scalar.remsi v5527 c128_i32_3134
  let c0_i32_3139 : BitVec 32 := 0#32
  let v5541 : BitVec 1 := Scalar.cmpi .ne v5540 c0_i32_3139
  let v5542 : BitVec 1 := Scalar.andi v5539 v5541
  let v5528 : BitVec 32 := Scalar.divsi v5527 c128_i32_3134
  let c1_i32_3140 : BitVec 32 := 1#32
  let v5543 : BitVec 32 := Scalar.subi v5528 c1_i32_3140
  let v5544 : BitVec 32 := Scalar.select v5542 v5543 v5528
  let c128_i32_3141 : BitVec 32 := 128#32
  let v5545 : BitVec 32 := Scalar.muli v5544 c128_i32_3141
  let v5546 : BitVec 32 := Scalar.maxsi c0_i32_3142 v5545
  let v5547 : BitVec 32 := Scalar.minsi c99872_i32_3143 v5546
  v5547

def k1_off212 (v5527 : BitVec 32) : Fin 2 → Nat :=
  let c83_i32_3145 : BitVec 32 := 83#32
  let c99872_i32_3143 : BitVec 32 := 99872#32
  let c0_i32_3142 : BitVec 32 := 0#32
  let c0_i32_3135 : BitVec 32 := 0#32
  let v5529 : BitVec 1 := Scalar.cmpi .sgt v5527 c0_i32_3135
  let v5530 : BitVec 32 := Scalar.extui v5529
  let c0_i32_3136 : BitVec 32 := 0#32
  let v5531 : BitVec 1 := Scalar.cmpi .slt v5527 c0_i32_3136
  let v5532 : BitVec 32 := Scalar.extui v5531
  let v5533 : BitVec 32 := Scalar.subi v5530 v5532
  let c128_i32_3134 : BitVec 32 := 128#32
  let c0_i32_3137 : BitVec 32 := 0#32
  let v5534 : BitVec 1 := Scalar.cmpi .sgt c128_i32_3134 c0_i32_3137
  let v5535 : BitVec 32 := Scalar.extui v5534
  let c0_i32_3138 : BitVec 32 := 0#32
  let v5536 : BitVec 1 := Scalar.cmpi .slt c128_i32_3134 c0_i32_3138
  let v5537 : BitVec 32 := Scalar.extui v5536
  let v5538 : BitVec 32 := Scalar.subi v5535 v5537
  let v5539 : BitVec 1 := Scalar.cmpi .ne v5533 v5538
  let v5540 : BitVec 32 := Scalar.remsi v5527 c128_i32_3134
  let c0_i32_3139 : BitVec 32 := 0#32
  let v5541 : BitVec 1 := Scalar.cmpi .ne v5540 c0_i32_3139
  let v5542 : BitVec 1 := Scalar.andi v5539 v5541
  let v5528 : BitVec 32 := Scalar.divsi v5527 c128_i32_3134
  let c1_i32_3140 : BitVec 32 := 1#32
  let v5543 : BitVec 32 := Scalar.subi v5528 c1_i32_3140
  let v5544 : BitVec 32 := Scalar.select v5542 v5543 v5528
  let c128_i32_3141 : BitVec 32 := 128#32
  let v5545 : BitVec 32 := Scalar.muli v5544 c128_i32_3141
  let v5546 : BitVec 32 := Scalar.maxsi c0_i32_3142 v5545
  let v5547 : BitVec 32 := Scalar.minsi c99872_i32_3143 v5546
  let v5548 : BitVec 32 := v5547
  ![83, v5548.toNat]

def k1_chk212 (v5527 : BitVec 32) : Prop :=
  (32 ∣ (k1_mult212 v5527).toNat) ∧
  (∀ a, (k1_off212 v5527) a + S1x128.size a ≤ S128x100000.size a)
theorem k1_mult212_dvd : ∀ (v5527 : BitVec 32) (k1_hw212 : k1_chk212 v5527), 32 ∣ (k1_mult212 v5527).toNat := fun v5527 k1_hw212 => k1_hw212.1
theorem k1_off212_inb : ∀ (v5527 : BitVec 32) (k1_hw212 : k1_chk212 v5527), ∀ a, (k1_off212 v5527) a + S1x128.size a ≤ S128x100000.size a := fun v5527 k1_hw212 => k1_hw212.2

def k1_mult213 (v5553 : BitVec 32) : BitVec 32 :=
  let c99872_i32_3159 : BitVec 32 := 99872#32
  let c0_i32_3158 : BitVec 32 := 0#32
  let c0_i32_3151 : BitVec 32 := 0#32
  let v5555 : BitVec 1 := Scalar.cmpi .sgt v5553 c0_i32_3151
  let v5556 : BitVec 32 := Scalar.extui v5555
  let c0_i32_3152 : BitVec 32 := 0#32
  let v5557 : BitVec 1 := Scalar.cmpi .slt v5553 c0_i32_3152
  let v5558 : BitVec 32 := Scalar.extui v5557
  let v5559 : BitVec 32 := Scalar.subi v5556 v5558
  let c128_i32_3150 : BitVec 32 := 128#32
  let c0_i32_3153 : BitVec 32 := 0#32
  let v5560 : BitVec 1 := Scalar.cmpi .sgt c128_i32_3150 c0_i32_3153
  let v5561 : BitVec 32 := Scalar.extui v5560
  let c0_i32_3154 : BitVec 32 := 0#32
  let v5562 : BitVec 1 := Scalar.cmpi .slt c128_i32_3150 c0_i32_3154
  let v5563 : BitVec 32 := Scalar.extui v5562
  let v5564 : BitVec 32 := Scalar.subi v5561 v5563
  let v5565 : BitVec 1 := Scalar.cmpi .ne v5559 v5564
  let v5566 : BitVec 32 := Scalar.remsi v5553 c128_i32_3150
  let c0_i32_3155 : BitVec 32 := 0#32
  let v5567 : BitVec 1 := Scalar.cmpi .ne v5566 c0_i32_3155
  let v5568 : BitVec 1 := Scalar.andi v5565 v5567
  let v5554 : BitVec 32 := Scalar.divsi v5553 c128_i32_3150
  let c1_i32_3156 : BitVec 32 := 1#32
  let v5569 : BitVec 32 := Scalar.subi v5554 c1_i32_3156
  let v5570 : BitVec 32 := Scalar.select v5568 v5569 v5554
  let c128_i32_3157 : BitVec 32 := 128#32
  let v5571 : BitVec 32 := Scalar.muli v5570 c128_i32_3157
  let v5572 : BitVec 32 := Scalar.maxsi c0_i32_3158 v5571
  let v5573 : BitVec 32 := Scalar.minsi c99872_i32_3159 v5572
  v5573

def k1_off213 (v5553 : BitVec 32) : Fin 2 → Nat :=
  let c84_i32_3161 : BitVec 32 := 84#32
  let c99872_i32_3159 : BitVec 32 := 99872#32
  let c0_i32_3158 : BitVec 32 := 0#32
  let c0_i32_3151 : BitVec 32 := 0#32
  let v5555 : BitVec 1 := Scalar.cmpi .sgt v5553 c0_i32_3151
  let v5556 : BitVec 32 := Scalar.extui v5555
  let c0_i32_3152 : BitVec 32 := 0#32
  let v5557 : BitVec 1 := Scalar.cmpi .slt v5553 c0_i32_3152
  let v5558 : BitVec 32 := Scalar.extui v5557
  let v5559 : BitVec 32 := Scalar.subi v5556 v5558
  let c128_i32_3150 : BitVec 32 := 128#32
  let c0_i32_3153 : BitVec 32 := 0#32
  let v5560 : BitVec 1 := Scalar.cmpi .sgt c128_i32_3150 c0_i32_3153
  let v5561 : BitVec 32 := Scalar.extui v5560
  let c0_i32_3154 : BitVec 32 := 0#32
  let v5562 : BitVec 1 := Scalar.cmpi .slt c128_i32_3150 c0_i32_3154
  let v5563 : BitVec 32 := Scalar.extui v5562
  let v5564 : BitVec 32 := Scalar.subi v5561 v5563
  let v5565 : BitVec 1 := Scalar.cmpi .ne v5559 v5564
  let v5566 : BitVec 32 := Scalar.remsi v5553 c128_i32_3150
  let c0_i32_3155 : BitVec 32 := 0#32
  let v5567 : BitVec 1 := Scalar.cmpi .ne v5566 c0_i32_3155
  let v5568 : BitVec 1 := Scalar.andi v5565 v5567
  let v5554 : BitVec 32 := Scalar.divsi v5553 c128_i32_3150
  let c1_i32_3156 : BitVec 32 := 1#32
  let v5569 : BitVec 32 := Scalar.subi v5554 c1_i32_3156
  let v5570 : BitVec 32 := Scalar.select v5568 v5569 v5554
  let c128_i32_3157 : BitVec 32 := 128#32
  let v5571 : BitVec 32 := Scalar.muli v5570 c128_i32_3157
  let v5572 : BitVec 32 := Scalar.maxsi c0_i32_3158 v5571
  let v5573 : BitVec 32 := Scalar.minsi c99872_i32_3159 v5572
  let v5574 : BitVec 32 := v5573
  ![84, v5574.toNat]

def k1_chk213 (v5553 : BitVec 32) : Prop :=
  (32 ∣ (k1_mult213 v5553).toNat) ∧
  (∀ a, (k1_off213 v5553) a + S1x128.size a ≤ S128x100000.size a)
theorem k1_mult213_dvd : ∀ (v5553 : BitVec 32) (k1_hw213 : k1_chk213 v5553), 32 ∣ (k1_mult213 v5553).toNat := fun v5553 k1_hw213 => k1_hw213.1
theorem k1_off213_inb : ∀ (v5553 : BitVec 32) (k1_hw213 : k1_chk213 v5553), ∀ a, (k1_off213 v5553) a + S1x128.size a ≤ S128x100000.size a := fun v5553 k1_hw213 => k1_hw213.2

def k1_mult214 (v5579 : BitVec 32) : BitVec 32 :=
  let c99872_i32_3175 : BitVec 32 := 99872#32
  let c0_i32_3174 : BitVec 32 := 0#32
  let c0_i32_3167 : BitVec 32 := 0#32
  let v5581 : BitVec 1 := Scalar.cmpi .sgt v5579 c0_i32_3167
  let v5582 : BitVec 32 := Scalar.extui v5581
  let c0_i32_3168 : BitVec 32 := 0#32
  let v5583 : BitVec 1 := Scalar.cmpi .slt v5579 c0_i32_3168
  let v5584 : BitVec 32 := Scalar.extui v5583
  let v5585 : BitVec 32 := Scalar.subi v5582 v5584
  let c128_i32_3166 : BitVec 32 := 128#32
  let c0_i32_3169 : BitVec 32 := 0#32
  let v5586 : BitVec 1 := Scalar.cmpi .sgt c128_i32_3166 c0_i32_3169
  let v5587 : BitVec 32 := Scalar.extui v5586
  let c0_i32_3170 : BitVec 32 := 0#32
  let v5588 : BitVec 1 := Scalar.cmpi .slt c128_i32_3166 c0_i32_3170
  let v5589 : BitVec 32 := Scalar.extui v5588
  let v5590 : BitVec 32 := Scalar.subi v5587 v5589
  let v5591 : BitVec 1 := Scalar.cmpi .ne v5585 v5590
  let v5592 : BitVec 32 := Scalar.remsi v5579 c128_i32_3166
  let c0_i32_3171 : BitVec 32 := 0#32
  let v5593 : BitVec 1 := Scalar.cmpi .ne v5592 c0_i32_3171
  let v5594 : BitVec 1 := Scalar.andi v5591 v5593
  let v5580 : BitVec 32 := Scalar.divsi v5579 c128_i32_3166
  let c1_i32_3172 : BitVec 32 := 1#32
  let v5595 : BitVec 32 := Scalar.subi v5580 c1_i32_3172
  let v5596 : BitVec 32 := Scalar.select v5594 v5595 v5580
  let c128_i32_3173 : BitVec 32 := 128#32
  let v5597 : BitVec 32 := Scalar.muli v5596 c128_i32_3173
  let v5598 : BitVec 32 := Scalar.maxsi c0_i32_3174 v5597
  let v5599 : BitVec 32 := Scalar.minsi c99872_i32_3175 v5598
  v5599

def k1_off214 (v5579 : BitVec 32) : Fin 2 → Nat :=
  let c85_i32_3177 : BitVec 32 := 85#32
  let c99872_i32_3175 : BitVec 32 := 99872#32
  let c0_i32_3174 : BitVec 32 := 0#32
  let c0_i32_3167 : BitVec 32 := 0#32
  let v5581 : BitVec 1 := Scalar.cmpi .sgt v5579 c0_i32_3167
  let v5582 : BitVec 32 := Scalar.extui v5581
  let c0_i32_3168 : BitVec 32 := 0#32
  let v5583 : BitVec 1 := Scalar.cmpi .slt v5579 c0_i32_3168
  let v5584 : BitVec 32 := Scalar.extui v5583
  let v5585 : BitVec 32 := Scalar.subi v5582 v5584
  let c128_i32_3166 : BitVec 32 := 128#32
  let c0_i32_3169 : BitVec 32 := 0#32
  let v5586 : BitVec 1 := Scalar.cmpi .sgt c128_i32_3166 c0_i32_3169
  let v5587 : BitVec 32 := Scalar.extui v5586
  let c0_i32_3170 : BitVec 32 := 0#32
  let v5588 : BitVec 1 := Scalar.cmpi .slt c128_i32_3166 c0_i32_3170
  let v5589 : BitVec 32 := Scalar.extui v5588
  let v5590 : BitVec 32 := Scalar.subi v5587 v5589
  let v5591 : BitVec 1 := Scalar.cmpi .ne v5585 v5590
  let v5592 : BitVec 32 := Scalar.remsi v5579 c128_i32_3166
  let c0_i32_3171 : BitVec 32 := 0#32
  let v5593 : BitVec 1 := Scalar.cmpi .ne v5592 c0_i32_3171
  let v5594 : BitVec 1 := Scalar.andi v5591 v5593
  let v5580 : BitVec 32 := Scalar.divsi v5579 c128_i32_3166
  let c1_i32_3172 : BitVec 32 := 1#32
  let v5595 : BitVec 32 := Scalar.subi v5580 c1_i32_3172
  let v5596 : BitVec 32 := Scalar.select v5594 v5595 v5580
  let c128_i32_3173 : BitVec 32 := 128#32
  let v5597 : BitVec 32 := Scalar.muli v5596 c128_i32_3173
  let v5598 : BitVec 32 := Scalar.maxsi c0_i32_3174 v5597
  let v5599 : BitVec 32 := Scalar.minsi c99872_i32_3175 v5598
  let v5600 : BitVec 32 := v5599
  ![85, v5600.toNat]

def k1_chk214 (v5579 : BitVec 32) : Prop :=
  (32 ∣ (k1_mult214 v5579).toNat) ∧
  (∀ a, (k1_off214 v5579) a + S1x128.size a ≤ S128x100000.size a)
theorem k1_mult214_dvd : ∀ (v5579 : BitVec 32) (k1_hw214 : k1_chk214 v5579), 32 ∣ (k1_mult214 v5579).toNat := fun v5579 k1_hw214 => k1_hw214.1
theorem k1_off214_inb : ∀ (v5579 : BitVec 32) (k1_hw214 : k1_chk214 v5579), ∀ a, (k1_off214 v5579) a + S1x128.size a ≤ S128x100000.size a := fun v5579 k1_hw214 => k1_hw214.2

def k1_mult215 (v5605 : BitVec 32) : BitVec 32 :=
  let c99872_i32_3191 : BitVec 32 := 99872#32
  let c0_i32_3190 : BitVec 32 := 0#32
  let c0_i32_3183 : BitVec 32 := 0#32
  let v5607 : BitVec 1 := Scalar.cmpi .sgt v5605 c0_i32_3183
  let v5608 : BitVec 32 := Scalar.extui v5607
  let c0_i32_3184 : BitVec 32 := 0#32
  let v5609 : BitVec 1 := Scalar.cmpi .slt v5605 c0_i32_3184
  let v5610 : BitVec 32 := Scalar.extui v5609
  let v5611 : BitVec 32 := Scalar.subi v5608 v5610
  let c128_i32_3182 : BitVec 32 := 128#32
  let c0_i32_3185 : BitVec 32 := 0#32
  let v5612 : BitVec 1 := Scalar.cmpi .sgt c128_i32_3182 c0_i32_3185
  let v5613 : BitVec 32 := Scalar.extui v5612
  let c0_i32_3186 : BitVec 32 := 0#32
  let v5614 : BitVec 1 := Scalar.cmpi .slt c128_i32_3182 c0_i32_3186
  let v5615 : BitVec 32 := Scalar.extui v5614
  let v5616 : BitVec 32 := Scalar.subi v5613 v5615
  let v5617 : BitVec 1 := Scalar.cmpi .ne v5611 v5616
  let v5618 : BitVec 32 := Scalar.remsi v5605 c128_i32_3182
  let c0_i32_3187 : BitVec 32 := 0#32
  let v5619 : BitVec 1 := Scalar.cmpi .ne v5618 c0_i32_3187
  let v5620 : BitVec 1 := Scalar.andi v5617 v5619
  let v5606 : BitVec 32 := Scalar.divsi v5605 c128_i32_3182
  let c1_i32_3188 : BitVec 32 := 1#32
  let v5621 : BitVec 32 := Scalar.subi v5606 c1_i32_3188
  let v5622 : BitVec 32 := Scalar.select v5620 v5621 v5606
  let c128_i32_3189 : BitVec 32 := 128#32
  let v5623 : BitVec 32 := Scalar.muli v5622 c128_i32_3189
  let v5624 : BitVec 32 := Scalar.maxsi c0_i32_3190 v5623
  let v5625 : BitVec 32 := Scalar.minsi c99872_i32_3191 v5624
  v5625

def k1_off215 (v5605 : BitVec 32) : Fin 2 → Nat :=
  let c86_i32_3193 : BitVec 32 := 86#32
  let c99872_i32_3191 : BitVec 32 := 99872#32
  let c0_i32_3190 : BitVec 32 := 0#32
  let c0_i32_3183 : BitVec 32 := 0#32
  let v5607 : BitVec 1 := Scalar.cmpi .sgt v5605 c0_i32_3183
  let v5608 : BitVec 32 := Scalar.extui v5607
  let c0_i32_3184 : BitVec 32 := 0#32
  let v5609 : BitVec 1 := Scalar.cmpi .slt v5605 c0_i32_3184
  let v5610 : BitVec 32 := Scalar.extui v5609
  let v5611 : BitVec 32 := Scalar.subi v5608 v5610
  let c128_i32_3182 : BitVec 32 := 128#32
  let c0_i32_3185 : BitVec 32 := 0#32
  let v5612 : BitVec 1 := Scalar.cmpi .sgt c128_i32_3182 c0_i32_3185
  let v5613 : BitVec 32 := Scalar.extui v5612
  let c0_i32_3186 : BitVec 32 := 0#32
  let v5614 : BitVec 1 := Scalar.cmpi .slt c128_i32_3182 c0_i32_3186
  let v5615 : BitVec 32 := Scalar.extui v5614
  let v5616 : BitVec 32 := Scalar.subi v5613 v5615
  let v5617 : BitVec 1 := Scalar.cmpi .ne v5611 v5616
  let v5618 : BitVec 32 := Scalar.remsi v5605 c128_i32_3182
  let c0_i32_3187 : BitVec 32 := 0#32
  let v5619 : BitVec 1 := Scalar.cmpi .ne v5618 c0_i32_3187
  let v5620 : BitVec 1 := Scalar.andi v5617 v5619
  let v5606 : BitVec 32 := Scalar.divsi v5605 c128_i32_3182
  let c1_i32_3188 : BitVec 32 := 1#32
  let v5621 : BitVec 32 := Scalar.subi v5606 c1_i32_3188
  let v5622 : BitVec 32 := Scalar.select v5620 v5621 v5606
  let c128_i32_3189 : BitVec 32 := 128#32
  let v5623 : BitVec 32 := Scalar.muli v5622 c128_i32_3189
  let v5624 : BitVec 32 := Scalar.maxsi c0_i32_3190 v5623
  let v5625 : BitVec 32 := Scalar.minsi c99872_i32_3191 v5624
  let v5626 : BitVec 32 := v5625
  ![86, v5626.toNat]

def k1_chk215 (v5605 : BitVec 32) : Prop :=
  (32 ∣ (k1_mult215 v5605).toNat) ∧
  (∀ a, (k1_off215 v5605) a + S1x128.size a ≤ S128x100000.size a)
theorem k1_mult215_dvd : ∀ (v5605 : BitVec 32) (k1_hw215 : k1_chk215 v5605), 32 ∣ (k1_mult215 v5605).toNat := fun v5605 k1_hw215 => k1_hw215.1
theorem k1_off215_inb : ∀ (v5605 : BitVec 32) (k1_hw215 : k1_chk215 v5605), ∀ a, (k1_off215 v5605) a + S1x128.size a ≤ S128x100000.size a := fun v5605 k1_hw215 => k1_hw215.2

def k1_mult216 (v5631 : BitVec 32) : BitVec 32 :=
  let c99872_i32_3207 : BitVec 32 := 99872#32
  let c0_i32_3206 : BitVec 32 := 0#32
  let c0_i32_3199 : BitVec 32 := 0#32
  let v5633 : BitVec 1 := Scalar.cmpi .sgt v5631 c0_i32_3199
  let v5634 : BitVec 32 := Scalar.extui v5633
  let c0_i32_3200 : BitVec 32 := 0#32
  let v5635 : BitVec 1 := Scalar.cmpi .slt v5631 c0_i32_3200
  let v5636 : BitVec 32 := Scalar.extui v5635
  let v5637 : BitVec 32 := Scalar.subi v5634 v5636
  let c128_i32_3198 : BitVec 32 := 128#32
  let c0_i32_3201 : BitVec 32 := 0#32
  let v5638 : BitVec 1 := Scalar.cmpi .sgt c128_i32_3198 c0_i32_3201
  let v5639 : BitVec 32 := Scalar.extui v5638
  let c0_i32_3202 : BitVec 32 := 0#32
  let v5640 : BitVec 1 := Scalar.cmpi .slt c128_i32_3198 c0_i32_3202
  let v5641 : BitVec 32 := Scalar.extui v5640
  let v5642 : BitVec 32 := Scalar.subi v5639 v5641
  let v5643 : BitVec 1 := Scalar.cmpi .ne v5637 v5642
  let v5644 : BitVec 32 := Scalar.remsi v5631 c128_i32_3198
  let c0_i32_3203 : BitVec 32 := 0#32
  let v5645 : BitVec 1 := Scalar.cmpi .ne v5644 c0_i32_3203
  let v5646 : BitVec 1 := Scalar.andi v5643 v5645
  let v5632 : BitVec 32 := Scalar.divsi v5631 c128_i32_3198
  let c1_i32_3204 : BitVec 32 := 1#32
  let v5647 : BitVec 32 := Scalar.subi v5632 c1_i32_3204
  let v5648 : BitVec 32 := Scalar.select v5646 v5647 v5632
  let c128_i32_3205 : BitVec 32 := 128#32
  let v5649 : BitVec 32 := Scalar.muli v5648 c128_i32_3205
  let v5650 : BitVec 32 := Scalar.maxsi c0_i32_3206 v5649
  let v5651 : BitVec 32 := Scalar.minsi c99872_i32_3207 v5650
  v5651

def k1_off216 (v5631 : BitVec 32) : Fin 2 → Nat :=
  let c87_i32_3209 : BitVec 32 := 87#32
  let c99872_i32_3207 : BitVec 32 := 99872#32
  let c0_i32_3206 : BitVec 32 := 0#32
  let c0_i32_3199 : BitVec 32 := 0#32
  let v5633 : BitVec 1 := Scalar.cmpi .sgt v5631 c0_i32_3199
  let v5634 : BitVec 32 := Scalar.extui v5633
  let c0_i32_3200 : BitVec 32 := 0#32
  let v5635 : BitVec 1 := Scalar.cmpi .slt v5631 c0_i32_3200
  let v5636 : BitVec 32 := Scalar.extui v5635
  let v5637 : BitVec 32 := Scalar.subi v5634 v5636
  let c128_i32_3198 : BitVec 32 := 128#32
  let c0_i32_3201 : BitVec 32 := 0#32
  let v5638 : BitVec 1 := Scalar.cmpi .sgt c128_i32_3198 c0_i32_3201
  let v5639 : BitVec 32 := Scalar.extui v5638
  let c0_i32_3202 : BitVec 32 := 0#32
  let v5640 : BitVec 1 := Scalar.cmpi .slt c128_i32_3198 c0_i32_3202
  let v5641 : BitVec 32 := Scalar.extui v5640
  let v5642 : BitVec 32 := Scalar.subi v5639 v5641
  let v5643 : BitVec 1 := Scalar.cmpi .ne v5637 v5642
  let v5644 : BitVec 32 := Scalar.remsi v5631 c128_i32_3198
  let c0_i32_3203 : BitVec 32 := 0#32
  let v5645 : BitVec 1 := Scalar.cmpi .ne v5644 c0_i32_3203
  let v5646 : BitVec 1 := Scalar.andi v5643 v5645
  let v5632 : BitVec 32 := Scalar.divsi v5631 c128_i32_3198
  let c1_i32_3204 : BitVec 32 := 1#32
  let v5647 : BitVec 32 := Scalar.subi v5632 c1_i32_3204
  let v5648 : BitVec 32 := Scalar.select v5646 v5647 v5632
  let c128_i32_3205 : BitVec 32 := 128#32
  let v5649 : BitVec 32 := Scalar.muli v5648 c128_i32_3205
  let v5650 : BitVec 32 := Scalar.maxsi c0_i32_3206 v5649
  let v5651 : BitVec 32 := Scalar.minsi c99872_i32_3207 v5650
  let v5652 : BitVec 32 := v5651
  ![87, v5652.toNat]

def k1_chk216 (v5631 : BitVec 32) : Prop :=
  (32 ∣ (k1_mult216 v5631).toNat) ∧
  (∀ a, (k1_off216 v5631) a + S1x128.size a ≤ S128x100000.size a)
theorem k1_mult216_dvd : ∀ (v5631 : BitVec 32) (k1_hw216 : k1_chk216 v5631), 32 ∣ (k1_mult216 v5631).toNat := fun v5631 k1_hw216 => k1_hw216.1
theorem k1_off216_inb : ∀ (v5631 : BitVec 32) (k1_hw216 : k1_chk216 v5631), ∀ a, (k1_off216 v5631) a + S1x128.size a ≤ S128x100000.size a := fun v5631 k1_hw216 => k1_hw216.2

def k1_mult217 (v5657 : BitVec 32) : BitVec 32 :=
  let c99872_i32_3223 : BitVec 32 := 99872#32
  let c0_i32_3222 : BitVec 32 := 0#32
  let c0_i32_3215 : BitVec 32 := 0#32
  let v5659 : BitVec 1 := Scalar.cmpi .sgt v5657 c0_i32_3215
  let v5660 : BitVec 32 := Scalar.extui v5659
  let c0_i32_3216 : BitVec 32 := 0#32
  let v5661 : BitVec 1 := Scalar.cmpi .slt v5657 c0_i32_3216
  let v5662 : BitVec 32 := Scalar.extui v5661
  let v5663 : BitVec 32 := Scalar.subi v5660 v5662
  let c128_i32_3214 : BitVec 32 := 128#32
  let c0_i32_3217 : BitVec 32 := 0#32
  let v5664 : BitVec 1 := Scalar.cmpi .sgt c128_i32_3214 c0_i32_3217
  let v5665 : BitVec 32 := Scalar.extui v5664
  let c0_i32_3218 : BitVec 32 := 0#32
  let v5666 : BitVec 1 := Scalar.cmpi .slt c128_i32_3214 c0_i32_3218
  let v5667 : BitVec 32 := Scalar.extui v5666
  let v5668 : BitVec 32 := Scalar.subi v5665 v5667
  let v5669 : BitVec 1 := Scalar.cmpi .ne v5663 v5668
  let v5670 : BitVec 32 := Scalar.remsi v5657 c128_i32_3214
  let c0_i32_3219 : BitVec 32 := 0#32
  let v5671 : BitVec 1 := Scalar.cmpi .ne v5670 c0_i32_3219
  let v5672 : BitVec 1 := Scalar.andi v5669 v5671
  let v5658 : BitVec 32 := Scalar.divsi v5657 c128_i32_3214
  let c1_i32_3220 : BitVec 32 := 1#32
  let v5673 : BitVec 32 := Scalar.subi v5658 c1_i32_3220
  let v5674 : BitVec 32 := Scalar.select v5672 v5673 v5658
  let c128_i32_3221 : BitVec 32 := 128#32
  let v5675 : BitVec 32 := Scalar.muli v5674 c128_i32_3221
  let v5676 : BitVec 32 := Scalar.maxsi c0_i32_3222 v5675
  let v5677 : BitVec 32 := Scalar.minsi c99872_i32_3223 v5676
  v5677

def k1_off217 (v5657 : BitVec 32) : Fin 2 → Nat :=
  let c88_i32_3225 : BitVec 32 := 88#32
  let c99872_i32_3223 : BitVec 32 := 99872#32
  let c0_i32_3222 : BitVec 32 := 0#32
  let c0_i32_3215 : BitVec 32 := 0#32
  let v5659 : BitVec 1 := Scalar.cmpi .sgt v5657 c0_i32_3215
  let v5660 : BitVec 32 := Scalar.extui v5659
  let c0_i32_3216 : BitVec 32 := 0#32
  let v5661 : BitVec 1 := Scalar.cmpi .slt v5657 c0_i32_3216
  let v5662 : BitVec 32 := Scalar.extui v5661
  let v5663 : BitVec 32 := Scalar.subi v5660 v5662
  let c128_i32_3214 : BitVec 32 := 128#32
  let c0_i32_3217 : BitVec 32 := 0#32
  let v5664 : BitVec 1 := Scalar.cmpi .sgt c128_i32_3214 c0_i32_3217
  let v5665 : BitVec 32 := Scalar.extui v5664
  let c0_i32_3218 : BitVec 32 := 0#32
  let v5666 : BitVec 1 := Scalar.cmpi .slt c128_i32_3214 c0_i32_3218
  let v5667 : BitVec 32 := Scalar.extui v5666
  let v5668 : BitVec 32 := Scalar.subi v5665 v5667
  let v5669 : BitVec 1 := Scalar.cmpi .ne v5663 v5668
  let v5670 : BitVec 32 := Scalar.remsi v5657 c128_i32_3214
  let c0_i32_3219 : BitVec 32 := 0#32
  let v5671 : BitVec 1 := Scalar.cmpi .ne v5670 c0_i32_3219
  let v5672 : BitVec 1 := Scalar.andi v5669 v5671
  let v5658 : BitVec 32 := Scalar.divsi v5657 c128_i32_3214
  let c1_i32_3220 : BitVec 32 := 1#32
  let v5673 : BitVec 32 := Scalar.subi v5658 c1_i32_3220
  let v5674 : BitVec 32 := Scalar.select v5672 v5673 v5658
  let c128_i32_3221 : BitVec 32 := 128#32
  let v5675 : BitVec 32 := Scalar.muli v5674 c128_i32_3221
  let v5676 : BitVec 32 := Scalar.maxsi c0_i32_3222 v5675
  let v5677 : BitVec 32 := Scalar.minsi c99872_i32_3223 v5676
  let v5678 : BitVec 32 := v5677
  ![88, v5678.toNat]

def k1_chk217 (v5657 : BitVec 32) : Prop :=
  (32 ∣ (k1_mult217 v5657).toNat) ∧
  (∀ a, (k1_off217 v5657) a + S1x128.size a ≤ S128x100000.size a)
theorem k1_mult217_dvd : ∀ (v5657 : BitVec 32) (k1_hw217 : k1_chk217 v5657), 32 ∣ (k1_mult217 v5657).toNat := fun v5657 k1_hw217 => k1_hw217.1
theorem k1_off217_inb : ∀ (v5657 : BitVec 32) (k1_hw217 : k1_chk217 v5657), ∀ a, (k1_off217 v5657) a + S1x128.size a ≤ S128x100000.size a := fun v5657 k1_hw217 => k1_hw217.2

def k1_mult218 (v5683 : BitVec 32) : BitVec 32 :=
  let c99872_i32_3239 : BitVec 32 := 99872#32
  let c0_i32_3238 : BitVec 32 := 0#32
  let c0_i32_3231 : BitVec 32 := 0#32
  let v5685 : BitVec 1 := Scalar.cmpi .sgt v5683 c0_i32_3231
  let v5686 : BitVec 32 := Scalar.extui v5685
  let c0_i32_3232 : BitVec 32 := 0#32
  let v5687 : BitVec 1 := Scalar.cmpi .slt v5683 c0_i32_3232
  let v5688 : BitVec 32 := Scalar.extui v5687
  let v5689 : BitVec 32 := Scalar.subi v5686 v5688
  let c128_i32_3230 : BitVec 32 := 128#32
  let c0_i32_3233 : BitVec 32 := 0#32
  let v5690 : BitVec 1 := Scalar.cmpi .sgt c128_i32_3230 c0_i32_3233
  let v5691 : BitVec 32 := Scalar.extui v5690
  let c0_i32_3234 : BitVec 32 := 0#32
  let v5692 : BitVec 1 := Scalar.cmpi .slt c128_i32_3230 c0_i32_3234
  let v5693 : BitVec 32 := Scalar.extui v5692
  let v5694 : BitVec 32 := Scalar.subi v5691 v5693
  let v5695 : BitVec 1 := Scalar.cmpi .ne v5689 v5694
  let v5696 : BitVec 32 := Scalar.remsi v5683 c128_i32_3230
  let c0_i32_3235 : BitVec 32 := 0#32
  let v5697 : BitVec 1 := Scalar.cmpi .ne v5696 c0_i32_3235
  let v5698 : BitVec 1 := Scalar.andi v5695 v5697
  let v5684 : BitVec 32 := Scalar.divsi v5683 c128_i32_3230
  let c1_i32_3236 : BitVec 32 := 1#32
  let v5699 : BitVec 32 := Scalar.subi v5684 c1_i32_3236
  let v5700 : BitVec 32 := Scalar.select v5698 v5699 v5684
  let c128_i32_3237 : BitVec 32 := 128#32
  let v5701 : BitVec 32 := Scalar.muli v5700 c128_i32_3237
  let v5702 : BitVec 32 := Scalar.maxsi c0_i32_3238 v5701
  let v5703 : BitVec 32 := Scalar.minsi c99872_i32_3239 v5702
  v5703

def k1_off218 (v5683 : BitVec 32) : Fin 2 → Nat :=
  let c89_i32_3241 : BitVec 32 := 89#32
  let c99872_i32_3239 : BitVec 32 := 99872#32
  let c0_i32_3238 : BitVec 32 := 0#32
  let c0_i32_3231 : BitVec 32 := 0#32
  let v5685 : BitVec 1 := Scalar.cmpi .sgt v5683 c0_i32_3231
  let v5686 : BitVec 32 := Scalar.extui v5685
  let c0_i32_3232 : BitVec 32 := 0#32
  let v5687 : BitVec 1 := Scalar.cmpi .slt v5683 c0_i32_3232
  let v5688 : BitVec 32 := Scalar.extui v5687
  let v5689 : BitVec 32 := Scalar.subi v5686 v5688
  let c128_i32_3230 : BitVec 32 := 128#32
  let c0_i32_3233 : BitVec 32 := 0#32
  let v5690 : BitVec 1 := Scalar.cmpi .sgt c128_i32_3230 c0_i32_3233
  let v5691 : BitVec 32 := Scalar.extui v5690
  let c0_i32_3234 : BitVec 32 := 0#32
  let v5692 : BitVec 1 := Scalar.cmpi .slt c128_i32_3230 c0_i32_3234
  let v5693 : BitVec 32 := Scalar.extui v5692
  let v5694 : BitVec 32 := Scalar.subi v5691 v5693
  let v5695 : BitVec 1 := Scalar.cmpi .ne v5689 v5694
  let v5696 : BitVec 32 := Scalar.remsi v5683 c128_i32_3230
  let c0_i32_3235 : BitVec 32 := 0#32
  let v5697 : BitVec 1 := Scalar.cmpi .ne v5696 c0_i32_3235
  let v5698 : BitVec 1 := Scalar.andi v5695 v5697
  let v5684 : BitVec 32 := Scalar.divsi v5683 c128_i32_3230
  let c1_i32_3236 : BitVec 32 := 1#32
  let v5699 : BitVec 32 := Scalar.subi v5684 c1_i32_3236
  let v5700 : BitVec 32 := Scalar.select v5698 v5699 v5684
  let c128_i32_3237 : BitVec 32 := 128#32
  let v5701 : BitVec 32 := Scalar.muli v5700 c128_i32_3237
  let v5702 : BitVec 32 := Scalar.maxsi c0_i32_3238 v5701
  let v5703 : BitVec 32 := Scalar.minsi c99872_i32_3239 v5702
  let v5704 : BitVec 32 := v5703
  ![89, v5704.toNat]

def k1_chk218 (v5683 : BitVec 32) : Prop :=
  (32 ∣ (k1_mult218 v5683).toNat) ∧
  (∀ a, (k1_off218 v5683) a + S1x128.size a ≤ S128x100000.size a)
theorem k1_mult218_dvd : ∀ (v5683 : BitVec 32) (k1_hw218 : k1_chk218 v5683), 32 ∣ (k1_mult218 v5683).toNat := fun v5683 k1_hw218 => k1_hw218.1
theorem k1_off218_inb : ∀ (v5683 : BitVec 32) (k1_hw218 : k1_chk218 v5683), ∀ a, (k1_off218 v5683) a + S1x128.size a ≤ S128x100000.size a := fun v5683 k1_hw218 => k1_hw218.2

def k1_mult219 (v5709 : BitVec 32) : BitVec 32 :=
  let c99872_i32_3255 : BitVec 32 := 99872#32
  let c0_i32_3254 : BitVec 32 := 0#32
  let c0_i32_3247 : BitVec 32 := 0#32
  let v5711 : BitVec 1 := Scalar.cmpi .sgt v5709 c0_i32_3247
  let v5712 : BitVec 32 := Scalar.extui v5711
  let c0_i32_3248 : BitVec 32 := 0#32
  let v5713 : BitVec 1 := Scalar.cmpi .slt v5709 c0_i32_3248
  let v5714 : BitVec 32 := Scalar.extui v5713
  let v5715 : BitVec 32 := Scalar.subi v5712 v5714
  let c128_i32_3246 : BitVec 32 := 128#32
  let c0_i32_3249 : BitVec 32 := 0#32
  let v5716 : BitVec 1 := Scalar.cmpi .sgt c128_i32_3246 c0_i32_3249
  let v5717 : BitVec 32 := Scalar.extui v5716
  let c0_i32_3250 : BitVec 32 := 0#32
  let v5718 : BitVec 1 := Scalar.cmpi .slt c128_i32_3246 c0_i32_3250
  let v5719 : BitVec 32 := Scalar.extui v5718
  let v5720 : BitVec 32 := Scalar.subi v5717 v5719
  let v5721 : BitVec 1 := Scalar.cmpi .ne v5715 v5720
  let v5722 : BitVec 32 := Scalar.remsi v5709 c128_i32_3246
  let c0_i32_3251 : BitVec 32 := 0#32
  let v5723 : BitVec 1 := Scalar.cmpi .ne v5722 c0_i32_3251
  let v5724 : BitVec 1 := Scalar.andi v5721 v5723
  let v5710 : BitVec 32 := Scalar.divsi v5709 c128_i32_3246
  let c1_i32_3252 : BitVec 32 := 1#32
  let v5725 : BitVec 32 := Scalar.subi v5710 c1_i32_3252
  let v5726 : BitVec 32 := Scalar.select v5724 v5725 v5710
  let c128_i32_3253 : BitVec 32 := 128#32
  let v5727 : BitVec 32 := Scalar.muli v5726 c128_i32_3253
  let v5728 : BitVec 32 := Scalar.maxsi c0_i32_3254 v5727
  let v5729 : BitVec 32 := Scalar.minsi c99872_i32_3255 v5728
  v5729

def k1_off219 (v5709 : BitVec 32) : Fin 2 → Nat :=
  let c90_i32_3257 : BitVec 32 := 90#32
  let c99872_i32_3255 : BitVec 32 := 99872#32
  let c0_i32_3254 : BitVec 32 := 0#32
  let c0_i32_3247 : BitVec 32 := 0#32
  let v5711 : BitVec 1 := Scalar.cmpi .sgt v5709 c0_i32_3247
  let v5712 : BitVec 32 := Scalar.extui v5711
  let c0_i32_3248 : BitVec 32 := 0#32
  let v5713 : BitVec 1 := Scalar.cmpi .slt v5709 c0_i32_3248
  let v5714 : BitVec 32 := Scalar.extui v5713
  let v5715 : BitVec 32 := Scalar.subi v5712 v5714
  let c128_i32_3246 : BitVec 32 := 128#32
  let c0_i32_3249 : BitVec 32 := 0#32
  let v5716 : BitVec 1 := Scalar.cmpi .sgt c128_i32_3246 c0_i32_3249
  let v5717 : BitVec 32 := Scalar.extui v5716
  let c0_i32_3250 : BitVec 32 := 0#32
  let v5718 : BitVec 1 := Scalar.cmpi .slt c128_i32_3246 c0_i32_3250
  let v5719 : BitVec 32 := Scalar.extui v5718
  let v5720 : BitVec 32 := Scalar.subi v5717 v5719
  let v5721 : BitVec 1 := Scalar.cmpi .ne v5715 v5720
  let v5722 : BitVec 32 := Scalar.remsi v5709 c128_i32_3246
  let c0_i32_3251 : BitVec 32 := 0#32
  let v5723 : BitVec 1 := Scalar.cmpi .ne v5722 c0_i32_3251
  let v5724 : BitVec 1 := Scalar.andi v5721 v5723
  let v5710 : BitVec 32 := Scalar.divsi v5709 c128_i32_3246
  let c1_i32_3252 : BitVec 32 := 1#32
  let v5725 : BitVec 32 := Scalar.subi v5710 c1_i32_3252
  let v5726 : BitVec 32 := Scalar.select v5724 v5725 v5710
  let c128_i32_3253 : BitVec 32 := 128#32
  let v5727 : BitVec 32 := Scalar.muli v5726 c128_i32_3253
  let v5728 : BitVec 32 := Scalar.maxsi c0_i32_3254 v5727
  let v5729 : BitVec 32 := Scalar.minsi c99872_i32_3255 v5728
  let v5730 : BitVec 32 := v5729
  ![90, v5730.toNat]

def k1_chk219 (v5709 : BitVec 32) : Prop :=
  (32 ∣ (k1_mult219 v5709).toNat) ∧
  (∀ a, (k1_off219 v5709) a + S1x128.size a ≤ S128x100000.size a)
theorem k1_mult219_dvd : ∀ (v5709 : BitVec 32) (k1_hw219 : k1_chk219 v5709), 32 ∣ (k1_mult219 v5709).toNat := fun v5709 k1_hw219 => k1_hw219.1
theorem k1_off219_inb : ∀ (v5709 : BitVec 32) (k1_hw219 : k1_chk219 v5709), ∀ a, (k1_off219 v5709) a + S1x128.size a ≤ S128x100000.size a := fun v5709 k1_hw219 => k1_hw219.2

def k1_mult220 (v5735 : BitVec 32) : BitVec 32 :=
  let c99872_i32_3271 : BitVec 32 := 99872#32
  let c0_i32_3270 : BitVec 32 := 0#32
  let c0_i32_3263 : BitVec 32 := 0#32
  let v5737 : BitVec 1 := Scalar.cmpi .sgt v5735 c0_i32_3263
  let v5738 : BitVec 32 := Scalar.extui v5737
  let c0_i32_3264 : BitVec 32 := 0#32
  let v5739 : BitVec 1 := Scalar.cmpi .slt v5735 c0_i32_3264
  let v5740 : BitVec 32 := Scalar.extui v5739
  let v5741 : BitVec 32 := Scalar.subi v5738 v5740
  let c128_i32_3262 : BitVec 32 := 128#32
  let c0_i32_3265 : BitVec 32 := 0#32
  let v5742 : BitVec 1 := Scalar.cmpi .sgt c128_i32_3262 c0_i32_3265
  let v5743 : BitVec 32 := Scalar.extui v5742
  let c0_i32_3266 : BitVec 32 := 0#32
  let v5744 : BitVec 1 := Scalar.cmpi .slt c128_i32_3262 c0_i32_3266
  let v5745 : BitVec 32 := Scalar.extui v5744
  let v5746 : BitVec 32 := Scalar.subi v5743 v5745
  let v5747 : BitVec 1 := Scalar.cmpi .ne v5741 v5746
  let v5748 : BitVec 32 := Scalar.remsi v5735 c128_i32_3262
  let c0_i32_3267 : BitVec 32 := 0#32
  let v5749 : BitVec 1 := Scalar.cmpi .ne v5748 c0_i32_3267
  let v5750 : BitVec 1 := Scalar.andi v5747 v5749
  let v5736 : BitVec 32 := Scalar.divsi v5735 c128_i32_3262
  let c1_i32_3268 : BitVec 32 := 1#32
  let v5751 : BitVec 32 := Scalar.subi v5736 c1_i32_3268
  let v5752 : BitVec 32 := Scalar.select v5750 v5751 v5736
  let c128_i32_3269 : BitVec 32 := 128#32
  let v5753 : BitVec 32 := Scalar.muli v5752 c128_i32_3269
  let v5754 : BitVec 32 := Scalar.maxsi c0_i32_3270 v5753
  let v5755 : BitVec 32 := Scalar.minsi c99872_i32_3271 v5754
  v5755

def k1_off220 (v5735 : BitVec 32) : Fin 2 → Nat :=
  let c91_i32_3273 : BitVec 32 := 91#32
  let c99872_i32_3271 : BitVec 32 := 99872#32
  let c0_i32_3270 : BitVec 32 := 0#32
  let c0_i32_3263 : BitVec 32 := 0#32
  let v5737 : BitVec 1 := Scalar.cmpi .sgt v5735 c0_i32_3263
  let v5738 : BitVec 32 := Scalar.extui v5737
  let c0_i32_3264 : BitVec 32 := 0#32
  let v5739 : BitVec 1 := Scalar.cmpi .slt v5735 c0_i32_3264
  let v5740 : BitVec 32 := Scalar.extui v5739
  let v5741 : BitVec 32 := Scalar.subi v5738 v5740
  let c128_i32_3262 : BitVec 32 := 128#32
  let c0_i32_3265 : BitVec 32 := 0#32
  let v5742 : BitVec 1 := Scalar.cmpi .sgt c128_i32_3262 c0_i32_3265
  let v5743 : BitVec 32 := Scalar.extui v5742
  let c0_i32_3266 : BitVec 32 := 0#32
  let v5744 : BitVec 1 := Scalar.cmpi .slt c128_i32_3262 c0_i32_3266
  let v5745 : BitVec 32 := Scalar.extui v5744
  let v5746 : BitVec 32 := Scalar.subi v5743 v5745
  let v5747 : BitVec 1 := Scalar.cmpi .ne v5741 v5746
  let v5748 : BitVec 32 := Scalar.remsi v5735 c128_i32_3262
  let c0_i32_3267 : BitVec 32 := 0#32
  let v5749 : BitVec 1 := Scalar.cmpi .ne v5748 c0_i32_3267
  let v5750 : BitVec 1 := Scalar.andi v5747 v5749
  let v5736 : BitVec 32 := Scalar.divsi v5735 c128_i32_3262
  let c1_i32_3268 : BitVec 32 := 1#32
  let v5751 : BitVec 32 := Scalar.subi v5736 c1_i32_3268
  let v5752 : BitVec 32 := Scalar.select v5750 v5751 v5736
  let c128_i32_3269 : BitVec 32 := 128#32
  let v5753 : BitVec 32 := Scalar.muli v5752 c128_i32_3269
  let v5754 : BitVec 32 := Scalar.maxsi c0_i32_3270 v5753
  let v5755 : BitVec 32 := Scalar.minsi c99872_i32_3271 v5754
  let v5756 : BitVec 32 := v5755
  ![91, v5756.toNat]

def k1_chk220 (v5735 : BitVec 32) : Prop :=
  (32 ∣ (k1_mult220 v5735).toNat) ∧
  (∀ a, (k1_off220 v5735) a + S1x128.size a ≤ S128x100000.size a)
theorem k1_mult220_dvd : ∀ (v5735 : BitVec 32) (k1_hw220 : k1_chk220 v5735), 32 ∣ (k1_mult220 v5735).toNat := fun v5735 k1_hw220 => k1_hw220.1
theorem k1_off220_inb : ∀ (v5735 : BitVec 32) (k1_hw220 : k1_chk220 v5735), ∀ a, (k1_off220 v5735) a + S1x128.size a ≤ S128x100000.size a := fun v5735 k1_hw220 => k1_hw220.2

def k1_mult221 (v5761 : BitVec 32) : BitVec 32 :=
  let c99872_i32_3287 : BitVec 32 := 99872#32
  let c0_i32_3286 : BitVec 32 := 0#32
  let c0_i32_3279 : BitVec 32 := 0#32
  let v5763 : BitVec 1 := Scalar.cmpi .sgt v5761 c0_i32_3279
  let v5764 : BitVec 32 := Scalar.extui v5763
  let c0_i32_3280 : BitVec 32 := 0#32
  let v5765 : BitVec 1 := Scalar.cmpi .slt v5761 c0_i32_3280
  let v5766 : BitVec 32 := Scalar.extui v5765
  let v5767 : BitVec 32 := Scalar.subi v5764 v5766
  let c128_i32_3278 : BitVec 32 := 128#32
  let c0_i32_3281 : BitVec 32 := 0#32
  let v5768 : BitVec 1 := Scalar.cmpi .sgt c128_i32_3278 c0_i32_3281
  let v5769 : BitVec 32 := Scalar.extui v5768
  let c0_i32_3282 : BitVec 32 := 0#32
  let v5770 : BitVec 1 := Scalar.cmpi .slt c128_i32_3278 c0_i32_3282
  let v5771 : BitVec 32 := Scalar.extui v5770
  let v5772 : BitVec 32 := Scalar.subi v5769 v5771
  let v5773 : BitVec 1 := Scalar.cmpi .ne v5767 v5772
  let v5774 : BitVec 32 := Scalar.remsi v5761 c128_i32_3278
  let c0_i32_3283 : BitVec 32 := 0#32
  let v5775 : BitVec 1 := Scalar.cmpi .ne v5774 c0_i32_3283
  let v5776 : BitVec 1 := Scalar.andi v5773 v5775
  let v5762 : BitVec 32 := Scalar.divsi v5761 c128_i32_3278
  let c1_i32_3284 : BitVec 32 := 1#32
  let v5777 : BitVec 32 := Scalar.subi v5762 c1_i32_3284
  let v5778 : BitVec 32 := Scalar.select v5776 v5777 v5762
  let c128_i32_3285 : BitVec 32 := 128#32
  let v5779 : BitVec 32 := Scalar.muli v5778 c128_i32_3285
  let v5780 : BitVec 32 := Scalar.maxsi c0_i32_3286 v5779
  let v5781 : BitVec 32 := Scalar.minsi c99872_i32_3287 v5780
  v5781

def k1_off221 (v5761 : BitVec 32) : Fin 2 → Nat :=
  let c92_i32_3289 : BitVec 32 := 92#32
  let c99872_i32_3287 : BitVec 32 := 99872#32
  let c0_i32_3286 : BitVec 32 := 0#32
  let c0_i32_3279 : BitVec 32 := 0#32
  let v5763 : BitVec 1 := Scalar.cmpi .sgt v5761 c0_i32_3279
  let v5764 : BitVec 32 := Scalar.extui v5763
  let c0_i32_3280 : BitVec 32 := 0#32
  let v5765 : BitVec 1 := Scalar.cmpi .slt v5761 c0_i32_3280
  let v5766 : BitVec 32 := Scalar.extui v5765
  let v5767 : BitVec 32 := Scalar.subi v5764 v5766
  let c128_i32_3278 : BitVec 32 := 128#32
  let c0_i32_3281 : BitVec 32 := 0#32
  let v5768 : BitVec 1 := Scalar.cmpi .sgt c128_i32_3278 c0_i32_3281
  let v5769 : BitVec 32 := Scalar.extui v5768
  let c0_i32_3282 : BitVec 32 := 0#32
  let v5770 : BitVec 1 := Scalar.cmpi .slt c128_i32_3278 c0_i32_3282
  let v5771 : BitVec 32 := Scalar.extui v5770
  let v5772 : BitVec 32 := Scalar.subi v5769 v5771
  let v5773 : BitVec 1 := Scalar.cmpi .ne v5767 v5772
  let v5774 : BitVec 32 := Scalar.remsi v5761 c128_i32_3278
  let c0_i32_3283 : BitVec 32 := 0#32
  let v5775 : BitVec 1 := Scalar.cmpi .ne v5774 c0_i32_3283
  let v5776 : BitVec 1 := Scalar.andi v5773 v5775
  let v5762 : BitVec 32 := Scalar.divsi v5761 c128_i32_3278
  let c1_i32_3284 : BitVec 32 := 1#32
  let v5777 : BitVec 32 := Scalar.subi v5762 c1_i32_3284
  let v5778 : BitVec 32 := Scalar.select v5776 v5777 v5762
  let c128_i32_3285 : BitVec 32 := 128#32
  let v5779 : BitVec 32 := Scalar.muli v5778 c128_i32_3285
  let v5780 : BitVec 32 := Scalar.maxsi c0_i32_3286 v5779
  let v5781 : BitVec 32 := Scalar.minsi c99872_i32_3287 v5780
  let v5782 : BitVec 32 := v5781
  ![92, v5782.toNat]

def k1_chk221 (v5761 : BitVec 32) : Prop :=
  (32 ∣ (k1_mult221 v5761).toNat) ∧
  (∀ a, (k1_off221 v5761) a + S1x128.size a ≤ S128x100000.size a)
theorem k1_mult221_dvd : ∀ (v5761 : BitVec 32) (k1_hw221 : k1_chk221 v5761), 32 ∣ (k1_mult221 v5761).toNat := fun v5761 k1_hw221 => k1_hw221.1
theorem k1_off221_inb : ∀ (v5761 : BitVec 32) (k1_hw221 : k1_chk221 v5761), ∀ a, (k1_off221 v5761) a + S1x128.size a ≤ S128x100000.size a := fun v5761 k1_hw221 => k1_hw221.2

def k1_mult222 (v5787 : BitVec 32) : BitVec 32 :=
  let c99872_i32_3303 : BitVec 32 := 99872#32
  let c0_i32_3302 : BitVec 32 := 0#32
  let c0_i32_3295 : BitVec 32 := 0#32
  let v5789 : BitVec 1 := Scalar.cmpi .sgt v5787 c0_i32_3295
  let v5790 : BitVec 32 := Scalar.extui v5789
  let c0_i32_3296 : BitVec 32 := 0#32
  let v5791 : BitVec 1 := Scalar.cmpi .slt v5787 c0_i32_3296
  let v5792 : BitVec 32 := Scalar.extui v5791
  let v5793 : BitVec 32 := Scalar.subi v5790 v5792
  let c128_i32_3294 : BitVec 32 := 128#32
  let c0_i32_3297 : BitVec 32 := 0#32
  let v5794 : BitVec 1 := Scalar.cmpi .sgt c128_i32_3294 c0_i32_3297
  let v5795 : BitVec 32 := Scalar.extui v5794
  let c0_i32_3298 : BitVec 32 := 0#32
  let v5796 : BitVec 1 := Scalar.cmpi .slt c128_i32_3294 c0_i32_3298
  let v5797 : BitVec 32 := Scalar.extui v5796
  let v5798 : BitVec 32 := Scalar.subi v5795 v5797
  let v5799 : BitVec 1 := Scalar.cmpi .ne v5793 v5798
  let v5800 : BitVec 32 := Scalar.remsi v5787 c128_i32_3294
  let c0_i32_3299 : BitVec 32 := 0#32
  let v5801 : BitVec 1 := Scalar.cmpi .ne v5800 c0_i32_3299
  let v5802 : BitVec 1 := Scalar.andi v5799 v5801
  let v5788 : BitVec 32 := Scalar.divsi v5787 c128_i32_3294
  let c1_i32_3300 : BitVec 32 := 1#32
  let v5803 : BitVec 32 := Scalar.subi v5788 c1_i32_3300
  let v5804 : BitVec 32 := Scalar.select v5802 v5803 v5788
  let c128_i32_3301 : BitVec 32 := 128#32
  let v5805 : BitVec 32 := Scalar.muli v5804 c128_i32_3301
  let v5806 : BitVec 32 := Scalar.maxsi c0_i32_3302 v5805
  let v5807 : BitVec 32 := Scalar.minsi c99872_i32_3303 v5806
  v5807

def k1_off222 (v5787 : BitVec 32) : Fin 2 → Nat :=
  let c93_i32_3305 : BitVec 32 := 93#32
  let c99872_i32_3303 : BitVec 32 := 99872#32
  let c0_i32_3302 : BitVec 32 := 0#32
  let c0_i32_3295 : BitVec 32 := 0#32
  let v5789 : BitVec 1 := Scalar.cmpi .sgt v5787 c0_i32_3295
  let v5790 : BitVec 32 := Scalar.extui v5789
  let c0_i32_3296 : BitVec 32 := 0#32
  let v5791 : BitVec 1 := Scalar.cmpi .slt v5787 c0_i32_3296
  let v5792 : BitVec 32 := Scalar.extui v5791
  let v5793 : BitVec 32 := Scalar.subi v5790 v5792
  let c128_i32_3294 : BitVec 32 := 128#32
  let c0_i32_3297 : BitVec 32 := 0#32
  let v5794 : BitVec 1 := Scalar.cmpi .sgt c128_i32_3294 c0_i32_3297
  let v5795 : BitVec 32 := Scalar.extui v5794
  let c0_i32_3298 : BitVec 32 := 0#32
  let v5796 : BitVec 1 := Scalar.cmpi .slt c128_i32_3294 c0_i32_3298
  let v5797 : BitVec 32 := Scalar.extui v5796
  let v5798 : BitVec 32 := Scalar.subi v5795 v5797
  let v5799 : BitVec 1 := Scalar.cmpi .ne v5793 v5798
  let v5800 : BitVec 32 := Scalar.remsi v5787 c128_i32_3294
  let c0_i32_3299 : BitVec 32 := 0#32
  let v5801 : BitVec 1 := Scalar.cmpi .ne v5800 c0_i32_3299
  let v5802 : BitVec 1 := Scalar.andi v5799 v5801
  let v5788 : BitVec 32 := Scalar.divsi v5787 c128_i32_3294
  let c1_i32_3300 : BitVec 32 := 1#32
  let v5803 : BitVec 32 := Scalar.subi v5788 c1_i32_3300
  let v5804 : BitVec 32 := Scalar.select v5802 v5803 v5788
  let c128_i32_3301 : BitVec 32 := 128#32
  let v5805 : BitVec 32 := Scalar.muli v5804 c128_i32_3301
  let v5806 : BitVec 32 := Scalar.maxsi c0_i32_3302 v5805
  let v5807 : BitVec 32 := Scalar.minsi c99872_i32_3303 v5806
  let v5808 : BitVec 32 := v5807
  ![93, v5808.toNat]

def k1_chk222 (v5787 : BitVec 32) : Prop :=
  (32 ∣ (k1_mult222 v5787).toNat) ∧
  (∀ a, (k1_off222 v5787) a + S1x128.size a ≤ S128x100000.size a)
theorem k1_mult222_dvd : ∀ (v5787 : BitVec 32) (k1_hw222 : k1_chk222 v5787), 32 ∣ (k1_mult222 v5787).toNat := fun v5787 k1_hw222 => k1_hw222.1
theorem k1_off222_inb : ∀ (v5787 : BitVec 32) (k1_hw222 : k1_chk222 v5787), ∀ a, (k1_off222 v5787) a + S1x128.size a ≤ S128x100000.size a := fun v5787 k1_hw222 => k1_hw222.2

def k1_mult223 (v5813 : BitVec 32) : BitVec 32 :=
  let c99872_i32_3319 : BitVec 32 := 99872#32
  let c0_i32_3318 : BitVec 32 := 0#32
  let c0_i32_3311 : BitVec 32 := 0#32
  let v5815 : BitVec 1 := Scalar.cmpi .sgt v5813 c0_i32_3311
  let v5816 : BitVec 32 := Scalar.extui v5815
  let c0_i32_3312 : BitVec 32 := 0#32
  let v5817 : BitVec 1 := Scalar.cmpi .slt v5813 c0_i32_3312
  let v5818 : BitVec 32 := Scalar.extui v5817
  let v5819 : BitVec 32 := Scalar.subi v5816 v5818
  let c128_i32_3310 : BitVec 32 := 128#32
  let c0_i32_3313 : BitVec 32 := 0#32
  let v5820 : BitVec 1 := Scalar.cmpi .sgt c128_i32_3310 c0_i32_3313
  let v5821 : BitVec 32 := Scalar.extui v5820
  let c0_i32_3314 : BitVec 32 := 0#32
  let v5822 : BitVec 1 := Scalar.cmpi .slt c128_i32_3310 c0_i32_3314
  let v5823 : BitVec 32 := Scalar.extui v5822
  let v5824 : BitVec 32 := Scalar.subi v5821 v5823
  let v5825 : BitVec 1 := Scalar.cmpi .ne v5819 v5824
  let v5826 : BitVec 32 := Scalar.remsi v5813 c128_i32_3310
  let c0_i32_3315 : BitVec 32 := 0#32
  let v5827 : BitVec 1 := Scalar.cmpi .ne v5826 c0_i32_3315
  let v5828 : BitVec 1 := Scalar.andi v5825 v5827
  let v5814 : BitVec 32 := Scalar.divsi v5813 c128_i32_3310
  let c1_i32_3316 : BitVec 32 := 1#32
  let v5829 : BitVec 32 := Scalar.subi v5814 c1_i32_3316
  let v5830 : BitVec 32 := Scalar.select v5828 v5829 v5814
  let c128_i32_3317 : BitVec 32 := 128#32
  let v5831 : BitVec 32 := Scalar.muli v5830 c128_i32_3317
  let v5832 : BitVec 32 := Scalar.maxsi c0_i32_3318 v5831
  let v5833 : BitVec 32 := Scalar.minsi c99872_i32_3319 v5832
  v5833

def k1_off223 (v5813 : BitVec 32) : Fin 2 → Nat :=
  let c94_i32_3321 : BitVec 32 := 94#32
  let c99872_i32_3319 : BitVec 32 := 99872#32
  let c0_i32_3318 : BitVec 32 := 0#32
  let c0_i32_3311 : BitVec 32 := 0#32
  let v5815 : BitVec 1 := Scalar.cmpi .sgt v5813 c0_i32_3311
  let v5816 : BitVec 32 := Scalar.extui v5815
  let c0_i32_3312 : BitVec 32 := 0#32
  let v5817 : BitVec 1 := Scalar.cmpi .slt v5813 c0_i32_3312
  let v5818 : BitVec 32 := Scalar.extui v5817
  let v5819 : BitVec 32 := Scalar.subi v5816 v5818
  let c128_i32_3310 : BitVec 32 := 128#32
  let c0_i32_3313 : BitVec 32 := 0#32
  let v5820 : BitVec 1 := Scalar.cmpi .sgt c128_i32_3310 c0_i32_3313
  let v5821 : BitVec 32 := Scalar.extui v5820
  let c0_i32_3314 : BitVec 32 := 0#32
  let v5822 : BitVec 1 := Scalar.cmpi .slt c128_i32_3310 c0_i32_3314
  let v5823 : BitVec 32 := Scalar.extui v5822
  let v5824 : BitVec 32 := Scalar.subi v5821 v5823
  let v5825 : BitVec 1 := Scalar.cmpi .ne v5819 v5824
  let v5826 : BitVec 32 := Scalar.remsi v5813 c128_i32_3310
  let c0_i32_3315 : BitVec 32 := 0#32
  let v5827 : BitVec 1 := Scalar.cmpi .ne v5826 c0_i32_3315
  let v5828 : BitVec 1 := Scalar.andi v5825 v5827
  let v5814 : BitVec 32 := Scalar.divsi v5813 c128_i32_3310
  let c1_i32_3316 : BitVec 32 := 1#32
  let v5829 : BitVec 32 := Scalar.subi v5814 c1_i32_3316
  let v5830 : BitVec 32 := Scalar.select v5828 v5829 v5814
  let c128_i32_3317 : BitVec 32 := 128#32
  let v5831 : BitVec 32 := Scalar.muli v5830 c128_i32_3317
  let v5832 : BitVec 32 := Scalar.maxsi c0_i32_3318 v5831
  let v5833 : BitVec 32 := Scalar.minsi c99872_i32_3319 v5832
  let v5834 : BitVec 32 := v5833
  ![94, v5834.toNat]

def k1_chk223 (v5813 : BitVec 32) : Prop :=
  (32 ∣ (k1_mult223 v5813).toNat) ∧
  (∀ a, (k1_off223 v5813) a + S1x128.size a ≤ S128x100000.size a)
theorem k1_mult223_dvd : ∀ (v5813 : BitVec 32) (k1_hw223 : k1_chk223 v5813), 32 ∣ (k1_mult223 v5813).toNat := fun v5813 k1_hw223 => k1_hw223.1
theorem k1_off223_inb : ∀ (v5813 : BitVec 32) (k1_hw223 : k1_chk223 v5813), ∀ a, (k1_off223 v5813) a + S1x128.size a ≤ S128x100000.size a := fun v5813 k1_hw223 => k1_hw223.2

def k1_mult224 (v5839 : BitVec 32) : BitVec 32 :=
  let c99872_i32_3335 : BitVec 32 := 99872#32
  let c0_i32_3334 : BitVec 32 := 0#32
  let c0_i32_3327 : BitVec 32 := 0#32
  let v5841 : BitVec 1 := Scalar.cmpi .sgt v5839 c0_i32_3327
  let v5842 : BitVec 32 := Scalar.extui v5841
  let c0_i32_3328 : BitVec 32 := 0#32
  let v5843 : BitVec 1 := Scalar.cmpi .slt v5839 c0_i32_3328
  let v5844 : BitVec 32 := Scalar.extui v5843
  let v5845 : BitVec 32 := Scalar.subi v5842 v5844
  let c128_i32_3326 : BitVec 32 := 128#32
  let c0_i32_3329 : BitVec 32 := 0#32
  let v5846 : BitVec 1 := Scalar.cmpi .sgt c128_i32_3326 c0_i32_3329
  let v5847 : BitVec 32 := Scalar.extui v5846
  let c0_i32_3330 : BitVec 32 := 0#32
  let v5848 : BitVec 1 := Scalar.cmpi .slt c128_i32_3326 c0_i32_3330
  let v5849 : BitVec 32 := Scalar.extui v5848
  let v5850 : BitVec 32 := Scalar.subi v5847 v5849
  let v5851 : BitVec 1 := Scalar.cmpi .ne v5845 v5850
  let v5852 : BitVec 32 := Scalar.remsi v5839 c128_i32_3326
  let c0_i32_3331 : BitVec 32 := 0#32
  let v5853 : BitVec 1 := Scalar.cmpi .ne v5852 c0_i32_3331
  let v5854 : BitVec 1 := Scalar.andi v5851 v5853
  let v5840 : BitVec 32 := Scalar.divsi v5839 c128_i32_3326
  let c1_i32_3332 : BitVec 32 := 1#32
  let v5855 : BitVec 32 := Scalar.subi v5840 c1_i32_3332
  let v5856 : BitVec 32 := Scalar.select v5854 v5855 v5840
  let c128_i32_3333 : BitVec 32 := 128#32
  let v5857 : BitVec 32 := Scalar.muli v5856 c128_i32_3333
  let v5858 : BitVec 32 := Scalar.maxsi c0_i32_3334 v5857
  let v5859 : BitVec 32 := Scalar.minsi c99872_i32_3335 v5858
  v5859

def k1_off224 (v5839 : BitVec 32) : Fin 2 → Nat :=
  let c95_i32_3337 : BitVec 32 := 95#32
  let c99872_i32_3335 : BitVec 32 := 99872#32
  let c0_i32_3334 : BitVec 32 := 0#32
  let c0_i32_3327 : BitVec 32 := 0#32
  let v5841 : BitVec 1 := Scalar.cmpi .sgt v5839 c0_i32_3327
  let v5842 : BitVec 32 := Scalar.extui v5841
  let c0_i32_3328 : BitVec 32 := 0#32
  let v5843 : BitVec 1 := Scalar.cmpi .slt v5839 c0_i32_3328
  let v5844 : BitVec 32 := Scalar.extui v5843
  let v5845 : BitVec 32 := Scalar.subi v5842 v5844
  let c128_i32_3326 : BitVec 32 := 128#32
  let c0_i32_3329 : BitVec 32 := 0#32
  let v5846 : BitVec 1 := Scalar.cmpi .sgt c128_i32_3326 c0_i32_3329
  let v5847 : BitVec 32 := Scalar.extui v5846
  let c0_i32_3330 : BitVec 32 := 0#32
  let v5848 : BitVec 1 := Scalar.cmpi .slt c128_i32_3326 c0_i32_3330
  let v5849 : BitVec 32 := Scalar.extui v5848
  let v5850 : BitVec 32 := Scalar.subi v5847 v5849
  let v5851 : BitVec 1 := Scalar.cmpi .ne v5845 v5850
  let v5852 : BitVec 32 := Scalar.remsi v5839 c128_i32_3326
  let c0_i32_3331 : BitVec 32 := 0#32
  let v5853 : BitVec 1 := Scalar.cmpi .ne v5852 c0_i32_3331
  let v5854 : BitVec 1 := Scalar.andi v5851 v5853
  let v5840 : BitVec 32 := Scalar.divsi v5839 c128_i32_3326
  let c1_i32_3332 : BitVec 32 := 1#32
  let v5855 : BitVec 32 := Scalar.subi v5840 c1_i32_3332
  let v5856 : BitVec 32 := Scalar.select v5854 v5855 v5840
  let c128_i32_3333 : BitVec 32 := 128#32
  let v5857 : BitVec 32 := Scalar.muli v5856 c128_i32_3333
  let v5858 : BitVec 32 := Scalar.maxsi c0_i32_3334 v5857
  let v5859 : BitVec 32 := Scalar.minsi c99872_i32_3335 v5858
  let v5860 : BitVec 32 := v5859
  ![95, v5860.toNat]

def k1_chk224 (v5839 : BitVec 32) : Prop :=
  (32 ∣ (k1_mult224 v5839).toNat) ∧
  (∀ a, (k1_off224 v5839) a + S1x128.size a ≤ S128x100000.size a)
theorem k1_mult224_dvd : ∀ (v5839 : BitVec 32) (k1_hw224 : k1_chk224 v5839), 32 ∣ (k1_mult224 v5839).toNat := fun v5839 k1_hw224 => k1_hw224.1
theorem k1_off224_inb : ∀ (v5839 : BitVec 32) (k1_hw224 : k1_chk224 v5839), ∀ a, (k1_off224 v5839) a + S1x128.size a ≤ S128x100000.size a := fun v5839 k1_hw224 => k1_hw224.2

def k1_mult225 (v5865 : BitVec 32) : BitVec 32 :=
  let c99872_i32_3351 : BitVec 32 := 99872#32
  let c0_i32_3350 : BitVec 32 := 0#32
  let c0_i32_3343 : BitVec 32 := 0#32
  let v5867 : BitVec 1 := Scalar.cmpi .sgt v5865 c0_i32_3343
  let v5868 : BitVec 32 := Scalar.extui v5867
  let c0_i32_3344 : BitVec 32 := 0#32
  let v5869 : BitVec 1 := Scalar.cmpi .slt v5865 c0_i32_3344
  let v5870 : BitVec 32 := Scalar.extui v5869
  let v5871 : BitVec 32 := Scalar.subi v5868 v5870
  let c128_i32_3342 : BitVec 32 := 128#32
  let c0_i32_3345 : BitVec 32 := 0#32
  let v5872 : BitVec 1 := Scalar.cmpi .sgt c128_i32_3342 c0_i32_3345
  let v5873 : BitVec 32 := Scalar.extui v5872
  let c0_i32_3346 : BitVec 32 := 0#32
  let v5874 : BitVec 1 := Scalar.cmpi .slt c128_i32_3342 c0_i32_3346
  let v5875 : BitVec 32 := Scalar.extui v5874
  let v5876 : BitVec 32 := Scalar.subi v5873 v5875
  let v5877 : BitVec 1 := Scalar.cmpi .ne v5871 v5876
  let v5878 : BitVec 32 := Scalar.remsi v5865 c128_i32_3342
  let c0_i32_3347 : BitVec 32 := 0#32
  let v5879 : BitVec 1 := Scalar.cmpi .ne v5878 c0_i32_3347
  let v5880 : BitVec 1 := Scalar.andi v5877 v5879
  let v5866 : BitVec 32 := Scalar.divsi v5865 c128_i32_3342
  let c1_i32_3348 : BitVec 32 := 1#32
  let v5881 : BitVec 32 := Scalar.subi v5866 c1_i32_3348
  let v5882 : BitVec 32 := Scalar.select v5880 v5881 v5866
  let c128_i32_3349 : BitVec 32 := 128#32
  let v5883 : BitVec 32 := Scalar.muli v5882 c128_i32_3349
  let v5884 : BitVec 32 := Scalar.maxsi c0_i32_3350 v5883
  let v5885 : BitVec 32 := Scalar.minsi c99872_i32_3351 v5884
  v5885

def k1_off225 (v5865 : BitVec 32) : Fin 2 → Nat :=
  let c96_i32_3353 : BitVec 32 := 96#32
  let c99872_i32_3351 : BitVec 32 := 99872#32
  let c0_i32_3350 : BitVec 32 := 0#32
  let c0_i32_3343 : BitVec 32 := 0#32
  let v5867 : BitVec 1 := Scalar.cmpi .sgt v5865 c0_i32_3343
  let v5868 : BitVec 32 := Scalar.extui v5867
  let c0_i32_3344 : BitVec 32 := 0#32
  let v5869 : BitVec 1 := Scalar.cmpi .slt v5865 c0_i32_3344
  let v5870 : BitVec 32 := Scalar.extui v5869
  let v5871 : BitVec 32 := Scalar.subi v5868 v5870
  let c128_i32_3342 : BitVec 32 := 128#32
  let c0_i32_3345 : BitVec 32 := 0#32
  let v5872 : BitVec 1 := Scalar.cmpi .sgt c128_i32_3342 c0_i32_3345
  let v5873 : BitVec 32 := Scalar.extui v5872
  let c0_i32_3346 : BitVec 32 := 0#32
  let v5874 : BitVec 1 := Scalar.cmpi .slt c128_i32_3342 c0_i32_3346
  let v5875 : BitVec 32 := Scalar.extui v5874
  let v5876 : BitVec 32 := Scalar.subi v5873 v5875
  let v5877 : BitVec 1 := Scalar.cmpi .ne v5871 v5876
  let v5878 : BitVec 32 := Scalar.remsi v5865 c128_i32_3342
  let c0_i32_3347 : BitVec 32 := 0#32
  let v5879 : BitVec 1 := Scalar.cmpi .ne v5878 c0_i32_3347
  let v5880 : BitVec 1 := Scalar.andi v5877 v5879
  let v5866 : BitVec 32 := Scalar.divsi v5865 c128_i32_3342
  let c1_i32_3348 : BitVec 32 := 1#32
  let v5881 : BitVec 32 := Scalar.subi v5866 c1_i32_3348
  let v5882 : BitVec 32 := Scalar.select v5880 v5881 v5866
  let c128_i32_3349 : BitVec 32 := 128#32
  let v5883 : BitVec 32 := Scalar.muli v5882 c128_i32_3349
  let v5884 : BitVec 32 := Scalar.maxsi c0_i32_3350 v5883
  let v5885 : BitVec 32 := Scalar.minsi c99872_i32_3351 v5884
  let v5886 : BitVec 32 := v5885
  ![96, v5886.toNat]

def k1_chk225 (v5865 : BitVec 32) : Prop :=
  (32 ∣ (k1_mult225 v5865).toNat) ∧
  (∀ a, (k1_off225 v5865) a + S1x128.size a ≤ S128x100000.size a)
theorem k1_mult225_dvd : ∀ (v5865 : BitVec 32) (k1_hw225 : k1_chk225 v5865), 32 ∣ (k1_mult225 v5865).toNat := fun v5865 k1_hw225 => k1_hw225.1
theorem k1_off225_inb : ∀ (v5865 : BitVec 32) (k1_hw225 : k1_chk225 v5865), ∀ a, (k1_off225 v5865) a + S1x128.size a ≤ S128x100000.size a := fun v5865 k1_hw225 => k1_hw225.2

def k1_mult226 (v5891 : BitVec 32) : BitVec 32 :=
  let c99872_i32_3367 : BitVec 32 := 99872#32
  let c0_i32_3366 : BitVec 32 := 0#32
  let c0_i32_3359 : BitVec 32 := 0#32
  let v5893 : BitVec 1 := Scalar.cmpi .sgt v5891 c0_i32_3359
  let v5894 : BitVec 32 := Scalar.extui v5893
  let c0_i32_3360 : BitVec 32 := 0#32
  let v5895 : BitVec 1 := Scalar.cmpi .slt v5891 c0_i32_3360
  let v5896 : BitVec 32 := Scalar.extui v5895
  let v5897 : BitVec 32 := Scalar.subi v5894 v5896
  let c128_i32_3358 : BitVec 32 := 128#32
  let c0_i32_3361 : BitVec 32 := 0#32
  let v5898 : BitVec 1 := Scalar.cmpi .sgt c128_i32_3358 c0_i32_3361
  let v5899 : BitVec 32 := Scalar.extui v5898
  let c0_i32_3362 : BitVec 32 := 0#32
  let v5900 : BitVec 1 := Scalar.cmpi .slt c128_i32_3358 c0_i32_3362
  let v5901 : BitVec 32 := Scalar.extui v5900
  let v5902 : BitVec 32 := Scalar.subi v5899 v5901
  let v5903 : BitVec 1 := Scalar.cmpi .ne v5897 v5902
  let v5904 : BitVec 32 := Scalar.remsi v5891 c128_i32_3358
  let c0_i32_3363 : BitVec 32 := 0#32
  let v5905 : BitVec 1 := Scalar.cmpi .ne v5904 c0_i32_3363
  let v5906 : BitVec 1 := Scalar.andi v5903 v5905
  let v5892 : BitVec 32 := Scalar.divsi v5891 c128_i32_3358
  let c1_i32_3364 : BitVec 32 := 1#32
  let v5907 : BitVec 32 := Scalar.subi v5892 c1_i32_3364
  let v5908 : BitVec 32 := Scalar.select v5906 v5907 v5892
  let c128_i32_3365 : BitVec 32 := 128#32
  let v5909 : BitVec 32 := Scalar.muli v5908 c128_i32_3365
  let v5910 : BitVec 32 := Scalar.maxsi c0_i32_3366 v5909
  let v5911 : BitVec 32 := Scalar.minsi c99872_i32_3367 v5910
  v5911

def k1_off226 (v5891 : BitVec 32) : Fin 2 → Nat :=
  let c97_i32_3369 : BitVec 32 := 97#32
  let c99872_i32_3367 : BitVec 32 := 99872#32
  let c0_i32_3366 : BitVec 32 := 0#32
  let c0_i32_3359 : BitVec 32 := 0#32
  let v5893 : BitVec 1 := Scalar.cmpi .sgt v5891 c0_i32_3359
  let v5894 : BitVec 32 := Scalar.extui v5893
  let c0_i32_3360 : BitVec 32 := 0#32
  let v5895 : BitVec 1 := Scalar.cmpi .slt v5891 c0_i32_3360
  let v5896 : BitVec 32 := Scalar.extui v5895
  let v5897 : BitVec 32 := Scalar.subi v5894 v5896
  let c128_i32_3358 : BitVec 32 := 128#32
  let c0_i32_3361 : BitVec 32 := 0#32
  let v5898 : BitVec 1 := Scalar.cmpi .sgt c128_i32_3358 c0_i32_3361
  let v5899 : BitVec 32 := Scalar.extui v5898
  let c0_i32_3362 : BitVec 32 := 0#32
  let v5900 : BitVec 1 := Scalar.cmpi .slt c128_i32_3358 c0_i32_3362
  let v5901 : BitVec 32 := Scalar.extui v5900
  let v5902 : BitVec 32 := Scalar.subi v5899 v5901
  let v5903 : BitVec 1 := Scalar.cmpi .ne v5897 v5902
  let v5904 : BitVec 32 := Scalar.remsi v5891 c128_i32_3358
  let c0_i32_3363 : BitVec 32 := 0#32
  let v5905 : BitVec 1 := Scalar.cmpi .ne v5904 c0_i32_3363
  let v5906 : BitVec 1 := Scalar.andi v5903 v5905
  let v5892 : BitVec 32 := Scalar.divsi v5891 c128_i32_3358
  let c1_i32_3364 : BitVec 32 := 1#32
  let v5907 : BitVec 32 := Scalar.subi v5892 c1_i32_3364
  let v5908 : BitVec 32 := Scalar.select v5906 v5907 v5892
  let c128_i32_3365 : BitVec 32 := 128#32
  let v5909 : BitVec 32 := Scalar.muli v5908 c128_i32_3365
  let v5910 : BitVec 32 := Scalar.maxsi c0_i32_3366 v5909
  let v5911 : BitVec 32 := Scalar.minsi c99872_i32_3367 v5910
  let v5912 : BitVec 32 := v5911
  ![97, v5912.toNat]

def k1_chk226 (v5891 : BitVec 32) : Prop :=
  (32 ∣ (k1_mult226 v5891).toNat) ∧
  (∀ a, (k1_off226 v5891) a + S1x128.size a ≤ S128x100000.size a)
theorem k1_mult226_dvd : ∀ (v5891 : BitVec 32) (k1_hw226 : k1_chk226 v5891), 32 ∣ (k1_mult226 v5891).toNat := fun v5891 k1_hw226 => k1_hw226.1
theorem k1_off226_inb : ∀ (v5891 : BitVec 32) (k1_hw226 : k1_chk226 v5891), ∀ a, (k1_off226 v5891) a + S1x128.size a ≤ S128x100000.size a := fun v5891 k1_hw226 => k1_hw226.2

def k1_mult227 (v5917 : BitVec 32) : BitVec 32 :=
  let c99872_i32_3383 : BitVec 32 := 99872#32
  let c0_i32_3382 : BitVec 32 := 0#32
  let c0_i32_3375 : BitVec 32 := 0#32
  let v5919 : BitVec 1 := Scalar.cmpi .sgt v5917 c0_i32_3375
  let v5920 : BitVec 32 := Scalar.extui v5919
  let c0_i32_3376 : BitVec 32 := 0#32
  let v5921 : BitVec 1 := Scalar.cmpi .slt v5917 c0_i32_3376
  let v5922 : BitVec 32 := Scalar.extui v5921
  let v5923 : BitVec 32 := Scalar.subi v5920 v5922
  let c128_i32_3374 : BitVec 32 := 128#32
  let c0_i32_3377 : BitVec 32 := 0#32
  let v5924 : BitVec 1 := Scalar.cmpi .sgt c128_i32_3374 c0_i32_3377
  let v5925 : BitVec 32 := Scalar.extui v5924
  let c0_i32_3378 : BitVec 32 := 0#32
  let v5926 : BitVec 1 := Scalar.cmpi .slt c128_i32_3374 c0_i32_3378
  let v5927 : BitVec 32 := Scalar.extui v5926
  let v5928 : BitVec 32 := Scalar.subi v5925 v5927
  let v5929 : BitVec 1 := Scalar.cmpi .ne v5923 v5928
  let v5930 : BitVec 32 := Scalar.remsi v5917 c128_i32_3374
  let c0_i32_3379 : BitVec 32 := 0#32
  let v5931 : BitVec 1 := Scalar.cmpi .ne v5930 c0_i32_3379
  let v5932 : BitVec 1 := Scalar.andi v5929 v5931
  let v5918 : BitVec 32 := Scalar.divsi v5917 c128_i32_3374
  let c1_i32_3380 : BitVec 32 := 1#32
  let v5933 : BitVec 32 := Scalar.subi v5918 c1_i32_3380
  let v5934 : BitVec 32 := Scalar.select v5932 v5933 v5918
  let c128_i32_3381 : BitVec 32 := 128#32
  let v5935 : BitVec 32 := Scalar.muli v5934 c128_i32_3381
  let v5936 : BitVec 32 := Scalar.maxsi c0_i32_3382 v5935
  let v5937 : BitVec 32 := Scalar.minsi c99872_i32_3383 v5936
  v5937

def k1_off227 (v5917 : BitVec 32) : Fin 2 → Nat :=
  let c98_i32_3385 : BitVec 32 := 98#32
  let c99872_i32_3383 : BitVec 32 := 99872#32
  let c0_i32_3382 : BitVec 32 := 0#32
  let c0_i32_3375 : BitVec 32 := 0#32
  let v5919 : BitVec 1 := Scalar.cmpi .sgt v5917 c0_i32_3375
  let v5920 : BitVec 32 := Scalar.extui v5919
  let c0_i32_3376 : BitVec 32 := 0#32
  let v5921 : BitVec 1 := Scalar.cmpi .slt v5917 c0_i32_3376
  let v5922 : BitVec 32 := Scalar.extui v5921
  let v5923 : BitVec 32 := Scalar.subi v5920 v5922
  let c128_i32_3374 : BitVec 32 := 128#32
  let c0_i32_3377 : BitVec 32 := 0#32
  let v5924 : BitVec 1 := Scalar.cmpi .sgt c128_i32_3374 c0_i32_3377
  let v5925 : BitVec 32 := Scalar.extui v5924
  let c0_i32_3378 : BitVec 32 := 0#32
  let v5926 : BitVec 1 := Scalar.cmpi .slt c128_i32_3374 c0_i32_3378
  let v5927 : BitVec 32 := Scalar.extui v5926
  let v5928 : BitVec 32 := Scalar.subi v5925 v5927
  let v5929 : BitVec 1 := Scalar.cmpi .ne v5923 v5928
  let v5930 : BitVec 32 := Scalar.remsi v5917 c128_i32_3374
  let c0_i32_3379 : BitVec 32 := 0#32
  let v5931 : BitVec 1 := Scalar.cmpi .ne v5930 c0_i32_3379
  let v5932 : BitVec 1 := Scalar.andi v5929 v5931
  let v5918 : BitVec 32 := Scalar.divsi v5917 c128_i32_3374
  let c1_i32_3380 : BitVec 32 := 1#32
  let v5933 : BitVec 32 := Scalar.subi v5918 c1_i32_3380
  let v5934 : BitVec 32 := Scalar.select v5932 v5933 v5918
  let c128_i32_3381 : BitVec 32 := 128#32
  let v5935 : BitVec 32 := Scalar.muli v5934 c128_i32_3381
  let v5936 : BitVec 32 := Scalar.maxsi c0_i32_3382 v5935
  let v5937 : BitVec 32 := Scalar.minsi c99872_i32_3383 v5936
  let v5938 : BitVec 32 := v5937
  ![98, v5938.toNat]

def k1_chk227 (v5917 : BitVec 32) : Prop :=
  (32 ∣ (k1_mult227 v5917).toNat) ∧
  (∀ a, (k1_off227 v5917) a + S1x128.size a ≤ S128x100000.size a)
theorem k1_mult227_dvd : ∀ (v5917 : BitVec 32) (k1_hw227 : k1_chk227 v5917), 32 ∣ (k1_mult227 v5917).toNat := fun v5917 k1_hw227 => k1_hw227.1
theorem k1_off227_inb : ∀ (v5917 : BitVec 32) (k1_hw227 : k1_chk227 v5917), ∀ a, (k1_off227 v5917) a + S1x128.size a ≤ S128x100000.size a := fun v5917 k1_hw227 => k1_hw227.2

def k1_mult228 (v5943 : BitVec 32) : BitVec 32 :=
  let c99872_i32_3399 : BitVec 32 := 99872#32
  let c0_i32_3398 : BitVec 32 := 0#32
  let c0_i32_3391 : BitVec 32 := 0#32
  let v5945 : BitVec 1 := Scalar.cmpi .sgt v5943 c0_i32_3391
  let v5946 : BitVec 32 := Scalar.extui v5945
  let c0_i32_3392 : BitVec 32 := 0#32
  let v5947 : BitVec 1 := Scalar.cmpi .slt v5943 c0_i32_3392
  let v5948 : BitVec 32 := Scalar.extui v5947
  let v5949 : BitVec 32 := Scalar.subi v5946 v5948
  let c128_i32_3390 : BitVec 32 := 128#32
  let c0_i32_3393 : BitVec 32 := 0#32
  let v5950 : BitVec 1 := Scalar.cmpi .sgt c128_i32_3390 c0_i32_3393
  let v5951 : BitVec 32 := Scalar.extui v5950
  let c0_i32_3394 : BitVec 32 := 0#32
  let v5952 : BitVec 1 := Scalar.cmpi .slt c128_i32_3390 c0_i32_3394
  let v5953 : BitVec 32 := Scalar.extui v5952
  let v5954 : BitVec 32 := Scalar.subi v5951 v5953
  let v5955 : BitVec 1 := Scalar.cmpi .ne v5949 v5954
  let v5956 : BitVec 32 := Scalar.remsi v5943 c128_i32_3390
  let c0_i32_3395 : BitVec 32 := 0#32
  let v5957 : BitVec 1 := Scalar.cmpi .ne v5956 c0_i32_3395
  let v5958 : BitVec 1 := Scalar.andi v5955 v5957
  let v5944 : BitVec 32 := Scalar.divsi v5943 c128_i32_3390
  let c1_i32_3396 : BitVec 32 := 1#32
  let v5959 : BitVec 32 := Scalar.subi v5944 c1_i32_3396
  let v5960 : BitVec 32 := Scalar.select v5958 v5959 v5944
  let c128_i32_3397 : BitVec 32 := 128#32
  let v5961 : BitVec 32 := Scalar.muli v5960 c128_i32_3397
  let v5962 : BitVec 32 := Scalar.maxsi c0_i32_3398 v5961
  let v5963 : BitVec 32 := Scalar.minsi c99872_i32_3399 v5962
  v5963

def k1_off228 (v5943 : BitVec 32) : Fin 2 → Nat :=
  let c99_i32_3401 : BitVec 32 := 99#32
  let c99872_i32_3399 : BitVec 32 := 99872#32
  let c0_i32_3398 : BitVec 32 := 0#32
  let c0_i32_3391 : BitVec 32 := 0#32
  let v5945 : BitVec 1 := Scalar.cmpi .sgt v5943 c0_i32_3391
  let v5946 : BitVec 32 := Scalar.extui v5945
  let c0_i32_3392 : BitVec 32 := 0#32
  let v5947 : BitVec 1 := Scalar.cmpi .slt v5943 c0_i32_3392
  let v5948 : BitVec 32 := Scalar.extui v5947
  let v5949 : BitVec 32 := Scalar.subi v5946 v5948
  let c128_i32_3390 : BitVec 32 := 128#32
  let c0_i32_3393 : BitVec 32 := 0#32
  let v5950 : BitVec 1 := Scalar.cmpi .sgt c128_i32_3390 c0_i32_3393
  let v5951 : BitVec 32 := Scalar.extui v5950
  let c0_i32_3394 : BitVec 32 := 0#32
  let v5952 : BitVec 1 := Scalar.cmpi .slt c128_i32_3390 c0_i32_3394
  let v5953 : BitVec 32 := Scalar.extui v5952
  let v5954 : BitVec 32 := Scalar.subi v5951 v5953
  let v5955 : BitVec 1 := Scalar.cmpi .ne v5949 v5954
  let v5956 : BitVec 32 := Scalar.remsi v5943 c128_i32_3390
  let c0_i32_3395 : BitVec 32 := 0#32
  let v5957 : BitVec 1 := Scalar.cmpi .ne v5956 c0_i32_3395
  let v5958 : BitVec 1 := Scalar.andi v5955 v5957
  let v5944 : BitVec 32 := Scalar.divsi v5943 c128_i32_3390
  let c1_i32_3396 : BitVec 32 := 1#32
  let v5959 : BitVec 32 := Scalar.subi v5944 c1_i32_3396
  let v5960 : BitVec 32 := Scalar.select v5958 v5959 v5944
  let c128_i32_3397 : BitVec 32 := 128#32
  let v5961 : BitVec 32 := Scalar.muli v5960 c128_i32_3397
  let v5962 : BitVec 32 := Scalar.maxsi c0_i32_3398 v5961
  let v5963 : BitVec 32 := Scalar.minsi c99872_i32_3399 v5962
  let v5964 : BitVec 32 := v5963
  ![99, v5964.toNat]

def k1_chk228 (v5943 : BitVec 32) : Prop :=
  (32 ∣ (k1_mult228 v5943).toNat) ∧
  (∀ a, (k1_off228 v5943) a + S1x128.size a ≤ S128x100000.size a)
theorem k1_mult228_dvd : ∀ (v5943 : BitVec 32) (k1_hw228 : k1_chk228 v5943), 32 ∣ (k1_mult228 v5943).toNat := fun v5943 k1_hw228 => k1_hw228.1
theorem k1_off228_inb : ∀ (v5943 : BitVec 32) (k1_hw228 : k1_chk228 v5943), ∀ a, (k1_off228 v5943) a + S1x128.size a ≤ S128x100000.size a := fun v5943 k1_hw228 => k1_hw228.2

def k1_mult229 (v5969 : BitVec 32) : BitVec 32 :=
  let c99872_i32_3415 : BitVec 32 := 99872#32
  let c0_i32_3414 : BitVec 32 := 0#32
  let c0_i32_3407 : BitVec 32 := 0#32
  let v5971 : BitVec 1 := Scalar.cmpi .sgt v5969 c0_i32_3407
  let v5972 : BitVec 32 := Scalar.extui v5971
  let c0_i32_3408 : BitVec 32 := 0#32
  let v5973 : BitVec 1 := Scalar.cmpi .slt v5969 c0_i32_3408
  let v5974 : BitVec 32 := Scalar.extui v5973
  let v5975 : BitVec 32 := Scalar.subi v5972 v5974
  let c128_i32_3406 : BitVec 32 := 128#32
  let c0_i32_3409 : BitVec 32 := 0#32
  let v5976 : BitVec 1 := Scalar.cmpi .sgt c128_i32_3406 c0_i32_3409
  let v5977 : BitVec 32 := Scalar.extui v5976
  let c0_i32_3410 : BitVec 32 := 0#32
  let v5978 : BitVec 1 := Scalar.cmpi .slt c128_i32_3406 c0_i32_3410
  let v5979 : BitVec 32 := Scalar.extui v5978
  let v5980 : BitVec 32 := Scalar.subi v5977 v5979
  let v5981 : BitVec 1 := Scalar.cmpi .ne v5975 v5980
  let v5982 : BitVec 32 := Scalar.remsi v5969 c128_i32_3406
  let c0_i32_3411 : BitVec 32 := 0#32
  let v5983 : BitVec 1 := Scalar.cmpi .ne v5982 c0_i32_3411
  let v5984 : BitVec 1 := Scalar.andi v5981 v5983
  let v5970 : BitVec 32 := Scalar.divsi v5969 c128_i32_3406
  let c1_i32_3412 : BitVec 32 := 1#32
  let v5985 : BitVec 32 := Scalar.subi v5970 c1_i32_3412
  let v5986 : BitVec 32 := Scalar.select v5984 v5985 v5970
  let c128_i32_3413 : BitVec 32 := 128#32
  let v5987 : BitVec 32 := Scalar.muli v5986 c128_i32_3413
  let v5988 : BitVec 32 := Scalar.maxsi c0_i32_3414 v5987
  let v5989 : BitVec 32 := Scalar.minsi c99872_i32_3415 v5988
  v5989

def k1_off229 (v5969 : BitVec 32) : Fin 2 → Nat :=
  let c100_i32_3417 : BitVec 32 := 100#32
  let c99872_i32_3415 : BitVec 32 := 99872#32
  let c0_i32_3414 : BitVec 32 := 0#32
  let c0_i32_3407 : BitVec 32 := 0#32
  let v5971 : BitVec 1 := Scalar.cmpi .sgt v5969 c0_i32_3407
  let v5972 : BitVec 32 := Scalar.extui v5971
  let c0_i32_3408 : BitVec 32 := 0#32
  let v5973 : BitVec 1 := Scalar.cmpi .slt v5969 c0_i32_3408
  let v5974 : BitVec 32 := Scalar.extui v5973
  let v5975 : BitVec 32 := Scalar.subi v5972 v5974
  let c128_i32_3406 : BitVec 32 := 128#32
  let c0_i32_3409 : BitVec 32 := 0#32
  let v5976 : BitVec 1 := Scalar.cmpi .sgt c128_i32_3406 c0_i32_3409
  let v5977 : BitVec 32 := Scalar.extui v5976
  let c0_i32_3410 : BitVec 32 := 0#32
  let v5978 : BitVec 1 := Scalar.cmpi .slt c128_i32_3406 c0_i32_3410
  let v5979 : BitVec 32 := Scalar.extui v5978
  let v5980 : BitVec 32 := Scalar.subi v5977 v5979
  let v5981 : BitVec 1 := Scalar.cmpi .ne v5975 v5980
  let v5982 : BitVec 32 := Scalar.remsi v5969 c128_i32_3406
  let c0_i32_3411 : BitVec 32 := 0#32
  let v5983 : BitVec 1 := Scalar.cmpi .ne v5982 c0_i32_3411
  let v5984 : BitVec 1 := Scalar.andi v5981 v5983
  let v5970 : BitVec 32 := Scalar.divsi v5969 c128_i32_3406
  let c1_i32_3412 : BitVec 32 := 1#32
  let v5985 : BitVec 32 := Scalar.subi v5970 c1_i32_3412
  let v5986 : BitVec 32 := Scalar.select v5984 v5985 v5970
  let c128_i32_3413 : BitVec 32 := 128#32
  let v5987 : BitVec 32 := Scalar.muli v5986 c128_i32_3413
  let v5988 : BitVec 32 := Scalar.maxsi c0_i32_3414 v5987
  let v5989 : BitVec 32 := Scalar.minsi c99872_i32_3415 v5988
  let v5990 : BitVec 32 := v5989
  ![100, v5990.toNat]

def k1_chk229 (v5969 : BitVec 32) : Prop :=
  (32 ∣ (k1_mult229 v5969).toNat) ∧
  (∀ a, (k1_off229 v5969) a + S1x128.size a ≤ S128x100000.size a)
theorem k1_mult229_dvd : ∀ (v5969 : BitVec 32) (k1_hw229 : k1_chk229 v5969), 32 ∣ (k1_mult229 v5969).toNat := fun v5969 k1_hw229 => k1_hw229.1
theorem k1_off229_inb : ∀ (v5969 : BitVec 32) (k1_hw229 : k1_chk229 v5969), ∀ a, (k1_off229 v5969) a + S1x128.size a ≤ S128x100000.size a := fun v5969 k1_hw229 => k1_hw229.2

def k1_mult230 (v5995 : BitVec 32) : BitVec 32 :=
  let c99872_i32_3431 : BitVec 32 := 99872#32
  let c0_i32_3430 : BitVec 32 := 0#32
  let c0_i32_3423 : BitVec 32 := 0#32
  let v5997 : BitVec 1 := Scalar.cmpi .sgt v5995 c0_i32_3423
  let v5998 : BitVec 32 := Scalar.extui v5997
  let c0_i32_3424 : BitVec 32 := 0#32
  let v5999 : BitVec 1 := Scalar.cmpi .slt v5995 c0_i32_3424
  let v6000 : BitVec 32 := Scalar.extui v5999
  let v6001 : BitVec 32 := Scalar.subi v5998 v6000
  let c128_i32_3422 : BitVec 32 := 128#32
  let c0_i32_3425 : BitVec 32 := 0#32
  let v6002 : BitVec 1 := Scalar.cmpi .sgt c128_i32_3422 c0_i32_3425
  let v6003 : BitVec 32 := Scalar.extui v6002
  let c0_i32_3426 : BitVec 32 := 0#32
  let v6004 : BitVec 1 := Scalar.cmpi .slt c128_i32_3422 c0_i32_3426
  let v6005 : BitVec 32 := Scalar.extui v6004
  let v6006 : BitVec 32 := Scalar.subi v6003 v6005
  let v6007 : BitVec 1 := Scalar.cmpi .ne v6001 v6006
  let v6008 : BitVec 32 := Scalar.remsi v5995 c128_i32_3422
  let c0_i32_3427 : BitVec 32 := 0#32
  let v6009 : BitVec 1 := Scalar.cmpi .ne v6008 c0_i32_3427
  let v6010 : BitVec 1 := Scalar.andi v6007 v6009
  let v5996 : BitVec 32 := Scalar.divsi v5995 c128_i32_3422
  let c1_i32_3428 : BitVec 32 := 1#32
  let v6011 : BitVec 32 := Scalar.subi v5996 c1_i32_3428
  let v6012 : BitVec 32 := Scalar.select v6010 v6011 v5996
  let c128_i32_3429 : BitVec 32 := 128#32
  let v6013 : BitVec 32 := Scalar.muli v6012 c128_i32_3429
  let v6014 : BitVec 32 := Scalar.maxsi c0_i32_3430 v6013
  let v6015 : BitVec 32 := Scalar.minsi c99872_i32_3431 v6014
  v6015

def k1_off230 (v5995 : BitVec 32) : Fin 2 → Nat :=
  let c101_i32_3433 : BitVec 32 := 101#32
  let c99872_i32_3431 : BitVec 32 := 99872#32
  let c0_i32_3430 : BitVec 32 := 0#32
  let c0_i32_3423 : BitVec 32 := 0#32
  let v5997 : BitVec 1 := Scalar.cmpi .sgt v5995 c0_i32_3423
  let v5998 : BitVec 32 := Scalar.extui v5997
  let c0_i32_3424 : BitVec 32 := 0#32
  let v5999 : BitVec 1 := Scalar.cmpi .slt v5995 c0_i32_3424
  let v6000 : BitVec 32 := Scalar.extui v5999
  let v6001 : BitVec 32 := Scalar.subi v5998 v6000
  let c128_i32_3422 : BitVec 32 := 128#32
  let c0_i32_3425 : BitVec 32 := 0#32
  let v6002 : BitVec 1 := Scalar.cmpi .sgt c128_i32_3422 c0_i32_3425
  let v6003 : BitVec 32 := Scalar.extui v6002
  let c0_i32_3426 : BitVec 32 := 0#32
  let v6004 : BitVec 1 := Scalar.cmpi .slt c128_i32_3422 c0_i32_3426
  let v6005 : BitVec 32 := Scalar.extui v6004
  let v6006 : BitVec 32 := Scalar.subi v6003 v6005
  let v6007 : BitVec 1 := Scalar.cmpi .ne v6001 v6006
  let v6008 : BitVec 32 := Scalar.remsi v5995 c128_i32_3422
  let c0_i32_3427 : BitVec 32 := 0#32
  let v6009 : BitVec 1 := Scalar.cmpi .ne v6008 c0_i32_3427
  let v6010 : BitVec 1 := Scalar.andi v6007 v6009
  let v5996 : BitVec 32 := Scalar.divsi v5995 c128_i32_3422
  let c1_i32_3428 : BitVec 32 := 1#32
  let v6011 : BitVec 32 := Scalar.subi v5996 c1_i32_3428
  let v6012 : BitVec 32 := Scalar.select v6010 v6011 v5996
  let c128_i32_3429 : BitVec 32 := 128#32
  let v6013 : BitVec 32 := Scalar.muli v6012 c128_i32_3429
  let v6014 : BitVec 32 := Scalar.maxsi c0_i32_3430 v6013
  let v6015 : BitVec 32 := Scalar.minsi c99872_i32_3431 v6014
  let v6016 : BitVec 32 := v6015
  ![101, v6016.toNat]

def k1_chk230 (v5995 : BitVec 32) : Prop :=
  (32 ∣ (k1_mult230 v5995).toNat) ∧
  (∀ a, (k1_off230 v5995) a + S1x128.size a ≤ S128x100000.size a)
theorem k1_mult230_dvd : ∀ (v5995 : BitVec 32) (k1_hw230 : k1_chk230 v5995), 32 ∣ (k1_mult230 v5995).toNat := fun v5995 k1_hw230 => k1_hw230.1
theorem k1_off230_inb : ∀ (v5995 : BitVec 32) (k1_hw230 : k1_chk230 v5995), ∀ a, (k1_off230 v5995) a + S1x128.size a ≤ S128x100000.size a := fun v5995 k1_hw230 => k1_hw230.2

def k1_mult231 (v6021 : BitVec 32) : BitVec 32 :=
  let c99872_i32_3447 : BitVec 32 := 99872#32
  let c0_i32_3446 : BitVec 32 := 0#32
  let c0_i32_3439 : BitVec 32 := 0#32
  let v6023 : BitVec 1 := Scalar.cmpi .sgt v6021 c0_i32_3439
  let v6024 : BitVec 32 := Scalar.extui v6023
  let c0_i32_3440 : BitVec 32 := 0#32
  let v6025 : BitVec 1 := Scalar.cmpi .slt v6021 c0_i32_3440
  let v6026 : BitVec 32 := Scalar.extui v6025
  let v6027 : BitVec 32 := Scalar.subi v6024 v6026
  let c128_i32_3438 : BitVec 32 := 128#32
  let c0_i32_3441 : BitVec 32 := 0#32
  let v6028 : BitVec 1 := Scalar.cmpi .sgt c128_i32_3438 c0_i32_3441
  let v6029 : BitVec 32 := Scalar.extui v6028
  let c0_i32_3442 : BitVec 32 := 0#32
  let v6030 : BitVec 1 := Scalar.cmpi .slt c128_i32_3438 c0_i32_3442
  let v6031 : BitVec 32 := Scalar.extui v6030
  let v6032 : BitVec 32 := Scalar.subi v6029 v6031
  let v6033 : BitVec 1 := Scalar.cmpi .ne v6027 v6032
  let v6034 : BitVec 32 := Scalar.remsi v6021 c128_i32_3438
  let c0_i32_3443 : BitVec 32 := 0#32
  let v6035 : BitVec 1 := Scalar.cmpi .ne v6034 c0_i32_3443
  let v6036 : BitVec 1 := Scalar.andi v6033 v6035
  let v6022 : BitVec 32 := Scalar.divsi v6021 c128_i32_3438
  let c1_i32_3444 : BitVec 32 := 1#32
  let v6037 : BitVec 32 := Scalar.subi v6022 c1_i32_3444
  let v6038 : BitVec 32 := Scalar.select v6036 v6037 v6022
  let c128_i32_3445 : BitVec 32 := 128#32
  let v6039 : BitVec 32 := Scalar.muli v6038 c128_i32_3445
  let v6040 : BitVec 32 := Scalar.maxsi c0_i32_3446 v6039
  let v6041 : BitVec 32 := Scalar.minsi c99872_i32_3447 v6040
  v6041

def k1_off231 (v6021 : BitVec 32) : Fin 2 → Nat :=
  let c102_i32_3449 : BitVec 32 := 102#32
  let c99872_i32_3447 : BitVec 32 := 99872#32
  let c0_i32_3446 : BitVec 32 := 0#32
  let c0_i32_3439 : BitVec 32 := 0#32
  let v6023 : BitVec 1 := Scalar.cmpi .sgt v6021 c0_i32_3439
  let v6024 : BitVec 32 := Scalar.extui v6023
  let c0_i32_3440 : BitVec 32 := 0#32
  let v6025 : BitVec 1 := Scalar.cmpi .slt v6021 c0_i32_3440
  let v6026 : BitVec 32 := Scalar.extui v6025
  let v6027 : BitVec 32 := Scalar.subi v6024 v6026
  let c128_i32_3438 : BitVec 32 := 128#32
  let c0_i32_3441 : BitVec 32 := 0#32
  let v6028 : BitVec 1 := Scalar.cmpi .sgt c128_i32_3438 c0_i32_3441
  let v6029 : BitVec 32 := Scalar.extui v6028
  let c0_i32_3442 : BitVec 32 := 0#32
  let v6030 : BitVec 1 := Scalar.cmpi .slt c128_i32_3438 c0_i32_3442
  let v6031 : BitVec 32 := Scalar.extui v6030
  let v6032 : BitVec 32 := Scalar.subi v6029 v6031
  let v6033 : BitVec 1 := Scalar.cmpi .ne v6027 v6032
  let v6034 : BitVec 32 := Scalar.remsi v6021 c128_i32_3438
  let c0_i32_3443 : BitVec 32 := 0#32
  let v6035 : BitVec 1 := Scalar.cmpi .ne v6034 c0_i32_3443
  let v6036 : BitVec 1 := Scalar.andi v6033 v6035
  let v6022 : BitVec 32 := Scalar.divsi v6021 c128_i32_3438
  let c1_i32_3444 : BitVec 32 := 1#32
  let v6037 : BitVec 32 := Scalar.subi v6022 c1_i32_3444
  let v6038 : BitVec 32 := Scalar.select v6036 v6037 v6022
  let c128_i32_3445 : BitVec 32 := 128#32
  let v6039 : BitVec 32 := Scalar.muli v6038 c128_i32_3445
  let v6040 : BitVec 32 := Scalar.maxsi c0_i32_3446 v6039
  let v6041 : BitVec 32 := Scalar.minsi c99872_i32_3447 v6040
  let v6042 : BitVec 32 := v6041
  ![102, v6042.toNat]

def k1_chk231 (v6021 : BitVec 32) : Prop :=
  (32 ∣ (k1_mult231 v6021).toNat) ∧
  (∀ a, (k1_off231 v6021) a + S1x128.size a ≤ S128x100000.size a)
theorem k1_mult231_dvd : ∀ (v6021 : BitVec 32) (k1_hw231 : k1_chk231 v6021), 32 ∣ (k1_mult231 v6021).toNat := fun v6021 k1_hw231 => k1_hw231.1
theorem k1_off231_inb : ∀ (v6021 : BitVec 32) (k1_hw231 : k1_chk231 v6021), ∀ a, (k1_off231 v6021) a + S1x128.size a ≤ S128x100000.size a := fun v6021 k1_hw231 => k1_hw231.2

def k1_mult232 (v6047 : BitVec 32) : BitVec 32 :=
  let c99872_i32_3463 : BitVec 32 := 99872#32
  let c0_i32_3462 : BitVec 32 := 0#32
  let c0_i32_3455 : BitVec 32 := 0#32
  let v6049 : BitVec 1 := Scalar.cmpi .sgt v6047 c0_i32_3455
  let v6050 : BitVec 32 := Scalar.extui v6049
  let c0_i32_3456 : BitVec 32 := 0#32
  let v6051 : BitVec 1 := Scalar.cmpi .slt v6047 c0_i32_3456
  let v6052 : BitVec 32 := Scalar.extui v6051
  let v6053 : BitVec 32 := Scalar.subi v6050 v6052
  let c128_i32_3454 : BitVec 32 := 128#32
  let c0_i32_3457 : BitVec 32 := 0#32
  let v6054 : BitVec 1 := Scalar.cmpi .sgt c128_i32_3454 c0_i32_3457
  let v6055 : BitVec 32 := Scalar.extui v6054
  let c0_i32_3458 : BitVec 32 := 0#32
  let v6056 : BitVec 1 := Scalar.cmpi .slt c128_i32_3454 c0_i32_3458
  let v6057 : BitVec 32 := Scalar.extui v6056
  let v6058 : BitVec 32 := Scalar.subi v6055 v6057
  let v6059 : BitVec 1 := Scalar.cmpi .ne v6053 v6058
  let v6060 : BitVec 32 := Scalar.remsi v6047 c128_i32_3454
  let c0_i32_3459 : BitVec 32 := 0#32
  let v6061 : BitVec 1 := Scalar.cmpi .ne v6060 c0_i32_3459
  let v6062 : BitVec 1 := Scalar.andi v6059 v6061
  let v6048 : BitVec 32 := Scalar.divsi v6047 c128_i32_3454
  let c1_i32_3460 : BitVec 32 := 1#32
  let v6063 : BitVec 32 := Scalar.subi v6048 c1_i32_3460
  let v6064 : BitVec 32 := Scalar.select v6062 v6063 v6048
  let c128_i32_3461 : BitVec 32 := 128#32
  let v6065 : BitVec 32 := Scalar.muli v6064 c128_i32_3461
  let v6066 : BitVec 32 := Scalar.maxsi c0_i32_3462 v6065
  let v6067 : BitVec 32 := Scalar.minsi c99872_i32_3463 v6066
  v6067

def k1_off232 (v6047 : BitVec 32) : Fin 2 → Nat :=
  let c103_i32_3465 : BitVec 32 := 103#32
  let c99872_i32_3463 : BitVec 32 := 99872#32
  let c0_i32_3462 : BitVec 32 := 0#32
  let c0_i32_3455 : BitVec 32 := 0#32
  let v6049 : BitVec 1 := Scalar.cmpi .sgt v6047 c0_i32_3455
  let v6050 : BitVec 32 := Scalar.extui v6049
  let c0_i32_3456 : BitVec 32 := 0#32
  let v6051 : BitVec 1 := Scalar.cmpi .slt v6047 c0_i32_3456
  let v6052 : BitVec 32 := Scalar.extui v6051
  let v6053 : BitVec 32 := Scalar.subi v6050 v6052
  let c128_i32_3454 : BitVec 32 := 128#32
  let c0_i32_3457 : BitVec 32 := 0#32
  let v6054 : BitVec 1 := Scalar.cmpi .sgt c128_i32_3454 c0_i32_3457
  let v6055 : BitVec 32 := Scalar.extui v6054
  let c0_i32_3458 : BitVec 32 := 0#32
  let v6056 : BitVec 1 := Scalar.cmpi .slt c128_i32_3454 c0_i32_3458
  let v6057 : BitVec 32 := Scalar.extui v6056
  let v6058 : BitVec 32 := Scalar.subi v6055 v6057
  let v6059 : BitVec 1 := Scalar.cmpi .ne v6053 v6058
  let v6060 : BitVec 32 := Scalar.remsi v6047 c128_i32_3454
  let c0_i32_3459 : BitVec 32 := 0#32
  let v6061 : BitVec 1 := Scalar.cmpi .ne v6060 c0_i32_3459
  let v6062 : BitVec 1 := Scalar.andi v6059 v6061
  let v6048 : BitVec 32 := Scalar.divsi v6047 c128_i32_3454
  let c1_i32_3460 : BitVec 32 := 1#32
  let v6063 : BitVec 32 := Scalar.subi v6048 c1_i32_3460
  let v6064 : BitVec 32 := Scalar.select v6062 v6063 v6048
  let c128_i32_3461 : BitVec 32 := 128#32
  let v6065 : BitVec 32 := Scalar.muli v6064 c128_i32_3461
  let v6066 : BitVec 32 := Scalar.maxsi c0_i32_3462 v6065
  let v6067 : BitVec 32 := Scalar.minsi c99872_i32_3463 v6066
  let v6068 : BitVec 32 := v6067
  ![103, v6068.toNat]

def k1_chk232 (v6047 : BitVec 32) : Prop :=
  (32 ∣ (k1_mult232 v6047).toNat) ∧
  (∀ a, (k1_off232 v6047) a + S1x128.size a ≤ S128x100000.size a)
theorem k1_mult232_dvd : ∀ (v6047 : BitVec 32) (k1_hw232 : k1_chk232 v6047), 32 ∣ (k1_mult232 v6047).toNat := fun v6047 k1_hw232 => k1_hw232.1
theorem k1_off232_inb : ∀ (v6047 : BitVec 32) (k1_hw232 : k1_chk232 v6047), ∀ a, (k1_off232 v6047) a + S1x128.size a ≤ S128x100000.size a := fun v6047 k1_hw232 => k1_hw232.2

def k1_mult233 (v6073 : BitVec 32) : BitVec 32 :=
  let c99872_i32_3479 : BitVec 32 := 99872#32
  let c0_i32_3478 : BitVec 32 := 0#32
  let c0_i32_3471 : BitVec 32 := 0#32
  let v6075 : BitVec 1 := Scalar.cmpi .sgt v6073 c0_i32_3471
  let v6076 : BitVec 32 := Scalar.extui v6075
  let c0_i32_3472 : BitVec 32 := 0#32
  let v6077 : BitVec 1 := Scalar.cmpi .slt v6073 c0_i32_3472
  let v6078 : BitVec 32 := Scalar.extui v6077
  let v6079 : BitVec 32 := Scalar.subi v6076 v6078
  let c128_i32_3470 : BitVec 32 := 128#32
  let c0_i32_3473 : BitVec 32 := 0#32
  let v6080 : BitVec 1 := Scalar.cmpi .sgt c128_i32_3470 c0_i32_3473
  let v6081 : BitVec 32 := Scalar.extui v6080
  let c0_i32_3474 : BitVec 32 := 0#32
  let v6082 : BitVec 1 := Scalar.cmpi .slt c128_i32_3470 c0_i32_3474
  let v6083 : BitVec 32 := Scalar.extui v6082
  let v6084 : BitVec 32 := Scalar.subi v6081 v6083
  let v6085 : BitVec 1 := Scalar.cmpi .ne v6079 v6084
  let v6086 : BitVec 32 := Scalar.remsi v6073 c128_i32_3470
  let c0_i32_3475 : BitVec 32 := 0#32
  let v6087 : BitVec 1 := Scalar.cmpi .ne v6086 c0_i32_3475
  let v6088 : BitVec 1 := Scalar.andi v6085 v6087
  let v6074 : BitVec 32 := Scalar.divsi v6073 c128_i32_3470
  let c1_i32_3476 : BitVec 32 := 1#32
  let v6089 : BitVec 32 := Scalar.subi v6074 c1_i32_3476
  let v6090 : BitVec 32 := Scalar.select v6088 v6089 v6074
  let c128_i32_3477 : BitVec 32 := 128#32
  let v6091 : BitVec 32 := Scalar.muli v6090 c128_i32_3477
  let v6092 : BitVec 32 := Scalar.maxsi c0_i32_3478 v6091
  let v6093 : BitVec 32 := Scalar.minsi c99872_i32_3479 v6092
  v6093

def k1_off233 (v6073 : BitVec 32) : Fin 2 → Nat :=
  let c104_i32_3481 : BitVec 32 := 104#32
  let c99872_i32_3479 : BitVec 32 := 99872#32
  let c0_i32_3478 : BitVec 32 := 0#32
  let c0_i32_3471 : BitVec 32 := 0#32
  let v6075 : BitVec 1 := Scalar.cmpi .sgt v6073 c0_i32_3471
  let v6076 : BitVec 32 := Scalar.extui v6075
  let c0_i32_3472 : BitVec 32 := 0#32
  let v6077 : BitVec 1 := Scalar.cmpi .slt v6073 c0_i32_3472
  let v6078 : BitVec 32 := Scalar.extui v6077
  let v6079 : BitVec 32 := Scalar.subi v6076 v6078
  let c128_i32_3470 : BitVec 32 := 128#32
  let c0_i32_3473 : BitVec 32 := 0#32
  let v6080 : BitVec 1 := Scalar.cmpi .sgt c128_i32_3470 c0_i32_3473
  let v6081 : BitVec 32 := Scalar.extui v6080
  let c0_i32_3474 : BitVec 32 := 0#32
  let v6082 : BitVec 1 := Scalar.cmpi .slt c128_i32_3470 c0_i32_3474
  let v6083 : BitVec 32 := Scalar.extui v6082
  let v6084 : BitVec 32 := Scalar.subi v6081 v6083
  let v6085 : BitVec 1 := Scalar.cmpi .ne v6079 v6084
  let v6086 : BitVec 32 := Scalar.remsi v6073 c128_i32_3470
  let c0_i32_3475 : BitVec 32 := 0#32
  let v6087 : BitVec 1 := Scalar.cmpi .ne v6086 c0_i32_3475
  let v6088 : BitVec 1 := Scalar.andi v6085 v6087
  let v6074 : BitVec 32 := Scalar.divsi v6073 c128_i32_3470
  let c1_i32_3476 : BitVec 32 := 1#32
  let v6089 : BitVec 32 := Scalar.subi v6074 c1_i32_3476
  let v6090 : BitVec 32 := Scalar.select v6088 v6089 v6074
  let c128_i32_3477 : BitVec 32 := 128#32
  let v6091 : BitVec 32 := Scalar.muli v6090 c128_i32_3477
  let v6092 : BitVec 32 := Scalar.maxsi c0_i32_3478 v6091
  let v6093 : BitVec 32 := Scalar.minsi c99872_i32_3479 v6092
  let v6094 : BitVec 32 := v6093
  ![104, v6094.toNat]

def k1_chk233 (v6073 : BitVec 32) : Prop :=
  (32 ∣ (k1_mult233 v6073).toNat) ∧
  (∀ a, (k1_off233 v6073) a + S1x128.size a ≤ S128x100000.size a)
theorem k1_mult233_dvd : ∀ (v6073 : BitVec 32) (k1_hw233 : k1_chk233 v6073), 32 ∣ (k1_mult233 v6073).toNat := fun v6073 k1_hw233 => k1_hw233.1
theorem k1_off233_inb : ∀ (v6073 : BitVec 32) (k1_hw233 : k1_chk233 v6073), ∀ a, (k1_off233 v6073) a + S1x128.size a ≤ S128x100000.size a := fun v6073 k1_hw233 => k1_hw233.2

def k1_mult234 (v6099 : BitVec 32) : BitVec 32 :=
  let c99872_i32_3495 : BitVec 32 := 99872#32
  let c0_i32_3494 : BitVec 32 := 0#32
  let c0_i32_3487 : BitVec 32 := 0#32
  let v6101 : BitVec 1 := Scalar.cmpi .sgt v6099 c0_i32_3487
  let v6102 : BitVec 32 := Scalar.extui v6101
  let c0_i32_3488 : BitVec 32 := 0#32
  let v6103 : BitVec 1 := Scalar.cmpi .slt v6099 c0_i32_3488
  let v6104 : BitVec 32 := Scalar.extui v6103
  let v6105 : BitVec 32 := Scalar.subi v6102 v6104
  let c128_i32_3486 : BitVec 32 := 128#32
  let c0_i32_3489 : BitVec 32 := 0#32
  let v6106 : BitVec 1 := Scalar.cmpi .sgt c128_i32_3486 c0_i32_3489
  let v6107 : BitVec 32 := Scalar.extui v6106
  let c0_i32_3490 : BitVec 32 := 0#32
  let v6108 : BitVec 1 := Scalar.cmpi .slt c128_i32_3486 c0_i32_3490
  let v6109 : BitVec 32 := Scalar.extui v6108
  let v6110 : BitVec 32 := Scalar.subi v6107 v6109
  let v6111 : BitVec 1 := Scalar.cmpi .ne v6105 v6110
  let v6112 : BitVec 32 := Scalar.remsi v6099 c128_i32_3486
  let c0_i32_3491 : BitVec 32 := 0#32
  let v6113 : BitVec 1 := Scalar.cmpi .ne v6112 c0_i32_3491
  let v6114 : BitVec 1 := Scalar.andi v6111 v6113
  let v6100 : BitVec 32 := Scalar.divsi v6099 c128_i32_3486
  let c1_i32_3492 : BitVec 32 := 1#32
  let v6115 : BitVec 32 := Scalar.subi v6100 c1_i32_3492
  let v6116 : BitVec 32 := Scalar.select v6114 v6115 v6100
  let c128_i32_3493 : BitVec 32 := 128#32
  let v6117 : BitVec 32 := Scalar.muli v6116 c128_i32_3493
  let v6118 : BitVec 32 := Scalar.maxsi c0_i32_3494 v6117
  let v6119 : BitVec 32 := Scalar.minsi c99872_i32_3495 v6118
  v6119

def k1_off234 (v6099 : BitVec 32) : Fin 2 → Nat :=
  let c105_i32_3497 : BitVec 32 := 105#32
  let c99872_i32_3495 : BitVec 32 := 99872#32
  let c0_i32_3494 : BitVec 32 := 0#32
  let c0_i32_3487 : BitVec 32 := 0#32
  let v6101 : BitVec 1 := Scalar.cmpi .sgt v6099 c0_i32_3487
  let v6102 : BitVec 32 := Scalar.extui v6101
  let c0_i32_3488 : BitVec 32 := 0#32
  let v6103 : BitVec 1 := Scalar.cmpi .slt v6099 c0_i32_3488
  let v6104 : BitVec 32 := Scalar.extui v6103
  let v6105 : BitVec 32 := Scalar.subi v6102 v6104
  let c128_i32_3486 : BitVec 32 := 128#32
  let c0_i32_3489 : BitVec 32 := 0#32
  let v6106 : BitVec 1 := Scalar.cmpi .sgt c128_i32_3486 c0_i32_3489
  let v6107 : BitVec 32 := Scalar.extui v6106
  let c0_i32_3490 : BitVec 32 := 0#32
  let v6108 : BitVec 1 := Scalar.cmpi .slt c128_i32_3486 c0_i32_3490
  let v6109 : BitVec 32 := Scalar.extui v6108
  let v6110 : BitVec 32 := Scalar.subi v6107 v6109
  let v6111 : BitVec 1 := Scalar.cmpi .ne v6105 v6110
  let v6112 : BitVec 32 := Scalar.remsi v6099 c128_i32_3486
  let c0_i32_3491 : BitVec 32 := 0#32
  let v6113 : BitVec 1 := Scalar.cmpi .ne v6112 c0_i32_3491
  let v6114 : BitVec 1 := Scalar.andi v6111 v6113
  let v6100 : BitVec 32 := Scalar.divsi v6099 c128_i32_3486
  let c1_i32_3492 : BitVec 32 := 1#32
  let v6115 : BitVec 32 := Scalar.subi v6100 c1_i32_3492
  let v6116 : BitVec 32 := Scalar.select v6114 v6115 v6100
  let c128_i32_3493 : BitVec 32 := 128#32
  let v6117 : BitVec 32 := Scalar.muli v6116 c128_i32_3493
  let v6118 : BitVec 32 := Scalar.maxsi c0_i32_3494 v6117
  let v6119 : BitVec 32 := Scalar.minsi c99872_i32_3495 v6118
  let v6120 : BitVec 32 := v6119
  ![105, v6120.toNat]

def k1_chk234 (v6099 : BitVec 32) : Prop :=
  (32 ∣ (k1_mult234 v6099).toNat) ∧
  (∀ a, (k1_off234 v6099) a + S1x128.size a ≤ S128x100000.size a)
theorem k1_mult234_dvd : ∀ (v6099 : BitVec 32) (k1_hw234 : k1_chk234 v6099), 32 ∣ (k1_mult234 v6099).toNat := fun v6099 k1_hw234 => k1_hw234.1
theorem k1_off234_inb : ∀ (v6099 : BitVec 32) (k1_hw234 : k1_chk234 v6099), ∀ a, (k1_off234 v6099) a + S1x128.size a ≤ S128x100000.size a := fun v6099 k1_hw234 => k1_hw234.2

def k1_mult235 (v6125 : BitVec 32) : BitVec 32 :=
  let c99872_i32_3511 : BitVec 32 := 99872#32
  let c0_i32_3510 : BitVec 32 := 0#32
  let c0_i32_3503 : BitVec 32 := 0#32
  let v6127 : BitVec 1 := Scalar.cmpi .sgt v6125 c0_i32_3503
  let v6128 : BitVec 32 := Scalar.extui v6127
  let c0_i32_3504 : BitVec 32 := 0#32
  let v6129 : BitVec 1 := Scalar.cmpi .slt v6125 c0_i32_3504
  let v6130 : BitVec 32 := Scalar.extui v6129
  let v6131 : BitVec 32 := Scalar.subi v6128 v6130
  let c128_i32_3502 : BitVec 32 := 128#32
  let c0_i32_3505 : BitVec 32 := 0#32
  let v6132 : BitVec 1 := Scalar.cmpi .sgt c128_i32_3502 c0_i32_3505
  let v6133 : BitVec 32 := Scalar.extui v6132
  let c0_i32_3506 : BitVec 32 := 0#32
  let v6134 : BitVec 1 := Scalar.cmpi .slt c128_i32_3502 c0_i32_3506
  let v6135 : BitVec 32 := Scalar.extui v6134
  let v6136 : BitVec 32 := Scalar.subi v6133 v6135
  let v6137 : BitVec 1 := Scalar.cmpi .ne v6131 v6136
  let v6138 : BitVec 32 := Scalar.remsi v6125 c128_i32_3502
  let c0_i32_3507 : BitVec 32 := 0#32
  let v6139 : BitVec 1 := Scalar.cmpi .ne v6138 c0_i32_3507
  let v6140 : BitVec 1 := Scalar.andi v6137 v6139
  let v6126 : BitVec 32 := Scalar.divsi v6125 c128_i32_3502
  let c1_i32_3508 : BitVec 32 := 1#32
  let v6141 : BitVec 32 := Scalar.subi v6126 c1_i32_3508
  let v6142 : BitVec 32 := Scalar.select v6140 v6141 v6126
  let c128_i32_3509 : BitVec 32 := 128#32
  let v6143 : BitVec 32 := Scalar.muli v6142 c128_i32_3509
  let v6144 : BitVec 32 := Scalar.maxsi c0_i32_3510 v6143
  let v6145 : BitVec 32 := Scalar.minsi c99872_i32_3511 v6144
  v6145

def k1_off235 (v6125 : BitVec 32) : Fin 2 → Nat :=
  let c106_i32_3513 : BitVec 32 := 106#32
  let c99872_i32_3511 : BitVec 32 := 99872#32
  let c0_i32_3510 : BitVec 32 := 0#32
  let c0_i32_3503 : BitVec 32 := 0#32
  let v6127 : BitVec 1 := Scalar.cmpi .sgt v6125 c0_i32_3503
  let v6128 : BitVec 32 := Scalar.extui v6127
  let c0_i32_3504 : BitVec 32 := 0#32
  let v6129 : BitVec 1 := Scalar.cmpi .slt v6125 c0_i32_3504
  let v6130 : BitVec 32 := Scalar.extui v6129
  let v6131 : BitVec 32 := Scalar.subi v6128 v6130
  let c128_i32_3502 : BitVec 32 := 128#32
  let c0_i32_3505 : BitVec 32 := 0#32
  let v6132 : BitVec 1 := Scalar.cmpi .sgt c128_i32_3502 c0_i32_3505
  let v6133 : BitVec 32 := Scalar.extui v6132
  let c0_i32_3506 : BitVec 32 := 0#32
  let v6134 : BitVec 1 := Scalar.cmpi .slt c128_i32_3502 c0_i32_3506
  let v6135 : BitVec 32 := Scalar.extui v6134
  let v6136 : BitVec 32 := Scalar.subi v6133 v6135
  let v6137 : BitVec 1 := Scalar.cmpi .ne v6131 v6136
  let v6138 : BitVec 32 := Scalar.remsi v6125 c128_i32_3502
  let c0_i32_3507 : BitVec 32 := 0#32
  let v6139 : BitVec 1 := Scalar.cmpi .ne v6138 c0_i32_3507
  let v6140 : BitVec 1 := Scalar.andi v6137 v6139
  let v6126 : BitVec 32 := Scalar.divsi v6125 c128_i32_3502
  let c1_i32_3508 : BitVec 32 := 1#32
  let v6141 : BitVec 32 := Scalar.subi v6126 c1_i32_3508
  let v6142 : BitVec 32 := Scalar.select v6140 v6141 v6126
  let c128_i32_3509 : BitVec 32 := 128#32
  let v6143 : BitVec 32 := Scalar.muli v6142 c128_i32_3509
  let v6144 : BitVec 32 := Scalar.maxsi c0_i32_3510 v6143
  let v6145 : BitVec 32 := Scalar.minsi c99872_i32_3511 v6144
  let v6146 : BitVec 32 := v6145
  ![106, v6146.toNat]

def k1_chk235 (v6125 : BitVec 32) : Prop :=
  (32 ∣ (k1_mult235 v6125).toNat) ∧
  (∀ a, (k1_off235 v6125) a + S1x128.size a ≤ S128x100000.size a)
theorem k1_mult235_dvd : ∀ (v6125 : BitVec 32) (k1_hw235 : k1_chk235 v6125), 32 ∣ (k1_mult235 v6125).toNat := fun v6125 k1_hw235 => k1_hw235.1
theorem k1_off235_inb : ∀ (v6125 : BitVec 32) (k1_hw235 : k1_chk235 v6125), ∀ a, (k1_off235 v6125) a + S1x128.size a ≤ S128x100000.size a := fun v6125 k1_hw235 => k1_hw235.2

def k1_mult236 (v6151 : BitVec 32) : BitVec 32 :=
  let c99872_i32_3527 : BitVec 32 := 99872#32
  let c0_i32_3526 : BitVec 32 := 0#32
  let c0_i32_3519 : BitVec 32 := 0#32
  let v6153 : BitVec 1 := Scalar.cmpi .sgt v6151 c0_i32_3519
  let v6154 : BitVec 32 := Scalar.extui v6153
  let c0_i32_3520 : BitVec 32 := 0#32
  let v6155 : BitVec 1 := Scalar.cmpi .slt v6151 c0_i32_3520
  let v6156 : BitVec 32 := Scalar.extui v6155
  let v6157 : BitVec 32 := Scalar.subi v6154 v6156
  let c128_i32_3518 : BitVec 32 := 128#32
  let c0_i32_3521 : BitVec 32 := 0#32
  let v6158 : BitVec 1 := Scalar.cmpi .sgt c128_i32_3518 c0_i32_3521
  let v6159 : BitVec 32 := Scalar.extui v6158
  let c0_i32_3522 : BitVec 32 := 0#32
  let v6160 : BitVec 1 := Scalar.cmpi .slt c128_i32_3518 c0_i32_3522
  let v6161 : BitVec 32 := Scalar.extui v6160
  let v6162 : BitVec 32 := Scalar.subi v6159 v6161
  let v6163 : BitVec 1 := Scalar.cmpi .ne v6157 v6162
  let v6164 : BitVec 32 := Scalar.remsi v6151 c128_i32_3518
  let c0_i32_3523 : BitVec 32 := 0#32
  let v6165 : BitVec 1 := Scalar.cmpi .ne v6164 c0_i32_3523
  let v6166 : BitVec 1 := Scalar.andi v6163 v6165
  let v6152 : BitVec 32 := Scalar.divsi v6151 c128_i32_3518
  let c1_i32_3524 : BitVec 32 := 1#32
  let v6167 : BitVec 32 := Scalar.subi v6152 c1_i32_3524
  let v6168 : BitVec 32 := Scalar.select v6166 v6167 v6152
  let c128_i32_3525 : BitVec 32 := 128#32
  let v6169 : BitVec 32 := Scalar.muli v6168 c128_i32_3525
  let v6170 : BitVec 32 := Scalar.maxsi c0_i32_3526 v6169
  let v6171 : BitVec 32 := Scalar.minsi c99872_i32_3527 v6170
  v6171

def k1_off236 (v6151 : BitVec 32) : Fin 2 → Nat :=
  let c107_i32_3529 : BitVec 32 := 107#32
  let c99872_i32_3527 : BitVec 32 := 99872#32
  let c0_i32_3526 : BitVec 32 := 0#32
  let c0_i32_3519 : BitVec 32 := 0#32
  let v6153 : BitVec 1 := Scalar.cmpi .sgt v6151 c0_i32_3519
  let v6154 : BitVec 32 := Scalar.extui v6153
  let c0_i32_3520 : BitVec 32 := 0#32
  let v6155 : BitVec 1 := Scalar.cmpi .slt v6151 c0_i32_3520
  let v6156 : BitVec 32 := Scalar.extui v6155
  let v6157 : BitVec 32 := Scalar.subi v6154 v6156
  let c128_i32_3518 : BitVec 32 := 128#32
  let c0_i32_3521 : BitVec 32 := 0#32
  let v6158 : BitVec 1 := Scalar.cmpi .sgt c128_i32_3518 c0_i32_3521
  let v6159 : BitVec 32 := Scalar.extui v6158
  let c0_i32_3522 : BitVec 32 := 0#32
  let v6160 : BitVec 1 := Scalar.cmpi .slt c128_i32_3518 c0_i32_3522
  let v6161 : BitVec 32 := Scalar.extui v6160
  let v6162 : BitVec 32 := Scalar.subi v6159 v6161
  let v6163 : BitVec 1 := Scalar.cmpi .ne v6157 v6162
  let v6164 : BitVec 32 := Scalar.remsi v6151 c128_i32_3518
  let c0_i32_3523 : BitVec 32 := 0#32
  let v6165 : BitVec 1 := Scalar.cmpi .ne v6164 c0_i32_3523
  let v6166 : BitVec 1 := Scalar.andi v6163 v6165
  let v6152 : BitVec 32 := Scalar.divsi v6151 c128_i32_3518
  let c1_i32_3524 : BitVec 32 := 1#32
  let v6167 : BitVec 32 := Scalar.subi v6152 c1_i32_3524
  let v6168 : BitVec 32 := Scalar.select v6166 v6167 v6152
  let c128_i32_3525 : BitVec 32 := 128#32
  let v6169 : BitVec 32 := Scalar.muli v6168 c128_i32_3525
  let v6170 : BitVec 32 := Scalar.maxsi c0_i32_3526 v6169
  let v6171 : BitVec 32 := Scalar.minsi c99872_i32_3527 v6170
  let v6172 : BitVec 32 := v6171
  ![107, v6172.toNat]

def k1_chk236 (v6151 : BitVec 32) : Prop :=
  (32 ∣ (k1_mult236 v6151).toNat) ∧
  (∀ a, (k1_off236 v6151) a + S1x128.size a ≤ S128x100000.size a)
theorem k1_mult236_dvd : ∀ (v6151 : BitVec 32) (k1_hw236 : k1_chk236 v6151), 32 ∣ (k1_mult236 v6151).toNat := fun v6151 k1_hw236 => k1_hw236.1
theorem k1_off236_inb : ∀ (v6151 : BitVec 32) (k1_hw236 : k1_chk236 v6151), ∀ a, (k1_off236 v6151) a + S1x128.size a ≤ S128x100000.size a := fun v6151 k1_hw236 => k1_hw236.2

def k1_mult237 (v6177 : BitVec 32) : BitVec 32 :=
  let c99872_i32_3543 : BitVec 32 := 99872#32
  let c0_i32_3542 : BitVec 32 := 0#32
  let c0_i32_3535 : BitVec 32 := 0#32
  let v6179 : BitVec 1 := Scalar.cmpi .sgt v6177 c0_i32_3535
  let v6180 : BitVec 32 := Scalar.extui v6179
  let c0_i32_3536 : BitVec 32 := 0#32
  let v6181 : BitVec 1 := Scalar.cmpi .slt v6177 c0_i32_3536
  let v6182 : BitVec 32 := Scalar.extui v6181
  let v6183 : BitVec 32 := Scalar.subi v6180 v6182
  let c128_i32_3534 : BitVec 32 := 128#32
  let c0_i32_3537 : BitVec 32 := 0#32
  let v6184 : BitVec 1 := Scalar.cmpi .sgt c128_i32_3534 c0_i32_3537
  let v6185 : BitVec 32 := Scalar.extui v6184
  let c0_i32_3538 : BitVec 32 := 0#32
  let v6186 : BitVec 1 := Scalar.cmpi .slt c128_i32_3534 c0_i32_3538
  let v6187 : BitVec 32 := Scalar.extui v6186
  let v6188 : BitVec 32 := Scalar.subi v6185 v6187
  let v6189 : BitVec 1 := Scalar.cmpi .ne v6183 v6188
  let v6190 : BitVec 32 := Scalar.remsi v6177 c128_i32_3534
  let c0_i32_3539 : BitVec 32 := 0#32
  let v6191 : BitVec 1 := Scalar.cmpi .ne v6190 c0_i32_3539
  let v6192 : BitVec 1 := Scalar.andi v6189 v6191
  let v6178 : BitVec 32 := Scalar.divsi v6177 c128_i32_3534
  let c1_i32_3540 : BitVec 32 := 1#32
  let v6193 : BitVec 32 := Scalar.subi v6178 c1_i32_3540
  let v6194 : BitVec 32 := Scalar.select v6192 v6193 v6178
  let c128_i32_3541 : BitVec 32 := 128#32
  let v6195 : BitVec 32 := Scalar.muli v6194 c128_i32_3541
  let v6196 : BitVec 32 := Scalar.maxsi c0_i32_3542 v6195
  let v6197 : BitVec 32 := Scalar.minsi c99872_i32_3543 v6196
  v6197

def k1_off237 (v6177 : BitVec 32) : Fin 2 → Nat :=
  let c108_i32_3545 : BitVec 32 := 108#32
  let c99872_i32_3543 : BitVec 32 := 99872#32
  let c0_i32_3542 : BitVec 32 := 0#32
  let c0_i32_3535 : BitVec 32 := 0#32
  let v6179 : BitVec 1 := Scalar.cmpi .sgt v6177 c0_i32_3535
  let v6180 : BitVec 32 := Scalar.extui v6179
  let c0_i32_3536 : BitVec 32 := 0#32
  let v6181 : BitVec 1 := Scalar.cmpi .slt v6177 c0_i32_3536
  let v6182 : BitVec 32 := Scalar.extui v6181
  let v6183 : BitVec 32 := Scalar.subi v6180 v6182
  let c128_i32_3534 : BitVec 32 := 128#32
  let c0_i32_3537 : BitVec 32 := 0#32
  let v6184 : BitVec 1 := Scalar.cmpi .sgt c128_i32_3534 c0_i32_3537
  let v6185 : BitVec 32 := Scalar.extui v6184
  let c0_i32_3538 : BitVec 32 := 0#32
  let v6186 : BitVec 1 := Scalar.cmpi .slt c128_i32_3534 c0_i32_3538
  let v6187 : BitVec 32 := Scalar.extui v6186
  let v6188 : BitVec 32 := Scalar.subi v6185 v6187
  let v6189 : BitVec 1 := Scalar.cmpi .ne v6183 v6188
  let v6190 : BitVec 32 := Scalar.remsi v6177 c128_i32_3534
  let c0_i32_3539 : BitVec 32 := 0#32
  let v6191 : BitVec 1 := Scalar.cmpi .ne v6190 c0_i32_3539
  let v6192 : BitVec 1 := Scalar.andi v6189 v6191
  let v6178 : BitVec 32 := Scalar.divsi v6177 c128_i32_3534
  let c1_i32_3540 : BitVec 32 := 1#32
  let v6193 : BitVec 32 := Scalar.subi v6178 c1_i32_3540
  let v6194 : BitVec 32 := Scalar.select v6192 v6193 v6178
  let c128_i32_3541 : BitVec 32 := 128#32
  let v6195 : BitVec 32 := Scalar.muli v6194 c128_i32_3541
  let v6196 : BitVec 32 := Scalar.maxsi c0_i32_3542 v6195
  let v6197 : BitVec 32 := Scalar.minsi c99872_i32_3543 v6196
  let v6198 : BitVec 32 := v6197
  ![108, v6198.toNat]

def k1_chk237 (v6177 : BitVec 32) : Prop :=
  (32 ∣ (k1_mult237 v6177).toNat) ∧
  (∀ a, (k1_off237 v6177) a + S1x128.size a ≤ S128x100000.size a)
theorem k1_mult237_dvd : ∀ (v6177 : BitVec 32) (k1_hw237 : k1_chk237 v6177), 32 ∣ (k1_mult237 v6177).toNat := fun v6177 k1_hw237 => k1_hw237.1
theorem k1_off237_inb : ∀ (v6177 : BitVec 32) (k1_hw237 : k1_chk237 v6177), ∀ a, (k1_off237 v6177) a + S1x128.size a ≤ S128x100000.size a := fun v6177 k1_hw237 => k1_hw237.2

def k1_mult238 (v6203 : BitVec 32) : BitVec 32 :=
  let c99872_i32_3559 : BitVec 32 := 99872#32
  let c0_i32_3558 : BitVec 32 := 0#32
  let c0_i32_3551 : BitVec 32 := 0#32
  let v6205 : BitVec 1 := Scalar.cmpi .sgt v6203 c0_i32_3551
  let v6206 : BitVec 32 := Scalar.extui v6205
  let c0_i32_3552 : BitVec 32 := 0#32
  let v6207 : BitVec 1 := Scalar.cmpi .slt v6203 c0_i32_3552
  let v6208 : BitVec 32 := Scalar.extui v6207
  let v6209 : BitVec 32 := Scalar.subi v6206 v6208
  let c128_i32_3550 : BitVec 32 := 128#32
  let c0_i32_3553 : BitVec 32 := 0#32
  let v6210 : BitVec 1 := Scalar.cmpi .sgt c128_i32_3550 c0_i32_3553
  let v6211 : BitVec 32 := Scalar.extui v6210
  let c0_i32_3554 : BitVec 32 := 0#32
  let v6212 : BitVec 1 := Scalar.cmpi .slt c128_i32_3550 c0_i32_3554
  let v6213 : BitVec 32 := Scalar.extui v6212
  let v6214 : BitVec 32 := Scalar.subi v6211 v6213
  let v6215 : BitVec 1 := Scalar.cmpi .ne v6209 v6214
  let v6216 : BitVec 32 := Scalar.remsi v6203 c128_i32_3550
  let c0_i32_3555 : BitVec 32 := 0#32
  let v6217 : BitVec 1 := Scalar.cmpi .ne v6216 c0_i32_3555
  let v6218 : BitVec 1 := Scalar.andi v6215 v6217
  let v6204 : BitVec 32 := Scalar.divsi v6203 c128_i32_3550
  let c1_i32_3556 : BitVec 32 := 1#32
  let v6219 : BitVec 32 := Scalar.subi v6204 c1_i32_3556
  let v6220 : BitVec 32 := Scalar.select v6218 v6219 v6204
  let c128_i32_3557 : BitVec 32 := 128#32
  let v6221 : BitVec 32 := Scalar.muli v6220 c128_i32_3557
  let v6222 : BitVec 32 := Scalar.maxsi c0_i32_3558 v6221
  let v6223 : BitVec 32 := Scalar.minsi c99872_i32_3559 v6222
  v6223

def k1_off238 (v6203 : BitVec 32) : Fin 2 → Nat :=
  let c109_i32_3561 : BitVec 32 := 109#32
  let c99872_i32_3559 : BitVec 32 := 99872#32
  let c0_i32_3558 : BitVec 32 := 0#32
  let c0_i32_3551 : BitVec 32 := 0#32
  let v6205 : BitVec 1 := Scalar.cmpi .sgt v6203 c0_i32_3551
  let v6206 : BitVec 32 := Scalar.extui v6205
  let c0_i32_3552 : BitVec 32 := 0#32
  let v6207 : BitVec 1 := Scalar.cmpi .slt v6203 c0_i32_3552
  let v6208 : BitVec 32 := Scalar.extui v6207
  let v6209 : BitVec 32 := Scalar.subi v6206 v6208
  let c128_i32_3550 : BitVec 32 := 128#32
  let c0_i32_3553 : BitVec 32 := 0#32
  let v6210 : BitVec 1 := Scalar.cmpi .sgt c128_i32_3550 c0_i32_3553
  let v6211 : BitVec 32 := Scalar.extui v6210
  let c0_i32_3554 : BitVec 32 := 0#32
  let v6212 : BitVec 1 := Scalar.cmpi .slt c128_i32_3550 c0_i32_3554
  let v6213 : BitVec 32 := Scalar.extui v6212
  let v6214 : BitVec 32 := Scalar.subi v6211 v6213
  let v6215 : BitVec 1 := Scalar.cmpi .ne v6209 v6214
  let v6216 : BitVec 32 := Scalar.remsi v6203 c128_i32_3550
  let c0_i32_3555 : BitVec 32 := 0#32
  let v6217 : BitVec 1 := Scalar.cmpi .ne v6216 c0_i32_3555
  let v6218 : BitVec 1 := Scalar.andi v6215 v6217
  let v6204 : BitVec 32 := Scalar.divsi v6203 c128_i32_3550
  let c1_i32_3556 : BitVec 32 := 1#32
  let v6219 : BitVec 32 := Scalar.subi v6204 c1_i32_3556
  let v6220 : BitVec 32 := Scalar.select v6218 v6219 v6204
  let c128_i32_3557 : BitVec 32 := 128#32
  let v6221 : BitVec 32 := Scalar.muli v6220 c128_i32_3557
  let v6222 : BitVec 32 := Scalar.maxsi c0_i32_3558 v6221
  let v6223 : BitVec 32 := Scalar.minsi c99872_i32_3559 v6222
  let v6224 : BitVec 32 := v6223
  ![109, v6224.toNat]

def k1_chk238 (v6203 : BitVec 32) : Prop :=
  (32 ∣ (k1_mult238 v6203).toNat) ∧
  (∀ a, (k1_off238 v6203) a + S1x128.size a ≤ S128x100000.size a)
theorem k1_mult238_dvd : ∀ (v6203 : BitVec 32) (k1_hw238 : k1_chk238 v6203), 32 ∣ (k1_mult238 v6203).toNat := fun v6203 k1_hw238 => k1_hw238.1
theorem k1_off238_inb : ∀ (v6203 : BitVec 32) (k1_hw238 : k1_chk238 v6203), ∀ a, (k1_off238 v6203) a + S1x128.size a ≤ S128x100000.size a := fun v6203 k1_hw238 => k1_hw238.2

def k1_mult239 (v6229 : BitVec 32) : BitVec 32 :=
  let c99872_i32_3575 : BitVec 32 := 99872#32
  let c0_i32_3574 : BitVec 32 := 0#32
  let c0_i32_3567 : BitVec 32 := 0#32
  let v6231 : BitVec 1 := Scalar.cmpi .sgt v6229 c0_i32_3567
  let v6232 : BitVec 32 := Scalar.extui v6231
  let c0_i32_3568 : BitVec 32 := 0#32
  let v6233 : BitVec 1 := Scalar.cmpi .slt v6229 c0_i32_3568
  let v6234 : BitVec 32 := Scalar.extui v6233
  let v6235 : BitVec 32 := Scalar.subi v6232 v6234
  let c128_i32_3566 : BitVec 32 := 128#32
  let c0_i32_3569 : BitVec 32 := 0#32
  let v6236 : BitVec 1 := Scalar.cmpi .sgt c128_i32_3566 c0_i32_3569
  let v6237 : BitVec 32 := Scalar.extui v6236
  let c0_i32_3570 : BitVec 32 := 0#32
  let v6238 : BitVec 1 := Scalar.cmpi .slt c128_i32_3566 c0_i32_3570
  let v6239 : BitVec 32 := Scalar.extui v6238
  let v6240 : BitVec 32 := Scalar.subi v6237 v6239
  let v6241 : BitVec 1 := Scalar.cmpi .ne v6235 v6240
  let v6242 : BitVec 32 := Scalar.remsi v6229 c128_i32_3566
  let c0_i32_3571 : BitVec 32 := 0#32
  let v6243 : BitVec 1 := Scalar.cmpi .ne v6242 c0_i32_3571
  let v6244 : BitVec 1 := Scalar.andi v6241 v6243
  let v6230 : BitVec 32 := Scalar.divsi v6229 c128_i32_3566
  let c1_i32_3572 : BitVec 32 := 1#32
  let v6245 : BitVec 32 := Scalar.subi v6230 c1_i32_3572
  let v6246 : BitVec 32 := Scalar.select v6244 v6245 v6230
  let c128_i32_3573 : BitVec 32 := 128#32
  let v6247 : BitVec 32 := Scalar.muli v6246 c128_i32_3573
  let v6248 : BitVec 32 := Scalar.maxsi c0_i32_3574 v6247
  let v6249 : BitVec 32 := Scalar.minsi c99872_i32_3575 v6248
  v6249

def k1_off239 (v6229 : BitVec 32) : Fin 2 → Nat :=
  let c110_i32_3577 : BitVec 32 := 110#32
  let c99872_i32_3575 : BitVec 32 := 99872#32
  let c0_i32_3574 : BitVec 32 := 0#32
  let c0_i32_3567 : BitVec 32 := 0#32
  let v6231 : BitVec 1 := Scalar.cmpi .sgt v6229 c0_i32_3567
  let v6232 : BitVec 32 := Scalar.extui v6231
  let c0_i32_3568 : BitVec 32 := 0#32
  let v6233 : BitVec 1 := Scalar.cmpi .slt v6229 c0_i32_3568
  let v6234 : BitVec 32 := Scalar.extui v6233
  let v6235 : BitVec 32 := Scalar.subi v6232 v6234
  let c128_i32_3566 : BitVec 32 := 128#32
  let c0_i32_3569 : BitVec 32 := 0#32
  let v6236 : BitVec 1 := Scalar.cmpi .sgt c128_i32_3566 c0_i32_3569
  let v6237 : BitVec 32 := Scalar.extui v6236
  let c0_i32_3570 : BitVec 32 := 0#32
  let v6238 : BitVec 1 := Scalar.cmpi .slt c128_i32_3566 c0_i32_3570
  let v6239 : BitVec 32 := Scalar.extui v6238
  let v6240 : BitVec 32 := Scalar.subi v6237 v6239
  let v6241 : BitVec 1 := Scalar.cmpi .ne v6235 v6240
  let v6242 : BitVec 32 := Scalar.remsi v6229 c128_i32_3566
  let c0_i32_3571 : BitVec 32 := 0#32
  let v6243 : BitVec 1 := Scalar.cmpi .ne v6242 c0_i32_3571
  let v6244 : BitVec 1 := Scalar.andi v6241 v6243
  let v6230 : BitVec 32 := Scalar.divsi v6229 c128_i32_3566
  let c1_i32_3572 : BitVec 32 := 1#32
  let v6245 : BitVec 32 := Scalar.subi v6230 c1_i32_3572
  let v6246 : BitVec 32 := Scalar.select v6244 v6245 v6230
  let c128_i32_3573 : BitVec 32 := 128#32
  let v6247 : BitVec 32 := Scalar.muli v6246 c128_i32_3573
  let v6248 : BitVec 32 := Scalar.maxsi c0_i32_3574 v6247
  let v6249 : BitVec 32 := Scalar.minsi c99872_i32_3575 v6248
  let v6250 : BitVec 32 := v6249
  ![110, v6250.toNat]

def k1_chk239 (v6229 : BitVec 32) : Prop :=
  (32 ∣ (k1_mult239 v6229).toNat) ∧
  (∀ a, (k1_off239 v6229) a + S1x128.size a ≤ S128x100000.size a)
theorem k1_mult239_dvd : ∀ (v6229 : BitVec 32) (k1_hw239 : k1_chk239 v6229), 32 ∣ (k1_mult239 v6229).toNat := fun v6229 k1_hw239 => k1_hw239.1
theorem k1_off239_inb : ∀ (v6229 : BitVec 32) (k1_hw239 : k1_chk239 v6229), ∀ a, (k1_off239 v6229) a + S1x128.size a ≤ S128x100000.size a := fun v6229 k1_hw239 => k1_hw239.2

def k1_mult240 (v6255 : BitVec 32) : BitVec 32 :=
  let c99872_i32_3591 : BitVec 32 := 99872#32
  let c0_i32_3590 : BitVec 32 := 0#32
  let c0_i32_3583 : BitVec 32 := 0#32
  let v6257 : BitVec 1 := Scalar.cmpi .sgt v6255 c0_i32_3583
  let v6258 : BitVec 32 := Scalar.extui v6257
  let c0_i32_3584 : BitVec 32 := 0#32
  let v6259 : BitVec 1 := Scalar.cmpi .slt v6255 c0_i32_3584
  let v6260 : BitVec 32 := Scalar.extui v6259
  let v6261 : BitVec 32 := Scalar.subi v6258 v6260
  let c128_i32_3582 : BitVec 32 := 128#32
  let c0_i32_3585 : BitVec 32 := 0#32
  let v6262 : BitVec 1 := Scalar.cmpi .sgt c128_i32_3582 c0_i32_3585
  let v6263 : BitVec 32 := Scalar.extui v6262
  let c0_i32_3586 : BitVec 32 := 0#32
  let v6264 : BitVec 1 := Scalar.cmpi .slt c128_i32_3582 c0_i32_3586
  let v6265 : BitVec 32 := Scalar.extui v6264
  let v6266 : BitVec 32 := Scalar.subi v6263 v6265
  let v6267 : BitVec 1 := Scalar.cmpi .ne v6261 v6266
  let v6268 : BitVec 32 := Scalar.remsi v6255 c128_i32_3582
  let c0_i32_3587 : BitVec 32 := 0#32
  let v6269 : BitVec 1 := Scalar.cmpi .ne v6268 c0_i32_3587
  let v6270 : BitVec 1 := Scalar.andi v6267 v6269
  let v6256 : BitVec 32 := Scalar.divsi v6255 c128_i32_3582
  let c1_i32_3588 : BitVec 32 := 1#32
  let v6271 : BitVec 32 := Scalar.subi v6256 c1_i32_3588
  let v6272 : BitVec 32 := Scalar.select v6270 v6271 v6256
  let c128_i32_3589 : BitVec 32 := 128#32
  let v6273 : BitVec 32 := Scalar.muli v6272 c128_i32_3589
  let v6274 : BitVec 32 := Scalar.maxsi c0_i32_3590 v6273
  let v6275 : BitVec 32 := Scalar.minsi c99872_i32_3591 v6274
  v6275

def k1_off240 (v6255 : BitVec 32) : Fin 2 → Nat :=
  let c111_i32_3593 : BitVec 32 := 111#32
  let c99872_i32_3591 : BitVec 32 := 99872#32
  let c0_i32_3590 : BitVec 32 := 0#32
  let c0_i32_3583 : BitVec 32 := 0#32
  let v6257 : BitVec 1 := Scalar.cmpi .sgt v6255 c0_i32_3583
  let v6258 : BitVec 32 := Scalar.extui v6257
  let c0_i32_3584 : BitVec 32 := 0#32
  let v6259 : BitVec 1 := Scalar.cmpi .slt v6255 c0_i32_3584
  let v6260 : BitVec 32 := Scalar.extui v6259
  let v6261 : BitVec 32 := Scalar.subi v6258 v6260
  let c128_i32_3582 : BitVec 32 := 128#32
  let c0_i32_3585 : BitVec 32 := 0#32
  let v6262 : BitVec 1 := Scalar.cmpi .sgt c128_i32_3582 c0_i32_3585
  let v6263 : BitVec 32 := Scalar.extui v6262
  let c0_i32_3586 : BitVec 32 := 0#32
  let v6264 : BitVec 1 := Scalar.cmpi .slt c128_i32_3582 c0_i32_3586
  let v6265 : BitVec 32 := Scalar.extui v6264
  let v6266 : BitVec 32 := Scalar.subi v6263 v6265
  let v6267 : BitVec 1 := Scalar.cmpi .ne v6261 v6266
  let v6268 : BitVec 32 := Scalar.remsi v6255 c128_i32_3582
  let c0_i32_3587 : BitVec 32 := 0#32
  let v6269 : BitVec 1 := Scalar.cmpi .ne v6268 c0_i32_3587
  let v6270 : BitVec 1 := Scalar.andi v6267 v6269
  let v6256 : BitVec 32 := Scalar.divsi v6255 c128_i32_3582
  let c1_i32_3588 : BitVec 32 := 1#32
  let v6271 : BitVec 32 := Scalar.subi v6256 c1_i32_3588
  let v6272 : BitVec 32 := Scalar.select v6270 v6271 v6256
  let c128_i32_3589 : BitVec 32 := 128#32
  let v6273 : BitVec 32 := Scalar.muli v6272 c128_i32_3589
  let v6274 : BitVec 32 := Scalar.maxsi c0_i32_3590 v6273
  let v6275 : BitVec 32 := Scalar.minsi c99872_i32_3591 v6274
  let v6276 : BitVec 32 := v6275
  ![111, v6276.toNat]

def k1_chk240 (v6255 : BitVec 32) : Prop :=
  (32 ∣ (k1_mult240 v6255).toNat) ∧
  (∀ a, (k1_off240 v6255) a + S1x128.size a ≤ S128x100000.size a)
theorem k1_mult240_dvd : ∀ (v6255 : BitVec 32) (k1_hw240 : k1_chk240 v6255), 32 ∣ (k1_mult240 v6255).toNat := fun v6255 k1_hw240 => k1_hw240.1
theorem k1_off240_inb : ∀ (v6255 : BitVec 32) (k1_hw240 : k1_chk240 v6255), ∀ a, (k1_off240 v6255) a + S1x128.size a ≤ S128x100000.size a := fun v6255 k1_hw240 => k1_hw240.2

def k1_mult241 (v6281 : BitVec 32) : BitVec 32 :=
  let c99872_i32_3607 : BitVec 32 := 99872#32
  let c0_i32_3606 : BitVec 32 := 0#32
  let c0_i32_3599 : BitVec 32 := 0#32
  let v6283 : BitVec 1 := Scalar.cmpi .sgt v6281 c0_i32_3599
  let v6284 : BitVec 32 := Scalar.extui v6283
  let c0_i32_3600 : BitVec 32 := 0#32
  let v6285 : BitVec 1 := Scalar.cmpi .slt v6281 c0_i32_3600
  let v6286 : BitVec 32 := Scalar.extui v6285
  let v6287 : BitVec 32 := Scalar.subi v6284 v6286
  let c128_i32_3598 : BitVec 32 := 128#32
  let c0_i32_3601 : BitVec 32 := 0#32
  let v6288 : BitVec 1 := Scalar.cmpi .sgt c128_i32_3598 c0_i32_3601
  let v6289 : BitVec 32 := Scalar.extui v6288
  let c0_i32_3602 : BitVec 32 := 0#32
  let v6290 : BitVec 1 := Scalar.cmpi .slt c128_i32_3598 c0_i32_3602
  let v6291 : BitVec 32 := Scalar.extui v6290
  let v6292 : BitVec 32 := Scalar.subi v6289 v6291
  let v6293 : BitVec 1 := Scalar.cmpi .ne v6287 v6292
  let v6294 : BitVec 32 := Scalar.remsi v6281 c128_i32_3598
  let c0_i32_3603 : BitVec 32 := 0#32
  let v6295 : BitVec 1 := Scalar.cmpi .ne v6294 c0_i32_3603
  let v6296 : BitVec 1 := Scalar.andi v6293 v6295
  let v6282 : BitVec 32 := Scalar.divsi v6281 c128_i32_3598
  let c1_i32_3604 : BitVec 32 := 1#32
  let v6297 : BitVec 32 := Scalar.subi v6282 c1_i32_3604
  let v6298 : BitVec 32 := Scalar.select v6296 v6297 v6282
  let c128_i32_3605 : BitVec 32 := 128#32
  let v6299 : BitVec 32 := Scalar.muli v6298 c128_i32_3605
  let v6300 : BitVec 32 := Scalar.maxsi c0_i32_3606 v6299
  let v6301 : BitVec 32 := Scalar.minsi c99872_i32_3607 v6300
  v6301

def k1_off241 (v6281 : BitVec 32) : Fin 2 → Nat :=
  let c112_i32_3609 : BitVec 32 := 112#32
  let c99872_i32_3607 : BitVec 32 := 99872#32
  let c0_i32_3606 : BitVec 32 := 0#32
  let c0_i32_3599 : BitVec 32 := 0#32
  let v6283 : BitVec 1 := Scalar.cmpi .sgt v6281 c0_i32_3599
  let v6284 : BitVec 32 := Scalar.extui v6283
  let c0_i32_3600 : BitVec 32 := 0#32
  let v6285 : BitVec 1 := Scalar.cmpi .slt v6281 c0_i32_3600
  let v6286 : BitVec 32 := Scalar.extui v6285
  let v6287 : BitVec 32 := Scalar.subi v6284 v6286
  let c128_i32_3598 : BitVec 32 := 128#32
  let c0_i32_3601 : BitVec 32 := 0#32
  let v6288 : BitVec 1 := Scalar.cmpi .sgt c128_i32_3598 c0_i32_3601
  let v6289 : BitVec 32 := Scalar.extui v6288
  let c0_i32_3602 : BitVec 32 := 0#32
  let v6290 : BitVec 1 := Scalar.cmpi .slt c128_i32_3598 c0_i32_3602
  let v6291 : BitVec 32 := Scalar.extui v6290
  let v6292 : BitVec 32 := Scalar.subi v6289 v6291
  let v6293 : BitVec 1 := Scalar.cmpi .ne v6287 v6292
  let v6294 : BitVec 32 := Scalar.remsi v6281 c128_i32_3598
  let c0_i32_3603 : BitVec 32 := 0#32
  let v6295 : BitVec 1 := Scalar.cmpi .ne v6294 c0_i32_3603
  let v6296 : BitVec 1 := Scalar.andi v6293 v6295
  let v6282 : BitVec 32 := Scalar.divsi v6281 c128_i32_3598
  let c1_i32_3604 : BitVec 32 := 1#32
  let v6297 : BitVec 32 := Scalar.subi v6282 c1_i32_3604
  let v6298 : BitVec 32 := Scalar.select v6296 v6297 v6282
  let c128_i32_3605 : BitVec 32 := 128#32
  let v6299 : BitVec 32 := Scalar.muli v6298 c128_i32_3605
  let v6300 : BitVec 32 := Scalar.maxsi c0_i32_3606 v6299
  let v6301 : BitVec 32 := Scalar.minsi c99872_i32_3607 v6300
  let v6302 : BitVec 32 := v6301
  ![112, v6302.toNat]

def k1_chk241 (v6281 : BitVec 32) : Prop :=
  (32 ∣ (k1_mult241 v6281).toNat) ∧
  (∀ a, (k1_off241 v6281) a + S1x128.size a ≤ S128x100000.size a)
theorem k1_mult241_dvd : ∀ (v6281 : BitVec 32) (k1_hw241 : k1_chk241 v6281), 32 ∣ (k1_mult241 v6281).toNat := fun v6281 k1_hw241 => k1_hw241.1
theorem k1_off241_inb : ∀ (v6281 : BitVec 32) (k1_hw241 : k1_chk241 v6281), ∀ a, (k1_off241 v6281) a + S1x128.size a ≤ S128x100000.size a := fun v6281 k1_hw241 => k1_hw241.2

def k1_mult242 (v6307 : BitVec 32) : BitVec 32 :=
  let c99872_i32_3623 : BitVec 32 := 99872#32
  let c0_i32_3622 : BitVec 32 := 0#32
  let c0_i32_3615 : BitVec 32 := 0#32
  let v6309 : BitVec 1 := Scalar.cmpi .sgt v6307 c0_i32_3615
  let v6310 : BitVec 32 := Scalar.extui v6309
  let c0_i32_3616 : BitVec 32 := 0#32
  let v6311 : BitVec 1 := Scalar.cmpi .slt v6307 c0_i32_3616
  let v6312 : BitVec 32 := Scalar.extui v6311
  let v6313 : BitVec 32 := Scalar.subi v6310 v6312
  let c128_i32_3614 : BitVec 32 := 128#32
  let c0_i32_3617 : BitVec 32 := 0#32
  let v6314 : BitVec 1 := Scalar.cmpi .sgt c128_i32_3614 c0_i32_3617
  let v6315 : BitVec 32 := Scalar.extui v6314
  let c0_i32_3618 : BitVec 32 := 0#32
  let v6316 : BitVec 1 := Scalar.cmpi .slt c128_i32_3614 c0_i32_3618
  let v6317 : BitVec 32 := Scalar.extui v6316
  let v6318 : BitVec 32 := Scalar.subi v6315 v6317
  let v6319 : BitVec 1 := Scalar.cmpi .ne v6313 v6318
  let v6320 : BitVec 32 := Scalar.remsi v6307 c128_i32_3614
  let c0_i32_3619 : BitVec 32 := 0#32
  let v6321 : BitVec 1 := Scalar.cmpi .ne v6320 c0_i32_3619
  let v6322 : BitVec 1 := Scalar.andi v6319 v6321
  let v6308 : BitVec 32 := Scalar.divsi v6307 c128_i32_3614
  let c1_i32_3620 : BitVec 32 := 1#32
  let v6323 : BitVec 32 := Scalar.subi v6308 c1_i32_3620
  let v6324 : BitVec 32 := Scalar.select v6322 v6323 v6308
  let c128_i32_3621 : BitVec 32 := 128#32
  let v6325 : BitVec 32 := Scalar.muli v6324 c128_i32_3621
  let v6326 : BitVec 32 := Scalar.maxsi c0_i32_3622 v6325
  let v6327 : BitVec 32 := Scalar.minsi c99872_i32_3623 v6326
  v6327

def k1_off242 (v6307 : BitVec 32) : Fin 2 → Nat :=
  let c113_i32_3625 : BitVec 32 := 113#32
  let c99872_i32_3623 : BitVec 32 := 99872#32
  let c0_i32_3622 : BitVec 32 := 0#32
  let c0_i32_3615 : BitVec 32 := 0#32
  let v6309 : BitVec 1 := Scalar.cmpi .sgt v6307 c0_i32_3615
  let v6310 : BitVec 32 := Scalar.extui v6309
  let c0_i32_3616 : BitVec 32 := 0#32
  let v6311 : BitVec 1 := Scalar.cmpi .slt v6307 c0_i32_3616
  let v6312 : BitVec 32 := Scalar.extui v6311
  let v6313 : BitVec 32 := Scalar.subi v6310 v6312
  let c128_i32_3614 : BitVec 32 := 128#32
  let c0_i32_3617 : BitVec 32 := 0#32
  let v6314 : BitVec 1 := Scalar.cmpi .sgt c128_i32_3614 c0_i32_3617
  let v6315 : BitVec 32 := Scalar.extui v6314
  let c0_i32_3618 : BitVec 32 := 0#32
  let v6316 : BitVec 1 := Scalar.cmpi .slt c128_i32_3614 c0_i32_3618
  let v6317 : BitVec 32 := Scalar.extui v6316
  let v6318 : BitVec 32 := Scalar.subi v6315 v6317
  let v6319 : BitVec 1 := Scalar.cmpi .ne v6313 v6318
  let v6320 : BitVec 32 := Scalar.remsi v6307 c128_i32_3614
  let c0_i32_3619 : BitVec 32 := 0#32
  let v6321 : BitVec 1 := Scalar.cmpi .ne v6320 c0_i32_3619
  let v6322 : BitVec 1 := Scalar.andi v6319 v6321
  let v6308 : BitVec 32 := Scalar.divsi v6307 c128_i32_3614
  let c1_i32_3620 : BitVec 32 := 1#32
  let v6323 : BitVec 32 := Scalar.subi v6308 c1_i32_3620
  let v6324 : BitVec 32 := Scalar.select v6322 v6323 v6308
  let c128_i32_3621 : BitVec 32 := 128#32
  let v6325 : BitVec 32 := Scalar.muli v6324 c128_i32_3621
  let v6326 : BitVec 32 := Scalar.maxsi c0_i32_3622 v6325
  let v6327 : BitVec 32 := Scalar.minsi c99872_i32_3623 v6326
  let v6328 : BitVec 32 := v6327
  ![113, v6328.toNat]

def k1_chk242 (v6307 : BitVec 32) : Prop :=
  (32 ∣ (k1_mult242 v6307).toNat) ∧
  (∀ a, (k1_off242 v6307) a + S1x128.size a ≤ S128x100000.size a)
theorem k1_mult242_dvd : ∀ (v6307 : BitVec 32) (k1_hw242 : k1_chk242 v6307), 32 ∣ (k1_mult242 v6307).toNat := fun v6307 k1_hw242 => k1_hw242.1
theorem k1_off242_inb : ∀ (v6307 : BitVec 32) (k1_hw242 : k1_chk242 v6307), ∀ a, (k1_off242 v6307) a + S1x128.size a ≤ S128x100000.size a := fun v6307 k1_hw242 => k1_hw242.2

def k1_mult243 (v6333 : BitVec 32) : BitVec 32 :=
  let c99872_i32_3639 : BitVec 32 := 99872#32
  let c0_i32_3638 : BitVec 32 := 0#32
  let c0_i32_3631 : BitVec 32 := 0#32
  let v6335 : BitVec 1 := Scalar.cmpi .sgt v6333 c0_i32_3631
  let v6336 : BitVec 32 := Scalar.extui v6335
  let c0_i32_3632 : BitVec 32 := 0#32
  let v6337 : BitVec 1 := Scalar.cmpi .slt v6333 c0_i32_3632
  let v6338 : BitVec 32 := Scalar.extui v6337
  let v6339 : BitVec 32 := Scalar.subi v6336 v6338
  let c128_i32_3630 : BitVec 32 := 128#32
  let c0_i32_3633 : BitVec 32 := 0#32
  let v6340 : BitVec 1 := Scalar.cmpi .sgt c128_i32_3630 c0_i32_3633
  let v6341 : BitVec 32 := Scalar.extui v6340
  let c0_i32_3634 : BitVec 32 := 0#32
  let v6342 : BitVec 1 := Scalar.cmpi .slt c128_i32_3630 c0_i32_3634
  let v6343 : BitVec 32 := Scalar.extui v6342
  let v6344 : BitVec 32 := Scalar.subi v6341 v6343
  let v6345 : BitVec 1 := Scalar.cmpi .ne v6339 v6344
  let v6346 : BitVec 32 := Scalar.remsi v6333 c128_i32_3630
  let c0_i32_3635 : BitVec 32 := 0#32
  let v6347 : BitVec 1 := Scalar.cmpi .ne v6346 c0_i32_3635
  let v6348 : BitVec 1 := Scalar.andi v6345 v6347
  let v6334 : BitVec 32 := Scalar.divsi v6333 c128_i32_3630
  let c1_i32_3636 : BitVec 32 := 1#32
  let v6349 : BitVec 32 := Scalar.subi v6334 c1_i32_3636
  let v6350 : BitVec 32 := Scalar.select v6348 v6349 v6334
  let c128_i32_3637 : BitVec 32 := 128#32
  let v6351 : BitVec 32 := Scalar.muli v6350 c128_i32_3637
  let v6352 : BitVec 32 := Scalar.maxsi c0_i32_3638 v6351
  let v6353 : BitVec 32 := Scalar.minsi c99872_i32_3639 v6352
  v6353

def k1_off243 (v6333 : BitVec 32) : Fin 2 → Nat :=
  let c114_i32_3641 : BitVec 32 := 114#32
  let c99872_i32_3639 : BitVec 32 := 99872#32
  let c0_i32_3638 : BitVec 32 := 0#32
  let c0_i32_3631 : BitVec 32 := 0#32
  let v6335 : BitVec 1 := Scalar.cmpi .sgt v6333 c0_i32_3631
  let v6336 : BitVec 32 := Scalar.extui v6335
  let c0_i32_3632 : BitVec 32 := 0#32
  let v6337 : BitVec 1 := Scalar.cmpi .slt v6333 c0_i32_3632
  let v6338 : BitVec 32 := Scalar.extui v6337
  let v6339 : BitVec 32 := Scalar.subi v6336 v6338
  let c128_i32_3630 : BitVec 32 := 128#32
  let c0_i32_3633 : BitVec 32 := 0#32
  let v6340 : BitVec 1 := Scalar.cmpi .sgt c128_i32_3630 c0_i32_3633
  let v6341 : BitVec 32 := Scalar.extui v6340
  let c0_i32_3634 : BitVec 32 := 0#32
  let v6342 : BitVec 1 := Scalar.cmpi .slt c128_i32_3630 c0_i32_3634
  let v6343 : BitVec 32 := Scalar.extui v6342
  let v6344 : BitVec 32 := Scalar.subi v6341 v6343
  let v6345 : BitVec 1 := Scalar.cmpi .ne v6339 v6344
  let v6346 : BitVec 32 := Scalar.remsi v6333 c128_i32_3630
  let c0_i32_3635 : BitVec 32 := 0#32
  let v6347 : BitVec 1 := Scalar.cmpi .ne v6346 c0_i32_3635
  let v6348 : BitVec 1 := Scalar.andi v6345 v6347
  let v6334 : BitVec 32 := Scalar.divsi v6333 c128_i32_3630
  let c1_i32_3636 : BitVec 32 := 1#32
  let v6349 : BitVec 32 := Scalar.subi v6334 c1_i32_3636
  let v6350 : BitVec 32 := Scalar.select v6348 v6349 v6334
  let c128_i32_3637 : BitVec 32 := 128#32
  let v6351 : BitVec 32 := Scalar.muli v6350 c128_i32_3637
  let v6352 : BitVec 32 := Scalar.maxsi c0_i32_3638 v6351
  let v6353 : BitVec 32 := Scalar.minsi c99872_i32_3639 v6352
  let v6354 : BitVec 32 := v6353
  ![114, v6354.toNat]

def k1_chk243 (v6333 : BitVec 32) : Prop :=
  (32 ∣ (k1_mult243 v6333).toNat) ∧
  (∀ a, (k1_off243 v6333) a + S1x128.size a ≤ S128x100000.size a)
theorem k1_mult243_dvd : ∀ (v6333 : BitVec 32) (k1_hw243 : k1_chk243 v6333), 32 ∣ (k1_mult243 v6333).toNat := fun v6333 k1_hw243 => k1_hw243.1
theorem k1_off243_inb : ∀ (v6333 : BitVec 32) (k1_hw243 : k1_chk243 v6333), ∀ a, (k1_off243 v6333) a + S1x128.size a ≤ S128x100000.size a := fun v6333 k1_hw243 => k1_hw243.2

def k1_mult244 (v6359 : BitVec 32) : BitVec 32 :=
  let c99872_i32_3655 : BitVec 32 := 99872#32
  let c0_i32_3654 : BitVec 32 := 0#32
  let c0_i32_3647 : BitVec 32 := 0#32
  let v6361 : BitVec 1 := Scalar.cmpi .sgt v6359 c0_i32_3647
  let v6362 : BitVec 32 := Scalar.extui v6361
  let c0_i32_3648 : BitVec 32 := 0#32
  let v6363 : BitVec 1 := Scalar.cmpi .slt v6359 c0_i32_3648
  let v6364 : BitVec 32 := Scalar.extui v6363
  let v6365 : BitVec 32 := Scalar.subi v6362 v6364
  let c128_i32_3646 : BitVec 32 := 128#32
  let c0_i32_3649 : BitVec 32 := 0#32
  let v6366 : BitVec 1 := Scalar.cmpi .sgt c128_i32_3646 c0_i32_3649
  let v6367 : BitVec 32 := Scalar.extui v6366
  let c0_i32_3650 : BitVec 32 := 0#32
  let v6368 : BitVec 1 := Scalar.cmpi .slt c128_i32_3646 c0_i32_3650
  let v6369 : BitVec 32 := Scalar.extui v6368
  let v6370 : BitVec 32 := Scalar.subi v6367 v6369
  let v6371 : BitVec 1 := Scalar.cmpi .ne v6365 v6370
  let v6372 : BitVec 32 := Scalar.remsi v6359 c128_i32_3646
  let c0_i32_3651 : BitVec 32 := 0#32
  let v6373 : BitVec 1 := Scalar.cmpi .ne v6372 c0_i32_3651
  let v6374 : BitVec 1 := Scalar.andi v6371 v6373
  let v6360 : BitVec 32 := Scalar.divsi v6359 c128_i32_3646
  let c1_i32_3652 : BitVec 32 := 1#32
  let v6375 : BitVec 32 := Scalar.subi v6360 c1_i32_3652
  let v6376 : BitVec 32 := Scalar.select v6374 v6375 v6360
  let c128_i32_3653 : BitVec 32 := 128#32
  let v6377 : BitVec 32 := Scalar.muli v6376 c128_i32_3653
  let v6378 : BitVec 32 := Scalar.maxsi c0_i32_3654 v6377
  let v6379 : BitVec 32 := Scalar.minsi c99872_i32_3655 v6378
  v6379

def k1_off244 (v6359 : BitVec 32) : Fin 2 → Nat :=
  let c115_i32_3657 : BitVec 32 := 115#32
  let c99872_i32_3655 : BitVec 32 := 99872#32
  let c0_i32_3654 : BitVec 32 := 0#32
  let c0_i32_3647 : BitVec 32 := 0#32
  let v6361 : BitVec 1 := Scalar.cmpi .sgt v6359 c0_i32_3647
  let v6362 : BitVec 32 := Scalar.extui v6361
  let c0_i32_3648 : BitVec 32 := 0#32
  let v6363 : BitVec 1 := Scalar.cmpi .slt v6359 c0_i32_3648
  let v6364 : BitVec 32 := Scalar.extui v6363
  let v6365 : BitVec 32 := Scalar.subi v6362 v6364
  let c128_i32_3646 : BitVec 32 := 128#32
  let c0_i32_3649 : BitVec 32 := 0#32
  let v6366 : BitVec 1 := Scalar.cmpi .sgt c128_i32_3646 c0_i32_3649
  let v6367 : BitVec 32 := Scalar.extui v6366
  let c0_i32_3650 : BitVec 32 := 0#32
  let v6368 : BitVec 1 := Scalar.cmpi .slt c128_i32_3646 c0_i32_3650
  let v6369 : BitVec 32 := Scalar.extui v6368
  let v6370 : BitVec 32 := Scalar.subi v6367 v6369
  let v6371 : BitVec 1 := Scalar.cmpi .ne v6365 v6370
  let v6372 : BitVec 32 := Scalar.remsi v6359 c128_i32_3646
  let c0_i32_3651 : BitVec 32 := 0#32
  let v6373 : BitVec 1 := Scalar.cmpi .ne v6372 c0_i32_3651
  let v6374 : BitVec 1 := Scalar.andi v6371 v6373
  let v6360 : BitVec 32 := Scalar.divsi v6359 c128_i32_3646
  let c1_i32_3652 : BitVec 32 := 1#32
  let v6375 : BitVec 32 := Scalar.subi v6360 c1_i32_3652
  let v6376 : BitVec 32 := Scalar.select v6374 v6375 v6360
  let c128_i32_3653 : BitVec 32 := 128#32
  let v6377 : BitVec 32 := Scalar.muli v6376 c128_i32_3653
  let v6378 : BitVec 32 := Scalar.maxsi c0_i32_3654 v6377
  let v6379 : BitVec 32 := Scalar.minsi c99872_i32_3655 v6378
  let v6380 : BitVec 32 := v6379
  ![115, v6380.toNat]

def k1_chk244 (v6359 : BitVec 32) : Prop :=
  (32 ∣ (k1_mult244 v6359).toNat) ∧
  (∀ a, (k1_off244 v6359) a + S1x128.size a ≤ S128x100000.size a)
theorem k1_mult244_dvd : ∀ (v6359 : BitVec 32) (k1_hw244 : k1_chk244 v6359), 32 ∣ (k1_mult244 v6359).toNat := fun v6359 k1_hw244 => k1_hw244.1
theorem k1_off244_inb : ∀ (v6359 : BitVec 32) (k1_hw244 : k1_chk244 v6359), ∀ a, (k1_off244 v6359) a + S1x128.size a ≤ S128x100000.size a := fun v6359 k1_hw244 => k1_hw244.2

def k1_mult245 (v6385 : BitVec 32) : BitVec 32 :=
  let c99872_i32_3671 : BitVec 32 := 99872#32
  let c0_i32_3670 : BitVec 32 := 0#32
  let c0_i32_3663 : BitVec 32 := 0#32
  let v6387 : BitVec 1 := Scalar.cmpi .sgt v6385 c0_i32_3663
  let v6388 : BitVec 32 := Scalar.extui v6387
  let c0_i32_3664 : BitVec 32 := 0#32
  let v6389 : BitVec 1 := Scalar.cmpi .slt v6385 c0_i32_3664
  let v6390 : BitVec 32 := Scalar.extui v6389
  let v6391 : BitVec 32 := Scalar.subi v6388 v6390
  let c128_i32_3662 : BitVec 32 := 128#32
  let c0_i32_3665 : BitVec 32 := 0#32
  let v6392 : BitVec 1 := Scalar.cmpi .sgt c128_i32_3662 c0_i32_3665
  let v6393 : BitVec 32 := Scalar.extui v6392
  let c0_i32_3666 : BitVec 32 := 0#32
  let v6394 : BitVec 1 := Scalar.cmpi .slt c128_i32_3662 c0_i32_3666
  let v6395 : BitVec 32 := Scalar.extui v6394
  let v6396 : BitVec 32 := Scalar.subi v6393 v6395
  let v6397 : BitVec 1 := Scalar.cmpi .ne v6391 v6396
  let v6398 : BitVec 32 := Scalar.remsi v6385 c128_i32_3662
  let c0_i32_3667 : BitVec 32 := 0#32
  let v6399 : BitVec 1 := Scalar.cmpi .ne v6398 c0_i32_3667
  let v6400 : BitVec 1 := Scalar.andi v6397 v6399
  let v6386 : BitVec 32 := Scalar.divsi v6385 c128_i32_3662
  let c1_i32_3668 : BitVec 32 := 1#32
  let v6401 : BitVec 32 := Scalar.subi v6386 c1_i32_3668
  let v6402 : BitVec 32 := Scalar.select v6400 v6401 v6386
  let c128_i32_3669 : BitVec 32 := 128#32
  let v6403 : BitVec 32 := Scalar.muli v6402 c128_i32_3669
  let v6404 : BitVec 32 := Scalar.maxsi c0_i32_3670 v6403
  let v6405 : BitVec 32 := Scalar.minsi c99872_i32_3671 v6404
  v6405

def k1_off245 (v6385 : BitVec 32) : Fin 2 → Nat :=
  let c116_i32_3673 : BitVec 32 := 116#32
  let c99872_i32_3671 : BitVec 32 := 99872#32
  let c0_i32_3670 : BitVec 32 := 0#32
  let c0_i32_3663 : BitVec 32 := 0#32
  let v6387 : BitVec 1 := Scalar.cmpi .sgt v6385 c0_i32_3663
  let v6388 : BitVec 32 := Scalar.extui v6387
  let c0_i32_3664 : BitVec 32 := 0#32
  let v6389 : BitVec 1 := Scalar.cmpi .slt v6385 c0_i32_3664
  let v6390 : BitVec 32 := Scalar.extui v6389
  let v6391 : BitVec 32 := Scalar.subi v6388 v6390
  let c128_i32_3662 : BitVec 32 := 128#32
  let c0_i32_3665 : BitVec 32 := 0#32
  let v6392 : BitVec 1 := Scalar.cmpi .sgt c128_i32_3662 c0_i32_3665
  let v6393 : BitVec 32 := Scalar.extui v6392
  let c0_i32_3666 : BitVec 32 := 0#32
  let v6394 : BitVec 1 := Scalar.cmpi .slt c128_i32_3662 c0_i32_3666
  let v6395 : BitVec 32 := Scalar.extui v6394
  let v6396 : BitVec 32 := Scalar.subi v6393 v6395
  let v6397 : BitVec 1 := Scalar.cmpi .ne v6391 v6396
  let v6398 : BitVec 32 := Scalar.remsi v6385 c128_i32_3662
  let c0_i32_3667 : BitVec 32 := 0#32
  let v6399 : BitVec 1 := Scalar.cmpi .ne v6398 c0_i32_3667
  let v6400 : BitVec 1 := Scalar.andi v6397 v6399
  let v6386 : BitVec 32 := Scalar.divsi v6385 c128_i32_3662
  let c1_i32_3668 : BitVec 32 := 1#32
  let v6401 : BitVec 32 := Scalar.subi v6386 c1_i32_3668
  let v6402 : BitVec 32 := Scalar.select v6400 v6401 v6386
  let c128_i32_3669 : BitVec 32 := 128#32
  let v6403 : BitVec 32 := Scalar.muli v6402 c128_i32_3669
  let v6404 : BitVec 32 := Scalar.maxsi c0_i32_3670 v6403
  let v6405 : BitVec 32 := Scalar.minsi c99872_i32_3671 v6404
  let v6406 : BitVec 32 := v6405
  ![116, v6406.toNat]

def k1_chk245 (v6385 : BitVec 32) : Prop :=
  (32 ∣ (k1_mult245 v6385).toNat) ∧
  (∀ a, (k1_off245 v6385) a + S1x128.size a ≤ S128x100000.size a)
theorem k1_mult245_dvd : ∀ (v6385 : BitVec 32) (k1_hw245 : k1_chk245 v6385), 32 ∣ (k1_mult245 v6385).toNat := fun v6385 k1_hw245 => k1_hw245.1
theorem k1_off245_inb : ∀ (v6385 : BitVec 32) (k1_hw245 : k1_chk245 v6385), ∀ a, (k1_off245 v6385) a + S1x128.size a ≤ S128x100000.size a := fun v6385 k1_hw245 => k1_hw245.2

def k1_mult246 (v6411 : BitVec 32) : BitVec 32 :=
  let c99872_i32_3687 : BitVec 32 := 99872#32
  let c0_i32_3686 : BitVec 32 := 0#32
  let c0_i32_3679 : BitVec 32 := 0#32
  let v6413 : BitVec 1 := Scalar.cmpi .sgt v6411 c0_i32_3679
  let v6414 : BitVec 32 := Scalar.extui v6413
  let c0_i32_3680 : BitVec 32 := 0#32
  let v6415 : BitVec 1 := Scalar.cmpi .slt v6411 c0_i32_3680
  let v6416 : BitVec 32 := Scalar.extui v6415
  let v6417 : BitVec 32 := Scalar.subi v6414 v6416
  let c128_i32_3678 : BitVec 32 := 128#32
  let c0_i32_3681 : BitVec 32 := 0#32
  let v6418 : BitVec 1 := Scalar.cmpi .sgt c128_i32_3678 c0_i32_3681
  let v6419 : BitVec 32 := Scalar.extui v6418
  let c0_i32_3682 : BitVec 32 := 0#32
  let v6420 : BitVec 1 := Scalar.cmpi .slt c128_i32_3678 c0_i32_3682
  let v6421 : BitVec 32 := Scalar.extui v6420
  let v6422 : BitVec 32 := Scalar.subi v6419 v6421
  let v6423 : BitVec 1 := Scalar.cmpi .ne v6417 v6422
  let v6424 : BitVec 32 := Scalar.remsi v6411 c128_i32_3678
  let c0_i32_3683 : BitVec 32 := 0#32
  let v6425 : BitVec 1 := Scalar.cmpi .ne v6424 c0_i32_3683
  let v6426 : BitVec 1 := Scalar.andi v6423 v6425
  let v6412 : BitVec 32 := Scalar.divsi v6411 c128_i32_3678
  let c1_i32_3684 : BitVec 32 := 1#32
  let v6427 : BitVec 32 := Scalar.subi v6412 c1_i32_3684
  let v6428 : BitVec 32 := Scalar.select v6426 v6427 v6412
  let c128_i32_3685 : BitVec 32 := 128#32
  let v6429 : BitVec 32 := Scalar.muli v6428 c128_i32_3685
  let v6430 : BitVec 32 := Scalar.maxsi c0_i32_3686 v6429
  let v6431 : BitVec 32 := Scalar.minsi c99872_i32_3687 v6430
  v6431

def k1_off246 (v6411 : BitVec 32) : Fin 2 → Nat :=
  let c117_i32_3689 : BitVec 32 := 117#32
  let c99872_i32_3687 : BitVec 32 := 99872#32
  let c0_i32_3686 : BitVec 32 := 0#32
  let c0_i32_3679 : BitVec 32 := 0#32
  let v6413 : BitVec 1 := Scalar.cmpi .sgt v6411 c0_i32_3679
  let v6414 : BitVec 32 := Scalar.extui v6413
  let c0_i32_3680 : BitVec 32 := 0#32
  let v6415 : BitVec 1 := Scalar.cmpi .slt v6411 c0_i32_3680
  let v6416 : BitVec 32 := Scalar.extui v6415
  let v6417 : BitVec 32 := Scalar.subi v6414 v6416
  let c128_i32_3678 : BitVec 32 := 128#32
  let c0_i32_3681 : BitVec 32 := 0#32
  let v6418 : BitVec 1 := Scalar.cmpi .sgt c128_i32_3678 c0_i32_3681
  let v6419 : BitVec 32 := Scalar.extui v6418
  let c0_i32_3682 : BitVec 32 := 0#32
  let v6420 : BitVec 1 := Scalar.cmpi .slt c128_i32_3678 c0_i32_3682
  let v6421 : BitVec 32 := Scalar.extui v6420
  let v6422 : BitVec 32 := Scalar.subi v6419 v6421
  let v6423 : BitVec 1 := Scalar.cmpi .ne v6417 v6422
  let v6424 : BitVec 32 := Scalar.remsi v6411 c128_i32_3678
  let c0_i32_3683 : BitVec 32 := 0#32
  let v6425 : BitVec 1 := Scalar.cmpi .ne v6424 c0_i32_3683
  let v6426 : BitVec 1 := Scalar.andi v6423 v6425
  let v6412 : BitVec 32 := Scalar.divsi v6411 c128_i32_3678
  let c1_i32_3684 : BitVec 32 := 1#32
  let v6427 : BitVec 32 := Scalar.subi v6412 c1_i32_3684
  let v6428 : BitVec 32 := Scalar.select v6426 v6427 v6412
  let c128_i32_3685 : BitVec 32 := 128#32
  let v6429 : BitVec 32 := Scalar.muli v6428 c128_i32_3685
  let v6430 : BitVec 32 := Scalar.maxsi c0_i32_3686 v6429
  let v6431 : BitVec 32 := Scalar.minsi c99872_i32_3687 v6430
  let v6432 : BitVec 32 := v6431
  ![117, v6432.toNat]

def k1_chk246 (v6411 : BitVec 32) : Prop :=
  (32 ∣ (k1_mult246 v6411).toNat) ∧
  (∀ a, (k1_off246 v6411) a + S1x128.size a ≤ S128x100000.size a)
theorem k1_mult246_dvd : ∀ (v6411 : BitVec 32) (k1_hw246 : k1_chk246 v6411), 32 ∣ (k1_mult246 v6411).toNat := fun v6411 k1_hw246 => k1_hw246.1
theorem k1_off246_inb : ∀ (v6411 : BitVec 32) (k1_hw246 : k1_chk246 v6411), ∀ a, (k1_off246 v6411) a + S1x128.size a ≤ S128x100000.size a := fun v6411 k1_hw246 => k1_hw246.2

def k1_mult247 (v6437 : BitVec 32) : BitVec 32 :=
  let c99872_i32_3703 : BitVec 32 := 99872#32
  let c0_i32_3702 : BitVec 32 := 0#32
  let c0_i32_3695 : BitVec 32 := 0#32
  let v6439 : BitVec 1 := Scalar.cmpi .sgt v6437 c0_i32_3695
  let v6440 : BitVec 32 := Scalar.extui v6439
  let c0_i32_3696 : BitVec 32 := 0#32
  let v6441 : BitVec 1 := Scalar.cmpi .slt v6437 c0_i32_3696
  let v6442 : BitVec 32 := Scalar.extui v6441
  let v6443 : BitVec 32 := Scalar.subi v6440 v6442
  let c128_i32_3694 : BitVec 32 := 128#32
  let c0_i32_3697 : BitVec 32 := 0#32
  let v6444 : BitVec 1 := Scalar.cmpi .sgt c128_i32_3694 c0_i32_3697
  let v6445 : BitVec 32 := Scalar.extui v6444
  let c0_i32_3698 : BitVec 32 := 0#32
  let v6446 : BitVec 1 := Scalar.cmpi .slt c128_i32_3694 c0_i32_3698
  let v6447 : BitVec 32 := Scalar.extui v6446
  let v6448 : BitVec 32 := Scalar.subi v6445 v6447
  let v6449 : BitVec 1 := Scalar.cmpi .ne v6443 v6448
  let v6450 : BitVec 32 := Scalar.remsi v6437 c128_i32_3694
  let c0_i32_3699 : BitVec 32 := 0#32
  let v6451 : BitVec 1 := Scalar.cmpi .ne v6450 c0_i32_3699
  let v6452 : BitVec 1 := Scalar.andi v6449 v6451
  let v6438 : BitVec 32 := Scalar.divsi v6437 c128_i32_3694
  let c1_i32_3700 : BitVec 32 := 1#32
  let v6453 : BitVec 32 := Scalar.subi v6438 c1_i32_3700
  let v6454 : BitVec 32 := Scalar.select v6452 v6453 v6438
  let c128_i32_3701 : BitVec 32 := 128#32
  let v6455 : BitVec 32 := Scalar.muli v6454 c128_i32_3701
  let v6456 : BitVec 32 := Scalar.maxsi c0_i32_3702 v6455
  let v6457 : BitVec 32 := Scalar.minsi c99872_i32_3703 v6456
  v6457

def k1_off247 (v6437 : BitVec 32) : Fin 2 → Nat :=
  let c118_i32_3705 : BitVec 32 := 118#32
  let c99872_i32_3703 : BitVec 32 := 99872#32
  let c0_i32_3702 : BitVec 32 := 0#32
  let c0_i32_3695 : BitVec 32 := 0#32
  let v6439 : BitVec 1 := Scalar.cmpi .sgt v6437 c0_i32_3695
  let v6440 : BitVec 32 := Scalar.extui v6439
  let c0_i32_3696 : BitVec 32 := 0#32
  let v6441 : BitVec 1 := Scalar.cmpi .slt v6437 c0_i32_3696
  let v6442 : BitVec 32 := Scalar.extui v6441
  let v6443 : BitVec 32 := Scalar.subi v6440 v6442
  let c128_i32_3694 : BitVec 32 := 128#32
  let c0_i32_3697 : BitVec 32 := 0#32
  let v6444 : BitVec 1 := Scalar.cmpi .sgt c128_i32_3694 c0_i32_3697
  let v6445 : BitVec 32 := Scalar.extui v6444
  let c0_i32_3698 : BitVec 32 := 0#32
  let v6446 : BitVec 1 := Scalar.cmpi .slt c128_i32_3694 c0_i32_3698
  let v6447 : BitVec 32 := Scalar.extui v6446
  let v6448 : BitVec 32 := Scalar.subi v6445 v6447
  let v6449 : BitVec 1 := Scalar.cmpi .ne v6443 v6448
  let v6450 : BitVec 32 := Scalar.remsi v6437 c128_i32_3694
  let c0_i32_3699 : BitVec 32 := 0#32
  let v6451 : BitVec 1 := Scalar.cmpi .ne v6450 c0_i32_3699
  let v6452 : BitVec 1 := Scalar.andi v6449 v6451
  let v6438 : BitVec 32 := Scalar.divsi v6437 c128_i32_3694
  let c1_i32_3700 : BitVec 32 := 1#32
  let v6453 : BitVec 32 := Scalar.subi v6438 c1_i32_3700
  let v6454 : BitVec 32 := Scalar.select v6452 v6453 v6438
  let c128_i32_3701 : BitVec 32 := 128#32
  let v6455 : BitVec 32 := Scalar.muli v6454 c128_i32_3701
  let v6456 : BitVec 32 := Scalar.maxsi c0_i32_3702 v6455
  let v6457 : BitVec 32 := Scalar.minsi c99872_i32_3703 v6456
  let v6458 : BitVec 32 := v6457
  ![118, v6458.toNat]

def k1_chk247 (v6437 : BitVec 32) : Prop :=
  (32 ∣ (k1_mult247 v6437).toNat) ∧
  (∀ a, (k1_off247 v6437) a + S1x128.size a ≤ S128x100000.size a)
theorem k1_mult247_dvd : ∀ (v6437 : BitVec 32) (k1_hw247 : k1_chk247 v6437), 32 ∣ (k1_mult247 v6437).toNat := fun v6437 k1_hw247 => k1_hw247.1
theorem k1_off247_inb : ∀ (v6437 : BitVec 32) (k1_hw247 : k1_chk247 v6437), ∀ a, (k1_off247 v6437) a + S1x128.size a ≤ S128x100000.size a := fun v6437 k1_hw247 => k1_hw247.2

def k1_mult248 (v6463 : BitVec 32) : BitVec 32 :=
  let c99872_i32_3719 : BitVec 32 := 99872#32
  let c0_i32_3718 : BitVec 32 := 0#32
  let c0_i32_3711 : BitVec 32 := 0#32
  let v6465 : BitVec 1 := Scalar.cmpi .sgt v6463 c0_i32_3711
  let v6466 : BitVec 32 := Scalar.extui v6465
  let c0_i32_3712 : BitVec 32 := 0#32
  let v6467 : BitVec 1 := Scalar.cmpi .slt v6463 c0_i32_3712
  let v6468 : BitVec 32 := Scalar.extui v6467
  let v6469 : BitVec 32 := Scalar.subi v6466 v6468
  let c128_i32_3710 : BitVec 32 := 128#32
  let c0_i32_3713 : BitVec 32 := 0#32
  let v6470 : BitVec 1 := Scalar.cmpi .sgt c128_i32_3710 c0_i32_3713
  let v6471 : BitVec 32 := Scalar.extui v6470
  let c0_i32_3714 : BitVec 32 := 0#32
  let v6472 : BitVec 1 := Scalar.cmpi .slt c128_i32_3710 c0_i32_3714
  let v6473 : BitVec 32 := Scalar.extui v6472
  let v6474 : BitVec 32 := Scalar.subi v6471 v6473
  let v6475 : BitVec 1 := Scalar.cmpi .ne v6469 v6474
  let v6476 : BitVec 32 := Scalar.remsi v6463 c128_i32_3710
  let c0_i32_3715 : BitVec 32 := 0#32
  let v6477 : BitVec 1 := Scalar.cmpi .ne v6476 c0_i32_3715
  let v6478 : BitVec 1 := Scalar.andi v6475 v6477
  let v6464 : BitVec 32 := Scalar.divsi v6463 c128_i32_3710
  let c1_i32_3716 : BitVec 32 := 1#32
  let v6479 : BitVec 32 := Scalar.subi v6464 c1_i32_3716
  let v6480 : BitVec 32 := Scalar.select v6478 v6479 v6464
  let c128_i32_3717 : BitVec 32 := 128#32
  let v6481 : BitVec 32 := Scalar.muli v6480 c128_i32_3717
  let v6482 : BitVec 32 := Scalar.maxsi c0_i32_3718 v6481
  let v6483 : BitVec 32 := Scalar.minsi c99872_i32_3719 v6482
  v6483

def k1_off248 (v6463 : BitVec 32) : Fin 2 → Nat :=
  let c119_i32_3721 : BitVec 32 := 119#32
  let c99872_i32_3719 : BitVec 32 := 99872#32
  let c0_i32_3718 : BitVec 32 := 0#32
  let c0_i32_3711 : BitVec 32 := 0#32
  let v6465 : BitVec 1 := Scalar.cmpi .sgt v6463 c0_i32_3711
  let v6466 : BitVec 32 := Scalar.extui v6465
  let c0_i32_3712 : BitVec 32 := 0#32
  let v6467 : BitVec 1 := Scalar.cmpi .slt v6463 c0_i32_3712
  let v6468 : BitVec 32 := Scalar.extui v6467
  let v6469 : BitVec 32 := Scalar.subi v6466 v6468
  let c128_i32_3710 : BitVec 32 := 128#32
  let c0_i32_3713 : BitVec 32 := 0#32
  let v6470 : BitVec 1 := Scalar.cmpi .sgt c128_i32_3710 c0_i32_3713
  let v6471 : BitVec 32 := Scalar.extui v6470
  let c0_i32_3714 : BitVec 32 := 0#32
  let v6472 : BitVec 1 := Scalar.cmpi .slt c128_i32_3710 c0_i32_3714
  let v6473 : BitVec 32 := Scalar.extui v6472
  let v6474 : BitVec 32 := Scalar.subi v6471 v6473
  let v6475 : BitVec 1 := Scalar.cmpi .ne v6469 v6474
  let v6476 : BitVec 32 := Scalar.remsi v6463 c128_i32_3710
  let c0_i32_3715 : BitVec 32 := 0#32
  let v6477 : BitVec 1 := Scalar.cmpi .ne v6476 c0_i32_3715
  let v6478 : BitVec 1 := Scalar.andi v6475 v6477
  let v6464 : BitVec 32 := Scalar.divsi v6463 c128_i32_3710
  let c1_i32_3716 : BitVec 32 := 1#32
  let v6479 : BitVec 32 := Scalar.subi v6464 c1_i32_3716
  let v6480 : BitVec 32 := Scalar.select v6478 v6479 v6464
  let c128_i32_3717 : BitVec 32 := 128#32
  let v6481 : BitVec 32 := Scalar.muli v6480 c128_i32_3717
  let v6482 : BitVec 32 := Scalar.maxsi c0_i32_3718 v6481
  let v6483 : BitVec 32 := Scalar.minsi c99872_i32_3719 v6482
  let v6484 : BitVec 32 := v6483
  ![119, v6484.toNat]

def k1_chk248 (v6463 : BitVec 32) : Prop :=
  (32 ∣ (k1_mult248 v6463).toNat) ∧
  (∀ a, (k1_off248 v6463) a + S1x128.size a ≤ S128x100000.size a)
theorem k1_mult248_dvd : ∀ (v6463 : BitVec 32) (k1_hw248 : k1_chk248 v6463), 32 ∣ (k1_mult248 v6463).toNat := fun v6463 k1_hw248 => k1_hw248.1
theorem k1_off248_inb : ∀ (v6463 : BitVec 32) (k1_hw248 : k1_chk248 v6463), ∀ a, (k1_off248 v6463) a + S1x128.size a ≤ S128x100000.size a := fun v6463 k1_hw248 => k1_hw248.2

def k1_mult249 (v6489 : BitVec 32) : BitVec 32 :=
  let c99872_i32_3735 : BitVec 32 := 99872#32
  let c0_i32_3734 : BitVec 32 := 0#32
  let c0_i32_3727 : BitVec 32 := 0#32
  let v6491 : BitVec 1 := Scalar.cmpi .sgt v6489 c0_i32_3727
  let v6492 : BitVec 32 := Scalar.extui v6491
  let c0_i32_3728 : BitVec 32 := 0#32
  let v6493 : BitVec 1 := Scalar.cmpi .slt v6489 c0_i32_3728
  let v6494 : BitVec 32 := Scalar.extui v6493
  let v6495 : BitVec 32 := Scalar.subi v6492 v6494
  let c128_i32_3726 : BitVec 32 := 128#32
  let c0_i32_3729 : BitVec 32 := 0#32
  let v6496 : BitVec 1 := Scalar.cmpi .sgt c128_i32_3726 c0_i32_3729
  let v6497 : BitVec 32 := Scalar.extui v6496
  let c0_i32_3730 : BitVec 32 := 0#32
  let v6498 : BitVec 1 := Scalar.cmpi .slt c128_i32_3726 c0_i32_3730
  let v6499 : BitVec 32 := Scalar.extui v6498
  let v6500 : BitVec 32 := Scalar.subi v6497 v6499
  let v6501 : BitVec 1 := Scalar.cmpi .ne v6495 v6500
  let v6502 : BitVec 32 := Scalar.remsi v6489 c128_i32_3726
  let c0_i32_3731 : BitVec 32 := 0#32
  let v6503 : BitVec 1 := Scalar.cmpi .ne v6502 c0_i32_3731
  let v6504 : BitVec 1 := Scalar.andi v6501 v6503
  let v6490 : BitVec 32 := Scalar.divsi v6489 c128_i32_3726
  let c1_i32_3732 : BitVec 32 := 1#32
  let v6505 : BitVec 32 := Scalar.subi v6490 c1_i32_3732
  let v6506 : BitVec 32 := Scalar.select v6504 v6505 v6490
  let c128_i32_3733 : BitVec 32 := 128#32
  let v6507 : BitVec 32 := Scalar.muli v6506 c128_i32_3733
  let v6508 : BitVec 32 := Scalar.maxsi c0_i32_3734 v6507
  let v6509 : BitVec 32 := Scalar.minsi c99872_i32_3735 v6508
  v6509

def k1_off249 (v6489 : BitVec 32) : Fin 2 → Nat :=
  let c120_i32_3737 : BitVec 32 := 120#32
  let c99872_i32_3735 : BitVec 32 := 99872#32
  let c0_i32_3734 : BitVec 32 := 0#32
  let c0_i32_3727 : BitVec 32 := 0#32
  let v6491 : BitVec 1 := Scalar.cmpi .sgt v6489 c0_i32_3727
  let v6492 : BitVec 32 := Scalar.extui v6491
  let c0_i32_3728 : BitVec 32 := 0#32
  let v6493 : BitVec 1 := Scalar.cmpi .slt v6489 c0_i32_3728
  let v6494 : BitVec 32 := Scalar.extui v6493
  let v6495 : BitVec 32 := Scalar.subi v6492 v6494
  let c128_i32_3726 : BitVec 32 := 128#32
  let c0_i32_3729 : BitVec 32 := 0#32
  let v6496 : BitVec 1 := Scalar.cmpi .sgt c128_i32_3726 c0_i32_3729
  let v6497 : BitVec 32 := Scalar.extui v6496
  let c0_i32_3730 : BitVec 32 := 0#32
  let v6498 : BitVec 1 := Scalar.cmpi .slt c128_i32_3726 c0_i32_3730
  let v6499 : BitVec 32 := Scalar.extui v6498
  let v6500 : BitVec 32 := Scalar.subi v6497 v6499
  let v6501 : BitVec 1 := Scalar.cmpi .ne v6495 v6500
  let v6502 : BitVec 32 := Scalar.remsi v6489 c128_i32_3726
  let c0_i32_3731 : BitVec 32 := 0#32
  let v6503 : BitVec 1 := Scalar.cmpi .ne v6502 c0_i32_3731
  let v6504 : BitVec 1 := Scalar.andi v6501 v6503
  let v6490 : BitVec 32 := Scalar.divsi v6489 c128_i32_3726
  let c1_i32_3732 : BitVec 32 := 1#32
  let v6505 : BitVec 32 := Scalar.subi v6490 c1_i32_3732
  let v6506 : BitVec 32 := Scalar.select v6504 v6505 v6490
  let c128_i32_3733 : BitVec 32 := 128#32
  let v6507 : BitVec 32 := Scalar.muli v6506 c128_i32_3733
  let v6508 : BitVec 32 := Scalar.maxsi c0_i32_3734 v6507
  let v6509 : BitVec 32 := Scalar.minsi c99872_i32_3735 v6508
  let v6510 : BitVec 32 := v6509
  ![120, v6510.toNat]

def k1_chk249 (v6489 : BitVec 32) : Prop :=
  (32 ∣ (k1_mult249 v6489).toNat) ∧
  (∀ a, (k1_off249 v6489) a + S1x128.size a ≤ S128x100000.size a)
theorem k1_mult249_dvd : ∀ (v6489 : BitVec 32) (k1_hw249 : k1_chk249 v6489), 32 ∣ (k1_mult249 v6489).toNat := fun v6489 k1_hw249 => k1_hw249.1
theorem k1_off249_inb : ∀ (v6489 : BitVec 32) (k1_hw249 : k1_chk249 v6489), ∀ a, (k1_off249 v6489) a + S1x128.size a ≤ S128x100000.size a := fun v6489 k1_hw249 => k1_hw249.2

def k1_mult250 (v6515 : BitVec 32) : BitVec 32 :=
  let c99872_i32_3751 : BitVec 32 := 99872#32
  let c0_i32_3750 : BitVec 32 := 0#32
  let c0_i32_3743 : BitVec 32 := 0#32
  let v6517 : BitVec 1 := Scalar.cmpi .sgt v6515 c0_i32_3743
  let v6518 : BitVec 32 := Scalar.extui v6517
  let c0_i32_3744 : BitVec 32 := 0#32
  let v6519 : BitVec 1 := Scalar.cmpi .slt v6515 c0_i32_3744
  let v6520 : BitVec 32 := Scalar.extui v6519
  let v6521 : BitVec 32 := Scalar.subi v6518 v6520
  let c128_i32_3742 : BitVec 32 := 128#32
  let c0_i32_3745 : BitVec 32 := 0#32
  let v6522 : BitVec 1 := Scalar.cmpi .sgt c128_i32_3742 c0_i32_3745
  let v6523 : BitVec 32 := Scalar.extui v6522
  let c0_i32_3746 : BitVec 32 := 0#32
  let v6524 : BitVec 1 := Scalar.cmpi .slt c128_i32_3742 c0_i32_3746
  let v6525 : BitVec 32 := Scalar.extui v6524
  let v6526 : BitVec 32 := Scalar.subi v6523 v6525
  let v6527 : BitVec 1 := Scalar.cmpi .ne v6521 v6526
  let v6528 : BitVec 32 := Scalar.remsi v6515 c128_i32_3742
  let c0_i32_3747 : BitVec 32 := 0#32
  let v6529 : BitVec 1 := Scalar.cmpi .ne v6528 c0_i32_3747
  let v6530 : BitVec 1 := Scalar.andi v6527 v6529
  let v6516 : BitVec 32 := Scalar.divsi v6515 c128_i32_3742
  let c1_i32_3748 : BitVec 32 := 1#32
  let v6531 : BitVec 32 := Scalar.subi v6516 c1_i32_3748
  let v6532 : BitVec 32 := Scalar.select v6530 v6531 v6516
  let c128_i32_3749 : BitVec 32 := 128#32
  let v6533 : BitVec 32 := Scalar.muli v6532 c128_i32_3749
  let v6534 : BitVec 32 := Scalar.maxsi c0_i32_3750 v6533
  let v6535 : BitVec 32 := Scalar.minsi c99872_i32_3751 v6534
  v6535

def k1_off250 (v6515 : BitVec 32) : Fin 2 → Nat :=
  let c121_i32_3753 : BitVec 32 := 121#32
  let c99872_i32_3751 : BitVec 32 := 99872#32
  let c0_i32_3750 : BitVec 32 := 0#32
  let c0_i32_3743 : BitVec 32 := 0#32
  let v6517 : BitVec 1 := Scalar.cmpi .sgt v6515 c0_i32_3743
  let v6518 : BitVec 32 := Scalar.extui v6517
  let c0_i32_3744 : BitVec 32 := 0#32
  let v6519 : BitVec 1 := Scalar.cmpi .slt v6515 c0_i32_3744
  let v6520 : BitVec 32 := Scalar.extui v6519
  let v6521 : BitVec 32 := Scalar.subi v6518 v6520
  let c128_i32_3742 : BitVec 32 := 128#32
  let c0_i32_3745 : BitVec 32 := 0#32
  let v6522 : BitVec 1 := Scalar.cmpi .sgt c128_i32_3742 c0_i32_3745
  let v6523 : BitVec 32 := Scalar.extui v6522
  let c0_i32_3746 : BitVec 32 := 0#32
  let v6524 : BitVec 1 := Scalar.cmpi .slt c128_i32_3742 c0_i32_3746
  let v6525 : BitVec 32 := Scalar.extui v6524
  let v6526 : BitVec 32 := Scalar.subi v6523 v6525
  let v6527 : BitVec 1 := Scalar.cmpi .ne v6521 v6526
  let v6528 : BitVec 32 := Scalar.remsi v6515 c128_i32_3742
  let c0_i32_3747 : BitVec 32 := 0#32
  let v6529 : BitVec 1 := Scalar.cmpi .ne v6528 c0_i32_3747
  let v6530 : BitVec 1 := Scalar.andi v6527 v6529
  let v6516 : BitVec 32 := Scalar.divsi v6515 c128_i32_3742
  let c1_i32_3748 : BitVec 32 := 1#32
  let v6531 : BitVec 32 := Scalar.subi v6516 c1_i32_3748
  let v6532 : BitVec 32 := Scalar.select v6530 v6531 v6516
  let c128_i32_3749 : BitVec 32 := 128#32
  let v6533 : BitVec 32 := Scalar.muli v6532 c128_i32_3749
  let v6534 : BitVec 32 := Scalar.maxsi c0_i32_3750 v6533
  let v6535 : BitVec 32 := Scalar.minsi c99872_i32_3751 v6534
  let v6536 : BitVec 32 := v6535
  ![121, v6536.toNat]

def k1_chk250 (v6515 : BitVec 32) : Prop :=
  (32 ∣ (k1_mult250 v6515).toNat) ∧
  (∀ a, (k1_off250 v6515) a + S1x128.size a ≤ S128x100000.size a)
theorem k1_mult250_dvd : ∀ (v6515 : BitVec 32) (k1_hw250 : k1_chk250 v6515), 32 ∣ (k1_mult250 v6515).toNat := fun v6515 k1_hw250 => k1_hw250.1
theorem k1_off250_inb : ∀ (v6515 : BitVec 32) (k1_hw250 : k1_chk250 v6515), ∀ a, (k1_off250 v6515) a + S1x128.size a ≤ S128x100000.size a := fun v6515 k1_hw250 => k1_hw250.2

def k1_mult251 (v6541 : BitVec 32) : BitVec 32 :=
  let c99872_i32_3767 : BitVec 32 := 99872#32
  let c0_i32_3766 : BitVec 32 := 0#32
  let c0_i32_3759 : BitVec 32 := 0#32
  let v6543 : BitVec 1 := Scalar.cmpi .sgt v6541 c0_i32_3759
  let v6544 : BitVec 32 := Scalar.extui v6543
  let c0_i32_3760 : BitVec 32 := 0#32
  let v6545 : BitVec 1 := Scalar.cmpi .slt v6541 c0_i32_3760
  let v6546 : BitVec 32 := Scalar.extui v6545
  let v6547 : BitVec 32 := Scalar.subi v6544 v6546
  let c128_i32_3758 : BitVec 32 := 128#32
  let c0_i32_3761 : BitVec 32 := 0#32
  let v6548 : BitVec 1 := Scalar.cmpi .sgt c128_i32_3758 c0_i32_3761
  let v6549 : BitVec 32 := Scalar.extui v6548
  let c0_i32_3762 : BitVec 32 := 0#32
  let v6550 : BitVec 1 := Scalar.cmpi .slt c128_i32_3758 c0_i32_3762
  let v6551 : BitVec 32 := Scalar.extui v6550
  let v6552 : BitVec 32 := Scalar.subi v6549 v6551
  let v6553 : BitVec 1 := Scalar.cmpi .ne v6547 v6552
  let v6554 : BitVec 32 := Scalar.remsi v6541 c128_i32_3758
  let c0_i32_3763 : BitVec 32 := 0#32
  let v6555 : BitVec 1 := Scalar.cmpi .ne v6554 c0_i32_3763
  let v6556 : BitVec 1 := Scalar.andi v6553 v6555
  let v6542 : BitVec 32 := Scalar.divsi v6541 c128_i32_3758
  let c1_i32_3764 : BitVec 32 := 1#32
  let v6557 : BitVec 32 := Scalar.subi v6542 c1_i32_3764
  let v6558 : BitVec 32 := Scalar.select v6556 v6557 v6542
  let c128_i32_3765 : BitVec 32 := 128#32
  let v6559 : BitVec 32 := Scalar.muli v6558 c128_i32_3765
  let v6560 : BitVec 32 := Scalar.maxsi c0_i32_3766 v6559
  let v6561 : BitVec 32 := Scalar.minsi c99872_i32_3767 v6560
  v6561

def k1_off251 (v6541 : BitVec 32) : Fin 2 → Nat :=
  let c122_i32_3769 : BitVec 32 := 122#32
  let c99872_i32_3767 : BitVec 32 := 99872#32
  let c0_i32_3766 : BitVec 32 := 0#32
  let c0_i32_3759 : BitVec 32 := 0#32
  let v6543 : BitVec 1 := Scalar.cmpi .sgt v6541 c0_i32_3759
  let v6544 : BitVec 32 := Scalar.extui v6543
  let c0_i32_3760 : BitVec 32 := 0#32
  let v6545 : BitVec 1 := Scalar.cmpi .slt v6541 c0_i32_3760
  let v6546 : BitVec 32 := Scalar.extui v6545
  let v6547 : BitVec 32 := Scalar.subi v6544 v6546
  let c128_i32_3758 : BitVec 32 := 128#32
  let c0_i32_3761 : BitVec 32 := 0#32
  let v6548 : BitVec 1 := Scalar.cmpi .sgt c128_i32_3758 c0_i32_3761
  let v6549 : BitVec 32 := Scalar.extui v6548
  let c0_i32_3762 : BitVec 32 := 0#32
  let v6550 : BitVec 1 := Scalar.cmpi .slt c128_i32_3758 c0_i32_3762
  let v6551 : BitVec 32 := Scalar.extui v6550
  let v6552 : BitVec 32 := Scalar.subi v6549 v6551
  let v6553 : BitVec 1 := Scalar.cmpi .ne v6547 v6552
  let v6554 : BitVec 32 := Scalar.remsi v6541 c128_i32_3758
  let c0_i32_3763 : BitVec 32 := 0#32
  let v6555 : BitVec 1 := Scalar.cmpi .ne v6554 c0_i32_3763
  let v6556 : BitVec 1 := Scalar.andi v6553 v6555
  let v6542 : BitVec 32 := Scalar.divsi v6541 c128_i32_3758
  let c1_i32_3764 : BitVec 32 := 1#32
  let v6557 : BitVec 32 := Scalar.subi v6542 c1_i32_3764
  let v6558 : BitVec 32 := Scalar.select v6556 v6557 v6542
  let c128_i32_3765 : BitVec 32 := 128#32
  let v6559 : BitVec 32 := Scalar.muli v6558 c128_i32_3765
  let v6560 : BitVec 32 := Scalar.maxsi c0_i32_3766 v6559
  let v6561 : BitVec 32 := Scalar.minsi c99872_i32_3767 v6560
  let v6562 : BitVec 32 := v6561
  ![122, v6562.toNat]

def k1_chk251 (v6541 : BitVec 32) : Prop :=
  (32 ∣ (k1_mult251 v6541).toNat) ∧
  (∀ a, (k1_off251 v6541) a + S1x128.size a ≤ S128x100000.size a)
theorem k1_mult251_dvd : ∀ (v6541 : BitVec 32) (k1_hw251 : k1_chk251 v6541), 32 ∣ (k1_mult251 v6541).toNat := fun v6541 k1_hw251 => k1_hw251.1
theorem k1_off251_inb : ∀ (v6541 : BitVec 32) (k1_hw251 : k1_chk251 v6541), ∀ a, (k1_off251 v6541) a + S1x128.size a ≤ S128x100000.size a := fun v6541 k1_hw251 => k1_hw251.2

def k1_mult252 (v6567 : BitVec 32) : BitVec 32 :=
  let c99872_i32_3783 : BitVec 32 := 99872#32
  let c0_i32_3782 : BitVec 32 := 0#32
  let c0_i32_3775 : BitVec 32 := 0#32
  let v6569 : BitVec 1 := Scalar.cmpi .sgt v6567 c0_i32_3775
  let v6570 : BitVec 32 := Scalar.extui v6569
  let c0_i32_3776 : BitVec 32 := 0#32
  let v6571 : BitVec 1 := Scalar.cmpi .slt v6567 c0_i32_3776
  let v6572 : BitVec 32 := Scalar.extui v6571
  let v6573 : BitVec 32 := Scalar.subi v6570 v6572
  let c128_i32_3774 : BitVec 32 := 128#32
  let c0_i32_3777 : BitVec 32 := 0#32
  let v6574 : BitVec 1 := Scalar.cmpi .sgt c128_i32_3774 c0_i32_3777
  let v6575 : BitVec 32 := Scalar.extui v6574
  let c0_i32_3778 : BitVec 32 := 0#32
  let v6576 : BitVec 1 := Scalar.cmpi .slt c128_i32_3774 c0_i32_3778
  let v6577 : BitVec 32 := Scalar.extui v6576
  let v6578 : BitVec 32 := Scalar.subi v6575 v6577
  let v6579 : BitVec 1 := Scalar.cmpi .ne v6573 v6578
  let v6580 : BitVec 32 := Scalar.remsi v6567 c128_i32_3774
  let c0_i32_3779 : BitVec 32 := 0#32
  let v6581 : BitVec 1 := Scalar.cmpi .ne v6580 c0_i32_3779
  let v6582 : BitVec 1 := Scalar.andi v6579 v6581
  let v6568 : BitVec 32 := Scalar.divsi v6567 c128_i32_3774
  let c1_i32_3780 : BitVec 32 := 1#32
  let v6583 : BitVec 32 := Scalar.subi v6568 c1_i32_3780
  let v6584 : BitVec 32 := Scalar.select v6582 v6583 v6568
  let c128_i32_3781 : BitVec 32 := 128#32
  let v6585 : BitVec 32 := Scalar.muli v6584 c128_i32_3781
  let v6586 : BitVec 32 := Scalar.maxsi c0_i32_3782 v6585
  let v6587 : BitVec 32 := Scalar.minsi c99872_i32_3783 v6586
  v6587

def k1_off252 (v6567 : BitVec 32) : Fin 2 → Nat :=
  let c123_i32_3785 : BitVec 32 := 123#32
  let c99872_i32_3783 : BitVec 32 := 99872#32
  let c0_i32_3782 : BitVec 32 := 0#32
  let c0_i32_3775 : BitVec 32 := 0#32
  let v6569 : BitVec 1 := Scalar.cmpi .sgt v6567 c0_i32_3775
  let v6570 : BitVec 32 := Scalar.extui v6569
  let c0_i32_3776 : BitVec 32 := 0#32
  let v6571 : BitVec 1 := Scalar.cmpi .slt v6567 c0_i32_3776
  let v6572 : BitVec 32 := Scalar.extui v6571
  let v6573 : BitVec 32 := Scalar.subi v6570 v6572
  let c128_i32_3774 : BitVec 32 := 128#32
  let c0_i32_3777 : BitVec 32 := 0#32
  let v6574 : BitVec 1 := Scalar.cmpi .sgt c128_i32_3774 c0_i32_3777
  let v6575 : BitVec 32 := Scalar.extui v6574
  let c0_i32_3778 : BitVec 32 := 0#32
  let v6576 : BitVec 1 := Scalar.cmpi .slt c128_i32_3774 c0_i32_3778
  let v6577 : BitVec 32 := Scalar.extui v6576
  let v6578 : BitVec 32 := Scalar.subi v6575 v6577
  let v6579 : BitVec 1 := Scalar.cmpi .ne v6573 v6578
  let v6580 : BitVec 32 := Scalar.remsi v6567 c128_i32_3774
  let c0_i32_3779 : BitVec 32 := 0#32
  let v6581 : BitVec 1 := Scalar.cmpi .ne v6580 c0_i32_3779
  let v6582 : BitVec 1 := Scalar.andi v6579 v6581
  let v6568 : BitVec 32 := Scalar.divsi v6567 c128_i32_3774
  let c1_i32_3780 : BitVec 32 := 1#32
  let v6583 : BitVec 32 := Scalar.subi v6568 c1_i32_3780
  let v6584 : BitVec 32 := Scalar.select v6582 v6583 v6568
  let c128_i32_3781 : BitVec 32 := 128#32
  let v6585 : BitVec 32 := Scalar.muli v6584 c128_i32_3781
  let v6586 : BitVec 32 := Scalar.maxsi c0_i32_3782 v6585
  let v6587 : BitVec 32 := Scalar.minsi c99872_i32_3783 v6586
  let v6588 : BitVec 32 := v6587
  ![123, v6588.toNat]

def k1_chk252 (v6567 : BitVec 32) : Prop :=
  (32 ∣ (k1_mult252 v6567).toNat) ∧
  (∀ a, (k1_off252 v6567) a + S1x128.size a ≤ S128x100000.size a)
theorem k1_mult252_dvd : ∀ (v6567 : BitVec 32) (k1_hw252 : k1_chk252 v6567), 32 ∣ (k1_mult252 v6567).toNat := fun v6567 k1_hw252 => k1_hw252.1
theorem k1_off252_inb : ∀ (v6567 : BitVec 32) (k1_hw252 : k1_chk252 v6567), ∀ a, (k1_off252 v6567) a + S1x128.size a ≤ S128x100000.size a := fun v6567 k1_hw252 => k1_hw252.2

def k1_mult253 (v6593 : BitVec 32) : BitVec 32 :=
  let c99872_i32_3799 : BitVec 32 := 99872#32
  let c0_i32_3798 : BitVec 32 := 0#32
  let c0_i32_3791 : BitVec 32 := 0#32
  let v6595 : BitVec 1 := Scalar.cmpi .sgt v6593 c0_i32_3791
  let v6596 : BitVec 32 := Scalar.extui v6595
  let c0_i32_3792 : BitVec 32 := 0#32
  let v6597 : BitVec 1 := Scalar.cmpi .slt v6593 c0_i32_3792
  let v6598 : BitVec 32 := Scalar.extui v6597
  let v6599 : BitVec 32 := Scalar.subi v6596 v6598
  let c128_i32_3790 : BitVec 32 := 128#32
  let c0_i32_3793 : BitVec 32 := 0#32
  let v6600 : BitVec 1 := Scalar.cmpi .sgt c128_i32_3790 c0_i32_3793
  let v6601 : BitVec 32 := Scalar.extui v6600
  let c0_i32_3794 : BitVec 32 := 0#32
  let v6602 : BitVec 1 := Scalar.cmpi .slt c128_i32_3790 c0_i32_3794
  let v6603 : BitVec 32 := Scalar.extui v6602
  let v6604 : BitVec 32 := Scalar.subi v6601 v6603
  let v6605 : BitVec 1 := Scalar.cmpi .ne v6599 v6604
  let v6606 : BitVec 32 := Scalar.remsi v6593 c128_i32_3790
  let c0_i32_3795 : BitVec 32 := 0#32
  let v6607 : BitVec 1 := Scalar.cmpi .ne v6606 c0_i32_3795
  let v6608 : BitVec 1 := Scalar.andi v6605 v6607
  let v6594 : BitVec 32 := Scalar.divsi v6593 c128_i32_3790
  let c1_i32_3796 : BitVec 32 := 1#32
  let v6609 : BitVec 32 := Scalar.subi v6594 c1_i32_3796
  let v6610 : BitVec 32 := Scalar.select v6608 v6609 v6594
  let c128_i32_3797 : BitVec 32 := 128#32
  let v6611 : BitVec 32 := Scalar.muli v6610 c128_i32_3797
  let v6612 : BitVec 32 := Scalar.maxsi c0_i32_3798 v6611
  let v6613 : BitVec 32 := Scalar.minsi c99872_i32_3799 v6612
  v6613

def k1_off253 (v6593 : BitVec 32) : Fin 2 → Nat :=
  let c124_i32_3801 : BitVec 32 := 124#32
  let c99872_i32_3799 : BitVec 32 := 99872#32
  let c0_i32_3798 : BitVec 32 := 0#32
  let c0_i32_3791 : BitVec 32 := 0#32
  let v6595 : BitVec 1 := Scalar.cmpi .sgt v6593 c0_i32_3791
  let v6596 : BitVec 32 := Scalar.extui v6595
  let c0_i32_3792 : BitVec 32 := 0#32
  let v6597 : BitVec 1 := Scalar.cmpi .slt v6593 c0_i32_3792
  let v6598 : BitVec 32 := Scalar.extui v6597
  let v6599 : BitVec 32 := Scalar.subi v6596 v6598
  let c128_i32_3790 : BitVec 32 := 128#32
  let c0_i32_3793 : BitVec 32 := 0#32
  let v6600 : BitVec 1 := Scalar.cmpi .sgt c128_i32_3790 c0_i32_3793
  let v6601 : BitVec 32 := Scalar.extui v6600
  let c0_i32_3794 : BitVec 32 := 0#32
  let v6602 : BitVec 1 := Scalar.cmpi .slt c128_i32_3790 c0_i32_3794
  let v6603 : BitVec 32 := Scalar.extui v6602
  let v6604 : BitVec 32 := Scalar.subi v6601 v6603
  let v6605 : BitVec 1 := Scalar.cmpi .ne v6599 v6604
  let v6606 : BitVec 32 := Scalar.remsi v6593 c128_i32_3790
  let c0_i32_3795 : BitVec 32 := 0#32
  let v6607 : BitVec 1 := Scalar.cmpi .ne v6606 c0_i32_3795
  let v6608 : BitVec 1 := Scalar.andi v6605 v6607
  let v6594 : BitVec 32 := Scalar.divsi v6593 c128_i32_3790
  let c1_i32_3796 : BitVec 32 := 1#32
  let v6609 : BitVec 32 := Scalar.subi v6594 c1_i32_3796
  let v6610 : BitVec 32 := Scalar.select v6608 v6609 v6594
  let c128_i32_3797 : BitVec 32 := 128#32
  let v6611 : BitVec 32 := Scalar.muli v6610 c128_i32_3797
  let v6612 : BitVec 32 := Scalar.maxsi c0_i32_3798 v6611
  let v6613 : BitVec 32 := Scalar.minsi c99872_i32_3799 v6612
  let v6614 : BitVec 32 := v6613
  ![124, v6614.toNat]

def k1_chk253 (v6593 : BitVec 32) : Prop :=
  (32 ∣ (k1_mult253 v6593).toNat) ∧
  (∀ a, (k1_off253 v6593) a + S1x128.size a ≤ S128x100000.size a)
theorem k1_mult253_dvd : ∀ (v6593 : BitVec 32) (k1_hw253 : k1_chk253 v6593), 32 ∣ (k1_mult253 v6593).toNat := fun v6593 k1_hw253 => k1_hw253.1
theorem k1_off253_inb : ∀ (v6593 : BitVec 32) (k1_hw253 : k1_chk253 v6593), ∀ a, (k1_off253 v6593) a + S1x128.size a ≤ S128x100000.size a := fun v6593 k1_hw253 => k1_hw253.2

def k1_mult254 (v6619 : BitVec 32) : BitVec 32 :=
  let c99872_i32_3815 : BitVec 32 := 99872#32
  let c0_i32_3814 : BitVec 32 := 0#32
  let c0_i32_3807 : BitVec 32 := 0#32
  let v6621 : BitVec 1 := Scalar.cmpi .sgt v6619 c0_i32_3807
  let v6622 : BitVec 32 := Scalar.extui v6621
  let c0_i32_3808 : BitVec 32 := 0#32
  let v6623 : BitVec 1 := Scalar.cmpi .slt v6619 c0_i32_3808
  let v6624 : BitVec 32 := Scalar.extui v6623
  let v6625 : BitVec 32 := Scalar.subi v6622 v6624
  let c128_i32_3806 : BitVec 32 := 128#32
  let c0_i32_3809 : BitVec 32 := 0#32
  let v6626 : BitVec 1 := Scalar.cmpi .sgt c128_i32_3806 c0_i32_3809
  let v6627 : BitVec 32 := Scalar.extui v6626
  let c0_i32_3810 : BitVec 32 := 0#32
  let v6628 : BitVec 1 := Scalar.cmpi .slt c128_i32_3806 c0_i32_3810
  let v6629 : BitVec 32 := Scalar.extui v6628
  let v6630 : BitVec 32 := Scalar.subi v6627 v6629
  let v6631 : BitVec 1 := Scalar.cmpi .ne v6625 v6630
  let v6632 : BitVec 32 := Scalar.remsi v6619 c128_i32_3806
  let c0_i32_3811 : BitVec 32 := 0#32
  let v6633 : BitVec 1 := Scalar.cmpi .ne v6632 c0_i32_3811
  let v6634 : BitVec 1 := Scalar.andi v6631 v6633
  let v6620 : BitVec 32 := Scalar.divsi v6619 c128_i32_3806
  let c1_i32_3812 : BitVec 32 := 1#32
  let v6635 : BitVec 32 := Scalar.subi v6620 c1_i32_3812
  let v6636 : BitVec 32 := Scalar.select v6634 v6635 v6620
  let c128_i32_3813 : BitVec 32 := 128#32
  let v6637 : BitVec 32 := Scalar.muli v6636 c128_i32_3813
  let v6638 : BitVec 32 := Scalar.maxsi c0_i32_3814 v6637
  let v6639 : BitVec 32 := Scalar.minsi c99872_i32_3815 v6638
  v6639

def k1_off254 (v6619 : BitVec 32) : Fin 2 → Nat :=
  let c125_i32_3817 : BitVec 32 := 125#32
  let c99872_i32_3815 : BitVec 32 := 99872#32
  let c0_i32_3814 : BitVec 32 := 0#32
  let c0_i32_3807 : BitVec 32 := 0#32
  let v6621 : BitVec 1 := Scalar.cmpi .sgt v6619 c0_i32_3807
  let v6622 : BitVec 32 := Scalar.extui v6621
  let c0_i32_3808 : BitVec 32 := 0#32
  let v6623 : BitVec 1 := Scalar.cmpi .slt v6619 c0_i32_3808
  let v6624 : BitVec 32 := Scalar.extui v6623
  let v6625 : BitVec 32 := Scalar.subi v6622 v6624
  let c128_i32_3806 : BitVec 32 := 128#32
  let c0_i32_3809 : BitVec 32 := 0#32
  let v6626 : BitVec 1 := Scalar.cmpi .sgt c128_i32_3806 c0_i32_3809
  let v6627 : BitVec 32 := Scalar.extui v6626
  let c0_i32_3810 : BitVec 32 := 0#32
  let v6628 : BitVec 1 := Scalar.cmpi .slt c128_i32_3806 c0_i32_3810
  let v6629 : BitVec 32 := Scalar.extui v6628
  let v6630 : BitVec 32 := Scalar.subi v6627 v6629
  let v6631 : BitVec 1 := Scalar.cmpi .ne v6625 v6630
  let v6632 : BitVec 32 := Scalar.remsi v6619 c128_i32_3806
  let c0_i32_3811 : BitVec 32 := 0#32
  let v6633 : BitVec 1 := Scalar.cmpi .ne v6632 c0_i32_3811
  let v6634 : BitVec 1 := Scalar.andi v6631 v6633
  let v6620 : BitVec 32 := Scalar.divsi v6619 c128_i32_3806
  let c1_i32_3812 : BitVec 32 := 1#32
  let v6635 : BitVec 32 := Scalar.subi v6620 c1_i32_3812
  let v6636 : BitVec 32 := Scalar.select v6634 v6635 v6620
  let c128_i32_3813 : BitVec 32 := 128#32
  let v6637 : BitVec 32 := Scalar.muli v6636 c128_i32_3813
  let v6638 : BitVec 32 := Scalar.maxsi c0_i32_3814 v6637
  let v6639 : BitVec 32 := Scalar.minsi c99872_i32_3815 v6638
  let v6640 : BitVec 32 := v6639
  ![125, v6640.toNat]

def k1_chk254 (v6619 : BitVec 32) : Prop :=
  (32 ∣ (k1_mult254 v6619).toNat) ∧
  (∀ a, (k1_off254 v6619) a + S1x128.size a ≤ S128x100000.size a)
theorem k1_mult254_dvd : ∀ (v6619 : BitVec 32) (k1_hw254 : k1_chk254 v6619), 32 ∣ (k1_mult254 v6619).toNat := fun v6619 k1_hw254 => k1_hw254.1
theorem k1_off254_inb : ∀ (v6619 : BitVec 32) (k1_hw254 : k1_chk254 v6619), ∀ a, (k1_off254 v6619) a + S1x128.size a ≤ S128x100000.size a := fun v6619 k1_hw254 => k1_hw254.2

def k1_mult255 (v6645 : BitVec 32) : BitVec 32 :=
  let c99872_i32_3831 : BitVec 32 := 99872#32
  let c0_i32_3830 : BitVec 32 := 0#32
  let c0_i32_3823 : BitVec 32 := 0#32
  let v6647 : BitVec 1 := Scalar.cmpi .sgt v6645 c0_i32_3823
  let v6648 : BitVec 32 := Scalar.extui v6647
  let c0_i32_3824 : BitVec 32 := 0#32
  let v6649 : BitVec 1 := Scalar.cmpi .slt v6645 c0_i32_3824
  let v6650 : BitVec 32 := Scalar.extui v6649
  let v6651 : BitVec 32 := Scalar.subi v6648 v6650
  let c128_i32_3822 : BitVec 32 := 128#32
  let c0_i32_3825 : BitVec 32 := 0#32
  let v6652 : BitVec 1 := Scalar.cmpi .sgt c128_i32_3822 c0_i32_3825
  let v6653 : BitVec 32 := Scalar.extui v6652
  let c0_i32_3826 : BitVec 32 := 0#32
  let v6654 : BitVec 1 := Scalar.cmpi .slt c128_i32_3822 c0_i32_3826
  let v6655 : BitVec 32 := Scalar.extui v6654
  let v6656 : BitVec 32 := Scalar.subi v6653 v6655
  let v6657 : BitVec 1 := Scalar.cmpi .ne v6651 v6656
  let v6658 : BitVec 32 := Scalar.remsi v6645 c128_i32_3822
  let c0_i32_3827 : BitVec 32 := 0#32
  let v6659 : BitVec 1 := Scalar.cmpi .ne v6658 c0_i32_3827
  let v6660 : BitVec 1 := Scalar.andi v6657 v6659
  let v6646 : BitVec 32 := Scalar.divsi v6645 c128_i32_3822
  let c1_i32_3828 : BitVec 32 := 1#32
  let v6661 : BitVec 32 := Scalar.subi v6646 c1_i32_3828
  let v6662 : BitVec 32 := Scalar.select v6660 v6661 v6646
  let c128_i32_3829 : BitVec 32 := 128#32
  let v6663 : BitVec 32 := Scalar.muli v6662 c128_i32_3829
  let v6664 : BitVec 32 := Scalar.maxsi c0_i32_3830 v6663
  let v6665 : BitVec 32 := Scalar.minsi c99872_i32_3831 v6664
  v6665

def k1_off255 (v6645 : BitVec 32) : Fin 2 → Nat :=
  let c126_i32_3833 : BitVec 32 := 126#32
  let c99872_i32_3831 : BitVec 32 := 99872#32
  let c0_i32_3830 : BitVec 32 := 0#32
  let c0_i32_3823 : BitVec 32 := 0#32
  let v6647 : BitVec 1 := Scalar.cmpi .sgt v6645 c0_i32_3823
  let v6648 : BitVec 32 := Scalar.extui v6647
  let c0_i32_3824 : BitVec 32 := 0#32
  let v6649 : BitVec 1 := Scalar.cmpi .slt v6645 c0_i32_3824
  let v6650 : BitVec 32 := Scalar.extui v6649
  let v6651 : BitVec 32 := Scalar.subi v6648 v6650
  let c128_i32_3822 : BitVec 32 := 128#32
  let c0_i32_3825 : BitVec 32 := 0#32
  let v6652 : BitVec 1 := Scalar.cmpi .sgt c128_i32_3822 c0_i32_3825
  let v6653 : BitVec 32 := Scalar.extui v6652
  let c0_i32_3826 : BitVec 32 := 0#32
  let v6654 : BitVec 1 := Scalar.cmpi .slt c128_i32_3822 c0_i32_3826
  let v6655 : BitVec 32 := Scalar.extui v6654
  let v6656 : BitVec 32 := Scalar.subi v6653 v6655
  let v6657 : BitVec 1 := Scalar.cmpi .ne v6651 v6656
  let v6658 : BitVec 32 := Scalar.remsi v6645 c128_i32_3822
  let c0_i32_3827 : BitVec 32 := 0#32
  let v6659 : BitVec 1 := Scalar.cmpi .ne v6658 c0_i32_3827
  let v6660 : BitVec 1 := Scalar.andi v6657 v6659
  let v6646 : BitVec 32 := Scalar.divsi v6645 c128_i32_3822
  let c1_i32_3828 : BitVec 32 := 1#32
  let v6661 : BitVec 32 := Scalar.subi v6646 c1_i32_3828
  let v6662 : BitVec 32 := Scalar.select v6660 v6661 v6646
  let c128_i32_3829 : BitVec 32 := 128#32
  let v6663 : BitVec 32 := Scalar.muli v6662 c128_i32_3829
  let v6664 : BitVec 32 := Scalar.maxsi c0_i32_3830 v6663
  let v6665 : BitVec 32 := Scalar.minsi c99872_i32_3831 v6664
  let v6666 : BitVec 32 := v6665
  ![126, v6666.toNat]

def k1_chk255 (v6645 : BitVec 32) : Prop :=
  (32 ∣ (k1_mult255 v6645).toNat) ∧
  (∀ a, (k1_off255 v6645) a + S1x128.size a ≤ S128x100000.size a)
theorem k1_mult255_dvd : ∀ (v6645 : BitVec 32) (k1_hw255 : k1_chk255 v6645), 32 ∣ (k1_mult255 v6645).toNat := fun v6645 k1_hw255 => k1_hw255.1
theorem k1_off255_inb : ∀ (v6645 : BitVec 32) (k1_hw255 : k1_chk255 v6645), ∀ a, (k1_off255 v6645) a + S1x128.size a ≤ S128x100000.size a := fun v6645 k1_hw255 => k1_hw255.2

def k1_mult256 (v6671 : BitVec 32) : BitVec 32 :=
  let c99872_i32_3847 : BitVec 32 := 99872#32
  let c0_i32_3846 : BitVec 32 := 0#32
  let c0_i32_3839 : BitVec 32 := 0#32
  let v6673 : BitVec 1 := Scalar.cmpi .sgt v6671 c0_i32_3839
  let v6674 : BitVec 32 := Scalar.extui v6673
  let c0_i32_3840 : BitVec 32 := 0#32
  let v6675 : BitVec 1 := Scalar.cmpi .slt v6671 c0_i32_3840
  let v6676 : BitVec 32 := Scalar.extui v6675
  let v6677 : BitVec 32 := Scalar.subi v6674 v6676
  let c128_i32_3838 : BitVec 32 := 128#32
  let c0_i32_3841 : BitVec 32 := 0#32
  let v6678 : BitVec 1 := Scalar.cmpi .sgt c128_i32_3838 c0_i32_3841
  let v6679 : BitVec 32 := Scalar.extui v6678
  let c0_i32_3842 : BitVec 32 := 0#32
  let v6680 : BitVec 1 := Scalar.cmpi .slt c128_i32_3838 c0_i32_3842
  let v6681 : BitVec 32 := Scalar.extui v6680
  let v6682 : BitVec 32 := Scalar.subi v6679 v6681
  let v6683 : BitVec 1 := Scalar.cmpi .ne v6677 v6682
  let v6684 : BitVec 32 := Scalar.remsi v6671 c128_i32_3838
  let c0_i32_3843 : BitVec 32 := 0#32
  let v6685 : BitVec 1 := Scalar.cmpi .ne v6684 c0_i32_3843
  let v6686 : BitVec 1 := Scalar.andi v6683 v6685
  let v6672 : BitVec 32 := Scalar.divsi v6671 c128_i32_3838
  let c1_i32_3844 : BitVec 32 := 1#32
  let v6687 : BitVec 32 := Scalar.subi v6672 c1_i32_3844
  let v6688 : BitVec 32 := Scalar.select v6686 v6687 v6672
  let c128_i32_3845 : BitVec 32 := 128#32
  let v6689 : BitVec 32 := Scalar.muli v6688 c128_i32_3845
  let v6690 : BitVec 32 := Scalar.maxsi c0_i32_3846 v6689
  let v6691 : BitVec 32 := Scalar.minsi c99872_i32_3847 v6690
  v6691

def k1_off256 (v6671 : BitVec 32) : Fin 2 → Nat :=
  let c127_i32_3849 : BitVec 32 := 127#32
  let c99872_i32_3847 : BitVec 32 := 99872#32
  let c0_i32_3846 : BitVec 32 := 0#32
  let c0_i32_3839 : BitVec 32 := 0#32
  let v6673 : BitVec 1 := Scalar.cmpi .sgt v6671 c0_i32_3839
  let v6674 : BitVec 32 := Scalar.extui v6673
  let c0_i32_3840 : BitVec 32 := 0#32
  let v6675 : BitVec 1 := Scalar.cmpi .slt v6671 c0_i32_3840
  let v6676 : BitVec 32 := Scalar.extui v6675
  let v6677 : BitVec 32 := Scalar.subi v6674 v6676
  let c128_i32_3838 : BitVec 32 := 128#32
  let c0_i32_3841 : BitVec 32 := 0#32
  let v6678 : BitVec 1 := Scalar.cmpi .sgt c128_i32_3838 c0_i32_3841
  let v6679 : BitVec 32 := Scalar.extui v6678
  let c0_i32_3842 : BitVec 32 := 0#32
  let v6680 : BitVec 1 := Scalar.cmpi .slt c128_i32_3838 c0_i32_3842
  let v6681 : BitVec 32 := Scalar.extui v6680
  let v6682 : BitVec 32 := Scalar.subi v6679 v6681
  let v6683 : BitVec 1 := Scalar.cmpi .ne v6677 v6682
  let v6684 : BitVec 32 := Scalar.remsi v6671 c128_i32_3838
  let c0_i32_3843 : BitVec 32 := 0#32
  let v6685 : BitVec 1 := Scalar.cmpi .ne v6684 c0_i32_3843
  let v6686 : BitVec 1 := Scalar.andi v6683 v6685
  let v6672 : BitVec 32 := Scalar.divsi v6671 c128_i32_3838
  let c1_i32_3844 : BitVec 32 := 1#32
  let v6687 : BitVec 32 := Scalar.subi v6672 c1_i32_3844
  let v6688 : BitVec 32 := Scalar.select v6686 v6687 v6672
  let c128_i32_3845 : BitVec 32 := 128#32
  let v6689 : BitVec 32 := Scalar.muli v6688 c128_i32_3845
  let v6690 : BitVec 32 := Scalar.maxsi c0_i32_3846 v6689
  let v6691 : BitVec 32 := Scalar.minsi c99872_i32_3847 v6690
  let v6692 : BitVec 32 := v6691
  ![127, v6692.toNat]

def k1_chk256 (v6671 : BitVec 32) : Prop :=
  (32 ∣ (k1_mult256 v6671).toNat) ∧
  (∀ a, (k1_off256 v6671) a + S1x128.size a ≤ S128x100000.size a)
theorem k1_mult256_dvd : ∀ (v6671 : BitVec 32) (k1_hw256 : k1_chk256 v6671), 32 ∣ (k1_mult256 v6671).toNat := fun v6671 k1_hw256 => k1_hw256.1
theorem k1_off256_inb : ∀ (v6671 : BitVec 32) (k1_hw256 : k1_chk256 v6671), ∀ a, (k1_off256 v6671) a + S1x128.size a ≤ S128x100000.size a := fun v6671 k1_hw256 => k1_hw256.2

abbrev stage1_0 : Fin 1 → Memref sig .tc .smem S128x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S1x100000 : Shape := ⟨2, ![1, 100000]⟩

abbrev nBuf : Space → Nat
  | .hbm => 316
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S_, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S_, .f32⟩
  | 34 => ⟨S128, .f32⟩
  | 35 => ⟨S_, .f32⟩
  | 36 => ⟨S128, .f32⟩
  | 37 => ⟨S128, .f32⟩
  | 38 => ⟨S128x1, .f32⟩
  | 39 => ⟨S128x100000, .f32⟩
  | 40 => ⟨S128x100000, .f32⟩
  | 41 => ⟨S128x100000, .f32⟩
  | 42 => ⟨S_, .f32⟩
  | 43 => ⟨S128, .f32⟩
  | 44 => ⟨S128x1, .f32⟩
  | 45 => ⟨S128x100000, .f32⟩
  | 46 => ⟨S128x100000, .f32⟩
  | 47 => ⟨S128x100000, .i32⟩
  | 48 => ⟨S_, .f32⟩
  | 49 => ⟨S_, .i32⟩
  | 50 => ⟨S128, .f32⟩
  | 51 => ⟨S128, .i32⟩
  | 52 => ⟨S128x1, .i32⟩
  | 53 => ⟨S1x100000, .i32⟩
  | 54 => ⟨S128x100000, .i32⟩
  | 55 => ⟨S128x100000, .i32⟩
  | 56 => ⟨S128x100000, .i1⟩
  | 57 => ⟨S128x100000, .f32⟩
  | 58 => ⟨S128x100000, .f32⟩
  | 59 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_cst_4 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_cst_5 : Ref sig .tc := ⟨.hbm, 286, rfl⟩
abbrev main_v17 : Ref sig .tc := ⟨.hbm, 287, rfl⟩
abbrev main_v18 : Ref sig .tc := ⟨.hbm, 288, rfl⟩
abbrev main_cst_6 : Ref sig .tc := ⟨.hbm, 289, rfl⟩
abbrev main_v19 : Ref sig .tc := ⟨.hbm, 290, rfl⟩
abbrev main_cst_7 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_cst_8 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩
abbrev main_call1_v0 : Ref sig .tc := ⟨.hbm, 303, rfl⟩
abbrev main_call1_cst : Ref sig .tc := ⟨.hbm, 304, rfl⟩
abbrev main_call1_c : Ref sig .tc := ⟨.hbm, 305, rfl⟩
abbrev main_call1_v1_0 : Ref sig .tc := ⟨.hbm, 306, rfl⟩
abbrev main_v30 : Ref sig .tc := ⟨.hbm, 307, rfl⟩
abbrev main_call2_v0 : Ref sig .tc := ⟨.hbm, 308, rfl⟩
abbrev main_call2_v1 : Ref sig .tc := ⟨.hbm, 309, rfl⟩
abbrev main_call2_v2 : Ref sig .tc := ⟨.hbm, 310, rfl⟩
abbrev main_call2_v3 : Ref sig .tc := ⟨.hbm, 311, rfl⟩
abbrev main_call2_v4 : Ref sig .tc := ⟨.hbm, 312, rfl⟩
abbrev main_v31 : Ref sig .tc := ⟨.hbm, 313, rfl⟩
abbrev main_v32 : Ref sig .tc := ⟨.hbm, 314, rfl⟩
abbrev main_v33 : Ref sig .tc := ⟨.hbm, 315, rfl⟩

abbrev nD : Nat := 1
abbrev τ : Topo := Topo.v7x

variable {F : FTy → Type} [FloatOps F]
-- ==== Proof.Prog0.lean ====
module

public import proofs.«01_k».proof.Proof.Gen.KernelIdeal.Skeleton
public import Idealize.ShloMosaic.Lib.Tactic

@[expose] public section

noncomputable section
namespace Cert.KernelIdeal.Own
open Cert.KernelIdeal Cert.KernelIdeal.Gen Idealize.ShloMosaic Idealize.ShloMosaic.TcCoe Idealize.SL Idealize.SL.Sem
variable {F : FTy → Type} [FloatOps F]

/-! ### The lanes' values -/

/-- A pair of vectors of words, the generator's state. -/
abbrev St : Type := IVec S128x128 32 × IVec S128x128 32

/-- One round: the left word becomes the sum, the right its own rotation (by `a`; `b` is 32 − a) against that sum. -/
def rnd (a b : BitVec 32) (p : St) : St :=
  (addi p.1 p.2, xori (ori (shli p.2 (broadcast S128x128 a)) (shrui p.2 (broadcast S128x128 b))) (addi p.1 p.2))
/-- A key injection. -/
def inj (a b c : BitVec 32) (p : St) : St :=
  (addi p.1 (broadcast S128x128 a), addi (addi p.2 (broadcast S128x128 b)) (broadcast S128x128 c))
def evenR (p : St) : St := rnd 6#32 26#32 (rnd 26#32 6#32 (rnd 15#32 17#32 (rnd 13#32 19#32 p)))
def oddR (p : St) : St := rnd 24#32 8#32 (rnd 16#32 16#32 (rnd 29#32 3#32 (rnd 17#32 15#32 p)))
/-- The rounds after the first four. -/
def mixTail (p : St) : St :=
  inj 466689008#32 0#32 5#32 (evenR (inj 42#32 466689008#32 4#32 (oddR (inj 0#32 42#32 3#32 (evenR (inj 466689008#32 0#32 2#32 (oddR
    (inj 42#32 466689008#32 1#32 p))))))))
/-- The generator's words from its counter words. -/
def mix (s : IVec S128x128 32) : St := mixTail (evenR (broadcast S128x128 0#32, s))
/-- The uniform numbers of the generator's words. -/
def unitOf (p : St) : FVec F S128x128 .f32 :=
  subf (bitcastToFloat .f32 (ori (shrui (xori p.1 p.2) (broadcast S128x128 9#32)) (broadcast S128x128 1065353216#32)))
    (broadcast S128x128 (Scalar.ofBits .f32 0x3F800000#32))
/-- The noise added to a chunk. -/
def noisy (x u : FVec F S128x128 .f32) : FVec F S128x128 .f32 :=
  addf x (subf (broadcast S128x128 (Scalar.ofBits .f32 0x00000000#32)) (log (addf (subf (broadcast S128x128 (Scalar.ofBits .f32 0x00000000#32))
    (log (addf u (broadcast S128x128 (Scalar.ofBits .f32 0x1E3CE508#32))))) (broadcast S128x128 (Scalar.ofBits .f32 0x1E3CE508#32)))))
/-- The lanes. -/
def lanes : IVec S128x128 32 := iota .tc S128x128 32 [1] iota_S128x128_d1_w32
/-- The flat index of each lane's first element at point `a`, with the key's word added. -/
def seed (a : BitVec 32) : IVec S128x128 32 :=
  addi (addi (addi (muli (iota .tc S128x128 32 [0] iota_S128x128_d0_w32) (broadcast S128x128 100000#32)) lanes) (broadcast S128x128 (Scalar.muli a 2048#32)))
    (broadcast S128x128 42#32)
/-- Where chunk `c` moves a lane's maximum. -/
def moves (a : BitVec 32) (c : Fin 16) (acc x u : FVec F S128x128 .f32) : IVec S128x128 1 :=
  andi (cmpf .ogt (noisy x u) acc) (cmpi .slt lanes (broadcast S128x128 (Scalar.subi (Scalar.subi 100000#32 (Scalar.muli a 2048#32)) (BitVec.ofNat 32 (128 * c.val)))))
/-- The lanes' maxima and the chunks that hold them, after chunk `c` whose uniform numbers are `u`. -/
def stepU (a : BitVec 32) (c : Fin 16) (st : FVec F S128x128 .f32 × IVec S128x128 32) (x u : FVec F S128x128 .f32) : FVec F S128x128 .f32 × IVec S128x128 32 :=
  (select (moves a c st.1 x u) (noisy x u) st.1,
   select (moves a c st.1 x u) (broadcast S128x128 (Scalar.addi (Scalar.muli a 16#32) (BitVec.ofNat 32 c.val))) st.2)
def unitAt (s : IVec S128x128 32) (c : Fin 16) : FVec F S128x128 .f32 := unitOf (mix (addi s (broadcast S128x128 (BitVec.ofNat 32 (128 * c.val)))))
def step (a : BitVec 32) (c : Fin 16) (st : FVec F S128x128 .f32 × IVec S128x128 32) (x : FVec F S128x128 .f32) : FVec F S128x128 .f32 × IVec S128x128 32 :=
  stepU a c st x (unitAt (seed a) c)

theorem inbChunk (c : Fin 16) : ∀ a, (![0, 128 * c.val] : Fin 2 → Nat) a + S128x128.size a ≤ S128x2048.size a := by
  intro a; fin_cases a
  · exact Nat.le_refl 128
  · show 128 * c.val + 128 ≤ 2048
    omega
theorem inbZero (k : Fin 48) : ∀ a, (![0, 2048 * k.val] : Fin 2 → Nat) a + S128x2048.size a ≤ S128x100000.size a := by
  intro a; fin_cases a
  · exact Nat.le_refl 128
  · show 2048 * k.val + 2048 ≤ 100000
    omega
theorem inbSem50 (k : Fin 50) : ∀ a, (![k.val] : Fin 1 → Nat) a + S1.size a ≤ S50.size a := by
  intro a; fin_cases a; exact k.isLt

/-! ### The program -/

abbrev PP (α : Type) := Prog (TpuEff nD τ sig (Elt F) Λ₀ .tc) α

/-- Whether the point is `k`. -/
def cnd (a k : BitVec 32) : BitVec 1 := Scalar.cmpi .ne (Scalar.extui (Scalar.cmpi .eq a k)) 0#32

section
variable (arg1 : Memref sig .tc .vmem S128x2048 .f32) (arg2 : Memref sig .tc .hbm S128x1 .i32) (arg3 : Memref sig .tc .hbm S128x100000 .f32)
  (arg4 : Memref sig .tc .vmem S128x128 .f32) (arg5 : Memref sig .tc .vmem S128x128 .i32) (arg6 : Memref sig .tc .vmem S128x2048 .f32)
  (arg7 : Memref sig .tc .vmem S128x1 .i32) (arg8 : DmaSems sig S50) (arg9 : DmaSems sig S_)

abbrev zSem (k : Fin 50) := ((arg8.slice (Rect.unit (s := S50) ![k.val] S1.size (inbSem50 k))).squeeze S_ squeezes_S1_S_).sem
abbrev zDst (k : Fin 48) : Memref sig .tc .hbm S128x2048 .f32 := arg3.slice (Rect.unit (s := S128x100000) ![0, 2048 * k.val] S128x2048.size (inbZero k)) (fun _ => rfl)
abbrev zSrc : Memref sig .tc .vmem S128x2048 .f32 := arg6.slice (Rect.unit (s := S128x2048) ![0, 0] S128x2048.size inb_S128x2048_S128x2048_0_0) (fun _ => rfl)
abbrev zDstL : Memref sig .tc .hbm S128x1664 .f32 := arg3.slice (Rect.unit (s := S128x100000) ![0, 98304] S128x1664.size inb_S128x100000_S128x1664_0_98304) (fun _ => rfl)
abbrev zSrcL : Memref sig .tc .vmem S128x1664 .f32 := arg6.slice (Rect.unit (s := S128x2048) ![0, 0] S128x1664.size inb_S128x2048_S128x1664_0_0) (fun _ => rfl)
abbrev zDstT (i : grid0.Coords) (h : k0_cond51 i = 1#1) : Memref sig .tc .hbm S128x32 .f32 := arg3.slice (Rect.unit (s := S128x100000) (k0_off1 i) S128x32.size (k0_off1_inb i h)) (fun _ => rfl)
abbrev zSrcT : Memref sig .tc .vmem S128x32 .f32 := arg6.slice (Rect.unit (s := S128x2048) ![0, 0] S128x32.size inb_S128x2048_S128x32_0_0) (fun _ => rfl)

/-- The first point's set-up. -/
def initS {α : Type} (K : PP (F := F) α) : PP (F := F) α :=
  .op (.load arg4 (Rect.unit (s := S128x128) ![0, 0] S128x128.size inb_S128x128_S128x128_0_0).toLoadRect (View.loadsAt_vmem h_S128x128)) fun _ =>
  .op (.store arg4 (Rect.unit (s := S128x128) ![0, 0] S128x128.size inb_S128x128_S128x128_0_0) (k0_pay4 (F := F)) Finset.univ (View.stores_vmem_bits_univ h_S128x128 rfl) (.inl rfl)) fun _ =>
  .op (.load arg5 (Rect.unit (s := S128x128) ![0, 0] S128x128.size inb_S128x128_S128x128_0_0).toLoadRect (View.loadsAt_vmem h_S128x128)) fun _ =>
  .op (.store arg5 (Rect.unit (s := S128x128) ![0, 0] S128x128.size inb_S128x128_S128x128_0_0) k0_pay5 Finset.univ (View.stores_vmem_bits_univ h_S128x128 rfl) (.inl rfl)) fun _ =>
  .op (.load arg6 (Rect.unit (s := S128x2048) ![0, 0] S128x2048.size inb_S128x2048_S128x2048_0_0).toLoadRect (View.loadsAt_vmem h_S128x2048)) fun _ =>
  .op (.store arg6 (Rect.unit (s := S128x2048) ![0, 0] S128x2048.size inb_S128x2048_S128x2048_0_0) (k0_pay6 (F := F)) Finset.univ (View.stores_vmem_bits_univ h_S128x2048 rfl) (.inl rfl)) fun _ => K
def initIf {α : Type} (b : BitVec 1) (K : PP (F := F) α) : PP (F := F) α := if _h : b = 1#1 then initS arg4 arg5 arg6 K else K

/-- Copy `k` of the zeros started. -/
def zEnq {α : Type} (k : Fin 48) (K : PP (F := F) α) : PP (F := F) α :=
  .op (.enqueueDma (zSrc arg6) (.here (zDst arg3 k)) (.dma (zSem arg8 (k.castLE (by decide)))) (View.wordExact_bits rfl) (View.wordExact_bits rfl) ⟨Or.inl rfl, trivial⟩) fun _ => K
def zIf {α : Type} (b : BitVec 1) (k : Fin 48) (K : PP (F := F) α) : PP (F := F) α := if _h : b = 1#1 then zEnq arg3 arg6 arg8 k K else K
def zEnqL {α : Type} (K : PP (F := F) α) : PP (F := F) α :=
  .op (.enqueueDma (zSrcL arg6) (.here (zDstL arg3)) (.dma (zSem arg8 48)) (View.wordExact_bits rfl) (View.wordExact_bits rfl) ⟨Or.inl rfl, trivial⟩) fun _ => K
def zIfL {α : Type} (b : BitVec 1) (K : PP (F := F) α) : PP (F := F) α := if _h : b = 1#1 then zEnqL arg3 arg6 arg8 K else K
/-- The copies in `l`, each started where the point is its own. -/
def zs {α : Type} (a : BitVec 32) (l : List (Fin 48)) (K : PP (F := F) α) : PP (F := F) α :=
  l.foldr (fun k r => zIf arg3 arg6 arg8 (cnd a (BitVec.ofNat 32 k.val)) k r) K

/-- Chunks `l` read and folded in. -/
def chunks {α : Type} (a : BitVec 32) : List (Fin 16) → FVec F S128x128 .f32 × IVec S128x128 32 → (FVec F S128x128 .f32 × IVec S128x128 32 → PP (F := F) α) → PP (F := F) α
  | [], st, K => K st
  | c :: l, st, K => .op (.load arg1 (Rect.unit (s := S128x2048) ![0, 128 * c.val] S128x128.size (inbChunk c)).toLoadRect (View.loadsAt_vmem h_S128x128)) fun (x : Vec F S128x128 .f32) =>
      chunks a l (step a c st x) K

/-- The last point's end: the tail copy, the rows' indices, the waits. -/
def finS (i : grid0.Coords) (h : k0_cond51 i = 1#1) (h2 : arg2.IsWhole) (h7 : arg7.IsWhole) (st : FVec F S128x128 .f32 × IVec S128x128 32) : PP (F := F) PUnit :=
  .op (.enqueueDma (zSrcT arg6) (.here (zDstT arg3 i h)) (.dma (zSem arg8 49)) (View.wordExact_bits rfl) (View.wordExact_bits rfl) ⟨Or.inl rfl, trivial⟩) fun _ =>
  .op (.load arg7 (Rect.unit (s := S128x1) ![0, 0] S128x1.size inb_S128x1_S128x1_0_0).toLoadRect (View.loadsAt_vmem h_S128x1)) fun _ =>
  .op (.store arg7 (Rect.unit (s := S128x1) ![0, 0] S128x1.size inb_S128x1_S128x1_0_0) (k0_pay3 lanes st.1 st.2) Finset.univ (View.stores_vmem_bits_univ h_S128x1 rfl) (.inl rfl)) fun _ =>
  .op (.enqueueDma arg7 (.here arg2) (.dma arg9.sem) h7.wordExact h2.wordExact ⟨Or.inl rfl, trivial⟩) fun _ =>
  (List.finRange 48).foldr (fun k K => .op (.waitDma2 (zSem arg8 (k.castLE (by decide))) (zSrc arg6) (zDst arg3 k) (View.wordExact_bits rfl) (View.wordExact_bits rfl)) fun _ => K)
    (.op (.waitDma2 (zSem arg8 48) (zSrcL arg6) (zDstL arg3) (View.wordExact_bits rfl) (View.wordExact_bits rfl)) fun _ =>
     .op (.waitDma2 (zSem arg8 49) (zSrcT arg6) (zDstT arg3 i h) (View.wordExact_bits rfl) (View.wordExact_bits rfl)) fun _ =>
     .op (.waitDma2 arg9.sem arg7 arg2 h7.wordExact h2.wordExact) fun _ => .ret ⟨⟩)
def finIf (i : grid0.Coords) (h2 : arg2.IsWhole) (h7 : arg7.IsWhole) (st : FVec F S128x128 .f32 × IVec S128x128 32) : PP (F := F) PUnit :=
  if h : k0_cond51 i = 1#1 then finS arg2 arg3 arg6 arg7 arg8 arg9 i h h2 h7 st else .ret ⟨⟩

/-- The maxima and their chunks stored, and the last point's end. -/
def endS (i : grid0.Coords) (h2 : arg2.IsWhole) (h7 : arg7.IsWhole) (st : FVec F S128x128 .f32 × IVec S128x128 32) : PP (F := F) PUnit :=
  .op (.load arg4 (Rect.unit (s := S128x128) ![0, 0] S128x128.size inb_S128x128_S128x128_0_0).toLoadRect (View.loadsAt_vmem h_S128x128)) fun _ =>
  .op (.store arg4 (Rect.unit (s := S128x128) ![0, 0] S128x128.size inb_S128x128_S128x128_0_0) (k0_pay1 st.1) Finset.univ (View.stores_vmem_bits_univ h_S128x128 rfl) (.inl rfl)) fun _ =>
  .op (.load arg5 (Rect.unit (s := S128x128) ![0, 0] S128x128.size inb_S128x128_S128x128_0_0).toLoadRect (View.loadsAt_vmem h_S128x128)) fun _ =>
  .op (.store arg5 (Rect.unit (s := S128x128) ![0, 0] S128x128.size inb_S128x128_S128x128_0_0) (k0_pay2 st.2) Finset.univ (View.stores_vmem_bits_univ h_S128x128 rfl) (.inl rfl)) fun _ =>
  finIf arg2 arg3 arg6 arg7 arg8 arg9 i h2 h7 st

/-- From the read of the maxima to the end. -/
def rest (i : grid0.Coords) (a : BitVec 32) (h2 : arg2.IsWhole) (h7 : arg7.IsWhole) : PP (F := F) PUnit :=
  .op (.load arg4 (Rect.unit (s := S128x128) ![0, 0] S128x128.size inb_S128x128_S128x128_0_0).toLoadRect (View.loadsAt_vmem h_S128x128)) fun (acc : Vec F S128x128 .f32) =>
  .op (.load arg5 (Rect.unit (s := S128x128) ![0, 0] S128x128.size inb_S128x128_S128x128_0_0).toLoadRect (View.loadsAt_vmem h_S128x128)) fun (aci : Vec F S128x128 .i32) =>
  chunks arg1 a (List.finRange 16) (acc, aci) (endS arg2 arg3 arg4 arg5 arg6 arg7 arg8 arg9 i h2 h7)

/-- The kernel of the maxima, written over the list of copies and the list of chunks. -/
def argmax (i : grid0.Coords) (h2 : arg2.IsWhole) (h7 : arg7.IsWhole) : PP (F := F) PUnit :=
  initIf arg4 arg5 arg6 (cnd (BitVec.ofNat 32 (i 0).val) 0#32) <|
  zs arg3 arg6 arg8 (BitVec.ofNat 32 (i 0).val) (List.finRange 48) <|
  zIfL arg3 arg6 arg8 (cnd (BitVec.ofNat 32 (i 0).val) 48#32) <|
  rest arg1 arg2 arg3 arg4 arg5 arg6 arg7 arg8 arg9 i (BitVec.ofNat 32 (i 0).val) h2 h7

/-! ### The printed parts -/

/-- What the part that begins the chunks hands on. -/
abbrev T15 : Type := Σ' (_ : IVec S128x128 32) (_ : IVec S128x128 32) (_ : Vec F S128x128 .f32) (_ : Vec F S128x128 .i32) (_ : Vec F S128x128 .f32) (_ : IVec S128x128 32) (_ : IVec S128x128 32) (_ : IVec S128x128 32), BitVec 32
/-- What the first twelve chunks hand on. -/
abbrev T89 : Type := Σ' (_ : BitVec 32) (_ : IVec S128x128 32) (_ : IVec S128x128 32) (_ : FVec F S128x128 .f32) (_ : IVec S128x128 32) (_ : Vec F S128x128 .f32), FVec F S128x128 .f32

/-- Three rounds and the fourth's sum. -/
def three (s : IVec S128x128 32) : St := rnd 26#32 6#32 (rnd 15#32 17#32 (rnd 13#32 19#32 (broadcast S128x128 0#32, s)))

def mid15 (a : BitVec 32) : PP (F := F) (T15 (F := F)) :=
  .op (.load arg4 (Rect.unit (s := S128x128) ![0, 0] S128x128.size inb_S128x128_S128x128_0_0).toLoadRect (View.loadsAt_vmem h_S128x128)) fun (acc : Vec F S128x128 .f32) =>
  .op (.load arg5 (Rect.unit (s := S128x128) ![0, 0] S128x128.size inb_S128x128_S128x128_0_0).toLoadRect (View.loadsAt_vmem h_S128x128)) fun (aci : Vec F S128x128 .i32) =>
  .op (.load arg1 (Rect.unit (s := S128x2048) ![0, 0] S128x128.size inb_S128x2048_S128x128_0_0).toLoadRect (View.loadsAt_vmem h_S128x128)) fun (x : Vec F S128x128 .f32) =>
  .ret ⟨lanes, seed a, acc, aci, x, (three (addi (seed a) (broadcast S128x128 0#32))).2,
    addi (three (addi (seed a) (broadcast S128x128 0#32))).1 (three (addi (seed a) (broadcast S128x128 0#32))).2,
    shli (three (addi (seed a) (broadcast S128x128 0#32))).2 (broadcast S128x128 6#32), 26#32⟩

/-- A fold of chunks whose lanes and counter words are given. -/
def movesG (l : IVec S128x128 32) (a : BitVec 32) (c : Fin 16) (acc x u : FVec F S128x128 .f32) : IVec S128x128 1 :=
  andi (cmpf .ogt (noisy x u) acc) (cmpi .slt l (broadcast S128x128 (Scalar.subi (Scalar.subi 100000#32 (Scalar.muli a 2048#32)) (BitVec.ofNat 32 (128 * c.val)))))
def stepG (l : IVec S128x128 32) (a : BitVec 32) (c : Fin 16) (st : FVec F S128x128 .f32 × IVec S128x128 32) (x u : FVec F S128x128 .f32) : FVec F S128x128 .f32 × IVec S128x128 32 :=
  (select (movesG l a c st.1 x u) (noisy x u) st.1,
   select (movesG l a c st.1 x u) (broadcast S128x128 (Scalar.addi (Scalar.muli a 16#32) (BitVec.ofNat 32 c.val))) st.2)
def chunksG {α : Type} (l s : IVec S128x128 32) (a : BitVec 32) : List (Fin 16) → FVec F S128x128 .f32 × IVec S128x128 32 → (FVec F S128x128 .f32 × IVec S128x128 32 → PP (F := F) α) → PP (F := F) α
  | [], st, K => K st
  | c :: cs, st, K => .op (.load arg1 (Rect.unit (s := S128x2048) ![0, 128 * c.val] S128x128.size (inbChunk c)).toLoadRect (View.loadsAt_vmem h_S128x128)) fun (x : Vec F S128x128 .f32) =>
      chunksG l s a cs (stepG l a c st x (unitAt s c)) K

def mid89 (a : BitVec 32) (t : T15 (F := F)) : PP (F := F) (T89 (F := F)) :=
  chunksG arg1 t.1 t.2.1 a [1, 2, 3, 4, 5, 6, 7, 8, 9, 10]
    (stepG t.1 a 0 (t.2.2.1, t.2.2.2.1) t.2.2.2.2.1 (unitOf (mixTail (t.2.2.2.2.2.2.1,
      xori (ori t.2.2.2.2.2.2.2.1 (shrui t.2.2.2.2.2.1 (broadcast S128x128 t.2.2.2.2.2.2.2.2))) t.2.2.2.2.2.2.1)))) fun st =>
  .op (.load arg1 (Rect.unit (s := S128x2048) ![0, 1408] S128x128.size inb_S128x2048_S128x128_0_1408).toLoadRect (View.loadsAt_vmem h_S128x128)) fun (x : Vec F S128x128 .f32) =>
  .ret ⟨a, t.1, t.2.1, st.1, st.2, x, unitAt t.2.1 11⟩

/-- `finS` and `endS` with the lanes given. -/
def endG (i : grid0.Coords) (h2 : arg2.IsWhole) (h7 : arg7.IsWhole) (l : IVec S128x128 32) (st : FVec F S128x128 .f32 × IVec S128x128 32) : PP (F := F) PUnit :=
  .op (.load arg4 (Rect.unit (s := S128x128) ![0, 0] S128x128.size inb_S128x128_S128x128_0_0).toLoadRect (View.loadsAt_vmem h_S128x128)) fun _ =>
  .op (.store arg4 (Rect.unit (s := S128x128) ![0, 0] S128x128.size inb_S128x128_S128x128_0_0) (k0_pay1 st.1) Finset.univ (View.stores_vmem_bits_univ h_S128x128 rfl) (.inl rfl)) fun _ =>
  .op (.load arg5 (Rect.unit (s := S128x128) ![0, 0] S128x128.size inb_S128x128_S128x128_0_0).toLoadRect (View.loadsAt_vmem h_S128x128)) fun _ =>
  .op (.store arg5 (Rect.unit (s := S128x128) ![0, 0] S128x128.size inb_S128x128_S128x128_0_0) (k0_pay2 st.2) Finset.univ (View.stores_vmem_bits_univ h_S128x128 rfl) (.inl rfl)) fun _ =>
  (if h : k0_cond51 i = 1#1 then
  .op (.enqueueDma (zSrcT arg6) (.here (zDstT arg3 i h)) (.dma (zSem arg8 49)) (View.wordExact_bits rfl) (View.wordExact_bits rfl) ⟨Or.inl rfl, trivial⟩) fun _ =>
  .op (.load arg7 (Rect.unit (s := S128x1) ![0, 0] S128x1.size inb_S128x1_S128x1_0_0).toLoadRect (View.loadsAt_vmem h_S128x1)) fun _ =>
  .op (.store arg7 (Rect.unit (s := S128x1) ![0, 0] S128x1.size inb_S128x1_S128x1_0_0) (k0_pay3 l st.1 st.2) Finset.univ (View.stores_vmem_bits_univ h_S128x1 rfl) (.inl rfl)) fun _ =>
  .op (.enqueueDma arg7 (.here arg2) (.dma arg9.sem) h7.wordExact h2.wordExact ⟨Or.inl rfl, trivial⟩) fun _ =>
  (List.finRange 48).foldr (fun k K => .op (.waitDma2 (zSem arg8 (k.castLE (by decide))) (zSrc arg6) (zDst arg3 k) (View.wordExact_bits rfl) (View.wordExact_bits rfl)) fun _ => K)
    (.op (.waitDma2 (zSem arg8 48) (zSrcL arg6) (zDstL arg3) (View.wordExact_bits rfl) (View.wordExact_bits rfl)) fun _ =>
     .op (.waitDma2 (zSem arg8 49) (zSrcT arg6) (zDstT arg3 i h) (View.wordExact_bits rfl) (View.wordExact_bits rfl)) fun _ =>
     .op (.waitDma2 arg9.sem arg7 arg2 h7.wordExact h2.wordExact) fun _ => .ret ⟨⟩)
  else .ret ⟨⟩)

def end89 (i : grid0.Coords) (h2 : arg2.IsWhole) (h7 : arg7.IsWhole) (t : T89 (F := F)) : PP (F := F) PUnit :=
  chunksG arg1 t.2.1 t.2.2.1 t.1 [12, 13, 14, 15] (stepG t.2.1 t.1 11 (t.2.2.2.1, t.2.2.2.2.1) t.2.2.2.2.2.1 t.2.2.2.2.2.2)
    (endG arg2 arg3 arg4 arg5 arg6 arg7 arg8 arg9 i h2 h7 t.2.1)

/-- The kernel in the printed parts' bracketing. -/
def nested (i : grid0.Coords) (h2 : arg2.IsWhole) (h7 : arg7.IsWhole) : PP (F := F) PUnit :=
  Prog.bind
    (Prog.bind (initIf arg4 arg5 arg6 (cnd (BitVec.ofNat 32 (i 0).val) 0#32) <| zs (α := Σ' (_ : BitVec 32), BitVec 1) arg3 arg6 arg8 (BitVec.ofNat 32 (i 0).val) [0, 1, 2, 3, 4, 5, 6, 7] (.ret ⟨BitVec.ofNat 32 (i 0).val, cnd (BitVec.ofNat 32 (i 0).val) 8#32⟩)) fun x =>
     Prog.bind (zIf arg3 arg6 arg8 x.2 8 <| zs arg3 arg6 arg8 x.1 [9, 10, 11, 12, 13, 14, 15, 16, 17] (.ret (cnd x.1 18#32))) fun y =>
     Prog.bind (zIf arg3 arg6 arg8 y 18 <| zs arg3 arg6 arg8 x.1 [19, 20, 21, 22, 23, 24, 25, 26, 27] (.ret (cnd x.1 28#32))) fun y =>
     Prog.bind (zIf arg3 arg6 arg8 y 28 <| zs arg3 arg6 arg8 x.1 [29, 30, 31, 32, 33, 34, 35, 36, 37] (.ret (cnd x.1 38#32))) fun y =>
     Prog.bind (zIf arg3 arg6 arg8 y 38 <| zs arg3 arg6 arg8 x.1 [39, 40, 41, 42, 43, 44, 45, 46, 47] (.ret (cnd x.1 48#32))) fun y =>
     Prog.bind (zIfL arg3 arg6 arg8 y <| mid15 arg1 arg4 arg5 x.1) fun t =>
     mid89 arg1 x.1 t)
    (end89 arg1 arg2 arg3 arg4 arg5 arg6 arg7 arg8 arg9 i h2 h7)

end

variable (i : grid0.Coords) (arg1 : Memref sig .tc .vmem S128x2048 .f32) (h1 : arg1.IsWhole) (arg2 : Memref sig .tc .hbm S128x1 .i32) (h2 : arg2.IsWhole)
  (arg3 : Memref sig .tc .hbm S128x100000 .f32) (h3 : arg3.IsWhole) (arg4 : Memref sig .tc .vmem S128x128 .f32) (h4 : arg4.IsWhole)
  (arg5 : Memref sig .tc .vmem S128x128 .i32) (h5 : arg5.IsWhole) (arg6 : Memref sig .tc .vmem S128x2048 .f32) (h6 : arg6.IsWhole)
  (arg7 : Memref sig .tc .vmem S128x1 .i32) (h7 : arg7.IsWhole) (arg8 : DmaSems sig S50) (arg9 : DmaSems sig S_)

set_option maxHeartbeats 4000000 in
set_option maxRecDepth 65536 in
theorem nested_eq : cc0__argmax_kernel (F := F) i arg1 h1 arg2 h2 arg3 h3 arg4 h4 arg5 h5 arg6 h6 arg7 h7 arg8 arg9
    = nested (F := F) arg1 arg2 arg3 arg4 arg5 arg6 arg7 arg8 arg9 i h2 h7 := by
  sl_kernel_rfl

section
variable {α β : Type}
theorem initIf_bind (b : BitVec 1) (K : PP (F := F) α) (f : α → PP (F := F) β) : (initIf arg4 arg5 arg6 b K).bind f = initIf arg4 arg5 arg6 b (K.bind f) := by
  unfold initIf; split <;> rfl
theorem zIf_bind (b : BitVec 1) (k : Fin 48) (K : PP (F := F) α) (f : α → PP (F := F) β) : (zIf arg3 arg6 arg8 b k K).bind f = zIf arg3 arg6 arg8 b k (K.bind f) := by
  unfold zIf; split <;> rfl
theorem zIfL_bind (b : BitVec 1) (K : PP (F := F) α) (f : α → PP (F := F) β) : (zIfL arg3 arg6 arg8 b K).bind f = zIfL arg3 arg6 arg8 b (K.bind f) := by
  unfold zIfL; split <;> rfl
theorem zs_bind (a : BitVec 32) (l : List (Fin 48)) (K : PP (F := F) α) (f : α → PP (F := F) β) :
    (zs arg3 arg6 arg8 a l K).bind f = zs arg3 arg6 arg8 a l (K.bind f) := by
  induction l with
  | nil => rfl
  | cons k l ih => exact (zIf_bind arg3 arg6 arg8 _ k _ f).trans (congrArg _ ih)
end

set_option maxHeartbeats 4000000 in
set_option maxRecDepth 65536 in
theorem rest_eq (a : BitVec 32) : ((mid15 (F := F) arg1 arg4 arg5 a).bind (mid89 arg1 a)).bind (end89 arg1 arg2 arg3 arg4 arg5 arg6 arg7 arg8 arg9 i h2 h7)
    = rest arg1 arg2 arg3 arg4 arg5 arg6 arg7 arg8 arg9 i a h2 h7 := by
  sl_kernel_rfl

/-- The zeros' copies in the printed cuts are the one list of them. -/
theorem zs_cut {α : Type} (a : BitVec 32) (K : PP (F := F) α) :
    zs arg3 arg6 arg8 a [0, 1, 2, 3, 4, 5, 6, 7] (zIf arg3 arg6 arg8 (cnd a 8#32) 8 <| zs arg3 arg6 arg8 a [9, 10, 11, 12, 13, 14, 15, 16, 17] <|
      zIf arg3 arg6 arg8 (cnd a 18#32) 18 <| zs arg3 arg6 arg8 a [19, 20, 21, 22, 23, 24, 25, 26, 27] <|
      zIf arg3 arg6 arg8 (cnd a 28#32) 28 <| zs arg3 arg6 arg8 a [29, 30, 31, 32, 33, 34, 35, 36, 37] <|
      zIf arg3 arg6 arg8 (cnd a 38#32) 38 <| zs arg3 arg6 arg8 a [39, 40, 41, 42, 43, 44, 45, 46, 47] K)
    = zs arg3 arg6 arg8 a (List.finRange 48) K := by
  sl_kernel_rfl

theorem argmax_eq : cc0__argmax_kernel (F := F) i arg1 h1 arg2 h2 arg3 h3 arg4 h4 arg5 h5 arg6 h6 arg7 h7 arg8 arg9
    = argmax (F := F) arg1 arg2 arg3 arg4 arg5 arg6 arg7 arg8 arg9 i h2 h7 := by
  rw [nested_eq]
  unfold nested argmax
  rw [← zs_cut, ← rest_eq]
  simp only [initIf_bind, zs_bind, zIf_bind, zIfL_bind, Prog.bind]

end Cert.KernelIdeal.Own
end

end
-- ==== Proof.Prog1.lean ====
module

public import proofs.«01_k».proof.Proof.Gen.KernelIdeal.Skeleton
public import Idealize.ShloMosaic.Lib.Tactic

@[expose] public section

noncomputable section
namespace Cert.KernelIdeal.Own
open Cert.KernelIdeal Cert.KernelIdeal.Gen Idealize.ShloMosaic Idealize.ShloMosaic.TcCoe Idealize.SL Idealize.SL.Sem
variable {F : FTy → Type} [FloatOps F]

/-- The first column of the block of 128 lanes that a row's word names: its multiple of 128 at or under it, kept inside the row. -/
def base (v : BitVec 32) : BitVec 32 :=
  Scalar.minsi 99872#32 (Scalar.maxsi 0#32 (Scalar.muli (Scalar.select
    (Scalar.andi (Scalar.cmpi .ne (Scalar.subi (Scalar.extui (Scalar.cmpi .sgt v 0#32)) (Scalar.extui (Scalar.cmpi .slt v 0#32)))
        (Scalar.subi (Scalar.extui (Scalar.cmpi .sgt 128#32 0#32)) (Scalar.extui (Scalar.cmpi .slt 128#32 0#32))))
      (Scalar.cmpi .ne (Scalar.remsi v 128#32) 0#32))
    (Scalar.subi (Scalar.divsi v 128#32) 1#32) (Scalar.divsi v 128#32)) 128#32))

/-- Where row `r`'s block starts. -/
def off (r : Fin 128) (v : BitVec 32) : Fin 2 → Nat := ![r.val, (base v).toNat]

/-- What the kernel checks of a row's word. -/
def chk (r : Fin 128) (v : BitVec 32) : Prop :=
  (32 ∣ (base v).toNat) ∧ (∀ a, (off r v) a + S1x128.size a ≤ S128x100000.size a)

instance chkDec (r : Fin 128) (v : BitVec 32) : Decidable (chk r v) := decidable_of_iff' _ (Iff.of_eq (chk.eq_1 r v))

theorem inbSem (r : Fin 128) : ∀ a, (![r.val] : Fin 1 → Nat) a + S1.size a ≤ S128.size a := by
  intro a; fin_cases a; exact r.isLt
theorem inbIdx (r : Fin 128) : ∀ a, (![r.val, 0] : Fin 2 → Nat) a + S1x1.size a ≤ S128x1.size a := by
  intro a; fin_cases a; exacts [r.isLt, Nat.le_refl 1]
theorem inbSrc (r : Fin 128) : ∀ a, (![r.val, 0] : Fin 2 → Nat) a + S1x128.size a ≤ S128x128.size a := by
  intro a; fin_cases a; exacts [r.isLt, Nat.le_refl 128]

section
variable (arg0 : Memref sig .tc .smem S128x1 .i32) (arg1 : Memref sig .tc .vmem S128x1 .i32) (arg3 : Memref sig .tc .hbm S128x100000 .f32)
  (arg4 : Memref sig .tc .vmem S128x128 .f32) (arg5 : DmaSems sig S128)

/-- Row `r`'s semaphore. -/
abbrev rowSem (r : Fin 128) := ((arg5.slice (Rect.unit (s := S128) ![r.val] S1.size (inbSem r))).squeeze S_ squeezes_S1_S_).sem
/-- Row `r`'s block of the result. -/
abbrev rowDst (r : Fin 128) (v : BitVec 32) (h : chk r v) : Memref sig .tc .hbm S1x128 .f32 :=
  arg3.slice (Rect.unit (s := S128x100000) (off r v) S1x128.size h.2) (fun _ => rfl)
/-- Row `r` of the source. -/
abbrev rowSrc (r : Fin 128) : Memref sig .tc .vmem S1x128 .f32 := arg4.slice (Rect.unit (s := S128x128) ![r.val, 0] S1x128.size (inbSrc r)) (fun _ => rfl)

/-- Row `r`'s copy started: its word read and checked, the copy issued. -/
def startRow (r : Fin 128) (K : Prog (TpuEff nD τ sig (Elt F) Λ₀ .tc) PUnit) : Prog (TpuEff nD τ sig (Elt F) Λ₀ .tc) PUnit :=
  smemLoadElt arg0 (Rect.unit (s := S128x1) ![r.val, 0] S1x1.size (inbIdx r)) (View.loads_smem_one rfl numel1_S1x1) (Shape.Idx.first (numel1_S1x1.symm ▸ Nat.one_pos)) fun v =>
    .op (TpuEff.assume (chk r v) (chkDec r v)) fun h =>
      .op (.enqueueDma (rowSrc arg4 r) (.here (rowDst arg3 r v h.down)) (.dma (rowSem arg5 r)) (View.wordExact_bits rfl) (View.wordExact_bits rfl) ⟨Or.inl rfl, trivial⟩) fun _ => K

/-- Row `r`'s copy waited for. -/
def waitRow (r : Fin 128) (K : Prog (TpuEff nD τ sig (Elt F) Λ₀ .tc) PUnit) : Prog (TpuEff nD τ sig (Elt F) Λ₀ .tc) PUnit :=
  smemLoadElt arg0 (Rect.unit (s := S128x1) ![r.val, 0] S1x1.size (inbIdx r)) (View.loads_smem_one rfl numel1_S1x1) (Shape.Idx.first (numel1_S1x1.symm ▸ Nat.one_pos)) fun v =>
    .op (TpuEff.assume (chk r v) (chkDec r v)) fun h =>
      .op (.waitDma2 (rowSem arg5 r) (rowSrc arg4 r) (rowDst arg3 r v h.down) (View.wordExact_bits rfl) (View.wordExact_bits rfl)) fun _ => K

/-- The scatter kernel, written over a list of rows. -/
def scatterOn (l : List (Fin 128)) : Prog (TpuEff nD τ sig (Elt F) Λ₀ .tc) PUnit :=
  .op (.load arg1 (Rect.unit (s := S128x1) ![0, 0] S128x1.size inb_S128x1_S128x1_0_0).toLoadRect (View.loadsAt_vmem h_S128x1)) fun v1 =>
  .op (.load arg4 (Rect.unit (s := S128x128) ![0, 0] S128x128.size inb_S128x128_S128x128_0_0).toLoadRect (View.loadsAt_vmem h_S128x128)) fun _ =>
  .op (.store arg4 (Rect.unit (s := S128x128) ![0, 0] S128x128.size inb_S128x128_S128x128_0_0) (k1_pay1 v1) Finset.univ (View.stores_vmem_bits_univ h_S128x128 rfl) (.inl rfl)) fun _ =>
  l.foldr (fun r K => startRow arg0 arg3 arg4 arg5 r K) (l.foldr (fun r K => waitRow arg0 arg3 arg4 arg5 r K) (.ret ⟨⟩))

/-- The scatter kernel: over every row in turn. -/
def scatter : Prog (TpuEff nD τ sig (Elt F) Λ₀ .tc) PUnit := scatterOn arg0 arg1 arg3 arg4 arg5 (List.finRange 128)
end

set_option maxRecDepth 65536 in
theorem scatter_eq (arg0 : Memref sig .tc .smem S128x1 .i32) (h0 : arg0.IsWhole) (arg1 : Memref sig .tc .vmem S128x1 .i32) (h1 : arg1.IsWhole)
    (arg2 : Memref sig .tc .hbm S128x100000 .f32) (h2 : arg2.IsWhole) (arg3 : Memref sig .tc .hbm S128x100000 .f32) (h3 : arg3.IsWhole)
    (arg4 : Memref sig .tc .vmem S128x128 .f32) (h4 : arg4.IsWhole) (arg5 : DmaSems sig S128) :
    cc1__scatter_kernel (F := F) arg0 h0 arg1 h1 arg2 h2 arg3 h3 arg4 h4 arg5 = scatter (F := F) arg0 arg1 arg3 arg4 arg5 := by
  sl_kernel_rfl
end Cert.KernelIdeal.Own
end

end
-- ==== Proof.Common.lean ====
module

public import Idealize.ShloMosaic.Lib.Transfers
public import Idealize.ShloMosaic.Lib.Pipeline.Kit

@[expose] public section

noncomputable section
namespace Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- A program that does the same for each element of a list and then goes on: from what every element needs, and something
    `G` that every step hands on, to what every element leaves. -/
theorem wp_foldr {M : Type} [URA M] {X : Type} {P : Type 1} [DecidableEq X] (w : P → sProp M) (step : X → P → P) (A B : X → sProp M) (G : sProp M)
    (H : ∀ r K, iprop(G ∗ A r ∗ (iprop(G ∗ B r) -∗ w K)) ⊢ w (step r K)) (K : P) :
    ∀ (l : List X), l.Nodup →
      iprop(G ∗ bigSep l.toFinset A ∗ (iprop(G ∗ bigSep l.toFinset B) -∗ w K)) ⊢ w (l.foldr step K)
  | [], _ => by
    rw [List.toFinset_nil, bigSep_empty, bigSep_empty, List.foldr_nil]
    iintro ⟨HG, -, Hk⟩
    iapply Hk
    isplitl [HG]; · iexact HG
    iempintro
  | x :: l, h => by
    have hx : x ∉ l.toFinset := by simpa using (List.nodup_cons.mp h).1
    rw [List.toFinset_cons, bigSep_insert hx, bigSep_insert hx, List.foldr_cons]
    show iprop(G ∗ (A x ∗ bigSep l.toFinset A) ∗ (iprop(G ∗ (B x ∗ bigSep l.toFinset B)) -∗ w K)) ⊢ _
    iintro ⟨HG, ⟨HA, HAs⟩, Hk⟩
    iapply (H x _)
    isplitl [HG]; · iexact HG
    isplitl [HA]; · iexact HA
    iintro ⟨HG, HB⟩
    iapply (wp_foldr w step A B G H K l (List.nodup_cons.mp h).2)
    isplitl [HG]; · iexact HG
    isplitl [HAs]; · iexact HAs
    iintro ⟨HG, HBs⟩
    iapply Hk
    isplitl [HG]; · iexact HG
    isplitl [HB]; · iexact HB
    iexact HBs
end Cert.Own
end

end
-- ==== Proof.W1.lean ====
module

public import proofs.«01_k».proof.Proof.Prog1
public import proofs.«01_k».proof.Proof.Common
public import proofs.«01_k».proof.Proof.Gen.KernelIdeal.Launch
public import proofs.«01_k».proof.Proof.Gen.KernelIdeal.Points
public import Idealize.ShloMosaic.Lib.Pipeline.Regions

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The resource algebra: the pipeline library's copy beside the counters that the copies' invariants take their tokens from. -/
abbrev UU : Type := UR sig nD τ × Counters
local notation "𝕄" => MT nD τ sig Unit (Elt F) ℕ UU ℕ
/-- The counters' place in it. -/
abbrev EC : UEmb Counters (MT nD τ sig Unit (Elt F) ℕ UU ℕ) := countersEmb

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- A program's weakest precondition on core `c`, with nothing more than the kernel's own operations. -/
abbrev wpc (c : Dev nD) (Q : PUnit → sProp 𝕄) (p : Prog (TpuEff nD τ sig (Elt F) Λ₀ .tc) PUnit) : sProp 𝕄 :=
  wp frame (wpE (defs₀ (F := F)) Variants.none (c : Thread nD τ) none) Set.univ p Q

/-- A row's block starts at a multiple of 32 and lies in the row, whatever its word. -/
theorem base_ok (v : BitVec 32) : 32 ∣ (base v).toNat ∧ (base v).toNat + 128 ≤ 100000 := by
  unfold base
  generalize Scalar.select _ _ _ = q
  have hm : (Scalar.muli q 128#32).toNat % 32 = 0 := by
    show (q * 128#32).toNat % 32 = 0
    rw [BitVec.toNat_mul]
    have : (128#32).toNat = 128 := rfl
    rw [this, Nat.mod_mod_of_dvd _ (by decide : 32 ∣ 2^32)]; omega
  generalize Scalar.muli q 128#32 = x at hm
  show 32 ∣ (IntOp.minsi 99872#32 (IntOp.maxsi 0#32 x)).toNat ∧ (IntOp.minsi 99872#32 (IntOp.maxsi 0#32 x)).toNat + 128 ≤ 100000
  unfold IntOp.minsi IntOp.maxsi
  simp only [BitVec.slt_iff_toInt_lt, BitVec.toInt_eq_toNat_cond]
  have := x.isLt
  split_ifs <;> simp_all <;> omega

theorem chk_all (r : Fin 128) (v : BitVec 32) : chk r v := by
  refine ⟨(base_ok v).1, fun a => ?_⟩
  fin_cases a
  · exact r.isLt
  · exact (base_ok v).2

section
variable (c : Dev nD)
/-- The result and the source of the copies. -/
abbrev dstM : Memref sig .tc .hbm S128x100000 .f32 := Memref.whole main_v1
abbrev srcM : Memref sig .tc .vmem S128x128 .f32 := Memref.whole cc1_scratch0
/-- Row `r` of the result. -/
def rowRect (r : Fin 128) : Rect S128x100000 := Rect.unit (s := S128x100000) ![r.val, 0] ![1, S128x100000.size 1] (fun a => by fin_cases a; exacts [r.isLt, Nat.le_of_eq (Nat.zero_add _)])
abbrev rowSet (r : Fin 128) : Finset (Idx ((dstM.view).loc (c : Thread nD τ))) := (rowRect r).set
abbrev srcSet (r : Fin 128) : Finset (Idx ((srcM.view).loc (c : Thread nD τ))) := (rowSrc srcM r).view.set

theorem dst_sub (r : Fin 128) (v : BitVec 32) (h : chk r v) : (rowDst dstM r v h).view.set ⊆ rowSet c r := by
  intro i hi
  have hi' := (View.set_slice_whole main_v1 (Rect.unit (s := S128x100000) (off r v) S1x128.size h.2)) ▸ hi
  have h1 := (Rect.mem_set_unit).1 hi'
  refine (Rect.mem_set_unit).2 fun a => ?_
  have h0 := h1 0
  fin_cases a
  · exact h0
  · exact ⟨Nat.zero_le _, lt_of_lt_of_eq (i 1).isLt (Nat.zero_add _).symm⟩

/-- What a row's copy credits its semaphore, wherever in the result it goes. -/
def nRow : ℕ := (rowDst dstM 0 0#32 (chk_all 0 0#32)).view.dmaCredit
theorem credit_eq (r : Fin 128) (v : BitVec 32) (h : chk r v) : (rowDst dstM r v h).view.dmaCredit = nRow := rfl

/-- The word of row `r`. -/
abbrev word {arg0 : Memref sig .tc .smem S128x1 .i32} (f0 : Bf (F := F) c arg0) (r : Fin 128) : BitVec 32 :=
  (arg0.access (Rect.unit (s := S128x1) ![r.val, 0] S1x1.size (inbIdx r))).read (Elt F) f0 (Shape.Idx.first (numel1_S1x1.symm ▸ Nat.one_pos))

/-- The result with row `r`'s block copied in from the source. -/
abbrev putRow (fs : Bf (F := F) c srcM) (fd : Bf (F := F) c dstM) (v : BitVec 32) (r : Fin 128) : Bf (F := F) c dstM :=
  (rowDst dstM r v (chk_all r v)).view.write (Elt F) fd ((rowSrc srcM r).view.read (Elt F) fs) Finset.univ

variable (arg0 : Memref sig .tc .smem S128x1 .i32) (f0 : Bf (F := F) c arg0) (fs : Bf (F := F) c srcM) (fd : Bf (F := F) c dstM)

abbrev pieceD (f : Bf (F := F) c dstM) (r : Fin 128) : sProp 𝕄 := dstM.view.loc (c : Thread nD τ) ↦[rowSet c r]{fullShare} f
abbrev pieceS (r : Fin 128) : sProp 𝕄 := srcM.view.loc (c : Thread nD τ) ↦[srcSet c r]{fullShare} fs
abbrev semR (r : Fin 128) : DmaSem sig := rowSem cc1_scratch1 r

/-- A copy of row `r` issued to its block for the word `v`. -/
theorem wp_copyRow (Q : PUnit → sProp 𝕄) (r : Fin 128) (v : BitVec 32) (h : chk r v) (hs hd ht) (k : PUnit → Prog (TpuEff nD τ sig (Elt F) Λ₀ .tc) PUnit) :
    iprop(pieceS c fs r ∗ pieceD c fd r ∗ semVal ((c : Thread nD τ), .dma (semR r)) 0)
      ⊢ iprop((Transfers.Flight EC (c : Thread nD τ) (.dma (semR r)) () nRow iprop(pieceD c (putRow c fs fd v r) r ∗ pieceS c fs r) -∗ wpc c Q (k ⟨⟩))
        -∗ wpc c Q (.op (.enqueueDma (rowSrc srcM r) (.here (rowDst dstM r v h)) (.dma (semR r)) hs hd ht) k)) :=
  Transfers.wp_dmaLocal EC Variants.none (c : Thread nD τ) none (src := rowSrc srcM r) (dst := rowDst dstM r v h) (via := .same) (sm := .dma (semR r)) () nRow
    (credit_eq r v h) (View.dmaCredit_pos _ (by decide)) (dst_sub c r v h)

/-- One copy started. -/
theorem wp_startRow (Q : PUnit → sProp 𝕄) (r : Fin 128) (K : Prog (TpuEff nD τ sig (Elt F) Λ₀ .tc) PUnit) :
    iprop(pt c arg0 f0 ∗ (pieceS c fs r ∗ pieceD c fd r ∗ semVal ((c : Thread nD τ), .dma (semR r)) 0)
      ∗ (iprop(pt c arg0 f0 ∗ Transfers.Flight EC (c : Thread nD τ) (.dma (semR r)) () nRow
          iprop(pieceD c (putRow c fs fd (word c f0 r) r) r ∗ pieceS c fs r)) -∗ wpc c Q K))
      ⊢ wpc c Q (startRow arg0 dstM srcM cc1_scratch1 r K) := by
  iintro ⟨H0, ⟨Hs, Hd, Hv⟩, Hk⟩
  unfold startRow
  iapply (wp_smemLoadElt_named Variants.none (c : Thread nD τ) none Set.univ (m := arg0)) $$ H0
  iintro H0 %w %hw
  subst hw
  iapply (wp_assume Variants.none (c : Thread nD τ) none Set.univ (chk_all r _))
  iapply (wp_copyRow c fs fd Q r (word c f0 r) (chk_all r _)) $$ [Hs Hd Hv]
  · isplitl [Hs]; · iexact Hs
    isplitl [Hd]; · iexact Hd
    iexact Hv
  iintro HF
  iapply Hk
  isplitl [H0]; · iexact H0
  iexact HF

/-- One copy waited for. -/
theorem wp_waitRow (Q : PUnit → sProp 𝕄) (r : Fin 128) (D : sProp 𝕄) (K : Prog (TpuEff nD τ sig (Elt F) Λ₀ .tc) PUnit) :
    iprop((pt c arg0 f0 ∗ ∃ W, owes (c : Thread nD τ) 0 W) ∗ Transfers.Flight EC (c : Thread nD τ) (.dma (semR r)) () nRow D
      ∗ (iprop((pt c arg0 f0 ∗ ∃ W, owes (c : Thread nD τ) 0 W) ∗ (D ∗ semVal ((c : Thread nD τ), .dma (semR r)) 0)) -∗ wpc c Q K))
      ⊢ wpc c Q (waitRow arg0 dstM srcM cc1_scratch1 r K) := by
  iintro ⟨⟨H0, ⟨%W, HO⟩⟩, HF, Hk⟩
  unfold waitRow
  iapply (wp_smemLoadElt_named Variants.none (c : Thread nD τ) none Set.univ (m := arg0)) $$ H0
  iintro H0 %w %hw
  subst hw
  iapply (wp_assume Variants.none (c : Thread nD τ) none Set.univ (chk_all r _))
  iapply (Transfers.wp_waitLocal EC Variants.none (c : Thread nD τ) none () (N := nRow) (credit_eq r _ _)) $$ [HF HO]
  · isplitl [HF]; · iexact HF
    iexact HO
  iintro ⟨HD, Hv, HO⟩
  iapply Hk
  isplitl [H0 HO]
  · isplitl [H0]; · iexact H0
    iexists _; iexact HO
  isplitl [HD]; · iexact HD
  iexact Hv

/-- The rows of the source, cut apart. -/
theorem src_mem (r : Fin 128) (i : Idx ((srcM.view).loc (c : Thread nD τ))) : i ∈ srcSet c r ↔ (i : S128x128.Idx) 0 = r := by
  have hs : srcSet c r = (Rect.unit (s := S128x128) ![r.val, 0] S1x128.size (inbSrc r)).set := View.set_slice_whole cc1_scratch0 _
  rw [hs]
  refine (Rect.mem_set_unit).trans ⟨fun h => ?_, fun h a => ?_⟩
  · have h0 : r.val ≤ ((i : S128x128.Idx) 0).val ∧ ((i : S128x128.Idx) 0).val < r.val + 1 := h 0
    exact Fin.ext (by omega)
  · fin_cases a
    · have : ((i : S128x128.Idx) 0).val = r.val := congrArg Fin.val h
      exact ⟨this.ge, by show ((i : S128x128.Idx) 0).val < r.val + 1; omega⟩
    · exact ⟨Nat.zero_le _, lt_of_lt_of_eq (i 1).isLt (Nat.zero_add _).symm⟩

theorem dst_mem (r : Fin 128) (i : Idx ((dstM.view).loc (c : Thread nD τ))) : i ∈ rowSet c r ↔ (i : S128x100000.Idx) 0 = r := by
  refine (Rect.mem_set_unit).trans ⟨fun h => ?_, fun h a => ?_⟩
  · have h0 : r.val ≤ ((i : S128x100000.Idx) 0).val ∧ ((i : S128x100000.Idx) 0).val < r.val + 1 := h 0
    exact Fin.ext (by omega)
  · fin_cases a
    · have : ((i : S128x100000.Idx) 0).val = r.val := congrArg Fin.val h
      exact ⟨this.ge, by show ((i : S128x100000.Idx) 0).val < r.val + 1; omega⟩
    · exact ⟨Nat.zero_le _, lt_of_lt_of_eq (i 1).isLt (Nat.zero_add _).symm⟩

theorem src_disj (r r' : Fin 128) (h : r ≠ r') : Disjoint (srcSet c r) (srcSet c r') :=
  Finset.disjoint_left.mpr fun i hi hi' => h (((src_mem c r i).1 hi).symm.trans ((src_mem c r' i).1 hi'))
theorem dst_disj (r r' : Fin 128) (h : r ≠ r') : Disjoint (rowSet c r) (rowSet c r') :=
  Finset.disjoint_left.mpr fun i hi hi' => h (((dst_mem c r i).1 hi).symm.trans ((dst_mem c r' i).1 hi'))
theorem src_cov : Finset.univ.biUnion (srcSet c) = Finset.univ :=
  Finset.eq_univ_of_forall fun i => Finset.mem_biUnion.mpr ⟨(i : S128x128.Idx) 0, Finset.mem_univ _, (src_mem c _ i).2 rfl⟩
theorem dst_cov : Finset.univ.biUnion (rowSet c) = Finset.univ :=
  Finset.eq_univ_of_forall fun i => Finset.mem_biUnion.mpr ⟨(i : S128x100000.Idx) 0, Finset.mem_univ _, (dst_mem c _ i).2 rfl⟩

theorem src_blocks : (pt c srcM fs : sProp 𝕄) = bigSep Finset.univ (pieceS c fs) := by
  rw [← pointsTo_biUnion Finset.univ (srcSet c) (fun r _ r' _ h => src_disj c r r' h), src_cov]
theorem dst_blocks : (pt c dstM fd : sProp 𝕄) = bigSep Finset.univ (pieceD c fd) := by
  rw [← pointsTo_biUnion Finset.univ (rowSet c) (fun r _ r' _ h => dst_disj c r r' h), dst_cov]

/-- The result after every row's copy. -/
def scattered (f0 : Bf (F := F) c (Memref.whole cc1_stg0_0)) (fs : Bf (F := F) c srcM) (fd : Bf (F := F) c dstM) : Bf (F := F) c dstM :=
  fun i => putRow c fs fd (word c (arg0 := Memref.whole cc1_stg0_0) f0 ((i : S128x100000.Idx) 0)) ((i : S128x100000.Idx) 0) i

theorem join_dst (f0 : Bf (F := F) c (Memref.whole cc1_stg0_0)) :
    bigSep Finset.univ (fun r => pieceD c (putRow c fs fd (word c (arg0 := Memref.whole cc1_stg0_0) f0 r) r) r) ⊢ (pt c dstM (scattered c f0 fs fd) : sProp 𝕄) := by
  refine (pointsTo_biUnion_join Finset.univ (rowSet c) (fun r => putRow c fs fd (word c (arg0 := Memref.whole cc1_stg0_0) f0 r) r) fd (fun r _ r' _ h => dst_disj c r r' h)).trans ?_
  rw [dst_cov]
  iintro ⟨%g, %hg, H⟩
  have e : g = scattered c f0 fs fd := funext fun i => hg ((i : S128x100000.Idx) 0) (Finset.mem_univ _) i ((dst_mem c _ i).2 rfl)
  subst e
  iexact H

/-- The copies of the rows of a list, all started and then all waited for. -/
theorem wp_rows (Q : PUnit → sProp 𝕄) (f0 : Bf (F := F) c (Memref.whole cc1_stg0_0)) (f1 : Bf (F := F) c (Memref.whole cc1_stg1_0))
    (l : List (Fin 128)) (hn : l.Nodup) (hl : l.toFinset = Finset.univ) :
    iprop(pt c (Memref.whole cc1_stg0_0) f0 ∗ pt c (Memref.whole cc1_stg1_0) f1 ∗ pt c srcM fs ∗ pt c dstM fd
      ∗ (bigSep Finset.univ fun r : Fin 128 => semVal ((c : Thread nD τ), .dma (semR r)) 0) ∗ (∃ W, owes (c : Thread nD τ) 0 W)
      ∗ (iprop(pt c (Memref.whole cc1_stg0_0) f0 ∗ pt c (Memref.whole cc1_stg1_0) f1 ∗ pt c srcM fs
          ∗ pt c dstM (scattered c f0 fs fd)
          ∗ (bigSep Finset.univ fun r : Fin 128 => semVal ((c : Thread nD τ), .dma (semR r)) 0) ∗ (∃ W, owes (c : Thread nD τ) 0 W)) -∗ Q ⟨⟩))
      ⊢ wpc c Q (l.foldr (fun r K => startRow (Memref.whole cc1_stg0_0) dstM srcM cc1_scratch1 r K)
          (l.foldr (fun r K => waitRow (Memref.whole cc1_stg0_0) dstM srcM cc1_scratch1 r K) (.ret ⟨⟩))) := by
  iintro ⟨H0, H1, Hs, Hd, Hv, HO, Hk⟩
  ihave Hs := (Entails.of_eq (src_blocks c fs)) $$ Hs
  ihave Hd := (Entails.of_eq (dst_blocks c fd)) $$ Hd
  have hS := wp_foldr (wpc c Q) (fun r K => startRow (Memref.whole cc1_stg0_0) dstM srcM cc1_scratch1 r K)
    (fun r => iprop(pieceS c fs r ∗ pieceD c fd r ∗ semVal ((c : Thread nD τ), .dma (semR r)) 0))
    (fun r => Transfers.Flight EC (c : Thread nD τ) (.dma (semR r)) () nRow
          iprop(pieceD c (putRow c fs fd (word c (arg0 := Memref.whole cc1_stg0_0) f0 r) r) r ∗ pieceS c fs r)) (pt c (Memref.whole cc1_stg0_0) f0)
    (wp_startRow c _ f0 fs fd Q) (l.foldr (fun r K => waitRow (Memref.whole cc1_stg0_0) dstM srcM cc1_scratch1 r K) (.ret ⟨⟩)) l hn
  iapply hS
  rw [hl]
  isplitl [H0]; · iexact H0
  isplitl [Hs Hd Hv]
  · rw [bigSep_sep', bigSep_sep']
    isplitl [Hs]; · iexact Hs
    isplitl [Hd]; · iexact Hd
    iexact Hv
  iintro ⟨H0, HF⟩
  have hW := wp_foldr (wpc c Q) (fun r K => waitRow (Memref.whole cc1_stg0_0) dstM srcM cc1_scratch1 r K)
    (fun r => Transfers.Flight EC (c : Thread nD τ) (.dma (semR r)) () nRow
          iprop(pieceD c (putRow c fs fd (word c (arg0 := Memref.whole cc1_stg0_0) f0 r) r) r ∗ pieceS c fs r))
    (fun r => iprop(iprop(pieceD c (putRow c fs fd (word c (arg0 := Memref.whole cc1_stg0_0) f0 r) r) r ∗ pieceS c fs r) ∗ semVal ((c : Thread nD τ), .dma (semR r)) 0))
    (iprop(pt c (Memref.whole cc1_stg0_0) f0 ∗ ∃ W, owes (c : Thread nD τ) 0 W))
    (fun r K => wp_waitRow c _ f0 Q r _ K) (.ret ⟨⟩) l hn
  iapply hW
  rw [hl]
  isplitl [H0 HO]
  · isplitl [H0]; · iexact H0
    iexact HO
  isplitl [HF]; · iexact HF
  rw [bigSep_sep', bigSep_sep']
  iintro ⟨⟨H0, HO⟩, ⟨Hd, Hs⟩, Hv⟩
  ihave Hd := (join_dst c fs fd f0) $$ Hd
  ihave Hs := (Entails.of_eq (src_blocks c fs).symm) $$ Hs
  unfold wpc
  sl_step
  iapply Hk
  isplitl [H0]; · iexact H0
  isplitl [H1]; · iexact H1
  isplitl [Hs]; · iexact Hs
  isplitl [Hd]; · iexact Hd
  isplitl [Hv]; · iexact Hv
  iexact HO

/-- The scatter kernel's run: from its operands, the source buffer and the result held whole and each row's semaphore at
    zero, it ends with the result's rows each having its block copied in. -/
theorem wp_scatter (Q : PUnit → sProp 𝕄) (f0 : Bf (F := F) c (Memref.whole cc1_stg0_0)) (f1 : Bf (F := F) c (Memref.whole cc1_stg1_0)) (fs0 : Bf (F := F) c srcM)
    (l : List (Fin 128)) (hn : l.Nodup) (hl : l.toFinset = Finset.univ) :
    iprop(pt c (Memref.whole cc1_stg0_0) f0 ∗ pt c (Memref.whole cc1_stg1_0) f1 ∗ pt c srcM fs0 ∗ pt c dstM fd
      ∗ (bigSep Finset.univ fun r : Fin 128 => semVal ((c : Thread nD τ), .dma (semR r)) 0) ∗ (∃ W, owes (c : Thread nD τ) 0 W)
      ∗ (iprop(pt c (Memref.whole cc1_stg0_0) f0 ∗ pt c (Memref.whole cc1_stg1_0) f1 ∗ pt c srcM (k1_pay1 (F := F) f1)
          ∗ pt c dstM (scattered c f0 (k1_pay1 (F := F) f1) fd)
          ∗ (bigSep Finset.univ fun r : Fin 128 => semVal ((c : Thread nD τ), .dma (semR r)) 0) ∗ (∃ W, owes (c : Thread nD τ) 0 W)) -∗ Q ⟨⟩))
      ⊢ wpc c Q (scatterOn (Memref.whole cc1_stg0_0) (Memref.whole cc1_stg1_0) dstM srcM cc1_scratch1 l) := by
  iintro ⟨H0, H1, Hs, Hd, Hv, HO, Hk⟩
  unfold scatterOn
  iapply (wp_load Variants.none (c : Thread nD τ) none Set.univ (m := Memref.whole cc1_stg1_0) (Finset.subset_univ _)) $$ H1
  iintro H1
  iapply (wp_load Variants.none (c : Thread nD τ) none Set.univ (m := srcM) (Finset.subset_univ _)) $$ Hs
  iintro Hs
  iapply (wp_store Variants.none (c : Thread nD τ) none Set.univ (m := srcM) (r := Rect.unit (s := S128x128) ![0, 0] S128x128.size inb_S128x128_S128x128_0_0) (f := fs0) (Finset.subset_univ _)) $$ Hs
  iintro Hs
  have e1 : (Memref.whole cc1_stg1_0 : Memref sig .tc .vmem S128x1 .i32).view.readAt (Elt F) (Rect.unit (s := S128x1) ![0, 0] S128x1.size inb_S128x1_S128x1_0_0).toLoadRect f1 = f1 :=
    Memref.readAt_unit_zero (Elt F) cc1_stg1_0 (by funext a; fin_cases a <;> rfl) _ f1
  rw [e1]
  have e2 : ((srcM : Memref sig .tc .vmem S128x128 .f32).access (Rect.unit (s := S128x128) ![0, 0] S128x128.size inb_S128x128_S128x128_0_0) : View sig .tc _ _ _).write (Elt F) fs0 (k1_pay1 (F := F) f1) Finset.univ = k1_pay1 (F := F) f1 :=
    Memref.write_access_unit_zero_univ (Elt F) cc1_scratch0 (by funext a; fin_cases a <;> rfl) _ fs0 _
  rw [e2]
  iapply (wp_rows c _ fd Q f0 f1 l hn hl)
  isplitl [H0]; · iexact H0
  isplitl [H1]; · iexact H1
  isplitl [Hs]; · iexact Hs
  isplitl [Hd]; · iexact Hd
  isplitl [Hv]; · iexact Hv
  isplitl [HO]; · iexact HO
  iexact Hk
end
end Cert.KernelIdeal.Own
end

end
-- ==== Proof.W0.lean ====
module

public import proofs.«01_k».proof.Proof.Prog0
public import proofs.«01_k».proof.Proof.W1

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ UU ℕ

/-! ### Which point it is -/

theorem cnd_iff {j k : ℕ} (hj : j < 2 ^ 32) (hk : k < 2 ^ 32) : cnd (BitVec.ofNat 32 j) (BitVec.ofNat 32 k) = 1#1 ↔ j = k := by
  have e : BitVec.ofNat 32 j = BitVec.ofNat 32 k ↔ j = k := by
    constructor
    · intro h
      have := congrArg BitVec.toNat h
      rwa [BitVec.toNat_ofNat, BitVec.toNat_ofNat, Nat.mod_eq_of_lt hj, Nat.mod_eq_of_lt hk] at this
    · rintro rfl; rfl
  rw [← e]
  generalize BitVec.ofNat 32 j = a
  generalize BitVec.ofNat 32 k = b
  by_cases h : a = b
  · subst h; simp [cnd, Scalar.cmpi, Scalar.extui, IntOp.cmpi]
  · have e : (a == b) = false := by simpa using h
    simp only [cnd, Scalar.cmpi, Scalar.extui, IntOp.cmpi, e, h, iff_false]
    decide

section
variable (arg3 : Memref sig .tc .hbm S128x100000 .f32) (arg6 : Memref sig .tc .vmem S128x2048 .f32) (arg8 : DmaSems sig S50)
/-- Of the copies in the list the point starts its own alone. -/
theorem zs_eq {α : Type} (j : ℕ) (hj : j < 49) (K : PP (F := F) α) : ∀ (l : List (Fin 48)), l.Nodup →
    zs arg3 arg6 arg8 (BitVec.ofNat 32 j) l K = if h : ∃ h : j < 48, (⟨j, h⟩ : Fin 48) ∈ l then zEnq arg3 arg6 arg8 ⟨j, h.1⟩ K else K
  | [], _ => by rw [dif_neg (by rintro ⟨_, h⟩; exact List.not_mem_nil h)]; rfl
  | k :: l, hn => by
    have ih := zs_eq j hj K l (List.nodup_cons.mp hn).2
    show zIf arg3 arg6 arg8 (cnd (BitVec.ofNat 32 j) (BitVec.ofNat 32 k.val)) k (zs arg3 arg6 arg8 (BitVec.ofNat 32 j) l K) = _
    rw [ih]
    unfold zIf
    by_cases e : j = k.val
    · subst e
      rw [dif_pos ((cnd_iff (by omega) (by omega)).2 rfl),
        dif_neg (show ¬ ∃ h : k.val < 48, (⟨k.val, h⟩ : Fin 48) ∈ l from fun h => (List.nodup_cons.mp hn).1 h.2),
        dif_pos (show ∃ h : k.val < 48, (⟨k.val, h⟩ : Fin 48) ∈ k :: l from ⟨k.isLt, List.mem_cons_self⟩)]
    · rw [dif_neg (fun h => e ((cnd_iff (by omega) (by omega)).1 h))]
      by_cases h : ∃ h : j < 48, (⟨j, h⟩ : Fin 48) ∈ l
      · rw [dif_pos h, dif_pos ⟨h.1, List.mem_cons_of_mem _ h.2⟩]
      · rw [dif_neg h, dif_neg]
        rintro ⟨h1, h2⟩
        rcases List.mem_cons.1 h2 with h3 | h3
        · exact e (congrArg Fin.val h3)
        · exact h ⟨h1, h3⟩

theorem zs_lt {α : Type} (j : ℕ) (hj : j < 48) (K : PP (F := F) α) :
    zs arg3 arg6 arg8 (BitVec.ofNat 32 j) (List.finRange 48) K = zEnq arg3 arg6 arg8 ⟨j, hj⟩ K := by
  rw [zs_eq arg3 arg6 arg8 j (by omega) K _ (List.nodup_finRange 48), dif_pos ⟨hj, List.mem_finRange _⟩]
theorem zs_last {α : Type} (K : PP (F := F) α) : zs arg3 arg6 arg8 (BitVec.ofNat 32 48) (List.finRange 48) K = K := by
  rw [zs_eq arg3 arg6 arg8 48 (by omega) K _ (List.nodup_finRange 48), dif_neg]
  rintro ⟨h, _⟩; omega
end

/-! ### The zeros' copies -/

section
variable (c : Dev nD)
/-- The zeros' array, the scratch of zeros, the maxima and their chunks, the rows' indices and where they go. -/
abbrev oM : Memref sig .tc .hbm S128x100000 .f32 := Memref.whole main_v0_1
abbrev zM : Memref sig .tc .vmem S128x2048 .f32 := Memref.whole cc0_scratch2
abbrev aM : Memref sig .tc .vmem S128x128 .f32 := Memref.whole cc0_scratch0
abbrev iM : Memref sig .tc .vmem S128x128 .i32 := Memref.whole cc0_scratch1
abbrev xM : Memref sig .tc .vmem S128x1 .i32 := Memref.whole cc0_scratch3
abbrev rM : Memref sig .tc .hbm S128x1 .i32 := Memref.whole main_v0_0

/-- The copy that fills column `j`: its number. -/
def grp (j : ℕ) : ℕ := if j < 98304 then j / 2048 else if j < 99968 then 48 else 49
theorem grp_lt (i : S128x100000.Idx) : grp (i 1).val < 50 := by
  have : (i 1).val < 100000 := (i 1).isLt
  unfold grp; split_ifs <;> omega
/-- Copy `k`'s columns, and how many of the scratch of zeros it reads. -/
def colSet (k : Fin 50) : Finset (Idx ((oM.view).loc (c : Thread nD τ))) := Finset.univ.filter fun i : S128x100000.Idx => grp (i 1).val = k.val
def width (k : Fin 50) : ℕ := if k.val < 48 then 2048 else if k.val = 48 then 1664 else 32
def zSet (k : Fin 50) : Finset (Idx ((zM.view).loc (c : Thread nD τ))) := Finset.univ.filter fun i : S128x2048.Idx => (i 1).val < width k

theorem col_disj (k k' : Fin 50) (h : k ≠ k') : Disjoint (colSet c k) (colSet c k') :=
  Finset.disjoint_left.mpr fun i hi hi' => h (Fin.ext ((Finset.mem_filter.1 hi).2.symm.trans (Finset.mem_filter.1 hi').2))
theorem col_cov : Finset.univ.biUnion (colSet c) = Finset.univ :=
  Finset.eq_univ_of_forall fun i => Finset.mem_biUnion.mpr ⟨⟨grp ((i : S128x100000.Idx) 1).val, grp_lt i⟩, Finset.mem_univ _, Finset.mem_filter.2 ⟨Finset.mem_univ _, rfl⟩⟩

/-- The word of zero. -/
def z0 : Elt F .f32 := k0_pay6 (F := F) (fun a => ⟨0, by fin_cases a <;> decide⟩)
theorem pay6_eq : k0_pay6 (F := F) = fun _ => z0 := rfl

/-- What the zeros' array and the scratch hold at the end. -/
abbrev zer : Bf (F := F) c oM := fun _ => z0
abbrev fz : Bf (F := F) c zM := fun _ => z0

abbrev zS (k : Fin 50) : DmaSem sig := zSem cc0_scratch4 k
abbrev tok (k : Fin 50) : PosShare TreeShare := Transfers.shareTok fullShare 50 k
abbrev outP (f : Bf (F := F) c oM) (k : Fin 50) : sProp 𝕄 := oM.view.loc (c : Thread nD τ) ↦[colSet c k]{fullShare} f
abbrev zTok (k : Fin 50) : sProp 𝕄 := zM.view.loc (c : Thread nD τ) ↦{tok k} (fz c : Bf (F := F) c zM)
abbrev zTokOn (k : Fin 50) : sProp 𝕄 := zM.view.loc (c : Thread nD τ) ↦[zSet c k]{tok k} (fz c : Bf (F := F) c zM)
abbrev zTokOff (k : Fin 50) : sProp 𝕄 := zM.view.loc (c : Thread nD τ) ↦[Finset.univ \ zSet c k]{tok k} (fz c : Bf (F := F) c zM)

def n0 : ℕ := (zDst oM 0).view.dmaCredit
def n1 : ℕ := (zDstL oM).view.dmaCredit
def n2 : ℕ := (oM.slice (Rect.unit (s := S128x100000) ![0, 99968] S128x32.size (by intro a; fin_cases a; exacts [Nat.le_refl 128, (by show 99968 + 32 ≤ 100000; omega)])) (fun _ => rfl)).view.dmaCredit
def nZ (k : Fin 50) : ℕ := if k.val < 48 then n0 else if k.val = 48 then n1 else n2

variable (fo : Bf (F := F) c oM)
/-- Copy `k` before it starts, under way, and ended. -/
abbrev idle (k : Fin 50) : sProp 𝕄 := iprop(semVal ((c : Thread nD τ), .dma (zS k)) 0 ∗ outP c fo k ∗ zTok c k)
abbrev under (k : Fin 50) : sProp 𝕄 := iprop(Transfers.Flight EC (c : Thread nD τ) (.dma (zS k)) () (nZ k) iprop(outP c (zer c) k ∗ zTokOn c k) ∗ zTokOff c k)
abbrev ended (k : Fin 50) : sProp 𝕄 := iprop(semVal ((c : Thread nD τ), .dma (zS k)) 0 ∗ outP c (zer c) k ∗ zTok c k)
def cell (p : ℕ) (k : Fin 50) : sProp 𝕄 := if k.val < p then under c k else idle c fo k

/-- A copy of zeros started: from a copy not yet started to one under way. -/
theorem wp_zcopy (Q : PUnit → sProp 𝕄) (k : Fin 50) (off size : Fin 2 → ℕ) (inbd : ∀ a, off a + size a ≤ S128x100000.size a)
    (inbs : ∀ a, (![0, 0] : Fin 2 → ℕ) a + size a ≤ S128x2048.size a)
    (hcol : (Rect.unit (s := S128x100000) off size inbd).set = colSet c k)
    (hz : (Rect.unit (s := S128x2048) ![0, 0] size inbs).set = zSet c k)
    (hN : (oM.slice (Rect.unit (s := S128x100000) off size inbd) (fun _ => rfl)).view.dmaCredit = nZ k) (hpos : 0 < nZ k) (hs hd ht)
    (K : PUnit → Prog (TpuEff nD τ sig (Elt F) Λ₀ .tc) PUnit) :
    iprop(idle c fo k ∗ (under c k -∗ wpc c Q (K ⟨⟩)))
      ⊢ wpc c Q (.op (.enqueueDma (zM.slice (Rect.unit (s := S128x2048) ![0, 0] size inbs) (fun _ => rfl))
          (.here (oM.slice (Rect.unit (s := S128x100000) off size inbd) (fun _ => rfl))) (.dma (zS k)) hs hd ht) K) := by
  have ed : (oM.slice (Rect.unit (s := S128x100000) off size inbd) (fun _ => rfl)).view.set = colSet c k := (View.set_slice_whole main_v0_1 _).trans hcol
  have es : (zM.slice (Rect.unit (s := S128x2048) ![0, 0] size inbs) (fun _ => rfl)).view.set = zSet c k := (View.set_slice_whole cc0_scratch2 _).trans hz
  have hcopy := Transfers.wp_dmaLocal EC Variants.none (c : Thread nD τ) none (defs := defs₀ (F := F)) (Q := Q)
    (src := zM.slice (Rect.unit (s := S128x2048) ![0, 0] size inbs) (fun _ => rfl))
    (dst := oM.slice (Rect.unit (s := S128x100000) off size inbd) (fun _ => rfl)) (via := .same) (sm := .dma (zS k)) (hsrc := hs) (hdst := hd) (hsem := ht) (k := K)
    (q := tok k) (fs := fz c) (fd := fo) (Sd := colSet c k) () (nZ k) hN hpos (ed ▸ Finset.Subset.refl _)
  rw [es] at hcopy
  have hw : ∀ i ∈ colSet c k, ((oM.slice (Rect.unit (s := S128x100000) off size inbd) (fun _ => rfl)).view.write (Elt F) fo
      (ReadAs.same.apply ((zM.slice (Rect.unit (s := S128x2048) ![0, 0] size inbs) (fun _ => rfl)).view.read (Elt F) (fz c))) Finset.univ) i = (zer c : Bf (F := F) c oM) i := by
    intro i hi
    rw [← ed] at hi
    obtain ⟨x, -, rfl⟩ := Finset.mem_map.mp hi
    rw [View.write_emb_of_mem (h := Finset.mem_univ x)]
    rfl
  rw [pointsTo_congr hw] at hcopy
  iintro ⟨⟨Hv, Ho, Ht⟩, Hk⟩
  ihave Ht := (pointsTo_split_subset (q := tok k) (f := (fz c : Bf (F := F) c zM)) (Finset.subset_univ (zSet c k))).1 $$ Ht
  icases Ht with ⟨Ht, Hr⟩
  iapply hcopy $$ [Hv Ho Ht]
  · isplitl [Ht]; · iexact Ht
    isplitl [Ho]; · iexact Ho
    iexact Hv
  iintro HF
  iapply Hk
  isplitl [HF]; · iexact HF
  iexact Hr
end
end Cert.KernelIdeal.Own
end

end
-- ==== Proof.Mask.lean ====
module

public import proofs.«01_k».proof.Proof.Prog0

@[expose] public section

noncomputable section
namespace Cert.KernelIdeal.Own
open Cert.KernelIdeal Cert.KernelIdeal.Gen Idealize.ShloMosaic
variable {F : FTy → Type} [FloatOps F]

/-- How many of the lanes from chunk `k` of point `j` on are columns of the array. -/
def bound (j k : ℕ) : BitVec 32 := Scalar.subi (Scalar.subi 100000#32 (Scalar.muli (BitVec.ofNat 32 j) 2048#32)) (BitVec.ofNat 32 (128 * k))

theorem bound_toInt : ∀ (j : Fin 49) (k : Fin 16), (bound j.val k.val).toInt = 100000 - 2048 * (j.val : ℤ) - 128 * (k.val : ℤ) := by decide +kernel
theorem lane_toInt : ∀ l : Fin 128, (BitVec.ofNat 32 l.val).toInt = (l.val : ℤ) := by decide +kernel

theorem lanes_apply (i : S128x128.Idx) : lanes i = BitVec.ofNat 32 (i 1).val := by
  show iota .tc S128x128 32 [1] _ i = _
  simp [iota]

/-- A lane is below the bound exactly where it is a column. -/
theorem lane_mask (j : ℕ) (hj : j < 49) (k : Fin 16) (i : S128x128.Idx) :
    cmpi .slt lanes (broadcast S128x128 (bound j k.val)) i = 1#1 ↔ 2048 * j + 128 * k.val + (i 1).val < 100000 := by
  have hb := bound_toInt ⟨j, hj⟩ k
  have hl := lane_toInt ⟨(i 1).val, (i 1).isLt⟩
  show BitVec.ofBool ((lanes i).slt (bound j k.val)) = 1#1 ↔ _
  rw [lanes_apply, BitVec.slt]
  dsimp only at hb hl
  rw [hl, hb]
  by_cases h : ((i 1).val : ℤ) < 100000 - 2048 * (j : ℤ) - 128 * (k.val : ℤ)
  · rw [decide_eq_true h]
    exact ⟨fun _ => by omega, fun _ => rfl⟩
  · rw [decide_eq_false h]
    exact ⟨fun h' => absurd h' (by decide), fun h' => absurd h' (by omega)⟩

/-- The chunks of a list folded in, `rd k` being what chunk `k` reads. -/
def folded (a : BitVec 32) (rd : Fin 16 → FVec F S128x128 .f32) (l : List (Fin 16)) (st : FVec F S128x128 .f32 × IVec S128x128 32) : FVec F S128x128 .f32 × IVec S128x128 32 :=
  l.foldl (fun st k => step a k st (rd k)) st

theorem andi_one (a b : BitVec 1) : a &&& b = 1#1 ↔ a = 1#1 ∧ b = 1#1 := by
  revert a b; decide

/-- Whether a lane moves, lane by lane. -/
theorem moves_apply (j : ℕ) (hj : j < 49) (k : Fin 16) (acc x u : FVec F S128x128 .f32) (i : S128x128.Idx) :
    moves (BitVec.ofNat 32 j) k acc x u i = 1#1 ↔ cmpf .ogt (noisy x u) acc i = 1#1 ∧ 2048 * j + 128 * k.val + (i 1).val < 100000 := by
  rw [← lane_mask j hj k i]
  exact andi_one _ _

theorem bit_ext {a b : BitVec 1} (h : a = 1#1 ↔ b = 1#1) : a = b := by
  revert a b; decide

/-- What a point's chunks read past the array's last column does not matter. -/
theorem step_congr (j : ℕ) (hj : j < 49) (k : Fin 16) (st : FVec F S128x128 .f32 × IVec S128x128 32) (x x' : FVec F S128x128 .f32)
    (h : ∀ i : S128x128.Idx, 2048 * j + 128 * k.val + (i 1).val < 100000 → x i = x' i) :
    step (BitVec.ofNat 32 j) k st x = step (BitVec.ofNat 32 j) k st x' := by
  have hn : ∀ i : S128x128.Idx, 2048 * j + 128 * k.val + (i 1).val < 100000 → ∀ u : FVec F S128x128 .f32, noisy x u i = noisy x' u i := by
    intro i hi u
    show FloatOps.addf (x i) _ = FloatOps.addf (x' i) _
    rw [h i hi]
  have hm : ∀ u : FVec F S128x128 .f32, moves (BitVec.ofNat 32 j) k st.1 x u = moves (BitVec.ofNat 32 j) k st.1 x' u := by
    intro u
    funext i
    refine bit_ext ?_
    rw [moves_apply j hj, moves_apply j hj]
    refine and_congr_left fun hi => ?_
    show FloatOps.cmpf .ogt (noisy x u i) _ = 1#1 ↔ FloatOps.cmpf .ogt (noisy x' u i) _ = 1#1
    rw [hn i hi u]
  show stepU _ _ _ _ _ = stepU _ _ _ _ _
  unfold stepU
  rw [hm]
  refine Prod.ext ?_ rfl
  funext i
  show (if moves _ k st.1 x' _ i = 1#1 then noisy x _ i else st.1 i) = (if moves _ k st.1 x' _ i = 1#1 then noisy x' _ i else st.1 i)
  split
  · rename_i hc
    exact hn i ((moves_apply j hj k st.1 x' _ i).1 hc).2 _
  · rfl

theorem folded_congr (j : ℕ) (hj : j < 49) (rd rd' : Fin 16 → FVec F S128x128 .f32)
    (h : ∀ (k : Fin 16) (i : S128x128.Idx), 2048 * j + 128 * k.val + (i 1).val < 100000 → rd k i = rd' k i) :
    ∀ (l : List (Fin 16)) (st : FVec F S128x128 .f32 × IVec S128x128 32), folded (BitVec.ofNat 32 j) rd l st = folded (BitVec.ofNat 32 j) rd' l st
  | [], _ => rfl
  | k :: l, st => by
    show folded _ rd l (step _ k st (rd k)) = folded _ rd' l (step _ k st (rd' k))
    rw [step_congr j hj k st (rd k) (rd' k) (h k)]
    exact folded_congr j hj rd rd' h l _

/-- Block `j` of the array, something past its last column. -/
def blkAt (A : FVec F S128x100000 .f32) (j : ℕ) : FVec F S128x2048 .f32 := fun i =>
  if h : 2048 * j + (i 1).val < 100000 then A (fun a => match a with | 0 => i 0 | 1 => ⟨2048 * j + (i 1).val, h⟩) else Scalar.ofBits .f32 0x00000000#32
/-- Chunk `k` of a block. -/
def rdX (X : FVec F S128x2048 .f32) (k : Fin 16) : FVec F S128x128 .f32 := fun i =>
  X (fun a => match a with | 0 => i 0 | 1 => ⟨128 * k.val + (i 1).val, by have h : (i 1).val < 128 := (i 1).isLt; show _ < 2048; omega⟩)

/-- A point's chunks folded in. -/
def pointF (A : FVec F S128x100000 .f32) (j : ℕ) (st : FVec F S128x128 .f32 × IVec S128x128 32) : FVec F S128x128 .f32 × IVec S128x128 32 :=
  folded (BitVec.ofNat 32 j) (rdX (blkAt A j)) (List.finRange 16) st
/-- A point's lanes after its chunks, as stored. -/
def stored (r : FVec F S128x128 .f32 × IVec S128x128 32) : FVec F S128x128 .f32 × IVec S128x128 32 := (k0_pay1 r.1, k0_pay2 r.2)
/-- The lanes before point `j`. -/
def lanesAt (A : FVec F S128x100000 .f32) : ℕ → FVec F S128x128 .f32 × IVec S128x128 32
  | 0 => (k0_pay4, k0_pay5)
  | j + 1 => stored (pointF A j (lanesAt A j))
/-- What the rows' indices are. -/
abbrev idxOf (st : FVec F S128x128 .f32 × IVec S128x128 32) : IVec S128x1 32 := k0_pay3 lanes st.1 st.2
def idxRes (A : FVec F S128x100000 .f32) : IVec S128x1 32 := idxOf (pointF A 48 (lanesAt A 48))
end Cert.KernelIdeal.Own
end

end
-- ==== Proof.W0b.lean ====
module

public import proofs.«01_k».proof.Proof.W0
public import proofs.«01_k».proof.Proof.Mask

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ UU ℕ

section
variable (c : Dev nD)

/-! ### The copies' shapes -/

theorem z_col (k : Fin 48) : (Rect.unit (s := S128x100000) ![0, 2048 * k.val] S128x2048.size (inbZero k)).set = colSet c (k.castLE (by decide)) := by
  have hk := k.isLt
  ext i
  have hlt : (i 1).val < 100000 := (i 1).isLt
  refine (Rect.mem_set_unit).trans (Iff.trans ?_ Finset.mem_filter.symm)
  refine ⟨fun h => ⟨Finset.mem_univ _, ?_⟩, fun h a => ?_⟩
  · have h1 : 2048 * k.val ≤ (i 1).val ∧ (i 1).val < 2048 * k.val + 2048 := h 1
    show grp (i 1).val = k.val
    unfold grp; rw [if_pos (by omega)]; omega
  · have h1 : grp (i 1).val = k.val := h.2
    unfold grp at h1
    fin_cases a
    · exact ⟨Nat.zero_le _, lt_of_lt_of_eq (i 0).isLt (Nat.zero_add _).symm⟩
    · show 2048 * k.val ≤ (i 1).val ∧ (i 1).val < 2048 * k.val + 2048
      split_ifs at h1 <;> omega
theorem zL_col : (Rect.unit (s := S128x100000) ![0, 98304] S128x1664.size inb_S128x100000_S128x1664_0_98304).set = colSet c 48 := by
  ext i
  have hlt : (i 1).val < 100000 := (i 1).isLt
  refine (Rect.mem_set_unit).trans (Iff.trans ?_ Finset.mem_filter.symm)
  refine ⟨fun h => ⟨Finset.mem_univ _, ?_⟩, fun h a => ?_⟩
  · have h1 : 98304 ≤ (i 1).val ∧ (i 1).val < 98304 + 1664 := h 1
    show grp (i 1).val = 48
    unfold grp; rw [if_neg (by omega), if_pos (by omega)]
  · have h1 : grp (i 1).val = 48 := h.2
    unfold grp at h1
    fin_cases a
    · exact ⟨Nat.zero_le _, lt_of_lt_of_eq (i 0).isLt (Nat.zero_add _).symm⟩
    · show 98304 ≤ (i 1).val ∧ (i 1).val < 98304 + 1664
      split_ifs at h1 <;> omega
theorem zT_col (off : Fin 2 → ℕ) (ho : off = ![0, 99968]) (h) : (Rect.unit (s := S128x100000) off S128x32.size h).set = colSet c 49 := by
  subst ho
  ext i
  have hlt : (i 1).val < 100000 := (i 1).isLt
  refine (Rect.mem_set_unit).trans (Iff.trans ?_ Finset.mem_filter.symm)
  refine ⟨fun h => ⟨Finset.mem_univ _, ?_⟩, fun h a => ?_⟩
  · have h1 : 99968 ≤ (i 1).val ∧ (i 1).val < 99968 + 32 := h 1
    show grp (i 1).val = 49
    unfold grp; rw [if_neg (by omega), if_neg (by omega)]
  · have h1 : grp (i 1).val = 49 := h.2
    unfold grp at h1
    fin_cases a
    · exact ⟨Nat.zero_le _, lt_of_lt_of_eq (i 0).isLt (Nat.zero_add _).symm⟩
    · show 99968 ≤ (i 1).val ∧ (i 1).val < 99968 + 32
      split_ifs at h1 <;> omega
theorem z_set (k : Fin 50) (w : ℕ) (hw : width k = w) (inb) : (Rect.unit (s := S128x2048) ![0, 0] ![128, w] inb).set = zSet c k := by
  ext i
  refine (Rect.mem_set_unit).trans (Iff.trans ?_ Finset.mem_filter.symm)
  refine ⟨fun h => ⟨Finset.mem_univ _, ?_⟩, fun h a => ?_⟩
  · have h1 : 0 ≤ (i 1).val ∧ (i 1).val < 0 + w := h 1
    show (i 1).val < width k
    omega
  · have h1 : (i 1).val < width k := h.2
    fin_cases a
    · exact ⟨Nat.zero_le _, lt_of_lt_of_eq (i 0).isLt (Nat.zero_add _).symm⟩
    · show 0 ≤ (i 1).val ∧ (i 1).val < 0 + w
      omega

theorem nZ_lo (k : Fin 48) : nZ (k.castLE (by decide)) = n0 := if_pos k.isLt
theorem nZ_48 : nZ 48 = n1 := rfl
theorem nZ_49 : nZ 49 = n2 := rfl
theorem n0_pos : 0 < n0 := View.dmaCredit_pos _ (by decide)
theorem n1_pos : 0 < n1 := View.dmaCredit_pos _ (by decide)
theorem n2_pos : 0 < n2 := View.dmaCredit_pos _ (by decide)

variable (fo : Bf (F := F) c oM)

theorem wp_zEnq (Q : PUnit → sProp 𝕄) (k : Fin 48) (K : PP (F := F) PUnit) :
    iprop(idle c fo (k.castLE (by decide)) ∗ (under c (k.castLE (by decide)) -∗ wpc c Q K)) ⊢ wpc c Q (zEnq oM zM cc0_scratch4 k K) :=
  wp_zcopy c fo Q (k.castLE (by decide)) ![0, 2048 * k.val] S128x2048.size (inbZero k) _ (z_col c k)
    (z_set c (k.castLE (by decide)) 2048 (if_pos k.isLt) inb_S128x2048_S128x2048_0_0) (Eq.trans rfl (nZ_lo k).symm) ((nZ_lo k).symm ▸ n0_pos) _ _ _ (fun _ => K)
theorem wp_zEnqL (Q : PUnit → sProp 𝕄) (K : PP (F := F) PUnit) :
    iprop(idle c fo 48 ∗ (under c 48 -∗ wpc c Q K)) ⊢ wpc c Q (zEnqL oM zM cc0_scratch4 K) :=
  wp_zcopy c fo Q 48 ![0, 98304] S128x1664.size inb_S128x100000_S128x1664_0_98304 _ (zL_col c)
    (z_set c 48 1664 (by decide) inb_S128x2048_S128x1664_0_0) (Eq.trans rfl nZ_48.symm) (nZ_48 ▸ n1_pos) _ _ _ (fun _ => K)

/-- The copies before point `p`'s own is started, and what is left of the scratch of zeros. -/
def run (p : ℕ) : sProp 𝕄 := iprop((zM.view.loc (c : Thread nD τ) ↦{Transfers.shareDrop fullShare 50} (fz c : Bf (F := F) c zM)) ∗ bigSep Finset.univ (cell c fo p))

theorem run_step (p : ℕ) (hp : p < 50) :
    run c fo p ⊢ iprop(idle c fo ⟨p, hp⟩ ∗ (under c ⟨p, hp⟩ -∗ run c fo (p + 1))) := by
  unfold run
  have e1 : bigSep Finset.univ (cell c fo p) = iprop(idle c fo ⟨p, hp⟩ ∗ bigSep (Finset.univ.erase ⟨p, hp⟩) (cell c fo p)) := by
    rw [BI.bigSep_erase (Finset.mem_univ (⟨p, hp⟩ : Fin 50))]
    show iprop(cell c fo p ⟨p, hp⟩ ∗ _) = _
    rw [show cell c fo p ⟨p, hp⟩ = idle c fo ⟨p, hp⟩ from if_neg (lt_irrefl p)]
  have e2 : bigSep Finset.univ (cell c fo (p + 1)) = iprop(under c ⟨p, hp⟩ ∗ bigSep (Finset.univ.erase ⟨p, hp⟩) (cell c fo p)) := by
    rw [BI.bigSep_erase (Finset.mem_univ (⟨p, hp⟩ : Fin 50))]
    show iprop(cell c fo (p + 1) ⟨p, hp⟩ ∗ _) = _
    rw [show cell c fo (p + 1) ⟨p, hp⟩ = under c ⟨p, hp⟩ from if_pos (Nat.lt_succ_self p)]
    congr 1
    refine bigSep_congr fun k hk => ?_
    have hne : k.val ≠ p := fun h => (Finset.mem_erase.1 hk).1 (Fin.ext h)
    unfold cell
    by_cases h : k.val < p
    · rw [if_pos h, if_pos (by omega)]
    · rw [if_neg h, if_neg (by omega)]
  rw [e1, e2]
  iintro ⟨Hd, Hi, Hr⟩
  isplitl [Hi]; · iexact Hi
  iintro Hu
  isplitl [Hd]; · iexact Hd
  isplitl [Hu]; · iexact Hu
  iexact Hr

theorem run_next (p : ℕ) (k : Fin 50) (h : k.val = p) : run c fo p ⊢ iprop(idle c fo k ∗ (under c k -∗ run c fo (p + 1))) := by
  subst h
  exact run_step c fo k.val k.isLt

/-- From the zeros' array, the scratch of zeros and the semaphores, every copy yet to start. -/
theorem run_zero :
    iprop(pt c oM fo ∗ pt c zM (fz c) ∗ bigSep Finset.univ (fun k : Fin 50 => semVal ((c : Thread nD τ), .dma (zS k)) 0)) ⊢ (run c fo 0 : sProp 𝕄) := by
  unfold run
  have e : bigSep Finset.univ (cell c fo 0) = iprop(bigSep Finset.univ (fun k : Fin 50 => semVal ((c : Thread nD τ), .dma (zS k)) 0)
      ∗ bigSep Finset.univ (outP c fo) ∗ bigSep Finset.univ (zTok (F := F) c)) := by
    rw [← bigSep_sep', ← bigSep_sep']
    exact bigSep_congr fun k _ => if_neg (Nat.not_lt_zero _)
  rw [e, ← pointsTo_biUnion Finset.univ (colSet c) (fun r _ r' _ h => col_disj c r r' h), col_cov]
  iintro ⟨Ho, Hz, Hv⟩
  ihave Hz := (Transfers.pointsTo_toks_split fullShare 50) $$ Hz
  icases Hz with ⟨Hd, Ht⟩
  isplitl [Hd]; · iexact Hd
  isplitl [Hv]; · iexact Hv
  isplitl [Ho]; · iexact Ho
  iexact Ht

/-- Every copy ended: the zeros' array is zero and the scratch and the semaphores are back. -/
theorem run_end :
    iprop((zM.view.loc (c : Thread nD τ) ↦{Transfers.shareDrop fullShare 50} (fz c : Bf (F := F) c zM)) ∗ bigSep Finset.univ (fun k => (ended c k : sProp 𝕄)))
      ⊢ iprop(pt c oM (zer c) ∗ pt c zM (fz c) ∗ bigSep Finset.univ (fun k : Fin 50 => semVal ((c : Thread nD τ), .dma (zS k)) 0)) := by
  have e : bigSep Finset.univ (fun k => (ended c k : sProp 𝕄)) = iprop(bigSep Finset.univ (fun k : Fin 50 => semVal ((c : Thread nD τ), .dma (zS k)) 0)
      ∗ bigSep Finset.univ (outP c (zer c)) ∗ bigSep Finset.univ (zTok (F := F) c)) := by
    rw [← bigSep_sep', ← bigSep_sep']
  rw [e, ← pointsTo_biUnion Finset.univ (colSet c) (fun r _ r' _ h => col_disj c r r' h), col_cov]
  iintro ⟨Hd, Hv, Ho, Ht⟩
  isplitl [Ho]; · iexact Ho
  isplitl [Hd Ht]
  · iapply (Transfers.pointsTo_toks_join fullShare 50)
    isplitl [Hd]; · iexact Hd
    iexact Ht
  iexact Hv

/-- A copy of zeros waited for. -/
theorem wp_zwait (Q : PUnit → sProp 𝕄) (k : Fin 50) {S : Shape} (src : Memref sig .tc .vmem S .f32) (dst : Memref sig .tc .hbm S .f32)
    (hN : dst.view.dmaCredit = nZ k) (hs hd) (K : PP (F := F) PUnit) :
    iprop((∃ W, owes (c : Thread nD τ) 0 W) ∗ under c k ∗ (iprop((∃ W, owes (c : Thread nD τ) 0 W) ∗ ended c k) -∗ wpc c Q K))
      ⊢ wpc c Q (.op (.waitDma2 (zS k) src dst hs hd) fun _ => K) := by
  iintro ⟨⟨%W, HO⟩, ⟨HF, Hr⟩, Hk⟩
  iapply (Transfers.wp_waitLocal EC Variants.none (c : Thread nD τ) none () (N := nZ k) hN) $$ [HF HO]
  · isplitl [HF]; · iexact HF
    iexact HO
  iintro ⟨⟨Ho, Ht⟩, Hv, HO⟩
  iapply Hk
  isplitl [HO]; · iexists _; iexact HO
  isplitl [Hv]; · iexact Hv
  isplitl [Ho]; · iexact Ho
  iapply (pointsTo_split_subset (q := tok k) (f := (fz c : Bf (F := F) c zM)) (Finset.subset_univ (zSet c k))).2
  isplitl [Ht]; · iexact Ht
  iexact Hr

theorem fifty (Φ : Fin 50 → sProp 𝕄) : bigSep Finset.univ Φ = iprop(Φ 49 ∗ Φ 48 ∗ bigSep Finset.univ fun k : Fin 48 => Φ (k.castLE (by decide))) := by
  have e : (Finset.univ : Finset (Fin 50)) = insert 49 (insert 48 (Finset.univ.map (Fin.castLEEmb (show 48 ≤ 50 by decide)))) := by decide
  rw [e, bigSep_insert (by decide), bigSep_insert (by decide), bigSep_map]
  rfl

/-! ### The chunks -/

section
variable (arg1 : Memref sig .tc .vmem S128x2048 .f32) (x : Bf (F := F) c arg1)
/-- What chunk `k` reads of the block. -/
def rdOf (k : Fin 16) : FVec F S128x128 .f32 :=
  arg1.view.readAt (Elt F) (Rect.unit (s := S128x2048) ![0, 128 * k.val] S128x128.size (inbChunk k)).toLoadRect x

theorem wp_chunks (Q : PUnit → sProp 𝕄) (a : BitVec 32) (K : FVec F S128x128 .f32 × IVec S128x128 32 → PP (F := F) PUnit) : ∀ (l : List (Fin 16)) (st : FVec F S128x128 .f32 × IVec S128x128 32),
    iprop(pt c arg1 x ∗ (pt c arg1 x -∗ wpc c Q (K (folded a (rdOf c arg1 x) l st)))) ⊢ wpc c Q (chunks arg1 a l st K)
  | [], st => by
    iintro ⟨H, Hk⟩
    unfold chunks
    iapply Hk
    iexact H
  | k :: l, st => by
    have ih := wp_chunks Q a K l (step a k st (rdOf c arg1 x k))
    iintro ⟨H, Hk⟩
    unfold chunks
    iapply (wp_load Variants.none (c : Thread nD τ) none Set.univ (m := arg1) (Finset.subset_univ _)) $$ H
    iintro H
    iapply ih
    isplitl [H]; · iexact H
    iexact Hk
end
end
end Cert.KernelIdeal.Own
end

end
-- ==== Proof.W0c.lean ====
module

public import proofs.«01_k».proof.Proof.W0b

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ UU ℕ

section
variable (c : Dev nD)

/-- The first point's set-up run. -/
theorem wp_initS (Q : PUnit → sProp 𝕄) (K : PP (F := F) PUnit) (fa : Bf (F := F) c aM) (fi : Bf (F := F) c iM) (fzz : Bf (F := F) c zM) :
    iprop(pt c aM fa ∗ pt c iM fi ∗ pt c zM fzz ∗ (iprop(pt c aM (k0_pay4 (F := F)) ∗ pt c iM (k0_pay5 : IVec S128x128 32) ∗ pt c zM (fz c)) -∗ wpc c Q K))
      ⊢ wpc c Q (initS aM iM zM K) := by
  iintro ⟨Ha, Hi, Hz, Hk⟩
  unfold initS
  iapply (wp_load Variants.none (c : Thread nD τ) none Set.univ (m := aM) (Finset.subset_univ _)) $$ Ha
  iintro Ha
  iapply (wp_store Variants.none (c : Thread nD τ) none Set.univ (m := aM) (r := Rect.unit (s := S128x128) ![0, 0] S128x128.size inb_S128x128_S128x128_0_0) (f := fa) (Finset.subset_univ _)) $$ Ha
  iintro Ha
  iapply (wp_load Variants.none (c : Thread nD τ) none Set.univ (m := iM) (Finset.subset_univ _)) $$ Hi
  iintro Hi
  iapply (wp_store Variants.none (c : Thread nD τ) none Set.univ (m := iM) (r := Rect.unit (s := S128x128) ![0, 0] S128x128.size inb_S128x128_S128x128_0_0) (f := fi) (Finset.subset_univ _)) $$ Hi
  iintro Hi
  iapply (wp_load Variants.none (c : Thread nD τ) none Set.univ (m := zM) (Finset.subset_univ _)) $$ Hz
  iintro Hz
  iapply (wp_store Variants.none (c : Thread nD τ) none Set.univ (m := zM) (r := Rect.unit (s := S128x2048) ![0, 0] S128x2048.size inb_S128x2048_S128x2048_0_0) (f := fzz) (Finset.subset_univ _)) $$ Hz
  iintro Hz
  have e1 : ((aM : Memref sig .tc .vmem S128x128 .f32).access (Rect.unit (s := S128x128) ![0, 0] S128x128.size inb_S128x128_S128x128_0_0) : View sig .tc _ _ _).write (Elt F) fa (k0_pay4 (F := F)) Finset.univ = k0_pay4 (F := F) :=
    Memref.write_access_unit_zero_univ (Elt F) cc0_scratch0 (by funext a; fin_cases a <;> rfl) _ fa _
  have e2 : ((iM : Memref sig .tc .vmem S128x128 .i32).access (Rect.unit (s := S128x128) ![0, 0] S128x128.size inb_S128x128_S128x128_0_0) : View sig .tc _ _ _).write (Elt F) fi (k0_pay5 : IVec S128x128 32) Finset.univ = (k0_pay5 : IVec S128x128 32) :=
    Memref.write_access_unit_zero_univ (Elt F) cc0_scratch1 (by funext a; fin_cases a <;> rfl) _ fi _
  have e3 : ((zM : Memref sig .tc .vmem S128x2048 .f32).access (Rect.unit (s := S128x2048) ![0, 0] S128x2048.size inb_S128x2048_S128x2048_0_0) : View sig .tc _ _ _).write (Elt F) fzz (k0_pay6 (F := F)) Finset.univ = fz c :=
    Memref.write_access_unit_zero_univ (Elt F) cc0_scratch2 (by funext a; fin_cases a <;> rfl) _ fzz _
  rw [e1, e2, e3]
  iapply Hk
  isplitl [Ha]; · iexact Ha
  isplitl [Hi]; · iexact Hi
  iexact Hz

/-- From the read of the maxima to the last point's end. -/
theorem wp_rest (Q : PUnit → sProp 𝕄) (i : grid0.Coords) (a : BitVec 32) (h2 : (rM : Memref sig .tc .hbm S128x1 .i32).IsWhole) (h7 : (xM : Memref sig .tc .vmem S128x1 .i32).IsWhole)
    (arg1 : Memref sig .tc .vmem S128x2048 .f32) (x : Bf (F := F) c arg1) (st : FVec F S128x128 .f32 × IVec S128x128 32) :
    iprop(pt c aM st.1 ∗ pt c iM st.2 ∗ pt c arg1 x
      ∗ (iprop(pt c aM (stored (folded a (rdOf c arg1 x) (List.finRange 16) st)).1 ∗ pt c iM (stored (folded a (rdOf c arg1 x) (List.finRange 16) st)).2 ∗ pt c arg1 x)
          -∗ wpc c Q (finIf rM oM zM xM cc0_scratch4 cc0_scratch5 i h2 h7 (folded a (rdOf c arg1 x) (List.finRange 16) st))))
      ⊢ wpc c Q (rest arg1 rM oM aM iM zM xM cc0_scratch4 cc0_scratch5 i a h2 h7) := by
  iintro ⟨Ha, Hi, H1, Hk⟩
  unfold rest
  iapply (wp_load Variants.none (c : Thread nD τ) none Set.univ (m := aM) (Finset.subset_univ _)) $$ Ha
  iintro Ha
  iapply (wp_load Variants.none (c : Thread nD τ) none Set.univ (m := iM) (Finset.subset_univ _)) $$ Hi
  iintro Hi
  have e1 : (aM : Memref sig .tc .vmem S128x128 .f32).view.readAt (Elt F) (Rect.unit (s := S128x128) ![0, 0] S128x128.size inb_S128x128_S128x128_0_0).toLoadRect st.1 = st.1 :=
    Memref.readAt_unit_zero (Elt F) cc0_scratch0 (by funext a; fin_cases a <;> rfl) _ st.1
  have e2 : (iM : Memref sig .tc .vmem S128x128 .i32).view.readAt (Elt F) (Rect.unit (s := S128x128) ![0, 0] S128x128.size inb_S128x128_S128x128_0_0).toLoadRect st.2 = st.2 :=
    Memref.readAt_unit_zero (Elt F) cc0_scratch1 (by funext a; fin_cases a <;> rfl) _ st.2
  rw [e1, e2]
  iapply (wp_chunks c arg1 x Q a _ (List.finRange 16) st)
  isplitl [H1]; · iexact H1
  iintro H1
  generalize hr : folded a (rdOf c arg1 x) (List.finRange 16) st = r
  unfold endS
  iapply (wp_load Variants.none (c : Thread nD τ) none Set.univ (m := aM) (Finset.subset_univ _)) $$ Ha
  iintro Ha
  iapply (wp_store Variants.none (c : Thread nD τ) none Set.univ (m := aM) (r := Rect.unit (s := S128x128) ![0, 0] S128x128.size inb_S128x128_S128x128_0_0) (f := st.1) (Finset.subset_univ _)) $$ Ha
  iintro Ha
  iapply (wp_load Variants.none (c : Thread nD τ) none Set.univ (m := iM) (Finset.subset_univ _)) $$ Hi
  iintro Hi
  iapply (wp_store Variants.none (c : Thread nD τ) none Set.univ (m := iM) (r := Rect.unit (s := S128x128) ![0, 0] S128x128.size inb_S128x128_S128x128_0_0) (f := st.2) (Finset.subset_univ _)) $$ Hi
  iintro Hi
  have e3 : ((aM : Memref sig .tc .vmem S128x128 .f32).access (Rect.unit (s := S128x128) ![0, 0] S128x128.size inb_S128x128_S128x128_0_0) : View sig .tc _ _ _).write (Elt F) st.1 (k0_pay1 r.1) Finset.univ = (stored r).1 :=
    Memref.write_access_unit_zero_univ (Elt F) cc0_scratch0 (by funext a; fin_cases a <;> rfl) _ st.1 _
  have e4 : ((iM : Memref sig .tc .vmem S128x128 .i32).access (Rect.unit (s := S128x128) ![0, 0] S128x128.size inb_S128x128_S128x128_0_0) : View sig .tc _ _ _).write (Elt F) st.2 (k0_pay2 r.2) Finset.univ = (stored r).2 :=
    Memref.write_access_unit_zero_univ (Elt F) cc0_scratch1 (by funext a; fin_cases a <;> rfl) _ st.2 _
  rw [e3, e4]
  iapply Hk
  isplitl [Ha]; · iexact Ha
  isplitl [Hi]; · iexact Hi
  iexact H1

theorem cond_eq (i : grid0.Coords) : k0_cond51 i = cnd (BitVec.ofNat 32 (i 0).val) 48#32 := rfl

abbrev iSem : DmaSem sig := (cc0_scratch5 : DmaSems sig S_).sem
abbrev isem0 : sProp 𝕄 := semVal ((c : Thread nD τ), .dma iSem) 0
abbrev debt : sProp 𝕄 := iprop(∃ W, owes (c : Thread nD τ) 0 W)
abbrev zsems : sProp 𝕄 := bigSep Finset.univ (fun k : Fin 50 => semVal ((c : Thread nD τ), .dma (zS k)) 0)
def nR : ℕ := (rM : Memref sig .tc .hbm S128x1 .i32).view.dmaCredit

theorem write_rM (fr : Bf (F := F) c rM) (w : Bf (F := F) c xM) : (rM : Memref sig .tc .hbm S128x1 .i32).view.write (Elt F) fr (ReadAs.same.apply ((xM : Memref sig .tc .vmem S128x1 .i32).view.read (Elt F) w)) Finset.univ = w :=
  View.write_whole_univ (Val := Elt F) main_v0_0 fr w

/-- The last point's end run. -/
theorem wp_fin (Q : PUnit → sProp 𝕄) (i : grid0.Coords) (hc : k0_cond51 i = 1#1) (h2 : (rM : Memref sig .tc .hbm S128x1 .i32).IsWhole) (h7 : (xM : Memref sig .tc .vmem S128x1 .i32).IsWhole)
    (st : FVec F S128x128 .f32 × IVec S128x128 32) (fo : Bf (F := F) c oM) (fr : Bf (F := F) c rM) (fx : Bf (F := F) c xM) :
    iprop(run c fo 49 ∗ pt c xM fx ∗ pt c rM fr ∗ isem0 c ∗ debt c
      ∗ (iprop(pt c oM (zer c) ∗ pt c zM (fz c) ∗ zsems c ∗ pt c xM (idxOf st) ∗ pt c rM (idxOf st) ∗ isem0 c ∗ debt c) -∗ Q ⟨⟩))
      ⊢ wpc c Q (finS rM oM zM xM cc0_scratch4 cc0_scratch5 i hc h2 h7 st) := by
  iintro ⟨HR, Hx, Hr, Hv, HO, Hk⟩
  unfold finS
  ihave HR := (run_next c fo 49 49 rfl) $$ HR
  icases HR with ⟨Hi, HR⟩
  have hT := wp_zcopy c fo Q 49 (k0_off1 i) S128x32.size (k0_off1_inb i hc) inb_S128x2048_S128x32_0_0 (zT_col c _ (k0_off1_eq i) _)
    (z_set c 49 32 (by decide) inb_S128x2048_S128x32_0_0) (Eq.trans rfl nZ_49.symm) (nZ_49 ▸ n2_pos) (View.wordExact_bits rfl) (View.wordExact_bits rfl) ⟨Or.inl rfl, trivial⟩
  iapply hT
  isplitl [Hi]; · iexact Hi
  iintro HU
  ispecialize HR $$ HU
  iapply (wp_load Variants.none (c : Thread nD τ) none Set.univ (m := xM) (Finset.subset_univ _)) $$ Hx
  iintro Hx
  iapply (wp_store Variants.none (c : Thread nD τ) none Set.univ (m := xM) (r := Rect.unit (s := S128x1) ![0, 0] S128x1.size inb_S128x1_S128x1_0_0) (f := fx) (Finset.subset_univ _)) $$ Hx
  iintro Hx
  have e1 : ((xM : Memref sig .tc .vmem S128x1 .i32).access (Rect.unit (s := S128x1) ![0, 0] S128x1.size inb_S128x1_S128x1_0_0) : View sig .tc _ _ _).write (Elt F) fx (k0_pay3 lanes st.1 st.2) Finset.univ = idxOf st :=
    Memref.write_access_unit_zero_univ (Elt F) cc0_scratch3 (by funext a; fin_cases a <;> rfl) _ fx _
  rw [e1]
  have hD := fun K => Transfers.wp_dmaLocal EC Variants.none (c : Thread nD τ) none (defs := defs₀ (F := F)) (Q := Q) (src := xM) (dst := rM) (via := .same) (sm := .dma iSem)
    (hsrc := h7.wordExact) (hdst := h2.wordExact) (hsem := ⟨Or.inl rfl, trivial⟩) (k := K)
    (q := fullShare) (fs := idxOf st) (fd := fr) (Sd := Finset.univ) () nR rfl (View.dmaCredit_pos _ (by decide)) (Finset.subset_univ _)
  have e2 : (rM : Memref sig .tc .hbm S128x1 .i32).view.write (Elt F) fr (ReadAs.same.apply ((xM : Memref sig .tc .vmem S128x1 .i32).view.read (Elt F) (idxOf st))) Finset.univ = idxOf st :=
    write_rM c fr (idxOf st)
  have e3 : (xM : Memref sig .tc .vmem S128x1 .i32).view.set = Finset.univ := View.set_whole cc0_scratch3
  rw [e2, e3] at hD
  iapply (hD _) $$ [Hx Hr Hv]
  · isplitl [Hx]; · iexact Hx
    isplitl [Hr]; · iexact Hr
    iexact Hv
  iintro HF
  unfold run
  icases HR with ⟨Hd, HR⟩
  have e4 : bigSep Finset.univ (cell c fo (49 + 1)) = bigSep Finset.univ (fun k => (under c k : sProp 𝕄)) :=
    bigSep_congr fun k _ => if_pos k.isLt
  ihave HR := (Entails.of_eq (e4.trans (fifty _))) $$ HR
  icases HR with ⟨HR49, HR48, HR⟩
  have hl : (List.finRange 48).toFinset = Finset.univ := List.toFinset_finRange 48
  have hn := List.nodup_finRange 48
  generalize List.finRange 48 = l at hl hn ⊢
  have hW := wp_foldr (wpc c Q) (fun (k : Fin 48) (K : PP (F := F) PUnit) => .op (.waitDma2 (zSem cc0_scratch4 (k.castLE (by decide))) (zSrc zM) (zDst oM k) (View.wordExact_bits rfl) (View.wordExact_bits rfl)) fun _ => K)
    (fun k => under c (k.castLE (by decide))) (fun k => ended c (k.castLE (by decide))) (debt c)
    (fun k K => wp_zwait c Q (k.castLE (by decide)) (zSrc zM) (zDst oM k) (Eq.trans rfl (nZ_lo k).symm) _ _ K)
    (.op (.waitDma2 (zSem cc0_scratch4 48) (zSrcL zM) (zDstL oM) (View.wordExact_bits rfl) (View.wordExact_bits rfl)) fun _ =>
     .op (.waitDma2 (zSem cc0_scratch4 49) (zSrcT zM) (zDstT oM i hc) (View.wordExact_bits rfl) (View.wordExact_bits rfl)) fun _ =>
     .op (.waitDma2 (cc0_scratch5 : DmaSems sig S_).sem xM rM h7.wordExact h2.wordExact) fun _ => .ret ⟨⟩) l hn
  iapply hW
  rw [hl]
  isplitl [HO]; · iexact HO
  isplitl [HR]; · iexact HR
  iintro ⟨HO, HE⟩
  iapply (wp_zwait c Q 48 (zSrcL zM) (zDstL oM) (Eq.trans rfl nZ_48.symm) _ _ _)
  isplitl [HO]; · iexact HO
  isplitl [HR48]; · iexact HR48
  iintro ⟨HO, HE48⟩
  iapply (wp_zwait c Q 49 (zSrcT zM) (zDstT oM i hc) (Eq.trans rfl nZ_49.symm) _ _ _)
  isplitl [HO]; · iexact HO
  isplitl [HR49]; · iexact HR49
  iintro ⟨⟨%W, HO⟩, HE49⟩
  iapply (Transfers.wp_waitLocal EC Variants.none (c : Thread nD τ) none () (N := nR) rfl) $$ [HF HO]
  · isplitl [HF]; · iexact HF
    iexact HO
  iintro ⟨⟨Hr, Hx⟩, Hv, HO⟩
  ihave HE := (Entails.of_eq (fifty (fun k => (ended c k : sProp 𝕄))).symm) $$ [HE HE48 HE49]
  · isplitl [HE49]; · iexact HE49
    isplitl [HE48]; · iexact HE48
    iexact HE
  ihave HE := (run_end c) $$ [Hd HE]
  · isplitl [Hd]; · iexact Hd
    iexact HE
  icases HE with ⟨Ho, Hz, Hvs⟩
  sl_step
  iapply Hk
  isplitl [Ho]; · iexact Ho
  isplitl [Hz]; · iexact Hz
  isplitl [Hvs]; · iexact Hvs
  isplitl [Hx]; · iexact Hx
  isplitl [Hr]; · iexact Hr
  isplitl [Hv]; · iexact Hv
  iexists _; iexact HO

/-! ### The points -/

/-- Between the points: the maxima and their chunks, the copies started before point `p` and the rest. -/
def mid (fo : Bf (F := F) c oM) (fr : Bf (F := F) c rM) (p : ℕ) (st : FVec F S128x128 .f32 × IVec S128x128 32) : sProp 𝕄 :=
  iprop(pt c aM st.1 ∗ pt c iM st.2 ∗ run c fo p ∗ (∃ f, pt c xM f) ∗ pt c rM fr ∗ isem0 c)

variable (fo : Bf (F := F) c oM) (fr : Bf (F := F) c rM)

/-- A point that is not the last, from its copy's start on. -/
theorem wp_tail (Q : PUnit → sProp 𝕄) (i : grid0.Coords) (j : ℕ) (hi : (i 0).val = j) (hj : j < 48)
    (h2 : (rM : Memref sig .tc .hbm S128x1 .i32).IsWhole) (h7 : (xM : Memref sig .tc .vmem S128x1 .i32).IsWhole)
    (arg1 : Memref sig .tc .vmem S128x2048 .f32) (x : Bf (F := F) c arg1) (st : FVec F S128x128 .f32 × IVec S128x128 32) :
    iprop(mid c fo fr j st ∗ pt c arg1 x ∗ (iprop(mid c fo fr (j + 1) (stored (folded (BitVec.ofNat 32 j) (rdOf c arg1 x) (List.finRange 16) st)) ∗ pt c arg1 x) -∗ Q ⟨⟩))
      ⊢ wpc c Q (zs oM zM cc0_scratch4 (BitVec.ofNat 32 (i 0).val) (List.finRange 48) <|
          zIfL oM zM cc0_scratch4 (cnd (BitVec.ofNat 32 (i 0).val) 48#32) <|
          rest arg1 rM oM aM iM zM xM cc0_scratch4 cc0_scratch5 i (BitVec.ofNat 32 (i 0).val) h2 h7) := by
  have hne : ¬ cnd (BitVec.ofNat 32 (i 0).val) 48#32 = 1#1 := fun h => by
    have := (cnd_iff (j := (i 0).val) (k := 48) (by omega) (by omega)).1 h; omega
  rw [show zIfL oM zM cc0_scratch4 (cnd (BitVec.ofNat 32 (i 0).val) 48#32) (rest arg1 rM oM aM iM zM xM cc0_scratch4 cc0_scratch5 i (BitVec.ofNat 32 (i 0).val) h2 h7)
    = (rest arg1 rM oM aM iM zM xM cc0_scratch4 cc0_scratch5 i (BitVec.ofNat 32 (i 0).val) h2 h7 : PP (F := F) PUnit) from dif_neg hne]
  rw [hi, zs_lt _ _ _ j hj]
  iintro ⟨HM, H1, Hk⟩
  unfold mid
  icases HM with ⟨Ha, Hi, HR, Hx, Hr, Hv⟩
  ihave HR := (run_next c fo j ((⟨j, hj⟩ : Fin 48).castLE (by decide)) rfl) $$ HR
  icases HR with ⟨Hd, HR⟩
  iapply (wp_zEnq c fo Q ⟨j, hj⟩ _)
  isplitl [Hd]; · iexact Hd
  iintro HU
  ispecialize HR $$ HU
  iapply (wp_rest c Q i (BitVec.ofNat 32 j) h2 h7 arg1 x st)
  isplitl [Ha]; · iexact Ha
  isplitl [Hi]; · iexact Hi
  isplitl [H1]; · iexact H1
  iintro ⟨Ha, Hi, H1⟩
  rw [show finIf rM oM zM xM cc0_scratch4 cc0_scratch5 i h2 h7 (folded (BitVec.ofNat 32 j) (rdOf c arg1 x) (List.finRange 16) st) = (.ret ⟨⟩ : PP (F := F) PUnit) from dif_neg hne]
  unfold wpc
  sl_step
  iapply Hk
  isplitl [Ha Hi HR Hx Hr Hv]
  · isplitl [Ha]; · iexact Ha
    isplitl [Hi]; · iexact Hi
    isplitl [HR]; · iexact HR
    isplitl [Hx]; · iexact Hx
    isplitl [Hr]; · iexact Hr
    iexact Hv
  iexact H1

/-- A point between the first and the last. -/
theorem wp_mid (Q : PUnit → sProp 𝕄) (i : grid0.Coords) (j : ℕ) (hi : (i 0).val = j) (h0 : 0 < j) (hj : j < 48)
    (h2 : (rM : Memref sig .tc .hbm S128x1 .i32).IsWhole) (h7 : (xM : Memref sig .tc .vmem S128x1 .i32).IsWhole)
    (arg1 : Memref sig .tc .vmem S128x2048 .f32) (x : Bf (F := F) c arg1) (st : FVec F S128x128 .f32 × IVec S128x128 32) :
    iprop(mid c fo fr j st ∗ pt c arg1 x ∗ (iprop(mid c fo fr (j + 1) (stored (folded (BitVec.ofNat 32 j) (rdOf c arg1 x) (List.finRange 16) st)) ∗ pt c arg1 x) -∗ Q ⟨⟩))
      ⊢ wpc c Q (argmax arg1 rM oM aM iM zM xM cc0_scratch4 cc0_scratch5 i h2 h7) := by
  have hne : ¬ cnd (BitVec.ofNat 32 (i 0).val) 0#32 = 1#1 := fun h => by
    have := (cnd_iff (j := (i 0).val) (k := 0) (by omega) (by omega)).1 h; omega
  have := wp_tail c fo fr Q i j hi hj h2 h7 arg1 x st
  unfold argmax initIf
  rw [dif_neg hne]
  exact this

/-- The first point. -/
theorem wp_first (Q : PUnit → sProp 𝕄) (i : grid0.Coords) (hi : (i 0).val = 0)
    (h2 : (rM : Memref sig .tc .hbm S128x1 .i32).IsWhole) (h7 : (xM : Memref sig .tc .vmem S128x1 .i32).IsWhole)
    (arg1 : Memref sig .tc .vmem S128x2048 .f32) (x : Bf (F := F) c arg1) (fa : Bf (F := F) c aM) (fi : Bf (F := F) c iM) (fzz : Bf (F := F) c zM) (fx : Bf (F := F) c xM) :
    iprop(pt c aM fa ∗ pt c iM fi ∗ pt c zM fzz ∗ pt c xM fx ∗ pt c oM fo ∗ pt c rM fr ∗ zsems c ∗ isem0 c ∗ pt c arg1 x
        ∗ (iprop(mid c fo fr 1 (stored (folded 0#32 (rdOf c arg1 x) (List.finRange 16) (k0_pay4, k0_pay5))) ∗ pt c arg1 x) -∗ Q ⟨⟩))
      ⊢ wpc c Q (argmax arg1 rM oM aM iM zM xM cc0_scratch4 cc0_scratch5 i h2 h7) := by
  have hp : cnd (BitVec.ofNat 32 (i 0).val) 0#32 = 1#1 := (cnd_iff (j := (i 0).val) (k := 0) (by omega) (by omega)).2 hi
  have := wp_tail c fo fr Q i 0 hi (by omega) h2 h7 arg1 x (k0_pay4, k0_pay5)
  unfold argmax initIf
  rw [dif_pos hp]
  iintro ⟨Ha, Hi, Hz, Hx, Ho, Hr, Hvs, Hv, H1, Hk⟩
  iapply (wp_initS c Q _ fa fi fzz)
  isplitl [Ha]; · iexact Ha
  isplitl [Hi]; · iexact Hi
  isplitl [Hz]; · iexact Hz
  iintro ⟨Ha, Hi, Hz⟩
  ihave HR := (run_zero c fo) $$ [Ho Hz Hvs]
  · isplitl [Ho]; · iexact Ho
    isplitl [Hz]; · iexact Hz
    iexact Hvs
  iapply this
  isplitl [Ha Hi HR Hx Hr Hv]
  · unfold mid
    isplitl [Ha]; · iexact Ha
    isplitl [Hi]; · iexact Hi
    isplitl [HR]; · iexact HR
    isplitl [Hx]; · iexists _; iexact Hx
    isplitl [Hr]; · iexact Hr
    iexact Hv
  isplitl [H1]; · iexact H1
  iexact Hk

/-- The last point. -/
theorem wp_last (Q : PUnit → sProp 𝕄) (i : grid0.Coords) (hi : (i 0).val = 48)
    (h2 : (rM : Memref sig .tc .hbm S128x1 .i32).IsWhole) (h7 : (xM : Memref sig .tc .vmem S128x1 .i32).IsWhole)
    (arg1 : Memref sig .tc .vmem S128x2048 .f32) (x : Bf (F := F) c arg1) (st : FVec F S128x128 .f32 × IVec S128x128 32) :
    iprop(mid c fo fr 48 st ∗ pt c arg1 x ∗ debt c
        ∗ (iprop(pt c aM (stored (folded 48#32 (rdOf c arg1 x) (List.finRange 16) st)).1 ∗ pt c iM (stored (folded 48#32 (rdOf c arg1 x) (List.finRange 16) st)).2
            ∗ pt c zM (fz c) ∗ pt c xM (idxOf (folded 48#32 (rdOf c arg1 x) (List.finRange 16) st)) ∗ pt c oM (zer c)
            ∗ pt c rM (idxOf (folded 48#32 (rdOf c arg1 x) (List.finRange 16) st)) ∗ zsems c ∗ isem0 c ∗ pt c arg1 x ∗ debt c) -∗ Q ⟨⟩))
      ⊢ wpc c Q (argmax arg1 rM oM aM iM zM xM cc0_scratch4 cc0_scratch5 i h2 h7) := by
  have hne : ¬ cnd (BitVec.ofNat 32 (i 0).val) 0#32 = 1#1 := fun h => by
    have := (cnd_iff (j := (i 0).val) (k := 0) (by omega) (by omega)).1 h; omega
  have hp : cnd (BitVec.ofNat 32 (i 0).val) 48#32 = 1#1 := (cnd_iff (j := (i 0).val) (k := 48) (by omega) (by omega)).2 hi
  unfold argmax initIf zIfL
  rw [dif_neg hne, dif_pos hp, hi, zs_last]
  iintro ⟨HM, H1, HO, Hk⟩
  unfold mid
  icases HM with ⟨Ha, Hi, HR, ⟨%fx, Hx⟩, Hr, Hv⟩
  ihave HR := (run_next c fo 48 48 rfl) $$ HR
  icases HR with ⟨Hd, HR⟩
  iapply (wp_zEnqL c fo Q _)
  isplitl [Hd]; · iexact Hd
  iintro HU
  ispecialize HR $$ HU
  iapply (wp_rest c Q i (BitVec.ofNat 32 48) h2 h7 arg1 x st)
  isplitl [Ha]; · iexact Ha
  isplitl [Hi]; · iexact Hi
  isplitl [H1]; · iexact H1
  iintro ⟨Ha, Hi, H1⟩
  rw [show finIf rM oM zM xM cc0_scratch4 cc0_scratch5 i h2 h7 (folded (BitVec.ofNat 32 48) (rdOf c arg1 x) (List.finRange 16) st)
    = (finS rM oM zM xM cc0_scratch4 cc0_scratch5 i hp h2 h7 (folded (BitVec.ofNat 32 48) (rdOf c arg1 x) (List.finRange 16) st) : PP (F := F) PUnit) from dif_pos hp]
  iapply (wp_fin c Q i hp h2 h7 _ fo fr fx)
  isplitl [HR]; · iexact HR
  isplitl [Hx]; · iexact Hx
  isplitl [Hr]; · iexact Hr
  isplitl [Hv]; · iexact Hv
  isplitl [HO]; · iexact HO
  iintro ⟨Ho, Hz, Hvs, Hx, Hr, Hv, HO⟩
  iapply Hk
  isplitl [Ha]; · iexact Ha
  isplitl [Hi]; · iexact Hi
  isplitl [Hz]; · iexact Hz
  isplitl [Hx]; · iexact Hx
  isplitl [Ho]; · iexact Ho
  isplitl [Hr]; · iexact Hr
  isplitl [Hvs]; · iexact Hvs
  isplitl [Hv]; · iexact Hv
  isplitl [H1]; · iexact H1
  iexact HO
end
end Cert.KernelIdeal.Own
end

end
-- ==== Proof.R0.lean ====
module

public import proofs.«01_k».proof.Proof.W0c
public import proofs.«01_k».proof.Proof.Gen.KernelIdeal.Regions

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ UU ℕ

/-! ### The blocks -/

theorem coords0 : ∀ t : Fin grid0.N, (grid0.coords t 0).val = t.val := by decide +kernel
theorem index0 : ∀ t : Fin grid0.N, cc0_transform_0 (grid0.coords t) = ![0, t.val] := by decide +kernel
theorem extent0 : ∀ t : Fin grid0.N, ((Pipeline.Clip.of (cc0_transform_0 (grid0.coords t) 0) (S128x2048.size 0) (S128x100000.size 0)).extent (S128x2048.size 0)) = 128 := by decide +kernel
theorem extent1 : ∀ t : Fin grid0.N, ((Pipeline.Clip.of (cc0_transform_0 (grid0.coords t) 1) (S128x2048.size 1) (S128x100000.size 1)).extent (S128x2048.size 1)) = if t.val = 48 then 1696 else 2048 := by decide +kernel

section
variable (c : Dev nD)

theorem rdOf_eq (arg1 : Memref sig .tc .vmem S128x2048 .f32) (x : Bf (F := F) c arg1) (k : Fin 16) :
    rdOf c arg1 x k = rdX (arg1.view.read (Elt F) x) k := by
  funext i
  show arg1.view.read (Elt F) x _ = arg1.view.read (Elt F) x _
  congr 1
  funext a
  fin_cases a
  · exact Fin.ext (by show 0 + 1 * (i 0).val = (i 0).val; omega)
  · exact Fin.ext (by show 128 * k.val + 1 * (i 1).val = 128 * k.val + (i 1).val; omega)

variable (V : (c : Dev nD) → (b : Ref sig .tc) → Buf (Elt F) ((c : Thread nD τ).loc b))

/-- The argument's array. -/
abbrev arr (c : Dev nD) : FVec F S128x100000 .f32 := V c main_arg0

/-- Beside the kernel's own buffers: the next call's. -/
def others : sProp 𝕄 := iprop((∃ f : Buf (Elt F) ((c : Thread nD τ).loc cc1_stg1_0), ((c : Thread nD τ).loc cc1_stg1_0) ↦{fullShare} f)
  ∗ (∃ f : Buf (Elt F) ((c : Thread nD τ).loc cc1_scratch0), ((c : Thread nD τ).loc cc1_scratch0) ↦{fullShare} f)
  ∗ (∃ f : Buf (Elt F) ((c : Thread nD τ).loc cc1_stg0_0), ((c : Thread nD τ).loc cc1_stg0_0) ↦{fullShare} f))

/-- Before the first point and after the last: the kernel's buffers, its two results at given contents, its semaphores. -/
def ends (fo : Bf (F := F) c oM) (fr : Bf (F := F) c rM) : sProp 𝕄 :=
  iprop((∃ f, pt c aM f) ∗ (∃ f, pt c iM f) ∗ (∃ f, pt c zM f) ∗ (∃ f, pt c xM f) ∗ pt c oM fo ∗ pt c rM fr ∗ zsems c ∗ isem0 c)

/-- The rows' indices as the first call leaves them. -/
def outR : Bf (F := F) c rM := idxRes (arr V c)

/-- Before point `p`. -/
def inv (p : ℕ) : sProp 𝕄 :=
  if p = 0 then ends c (V c main_v0_1) (V c main_v0_0)
  else if p = 49 then ends c (zer c) (outR c V)
  else mid c (V c main_v0_1) (V c main_v0_0) p (lanesAt (arr V c) p)

/-- The first call's proof data. -/
def dat0 : Dat τ (Elt F) Unit ℕ UU ℕ cfg0 c where
  A w := V c (Pipeline.arrRef spec0 w)
  after w t := (cfg0.win w).fill (grid0.coords t) (fun _ => Classical.arbitrary _) (((cfg0.win w).blk t).view.read (Elt F) (V c (Pipeline.arrRef spec0 w)))
  Φ t := iprop(others c ∗ inv c V t.val)
  q _ := fullShare
  owed _ := 0

theorem before0 (t : Fin cfg0.N) (d : (cfg0.win 0).block.Idx → Elt F (cfg0.win 0).elt) : (dat0 c V).before 0 t d = (dat0 c V).fetched 0 t d := by
  unfold Dat.before; rw [if_pos (fetch0_0 t)]

/-- A fetched block at one of the array's columns. -/
theorem fetched0 (t : Fin cfg0.N) (d : (cfg0.win 0).block.Idx → Elt F (cfg0.win 0).elt) (i : S128x2048.Idx) (h : 2048 * t.val + (i 1).val < 100000) :
    (dat0 c V).fetched 0 t d i = blkAt (arr V c) t.val i := by
  have hm : (cfg0.win 0).moved (grid0.coords t) i = true := by
    refine ((cfg0.win 0).moved_iff _ _).2 fun a => ?_
    fin_cases a
    · exact lt_of_lt_of_eq (i 0).isLt (extent0 t).symm
    · refine lt_of_lt_of_eq ?_ (extent1 t).symm
      have h1 : (i 1).val < 2048 := (i 1).isLt
      show (i 1).val < _
      split <;> omega
  have hf : (dat0 c V).fetched 0 t d i = (cfg0.win 0).fill (grid0.coords t) d ((dat0 c V).blockOf 0 t) i := rfl
  rw [hf]
  unfold Window.fill
  rw [dif_pos hm]
  unfold blkAt
  rw [dif_pos h]
  show V c main_arg0 _ = V c main_arg0 _
  congr 1
  funext a
  fin_cases a
  · refine Fin.ext ?_
    show cc0_transform_0 (grid0.coords t) 0 * 128 + 1 * (i 0).val = (i 0).val
    rw [index0 t]
    show 0 * 128 + 1 * (i 0).val = _
    omega
  · refine Fin.ext ?_
    show cc0_transform_0 (grid0.coords t) 1 * 2048 + 1 * (i 1).val = 2048 * t.val + (i 1).val
    rw [index0 t]
    show t.val * 2048 + 1 * (i 1).val = _
    omega

/-- What a point's chunks make of the lanes, whatever lies past the array in the block. -/
theorem point_eq (t : Fin cfg0.N) (d : (cfg0.win 0).block.Idx → Elt F (cfg0.win 0).elt) (arg1 : Memref sig .tc .vmem S128x2048 .f32) (f : Bf (F := F) c arg1)
    (hf : arg1.view.read (Elt F) f = (dat0 c V).fetched 0 t d) (st : FVec F S128x128 .f32 × IVec S128x128 32) :
    folded (BitVec.ofNat 32 t.val) (rdOf c arg1 f) (List.finRange 16) st = pointF (arr V c) t.val st := by
  refine folded_congr t.val (lt_of_lt_of_eq t.isLt N_0) _ _ (fun k i hi => ?_) _ _
  rw [rdOf_eq, hf]
  exact fetched0 c V t d _ (by show 2048 * t.val + (128 * k.val + (i 1).val) < 100000; omega)

end
end Cert.KernelIdeal.Own
end

end
-- ==== Proof.R0b.lean ====
module

public import proofs.«01_k».proof.Proof.R0

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ UU ℕ

section
variable (c : Dev nD)
variable (V : (c : Dev nD) → (b : Ref sig .tc) → Buf (Elt F) ((c : Thread nD τ).loc b))

/-- Contents handed back as the loop describes them. -/
theorem handed (t : Fin cfg0.N) (d : (cfg0.win 0).block.Idx → Elt F (cfg0.win 0).elt) :
    (cfg0.win 0).fill (cfg0.grid.coords t) d ((cfg0.win 0).cut (cfg0.grid.coords t) ((dat0 c V).after 0 t)) = (dat0 c V).fetched 0 t d := by
  show (cfg0.win 0).fill (cfg0.grid.coords t) d ((cfg0.win 0).cut (cfg0.grid.coords t) ((cfg0.win 0).fill (grid0.coords t) (fun _ => Classical.arbitrary _) ((dat0 c V).blockOf 0 t))) = _
  rw [Window.cut_fill]
  rfl

theorem inv_zero : inv c V 0 = ends c (V c main_v0_1) (V c main_v0_0) := rfl
theorem inv_last : inv c V 49 = ends c (zer c) (outR c V) := rfl
theorem inv_mid (p : ℕ) (h0 : p ≠ 0) (h49 : p ≠ 49) : inv c V p = mid c (V c main_v0_1) (V c main_v0_0) p (lanesAt (arr V c) p) := by
  unfold inv; rw [if_neg h0, if_neg h49]

/-- The body at a point. -/
theorem wp_point (t : Fin cfg0.N) (d : (cfg0.win 0).block.Idx → Elt F (cfg0.win 0).elt) (f : Bf (F := F) c (st0_0 t))
    (hf : (st0_0 t).view.read (Elt F) f = (dat0 c V).fetched 0 t d) (Q : PUnit → sProp 𝕄) :
    iprop(inv c V t.val ∗ debt c ∗ pt c (st0_0 t) f ∗ (iprop(inv c V (t.val + 1) ∗ debt c ∗ pt c (st0_0 t) f) -∗ Q ⟨⟩))
      ⊢ wpc c Q (bodyAt0 t) := by
  have hN : t.val < 49 := lt_of_lt_of_eq t.isLt N_0
  have hpe := point_eq c V t d (st0_0 t) f hf
  have hb : (bodyAt0 t : Prog (TpuEff nD τ sig (Elt F) Λ₀ .tc) PUnit) = argmax (st0_0 t) rM oM aM iM zM xM cc0_scratch4 cc0_scratch5 (grid0.coords t) (Memref.isWhole_whole _) (Memref.isWhole_whole _) :=
    argmax_eq ..
  rw [hb]
  by_cases h0 : t.val = 0
  · rw [h0] at hpe
    rw [h0, inv_zero, inv_mid c V (0 + 1) (by omega) (by omega)]
    unfold ends
    iintro ⟨⟨⟨%fa, Ha⟩, ⟨%fi, Hi⟩, ⟨%fz, Hz⟩, ⟨%fx, Hx⟩, Ho, Hr, Hs, Hv⟩, Hd, H1, Hk⟩
    have hw := wp_first c (V c main_v0_1) (V c main_v0_0) Q (grid0.coords t) ((coords0 t).trans h0) (Memref.isWhole_whole _) (Memref.isWhole_whole _) (st0_0 t) f fa fi fz fx
    iapply hw
    isplitl [Ha]; · iexact Ha
    isplitl [Hi]; · iexact Hi
    isplitl [Hz]; · iexact Hz
    isplitl [Hx]; · iexact Hx
    isplitl [Ho]; · iexact Ho
    isplitl [Hr]; · iexact Hr
    isplitl [Hs]; · iexact Hs
    isplitl [Hv]; · iexact Hv
    isplitl [H1]; · iexact H1
    iintro ⟨HM, H1⟩
    iapply Hk
    isplitl [HM]
    · rw [show (0#32 : BitVec 32) = BitVec.ofNat 32 0 from rfl, hpe]
      iexact HM
    isplitl [Hd]; · iexact Hd
    iexact H1
  by_cases h48 : t.val = 48
  · rw [h48] at hpe
    rw [h48, inv_mid c V 48 (by omega) (by omega), show inv c V (48 + 1) = ends c (zer c) (outR c V) from rfl]
    unfold ends
    iintro ⟨HM, Hd, H1, Hk⟩
    have hw := wp_last c (V c main_v0_1) (V c main_v0_0) Q (grid0.coords t) ((coords0 t).trans h48) (Memref.isWhole_whole _) (Memref.isWhole_whole _) (st0_0 t) f (lanesAt (arr V c) 48)
    iapply hw
    isplitl [HM]; · iexact HM
    isplitl [H1]; · iexact H1
    isplitl [Hd]; · iexact Hd
    iintro ⟨Ha, Hi, Hz, Hx, Ho, Hr, Hs, Hv, H1, Hd⟩
    iapply Hk
    isplitr [H1 Hd]
    · isplitl [Ha]; · iexists _; iexact Ha
      isplitl [Hi]; · iexists _; iexact Hi
      isplitl [Hz]; · iexists _; iexact Hz
      isplitl [Hx]; · iexists _; iexact Hx
      isplitl [Ho]; · iexact Ho
      isplitl [Hr]
      · rw [show (48#32 : BitVec 32) = BitVec.ofNat 32 48 from rfl, hpe]
        iexact Hr
      isplitl [Hs]; · iexact Hs
      iexact Hv
    isplitl [Hd]; · iexact Hd
    iexact H1
  · rw [inv_mid c V t.val h0 (by omega), inv_mid c V (t.val + 1) (by omega) (by omega)]
    iintro ⟨HM, Hd, H1, Hk⟩
    have hw := wp_mid c (V c main_v0_1) (V c main_v0_0) Q (grid0.coords t) t.val (coords0 t) (by omega) (by omega) (Memref.isWhole_whole _) (Memref.isWhole_whole _) (st0_0 t) f (lanesAt (arr V c) t.val)
    iapply hw
    isplitl [HM]; · iexact HM
    isplitl [H1]; · iexact H1
    iintro ⟨HM, H1⟩
    iapply Hk
    isplitl [HM]
    · rw [hpe]
      iexact HM
    isplitl [Hd]; · iexact Hd
    iexact H1

/-- The library's body obligation for the first call. -/
theorem body0 : BodyObligationLoose (dat0 c V) (defs₀ (F := F)) Variants.none () Set.univ := fun t => by
  rw [bigSep_W0, bigSep_W0]
  show iprop((others c ∗ inv c V t.val) ∗ (dat0 c V).owesAt () t.castSucc ∗ (∃ d, owns c (st0_0 t) fullShare ((dat0 c V).before 0 t d)))
    ⊢ wp frame (wpE (defs₀ (F := F)) Variants.none (c : Thread nD τ) none) Set.univ (bodyAt0 t) fun _ =>
      iprop((others c ∗ inv c V (t.val + 1)) ∗ (dat0 c V).owesAt () t.succ ∗ (∃ d, owns c (st0_0 t) fullShare ((cfg0.win 0).fill (cfg0.grid.coords t) d ((cfg0.win 0).cut (cfg0.grid.coords t) ((dat0 c V).after 0 t)))))
  have hset : ((st0_0 t).view.set : Finset _) = Finset.univ := Memref.IsWhole.set_eq_univ (hstage0_0 ((cfg0.slots t 0).cast nbuf0_0))
  unfold owns
  rw [hset]
  unfold Pipeline.Dat.owesAt Pipeline.owesWithin
  iintro ⟨⟨Hot, Hinv⟩, ⟨%W, -, HO⟩, ⟨%d, %f, %hf, H1⟩⟩
  rw [before0] at hf
  iapply (wp_point c V t d f hf _)
  isplitl [Hinv]; · iexact Hinv
  isplitl [HO]; · unfold debt; iexists W; iexact HO
  isplitl [H1]; · iexact H1
  iintro ⟨Hinv, Hd, H1⟩
  isplitl [Hot Hinv]
  · isplitl [Hot]; · iexact Hot
    iexact Hinv
  isplitl [Hd]
  · unfold debt
    icases Hd with ⟨%W', Hd⟩
    iexists W'
    isplitr; · ipureintro; exact fun _ _ => Or.inl trivial
    iexact Hd
  iexists d, f
  isplitr; · ipureintro; rw [handed]; exact hf
  iexact H1
end
end Cert.KernelIdeal.Own
end

end
-- ==== Proof.R1.lean ====
module

public import proofs.«01_k».proof.Proof.R0
public import proofs.«01_k».proof.Proof.Prog1

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ UU ℕ

section
variable (c : Dev nD)
variable (V : (c : Dev nD) → (b : Ref sig .tc) → Buf (Elt F) ((c : Thread nD τ).loc b))

/-- The indices as the second call's fetches stage them. -/
abbrev stgS : (cfg1.win 0).block.Idx → Elt F (cfg1.win 0).elt := ((cfg1.win 0).blk t1_0).view.read (Elt F) (V c main_v0_0)
abbrev stgV : (cfg1.win 1).block.Idx → Elt F (cfg1.win 1).elt := ((cfg1.win 1).blk t1_0).view.read (Elt F) (V c main_v0_0)

theorem stgS_eq : stgS c V = V c main_v0_0 := by
  funext i
  show V c main_v0_0 _ = V c main_v0_0 _
  congr 1
  funext a
  fin_cases a
  · exact Fin.ext (by show 0 * 128 + 1 * (i 0).val = (i 0).val; omega)
  · exact Fin.ext (by show 0 * 1 + 1 * (i 1).val = (i 1).val; omega)
theorem stgV_eq : stgV c V = V c main_v0_0 := by
  funext i
  show V c main_v0_0 _ = V c main_v0_0 _
  congr 1
  funext a
  fin_cases a
  · exact Fin.ext (by show 0 * 128 + 1 * (i 0).val = (i 0).val; omega)
  · exact Fin.ext (by show 0 * 1 + 1 * (i 1).val = (i 1).val; omega)

/-- What the second call leaves in the result. -/
def outD : Bf (F := F) c dstM := scattered c (stgS c V) (k1_pay1 (F := F) (stgV c V)) (V c main_v1)

/-- Beside the second call's own buffers: the first call's. -/
def others1 : sProp 𝕄 := iprop((∃ f : Buf (Elt F) ((c : Thread nD τ).loc cc0_stg0_0), ((c : Thread nD τ).loc cc0_stg0_0) ↦{fullShare} f)
  ∗ (∃ f : Buf (Elt F) ((c : Thread nD τ).loc cc0_stg0_1), ((c : Thread nD τ).loc cc0_stg0_1) ↦{fullShare} f)
  ∗ (∃ f, pt c aM f) ∗ (∃ f, pt c iM f) ∗ (∃ f, pt c zM f) ∗ (∃ f, pt c xM f))
abbrev rsems : sProp 𝕄 := bigSep Finset.univ fun r : Fin 128 => semVal ((c : Thread nD τ), .dma (semR r)) 0

/-- The second call's state: its buffers, the result at given contents. -/
def inv1 (fd : Bf (F := F) c dstM) : sProp 𝕄 := iprop(others1 c ∗ (∃ f, pt c srcM f) ∗ pt c dstM fd ∗ rsems c)

/-- The second call's proof data. -/
def dat1 : Dat τ (Elt F) Unit ℕ UU ℕ cfg1 c where
  A w := V c (Pipeline.arrRef spec1 w)
  after w _ := match w with
    | ⟨0, _⟩ => stgS c V
    | ⟨1, _⟩ => stgV c V
  Φ t := inv1 c (if t.val = 0 then V c main_v1 else outD c V)
  q w := Pipeline.shareOf spec1 w
  owed _ := 0

theorem before1_0 (d : (cfg1.win 0).block.Idx → Elt F (cfg1.win 0).elt) : (dat1 c V).before 0 t1_0 d = stgS c V := by
  unfold Dat.before; rw [if_pos (fetch1_0 t1_0)]; rfl
theorem before1_1 (d : (cfg1.win 1).block.Idx → Elt F (cfg1.win 1).elt) : (dat1 c V).before 1 t1_0 d = stgV c V := by
  unfold Dat.before; rw [if_pos (fetch1_1 t1_0)]; rfl

theorem st_0 : st1_0 t1_0 = Memref.whole cc1_stg0_0 := rfl
theorem st_1 : st1_1 t1_0 = Memref.whole cc1_stg1_0 := rfl
/-- The second call's body, row by row. -/
theorem row1 : (defs₀ (F := F)) .tc cfg1.body (cfg1.bodyArgs t1_0 (cfg1.slots t1_0)) = scatterOn (Memref.whole cc1_stg0_0) (Memref.whole cc1_stg1_0) dstM srcM cc1_scratch1 (List.finRange 128) :=
  (show (defs₀ (F := F)) .tc cfg1.body (cfg1.bodyArgs t1_0 (cfg1.slots t1_0)) = bodyAt1 t1_0 from rfl).trans (scatter_eq ..)
/-- The library's body obligation for the second call. -/
theorem body1 : BodyObligation (dat1 c V) (defs₀ (F := F)) Variants.none () Set.univ := fun t => by
  rw [bigSep_W1, bigSep_W1]
  obtain rfl := fin_N1 t
  rw [row1]
  simp only [owns_whole_eq]
  rw [show (dat1 c V).Φ t1_0.castSucc = inv1 c (V c main_v1) from rfl, show (dat1 c V).Φ t1_0.succ = inv1 c (outD c V) from rfl]
  unfold Pipeline.Dat.owesAt Pipeline.owesWithin
  iintro ⟨HΦ, ⟨%W, -, HO⟩, ⟨%d0, %f0, %hf0, H0⟩, ⟨%d1, %f1, %hf1, H1⟩⟩
  rw [before1_0] at hf0
  rw [before1_1] at hf1
  subst hf0
  subst hf1
  unfold inv1
  icases HΦ with ⟨Hot, ⟨%fs, Hs⟩, Hd, Hv⟩
  have hw := fun Q => wp_scatter c (V c main_v1) Q (stgS c V) (stgV c V) fs (List.finRange 128) (List.nodup_finRange 128) (List.toFinset_finRange 128)
  iapply (hw _)
  isplitl [H0]; · iexact H0
  isplitl [H1]; · iexact H1
  isplitl [Hs]; · iexact Hs
  isplitl [Hd]; · iexact Hd
  isplitl [Hv]; · iexact Hv
  isplitl [HO]; · iexists W; iexact HO
  iintro ⟨H0, H1, Hs, Hd, Hv, ⟨%W', HO⟩⟩
  isplitl [Hot Hs Hd Hv]
  · isplitl [Hot]; · iexact Hot
    isplitl [Hs]; · iexists _; iexact Hs
    isplitl [Hd]; · iexact Hd
    iexact Hv
  isplitl [HO]
  · iexists W'
    isplitr; · ipureintro; exact fun _ _ => Or.inl trivial
    iexact HO
  isplitl [H0]; · iexists _; isplitr; swap; (· iexact H0); ipureintro; rfl
  iexists _; isplitr; swap; (· iexact H1); ipureintro; rfl
end
end Cert.KernelIdeal.Own
end

end
-- ==== Proof.Regs.lean ====
module

public import proofs.«01_k».proof.Proof.R0b
public import proofs.«01_k».proof.Proof.R1
public import Idealize.ShloMosaic.Lib.Pipeline.RegionsLoop

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ UU ℕ

/-- No core owes another anything. -/
abbrev L : GSem nD τ sig → Finset Unit := fun _ => ∅
abbrev lv : GSem nD τ sig → Unit → ℕ := fun _ _ => 0

abbrev Vals : Type := (c : Dev nD) → (b : Ref sig .tc) → Buf (Elt F) ((c : Thread nD τ).loc b)
variable (V V' : Vals (F := F))

/-- Both calls' proof data. -/
def pdats : (p : Fin 2) → (c : Dev nD) → Dat τ (Elt F) Unit ℕ UU ℕ (cfgs p) c
  | ⟨0, _⟩ => fun c => dat0 c V
  | ⟨1, _⟩ => fun c => dat1 c V'

/-! ### The semaphores -/

def osem0 : Option (Fin 50) → SemLoc sig
  | none => .dma iSem
  | some k => .dma (zS k)
def osem1 (r : Fin 128) : SemLoc sig := .dma (semR r)
theorem ho0 : Pipeline.OwnSemFacts spec0 osem0 := by decide +kernel
theorem ho1 : Pipeline.OwnSemFacts spec1 osem1 := by decide +kernel

theorem own0 (c : Dev nD) : (Pipeline.ownSems0 osem0 c : sProp 𝕄) = iprop(isem0 c ∗ zsems c) := by
  unfold Pipeline.ownSems0
  rw [show (Finset.univ : Finset (Option (Fin 50))) = insert none (Finset.univ.map Function.Embedding.some) from by decide +kernel,
    bigSep_insert (by simp), bigSep_map]
  rfl

theorem own1 (c : Dev nD) : (Pipeline.ownSems0 osem1 c : sProp 𝕄) = rsems c := by
  unfold Pipeline.ownSems0
  rfl

/-! ### The first call's region -/

set_option backward.isDefEq.respectTransparency.types false in
/-- The first call's region: entered from every buffer at `V`, left with the two results written. -/
def reg0 (Vp : Vals (F := F)) (hR : ∀ c, Vp c main_v0_0 = outR c V) (hO : ∀ c, Vp c main_v0_1 = zer c) (hA : ∀ c, Vp c main_arg0 = V c main_arg0) (h1 : ∀ c, Vp c main_v1 = V c main_v1) :
    Pipeline.RegionSeg (pcfgs (F := F)) adm (pdats V V') () defs₀ Variants.none L lv 0 where
  win := launch0.win.to₀
  block_pos := launch0.block_pos
  stage_whole := launch0.stage_whole
  K := Option (Fin 50)
  osem := osem0
  ho := ho0
  hbody c := body0 c V
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X c := iprop(pt c oM (V c main_v0_1) ∗ pt c rM (V c main_v0_0) ∗ zsems c ∗ isem0 c)
  Y c := iprop(pt c oM (zer c) ∗ pt c rM (outR c V))
  Z c := pt c dstM (V c main_v1)
  hentry c := by
    have hsplit := Pipeline.arrays_of_unscopedBufs (p := 0) (pcfgs (F := F)) adm (pdats V V') launch0.win launch0.arr_whole c
      ((pdats V V' 0 c).share_full fun _ => rfl) (V c) fun _ => rfl
    rw [own0]
    iintro ⟨⟨Hub, HO⟩, ⟨Hv, Hz⟩, -⟩
    ihave H := hsplit $$ Hub
    icases H with ⟨Ha, Hrest⟩
    ihave Hrest := (Entails.of_eq (unscopedRest0_eq c (V c))) $$ Hrest
    icases Hrest with ⟨Hr, Ho, Hd⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [Hd]
    · isplitl [Ho]; · iexact Ho
      isplitl [Hr]; · iexact Hr
      isplitl [Hz]; · iexact Hz
      iexact Hv
    iexact Hd
  hin c := by
    rw [show (pdats V V' 0 c).Φ 0 = iprop(others c ∗ inv c V 0) from rfl, inv_zero]
    unfold others ends
    iintro ⟨⟨Ho, Hr, Hz, Hv⟩, -, Hs⟩
    ihave Hs := (Entails.of_eq (scopedRest0_eq c)) $$ Hs
    icases Hs with ⟨Ha, Hi, Hzz, Hx, H1, H2, H3⟩
    isplitl [H1 H2 H3]
    · isplitl [H1]; · iexact H1
      isplitl [H2]; · iexact H2
      iexact H3
    isplitl [Ha]; · iexact Ha
    isplitl [Hi]; · iexact Hi
    isplitl [Hzz]; · iexact Hzz
    isplitl [Hx]; · iexact Hx
    isplitl [Ho]; · iexact Ho
    isplitl [Hr]; · iexact Hr
    isplitl [Hz]; · iexact Hz
    iexact Hv
  hout c := by
    rw [own0, show (pdats V V' 0 c).Φ (Fin.last _) = iprop(others c ∗ inv c V (Fin.last cfg0.N).val) from rfl,
      show (Fin.last cfg0.N).val = 49 from N_0, inv_last]
    unfold others ends
    iintro ⟨⟨H1, H2, H3⟩, Ha, Hi, Hzz, Hx, Ho, Hr, Hz, Hv⟩
    isplitl [Ho Hr]
    · isplitl [Ho]; · iexact Ho
      iexact Hr
    isplitl [Hz Hv]
    · isplitl [Hv]; · iexact Hv
      iexact Hz
    iapply (Entails.of_eq (scopedRest0_eq c).symm)
    isplitl [Ha]; · iexact Ha
    isplitl [Hi]; · iexact Hi
    isplitl [Hzz]; · iexact Hzz
    isplitl [Hx]; · iexact Hx
    isplitl [H1]; · iexact H1
    isplitl [H2]; · iexact H2
    iexact H3
  hexit c := by
    have hjoin := Pipeline.unscopedBufs_of_arrays (p := 0) (pcfgs (F := F)) adm (Ix := Unit) (Name := ℕ) (U := UU) (Lvl := ℕ) launch0.win launch0.arr_whole c
      (pdats V V') ((pdats V V' 0 c).share_full fun _ => rfl) (Vp c) (Vp c) ((pdats V V' 0 c).arrAt · cfg0.N)
      (fun w => by
        fin_cases w
        exact ((pdats V V' 0 c).arrAt_in 0 rfl _).trans (hA c).symm)
      (fun b hb => rfl)
    iintro ⟨Ha, HO, ⟨Ho, Hr⟩, Hd⟩
    imodintro
    isplitl [Ha Ho Hr Hd]
    · iapply hjoin
      isplitl [Ha]; · iexact Ha
      iapply (Entails.of_eq (unscopedRest0_eq c (Vp c)).symm)
      rw [hR c, hO c, h1 c]
      isplitl [Hr]; · iexact Hr
      isplitl [Ho]; · iexact Ho
      iexact Hd
    unfold Pipeline.Dat.owesAt Pipeline.owesWithin
    icases HO with ⟨%W, -, HO⟩; iexists W; iexact HO

/-! ### The second call's region -/

set_option backward.isDefEq.respectTransparency.types false in
/-- The second call's region: entered from every buffer at `V'`, left with the result written. -/
def reg1 (Vp : Vals (F := F)) (hD : ∀ c, Vp c main_v1 = outD c V') (hne : ∀ c (b : Ref sig .tc), b ≠ main_v1 → Vp c b = V' c b) :
    Pipeline.RegionSeg (pcfgs (F := F)) adm (pdats V V') () defs₀ Variants.none L lv 1 where
  win := launch₀1.win
  block_pos := launch₀1.block_pos
  stage_whole := launch₀1.stage_whole
  K := Fin 128
  osem := osem1
  ho := ho1
  hbody c := (body1 c V').loose
  hwaits := Pipeline.hwaits_of_owed_zero _ _ _ _ L lv 1 fun _ _ => rfl
  pre c := iprop(unscopedBufs c (V' c) ∗ ∃ W, owes (c : Thread nD τ) (0 : CellTallies nD τ sig Unit) W)
  post c := iprop(unscopedBufs c (Vp c) ∗ ∃ W, owes (c : Thread nD τ) (0 : CellTallies nD τ sig Unit) W)
  X c := iprop(pt c dstM (V' c main_v1) ∗ rsems c)
  Y c := pt c dstM (outD c V')
  Z c := iprop(pt c (Memref.whole main_arg0) (V' c main_arg0) ∗ pt c oM (V' c main_v0_1))
  hentry c := by
    have hsplit := Pipeline.arrays_of_unscopedBufs_shared (p := 1) (pcfgs (F := F)) adm (pdats V V') launch₀1.win sharedIn1 arr_whole1 c
      (fun _ _ => rfl) (V' c) fun _ => rfl
    rw [own1]
    iintro ⟨⟨Hub, HO⟩, Hv, -⟩
    ihave H := hsplit $$ Hub
    icases H with ⟨Ha, Hrest⟩
    ihave Hrest := (Entails.of_eq (unscopedRest1_eq c (V' c))) $$ Hrest
    icases Hrest with ⟨Hr, Ho, Hd⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hd Hv]
    · isplitl [Hd]; · iexact Hd
      iexact Hv
    isplitl [Hr]; · iexact Hr
    iexact Ho
  hin c := by
    rw [show (pdats V V' 1 c).Φ 0 = inv1 c (V' c main_v1) from rfl]
    unfold inv1 others1
    iintro ⟨⟨Hd, Hv⟩, -, Hs⟩
    ihave Hs := (Entails.of_eq (scopedRest1_eq c)) $$ Hs
    icases Hs with ⟨H0, H1, Ha, Hi, Hz, Hx, Hs⟩
    isplitl [H0 H1 Ha Hi Hz Hx]
    · isplitl [H0]; · iexact H0
      isplitl [H1]; · iexact H1
      isplitl [Ha]; · iexact Ha
      isplitl [Hi]; · iexact Hi
      isplitl [Hz]; · iexact Hz
      iexact Hx
    isplitl [Hs]; · iexact Hs
    isplitl [Hd]; · iexact Hd
    iexact Hv
  hout c := by
    rw [own1, show (pdats V V' 1 c).Φ (Fin.last _) = inv1 c (outD c V') from rfl]
    unfold inv1 others1
    iintro ⟨⟨H0, H1, Ha, Hi, Hz, Hx⟩, Hs, Hd, Hv⟩
    isplitl [Hd]; · iexact Hd
    isplitl [Hv]; · iexact Hv
    iapply (Entails.of_eq (scopedRest1_eq c).symm)
    isplitl [H0]; · iexact H0
    isplitl [H1]; · iexact H1
    isplitl [Ha]; · iexact Ha
    isplitl [Hi]; · iexact Hi
    isplitl [Hz]; · iexact Hz
    isplitl [Hx]; · iexact Hx
    iexact Hs
  hexit c := by
    have hjoin := Pipeline.unscopedBufs_of_arrays_shared (p := 1) (pcfgs (F := F)) adm (Ix := Unit) (Name := ℕ) (U := UU) (Lvl := ℕ) launch₀1.win sharedIn1 arr_whole1 c
      (pdats V V') (fun _ _ => rfl) (Vp c) (Vp c) ((pdats V V' 1 c).arrAt · cfg1.N)
      (fun w => by
        fin_cases w
        · exact ((pdats V V' 1 c).arrAt_in 0 rfl _).trans (hne c main_v0_0 (by decide)).symm
        · exact ((pdats V V' 1 c).arrAt_in 1 rfl _).trans (hne c main_v0_0 (by decide)).symm)
      (fun b hb => rfl)
    iintro ⟨Ha, HO, Hd, Hr, Ho⟩
    imodintro
    isplitl [Ha Hd Hr Ho]
    · iapply hjoin
      isplitl [Ha]; · iexact Ha
      iapply (Entails.of_eq (unscopedRest1_eq c (Vp c)).symm)
      rw [hD c, hne c main_arg0 (by decide), hne c main_v0_1 (by decide)]
      isplitl [Hr]; · iexact Hr
      isplitl [Ho]; · iexact Ho
      iexact Hd
    unfold Pipeline.Dat.owesAt Pipeline.owesWithin
    icases HO with ⟨%W, -, HO⟩; iexists W; iexact HO
end Cert.KernelIdeal.Own
end

end
-- ==== Proof.RunMain.lean ====
module

public import proofs.«01_k».proof.Proof.Regs

@[expose] public section

noncomputable section
namespace Cert.KernelIdeal.Own
open Cert.Own
open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ UU ℕ

variable (m : (ℓ : Loc nD τ sig) → Buf (Elt F) ℓ)

/-! ### The buffers between the calls -/

/-- Every buffer as launched. -/
def VA : Vals (F := F) := fun c b => V0 m c b
/-- What the first call leaves. -/
def outs0 : Outs (F := F) := fun _ r c =>
  (Function.update (Function.update (fun r => V0 m c (Proc.devRef .tc r) : (r : Ref sig .tc) → Buf (Elt F) ((c : Thread nD τ).loc r)) main_v0_0 (outR c (VA m))) main_v0_1 (zer c)) r
/-- Every buffer as the second call finds it. -/
def VB : Vals (F := F) := fun c b => V2 m (outs0 m) c b
/-- What the calls leave. -/
def outs : Outs (F := F) := fun j r c => match j with
  | 3 => (Function.update (fun r => outs0 m 1 r c : (r : Ref sig .tc) → Buf (Elt F) ((c : Thread nD τ).loc r)) main_v1 (outD c (VB m))) r
  | _ => outs0 m 1 r c

theorem V1_outs (c : Dev nD) : V1 m (outs m) c = V1 m (outs0 m) c := rfl
theorem V2_outs (c : Dev nD) : V2 m (outs m) c = V2 m (outs0 m) c := rfl

theorem outs0_r (c : Dev nD) : outs0 m 1 main_v0_0 c = outR c (VA m) := by
  unfold outs0
  rw [Function.update_of_ne (by decide), Function.update_self]
theorem outs0_o (c : Dev nD) : outs0 m 1 main_v0_1 c = zer c := by
  unfold outs0
  rw [Function.update_self]
theorem outs_d (c : Dev nD) : outs m 3 main_v1 c = outD c (VB m) := by
  show Function.update (fun r => outs0 m 1 r c : (r : Ref sig .tc) → Buf (Elt F) ((c : Thread nD τ).loc r)) main_v1 (outD c (VB m)) main_v1 = _
  rw [Function.update_self]

theorem V1_r (c : Dev nD) : V1 m (outs0 m) c main_v0_0 = outR c (VA m) := by
  show Function.update _ _ _ _ = _
  rw [Function.update_of_ne (by decide), Function.update_self, outs0_r]
theorem V1_o (c : Dev nD) : V1 m (outs0 m) c main_v0_1 = zer c := by
  show Function.update _ _ _ _ = _
  rw [Function.update_self, outs0_o]
theorem V3_d (c : Dev nD) : V3 m (outs m) c main_v1 = outD c (VB m) := by
  show Function.update _ _ _ _ = _
  rw [Function.update_self, outs_d]
theorem VB_d (c : Dev nD) : VB m c main_v1 = zer c := by
  show StableHlo.after hostOps1 (V1 m (outs0 m) c) main_v1 = _
  rw [← V1_o m c, StableHlo.after_cons, StableHlo.after_nil, StableHlo.unary_result]
  rfl
theorem VB_r (c : Dev nD) : VB m c main_v0_0 = outR c (VA m) :=
  (V2_of m (outs0 m) c main_v0_0 (by decide)).trans (V1_r m c)

/-- The result: row by row the word's block over the zeros. -/
def result (c : Dev nD) : Bf (F := F) c dstM := scattered c (outR c (VA m)) (k1_pay1 (F := F) (outR c (VA m))) (zer c)
theorem outD_eq (c : Dev nD) : outD c (VB m) = result m c := by
  unfold outD result
  rw [stgS_eq, stgV_eq, VB_r, VB_d]

/-! ### The run -/

abbrev E : Fin 3 → Dev nD → sProp 𝕄 := fun _ c => iprop(∃ W, owes (c : Thread nD τ) (0 : CellTallies nD τ sig Unit) W)
abbrev EP : Emb (UR sig nD τ) (MT nD τ sig Unit (Elt F) ℕ UU ℕ) := embL

def r0 : Pipeline.RegionSeg (pcfgs (F := F)) adm (pdats (VA m) (VB m)) () defs₀ Variants.none L lv 0 :=
  reg0 (VA m) (VB m) (fun c b => V1 m (outs m) c b) (fun c => V1_r m c) (fun c => V1_o m c) (fun c => V1_of m (outs m) c main_arg0 (by decide)) (fun c => V1_of m (outs m) c main_v1 (by decide))
def r1 : Pipeline.RegionSeg (pcfgs (F := F)) adm (pdats (VA m) (VB m)) () defs₀ Variants.none L lv 1 :=
  reg1 (VA m) (VB m) (fun c b => V3 m (outs m) c b) (fun c => V3_d m c) (fun c b h => V3_of m (outs m) c b (by simpa using h))

theorem pre0 (c : Dev nD) : iprop(StableHlo.held (c : Thread nD τ) (Pipeline.ucRefs τ sig) (V0 m c) ∗ E 0 c) ⊢ ((r0 m).pre c : sProp 𝕄) := by
  rw [← Pipeline.unscopedBufs_held (Ix := Unit) (Name := ℕ) (U := UU) (Lvl := ℕ) c (V0 m c)]
  exact BI.Entails.refl _
theorem post0 (c : Dev nD) : ((r0 m).post c : sProp 𝕄) ⊢ iprop(StableHlo.held (c : Thread nD τ) (Pipeline.ucRefs τ sig) (V1 m (outs m) c) ∗ E 1 c) := by
  rw [← Pipeline.unscopedBufs_held (Ix := Unit) (Name := ℕ) (U := UU) (Lvl := ℕ) c (V1 m (outs m) c)]
  exact BI.Entails.refl _
theorem pre1 (c : Dev nD) : iprop(StableHlo.held (c : Thread nD τ) (Pipeline.ucRefs τ sig) (V2 m (outs m) c) ∗ E 1 c) ⊢ ((r1 m).pre c : sProp 𝕄) := by
  rw [← Pipeline.unscopedBufs_held (Ix := Unit) (Name := ℕ) (U := UU) (Lvl := ℕ) c (V2 m (outs m) c)]
  exact BI.Entails.refl _
theorem post1 (c : Dev nD) : ((r1 m).post c : sProp 𝕄) ⊢ iprop(StableHlo.held (c : Thread nD τ) (Pipeline.ucRefs τ sig) (V3 m (outs m) c) ∗ E 2 c) := by
  rw [← Pipeline.unscopedBufs_held (Ix := Unit) (Name := ℕ) (U := UU) (Lvl := ℕ) c (V3 m (outs m) c)]
  exact BI.Entails.refl _

-- the launch theorem's implicit arguments are found by unifying its conclusion with this one
set_option backward.isDefEq.respectTransparency.types false in
/-- From any memory with zero counters every fair execution ends, with the argument as launched, the result as
    computed and every counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v1) = result m c
      ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats (VA m) (VB m)) () cellOf_inj EP defs₀ Variants.none L lv m ρ main
    (segs m (outs m) Variants.none L lv E () (pdats (VA m) (VB m)) (r0 m) (r1 m))
    (fun c Q => by
      rewrite [main_chain c, Pipeline.Seg.run_eq_chain,
        show (segs m (outs m) Variants.none L lv E () (pdats (VA m) (VB m)) (r0 m) (r1 m) c).map Pipeline.Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp))
    (u₀ := (initOf (Pipeline.cells cfgs cellOf_inj) (Pipeline.launchToks cfgs cellOf_inj), 1))
    (hu₀ := ?_)
    (T₀ := fun c => iprop(StableHlo.held (c : Thread nD τ) (Pipeline.ucRefs τ sig) (V0 m c) ∗ E 0 c))
    (Tₙ := fun c => StableHlo.held (c : Thread nD τ) (Pipeline.ucRefs τ sig) (V3 m (outs m) c))
    (hch := fun c => ⟨pre0 m c, post0 m c, pre1 m c, post1 m c⟩)
    (hinit := ?_) (QY := fun c s => s.mem ((c.tc : Thread nD τ).loc main_v1) = result m c ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = (StableHlo.held (c : Thread nD τ) (Pipeline.ucRefs τ sig) (V0 m c) : sProp 𝕄) from Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨((h (Proc.devRef .tc main_v1) (Finset.mem_filter.mpr ⟨StableHlo.devRef_mem_tcRefs main_v1, by decide⟩)).trans (V3_d m c)).trans (outD_eq m c),
        (h (Proc.devRef .tc main_arg0) (Finset.mem_filter.mpr ⟨StableHlo.devRef_mem_tcRefs main_arg0, by decide⟩)).trans (V3_main_arg0 m (outs m) c)⟩
    · iexact HSI
end Cert.KernelIdeal.Own
end

end
-- ==== Proof.RefOps.lean ====
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v6`, named. It packs its operands into a list of dependent pairs
    whose shapes a later one's type mentions, so `simp` cannot rewrite an operand where it stands; applied by
    name, the operands are plain arguments, which the window lemmas below rewrite before the name unfolds. -/
def fn_main_v6 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 315 (@main, which the printer did not cut). -/
abbrev ops_0 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 (fn_main_v6 (F := F)),
    nullary main_cst (constant S_ .f32 0x00000000#32),
    nullary main_cst_2 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1, .f32⟩) main_call0_v2) (broadcastInDim S1x1 ![] bcast_S_S1x1),
    TRef.unary (TRef.of (T := ⟨S_, .f32⟩) main_call0_v1) (TRef.of (T := ⟨S1x1, .f32⟩) main_call0_v3) (broadcastInDim S1x1 ![] bcast_S_S1x1),
    TRef.unary (TRef.of (T := ⟨S2, .i32⟩) main_v6) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v6) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S128x100000, .i64⟩) main_call0_v8) (iotaInDim S128x100000 64 0),
    TRef.nullary (TRef.of (T := ⟨S128x100000, .i64⟩) main_call0_v9) (iotaInDim S128x100000 64 1),
    TRef.nullary (TRef.of (T := ⟨S_, .i64⟩) main_call0_c) (constantI S_ 64 100000#64),
    TRef.unary (TRef.of (T := ⟨S_, .i64⟩) main_call0_c) (TRef.of (T := ⟨S128x100000, .i64⟩) main_call0_v10) (broadcastInDim S128x100000 ![] bcast_S_S128x100000),
    TRef.binary (TRef.of (T := ⟨S128x100000, .i64⟩) main_call0_v10) (TRef.of (T := ⟨S128x100000, .i64⟩) main_call0_v8) (TRef.of (T := ⟨S128x100000, .i64⟩) main_call0_v11) muli,
    TRef.nullary (TRef.of (T := ⟨S_, .i64⟩) main_call0_c_0) (constantI S_ 64 1#64),
    TRef.unary (TRef.of (T := ⟨S_, .i64⟩) main_call0_c_0) (TRef.of (T := ⟨S128x100000, .i64⟩) main_call0_v12) (broadcastInDim S128x100000 ![] bcast_S_S128x100000),
    TRef.binary (TRef.of (T := ⟨S128x100000, .i64⟩) main_call0_v12) (TRef.of (T := ⟨S128x100000, .i64⟩) main_call0_v9) (TRef.of (T := ⟨S128x100000, .i64⟩) main_call0_v13) muli,
    TRef.binary (TRef.of (T := ⟨S128x100000, .i64⟩) main_call0_v11) (TRef.of (T := ⟨S128x100000, .i64⟩) main_call0_v13) (TRef.of (T := ⟨S128x100000, .i64⟩) main_call0_v14) addi,
    TRef.nullary (TRef.of (T := ⟨S_, .i64⟩) main_call0_c_1) (constantI S_ 64 32#64) ]

/-- @main's operations 31 … 60 of 315 (@main, which the printer did not cut). -/
abbrev ops_1 : List (HloOp τ sig (Elt F)) :=
  [ TRef.unary (TRef.of (T := ⟨S_, .i64⟩) main_call0_c_1) (TRef.of (T := ⟨S128x100000, .i64⟩) main_call0_v15) (broadcastInDim S128x100000 ![] bcast_S_S128x100000),
    TRef.binary (TRef.of (T := ⟨S128x100000, .i64⟩) main_call0_v14) (TRef.of (T := ⟨S128x100000, .i64⟩) main_call0_v15) (TRef.of (T := ⟨S128x100000, .i64⟩) main_call0_v16) Host.shrui,
    TRef.unary (TRef.of (T := ⟨S128x100000, .i64⟩) main_call0_v14) (TRef.of (T := ⟨S128x100000, .i32⟩) main_call0_v17) (trunci 32 · natLt_32_64),
    TRef.unary (TRef.of (T := ⟨S128x100000, .i64⟩) main_call0_v16) (TRef.of (T := ⟨S128x100000, .i32⟩) main_call0_v18) (trunci 32 · natLt_32_64),
    TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S128x100000, .i32⟩) main_call0_call0_v2) (broadcastInDim S128x100000 ![] bcast_S_S128x100000),
    TRef.binary (TRef.of (T := ⟨S128x100000, .i32⟩) main_call0_v18) (TRef.of (T := ⟨S128x100000, .i32⟩) main_call0_call0_v2) (TRef.of (T := ⟨S128x100000, .i32⟩) main_call0_call0_v3) addi,
    TRef.unary (TRef.of (T := ⟨S_, .i32⟩) main_call0_v7) (TRef.of (T := ⟨S128x100000, .i32⟩) main_call0_call0_v4) (broadcastInDim S128x100000 ![] bcast_S_S128x100000),
    TRef.binary (TRef.of (T := ⟨S128x100000, .i32⟩) main_call0_v17) (TRef.of (T := ⟨S128x100000, .i32⟩) main_call0_call0_v4) (TRef.of (T := ⟨S128x100000, .i32⟩) main_call0_call0_v5) addi,
    TRef.binary (TRef.of (T := ⟨S128x100000, .i32⟩) main_call0_call0_v3) (TRef.of (T := ⟨S128x100000, .i32⟩) main_call0_call0_v5) (TRef.of (T := ⟨S128x100000, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S128x100000, .i32⟩) main_call0_call0_v7) (broadcastInDim S128x100000 ![] bcast_S_S128x100000),
    TRef.binary (TRef.of (T := ⟨S128x100000, .i32⟩) main_call0_call0_v5) (TRef.of (T := ⟨S128x100000, .i32⟩) main_call0_call0_v7) (TRef.of (T := ⟨S128x100000, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S128x100000, .i32⟩) main_call0_call0_v9) (broadcastInDim S128x100000 ![] bcast_S_S128x100000),
    TRef.binary (TRef.of (T := ⟨S128x100000, .i32⟩) main_call0_call0_v5) (TRef.of (T := ⟨S128x100000, .i32⟩) main_call0_call0_v9) (TRef.of (T := ⟨S128x100000, .i32⟩) main_call0_call0_v10) Host.shrui,
    TRef.binary (TRef.of (T := ⟨S128x100000, .i32⟩) main_call0_call0_v8) (TRef.of (T := ⟨S128x100000, .i32⟩) main_call0_call0_v10) (TRef.of (T := ⟨S128x100000, .i32⟩) main_call0_call0_v11) ori,
    TRef.binary (TRef.of (T := ⟨S128x100000, .i32⟩) main_call0_call0_v6) (TRef.of (T := ⟨S128x100000, .i32⟩) main_call0_call0_v11) (TRef.of (T := ⟨S128x100000, .i32⟩) main_call0_call0_v12) xori,
    TRef.binary (TRef.of (T := ⟨S128x100000, .i32⟩) main_call0_call0_v6) (TRef.of (T := ⟨S128x100000, .i32⟩) main_call0_call0_v12) (TRef.of (T := ⟨S128x100000, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S128x100000, .i32⟩) main_call0_call0_v14) (broadcastInDim S128x100000 ![] bcast_S_S128x100000),
    TRef.binary (TRef.of (T := ⟨S128x100000, .i32⟩) main_call0_call0_v12) (TRef.of (T := ⟨S128x100000, .i32⟩) main_call0_call0_v14) (TRef.of (T := ⟨S128x100000, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S128x100000, .i32⟩) main_call0_call0_v16) (broadcastInDim S128x100000 ![] bcast_S_S128x100000),
    TRef.binary (TRef.of (T := ⟨S128x100000, .i32⟩) main_call0_call0_v12) (TRef.of (T := ⟨S128x100000, .i32⟩) main_call0_call0_v16) (TRef.of (T := ⟨S128x100000, .i32⟩) main_call0_call0_v17) Host.shrui,
    TRef.binary (TRef.of (T := ⟨S128x100000, .i32⟩) main_call0_call0_v15) (TRef.of (T := ⟨S128x100000, .i32⟩) main_call0_call0_v17) (TRef.of (T := ⟨S128x100000, .i32⟩) main_call0_call0_v18) ori,
    TRef.binary (TRef.of (T := ⟨S128x100000, .i32⟩) main_call0_call0_v13) (TRef.of (T := ⟨S128x100000, .i32⟩) main_call0_call0_v18) (TRef.of (T := ⟨S128x100000, .i32⟩) main_call0_call0_v19) xori,
    TRef.binary (TRef.of (T := ⟨S128x100000, .i32⟩) main_call0_call0_v13) (TRef.of (T := ⟨S128x100000, .i32⟩) main_call0_call0_v19) (TRef.of (T := ⟨S128x100000, .i32⟩) main_call0_call0_v20) addi ]

/-- @main's operations 61 … 90 of 315 (@main, which the printer did not cut). -/
abbrev ops_2 : List (HloOp τ sig (Elt F)) :=
  [ TRef.nullary (TRef.of (T := ⟨S_, .i32⟩) main_call0_call0_c_4) (constantI S_ 32 26#32),
    TRef.unary (TRef.of (T := ⟨S_, .i32⟩) main_call0_call0_c_4) (TRef.of (T := ⟨S128x100000, .i32⟩) main_call0_call0_v21) (broadcastInDim S128x100000 ![] bcast_S_S128x100000),
    TRef.binary (TRef.of (T := ⟨S128x100000, .i32⟩) main_call0_call0_v19) (TRef.of (T := ⟨S128x100000, .i32⟩) main_call0_call0_v21) (TRef.of (T := ⟨S128x100000, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S128x100000, .i32⟩) main_call0_call0_v23) (broadcastInDim S128x100000 ![] bcast_S_S128x100000),
    TRef.binary (TRef.of (T := ⟨S128x100000, .i32⟩) main_call0_call0_v19) (TRef.of (T := ⟨S128x100000, .i32⟩) main_call0_call0_v23) (TRef.of (T := ⟨S128x100000, .i32⟩) main_call0_call0_v24) Host.shrui,
    TRef.binary (TRef.of (T := ⟨S128x100000, .i32⟩) main_call0_call0_v22) (TRef.of (T := ⟨S128x100000, .i32⟩) main_call0_call0_v24) (TRef.of (T := ⟨S128x100000, .i32⟩) main_call0_call0_v25) ori,
    TRef.binary (TRef.of (T := ⟨S128x100000, .i32⟩) main_call0_call0_v20) (TRef.of (T := ⟨S128x100000, .i32⟩) main_call0_call0_v25) (TRef.of (T := ⟨S128x100000, .i32⟩) main_call0_call0_v26) xori,
    TRef.binary (TRef.of (T := ⟨S128x100000, .i32⟩) main_call0_call0_v20) (TRef.of (T := ⟨S128x100000, .i32⟩) main_call0_call0_v26) (TRef.of (T := ⟨S128x100000, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S128x100000, .i32⟩) main_call0_call0_v28) (broadcastInDim S128x100000 ![] bcast_S_S128x100000),
    TRef.binary (TRef.of (T := ⟨S128x100000, .i32⟩) main_call0_call0_v26) (TRef.of (T := ⟨S128x100000, .i32⟩) main_call0_call0_v28) (TRef.of (T := ⟨S128x100000, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S128x100000, .i32⟩) main_call0_call0_v30) (broadcastInDim S128x100000 ![] bcast_S_S128x100000),
    TRef.binary (TRef.of (T := ⟨S128x100000, .i32⟩) main_call0_call0_v26) (TRef.of (T := ⟨S128x100000, .i32⟩) main_call0_call0_v30) (TRef.of (T := ⟨S128x100000, .i32⟩) main_call0_call0_v31) Host.shrui,
    TRef.binary (TRef.of (T := ⟨S128x100000, .i32⟩) main_call0_call0_v29) (TRef.of (T := ⟨S128x100000, .i32⟩) main_call0_call0_v31) (TRef.of (T := ⟨S128x100000, .i32⟩) main_call0_call0_v32) ori,
    TRef.binary (TRef.of (T := ⟨S128x100000, .i32⟩) main_call0_call0_v27) (TRef.of (T := ⟨S128x100000, .i32⟩) main_call0_call0_v32) (TRef.of (T := ⟨S128x100000, .i32⟩) main_call0_call0_v33) xori,
    TRef.unary (TRef.of (T := ⟨S_, .i32⟩) main_call0_v7) (TRef.of (T := ⟨S128x100000, .i32⟩) main_call0_call0_v34) (broadcastInDim S128x100000 ![] bcast_S_S128x100000),
    TRef.binary (TRef.of (T := ⟨S128x100000, .i32⟩) main_call0_call0_v27) (TRef.of (T := ⟨S128x100000, .i32⟩) main_call0_call0_v34) (TRef.of (T := ⟨S128x100000, .i32⟩) main_call0_call0_v35) addi,
    TRef.unary (TRef.of (T := ⟨S_, .i32⟩) main_call0_call0_v1) (TRef.of (T := ⟨S128x100000, .i32⟩) main_call0_call0_v36) (broadcastInDim S128x100000 ![] bcast_S_S128x100000),
    TRef.binary (TRef.of (T := ⟨S128x100000, .i32⟩) main_call0_call0_v33) (TRef.of (T := ⟨S128x100000, .i32⟩) main_call0_call0_v36) (TRef.of (T := ⟨S128x100000, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S128x100000, .i32⟩) main_call0_call0_v38) (broadcastInDim S128x100000 ![] bcast_S_S128x100000),
    TRef.binary (TRef.of (T := ⟨S128x100000, .i32⟩) main_call0_call0_v37) (TRef.of (T := ⟨S128x100000, .i32⟩) main_call0_call0_v38) (TRef.of (T := ⟨S128x100000, .i32⟩) main_call0_call0_v39) addi,
    TRef.binary (TRef.of (T := ⟨S128x100000, .i32⟩) main_call0_call0_v35) (TRef.of (T := ⟨S128x100000, .i32⟩) main_call0_call0_v39) (TRef.of (T := ⟨S128x100000, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S128x100000, .i32⟩) main_call0_call0_v41) (broadcastInDim S128x100000 ![] bcast_S_S128x100000),
    TRef.binary (TRef.of (T := ⟨S128x100000, .i32⟩) main_call0_call0_v39) (TRef.of (T := ⟨S128x100000, .i32⟩) main_call0_call0_v41) (TRef.of (T := ⟨S128x100000, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S128x100000, .i32⟩) main_call0_call0_v43) (broadcastInDim S128x100000 ![] bcast_S_S128x100000) ]

/-- @main's operations 91 … 120 of 315 (@main, which the printer did not cut). -/
abbrev ops_3 : List (HloOp τ sig (Elt F)) :=
  [ TRef.binary (TRef.of (T := ⟨S128x100000, .i32⟩) main_call0_call0_v39) (TRef.of (T := ⟨S128x100000, .i32⟩) main_call0_call0_v43) (TRef.of (T := ⟨S128x100000, .i32⟩) main_call0_call0_v44) Host.shrui,
    TRef.binary (TRef.of (T := ⟨S128x100000, .i32⟩) main_call0_call0_v42) (TRef.of (T := ⟨S128x100000, .i32⟩) main_call0_call0_v44) (TRef.of (T := ⟨S128x100000, .i32⟩) main_call0_call0_v45) ori,
    TRef.binary (TRef.of (T := ⟨S128x100000, .i32⟩) main_call0_call0_v40) (TRef.of (T := ⟨S128x100000, .i32⟩) main_call0_call0_v45) (TRef.of (T := ⟨S128x100000, .i32⟩) main_call0_call0_v46) xori,
    TRef.binary (TRef.of (T := ⟨S128x100000, .i32⟩) main_call0_call0_v40) (TRef.of (T := ⟨S128x100000, .i32⟩) main_call0_call0_v46) (TRef.of (T := ⟨S128x100000, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S128x100000, .i32⟩) main_call0_call0_v48) (broadcastInDim S128x100000 ![] bcast_S_S128x100000),
    TRef.binary (TRef.of (T := ⟨S128x100000, .i32⟩) main_call0_call0_v46) (TRef.of (T := ⟨S128x100000, .i32⟩) main_call0_call0_v48) (TRef.of (T := ⟨S128x100000, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S128x100000, .i32⟩) main_call0_call0_v50) (broadcastInDim S128x100000 ![] bcast_S_S128x100000),
    TRef.binary (TRef.of (T := ⟨S128x100000, .i32⟩) main_call0_call0_v46) (TRef.of (T := ⟨S128x100000, .i32⟩) main_call0_call0_v50) (TRef.of (T := ⟨S128x100000, .i32⟩) main_call0_call0_v51) Host.shrui,
    TRef.binary (TRef.of (T := ⟨S128x100000, .i32⟩) main_call0_call0_v49) (TRef.of (T := ⟨S128x100000, .i32⟩) main_call0_call0_v51) (TRef.of (T := ⟨S128x100000, .i32⟩) main_call0_call0_v52) ori,
    TRef.binary (TRef.of (T := ⟨S128x100000, .i32⟩) main_call0_call0_v47) (TRef.of (T := ⟨S128x100000, .i32⟩) main_call0_call0_v52) (TRef.of (T := ⟨S128x100000, .i32⟩) main_call0_call0_v53) xori,
    TRef.binary (TRef.of (T := ⟨S128x100000, .i32⟩) main_call0_call0_v47) (TRef.of (T := ⟨S128x100000, .i32⟩) main_call0_call0_v53) (TRef.of (T := ⟨S128x100000, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S128x100000, .i32⟩) main_call0_call0_v55) (broadcastInDim S128x100000 ![] bcast_S_S128x100000),
    TRef.binary (TRef.of (T := ⟨S128x100000, .i32⟩) main_call0_call0_v53) (TRef.of (T := ⟨S128x100000, .i32⟩) main_call0_call0_v55) (TRef.of (T := ⟨S128x100000, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S128x100000, .i32⟩) main_call0_call0_v57) (broadcastInDim S128x100000 ![] bcast_S_S128x100000),
    TRef.binary (TRef.of (T := ⟨S128x100000, .i32⟩) main_call0_call0_v53) (TRef.of (T := ⟨S128x100000, .i32⟩) main_call0_call0_v57) (TRef.of (T := ⟨S128x100000, .i32⟩) main_call0_call0_v58) Host.shrui,
    TRef.binary (TRef.of (T := ⟨S128x100000, .i32⟩) main_call0_call0_v56) (TRef.of (T := ⟨S128x100000, .i32⟩) main_call0_call0_v58) (TRef.of (T := ⟨S128x100000, .i32⟩) main_call0_call0_v59) ori,
    TRef.binary (TRef.of (T := ⟨S128x100000, .i32⟩) main_call0_call0_v54) (TRef.of (T := ⟨S128x100000, .i32⟩) main_call0_call0_v59) (TRef.of (T := ⟨S128x100000, .i32⟩) main_call0_call0_v60) xori,
    TRef.binary (TRef.of (T := ⟨S128x100000, .i32⟩) main_call0_call0_v54) (TRef.of (T := ⟨S128x100000, .i32⟩) main_call0_call0_v60) (TRef.of (T := ⟨S128x100000, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S128x100000, .i32⟩) main_call0_call0_v62) (broadcastInDim S128x100000 ![] bcast_S_S128x100000),
    TRef.binary (TRef.of (T := ⟨S128x100000, .i32⟩) main_call0_call0_v60) (TRef.of (T := ⟨S128x100000, .i32⟩) main_call0_call0_v62) (TRef.of (T := ⟨S128x100000, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S128x100000, .i32⟩) main_call0_call0_v64) (broadcastInDim S128x100000 ![] bcast_S_S128x100000),
    TRef.binary (TRef.of (T := ⟨S128x100000, .i32⟩) main_call0_call0_v60) (TRef.of (T := ⟨S128x100000, .i32⟩) main_call0_call0_v64) (TRef.of (T := ⟨S128x100000, .i32⟩) main_call0_call0_v65) Host.shrui,
    TRef.binary (TRef.of (T := ⟨S128x100000, .i32⟩) main_call0_call0_v63) (TRef.of (T := ⟨S128x100000, .i32⟩) main_call0_call0_v65) (TRef.of (T := ⟨S128x100000, .i32⟩) main_call0_call0_v66) ori,
    TRef.binary (TRef.of (T := ⟨S128x100000, .i32⟩) main_call0_call0_v61) (TRef.of (T := ⟨S128x100000, .i32⟩) main_call0_call0_v66) (TRef.of (T := ⟨S128x100000, .i32⟩) main_call0_call0_v67) xori ]

/-- @main's operations 121 … 150 of 315 (@main, which the printer did not cut). -/
abbrev ops_4 : List (HloOp τ sig (Elt F)) :=
  [ TRef.unary (TRef.of (T := ⟨S_, .i32⟩) main_call0_call0_v1) (TRef.of (T := ⟨S128x100000, .i32⟩) main_call0_call0_v68) (broadcastInDim S128x100000 ![] bcast_S_S128x100000),
    TRef.binary (TRef.of (T := ⟨S128x100000, .i32⟩) main_call0_call0_v61) (TRef.of (T := ⟨S128x100000, .i32⟩) main_call0_call0_v68) (TRef.of (T := ⟨S128x100000, .i32⟩) main_call0_call0_v69) addi,
    TRef.unary (TRef.of (T := ⟨S_, .i32⟩) main_call0_v5) (TRef.of (T := ⟨S128x100000, .i32⟩) main_call0_call0_v70) (broadcastInDim S128x100000 ![] bcast_S_S128x100000),
    TRef.binary (TRef.of (T := ⟨S128x100000, .i32⟩) main_call0_call0_v67) (TRef.of (T := ⟨S128x100000, .i32⟩) main_call0_call0_v70) (TRef.of (T := ⟨S128x100000, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S128x100000, .i32⟩) main_call0_call0_v72) (broadcastInDim S128x100000 ![] bcast_S_S128x100000),
    TRef.binary (TRef.of (T := ⟨S128x100000, .i32⟩) main_call0_call0_v71) (TRef.of (T := ⟨S128x100000, .i32⟩) main_call0_call0_v72) (TRef.of (T := ⟨S128x100000, .i32⟩) main_call0_call0_v73) addi,
    TRef.binary (TRef.of (T := ⟨S128x100000, .i32⟩) main_call0_call0_v69) (TRef.of (T := ⟨S128x100000, .i32⟩) main_call0_call0_v73) (TRef.of (T := ⟨S128x100000, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S128x100000, .i32⟩) main_call0_call0_v75) (broadcastInDim S128x100000 ![] bcast_S_S128x100000),
    TRef.binary (TRef.of (T := ⟨S128x100000, .i32⟩) main_call0_call0_v73) (TRef.of (T := ⟨S128x100000, .i32⟩) main_call0_call0_v75) (TRef.of (T := ⟨S128x100000, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S128x100000, .i32⟩) main_call0_call0_v77) (broadcastInDim S128x100000 ![] bcast_S_S128x100000),
    TRef.binary (TRef.of (T := ⟨S128x100000, .i32⟩) main_call0_call0_v73) (TRef.of (T := ⟨S128x100000, .i32⟩) main_call0_call0_v77) (TRef.of (T := ⟨S128x100000, .i32⟩) main_call0_call0_v78) Host.shrui,
    TRef.binary (TRef.of (T := ⟨S128x100000, .i32⟩) main_call0_call0_v76) (TRef.of (T := ⟨S128x100000, .i32⟩) main_call0_call0_v78) (TRef.of (T := ⟨S128x100000, .i32⟩) main_call0_call0_v79) ori,
    TRef.binary (TRef.of (T := ⟨S128x100000, .i32⟩) main_call0_call0_v74) (TRef.of (T := ⟨S128x100000, .i32⟩) main_call0_call0_v79) (TRef.of (T := ⟨S128x100000, .i32⟩) main_call0_call0_v80) xori,
    TRef.binary (TRef.of (T := ⟨S128x100000, .i32⟩) main_call0_call0_v74) (TRef.of (T := ⟨S128x100000, .i32⟩) main_call0_call0_v80) (TRef.of (T := ⟨S128x100000, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S128x100000, .i32⟩) main_call0_call0_v82) (broadcastInDim S128x100000 ![] bcast_S_S128x100000),
    TRef.binary (TRef.of (T := ⟨S128x100000, .i32⟩) main_call0_call0_v80) (TRef.of (T := ⟨S128x100000, .i32⟩) main_call0_call0_v82) (TRef.of (T := ⟨S128x100000, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S128x100000, .i32⟩) main_call0_call0_v84) (broadcastInDim S128x100000 ![] bcast_S_S128x100000),
    TRef.binary (TRef.of (T := ⟨S128x100000, .i32⟩) main_call0_call0_v80) (TRef.of (T := ⟨S128x100000, .i32⟩) main_call0_call0_v84) (TRef.of (T := ⟨S128x100000, .i32⟩) main_call0_call0_v85) Host.shrui,
    TRef.binary (TRef.of (T := ⟨S128x100000, .i32⟩) main_call0_call0_v83) (TRef.of (T := ⟨S128x100000, .i32⟩) main_call0_call0_v85) (TRef.of (T := ⟨S128x100000, .i32⟩) main_call0_call0_v86) ori,
    TRef.binary (TRef.of (T := ⟨S128x100000, .i32⟩) main_call0_call0_v81) (TRef.of (T := ⟨S128x100000, .i32⟩) main_call0_call0_v86) (TRef.of (T := ⟨S128x100000, .i32⟩) main_call0_call0_v87) xori,
    TRef.binary (TRef.of (T := ⟨S128x100000, .i32⟩) main_call0_call0_v81) (TRef.of (T := ⟨S128x100000, .i32⟩) main_call0_call0_v87) (TRef.of (T := ⟨S128x100000, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S128x100000, .i32⟩) main_call0_call0_v89) (broadcastInDim S128x100000 ![] bcast_S_S128x100000),
    TRef.binary (TRef.of (T := ⟨S128x100000, .i32⟩) main_call0_call0_v87) (TRef.of (T := ⟨S128x100000, .i32⟩) main_call0_call0_v89) (TRef.of (T := ⟨S128x100000, .i32⟩) main_call0_call0_v90) Host.shli,
    TRef.nullary (TRef.of (T := ⟨S_, .i32⟩) main_call0_call0_c_23) (constantI S_ 32 6#32) ]

/-- @main's operations 151 … 180 of 315 (@main, which the printer did not cut). -/
abbrev ops_5 : List (HloOp τ sig (Elt F)) :=
  [ TRef.unary (TRef.of (T := ⟨S_, .i32⟩) main_call0_call0_c_23) (TRef.of (T := ⟨S128x100000, .i32⟩) main_call0_call0_v91) (broadcastInDim S128x100000 ![] bcast_S_S128x100000),
    TRef.binary (TRef.of (T := ⟨S128x100000, .i32⟩) main_call0_call0_v87) (TRef.of (T := ⟨S128x100000, .i32⟩) main_call0_call0_v91) (TRef.of (T := ⟨S128x100000, .i32⟩) main_call0_call0_v92) Host.shrui,
    TRef.binary (TRef.of (T := ⟨S128x100000, .i32⟩) main_call0_call0_v90) (TRef.of (T := ⟨S128x100000, .i32⟩) main_call0_call0_v92) (TRef.of (T := ⟨S128x100000, .i32⟩) main_call0_call0_v93) ori,
    TRef.binary (TRef.of (T := ⟨S128x100000, .i32⟩) main_call0_call0_v88) (TRef.of (T := ⟨S128x100000, .i32⟩) main_call0_call0_v93) (TRef.of (T := ⟨S128x100000, .i32⟩) main_call0_call0_v94) xori,
    TRef.binary (TRef.of (T := ⟨S128x100000, .i32⟩) main_call0_call0_v88) (TRef.of (T := ⟨S128x100000, .i32⟩) main_call0_call0_v94) (TRef.of (T := ⟨S128x100000, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S128x100000, .i32⟩) main_call0_call0_v96) (broadcastInDim S128x100000 ![] bcast_S_S128x100000),
    TRef.binary (TRef.of (T := ⟨S128x100000, .i32⟩) main_call0_call0_v94) (TRef.of (T := ⟨S128x100000, .i32⟩) main_call0_call0_v96) (TRef.of (T := ⟨S128x100000, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S128x100000, .i32⟩) main_call0_call0_v98) (broadcastInDim S128x100000 ![] bcast_S_S128x100000),
    TRef.binary (TRef.of (T := ⟨S128x100000, .i32⟩) main_call0_call0_v94) (TRef.of (T := ⟨S128x100000, .i32⟩) main_call0_call0_v98) (TRef.of (T := ⟨S128x100000, .i32⟩) main_call0_call0_v99) Host.shrui,
    TRef.binary (TRef.of (T := ⟨S128x100000, .i32⟩) main_call0_call0_v97) (TRef.of (T := ⟨S128x100000, .i32⟩) main_call0_call0_v99) (TRef.of (T := ⟨S128x100000, .i32⟩) main_call0_call0_v100) ori,
    TRef.binary (TRef.of (T := ⟨S128x100000, .i32⟩) main_call0_call0_v95) (TRef.of (T := ⟨S128x100000, .i32⟩) main_call0_call0_v100) (TRef.of (T := ⟨S128x100000, .i32⟩) main_call0_call0_v101) xori,
    TRef.unary (TRef.of (T := ⟨S_, .i32⟩) main_call0_v5) (TRef.of (T := ⟨S128x100000, .i32⟩) main_call0_call0_v102) (broadcastInDim S128x100000 ![] bcast_S_S128x100000),
    TRef.binary (TRef.of (T := ⟨S128x100000, .i32⟩) main_call0_call0_v95) (TRef.of (T := ⟨S128x100000, .i32⟩) main_call0_call0_v102) (TRef.of (T := ⟨S128x100000, .i32⟩) main_call0_call0_v103) addi,
    TRef.unary (TRef.of (T := ⟨S_, .i32⟩) main_call0_v7) (TRef.of (T := ⟨S128x100000, .i32⟩) main_call0_call0_v104) (broadcastInDim S128x100000 ![] bcast_S_S128x100000),
    TRef.binary (TRef.of (T := ⟨S128x100000, .i32⟩) main_call0_call0_v101) (TRef.of (T := ⟨S128x100000, .i32⟩) main_call0_call0_v104) (TRef.of (T := ⟨S128x100000, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S128x100000, .i32⟩) main_call0_call0_v106) (broadcastInDim S128x100000 ![] bcast_S_S128x100000),
    TRef.binary (TRef.of (T := ⟨S128x100000, .i32⟩) main_call0_call0_v105) (TRef.of (T := ⟨S128x100000, .i32⟩) main_call0_call0_v106) (TRef.of (T := ⟨S128x100000, .i32⟩) main_call0_call0_v107) addi,
    TRef.binary (TRef.of (T := ⟨S128x100000, .i32⟩) main_call0_call0_v103) (TRef.of (T := ⟨S128x100000, .i32⟩) main_call0_call0_v107) (TRef.of (T := ⟨S128x100000, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S128x100000, .i32⟩) main_call0_call0_v109) (broadcastInDim S128x100000 ![] bcast_S_S128x100000),
    TRef.binary (TRef.of (T := ⟨S128x100000, .i32⟩) main_call0_call0_v107) (TRef.of (T := ⟨S128x100000, .i32⟩) main_call0_call0_v109) (TRef.of (T := ⟨S128x100000, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S128x100000, .i32⟩) main_call0_call0_v111) (broadcastInDim S128x100000 ![] bcast_S_S128x100000),
    TRef.binary (TRef.of (T := ⟨S128x100000, .i32⟩) main_call0_call0_v107) (TRef.of (T := ⟨S128x100000, .i32⟩) main_call0_call0_v111) (TRef.of (T := ⟨S128x100000, .i32⟩) main_call0_call0_v112) Host.shrui,
    TRef.binary (TRef.of (T := ⟨S128x100000, .i32⟩) main_call0_call0_v110) (TRef.of (T := ⟨S128x100000, .i32⟩) main_call0_call0_v112) (TRef.of (T := ⟨S128x100000, .i32⟩) main_call0_call0_v113) ori,
    TRef.binary (TRef.of (T := ⟨S128x100000, .i32⟩) main_call0_call0_v108) (TRef.of (T := ⟨S128x100000, .i32⟩) main_call0_call0_v113) (TRef.of (T := ⟨S128x100000, .i32⟩) main_call0_call0_v114) xori,
    TRef.binary (TRef.of (T := ⟨S128x100000, .i32⟩) main_call0_call0_v108) (TRef.of (T := ⟨S128x100000, .i32⟩) main_call0_call0_v114) (TRef.of (T := ⟨S128x100000, .i32⟩) main_call0_call0_v115) addi ]

/-- @main's operations 181 … 210 of 315 (@main, which the printer did not cut). -/
abbrev ops_6 : List (HloOp τ sig (Elt F)) :=
  [ TRef.nullary (TRef.of (T := ⟨S_, .i32⟩) main_call0_call0_c_29) (constantI S_ 32 29#32),
    TRef.unary (TRef.of (T := ⟨S_, .i32⟩) main_call0_call0_c_29) (TRef.of (T := ⟨S128x100000, .i32⟩) main_call0_call0_v116) (broadcastInDim S128x100000 ![] bcast_S_S128x100000),
    TRef.binary (TRef.of (T := ⟨S128x100000, .i32⟩) main_call0_call0_v114) (TRef.of (T := ⟨S128x100000, .i32⟩) main_call0_call0_v116) (TRef.of (T := ⟨S128x100000, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S128x100000, .i32⟩) main_call0_call0_v118) (broadcastInDim S128x100000 ![] bcast_S_S128x100000),
    TRef.binary (TRef.of (T := ⟨S128x100000, .i32⟩) main_call0_call0_v114) (TRef.of (T := ⟨S128x100000, .i32⟩) main_call0_call0_v118) (TRef.of (T := ⟨S128x100000, .i32⟩) main_call0_call0_v119) Host.shrui,
    TRef.binary (TRef.of (T := ⟨S128x100000, .i32⟩) main_call0_call0_v117) (TRef.of (T := ⟨S128x100000, .i32⟩) main_call0_call0_v119) (TRef.of (T := ⟨S128x100000, .i32⟩) main_call0_call0_v120) ori,
    TRef.binary (TRef.of (T := ⟨S128x100000, .i32⟩) main_call0_call0_v115) (TRef.of (T := ⟨S128x100000, .i32⟩) main_call0_call0_v120) (TRef.of (T := ⟨S128x100000, .i32⟩) main_call0_call0_v121) xori,
    TRef.binary (TRef.of (T := ⟨S128x100000, .i32⟩) main_call0_call0_v115) (TRef.of (T := ⟨S128x100000, .i32⟩) main_call0_call0_v121) (TRef.of (T := ⟨S128x100000, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S128x100000, .i32⟩) main_call0_call0_v123) (broadcastInDim S128x100000 ![] bcast_S_S128x100000),
    TRef.binary (TRef.of (T := ⟨S128x100000, .i32⟩) main_call0_call0_v121) (TRef.of (T := ⟨S128x100000, .i32⟩) main_call0_call0_v123) (TRef.of (T := ⟨S128x100000, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S128x100000, .i32⟩) main_call0_call0_v125) (broadcastInDim S128x100000 ![] bcast_S_S128x100000),
    TRef.binary (TRef.of (T := ⟨S128x100000, .i32⟩) main_call0_call0_v121) (TRef.of (T := ⟨S128x100000, .i32⟩) main_call0_call0_v125) (TRef.of (T := ⟨S128x100000, .i32⟩) main_call0_call0_v126) Host.shrui,
    TRef.binary (TRef.of (T := ⟨S128x100000, .i32⟩) main_call0_call0_v124) (TRef.of (T := ⟨S128x100000, .i32⟩) main_call0_call0_v126) (TRef.of (T := ⟨S128x100000, .i32⟩) main_call0_call0_v127) ori,
    TRef.binary (TRef.of (T := ⟨S128x100000, .i32⟩) main_call0_call0_v122) (TRef.of (T := ⟨S128x100000, .i32⟩) main_call0_call0_v127) (TRef.of (T := ⟨S128x100000, .i32⟩) main_call0_call0_v128) xori,
    TRef.binary (TRef.of (T := ⟨S128x100000, .i32⟩) main_call0_call0_v122) (TRef.of (T := ⟨S128x100000, .i32⟩) main_call0_call0_v128) (TRef.of (T := ⟨S128x100000, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S128x100000, .i32⟩) main_call0_call0_v130) (broadcastInDim S128x100000 ![] bcast_S_S128x100000),
    TRef.binary (TRef.of (T := ⟨S128x100000, .i32⟩) main_call0_call0_v128) (TRef.of (T := ⟨S128x100000, .i32⟩) main_call0_call0_v130) (TRef.of (T := ⟨S128x100000, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S128x100000, .i32⟩) main_call0_call0_v132) (broadcastInDim S128x100000 ![] bcast_S_S128x100000),
    TRef.binary (TRef.of (T := ⟨S128x100000, .i32⟩) main_call0_call0_v128) (TRef.of (T := ⟨S128x100000, .i32⟩) main_call0_call0_v132) (TRef.of (T := ⟨S128x100000, .i32⟩) main_call0_call0_v133) Host.shrui,
    TRef.binary (TRef.of (T := ⟨S128x100000, .i32⟩) main_call0_call0_v131) (TRef.of (T := ⟨S128x100000, .i32⟩) main_call0_call0_v133) (TRef.of (T := ⟨S128x100000, .i32⟩) main_call0_call0_v134) ori,
    TRef.binary (TRef.of (T := ⟨S128x100000, .i32⟩) main_call0_call0_v129) (TRef.of (T := ⟨S128x100000, .i32⟩) main_call0_call0_v134) (TRef.of (T := ⟨S128x100000, .i32⟩) main_call0_call0_v135) xori,
    TRef.unary (TRef.of (T := ⟨S_, .i32⟩) main_call0_v7) (TRef.of (T := ⟨S128x100000, .i32⟩) main_call0_call0_v136) (broadcastInDim S128x100000 ![] bcast_S_S128x100000),
    TRef.binary (TRef.of (T := ⟨S128x100000, .i32⟩) main_call0_call0_v129) (TRef.of (T := ⟨S128x100000, .i32⟩) main_call0_call0_v136) (TRef.of (T := ⟨S128x100000, .i32⟩) main_call0_call0_v137) addi,
    TRef.unary (TRef.of (T := ⟨S_, .i32⟩) main_call0_call0_v1) (TRef.of (T := ⟨S128x100000, .i32⟩) main_call0_call0_v138) (broadcastInDim S128x100000 ![] bcast_S_S128x100000),
    TRef.binary (TRef.of (T := ⟨S128x100000, .i32⟩) main_call0_call0_v135) (TRef.of (T := ⟨S128x100000, .i32⟩) main_call0_call0_v138) (TRef.of (T := ⟨S128x100000, .i32⟩) main_call0_call0_v139) addi ]

/-- @main's operations 211 … 240 of 315 (@main, which the printer did not cut). -/
abbrev ops_7 : List (HloOp τ sig (Elt F)) :=
  [ TRef.nullary (TRef.of (T := ⟨S_, .i32⟩) main_call0_call0_c_35) (constantI S_ 32 4#32),
    TRef.unary (TRef.of (T := ⟨S_, .i32⟩) main_call0_call0_c_35) (TRef.of (T := ⟨S128x100000, .i32⟩) main_call0_call0_v140) (broadcastInDim S128x100000 ![] bcast_S_S128x100000),
    TRef.binary (TRef.of (T := ⟨S128x100000, .i32⟩) main_call0_call0_v139) (TRef.of (T := ⟨S128x100000, .i32⟩) main_call0_call0_v140) (TRef.of (T := ⟨S128x100000, .i32⟩) main_call0_call0_v141) addi,
    TRef.binary (TRef.of (T := ⟨S128x100000, .i32⟩) main_call0_call0_v137) (TRef.of (T := ⟨S128x100000, .i32⟩) main_call0_call0_v141) (TRef.of (T := ⟨S128x100000, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S128x100000, .i32⟩) main_call0_call0_v143) (broadcastInDim S128x100000 ![] bcast_S_S128x100000),
    TRef.binary (TRef.of (T := ⟨S128x100000, .i32⟩) main_call0_call0_v141) (TRef.of (T := ⟨S128x100000, .i32⟩) main_call0_call0_v143) (TRef.of (T := ⟨S128x100000, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S128x100000, .i32⟩) main_call0_call0_v145) (broadcastInDim S128x100000 ![] bcast_S_S128x100000),
    TRef.binary (TRef.of (T := ⟨S128x100000, .i32⟩) main_call0_call0_v141) (TRef.of (T := ⟨S128x100000, .i32⟩) main_call0_call0_v145) (TRef.of (T := ⟨S128x100000, .i32⟩) main_call0_call0_v146) Host.shrui,
    TRef.binary (TRef.of (T := ⟨S128x100000, .i32⟩) main_call0_call0_v144) (TRef.of (T := ⟨S128x100000, .i32⟩) main_call0_call0_v146) (TRef.of (T := ⟨S128x100000, .i32⟩) main_call0_call0_v147) ori,
    TRef.binary (TRef.of (T := ⟨S128x100000, .i32⟩) main_call0_call0_v142) (TRef.of (T := ⟨S128x100000, .i32⟩) main_call0_call0_v147) (TRef.of (T := ⟨S128x100000, .i32⟩) main_call0_call0_v148) xori,
    TRef.binary (TRef.of (T := ⟨S128x100000, .i32⟩) main_call0_call0_v142) (TRef.of (T := ⟨S128x100000, .i32⟩) main_call0_call0_v148) (TRef.of (T := ⟨S128x100000, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S128x100000, .i32⟩) main_call0_call0_v150) (broadcastInDim S128x100000 ![] bcast_S_S128x100000),
    TRef.binary (TRef.of (T := ⟨S128x100000, .i32⟩) main_call0_call0_v148) (TRef.of (T := ⟨S128x100000, .i32⟩) main_call0_call0_v150) (TRef.of (T := ⟨S128x100000, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S128x100000, .i32⟩) main_call0_call0_v152) (broadcastInDim S128x100000 ![] bcast_S_S128x100000),
    TRef.binary (TRef.of (T := ⟨S128x100000, .i32⟩) main_call0_call0_v148) (TRef.of (T := ⟨S128x100000, .i32⟩) main_call0_call0_v152) (TRef.of (T := ⟨S128x100000, .i32⟩) main_call0_call0_v153) Host.shrui,
    TRef.binary (TRef.of (T := ⟨S128x100000, .i32⟩) main_call0_call0_v151) (TRef.of (T := ⟨S128x100000, .i32⟩) main_call0_call0_v153) (TRef.of (T := ⟨S128x100000, .i32⟩) main_call0_call0_v154) ori,
    TRef.binary (TRef.of (T := ⟨S128x100000, .i32⟩) main_call0_call0_v149) (TRef.of (T := ⟨S128x100000, .i32⟩) main_call0_call0_v154) (TRef.of (T := ⟨S128x100000, .i32⟩) main_call0_call0_v155) xori,
    TRef.binary (TRef.of (T := ⟨S128x100000, .i32⟩) main_call0_call0_v149) (TRef.of (T := ⟨S128x100000, .i32⟩) main_call0_call0_v155) (TRef.of (T := ⟨S128x100000, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S128x100000, .i32⟩) main_call0_call0_v157) (broadcastInDim S128x100000 ![] bcast_S_S128x100000),
    TRef.binary (TRef.of (T := ⟨S128x100000, .i32⟩) main_call0_call0_v155) (TRef.of (T := ⟨S128x100000, .i32⟩) main_call0_call0_v157) (TRef.of (T := ⟨S128x100000, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S128x100000, .i32⟩) main_call0_call0_v159) (broadcastInDim S128x100000 ![] bcast_S_S128x100000),
    TRef.binary (TRef.of (T := ⟨S128x100000, .i32⟩) main_call0_call0_v155) (TRef.of (T := ⟨S128x100000, .i32⟩) main_call0_call0_v159) (TRef.of (T := ⟨S128x100000, .i32⟩) main_call0_call0_v160) Host.shrui,
    TRef.binary (TRef.of (T := ⟨S128x100000, .i32⟩) main_call0_call0_v158) (TRef.of (T := ⟨S128x100000, .i32⟩) main_call0_call0_v160) (TRef.of (T := ⟨S128x100000, .i32⟩) main_call0_call0_v161) ori,
    TRef.binary (TRef.of (T := ⟨S128x100000, .i32⟩) main_call0_call0_v156) (TRef.of (T := ⟨S128x100000, .i32⟩) main_call0_call0_v161) (TRef.of (T := ⟨S128x100000, .i32⟩) main_call0_call0_v162) xori ]

/-- @main's operations 241 … 270 of 315 (@main, which the printer did not cut). -/
abbrev ops_8 : List (HloOp τ sig (Elt F)) :=
  [ TRef.binary (TRef.of (T := ⟨S128x100000, .i32⟩) main_call0_call0_v156) (TRef.of (T := ⟨S128x100000, .i32⟩) main_call0_call0_v162) (TRef.of (T := ⟨S128x100000, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S128x100000, .i32⟩) main_call0_call0_v164) (broadcastInDim S128x100000 ![] bcast_S_S128x100000),
    TRef.binary (TRef.of (T := ⟨S128x100000, .i32⟩) main_call0_call0_v162) (TRef.of (T := ⟨S128x100000, .i32⟩) main_call0_call0_v164) (TRef.of (T := ⟨S128x100000, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S128x100000, .i32⟩) main_call0_call0_v166) (broadcastInDim S128x100000 ![] bcast_S_S128x100000),
    TRef.binary (TRef.of (T := ⟨S128x100000, .i32⟩) main_call0_call0_v162) (TRef.of (T := ⟨S128x100000, .i32⟩) main_call0_call0_v166) (TRef.of (T := ⟨S128x100000, .i32⟩) main_call0_call0_v167) Host.shrui,
    TRef.binary (TRef.of (T := ⟨S128x100000, .i32⟩) main_call0_call0_v165) (TRef.of (T := ⟨S128x100000, .i32⟩) main_call0_call0_v167) (TRef.of (T := ⟨S128x100000, .i32⟩) main_call0_call0_v168) ori,
    TRef.binary (TRef.of (T := ⟨S128x100000, .i32⟩) main_call0_call0_v163) (TRef.of (T := ⟨S128x100000, .i32⟩) main_call0_call0_v168) (TRef.of (T := ⟨S128x100000, .i32⟩) main_call0_call0_v169) xori,
    TRef.unary (TRef.of (T := ⟨S_, .i32⟩) main_call0_call0_v1) (TRef.of (T := ⟨S128x100000, .i32⟩) main_call0_call0_v170) (broadcastInDim S128x100000 ![] bcast_S_S128x100000),
    TRef.binary (TRef.of (T := ⟨S128x100000, .i32⟩) main_call0_call0_v163) (TRef.of (T := ⟨S128x100000, .i32⟩) main_call0_call0_v170) (TRef.of (T := ⟨S128x100000, .i32⟩) main_call0_v19_0) addi,
    TRef.unary (TRef.of (T := ⟨S_, .i32⟩) main_call0_v5) (TRef.of (T := ⟨S128x100000, .i32⟩) main_call0_call0_v172) (broadcastInDim S128x100000 ![] bcast_S_S128x100000),
    TRef.binary (TRef.of (T := ⟨S128x100000, .i32⟩) main_call0_call0_v169) (TRef.of (T := ⟨S128x100000, .i32⟩) main_call0_call0_v172) (TRef.of (T := ⟨S128x100000, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S128x100000, .i32⟩) main_call0_call0_v174) (broadcastInDim S128x100000 ![] bcast_S_S128x100000),
    TRef.binary (TRef.of (T := ⟨S128x100000, .i32⟩) main_call0_call0_v173) (TRef.of (T := ⟨S128x100000, .i32⟩) main_call0_call0_v174) (TRef.of (T := ⟨S128x100000, .i32⟩) main_call0_v19_1) addi,
    TRef.binary (TRef.of (T := ⟨S128x100000, .i32⟩) main_call0_v19_0) (TRef.of (T := ⟨S128x100000, .i32⟩) main_call0_v19_1) (TRef.of (T := ⟨S128x100000, .i32⟩) main_call0_v20) xori,
    TRef.nullary (TRef.of (T := ⟨S_, .i32⟩) main_call0_c_2) (constantI S_ 32 9#32),
    TRef.unary (TRef.of (T := ⟨S_, .i32⟩) main_call0_c_2) (TRef.of (T := ⟨S128x100000, .i32⟩) main_call0_v21) (broadcastInDim S128x100000 ![] bcast_S_S128x100000),
    TRef.binary (TRef.of (T := ⟨S128x100000, .i32⟩) main_call0_v20) (TRef.of (T := ⟨S128x100000, .i32⟩) main_call0_v21) (TRef.of (T := ⟨S128x100000, .i32⟩) main_call0_v22) Host.shrui,
    TRef.nullary (TRef.of (T := ⟨S_, .i32⟩) main_call0_c_3) (constantI S_ 32 1065353216#32),
    TRef.unary (TRef.of (T := ⟨S_, .i32⟩) main_call0_c_3) (TRef.of (T := ⟨S128x100000, .i32⟩) main_call0_v23) (broadcastInDim S128x100000 ![] bcast_S_S128x100000),
    TRef.binary (TRef.of (T := ⟨S128x100000, .i32⟩) main_call0_v22) (TRef.of (T := ⟨S128x100000, .i32⟩) main_call0_v23) (TRef.of (T := ⟨S128x100000, .i32⟩) main_call0_v24) ori,
    TRef.unary (TRef.of (T := ⟨S128x100000, .i32⟩) main_call0_v24) (TRef.of (T := ⟨S128x100000, .f32⟩) main_call0_v25) (bitcastToFloat (F := F) .f32),
    TRef.nullary (TRef.of (T := ⟨S_, .f32⟩) main_call0_cst) (constant S_ .f32 0x3F800000#32),
    TRef.unary (TRef.of (T := ⟨S_, .f32⟩) main_call0_cst) (TRef.of (T := ⟨S128x100000, .f32⟩) main_call0_v26) (broadcastInDim S128x100000 ![] bcast_S_S128x100000),
    TRef.binary (TRef.of (T := ⟨S128x100000, .f32⟩) main_call0_v25) (TRef.of (T := ⟨S128x100000, .f32⟩) main_call0_v26) (TRef.of (T := ⟨S128x100000, .f32⟩) main_call0_v27) subf,
    TRef.binary (TRef.of (T := ⟨S1x1, .f32⟩) main_call0_v3) (TRef.of (T := ⟨S1x1, .f32⟩) main_call0_v2) (TRef.of (T := ⟨S1x1, .f32⟩) main_call0_v28) subf,
    TRef.unary (TRef.of (T := ⟨S1x1, .f32⟩) main_call0_v28) (TRef.of (T := ⟨S128x100000, .f32⟩) main_call0_v29) (broadcastInDim S128x100000 ![0, 1] bcast_S1x1_S128x100000_0_1),
    TRef.binary (TRef.of (T := ⟨S128x100000, .f32⟩) main_call0_v27) (TRef.of (T := ⟨S128x100000, .f32⟩) main_call0_v29) (TRef.of (T := ⟨S128x100000, .f32⟩) main_call0_v30) mulf ]

/-- @main's operations 271 … 300 of 315 (@main, which the printer did not cut). -/
abbrev ops_9 : List (HloOp τ sig (Elt F)) :=
  [ TRef.unary (TRef.of (T := ⟨S1x1, .f32⟩) main_call0_v2) (TRef.of (T := ⟨S128x100000, .f32⟩) main_call0_v31) (broadcastInDim S128x100000 ![0, 1] bcast_S1x1_S128x100000_0_1),
    TRef.binary (TRef.of (T := ⟨S128x100000, .f32⟩) main_call0_v30) (TRef.of (T := ⟨S128x100000, .f32⟩) main_call0_v31) (TRef.of (T := ⟨S128x100000, .f32⟩) main_call0_v32) addf,
    TRef.unary (TRef.of (T := ⟨S1x1, .f32⟩) main_call0_v2) (TRef.of (T := ⟨S128x100000, .f32⟩) main_call0_v33) (broadcastInDim S128x100000 ![0, 1] bcast_S1x1_S128x100000_0_1),
    TRef.binary (TRef.of (T := ⟨S128x100000, .f32⟩) main_call0_v33) (TRef.of (T := ⟨S128x100000, .f32⟩) main_call0_v32) (TRef.of (T := ⟨S128x100000, .f32⟩) main_v7) maximumf,
    nullary main_cst_3 (constant S_ .f32 0x1E3CE508#32),
    unary main_cst_3 main_v8 (broadcastInDim S128x100000 ![] bcast_S_S128x100000 : (⟨S_, .f32⟩ : BufTy).Contents (Elt F) → (⟨S128x100000, .f32⟩ : BufTy).Contents (Elt F)),
    binary main_v7 main_v8 main_v9 (addf : (⟨S128x100000, .f32⟩ : BufTy).Contents (Elt F) → (⟨S128x100000, .f32⟩ : BufTy).Contents (Elt F) → (⟨S128x100000, .f32⟩ : BufTy).Contents (Elt F)),
    unary main_v9 main_v10 (Host.log : (⟨S128x100000, .f32⟩ : BufTy).Contents (Elt F) → (⟨S128x100000, .f32⟩ : BufTy).Contents (Elt F)),
    unary main_v10 main_v11 (Host.negf : (⟨S128x100000, .f32⟩ : BufTy).Contents (Elt F) → (⟨S128x100000, .f32⟩ : BufTy).Contents (Elt F)),
    nullary main_cst_4 (constant S_ .f32 0x1E3CE508#32),
    unary main_cst_4 main_v12 (broadcastInDim S128x100000 ![] bcast_S_S128x100000 : (⟨S_, .f32⟩ : BufTy).Contents (Elt F) → (⟨S128x100000, .f32⟩ : BufTy).Contents (Elt F)),
    binary main_v11 main_v12 main_v13 (addf : (⟨S128x100000, .f32⟩ : BufTy).Contents (Elt F) → (⟨S128x100000, .f32⟩ : BufTy).Contents (Elt F) → (⟨S128x100000, .f32⟩ : BufTy).Contents (Elt F)),
    unary main_v13 main_v14 (Host.log : (⟨S128x100000, .f32⟩ : BufTy).Contents (Elt F) → (⟨S128x100000, .f32⟩ : BufTy).Contents (Elt F)),
    unary main_v14 main_v15 (Host.negf : (⟨S128x100000, .f32⟩ : BufTy).Contents (Elt F) → (⟨S128x100000, .f32⟩ : BufTy).Contents (Elt F)),
    binary main_arg0 main_v15 main_v16 (addf : (⟨S128x100000, .f32⟩ : BufTy).Contents (Elt F) → (⟨S128x100000, .f32⟩ : BufTy).Contents (Elt F) → (⟨S128x100000, .f32⟩ : BufTy).Contents (Elt F)),
    nullary main_cst_5 (constant S_ .f32 0x3F800000#32),
    unary main_cst_5 main_v17 (broadcastInDim S128x100000 ![] bcast_S_S128x100000 : (⟨S_, .f32⟩ : BufTy).Contents (Elt F) → (⟨S128x100000, .f32⟩ : BufTy).Contents (Elt F)),
    binary main_v16 main_v17 main_v18 (Host.divf : (⟨S128x100000, .f32⟩ : BufTy).Contents (Elt F) → (⟨S128x100000, .f32⟩ : BufTy).Contents (Elt F) → (⟨S128x100000, .f32⟩ : BufTy).Contents (Elt F)),
    nullary main_cst_6 (constant S_ .f32 0xFF800000#32),
    binary main_v18 main_cst_6 main_v19 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_7 (constant S_ .f32 0xFF800000#32),
    unary main_cst_7 main_v20 (broadcastInDim S128 ![] bcast_S_S128 : (⟨S_, .f32⟩ : BufTy).Contents (Elt F) → (⟨S128, .f32⟩ : BufTy).Contents (Elt F)),
    binary main_v20 main_v19 main_v21 (maximumf : (⟨S128, .f32⟩ : BufTy).Contents (Elt F) → (⟨S128, .f32⟩ : BufTy).Contents (Elt F) → (⟨S128, .f32⟩ : BufTy).Contents (Elt F)),
    unary main_v21 main_v22 (broadcastInDim S128x1 ![0] bcast_S128_S128x1_0 : (⟨S128, .f32⟩ : BufTy).Contents (Elt F) → (⟨S128x1, .f32⟩ : BufTy).Contents (Elt F)),
    unary main_v22 main_v23 (broadcastInDim S128x100000 ![0, 1] bcast_S128x1_S128x100000_0_1 : (⟨S128x1, .f32⟩ : BufTy).Contents (Elt F) → (⟨S128x100000, .f32⟩ : BufTy).Contents (Elt F)),
    binary main_v18 main_v23 main_v24 (subf : (⟨S128x100000, .f32⟩ : BufTy).Contents (Elt F) → (⟨S128x100000, .f32⟩ : BufTy).Contents (Elt F) → (⟨S128x100000, .f32⟩ : BufTy).Contents (Elt F)),
    unary main_v24 main_v25 (Host.exp : (⟨S128x100000, .f32⟩ : BufTy).Contents (Elt F) → (⟨S128x100000, .f32⟩ : BufTy).Contents (Elt F)),
    nullary main_cst_8 (constant S_ .f32 0x00000000#32),
    binary main_v25 main_cst_8 main_v26 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v26 main_v27 (broadcastInDim S128x1 ![0] bcast_S128_S128x1_0 : (⟨S128, .f32⟩ : BufTy).Contents (Elt F) → (⟨S128x1, .f32⟩ : BufTy).Contents (Elt F)) ]

/-- @main's operations 301 … 315 of 315 (@main, which the printer did not cut). -/
abbrev ops_10 : List (HloOp τ sig (Elt F)) :=
  [ unary main_v27 main_v28 (broadcastInDim S128x100000 ![0, 1] bcast_S128x1_S128x100000_0_1 : (⟨S128x1, .f32⟩ : BufTy).Contents (Elt F) → (⟨S128x100000, .f32⟩ : BufTy).Contents (Elt F)),
    binary main_v25 main_v28 main_v29 (Host.divf : (⟨S128x100000, .f32⟩ : BufTy).Contents (Elt F) → (⟨S128x100000, .f32⟩ : BufTy).Contents (Elt F) → (⟨S128x100000, .f32⟩ : BufTy).Contents (Elt F)),
    TRef.nullary (TRef.of (T := ⟨S128x100000, .i32⟩) main_call1_v0) (iotaInDim S128x100000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S128x100000, .f32⟩) main_v29) (TRef.of (T := ⟨S128x100000, .i32⟩) main_call1_v0) (TRef.of (T := ⟨S_, .f32⟩) main_call1_cst) (TRef.of (T := ⟨S_, .i32⟩) main_call1_c) (TRef.of (T := ⟨S128, .f32⟩) main_call1_v1_0) (fun x y u v => fun j => (Host.argReduce reducer_argmax_f32_i32 x y u v reducesTo_S128x100000_S128_d1 h_S_ j).1),
    TRef.quaternary (TRef.of (T := ⟨S128x100000, .f32⟩) main_v29) (TRef.of (T := ⟨S128x100000, .i32⟩) main_call1_v0) (TRef.of (T := ⟨S_, .f32⟩) main_call1_cst) (TRef.of (T := ⟨S_, .i32⟩) main_call1_c) (TRef.of (T := ⟨S128, .i32⟩) main_v30) (fun x y u v => fun j => (Host.argReduce reducer_argmax_f32_i32 x y u v reducesTo_S128x100000_S128_d1 h_S_ j).2),
    TRef.unary (TRef.of (T := ⟨S128, .i32⟩) main_v30) (TRef.of (T := ⟨S128x1, .i32⟩) main_call2_v0) (broadcastInDim S128x1 ![0] bcast_S128_S128x1_0),
    TRef.nullary (TRef.of (T := ⟨S1x100000, .i32⟩) main_call2_v1) (iotaInDim S1x100000 32 1),
    TRef.unary (TRef.of (T := ⟨S128x1, .i32⟩) main_call2_v0) (TRef.of (T := ⟨S128x100000, .i32⟩) main_call2_v2) (broadcastInDim S128x100000 ![0, 1] bcast_S128x1_S128x100000_0_1),
    TRef.unary (TRef.of (T := ⟨S1x100000, .i32⟩) main_call2_v1) (TRef.of (T := ⟨S128x100000, .i32⟩) main_call2_v3) (broadcastInDim S128x100000 ![0, 1] bcast_S1x100000_S128x100000_0_1),
    TRef.binary (TRef.of (T := ⟨S128x100000, .i32⟩) main_call2_v2) (TRef.of (T := ⟨S128x100000, .i32⟩) main_call2_v3) (TRef.of (T := ⟨S128x100000, .i1⟩) main_call2_v4) (cmpi .eq),
    TRef.unary (TRef.of (T := ⟨S128x100000, .i1⟩) main_call2_v4) (TRef.of (T := ⟨S128x100000, .f32⟩) main_v31) (uitofp .f32),
    binary main_v31 main_v29 main_v32 (subf : (⟨S128x100000, .f32⟩ : BufTy).Contents (Elt F) → (⟨S128x100000, .f32⟩ : BufTy).Contents (Elt F) → (⟨S128x100000, .f32⟩ : BufTy).Contents (Elt F)),
    binary main_v32 main_v29 main_v33 (addf : (⟨S128x100000, .f32⟩ : BufTy).Contents (Elt F) → (⟨S128x100000, .f32⟩ : BufTy).Contents (Elt F) → (⟨S128x100000, .f32⟩ : BufTy).Contents (Elt F)) ]

/-- @main's 315 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_0_sub : (ops_0 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub ..⟩
set_option maxRecDepth 8192 in
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_1_sub : (ops_1 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_2_sub : (ops_2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops_2_fresh : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_3_sub : (ops_3 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_4_sub : (ops_4 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_4_fresh : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_5_sub : (ops_5 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_5_fresh : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_6_sub : (ops_6 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub ..⟩
set_option maxRecDepth 8192 in
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_7_sub : (ops_7 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_7_fresh : (ops_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_8_sub : (ops_8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub ..⟩
set_option maxRecDepth 8192 in
theorem ops_8_fresh : (ops_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_9_sub : (ops_9 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub ..⟩
set_option maxRecDepth 8192 in
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_10_sub : (ops_10 : List (HloOp τ sig (Elt F))).Forall fun op => op.bufs ⊆ tcRefs τ sig :=
  ⟨unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub ..⟩
set_option maxRecDepth 8192 in
theorem ops_10_fresh : (ops_10 : List (HloOp τ sig (Elt F))).Forall fun op => op.fresh = ∅ :=
  ⟨rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h]
theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h]

end Cert.ReferenceIdeal.Value

end

end
-- ==== Proof.RefRes.lean ====
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v6`'s composed term of the arguments (named: it is used 2 times). -/
def res_main_v6 (V0 : Valuation τ sig (Elt F)) : (Proc.devRef .tc main_v6 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_call0_v2`'s composed term of the arguments (named: it is used 3 times). -/
def res_main_call0_v2 (V0 : Valuation τ sig (Elt F)) : (Proc.devRef .tc main_call0_v2 : DevRef τ sig).ty.Contents (Elt F) :=
  broadcastInDim S1x1 ![] bcast_S_S1x1 (id (constant S_ .f32 0x00000000#32))

set_option maxRecDepth 8192 in
/-- `main_call0_v5`'s composed term of the arguments (named: it is used 5 times). -/
def res_main_call0_v5 (V0 : Valuation τ sig (Elt F)) : (Proc.devRef .tc main_call0_v5 : DevRef τ sig).ty.Contents (Elt F) :=
  shapeCast _ (extractStridedSlice S1 ![0] (res_main_v6 V0) slices_S2_S1_0) shapeCasts_S1_S_

set_option maxRecDepth 8192 in
/-- `main_call0_v7`'s composed term of the arguments (named: it is used 5 times). -/
def res_main_call0_v7 (V0 : Valuation τ sig (Elt F)) : (Proc.devRef .tc main_call0_v7 : DevRef τ sig).ty.Contents (Elt F) :=
  shapeCast _ (extractStridedSlice S1 ![1] (res_main_v6 V0) slices_S2_S1_1) shapeCasts_S1_S_

set_option maxRecDepth 8192 in
/-- `main_call0_v14`'s composed term of the arguments (named: it is used 2 times). -/
def res_main_call0_v14 (V0 : Valuation τ sig (Elt F)) : (Proc.devRef .tc main_call0_v14 : DevRef τ sig).ty.Contents (Elt F) :=
  addi (muli (broadcastInDim S128x100000 ![] bcast_S_S128x100000 (constantI S_ 64 100000#64)) (iotaInDim S128x100000 64 0)) (muli (broadcastInDim S128x100000 ![] bcast_S_S128x100000 (constantI S_ 64 1#64)) (iotaInDim S128x100000 64 1))

set_option maxRecDepth 8192 in
/-- `main_call0_call0_v1`'s composed term of the arguments (named: it is used 4 times). -/
def res_main_call0_call0_v1 (V0 : Valuation τ sig (Elt F)) : (Proc.devRef .tc main_call0_call0_v1 : DevRef τ sig).ty.Contents (Elt F) :=
  xori (xori (res_main_call0_v5 V0) (res_main_call0_v7 V0)) (constantI S_ 32 466688986#32)

set_option maxRecDepth 8192 in
/-- `main_call0_call0_v5`'s composed term of the arguments (named: it is used 3 times). -/
def res_main_call0_call0_v5 (V0 : Valuation τ sig (Elt F)) : (Proc.devRef .tc main_call0_call0_v5 : DevRef τ sig).ty.Contents (Elt F) :=
  addi (trunci 32 (res_main_call0_v14 V0) natLt_32_64) (broadcastInDim S128x100000 ![] bcast_S_S128x100000 (res_main_call0_v7 V0))

set_option maxRecDepth 8192 in
/-- `main_call0_call0_v6`'s composed term of the arguments (named: it is used 2 times). -/
def res_main_call0_call0_v6 (V0 : Valuation τ sig (Elt F)) : (Proc.devRef .tc main_call0_call0_v6 : DevRef τ sig).ty.Contents (Elt F) :=
  addi (addi (trunci 32 (Host.shrui (res_main_call0_v14 V0) (broadcastInDim S128x100000 ![] bcast_S_S128x100000 (constantI S_ 64 32#64))) natLt_32_64) (broadcastInDim S128x100000 ![] bcast_S_S128x100000 (res_main_call0_v5 V0))) (res_main_call0_call0_v5 V0)

set_option maxRecDepth 8192 in
/-- `main_call0_call0_v12`'s composed term of the arguments (named: it is used 3 times). -/
def res_main_call0_call0_v12 (V0 : Valuation τ sig (Elt F)) : (Proc.devRef .tc main_call0_call0_v12 : DevRef τ sig).ty.Contents (Elt F) :=
  xori (res_main_call0_call0_v6 V0) (ori (Host.shli (res_main_call0_call0_v5 V0) (broadcastInDim S128x100000 ![] bcast_S_S128x100000 (constantI S_ 32 13#32))) (Host.shrui (res_main_call0_call0_v5 V0) (broadcastInDim S128x100000 ![] bcast_S_S128x100000 (constantI S_ 32 19#32))))

set_option maxRecDepth 8192 in
/-- `main_call0_call0_v13`'s composed term of the arguments (named: it is used 2 times). -/
def res_main_call0_call0_v13 (V0 : Valuation τ sig (Elt F)) : (Proc.devRef .tc main_call0_call0_v13 : DevRef τ sig).ty.Contents (Elt F) :=
  addi (res_main_call0_call0_v6 V0) (res_main_call0_call0_v12 V0)

set_option maxRecDepth 8192 in
/-- `main_call0_call0_v19`'s composed term of the arguments (named: it is used 3 times). -/
def res_main_call0_call0_v19 (V0 : Valuation τ sig (Elt F)) : (Proc.devRef .tc main_call0_call0_v19 : DevRef τ sig).ty.Contents (Elt F) :=
  xori (res_main_call0_call0_v13 V0) (ori (Host.shli (res_main_call0_call0_v12 V0) (broadcastInDim S128x100000 ![] bcast_S_S128x100000 (constantI S_ 32 15#32))) (Host.shrui (res_main_call0_call0_v12 V0) (broadcastInDim S128x100000 ![] bcast_S_S128x100000 (constantI S_ 32 17#32))))

set_option maxRecDepth 8192 in
/-- `main_call0_call0_v20`'s composed term of the arguments (named: it is used 2 times). -/
def res_main_call0_call0_v20 (V0 : Valuation τ sig (Elt F)) : (Proc.devRef .tc main_call0_call0_v20 : DevRef τ sig).ty.Contents (Elt F) :=
  addi (res_main_call0_call0_v13 V0) (res_main_call0_call0_v19 V0)

set_option maxRecDepth 8192 in
/-- `main_call0_call0_v26`'s composed term of the arguments (named: it is used 3 times). -/
def res_main_call0_call0_v26 (V0 : Valuation τ sig (Elt F)) : (Proc.devRef .tc main_call0_call0_v26 : DevRef τ sig).ty.Contents (Elt F) :=
  xori (res_main_call0_call0_v20 V0) (ori (Host.shli (res_main_call0_call0_v19 V0) (broadcastInDim S128x100000 ![] bcast_S_S128x100000 (constantI S_ 32 26#32))) (Host.shrui (res_main_call0_call0_v19 V0) (broadcastInDim S128x100000 ![] bcast_S_S128x100000 (constantI S_ 32 6#32))))

set_option maxRecDepth 8192 in
/-- `main_call0_call0_v27`'s composed term of the arguments (named: it is used 2 times). -/
def res_main_call0_call0_v27 (V0 : Valuation τ sig (Elt F)) : (Proc.devRef .tc main_call0_call0_v27 : DevRef τ sig).ty.Contents (Elt F) :=
  addi (res_main_call0_call0_v20 V0) (res_main_call0_call0_v26 V0)

set_option maxRecDepth 8192 in
/-- `main_call0_call0_v39`'s composed term of the arguments (named: it is used 3 times). -/
def res_main_call0_call0_v39 (V0 : Valuation τ sig (Elt F)) : (Proc.devRef .tc main_call0_call0_v39 : DevRef τ sig).ty.Contents (Elt F) :=
  addi (addi (xori (res_main_call0_call0_v27 V0) (ori (Host.shli (res_main_call0_call0_v26 V0) (broadcastInDim S128x100000 ![] bcast_S_S128x100000 (constantI S_ 32 6#32))) (Host.shrui (res_main_call0_call0_v26 V0) (broadcastInDim S128x100000 ![] bcast_S_S128x100000 (constantI S_ 32 26#32))))) (broadcastInDim S128x100000 ![] bcast_S_S128x100000 (res_main_call0_call0_v1 V0))) (broadcastInDim S128x100000 ![] bcast_S_S128x100000 (constantI S_ 32 1#32))

set_option maxRecDepth 8192 in
/-- `main_call0_call0_v40`'s composed term of the arguments (named: it is used 2 times). -/
def res_main_call0_call0_v40 (V0 : Valuation τ sig (Elt F)) : (Proc.devRef .tc main_call0_call0_v40 : DevRef τ sig).ty.Contents (Elt F) :=
  addi (addi (res_main_call0_call0_v27 V0) (broadcastInDim S128x100000 ![] bcast_S_S128x100000 (res_main_call0_v7 V0))) (res_main_call0_call0_v39 V0)

set_option maxRecDepth 8192 in
/-- `main_call0_call0_v46`'s composed term of the arguments (named: it is used 3 times). -/
def res_main_call0_call0_v46 (V0 : Valuation τ sig (Elt F)) : (Proc.devRef .tc main_call0_call0_v46 : DevRef τ sig).ty.Contents (Elt F) :=
  xori (res_main_call0_call0_v40 V0) (ori (Host.shli (res_main_call0_call0_v39 V0) (broadcastInDim S128x100000 ![] bcast_S_S128x100000 (constantI S_ 32 17#32))) (Host.shrui (res_main_call0_call0_v39 V0) (broadcastInDim S128x100000 ![] bcast_S_S128x100000 (constantI S_ 32 15#32))))

set_option maxRecDepth 8192 in
/-- `main_call0_call0_v47`'s composed term of the arguments (named: it is used 2 times). -/
def res_main_call0_call0_v47 (V0 : Valuation τ sig (Elt F)) : (Proc.devRef .tc main_call0_call0_v47 : DevRef τ sig).ty.Contents (Elt F) :=
  addi (res_main_call0_call0_v40 V0) (res_main_call0_call0_v46 V0)

set_option maxRecDepth 8192 in
/-- `main_call0_call0_v53`'s composed term of the arguments (named: it is used 3 times). -/
def res_main_call0_call0_v53 (V0 : Valuation τ sig (Elt F)) : (Proc.devRef .tc main_call0_call0_v53 : DevRef τ sig).ty.Contents (Elt F) :=
  xori (res_main_call0_call0_v47 V0) (ori (Host.shli (res_main_call0_call0_v46 V0) (broadcastInDim S128x100000 ![] bcast_S_S128x100000 (constantI S_ 32 29#32))) (Host.shrui (res_main_call0_call0_v46 V0) (broadcastInDim S128x100000 ![] bcast_S_S128x100000 (constantI S_ 32 3#32))))

set_option maxRecDepth 8192 in
/-- `main_call0_call0_v54`'s composed term of the arguments (named: it is used 2 times). -/
def res_main_call0_call0_v54 (V0 : Valuation τ sig (Elt F)) : (Proc.devRef .tc main_call0_call0_v54 : DevRef τ sig).ty.Contents (Elt F) :=
  addi (res_main_call0_call0_v47 V0) (res_main_call0_call0_v53 V0)

set_option maxRecDepth 8192 in
/-- `main_call0_call0_v60`'s composed term of the arguments (named: it is used 3 times). -/
def res_main_call0_call0_v60 (V0 : Valuation τ sig (Elt F)) : (Proc.devRef .tc main_call0_call0_v60 : DevRef τ sig).ty.Contents (Elt F) :=
  xori (res_main_call0_call0_v54 V0) (ori (Host.shli (res_main_call0_call0_v53 V0) (broadcastInDim S128x100000 ![] bcast_S_S128x100000 (constantI S_ 32 16#32))) (Host.shrui (res_main_call0_call0_v53 V0) (broadcastInDim S128x100000 ![] bcast_S_S128x100000 (constantI S_ 32 16#32))))

set_option maxRecDepth 8192 in
/-- `main_call0_call0_v61`'s composed term of the arguments (named: it is used 2 times). -/
def res_main_call0_call0_v61 (V0 : Valuation τ sig (Elt F)) : (Proc.devRef .tc main_call0_call0_v61 : DevRef τ sig).ty.Contents (Elt F) :=
  addi (res_main_call0_call0_v54 V0) (res_main_call0_call0_v60 V0)

set_option maxRecDepth 8192 in
/-- `main_call0_call0_v73`'s composed term of the arguments (named: it is used 3 times). -/
def res_main_call0_call0_v73 (V0 : Valuation τ sig (Elt F)) : (Proc.devRef .tc main_call0_call0_v73 : DevRef τ sig).ty.Contents (Elt F) :=
  addi (addi (xori (res_main_call0_call0_v61 V0) (ori (Host.shli (res_main_call0_call0_v60 V0) (broadcastInDim S128x100000 ![] bcast_S_S128x100000 (constantI S_ 32 24#32))) (Host.shrui (res_main_call0_call0_v60 V0) (broadcastInDim S128x100000 ![] bcast_S_S128x100000 (constantI S_ 32 8#32))))) (broadcastInDim S128x100000 ![] bcast_S_S128x100000 (res_main_call0_v5 V0))) (broadcastInDim S128x100000 ![] bcast_S_S128x100000 (constantI S_ 32 2#32))

set_option maxRecDepth 8192 in
/-- `main_call0_call0_v74`'s composed term of the arguments (named: it is used 2 times). -/
def res_main_call0_call0_v74 (V0 : Valuation τ sig (Elt F)) : (Proc.devRef .tc main_call0_call0_v74 : DevRef τ sig).ty.Contents (Elt F) :=
  addi (addi (res_main_call0_call0_v61 V0) (broadcastInDim S128x100000 ![] bcast_S_S128x100000 (res_main_call0_call0_v1 V0))) (res_main_call0_call0_v73 V0)

set_option maxRecDepth 8192 in
/-- `main_call0_call0_v80`'s composed term of the arguments (named: it is used 3 times). -/
def res_main_call0_call0_v80 (V0 : Valuation τ sig (Elt F)) : (Proc.devRef .tc main_call0_call0_v80 : DevRef τ sig).ty.Contents (Elt F) :=
  xori (res_main_call0_call0_v74 V0) (ori (Host.shli (res_main_call0_call0_v73 V0) (broadcastInDim S128x100000 ![] bcast_S_S128x100000 (constantI S_ 32 13#32))) (Host.shrui (res_main_call0_call0_v73 V0) (broadcastInDim S128x100000 ![] bcast_S_S128x100000 (constantI S_ 32 19#32))))

set_option maxRecDepth 8192 in
/-- `main_call0_call0_v81`'s composed term of the arguments (named: it is used 2 times). -/
def res_main_call0_call0_v81 (V0 : Valuation τ sig (Elt F)) : (Proc.devRef .tc main_call0_call0_v81 : DevRef τ sig).ty.Contents (Elt F) :=
  addi (res_main_call0_call0_v74 V0) (res_main_call0_call0_v80 V0)

set_option maxRecDepth 8192 in
/-- `main_call0_call0_v87`'s composed term of the arguments (named: it is used 3 times). -/
def res_main_call0_call0_v87 (V0 : Valuation τ sig (Elt F)) : (Proc.devRef .tc main_call0_call0_v87 : DevRef τ sig).ty.Contents (Elt F) :=
  xori (res_main_call0_call0_v81 V0) (ori (Host.shli (res_main_call0_call0_v80 V0) (broadcastInDim S128x100000 ![] bcast_S_S128x100000 (constantI S_ 32 15#32))) (Host.shrui (res_main_call0_call0_v80 V0) (broadcastInDim S128x100000 ![] bcast_S_S128x100000 (constantI S_ 32 17#32))))

set_option maxRecDepth 8192 in
/-- `main_call0_call0_v88`'s composed term of the arguments (named: it is used 2 times). -/
def res_main_call0_call0_v88 (V0 : Valuation τ sig (Elt F)) : (Proc.devRef .tc main_call0_call0_v88 : DevRef τ sig).ty.Contents (Elt F) :=
  addi (res_main_call0_call0_v81 V0) (res_main_call0_call0_v87 V0)

set_option maxRecDepth 8192 in
/-- `main_call0_call0_v94`'s composed term of the arguments (named: it is used 3 times). -/
def res_main_call0_call0_v94 (V0 : Valuation τ sig (Elt F)) : (Proc.devRef .tc main_call0_call0_v94 : DevRef τ sig).ty.Contents (Elt F) :=
  xori (res_main_call0_call0_v88 V0) (ori (Host.shli (res_main_call0_call0_v87 V0) (broadcastInDim S128x100000 ![] bcast_S_S128x100000 (constantI S_ 32 26#32))) (Host.shrui (res_main_call0_call0_v87 V0) (broadcastInDim S128x100000 ![] bcast_S_S128x100000 (constantI S_ 32 6#32))))

set_option maxRecDepth 8192 in
/-- `main_call0_call0_v95`'s composed term of the arguments (named: it is used 2 times). -/
def res_main_call0_call0_v95 (V0 : Valuation τ sig (Elt F)) : (Proc.devRef .tc main_call0_call0_v95 : DevRef τ sig).ty.Contents (Elt F) :=
  addi (res_main_call0_call0_v88 V0) (res_main_call0_call0_v94 V0)

set_option maxRecDepth 8192 in
/-- `main_call0_call0_v107`'s composed term of the arguments (named: it is used 3 times). -/
def res_main_call0_call0_v107 (V0 : Valuation τ sig (Elt F)) : (Proc.devRef .tc main_call0_call0_v107 : DevRef τ sig).ty.Contents (Elt F) :=
  addi (addi (xori (res_main_call0_call0_v95 V0) (ori (Host.shli (res_main_call0_call0_v94 V0) (broadcastInDim S128x100000 ![] bcast_S_S128x100000 (constantI S_ 32 6#32))) (Host.shrui (res_main_call0_call0_v94 V0) (broadcastInDim S128x100000 ![] bcast_S_S128x100000 (constantI S_ 32 26#32))))) (broadcastInDim S128x100000 ![] bcast_S_S128x100000 (res_main_call0_v7 V0))) (broadcastInDim S128x100000 ![] bcast_S_S128x100000 (constantI S_ 32 3#32))

set_option maxRecDepth 8192 in
/-- `main_call0_call0_v108`'s composed term of the arguments (named: it is used 2 times). -/
def res_main_call0_call0_v108 (V0 : Valuation τ sig (Elt F)) : (Proc.devRef .tc main_call0_call0_v108 : DevRef τ sig).ty.Contents (Elt F) :=
  addi (addi (res_main_call0_call0_v95 V0) (broadcastInDim S128x100000 ![] bcast_S_S128x100000 (res_main_call0_v5 V0))) (res_main_call0_call0_v107 V0)

set_option maxRecDepth 8192 in
/-- `main_call0_call0_v114`'s composed term of the arguments (named: it is used 3 times). -/
def res_main_call0_call0_v114 (V0 : Valuation τ sig (Elt F)) : (Proc.devRef .tc main_call0_call0_v114 : DevRef τ sig).ty.Contents (Elt F) :=
  xori (res_main_call0_call0_v108 V0) (ori (Host.shli (res_main_call0_call0_v107 V0) (broadcastInDim S128x100000 ![] bcast_S_S128x100000 (constantI S_ 32 17#32))) (Host.shrui (res_main_call0_call0_v107 V0) (broadcastInDim S128x100000 ![] bcast_S_S128x100000 (constantI S_ 32 15#32))))

set_option maxRecDepth 8192 in
/-- `main_call0_call0_v115`'s composed term of the arguments (named: it is used 2 times). -/
def res_main_call0_call0_v115 (V0 : Valuation τ sig (Elt F)) : (Proc.devRef .tc main_call0_call0_v115 : DevRef τ sig).ty.Contents (Elt F) :=
  addi (res_main_call0_call0_v108 V0) (res_main_call0_call0_v114 V0)

set_option maxRecDepth 8192 in
/-- `main_call0_call0_v121`'s composed term of the arguments (named: it is used 3 times). -/
def res_main_call0_call0_v121 (V0 : Valuation τ sig (Elt F)) : (Proc.devRef .tc main_call0_call0_v121 : DevRef τ sig).ty.Contents (Elt F) :=
  xori (res_main_call0_call0_v115 V0) (ori (Host.shli (res_main_call0_call0_v114 V0) (broadcastInDim S128x100000 ![] bcast_S_S128x100000 (constantI S_ 32 29#32))) (Host.shrui (res_main_call0_call0_v114 V0) (broadcastInDim S128x100000 ![] bcast_S_S128x100000 (constantI S_ 32 3#32))))

set_option maxRecDepth 8192 in
/-- `main_call0_call0_v122`'s composed term of the arguments (named: it is used 2 times). -/
def res_main_call0_call0_v122 (V0 : Valuation τ sig (Elt F)) : (Proc.devRef .tc main_call0_call0_v122 : DevRef τ sig).ty.Contents (Elt F) :=
  addi (res_main_call0_call0_v115 V0) (res_main_call0_call0_v121 V0)

set_option maxRecDepth 8192 in
/-- `main_call0_call0_v128`'s composed term of the arguments (named: it is used 3 times). -/
def res_main_call0_call0_v128 (V0 : Valuation τ sig (Elt F)) : (Proc.devRef .tc main_call0_call0_v128 : DevRef τ sig).ty.Contents (Elt F) :=
  xori (res_main_call0_call0_v122 V0) (ori (Host.shli (res_main_call0_call0_v121 V0) (broadcastInDim S128x100000 ![] bcast_S_S128x100000 (constantI S_ 32 16#32))) (Host.shrui (res_main_call0_call0_v121 V0) (broadcastInDim S128x100000 ![] bcast_S_S128x100000 (constantI S_ 32 16#32))))

set_option maxRecDepth 8192 in
/-- `main_call0_call0_v129`'s composed term of the arguments (named: it is used 2 times). -/
def res_main_call0_call0_v129 (V0 : Valuation τ sig (Elt F)) : (Proc.devRef .tc main_call0_call0_v129 : DevRef τ sig).ty.Contents (Elt F) :=
  addi (res_main_call0_call0_v122 V0) (res_main_call0_call0_v128 V0)

set_option maxRecDepth 8192 in
/-- `main_call0_call0_v141`'s composed term of the arguments (named: it is used 3 times). -/
def res_main_call0_call0_v141 (V0 : Valuation τ sig (Elt F)) : (Proc.devRef .tc main_call0_call0_v141 : DevRef τ sig).ty.Contents (Elt F) :=
  addi (addi (xori (res_main_call0_call0_v129 V0) (ori (Host.shli (res_main_call0_call0_v128 V0) (broadcastInDim S128x100000 ![] bcast_S_S128x100000 (constantI S_ 32 24#32))) (Host.shrui (res_main_call0_call0_v128 V0) (broadcastInDim S128x100000 ![] bcast_S_S128x100000 (constantI S_ 32 8#32))))) (broadcastInDim S128x100000 ![] bcast_S_S128x100000 (res_main_call0_call0_v1 V0))) (broadcastInDim S128x100000 ![] bcast_S_S128x100000 (constantI S_ 32 4#32))

set_option maxRecDepth 8192 in
/-- `main_call0_call0_v142`'s composed term of the arguments (named: it is used 2 times). -/
def res_main_call0_call0_v142 (V0 : Valuation τ sig (Elt F)) : (Proc.devRef .tc main_call0_call0_v142 : DevRef τ sig).ty.Contents (Elt F) :=
  addi (addi (res_main_call0_call0_v129 V0) (broadcastInDim S128x100000 ![] bcast_S_S128x100000 (res_main_call0_v7 V0))) (res_main_call0_call0_v141 V0)

set_option maxRecDepth 8192 in
/-- `main_call0_call0_v148`'s composed term of the arguments (named: it is used 3 times). -/
def res_main_call0_call0_v148 (V0 : Valuation τ sig (Elt F)) : (Proc.devRef .tc main_call0_call0_v148 : DevRef τ sig).ty.Contents (Elt F) :=
  xori (res_main_call0_call0_v142 V0) (ori (Host.shli (res_main_call0_call0_v141 V0) (broadcastInDim S128x100000 ![] bcast_S_S128x100000 (constantI S_ 32 13#32))) (Host.shrui (res_main_call0_call0_v141 V0) (broadcastInDim S128x100000 ![] bcast_S_S128x100000 (constantI S_ 32 19#32))))

set_option maxRecDepth 8192 in
/-- `main_call0_call0_v149`'s composed term of the arguments (named: it is used 2 times). -/
def res_main_call0_call0_v149 (V0 : Valuation τ sig (Elt F)) : (Proc.devRef .tc main_call0_call0_v149 : DevRef τ sig).ty.Contents (Elt F) :=
  addi (res_main_call0_call0_v142 V0) (res_main_call0_call0_v148 V0)

set_option maxRecDepth 8192 in
/-- `main_call0_call0_v155`'s composed term of the arguments (named: it is used 3 times). -/
def res_main_call0_call0_v155 (V0 : Valuation τ sig (Elt F)) : (Proc.devRef .tc main_call0_call0_v155 : DevRef τ sig).ty.Contents (Elt F) :=
  xori (res_main_call0_call0_v149 V0) (ori (Host.shli (res_main_call0_call0_v148 V0) (broadcastInDim S128x100000 ![] bcast_S_S128x100000 (constantI S_ 32 15#32))) (Host.shrui (res_main_call0_call0_v148 V0) (broadcastInDim S128x100000 ![] bcast_S_S128x100000 (constantI S_ 32 17#32))))

set_option maxRecDepth 8192 in
/-- `main_call0_call0_v156`'s composed term of the arguments (named: it is used 2 times). -/
def res_main_call0_call0_v156 (V0 : Valuation τ sig (Elt F)) : (Proc.devRef .tc main_call0_call0_v156 : DevRef τ sig).ty.Contents (Elt F) :=
  addi (res_main_call0_call0_v149 V0) (res_main_call0_call0_v155 V0)

set_option maxRecDepth 8192 in
/-- `main_call0_call0_v162`'s composed term of the arguments (named: it is used 3 times). -/
def res_main_call0_call0_v162 (V0 : Valuation τ sig (Elt F)) : (Proc.devRef .tc main_call0_call0_v162 : DevRef τ sig).ty.Contents (Elt F) :=
  xori (res_main_call0_call0_v156 V0) (ori (Host.shli (res_main_call0_call0_v155 V0) (broadcastInDim S128x100000 ![] bcast_S_S128x100000 (constantI S_ 32 26#32))) (Host.shrui (res_main_call0_call0_v155 V0) (broadcastInDim S128x100000 ![] bcast_S_S128x100000 (constantI S_ 32 6#32))))

set_option maxRecDepth 8192 in
/-- `main_call0_call0_v163`'s composed term of the arguments (named: it is used 2 times). -/
def res_main_call0_call0_v163 (V0 : Valuation τ sig (Elt F)) : (Proc.devRef .tc main_call0_call0_v163 : DevRef τ sig).ty.Contents (Elt F) :=
  addi (res_main_call0_call0_v156 V0) (res_main_call0_call0_v162 V0)

set_option maxRecDepth 8192 in
/-- `main_v18`'s composed term of the arguments (named: it is used 2 times). -/
def res_main_v18 (V0 : Valuation τ sig (Elt F)) : (Proc.devRef .tc main_v18 : DevRef τ sig).ty.Contents (Elt F) :=
  Host.divf (addf (V0 (Proc.devRef .tc main_arg0)) (Host.negf (Host.log (addf (Host.negf (Host.log (addf (maximumf (broadcastInDim S128x100000 ![0, 1] bcast_S1x1_S128x100000_0_1 (res_main_call0_v2 V0)) (addf (mulf (subf (bitcastToFloat (F := F) .f32 (ori (Host.shrui (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_v2 V0)))) (broadcastInDim S128x100000 ![0, 1] bcast_S1x1_S128x100000_0_1 (res_main_call0_v2 V0)))) (broadcastInDim S128x100000 ![] bcast_S_S128x100000 (constant S_ .f32 0x1E3CE508#32))))) (broadcastInDim S128x100000 ![] bcast_S_S128x100000 (constant S_ .f32 0x1E3CE508#32)))))) (broadcastInDim S128x100000 ![] bcast_S_S128x100000 (constant S_ .f32 0x3F800000#32))

set_option maxRecDepth 8192 in
/-- `main_v25`'s composed term of the arguments (named: it is used 2 times). -/
def res_main_v25 (V0 : Valuation τ sig (Elt F)) : (Proc.devRef .tc main_v25 : DevRef τ sig).ty.Contents (Elt F) :=
  Host.exp (subf (res_main_v18 V0) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (res_main_v18 V0) (constant S_ .f32 0xFF800000#32) reducesTo_S128x100000_S128_d1 h_S_)))))

set_option maxRecDepth 8192 in
/-- `main_v29`'s composed term of the arguments (named: it is used 4 times). -/
def res_main_v29 (V0 : Valuation τ sig (Elt F)) : (Proc.devRef .tc main_v29 : DevRef τ sig).ty.Contents (Elt F) :=
  Host.divf (res_main_v25 V0) (broadcastInDim S128x100000 ![0, 1] bcast_S128x1_S128x100000_0_1 (broadcastInDim S128x1 ![0] bcast_S128_S128x1_0 (Host.reduceAdd (res_main_v25 V0) (constant S_ .f32 0x00000000#32) reducesTo_S128x100000_S128_d1 h_S_)))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S128x100000 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

end Cert.ReferenceIdeal.Value

end

end
-- ==== Proof.RefVal.lean ====
module

public import proofs.«01_k».proof.Proof.RefOps
public import proofs.«01_k».proof.Proof.RefRes

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_0 (val0 V0)
/-- The buffers that window `ops_0`'s operations write. -/
abbrev ops_0_W : List (Ref sig .tc) := [main_c, main_c_0, main_v0, main_v1, main_v2, main_c_1, main_v3, main_v4, main_v5, main_v6, main_cst, main_cst_2, main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1]
set_option maxRecDepth 8192 in
theorem ops_0_writes : (ops_0 : List (HloOp τ sig (Elt F))).Forall fun op => op.writes ⊆ (ops_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_0` does not write keeps its contents through it. -/
theorem val0_1_keep (V0 : Valuation τ sig (Elt F)) (r : Ref sig .tc) (h : r ∉ ops_0_W) :
    val0_1 V0 (Proc.devRef .tc r) = val0 V0 (Proc.devRef .tc r) :=
  after_of_writes_sub ops_0 _ ops_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
theorem val0_1_main_call0_v2 (V0 : Valuation τ sig (Elt F)) : val0_1 V0 (no_index (Proc.devRef .tc main_call0_v2)) = res_main_call0_v2 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v3 (V0 : Valuation τ sig (Elt F)) : val0_1 V0 (no_index (Proc.devRef .tc main_call0_v3)) = broadcastInDim S1x1 ![] bcast_S_S1x1 (id (constant S_ .f32 0x3F800000#32)) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v5 (V0 : Valuation τ sig (Elt F)) : val0_1 V0 (no_index (Proc.devRef .tc main_call0_v5)) = res_main_call0_v5 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v7 (V0 : Valuation τ sig (Elt F)) : val0_1 V0 (no_index (Proc.devRef .tc main_call0_v7)) = res_main_call0_v7 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v14 (V0 : Valuation τ sig (Elt F)) : val0_1 V0 (no_index (Proc.devRef .tc main_call0_v14)) = res_main_call0_v14 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_c_1 (V0 : Valuation τ sig (Elt F)) : val0_1 V0 (no_index (Proc.devRef .tc main_call0_c_1)) = constantI S_ 64 32#64 := by
  unfold val0_1
  simp only [ops_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_1 (val0_1 V0)
/-- The buffers that window `ops_1`'s operations write. -/
abbrev ops_1_W : List (Ref sig .tc) := [main_call0_v15, main_call0_v16, main_call0_v17, main_call0_v18, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20]
set_option maxRecDepth 8192 in
theorem ops_1_writes : (ops_1 : List (HloOp τ sig (Elt F))).Forall fun op => op.writes ⊆ (ops_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_1` does not write keeps its contents through it. -/
theorem val0_2_keep (V0 : Valuation τ sig (Elt F)) (r : Ref sig .tc) (h : r ∉ ops_1_W) :
    val0_2 V0 (Proc.devRef .tc r) = val0_1 V0 (Proc.devRef .tc r) :=
  after_of_writes_sub ops_1 _ ops_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_call0_v2 (V0 : Valuation τ sig (Elt F)) : val0_2 V0 (no_index (Proc.devRef .tc main_call0_v2)) = res_main_call0_v2 V0 :=
  (val0_2_keep V0 main_call0_v2 (by decide)).trans (val0_1_main_call0_v2 V0)
theorem val0_2_main_call0_v3 (V0 : Valuation τ sig (Elt F)) : val0_2 V0 (no_index (Proc.devRef .tc main_call0_v3)) = broadcastInDim S1x1 ![] bcast_S_S1x1 (id (constant S_ .f32 0x3F800000#32)) :=
  (val0_2_keep V0 main_call0_v3 (by decide)).trans (val0_1_main_call0_v3 V0)
theorem val0_2_main_call0_v5 (V0 : Valuation τ sig (Elt F)) : val0_2 V0 (no_index (Proc.devRef .tc main_call0_v5)) = res_main_call0_v5 V0 :=
  (val0_2_keep V0 main_call0_v5 (by decide)).trans (val0_1_main_call0_v5 V0)
theorem val0_2_main_call0_v7 (V0 : Valuation τ sig (Elt F)) : val0_2 V0 (no_index (Proc.devRef .tc main_call0_v7)) = res_main_call0_v7 V0 :=
  (val0_2_keep V0 main_call0_v7 (by decide)).trans (val0_1_main_call0_v7 V0)
set_option maxRecDepth 8192 in
set_option maxHeartbeats 2000000 in
theorem val0_2_main_call0_call0_v1 (V0 : Valuation τ sig (Elt F)) : val0_2 V0 (no_index (Proc.devRef .tc main_call0_call0_v1)) = res_main_call0_call0_v1 V0 := by
  unfold val0_2
  simp only [ops_1, TRef.binary, TRef.nullary, TRef.unary, TRef.toBuf, TRef.ofBuf, cast_eq]
  after_results_simp
  simp only [val0_1_main_call0_v7, val0_1_main_call0_v5] <;> rfl
set_option maxRecDepth 8192 in
set_option maxHeartbeats 2000000 in
theorem val0_2_main_call0_call0_v19 (V0 : Valuation τ sig (Elt F)) : val0_2 V0 (no_index (Proc.devRef .tc main_call0_call0_v19)) = res_main_call0_call0_v19 V0 := by
  unfold val0_2
  simp only [ops_1, TRef.binary, TRef.nullary, TRef.unary, TRef.toBuf, TRef.ofBuf, cast_eq]
  after_results_simp
  simp only [val0_1_main_call0_v7, val0_1_main_call0_v14, val0_1_main_call0_v5, val0_1_main_call0_c_1] <;> rfl
set_option maxRecDepth 8192 in
set_option maxHeartbeats 2000000 in
theorem val0_2_main_call0_call0_v20 (V0 : Valuation τ sig (Elt F)) : val0_2 V0 (no_index (Proc.devRef .tc main_call0_call0_v20)) = res_main_call0_call0_v20 V0 := by
  unfold val0_2
  simp only [ops_1, TRef.binary, TRef.nullary, TRef.unary, TRef.toBuf, TRef.ofBuf, cast_eq]
  after_results_simp
  simp only [val0_1_main_call0_v7, val0_1_main_call0_v14, val0_1_main_call0_v5, val0_1_main_call0_c_1] <;> rfl

/-- The device's buffer contents after @main's first 90 operations. -/
def val0_3 (V0 : Valuation τ sig (Elt F)) : Valuation τ sig (Elt F) := after ops_2 (val0_2 V0)
/-- The buffers that window `ops_2`'s operations write. -/
abbrev ops_2_W : List (Ref sig .tc) := [main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43]
set_option maxRecDepth 8192 in
theorem ops_2_writes : (ops_2 : List (HloOp τ sig (Elt F))).Forall fun op => op.writes ⊆ (ops_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_2` does not write keeps its contents through it. -/
theorem val0_3_keep (V0 : Valuation τ sig (Elt F)) (r : Ref sig .tc) (h : r ∉ ops_2_W) :
    val0_3 V0 (Proc.devRef .tc r) = val0_2 V0 (Proc.devRef .tc r) :=
  after_of_writes_sub ops_2 _ ops_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_call0_v2 (V0 : Valuation τ sig (Elt F)) : val0_3 V0 (no_index (Proc.devRef .tc main_call0_v2)) = res_main_call0_v2 V0 :=
  (val0_3_keep V0 main_call0_v2 (by decide)).trans (val0_2_main_call0_v2 V0)
theorem val0_3_main_call0_v3 (V0 : Valuation τ sig (Elt F)) : val0_3 V0 (no_index (Proc.devRef .tc main_call0_v3)) = broadcastInDim S1x1 ![] bcast_S_S1x1 (id (constant S_ .f32 0x3F800000#32)) :=
  (val0_3_keep V0 main_call0_v3 (by decide)).trans (val0_2_main_call0_v3 V0)
theorem val0_3_main_call0_v5 (V0 : Valuation τ sig (Elt F)) : val0_3 V0 (no_index (Proc.devRef .tc main_call0_v5)) = res_main_call0_v5 V0 :=
  (val0_3_keep V0 main_call0_v5 (by decide)).trans (val0_2_main_call0_v5 V0)
theorem val0_3_main_call0_v7 (V0 : Valuation τ sig (Elt F)) : val0_3 V0 (no_index (Proc.devRef .tc main_call0_v7)) = res_main_call0_v7 V0 :=
  (val0_3_keep V0 main_call0_v7 (by decide)).trans (val0_2_main_call0_v7 V0)
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
set_option maxRecDepth 8192 in
set_option maxHeartbeats 2000000 in
theorem val0_3_main_call0_call0_v39 (V0 : Valuation τ sig (Elt F)) : val0_3 V0 (no_index (Proc.devRef .tc main_call0_call0_v39)) = res_main_call0_call0_v39 V0 := by
  unfold val0_3
  simp only [ops_2, TRef.binary, TRef.nullary, TRef.unary, TRef.toBuf, TRef.ofBuf, cast_eq]
  after_results_simp
  simp only [val0_2_main_call0_call0_v1, val0_2_main_call0_call0_v19, val0_2_main_call0_call0_v20] <;> rfl
set_option maxRecDepth 8192 in
set_option maxHeartbeats 2000000 in
theorem val0_3_main_call0_call0_v40 (V0 : Valuation τ sig (Elt F)) : val0_3 V0 (no_index (Proc.devRef .tc main_call0_call0_v40)) = res_main_call0_call0_v40 V0 := by
  unfold val0_3
  simp only [ops_2, TRef.binary, TRef.nullary, TRef.unary, TRef.toBuf, TRef.ofBuf, cast_eq]
  after_results_simp
  simp only [val0_2_main_call0_call0_v1, val0_2_main_call0_call0_v19, val0_2_main_call0_call0_v20, val0_2_main_call0_v7] <;> rfl
set_option maxRecDepth 8192 in
set_option maxHeartbeats 2000000 in
theorem val0_3_main_call0_call0_v42 (V0 : Valuation τ sig (Elt F)) : val0_3 V0 (no_index (Proc.devRef .tc main_call0_call0_v42)) = Host.shli (res_main_call0_call0_v39 V0) (broadcastInDim S128x100000 ![] bcast_S_S128x100000 (constantI S_ 32 17#32)) := by
  unfold val0_3
  simp only [ops_2, TRef.binary, TRef.nullary, TRef.unary, TRef.toBuf, TRef.ofBuf, cast_eq]
  after_results_simp
  simp only [val0_2_main_call0_call0_v1, val0_2_main_call0_call0_v19, val0_2_main_call0_call0_v20] <;> rfl
set_option maxRecDepth 8192 in
set_option maxHeartbeats 2000000 in
theorem val0_3_main_call0_call0_v43 (V0 : Valuation τ sig (Elt F)) : val0_3 V0 (no_index (Proc.devRef .tc main_call0_call0_v43)) = broadcastInDim S128x100000 ![] bcast_S_S128x100000 (constantI S_ 32 15#32) := by
  unfold val0_3
  simp only [ops_2, TRef.binary, TRef.nullary, TRef.unary, TRef.toBuf, TRef.ofBuf, cast_eq]
  after_results_simp
  all_goals rfl

end Cert.ReferenceIdeal.Value

end

end
-- ==== Proof.RefRun.lean ====
module

public import proofs.«01_k».proof.Proof.RefVal

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 120 operations. -/
def val0_4 (V0 : Valuation τ sig (Elt F)) : Valuation τ sig (Elt F) := after ops_3 (val0_3 V0)
/-- The buffers that window `ops_3`'s operations write. -/
abbrev ops_3_W : List (Ref sig .tc) := [main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67]
set_option maxRecDepth 8192 in
theorem ops_3_writes : (ops_3 : List (HloOp τ sig (Elt F))).Forall fun op => op.writes ⊆ (ops_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_3` does not write keeps its contents through it. -/
theorem val0_4_keep (V0 : Valuation τ sig (Elt F)) (r : Ref sig .tc) (h : r ∉ ops_3_W) :
    val0_4 V0 (Proc.devRef .tc r) = val0_3 V0 (Proc.devRef .tc r) :=
  after_of_writes_sub ops_3 _ ops_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_call0_v2 (V0 : Valuation τ sig (Elt F)) : val0_4 V0 (no_index (Proc.devRef .tc main_call0_v2)) = res_main_call0_v2 V0 :=
  (val0_4_keep V0 main_call0_v2 (by decide)).trans (val0_3_main_call0_v2 V0)
theorem val0_4_main_call0_v3 (V0 : Valuation τ sig (Elt F)) : val0_4 V0 (no_index (Proc.devRef .tc main_call0_v3)) = broadcastInDim S1x1 ![] bcast_S_S1x1 (id (constant S_ .f32 0x3F800000#32)) :=
  (val0_4_keep V0 main_call0_v3 (by decide)).trans (val0_3_main_call0_v3 V0)
theorem val0_4_main_call0_v5 (V0 : Valuation τ sig (Elt F)) : val0_4 V0 (no_index (Proc.devRef .tc main_call0_v5)) = res_main_call0_v5 V0 :=
  (val0_4_keep V0 main_call0_v5 (by decide)).trans (val0_3_main_call0_v5 V0)
theorem val0_4_main_call0_v7 (V0 : Valuation τ sig (Elt F)) : val0_4 V0 (no_index (Proc.devRef .tc main_call0_v7)) = res_main_call0_v7 V0 :=
  (val0_4_keep V0 main_call0_v7 (by decide)).trans (val0_3_main_call0_v7 V0)
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
set_option maxRecDepth 8192 in
set_option maxHeartbeats 2000000 in
theorem val0_4_main_call0_call0_v61 (V0 : Valuation τ sig (Elt F)) : val0_4 V0 (no_index (Proc.devRef .tc main_call0_call0_v61)) = res_main_call0_call0_v61 V0 := by
  unfold val0_4
  simp only [ops_3, TRef.binary, TRef.nullary, TRef.unary, TRef.toBuf, TRef.ofBuf, cast_eq]
  after_results_simp
  simp only [val0_3_main_call0_call0_v43, val0_3_main_call0_call0_v39, val0_3_main_call0_call0_v42, val0_3_main_call0_call0_v40] <;> rfl
set_option maxRecDepth 8192 in
set_option maxHeartbeats 2000000 in
theorem val0_4_main_call0_call0_v67 (V0 : Valuation τ sig (Elt F)) : val0_4 V0 (no_index (Proc.devRef .tc main_call0_call0_v67)) = xori (res_main_call0_call0_v61 V0) (ori (Host.shli (res_main_call0_call0_v60 V0) (broadcastInDim S128x100000 ![] bcast_S_S128x100000 (constantI S_ 32 24#32))) (Host.shrui (res_main_call0_call0_v60 V0) (broadcastInDim S128x100000 ![] bcast_S_S128x100000 (constantI S_ 32 8#32)))) := by
  unfold val0_4
  simp only [ops_3, TRef.binary, TRef.nullary, TRef.unary, TRef.toBuf, TRef.ofBuf, cast_eq]
  after_results_simp
  simp only [val0_3_main_call0_call0_v43, val0_3_main_call0_call0_v39, val0_3_main_call0_call0_v42, val0_3_main_call0_call0_v40] <;> rfl

/-- The device's buffer contents after @main's first 150 operations. -/
def val0_5 (V0 : Valuation τ sig (Elt F)) : Valuation τ sig (Elt F) := after ops_4 (val0_4 V0)
/-- The buffers that window `ops_4`'s operations write. -/
abbrev ops_4_W : List (Ref sig .tc) := [main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23]
set_option maxRecDepth 8192 in
theorem ops_4_writes : (ops_4 : List (HloOp τ sig (Elt F))).Forall fun op => op.writes ⊆ (ops_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_4` does not write keeps its contents through it. -/
theorem val0_5_keep (V0 : Valuation τ sig (Elt F)) (r : Ref sig .tc) (h : r ∉ ops_4_W) :
    val0_5 V0 (Proc.devRef .tc r) = val0_4 V0 (Proc.devRef .tc r) :=
  after_of_writes_sub ops_4 _ ops_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_call0_v2 (V0 : Valuation τ sig (Elt F)) : val0_5 V0 (no_index (Proc.devRef .tc main_call0_v2)) = res_main_call0_v2 V0 :=
  (val0_5_keep V0 main_call0_v2 (by decide)).trans (val0_4_main_call0_v2 V0)
theorem val0_5_main_call0_v3 (V0 : Valuation τ sig (Elt F)) : val0_5 V0 (no_index (Proc.devRef .tc main_call0_v3)) = broadcastInDim S1x1 ![] bcast_S_S1x1 (id (constant S_ .f32 0x3F800000#32)) :=
  (val0_5_keep V0 main_call0_v3 (by decide)).trans (val0_4_main_call0_v3 V0)
theorem val0_5_main_call0_v5 (V0 : Valuation τ sig (Elt F)) : val0_5 V0 (no_index (Proc.devRef .tc main_call0_v5)) = res_main_call0_v5 V0 :=
  (val0_5_keep V0 main_call0_v5 (by decide)).trans (val0_4_main_call0_v5 V0)
theorem val0_5_main_call0_v7 (V0 : Valuation τ sig (Elt F)) : val0_5 V0 (no_index (Proc.devRef .tc main_call0_v7)) = res_main_call0_v7 V0 :=
  (val0_5_keep V0 main_call0_v7 (by decide)).trans (val0_4_main_call0_v7 V0)
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
set_option maxRecDepth 8192 in
set_option maxHeartbeats 2000000 in
theorem val0_5_main_call0_call0_v87 (V0 : Valuation τ sig (Elt F)) : val0_5 V0 (no_index (Proc.devRef .tc main_call0_call0_v87)) = res_main_call0_call0_v87 V0 := by
  unfold val0_5
  simp only [ops_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_v88 (V0 : Valuation τ sig (Elt F)) : val0_5 V0 (no_index (Proc.devRef .tc main_call0_call0_v88)) = res_main_call0_call0_v88 V0 := by
  unfold val0_5
  simp only [ops_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_v90 (V0 : Valuation τ sig (Elt F)) : val0_5 V0 (no_index (Proc.devRef .tc main_call0_call0_v90)) = Host.shli (res_main_call0_call0_v87 V0) (broadcastInDim S128x100000 ![] bcast_S_S128x100000 (constantI S_ 32 26#32)) := by
  unfold val0_5
  simp only [ops_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_c_23 (V0 : Valuation τ sig (Elt F)) : val0_5 V0 (no_index (Proc.devRef .tc main_call0_call0_c_23)) = constantI S_ 32 6#32 := by
  unfold val0_5
  simp only [ops_4, TRef.binary, TRef.nullary, TRef.unary, TRef.toBuf, TRef.ofBuf, cast_eq]
  after_results_simp
  all_goals rfl

/-- The device's buffer contents after @main's first 180 operations. -/
def val0_6 (V0 : Valuation τ sig (Elt F)) : Valuation τ sig (Elt F) := after ops_5 (val0_5 V0)
/-- The buffers that window `ops_5`'s operations write. -/
abbrev ops_5_W : List (Ref sig .tc) := [main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115]
set_option maxRecDepth 8192 in
theorem ops_5_writes : (ops_5 : List (HloOp τ sig (Elt F))).Forall fun op => op.writes ⊆ (ops_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_5` does not write keeps its contents through it. -/
theorem val0_6_keep (V0 : Valuation τ sig (Elt F)) (r : Ref sig .tc) (h : r ∉ ops_5_W) :
    val0_6 V0 (Proc.devRef .tc r) = val0_5 V0 (Proc.devRef .tc r) :=
  after_of_writes_sub ops_5 _ ops_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_call0_v2 (V0 : Valuation τ sig (Elt F)) : val0_6 V0 (no_index (Proc.devRef .tc main_call0_v2)) = res_main_call0_v2 V0 :=
  (val0_6_keep V0 main_call0_v2 (by decide)).trans (val0_5_main_call0_v2 V0)
theorem val0_6_main_call0_v3 (V0 : Valuation τ sig (Elt F)) : val0_6 V0 (no_index (Proc.devRef .tc main_call0_v3)) = broadcastInDim S1x1 ![] bcast_S_S1x1 (id (constant S_ .f32 0x3F800000#32)) :=
  (val0_6_keep V0 main_call0_v3 (by decide)).trans (val0_5_main_call0_v3 V0)
theorem val0_6_main_call0_v5 (V0 : Valuation τ sig (Elt F)) : val0_6 V0 (no_index (Proc.devRef .tc main_call0_v5)) = res_main_call0_v5 V0 :=
  (val0_6_keep V0 main_call0_v5 (by decide)).trans (val0_5_main_call0_v5 V0)
theorem val0_6_main_call0_v7 (V0 : Valuation τ sig (Elt F)) : val0_6 V0 (no_index (Proc.devRef .tc main_call0_v7)) = res_main_call0_v7 V0 :=
  (val0_6_keep V0 main_call0_v7 (by decide)).trans (val0_5_main_call0_v7 V0)
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
set_option maxRecDepth 8192 in
set_option maxHeartbeats 2000000 in
theorem val0_6_main_call0_call0_v114 (V0 : Valuation τ sig (Elt F)) : val0_6 V0 (no_index (Proc.devRef .tc main_call0_call0_v114)) = res_main_call0_call0_v114 V0 := by
  unfold val0_6
  simp only [ops_5, TRef.binary, TRef.nullary, TRef.unary, TRef.toBuf, TRef.ofBuf, cast_eq]
  after_results_simp
  simp only [val0_5_main_call0_v7, val0_5_main_call0_call0_c_23, val0_5_main_call0_call0_v87, val0_5_main_call0_call0_v90, val0_5_main_call0_call0_v88, val0_5_main_call0_v5] <;> rfl
set_option maxRecDepth 8192 in
set_option maxHeartbeats 2000000 in
theorem val0_6_main_call0_call0_v115 (V0 : Valuation τ sig (Elt F)) : val0_6 V0 (no_index (Proc.devRef .tc main_call0_call0_v115)) = res_main_call0_call0_v115 V0 := by
  unfold val0_6
  simp only [ops_5, TRef.binary, TRef.nullary, TRef.unary, TRef.toBuf, TRef.ofBuf, cast_eq]
  after_results_simp
  simp only [val0_5_main_call0_v7, val0_5_main_call0_call0_c_23, val0_5_main_call0_call0_v87, val0_5_main_call0_call0_v90, val0_5_main_call0_call0_v88, val0_5_main_call0_v5] <;> rfl

/-- The device's buffer contents after @main's first 210 operations. -/
def val0_7 (V0 : Valuation τ sig (Elt F)) : Valuation τ sig (Elt F) := after ops_6 (val0_6 V0)
/-- The buffers that window `ops_6`'s operations write. -/
abbrev ops_6_W : List (Ref sig .tc) := [main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139]
set_option maxRecDepth 8192 in
theorem ops_6_writes : (ops_6 : List (HloOp τ sig (Elt F))).Forall fun op => op.writes ⊆ (ops_6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_6` does not write keeps its contents through it. -/
theorem val0_7_keep (V0 : Valuation τ sig (Elt F)) (r : Ref sig .tc) (h : r ∉ ops_6_W) :
    val0_7 V0 (Proc.devRef .tc r) = val0_6 V0 (Proc.devRef .tc r) :=
  after_of_writes_sub ops_6 _ ops_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_call0_v2 (V0 : Valuation τ sig (Elt F)) : val0_7 V0 (no_index (Proc.devRef .tc main_call0_v2)) = res_main_call0_v2 V0 :=
  (val0_7_keep V0 main_call0_v2 (by decide)).trans (val0_6_main_call0_v2 V0)
theorem val0_7_main_call0_v3 (V0 : Valuation τ sig (Elt F)) : val0_7 V0 (no_index (Proc.devRef .tc main_call0_v3)) = broadcastInDim S1x1 ![] bcast_S_S1x1 (id (constant S_ .f32 0x3F800000#32)) :=
  (val0_7_keep V0 main_call0_v3 (by decide)).trans (val0_6_main_call0_v3 V0)
theorem val0_7_main_call0_v5 (V0 : Valuation τ sig (Elt F)) : val0_7 V0 (no_index (Proc.devRef .tc main_call0_v5)) = res_main_call0_v5 V0 :=
  (val0_7_keep V0 main_call0_v5 (by decide)).trans (val0_6_main_call0_v5 V0)
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
set_option maxRecDepth 8192 in
set_option maxHeartbeats 2000000 in
theorem val0_7_main_call0_call0_v137 (V0 : Valuation τ sig (Elt F)) : val0_7 V0 (no_index (Proc.devRef .tc main_call0_call0_v137)) = addi (res_main_call0_call0_v129 V0) (broadcastInDim S128x100000 ![] bcast_S_S128x100000 (res_main_call0_v7 V0)) := by
  unfold val0_7
  simp only [ops_6, TRef.binary, TRef.nullary, TRef.unary, TRef.toBuf, TRef.ofBuf, cast_eq]
  after_results_simp
  simp only [val0_6_main_call0_v7, val0_6_main_call0_call0_v114, val0_6_main_call0_call0_v115] <;> rfl
set_option maxRecDepth 8192 in
set_option maxHeartbeats 2000000 in
theorem val0_7_main_call0_call0_v139 (V0 : Valuation τ sig (Elt F)) : val0_7 V0 (no_index (Proc.devRef .tc main_call0_call0_v139)) = addi (xori (res_main_call0_call0_v129 V0) (ori (Host.shli (res_main_call0_call0_v128 V0) (broadcastInDim S128x100000 ![] bcast_S_S128x100000 (constantI S_ 32 24#32))) (Host.shrui (res_main_call0_call0_v128 V0) (broadcastInDim S128x100000 ![] bcast_S_S128x100000 (constantI S_ 32 8#32))))) (broadcastInDim S128x100000 ![] bcast_S_S128x100000 (res_main_call0_call0_v1 V0)) := by
  unfold val0_7
  simp only [ops_6, TRef.binary, TRef.nullary, TRef.unary, TRef.toBuf, TRef.ofBuf, cast_eq]
  after_results_simp
  simp only [val0_6_main_call0_call0_v1, val0_6_main_call0_call0_v114, val0_6_main_call0_call0_v115] <;> rfl

/-- The device's buffer contents after @main's first 240 operations. -/
def val0_8 (V0 : Valuation τ sig (Elt F)) : Valuation τ sig (Elt F) := after ops_7 (val0_7 V0)
/-- The buffers that window `ops_7`'s operations write. -/
abbrev ops_7_W : List (Ref sig .tc) := [main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162]
set_option maxRecDepth 8192 in
theorem ops_7_writes : (ops_7 : List (HloOp τ sig (Elt F))).Forall fun op => op.writes ⊆ (ops_7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_7` does not write keeps its contents through it. -/
theorem val0_8_keep (V0 : Valuation τ sig (Elt F)) (r : Ref sig .tc) (h : r ∉ ops_7_W) :
    val0_8 V0 (Proc.devRef .tc r) = val0_7 V0 (Proc.devRef .tc r) :=
  after_of_writes_sub ops_7 _ ops_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_call0_v2 (V0 : Valuation τ sig (Elt F)) : val0_8 V0 (no_index (Proc.devRef .tc main_call0_v2)) = res_main_call0_v2 V0 :=
  (val0_8_keep V0 main_call0_v2 (by decide)).trans (val0_7_main_call0_v2 V0)
theorem val0_8_main_call0_v3 (V0 : Valuation τ sig (Elt F)) : val0_8 V0 (no_index (Proc.devRef .tc main_call0_v3)) = broadcastInDim S1x1 ![] bcast_S_S1x1 (id (constant S_ .f32 0x3F800000#32)) :=
  (val0_8_keep V0 main_call0_v3 (by decide)).trans (val0_7_main_call0_v3 V0)
theorem val0_8_main_call0_v5 (V0 : Valuation τ sig (Elt F)) : val0_8 V0 (no_index (Proc.devRef .tc main_call0_v5)) = res_main_call0_v5 V0 :=
  (val0_8_keep V0 main_call0_v5 (by decide)).trans (val0_7_main_call0_v5 V0)
theorem val0_8_main_call0_call0_v1 (V0 : Valuation τ sig (Elt F)) : val0_8 V0 (no_index (Proc.devRef .tc main_call0_call0_v1)) = res_main_call0_call0_v1 V0 :=
  (val0_8_keep V0 main_call0_call0_v1 (by decide)).trans (val0_7_main_call0_call0_v1 V0)
set_option maxRecDepth 8192 in
set_option maxHeartbeats 2000000 in
theorem val0_8_main_call0_call0_v156 (V0 : Valuation τ sig (Elt F)) : val0_8 V0 (no_index (Proc.devRef .tc main_call0_call0_v156)) = res_main_call0_call0_v156 V0 := by
  unfold val0_8
  simp only [ops_7, TRef.binary, TRef.nullary, TRef.unary, TRef.toBuf, TRef.ofBuf, cast_eq]
  after_results_simp
  simp only [val0_7_main_call0_call0_v139, val0_7_main_call0_call0_v137] <;> rfl
set_option maxRecDepth 8192 in
set_option maxHeartbeats 2000000 in
theorem val0_8_main_call0_call0_v162 (V0 : Valuation τ sig (Elt F)) : val0_8 V0 (no_index (Proc.devRef .tc main_call0_call0_v162)) = res_main_call0_call0_v162 V0 := by
  unfold val0_8
  simp only [ops_7, TRef.binary, TRef.nullary, TRef.unary, TRef.toBuf, TRef.ofBuf, cast_eq]
  after_results_simp
  simp only [val0_7_main_call0_call0_v139, val0_7_main_call0_call0_v137] <;> rfl

/-- The device's buffer contents after @main's first 270 operations. -/
def val0_9 (V0 : Valuation τ sig (Elt F)) : Valuation τ sig (Elt F) := after ops_8 (val0_8 V0)
/-- The buffers that window `ops_8`'s operations write. -/
abbrev ops_8_W : List (Ref sig .tc) := [main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1, main_call0_v20, main_call0_c_2, main_call0_v21, main_call0_v22, main_call0_c_3, main_call0_v23, main_call0_v24, main_call0_v25, main_call0_cst, main_call0_v26, main_call0_v27, main_call0_v28, main_call0_v29, main_call0_v30]
set_option maxRecDepth 8192 in
theorem ops_8_writes : (ops_8 : List (HloOp τ sig (Elt F))).Forall fun op => op.writes ⊆ (ops_8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_8` does not write keeps its contents through it. -/
theorem val0_9_keep (V0 : Valuation τ sig (Elt F)) (r : Ref sig .tc) (h : r ∉ ops_8_W) :
    val0_9 V0 (Proc.devRef .tc r) = val0_8 V0 (Proc.devRef .tc r) :=
  after_of_writes_sub ops_8 _ ops_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_call0_v2 (V0 : Valuation τ sig (Elt F)) : val0_9 V0 (no_index (Proc.devRef .tc main_call0_v2)) = res_main_call0_v2 V0 :=
  (val0_9_keep V0 main_call0_v2 (by decide)).trans (val0_8_main_call0_v2 V0)
set_option maxRecDepth 8192 in
set_option maxHeartbeats 2000000 in
theorem val0_9_main_call0_v30 (V0 : Valuation τ sig (Elt F)) : val0_9 V0 (no_index (Proc.devRef .tc main_call0_v30)) = mulf (subf (bitcastToFloat (F := F) .f32 (ori (Host.shrui (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_v2 V0))) := by
  unfold val0_9
  simp only [ops_8, TRef.binary, TRef.nullary, TRef.unary, TRef.toBuf, TRef.ofBuf, cast_eq]
  after_results_simp
  simp only [val0_8_main_call0_v2, val0_8_main_call0_v3, val0_8_main_call0_v5, val0_8_main_call0_call0_v162, val0_8_main_call0_call0_v156, val0_8_main_call0_call0_v1] <;> rfl

/-- The device's buffer contents after @main's first 300 operations. -/
def val0_10 (V0 : Valuation τ sig (Elt F)) : Valuation τ sig (Elt F) := after ops_9 (val0_9 V0)
/-- The buffers that window `ops_9`'s operations write. -/
abbrev ops_9_W : List (Ref sig .tc) := [main_call0_v31, main_call0_v32, main_call0_v33, main_v7, main_cst_3, main_v8, main_v9, main_v10, main_v11, main_cst_4, main_v12, main_v13, main_v14, main_v15, main_v16, main_cst_5, main_v17, main_v18, main_cst_6, main_v19, main_cst_7, main_v20, main_v21, main_v22, main_v23, main_v24, main_v25, main_cst_8, main_v26, main_v27]
set_option maxRecDepth 8192 in
theorem ops_9_writes : (ops_9 : List (HloOp τ sig (Elt F))).Forall fun op => op.writes ⊆ (ops_9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_9` does not write keeps its contents through it. -/
theorem val0_10_keep (V0 : Valuation τ sig (Elt F)) (r : Ref sig .tc) (h : r ∉ ops_9_W) :
    val0_10 V0 (Proc.devRef .tc r) = val0_9 V0 (Proc.devRef .tc r) :=
  after_of_writes_sub ops_9 _ ops_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
set_option maxRecDepth 8192 in
set_option maxHeartbeats 2000000 in
theorem val0_10_main_v25 (V0 : Valuation τ sig (Elt F)) : val0_10 V0 (no_index (Proc.devRef .tc main_v25)) = res_main_v25 V0 := by
  unfold val0_10
  simp only [ops_9, TRef.binary, TRef.unary, TRef.toBuf, TRef.ofBuf, cast_eq]
  after_results_simp
  simp only [val0_9_main_call0_v2, val0_9_main_call0_v30, val0_9_main_arg0] <;> rfl
set_option maxRecDepth 8192 in
set_option maxHeartbeats 2000000 in
theorem val0_10_main_v27 (V0 : Valuation τ sig (Elt F)) : val0_10 V0 (no_index (Proc.devRef .tc main_v27)) = broadcastInDim S128x1 ![0] bcast_S128_S128x1_0 (Host.reduceAdd (res_main_v25 V0) (constant S_ .f32 0x00000000#32) reducesTo_S128x100000_S128_d1 h_S_) := by
  unfold val0_10
  simp only [ops_9, TRef.binary, TRef.unary, TRef.toBuf, TRef.ofBuf, cast_eq]
  after_results_simp
  simp only [val0_9_main_call0_v2, val0_9_main_call0_v30, val0_9_main_arg0] <;> rfl

/-- The device's buffer contents after @main's 315 operations. -/
def val1 (V0 : Valuation τ sig (Elt F)) : Valuation τ sig (Elt F) := after ops_10 (val0_10 V0)
/-- The buffers that window `ops_10`'s operations write. -/
abbrev ops_10_W : List (Ref sig .tc) := [main_v28, main_v29, main_call1_v0, main_call1_cst, main_call1_c, main_call1_v1_0, main_v30, main_call2_v0, main_call2_v1, main_call2_v2, main_call2_v3, main_call2_v4, main_v31, main_v32, main_v33]
set_option maxRecDepth 8192 in
theorem ops_10_writes : (ops_10 : List (HloOp τ sig (Elt F))).Forall fun op => op.writes ⊆ (ops_10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_10` does not write keeps its contents through it. -/
theorem val1_keep (V0 : Valuation τ sig (Elt F)) (r : Ref sig .tc) (h : r ∉ ops_10_W) :
    val1 V0 (Proc.devRef .tc r) = val0_10 V0 (Proc.devRef .tc r) :=
  after_of_writes_sub ops_10 _ ops_10_writes h
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
set_option maxRecDepth 8192 in
set_option maxHeartbeats 1500000 in
theorem val1_main_v33 (V0 : Valuation τ sig (Elt F)) : val1 V0 (no_index (Proc.devRef .tc main_v33)) = addf (subf (uitofp .f32 (cmpi .eq (broadcastInDim S128x100000 ![0, 1] bcast_S128x1_S128x100000_0_1 (broadcastInDim S128x1 ![0] bcast_S128_S128x1_0 (fun j => (Host.argReduce reducer_argmax_f32_i32 (res_main_v29 V0) (res_main_call1_v0 V0) (res_main_call1_cst V0) (res_main_call1_c V0) reducesTo_S128x100000_S128_d1 h_S_ j).2))) (broadcastInDim S128x100000 ![0, 1] bcast_S1x100000_S128x100000_0_1 (iotaInDim S1x100000 32 1)))) (res_main_v29 V0)) (res_main_v29 V0) := by
  unfold val1
  simp only [ops_10, TRef.binary, TRef.nullary, TRef.quaternary, TRef.unary, TRef.toBuf, TRef.ofBuf, cast_eq]
  after_results_simp
  simp only [val0_10_main_v27, val0_10_main_v25] <;> rfl

theorem after_ops (V0 : Valuation τ sig (Elt F)) : after ops V0 = val1 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = addf (subf (uitofp .f32 (cmpi .eq (broadcastInDim S128x100000 ![0, 1] bcast_S128x1_S128x100000_0_1 (broadcastInDim S128x1 ![0] bcast_S128_S128x1_0 (fun j => (Host.argReduce reducer_argmax_f32_i32 (res_main_v29 (launchContents m c)) (res_main_call1_v0 (launchContents m c)) (res_main_call1_cst (launchContents m c)) (res_main_call1_c (launchContents m c)) reducesTo_S128x100000_S128_d1 h_S_ j).2))) (broadcastInDim S128x100000 ![0, 1] bcast_S1x100000_S128x100000_0_1 (iotaInDim S1x100000 32 1)))) (res_main_v29 (launchContents m c))) (res_main_v29 (launchContents m c))
      ∧ r.2.mem ((c.tc : Thread nD τ).loc main_arg0) = m ((c.tc : Thread nD τ).loc main_arg0) :=
  (θ_run defs _ _).mono (fun _ h c => ⟨(h c main_v33).trans ((congrFun (after_ops (launchContents m c)) (Proc.devRef .tc main_v33)).trans (val1_main_v33 (launchContents m c))),
      (h c main_arg0).trans ((congrFun (after_ops (launchContents m c)) (Proc.devRef .tc main_arg0)).trans (val1_main_arg0 (launchContents m c)))⟩)
    (run_seq scopedRefs_eq scopedSems_eq defs main (fun _ => ops) main_eq (fun _ => ops_sub) m ρ fun _ => ops_fresh)

end Cert.ReferenceIdeal.Value

end

end
-- ==== Proof.Frames.lean ====
module

public import proofs.«01_k».proof.Proof.RunMain
public import proofs.«01_k».proof.Proof.K.RunMain
public import proofs.«01_k».proof.Proof.RefRun
public import Idealize.ShloMosaic.Lib.Quiescent
public import Idealize.ShloMosaic.PureOps.BitExact
public import Idealize.ShloMosaic.PureOps.Ideal

@[expose] public section

noncomputable section

namespace Cert.Proof

open Idealize.ShloMosaic Idealize.ShloMosaic.TcCoe Idealize.SL.Sem

variable {F : FTy → Type} [FloatOps F]

/-- The kernel as printed runs to its end, leaves its argument alone and every counter at zero. -/
theorem frame_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) :=
  (θ_run _ _ _).mono (fun _ h => ⟨fun c => (h.1 c).2, h.2⟩) (Cert.Kernel.Own.run_main m g)

/-- The same of the idealized kernel. -/
theorem frame_ideal (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run _ _ _).mono (fun _ h => ⟨fun c => (h.1 c).2, h.2⟩) (Cert.KernelIdeal.Own.run_main m g)

/-- The same of the reference, which has no semaphore at all. -/
theorem frame_reference (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems (by decide) r.2⟩) (Cert.ReferenceIdeal.Value.run m g)

end Cert.Proof

end

end
-- ==== Proof.Bits.lean ====
module

public import proofs.«01_k».proof.Proof.Prog0
public import proofs.«01_k».proof.Proof.RefRes
public import Idealize.ShloMosaic.Lib.Pointwise

@[expose] public section

noncomputable section

namespace Cert.Value

open Idealize.ShloMosaic Idealize.ShloMosaic.TcCoe Idealize.ShloMosaic.StableHlo

/-- A rotation's two shifts, by `a` to the left and by `b` to the right. -/
def turn (a b x : BitVec 32) : BitVec 32 := x <<< a.toNat ||| x >>> b.toNat
/-- One round of the generator on a pair of words. -/
def rnd1 (a b : BitVec 32) (p : BitVec 32 × BitVec 32) : BitVec 32 × BitVec 32 := (p.1 + p.2, (p.1 + p.2) ^^^ turn a b p.2)
/-- A key injection. -/
def inj1 (a b c : BitVec 32) (p : BitVec 32 × BitVec 32) : BitVec 32 × BitVec 32 := (p.1 + a, p.2 + b + c)
def even1 (p : BitVec 32 × BitVec 32) : BitVec 32 × BitVec 32 := rnd1 6#32 26#32 (rnd1 26#32 6#32 (rnd1 15#32 17#32 (rnd1 13#32 19#32 p)))
def odd1 (p : BitVec 32 × BitVec 32) : BitVec 32 × BitVec 32 := rnd1 24#32 8#32 (rnd1 16#32 16#32 (rnd1 29#32 3#32 (rnd1 17#32 15#32 p)))
def st1 (x : BitVec 32) : BitVec 32 × BitVec 32 := inj1 42#32 466689008#32 1#32 (even1 (0#32, x))
def st2 (x : BitVec 32) : BitVec 32 × BitVec 32 := inj1 466689008#32 0#32 2#32 (odd1 (st1 x))
def st3 (x : BitVec 32) : BitVec 32 × BitVec 32 := inj1 0#32 42#32 3#32 (even1 (st2 x))
def st4 (x : BitVec 32) : BitVec 32 × BitVec 32 := inj1 42#32 466689008#32 4#32 (odd1 (st3 x))
def st5 (x : BitVec 32) : BitVec 32 × BitVec 32 := inj1 466689008#32 0#32 5#32 (even1 (st4 x))
/-- The generator's word for the counter word `x`. -/
def draw (x : BitVec 32) : BitVec 32 := (st5 x).1 ^^^ (st5 x).2

section Kernel
open Cert.KernelIdeal Cert.KernelIdeal.Own

/-- The kernel's pair of words at one lane. -/
def at1 (p : St) (i : S128x128.Idx) : BitVec 32 × BitVec 32 := (p.1 i, p.2 i)

theorem at1_rnd (a b : BitVec 32) (ha : a.toNat < 32) (hb : b.toNat < 32) (p : St) (i : S128x128.Idx) :
    at1 (rnd a b p) i = rnd1 a b (at1 p i) := by
  have e1 : ∀ x : BitVec 32, IntOp.shli .vector x a = x <<< a.toNat := fun x => if_pos ha
  have e2 : ∀ x : BitVec 32, IntOp.shrui .vector x b = x >>> b.toNat := fun x => if_pos hb
  show (p.1 i + p.2 i, (IntOp.shli .vector (p.2 i) a ||| IntOp.shrui .vector (p.2 i) b) ^^^ (p.1 i + p.2 i)) = _
  rw [e1, e2, BitVec.xor_comm]
  rfl

theorem at1_inj (a b c : BitVec 32) (p : St) (i : S128x128.Idx) : at1 (inj a b c p) i = inj1 a b c (at1 p i) := rfl

theorem at1_even (p : St) (i : S128x128.Idx) : at1 (evenR p) i = even1 (at1 p i) := by
  unfold evenR even1
  rw [at1_rnd _ _ (by decide) (by decide), at1_rnd _ _ (by decide) (by decide), at1_rnd _ _ (by decide) (by decide), at1_rnd _ _ (by decide) (by decide)]

theorem at1_odd (p : St) (i : S128x128.Idx) : at1 (oddR p) i = odd1 (at1 p i) := by
  unfold oddR odd1
  rw [at1_rnd _ _ (by decide) (by decide), at1_rnd _ _ (by decide) (by decide), at1_rnd _ _ (by decide) (by decide), at1_rnd _ _ (by decide) (by decide)]

/-- The kernel's generator at one lane. -/
theorem at1_mix (s : IVec S128x128 32) (i : S128x128.Idx) : at1 (mix s) i = st5 (s i) := by
  unfold mix mixTail st5 st4 st3 st2 st1
  rw [at1_inj, at1_even, at1_inj, at1_odd, at1_inj, at1_even, at1_inj, at1_odd, at1_inj, at1_even]
  rfl

end Kernel

section Reference
open Cert.ReferenceIdeal Cert.ReferenceIdeal.Gen Cert.ReferenceIdeal.Value

variable {F : FTy → Type} [FloatOps F] (V0 : Valuation τ sig (Elt F)) (i : S128x100000.Idx)

omit [FloatOps F] in
theorem word_low : IntOp.shrui .host 42#32 32#32 = 0#32 := by
  unfold IntOp.shrui
  rw [if_neg (by decide)]
  rfl

theorem key_left (k : S2.Idx) (h : (k 0).val < 1) : (res_main_v6 V0 : IVec S2 32) k = 0#32 := by
  unfold res_main_v6
  refine (concatenate_pair_apply (0 : Fin S2.rank) _ _ _ k).trans ?_
  refine (dif_pos h).trans ?_
  exact word_low

theorem key_right (k : S2.Idx) (h : ¬ (k 0).val < 1) : (res_main_v6 V0 : IVec S2 32) k = 42#32 := by
  unfold res_main_v6
  refine (concatenate_pair_apply (0 : Fin S2.rank) _ _ _ k).trans ?_
  refine (dif_neg h).trans ?_
  show 42#32 &&& 4294967295#32 = 42#32
  decide

omit [FloatOps F] in
theorem pick_left (x : IVec S2 32) (c : BitVec 32) (h : ∀ k : S2.Idx, (k 0).val < 1 → x k = c)
    (hs : S2.Slices ![0] S1) (hc : S1.ShapeCasts S_) (j : S_.Idx) : shapeCast S_ (extractStridedSlice S1 ![0] x hs) hc j = c := by
  unfold shapeCast extractStridedSlice
  refine h _ ?_
  show 0 + _ < 1
  rw [Nat.zero_add]
  exact Fin.isLt _

omit [FloatOps F] in
theorem pick_right (x : IVec S2 32) (c : BitVec 32) (h : ∀ k : S2.Idx, ¬ (k 0).val < 1 → x k = c)
    (hs : S2.Slices ![1] S1) (hc : S1.ShapeCasts S_) (j : S_.Idx) : shapeCast S_ (extractStridedSlice S1 ![1] x hs) hc j = c := by
  unfold shapeCast extractStridedSlice
  refine h _ ?_
  show ¬ 1 + _ < 1
  omega

/-- The word of a tensor of words at an index. -/
def wd (x : IVec S128x100000 32) (i : S128x100000.Idx) : BitVec 32 := x i
/-- The word of a scalar tensor. -/
def ws (x : IVec S_ 32) (j : S_.Idx) : BitVec 32 := x j

/-- The two words of the reference's key, and the third made of them. -/
theorem key0 (j : S_.Idx) : ws (res_main_call0_v5 V0) j = 0#32 := pick_left (res_main_v6 V0) _ (key_left V0) slices_S2_S1_0 shapeCasts_S1_S_ j
theorem key1 (j : S_.Idx) : ws (res_main_call0_v7 V0) j = 42#32 := pick_right (res_main_v6 V0) _ (key_right V0) slices_S2_S1_1 shapeCasts_S1_S_ j
theorem key2 (j : S_.Idx) : ws (res_main_call0_call0_v1 V0) j = 466689008#32 := by
  show (ws (res_main_call0_v5 V0) j ^^^ ws (res_main_call0_v7 V0) j) ^^^ 466688986#32 = _
  rw [key0, key1]
  decide

omit [FloatOps F] in
/-- The word `x`, mixed with `y` turned. -/
theorem wd_mix (a b : BitVec 32) (ha : a.toNat < 32) (hb : b.toNat < 32) (x y : IVec S128x100000 32) :
    wd (xori x (ori (Host.shli y (broadcastInDim S128x100000 ![] bcast_S_S128x100000 (constantI S_ 32 a))) (Host.shrui y (broadcastInDim S128x100000 ![] bcast_S_S128x100000 (constantI S_ 32 b))))) i
      = wd x i ^^^ turn a b (wd y i) := by
  have e1 : ∀ x : BitVec 32, IntOp.shli .host x a = x <<< a.toNat := fun x => if_pos ha
  have e2 : ∀ x : BitVec 32, IntOp.shrui .host x b = x >>> b.toNat := fun x => if_pos hb
  show wd x i ^^^ (IntOp.shli .host (wd y i) a ||| IntOp.shrui .host (wd y i) b) = _
  rw [e1, e2]
  rfl

omit [FloatOps F] in
/-- A scalar of word `c`, spread over the tensor. -/
theorem wd_spread (k : IVec S_ 32) (c : BitVec 32) (hk : ∀ j, ws k j = c) : wd (broadcastInDim S128x100000 ![] bcast_S_S128x100000 k) i = c := hk _

omit [FloatOps F] in
theorem wd_inj (a b c kc : BitVec 32) (ha : a.toNat < 32) (hb : b.toNat < 32) (x y : IVec S128x100000 32) (k : IVec S_ 32) (hk : ∀ j, ws k j = kc) :
    wd (addi (addi (xori x (ori (Host.shli y (broadcastInDim S128x100000 ![] bcast_S_S128x100000 (constantI S_ 32 a))) (Host.shrui y (broadcastInDim S128x100000 ![] bcast_S_S128x100000 (constantI S_ 32 b))))) (broadcastInDim S128x100000 ![] bcast_S_S128x100000 k)) (broadcastInDim S128x100000 ![] bcast_S_S128x100000 (constantI S_ 32 c))) i
      = (wd x i ^^^ turn a b (wd y i)) + kc + c :=
  congrArg₂ (· + ·) (congrArg₂ (· + ·) (wd_mix i a b ha hb x y) (wd_spread i k kc hk)) rfl

omit [FloatOps F] in
theorem wd_sum (kc : BitVec 32) (x y : IVec S128x100000 32) (k : IVec S_ 32) (hk : ∀ j, ws k j = kc) :
    wd (addi (addi x (broadcastInDim S128x100000 ![] bcast_S_S128x100000 k)) y) i = wd x i + kc + wd y i :=
  congrArg₂ (· + ·) (congrArg₂ (· + ·) rfl (wd_spread i k kc hk)) rfl

/-- The counter word of an index. -/
def ctr : BitVec 32 := wd (res_main_call0_call0_v5 V0) i

/-- The generator's state before each group of rounds: the second word, and the two words' sum. -/
theorem start (h6 : wd (res_main_call0_call0_v6 V0) i = 0#32 + ctr V0 i) : wd (res_main_call0_call0_v6 V0) i = 0#32 + ctr V0 i ∧ wd (res_main_call0_call0_v5 V0) i = ctr V0 i := ⟨h6, rfl⟩

theorem grp_even (a b s0 b1 s1 b2 s2 b3 s3 : BitVec 32) (h0 : s0 = a + b) (h1 : b1 = s0 ^^^ turn 13#32 19#32 b) (g1 : s1 = s0 + b1)
    (h2 : b2 = s1 ^^^ turn 15#32 17#32 b1) (g2 : s2 = s1 + b2) (h3 : b3 = s2 ^^^ turn 26#32 6#32 b2) (g3 : s3 = s2 + b3) :
    even1 (a, b) = (s3, s3 ^^^ turn 6#32 26#32 b3) := by
  subst g3 h3 g2 h2 g1 h1 h0
  rfl

theorem grp_odd (a b s0 b1 s1 b2 s2 b3 s3 : BitVec 32) (h0 : s0 = a + b) (h1 : b1 = s0 ^^^ turn 17#32 15#32 b) (g1 : s1 = s0 + b1)
    (h2 : b2 = s1 ^^^ turn 29#32 3#32 b1) (g2 : s2 = s1 + b2) (h3 : b3 = s2 ^^^ turn 16#32 16#32 b2) (g3 : s3 = s2 + b3) :
    odd1 (a, b) = (s3, s3 ^^^ turn 24#32 8#32 b3) := by
  subst g3 h3 g2 h2 g1 h1 h0
  rfl

theorem m12 : wd (res_main_call0_call0_v12 V0) i = wd (res_main_call0_call0_v6 V0) i ^^^ turn 13#32 19#32 (wd (res_main_call0_call0_v5 V0) i) :=
  wd_mix i 13#32 19#32 (by decide) (by decide) _ _
theorem m13 : wd (res_main_call0_call0_v13 V0) i = wd (res_main_call0_call0_v6 V0) i + wd (res_main_call0_call0_v12 V0) i := rfl
theorem m19 : wd (res_main_call0_call0_v19 V0) i = wd (res_main_call0_call0_v13 V0) i ^^^ turn 15#32 17#32 (wd (res_main_call0_call0_v12 V0) i) :=
  wd_mix i 15#32 17#32 (by decide) (by decide) _ _
theorem m20 : wd (res_main_call0_call0_v20 V0) i = wd (res_main_call0_call0_v13 V0) i + wd (res_main_call0_call0_v19 V0) i := rfl
theorem m26 : wd (res_main_call0_call0_v26 V0) i = wd (res_main_call0_call0_v20 V0) i ^^^ turn 26#32 6#32 (wd (res_main_call0_call0_v19 V0) i) :=
  wd_mix i 26#32 6#32 (by decide) (by decide) _ _
theorem m27 : wd (res_main_call0_call0_v27 V0) i = wd (res_main_call0_call0_v20 V0) i + wd (res_main_call0_call0_v26 V0) i := rfl
theorem r1 (h6 : wd (res_main_call0_call0_v6 V0) i = 0#32 + ctr V0 i) : even1 (0#32, ctr V0 i) = (wd (res_main_call0_call0_v27 V0) i, wd (res_main_call0_call0_v27 V0) i ^^^ turn 6#32 26#32 (wd (res_main_call0_call0_v26 V0) i)) :=
  grp_even (0#32) (ctr V0 i) _ _ _ _ _ _ _ h6 (m12 V0 i) (m13 V0 i) (m19 V0 i) (m20 V0 i) (m26 V0 i) (m27 V0 i)
theorem m39 : wd (res_main_call0_call0_v39 V0) i = (wd (res_main_call0_call0_v27 V0) i ^^^ turn 6#32 26#32 (wd (res_main_call0_call0_v26 V0) i)) + 466689008#32 + 1#32 :=
  wd_inj i 6#32 26#32 _ _ (by decide) (by decide) _ _ _ (key2 V0)
theorem m40 : wd (res_main_call0_call0_v40 V0) i = (wd (res_main_call0_call0_v27 V0) i + 42#32) + wd (res_main_call0_call0_v39 V0) i :=
  wd_sum i _ _ _ _ (key1 V0)
theorem s1 (h6 : wd (res_main_call0_call0_v6 V0) i = 0#32 + ctr V0 i) :
    wd (res_main_call0_call0_v40 V0) i = (st1 (ctr V0 i)).1 + (st1 (ctr V0 i)).2 ∧ wd (res_main_call0_call0_v39 V0) i = (st1 (ctr V0 i)).2 := by
  have e := r1 V0 i h6
  have q : st1 (ctr V0 i) = (wd (res_main_call0_call0_v27 V0) i + 42#32, wd (res_main_call0_call0_v39 V0) i) := by
    rw [m39]
    unfold st1
    rw [e]
    rfl
  rw [q]
  exact ⟨m40 V0 i, rfl⟩
theorem m46 : wd (res_main_call0_call0_v46 V0) i = wd (res_main_call0_call0_v40 V0) i ^^^ turn 17#32 15#32 (wd (res_main_call0_call0_v39 V0) i) :=
  wd_mix i 17#32 15#32 (by decide) (by decide) _ _
theorem m47 : wd (res_main_call0_call0_v47 V0) i = wd (res_main_call0_call0_v40 V0) i + wd (res_main_call0_call0_v46 V0) i := rfl
theorem m53 : wd (res_main_call0_call0_v53 V0) i = wd (res_main_call0_call0_v47 V0) i ^^^ turn 29#32 3#32 (wd (res_main_call0_call0_v46 V0) i) :=
  wd_mix i 29#32 3#32 (by decide) (by decide) _ _
theorem m54 : wd (res_main_call0_call0_v54 V0) i = wd (res_main_call0_call0_v47 V0) i + wd (res_main_call0_call0_v53 V0) i := rfl
theorem m60 : wd (res_main_call0_call0_v60 V0) i = wd (res_main_call0_call0_v54 V0) i ^^^ turn 16#32 16#32 (wd (res_main_call0_call0_v53 V0) i) :=
  wd_mix i 16#32 16#32 (by decide) (by decide) _ _
theorem m61 : wd (res_main_call0_call0_v61 V0) i = wd (res_main_call0_call0_v54 V0) i + wd (res_main_call0_call0_v60 V0) i := rfl
theorem r2 (h6 : wd (res_main_call0_call0_v6 V0) i = 0#32 + ctr V0 i) : odd1 (st1 (ctr V0 i)) = (wd (res_main_call0_call0_v61 V0) i, wd (res_main_call0_call0_v61 V0) i ^^^ turn 24#32 8#32 (wd (res_main_call0_call0_v60 V0) i)) :=
  grp_odd (st1 (ctr V0 i)).1 (st1 (ctr V0 i)).2 _ _ _ _ _ _ _ (s1 V0 i h6).1 ((m46 V0 i).trans (by rw [(s1 V0 i h6).2])) (m47 V0 i) (m53 V0 i) (m54 V0 i) (m60 V0 i) (m61 V0 i)
theorem m73 : wd (res_main_call0_call0_v73 V0) i = (wd (res_main_call0_call0_v61 V0) i ^^^ turn 24#32 8#32 (wd (res_main_call0_call0_v60 V0) i)) + 0#32 + 2#32 :=
  wd_inj i 24#32 8#32 _ _ (by decide) (by decide) _ _ _ (key0 V0)
theorem m74 : wd (res_main_call0_call0_v74 V0) i = (wd (res_main_call0_call0_v61 V0) i + 466689008#32) + wd (res_main_call0_call0_v73 V0) i :=
  wd_sum i _ _ _ _ (key2 V0)
theorem s2 (h6 : wd (res_main_call0_call0_v6 V0) i = 0#32 + ctr V0 i) :
    wd (res_main_call0_call0_v74 V0) i = (st2 (ctr V0 i)).1 + (st2 (ctr V0 i)).2 ∧ wd (res_main_call0_call0_v73 V0) i = (st2 (ctr V0 i)).2 := by
  have e := r2 V0 i h6
  have q : st2 (ctr V0 i) = (wd (res_main_call0_call0_v61 V0) i + 466689008#32, wd (res_main_call0_call0_v73 V0) i) := by
    rw [m73]
    unfold st2
    rw [e]
    rfl
  rw [q]
  exact ⟨m74 V0 i, rfl⟩
theorem m80 : wd (res_main_call0_call0_v80 V0) i = wd (res_main_call0_call0_v74 V0) i ^^^ turn 13#32 19#32 (wd (res_main_call0_call0_v73 V0) i) :=
  wd_mix i 13#32 19#32 (by decide) (by decide) _ _
theorem m81 : wd (res_main_call0_call0_v81 V0) i = wd (res_main_call0_call0_v74 V0) i + wd (res_main_call0_call0_v80 V0) i := rfl
theorem m87 : wd (res_main_call0_call0_v87 V0) i = wd (res_main_call0_call0_v81 V0) i ^^^ turn 15#32 17#32 (wd (res_main_call0_call0_v80 V0) i) :=
  wd_mix i 15#32 17#32 (by decide) (by decide) _ _
theorem m88 : wd (res_main_call0_call0_v88 V0) i = wd (res_main_call0_call0_v81 V0) i + wd (res_main_call0_call0_v87 V0) i := rfl
theorem m94 : wd (res_main_call0_call0_v94 V0) i = wd (res_main_call0_call0_v88 V0) i ^^^ turn 26#32 6#32 (wd (res_main_call0_call0_v87 V0) i) :=
  wd_mix i 26#32 6#32 (by decide) (by decide) _ _
theorem m95 : wd (res_main_call0_call0_v95 V0) i = wd (res_main_call0_call0_v88 V0) i + wd (res_main_call0_call0_v94 V0) i := rfl
theorem r3 (h6 : wd (res_main_call0_call0_v6 V0) i = 0#32 + ctr V0 i) : even1 (st2 (ctr V0 i)) = (wd (res_main_call0_call0_v95 V0) i, wd (res_main_call0_call0_v95 V0) i ^^^ turn 6#32 26#32 (wd (res_main_call0_call0_v94 V0) i)) :=
  grp_even (st2 (ctr V0 i)).1 (st2 (ctr V0 i)).2 _ _ _ _ _ _ _ (s2 V0 i h6).1 ((m80 V0 i).trans (by rw [(s2 V0 i h6).2])) (m81 V0 i) (m87 V0 i) (m88 V0 i) (m94 V0 i) (m95 V0 i)
theorem m107 : wd (res_main_call0_call0_v107 V0) i = (wd (res_main_call0_call0_v95 V0) i ^^^ turn 6#32 26#32 (wd (res_main_call0_call0_v94 V0) i)) + 42#32 + 3#32 :=
  wd_inj i 6#32 26#32 _ _ (by decide) (by decide) _ _ _ (key1 V0)
theorem m108 : wd (res_main_call0_call0_v108 V0) i = (wd (res_main_call0_call0_v95 V0) i + 0#32) + wd (res_main_call0_call0_v107 V0) i :=
  wd_sum i _ _ _ _ (key0 V0)
theorem s3 (h6 : wd (res_main_call0_call0_v6 V0) i = 0#32 + ctr V0 i) :
    wd (res_main_call0_call0_v108 V0) i = (st3 (ctr V0 i)).1 + (st3 (ctr V0 i)).2 ∧ wd (res_main_call0_call0_v107 V0) i = (st3 (ctr V0 i)).2 := by
  have e := r3 V0 i h6
  have q : st3 (ctr V0 i) = (wd (res_main_call0_call0_v95 V0) i + 0#32, wd (res_main_call0_call0_v107 V0) i) := by
    rw [m107]
    unfold st3
    rw [e]
    rfl
  rw [q]
  exact ⟨m108 V0 i, rfl⟩
theorem m114 : wd (res_main_call0_call0_v114 V0) i = wd (res_main_call0_call0_v108 V0) i ^^^ turn 17#32 15#32 (wd (res_main_call0_call0_v107 V0) i) :=
  wd_mix i 17#32 15#32 (by decide) (by decide) _ _
theorem m115 : wd (res_main_call0_call0_v115 V0) i = wd (res_main_call0_call0_v108 V0) i + wd (res_main_call0_call0_v114 V0) i := rfl
theorem m121 : wd (res_main_call0_call0_v121 V0) i = wd (res_main_call0_call0_v115 V0) i ^^^ turn 29#32 3#32 (wd (res_main_call0_call0_v114 V0) i) :=
  wd_mix i 29#32 3#32 (by decide) (by decide) _ _
theorem m122 : wd (res_main_call0_call0_v122 V0) i = wd (res_main_call0_call0_v115 V0) i + wd (res_main_call0_call0_v121 V0) i := rfl
theorem m128 : wd (res_main_call0_call0_v128 V0) i = wd (res_main_call0_call0_v122 V0) i ^^^ turn 16#32 16#32 (wd (res_main_call0_call0_v121 V0) i) :=
  wd_mix i 16#32 16#32 (by decide) (by decide) _ _
theorem m129 : wd (res_main_call0_call0_v129 V0) i = wd (res_main_call0_call0_v122 V0) i + wd (res_main_call0_call0_v128 V0) i := rfl
theorem r4 (h6 : wd (res_main_call0_call0_v6 V0) i = 0#32 + ctr V0 i) : odd1 (st3 (ctr V0 i)) = (wd (res_main_call0_call0_v129 V0) i, wd (res_main_call0_call0_v129 V0) i ^^^ turn 24#32 8#32 (wd (res_main_call0_call0_v128 V0) i)) :=
  grp_odd (st3 (ctr V0 i)).1 (st3 (ctr V0 i)).2 _ _ _ _ _ _ _ (s3 V0 i h6).1 ((m114 V0 i).trans (by rw [(s3 V0 i h6).2])) (m115 V0 i) (m121 V0 i) (m122 V0 i) (m128 V0 i) (m129 V0 i)
theorem m141 : wd (res_main_call0_call0_v141 V0) i = (wd (res_main_call0_call0_v129 V0) i ^^^ turn 24#32 8#32 (wd (res_main_call0_call0_v128 V0) i)) + 466689008#32 + 4#32 :=
  wd_inj i 24#32 8#32 _ _ (by decide) (by decide) _ _ _ (key2 V0)
theorem m142 : wd (res_main_call0_call0_v142 V0) i = (wd (res_main_call0_call0_v129 V0) i + 42#32) + wd (res_main_call0_call0_v141 V0) i :=
  wd_sum i _ _ _ _ (key1 V0)
theorem s4 (h6 : wd (res_main_call0_call0_v6 V0) i = 0#32 + ctr V0 i) :
    wd (res_main_call0_call0_v142 V0) i = (st4 (ctr V0 i)).1 + (st4 (ctr V0 i)).2 ∧ wd (res_main_call0_call0_v141 V0) i = (st4 (ctr V0 i)).2 := by
  have e := r4 V0 i h6
  have q : st4 (ctr V0 i) = (wd (res_main_call0_call0_v129 V0) i + 42#32, wd (res_main_call0_call0_v141 V0) i) := by
    rw [m141]
    unfold st4
    rw [e]
    rfl
  rw [q]
  exact ⟨m142 V0 i, rfl⟩
theorem m148 : wd (res_main_call0_call0_v148 V0) i = wd (res_main_call0_call0_v142 V0) i ^^^ turn 13#32 19#32 (wd (res_main_call0_call0_v141 V0) i) :=
  wd_mix i 13#32 19#32 (by decide) (by decide) _ _
theorem m149 : wd (res_main_call0_call0_v149 V0) i = wd (res_main_call0_call0_v142 V0) i + wd (res_main_call0_call0_v148 V0) i := rfl
theorem m155 : wd (res_main_call0_call0_v155 V0) i = wd (res_main_call0_call0_v149 V0) i ^^^ turn 15#32 17#32 (wd (res_main_call0_call0_v148 V0) i) :=
  wd_mix i 15#32 17#32 (by decide) (by decide) _ _
theorem m156 : wd (res_main_call0_call0_v156 V0) i = wd (res_main_call0_call0_v149 V0) i + wd (res_main_call0_call0_v155 V0) i := rfl
theorem m162 : wd (res_main_call0_call0_v162 V0) i = wd (res_main_call0_call0_v156 V0) i ^^^ turn 26#32 6#32 (wd (res_main_call0_call0_v155 V0) i) :=
  wd_mix i 26#32 6#32 (by decide) (by decide) _ _
theorem m163 : wd (res_main_call0_call0_v163 V0) i = wd (res_main_call0_call0_v156 V0) i + wd (res_main_call0_call0_v162 V0) i := rfl
theorem r5 (h6 : wd (res_main_call0_call0_v6 V0) i = 0#32 + ctr V0 i) : even1 (st4 (ctr V0 i)) = (wd (res_main_call0_call0_v163 V0) i, wd (res_main_call0_call0_v163 V0) i ^^^ turn 6#32 26#32 (wd (res_main_call0_call0_v162 V0) i)) :=
  grp_even (st4 (ctr V0 i)).1 (st4 (ctr V0 i)).2 _ _ _ _ _ _ _ (s4 V0 i h6).1 ((m148 V0 i).trans (by rw [(s4 V0 i h6).2])) (m149 V0 i) (m155 V0 i) (m156 V0 i) (m162 V0 i) (m163 V0 i)

/-- The reference's word is the generator's word for the index's counter. -/
theorem word_draw (h6 : wd (res_main_call0_call0_v6 V0) i = 0#32 + ctr V0 i) :
    wd (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) i
      = draw (ctr V0 i) := by
  refine (congrArg₂ (· ^^^ ·) (congrArg₂ (· + ·) rfl (wd_spread i _ _ (key2 V0))) (wd_inj i 6#32 26#32 _ _ (by decide) (by decide) _ _ _ (key0 V0))).trans ?_
  unfold draw st5
  rw [r5 V0 i h6]
  rfl

/-- An index's position in row-major order. -/
def pos (i : S128x100000.Idx) : Nat := 100000 * (i 0).val + (i 1).val

omit [FloatOps F] in
theorem pos_lt : pos i < 12800000 := by
  have h0 : (i 0).val < 128 := (i 0).isLt
  have h1 : (i 1).val < 100000 := (i 1).isLt
  unfold pos
  omega

/-- The 64-bit word of a tensor of words at an index. -/
def wl (x : IVec S128x100000 64) (i : S128x100000.Idx) : BitVec 64 := x i

theorem pos64 : wl (res_main_call0_v14 V0) i = BitVec.ofNat 64 (pos i) := by
  show 100000#64 * BitVec.ofNat 64 (i 0).val + 1#64 * BitVec.ofNat 64 (i 1).val = _
  apply BitVec.eq_of_toNat_eq
  have h0 : (i 0).val < 128 := (i 0).isLt
  have h1 : (i 1).val < 100000 := (i 1).isLt
  simp only [BitVec.toNat_add, BitVec.toNat_mul, BitVec.toNat_ofNat, pos]
  omega

theorem ctr_eq : ctr V0 i = BitVec.ofNat 32 (pos i + 42) := by
  refine (congrArg₂ (· + ·) (show _ = BitVec.setWidth 32 (wl (res_main_call0_v14 V0) i) from rfl) (wd_spread i _ _ (key1 V0))).trans ?_
  rw [pos64]
  apply BitVec.eq_of_toNat_eq
  have := pos_lt i
  simp only [BitVec.toNat_add, BitVec.toNat_setWidth, BitVec.toNat_ofNat]
  omega

theorem high : wd (res_main_call0_call0_v6 V0) i = 0#32 + ctr V0 i := by
  refine congrArg₂ (· + ·) ?_ (show wd (res_main_call0_call0_v5 V0) i = _ from rfl)
  refine (congrArg₂ (· + ·) (show _ = BitVec.setWidth 32 (IntOp.shrui .host (wl (res_main_call0_v14 V0) i) 32#64) from rfl) (wd_spread i _ _ (key0 V0))).trans ?_
  have e : IntOp.shrui .host (wl (res_main_call0_v14 V0) i) 32#64 = wl (res_main_call0_v14 V0) i >>> (32#64).toNat := if_pos (by decide)
  rw [e, pos64]
  apply BitVec.eq_of_toNat_eq
  have := pos_lt i
  rw [show (32#64).toNat = 32 from rfl]
  simp only [BitVec.toNat_add, BitVec.toNat_setWidth, BitVec.toNat_ofNat, BitVec.toNat_ushiftRight, Nat.shiftRight_eq_div_pow]
  omega

end Reference

end Cert.Value

end

end
-- ==== Proof.Noise.lean ====
module

public import proofs.«01_k».proof.Proof.Bits
public import proofs.«01_k».proof.Proof.Mask
public import Idealize.ShloMosaic.Lib.IdealHost

@[expose] public section

noncomputable section

namespace Cert.Value

open Idealize.ShloMosaic Idealize.ShloMosaic.TcCoe Idealize.ShloMosaic.StableHlo

/-- The uniform number of a generator word. -/
def uni (w : BitVec 32) : EReal := Ideal.ofBits .f32 ((w >>> 9) ||| 1065353216#32) - Ideal.ofBits .f32 0x3F800000#32
/-- The small number that keeps the logarithms finite. -/
def eps : EReal := Ideal.ofBits .f32 0x1E3CE508#32
/-- The Gumbel noise of a counter word. -/
def gum (w : BitVec 32) : EReal := 0 - Ideal.log ((0 - Ideal.log (uni (draw w) + eps)) + eps)

theorem eps_real : ∃ e : ℝ, eps = (e : EReal) ∧ 0 < e ∧ e < 1 / 2 ^ 24 := by
  refine ⟨12379400 * (2 : ℝ) ^ (-90 : Int), ?_, by positivity, ?_⟩
  · simp [eps, Ideal.ofBits, Ideal.ieee, -EReal.coe_mul]
  · norm_num

theorem pattern_nat (w : BitVec 32) : ((w >>> 9) ||| 1065353216#32).toNat = 127 * 2 ^ 23 + (w >>> 9).toNat := by
  have h : (w >>> 9).toNat < 2 ^ 23 := by
    have := w.isLt
    simp only [BitVec.toNat_ushiftRight, Nat.shiftRight_eq_div_pow]
    omega
  have := Nat.shiftLeft_add_eq_or_of_lt h 127
  rw [BitVec.toNat_or, Nat.or_comm]
  exact this.symm

theorem uni_real (w : BitVec 32) : ∃ u : ℝ, uni w = (u : EReal) ∧ 0 ≤ u ∧ u ≤ 1 - 1 / 2 ^ 23 := by
  have hn := pattern_nat w
  have h : (w >>> 9).toNat < 2 ^ 23 := by
    have := w.isLt
    simp only [BitVec.toNat_ushiftRight, Nat.shiftRight_eq_div_pow]
    omega
  generalize hp : (w >>> 9) ||| 1065353216#32 = p at hn
  generalize hk : (w >>> 9).toNat = k at hn h
  have e1 : (p.extractLsb' (8 + 23) 1 == 1#1) = false := by
    have : p.extractLsb' (8 + 23) 1 = 0#1 := by
      apply BitVec.eq_of_toNat_eq
      simp only [BitVec.extractLsb'_toNat, hn, Nat.shiftRight_eq_div_pow, BitVec.toNat_ofNat]
      omega
    rw [this]
    rfl
  have e2 : (p.extractLsb' 23 8).toNat = 127 := by
    simp only [BitVec.extractLsb'_toNat, hn, Nat.shiftRight_eq_div_pow]
    omega
  have e3 : (p.extractLsb' 0 23).toNat = k := by
    simp only [BitVec.extractLsb'_toNat, hn, Nat.shiftRight_eq_div_pow]
    omega
  refine ⟨k * (1 / 2 ^ 23), ?_, by positivity, ?_⟩
  · unfold uni
    rw [hp, Ideal.ofBits_one_f32]
    show Ideal.ieee 8 23 p - 1 = _
    unfold Ideal.ieee
    simp only [e1, e2, e3]
    rw [if_neg (by decide), if_neg (by decide), ← EReal.coe_one, ← EReal.coe_sub]
    congr 1
    push_cast
    norm_num
    ring
  · have : (k : ℝ) ≤ 2 ^ 23 - 1 := by
      have h' : k + 1 ≤ 2 ^ 23 := h
      have : ((k + 1 : ℕ) : ℝ) ≤ ((2 ^ 23 : ℕ) : ℝ) := Nat.cast_le.2 h'
      push_cast at this
      linarith
    linarith

theorem gum_real (w : BitVec 32) : ∃ g : ℝ, gum w = (g : EReal) := by
  obtain ⟨e, he, e0, e1⟩ := eps_real
  obtain ⟨u, hu, u0, u1⟩ := uni_real (draw w)
  unfold gum
  rw [hu, he, ← EReal.coe_add, Ideal.log_coe, if_neg (by linarith), ← EReal.coe_zero, ← EReal.coe_sub, ← EReal.coe_add, Ideal.log_coe]
  have hl : Real.log (u + e) ≤ 0 := Real.log_nonpos (by linarith) (by norm_num at *; linarith)
  rw [if_neg (by linarith), ← EReal.coe_sub]
  exact ⟨_, rfl⟩

section Kernel
open Cert.KernelIdeal Cert.KernelIdeal.Own Cert.KernelIdeal.Gen

/-- The rows. -/
def rows : IVec S128x128 32 := iota .tc S128x128 32 [0] iota_S128x128_d0_w32

theorem rows_apply (i : S128x128.Idx) : rows i = BitVec.ofNat 32 (i 0).val := by
  show iota .tc S128x128 32 [0] _ i = _
  simp [iota]

theorem seed_at (a : BitVec 32) (i : S128x128.Idx) : seed a i = ((rows i * 100000#32 + lanes i) + a * 2048#32) + 42#32 := rfl

theorem seed_word (j : ℕ) (k : Fin 16) (i : S128x128.Idx) :
    seed (BitVec.ofNat 32 j) i + BitVec.ofNat 32 (128 * k.val) = BitVec.ofNat 32 (100000 * (i 0).val + (2048 * j + 128 * k.val + (i 1).val) + 42) := by
  rw [seed_at, lanes_apply, rows_apply]
  apply BitVec.eq_of_toNat_eq
  simp only [BitVec.toNat_add, BitVec.toNat_mul, BitVec.toNat_ofNat]
  omega

theorem uni_at (p : St) (i : S128x128.Idx) : (unitOf (F := Ideal) p i : EReal) = uni (p.1 i ^^^ p.2 i) := by
  have e2 : ∀ x : BitVec 32, IntOp.shrui .vector x 9#32 = x >>> 9 := fun x => if_pos (by decide)
  unfold uni
  rw [← e2]
  rfl

theorem unit_at (s : IVec S128x128 32) (k : Fin 16) (i : S128x128.Idx) :
    (unitAt (F := Ideal) s k i : EReal) = uni (draw (s i + BitVec.ofNat 32 (128 * k.val))) := by
  unfold unitAt
  rw [uni_at]
  have hm := at1_mix (addi s (broadcast S128x128 (BitVec.ofNat 32 (128 * k.val)))) i
  have ha : addi s (broadcast S128x128 (BitVec.ofNat 32 (128 * k.val))) i = s i + BitVec.ofNat 32 (128 * k.val) := rfl
  rw [ha] at hm
  unfold draw
  rw [← hm]
  unfold at1
  rfl

theorem noisy_at (x u : FVec Ideal S128x128 .f32) (i : S128x128.Idx) :
    (noisy x u i : EReal) = (x i : EReal) + (Ideal.ofBits .f32 0x00000000#32 - Ideal.log ((Ideal.ofBits .f32 0x00000000#32 - Ideal.log ((u i : EReal) + eps)) + eps)) := rfl

/-- A chunk's noisy entry: the entry plus the noise of its counter. -/
theorem noisy_apply (j : ℕ) (k : Fin 16) (x : FVec Ideal S128x128 .f32) (i : S128x128.Idx) :
    (noisy x (unitAt (seed (BitVec.ofNat 32 j)) k) i : EReal)
      = (x i : EReal) + gum (BitVec.ofNat 32 (100000 * (i 0).val + (2048 * j + 128 * k.val + (i 1).val) + 42)) := by
  rw [noisy_at, unit_at, seed_word, Ideal.ofBits_zero_f32]
  unfold gum
  rfl

end Kernel

section Reference
open Cert.ReferenceIdeal Cert.ReferenceIdeal.Gen Cert.ReferenceIdeal.Value

variable (V0 : Valuation τ sig (Elt Ideal)) (i : S128x100000.Idx)

/-- The reference's argument. -/
def argR : FVec Ideal S128x100000 .f32 := V0 (Proc.devRef .tc main_arg0)
/-- The reference's noisy tensor. -/
def noisyR : FVec Ideal S128x100000 .f32 := res_main_v18 V0

theorem div_one (x : EReal) : Ideal.div x (Ideal.ofBits .f32 0x3F800000#32) = x := by
  rw [Ideal.ofBits_one_f32, ← EReal.coe_one, Ideal.div_coe one_ne_zero]
  simp

/-- The noisy tensor made of the argument and the generator's words. -/
def noisyT (x : FVec Ideal S128x100000 .f32) (w : IVec S128x100000 32) : FVec Ideal S128x100000 .f32 :=
  Host.divf (addf x (Host.negf (Host.log (addf (Host.negf (Host.log (addf (maximumf (broadcastInDim S128x100000 ![0, 1] bcast_S1x1_S128x100000_0_1 (broadcastInDim S1x1 ![] bcast_S_S1x1 (id (constant S_ .f32 0x00000000#32)))) (addf (mulf (subf (bitcastToFloat (F := Ideal) .f32 (ori (Host.shrui w (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (broadcastInDim S1x1 ![] bcast_S_S1x1 (id (constant S_ .f32 0x00000000#32)))))) (broadcastInDim S128x100000 ![0, 1] bcast_S1x1_S128x100000_0_1 (broadcastInDim S1x1 ![] bcast_S_S1x1 (id (constant S_ .f32 0x00000000#32)))))) (broadcastInDim S128x100000 ![] bcast_S_S128x100000 (constant S_ .f32 0x1E3CE508#32))))) (broadcastInDim S128x100000 ![] bcast_S_S128x100000 (constant S_ .f32 0x1E3CE508#32)))))) (broadcastInDim S128x100000 ![] bcast_S_S128x100000 (constant S_ .f32 0x3F800000#32))

theorem noisyT_at (x : FVec Ideal S128x100000 .f32) (w : IVec S128x100000 32) :
    (noisyT x w i : EReal) = Ideal.div ((x i : EReal) + (-Ideal.log (-Ideal.log (max (Ideal.ofBits .f32 0x00000000#32) (((Ideal.ofBits .f32 (IntOp.shrui .host (w i) 9#32 ||| 1065353216#32) - Ideal.ofBits .f32 0x3F800000#32) * (Ideal.ofBits .f32 0x3F800000#32 - Ideal.ofBits .f32 0x00000000#32)) + Ideal.ofBits .f32 0x00000000#32) + eps) + eps)))
      (Ideal.ofBits .f32 0x3F800000#32) := rfl

theorem noisyT_apply (x : FVec Ideal S128x100000 .f32) (w : IVec S128x100000 32) (c : BitVec 32) (hw : w i = draw c) :
    (noisyT x w i : EReal) = (x i : EReal) + gum c := by
  obtain ⟨u, hu, u0, u1⟩ := uni_real (draw c)
  have e2 : ∀ x : BitVec 32, IntOp.shrui .host x 9#32 = x >>> 9 := fun x => if_pos (by decide)
  rw [noisyT_at, div_one, hw, e2]
  have hmax : max (Ideal.ofBits .f32 0x00000000#32) ((Ideal.ofBits .f32 (draw c >>> 9 ||| 1065353216#32) - Ideal.ofBits .f32 0x3F800000#32) * (Ideal.ofBits .f32 0x3F800000#32 - Ideal.ofBits .f32 0x00000000#32) + Ideal.ofBits .f32 0x00000000#32) = uni (draw c) := by
    change max _ (uni (draw c) * _ + _) = _
    rw [Ideal.ofBits_zero_f32, Ideal.ofBits_one_f32, sub_zero, mul_one, add_zero, hu]
    exact max_eq_right (by exact_mod_cast u0)
  rw [hmax]
  unfold gum
  rw [zero_sub, zero_sub]

theorem noisyR_apply : (noisyR V0 i : EReal) = (argR V0 i : EReal) + gum (BitVec.ofNat 32 (pos i + 42)) := by
  have hw := word_draw V0 i (high V0 i)
  rw [ctr_eq] at hw
  unfold noisyR res_main_v18 res_main_call0_v2
  exact noisyT_apply i (argR V0) _ _ hw

end Reference

end Cert.Value

end

end
-- ==== Proof.First.lean ====
module

public import proofs.«01_k».proof.ReferenceIdeal
public import Idealize.ShloMosaic.PureOps.Ideal.Laws

@[expose] public section

noncomputable section

namespace Cert.Value

open Idealize.ShloMosaic

/-- `k` is the first place where `f` is greatest. -/
def First {n : ℕ} (f : Fin n → EReal) (k : Fin n) : Prop := (∀ l, f l ≤ f k) ∧ ∀ l, f l = f k → k ≤ l

variable {n : ℕ} {f g : Fin n → EReal} {k k' : Fin n}

/-- There is at most one. -/
theorem First.unique (h : First f k) (h' : First f k') : k = k' :=
  have e : f k = f k' := le_antisymm (h'.1 k) (h.1 k')
  le_antisymm (h.2 k' e.symm) (h'.2 k e)

/-- It depends on the order of the values alone. -/
theorem First.congr (h : ∀ k l, f k ≤ f l ↔ g k ≤ g l) (hf : First f k) : First g k :=
  ⟨fun l => (h l k).1 (hf.1 l), fun l e => hf.2 l (le_antisymm ((h l k).2 e.le) ((h k l).2 e.ge))⟩

/-- A sum of reals is the same among the extended reals. -/
theorem coe_sum {ι : Type} (s : Finset ι) (r : ι → ℝ) : ((∑ i ∈ s, r i : ℝ) : EReal) = ∑ i ∈ s, (r i : EReal) := by
  induction s using Finset.cons_induction with
  | empty => simp
  | cons a s ha ih => rw [Finset.sum_cons, Finset.sum_cons, EReal.coe_add, ih]

/-- The weight of an entry against the row's maximum `M`, a real number. -/
def weight (M : ℝ) (y : EReal) : ℝ := if y = ⊥ then 0 else Real.exp (y.toReal - M)

theorem weight_nonneg (M : ℝ) (y : EReal) : 0 ≤ weight M y := by
  unfold weight; split
  · exact le_refl _
  · exact (Real.exp_pos _).le

theorem exp_sub (M : ℝ) (y : EReal) (h : y ≠ ⊤) : Ideal.exp (y - M) = (weight M y : EReal) := by
  induction y using EReal.rec with
  | bot => simp [weight, Ideal.exp_bot]
  | top => exact absurd rfl h
  | coe r =>
    rw [← EReal.coe_sub, Ideal.exp_coe]
    simp [weight]

theorem weight_le (M : ℝ) (y z : EReal) (hy : y ≠ ⊤) (hz : z ≠ ⊤) : weight M y ≤ weight M z ↔ y ≤ z := by
  induction y using EReal.rec with
  | bot => simpa [weight] using weight_nonneg M z
  | top => exact absurd rfl hy
  | coe r =>
    induction z using EReal.rec with
    | bot => simpa [weight] using Real.exp_pos _
    | top => exact absurd rfl hz
    | coe q => simp [weight]

/-- The softmax of a row that has a greatest entry `M`, a real: every entry of it is real, and it keeps the order. -/
theorem softmax_row (y : Fin n → EReal) (M : ℝ) (ht : ∀ k, y k ≠ ⊤) (hM : ∃ k, y k = M) :
    (∀ k, ∃ r : ℝ, Ideal.div (Ideal.exp (y k - M)) (0 + ∑ l, Ideal.exp (y l - M)) = r) ∧
    (∀ k l, y k ≤ y l ↔ Ideal.div (Ideal.exp (y k - M)) (0 + ∑ l, Ideal.exp (y l - M))
      ≤ Ideal.div (Ideal.exp (y l - M)) (0 + ∑ l, Ideal.exp (y l - M))) ∧
    (∀ k, ⊥ < Ideal.div (Ideal.exp (y k - M)) (0 + ∑ l, Ideal.exp (y l - M))) := by
  have hS : (0 : EReal) + ∑ l, Ideal.exp (y l - M) = ((∑ l, weight M (y l) : ℝ) : EReal) := by
    rw [zero_add, coe_sum]
    exact Finset.sum_congr rfl fun l _ => exp_sub M (y l) (ht l)
  have hpos : 0 < ∑ l, weight M (y l) := by
    obtain ⟨k, hk⟩ := hM
    refine Finset.sum_pos' (fun l _ => weight_nonneg M (y l)) ⟨k, Finset.mem_univ _, ?_⟩
    rw [hk]; simp [weight]
  have hs : ∀ k, Ideal.div (Ideal.exp (y k - M)) (0 + ∑ l, Ideal.exp (y l - M)) = ((weight M (y k) * (1 / ∑ l, weight M (y l)) : ℝ) : EReal) := by
    intro k
    rw [hS, exp_sub M (y k) (ht k), Ideal.div_coe hpos.ne', ← EReal.coe_mul]
  refine ⟨fun k => ⟨_, hs k⟩, fun k l => ?_, fun k => ?_⟩
  · rw [hs k, hs l, EReal.coe_le_coe_iff, mul_le_mul_iff_of_pos_right (one_div_pos.mpr hpos), weight_le M _ _ (ht k) (ht l)]
  · rw [hs k]; exact EReal.bot_lt_coe _

/-- One pair of value and index stands behind another. -/
def Behind (p r : EReal × BitVec 32) : Prop := p.1 < r.1 ∨ p.1 = r.1 ∧ r.2.toInt ≤ p.2.toInt

theorem Behind.refl (p : EReal × BitVec 32) : Behind p p := .inr ⟨rfl, le_refl _⟩
theorem Behind.trans {p q r : EReal × BitVec 32} (h : Behind p q) (h' : Behind q r) : Behind p r := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The reducer of the reference's argmax picks one of its two pairs, and both stand behind it. -/
theorem reducer_pick (a b : EReal × BitVec 32) :
    (Cert.ReferenceIdeal.reducer_argmax_f32_i32 (F := Ideal) a b = a ∨ Cert.ReferenceIdeal.reducer_argmax_f32_i32 (F := Ideal) a b = b)
    ∧ Behind a (Cert.ReferenceIdeal.reducer_argmax_f32_i32 (F := Ideal) a b) ∧ Behind b (Cert.ReferenceIdeal.reducer_argmax_f32_i32 (F := Ideal) a b) := by
  obtain ⟨x, i⟩ := a
  obtain ⟨y, k⟩ := b
  have e : Cert.ReferenceIdeal.reducer_argmax_f32_i32 (F := Ideal) (x, i) (y, k)
      = if y < x then (x, i) else if x = y ∧ i.toInt < k.toInt then (x, i) else (y, k) := by
    show (Scalar.select (IntOp.ori (BitVec.ofBool (decide (y < x))) (BitVec.ofBool (decide (x ≠ x)))) x y,
      Scalar.select (IntOp.ori (IntOp.ori (BitVec.ofBool (decide (y < x))) (BitVec.ofBool (decide (x ≠ x))))
        (IntOp.andi (BitVec.ofBool (decide (x = y))) (BitVec.ofBool (i.slt k)))) i k) = _
    rw [BitVec.slt_eq_decide]
    by_cases h1 : y < x <;> by_cases h2 : x = y <;> by_cases h3 : i.toInt < k.toInt <;>
      simp [h1, h2, h3, Scalar.select, IntOp.ori, IntOp.andi]
  rw [e]
  rcases lt_trichotomy y x with h | h | h
  · rw [if_pos h]; exact ⟨.inl rfl, .refl _, .inl h⟩
  · subst h
    rw [if_neg (lt_irrefl _)]
    by_cases hi : i.toInt < k.toInt
    · rw [if_pos ⟨rfl, hi⟩]; exact ⟨.inl rfl, .refl _, .inr ⟨rfl, hi.le⟩⟩
    · rw [if_neg fun h => hi h.2]; exact ⟨.inr rfl, .inr ⟨rfl, not_lt.mp hi⟩, .refl _⟩
  · rw [if_neg h.not_gt, if_neg fun h' => h.ne h'.1]; exact ⟨.inr rfl, .inl h, .refl _⟩

/-- So a fold of it ends at its start or in the list, and all of these stand behind its end. -/
theorem foldl_pick : ∀ (l : List (EReal × BitVec 32)) (a : EReal × BitVec 32),
    (l.foldl (Cert.ReferenceIdeal.reducer_argmax_f32_i32 (F := Ideal)) a = a ∨ l.foldl (Cert.ReferenceIdeal.reducer_argmax_f32_i32 (F := Ideal)) a ∈ l)
    ∧ Behind a (l.foldl (Cert.ReferenceIdeal.reducer_argmax_f32_i32 (F := Ideal)) a)
    ∧ ∀ p ∈ l, Behind p (l.foldl (Cert.ReferenceIdeal.reducer_argmax_f32_i32 (F := Ideal)) a)
  | [], a => ⟨.inl rfl, .refl a, fun _ h => absurd h (List.not_mem_nil)⟩
  | b :: l, a => by
    obtain ⟨h1, h2, h3⟩ := foldl_pick l (Cert.ReferenceIdeal.reducer_argmax_f32_i32 (F := Ideal) a b)
    obtain ⟨g1, g2, g3⟩ := reducer_pick a b
    rw [List.foldl_cons]
    refine ⟨?_, g2.trans h2, fun p hp => ?_⟩
    · rcases h1 with h1 | h1
      · rw [h1]
        rcases g1 with g1 | g1
        · exact .inl g1
        right; rw [g1]; exact List.mem_cons_self
      · exact .inr (List.mem_cons_of_mem _ h1)
    · rcases List.mem_cons.mp hp with rfl | hp
      · exact g3.trans h2
      · exact h3 p hp

end Cert.Value

end

end
-- ==== Proof.Lanes.lean ====
module

public import proofs.«01_k».proof.Proof.Noise
public import proofs.«01_k».proof.Proof.First

@[expose] public section

noncomputable section

namespace Cert.Value

open Idealize.ShloMosaic Idealize.ShloMosaic.TcCoe
open Cert.KernelIdeal Cert.KernelIdeal.Own Cert.KernelIdeal.Gen

/-- The index of a row and a column. -/
def ix (r : Fin 128) (c : Fin 100000) : S128x100000.Idx := fun a => match a with | 0 => r | 1 => c

/-- A row's noisy entries. -/
def noisyRow (A : FVec Ideal S128x100000 .f32) (r : Fin 128) (c : Fin 100000) : EReal :=
  (A (ix r c) : EReal) + gum (BitVec.ofNat 32 (100000 * r.val + c.val + 42))
/-- The same at any number, nothing past the last column. -/
def rowY (A : FVec Ideal S128x100000 .f32) (r : Fin 128) (n : ℕ) : EReal := if h : n < 100000 then noisyRow A r ⟨n, h⟩ else ⊥

/-- One lane's step: a strictly greater entry takes the lane. -/
def pickS (f : ℕ → EReal) (p : EReal × BitVec 32) (q : ℕ) : EReal × BitVec 32 := if p.1 < f q then (f q, BitVec.ofNat 32 q) else p

/-- A lane holds the first greatest of its first `Q` entries, or nothing. -/
def Best (f : ℕ → EReal) (Q : ℕ) (p : EReal × BitVec 32) : Prop :=
  (∀ q < Q, f q ≤ p.1) ∧ (p.1 = ⊥ ∨ ∃ q < Q, p.2 = BitVec.ofNat 32 q ∧ p.1 = f q ∧ ∀ q' < q, f q' < p.1)

theorem best_step (f : ℕ → EReal) (Q : ℕ) (p : EReal × BitVec 32) (h : Best f Q p) : Best f (Q + 1) (pickS f p Q) := by
  unfold pickS
  split
  · rename_i hlt
    refine ⟨fun q hq => ?_, .inr ⟨Q, Nat.lt_succ_self Q, rfl, rfl, fun q hq => (h.1 q hq).trans_lt hlt⟩⟩
    rcases Nat.lt_succ_iff_lt_or_eq.1 hq with hq | rfl
    · exact ((h.1 q hq).trans_lt hlt).le
    · exact le_refl _
  · rename_i hle
    refine ⟨fun q hq => ?_, h.2.imp id fun ⟨q, hq, h'⟩ => ⟨q, Nat.lt_succ_of_lt hq, h'⟩⟩
    rcases Nat.lt_succ_iff_lt_or_eq.1 hq with hq | rfl
    · exact h.1 q hq
    · exact not_lt.1 hle

theorem best_fold (f : ℕ → EReal) (b : ℕ) (p : EReal × BitVec 32) (h : Best f b p) :
    ∀ n : ℕ, Best f (b + n) ((List.finRange n).foldl (fun p k => pickS f p (b + k.val)) p)
  | 0 => h
  | n + 1 => by
    rw [List.finRange_succ_last, List.foldl_append, List.foldl_map]
    exact best_step f (b + n) _ (best_fold f b p h n)

/-- A lane's maximum and its chunk. -/
def at2 (st : FVec Ideal S128x128 .f32 × IVec S128x128 32) (i : S128x128.Idx) : EReal × BitVec 32 := (st.1 i, st.2 i)

/-- The entries a lane sees. -/
def seen (A : FVec Ideal S128x100000 .f32) (i : S128x128.Idx) (q : ℕ) : EReal := rowY A (i 0) (128 * q + (i 1).val)

theorem chunk_word (j : ℕ) (k : Fin 16) : Scalar.addi (Scalar.muli (BitVec.ofNat 32 j) 16#32) (BitVec.ofNat 32 k.val) = BitVec.ofNat 32 (16 * j + k.val) := by
  show BitVec.ofNat 32 j * 16#32 + BitVec.ofNat 32 k.val = _
  apply BitVec.eq_of_toNat_eq
  simp only [BitVec.toNat_add, BitVec.toNat_mul, BitVec.toNat_ofNat]
  omega

theorem ogt_iff (a b : FVec Ideal S128x128 .f32) (i : S128x128.Idx) : cmpf .ogt a b i = 1#1 ↔ (b i : EReal) < (a i : EReal) := by
  show BitVec.ofBool (decide ((b i : EReal) < (a i : EReal))) = 1#1 ↔ _
  by_cases h : (b i : EReal) < (a i : EReal)
  · rw [decide_eq_true h]; exact ⟨fun _ => h, fun _ => rfl⟩
  · rw [decide_eq_false h]; exact ⟨fun h' => absurd h' (by decide), fun h' => absurd h' h⟩

theorem read_in (A : FVec Ideal S128x100000 .f32) (j : ℕ) (k : Fin 16) (i : S128x128.Idx) (h : 128 * (16 * j + k.val) + (i 1).val < 100000) :
    rdX (blkAt A j) k i = A (ix (i 0) ⟨128 * (16 * j + k.val) + (i 1).val, h⟩) := by
  have h' : 2048 * j + (128 * k.val + (i 1).val) < 100000 := by omega
  refine (dif_pos h').trans ?_
  refine congrArg A (funext fun a => ?_)
  fin_cases a
  · rfl
  · exact Fin.ext (by show 2048 * j + (128 * k.val + (i 1).val) = 128 * (16 * j + k.val) + (i 1).val; omega)

theorem step_at (A : FVec Ideal S128x100000 .f32) (j : ℕ) (hj : j < 49) (k : Fin 16) (st : FVec Ideal S128x128 .f32 × IVec S128x128 32) (i : S128x128.Idx) :
    at2 (step (BitVec.ofNat 32 j) k st (rdX (blkAt A j) k)) i = pickS (seen A i) (at2 st i) (16 * j + k.val) := by
  have hm := moves_apply j hj k st.1 (rdX (blkAt A j) k) (unitAt (seed (BitVec.ofNat 32 j)) k) i
  rw [ogt_iff, noisy_apply] at hm
  have hs : at2 (step (BitVec.ofNat 32 j) k st (rdX (blkAt A j) k)) i
      = (if moves (BitVec.ofNat 32 j) k st.1 (rdX (blkAt A j) k) (unitAt (seed (BitVec.ofNat 32 j)) k) i = 1#1 then (noisy (rdX (blkAt A j) k) (unitAt (seed (BitVec.ofNat 32 j)) k) i : EReal) else (st.1 i : EReal),
         if moves (BitVec.ofNat 32 j) k st.1 (rdX (blkAt A j) k) (unitAt (seed (BitVec.ofNat 32 j)) k) i = 1#1 then Scalar.addi (Scalar.muli (BitVec.ofNat 32 j) 16#32) (BitVec.ofNat 32 k.val) else st.2 i) := rfl
  rw [hs, chunk_word, noisy_apply]
  have e : 2048 * j + 128 * k.val + (i 1).val = 128 * (16 * j + k.val) + (i 1).val := by omega
  rw [e] at hm ⊢
  unfold pickS
  by_cases hr : 128 * (16 * j + k.val) + (i 1).val < 100000
  · have hy : seen A i (16 * j + k.val) = (rdX (blkAt A j) k i : EReal) + gum (BitVec.ofNat 32 (100000 * (i 0).val + (128 * (16 * j + k.val) + (i 1).val) + 42)) := by
      rw [read_in A j k i hr]
      exact dif_pos hr
    rw [← hy] at hm ⊢
    by_cases hlt : (at2 st i).1 < seen A i (16 * j + k.val)
    · rw [if_pos hlt, if_pos (hm.2 ⟨hlt, hr⟩), if_pos (hm.2 ⟨hlt, hr⟩)]
    · rw [if_neg hlt, if_neg fun h => hlt (hm.1 h).1, if_neg fun h => hlt (hm.1 h).1]
      rfl
  · have hy : seen A i (16 * j + k.val) = ⊥ := dif_neg hr
    rw [hy, if_neg not_lt_bot, if_neg fun h => hr (hm.1 h).2, if_neg fun h => hr (hm.1 h).2]
    rfl

theorem folded_at (A : FVec Ideal S128x100000 .f32) (j : ℕ) (hj : j < 49) (i : S128x128.Idx) :
    ∀ (l : List (Fin 16)) (st : FVec Ideal S128x128 .f32 × IVec S128x128 32),
      at2 (folded (BitVec.ofNat 32 j) (rdX (blkAt A j)) l st) i = l.foldl (fun p k => pickS (seen A i) p (16 * j + k.val)) (at2 st i)
  | [], _ => rfl
  | k :: l, st => by
    show at2 (folded _ _ l (step _ k st _)) i = _
    rw [folded_at A j hj i l, step_at A j hj k st i]
    rfl

theorem point_best (A : FVec Ideal S128x100000 .f32) (j : ℕ) (hj : j < 49) (i : S128x128.Idx) (st : FVec Ideal S128x128 .f32 × IVec S128x128 32)
    (h : Best (seen A i) (16 * j) (at2 st i)) : Best (seen A i) (16 * (j + 1)) (at2 (pointF A j st) i) := by
  unfold pointF
  rw [folded_at A j hj i]
  exact best_fold (seen A i) (16 * j) _ h 16

theorem stored_eq (r : FVec Ideal S128x128 .f32 × IVec S128x128 32) : stored r = r := by
  refine Prod.ext ?_ ?_
  · exact shapeCast_self _ _
  · exact shapeCast_self _ _

theorem ninf : Ideal.ofBits .f32 0xFF800000#32 = ⊥ := by simp [Ideal.ofBits, Ideal.ieee]

theorem start_at (A : FVec Ideal S128x100000 .f32) (i : S128x128.Idx) : at2 (lanesAt A 0) i = (⊥, 0#32) := by
  have e : (lanesAt A 0).1 i = Ideal.ofBits .f32 0xFF800000#32 := rfl
  have e' : (lanesAt A 0).2 i = 0#32 := rfl
  unfold at2
  rw [e, e']
  refine Prod.ext ?_ rfl
  exact ninf

theorem lanes_best (A : FVec Ideal S128x100000 .f32) (i : S128x128.Idx) : ∀ j : ℕ, j < 49 → Best (seen A i) (16 * j) (at2 (lanesAt A j) i)
  | 0, _ => by
    rw [start_at]
    exact ⟨fun q hq => absurd hq (Nat.not_lt_zero _), .inl rfl⟩
  | j + 1, hj => by
    show Best _ _ (at2 (stored (pointF A j (lanesAt A j))) i)
    rw [stored_eq]
    exact point_best A j (by omega) i _ (lanes_best A i j (by omega))

/-- The lanes after the last point. -/
def lastLanes (A : FVec Ideal S128x100000 .f32) : FVec Ideal S128x128 .f32 × IVec S128x128 32 := pointF A 48 (lanesAt A 48)

theorem last_best (A : FVec Ideal S128x100000 .f32) (i : S128x128.Idx) : Best (seen A i) 784 (at2 (lastLanes A) i) :=
  point_best A 48 (by decide) i _ (lanes_best A i 48 (by decide))

/-- The least of some words, read signed. -/
theorem fold_min {ι : Type} (s : Finset ι) (b : BitVec 32) (g : ι → BitVec 32) :
    (s.fold IKind.minsi.op b g = b ∨ ∃ i ∈ s, s.fold IKind.minsi.op b g = g i) ∧ (s.fold IKind.minsi.op b g).toInt ≤ b.toInt
      ∧ ∀ i ∈ s, (s.fold IKind.minsi.op b g).toInt ≤ (g i).toInt := by
  induction s using Finset.cons_induction with
  | empty => exact ⟨.inl rfl, le_refl _, fun i hi => absurd hi (Finset.notMem_empty i)⟩
  | cons a s ha ih =>
    rw [Finset.fold_cons]
    obtain ⟨h1, h2, h3⟩ := ih
    generalize s.fold IKind.minsi.op b g = m at h1 h2 h3
    have hop : IKind.minsi.op (g a) m = if (g a).toInt < m.toInt then g a else m := by
      show IntOp.minsi (g a) m = _
      unfold IntOp.minsi
      simp only [BitVec.slt, decide_eq_true_eq]
    rw [hop]
    split
    · rename_i h
      refine ⟨.inr ⟨a, Finset.mem_cons_self a s, rfl⟩, h.le.trans h2, fun i hi => ?_⟩
      rcases Finset.mem_cons.1 hi with rfl | hi
      · exact le_refl _
      · exact h.le.trans (h3 i hi)
    · rename_i h
      refine ⟨h1.imp id fun ⟨i, hi, e⟩ => ⟨i, Finset.mem_cons_of_mem hi, e⟩, h2, fun i hi => ?_⟩
      rcases Finset.mem_cons.1 hi with rfl | hi
      · exact not_lt.1 h
      · exact h3 i hi

theorem drop_row (i : S128x128.Idx) (r : Fin 128) : reduces_S128x128_S128.drop i = (fun a => match a with | 0 => r : S128.Idx) ↔ i 0 = r := by
  constructor
  · intro h
    exact congrFun h 0
  · intro h
    funext a
    fin_cases a
    exact h

/-- A row's lanes. -/
def rowLanes (r : Fin 128) : Finset S128x128.Idx := Finset.univ.filter fun i => (i 0).val = r.val

theorem mem_rows (r : Fin 128) (i : S128x128.Idx) : i ∈ rowLanes r ↔ i 0 = r := by
  unfold rowLanes
  rw [Finset.mem_filter]
  exact (and_iff_right (Finset.mem_univ i)).trans ⟨fun h => Fin.ext h, fun h => congrArg Fin.val h⟩

theorem filter_drop (r : Fin 128) : (Finset.univ.filter fun i : S128x128.Idx => reduces_S128x128_S128.drop i = (fun a => match a with | 0 => r : S128.Idx)) = rowLanes r :=
  Finset.filter_congr fun i _ => (drop_row i r).trans ⟨fun h => congrArg Fin.val h, fun h => Fin.ext h⟩

/-- A row's greatest lane. -/
def topLane (v : FVec Ideal S128x128 .f32) (r : Fin 128) : EReal := (rowLanes r).fold max ⊥ fun i => (v i : EReal)

theorem row_min (g : IVec S128x128 32) (r : Fin 128) (hr ha) :
    multiReductionI .minsi [1] S128 g 2147483647#32 hr ha (fun a => match a with | 0 => r : S128.Idx) = (rowLanes r).fold IKind.minsi.op 2147483647#32 g := by
  rw [multiReductionI_eq_fold, filter_drop]

theorem row_max (v : FVec Ideal S128x128 .f32) (r : Fin 128) (hr hφ ha) :
    (multiReduction .maximumf [1] S128 v 0xFF800000#32 hr hφ ha (fun a => match a with | 0 => r : S128.Idx) : EReal) = topLane v r := by
  rw [multiReduction_maximumf_eq_fold, filter_drop]
  unfold topLane
  rw [← ninf]
  rfl

theorem col_pos (r : Fin 128) (j : S128x1.Idx) (hj : j 0 = r) : (S128.rowMajor (fun a => match a with | 0 => r : S128.Idx)).val = (S128x1.rowMajor j).val := by
  have h1 : (j 1).val < 1 := (j 1).isLt
  have h0 : (j 0).val = r.val := congrArg Fin.val hj
  rw [Shape.rowMajor_val_one, Shape.rowMajor_val_two]
  show r.val = (j 0).val * 1 + (j 1).val
  omega

/-- The row's maximum, as the kernel spreads it over the lanes. -/
theorem spread_top (v : FVec Ideal S128x128 .f32) (i : S128x128.Idx) (hr hφ ha hc hb) :
    (broadcastTo S128x128 (shapeCast S128x1 (multiReduction .maximumf [1] S128 v 0xFF800000#32 hr hφ ha) hc : FVec Ideal S128x1 .f32) hb i : EReal) = topLane v (i 0) := by
  refine (broadcastTo_apply _ _ i (fun a => match a with | 0 => i 0 | 1 => (⟨0, by decide⟩ : Fin 1) : S128x1.Idx) ?_).trans ?_
  · intro a
    fin_cases a
    · rfl
    · rfl
  refine (shapeCast_apply _ _ _ (fun a => match a with | 0 => i 0 : S128.Idx) (col_pos _ _ rfl)).trans ?_
  exact row_max _ _ _ _ _

theorem pay3_at (v : FVec Ideal S128x128 .f32) (w : IVec S128x128 32) (r : Fin 128) (j : S128x1.Idx) (hj : j 0 = r) :
    k0_pay3 lanes v w j = (rowLanes r).fold IKind.minsi.op 2147483647#32
      (fun i => if (v i : EReal) = topLane v r then w i * 128#32 + BitVec.ofNat 32 (i 1).val else 2147483647#32) := by
  unfold k0_pay3
  refine (congrFun (shapeCast_self _ _) j).trans ?_
  refine (shapeCast_apply _ _ j (fun a => match a with | 0 => r : S128.Idx) (col_pos r j hj)).trans ?_
  refine (row_min _ _ _ _).trans ?_
  refine Finset.fold_congr fun i hi => ?_
  have hi' : i 0 = r := (mem_rows r i).1 hi
  have hs := spread_top v i reduces_S128x128_S128 (.inl rfl) rfl shapeCasts_S128_S128x1 broadcasts_S128x1_S128x128
  rw [hi'] at hs
  rw [← hs, ← lanes_apply]
  have key : ∀ m : EReal, (if BitVec.ofBool (decide ((v i : EReal) = m)) = 1#1 then w i * 128#32 + lanes i else 2147483647#32)
      = if (v i : EReal) = m then w i * 128#32 + lanes i else 2147483647#32 := by
    intro m
    by_cases h : (v i : EReal) = m
    · rw [if_pos h, decide_eq_true h]; rfl
    · rw [if_neg h, decide_eq_false h]; rfl
  exact key _

theorem word_toInt (n : ℕ) (h : n < 2 ^ 31) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]
    omega

theorem lane_word (q l : ℕ) : BitVec.ofNat 32 q * 128#32 + BitVec.ofNat 32 l = BitVec.ofNat 32 (128 * q + l) := by
  apply BitVec.eq_of_toNat_eq
  simp only [BitVec.toNat_add, BitVec.toNat_mul, BitVec.toNat_ofNat]
  omega

/-- The kernel's index of a row is the first place of the row's greatest noisy entry. -/
theorem idx_first (A : FVec Ideal S128x100000 .f32) (r : Fin 128) (k : Fin 100000) (hk : First (noisyRow A r) k) (hb : ⊥ < noisyRow A r k)
    (j : S128x1.Idx) (hj : j 0 = r) : idxRes A j = BitVec.ofNat 32 k.val := by
  have hY : ∀ n, rowY A r n ≤ noisyRow A r k := fun n => by
    unfold rowY
    split
    · exact hk.1 _
    · exact bot_le
  have hF : ∀ n, rowY A r n = noisyRow A r k → k.val ≤ n := fun n => by
    unfold rowY
    split
    · intro h; exact hk.2 _ h
    · intro h; exact absurd h hb.ne
  have hK : rowY A r k.val = noisyRow A r k := dif_pos k.isLt
  have hB := last_best A
  have hs : ∀ i : S128x128.Idx, i 0 = r → ∀ q, seen A i q = rowY A r (128 * q + (i 1).val) := fun i hi q => by
    unfold seen
    rw [hi]
  have hv : ∀ i : S128x128.Idx, i 0 = r → ((lastLanes A).1 i : EReal) ≤ noisyRow A r k := fun i hi => by
    rcases (hB i).2 with h | ⟨q, _, _, h, _⟩
    · exact (show ((lastLanes A).1 i : EReal) = ⊥ from h).le.trans bot_le
    · exact (show ((lastLanes A).1 i : EReal) = _ from h).le.trans ((hs i hi q).le.trans (hY _))
  have hkl : k.val < 100000 := k.isLt
  let i0 : S128x128.Idx := fun a => match a with | 0 => r | 1 => (⟨k.val % 128, Nat.mod_lt _ (by decide)⟩ : Fin 128)
  have hi0 : i0 0 = r := rfl
  have hq0 : seen A i0 (k.val / 128) = noisyRow A r k := by
    rw [hs i0 hi0, ← hK]
    exact congrArg _ (Nat.div_add_mod _ _)
  have hv0 : ((lastLanes A).1 i0 : EReal) = noisyRow A r k :=
    le_antisymm (hv i0 hi0) (hq0.symm.le.trans ((hB i0).1 _ (by omega)))
  have htop : topLane (lastLanes A).1 r = noisyRow A r k := by
    unfold topLane
    refine le_antisymm (Finset.fold_max_le _ |>.2 ⟨bot_le, fun i hi => hv i ((mem_rows r i).1 hi)⟩) (Finset.le_fold_max _ |>.2 (.inr ⟨i0, (mem_rows r i0).2 hi0, hv0.symm.le⟩))
  have hw : ∀ i : S128x128.Idx, i 0 = r → ((lastLanes A).1 i : EReal) = noisyRow A r k →
      ∃ q, q < 784 ∧ (lastLanes A).2 i = BitVec.ofNat 32 q ∧ k.val ≤ 128 * q + (i 1).val ∧ ∀ q' < q, seen A i q' < noisyRow A r k := fun i hi e => by
    rcases (hB i).2 with h | ⟨q, hq, h1, h2, h3⟩
    · exact absurd ((show ((lastLanes A).1 i : EReal) = ⊥ from h).symm.trans e) hb.ne
    · have h2' : ((lastLanes A).1 i : EReal) = seen A i q := h2
      refine ⟨q, hq, h1, hF _ ?_, fun q' h' => ?_⟩
      · rw [← hs i hi, ← h2', e]
      · rw [← e]; exact h3 q' h'
  have hword0 : (lastLanes A).2 i0 * 128#32 + BitVec.ofNat 32 (i0 1).val = BitVec.ofNat 32 k.val := by
    obtain ⟨q, hq, h1, h2, h3⟩ := hw i0 hi0 hv0
    have hle : q ≤ k.val / 128 := by
      by_contra hlt
      exact absurd hq0 (h3 _ (not_le.1 hlt)).ne
    have h2' : k.val ≤ 128 * q + k.val % 128 := h2
    have : q = k.val / 128 := by omega
    rw [h1, lane_word, this]
    exact congrArg _ (Nat.div_add_mod _ _)
  show k0_pay3 lanes (lastLanes A).1 (lastLanes A).2 j = _
  rw [pay3_at _ _ r j hj, htop]
  obtain ⟨h1, h2, h3⟩ := fold_min (rowLanes r) 2147483647#32
    (fun i => if ((lastLanes A).1 i : EReal) = noisyRow A r k then (lastLanes A).2 i * 128#32 + BitVec.ofNat 32 (i 1).val else 2147483647#32)
  have h30 := h3 i0 ((mem_rows r i0).2 hi0)
  generalize (rowLanes r).fold IKind.minsi.op 2147483647#32 (fun i => if ((lastLanes A).1 i : EReal) = noisyRow A r k then (lastLanes A).2 i * 128#32 + BitVec.ofNat 32 (i 1).val else 2147483647#32) = m at h1 h2 h3 h30
  simp only at h30
  rw [if_pos hv0, hword0, word_toInt _ (by omega)] at h30
  have hmax : (2147483647#32).toInt = 2147483647 := by decide
  have hge : (k.val : ℤ) ≤ m.toInt := by
    rcases h1 with h1 | ⟨i, hi, h1⟩
    · rw [h1, hmax]; omega
    · have hi' : i 0 = r := (mem_rows r i).1 hi
      rw [h1]
      simp only
      split
      · rename_i e
        obtain ⟨q, hq, g1, g2, _⟩ := hw i hi' e
        have hl : (i 1).val < 128 := (i 1).isLt
        rw [g1, lane_word, word_toInt _ (by omega)]
        exact_mod_cast g2
      · rw [hmax]; omega
  apply BitVec.eq_of_toInt_eq
  rw [word_toInt _ (by omega)]
  omega

end Cert.Value

end

end
-- ==== Proof.Hot.lean ====
module

public import proofs.«01_k».proof.Proof.Mask
public import proofs.«01_k».proof.Proof.RunMain
public import Idealize.ShloMosaic.PureOps.Ideal.Laws
public import Idealize.ShloMosaic.Lib.Pointwise

@[expose] public section

noncomputable section

namespace Cert.Value

open Idealize.ShloMosaic Idealize.ShloMosaic.TcCoe
open Cert.KernelIdeal Cert.KernelIdeal.Own Cert.KernelIdeal.Gen

/-- A block's first column, from the word, its quotient and its remainder. -/
def baseG (D R v : BitVec 32) : BitVec 32 :=
  Scalar.minsi 99872#32 (Scalar.maxsi 0#32 (Scalar.muli (Scalar.select
    (Scalar.andi (Scalar.cmpi .ne (Scalar.subi (Scalar.extui (Scalar.cmpi .sgt v 0#32)) (Scalar.extui (Scalar.cmpi .slt v 0#32)))
        (Scalar.subi (Scalar.extui (Scalar.cmpi .sgt 128#32 0#32)) (Scalar.extui (Scalar.cmpi .slt 128#32 0#32))))
      (Scalar.cmpi .ne R 0#32))
    (Scalar.subi D 1#32) D) 128#32))

theorem base_eq (v : BitVec 32) : base v = baseG (IntOp.divsi .scalar v 128#32) (IntOp.remsi .scalar v 128#32) v := rfl

theorem small_msb (k : ℕ) (hk : k < 100000) : (BitVec.ofNat 32 k).msb = false := by
  rw [BitVec.msb_eq_false_iff_two_mul_lt, BitVec.toNat_ofNat]
  omega

theorem no_corner (v : BitVec 32) : ¬ IntOp.SDivCorner v 128#32 := by
  rintro (h | ⟨_, h⟩)
  · exact absurd h (by decide)
  · exact absurd h (by decide)

theorem quot (u : ArithUnit) (k : ℕ) (hk : k < 100000) : IntOp.divsi u (BitVec.ofNat 32 k) 128#32 = BitVec.ofNat 32 (k / 128) := by
  unfold IntOp.divsi
  rw [if_neg (no_corner _), BitVec.sdiv_eq, small_msb k hk, show (128#32).msb = false from by decide]
  apply BitVec.eq_of_toNat_eq
  simp only [BitVec.udiv_eq, BitVec.toNat_udiv, BitVec.toNat_ofNat, Nat.reducePow, Nat.reduceMod]
  omega

theorem remn (u : ArithUnit) (k : ℕ) (hk : k < 100000) : IntOp.remsi u (BitVec.ofNat 32 k) 128#32 = BitVec.ofNat 32 (k % 128) := by
  unfold IntOp.remsi
  rw [if_neg (no_corner _), BitVec.srem_eq, small_msb k hk, show (128#32).msb = false from by decide]
  apply BitVec.eq_of_toNat_eq
  simp only [BitVec.umod_eq, BitVec.toNat_umod, BitVec.toNat_ofNat, Nat.reducePow, Nat.reduceMod]
  omega

theorem small_toInt (n : ℕ) (h : n < 2 ^ 31) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]
    omega

theorem base_val (k : ℕ) (hk : k < 100000) :
    (baseG (BitVec.ofNat 32 (k / 128)) (BitVec.ofNat 32 (k % 128)) (BitVec.ofNat 32 k)).toNat = min 99872 (128 * (k / 128)) := by
  have hsel : Scalar.select
    (Scalar.andi (Scalar.cmpi .ne (Scalar.subi (Scalar.extui (Scalar.cmpi .sgt (BitVec.ofNat 32 k) 0#32)) (Scalar.extui (Scalar.cmpi .slt (BitVec.ofNat 32 k) 0#32)))
        (Scalar.subi (Scalar.extui (Scalar.cmpi .sgt 128#32 0#32)) (Scalar.extui (Scalar.cmpi .slt 128#32 0#32))))
      (Scalar.cmpi .ne (BitVec.ofNat 32 (k % 128)) 0#32))
    (Scalar.subi (BitVec.ofNat 32 (k / 128)) 1#32) (BitVec.ofNat 32 (k / 128)) = BitVec.ofNat 32 (k / 128) := by
    have hz : (0#32).toInt = ((0 : ℕ) : ℤ) := rfl
    have h2 : Scalar.cmpi .slt (BitVec.ofNat 32 k) 0#32 = 0#1 := by
      show BitVec.ofBool ((BitVec.ofNat 32 k).slt 0#32) = 0#1
      rw [BitVec.slt, small_toInt k (by omega), hz, decide_eq_false (by omega)]
      rfl
    rw [h2]
    rcases Nat.eq_zero_or_pos k with rfl | hp
    · decide
    · have h1 : Scalar.cmpi .sgt (BitVec.ofNat 32 k) 0#32 = 1#1 := by
        show BitVec.ofBool ((0#32).slt (BitVec.ofNat 32 k)) = 1#1
        rw [BitVec.slt, small_toInt k (by omega), hz, decide_eq_true (by omega)]
        rfl
      rw [h1]
      have h3 : Scalar.cmpi .ne (Scalar.subi (Scalar.extui 1#1) (Scalar.extui 0#1)) (Scalar.subi (Scalar.extui (Scalar.cmpi .sgt 128#32 0#32)) (Scalar.extui (Scalar.cmpi .slt 128#32 0#32))) = 0#1 := by decide
      rw [h3]
      have h4 : ∀ b : BitVec 1, Scalar.andi 0#1 b = 0#1 := by decide
      rw [h4]
      rfl
  unfold baseG
  rw [hsel]
  have hm : Scalar.muli (BitVec.ofNat 32 (k / 128)) 128#32 = BitVec.ofNat 32 (128 * (k / 128)) := by
    show BitVec.ofNat 32 (k / 128) * 128#32 = _
    apply BitVec.eq_of_toNat_eq
    simp only [BitVec.toNat_mul, BitVec.toNat_ofNat]
    omega
  rw [hm]
  have hx : Scalar.maxsi 0#32 (BitVec.ofNat 32 (128 * (k / 128))) = BitVec.ofNat 32 (128 * (k / 128)) := by
    show (if (BitVec.ofNat 32 (128 * (k / 128))).slt 0#32 then 0#32 else _) = _
    rw [BitVec.slt, small_toInt (128 * (k / 128)) (by omega), show (0#32).toInt = 0 from rfl, decide_eq_false (by omega)]
    rfl
  rw [hx]
  show (if (99872#32).slt (BitVec.ofNat 32 (128 * (k / 128))) then 99872#32 else BitVec.ofNat 32 (128 * (k / 128))).toNat = _
  rw [BitVec.slt, small_toInt (128 * (k / 128)) (by omega), show (99872#32).toInt = 99872 from by decide]
  by_cases h : (99872 : ℤ) < ((128 * (k / 128) : ℕ) : ℤ)
  · rw [decide_eq_true h, if_pos rfl, show (99872#32).toNat = 99872 from rfl]
    omega
  · rw [decide_eq_false h, if_neg (by decide), BitVec.toNat_ofNat]
    omega

/-- A row's block holds the column its word names. -/
theorem base_in (k : ℕ) (hk : k < 100000) : (base (BitVec.ofNat 32 k)).toNat ≤ k ∧ k < (base (BitVec.ofNat 32 k)).toNat + 128 := by
  rw [base_eq, quot _ k hk, remn _ k hk, base_val k hk]
  omega

/-- The block of ones and zeros at a lane. -/
theorem pay1_at (f1 : IVec S128x1 32) (i : S128x128.Idx) (j : S128x1.Idx) (hj : j 0 = i 0) :
    (k1_pay1 (F := Ideal) f1 i : EReal) = ((((BitVec.ofBool (BitVec.ofNat 32 (i 1).val == f1 j - baseG (IntOp.divsi .vector (f1 j) 128#32) (IntOp.remsi .vector (f1 j) 128#32) (f1 j))).setWidth 32).toInt : ℝ) : EReal) := by
  have ej : j = (fun a => match a with | 0 => i 0 | 1 => (⟨0, by decide⟩ : Fin 1) : S128x1.Idx) := by
    funext a
    fin_cases a
    · exact hj
    · exact Fin.ext (by have h1 : (j 1).val < 1 := (j 1).isLt; show (j 1).val = 0; omega)
  unfold k1_pay1
  refine (congrFun (shapeCast_self _ _) i).trans ?_
  rw [← lanes_apply]
  have hb : ∀ x : IVec S128x1 32, broadcastTo S128x128 x broadcasts_S128x1_S128x128 i = x j := fun x => by
    rw [ej]
    refine broadcastTo_apply x _ i _ fun a => ?_
    fin_cases a
    · rfl
    · rfl
  have hc : shapeCast S128x1 f1 shapeCasts_S128x1_S128x1 = f1 := shapeCast_self _ _
  rw [hc]
  have key : ∀ w : BitVec 32, w = f1 j - baseG (IntOp.divsi .vector (f1 j) 128#32) (IntOp.remsi .vector (f1 j) 128#32) (f1 j) →
      ((((BitVec.ofBool (lanes i == w)).setWidth 32).toInt : ℝ) : EReal) = ((((BitVec.ofBool (lanes i == f1 j - baseG (IntOp.divsi .vector (f1 j) 128#32) (IntOp.remsi .vector (f1 j) 128#32) (f1 j))).setWidth 32).toInt : ℝ) : EReal) := fun w h => by rw [h]
  exact key _ (hb _)

section
variable (c : Dev nD) (fs : Bf (F := Ideal) c srcM) (fd : Bf (F := Ideal) c dstM)

theorem put_in (r : Fin 128) (v : BitVec 32) (i : S128x100000.Idx) (l : S128x128.Idx) (h0 : i 0 = r) (hl : l 0 = r) (h1 : (i 1).val = (base v).toNat + (l 1).val) :
    putRow c fs fd v r i = fs l := by
  let x : S1x128.Idx := fun a => match a with | 0 => (⟨0, by decide⟩ : Fin 1) | 1 => (l 1 : Fin 128)
  have e : (rowDst dstM r v (chk_all r v)).view.emb x = i := by
    funext a
    fin_cases a
    · exact Fin.ext (by show r.val + 1 * 0 = (i 0).val; rw [h0]; omega)
    · exact Fin.ext (by show (base v).toNat + 1 * (l 1).val = (i 1).val; rw [h1, Nat.one_mul])
  have e' : (rowSrc srcM r).view.emb x = l := by
    funext a
    fin_cases a
    · exact Fin.ext (by show r.val + 1 * 0 = (l 0).val; rw [hl]; omega)
    · exact Fin.ext (by show 0 + 1 * (l 1).val = (l 1).val; omega)
  rw [← e, ← e']
  exact View.write_emb_of_mem _ _ (Finset.mem_univ x)

theorem put_out (r : Fin 128) (v : BitVec 32) (i : S128x100000.Idx) (h : ¬ ((base v).toNat ≤ (i 1).val ∧ (i 1).val < (base v).toNat + 128)) :
    putRow c fs fd v r i = fd i := by
  refine View.write_of_not_mem _ _ _ fun hi => h ?_
  have hi' : i ∈ (rowDst dstM r v (chk_all r v)).view.set := hi
  have hi2 := (View.set_slice_whole main_v1 (Rect.unit (s := S128x100000) (off r v) S1x128.size (chk_all r v).2)) ▸ hi'
  exact (Rect.mem_set_unit).1 hi2 1

theorem word_at (f0 : Bf (F := Ideal) c (Memref.whole cc1_stg0_0)) (r : Fin 128) (j : S128x1.Idx) (hj : j 0 = r) :
    word c (arg0 := Memref.whole cc1_stg0_0) f0 r = f0 j := by
  refine congrArg f0 (funext fun a => ?_)
  fin_cases a
  · exact Fin.ext (by show r.val + 1 * 0 = (j 0).val; rw [hj]; omega)
  · exact Fin.ext (by have h1 : (j 1).val < 1 := (j 1).isLt; show 0 + 1 * 0 = (j 1).val; omega)

/-- A result's entry. -/
def entry (f : FVec Ideal S128x100000 .f32) (i : S128x100000.Idx) : EReal := f i

/-- The scattered rows: one at the column the row's word names, zero elsewhere. -/
theorem scattered_at (f0 : IVec S128x1 32) (i : S128x100000.Idx) (j : S128x1.Idx) (hj : j 0 = i 0) (k : ℕ) (hk : k < 100000)
    (hw : f0 j = BitVec.ofNat 32 k) :
    entry (scattered (F := Ideal) c f0 (k1_pay1 (F := Ideal) f0) (zer c)) i = if (i 1).val = k then 1 else 0 := by
  have hword : word c (arg0 := Memref.whole cc1_stg0_0) f0 (i 0) = BitVec.ofNat 32 k := (word_at c f0 (i 0) j hj).trans hw
  have hbase := base_in k hk
  have hok := base_ok (BitVec.ofNat 32 k)
  have hi : (i 1).val < 100000 := (i 1).isLt
  show putRow c _ _ (word c (arg0 := Memref.whole cc1_stg0_0) f0 (i 0)) (i 0) i = _
  rw [hword]
  by_cases h : (base (BitVec.ofNat 32 k)).toNat ≤ (i 1).val ∧ (i 1).val < (base (BitVec.ofNat 32 k)).toNat + 128
  · let l : S128x128.Idx := fun a => match a with | 0 => (i 0 : Fin 128) | 1 => (⟨(i 1).val - (base (BitVec.ofNat 32 k)).toNat, by omega⟩ : Fin 128)
    refine (put_in c _ _ (i 0) _ i l rfl rfl (by show (i 1).val = (base (BitVec.ofNat 32 k)).toNat + ((i 1).val - (base (BitVec.ofNat 32 k)).toNat); omega)).trans ?_
    refine (pay1_at f0 l j hj).trans ?_
    rw [hw, quot _ k hk, remn _ k hk]
    have hb : (base (BitVec.ofNat 32 k)).toNat = (baseG (BitVec.ofNat 32 (k / 128)) (BitVec.ofNat 32 (k % 128)) (BitVec.ofNat 32 k)).toNat := by
      rw [base_eq, quot _ k hk, remn _ k hk]
    have hl1 : (l 1).val = (i 1).val - (base (BitVec.ofNat 32 k)).toNat := rfl
    rw [hl1, hb]
    rw [hb] at h hbase
    generalize baseG (BitVec.ofNat 32 (k / 128)) (BitVec.ofNat 32 (k % 128)) (BitVec.ofNat 32 k) = b at h hbase
    have hlt := b.isLt
    by_cases hc : (i 1).val = k
    · have : BitVec.ofNat 32 ((i 1).val - b.toNat) = BitVec.ofNat 32 k - b := by
        apply BitVec.eq_of_toNat_eq
        simp only [BitVec.toNat_sub, BitVec.toNat_ofNat]
        omega
      rw [if_pos hc, this, beq_self_eq_true]
      simp
    · have : (BitVec.ofNat 32 ((i 1).val - b.toNat) == BitVec.ofNat 32 k - b) = false := by
        rw [beq_eq_false_iff_ne]
        intro e
        have e' := congrArg BitVec.toNat e
        simp only [BitVec.toNat_sub, BitVec.toNat_ofNat] at e'
        omega
      rw [if_neg hc, this]
      simp
  · rw [if_neg (by omega)]
    refine (put_out c _ _ (i 0) _ i h).trans ?_
    exact Ideal.ofBits_zero_f32

end

end Cert.Value

end

end
-- ==== Proof.Pick.lean ====
module

public import proofs.«01_k».proof.Proof.RefRes
public import proofs.«01_k».proof.Proof.First

@[expose] public section

noncomputable section

namespace Cert.Value

open Idealize.ShloMosaic Idealize.ShloMosaic.TcCoe Idealize.ShloMosaic.StableHlo
open Cert.ReferenceIdeal Cert.ReferenceIdeal.Gen Cert.ReferenceIdeal.Value

/-- The index of a row and a column, and of a row. -/
def ixR (r : Fin 128) (c : Fin 100000) : S128x100000.Idx := fun a => match a with | 0 => r | 1 => c
def rowI (r : Fin 128) : S128.Idx := fun a => match a with | 0 => r

theorem ixR_self (i : S128x100000.Idx) : ixR (i 0) (i 1) = i := by
  funext a
  fin_cases a
  · rfl
  · rfl

/-- The rows' maxima, the exponentials, the softmax, its and the result, of a tensor. -/
def topT (x : FVec Ideal S128x100000 .f32) : FVec Ideal S128 .f32 :=
  maximumf (broadcastInDim S128 ![] bcast_S_S128 (constant S_ .f32 0xFF800000#32)) (Host.reduce FloatOps.maximumf x (constant S_ .f32 0xFF800000#32) reducesTo_S128x100000_S128_d1 h_S_)
def expT (x : FVec Ideal S128x100000 .f32) : FVec Ideal S128x100000 .f32 :=
  Host.exp (subf x (broadcastInDim S128x100000 ![0, 1] bcast_S128x1_S128x100000_0_1 (broadcastInDim S128x1 ![0] bcast_S128_S128x1_0 (topT x))))
def sumT (e : FVec Ideal S128x100000 .f32) : FVec Ideal S128 .f32 := Host.reduceAdd e (constant S_ .f32 0x00000000#32) reducesTo_S128x100000_S128_d1 h_S_
def softT (x : FVec Ideal S128x100000 .f32) : FVec Ideal S128x100000 .f32 :=
  Host.divf (expT x) (broadcastInDim S128x100000 ![0, 1] bcast_S128x1_S128x100000_0_1 (broadcastInDim S128x1 ![0] bcast_S128_S128x1_0 (sumT (expT x))))
def outT (p : IVec S128 32) (s : FVec Ideal S128x100000 .f32) : FVec Ideal S128x100000 .f32 :=
  addf (subf (uitofp .f32 (cmpi .eq (broadcastInDim S128x100000 ![0, 1] bcast_S128x1_S128x100000_0_1 (broadcastInDim S128x1 ![0] bcast_S128_S128x1_0 p)) (broadcastInDim S128x100000 ![0, 1] bcast_S1x100000_S128x100000_0_1 (iotaInDim S1x100000 32 1)))) s) s

/-- A column of one number a row, spread over the rows. -/
theorem spreadR {α : Type} (v : S128.Idx → α) (r : Fin 128) (c : Fin 100000) :
    broadcastInDim S128x100000 ![0, 1] bcast_S128x1_S128x100000_0_1 (broadcastInDim S128x1 ![0] bcast_S128_S128x1_0 v) (ixR r c) = v (rowI r) :=
  congrArg v (funext fun a => by fin_cases a; rfl)

theorem red : S128x100000.Reduces [1] S128 := by decide

theorem lift_eq (r : Fin 128) (c : Fin 100000) : red.lift (rowI r) c = ixR r c := by
  funext a
  fin_cases a
  · rfl
  · rfl

theorem ninfR : Ideal.ofBits .f32 0xFF800000#32 = ⊥ := by simp [Ideal.ofBits, Ideal.ieee]

/-- A row's entries, as extended reals. -/
def rowR (x : FVec Ideal S128x100000 .f32) (r : Fin 128) (c : Fin 100000) : EReal := x (ixR r c)

/-- A row's number, as an extended real. -/
def one (v : FVec Ideal S128 .f32) (r : Fin 128) : EReal := v (rowI r)

def maxT (x : FVec Ideal S128x100000 .f32) : FVec Ideal S128 .f32 :=
  Host.reduce FloatOps.maximumf x (constant S_ .f32 0xFF800000#32) reducesTo_S128x100000_S128_d1 h_S_

theorem fold_at (x : FVec Ideal S128x100000 .f32) (r : Fin 128) :
    (x ∘ red.lift (rowI r) : Fin 100000 → EReal) = rowR x r := funext fun c => congrArg x (lift_eq r c)

theorem max_at (x y : FVec Ideal S128 .f32) (r : Fin 128) : one (maximumf x y) r = max (one x r) (one y r) := rfl

theorem low_at (r : Fin 128) : one (broadcastInDim S128 ![] bcast_S_S128 (constant S_ .f32 0xFF800000#32)) r = ⊥ := ninfR

theorem init_at : (constant (F := Ideal) S_ .f32 0xFF800000#32 (Shape.Idx.first h_S_) : EReal) = ⊥ := ninfR

theorem fold_of (x : FVec Ideal S128x100000 .f32) (r : Fin 128) (b : EReal) (f : Fin 100000 → EReal) (hb : b = ⊥) (hf : f = rowR x r) :
    (Finset.univ : Finset (Fin 100000)).fold max b f = (Finset.univ : Finset (Fin 100000)).fold max ⊥ (rowR x r) := by
  rw [hb, hf]

theorem maxT_at (x : FVec Ideal S128x100000 .f32) (r : Fin 128) :
    one (maxT x) r = (Finset.univ : Finset (Fin 100000)).fold max ⊥ (rowR x r) := by
  have h := Host.reduce_eq_fold_single (FloatOps.maximumf (F := Ideal) (φ := .f32)) x (constant S_ .f32 0xFF800000#32) reducesTo_S128x100000_S128_d1 red h_S_ (rowI r)
  exact h.trans (fold_of x r _ _ init_at (fold_at x r))

theorem topT_at (x : FVec Ideal S128x100000 .f32) (r : Fin 128) :
    one (topT x) r = (Finset.univ : Finset (Fin 100000)).fold max ⊥ (rowR x r) := by
  have h : one (topT x) r = max (one (broadcastInDim S128 ![] bcast_S_S128 (constant S_ .f32 0xFF800000#32)) r) (one (maxT x) r) := max_at _ _ r
  rw [h, maxT_at, low_at]
  exact max_eq_right bot_le

theorem exp_at (x y : FVec Ideal S128x100000 .f32) (r : Fin 128) (c : Fin 100000) :
    rowR (Host.exp (subf x y)) r c = Ideal.exp (rowR x r c - rowR y r c) := rfl

theorem div_at (x y : FVec Ideal S128x100000 .f32) (r : Fin 128) (c : Fin 100000) :
    rowR (Host.divf x y) r c = Ideal.div (rowR x r c) (rowR y r c) := rfl

theorem spread_at (v : FVec Ideal S128 .f32) (r : Fin 128) (c : Fin 100000) :
    rowR (broadcastInDim S128x100000 ![0, 1] bcast_S128x1_S128x100000_0_1 (broadcastInDim S128x1 ![0] bcast_S128_S128x1_0 v)) r c = one v r :=
  spreadR v r c

theorem expT_at (x : FVec Ideal S128x100000 .f32) (r : Fin 128) (c : Fin 100000) :
    rowR (expT x) r c = Ideal.exp (rowR x r c - one (topT x) r) := by
  rw [← spread_at (topT x) r c]
  exact exp_at _ _ r c

theorem sumT_at (e : FVec Ideal S128x100000 .f32) (r : Fin 128) : one (sumT e) r = 0 + ∑ c, rowR e r c := by
  refine (Ideal.hostReduceAdd_single reducesTo_S128x100000_S128_d1 red e _ (rowI r)).trans ?_
  refine congrArg₂ (· + ·) Ideal.ofBits_zero_f32 (Finset.sum_congr rfl fun c _ => congrArg e (lift_eq r c))

theorem softT_at (x : FVec Ideal S128x100000 .f32) (r : Fin 128) (c : Fin 100000) :
    rowR (softT x) r c = Ideal.div (Ideal.exp (rowR x r c - one (topT x) r)) (0 + ∑ l, Ideal.exp (rowR x r l - one (topT x) r)) := by
  have h : rowR (softT x) r c = Ideal.div (rowR (expT x) r c) (one (sumT (expT x)) r) := by
    rw [← spread_at (sumT (expT x)) r c]
    exact div_at _ _ r c
  rw [h, sumT_at, expT_at]
  have e : ∑ l, rowR (expT x) r l = ∑ l, Ideal.exp (rowR x r l - one (topT x) r) := Finset.sum_congr rfl fun l _ => expT_at x r l
  rw [e]

theorem dropR (i : S128x100000.Idx) (r : Fin 128) : reducesTo_S128x100000_S128_d1.drop i = rowI r ↔ i 0 = r := by
  constructor
  · intro h
    exact congrFun h 0
  · intro h
    funext a
    fin_cases a
    exact h

theorem small_int (n : ℕ) (h : n < 100000) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]
    omega

/-- The pairs an argument reduction folds over, at any shapes. -/
theorem fiber_mem {s t : Shape} {axes : List (Fin s.rank)} {α β : Type} (x : s.Idx → α) (y : s.Idx → β) (h : s.ReducesTo axes t) (j : t.Idx) (p : α × β) :
    p ∈ Host.argReduceFiber x y h j ↔ ∃ i : s.Idx, h.drop i = j ∧ p = (x i, y i) := by
  unfold Host.argReduceFiber
  rw [List.mem_map]
  constructor
  · rintro ⟨n, hn, rfl⟩
    exact ⟨s.rowMajor.symm n, of_decide_eq_true (List.mem_filter.1 hn).2, rfl⟩
  · rintro ⟨i, hi, rfl⟩
    refine ⟨s.rowMajor i, List.mem_filter.2 ⟨List.mem_finRange _, ?_⟩, ?_⟩
    · rw [Equiv.symm_apply_apply]
      exact decide_eq_true hi
    · rw [Equiv.symm_apply_apply]

def fib (s : FVec Ideal S128x100000 .f32) (r : Fin 128) : List (EReal × BitVec 32) :=
  Host.argReduceFiber s (iotaInDim S128x100000 32 1) reducesTo_S128x100000_S128_d1 (rowI r)

theorem iota_at (r : Fin 128) (c : Fin 100000) : iotaInDim S128x100000 32 1 (ixR r c) = BitVec.ofNat 32 c.val := rfl

theorem fib_mem (s : FVec Ideal S128x100000 .f32) (r : Fin 128) (p : EReal × BitVec 32) :
    p ∈ fib s r ↔ ∃ c : Fin 100000, p = (rowR s r c, BitVec.ofNat 32 c.val) := by
  refine (fiber_mem s (iotaInDim S128x100000 32 1) reducesTo_S128x100000_S128_d1 (rowI r) p).trans ⟨?_, ?_⟩
  · rintro ⟨i, hi, hp⟩
    have hr := (dropR i r).1 hi
    have hi' : i = ixR r (i 1) := by
      rw [← hr]
      exact (ixR_self i).symm
    refine ⟨i 1, ?_⟩
    rw [hp]
    exact Prod.ext (congrArg s hi') ((congrArg (iotaInDim S128x100000 32 1) hi').trans (iota_at r (i 1)))
  · rintro ⟨c, hp⟩
    exact ⟨ixR r c, (dropR _ r).2 rfl, hp.trans (Prod.ext rfl (iota_at r c).symm)⟩

theorem first_pick (n : ℕ) (hn : n ≤ 100000) (f : Fin n → EReal) (l : List (EReal × BitVec 32)) (hl : ∀ p, p ∈ l ↔ ∃ c : Fin n, p = (f c, BitVec.ofNat 32 c.val))
    (hs : ∀ c, ⊥ < f c) (c0 : Fin n) (b : EReal) (hb : b = ⊥) (w : BitVec 32) :
    ∃ k : Fin n, (l.foldl (reducer_argmax_f32_i32 (F := Ideal)) (b, w)).2 = BitVec.ofNat 32 k.val ∧ First f k := by
  obtain ⟨h1, h2, h3⟩ := foldl_pick l (b, w)
  have hmem : ∀ c, (f c, BitVec.ofNat 32 c.val) ∈ l := fun c => (hl _).2 ⟨c, rfl⟩
  have hle : ∀ c, f c ≤ (l.foldl (reducer_argmax_f32_i32 (F := Ideal)) (b, w)).1 := fun c => by
    rcases h3 _ (hmem c) with h | ⟨h, _⟩
    · exact h.le
    · exact h.le
  have hin : ∃ c : Fin n, l.foldl (reducer_argmax_f32_i32 (F := Ideal)) (b, w) = (f c, BitVec.ofNat 32 c.val) := by
    rcases h1 with h1 | h1
    · exfalso
      have h := (hs c0).trans_le (hle c0)
      rw [h1, hb] at h
      exact lt_irrefl _ h
    · exact (hl _).1 h1
  obtain ⟨k, hk⟩ := hin
  refine ⟨k, congrArg Prod.snd hk, fun c => (hle c).trans (le_of_eq (congrArg Prod.fst hk)), fun m hm => ?_⟩
  have h4 := h3 _ (hmem m)
  rw [hk] at h4
  rcases h4 with h | ⟨_, h⟩
  · exact absurd hm h.ne
  · have h' : (BitVec.ofNat 32 k.val).toInt ≤ (BitVec.ofNat 32 m.val).toInt := h
    have hkl := k.isLt
    have hml := m.isLt
    rw [small_int _ (by omega), small_int _ (by omega)] at h'
    exact Fin.le_def.2 (by omega)

theorem arg_of {s t u : Shape} {axes : List (Fin s.rank)} {β : Type} (f : Ideal .f32 × β → Ideal .f32 × β → Ideal .f32 × β) (x : FVec Ideal s .f32) (y : s.Idx → β)
    (a : u.Idx → Ideal .f32) (b : u.Idx → β) (h : s.ReducesTo axes t) (hu : 0 < u.numel) (j : t.Idx) :
    (Host.argReduce f x y a b h hu j).2 = ((Host.argReduceFiber x y h j).foldl f (a (Shape.Idx.first hu), b (Shape.Idx.first hu))).2 := by
  rw [Ideal.argReduce_eq_reduce2, Host.reduce2_eq_foldl_fiber]

/-- The index the reference's argmax returns is the first place of the row's greatest entry. -/
theorem pick_first (s : FVec Ideal S128x100000 .f32) (r : Fin 128) (hs : ∀ c, ⊥ < rowR s r c) :
    ∃ k : Fin 100000, (Host.argReduce (reducer_argmax_f32_i32 (F := Ideal)) s (iotaInDim S128x100000 32 1) (constant (F := Ideal) S_ .f32 0xFF800000#32) (constantI S_ 32 0#32) reducesTo_S128x100000_S128_d1 h_S_ (rowI r)).2 = BitVec.ofNat 32 k.val ∧ First (rowR s r) k := by
  obtain ⟨k, hk, hf⟩ := first_pick 100000 (Nat.le_refl _) (rowR s r) (fib s r) (fib_mem s r) hs ⟨0, by decide⟩ _ init_at (constantI S_ 32 0#32 (Shape.Idx.first h_S_))
  unfold fib at hk
  refine ⟨k, ?_, hf⟩
  rw [arg_of]
  exact hk

theorem outT_at (p : IVec S128 32) (s : FVec Ideal S128x100000 .f32) (r : Fin 128) (c : Fin 100000) :
    rowR (outT p s) r c = ((((BitVec.ofBool (p (rowI r) == BitVec.ofNat 32 c.val)).toNat : ℝ) : EReal) - rowR s r c) + rowR s r c := by
  rw [← spreadR p r c]
  rfl

/-- A row of the reference's result: one at the first place of the row's greatest entry, zero elsewhere. -/
theorem out_first (x : FVec Ideal S128x100000 .f32) (r : Fin 128) (ht : ∀ c, rowR x r c ≠ ⊤) (hb : ∃ c, ⊥ < rowR x r c) :
    ∃ k : Fin 100000, First (rowR x r) k ∧ ⊥ < rowR x r k ∧ ∀ c, rowR (outT (fun j => (Host.argReduce (reducer_argmax_f32_i32 (F := Ideal)) (softT x) (iotaInDim S128x100000 32 1) (constant (F := Ideal) S_ .f32 0xFF800000#32) (constantI S_ 32 0#32) reducesTo_S128x100000_S128_d1 h_S_ j).2) (softT x)) r c = if c = k then 1 else 0 := by
  obtain ⟨k0, hk0⟩ := Finite.exists_max (rowR x r)
  have htop : one (topT x) r = rowR x r k0 := by
    rw [topT_at]
    refine le_antisymm ((Finset.fold_max_le _).2 ⟨bot_le, fun c _ => hk0 c⟩) ((Finset.le_fold_max _).2 (.inr ⟨k0, Finset.mem_univ _, le_refl _⟩))
  have hbot : ⊥ < rowR x r k0 := by
    obtain ⟨c, hc⟩ := hb
    exact hc.trans_le (hk0 c)
  obtain ⟨M, hM⟩ : ∃ M : ℝ, rowR x r k0 = M := ⟨(rowR x r k0).toReal, (EReal.coe_toReal (ht k0) hbot.ne').symm⟩
  obtain ⟨g1, g2, g3⟩ := softmax_row (rowR x r) M ht ⟨k0, hM⟩
  have hsoft : ∀ c, rowR (softT x) r c = Ideal.div (Ideal.exp (rowR x r c - M)) (0 + ∑ l, Ideal.exp (rowR x r l - M)) := fun c => by
    rw [softT_at, htop, hM]
  obtain ⟨k, hk, hf⟩ := pick_first (softT x) r fun c => by rw [hsoft]; exact g3 c
  have hfx : First (rowR x r) k := hf.congr fun a b => by rw [hsoft, hsoft]; exact (g2 a b).symm
  refine ⟨k, hfx, hbot.trans_le (hfx.1 k0), fun c => ?_⟩
  obtain ⟨σ, hσ⟩ := g1 c
  have hp := outT_at (fun j => (Host.argReduce (reducer_argmax_f32_i32 (F := Ideal)) (softT x) (iotaInDim S128x100000 32 1) (constant (F := Ideal) S_ .f32 0xFF800000#32) (constantI S_ 32 0#32) reducesTo_S128x100000_S128_d1 h_S_ j).2) (softT x) r c
  simp only [hk] at hp
  rw [hp, hsoft c, hσ]
  have hkl := k.isLt
  have hcl := c.isLt
  by_cases h : c = k
  · subst h
    rw [if_pos rfl, beq_self_eq_true]
    have e : (BitVec.ofBool true).toNat = 1 := rfl
    rw [e, ← EReal.coe_sub, ← EReal.coe_add]
    norm_num
  · have hne : (BitVec.ofNat 32 k.val == BitVec.ofNat 32 c.val) = false := by
      rw [beq_eq_false_iff_ne]
      intro e
      have e' := congrArg BitVec.toNat e
      simp only [BitVec.toNat_ofNat] at e'
      exact h (Fin.ext (by omega))
    rw [if_neg h, hne]
    have e : (BitVec.ofBool false).toNat = 0 := rfl
    rw [e, ← EReal.coe_sub, ← EReal.coe_add]
    norm_num

end Cert.Value

end

end
-- ==== Proof.Join.lean ====
module

public import proofs.«01_k».proof.Proof.Lanes
public import proofs.«01_k».proof.Proof.Hot
public import proofs.«01_k».proof.Proof.Pick

@[expose] public section

noncomputable section

namespace Cert.Value

open Idealize.ShloMosaic Idealize.ShloMosaic.TcCoe Idealize.ShloMosaic.StableHlo

section Reference
open Cert.ReferenceIdeal Cert.ReferenceIdeal.Gen Cert.ReferenceIdeal.Value

theorem soft_eq (V0 : Valuation τ sig (Elt Ideal)) : res_main_v29 V0 = softT (noisyR V0) := by
  unfold res_main_v29 res_main_v25 softT expT sumT topT noisyR
  rfl

/-- The reference's result. -/
def refOut (V0 : Valuation τ sig (Elt Ideal)) : FVec Ideal S128x100000 .f32 :=
  addf (subf (uitofp .f32 (cmpi .eq (broadcastInDim S128x100000 ![0, 1] bcast_S128x1_S128x100000_0_1 (broadcastInDim S128x1 ![0] bcast_S128_S128x1_0 (fun j => (Host.argReduce reducer_argmax_f32_i32 (res_main_v29 V0) (res_main_call1_v0 V0) (res_main_call1_cst V0) (res_main_call1_c V0) reducesTo_S128x100000_S128_d1 h_S_ j).2))) (broadcastInDim S128x100000 ![0, 1] bcast_S1x100000_S128x100000_0_1 (iotaInDim S1x100000 32 1)))) (res_main_v29 V0)) (res_main_v29 V0)

theorem refOut_eq (V0 : Valuation τ sig (Elt Ideal)) : refOut V0
    = outT (fun j => (Host.argReduce (reducer_argmax_f32_i32 (F := Ideal)) (softT (noisyR V0)) (iotaInDim S128x100000 32 1) (constant (F := Ideal) S_ .f32 0xFF800000#32) (constantI S_ 32 0#32) reducesTo_S128x100000_S128_d1 h_S_ j).2) (softT (noisyR V0)) := by
  unfold refOut outT
  rw [soft_eq]
  unfold res_main_call1_v0 res_main_call1_cst res_main_call1_c
  rfl

theorem row_eq (V0 : Valuation τ sig (Elt Ideal)) (r : Fin 128) : rowR (noisyR V0) r = noisyRow (argR V0) r := by
  funext c
  exact noisyR_apply V0 (ixR r c)

end Reference

section Noise

theorem noisy_top (A : FVec Ideal Cert.KernelIdeal.S128x100000 .f32) (r : Fin 128) (c : Fin 100000) (h : rowR A r c ≠ ⊤) : noisyRow A r c ≠ ⊤ := by
  obtain ⟨g, hg⟩ := gum_real (BitVec.ofNat 32 (100000 * r.val + c.val + 42))
  unfold noisyRow
  rw [hg]
  exact (EReal.add_lt_top h (EReal.coe_ne_top g)).ne

theorem noisy_bot (A : FVec Ideal Cert.KernelIdeal.S128x100000 .f32) (r : Fin 128) (c : Fin 100000) (h : ⊥ < rowR A r c) : ⊥ < noisyRow A r c := by
  obtain ⟨g, hg⟩ := gum_real (BitVec.ofNat 32 (100000 * r.val + c.val + 42))
  unfold noisyRow
  rw [hg]
  exact EReal.bot_lt_add_iff.2 ⟨h, EReal.bot_lt_coe g⟩

end Noise

open Cert.KernelIdeal Cert.KernelIdeal.Own Cert.KernelIdeal.Gen in
/-- The two results agree at a row and a column. -/
theorem join_at (A : FVec Ideal S128x100000 .f32) (V0 : Valuation Cert.ReferenceIdeal.τ Cert.ReferenceIdeal.sig (Elt Ideal)) (hV : argR V0 = A)
    (ht : ∀ r c, rowR A r c ≠ ⊤) (hb : ∀ r, ∃ c, ⊥ < rowR A r c) (d : Dev nD) (r : Fin 128) (c : Fin 100000) :
    entry (scattered (F := Ideal) d (idxRes A) (k1_pay1 (F := Ideal) (idxRes A)) (zer d)) (ix r c) = rowR (refOut V0) r c := by
  have hrow : rowR (noisyR V0) r = noisyRow A r := by rw [row_eq, hV]
  obtain ⟨k, hk, hkb, ho⟩ := out_first (noisyR V0) r (fun l => by rw [hrow]; exact noisy_top A r l (ht r l))
    (by obtain ⟨l, hl⟩ := hb r; exact ⟨l, by rw [hrow]; exact noisy_bot A r l hl⟩)
  rw [hrow] at hk hkb
  have hi := idx_first A r k hk hkb (fun a => match a with | 0 => r | 1 => (⟨0, by decide⟩ : Fin 1)) rfl
  refine (scattered_at d (idxRes A) (ix r c) _ rfl k.val k.isLt hi).trans ?_
  rw [refOut_eq]
  refine Eq.trans ?_ (ho c).symm
  by_cases h : c = k
  · subst h
    rw [if_pos rfl]
    exact if_pos rfl
  · rw [if_neg h]
    exact if_neg fun e => h (Fin.ext e)

theorem ix_self (i : Cert.KernelIdeal.S128x100000.Idx) : ix (i 0) (i 1) = i := by
  funext a
  fin_cases a
  · rfl
  · rfl

open Cert.KernelIdeal Cert.KernelIdeal.Own Cert.KernelIdeal.Gen in
/-- The two results agree. -/
theorem join (A : FVec Ideal S128x100000 .f32) (V0 : Valuation Cert.ReferenceIdeal.τ Cert.ReferenceIdeal.sig (Elt Ideal)) (hV : argR V0 = A)
    (ht : ∀ r c, rowR A r c ≠ ⊤) (hb : ∀ r, ∃ c, ⊥ < rowR A r c) (d : Dev nD) :
    scattered (F := Ideal) d (idxRes A) (k1_pay1 (F := Ideal) (idxRes A)) (zer d) = refOut V0 := by
  funext i
  have h := join_at A V0 hV ht hb d (i 0) (i 1)
  unfold entry rowR at h
  have e : ixR (i 0) (i 1) = i := ixR_self i
  rw [ix_self i, e] at h
  exact h

end Cert.Value

end

end
-- ==== Proof.Peak.lean ====
module

public import proofs.«01_k».proof.Pre_rows_have_a_peak
public import proofs.«01_k».proof.Proof.Pick
public import Idealize.ShloMosaic.Lib.ReduceAll

@[expose] public section

noncomputable section

namespace Cert.Value

open Idealize.ShloMosaic
open Cert.ReferenceIdeal Cert.ReferenceIdeal.Gen Cert.ReferenceIdeal.Value

/-- The precondition's side conditions. -/
instance peakFacts : Cert.Pre_rows_have_a_peak.Facts where
  bcast_S_S128x100000 := by decide
  reducesTo_S128x100000_S_d0_1 := by decide
  h_S_ := by decide
  reducesTo_S128x100000_S128_d1 := by decide
  bcast_S_S128 := by decide
  reducesTo_S128_S_d0 := by decide

theorem allTo : S128x100000.ReducesTo [0, 1] S_ := peakFacts.reducesTo_S128x100000_S_d0_1
theorem rowsTo : S128.ReducesTo [0] S_ := peakFacts.reducesTo_S128_S_d0

instance unit_idx : Subsingleton S_.Idx := ⟨fun _ _ => funext fun i => i.elim0⟩

def origin : S_.Idx := fun i => i.elim0

/-- Every entry compared with the greatest number, every row's maximum with the least. -/
def belowT (A : FVec Ideal S128x100000 .f32) : IVec S128x100000 1 :=
  cmpf .olt A (broadcastInDim S128x100000 ![] peakFacts.bcast_S_S128x100000 (constant (F := Ideal) S_ .f32 0x7F800000#32))
def aboveT (M : FVec Ideal S128 .f32) : IVec S128 1 :=
  cmpf .ogt M (broadcastInDim S128 ![] bcast_S_S128 (constant (F := Ideal) S_ .f32 0xFF800000#32))

theorem pre_eq (A : FVec Ideal S128x100000 .f32) : Cert.Pre_rows_have_a_peak.fn (F := Ideal) A
    = andi (Host.reduce IntOp.andi (belowT A) (constantI S_ 1 1#1) allTo h_S_) (Host.reduce IntOp.andi (aboveT (maxT A)) (constantI S_ 1 1#1) rowsTo h_S_) := by
  unfold Cert.Pre_rows_have_a_peak.fn belowT aboveT maxT
  rfl

theorem both : ∀ a b : BitVec 1, IntOp.andi a b = 1#1 → a = 1#1 ∧ b = 1#1 := by decide

theorem andi_split (x y : IVec S_ 1) (h : andi x y = fun _ => 1#1) (j : S_.Idx) : x j = 1#1 ∧ y j = 1#1 := both _ _ (congrFun h j)

theorem lt_of_bit (a b : EReal) (h : BitVec.ofBool (decide (a < b)) = 1#1) : a < b := by
  by_contra hn
  rw [decide_eq_false hn] at h
  exact absurd h (by decide)

theorem pinf : Ideal.ofBits .f32 0x7F800000#32 = ⊤ := by simp [Ideal.ofBits, Ideal.ieee]

theorem below_at (A : FVec Ideal S128x100000 .f32) (r : Fin 128) (c : Fin 100000) (h : belowT A (ixR r c) = 1#1) : rowR A r c < ⊤ := by
  rw [← pinf]
  exact lt_of_bit _ _ h

theorem above_at (M : FVec Ideal S128 .f32) (r : Fin 128) (h : aboveT M (rowI r) = 1#1) : ⊥ < one M r := by
  rw [← ninfR]
  exact lt_of_bit _ _ h

/-- What the precondition says: no entry is plus infinity, and every row has an entry above minus infinity. -/
theorem pre_split (A : FVec Ideal S128x100000 .f32) (h : Cert.Pre_rows_have_a_peak.fn (F := Ideal) A = fun _ => 1#1) :
    (∀ r c, rowR A r c ≠ ⊤) ∧ ∀ r, ∃ c, ⊥ < rowR A r c := by
  rw [pre_eq] at h
  obtain ⟨h1, h2⟩ := andi_split _ _ h origin
  refine ⟨fun r c => (below_at A r c ?_).ne, fun r => ?_⟩
  · exact Host.reduce_andi_all _ _ allTo h_S_ origin h1 (ixR r c)
  · have h3 := above_at (maxT A) r (Host.reduce_andi_all _ _ rowsTo h_S_ origin h2 (rowI r))
    rw [maxT_at, Finset.lt_fold_max] at h3
    rcases h3 with h3 | ⟨c, _, h3⟩
    · exact absurd h3 (lt_irrefl _)
    · exact ⟨c, h3⟩

end Cert.Value

end

end
-- ==== Proof.Equal.lean ====
module

public import proofs.«01_k».proof.Proof.Join
public import proofs.«01_k».proof.Proof.Peak
public import proofs.«01_k».proof.Proof.RunMain
public import proofs.«01_k».proof.Proof.RefRun
public import proofs.«01_k».proof.Defs

@[expose] public section

noncomputable section

namespace Cert.Value

open Idealize.ShloMosaic Idealize.ShloMosaic.TcCoe Idealize.ShloMosaic.StableHlo Idealize.SL.Sem

/-- The kernel's result on a device is the reference's there, the arguments agreeing and the precondition holding. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_rows_have_a_peak.fn (F := Ideal) (m ((c.tc : Thread Cert.KernelIdeal.nD Cert.KernelIdeal.τ).loc Cert.KernelIdeal.main_arg0)) = fun _ => 1#1)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.KernelIdeal.Own.result m c = refOut (launchContents m' c) := by
  obtain ⟨ht, hb⟩ := pre_split _ hp
  exact join (m ((c.tc : Thread Cert.KernelIdeal.nD Cert.KernelIdeal.τ).loc Cert.KernelIdeal.main_arg0)) (launchContents m' c) ha ht hb c

theorem algebraic : Cert.algebraic_KernelIdeal_ReferenceIdeal_pre_rows_have_a_peak := by
  intro m g m' g' hp ha
  refine ⟨fun c => Cert.KernelIdeal.Own.result m c, (θ_run _ _ _).mono (fun _ h c => h.1 c) (Cert.KernelIdeal.Own.run_main m g),
    (θ_run _ _ _).mono (fun _ h c => ⟨?_, (h c).2⟩) (Cert.ReferenceIdeal.Value.run m' g')⟩
  exact (h c).1.trans (result_eq m m' c (hp c) (ha c)).symm

end Cert.Value

end

end
-- ==== Proof.lean ====
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal

@[expose] public section

namespace Cert.Proof

/-- The claims: the frames, the empty list of rewrites, and the equality of the two results. -/
theorem claim : Cert.Claim :=
  ⟨Cert.Kernel.Gen.facts, Cert.KernelIdeal.Gen.facts, Cert.ReferenceIdeal.Gen.facts, Cert.Value.peakFacts,
    fun m g _ => frame_kernel m g, fun m g _ => frame_ideal m g, fun m g _ => frame_ideal m g,
    fun m g _ => frame_reference m g, fun m g _ => frame_reference m g, trivial, Cert.Value.algebraic⟩

end Cert.Proof

end
